-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rois_in_range : Cert.Pre_rois_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_range [hPre_rois_in_range : Cert.Pre_rois_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_in_range [hReferenceIdeal : Cert.ReferenceIdeal.Facts] [hPre_rois_in_range : Cert.Pre_rois_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_rois_in_range : Cert.Pre_rois_in_range.Facts),
    quiescent_Kernel (hKernel := hKernel) (hPre_rows_in_range := hPre_rows_in_range)
    ∧ quiescent_KernelIdeal (hKernelIdeal := hKernelIdeal) (hPre_rois_in_range := hPre_rois_in_range)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rois_in_range (hReferenceIdeal := hReferenceIdeal) (hPre_rois_in_range := hPre_rois_in_range)
    ∧ preserves_Kernel_KernelIdeal
    ∧ algebraic_KernelIdeal_ReferenceIdeal (hKernelIdeal := hKernelIdeal) (hReferenceIdeal := hReferenceIdeal) (hPre_rois_in_range := hPre_rois_in_range)
-- ==== Pre_rois_in_range.lean ====
abbrev S4x128x64x64 : Shape := ⟨4, ![4, 128, 64, 64]⟩
abbrev S4x128x5 : Shape := ⟨3, ![4, 128, 5]⟩
abbrev S_ : Shape := ⟨0, ![]⟩

class Facts : Prop where
  bcast_S_S4x128x5 : S_.BroadcastsInDim S4x128x5 (![] : Fin 0 → Fin S4x128x5.rank)

variable [Facts]

def fn {F : FTy → Type} [FloatOps F] (main_arg0 : FVec F S4x128x64x64 .f32) (main_arg1 : IVec S4x128x5 32) : IVec S4x128x5 1 :=
  let main_c : IVec S_ 32 := constantI S_ 32 0#32
  let main_v0 : IVec S4x128x5 32 := broadcastInDim S4x128x5 ![] bcast_S_S4x128x5 main_c
  let main_v1 : IVec S4x128x5 1 := cmpi .sge main_arg1 main_v0
  let main_c_0 : IVec S_ 32 := constantI S_ 32 480#32
  let main_v2 : IVec S4x128x5 32 := broadcastInDim S4x128x5 ![] bcast_S_S4x128x5 main_c_0
  let main_v3 : IVec S4x128x5 1 := cmpi .slt main_arg1 main_v2
  let main_v4 : IVec S4x128x5 1 := andi main_v1 main_v3
  main_v4
-- ==== Pre_rows_in_range.lean ====
abbrev S4x128x64x64 : Shape := ⟨4, ![4, 128, 64, 64]⟩
abbrev S4x128x5 : Shape := ⟨3, ![4, 128, 5]⟩
abbrev S4x128x1 : Shape := ⟨3, ![4, 128, 1]⟩
abbrev S4x128 : Shape := ⟨2, ![4, 128]⟩
abbrev S_ : Shape := ⟨0, ![]⟩

class Facts : Prop where
  slices_S4x128x5_S4x128x1_0_0_2 : S4x128x5.Slices ![0, 0, 2] S4x128x1
  shapeCasts_S4x128x1_S4x128 : S4x128x1.ShapeCasts S4x128
  bcast_S_S4x128 : S_.BroadcastsInDim S4x128 (![] : Fin 0 → Fin S4x128.rank)
  slices_S4x128x5_S4x128x1_0_0_4 : S4x128x5.Slices ![0, 0, 4] S4x128x1
  bcast_S_S4x128x5 : S_.BroadcastsInDim S4x128x5 (![] : Fin 0 → Fin S4x128x5.rank)
  bcast_S4x128_S4x128x1_0_1 : S4x128.BroadcastsInDim S4x128x1 (![0, 1] : Fin 2 → Fin S4x128x1.rank)
  bcast_S4x128x1_S4x128x5_0_1_2 : S4x128x1.BroadcastsInDim S4x128x5 (![0, 1, 2] : Fin 3 → Fin S4x128x5.rank)

variable [Facts]

def fn_where {F : FTy → Type} [FloatOps F] (arg0 : IVec S4x128 1) (arg1 : FVec F S4x128 .f32) (arg2 : FVec F S4x128 .f32) : FVec F S4x128 .f32 :=
  let v0 : FVec F S4x128 .f32 := select arg0 arg1 arg2
  v0

def fn_part2 {F : FTy → Type} [FloatOps F] (main_v36 : IVec S4x128x5 1) (main_v37 : IVec S4x128x1 1) : IVec S4x128x5 1 :=
  let main_v38 : IVec S4x128x5 1 := broadcastInDim S4x128x5 ![0, 1, 2] bcast_S4x128x1_S4x128x5_0_1_2 main_v37
  let main_v39 : IVec S4x128x5 1 := andi main_v36 main_v38
  main_v39

def fn_part1 {F : FTy → Type} [FloatOps F] (main_arg1 : IVec S4x128x5 32) (main_v17 : IVec S4x128 32) (main_v18 : FVec F S4x128 .f32) : IVec S4x128x5 1 :=
  let main_v19 : FVec F S4x128 .f32 := Host.floor main_v18
  let main_v20 : IVec S4x128 32 := fptosi 32 main_v19
  let main_c : IVec S_ 32 := constantI S_ 32 0#32
  let main_v21 : IVec S4x128 32 := broadcastInDim S4x128 ![] bcast_S_S4x128 main_c
  let main_v22 : IVec S4x128 1 := cmpi .sge main_v17 main_v21
  let main_c_4 : IVec S_ 32 := constantI S_ 32 32#32
  let main_v23 : IVec S4x128 32 := broadcastInDim S4x128 ![] bcast_S_S4x128 main_c_4
  let main_v24 : IVec S4x128 1 := cmpi .slt main_v17 main_v23
  let main_v25 : IVec S4x128 1 := andi main_v22 main_v24
  let main_v26 : IVec S4x128 1 := cmpi .sge main_v20 main_v17
  let main_v27 : IVec S4x128 1 := andi main_v25 main_v26
  let main_c_5 : IVec S_ 32 := constantI S_ 32 32#32
  let main_v28 : IVec S4x128 32 := broadcastInDim S4x128 ![] bcast_S_S4x128 main_c_5
  let main_v29 : IVec S4x128 32 := addi main_v17 main_v28
  let main_v30 : IVec S4x128 1 := cmpi .sle main_v20 main_v29
  let main_v31 : IVec S4x128 1 := andi main_v27 main_v30
  let main_c_6 : IVec S_ 32 := constantI S_ 32 0#32
  let main_v32 : IVec S4x128x5 32 := broadcastInDim S4x128x5 ![] bcast_S_S4x128x5 main_c_6
  let main_v33 : IVec S4x128x5 1 := cmpi .sge main_arg1 main_v32
  let main_c_7 : IVec S_ 32 := constantI S_ 32 480#32
  let main_v34 : IVec S4x128x5 32 := broadcastInDim S4x128x5 ![] bcast_S_S4x128x5 main_c_7
  let main_v35 : IVec S4x128x5 1 := cmpi .slt main_arg1 main_v34
  let main_v36 : IVec S4x128x5 1 := andi main_v33 main_v35
  let main_v37 : IVec S4x128x1 1 := broadcastInDim S4x128x1 ![0, 1] bcast_S4x128_S4x128x1_0_1 main_v31
  fn_part2 (F := F) main_v36 main_v37

def fn {F : FTy → Type} [FloatOps F] (main_arg0 : FVec F S4x128x64x64 .f32) (main_arg1 : IVec S4x128x5 32) : IVec S4x128x5 1 :=
  let main_v0 : FVec F S4x128x5 .f32 := sitofp .f32 main_arg1
  let main_v1 : FVec F S4x128x1 .f32 := (extractStridedSlice S4x128x1 ![0, 0, 2] · slices_S4x128x5_S4x128x1_0_0_2) main_v0
  let main_v2 : FVec F S4x128 .f32 := shapeCast S4x128 main_v1 shapeCasts_S4x128x1_S4x128
  let main_cst : FVec F S_ .f32 := constant S_ .f32 0x3D800000#32
  let main_v3 : FVec F S4x128 .f32 := broadcastInDim S4x128 ![] bcast_S_S4x128 main_cst
  let main_v4 : FVec F S4x128 .f32 := mulf main_v3 main_v2
  let main_v5 : FVec F S4x128x1 .f32 := (extractStridedSlice S4x128x1 ![0, 0, 4] · slices_S4x128x5_S4x128x1_0_0_4) main_v0
  let main_v6 : FVec F S4x128 .f32 := shapeCast S4x128 main_v5 shapeCasts_S4x128x1_S4x128
  let main_cst_0 : FVec F S_ .f32 := constant S_ .f32 0x3D800000#32
  let main_v7 : FVec F S4x128 .f32 := broadcastInDim S4x128 ![] bcast_S_S4x128 main_cst_0
  let main_v8 : FVec F S4x128 .f32 := mulf main_v7 main_v6
  let main_cst_1 : FVec F S_ .f32 := constant S_ .f32 0x3F800000#32
  let main_v9 : FVec F S4x128 .f32 := broadcastInDim S4x128 ![] bcast_S_S4x128 main_cst_1
  let main_v10 : FVec F S4x128 .f32 := maximumf main_v8 main_v9
  let main_cst_2 : FVec F S_ .f32 := constant S_ .f32 0x42800000#32
  let main_v11 : FVec F S4x128 .f32 := broadcastInDim S4x128 ![] bcast_S_S4x128 main_cst_2
  let main_v12 : IVec S4x128 1 := cmpf .oge main_v4 main_v11
  let main_cst_3 : FVec F S_ .f32 := constant S_ .f32 0x42800000#32
  let main_v13 : FVec F S4x128 .f32 := broadcastInDim S4x128 ![] bcast_S_S4x128 main_cst_3
  let main_v14 : FVec F S4x128 .f32 := subf main_v13 main_v10
  let main_v15 : FVec F S4x128 .f32 := fn_where (F := F) main_v12 main_v14 main_v4
  let main_v16 : FVec F S4x128 .f32 := Host.floor main_v15
  let main_v17 : IVec S4x128 32 := fptosi 32 main_v16
  let main_v18 : FVec F S4x128 .f32 := addf main_v15 main_v10
  fn_part1 (F := F) main_arg1 main_v17 main_v18
-- ==== Kernel.lean ====
abbrev S4x128x64x64 : Shape := ⟨4, ![4, 128, 64, 64]⟩
abbrev S4x128x5 : Shape := ⟨3, ![4, 128, 5]⟩
abbrev S4x64x64x128 : Shape := ⟨4, ![4, 64, 64, 128]⟩
abbrev S4x128x1 : Shape := ⟨3, ![4, 128, 1]⟩
abbrev S4x128 : Shape := ⟨2, ![4, 128]⟩
abbrev S_ : Shape := ⟨0, ![]⟩
abbrev S7 : Shape := ⟨1, ![7]⟩
abbrev S1x1x7 : Shape := ⟨3, ![1, 1, 7]⟩
abbrev S4x128x7 : Shape := ⟨3, ![4, 128, 7]⟩
abbrev S4x128x6 : Shape := ⟨3, ![4, 128, 6]⟩
abbrev S4x128x56 : Shape := ⟨3, ![4, 128, 56]⟩
abbrev S4x128x49x128 : Shape := ⟨4, ![4, 128, 49, 128]⟩
abbrev S1x64x64x128 : Shape := ⟨4, ![1, 64, 64, 128]⟩
abbrev S1x32x49x128 : Shape := ⟨4, ![1, 32, 49, 128]⟩
abbrev S256x64x128 : Shape := ⟨3, ![256, 64, 128]⟩
abbrev S1120x8x128 : Shape := ⟨3, ![1120, 8, 128]⟩
abbrev S64x64x128 : Shape := ⟨3, ![64, 64, 128]⟩
abbrev S1x63x64x128 : Shape := ⟨4, ![1, 63, 64, 128]⟩
abbrev S63x64x128 : Shape := ⟨3, ![63, 64, 128]⟩
abbrev S1x1x64x128 : Shape := ⟨4, ![1, 1, 64, 128]⟩
abbrev S64x128 : Shape := ⟨2, ![64, 128]⟩
abbrev S1x64x128 : Shape := ⟨3, ![1, 64, 128]⟩
abbrev S62x64x128 : Shape := ⟨3, ![62, 64, 128]⟩
abbrev S2x64x128 : Shape := ⟨3, ![2, 64, 128]⟩
abbrev S60x64x128 : Shape := ⟨3, ![60, 64, 128]⟩
abbrev S4x64x128 : Shape := ⟨3, ![4, 64, 128]⟩
abbrev S8x1 : Shape := ⟨2, ![8, 1]⟩
abbrev S1x1x1 : Shape := ⟨3, ![1, 1, 1]⟩
abbrev S1x40x128 : Shape := ⟨3, ![1, 40, 128]⟩
abbrev S40x128 : Shape := ⟨2, ![40, 128]⟩
abbrev S5x8x128 : Shape := ⟨3, ![5, 8, 128]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S7x128 : Shape := ⟨2, ![7, 128]⟩
abbrev S1x1x7x128 : Shape := ⟨4, ![1, 1, 7, 128]⟩
abbrev S4x128x128x49 : Shape := ⟨4, ![4, 128, 128, 49]⟩
abbrev S4x128x128x7x7 : Shape := ⟨5, ![4, 128, 128, 7, 7]⟩

abbrev nBuf : Space → Nat
  | .hbm => 305
  | .vmem => 6
  | .smem => 1
  | _ => 0

abbrev hbmTy0_0 (i : Nat) : BufTy := match i % 128 with
  | 0 => ⟨S4x128x64x64, .f32⟩
  | 1 => ⟨S4x128x5, .i32⟩
  | 2 => ⟨S4x64x64x128, .f32⟩
  | 3 => ⟨S4x128x5, .f32⟩
  | 4 => ⟨S4x128x1, .f32⟩
  | 5 => ⟨S4x128, .f32⟩
  | 6 => ⟨S_, .f32⟩
  | 7 => ⟨S4x128, .f32⟩
  | 8 => ⟨S4x128, .f32⟩
  | 9 => ⟨S4x128x1, .f32⟩
  | 10 => ⟨S4x128, .f32⟩
  | 11 => ⟨S_, .f32⟩
  | 12 => ⟨S4x128, .f32⟩
  | 13 => ⟨S4x128, .f32⟩
  | 14 => ⟨S4x128x1, .f32⟩
  | 15 => ⟨S4x128, .f32⟩
  | 16 => ⟨S_, .f32⟩
  | 17 => ⟨S4x128, .f32⟩
  | 18 => ⟨S4x128, .f32⟩
  | 19 => ⟨S_, .f32⟩
  | 20 => ⟨S4x128, .f32⟩
  | 21 => ⟨S4x128, .f32⟩
  | 22 => ⟨S4x128x1, .f32⟩
  | 23 => ⟨S4x128, .f32⟩
  | 24 => ⟨S_, .f32⟩
  | 25 => ⟨S4x128, .f32⟩
  | 26 => ⟨S4x128, .f32⟩
  | 27 => ⟨S_, .f32⟩
  | 28 => ⟨S4x128, .f32⟩
  | 29 => ⟨S4x128, .f32⟩
  | 30 => ⟨S_, .f32⟩
  | 31 => ⟨S4x128, .f32⟩
  | 32 => ⟨S4x128, .i1⟩
  | 33 => ⟨S_, .f32⟩
  | 34 => ⟨S4x128, .f32⟩
  | 35 => ⟨S4x128, .f32⟩
  | 36 => ⟨S4x128, .f32⟩
  | 37 => ⟨S_, .f32⟩
  | 38 => ⟨S4x128, .f32⟩
  | 39 => ⟨S4x128, .i1⟩
  | 40 => ⟨S_, .f32⟩
  | 41 => ⟨S4x128, .f32⟩
  | 42 => ⟨S4x128, .f32⟩
  | 43 => ⟨S4x128, .f32⟩
  | 44 => ⟨S4x128, .f32⟩
  | 45 => ⟨S4x128, .i32⟩
  | 46 => ⟨S4x128, .f32⟩
  | 47 => ⟨S4x128, .i32⟩
  | 48 => ⟨S4x128, .f32⟩
  | 49 => ⟨S4x128, .f32⟩
  | 50 => ⟨S4x128, .i32⟩
  | 51 => ⟨S_, .i32⟩
  | 52 => ⟨S4x128, .i32⟩
  | 53 => ⟨S4x128, .i32⟩
  | 54 => ⟨S4x128, .i32⟩
  | 55 => ⟨S_, .i32⟩
  | 56 => ⟨S4x128, .i32⟩
  | 57 => ⟨S4x128, .i32⟩
  | 58 => ⟨S4x128, .f32⟩
  | 59 => ⟨S4x128, .f32⟩
  | 60 => ⟨S4x128, .i32⟩
  | 61 => ⟨S_, .i32⟩
  | 62 => ⟨S4x128, .i32⟩
  | 63 => ⟨S4x128, .i32⟩
  | 64 => ⟨S4x128, .i32⟩
  | 65 => ⟨S_, .i32⟩
  | 66 => ⟨S4x128, .i32⟩
  | 67 => ⟨S4x128, .i32⟩
  | 68 => ⟨S_, .i32⟩
  | 69 => ⟨S_, .i32⟩
  | 70 => ⟨S4x128, .i32⟩
  | 71 => ⟨S4x128, .i32⟩
  | 72 => ⟨S4x128, .i32⟩
  | 73 => ⟨S_, .i32⟩
  | 74 => ⟨S4x128, .i32⟩
  | 75 => ⟨S4x128, .i1⟩
  | 76 => ⟨S4x128, .i32⟩
  | 77 => ⟨S4x128, .i32⟩
  | 78 => ⟨S_, .i32⟩
  | 79 => ⟨S4x128, .i32⟩
  | 80 => ⟨S4x128, .i1⟩
  | 81 => ⟨S4x128, .i1⟩
  | 82 => ⟨S_, .i32⟩
  | 83 => ⟨S4x128, .i32⟩
  | 84 => ⟨S4x128, .i32⟩
  | 85 => ⟨S4x128, .i32⟩
  | 86 => ⟨S_, .i32⟩
  | 87 => ⟨S4x128, .i32⟩
  | 88 => ⟨S4x128, .i32⟩
  | 89 => ⟨S_, .i32⟩
  | 90 => ⟨S_, .i32⟩
  | 91 => ⟨S_, .i32⟩
  | 92 => ⟨S4x128, .i32⟩
  | 93 => ⟨S4x128, .i32⟩
  | 94 => ⟨S_, .i32⟩
  | 95 => ⟨S4x128, .i32⟩
  | 96 => ⟨S4x128, .i32⟩
  | 97 => ⟨S4x128, .i32⟩
  | 98 => ⟨S7, .i32⟩
  | 99 => ⟨S4x128x1, .i32⟩
  | 100 => ⟨S1x1x7, .i32⟩
  | 101 => ⟨S4x128x7, .i32⟩
  | 102 => ⟨S4x128x7, .i32⟩
  | 103 => ⟨S4x128x7, .i32⟩
  | 104 => ⟨S_, .i32⟩
  | 105 => ⟨S_, .i32⟩
  | 106 => ⟨S4x128x7, .i32⟩
  | 107 => ⟨S4x128x7, .i32⟩
  | 108 => ⟨S4x128x7, .i32⟩
  | 109 => ⟨S_, .i32⟩
  | 110 => ⟨S4x128x7, .i32⟩
  | 111 => ⟨S4x128x7, .i1⟩
  | 112 => ⟨S4x128x7, .i32⟩
  | 113 => ⟨S4x128x7, .i32⟩
  | 114 => ⟨S_, .i32⟩
  | 115 => ⟨S4x128x7, .i32⟩
  | 116 => ⟨S4x128x7, .i1⟩
  | 117 => ⟨S4x128x7, .i1⟩
  | 118 => ⟨S_, .i32⟩
  | 119 => ⟨S4x128x7, .i32⟩
  | 120 => ⟨S4x128x7, .i32⟩
  | 121 => ⟨S4x128x7, .i32⟩
  | 122 => ⟨S_, .i32⟩
  | 123 => ⟨S7, .i32⟩
  | 124 => ⟨S7, .i32⟩
  | 125 => ⟨S7, .i32⟩
  | 126 => ⟨S4x128x1, .i32⟩
  | 127 => ⟨S1x1x7, .i32⟩
  | _ => ⟨S4x128x64x64, .f32⟩

abbrev hbmTy0_1 (i : Nat) : BufTy := match i % 128 with
  | 0 => ⟨S4x128x7, .i32⟩
  | 1 => ⟨S4x128x7, .i32⟩
  | 2 => ⟨S4x128x7, .i32⟩
  | 3 => ⟨S_, .i32⟩
  | 4 => ⟨S_, .i32⟩
  | 5 => ⟨S4x128x7, .i32⟩
  | 6 => ⟨S4x128x7, .i32⟩
  | 7 => ⟨S4x128x7, .i32⟩
  | 8 => ⟨S_, .i32⟩
  | 9 => ⟨S4x128x7, .i32⟩
  | 10 => ⟨S4x128x7, .i1⟩
  | 11 => ⟨S4x128x7, .i32⟩
  | 12 => ⟨S4x128x7, .i32⟩
  | 13 => ⟨S_, .i32⟩
  | 14 => ⟨S4x128x7, .i32⟩
  | 15 => ⟨S4x128x7, .i1⟩
  | 16 => ⟨S4x128x7, .i1⟩
  | 17 => ⟨S_, .i32⟩
  | 18 => ⟨S4x128x7, .i32⟩
  | 19 => ⟨S4x128x7, .i32⟩
  | 20 => ⟨S4x128x7, .i32⟩
  | 21 => ⟨S4x128x7, .i32⟩
  | 22 => ⟨S4x128x7, .i32⟩
  | 23 => ⟨S_, .i32⟩
  | 24 => ⟨S4x128x7, .i32⟩
  | 25 => ⟨S4x128x7, .i1⟩
  | 26 => ⟨S4x128x7, .i32⟩
  | 27 => ⟨S_, .i32⟩
  | 28 => ⟨S4x128x7, .i32⟩
  | 29 => ⟨S4x128x7, .i1⟩
  | 30 => ⟨S4x128x7, .i32⟩
  | 31 => ⟨S4x128x7, .i32⟩
  | 32 => ⟨S_, .i32⟩
  | 33 => ⟨S4x128x7, .i32⟩
  | 34 => ⟨S4x128x7, .i1⟩
  | 35 => ⟨S4x128x7, .i32⟩
  | 36 => ⟨S4x128x7, .i32⟩
  | 37 => ⟨S_, .i32⟩
  | 38 => ⟨S4x128x7, .i32⟩
  | 39 => ⟨S4x128x7, .i32⟩
  | 40 => ⟨S_, .i32⟩
  | 41 => ⟨S4x128x7, .i32⟩
  | 42 => ⟨S4x128x7, .i32⟩
  | 43 => ⟨S4x128x1, .i32⟩
  | 44 => ⟨S4x128x7, .i32⟩
  | 45 => ⟨S4x128x7, .i32⟩
  | 46 => ⟨S_, .i32⟩
  | 47 => ⟨S_, .i32⟩
  | 48 => ⟨S_, .i32⟩
  | 49 => ⟨S4x128x7, .i32⟩
  | 50 => ⟨S4x128x7, .i32⟩
  | 51 => ⟨S_, .i32⟩
  | 52 => ⟨S4x128x7, .i32⟩
  | 53 => ⟨S4x128x7, .i32⟩
  | 54 => ⟨S4x128x7, .i32⟩
  | 55 => ⟨S_, .i32⟩
  | 56 => ⟨S4x128x7, .i32⟩
  | 57 => ⟨S4x128x7, .i32⟩
  | 58 => ⟨S4x128x1, .i32⟩
  | 59 => ⟨S4x128x7, .i32⟩
  | 60 => ⟨S4x128x7, .i32⟩
  | 61 => ⟨S4x128x7, .i32⟩
  | 62 => ⟨S_, .i32⟩
  | 63 => ⟨S_, .i32⟩
  | 64 => ⟨S_, .i32⟩
  | 65 => ⟨S4x128x7, .i32⟩
  | 66 => ⟨S4x128x7, .i32⟩
  | 67 => ⟨S_, .i32⟩
  | 68 => ⟨S4x128x7, .i32⟩
  | 69 => ⟨S4x128x7, .i32⟩
  | 70 => ⟨S4x128x7, .i32⟩
  | 71 => ⟨S4x128x7, .i1⟩
  | 72 => ⟨S4x128x7, .i32⟩
  | 73 => ⟨S7, .i32⟩
  | 74 => ⟨S4x128x1, .i32⟩
  | 75 => ⟨S1x1x7, .i32⟩
  | 76 => ⟨S4x128x7, .i32⟩
  | 77 => ⟨S4x128x7, .i32⟩
  | 78 => ⟨S4x128x7, .i32⟩
  | 79 => ⟨S_, .i32⟩
  | 80 => ⟨S_, .i32⟩
  | 81 => ⟨S4x128x7, .i32⟩
  | 82 => ⟨S4x128x7, .i32⟩
  | 83 => ⟨S4x128x7, .i32⟩
  | 84 => ⟨S_, .i32⟩
  | 85 => ⟨S4x128x7, .i32⟩
  | 86 => ⟨S4x128x7, .i1⟩
  | 87 => ⟨S4x128x7, .i32⟩
  | 88 => ⟨S4x128x7, .i32⟩
  | 89 => ⟨S_, .i32⟩
  | 90 => ⟨S4x128x7, .i32⟩
  | 91 => ⟨S4x128x7, .i1⟩
  | 92 => ⟨S4x128x7, .i1⟩
  | 93 => ⟨S_, .i32⟩
  | 94 => ⟨S4x128x7, .i32⟩
  | 95 => ⟨S4x128x7, .i32⟩
  | 96 => ⟨S4x128x7, .i32⟩
  | 97 => ⟨S_, .i32⟩
  | 98 => ⟨S7, .i32⟩
  | 99 => ⟨S7, .i32⟩
  | 100 => ⟨S7, .i32⟩
  | 101 => ⟨S4x128x1, .i32⟩
  | 102 => ⟨S1x1x7, .i32⟩
  | 103 => ⟨S4x128x7, .i32⟩
  | 104 => ⟨S4x128x7, .i32⟩
  | 105 => ⟨S4x128x7, .i32⟩
  | 106 => ⟨S_, .i32⟩
  | 107 => ⟨S_, .i32⟩
  | 108 => ⟨S4x128x7, .i32⟩
  | 109 => ⟨S4x128x7, .i32⟩
  | 110 => ⟨S4x128x7, .i32⟩
  | 111 => ⟨S_, .i32⟩
  | 112 => ⟨S4x128x7, .i32⟩
  | 113 => ⟨S4x128x7, .i1⟩
  | 114 => ⟨S4x128x7, .i32⟩
  | 115 => ⟨S4x128x7, .i32⟩
  | 116 => ⟨S_, .i32⟩
  | 117 => ⟨S4x128x7, .i32⟩
  | 118 => ⟨S4x128x7, .i1⟩
  | 119 => ⟨S4x128x7, .i1⟩
  | 120 => ⟨S_, .i32⟩
  | 121 => ⟨S4x128x7, .i32⟩
  | 122 => ⟨S4x128x7, .i32⟩
  | 123 => ⟨S4x128x7, .i32⟩
  | 124 => ⟨S4x128x7, .i32⟩
  | 125 => ⟨S4x128x1, .i32⟩
  | 126 => ⟨S4x128x7, .i32⟩
  | 127 => ⟨S4x128x7, .i32⟩
  | _ => ⟨S4x128x64x64, .f32⟩

abbrev hbmTy0_2 (i : Nat) : BufTy := match i % 128 with
  | 0 => ⟨S4x128x1, .i32⟩
  | 1 => ⟨S4x128x7, .i32⟩
  | 2 => ⟨S4x128x7, .i32⟩
  | 3 => ⟨S_, .i32⟩
  | 4 => ⟨S_, .i32⟩
  | 5 => ⟨S4x128x7, .i32⟩
  | 6 => ⟨S4x128x7, .i32⟩
  | 7 => ⟨S4x128x7, .i32⟩
  | 8 => ⟨S_, .i32⟩
  | 9 => ⟨S4x128x7, .i32⟩
  | 10 => ⟨S4x128x7, .i1⟩
  | 11 => ⟨S4x128x7, .i32⟩
  | 12 => ⟨S4x128x7, .i32⟩
  | 13 => ⟨S_, .i32⟩
  | 14 => ⟨S4x128x7, .i32⟩
  | 15 => ⟨S4x128x7, .i1⟩
  | 16 => ⟨S4x128x7, .i1⟩
  | 17 => ⟨S_, .i32⟩
  | 18 => ⟨S4x128x7, .i32⟩
  | 19 => ⟨S4x128x7, .i32⟩
  | 20 => ⟨S4x128x7, .i32⟩
  | 21 => ⟨S_, .i32⟩
  | 22 => ⟨S4x128x7, .i32⟩
  | 23 => ⟨S4x128x7, .i32⟩
  | 24 => ⟨S_, .i32⟩
  | 25 => ⟨S_, .i32⟩
  | 26 => ⟨S4x128x7, .i32⟩
  | 27 => ⟨S4x128x7, .i32⟩
  | 28 => ⟨S4x128x7, .i32⟩
  | 29 => ⟨S_, .i32⟩
  | 30 => ⟨S4x128x7, .i32⟩
  | 31 => ⟨S4x128x7, .i1⟩
  | 32 => ⟨S4x128x7, .i32⟩
  | 33 => ⟨S4x128x7, .i32⟩
  | 34 => ⟨S_, .i32⟩
  | 35 => ⟨S4x128x7, .i32⟩
  | 36 => ⟨S4x128x7, .i1⟩
  | 37 => ⟨S4x128x7, .i1⟩
  | 38 => ⟨S_, .i32⟩
  | 39 => ⟨S4x128x7, .i32⟩
  | 40 => ⟨S4x128x7, .i32⟩
  | 41 => ⟨S4x128x7, .i32⟩
  | 42 => ⟨S4x128x7, .i32⟩
  | 43 => ⟨S_, .i32⟩
  | 44 => ⟨S4x128x6, .i32⟩
  | 45 => ⟨S4x128x1, .i32⟩
  | 46 => ⟨S4x128x49x128, .f32⟩
  | 47 => ⟨S4x128x128x49, .f32⟩
  | 48 => ⟨S4x128x128x7x7, .f32⟩
  | _ => ⟨S4x128x64x64, .f32⟩

abbrev hbmTy (i : Nat) : BufTy := match i / 128 with
  | 0 => hbmTy0_0 i
  | 1 => hbmTy0_1 i
  | 2 => hbmTy0_2 i
  | _ => ⟨S4x128x64x64, .f32⟩

abbrev bufTy : (tb : Table) → Fin (tcTables nBuf tb) → BufTy
  | .hbm, ⟨i, _⟩ => hbmTy i
  | .local _ .vmem, ⟨0, _⟩ => ⟨S1x64x64x128, .f32⟩
  | .local _ .vmem, ⟨1, _⟩ => ⟨S1x64x64x128, .f32⟩
  | .local _ .vmem, ⟨2, _⟩ => ⟨S1x32x49x128, .f32⟩
  | .local _ .vmem, ⟨3, _⟩ => ⟨S1x32x49x128, .f32⟩
  | .local _ .vmem, ⟨4, _⟩ => ⟨S256x64x128, .f32⟩
  | .local _ .vmem, ⟨5, _⟩ => ⟨S1120x8x128, .f32⟩
  | .local _ .smem, ⟨0, _⟩ => ⟨S4x128x56, .i32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_11 : Ref sig .tc := ⟨.hbm, 65, rfl⟩
abbrev main_v50 : Ref sig .tc := ⟨.hbm, 66, rfl⟩
abbrev main_v51 : Ref sig .tc := ⟨.hbm, 67, rfl⟩
abbrev main_c_12 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v52 : Ref sig .tc := ⟨.hbm, 85, rfl⟩
abbrev main_c_13 : Ref sig .tc := ⟨.hbm, 86, rfl⟩
abbrev main_v53 : Ref sig .tc := ⟨.hbm, 87, rfl⟩
abbrev main_v54 : Ref sig .tc := ⟨.hbm, 88, rfl⟩
abbrev main_c_14 : Ref sig .tc := ⟨.hbm, 89, rfl⟩
abbrev main_c_15 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_16 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v63 : Ref sig .tc := ⟨.hbm, 121, rfl⟩
abbrev main_c_17 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_c_18 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_c : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_c_0 : Ref sig .tc := ⟨.hbm, 145, rfl⟩
abbrev main_call5_v12 : Ref sig .tc := ⟨.hbm, 146, rfl⟩
abbrev main_call5_v13 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_c_19 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_c_20 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_c_21 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_c_22 : Ref sig .tc := ⟨.hbm, 165, rfl⟩
abbrev main_v86 : Ref sig .tc := ⟨.hbm, 166, rfl⟩
abbrev main_v87 : Ref sig .tc := ⟨.hbm, 167, rfl⟩
abbrev main_c_23 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_c_24 : Ref sig .tc := ⟨.hbm, 174, rfl⟩
abbrev main_c_25 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_v93 : Ref sig .tc := ⟨.hbm, 181, rfl⟩
abbrev main_v94 : Ref sig .tc := ⟨.hbm, 182, rfl⟩
abbrev main_c_26 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_c_27 : Ref sig .tc := ⟨.hbm, 190, rfl⟩
abbrev main_c_28 : Ref sig .tc := ⟨.hbm, 191, rfl⟩
abbrev main_call7_v0 : Ref sig .tc := ⟨.hbm, 192, rfl⟩
abbrev main_call7_v1 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_c_29 : Ref sig .tc := ⟨.hbm, 207, rfl⟩
abbrev main_call8_v0 : Ref sig .tc := ⟨.hbm, 208, rfl⟩
abbrev main_call8_v1 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_v6 : Ref sig .tc := ⟨.hbm, 214, rfl⟩
abbrev main_call8_v7 : Ref sig .tc := ⟨.hbm, 215, rfl⟩
abbrev main_call8_v8 : Ref sig .tc := ⟨.hbm, 216, rfl⟩
abbrev main_call8_c : Ref sig .tc := ⟨.hbm, 217, rfl⟩
abbrev main_call8_v9 : Ref sig .tc := ⟨.hbm, 218, rfl⟩
abbrev main_call8_v10 : Ref sig .tc := ⟨.hbm, 219, rfl⟩
abbrev main_call8_v11 : Ref sig .tc := ⟨.hbm, 220, rfl⟩
abbrev main_call8_c_0 : Ref sig .tc := ⟨.hbm, 221, rfl⟩
abbrev main_call8_v12 : Ref sig .tc := ⟨.hbm, 222, rfl⟩
abbrev main_call8_v13 : Ref sig .tc := ⟨.hbm, 223, rfl⟩
abbrev main_v111 : Ref sig .tc := ⟨.hbm, 224, rfl⟩
abbrev main_c_30 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_c_31 : Ref sig .tc := ⟨.hbm, 234, rfl⟩
abbrev main_call9_v0 : Ref sig .tc := ⟨.hbm, 235, rfl⟩
abbrev main_call9_v1 : Ref sig .tc := ⟨.hbm, 236, rfl⟩
abbrev main_call9_v2 : Ref sig .tc := ⟨.hbm, 237, rfl⟩
abbrev main_call9_v3 : Ref sig .tc := ⟨.hbm, 238, rfl⟩
abbrev main_call9_v4 : Ref sig .tc := ⟨.hbm, 239, rfl⟩
abbrev main_call9_v5 : Ref sig .tc := ⟨.hbm, 240, rfl⟩
abbrev main_call9_v6 : Ref sig .tc := ⟨.hbm, 241, rfl⟩
abbrev main_call9_v7 : Ref sig .tc := ⟨.hbm, 242, rfl⟩
abbrev main_call9_v8 : Ref sig .tc := ⟨.hbm, 243, rfl⟩
abbrev main_call9_c : Ref sig .tc := ⟨.hbm, 244, rfl⟩
abbrev main_call9_v9 : Ref sig .tc := ⟨.hbm, 245, rfl⟩
abbrev main_call9_v10 : Ref sig .tc := ⟨.hbm, 246, rfl⟩
abbrev main_call9_v11 : Ref sig .tc := ⟨.hbm, 247, rfl⟩
abbrev main_call9_c_0 : Ref sig .tc := ⟨.hbm, 248, rfl⟩
abbrev main_call9_v12 : Ref sig .tc := ⟨.hbm, 249, rfl⟩
abbrev main_call9_v13 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_c_32 : Ref sig .tc := ⟨.hbm, 259, rfl⟩
abbrev main_call10_v0 : Ref sig .tc := ⟨.hbm, 260, rfl⟩
abbrev main_call10_v1 : Ref sig .tc := ⟨.hbm, 261, rfl⟩
abbrev main_call10_v2 : Ref sig .tc := ⟨.hbm, 262, rfl⟩
abbrev main_call10_v3 : Ref sig .tc := ⟨.hbm, 263, rfl⟩
abbrev main_call10_v4 : Ref sig .tc := ⟨.hbm, 264, rfl⟩
abbrev main_call10_v5 : Ref sig .tc := ⟨.hbm, 265, rfl⟩
abbrev main_call10_v6 : Ref sig .tc := ⟨.hbm, 266, rfl⟩
abbrev main_call10_v7 : Ref sig .tc := ⟨.hbm, 267, rfl⟩
abbrev main_call10_v8 : Ref sig .tc := ⟨.hbm, 268, rfl⟩
abbrev main_call10_c : Ref sig .tc := ⟨.hbm, 269, rfl⟩
abbrev main_call10_v9 : Ref sig .tc := ⟨.hbm, 270, rfl⟩
abbrev main_call10_v10 : Ref sig .tc := ⟨.hbm, 271, rfl⟩
abbrev main_call10_v11 : Ref sig .tc := ⟨.hbm, 272, rfl⟩
abbrev main_call10_c_0 : Ref sig .tc := ⟨.hbm, 273, rfl⟩
abbrev main_call10_v12 : Ref sig .tc := ⟨.hbm, 274, rfl⟩
abbrev main_call10_v13 : Ref sig .tc := ⟨.hbm, 275, rfl⟩
abbrev main_v128 : Ref sig .tc := ⟨.hbm, 276, rfl⟩
abbrev main_c_33 : Ref sig .tc := ⟨.hbm, 277, rfl⟩
abbrev main_v129 : Ref sig .tc := ⟨.hbm, 278, rfl⟩
abbrev main_v130 : Ref sig .tc := ⟨.hbm, 279, rfl⟩
abbrev main_c_34 : Ref sig .tc := ⟨.hbm, 280, rfl⟩
abbrev main_call11_v0 : Ref sig .tc := ⟨.hbm, 281, rfl⟩
abbrev main_call11_v1 : Ref sig .tc := ⟨.hbm, 282, rfl⟩
abbrev main_call11_v2 : Ref sig .tc := ⟨.hbm, 283, rfl⟩
abbrev main_call11_v3 : Ref sig .tc := ⟨.hbm, 284, rfl⟩
abbrev main_call11_v4 : Ref sig .tc := ⟨.hbm, 285, rfl⟩
abbrev main_call11_v5 : Ref sig .tc := ⟨.hbm, 286, rfl⟩
abbrev main_call11_v6 : Ref sig .tc := ⟨.hbm, 287, rfl⟩
abbrev main_call11_v7 : Ref sig .tc := ⟨.hbm, 288, rfl⟩
abbrev main_call11_v8 : Ref sig .tc := ⟨.hbm, 289, rfl⟩
abbrev main_call11_c : Ref sig .tc := ⟨.hbm, 290, rfl⟩
abbrev main_call11_v9 : Ref sig .tc := ⟨.hbm, 291, rfl⟩
abbrev main_call11_v10 : Ref sig .tc := ⟨.hbm, 292, rfl⟩
abbrev main_call11_v11 : Ref sig .tc := ⟨.hbm, 293, rfl⟩
abbrev main_call11_c_0 : Ref sig .tc := ⟨.hbm, 294, rfl⟩
abbrev main_call11_v12 : Ref sig .tc := ⟨.hbm, 295, rfl⟩
abbrev main_call11_v13 : Ref sig .tc := ⟨.hbm, 296, rfl⟩
abbrev main_v131 : Ref sig .tc := ⟨.hbm, 297, rfl⟩
abbrev main_v132 : Ref sig .tc := ⟨.hbm, 298, rfl⟩
abbrev main_c_35 : Ref sig .tc := ⟨.hbm, 299, rfl⟩
abbrev main_v133 : Ref sig .tc := ⟨.hbm, 300, rfl⟩
abbrev main_v134 : Ref sig .tc := ⟨.hbm, 301, rfl⟩
abbrev main_v136 : Ref sig .tc := ⟨.hbm, 302, rfl⟩
abbrev main_v137 : Ref sig .tc := ⟨.hbm, 303, rfl⟩
abbrev main_v138 : Ref sig .tc := ⟨.hbm, 304, rfl⟩
abbrev main_v135 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v135.idx], fun | 0 => main_v135.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v6 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v7 : Index := Scalar.indexCast v5
  let c0 : Index := 0#32
  ![v6.toNat, v7.toNat, 0]
def k0_mult1 (v8 : BitVec 32) : BitVec 32 :=
  v8

def k0_chk1 (v8 : BitVec 32) : Prop :=
  (8 ∣ (k0_mult1 v8).toNat)
theorem k0_mult1_dvd : ∀ (v8 : BitVec 32) (k0_hw1 : k0_chk1 v8), 8 ∣ (k0_mult1 v8).toNat := fun v8 k0_hw1 => k0_hw1

def k0_off2 (i : grid0.Coords) : Fin 3 → Nat :=
  let arg0 : BitVec 32 := BitVec.ofNat 32 (i 0).val
  let v10 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v11 : Index := Scalar.indexCast v5
  let c1 : Index := 1#32
  ![v10.toNat, v11.toNat, 1]
def k0_off3 (v8 : BitVec 32) (v12 : BitVec 32) : Fin 3 → Nat :=
  let v13 : Index := Scalar.indexCast v12
  let v9 : BitVec 32 := v8
  let v14 : Index := Scalar.indexCast v9
  let c0_2 : Index := 0#32
  ![v13.toNat, v14.toNat, 0]

def k0_chk2 (v8 : BitVec 32) (v12 : BitVec 32) : Prop :=
  (∀ a, (k0_off3 v8 v12) a + S1x40x128.size a ≤ S256x64x128.size a)
theorem k0_off3_inb : ∀ (v8 : BitVec 32) (v12 : BitVec 32) (k0_hw2 : k0_chk2 v8 v12), ∀ a, (k0_off3 v8 v12) a + S1x40x128.size a ≤ S256x64x128.size a := fun v8 v12 k0_hw2 => k0_hw2

def k0_off4 (i : grid0.Coords) : Fin 3 → Nat :=
  let arg0 : BitVec 32 := BitVec.ofNat 32 (i 0).val
  let v17 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v18 : Index := Scalar.indexCast v5
  let c8 : Index := 8#32
  ![v17.toNat, v18.toNat, 8]
def k0_off5 (v8 : BitVec 32) (v19 : BitVec 32) : Fin 3 → Nat :=
  let v20 : Index := Scalar.indexCast v19
  let v9 : BitVec 32 := v8
  let v21 : Index := Scalar.indexCast v9
  let c0_3 : Index := 0#32
  ![v20.toNat, v21.toNat, 0]

def k0_chk3 (v8 : BitVec 32) (v19 : BitVec 32) : Prop :=
  (∀ a, (k0_off5 v8 v19) a + S1x40x128.size a ≤ S256x64x128.size a)
theorem k0_off5_inb : ∀ (v8 : BitVec 32) (v19 : BitVec 32) (k0_hw3 : k0_chk3 v8 v19), ∀ a, (k0_off5 v8 v19) a + S1x40x128.size a ≤ S256x64x128.size a := fun v8 v19 k0_hw3 => k0_hw3

def k0_off6 (i : grid0.Coords) : Fin 3 → Nat :=
  let arg0 : BitVec 32 := BitVec.ofNat 32 (i 0).val
  let v25 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v26 : Index := Scalar.indexCast v5
  let c15 : Index := 15#32
  ![v25.toNat, v26.toNat, 15]
def k0_off7 (i : grid0.Coords) : Fin 3 → Nat :=
  let arg0 : BitVec 32 := BitVec.ofNat 32 (i 0).val
  let v35 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v36 : Index := Scalar.indexCast v5
  let c2 : Index := 2#32
  ![v35.toNat, v36.toNat, 2]
def k0_off8 (v8 : BitVec 32) (v37 : BitVec 32) : Fin 3 → Nat :=
  let v38 : Index := Scalar.indexCast v37
  let v9 : BitVec 32 := v8
  let v39 : Index := Scalar.indexCast v9
  let c0_8 : Index := 0#32
  ![v38.toNat, v39.toNat, 0]

def k0_chk4 (v8 : BitVec 32) (v37 : BitVec 32) : Prop :=
  (∀ a, (k0_off8 v8 v37) a + S1x40x128.size a ≤ S256x64x128.size a)
theorem k0_off8_inb : ∀ (v8 : BitVec 32) (v37 : BitVec 32) (k0_hw4 : k0_chk4 v8 v37), ∀ a, (k0_off8 v8 v37) a + S1x40x128.size a ≤ S256x64x128.size a := fun v8 v37 k0_hw4 => k0_hw4

def k0_off9 (i : grid0.Coords) : Fin 3 → Nat :=
  let arg0 : BitVec 32 := BitVec.ofNat 32 (i 0).val
  let v42 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v43 : Index := Scalar.indexCast v5
  let c9 : Index := 9#32
  ![v42.toNat, v43.toNat, 9]
def k0_off10 (v8 : BitVec 32) (v44 : BitVec 32) : Fin 3 → Nat :=
  let v45 : Index := Scalar.indexCast v44
  let v9 : BitVec 32 := v8
  let v46 : Index := Scalar.indexCast v9
  let c0_9 : Index := 0#32
  ![v45.toNat, v46.toNat, 0]

def k0_chk5 (v8 : BitVec 32) (v44 : BitVec 32) : Prop :=
  (∀ a, (k0_off10 v8 v44) a + S1x40x128.size a ≤ S256x64x128.size a)
theorem k0_off10_inb : ∀ (v8 : BitVec 32) (v44 : BitVec 32) (k0_hw5 : k0_chk5 v8 v44), ∀ a, (k0_off10 v8 v44) a + S1x40x128.size a ≤ S256x64x128.size a := fun v8 v44 k0_hw5 => k0_hw5

def k0_off11 (i : grid0.Coords) : Fin 3 → Nat :=
  let arg0 : BitVec 32 := BitVec.ofNat 32 (i 0).val
  let v50 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v51 : Index := Scalar.indexCast v5
  let c16 : Index := 16#32
  ![v50.toNat, v51.toNat, 16]
def k0_off12 (i : grid0.Coords) : Fin 3 → Nat :=
  let arg0 : BitVec 32 := BitVec.ofNat 32 (i 0).val
  let v60 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v61 : Index := Scalar.indexCast v5
  let c3 : Index := 3#32
  ![v60.toNat, v61.toNat, 3]
def k0_off13 (v8 : BitVec 32) (v62 : BitVec 32) : Fin 3 → Nat :=
  let v63 : Index := Scalar.indexCast v62
  let v9 : BitVec 32 := v8
  let v64 : Index := Scalar.indexCast v9
  let c0_14 : Index := 0#32
  ![v63.toNat, v64.toNat, 0]

def k0_chk6 (v8 : BitVec 32) (v62 : BitVec 32) : Prop :=
  (∀ a, (k0_off13 v8 v62) a + S1x40x128.size a ≤ S256x64x128.size a)
theorem k0_off13_inb : ∀ (v8 : BitVec 32) (v62 : BitVec 32) (k0_hw6 : k0_chk6 v8 v62), ∀ a, (k0_off13 v8 v62) a + S1x40x128.size a ≤ S256x64x128.size a := fun v8 v62 k0_hw6 => k0_hw6

def k0_off14 (i : grid0.Coords) : Fin 3 → Nat :=
  let arg0 : BitVec 32 := BitVec.ofNat 32 (i 0).val
  let v67 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v68 : Index := Scalar.indexCast v5
  let c10 : Index := 10#32
  ![v67.toNat, v68.toNat, 10]
def k0_off15 (v8 : BitVec 32) (v69 : BitVec 32) : Fin 3 → Nat :=
  let v70 : Index := Scalar.indexCast v69
  let v9 : BitVec 32 := v8
  let v71 : Index := Scalar.indexCast v9
  let c0_15 : Index := 0#32
  ![v70.toNat, v71.toNat, 0]

def k0_chk7 (v8 : BitVec 32) (v69 : BitVec 32) : Prop :=
  (∀ a, (k0_off15 v8 v69) a + S1x40x128.size a ≤ S256x64x128.size a)
theorem k0_off15_inb : ∀ (v8 : BitVec 32) (v69 : BitVec 32) (k0_hw7 : k0_chk7 v8 v69), ∀ a, (k0_off15 v8 v69) a + S1x40x128.size a ≤ S256x64x128.size a := fun v8 v69 k0_hw7 => k0_hw7

def k0_off16 (i : grid0.Coords) : Fin 3 → Nat :=
  let arg0 : BitVec 32 := BitVec.ofNat 32 (i 0).val
  let v75 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v76 : Index := Scalar.indexCast v5
  let c17 : Index := 17#32
  ![v75.toNat, v76.toNat, 17]
def k0_off17 (i : grid0.Coords) : Fin 3 → Nat :=
  let arg0 : BitVec 32 := BitVec.ofNat 32 (i 0).val
  let v85 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v86 : Index := Scalar.indexCast v5
  let c4 : Index := 4#32
  ![v85.toNat, v86.toNat, 4]
def k0_off18 (v8 : BitVec 32) (v87 : BitVec 32) : Fin 3 → Nat :=
  let v88 : Index := Scalar.indexCast v87
  let v9 : BitVec 32 := v8
  let v89 : Index := Scalar.indexCast v9
  let c0_21 : Index := 0#32
  ![v88.toNat, v89.toNat, 0]

def k0_chk8 (v8 : BitVec 32) (v87 : BitVec 32) : Prop :=
  (∀ a, (k0_off18 v8 v87) a + S1x40x128.size a ≤ S256x64x128.size a)
theorem k0_off18_inb : ∀ (v8 : BitVec 32) (v87 : BitVec 32) (k0_hw8 : k0_chk8 v8 v87), ∀ a, (k0_off18 v8 v87) a + S1x40x128.size a ≤ S256x64x128.size a := fun v8 v87 k0_hw8 => k0_hw8

def k0_off19 (i : grid0.Coords) : Fin 3 → Nat :=
  let arg0 : BitVec 32 := BitVec.ofNat 32 (i 0).val
  let v92 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v93 : Index := Scalar.indexCast v5
  let c11 : Index := 11#32
  ![v92.toNat, v93.toNat, 11]
def k0_off20 (v8 : BitVec 32) (v94 : BitVec 32) : Fin 3 → Nat :=
  let v95 : Index := Scalar.indexCast v94
  let v9 : BitVec 32 := v8
  let v96 : Index := Scalar.indexCast v9
  let c0_22 : Index := 0#32
  ![v95.toNat, v96.toNat, 0]

def k0_chk9 (v8 : BitVec 32) (v94 : BitVec 32) : Prop :=
  (∀ a, (k0_off20 v8 v94) a + S1x40x128.size a ≤ S256x64x128.size a)
theorem k0_off20_inb : ∀ (v8 : BitVec 32) (v94 : BitVec 32) (k0_hw9 : k0_chk9 v8 v94), ∀ a, (k0_off20 v8 v94) a + S1x40x128.size a ≤ S256x64x128.size a := fun v8 v94 k0_hw9 => k0_hw9

def k0_off21 (i : grid0.Coords) : Fin 3 → Nat :=
  let arg0 : BitVec 32 := BitVec.ofNat 32 (i 0).val
  let v100 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v101 : Index := Scalar.indexCast v5
  let c18 : Index := 18#32
  ![v100.toNat, v101.toNat, 18]
def k0_off22 (i : grid0.Coords) : Fin 3 → Nat :=
  let arg0 : BitVec 32 := BitVec.ofNat 32 (i 0).val
  let v110 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v111 : Index := Scalar.indexCast v5
  let c5_28 : Index := 5#32
  ![v110.toNat, v111.toNat, 5]
def k0_off23 (v8 : BitVec 32) (v112 : BitVec 32) : Fin 3 → Nat :=
  let v113 : Index := Scalar.indexCast v112
  let v9 : BitVec 32 := v8
  let v114 : Index := Scalar.indexCast v9
  let c0_29 : Index := 0#32
  ![v113.toNat, v114.toNat, 0]

def k0_chk10 (v8 : BitVec 32) (v112 : BitVec 32) : Prop :=
  (∀ a, (k0_off23 v8 v112) a + S1x40x128.size a ≤ S256x64x128.size a)
theorem k0_off23_inb : ∀ (v8 : BitVec 32) (v112 : BitVec 32) (k0_hw10 : k0_chk10 v8 v112), ∀ a, (k0_off23 v8 v112) a + S1x40x128.size a ≤ S256x64x128.size a := fun v8 v112 k0_hw10 => k0_hw10

def k0_off24 (i : grid0.Coords) : Fin 3 → Nat :=
  let arg0 : BitVec 32 := BitVec.ofNat 32 (i 0).val
  let v117 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v118 : Index := Scalar.indexCast v5
  let c12 : Index := 12#32
  ![v117.toNat, v118.toNat, 12]
def k0_off25 (v8 : BitVec 32) (v119 : BitVec 32) : Fin 3 → Nat :=
  let v120 : Index := Scalar.indexCast v119
  let v9 : BitVec 32 := v8
  let v121 : Index := Scalar.indexCast v9
  let c0_30 : Index := 0#32
  ![v120.toNat, v121.toNat, 0]

def k0_chk11 (v8 : BitVec 32) (v119 : BitVec 32) : Prop :=
  (∀ a, (k0_off25 v8 v119) a + S1x40x128.size a ≤ S256x64x128.size a)
theorem k0_off25_inb : ∀ (v8 : BitVec 32) (v119 : BitVec 32) (k0_hw11 : k0_chk11 v8 v119), ∀ a, (k0_off25 v8 v119) a + S1x40x128.size a ≤ S256x64x128.size a := fun v8 v119 k0_hw11 => k0_hw11

def k0_off26 (i : grid0.Coords) : Fin 3 → Nat :=
  let arg0 : BitVec 32 := BitVec.ofNat 32 (i 0).val
  let v125 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v126 : Index := Scalar.indexCast v5
  let c19 : Index := 19#32
  ![v125.toNat, v126.toNat, 19]
def k0_off27 (i : grid0.Coords) : Fin 3 → Nat :=
  let arg0 : BitVec 32 := BitVec.ofNat 32 (i 0).val
  let v135 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v136 : Index := Scalar.indexCast v5
  let c6 : Index := 6#32
  ![v135.toNat, v136.toNat, 6]
def k0_off28 (v8 : BitVec 32) (v137 : BitVec 32) : Fin 3 → Nat :=
  let v138 : Index := Scalar.indexCast v137
  let v9 : BitVec 32 := v8
  let v139 : Index := Scalar.indexCast v9
  let c0_35 : Index := 0#32
  ![v138.toNat, v139.toNat, 0]

def k0_chk12 (v8 : BitVec 32) (v137 : BitVec 32) : Prop :=
  (∀ a, (k0_off28 v8 v137) a + S1x40x128.size a ≤ S256x64x128.size a)
theorem k0_off28_inb : ∀ (v8 : BitVec 32) (v137 : BitVec 32) (k0_hw12 : k0_chk12 v8 v137), ∀ a, (k0_off28 v8 v137) a + S1x40x128.size a ≤ S256x64x128.size a := fun v8 v137 k0_hw12 => k0_hw12

def k0_off29 (i : grid0.Coords) : Fin 3 → Nat :=
  let arg0 : BitVec 32 := BitVec.ofNat 32 (i 0).val
  let v142 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v143 : Index := Scalar.indexCast v5
  let c13 : Index := 13#32
  ![v142.toNat, v143.toNat, 13]
def k0_off30 (v8 : BitVec 32) (v144 : BitVec 32) : Fin 3 → Nat :=
  let v145 : Index := Scalar.indexCast v144
  let v9 : BitVec 32 := v8
  let v146 : Index := Scalar.indexCast v9
  let c0_36 : Index := 0#32
  ![v145.toNat, v146.toNat, 0]

def k0_chk13 (v8 : BitVec 32) (v144 : BitVec 32) : Prop :=
  (∀ a, (k0_off30 v8 v144) a + S1x40x128.size a ≤ S256x64x128.size a)
theorem k0_off30_inb : ∀ (v8 : BitVec 32) (v144 : BitVec 32) (k0_hw13 : k0_chk13 v8 v144), ∀ a, (k0_off30 v8 v144) a + S1x40x128.size a ≤ S256x64x128.size a := fun v8 v144 k0_hw13 => k0_hw13

def k0_off31 (i : grid0.Coords) : Fin 3 → Nat :=
  let arg0 : BitVec 32 := BitVec.ofNat 32 (i 0).val
  let v150 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v151 : Index := Scalar.indexCast v5
  let c20_37 : Index := 20#32
  ![v150.toNat, v151.toNat, 20]
def k0_off32 (i : grid0.Coords) : Fin 3 → Nat :=
  let arg0 : BitVec 32 := BitVec.ofNat 32 (i 0).val
  let v160 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v161 : Index := Scalar.indexCast v5
  let c7 : Index := 7#32
  ![v160.toNat, v161.toNat, 7]
def k0_off33 (v8 : BitVec 32) (v162 : BitVec 32) : Fin 3 → Nat :=
  let v163 : Index := Scalar.indexCast v162
  let v9 : BitVec 32 := v8
  let v164 : Index := Scalar.indexCast v9
  let c0_42 : Index := 0#32
  ![v163.toNat, v164.toNat, 0]

def k0_chk14 (v8 : BitVec 32) (v162 : BitVec 32) : Prop :=
  (∀ a, (k0_off33 v8 v162) a + S1x40x128.size a ≤ S256x64x128.size a)
theorem k0_off33_inb : ∀ (v8 : BitVec 32) (v162 : BitVec 32) (k0_hw14 : k0_chk14 v8 v162), ∀ a, (k0_off33 v8 v162) a + S1x40x128.size a ≤ S256x64x128.size a := fun v8 v162 k0_hw14 => k0_hw14

def k0_off34 (i : grid0.Coords) : Fin 3 → Nat :=
  let arg0 : BitVec 32 := BitVec.ofNat 32 (i 0).val
  let v167 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v168 : Index := Scalar.indexCast v5
  let c14 : Index := 14#32
  ![v167.toNat, v168.toNat, 14]
def k0_off35 (v8 : BitVec 32) (v169 : BitVec 32) : Fin 3 → Nat :=
  let v170 : Index := Scalar.indexCast v169
  let v9 : BitVec 32 := v8
  let v171 : Index := Scalar.indexCast v9
  let c0_43 : Index := 0#32
  ![v170.toNat, v171.toNat, 0]

def k0_chk15 (v8 : BitVec 32) (v169 : BitVec 32) : Prop :=
  (∀ a, (k0_off35 v8 v169) a + S1x40x128.size a ≤ S256x64x128.size a)
theorem k0_off35_inb : ∀ (v8 : BitVec 32) (v169 : BitVec 32) (k0_hw15 : k0_chk15 v8 v169), ∀ a, (k0_off35 v8 v169) a + S1x40x128.size a ≤ S256x64x128.size a := fun v8 v169 k0_hw15 => k0_hw15

def k0_off36 (i : grid0.Coords) : Fin 3 → Nat :=
  let arg0 : BitVec 32 := BitVec.ofNat 32 (i 0).val
  let v175 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v176 : Index := Scalar.indexCast v5
  let c21 : Index := 21#32
  ![v175.toNat, v176.toNat, 21]
def k0_off37 (i : grid0.Coords) : Fin 3 → Nat :=
  let arg0 : BitVec 32 := BitVec.ofNat 32 (i 0).val
  let v185 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v186 : Index := Scalar.indexCast v5
  let c22 : Index := 22#32
  ![v185.toNat, v186.toNat, 22]
def k0_off38 (i : grid0.Coords) : Fin 3 → Nat :=
  let arg0 : BitVec 32 := BitVec.ofNat 32 (i 0).val
  let v188 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v189 : Index := Scalar.indexCast v5
  let c29 : Index := 29#32
  ![v188.toNat, v189.toNat, 29]
def k0_off39 (i : grid0.Coords) : Fin 3 → Nat :=
  let arg0 : BitVec 32 := BitVec.ofNat 32 (i 0).val
  let v191 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v192 : Index := Scalar.indexCast v5
  let c36 : Index := 36#32
  ![v191.toNat, v192.toNat, 36]
def k0_off40 (i : grid0.Coords) : Fin 3 → Nat :=
  let arg0 : BitVec 32 := BitVec.ofNat 32 (i 0).val
  let v194 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v195 : Index := Scalar.indexCast v5
  let c43 : Index := 43#32
  ![v194.toNat, v195.toNat, 43]
def k0_off41 (v187 : BitVec 32) : Fin 3 → Nat :=
  let c0_i32_51 : BitVec 32 := 0#32
  let v219 : BitVec 32 := Scalar.addi c0_i32_51 v187
  let v220 : Index := Scalar.indexCast v219
  let c0_52 : Index := 0#32
  let c0_53 : Index := 0#32
  ![v220.toNat, 0, 0]

def k0_off42 (v190 : BitVec 32) (c0_i32_55 : BitVec 32) : Fin 3 → Nat :=
  let v227 : BitVec 32 := Scalar.addi c0_i32_55 v190
  let v228 : Index := Scalar.indexCast v227
  let c0_56 : Index := 0#32
  let c0_57 : Index := 0#32
  ![v228.toNat, 0, 0]

def k0_chk17 (v190 : BitVec 32) : Prop :=
  (∀ (r : Fin 7), ∀ a, (k0_off42 v190 (BitVec.ofNat 32 (5 * r.val))) a + S1x8x128.size a ≤ S1120x8x128.size a)
theorem k0_off42_inb : ∀ (v190 : BitVec 32) (k0_hw17 : k0_chk17 v190), ∀ (r : Fin 7), ∀ a, (k0_off42 v190 (BitVec.ofNat 32 (5 * r.val))) a + S1x8x128.size a ≤ S1120x8x128.size a := fun v190 k0_hw17 r => k0_hw17 r

def k0_off43 (v187 : BitVec 32) (c5_i32 : BitVec 32) : Fin 3 → Nat :=
  let v237 : BitVec 32 := Scalar.addi c5_i32 v187
  let v238 : Index := Scalar.indexCast v237
  let c0_60 : Index := 0#32
  let c0_61 : Index := 0#32
  ![v238.toNat, 0, 0]

def k0_chk16 (v187 : BitVec 32) : Prop :=
  (∀ a, (k0_off41 v187) a + S1x8x128.size a ≤ S1120x8x128.size a) ∧
  (∀ (r : Fin 6), ∀ a, (k0_off43 v187 (BitVec.ofNat 32 (5 + 5 * r.val))) a + S1x8x128.size a ≤ S1120x8x128.size a)
theorem k0_off41_inb : ∀ (v187 : BitVec 32) (k0_hw16 : k0_chk16 v187), ∀ a, (k0_off41 v187) a + S1x8x128.size a ≤ S1120x8x128.size a := fun v187 k0_hw16 => k0_hw16.1
theorem k0_off43_inb : ∀ (v187 : BitVec 32) (k0_hw16 : k0_chk16 v187), ∀ (r : Fin 6), ∀ a, (k0_off43 v187 (BitVec.ofNat 32 (5 + 5 * r.val))) a + S1x8x128.size a ≤ S1120x8x128.size a := fun v187 k0_hw16 r => k0_hw16.2 r

def k0_off44 (i : grid0.Coords) : Fin 3 → Nat :=
  let arg0 : BitVec 32 := BitVec.ofNat 32 (i 0).val
  let v345 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v346 : Index := Scalar.indexCast v5
  let c23 : Index := 23#32
  ![v345.toNat, v346.toNat, 23]
def k0_off45 (i : grid0.Coords) : Fin 3 → Nat :=
  let arg0 : BitVec 32 := BitVec.ofNat 32 (i 0).val
  let v348 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v349 : Index := Scalar.indexCast v5
  let c30_108 : Index := 30#32
  ![v348.toNat, v349.toNat, 30]
def k0_off46 (i : grid0.Coords) : Fin 3 → Nat :=
  let arg0 : BitVec 32 := BitVec.ofNat 32 (i 0).val
  let v351 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v352 : Index := Scalar.indexCast v5
  let c37 : Index := 37#32
  ![v351.toNat, v352.toNat, 37]
def k0_off47 (i : grid0.Coords) : Fin 3 → Nat :=
  let arg0 : BitVec 32 := BitVec.ofNat 32 (i 0).val
  let v354 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v355 : Index := Scalar.indexCast v5
  let c44 : Index := 44#32
  ![v354.toNat, v355.toNat, 44]
def k0_off48 (v347 : BitVec 32) : Fin 3 → Nat :=
  let c0_i32_113 : BitVec 32 := 0#32
  let v379 : BitVec 32 := Scalar.addi c0_i32_113 v347
  let v380 : Index := Scalar.indexCast v379
  let c0_114 : Index := 0#32
  let c0_115 : Index := 0#32
  ![v380.toNat, 0, 0]

def k0_off49 (v350 : BitVec 32) (c0_i32_117 : BitVec 32) : Fin 3 → Nat :=
  let v387 : BitVec 32 := Scalar.addi c0_i32_117 v350
  let v388 : Index := Scalar.indexCast v387
  let c0_118 : Index := 0#32
  let c0_119 : Index := 0#32
  ![v388.toNat, 0, 0]

def k0_chk19 (v350 : BitVec 32) : Prop :=
  (∀ (r : Fin 7), ∀ a, (k0_off49 v350 (BitVec.ofNat 32 (5 * r.val))) a + S1x8x128.size a ≤ S1120x8x128.size a)
theorem k0_off49_inb : ∀ (v350 : BitVec 32) (k0_hw19 : k0_chk19 v350), ∀ (r : Fin 7), ∀ a, (k0_off49 v350 (BitVec.ofNat 32 (5 * r.val))) a + S1x8x128.size a ≤ S1120x8x128.size a := fun v350 k0_hw19 r => k0_hw19 r

def k0_off50 (v347 : BitVec 32) (c5_i32_122 : BitVec 32) : Fin 3 → Nat :=
  let v397 : BitVec 32 := Scalar.addi c5_i32_122 v347
  let v398 : Index := Scalar.indexCast v397
  let c0_123 : Index := 0#32
  let c0_124 : Index := 0#32
  ![v398.toNat, 0, 0]

def k0_chk18 (v347 : BitVec 32) : Prop :=
  (∀ a, (k0_off48 v347) a + S1x8x128.size a ≤ S1120x8x128.size a) ∧
  (∀ (r : Fin 6), ∀ a, (k0_off50 v347 (BitVec.ofNat 32 (5 + 5 * r.val))) a + S1x8x128.size a ≤ S1120x8x128.size a)
theorem k0_off48_inb : ∀ (v347 : BitVec 32) (k0_hw18 : k0_chk18 v347), ∀ a, (k0_off48 v347) a + S1x8x128.size a ≤ S1120x8x128.size a := fun v347 k0_hw18 => k0_hw18.1
theorem k0_off50_inb : ∀ (v347 : BitVec 32) (k0_hw18 : k0_chk18 v347), ∀ (r : Fin 6), ∀ a, (k0_off50 v347 (BitVec.ofNat 32 (5 + 5 * r.val))) a + S1x8x128.size a ≤ S1120x8x128.size a := fun v347 k0_hw18 r => k0_hw18.2 r

def k0_off51 (i : grid0.Coords) : Fin 3 → Nat :=
  let arg0 : BitVec 32 := BitVec.ofNat 32 (i 0).val
  let v505 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v506 : Index := Scalar.indexCast v5
  let c24 : Index := 24#32
  ![v505.toNat, v506.toNat, 24]
def k0_off52 (i : grid0.Coords) : Fin 3 → Nat :=
  let arg0 : BitVec 32 := BitVec.ofNat 32 (i 0).val
  let v508 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v509 : Index := Scalar.indexCast v5
  let c31 : Index := 31#32
  ![v508.toNat, v509.toNat, 31]
def k0_off53 (i : grid0.Coords) : Fin 3 → Nat :=
  let arg0 : BitVec 32 := BitVec.ofNat 32 (i 0).val
  let v511 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v512 : Index := Scalar.indexCast v5
  let c38 : Index := 38#32
  ![v511.toNat, v512.toNat, 38]
def k0_off54 (i : grid0.Coords) : Fin 3 → Nat :=
  let arg0 : BitVec 32 := BitVec.ofNat 32 (i 0).val
  let v514 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v515 : Index := Scalar.indexCast v5
  let c45 : Index := 45#32
  ![v514.toNat, v515.toNat, 45]
def k0_off55 (v507 : BitVec 32) : Fin 3 → Nat :=
  let c0_i32_180 : BitVec 32 := 0#32
  let v539 : BitVec 32 := Scalar.addi c0_i32_180 v507
  let v540 : Index := Scalar.indexCast v539
  let c0_181 : Index := 0#32
  let c0_182 : Index := 0#32
  ![v540.toNat, 0, 0]

def k0_off56 (v510 : BitVec 32) (c0_i32_184 : BitVec 32) : Fin 3 → Nat :=
  let v547 : BitVec 32 := Scalar.addi c0_i32_184 v510
  let v548 : Index := Scalar.indexCast v547
  let c0_185 : Index := 0#32
  let c0_186 : Index := 0#32
  ![v548.toNat, 0, 0]

def k0_chk21 (v510 : BitVec 32) : Prop :=
  (∀ (r : Fin 7), ∀ a, (k0_off56 v510 (BitVec.ofNat 32 (5 * r.val))) a + S1x8x128.size a ≤ S1120x8x128.size a)
theorem k0_off56_inb : ∀ (v510 : BitVec 32) (k0_hw21 : k0_chk21 v510), ∀ (r : Fin 7), ∀ a, (k0_off56 v510 (BitVec.ofNat 32 (5 * r.val))) a + S1x8x128.size a ≤ S1120x8x128.size a := fun v510 k0_hw21 r => k0_hw21 r

def k0_off57 (v507 : BitVec 32) (c5_i32_189 : BitVec 32) : Fin 3 → Nat :=
  let v557 : BitVec 32 := Scalar.addi c5_i32_189 v507
  let v558 : Index := Scalar.indexCast v557
  let c0_190 : Index := 0#32
  let c0_191 : Index := 0#32
  ![v558.toNat, 0, 0]

def k0_chk20 (v507 : BitVec 32) : Prop :=
  (∀ a, (k0_off55 v507) a + S1x8x128.size a ≤ S1120x8x128.size a) ∧
  (∀ (r : Fin 6), ∀ a, (k0_off57 v507 (BitVec.ofNat 32 (5 + 5 * r.val))) a + S1x8x128.size a ≤ S1120x8x128.size a)
theorem k0_off55_inb : ∀ (v507 : BitVec 32) (k0_hw20 : k0_chk20 v507), ∀ a, (k0_off55 v507) a + S1x8x128.size a ≤ S1120x8x128.size a := fun v507 k0_hw20 => k0_hw20.1
theorem k0_off57_inb : ∀ (v507 : BitVec 32) (k0_hw20 : k0_chk20 v507), ∀ (r : Fin 6), ∀ a, (k0_off57 v507 (BitVec.ofNat 32 (5 + 5 * r.val))) a + S1x8x128.size a ≤ S1120x8x128.size a := fun v507 k0_hw20 r => k0_hw20.2 r

def k0_off58 (i : grid0.Coords) : Fin 3 → Nat :=
  let arg0 : BitVec 32 := BitVec.ofNat 32 (i 0).val
  let v665 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v666 : Index := Scalar.indexCast v5
  let c25_243 : Index := 25#32
  ![v665.toNat, v666.toNat, 25]
def k0_off59 (i : grid0.Coords) : Fin 3 → Nat :=
  let arg0 : BitVec 32 := BitVec.ofNat 32 (i 0).val
  let v668 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v669 : Index := Scalar.indexCast v5
  let c32 : Index := 32#32
  ![v668.toNat, v669.toNat, 32]
def k0_off60 (i : grid0.Coords) : Fin 3 → Nat :=
  let arg0 : BitVec 32 := BitVec.ofNat 32 (i 0).val
  let v671 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v672 : Index := Scalar.indexCast v5
  let c39 : Index := 39#32
  ![v671.toNat, v672.toNat, 39]
def k0_off61 (i : grid0.Coords) : Fin 3 → Nat :=
  let arg0 : BitVec 32 := BitVec.ofNat 32 (i 0).val
  let v674 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v675 : Index := Scalar.indexCast v5
  let c46 : Index := 46#32
  ![v674.toNat, v675.toNat, 46]
def k0_off62 (v667 : BitVec 32) : Fin 3 → Nat :=
  let c0_i32_248 : BitVec 32 := 0#32
  let v699 : BitVec 32 := Scalar.addi c0_i32_248 v667
  let v700 : Index := Scalar.indexCast v699
  let c0_249 : Index := 0#32
  let c0_250 : Index := 0#32
  ![v700.toNat, 0, 0]

def k0_off63 (v670 : BitVec 32) (c0_i32_252 : BitVec 32) : Fin 3 → Nat :=
  let v707 : BitVec 32 := Scalar.addi c0_i32_252 v670
  let v708 : Index := Scalar.indexCast v707
  let c0_253 : Index := 0#32
  let c0_254 : Index := 0#32
  ![v708.toNat, 0, 0]

def k0_chk23 (v670 : BitVec 32) : Prop :=
  (∀ (r : Fin 7), ∀ a, (k0_off63 v670 (BitVec.ofNat 32 (5 * r.val))) a + S1x8x128.size a ≤ S1120x8x128.size a)
theorem k0_off63_inb : ∀ (v670 : BitVec 32) (k0_hw23 : k0_chk23 v670), ∀ (r : Fin 7), ∀ a, (k0_off63 v670 (BitVec.ofNat 32 (5 * r.val))) a + S1x8x128.size a ≤ S1120x8x128.size a := fun v670 k0_hw23 r => k0_hw23 r

def k0_off64 (v667 : BitVec 32) (c5_i32_257 : BitVec 32) : Fin 3 → Nat :=
  let v717 : BitVec 32 := Scalar.addi c5_i32_257 v667
  let v718 : Index := Scalar.indexCast v717
  let c0_258 : Index := 0#32
  let c0_259 : Index := 0#32
  ![v718.toNat, 0, 0]

def k0_chk22 (v667 : BitVec 32) : Prop :=
  (∀ a, (k0_off62 v667) a + S1x8x128.size a ≤ S1120x8x128.size a) ∧
  (∀ (r : Fin 6), ∀ a, (k0_off64 v667 (BitVec.ofNat 32 (5 + 5 * r.val))) a + S1x8x128.size a ≤ S1120x8x128.size a)
theorem k0_off62_inb : ∀ (v667 : BitVec 32) (k0_hw22 : k0_chk22 v667), ∀ a, (k0_off62 v667) a + S1x8x128.size a ≤ S1120x8x128.size a := fun v667 k0_hw22 => k0_hw22.1
theorem k0_off64_inb : ∀ (v667 : BitVec 32) (k0_hw22 : k0_chk22 v667), ∀ (r : Fin 6), ∀ a, (k0_off64 v667 (BitVec.ofNat 32 (5 + 5 * r.val))) a + S1x8x128.size a ≤ S1120x8x128.size a := fun v667 k0_hw22 r => k0_hw22.2 r

def k0_off65 (i : grid0.Coords) : Fin 3 → Nat :=
  let arg0 : BitVec 32 := BitVec.ofNat 32 (i 0).val
  let v825 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v826 : Index := Scalar.indexCast v5
  let c26 : Index := 26#32
  ![v825.toNat, v826.toNat, 26]
def k0_off66 (i : grid0.Coords) : Fin 3 → Nat :=
  let arg0 : BitVec 32 := BitVec.ofNat 32 (i 0).val
  let v828 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v829 : Index := Scalar.indexCast v5
  let c33 : Index := 33#32
  ![v828.toNat, v829.toNat, 33]
def k0_off67 (i : grid0.Coords) : Fin 3 → Nat :=
  let arg0 : BitVec 32 := BitVec.ofNat 32 (i 0).val
  let v831 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v832 : Index := Scalar.indexCast v5
  let c40 : Index := 40#32
  ![v831.toNat, v832.toNat, 40]
def k0_off68 (i : grid0.Coords) : Fin 3 → Nat :=
  let arg0 : BitVec 32 := BitVec.ofNat 32 (i 0).val
  let v834 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v835 : Index := Scalar.indexCast v5
  let c47 : Index := 47#32
  ![v834.toNat, v835.toNat, 47]
def k0_off69 (v827 : BitVec 32) : Fin 3 → Nat :=
  let c0_i32_315 : BitVec 32 := 0#32
  let v859 : BitVec 32 := Scalar.addi c0_i32_315 v827
  let v860 : Index := Scalar.indexCast v859
  let c0_316 : Index := 0#32
  let c0_317 : Index := 0#32
  ![v860.toNat, 0, 0]

def k0_off70 (v830 : BitVec 32) (c0_i32_319 : BitVec 32) : Fin 3 → Nat :=
  let v867 : BitVec 32 := Scalar.addi c0_i32_319 v830
  let v868 : Index := Scalar.indexCast v867
  let c0_320 : Index := 0#32
  let c0_321 : Index := 0#32
  ![v868.toNat, 0, 0]

def k0_chk25 (v830 : BitVec 32) : Prop :=
  (∀ (r : Fin 7), ∀ a, (k0_off70 v830 (BitVec.ofNat 32 (5 * r.val))) a + S1x8x128.size a ≤ S1120x8x128.size a)
theorem k0_off70_inb : ∀ (v830 : BitVec 32) (k0_hw25 : k0_chk25 v830), ∀ (r : Fin 7), ∀ a, (k0_off70 v830 (BitVec.ofNat 32 (5 * r.val))) a + S1x8x128.size a ≤ S1120x8x128.size a := fun v830 k0_hw25 r => k0_hw25 r

def k0_off71 (v827 : BitVec 32) (c5_i32_324 : BitVec 32) : Fin 3 → Nat :=
  let v877 : BitVec 32 := Scalar.addi c5_i32_324 v827
  let v878 : Index := Scalar.indexCast v877
  let c0_325 : Index := 0#32
  let c0_326 : Index := 0#32
  ![v878.toNat, 0, 0]

def k0_chk24 (v827 : BitVec 32) : Prop :=
  (∀ a, (k0_off69 v827) a + S1x8x128.size a ≤ S1120x8x128.size a) ∧
  (∀ (r : Fin 6), ∀ a, (k0_off71 v827 (BitVec.ofNat 32 (5 + 5 * r.val))) a + S1x8x128.size a ≤ S1120x8x128.size a)
theorem k0_off69_inb : ∀ (v827 : BitVec 32) (k0_hw24 : k0_chk24 v827), ∀ a, (k0_off69 v827) a + S1x8x128.size a ≤ S1120x8x128.size a := fun v827 k0_hw24 => k0_hw24.1
theorem k0_off71_inb : ∀ (v827 : BitVec 32) (k0_hw24 : k0_chk24 v827), ∀ (r : Fin 6), ∀ a, (k0_off71 v827 (BitVec.ofNat 32 (5 + 5 * r.val))) a + S1x8x128.size a ≤ S1120x8x128.size a := fun v827 k0_hw24 r => k0_hw24.2 r

def k0_off72 (i : grid0.Coords) : Fin 3 → Nat :=
  let arg0 : BitVec 32 := BitVec.ofNat 32 (i 0).val
  let v985 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v986 : Index := Scalar.indexCast v5
  let c27 : Index := 27#32
  ![v985.toNat, v986.toNat, 27]
def k0_off73 (i : grid0.Coords) : Fin 3 → Nat :=
  let arg0 : BitVec 32 := BitVec.ofNat 32 (i 0).val
  let v988 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v989 : Index := Scalar.indexCast v5
  let c34 : Index := 34#32
  ![v988.toNat, v989.toNat, 34]
def k0_off74 (i : grid0.Coords) : Fin 3 → Nat :=
  let arg0 : BitVec 32 := BitVec.ofNat 32 (i 0).val
  let v991 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v992 : Index := Scalar.indexCast v5
  let c41 : Index := 41#32
  ![v991.toNat, v992.toNat, 41]
def k0_off75 (i : grid0.Coords) : Fin 3 → Nat :=
  let arg0 : BitVec 32 := BitVec.ofNat 32 (i 0).val
  let v994 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v995 : Index := Scalar.indexCast v5
  let c48 : Index := 48#32
  ![v994.toNat, v995.toNat, 48]
def k0_off76 (v987 : BitVec 32) : Fin 3 → Nat :=
  let c0_i32_382 : BitVec 32 := 0#32
  let v1019 : BitVec 32 := Scalar.addi c0_i32_382 v987
  let v1020 : Index := Scalar.indexCast v1019
  let c0_383 : Index := 0#32
  let c0_384 : Index := 0#32
  ![v1020.toNat, 0, 0]

def k0_off77 (v990 : BitVec 32) (c0_i32_386 : BitVec 32) : Fin 3 → Nat :=
  let v1027 : BitVec 32 := Scalar.addi c0_i32_386 v990
  let v1028 : Index := Scalar.indexCast v1027
  let c0_387 : Index := 0#32
  let c0_388 : Index := 0#32
  ![v1028.toNat, 0, 0]

def k0_chk27 (v990 : BitVec 32) : Prop :=
  (∀ (r : Fin 7), ∀ a, (k0_off77 v990 (BitVec.ofNat 32 (5 * r.val))) a + S1x8x128.size a ≤ S1120x8x128.size a)
theorem k0_off77_inb : ∀ (v990 : BitVec 32) (k0_hw27 : k0_chk27 v990), ∀ (r : Fin 7), ∀ a, (k0_off77 v990 (BitVec.ofNat 32 (5 * r.val))) a + S1x8x128.size a ≤ S1120x8x128.size a := fun v990 k0_hw27 r => k0_hw27 r

def k0_off78 (v987 : BitVec 32) (c5_i32_391 : BitVec 32) : Fin 3 → Nat :=
  let v1037 : BitVec 32 := Scalar.addi c5_i32_391 v987
  let v1038 : Index := Scalar.indexCast v1037
  let c0_392 : Index := 0#32
  let c0_393 : Index := 0#32
  ![v1038.toNat, 0, 0]

def k0_chk26 (v987 : BitVec 32) : Prop :=
  (∀ a, (k0_off76 v987) a + S1x8x128.size a ≤ S1120x8x128.size a) ∧
  (∀ (r : Fin 6), ∀ a, (k0_off78 v987 (BitVec.ofNat 32 (5 + 5 * r.val))) a + S1x8x128.size a ≤ S1120x8x128.size a)
theorem k0_off76_inb : ∀ (v987 : BitVec 32) (k0_hw26 : k0_chk26 v987), ∀ a, (k0_off76 v987) a + S1x8x128.size a ≤ S1120x8x128.size a := fun v987 k0_hw26 => k0_hw26.1
theorem k0_off78_inb : ∀ (v987 : BitVec 32) (k0_hw26 : k0_chk26 v987), ∀ (r : Fin 6), ∀ a, (k0_off78 v987 (BitVec.ofNat 32 (5 + 5 * r.val))) a + S1x8x128.size a ≤ S1120x8x128.size a := fun v987 k0_hw26 r => k0_hw26.2 r

def k0_off79 (i : grid0.Coords) : Fin 3 → Nat :=
  let arg0 : BitVec 32 := BitVec.ofNat 32 (i 0).val
  let v1145 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v1146 : Index := Scalar.indexCast v5
  let c28 : Index := 28#32
  ![v1145.toNat, v1146.toNat, 28]
def k0_off80 (i : grid0.Coords) : Fin 3 → Nat :=
  let arg0 : BitVec 32 := BitVec.ofNat 32 (i 0).val
  let v1148 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v1149 : Index := Scalar.indexCast v5
  let c35 : Index := 35#32
  ![v1148.toNat, v1149.toNat, 35]
def k0_off81 (i : grid0.Coords) : Fin 3 → Nat :=
  let arg0 : BitVec 32 := BitVec.ofNat 32 (i 0).val
  let v1151 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v1152 : Index := Scalar.indexCast v5
  let c42 : Index := 42#32
  ![v1151.toNat, v1152.toNat, 42]
def k0_off82 (i : grid0.Coords) : Fin 3 → Nat :=
  let arg0 : BitVec 32 := BitVec.ofNat 32 (i 0).val
  let v1154 : Index := Scalar.indexCast arg0
  let arg1 : BitVec 32 := BitVec.ofNat 32 (i 1).val
  let c32_i32 : BitVec 32 := 32#32
  let v4 : BitVec 32 := Scalar.muli arg1 c32_i32
  let c0_i32_1 : BitVec 32 := 0#32
  let v5 : BitVec 32 := Scalar.addi v4 c0_i32_1
  let v1155 : Index := Scalar.indexCast v5
  let c49 : Index := 49#32
  ![v1154.toNat, v1155.toNat, 49]
def k0_off83 (v1147 : BitVec 32) : Fin 3 → Nat :=
  let c0_i32_449 : BitVec 32 := 0#32
  let v1179 : BitVec 32 := Scalar.addi c0_i32_449 v1147
  let v1180 : Index := Scalar.indexCast v1179
  let c0_450 : Index := 0#32
  let c0_451 : Index := 0#32
  ![v1180.toNat, 0, 0]

def k0_off84 (v1150 : BitVec 32) (c0_i32_453 : BitVec 32) : Fin 3 → Nat :=
  let v1187 : BitVec 32 := Scalar.addi c0_i32_453 v1150
  let v1188 : Index := Scalar.indexCast v1187
  let c0_454 : Index := 0#32
  let c0_455 : Index := 0#32
  ![v1188.toNat, 0, 0]

def k0_chk29 (v1150 : BitVec 32) : Prop :=
  (∀ (r : Fin 7), ∀ a, (k0_off84 v1150 (BitVec.ofNat 32 (5 * r.val))) a + S1x8x128.size a ≤ S1120x8x128.size a)
theorem k0_off84_inb : ∀ (v1150 : BitVec 32) (k0_hw29 : k0_chk29 v1150), ∀ (r : Fin 7), ∀ a, (k0_off84 v1150 (BitVec.ofNat 32 (5 * r.val))) a + S1x8x128.size a ≤ S1120x8x128.size a := fun v1150 k0_hw29 r => k0_hw29 r

def k0_off85 (v1147 : BitVec 32) (c5_i32_458 : BitVec 32) : Fin 3 → Nat :=
  let v1197 : BitVec 32 := Scalar.addi c5_i32_458 v1147
  let v1198 : Index := Scalar.indexCast v1197
  let c0_459 : Index := 0#32
  let c0_460 : Index := 0#32
  ![v1198.toNat, 0, 0]

def k0_chk28 (v1147 : BitVec 32) : Prop :=
  (∀ a, (k0_off83 v1147) a + S1x8x128.size a ≤ S1120x8x128.size a) ∧
  (∀ (r : Fin 6), ∀ a, (k0_off85 v1147 (BitVec.ofNat 32 (5 + 5 * r.val))) a + S1x8x128.size a ≤ S1120x8x128.size a)
theorem k0_off83_inb : ∀ (v1147 : BitVec 32) (k0_hw28 : k0_chk28 v1147), ∀ a, (k0_off83 v1147) a + S1x8x128.size a ≤ S1120x8x128.size a := fun v1147 k0_hw28 => k0_hw28.1
theorem k0_off85_inb : ∀ (v1147 : BitVec 32) (k0_hw28 : k0_chk28 v1147), ∀ (r : Fin 6), ∀ a, (k0_off85 v1147 (BitVec.ofNat 32 (5 + 5 * r.val))) a + S1x8x128.size a ≤ S1120x8x128.size a := fun v1147 k0_hw28 r => k0_hw28.2 r

def k0_off86 (i : grid0.Coords) : Fin 3 → Nat :=
  let arg0 : BitVec 32 := BitVec.ofNat 32 (i 0).val
  let v1384 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1385 : Index := Scalar.indexCast v1383
  let c0_541 : Index := 0#32
  ![v1384.toNat, v1385.toNat, 0]
def k0_mult2 (v1386 : BitVec 32) : BitVec 32 :=
  v1386

def k0_chk30 (v1386 : BitVec 32) : Prop :=
  (8 ∣ (k0_mult2 v1386).toNat)
theorem k0_mult2_dvd : ∀ (v1386 : BitVec 32) (k0_hw30 : k0_chk30 v1386), 8 ∣ (k0_mult2 v1386).toNat := fun v1386 k0_hw30 => k0_hw30

def k0_off87 (i : grid0.Coords) : Fin 3 → Nat :=
  let arg0 : BitVec 32 := BitVec.ofNat 32 (i 0).val
  let v1388 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1389 : Index := Scalar.indexCast v1383
  let c1_542 : Index := 1#32
  ![v1388.toNat, v1389.toNat, 1]
def k0_off88 (v1386 : BitVec 32) (v1390 : BitVec 32) : Fin 3 → Nat :=
  let v1391 : Index := Scalar.indexCast v1390
  let v1387 : BitVec 32 := v1386
  let v1392 : Index := Scalar.indexCast v1387
  let c0_543 : Index := 0#32
  ![v1391.toNat, v1392.toNat, 0]

def k0_chk31 (v1386 : BitVec 32) (v1390 : BitVec 32) : Prop :=
  (∀ a, (k0_off88 v1386 v1390) a + S1x40x128.size a ≤ S256x64x128.size a)
theorem k0_off88_inb : ∀ (v1386 : BitVec 32) (v1390 : BitVec 32) (k0_hw31 : k0_chk31 v1386 v1390), ∀ a, (k0_off88 v1386 v1390) a + S1x40x128.size a ≤ S256x64x128.size a := fun v1386 v1390 k0_hw31 => k0_hw31

def k0_off89 (i : grid0.Coords) : Fin 3 → Nat :=
  let arg0 : BitVec 32 := BitVec.ofNat 32 (i 0).val
  let v1395 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1396 : Index := Scalar.indexCast v1383
  let c8_544 : Index := 8#32
  ![v1395.toNat, v1396.toNat, 8]
def k0_off90 (v1386 : BitVec 32) (v1397 : BitVec 32) : Fin 3 → Nat :=
  let v1398 : Index := Scalar.indexCast v1397
  let v1387 : BitVec 32 := v1386
  let v1399 : Index := Scalar.indexCast v1387
  let c0_545 : Index := 0#32
  ![v1398.toNat, v1399.toNat, 0]

def k0_chk32 (v1386 : BitVec 32) (v1397 : BitVec 32) : Prop :=
  (∀ a, (k0_off90 v1386 v1397) a + S1x40x128.size a ≤ S256x64x128.size a)
theorem k0_off90_inb : ∀ (v1386 : BitVec 32) (v1397 : BitVec 32) (k0_hw32 : k0_chk32 v1386 v1397), ∀ a, (k0_off90 v1386 v1397) a + S1x40x128.size a ≤ S256x64x128.size a := fun v1386 v1397 k0_hw32 => k0_hw32

def k0_off91 (i : grid0.Coords) : Fin 3 → Nat :=
  let arg0 : BitVec 32 := BitVec.ofNat 32 (i 0).val
  let v1403 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1404 : Index := Scalar.indexCast v1383
  let c15_546 : Index := 15#32
  ![v1403.toNat, v1404.toNat, 15]
def k0_off92 (i : grid0.Coords) : Fin 3 → Nat :=
  let arg0 : BitVec 32 := BitVec.ofNat 32 (i 0).val
  let v1413 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1414 : Index := Scalar.indexCast v1383
  let c2_552 : Index := 2#32
  ![v1413.toNat, v1414.toNat, 2]
def k0_off93 (v1386 : BitVec 32) (v1415 : BitVec 32) : Fin 3 → Nat :=
  let v1416 : Index := Scalar.indexCast v1415
  let v1387 : BitVec 32 := v1386
  let v1417 : Index := Scalar.indexCast v1387
  let c0_553 : Index := 0#32
  ![v1416.toNat, v1417.toNat, 0]

def k0_chk33 (v1386 : BitVec 32) (v1415 : BitVec 32) : Prop :=
  (∀ a, (k0_off93 v1386 v1415) a + S1x40x128.size a ≤ S256x64x128.size a)
theorem k0_off93_inb : ∀ (v1386 : BitVec 32) (v1415 : BitVec 32) (k0_hw33 : k0_chk33 v1386 v1415), ∀ a, (k0_off93 v1386 v1415) a + S1x40x128.size a ≤ S256x64x128.size a := fun v1386 v1415 k0_hw33 => k0_hw33

def k0_off94 (i : grid0.Coords) : Fin 3 → Nat :=
  let arg0 : BitVec 32 := BitVec.ofNat 32 (i 0).val
  let v1420 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1421 : Index := Scalar.indexCast v1383
  let c9_554 : Index := 9#32
  ![v1420.toNat, v1421.toNat, 9]
def k0_off95 (v1386 : BitVec 32) (v1422 : BitVec 32) : Fin 3 → Nat :=
  let v1423 : Index := Scalar.indexCast v1422
  let v1387 : BitVec 32 := v1386
  let v1424 : Index := Scalar.indexCast v1387
  let c0_555 : Index := 0#32
  ![v1423.toNat, v1424.toNat, 0]

def k0_chk34 (v1386 : BitVec 32) (v1422 : BitVec 32) : Prop :=
  (∀ a, (k0_off95 v1386 v1422) a + S1x40x128.size a ≤ S256x64x128.size a)
theorem k0_off95_inb : ∀ (v1386 : BitVec 32) (v1422 : BitVec 32) (k0_hw34 : k0_chk34 v1386 v1422), ∀ a, (k0_off95 v1386 v1422) a + S1x40x128.size a ≤ S256x64x128.size a := fun v1386 v1422 k0_hw34 => k0_hw34

def k0_off96 (i : grid0.Coords) : Fin 3 → Nat :=
  let arg0 : BitVec 32 := BitVec.ofNat 32 (i 0).val
  let v1428 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1429 : Index := Scalar.indexCast v1383
  let c16_556 : Index := 16#32
  ![v1428.toNat, v1429.toNat, 16]
def k0_off97 (i : grid0.Coords) : Fin 3 → Nat :=
  let arg0 : BitVec 32 := BitVec.ofNat 32 (i 0).val
  let v1438 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1439 : Index := Scalar.indexCast v1383
  let c3_562 : Index := 3#32
  ![v1438.toNat, v1439.toNat, 3]
def k0_off98 (v1386 : BitVec 32) (v1440 : BitVec 32) : Fin 3 → Nat :=
  let v1441 : Index := Scalar.indexCast v1440
  let v1387 : BitVec 32 := v1386
  let v1442 : Index := Scalar.indexCast v1387
  let c0_563 : Index := 0#32
  ![v1441.toNat, v1442.toNat, 0]

def k0_chk35 (v1386 : BitVec 32) (v1440 : BitVec 32) : Prop :=
  (∀ a, (k0_off98 v1386 v1440) a + S1x40x128.size a ≤ S256x64x128.size a)
theorem k0_off98_inb : ∀ (v1386 : BitVec 32) (v1440 : BitVec 32) (k0_hw35 : k0_chk35 v1386 v1440), ∀ a, (k0_off98 v1386 v1440) a + S1x40x128.size a ≤ S256x64x128.size a := fun v1386 v1440 k0_hw35 => k0_hw35

def k0_off99 (i : grid0.Coords) : Fin 3 → Nat :=
  let arg0 : BitVec 32 := BitVec.ofNat 32 (i 0).val
  let v1445 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1446 : Index := Scalar.indexCast v1383
  let c10_564 : Index := 10#32
  ![v1445.toNat, v1446.toNat, 10]
def k0_off100 (v1386 : BitVec 32) (v1447 : BitVec 32) : Fin 3 → Nat :=
  let v1448 : Index := Scalar.indexCast v1447
  let v1387 : BitVec 32 := v1386
  let v1449 : Index := Scalar.indexCast v1387
  let c0_565 : Index := 0#32
  ![v1448.toNat, v1449.toNat, 0]

def k0_chk36 (v1386 : BitVec 32) (v1447 : BitVec 32) : Prop :=
  (∀ a, (k0_off100 v1386 v1447) a + S1x40x128.size a ≤ S256x64x128.size a)
theorem k0_off100_inb : ∀ (v1386 : BitVec 32) (v1447 : BitVec 32) (k0_hw36 : k0_chk36 v1386 v1447), ∀ a, (k0_off100 v1386 v1447) a + S1x40x128.size a ≤ S256x64x128.size a := fun v1386 v1447 k0_hw36 => k0_hw36

def k0_off101 (i : grid0.Coords) : Fin 3 → Nat :=
  let arg0 : BitVec 32 := BitVec.ofNat 32 (i 0).val
  let v1453 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1454 : Index := Scalar.indexCast v1383
  let c17_566 : Index := 17#32
  ![v1453.toNat, v1454.toNat, 17]
def k0_off102 (i : grid0.Coords) : Fin 3 → Nat :=
  let arg0 : BitVec 32 := BitVec.ofNat 32 (i 0).val
  let v1463 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1464 : Index := Scalar.indexCast v1383
  let c4_572 : Index := 4#32
  ![v1463.toNat, v1464.toNat, 4]
def k0_off103 (v1386 : BitVec 32) (v1465 : BitVec 32) : Fin 3 → Nat :=
  let v1466 : Index := Scalar.indexCast v1465
  let v1387 : BitVec 32 := v1386
  let v1467 : Index := Scalar.indexCast v1387
  let c0_573 : Index := 0#32
  ![v1466.toNat, v1467.toNat, 0]

def k0_chk37 (v1386 : BitVec 32) (v1465 : BitVec 32) : Prop :=
  (∀ a, (k0_off103 v1386 v1465) a + S1x40x128.size a ≤ S256x64x128.size a)
theorem k0_off103_inb : ∀ (v1386 : BitVec 32) (v1465 : BitVec 32) (k0_hw37 : k0_chk37 v1386 v1465), ∀ a, (k0_off103 v1386 v1465) a + S1x40x128.size a ≤ S256x64x128.size a := fun v1386 v1465 k0_hw37 => k0_hw37

def k0_off104 (i : grid0.Coords) : Fin 3 → Nat :=
  let arg0 : BitVec 32 := BitVec.ofNat 32 (i 0).val
  let v1470 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1471 : Index := Scalar.indexCast v1383
  let c11_574 : Index := 11#32
  ![v1470.toNat, v1471.toNat, 11]
def k0_off105 (v1386 : BitVec 32) (v1472 : BitVec 32) : Fin 3 → Nat :=
  let v1473 : Index := Scalar.indexCast v1472
  let v1387 : BitVec 32 := v1386
  let v1474 : Index := Scalar.indexCast v1387
  let c0_575 : Index := 0#32
  ![v1473.toNat, v1474.toNat, 0]

def k0_chk38 (v1386 : BitVec 32) (v1472 : BitVec 32) : Prop :=
  (∀ a, (k0_off105 v1386 v1472) a + S1x40x128.size a ≤ S256x64x128.size a)
theorem k0_off105_inb : ∀ (v1386 : BitVec 32) (v1472 : BitVec 32) (k0_hw38 : k0_chk38 v1386 v1472), ∀ a, (k0_off105 v1386 v1472) a + S1x40x128.size a ≤ S256x64x128.size a := fun v1386 v1472 k0_hw38 => k0_hw38

def k0_off106 (i : grid0.Coords) : Fin 3 → Nat :=
  let arg0 : BitVec 32 := BitVec.ofNat 32 (i 0).val
  let v1478 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1479 : Index := Scalar.indexCast v1383
  let c18_576 : Index := 18#32
  ![v1478.toNat, v1479.toNat, 18]
def k0_off107 (i : grid0.Coords) : Fin 3 → Nat :=
  let arg0 : BitVec 32 := BitVec.ofNat 32 (i 0).val
  let v1488 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1489 : Index := Scalar.indexCast v1383
  let c5_581 : Index := 5#32
  ![v1488.toNat, v1489.toNat, 5]
def k0_off108 (v1386 : BitVec 32) (v1490 : BitVec 32) : Fin 3 → Nat :=
  let v1491 : Index := Scalar.indexCast v1490
  let v1387 : BitVec 32 := v1386
  let v1492 : Index := Scalar.indexCast v1387
  let c0_582 : Index := 0#32
  ![v1491.toNat, v1492.toNat, 0]

def k0_chk39 (v1386 : BitVec 32) (v1490 : BitVec 32) : Prop :=
  (∀ a, (k0_off108 v1386 v1490) a + S1x40x128.size a ≤ S256x64x128.size a)
theorem k0_off108_inb : ∀ (v1386 : BitVec 32) (v1490 : BitVec 32) (k0_hw39 : k0_chk39 v1386 v1490), ∀ a, (k0_off108 v1386 v1490) a + S1x40x128.size a ≤ S256x64x128.size a := fun v1386 v1490 k0_hw39 => k0_hw39

def k0_off109 (i : grid0.Coords) : Fin 3 → Nat :=
  let arg0 : BitVec 32 := BitVec.ofNat 32 (i 0).val
  let v1495 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1496 : Index := Scalar.indexCast v1383
  let c12_583 : Index := 12#32
  ![v1495.toNat, v1496.toNat, 12]
def k0_off110 (v1386 : BitVec 32) (v1497 : BitVec 32) : Fin 3 → Nat :=
  let v1498 : Index := Scalar.indexCast v1497
  let v1387 : BitVec 32 := v1386
  let v1499 : Index := Scalar.indexCast v1387
  let c0_584 : Index := 0#32
  ![v1498.toNat, v1499.toNat, 0]

def k0_chk40 (v1386 : BitVec 32) (v1497 : BitVec 32) : Prop :=
  (∀ a, (k0_off110 v1386 v1497) a + S1x40x128.size a ≤ S256x64x128.size a)
theorem k0_off110_inb : ∀ (v1386 : BitVec 32) (v1497 : BitVec 32) (k0_hw40 : k0_chk40 v1386 v1497), ∀ a, (k0_off110 v1386 v1497) a + S1x40x128.size a ≤ S256x64x128.size a := fun v1386 v1497 k0_hw40 => k0_hw40

def k0_off111 (i : grid0.Coords) : Fin 3 → Nat :=
  let arg0 : BitVec 32 := BitVec.ofNat 32 (i 0).val
  let v1503 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1504 : Index := Scalar.indexCast v1383
  let c19_585 : Index := 19#32
  ![v1503.toNat, v1504.toNat, 19]
def k0_off112 (i : grid0.Coords) : Fin 3 → Nat :=
  let arg0 : BitVec 32 := BitVec.ofNat 32 (i 0).val
  let v1513 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1514 : Index := Scalar.indexCast v1383
  let c6_590 : Index := 6#32
  ![v1513.toNat, v1514.toNat, 6]
def k0_off113 (v1386 : BitVec 32) (v1515 : BitVec 32) : Fin 3 → Nat :=
  let v1516 : Index := Scalar.indexCast v1515
  let v1387 : BitVec 32 := v1386
  let v1517 : Index := Scalar.indexCast v1387
  let c0_591 : Index := 0#32
  ![v1516.toNat, v1517.toNat, 0]

def k0_chk41 (v1386 : BitVec 32) (v1515 : BitVec 32) : Prop :=
  (∀ a, (k0_off113 v1386 v1515) a + S1x40x128.size a ≤ S256x64x128.size a)
theorem k0_off113_inb : ∀ (v1386 : BitVec 32) (v1515 : BitVec 32) (k0_hw41 : k0_chk41 v1386 v1515), ∀ a, (k0_off113 v1386 v1515) a + S1x40x128.size a ≤ S256x64x128.size a := fun v1386 v1515 k0_hw41 => k0_hw41

def k0_off114 (i : grid0.Coords) : Fin 3 → Nat :=
  let arg0 : BitVec 32 := BitVec.ofNat 32 (i 0).val
  let v1520 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1521 : Index := Scalar.indexCast v1383
  let c13_592 : Index := 13#32
  ![v1520.toNat, v1521.toNat, 13]
def k0_off115 (v1386 : BitVec 32) (v1522 : BitVec 32) : Fin 3 → Nat :=
  let v1523 : Index := Scalar.indexCast v1522
  let v1387 : BitVec 32 := v1386
  let v1524 : Index := Scalar.indexCast v1387
  let c0_593 : Index := 0#32
  ![v1523.toNat, v1524.toNat, 0]

def k0_chk42 (v1386 : BitVec 32) (v1522 : BitVec 32) : Prop :=
  (∀ a, (k0_off115 v1386 v1522) a + S1x40x128.size a ≤ S256x64x128.size a)
theorem k0_off115_inb : ∀ (v1386 : BitVec 32) (v1522 : BitVec 32) (k0_hw42 : k0_chk42 v1386 v1522), ∀ a, (k0_off115 v1386 v1522) a + S1x40x128.size a ≤ S256x64x128.size a := fun v1386 v1522 k0_hw42 => k0_hw42

def k0_off116 (i : grid0.Coords) : Fin 3 → Nat :=
  let arg0 : BitVec 32 := BitVec.ofNat 32 (i 0).val
  let v1528 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1529 : Index := Scalar.indexCast v1383
  let c20_594 : Index := 20#32
  ![v1528.toNat, v1529.toNat, 20]
def k0_off117 (i : grid0.Coords) : Fin 3 → Nat :=
  let arg0 : BitVec 32 := BitVec.ofNat 32 (i 0).val
  let v1538 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1539 : Index := Scalar.indexCast v1383
  let c7_599 : Index := 7#32
  ![v1538.toNat, v1539.toNat, 7]
def k0_off118 (v1386 : BitVec 32) (v1540 : BitVec 32) : Fin 3 → Nat :=
  let v1541 : Index := Scalar.indexCast v1540
  let v1387 : BitVec 32 := v1386
  let v1542 : Index := Scalar.indexCast v1387
  let c0_600 : Index := 0#32
  ![v1541.toNat, v1542.toNat, 0]

def k0_chk43 (v1386 : BitVec 32) (v1540 : BitVec 32) : Prop :=
  (∀ a, (k0_off118 v1386 v1540) a + S1x40x128.size a ≤ S256x64x128.size a)
theorem k0_off118_inb : ∀ (v1386 : BitVec 32) (v1540 : BitVec 32) (k0_hw43 : k0_chk43 v1386 v1540), ∀ a, (k0_off118 v1386 v1540) a + S1x40x128.size a ≤ S256x64x128.size a := fun v1386 v1540 k0_hw43 => k0_hw43

def k0_off119 (i : grid0.Coords) : Fin 3 → Nat :=
  let arg0 : BitVec 32 := BitVec.ofNat 32 (i 0).val
  let v1545 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1546 : Index := Scalar.indexCast v1383
  let c14_601 : Index := 14#32
  ![v1545.toNat, v1546.toNat, 14]
def k0_off120 (v1386 : BitVec 32) (v1547 : BitVec 32) : Fin 3 → Nat :=
  let v1548 : Index := Scalar.indexCast v1547
  let v1387 : BitVec 32 := v1386
  let v1549 : Index := Scalar.indexCast v1387
  let c0_602 : Index := 0#32
  ![v1548.toNat, v1549.toNat, 0]

def k0_chk44 (v1386 : BitVec 32) (v1547 : BitVec 32) : Prop :=
  (∀ a, (k0_off120 v1386 v1547) a + S1x40x128.size a ≤ S256x64x128.size a)
theorem k0_off120_inb : ∀ (v1386 : BitVec 32) (v1547 : BitVec 32) (k0_hw44 : k0_chk44 v1386 v1547), ∀ a, (k0_off120 v1386 v1547) a + S1x40x128.size a ≤ S256x64x128.size a := fun v1386 v1547 k0_hw44 => k0_hw44

def k0_off121 (i : grid0.Coords) : Fin 3 → Nat :=
  let arg0 : BitVec 32 := BitVec.ofNat 32 (i 0).val
  let v1553 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1554 : Index := Scalar.indexCast v1383
  let c21_603 : Index := 21#32
  ![v1553.toNat, v1554.toNat, 21]
def k0_off122 (i : grid0.Coords) : Fin 3 → Nat :=
  let arg0 : BitVec 32 := BitVec.ofNat 32 (i 0).val
  let v1563 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1564 : Index := Scalar.indexCast v1383
  let c22_608 : Index := 22#32
  ![v1563.toNat, v1564.toNat, 22]
def k0_off123 (i : grid0.Coords) : Fin 3 → Nat :=
  let arg0 : BitVec 32 := BitVec.ofNat 32 (i 0).val
  let v1566 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1567 : Index := Scalar.indexCast v1383
  let c29_609 : Index := 29#32
  ![v1566.toNat, v1567.toNat, 29]
def k0_off124 (i : grid0.Coords) : Fin 3 → Nat :=
  let arg0 : BitVec 32 := BitVec.ofNat 32 (i 0).val
  let v1569 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1570 : Index := Scalar.indexCast v1383
  let c36_610 : Index := 36#32
  ![v1569.toNat, v1570.toNat, 36]
def k0_off125 (i : grid0.Coords) : Fin 3 → Nat :=
  let arg0 : BitVec 32 := BitVec.ofNat 32 (i 0).val
  let v1572 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1573 : Index := Scalar.indexCast v1383
  let c43_611 : Index := 43#32
  ![v1572.toNat, v1573.toNat, 43]
def k0_off126 (v1565 : BitVec 32) : Fin 3 → Nat :=
  let c35_i32 : BitVec 32 := 35#32
  let v1597 : BitVec 32 := Scalar.addi c35_i32 v1565
  let v1598 : Index := Scalar.indexCast v1597
  let c0_616 : Index := 0#32
  let c0_617 : Index := 0#32
  ![v1598.toNat, 0, 0]

def k0_off127 (v1568 : BitVec 32) (c35_i32_619 : BitVec 32) : Fin 3 → Nat :=
  let v1605 : BitVec 32 := Scalar.addi c35_i32_619 v1568
  let v1606 : Index := Scalar.indexCast v1605
  let c0_620 : Index := 0#32
  let c0_621 : Index := 0#32
  ![v1606.toNat, 0, 0]

def k0_chk46 (v1568 : BitVec 32) : Prop :=
  (∀ (r : Fin 7), ∀ a, (k0_off127 v1568 (BitVec.ofNat 32 (35 + 5 * r.val))) a + S1x8x128.size a ≤ S1120x8x128.size a)
theorem k0_off127_inb : ∀ (v1568 : BitVec 32) (k0_hw46 : k0_chk46 v1568), ∀ (r : Fin 7), ∀ a, (k0_off127 v1568 (BitVec.ofNat 32 (35 + 5 * r.val))) a + S1x8x128.size a ≤ S1120x8x128.size a := fun v1568 k0_hw46 r => k0_hw46 r

def k0_off128 (v1565 : BitVec 32) (c40_i32 : BitVec 32) : Fin 3 → Nat :=
  let v1615 : BitVec 32 := Scalar.addi c40_i32 v1565
  let v1616 : Index := Scalar.indexCast v1615
  let c0_624 : Index := 0#32
  let c0_625 : Index := 0#32
  ![v1616.toNat, 0, 0]

def k0_chk45 (v1565 : BitVec 32) : Prop :=
  (∀ a, (k0_off126 v1565) a + S1x8x128.size a ≤ S1120x8x128.size a) ∧
  (∀ (r : Fin 6), ∀ a, (k0_off128 v1565 (BitVec.ofNat 32 (40 + 5 * r.val))) a + S1x8x128.size a ≤ S1120x8x128.size a)
theorem k0_off126_inb : ∀ (v1565 : BitVec 32) (k0_hw45 : k0_chk45 v1565), ∀ a, (k0_off126 v1565) a + S1x8x128.size a ≤ S1120x8x128.size a := fun v1565 k0_hw45 => k0_hw45.1
theorem k0_off128_inb : ∀ (v1565 : BitVec 32) (k0_hw45 : k0_chk45 v1565), ∀ (r : Fin 6), ∀ a, (k0_off128 v1565 (BitVec.ofNat 32 (40 + 5 * r.val))) a + S1x8x128.size a ≤ S1120x8x128.size a := fun v1565 k0_hw45 r => k0_hw45.2 r

def k0_off129 (i : grid0.Coords) : Fin 3 → Nat :=
  let arg0 : BitVec 32 := BitVec.ofNat 32 (i 0).val
  let v1723 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1724 : Index := Scalar.indexCast v1383
  let c23_672 : Index := 23#32
  ![v1723.toNat, v1724.toNat, 23]
def k0_off130 (i : grid0.Coords) : Fin 3 → Nat :=
  let arg0 : BitVec 32 := BitVec.ofNat 32 (i 0).val
  let v1726 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1727 : Index := Scalar.indexCast v1383
  let c30_673 : Index := 30#32
  ![v1726.toNat, v1727.toNat, 30]
def k0_off131 (i : grid0.Coords) : Fin 3 → Nat :=
  let arg0 : BitVec 32 := BitVec.ofNat 32 (i 0).val
  let v1729 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1730 : Index := Scalar.indexCast v1383
  let c37_674 : Index := 37#32
  ![v1729.toNat, v1730.toNat, 37]
def k0_off132 (i : grid0.Coords) : Fin 3 → Nat :=
  let arg0 : BitVec 32 := BitVec.ofNat 32 (i 0).val
  let v1732 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1733 : Index := Scalar.indexCast v1383
  let c44_675 : Index := 44#32
  ![v1732.toNat, v1733.toNat, 44]
def k0_off133 (v1725 : BitVec 32) : Fin 3 → Nat :=
  let c35_i32_680 : BitVec 32 := 35#32
  let v1757 : BitVec 32 := Scalar.addi c35_i32_680 v1725
  let v1758 : Index := Scalar.indexCast v1757
  let c0_681 : Index := 0#32
  let c0_682 : Index := 0#32
  ![v1758.toNat, 0, 0]

def k0_off134 (v1728 : BitVec 32) (c35_i32_684 : BitVec 32) : Fin 3 → Nat :=
  let v1765 : BitVec 32 := Scalar.addi c35_i32_684 v1728
  let v1766 : Index := Scalar.indexCast v1765
  let c0_685 : Index := 0#32
  let c0_686 : Index := 0#32
  ![v1766.toNat, 0, 0]

def k0_chk48 (v1728 : BitVec 32) : Prop :=
  (∀ (r : Fin 7), ∀ a, (k0_off134 v1728 (BitVec.ofNat 32 (35 + 5 * r.val))) a + S1x8x128.size a ≤ S1120x8x128.size a)
theorem k0_off134_inb : ∀ (v1728 : BitVec 32) (k0_hw48 : k0_chk48 v1728), ∀ (r : Fin 7), ∀ a, (k0_off134 v1728 (BitVec.ofNat 32 (35 + 5 * r.val))) a + S1x8x128.size a ≤ S1120x8x128.size a := fun v1728 k0_hw48 r => k0_hw48 r

def k0_off135 (v1725 : BitVec 32) (c40_i32_689 : BitVec 32) : Fin 3 → Nat :=
  let v1775 : BitVec 32 := Scalar.addi c40_i32_689 v1725
  let v1776 : Index := Scalar.indexCast v1775
  let c0_690 : Index := 0#32
  let c0_691 : Index := 0#32
  ![v1776.toNat, 0, 0]

def k0_chk47 (v1725 : BitVec 32) : Prop :=
  (∀ a, (k0_off133 v1725) a + S1x8x128.size a ≤ S1120x8x128.size a) ∧
  (∀ (r : Fin 6), ∀ a, (k0_off135 v1725 (BitVec.ofNat 32 (40 + 5 * r.val))) a + S1x8x128.size a ≤ S1120x8x128.size a)
theorem k0_off133_inb : ∀ (v1725 : BitVec 32) (k0_hw47 : k0_chk47 v1725), ∀ a, (k0_off133 v1725) a + S1x8x128.size a ≤ S1120x8x128.size a := fun v1725 k0_hw47 => k0_hw47.1
theorem k0_off135_inb : ∀ (v1725 : BitVec 32) (k0_hw47 : k0_chk47 v1725), ∀ (r : Fin 6), ∀ a, (k0_off135 v1725 (BitVec.ofNat 32 (40 + 5 * r.val))) a + S1x8x128.size a ≤ S1120x8x128.size a := fun v1725 k0_hw47 r => k0_hw47.2 r

def k0_off136 (i : grid0.Coords) : Fin 3 → Nat :=
  let arg0 : BitVec 32 := BitVec.ofNat 32 (i 0).val
  let v1883 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1884 : Index := Scalar.indexCast v1383
  let c24_743 : Index := 24#32
  ![v1883.toNat, v1884.toNat, 24]
def k0_off137 (i : grid0.Coords) : Fin 3 → Nat :=
  let arg0 : BitVec 32 := BitVec.ofNat 32 (i 0).val
  let v1886 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1887 : Index := Scalar.indexCast v1383
  let c31_744 : Index := 31#32
  ![v1886.toNat, v1887.toNat, 31]
def k0_off138 (i : grid0.Coords) : Fin 3 → Nat :=
  let arg0 : BitVec 32 := BitVec.ofNat 32 (i 0).val
  let v1889 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1890 : Index := Scalar.indexCast v1383
  let c38_745 : Index := 38#32
  ![v1889.toNat, v1890.toNat, 38]
def k0_off139 (i : grid0.Coords) : Fin 3 → Nat :=
  let arg0 : BitVec 32 := BitVec.ofNat 32 (i 0).val
  let v1892 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v1893 : Index := Scalar.indexCast v1383
  let c45_746 : Index := 45#32
  ![v1892.toNat, v1893.toNat, 45]
def k0_off140 (v1885 : BitVec 32) : Fin 3 → Nat :=
  let c35_i32_751 : BitVec 32 := 35#32
  let v1917 : BitVec 32 := Scalar.addi c35_i32_751 v1885
  let v1918 : Index := Scalar.indexCast v1917
  let c0_752 : Index := 0#32
  let c0_753 : Index := 0#32
  ![v1918.toNat, 0, 0]

def k0_off141 (v1888 : BitVec 32) (c35_i32_755 : BitVec 32) : Fin 3 → Nat :=
  let v1925 : BitVec 32 := Scalar.addi c35_i32_755 v1888
  let v1926 : Index := Scalar.indexCast v1925
  let c0_756 : Index := 0#32
  let c0_757 : Index := 0#32
  ![v1926.toNat, 0, 0]

def k0_chk50 (v1888 : BitVec 32) : Prop :=
  (∀ (r : Fin 7), ∀ a, (k0_off141 v1888 (BitVec.ofNat 32 (35 + 5 * r.val))) a + S1x8x128.size a ≤ S1120x8x128.size a)
theorem k0_off141_inb : ∀ (v1888 : BitVec 32) (k0_hw50 : k0_chk50 v1888), ∀ (r : Fin 7), ∀ a, (k0_off141 v1888 (BitVec.ofNat 32 (35 + 5 * r.val))) a + S1x8x128.size a ≤ S1120x8x128.size a := fun v1888 k0_hw50 r => k0_hw50 r

def k0_off142 (v1885 : BitVec 32) (c40_i32_760 : BitVec 32) : Fin 3 → Nat :=
  let v1935 : BitVec 32 := Scalar.addi c40_i32_760 v1885
  let v1936 : Index := Scalar.indexCast v1935
  let c0_761 : Index := 0#32
  let c0_762 : Index := 0#32
  ![v1936.toNat, 0, 0]

def k0_chk49 (v1885 : BitVec 32) : Prop :=
  (∀ a, (k0_off140 v1885) a + S1x8x128.size a ≤ S1120x8x128.size a) ∧
  (∀ (r : Fin 6), ∀ a, (k0_off142 v1885 (BitVec.ofNat 32 (40 + 5 * r.val))) a + S1x8x128.size a ≤ S1120x8x128.size a)
theorem k0_off140_inb : ∀ (v1885 : BitVec 32) (k0_hw49 : k0_chk49 v1885), ∀ a, (k0_off140 v1885) a + S1x8x128.size a ≤ S1120x8x128.size a := fun v1885 k0_hw49 => k0_hw49.1
theorem k0_off142_inb : ∀ (v1885 : BitVec 32) (k0_hw49 : k0_chk49 v1885), ∀ (r : Fin 6), ∀ a, (k0_off142 v1885 (BitVec.ofNat 32 (40 + 5 * r.val))) a + S1x8x128.size a ≤ S1120x8x128.size a := fun v1885 k0_hw49 r => k0_hw49.2 r

def k0_off143 (i : grid0.Coords) : Fin 3 → Nat :=
  let arg0 : BitVec 32 := BitVec.ofNat 32 (i 0).val
  let v2043 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2044 : Index := Scalar.indexCast v1383
  let c25_814 : Index := 25#32
  ![v2043.toNat, v2044.toNat, 25]
def k0_off144 (i : grid0.Coords) : Fin 3 → Nat :=
  let arg0 : BitVec 32 := BitVec.ofNat 32 (i 0).val
  let v2046 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2047 : Index := Scalar.indexCast v1383
  let c32_815 : Index := 32#32
  ![v2046.toNat, v2047.toNat, 32]
def k0_off145 (i : grid0.Coords) : Fin 3 → Nat :=
  let arg0 : BitVec 32 := BitVec.ofNat 32 (i 0).val
  let v2049 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2050 : Index := Scalar.indexCast v1383
  let c39_816 : Index := 39#32
  ![v2049.toNat, v2050.toNat, 39]
def k0_off146 (i : grid0.Coords) : Fin 3 → Nat :=
  let arg0 : BitVec 32 := BitVec.ofNat 32 (i 0).val
  let v2052 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2053 : Index := Scalar.indexCast v1383
  let c46_817 : Index := 46#32
  ![v2052.toNat, v2053.toNat, 46]
def k0_off147 (v2045 : BitVec 32) : Fin 3 → Nat :=
  let c35_i32_822 : BitVec 32 := 35#32
  let v2077 : BitVec 32 := Scalar.addi c35_i32_822 v2045
  let v2078 : Index := Scalar.indexCast v2077
  let c0_823 : Index := 0#32
  let c0_824 : Index := 0#32
  ![v2078.toNat, 0, 0]

def k0_off148 (v2048 : BitVec 32) (c35_i32_826 : BitVec 32) : Fin 3 → Nat :=
  let v2085 : BitVec 32 := Scalar.addi c35_i32_826 v2048
  let v2086 : Index := Scalar.indexCast v2085
  let c0_827 : Index := 0#32
  let c0_828 : Index := 0#32
  ![v2086.toNat, 0, 0]

def k0_chk52 (v2048 : BitVec 32) : Prop :=
  (∀ (r : Fin 7), ∀ a, (k0_off148 v2048 (BitVec.ofNat 32 (35 + 5 * r.val))) a + S1x8x128.size a ≤ S1120x8x128.size a)
theorem k0_off148_inb : ∀ (v2048 : BitVec 32) (k0_hw52 : k0_chk52 v2048), ∀ (r : Fin 7), ∀ a, (k0_off148 v2048 (BitVec.ofNat 32 (35 + 5 * r.val))) a + S1x8x128.size a ≤ S1120x8x128.size a := fun v2048 k0_hw52 r => k0_hw52 r

def k0_off149 (v2045 : BitVec 32) (c40_i32_831 : BitVec 32) : Fin 3 → Nat :=
  let v2095 : BitVec 32 := Scalar.addi c40_i32_831 v2045
  let v2096 : Index := Scalar.indexCast v2095
  let c0_832 : Index := 0#32
  let c0_833 : Index := 0#32
  ![v2096.toNat, 0, 0]

def k0_chk51 (v2045 : BitVec 32) : Prop :=
  (∀ a, (k0_off147 v2045) a + S1x8x128.size a ≤ S1120x8x128.size a) ∧
  (∀ (r : Fin 6), ∀ a, (k0_off149 v2045 (BitVec.ofNat 32 (40 + 5 * r.val))) a + S1x8x128.size a ≤ S1120x8x128.size a)
theorem k0_off147_inb : ∀ (v2045 : BitVec 32) (k0_hw51 : k0_chk51 v2045), ∀ a, (k0_off147 v2045) a + S1x8x128.size a ≤ S1120x8x128.size a := fun v2045 k0_hw51 => k0_hw51.1
theorem k0_off149_inb : ∀ (v2045 : BitVec 32) (k0_hw51 : k0_chk51 v2045), ∀ (r : Fin 6), ∀ a, (k0_off149 v2045 (BitVec.ofNat 32 (40 + 5 * r.val))) a + S1x8x128.size a ≤ S1120x8x128.size a := fun v2045 k0_hw51 r => k0_hw51.2 r

def k0_off150 (i : grid0.Coords) : Fin 3 → Nat :=
  let arg0 : BitVec 32 := BitVec.ofNat 32 (i 0).val
  let v2203 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2204 : Index := Scalar.indexCast v1383
  let c26_885 : Index := 26#32
  ![v2203.toNat, v2204.toNat, 26]
def k0_off151 (i : grid0.Coords) : Fin 3 → Nat :=
  let arg0 : BitVec 32 := BitVec.ofNat 32 (i 0).val
  let v2206 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2207 : Index := Scalar.indexCast v1383
  let c33_886 : Index := 33#32
  ![v2206.toNat, v2207.toNat, 33]
def k0_off152 (i : grid0.Coords) : Fin 3 → Nat :=
  let arg0 : BitVec 32 := BitVec.ofNat 32 (i 0).val
  let v2209 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2210 : Index := Scalar.indexCast v1383
  let c40_887 : Index := 40#32
  ![v2209.toNat, v2210.toNat, 40]
def k0_off153 (i : grid0.Coords) : Fin 3 → Nat :=
  let arg0 : BitVec 32 := BitVec.ofNat 32 (i 0).val
  let v2212 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2213 : Index := Scalar.indexCast v1383
  let c47_888 : Index := 47#32
  ![v2212.toNat, v2213.toNat, 47]
def k0_off154 (v2205 : BitVec 32) : Fin 3 → Nat :=
  let c35_i32_893 : BitVec 32 := 35#32
  let v2237 : BitVec 32 := Scalar.addi c35_i32_893 v2205
  let v2238 : Index := Scalar.indexCast v2237
  let c0_894 : Index := 0#32
  let c0_895 : Index := 0#32
  ![v2238.toNat, 0, 0]

def k0_off155 (v2208 : BitVec 32) (c35_i32_897 : BitVec 32) : Fin 3 → Nat :=
  let v2245 : BitVec 32 := Scalar.addi c35_i32_897 v2208
  let v2246 : Index := Scalar.indexCast v2245
  let c0_898 : Index := 0#32
  let c0_899 : Index := 0#32
  ![v2246.toNat, 0, 0]

def k0_chk54 (v2208 : BitVec 32) : Prop :=
  (∀ (r : Fin 7), ∀ a, (k0_off155 v2208 (BitVec.ofNat 32 (35 + 5 * r.val))) a + S1x8x128.size a ≤ S1120x8x128.size a)
theorem k0_off155_inb : ∀ (v2208 : BitVec 32) (k0_hw54 : k0_chk54 v2208), ∀ (r : Fin 7), ∀ a, (k0_off155 v2208 (BitVec.ofNat 32 (35 + 5 * r.val))) a + S1x8x128.size a ≤ S1120x8x128.size a := fun v2208 k0_hw54 r => k0_hw54 r

def k0_off156 (v2205 : BitVec 32) (c40_i32_902 : BitVec 32) : Fin 3 → Nat :=
  let v2255 : BitVec 32 := Scalar.addi c40_i32_902 v2205
  let v2256 : Index := Scalar.indexCast v2255
  let c0_903 : Index := 0#32
  let c0_904 : Index := 0#32
  ![v2256.toNat, 0, 0]

def k0_chk53 (v2205 : BitVec 32) : Prop :=
  (∀ a, (k0_off154 v2205) a + S1x8x128.size a ≤ S1120x8x128.size a) ∧
  (∀ (r : Fin 6), ∀ a, (k0_off156 v2205 (BitVec.ofNat 32 (40 + 5 * r.val))) a + S1x8x128.size a ≤ S1120x8x128.size a)
theorem k0_off154_inb : ∀ (v2205 : BitVec 32) (k0_hw53 : k0_chk53 v2205), ∀ a, (k0_off154 v2205) a + S1x8x128.size a ≤ S1120x8x128.size a := fun v2205 k0_hw53 => k0_hw53.1
theorem k0_off156_inb : ∀ (v2205 : BitVec 32) (k0_hw53 : k0_chk53 v2205), ∀ (r : Fin 6), ∀ a, (k0_off156 v2205 (BitVec.ofNat 32 (40 + 5 * r.val))) a + S1x8x128.size a ≤ S1120x8x128.size a := fun v2205 k0_hw53 r => k0_hw53.2 r

def k0_off157 (i : grid0.Coords) : Fin 3 → Nat :=
  let arg0 : BitVec 32 := BitVec.ofNat 32 (i 0).val
  let v2363 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2364 : Index := Scalar.indexCast v1383
  let c27_956 : Index := 27#32
  ![v2363.toNat, v2364.toNat, 27]
def k0_off158 (i : grid0.Coords) : Fin 3 → Nat :=
  let arg0 : BitVec 32 := BitVec.ofNat 32 (i 0).val
  let v2366 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2367 : Index := Scalar.indexCast v1383
  let c34_957 : Index := 34#32
  ![v2366.toNat, v2367.toNat, 34]
def k0_off159 (i : grid0.Coords) : Fin 3 → Nat :=
  let arg0 : BitVec 32 := BitVec.ofNat 32 (i 0).val
  let v2369 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2370 : Index := Scalar.indexCast v1383
  let c41_958 : Index := 41#32
  ![v2369.toNat, v2370.toNat, 41]
def k0_off160 (i : grid0.Coords) : Fin 3 → Nat :=
  let arg0 : BitVec 32 := BitVec.ofNat 32 (i 0).val
  let v2372 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2373 : Index := Scalar.indexCast v1383
  let c48_959 : Index := 48#32
  ![v2372.toNat, v2373.toNat, 48]
def k0_off161 (v2365 : BitVec 32) : Fin 3 → Nat :=
  let c35_i32_964 : BitVec 32 := 35#32
  let v2397 : BitVec 32 := Scalar.addi c35_i32_964 v2365
  let v2398 : Index := Scalar.indexCast v2397
  let c0_965 : Index := 0#32
  let c0_966 : Index := 0#32
  ![v2398.toNat, 0, 0]

def k0_off162 (v2368 : BitVec 32) (c35_i32_968 : BitVec 32) : Fin 3 → Nat :=
  let v2405 : BitVec 32 := Scalar.addi c35_i32_968 v2368
  let v2406 : Index := Scalar.indexCast v2405
  let c0_969 : Index := 0#32
  let c0_970 : Index := 0#32
  ![v2406.toNat, 0, 0]

def k0_chk56 (v2368 : BitVec 32) : Prop :=
  (∀ (r : Fin 7), ∀ a, (k0_off162 v2368 (BitVec.ofNat 32 (35 + 5 * r.val))) a + S1x8x128.size a ≤ S1120x8x128.size a)
theorem k0_off162_inb : ∀ (v2368 : BitVec 32) (k0_hw56 : k0_chk56 v2368), ∀ (r : Fin 7), ∀ a, (k0_off162 v2368 (BitVec.ofNat 32 (35 + 5 * r.val))) a + S1x8x128.size a ≤ S1120x8x128.size a := fun v2368 k0_hw56 r => k0_hw56 r

def k0_off163 (v2365 : BitVec 32) (c40_i32_973 : BitVec 32) : Fin 3 → Nat :=
  let v2415 : BitVec 32 := Scalar.addi c40_i32_973 v2365
  let v2416 : Index := Scalar.indexCast v2415
  let c0_974 : Index := 0#32
  let c0_975 : Index := 0#32
  ![v2416.toNat, 0, 0]

def k0_chk55 (v2365 : BitVec 32) : Prop :=
  (∀ a, (k0_off161 v2365) a + S1x8x128.size a ≤ S1120x8x128.size a) ∧
  (∀ (r : Fin 6), ∀ a, (k0_off163 v2365 (BitVec.ofNat 32 (40 + 5 * r.val))) a + S1x8x128.size a ≤ S1120x8x128.size a)
theorem k0_off161_inb : ∀ (v2365 : BitVec 32) (k0_hw55 : k0_chk55 v2365), ∀ a, (k0_off161 v2365) a + S1x8x128.size a ≤ S1120x8x128.size a := fun v2365 k0_hw55 => k0_hw55.1
theorem k0_off163_inb : ∀ (v2365 : BitVec 32) (k0_hw55 : k0_chk55 v2365), ∀ (r : Fin 6), ∀ a, (k0_off163 v2365 (BitVec.ofNat 32 (40 + 5 * r.val))) a + S1x8x128.size a ≤ S1120x8x128.size a := fun v2365 k0_hw55 r => k0_hw55.2 r

def k0_off164 (i : grid0.Coords) : Fin 3 → Nat :=
  let arg0 : BitVec 32 := BitVec.ofNat 32 (i 0).val
  let v2523 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2524 : Index := Scalar.indexCast v1383
  let c28_1027 : Index := 28#32
  ![v2523.toNat, v2524.toNat, 28]
def k0_off165 (i : grid0.Coords) : Fin 3 → Nat :=
  let arg0 : BitVec 32 := BitVec.ofNat 32 (i 0).val
  let v2526 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2527 : Index := Scalar.indexCast v1383
  let c35_1028 : Index := 35#32
  ![v2526.toNat, v2527.toNat, 35]
def k0_off166 (i : grid0.Coords) : Fin 3 → Nat :=
  let arg0 : BitVec 32 := BitVec.ofNat 32 (i 0).val
  let v2529 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2530 : Index := Scalar.indexCast v1383
  let c42_1029 : Index := 42#32
  ![v2529.toNat, v2530.toNat, 42]
def k0_off167 (i : grid0.Coords) : Fin 3 → Nat :=
  let arg0 : BitVec 32 := BitVec.ofNat 32 (i 0).val
  let v2532 : Index := Scalar.indexCast arg0
  let arg1 : BitVec 32 := BitVec.ofNat 32 (i 1).val
  let c32_i32_540 : BitVec 32 := 32#32
  let v1382 : BitVec 32 := Scalar.muli arg1 c32_i32_540
  let c1_i32 : BitVec 32 := 1#32
  let v1383 : BitVec 32 := Scalar.addi v1382 c1_i32
  let v2533 : Index := Scalar.indexCast v1383
  let c49_1030 : Index := 49#32
  ![v2532.toNat, v2533.toNat, 49]
def k0_off168 (v2525 : BitVec 32) : Fin 3 → Nat :=
  let c35_i32_1035 : BitVec 32 := 35#32
  let v2557 : BitVec 32 := Scalar.addi c35_i32_1035 v2525
  let v2558 : Index := Scalar.indexCast v2557
  let c0_1036 : Index := 0#32
  let c0_1037 : Index := 0#32
  ![v2558.toNat, 0, 0]

def k0_off169 (v2528 : BitVec 32) (c35_i32_1039 : BitVec 32) : Fin 3 → Nat :=
  let v2565 : BitVec 32 := Scalar.addi c35_i32_1039 v2528
  let v2566 : Index := Scalar.indexCast v2565
  let c0_1040 : Index := 0#32
  let c0_1041 : Index := 0#32
  ![v2566.toNat, 0, 0]

def k0_chk58 (v2528 : BitVec 32) : Prop :=
  (∀ (r : Fin 7), ∀ a, (k0_off169 v2528 (BitVec.ofNat 32 (35 + 5 * r.val))) a + S1x8x128.size a ≤ S1120x8x128.size a)
theorem k0_off169_inb : ∀ (v2528 : BitVec 32) (k0_hw58 : k0_chk58 v2528), ∀ (r : Fin 7), ∀ a, (k0_off169 v2528 (BitVec.ofNat 32 (35 + 5 * r.val))) a + S1x8x128.size a ≤ S1120x8x128.size a := fun v2528 k0_hw58 r => k0_hw58 r

def k0_off170 (v2525 : BitVec 32) (c40_i32_1044 : BitVec 32) : Fin 3 → Nat :=
  let v2575 : BitVec 32 := Scalar.addi c40_i32_1044 v2525
  let v2576 : Index := Scalar.indexCast v2575
  let c0_1045 : Index := 0#32
  let c0_1046 : Index := 0#32
  ![v2576.toNat, 0, 0]

def k0_chk57 (v2525 : BitVec 32) : Prop :=
  (∀ a, (k0_off168 v2525) a + S1x8x128.size a ≤ S1120x8x128.size a) ∧
  (∀ (r : Fin 6), ∀ a, (k0_off170 v2525 (BitVec.ofNat 32 (40 + 5 * r.val))) a + S1x8x128.size a ≤ S1120x8x128.size a)
theorem k0_off168_inb : ∀ (v2525 : BitVec 32) (k0_hw57 : k0_chk57 v2525), ∀ a, (k0_off168 v2525) a + S1x8x128.size a ≤ S1120x8x128.size a := fun v2525 k0_hw57 => k0_hw57.1
theorem k0_off170_inb : ∀ (v2525 : BitVec 32) (k0_hw57 : k0_chk57 v2525), ∀ (r : Fin 6), ∀ a, (k0_off170 v2525 (BitVec.ofNat 32 (40 + 5 * r.val))) a + S1x8x128.size a ≤ S1120x8x128.size a := fun v2525 k0_hw57 r => k0_hw57.2 r

def k0_off171 (i : grid0.Coords) : Fin 3 → Nat :=
  let arg0 : BitVec 32 := BitVec.ofNat 32 (i 0).val
  let v2762 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2763 : Index := Scalar.indexCast v2761
  let c0_1127 : Index := 0#32
  ![v2762.toNat, v2763.toNat, 0]
def k0_mult3 (v2764 : BitVec 32) : BitVec 32 :=
  v2764

def k0_chk59 (v2764 : BitVec 32) : Prop :=
  (8 ∣ (k0_mult3 v2764).toNat)
theorem k0_mult3_dvd : ∀ (v2764 : BitVec 32) (k0_hw59 : k0_chk59 v2764), 8 ∣ (k0_mult3 v2764).toNat := fun v2764 k0_hw59 => k0_hw59

def k0_off172 (i : grid0.Coords) : Fin 3 → Nat :=
  let arg0 : BitVec 32 := BitVec.ofNat 32 (i 0).val
  let v2766 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2767 : Index := Scalar.indexCast v2761
  let c1_1128 : Index := 1#32
  ![v2766.toNat, v2767.toNat, 1]
def k0_off173 (v2764 : BitVec 32) (v2768 : BitVec 32) : Fin 3 → Nat :=
  let v2769 : Index := Scalar.indexCast v2768
  let v2765 : BitVec 32 := v2764
  let v2770 : Index := Scalar.indexCast v2765
  let c0_1129 : Index := 0#32
  ![v2769.toNat, v2770.toNat, 0]

def k0_chk60 (v2764 : BitVec 32) (v2768 : BitVec 32) : Prop :=
  (∀ a, (k0_off173 v2764 v2768) a + S1x40x128.size a ≤ S256x64x128.size a)
theorem k0_off173_inb : ∀ (v2764 : BitVec 32) (v2768 : BitVec 32) (k0_hw60 : k0_chk60 v2764 v2768), ∀ a, (k0_off173 v2764 v2768) a + S1x40x128.size a ≤ S256x64x128.size a := fun v2764 v2768 k0_hw60 => k0_hw60

def k0_off174 (i : grid0.Coords) : Fin 3 → Nat :=
  let arg0 : BitVec 32 := BitVec.ofNat 32 (i 0).val
  let v2773 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2774 : Index := Scalar.indexCast v2761
  let c8_1130 : Index := 8#32
  ![v2773.toNat, v2774.toNat, 8]
def k0_off175 (v2764 : BitVec 32) (v2775 : BitVec 32) : Fin 3 → Nat :=
  let v2776 : Index := Scalar.indexCast v2775
  let v2765 : BitVec 32 := v2764
  let v2777 : Index := Scalar.indexCast v2765
  let c0_1131 : Index := 0#32
  ![v2776.toNat, v2777.toNat, 0]

def k0_chk61 (v2764 : BitVec 32) (v2775 : BitVec 32) : Prop :=
  (∀ a, (k0_off175 v2764 v2775) a + S1x40x128.size a ≤ S256x64x128.size a)
theorem k0_off175_inb : ∀ (v2764 : BitVec 32) (v2775 : BitVec 32) (k0_hw61 : k0_chk61 v2764 v2775), ∀ a, (k0_off175 v2764 v2775) a + S1x40x128.size a ≤ S256x64x128.size a := fun v2764 v2775 k0_hw61 => k0_hw61

def k0_off176 (i : grid0.Coords) : Fin 3 → Nat :=
  let arg0 : BitVec 32 := BitVec.ofNat 32 (i 0).val
  let v2781 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2782 : Index := Scalar.indexCast v2761
  let c15_1132 : Index := 15#32
  ![v2781.toNat, v2782.toNat, 15]
def k0_off177 (i : grid0.Coords) : Fin 3 → Nat :=
  let arg0 : BitVec 32 := BitVec.ofNat 32 (i 0).val
  let v2791 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2792 : Index := Scalar.indexCast v2761
  let c2_1137 : Index := 2#32
  ![v2791.toNat, v2792.toNat, 2]
def k0_off178 (v2764 : BitVec 32) (v2793 : BitVec 32) : Fin 3 → Nat :=
  let v2794 : Index := Scalar.indexCast v2793
  let v2765 : BitVec 32 := v2764
  let v2795 : Index := Scalar.indexCast v2765
  let c0_1138 : Index := 0#32
  ![v2794.toNat, v2795.toNat, 0]

def k0_chk62 (v2764 : BitVec 32) (v2793 : BitVec 32) : Prop :=
  (∀ a, (k0_off178 v2764 v2793) a + S1x40x128.size a ≤ S256x64x128.size a)
theorem k0_off178_inb : ∀ (v2764 : BitVec 32) (v2793 : BitVec 32) (k0_hw62 : k0_chk62 v2764 v2793), ∀ a, (k0_off178 v2764 v2793) a + S1x40x128.size a ≤ S256x64x128.size a := fun v2764 v2793 k0_hw62 => k0_hw62

def k0_off179 (i : grid0.Coords) : Fin 3 → Nat :=
  let arg0 : BitVec 32 := BitVec.ofNat 32 (i 0).val
  let v2798 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2799 : Index := Scalar.indexCast v2761
  let c9_1139 : Index := 9#32
  ![v2798.toNat, v2799.toNat, 9]
def k0_off180 (v2764 : BitVec 32) (v2800 : BitVec 32) : Fin 3 → Nat :=
  let v2801 : Index := Scalar.indexCast v2800
  let v2765 : BitVec 32 := v2764
  let v2802 : Index := Scalar.indexCast v2765
  let c0_1140 : Index := 0#32
  ![v2801.toNat, v2802.toNat, 0]

def k0_chk63 (v2764 : BitVec 32) (v2800 : BitVec 32) : Prop :=
  (∀ a, (k0_off180 v2764 v2800) a + S1x40x128.size a ≤ S256x64x128.size a)
theorem k0_off180_inb : ∀ (v2764 : BitVec 32) (v2800 : BitVec 32) (k0_hw63 : k0_chk63 v2764 v2800), ∀ a, (k0_off180 v2764 v2800) a + S1x40x128.size a ≤ S256x64x128.size a := fun v2764 v2800 k0_hw63 => k0_hw63

def k0_off181 (i : grid0.Coords) : Fin 3 → Nat :=
  let arg0 : BitVec 32 := BitVec.ofNat 32 (i 0).val
  let v2806 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2807 : Index := Scalar.indexCast v2761
  let c16_1141 : Index := 16#32
  ![v2806.toNat, v2807.toNat, 16]
def k0_off182 (i : grid0.Coords) : Fin 3 → Nat :=
  let arg0 : BitVec 32 := BitVec.ofNat 32 (i 0).val
  let v2816 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2817 : Index := Scalar.indexCast v2761
  let c3_1146 : Index := 3#32
  ![v2816.toNat, v2817.toNat, 3]
def k0_off183 (v2764 : BitVec 32) (v2818 : BitVec 32) : Fin 3 → Nat :=
  let v2819 : Index := Scalar.indexCast v2818
  let v2765 : BitVec 32 := v2764
  let v2820 : Index := Scalar.indexCast v2765
  let c0_1147 : Index := 0#32
  ![v2819.toNat, v2820.toNat, 0]

def k0_chk64 (v2764 : BitVec 32) (v2818 : BitVec 32) : Prop :=
  (∀ a, (k0_off183 v2764 v2818) a + S1x40x128.size a ≤ S256x64x128.size a)
theorem k0_off183_inb : ∀ (v2764 : BitVec 32) (v2818 : BitVec 32) (k0_hw64 : k0_chk64 v2764 v2818), ∀ a, (k0_off183 v2764 v2818) a + S1x40x128.size a ≤ S256x64x128.size a := fun v2764 v2818 k0_hw64 => k0_hw64

def k0_off184 (i : grid0.Coords) : Fin 3 → Nat :=
  let arg0 : BitVec 32 := BitVec.ofNat 32 (i 0).val
  let v2823 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2824 : Index := Scalar.indexCast v2761
  let c10_1148 : Index := 10#32
  ![v2823.toNat, v2824.toNat, 10]
def k0_off185 (v2764 : BitVec 32) (v2825 : BitVec 32) : Fin 3 → Nat :=
  let v2826 : Index := Scalar.indexCast v2825
  let v2765 : BitVec 32 := v2764
  let v2827 : Index := Scalar.indexCast v2765
  let c0_1149 : Index := 0#32
  ![v2826.toNat, v2827.toNat, 0]

def k0_chk65 (v2764 : BitVec 32) (v2825 : BitVec 32) : Prop :=
  (∀ a, (k0_off185 v2764 v2825) a + S1x40x128.size a ≤ S256x64x128.size a)
theorem k0_off185_inb : ∀ (v2764 : BitVec 32) (v2825 : BitVec 32) (k0_hw65 : k0_chk65 v2764 v2825), ∀ a, (k0_off185 v2764 v2825) a + S1x40x128.size a ≤ S256x64x128.size a := fun v2764 v2825 k0_hw65 => k0_hw65

def k0_off186 (i : grid0.Coords) : Fin 3 → Nat :=
  let arg0 : BitVec 32 := BitVec.ofNat 32 (i 0).val
  let v2831 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2832 : Index := Scalar.indexCast v2761
  let c17_1150 : Index := 17#32
  ![v2831.toNat, v2832.toNat, 17]
def k0_off187 (i : grid0.Coords) : Fin 3 → Nat :=
  let arg0 : BitVec 32 := BitVec.ofNat 32 (i 0).val
  let v2841 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2842 : Index := Scalar.indexCast v2761
  let c4_1155 : Index := 4#32
  ![v2841.toNat, v2842.toNat, 4]
def k0_off188 (v2764 : BitVec 32) (v2843 : BitVec 32) : Fin 3 → Nat :=
  let v2844 : Index := Scalar.indexCast v2843
  let v2765 : BitVec 32 := v2764
  let v2845 : Index := Scalar.indexCast v2765
  let c0_1156 : Index := 0#32
  ![v2844.toNat, v2845.toNat, 0]

def k0_chk66 (v2764 : BitVec 32) (v2843 : BitVec 32) : Prop :=
  (∀ a, (k0_off188 v2764 v2843) a + S1x40x128.size a ≤ S256x64x128.size a)
theorem k0_off188_inb : ∀ (v2764 : BitVec 32) (v2843 : BitVec 32) (k0_hw66 : k0_chk66 v2764 v2843), ∀ a, (k0_off188 v2764 v2843) a + S1x40x128.size a ≤ S256x64x128.size a := fun v2764 v2843 k0_hw66 => k0_hw66

def k0_off189 (i : grid0.Coords) : Fin 3 → Nat :=
  let arg0 : BitVec 32 := BitVec.ofNat 32 (i 0).val
  let v2848 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2849 : Index := Scalar.indexCast v2761
  let c11_1157 : Index := 11#32
  ![v2848.toNat, v2849.toNat, 11]
def k0_off190 (v2764 : BitVec 32) (v2850 : BitVec 32) : Fin 3 → Nat :=
  let v2851 : Index := Scalar.indexCast v2850
  let v2765 : BitVec 32 := v2764
  let v2852 : Index := Scalar.indexCast v2765
  let c0_1158 : Index := 0#32
  ![v2851.toNat, v2852.toNat, 0]

def k0_chk67 (v2764 : BitVec 32) (v2850 : BitVec 32) : Prop :=
  (∀ a, (k0_off190 v2764 v2850) a + S1x40x128.size a ≤ S256x64x128.size a)
theorem k0_off190_inb : ∀ (v2764 : BitVec 32) (v2850 : BitVec 32) (k0_hw67 : k0_chk67 v2764 v2850), ∀ a, (k0_off190 v2764 v2850) a + S1x40x128.size a ≤ S256x64x128.size a := fun v2764 v2850 k0_hw67 => k0_hw67

def k0_off191 (i : grid0.Coords) : Fin 3 → Nat :=
  let arg0 : BitVec 32 := BitVec.ofNat 32 (i 0).val
  let v2856 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2857 : Index := Scalar.indexCast v2761
  let c18_1159 : Index := 18#32
  ![v2856.toNat, v2857.toNat, 18]
def k0_off192 (i : grid0.Coords) : Fin 3 → Nat :=
  let arg0 : BitVec 32 := BitVec.ofNat 32 (i 0).val
  let v2866 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2867 : Index := Scalar.indexCast v2761
  let c5_1164 : Index := 5#32
  ![v2866.toNat, v2867.toNat, 5]
def k0_off193 (v2764 : BitVec 32) (v2868 : BitVec 32) : Fin 3 → Nat :=
  let v2869 : Index := Scalar.indexCast v2868
  let v2765 : BitVec 32 := v2764
  let v2870 : Index := Scalar.indexCast v2765
  let c0_1165 : Index := 0#32
  ![v2869.toNat, v2870.toNat, 0]

def k0_chk68 (v2764 : BitVec 32) (v2868 : BitVec 32) : Prop :=
  (∀ a, (k0_off193 v2764 v2868) a + S1x40x128.size a ≤ S256x64x128.size a)
theorem k0_off193_inb : ∀ (v2764 : BitVec 32) (v2868 : BitVec 32) (k0_hw68 : k0_chk68 v2764 v2868), ∀ a, (k0_off193 v2764 v2868) a + S1x40x128.size a ≤ S256x64x128.size a := fun v2764 v2868 k0_hw68 => k0_hw68

def k0_off194 (i : grid0.Coords) : Fin 3 → Nat :=
  let arg0 : BitVec 32 := BitVec.ofNat 32 (i 0).val
  let v2873 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2874 : Index := Scalar.indexCast v2761
  let c12_1166 : Index := 12#32
  ![v2873.toNat, v2874.toNat, 12]
def k0_off195 (v2764 : BitVec 32) (v2875 : BitVec 32) : Fin 3 → Nat :=
  let v2876 : Index := Scalar.indexCast v2875
  let v2765 : BitVec 32 := v2764
  let v2877 : Index := Scalar.indexCast v2765
  let c0_1167 : Index := 0#32
  ![v2876.toNat, v2877.toNat, 0]

def k0_chk69 (v2764 : BitVec 32) (v2875 : BitVec 32) : Prop :=
  (∀ a, (k0_off195 v2764 v2875) a + S1x40x128.size a ≤ S256x64x128.size a)
theorem k0_off195_inb : ∀ (v2764 : BitVec 32) (v2875 : BitVec 32) (k0_hw69 : k0_chk69 v2764 v2875), ∀ a, (k0_off195 v2764 v2875) a + S1x40x128.size a ≤ S256x64x128.size a := fun v2764 v2875 k0_hw69 => k0_hw69

def k0_off196 (i : grid0.Coords) : Fin 3 → Nat :=
  let arg0 : BitVec 32 := BitVec.ofNat 32 (i 0).val
  let v2881 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2882 : Index := Scalar.indexCast v2761
  let c19_1168 : Index := 19#32
  ![v2881.toNat, v2882.toNat, 19]
def k0_off197 (i : grid0.Coords) : Fin 3 → Nat :=
  let arg0 : BitVec 32 := BitVec.ofNat 32 (i 0).val
  let v2891 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2892 : Index := Scalar.indexCast v2761
  let c6_1173 : Index := 6#32
  ![v2891.toNat, v2892.toNat, 6]
def k0_off198 (v2764 : BitVec 32) (v2893 : BitVec 32) : Fin 3 → Nat :=
  let v2894 : Index := Scalar.indexCast v2893
  let v2765 : BitVec 32 := v2764
  let v2895 : Index := Scalar.indexCast v2765
  let c0_1174 : Index := 0#32
  ![v2894.toNat, v2895.toNat, 0]

def k0_chk70 (v2764 : BitVec 32) (v2893 : BitVec 32) : Prop :=
  (∀ a, (k0_off198 v2764 v2893) a + S1x40x128.size a ≤ S256x64x128.size a)
theorem k0_off198_inb : ∀ (v2764 : BitVec 32) (v2893 : BitVec 32) (k0_hw70 : k0_chk70 v2764 v2893), ∀ a, (k0_off198 v2764 v2893) a + S1x40x128.size a ≤ S256x64x128.size a := fun v2764 v2893 k0_hw70 => k0_hw70

def k0_off199 (i : grid0.Coords) : Fin 3 → Nat :=
  let arg0 : BitVec 32 := BitVec.ofNat 32 (i 0).val
  let v2898 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2899 : Index := Scalar.indexCast v2761
  let c13_1175 : Index := 13#32
  ![v2898.toNat, v2899.toNat, 13]
def k0_off200 (v2764 : BitVec 32) (v2900 : BitVec 32) : Fin 3 → Nat :=
  let v2901 : Index := Scalar.indexCast v2900
  let v2765 : BitVec 32 := v2764
  let v2902 : Index := Scalar.indexCast v2765
  let c0_1176 : Index := 0#32
  ![v2901.toNat, v2902.toNat, 0]

def k0_chk71 (v2764 : BitVec 32) (v2900 : BitVec 32) : Prop :=
  (∀ a, (k0_off200 v2764 v2900) a + S1x40x128.size a ≤ S256x64x128.size a)
theorem k0_off200_inb : ∀ (v2764 : BitVec 32) (v2900 : BitVec 32) (k0_hw71 : k0_chk71 v2764 v2900), ∀ a, (k0_off200 v2764 v2900) a + S1x40x128.size a ≤ S256x64x128.size a := fun v2764 v2900 k0_hw71 => k0_hw71

def k0_off201 (i : grid0.Coords) : Fin 3 → Nat :=
  let arg0 : BitVec 32 := BitVec.ofNat 32 (i 0).val
  let v2906 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2907 : Index := Scalar.indexCast v2761
  let c20_1177 : Index := 20#32
  ![v2906.toNat, v2907.toNat, 20]
def k0_off202 (i : grid0.Coords) : Fin 3 → Nat :=
  let arg0 : BitVec 32 := BitVec.ofNat 32 (i 0).val
  let v2916 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2917 : Index := Scalar.indexCast v2761
  let c7_1182 : Index := 7#32
  ![v2916.toNat, v2917.toNat, 7]
def k0_off203 (v2764 : BitVec 32) (v2918 : BitVec 32) : Fin 3 → Nat :=
  let v2919 : Index := Scalar.indexCast v2918
  let v2765 : BitVec 32 := v2764
  let v2920 : Index := Scalar.indexCast v2765
  let c0_1183 : Index := 0#32
  ![v2919.toNat, v2920.toNat, 0]

def k0_chk72 (v2764 : BitVec 32) (v2918 : BitVec 32) : Prop :=
  (∀ a, (k0_off203 v2764 v2918) a + S1x40x128.size a ≤ S256x64x128.size a)
theorem k0_off203_inb : ∀ (v2764 : BitVec 32) (v2918 : BitVec 32) (k0_hw72 : k0_chk72 v2764 v2918), ∀ a, (k0_off203 v2764 v2918) a + S1x40x128.size a ≤ S256x64x128.size a := fun v2764 v2918 k0_hw72 => k0_hw72

def k0_off204 (i : grid0.Coords) : Fin 3 → Nat :=
  let arg0 : BitVec 32 := BitVec.ofNat 32 (i 0).val
  let v2923 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2924 : Index := Scalar.indexCast v2761
  let c14_1184 : Index := 14#32
  ![v2923.toNat, v2924.toNat, 14]
def k0_off205 (v2764 : BitVec 32) (v2925 : BitVec 32) : Fin 3 → Nat :=
  let v2926 : Index := Scalar.indexCast v2925
  let v2765 : BitVec 32 := v2764
  let v2927 : Index := Scalar.indexCast v2765
  let c0_1185 : Index := 0#32
  ![v2926.toNat, v2927.toNat, 0]

def k0_chk73 (v2764 : BitVec 32) (v2925 : BitVec 32) : Prop :=
  (∀ a, (k0_off205 v2764 v2925) a + S1x40x128.size a ≤ S256x64x128.size a)
theorem k0_off205_inb : ∀ (v2764 : BitVec 32) (v2925 : BitVec 32) (k0_hw73 : k0_chk73 v2764 v2925), ∀ a, (k0_off205 v2764 v2925) a + S1x40x128.size a ≤ S256x64x128.size a := fun v2764 v2925 k0_hw73 => k0_hw73

def k0_off206 (i : grid0.Coords) : Fin 3 → Nat :=
  let arg0 : BitVec 32 := BitVec.ofNat 32 (i 0).val
  let v2931 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2932 : Index := Scalar.indexCast v2761
  let c21_1186 : Index := 21#32
  ![v2931.toNat, v2932.toNat, 21]
def k0_off207 (i : grid0.Coords) : Fin 3 → Nat :=
  let arg0 : BitVec 32 := BitVec.ofNat 32 (i 0).val
  let v2941 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2942 : Index := Scalar.indexCast v2761
  let c22_1191 : Index := 22#32
  ![v2941.toNat, v2942.toNat, 22]
def k0_off208 (i : grid0.Coords) : Fin 3 → Nat :=
  let arg0 : BitVec 32 := BitVec.ofNat 32 (i 0).val
  let v2944 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2945 : Index := Scalar.indexCast v2761
  let c29_1192 : Index := 29#32
  ![v2944.toNat, v2945.toNat, 29]
def k0_off209 (i : grid0.Coords) : Fin 3 → Nat :=
  let arg0 : BitVec 32 := BitVec.ofNat 32 (i 0).val
  let v2947 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2948 : Index := Scalar.indexCast v2761
  let c36_1193 : Index := 36#32
  ![v2947.toNat, v2948.toNat, 36]
def k0_off210 (i : grid0.Coords) : Fin 3 → Nat :=
  let arg0 : BitVec 32 := BitVec.ofNat 32 (i 0).val
  let v2950 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v2951 : Index := Scalar.indexCast v2761
  let c43_1194 : Index := 43#32
  ![v2950.toNat, v2951.toNat, 43]
def k0_off211 (v2943 : BitVec 32) : Fin 3 → Nat :=
  let c70_i32 : BitVec 32 := 70#32
  let v2975 : BitVec 32 := Scalar.addi c70_i32 v2943
  let v2976 : Index := Scalar.indexCast v2975
  let c0_1199 : Index := 0#32
  let c0_1200 : Index := 0#32
  ![v2976.toNat, 0, 0]

def k0_off212 (v2946 : BitVec 32) (c70_i32_1202 : BitVec 32) : Fin 3 → Nat :=
  let v2983 : BitVec 32 := Scalar.addi c70_i32_1202 v2946
  let v2984 : Index := Scalar.indexCast v2983
  let c0_1203 : Index := 0#32
  let c0_1204 : Index := 0#32
  ![v2984.toNat, 0, 0]

def k0_chk75 (v2946 : BitVec 32) : Prop :=
  (∀ (r : Fin 7), ∀ a, (k0_off212 v2946 (BitVec.ofNat 32 (70 + 5 * r.val))) a + S1x8x128.size a ≤ S1120x8x128.size a)
theorem k0_off212_inb : ∀ (v2946 : BitVec 32) (k0_hw75 : k0_chk75 v2946), ∀ (r : Fin 7), ∀ a, (k0_off212 v2946 (BitVec.ofNat 32 (70 + 5 * r.val))) a + S1x8x128.size a ≤ S1120x8x128.size a := fun v2946 k0_hw75 r => k0_hw75 r

def k0_off213 (v2943 : BitVec 32) (c75_i32 : BitVec 32) : Fin 3 → Nat :=
  let v2993 : BitVec 32 := Scalar.addi c75_i32 v2943
  let v2994 : Index := Scalar.indexCast v2993
  let c0_1207 : Index := 0#32
  let c0_1208 : Index := 0#32
  ![v2994.toNat, 0, 0]

def k0_chk74 (v2943 : BitVec 32) : Prop :=
  (∀ a, (k0_off211 v2943) a + S1x8x128.size a ≤ S1120x8x128.size a) ∧
  (∀ (r : Fin 6), ∀ a, (k0_off213 v2943 (BitVec.ofNat 32 (75 + 5 * r.val))) a + S1x8x128.size a ≤ S1120x8x128.size a)
theorem k0_off211_inb : ∀ (v2943 : BitVec 32) (k0_hw74 : k0_chk74 v2943), ∀ a, (k0_off211 v2943) a + S1x8x128.size a ≤ S1120x8x128.size a := fun v2943 k0_hw74 => k0_hw74.1
theorem k0_off213_inb : ∀ (v2943 : BitVec 32) (k0_hw74 : k0_chk74 v2943), ∀ (r : Fin 6), ∀ a, (k0_off213 v2943 (BitVec.ofNat 32 (75 + 5 * r.val))) a + S1x8x128.size a ≤ S1120x8x128.size a := fun v2943 k0_hw74 r => k0_hw74.2 r

def k0_off214 (i : grid0.Coords) : Fin 3 → Nat :=
  let arg0 : BitVec 32 := BitVec.ofNat 32 (i 0).val
  let v3101 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3102 : Index := Scalar.indexCast v2761
  let c23_1255 : Index := 23#32
  ![v3101.toNat, v3102.toNat, 23]
def k0_off215 (i : grid0.Coords) : Fin 3 → Nat :=
  let arg0 : BitVec 32 := BitVec.ofNat 32 (i 0).val
  let v3104 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3105 : Index := Scalar.indexCast v2761
  let c30_1256 : Index := 30#32
  ![v3104.toNat, v3105.toNat, 30]
def k0_off216 (i : grid0.Coords) : Fin 3 → Nat :=
  let arg0 : BitVec 32 := BitVec.ofNat 32 (i 0).val
  let v3107 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3108 : Index := Scalar.indexCast v2761
  let c37_1257 : Index := 37#32
  ![v3107.toNat, v3108.toNat, 37]
def k0_off217 (i : grid0.Coords) : Fin 3 → Nat :=
  let arg0 : BitVec 32 := BitVec.ofNat 32 (i 0).val
  let v3110 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3111 : Index := Scalar.indexCast v2761
  let c44_1258 : Index := 44#32
  ![v3110.toNat, v3111.toNat, 44]
def k0_off218 (v3103 : BitVec 32) : Fin 3 → Nat :=
  let c70_i32_1263 : BitVec 32 := 70#32
  let v3135 : BitVec 32 := Scalar.addi c70_i32_1263 v3103
  let v3136 : Index := Scalar.indexCast v3135
  let c0_1264 : Index := 0#32
  let c0_1265 : Index := 0#32
  ![v3136.toNat, 0, 0]

def k0_off219 (v3106 : BitVec 32) (c70_i32_1267 : BitVec 32) : Fin 3 → Nat :=
  let v3143 : BitVec 32 := Scalar.addi c70_i32_1267 v3106
  let v3144 : Index := Scalar.indexCast v3143
  let c0_1268 : Index := 0#32
  let c0_1269 : Index := 0#32
  ![v3144.toNat, 0, 0]

def k0_chk77 (v3106 : BitVec 32) : Prop :=
  (∀ (r : Fin 7), ∀ a, (k0_off219 v3106 (BitVec.ofNat 32 (70 + 5 * r.val))) a + S1x8x128.size a ≤ S1120x8x128.size a)
theorem k0_off219_inb : ∀ (v3106 : BitVec 32) (k0_hw77 : k0_chk77 v3106), ∀ (r : Fin 7), ∀ a, (k0_off219 v3106 (BitVec.ofNat 32 (70 + 5 * r.val))) a + S1x8x128.size a ≤ S1120x8x128.size a := fun v3106 k0_hw77 r => k0_hw77 r

def k0_off220 (v3103 : BitVec 32) (c75_i32_1272 : BitVec 32) : Fin 3 → Nat :=
  let v3153 : BitVec 32 := Scalar.addi c75_i32_1272 v3103
  let v3154 : Index := Scalar.indexCast v3153
  let c0_1273 : Index := 0#32
  let c0_1274 : Index := 0#32
  ![v3154.toNat, 0, 0]

def k0_chk76 (v3103 : BitVec 32) : Prop :=
  (∀ a, (k0_off218 v3103) a + S1x8x128.size a ≤ S1120x8x128.size a) ∧
  (∀ (r : Fin 6), ∀ a, (k0_off220 v3103 (BitVec.ofNat 32 (75 + 5 * r.val))) a + S1x8x128.size a ≤ S1120x8x128.size a)
theorem k0_off218_inb : ∀ (v3103 : BitVec 32) (k0_hw76 : k0_chk76 v3103), ∀ a, (k0_off218 v3103) a + S1x8x128.size a ≤ S1120x8x128.size a := fun v3103 k0_hw76 => k0_hw76.1
theorem k0_off220_inb : ∀ (v3103 : BitVec 32) (k0_hw76 : k0_chk76 v3103), ∀ (r : Fin 6), ∀ a, (k0_off220 v3103 (BitVec.ofNat 32 (75 + 5 * r.val))) a + S1x8x128.size a ≤ S1120x8x128.size a := fun v3103 k0_hw76 r => k0_hw76.2 r

def k0_off221 (i : grid0.Coords) : Fin 3 → Nat :=
  let arg0 : BitVec 32 := BitVec.ofNat 32 (i 0).val
  let v3261 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3262 : Index := Scalar.indexCast v2761
  let c24_1326 : Index := 24#32
  ![v3261.toNat, v3262.toNat, 24]
def k0_off222 (i : grid0.Coords) : Fin 3 → Nat :=
  let arg0 : BitVec 32 := BitVec.ofNat 32 (i 0).val
  let v3264 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3265 : Index := Scalar.indexCast v2761
  let c31_1327 : Index := 31#32
  ![v3264.toNat, v3265.toNat, 31]
def k0_off223 (i : grid0.Coords) : Fin 3 → Nat :=
  let arg0 : BitVec 32 := BitVec.ofNat 32 (i 0).val
  let v3267 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3268 : Index := Scalar.indexCast v2761
  let c38_1328 : Index := 38#32
  ![v3267.toNat, v3268.toNat, 38]
def k0_off224 (i : grid0.Coords) : Fin 3 → Nat :=
  let arg0 : BitVec 32 := BitVec.ofNat 32 (i 0).val
  let v3270 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3271 : Index := Scalar.indexCast v2761
  let c45_1329 : Index := 45#32
  ![v3270.toNat, v3271.toNat, 45]
def k0_off225 (v3263 : BitVec 32) : Fin 3 → Nat :=
  let c70_i32_1334 : BitVec 32 := 70#32
  let v3295 : BitVec 32 := Scalar.addi c70_i32_1334 v3263
  let v3296 : Index := Scalar.indexCast v3295
  let c0_1335 : Index := 0#32
  let c0_1336 : Index := 0#32
  ![v3296.toNat, 0, 0]

def k0_off226 (v3266 : BitVec 32) (c70_i32_1338 : BitVec 32) : Fin 3 → Nat :=
  let v3303 : BitVec 32 := Scalar.addi c70_i32_1338 v3266
  let v3304 : Index := Scalar.indexCast v3303
  let c0_1339 : Index := 0#32
  let c0_1340 : Index := 0#32
  ![v3304.toNat, 0, 0]

def k0_chk79 (v3266 : BitVec 32) : Prop :=
  (∀ (r : Fin 7), ∀ a, (k0_off226 v3266 (BitVec.ofNat 32 (70 + 5 * r.val))) a + S1x8x128.size a ≤ S1120x8x128.size a)
theorem k0_off226_inb : ∀ (v3266 : BitVec 32) (k0_hw79 : k0_chk79 v3266), ∀ (r : Fin 7), ∀ a, (k0_off226 v3266 (BitVec.ofNat 32 (70 + 5 * r.val))) a + S1x8x128.size a ≤ S1120x8x128.size a := fun v3266 k0_hw79 r => k0_hw79 r

def k0_off227 (v3263 : BitVec 32) (c75_i32_1343 : BitVec 32) : Fin 3 → Nat :=
  let v3313 : BitVec 32 := Scalar.addi c75_i32_1343 v3263
  let v3314 : Index := Scalar.indexCast v3313
  let c0_1344 : Index := 0#32
  let c0_1345 : Index := 0#32
  ![v3314.toNat, 0, 0]

def k0_chk78 (v3263 : BitVec 32) : Prop :=
  (∀ a, (k0_off225 v3263) a + S1x8x128.size a ≤ S1120x8x128.size a) ∧
  (∀ (r : Fin 6), ∀ a, (k0_off227 v3263 (BitVec.ofNat 32 (75 + 5 * r.val))) a + S1x8x128.size a ≤ S1120x8x128.size a)
theorem k0_off225_inb : ∀ (v3263 : BitVec 32) (k0_hw78 : k0_chk78 v3263), ∀ a, (k0_off225 v3263) a + S1x8x128.size a ≤ S1120x8x128.size a := fun v3263 k0_hw78 => k0_hw78.1
theorem k0_off227_inb : ∀ (v3263 : BitVec 32) (k0_hw78 : k0_chk78 v3263), ∀ (r : Fin 6), ∀ a, (k0_off227 v3263 (BitVec.ofNat 32 (75 + 5 * r.val))) a + S1x8x128.size a ≤ S1120x8x128.size a := fun v3263 k0_hw78 r => k0_hw78.2 r

def k0_off228 (i : grid0.Coords) : Fin 3 → Nat :=
  let arg0 : BitVec 32 := BitVec.ofNat 32 (i 0).val
  let v3421 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3422 : Index := Scalar.indexCast v2761
  let c25_1397 : Index := 25#32
  ![v3421.toNat, v3422.toNat, 25]
def k0_off229 (i : grid0.Coords) : Fin 3 → Nat :=
  let arg0 : BitVec 32 := BitVec.ofNat 32 (i 0).val
  let v3424 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3425 : Index := Scalar.indexCast v2761
  let c32_1398 : Index := 32#32
  ![v3424.toNat, v3425.toNat, 32]
def k0_off230 (i : grid0.Coords) : Fin 3 → Nat :=
  let arg0 : BitVec 32 := BitVec.ofNat 32 (i 0).val
  let v3427 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3428 : Index := Scalar.indexCast v2761
  let c39_1399 : Index := 39#32
  ![v3427.toNat, v3428.toNat, 39]
def k0_off231 (i : grid0.Coords) : Fin 3 → Nat :=
  let arg0 : BitVec 32 := BitVec.ofNat 32 (i 0).val
  let v3430 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3431 : Index := Scalar.indexCast v2761
  let c46_1400 : Index := 46#32
  ![v3430.toNat, v3431.toNat, 46]
def k0_off232 (v3423 : BitVec 32) : Fin 3 → Nat :=
  let c70_i32_1405 : BitVec 32 := 70#32
  let v3455 : BitVec 32 := Scalar.addi c70_i32_1405 v3423
  let v3456 : Index := Scalar.indexCast v3455
  let c0_1406 : Index := 0#32
  let c0_1407 : Index := 0#32
  ![v3456.toNat, 0, 0]

def k0_off233 (v3426 : BitVec 32) (c70_i32_1409 : BitVec 32) : Fin 3 → Nat :=
  let v3463 : BitVec 32 := Scalar.addi c70_i32_1409 v3426
  let v3464 : Index := Scalar.indexCast v3463
  let c0_1410 : Index := 0#32
  let c0_1411 : Index := 0#32
  ![v3464.toNat, 0, 0]

def k0_chk81 (v3426 : BitVec 32) : Prop :=
  (∀ (r : Fin 7), ∀ a, (k0_off233 v3426 (BitVec.ofNat 32 (70 + 5 * r.val))) a + S1x8x128.size a ≤ S1120x8x128.size a)
theorem k0_off233_inb : ∀ (v3426 : BitVec 32) (k0_hw81 : k0_chk81 v3426), ∀ (r : Fin 7), ∀ a, (k0_off233 v3426 (BitVec.ofNat 32 (70 + 5 * r.val))) a + S1x8x128.size a ≤ S1120x8x128.size a := fun v3426 k0_hw81 r => k0_hw81 r

def k0_off234 (v3423 : BitVec 32) (c75_i32_1414 : BitVec 32) : Fin 3 → Nat :=
  let v3473 : BitVec 32 := Scalar.addi c75_i32_1414 v3423
  let v3474 : Index := Scalar.indexCast v3473
  let c0_1415 : Index := 0#32
  let c0_1416 : Index := 0#32
  ![v3474.toNat, 0, 0]

def k0_chk80 (v3423 : BitVec 32) : Prop :=
  (∀ a, (k0_off232 v3423) a + S1x8x128.size a ≤ S1120x8x128.size a) ∧
  (∀ (r : Fin 6), ∀ a, (k0_off234 v3423 (BitVec.ofNat 32 (75 + 5 * r.val))) a + S1x8x128.size a ≤ S1120x8x128.size a)
theorem k0_off232_inb : ∀ (v3423 : BitVec 32) (k0_hw80 : k0_chk80 v3423), ∀ a, (k0_off232 v3423) a + S1x8x128.size a ≤ S1120x8x128.size a := fun v3423 k0_hw80 => k0_hw80.1
theorem k0_off234_inb : ∀ (v3423 : BitVec 32) (k0_hw80 : k0_chk80 v3423), ∀ (r : Fin 6), ∀ a, (k0_off234 v3423 (BitVec.ofNat 32 (75 + 5 * r.val))) a + S1x8x128.size a ≤ S1120x8x128.size a := fun v3423 k0_hw80 r => k0_hw80.2 r

def k0_off235 (i : grid0.Coords) : Fin 3 → Nat :=
  let arg0 : BitVec 32 := BitVec.ofNat 32 (i 0).val
  let v3581 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3582 : Index := Scalar.indexCast v2761
  let c26_1468 : Index := 26#32
  ![v3581.toNat, v3582.toNat, 26]
def k0_off236 (i : grid0.Coords) : Fin 3 → Nat :=
  let arg0 : BitVec 32 := BitVec.ofNat 32 (i 0).val
  let v3584 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3585 : Index := Scalar.indexCast v2761
  let c33_1469 : Index := 33#32
  ![v3584.toNat, v3585.toNat, 33]
def k0_off237 (i : grid0.Coords) : Fin 3 → Nat :=
  let arg0 : BitVec 32 := BitVec.ofNat 32 (i 0).val
  let v3587 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3588 : Index := Scalar.indexCast v2761
  let c40_1470 : Index := 40#32
  ![v3587.toNat, v3588.toNat, 40]
def k0_off238 (i : grid0.Coords) : Fin 3 → Nat :=
  let arg0 : BitVec 32 := BitVec.ofNat 32 (i 0).val
  let v3590 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3591 : Index := Scalar.indexCast v2761
  let c47_1471 : Index := 47#32
  ![v3590.toNat, v3591.toNat, 47]
def k0_off239 (v3583 : BitVec 32) : Fin 3 → Nat :=
  let c70_i32_1476 : BitVec 32 := 70#32
  let v3615 : BitVec 32 := Scalar.addi c70_i32_1476 v3583
  let v3616 : Index := Scalar.indexCast v3615
  let c0_1477 : Index := 0#32
  let c0_1478 : Index := 0#32
  ![v3616.toNat, 0, 0]

def k0_off240 (v3586 : BitVec 32) (c70_i32_1480 : BitVec 32) : Fin 3 → Nat :=
  let v3623 : BitVec 32 := Scalar.addi c70_i32_1480 v3586
  let v3624 : Index := Scalar.indexCast v3623
  let c0_1481 : Index := 0#32
  let c0_1482 : Index := 0#32
  ![v3624.toNat, 0, 0]

def k0_chk83 (v3586 : BitVec 32) : Prop :=
  (∀ (r : Fin 7), ∀ a, (k0_off240 v3586 (BitVec.ofNat 32 (70 + 5 * r.val))) a + S1x8x128.size a ≤ S1120x8x128.size a)
theorem k0_off240_inb : ∀ (v3586 : BitVec 32) (k0_hw83 : k0_chk83 v3586), ∀ (r : Fin 7), ∀ a, (k0_off240 v3586 (BitVec.ofNat 32 (70 + 5 * r.val))) a + S1x8x128.size a ≤ S1120x8x128.size a := fun v3586 k0_hw83 r => k0_hw83 r

def k0_off241 (v3583 : BitVec 32) (c75_i32_1485 : BitVec 32) : Fin 3 → Nat :=
  let v3633 : BitVec 32 := Scalar.addi c75_i32_1485 v3583
  let v3634 : Index := Scalar.indexCast v3633
  let c0_1486 : Index := 0#32
  let c0_1487 : Index := 0#32
  ![v3634.toNat, 0, 0]

def k0_chk82 (v3583 : BitVec 32) : Prop :=
  (∀ a, (k0_off239 v3583) a + S1x8x128.size a ≤ S1120x8x128.size a) ∧
  (∀ (r : Fin 6), ∀ a, (k0_off241 v3583 (BitVec.ofNat 32 (75 + 5 * r.val))) a + S1x8x128.size a ≤ S1120x8x128.size a)
theorem k0_off239_inb : ∀ (v3583 : BitVec 32) (k0_hw82 : k0_chk82 v3583), ∀ a, (k0_off239 v3583) a + S1x8x128.size a ≤ S1120x8x128.size a := fun v3583 k0_hw82 => k0_hw82.1
theorem k0_off241_inb : ∀ (v3583 : BitVec 32) (k0_hw82 : k0_chk82 v3583), ∀ (r : Fin 6), ∀ a, (k0_off241 v3583 (BitVec.ofNat 32 (75 + 5 * r.val))) a + S1x8x128.size a ≤ S1120x8x128.size a := fun v3583 k0_hw82 r => k0_hw82.2 r

def k0_off242 (i : grid0.Coords) : Fin 3 → Nat :=
  let arg0 : BitVec 32 := BitVec.ofNat 32 (i 0).val
  let v3741 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3742 : Index := Scalar.indexCast v2761
  let c27_1539 : Index := 27#32
  ![v3741.toNat, v3742.toNat, 27]
def k0_off243 (i : grid0.Coords) : Fin 3 → Nat :=
  let arg0 : BitVec 32 := BitVec.ofNat 32 (i 0).val
  let v3744 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3745 : Index := Scalar.indexCast v2761
  let c34_1540 : Index := 34#32
  ![v3744.toNat, v3745.toNat, 34]
def k0_off244 (i : grid0.Coords) : Fin 3 → Nat :=
  let arg0 : BitVec 32 := BitVec.ofNat 32 (i 0).val
  let v3747 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3748 : Index := Scalar.indexCast v2761
  let c41_1541 : Index := 41#32
  ![v3747.toNat, v3748.toNat, 41]
def k0_off245 (i : grid0.Coords) : Fin 3 → Nat :=
  let arg0 : BitVec 32 := BitVec.ofNat 32 (i 0).val
  let v3750 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3751 : Index := Scalar.indexCast v2761
  let c48_1542 : Index := 48#32
  ![v3750.toNat, v3751.toNat, 48]
def k0_off246 (v3743 : BitVec 32) : Fin 3 → Nat :=
  let c70_i32_1547 : BitVec 32 := 70#32
  let v3775 : BitVec 32 := Scalar.addi c70_i32_1547 v3743
  let v3776 : Index := Scalar.indexCast v3775
  let c0_1548 : Index := 0#32
  let c0_1549 : Index := 0#32
  ![v3776.toNat, 0, 0]

def k0_off247 (v3746 : BitVec 32) (c70_i32_1551 : BitVec 32) : Fin 3 → Nat :=
  let v3783 : BitVec 32 := Scalar.addi c70_i32_1551 v3746
  let v3784 : Index := Scalar.indexCast v3783
  let c0_1552 : Index := 0#32
  let c0_1553 : Index := 0#32
  ![v3784.toNat, 0, 0]

def k0_chk85 (v3746 : BitVec 32) : Prop :=
  (∀ (r : Fin 7), ∀ a, (k0_off247 v3746 (BitVec.ofNat 32 (70 + 5 * r.val))) a + S1x8x128.size a ≤ S1120x8x128.size a)
theorem k0_off247_inb : ∀ (v3746 : BitVec 32) (k0_hw85 : k0_chk85 v3746), ∀ (r : Fin 7), ∀ a, (k0_off247 v3746 (BitVec.ofNat 32 (70 + 5 * r.val))) a + S1x8x128.size a ≤ S1120x8x128.size a := fun v3746 k0_hw85 r => k0_hw85 r

def k0_off248 (v3743 : BitVec 32) (c75_i32_1556 : BitVec 32) : Fin 3 → Nat :=
  let v3793 : BitVec 32 := Scalar.addi c75_i32_1556 v3743
  let v3794 : Index := Scalar.indexCast v3793
  let c0_1557 : Index := 0#32
  let c0_1558 : Index := 0#32
  ![v3794.toNat, 0, 0]

def k0_chk84 (v3743 : BitVec 32) : Prop :=
  (∀ a, (k0_off246 v3743) a + S1x8x128.size a ≤ S1120x8x128.size a) ∧
  (∀ (r : Fin 6), ∀ a, (k0_off248 v3743 (BitVec.ofNat 32 (75 + 5 * r.val))) a + S1x8x128.size a ≤ S1120x8x128.size a)
theorem k0_off246_inb : ∀ (v3743 : BitVec 32) (k0_hw84 : k0_chk84 v3743), ∀ a, (k0_off246 v3743) a + S1x8x128.size a ≤ S1120x8x128.size a := fun v3743 k0_hw84 => k0_hw84.1
theorem k0_off248_inb : ∀ (v3743 : BitVec 32) (k0_hw84 : k0_chk84 v3743), ∀ (r : Fin 6), ∀ a, (k0_off248 v3743 (BitVec.ofNat 32 (75 + 5 * r.val))) a + S1x8x128.size a ≤ S1120x8x128.size a := fun v3743 k0_hw84 r => k0_hw84.2 r

def k0_off249 (i : grid0.Coords) : Fin 3 → Nat :=
  let arg0 : BitVec 32 := BitVec.ofNat 32 (i 0).val
  let v3901 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3902 : Index := Scalar.indexCast v2761
  let c28_1610 : Index := 28#32
  ![v3901.toNat, v3902.toNat, 28]
def k0_off250 (i : grid0.Coords) : Fin 3 → Nat :=
  let arg0 : BitVec 32 := BitVec.ofNat 32 (i 0).val
  let v3904 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3905 : Index := Scalar.indexCast v2761
  let c35_1611 : Index := 35#32
  ![v3904.toNat, v3905.toNat, 35]
def k0_off251 (i : grid0.Coords) : Fin 3 → Nat :=
  let arg0 : BitVec 32 := BitVec.ofNat 32 (i 0).val
  let v3907 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3908 : Index := Scalar.indexCast v2761
  let c42_1612 : Index := 42#32
  ![v3907.toNat, v3908.toNat, 42]
def k0_off252 (i : grid0.Coords) : Fin 3 → Nat :=
  let arg0 : BitVec 32 := BitVec.ofNat 32 (i 0).val
  let v3910 : Index := Scalar.indexCast arg0
  let arg1 : BitVec 32 := BitVec.ofNat 32 (i 1).val
  let c32_i32_1126 : BitVec 32 := 32#32
  let v2760 : BitVec 32 := Scalar.muli arg1 c32_i32_1126
  let c2_i32 : BitVec 32 := 2#32
  let v2761 : BitVec 32 := Scalar.addi v2760 c2_i32
  let v3911 : Index := Scalar.indexCast v2761
  let c49_1613 : Index := 49#32
  ![v3910.toNat, v3911.toNat, 49]
def k0_off253 (v3903 : BitVec 32) : Fin 3 → Nat :=
  let c70_i32_1618 : BitVec 32 := 70#32
  let v3935 : BitVec 32 := Scalar.addi c70_i32_1618 v3903
  let v3936 : Index := Scalar.indexCast v3935
  let c0_1619 : Index := 0#32
  let c0_1620 : Index := 0#32
  ![v3936.toNat, 0, 0]

def k0_off254 (v3906 : BitVec 32) (c70_i32_1622 : BitVec 32) : Fin 3 → Nat :=
  let v3943 : BitVec 32 := Scalar.addi c70_i32_1622 v3906
  let v3944 : Index := Scalar.indexCast v3943
  let c0_1623 : Index := 0#32
  let c0_1624 : Index := 0#32
  ![v3944.toNat, 0, 0]

def k0_chk87 (v3906 : BitVec 32) : Prop :=
  (∀ (r : Fin 7), ∀ a, (k0_off254 v3906 (BitVec.ofNat 32 (70 + 5 * r.val))) a + S1x8x128.size a ≤ S1120x8x128.size a)
theorem k0_off254_inb : ∀ (v3906 : BitVec 32) (k0_hw87 : k0_chk87 v3906), ∀ (r : Fin 7), ∀ a, (k0_off254 v3906 (BitVec.ofNat 32 (70 + 5 * r.val))) a + S1x8x128.size a ≤ S1120x8x128.size a := fun v3906 k0_hw87 r => k0_hw87 r

def k0_off255 (v3903 : BitVec 32) (c75_i32_1627 : BitVec 32) : Fin 3 → Nat :=
  let v3953 : BitVec 32 := Scalar.addi c75_i32_1627 v3903
  let v3954 : Index := Scalar.indexCast v3953
  let c0_1628 : Index := 0#32
  let c0_1629 : Index := 0#32
  ![v3954.toNat, 0, 0]

def k0_chk86 (v3903 : BitVec 32) : Prop :=
  (∀ a, (k0_off253 v3903) a + S1x8x128.size a ≤ S1120x8x128.size a) ∧
  (∀ (r : Fin 6), ∀ a, (k0_off255 v3903 (BitVec.ofNat 32 (75 + 5 * r.val))) a + S1x8x128.size a ≤ S1120x8x128.size a)
theorem k0_off253_inb : ∀ (v3903 : BitVec 32) (k0_hw86 : k0_chk86 v3903), ∀ a, (k0_off253 v3903) a + S1x8x128.size a ≤ S1120x8x128.size a := fun v3903 k0_hw86 => k0_hw86.1
theorem k0_off255_inb : ∀ (v3903 : BitVec 32) (k0_hw86 : k0_chk86 v3903), ∀ (r : Fin 6), ∀ a, (k0_off255 v3903 (BitVec.ofNat 32 (75 + 5 * r.val))) a + S1x8x128.size a ≤ S1120x8x128.size a := fun v3903 k0_hw86 r => k0_hw86.2 r

def k0_off256 (i : grid0.Coords) : Fin 3 → Nat :=
  let arg0 : BitVec 32 := BitVec.ofNat 32 (i 0).val
  let v4140 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4141 : Index := Scalar.indexCast v4139
  let c0_1710 : Index := 0#32
  ![v4140.toNat, v4141.toNat, 0]
def k0_mult4 (v4142 : BitVec 32) : BitVec 32 :=
  v4142

def k0_chk88 (v4142 : BitVec 32) : Prop :=
  (8 ∣ (k0_mult4 v4142).toNat)
theorem k0_mult4_dvd : ∀ (v4142 : BitVec 32) (k0_hw88 : k0_chk88 v4142), 8 ∣ (k0_mult4 v4142).toNat := fun v4142 k0_hw88 => k0_hw88

def k0_off257 (i : grid0.Coords) : Fin 3 → Nat :=
  let arg0 : BitVec 32 := BitVec.ofNat 32 (i 0).val
  let v4144 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4145 : Index := Scalar.indexCast v4139
  let c1_1711 : Index := 1#32
  ![v4144.toNat, v4145.toNat, 1]
def k0_off258 (v4142 : BitVec 32) (v4146 : BitVec 32) : Fin 3 → Nat :=
  let v4147 : Index := Scalar.indexCast v4146
  let v4143 : BitVec 32 := v4142
  let v4148 : Index := Scalar.indexCast v4143
  let c0_1712 : Index := 0#32
  ![v4147.toNat, v4148.toNat, 0]

def k0_chk89 (v4142 : BitVec 32) (v4146 : BitVec 32) : Prop :=
  (∀ a, (k0_off258 v4142 v4146) a + S1x40x128.size a ≤ S256x64x128.size a)
theorem k0_off258_inb : ∀ (v4142 : BitVec 32) (v4146 : BitVec 32) (k0_hw89 : k0_chk89 v4142 v4146), ∀ a, (k0_off258 v4142 v4146) a + S1x40x128.size a ≤ S256x64x128.size a := fun v4142 v4146 k0_hw89 => k0_hw89

def k0_off259 (i : grid0.Coords) : Fin 3 → Nat :=
  let arg0 : BitVec 32 := BitVec.ofNat 32 (i 0).val
  let v4151 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4152 : Index := Scalar.indexCast v4139
  let c8_1713 : Index := 8#32
  ![v4151.toNat, v4152.toNat, 8]
def k0_off260 (v4142 : BitVec 32) (v4153 : BitVec 32) : Fin 3 → Nat :=
  let v4154 : Index := Scalar.indexCast v4153
  let v4143 : BitVec 32 := v4142
  let v4155 : Index := Scalar.indexCast v4143
  let c0_1714 : Index := 0#32
  ![v4154.toNat, v4155.toNat, 0]

def k0_chk90 (v4142 : BitVec 32) (v4153 : BitVec 32) : Prop :=
  (∀ a, (k0_off260 v4142 v4153) a + S1x40x128.size a ≤ S256x64x128.size a)
theorem k0_off260_inb : ∀ (v4142 : BitVec 32) (v4153 : BitVec 32) (k0_hw90 : k0_chk90 v4142 v4153), ∀ a, (k0_off260 v4142 v4153) a + S1x40x128.size a ≤ S256x64x128.size a := fun v4142 v4153 k0_hw90 => k0_hw90

def k0_off261 (i : grid0.Coords) : Fin 3 → Nat :=
  let arg0 : BitVec 32 := BitVec.ofNat 32 (i 0).val
  let v4159 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4160 : Index := Scalar.indexCast v4139
  let c15_1715 : Index := 15#32
  ![v4159.toNat, v4160.toNat, 15]
def k0_off262 (i : grid0.Coords) : Fin 3 → Nat :=
  let arg0 : BitVec 32 := BitVec.ofNat 32 (i 0).val
  let v4169 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4170 : Index := Scalar.indexCast v4139
  let c2_1720 : Index := 2#32
  ![v4169.toNat, v4170.toNat, 2]
def k0_off263 (v4142 : BitVec 32) (v4171 : BitVec 32) : Fin 3 → Nat :=
  let v4172 : Index := Scalar.indexCast v4171
  let v4143 : BitVec 32 := v4142
  let v4173 : Index := Scalar.indexCast v4143
  let c0_1721 : Index := 0#32
  ![v4172.toNat, v4173.toNat, 0]

def k0_chk91 (v4142 : BitVec 32) (v4171 : BitVec 32) : Prop :=
  (∀ a, (k0_off263 v4142 v4171) a + S1x40x128.size a ≤ S256x64x128.size a)
theorem k0_off263_inb : ∀ (v4142 : BitVec 32) (v4171 : BitVec 32) (k0_hw91 : k0_chk91 v4142 v4171), ∀ a, (k0_off263 v4142 v4171) a + S1x40x128.size a ≤ S256x64x128.size a := fun v4142 v4171 k0_hw91 => k0_hw91

def k0_off264 (i : grid0.Coords) : Fin 3 → Nat :=
  let arg0 : BitVec 32 := BitVec.ofNat 32 (i 0).val
  let v4176 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4177 : Index := Scalar.indexCast v4139
  let c9_1722 : Index := 9#32
  ![v4176.toNat, v4177.toNat, 9]
def k0_off265 (v4142 : BitVec 32) (v4178 : BitVec 32) : Fin 3 → Nat :=
  let v4179 : Index := Scalar.indexCast v4178
  let v4143 : BitVec 32 := v4142
  let v4180 : Index := Scalar.indexCast v4143
  let c0_1723 : Index := 0#32
  ![v4179.toNat, v4180.toNat, 0]

def k0_chk92 (v4142 : BitVec 32) (v4178 : BitVec 32) : Prop :=
  (∀ a, (k0_off265 v4142 v4178) a + S1x40x128.size a ≤ S256x64x128.size a)
theorem k0_off265_inb : ∀ (v4142 : BitVec 32) (v4178 : BitVec 32) (k0_hw92 : k0_chk92 v4142 v4178), ∀ a, (k0_off265 v4142 v4178) a + S1x40x128.size a ≤ S256x64x128.size a := fun v4142 v4178 k0_hw92 => k0_hw92

def k0_off266 (i : grid0.Coords) : Fin 3 → Nat :=
  let arg0 : BitVec 32 := BitVec.ofNat 32 (i 0).val
  let v4184 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4185 : Index := Scalar.indexCast v4139
  let c16_1724 : Index := 16#32
  ![v4184.toNat, v4185.toNat, 16]
def k0_off267 (i : grid0.Coords) : Fin 3 → Nat :=
  let arg0 : BitVec 32 := BitVec.ofNat 32 (i 0).val
  let v4194 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4195 : Index := Scalar.indexCast v4139
  let c3_1729 : Index := 3#32
  ![v4194.toNat, v4195.toNat, 3]
def k0_off268 (v4142 : BitVec 32) (v4196 : BitVec 32) : Fin 3 → Nat :=
  let v4197 : Index := Scalar.indexCast v4196
  let v4143 : BitVec 32 := v4142
  let v4198 : Index := Scalar.indexCast v4143
  let c0_1730 : Index := 0#32
  ![v4197.toNat, v4198.toNat, 0]

def k0_chk93 (v4142 : BitVec 32) (v4196 : BitVec 32) : Prop :=
  (∀ a, (k0_off268 v4142 v4196) a + S1x40x128.size a ≤ S256x64x128.size a)
theorem k0_off268_inb : ∀ (v4142 : BitVec 32) (v4196 : BitVec 32) (k0_hw93 : k0_chk93 v4142 v4196), ∀ a, (k0_off268 v4142 v4196) a + S1x40x128.size a ≤ S256x64x128.size a := fun v4142 v4196 k0_hw93 => k0_hw93

def k0_off269 (i : grid0.Coords) : Fin 3 → Nat :=
  let arg0 : BitVec 32 := BitVec.ofNat 32 (i 0).val
  let v4201 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4202 : Index := Scalar.indexCast v4139
  let c10_1731 : Index := 10#32
  ![v4201.toNat, v4202.toNat, 10]
def k0_off270 (v4142 : BitVec 32) (v4203 : BitVec 32) : Fin 3 → Nat :=
  let v4204 : Index := Scalar.indexCast v4203
  let v4143 : BitVec 32 := v4142
  let v4205 : Index := Scalar.indexCast v4143
  let c0_1732 : Index := 0#32
  ![v4204.toNat, v4205.toNat, 0]

def k0_chk94 (v4142 : BitVec 32) (v4203 : BitVec 32) : Prop :=
  (∀ a, (k0_off270 v4142 v4203) a + S1x40x128.size a ≤ S256x64x128.size a)
theorem k0_off270_inb : ∀ (v4142 : BitVec 32) (v4203 : BitVec 32) (k0_hw94 : k0_chk94 v4142 v4203), ∀ a, (k0_off270 v4142 v4203) a + S1x40x128.size a ≤ S256x64x128.size a := fun v4142 v4203 k0_hw94 => k0_hw94

def k0_off271 (i : grid0.Coords) : Fin 3 → Nat :=
  let arg0 : BitVec 32 := BitVec.ofNat 32 (i 0).val
  let v4209 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4210 : Index := Scalar.indexCast v4139
  let c17_1733 : Index := 17#32
  ![v4209.toNat, v4210.toNat, 17]
def k0_off272 (i : grid0.Coords) : Fin 3 → Nat :=
  let arg0 : BitVec 32 := BitVec.ofNat 32 (i 0).val
  let v4219 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4220 : Index := Scalar.indexCast v4139
  let c4_1738 : Index := 4#32
  ![v4219.toNat, v4220.toNat, 4]
def k0_off273 (v4142 : BitVec 32) (v4221 : BitVec 32) : Fin 3 → Nat :=
  let v4222 : Index := Scalar.indexCast v4221
  let v4143 : BitVec 32 := v4142
  let v4223 : Index := Scalar.indexCast v4143
  let c0_1739 : Index := 0#32
  ![v4222.toNat, v4223.toNat, 0]

def k0_chk95 (v4142 : BitVec 32) (v4221 : BitVec 32) : Prop :=
  (∀ a, (k0_off273 v4142 v4221) a + S1x40x128.size a ≤ S256x64x128.size a)
theorem k0_off273_inb : ∀ (v4142 : BitVec 32) (v4221 : BitVec 32) (k0_hw95 : k0_chk95 v4142 v4221), ∀ a, (k0_off273 v4142 v4221) a + S1x40x128.size a ≤ S256x64x128.size a := fun v4142 v4221 k0_hw95 => k0_hw95

def k0_off274 (i : grid0.Coords) : Fin 3 → Nat :=
  let arg0 : BitVec 32 := BitVec.ofNat 32 (i 0).val
  let v4226 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4227 : Index := Scalar.indexCast v4139
  let c11_1740 : Index := 11#32
  ![v4226.toNat, v4227.toNat, 11]
def k0_off275 (v4142 : BitVec 32) (v4228 : BitVec 32) : Fin 3 → Nat :=
  let v4229 : Index := Scalar.indexCast v4228
  let v4143 : BitVec 32 := v4142
  let v4230 : Index := Scalar.indexCast v4143
  let c0_1741 : Index := 0#32
  ![v4229.toNat, v4230.toNat, 0]

def k0_chk96 (v4142 : BitVec 32) (v4228 : BitVec 32) : Prop :=
  (∀ a, (k0_off275 v4142 v4228) a + S1x40x128.size a ≤ S256x64x128.size a)
theorem k0_off275_inb : ∀ (v4142 : BitVec 32) (v4228 : BitVec 32) (k0_hw96 : k0_chk96 v4142 v4228), ∀ a, (k0_off275 v4142 v4228) a + S1x40x128.size a ≤ S256x64x128.size a := fun v4142 v4228 k0_hw96 => k0_hw96

def k0_off276 (i : grid0.Coords) : Fin 3 → Nat :=
  let arg0 : BitVec 32 := BitVec.ofNat 32 (i 0).val
  let v4234 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4235 : Index := Scalar.indexCast v4139
  let c18_1742 : Index := 18#32
  ![v4234.toNat, v4235.toNat, 18]
def k0_off277 (i : grid0.Coords) : Fin 3 → Nat :=
  let arg0 : BitVec 32 := BitVec.ofNat 32 (i 0).val
  let v4244 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4245 : Index := Scalar.indexCast v4139
  let c5_1747 : Index := 5#32
  ![v4244.toNat, v4245.toNat, 5]
def k0_off278 (v4142 : BitVec 32) (v4246 : BitVec 32) : Fin 3 → Nat :=
  let v4247 : Index := Scalar.indexCast v4246
  let v4143 : BitVec 32 := v4142
  let v4248 : Index := Scalar.indexCast v4143
  let c0_1748 : Index := 0#32
  ![v4247.toNat, v4248.toNat, 0]

def k0_chk97 (v4142 : BitVec 32) (v4246 : BitVec 32) : Prop :=
  (∀ a, (k0_off278 v4142 v4246) a + S1x40x128.size a ≤ S256x64x128.size a)
theorem k0_off278_inb : ∀ (v4142 : BitVec 32) (v4246 : BitVec 32) (k0_hw97 : k0_chk97 v4142 v4246), ∀ a, (k0_off278 v4142 v4246) a + S1x40x128.size a ≤ S256x64x128.size a := fun v4142 v4246 k0_hw97 => k0_hw97

def k0_off279 (i : grid0.Coords) : Fin 3 → Nat :=
  let arg0 : BitVec 32 := BitVec.ofNat 32 (i 0).val
  let v4251 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4252 : Index := Scalar.indexCast v4139
  let c12_1749 : Index := 12#32
  ![v4251.toNat, v4252.toNat, 12]
def k0_off280 (v4142 : BitVec 32) (v4253 : BitVec 32) : Fin 3 → Nat :=
  let v4254 : Index := Scalar.indexCast v4253
  let v4143 : BitVec 32 := v4142
  let v4255 : Index := Scalar.indexCast v4143
  let c0_1750 : Index := 0#32
  ![v4254.toNat, v4255.toNat, 0]

def k0_chk98 (v4142 : BitVec 32) (v4253 : BitVec 32) : Prop :=
  (∀ a, (k0_off280 v4142 v4253) a + S1x40x128.size a ≤ S256x64x128.size a)
theorem k0_off280_inb : ∀ (v4142 : BitVec 32) (v4253 : BitVec 32) (k0_hw98 : k0_chk98 v4142 v4253), ∀ a, (k0_off280 v4142 v4253) a + S1x40x128.size a ≤ S256x64x128.size a := fun v4142 v4253 k0_hw98 => k0_hw98

def k0_off281 (i : grid0.Coords) : Fin 3 → Nat :=
  let arg0 : BitVec 32 := BitVec.ofNat 32 (i 0).val
  let v4259 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4260 : Index := Scalar.indexCast v4139
  let c19_1751 : Index := 19#32
  ![v4259.toNat, v4260.toNat, 19]
def k0_off282 (i : grid0.Coords) : Fin 3 → Nat :=
  let arg0 : BitVec 32 := BitVec.ofNat 32 (i 0).val
  let v4269 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4270 : Index := Scalar.indexCast v4139
  let c6_1756 : Index := 6#32
  ![v4269.toNat, v4270.toNat, 6]
def k0_off283 (v4142 : BitVec 32) (v4271 : BitVec 32) : Fin 3 → Nat :=
  let v4272 : Index := Scalar.indexCast v4271
  let v4143 : BitVec 32 := v4142
  let v4273 : Index := Scalar.indexCast v4143
  let c0_1757 : Index := 0#32
  ![v4272.toNat, v4273.toNat, 0]

def k0_chk99 (v4142 : BitVec 32) (v4271 : BitVec 32) : Prop :=
  (∀ a, (k0_off283 v4142 v4271) a + S1x40x128.size a ≤ S256x64x128.size a)
theorem k0_off283_inb : ∀ (v4142 : BitVec 32) (v4271 : BitVec 32) (k0_hw99 : k0_chk99 v4142 v4271), ∀ a, (k0_off283 v4142 v4271) a + S1x40x128.size a ≤ S256x64x128.size a := fun v4142 v4271 k0_hw99 => k0_hw99

def k0_off284 (i : grid0.Coords) : Fin 3 → Nat :=
  let arg0 : BitVec 32 := BitVec.ofNat 32 (i 0).val
  let v4276 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4277 : Index := Scalar.indexCast v4139
  let c13_1758 : Index := 13#32
  ![v4276.toNat, v4277.toNat, 13]
def k0_off285 (v4142 : BitVec 32) (v4278 : BitVec 32) : Fin 3 → Nat :=
  let v4279 : Index := Scalar.indexCast v4278
  let v4143 : BitVec 32 := v4142
  let v4280 : Index := Scalar.indexCast v4143
  let c0_1759 : Index := 0#32
  ![v4279.toNat, v4280.toNat, 0]

def k0_chk100 (v4142 : BitVec 32) (v4278 : BitVec 32) : Prop :=
  (∀ a, (k0_off285 v4142 v4278) a + S1x40x128.size a ≤ S256x64x128.size a)
theorem k0_off285_inb : ∀ (v4142 : BitVec 32) (v4278 : BitVec 32) (k0_hw100 : k0_chk100 v4142 v4278), ∀ a, (k0_off285 v4142 v4278) a + S1x40x128.size a ≤ S256x64x128.size a := fun v4142 v4278 k0_hw100 => k0_hw100

def k0_off286 (i : grid0.Coords) : Fin 3 → Nat :=
  let arg0 : BitVec 32 := BitVec.ofNat 32 (i 0).val
  let v4284 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4285 : Index := Scalar.indexCast v4139
  let c20_1760 : Index := 20#32
  ![v4284.toNat, v4285.toNat, 20]
def k0_off287 (i : grid0.Coords) : Fin 3 → Nat :=
  let arg0 : BitVec 32 := BitVec.ofNat 32 (i 0).val
  let v4294 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4295 : Index := Scalar.indexCast v4139
  let c7_1765 : Index := 7#32
  ![v4294.toNat, v4295.toNat, 7]
def k0_off288 (v4142 : BitVec 32) (v4296 : BitVec 32) : Fin 3 → Nat :=
  let v4297 : Index := Scalar.indexCast v4296
  let v4143 : BitVec 32 := v4142
  let v4298 : Index := Scalar.indexCast v4143
  let c0_1766 : Index := 0#32
  ![v4297.toNat, v4298.toNat, 0]

def k0_chk101 (v4142 : BitVec 32) (v4296 : BitVec 32) : Prop :=
  (∀ a, (k0_off288 v4142 v4296) a + S1x40x128.size a ≤ S256x64x128.size a)
theorem k0_off288_inb : ∀ (v4142 : BitVec 32) (v4296 : BitVec 32) (k0_hw101 : k0_chk101 v4142 v4296), ∀ a, (k0_off288 v4142 v4296) a + S1x40x128.size a ≤ S256x64x128.size a := fun v4142 v4296 k0_hw101 => k0_hw101

def k0_off289 (i : grid0.Coords) : Fin 3 → Nat :=
  let arg0 : BitVec 32 := BitVec.ofNat 32 (i 0).val
  let v4301 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4302 : Index := Scalar.indexCast v4139
  let c14_1767 : Index := 14#32
  ![v4301.toNat, v4302.toNat, 14]
def k0_off290 (v4142 : BitVec 32) (v4303 : BitVec 32) : Fin 3 → Nat :=
  let v4304 : Index := Scalar.indexCast v4303
  let v4143 : BitVec 32 := v4142
  let v4305 : Index := Scalar.indexCast v4143
  let c0_1768 : Index := 0#32
  ![v4304.toNat, v4305.toNat, 0]

def k0_chk102 (v4142 : BitVec 32) (v4303 : BitVec 32) : Prop :=
  (∀ a, (k0_off290 v4142 v4303) a + S1x40x128.size a ≤ S256x64x128.size a)
theorem k0_off290_inb : ∀ (v4142 : BitVec 32) (v4303 : BitVec 32) (k0_hw102 : k0_chk102 v4142 v4303), ∀ a, (k0_off290 v4142 v4303) a + S1x40x128.size a ≤ S256x64x128.size a := fun v4142 v4303 k0_hw102 => k0_hw102

def k0_off291 (i : grid0.Coords) : Fin 3 → Nat :=
  let arg0 : BitVec 32 := BitVec.ofNat 32 (i 0).val
  let v4309 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4310 : Index := Scalar.indexCast v4139
  let c21_1769 : Index := 21#32
  ![v4309.toNat, v4310.toNat, 21]
def k0_off292 (i : grid0.Coords) : Fin 3 → Nat :=
  let arg0 : BitVec 32 := BitVec.ofNat 32 (i 0).val
  let v4319 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4320 : Index := Scalar.indexCast v4139
  let c22_1774 : Index := 22#32
  ![v4319.toNat, v4320.toNat, 22]
def k0_off293 (i : grid0.Coords) : Fin 3 → Nat :=
  let arg0 : BitVec 32 := BitVec.ofNat 32 (i 0).val
  let v4322 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4323 : Index := Scalar.indexCast v4139
  let c29_1775 : Index := 29#32
  ![v4322.toNat, v4323.toNat, 29]
def k0_off294 (i : grid0.Coords) : Fin 3 → Nat :=
  let arg0 : BitVec 32 := BitVec.ofNat 32 (i 0).val
  let v4325 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4326 : Index := Scalar.indexCast v4139
  let c36_1776 : Index := 36#32
  ![v4325.toNat, v4326.toNat, 36]
def k0_off295 (i : grid0.Coords) : Fin 3 → Nat :=
  let arg0 : BitVec 32 := BitVec.ofNat 32 (i 0).val
  let v4328 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4329 : Index := Scalar.indexCast v4139
  let c43_1777 : Index := 43#32
  ![v4328.toNat, v4329.toNat, 43]
def k0_off296 (v4321 : BitVec 32) : Fin 3 → Nat :=
  let c105_i32 : BitVec 32 := 105#32
  let v4353 : BitVec 32 := Scalar.addi c105_i32 v4321
  let v4354 : Index := Scalar.indexCast v4353
  let c0_1782 : Index := 0#32
  let c0_1783 : Index := 0#32
  ![v4354.toNat, 0, 0]

def k0_off297 (v4324 : BitVec 32) (c105_i32_1785 : BitVec 32) : Fin 3 → Nat :=
  let v4361 : BitVec 32 := Scalar.addi c105_i32_1785 v4324
  let v4362 : Index := Scalar.indexCast v4361
  let c0_1786 : Index := 0#32
  let c0_1787 : Index := 0#32
  ![v4362.toNat, 0, 0]

def k0_chk104 (v4324 : BitVec 32) : Prop :=
  (∀ (r : Fin 7), ∀ a, (k0_off297 v4324 (BitVec.ofNat 32 (105 + 5 * r.val))) a + S1x8x128.size a ≤ S1120x8x128.size a)
theorem k0_off297_inb : ∀ (v4324 : BitVec 32) (k0_hw104 : k0_chk104 v4324), ∀ (r : Fin 7), ∀ a, (k0_off297 v4324 (BitVec.ofNat 32 (105 + 5 * r.val))) a + S1x8x128.size a ≤ S1120x8x128.size a := fun v4324 k0_hw104 r => k0_hw104 r

def k0_off298 (v4321 : BitVec 32) (c110_i32 : BitVec 32) : Fin 3 → Nat :=
  let v4371 : BitVec 32 := Scalar.addi c110_i32 v4321
  let v4372 : Index := Scalar.indexCast v4371
  let c0_1790 : Index := 0#32
  let c0_1791 : Index := 0#32
  ![v4372.toNat, 0, 0]

def k0_chk103 (v4321 : BitVec 32) : Prop :=
  (∀ a, (k0_off296 v4321) a + S1x8x128.size a ≤ S1120x8x128.size a) ∧
  (∀ (r : Fin 6), ∀ a, (k0_off298 v4321 (BitVec.ofNat 32 (110 + 5 * r.val))) a + S1x8x128.size a ≤ S1120x8x128.size a)
theorem k0_off296_inb : ∀ (v4321 : BitVec 32) (k0_hw103 : k0_chk103 v4321), ∀ a, (k0_off296 v4321) a + S1x8x128.size a ≤ S1120x8x128.size a := fun v4321 k0_hw103 => k0_hw103.1
theorem k0_off298_inb : ∀ (v4321 : BitVec 32) (k0_hw103 : k0_chk103 v4321), ∀ (r : Fin 6), ∀ a, (k0_off298 v4321 (BitVec.ofNat 32 (110 + 5 * r.val))) a + S1x8x128.size a ≤ S1120x8x128.size a := fun v4321 k0_hw103 r => k0_hw103.2 r

def k0_off299 (i : grid0.Coords) : Fin 3 → Nat :=
  let arg0 : BitVec 32 := BitVec.ofNat 32 (i 0).val
  let v4479 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4480 : Index := Scalar.indexCast v4139
  let c23_1838 : Index := 23#32
  ![v4479.toNat, v4480.toNat, 23]
def k0_off300 (i : grid0.Coords) : Fin 3 → Nat :=
  let arg0 : BitVec 32 := BitVec.ofNat 32 (i 0).val
  let v4482 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4483 : Index := Scalar.indexCast v4139
  let c30_1839 : Index := 30#32
  ![v4482.toNat, v4483.toNat, 30]
def k0_off301 (i : grid0.Coords) : Fin 3 → Nat :=
  let arg0 : BitVec 32 := BitVec.ofNat 32 (i 0).val
  let v4485 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4486 : Index := Scalar.indexCast v4139
  let c37_1840 : Index := 37#32
  ![v4485.toNat, v4486.toNat, 37]
def k0_off302 (i : grid0.Coords) : Fin 3 → Nat :=
  let arg0 : BitVec 32 := BitVec.ofNat 32 (i 0).val
  let v4488 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4489 : Index := Scalar.indexCast v4139
  let c44_1841 : Index := 44#32
  ![v4488.toNat, v4489.toNat, 44]
def k0_off303 (v4481 : BitVec 32) : Fin 3 → Nat :=
  let c105_i32_1846 : BitVec 32 := 105#32
  let v4513 : BitVec 32 := Scalar.addi c105_i32_1846 v4481
  let v4514 : Index := Scalar.indexCast v4513
  let c0_1847 : Index := 0#32
  let c0_1848 : Index := 0#32
  ![v4514.toNat, 0, 0]

def k0_off304 (v4484 : BitVec 32) (c105_i32_1850 : BitVec 32) : Fin 3 → Nat :=
  let v4521 : BitVec 32 := Scalar.addi c105_i32_1850 v4484
  let v4522 : Index := Scalar.indexCast v4521
  let c0_1851 : Index := 0#32
  let c0_1852 : Index := 0#32
  ![v4522.toNat, 0, 0]

def k0_chk106 (v4484 : BitVec 32) : Prop :=
  (∀ (r : Fin 7), ∀ a, (k0_off304 v4484 (BitVec.ofNat 32 (105 + 5 * r.val))) a + S1x8x128.size a ≤ S1120x8x128.size a)
theorem k0_off304_inb : ∀ (v4484 : BitVec 32) (k0_hw106 : k0_chk106 v4484), ∀ (r : Fin 7), ∀ a, (k0_off304 v4484 (BitVec.ofNat 32 (105 + 5 * r.val))) a + S1x8x128.size a ≤ S1120x8x128.size a := fun v4484 k0_hw106 r => k0_hw106 r

def k0_off305 (v4481 : BitVec 32) (c110_i32_1855 : BitVec 32) : Fin 3 → Nat :=
  let v4531 : BitVec 32 := Scalar.addi c110_i32_1855 v4481
  let v4532 : Index := Scalar.indexCast v4531
  let c0_1856 : Index := 0#32
  let c0_1857 : Index := 0#32
  ![v4532.toNat, 0, 0]

def k0_chk105 (v4481 : BitVec 32) : Prop :=
  (∀ a, (k0_off303 v4481) a + S1x8x128.size a ≤ S1120x8x128.size a) ∧
  (∀ (r : Fin 6), ∀ a, (k0_off305 v4481 (BitVec.ofNat 32 (110 + 5 * r.val))) a + S1x8x128.size a ≤ S1120x8x128.size a)
theorem k0_off303_inb : ∀ (v4481 : BitVec 32) (k0_hw105 : k0_chk105 v4481), ∀ a, (k0_off303 v4481) a + S1x8x128.size a ≤ S1120x8x128.size a := fun v4481 k0_hw105 => k0_hw105.1
theorem k0_off305_inb : ∀ (v4481 : BitVec 32) (k0_hw105 : k0_chk105 v4481), ∀ (r : Fin 6), ∀ a, (k0_off305 v4481 (BitVec.ofNat 32 (110 + 5 * r.val))) a + S1x8x128.size a ≤ S1120x8x128.size a := fun v4481 k0_hw105 r => k0_hw105.2 r

def k0_off306 (i : grid0.Coords) : Fin 3 → Nat :=
  let arg0 : BitVec 32 := BitVec.ofNat 32 (i 0).val
  let v4639 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4640 : Index := Scalar.indexCast v4139
  let c24_1909 : Index := 24#32
  ![v4639.toNat, v4640.toNat, 24]
def k0_off307 (i : grid0.Coords) : Fin 3 → Nat :=
  let arg0 : BitVec 32 := BitVec.ofNat 32 (i 0).val
  let v4642 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4643 : Index := Scalar.indexCast v4139
  let c31_1910 : Index := 31#32
  ![v4642.toNat, v4643.toNat, 31]
def k0_off308 (i : grid0.Coords) : Fin 3 → Nat :=
  let arg0 : BitVec 32 := BitVec.ofNat 32 (i 0).val
  let v4645 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4646 : Index := Scalar.indexCast v4139
  let c38_1911 : Index := 38#32
  ![v4645.toNat, v4646.toNat, 38]
def k0_off309 (i : grid0.Coords) : Fin 3 → Nat :=
  let arg0 : BitVec 32 := BitVec.ofNat 32 (i 0).val
  let v4648 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4649 : Index := Scalar.indexCast v4139
  let c45_1912 : Index := 45#32
  ![v4648.toNat, v4649.toNat, 45]
def k0_off310 (v4641 : BitVec 32) : Fin 3 → Nat :=
  let c105_i32_1917 : BitVec 32 := 105#32
  let v4673 : BitVec 32 := Scalar.addi c105_i32_1917 v4641
  let v4674 : Index := Scalar.indexCast v4673
  let c0_1918 : Index := 0#32
  let c0_1919 : Index := 0#32
  ![v4674.toNat, 0, 0]

def k0_off311 (v4644 : BitVec 32) (c105_i32_1921 : BitVec 32) : Fin 3 → Nat :=
  let v4681 : BitVec 32 := Scalar.addi c105_i32_1921 v4644
  let v4682 : Index := Scalar.indexCast v4681
  let c0_1922 : Index := 0#32
  let c0_1923 : Index := 0#32
  ![v4682.toNat, 0, 0]

def k0_chk108 (v4644 : BitVec 32) : Prop :=
  (∀ (r : Fin 7), ∀ a, (k0_off311 v4644 (BitVec.ofNat 32 (105 + 5 * r.val))) a + S1x8x128.size a ≤ S1120x8x128.size a)
theorem k0_off311_inb : ∀ (v4644 : BitVec 32) (k0_hw108 : k0_chk108 v4644), ∀ (r : Fin 7), ∀ a, (k0_off311 v4644 (BitVec.ofNat 32 (105 + 5 * r.val))) a + S1x8x128.size a ≤ S1120x8x128.size a := fun v4644 k0_hw108 r => k0_hw108 r

def k0_off312 (v4641 : BitVec 32) (c110_i32_1926 : BitVec 32) : Fin 3 → Nat :=
  let v4691 : BitVec 32 := Scalar.addi c110_i32_1926 v4641
  let v4692 : Index := Scalar.indexCast v4691
  let c0_1927 : Index := 0#32
  let c0_1928 : Index := 0#32
  ![v4692.toNat, 0, 0]

def k0_chk107 (v4641 : BitVec 32) : Prop :=
  (∀ a, (k0_off310 v4641) a + S1x8x128.size a ≤ S1120x8x128.size a) ∧
  (∀ (r : Fin 6), ∀ a, (k0_off312 v4641 (BitVec.ofNat 32 (110 + 5 * r.val))) a + S1x8x128.size a ≤ S1120x8x128.size a)
theorem k0_off310_inb : ∀ (v4641 : BitVec 32) (k0_hw107 : k0_chk107 v4641), ∀ a, (k0_off310 v4641) a + S1x8x128.size a ≤ S1120x8x128.size a := fun v4641 k0_hw107 => k0_hw107.1
theorem k0_off312_inb : ∀ (v4641 : BitVec 32) (k0_hw107 : k0_chk107 v4641), ∀ (r : Fin 6), ∀ a, (k0_off312 v4641 (BitVec.ofNat 32 (110 + 5 * r.val))) a + S1x8x128.size a ≤ S1120x8x128.size a := fun v4641 k0_hw107 r => k0_hw107.2 r

def k0_off313 (i : grid0.Coords) : Fin 3 → Nat :=
  let arg0 : BitVec 32 := BitVec.ofNat 32 (i 0).val
  let v4799 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4800 : Index := Scalar.indexCast v4139
  let c25_1980 : Index := 25#32
  ![v4799.toNat, v4800.toNat, 25]
def k0_off314 (i : grid0.Coords) : Fin 3 → Nat :=
  let arg0 : BitVec 32 := BitVec.ofNat 32 (i 0).val
  let v4802 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4803 : Index := Scalar.indexCast v4139
  let c32_1981 : Index := 32#32
  ![v4802.toNat, v4803.toNat, 32]
def k0_off315 (i : grid0.Coords) : Fin 3 → Nat :=
  let arg0 : BitVec 32 := BitVec.ofNat 32 (i 0).val
  let v4805 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4806 : Index := Scalar.indexCast v4139
  let c39_1982 : Index := 39#32
  ![v4805.toNat, v4806.toNat, 39]
def k0_off316 (i : grid0.Coords) : Fin 3 → Nat :=
  let arg0 : BitVec 32 := BitVec.ofNat 32 (i 0).val
  let v4808 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4809 : Index := Scalar.indexCast v4139
  let c46_1983 : Index := 46#32
  ![v4808.toNat, v4809.toNat, 46]
def k0_off317 (v4801 : BitVec 32) : Fin 3 → Nat :=
  let c105_i32_1988 : BitVec 32 := 105#32
  let v4833 : BitVec 32 := Scalar.addi c105_i32_1988 v4801
  let v4834 : Index := Scalar.indexCast v4833
  let c0_1989 : Index := 0#32
  let c0_1990 : Index := 0#32
  ![v4834.toNat, 0, 0]

def k0_off318 (v4804 : BitVec 32) (c105_i32_1992 : BitVec 32) : Fin 3 → Nat :=
  let v4841 : BitVec 32 := Scalar.addi c105_i32_1992 v4804
  let v4842 : Index := Scalar.indexCast v4841
  let c0_1993 : Index := 0#32
  let c0_1994 : Index := 0#32
  ![v4842.toNat, 0, 0]

def k0_chk110 (v4804 : BitVec 32) : Prop :=
  (∀ (r : Fin 7), ∀ a, (k0_off318 v4804 (BitVec.ofNat 32 (105 + 5 * r.val))) a + S1x8x128.size a ≤ S1120x8x128.size a)
theorem k0_off318_inb : ∀ (v4804 : BitVec 32) (k0_hw110 : k0_chk110 v4804), ∀ (r : Fin 7), ∀ a, (k0_off318 v4804 (BitVec.ofNat 32 (105 + 5 * r.val))) a + S1x8x128.size a ≤ S1120x8x128.size a := fun v4804 k0_hw110 r => k0_hw110 r

def k0_off319 (v4801 : BitVec 32) (c110_i32_1997 : BitVec 32) : Fin 3 → Nat :=
  let v4851 : BitVec 32 := Scalar.addi c110_i32_1997 v4801
  let v4852 : Index := Scalar.indexCast v4851
  let c0_1998 : Index := 0#32
  let c0_1999 : Index := 0#32
  ![v4852.toNat, 0, 0]

def k0_chk109 (v4801 : BitVec 32) : Prop :=
  (∀ a, (k0_off317 v4801) a + S1x8x128.size a ≤ S1120x8x128.size a) ∧
  (∀ (r : Fin 6), ∀ a, (k0_off319 v4801 (BitVec.ofNat 32 (110 + 5 * r.val))) a + S1x8x128.size a ≤ S1120x8x128.size a)
theorem k0_off317_inb : ∀ (v4801 : BitVec 32) (k0_hw109 : k0_chk109 v4801), ∀ a, (k0_off317 v4801) a + S1x8x128.size a ≤ S1120x8x128.size a := fun v4801 k0_hw109 => k0_hw109.1
theorem k0_off319_inb : ∀ (v4801 : BitVec 32) (k0_hw109 : k0_chk109 v4801), ∀ (r : Fin 6), ∀ a, (k0_off319 v4801 (BitVec.ofNat 32 (110 + 5 * r.val))) a + S1x8x128.size a ≤ S1120x8x128.size a := fun v4801 k0_hw109 r => k0_hw109.2 r

def k0_off320 (i : grid0.Coords) : Fin 3 → Nat :=
  let arg0 : BitVec 32 := BitVec.ofNat 32 (i 0).val
  let v4959 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4960 : Index := Scalar.indexCast v4139
  let c26_2051 : Index := 26#32
  ![v4959.toNat, v4960.toNat, 26]
def k0_off321 (i : grid0.Coords) : Fin 3 → Nat :=
  let arg0 : BitVec 32 := BitVec.ofNat 32 (i 0).val
  let v4962 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4963 : Index := Scalar.indexCast v4139
  let c33_2052 : Index := 33#32
  ![v4962.toNat, v4963.toNat, 33]
def k0_off322 (i : grid0.Coords) : Fin 3 → Nat :=
  let arg0 : BitVec 32 := BitVec.ofNat 32 (i 0).val
  let v4965 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4966 : Index := Scalar.indexCast v4139
  let c40_2053 : Index := 40#32
  ![v4965.toNat, v4966.toNat, 40]
def k0_off323 (i : grid0.Coords) : Fin 3 → Nat :=
  let arg0 : BitVec 32 := BitVec.ofNat 32 (i 0).val
  let v4968 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v4969 : Index := Scalar.indexCast v4139
  let c47_2054 : Index := 47#32
  ![v4968.toNat, v4969.toNat, 47]
def k0_off324 (v4961 : BitVec 32) : Fin 3 → Nat :=
  let c105_i32_2059 : BitVec 32 := 105#32
  let v4993 : BitVec 32 := Scalar.addi c105_i32_2059 v4961
  let v4994 : Index := Scalar.indexCast v4993
  let c0_2060 : Index := 0#32
  let c0_2061 : Index := 0#32
  ![v4994.toNat, 0, 0]

def k0_off325 (v4964 : BitVec 32) (c105_i32_2063 : BitVec 32) : Fin 3 → Nat :=
  let v5001 : BitVec 32 := Scalar.addi c105_i32_2063 v4964
  let v5002 : Index := Scalar.indexCast v5001
  let c0_2064 : Index := 0#32
  let c0_2065 : Index := 0#32
  ![v5002.toNat, 0, 0]

def k0_chk112 (v4964 : BitVec 32) : Prop :=
  (∀ (r : Fin 7), ∀ a, (k0_off325 v4964 (BitVec.ofNat 32 (105 + 5 * r.val))) a + S1x8x128.size a ≤ S1120x8x128.size a)
theorem k0_off325_inb : ∀ (v4964 : BitVec 32) (k0_hw112 : k0_chk112 v4964), ∀ (r : Fin 7), ∀ a, (k0_off325 v4964 (BitVec.ofNat 32 (105 + 5 * r.val))) a + S1x8x128.size a ≤ S1120x8x128.size a := fun v4964 k0_hw112 r => k0_hw112 r

def k0_off326 (v4961 : BitVec 32) (c110_i32_2068 : BitVec 32) : Fin 3 → Nat :=
  let v5011 : BitVec 32 := Scalar.addi c110_i32_2068 v4961
  let v5012 : Index := Scalar.indexCast v5011
  let c0_2069 : Index := 0#32
  let c0_2070 : Index := 0#32
  ![v5012.toNat, 0, 0]

def k0_chk111 (v4961 : BitVec 32) : Prop :=
  (∀ a, (k0_off324 v4961) a + S1x8x128.size a ≤ S1120x8x128.size a) ∧
  (∀ (r : Fin 6), ∀ a, (k0_off326 v4961 (BitVec.ofNat 32 (110 + 5 * r.val))) a + S1x8x128.size a ≤ S1120x8x128.size a)
theorem k0_off324_inb : ∀ (v4961 : BitVec 32) (k0_hw111 : k0_chk111 v4961), ∀ a, (k0_off324 v4961) a + S1x8x128.size a ≤ S1120x8x128.size a := fun v4961 k0_hw111 => k0_hw111.1
theorem k0_off326_inb : ∀ (v4961 : BitVec 32) (k0_hw111 : k0_chk111 v4961), ∀ (r : Fin 6), ∀ a, (k0_off326 v4961 (BitVec.ofNat 32 (110 + 5 * r.val))) a + S1x8x128.size a ≤ S1120x8x128.size a := fun v4961 k0_hw111 r => k0_hw111.2 r

def k0_off327 (i : grid0.Coords) : Fin 3 → Nat :=
  let arg0 : BitVec 32 := BitVec.ofNat 32 (i 0).val
  let v5119 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5120 : Index := Scalar.indexCast v4139
  let c27_2122 : Index := 27#32
  ![v5119.toNat, v5120.toNat, 27]
def k0_off328 (i : grid0.Coords) : Fin 3 → Nat :=
  let arg0 : BitVec 32 := BitVec.ofNat 32 (i 0).val
  let v5122 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5123 : Index := Scalar.indexCast v4139
  let c34_2123 : Index := 34#32
  ![v5122.toNat, v5123.toNat, 34]
def k0_off329 (i : grid0.Coords) : Fin 3 → Nat :=
  let arg0 : BitVec 32 := BitVec.ofNat 32 (i 0).val
  let v5125 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5126 : Index := Scalar.indexCast v4139
  let c41_2124 : Index := 41#32
  ![v5125.toNat, v5126.toNat, 41]
def k0_off330 (i : grid0.Coords) : Fin 3 → Nat :=
  let arg0 : BitVec 32 := BitVec.ofNat 32 (i 0).val
  let v5128 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5129 : Index := Scalar.indexCast v4139
  let c48_2125 : Index := 48#32
  ![v5128.toNat, v5129.toNat, 48]
def k0_off331 (v5121 : BitVec 32) : Fin 3 → Nat :=
  let c105_i32_2130 : BitVec 32 := 105#32
  let v5153 : BitVec 32 := Scalar.addi c105_i32_2130 v5121
  let v5154 : Index := Scalar.indexCast v5153
  let c0_2131 : Index := 0#32
  let c0_2132 : Index := 0#32
  ![v5154.toNat, 0, 0]

def k0_off332 (v5124 : BitVec 32) (c105_i32_2134 : BitVec 32) : Fin 3 → Nat :=
  let v5161 : BitVec 32 := Scalar.addi c105_i32_2134 v5124
  let v5162 : Index := Scalar.indexCast v5161
  let c0_2135 : Index := 0#32
  let c0_2136 : Index := 0#32
  ![v5162.toNat, 0, 0]

def k0_chk114 (v5124 : BitVec 32) : Prop :=
  (∀ (r : Fin 7), ∀ a, (k0_off332 v5124 (BitVec.ofNat 32 (105 + 5 * r.val))) a + S1x8x128.size a ≤ S1120x8x128.size a)
theorem k0_off332_inb : ∀ (v5124 : BitVec 32) (k0_hw114 : k0_chk114 v5124), ∀ (r : Fin 7), ∀ a, (k0_off332 v5124 (BitVec.ofNat 32 (105 + 5 * r.val))) a + S1x8x128.size a ≤ S1120x8x128.size a := fun v5124 k0_hw114 r => k0_hw114 r

def k0_off333 (v5121 : BitVec 32) (c110_i32_2139 : BitVec 32) : Fin 3 → Nat :=
  let v5171 : BitVec 32 := Scalar.addi c110_i32_2139 v5121
  let v5172 : Index := Scalar.indexCast v5171
  let c0_2140 : Index := 0#32
  let c0_2141 : Index := 0#32
  ![v5172.toNat, 0, 0]

def k0_chk113 (v5121 : BitVec 32) : Prop :=
  (∀ a, (k0_off331 v5121) a + S1x8x128.size a ≤ S1120x8x128.size a) ∧
  (∀ (r : Fin 6), ∀ a, (k0_off333 v5121 (BitVec.ofNat 32 (110 + 5 * r.val))) a + S1x8x128.size a ≤ S1120x8x128.size a)
theorem k0_off331_inb : ∀ (v5121 : BitVec 32) (k0_hw113 : k0_chk113 v5121), ∀ a, (k0_off331 v5121) a + S1x8x128.size a ≤ S1120x8x128.size a := fun v5121 k0_hw113 => k0_hw113.1
theorem k0_off333_inb : ∀ (v5121 : BitVec 32) (k0_hw113 : k0_chk113 v5121), ∀ (r : Fin 6), ∀ a, (k0_off333 v5121 (BitVec.ofNat 32 (110 + 5 * r.val))) a + S1x8x128.size a ≤ S1120x8x128.size a := fun v5121 k0_hw113 r => k0_hw113.2 r

def k0_off334 (i : grid0.Coords) : Fin 3 → Nat :=
  let arg0 : BitVec 32 := BitVec.ofNat 32 (i 0).val
  let v5279 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5280 : Index := Scalar.indexCast v4139
  let c28_2193 : Index := 28#32
  ![v5279.toNat, v5280.toNat, 28]
def k0_off335 (i : grid0.Coords) : Fin 3 → Nat :=
  let arg0 : BitVec 32 := BitVec.ofNat 32 (i 0).val
  let v5282 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5283 : Index := Scalar.indexCast v4139
  let c35_2194 : Index := 35#32
  ![v5282.toNat, v5283.toNat, 35]
def k0_off336 (i : grid0.Coords) : Fin 3 → Nat :=
  let arg0 : BitVec 32 := BitVec.ofNat 32 (i 0).val
  let v5285 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5286 : Index := Scalar.indexCast v4139
  let c42_2195 : Index := 42#32
  ![v5285.toNat, v5286.toNat, 42]
def k0_off337 (i : grid0.Coords) : Fin 3 → Nat :=
  let arg0 : BitVec 32 := BitVec.ofNat 32 (i 0).val
  let v5288 : Index := Scalar.indexCast arg0
  let arg1 : BitVec 32 := BitVec.ofNat 32 (i 1).val
  let c32_i32_1709 : BitVec 32 := 32#32
  let v4138 : BitVec 32 := Scalar.muli arg1 c32_i32_1709
  let c3_i32 : BitVec 32 := 3#32
  let v4139 : BitVec 32 := Scalar.addi v4138 c3_i32
  let v5289 : Index := Scalar.indexCast v4139
  let c49_2196 : Index := 49#32
  ![v5288.toNat, v5289.toNat, 49]
def k0_off338 (v5281 : BitVec 32) : Fin 3 → Nat :=
  let c105_i32_2201 : BitVec 32 := 105#32
  let v5313 : BitVec 32 := Scalar.addi c105_i32_2201 v5281
  let v5314 : Index := Scalar.indexCast v5313
  let c0_2202 : Index := 0#32
  let c0_2203 : Index := 0#32
  ![v5314.toNat, 0, 0]

def k0_off339 (v5284 : BitVec 32) (c105_i32_2205 : BitVec 32) : Fin 3 → Nat :=
  let v5321 : BitVec 32 := Scalar.addi c105_i32_2205 v5284
  let v5322 : Index := Scalar.indexCast v5321
  let c0_2206 : Index := 0#32
  let c0_2207 : Index := 0#32
  ![v5322.toNat, 0, 0]

def k0_chk116 (v5284 : BitVec 32) : Prop :=
  (∀ (r : Fin 7), ∀ a, (k0_off339 v5284 (BitVec.ofNat 32 (105 + 5 * r.val))) a + S1x8x128.size a ≤ S1120x8x128.size a)
theorem k0_off339_inb : ∀ (v5284 : BitVec 32) (k0_hw116 : k0_chk116 v5284), ∀ (r : Fin 7), ∀ a, (k0_off339 v5284 (BitVec.ofNat 32 (105 + 5 * r.val))) a + S1x8x128.size a ≤ S1120x8x128.size a := fun v5284 k0_hw116 r => k0_hw116 r

def k0_off340 (v5281 : BitVec 32) (c110_i32_2210 : BitVec 32) : Fin 3 → Nat :=
  let v5331 : BitVec 32 := Scalar.addi c110_i32_2210 v5281
  let v5332 : Index := Scalar.indexCast v5331
  let c0_2211 : Index := 0#32
  let c0_2212 : Index := 0#32
  ![v5332.toNat, 0, 0]

def k0_chk115 (v5281 : BitVec 32) : Prop :=
  (∀ a, (k0_off338 v5281) a + S1x8x128.size a ≤ S1120x8x128.size a) ∧
  (∀ (r : Fin 6), ∀ a, (k0_off340 v5281 (BitVec.ofNat 32 (110 + 5 * r.val))) a + S1x8x128.size a ≤ S1120x8x128.size a)
theorem k0_off338_inb : ∀ (v5281 : BitVec 32) (k0_hw115 : k0_chk115 v5281), ∀ a, (k0_off338 v5281) a + S1x8x128.size a ≤ S1120x8x128.size a := fun v5281 k0_hw115 => k0_hw115.1
theorem k0_off340_inb : ∀ (v5281 : BitVec 32) (k0_hw115 : k0_chk115 v5281), ∀ (r : Fin 6), ∀ a, (k0_off340 v5281 (BitVec.ofNat 32 (110 + 5 * r.val))) a + S1x8x128.size a ≤ S1120x8x128.size a := fun v5281 k0_hw115 r => k0_hw115.2 r

def k0_off341 (i : grid0.Coords) : Fin 3 → Nat :=
  let arg0 : BitVec 32 := BitVec.ofNat 32 (i 0).val
  let v5518 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5519 : Index := Scalar.indexCast v5517
  let c0_2293 : Index := 0#32
  ![v5518.toNat, v5519.toNat, 0]
def k0_mult5 (v5520 : BitVec 32) : BitVec 32 :=
  v5520

def k0_chk117 (v5520 : BitVec 32) : Prop :=
  (8 ∣ (k0_mult5 v5520).toNat)
theorem k0_mult5_dvd : ∀ (v5520 : BitVec 32) (k0_hw117 : k0_chk117 v5520), 8 ∣ (k0_mult5 v5520).toNat := fun v5520 k0_hw117 => k0_hw117

def k0_off342 (i : grid0.Coords) : Fin 3 → Nat :=
  let arg0 : BitVec 32 := BitVec.ofNat 32 (i 0).val
  let v5522 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5523 : Index := Scalar.indexCast v5517
  let c1_2294 : Index := 1#32
  ![v5522.toNat, v5523.toNat, 1]
def k0_off343 (v5520 : BitVec 32) (v5524 : BitVec 32) : Fin 3 → Nat :=
  let v5525 : Index := Scalar.indexCast v5524
  let v5521 : BitVec 32 := v5520
  let v5526 : Index := Scalar.indexCast v5521
  let c0_2295 : Index := 0#32
  ![v5525.toNat, v5526.toNat, 0]

def k0_chk118 (v5520 : BitVec 32) (v5524 : BitVec 32) : Prop :=
  (∀ a, (k0_off343 v5520 v5524) a + S1x40x128.size a ≤ S256x64x128.size a)
theorem k0_off343_inb : ∀ (v5520 : BitVec 32) (v5524 : BitVec 32) (k0_hw118 : k0_chk118 v5520 v5524), ∀ a, (k0_off343 v5520 v5524) a + S1x40x128.size a ≤ S256x64x128.size a := fun v5520 v5524 k0_hw118 => k0_hw118

def k0_off344 (i : grid0.Coords) : Fin 3 → Nat :=
  let arg0 : BitVec 32 := BitVec.ofNat 32 (i 0).val
  let v5529 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5530 : Index := Scalar.indexCast v5517
  let c8_2296 : Index := 8#32
  ![v5529.toNat, v5530.toNat, 8]
def k0_off345 (v5520 : BitVec 32) (v5531 : BitVec 32) : Fin 3 → Nat :=
  let v5532 : Index := Scalar.indexCast v5531
  let v5521 : BitVec 32 := v5520
  let v5533 : Index := Scalar.indexCast v5521
  let c0_2297 : Index := 0#32
  ![v5532.toNat, v5533.toNat, 0]

def k0_chk119 (v5520 : BitVec 32) (v5531 : BitVec 32) : Prop :=
  (∀ a, (k0_off345 v5520 v5531) a + S1x40x128.size a ≤ S256x64x128.size a)
theorem k0_off345_inb : ∀ (v5520 : BitVec 32) (v5531 : BitVec 32) (k0_hw119 : k0_chk119 v5520 v5531), ∀ a, (k0_off345 v5520 v5531) a + S1x40x128.size a ≤ S256x64x128.size a := fun v5520 v5531 k0_hw119 => k0_hw119

def k0_off346 (i : grid0.Coords) : Fin 3 → Nat :=
  let arg0 : BitVec 32 := BitVec.ofNat 32 (i 0).val
  let v5537 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5538 : Index := Scalar.indexCast v5517
  let c15_2298 : Index := 15#32
  ![v5537.toNat, v5538.toNat, 15]
def k0_off347 (i : grid0.Coords) : Fin 3 → Nat :=
  let arg0 : BitVec 32 := BitVec.ofNat 32 (i 0).val
  let v5547 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5548 : Index := Scalar.indexCast v5517
  let c2_2303 : Index := 2#32
  ![v5547.toNat, v5548.toNat, 2]
def k0_off348 (v5520 : BitVec 32) (v5549 : BitVec 32) : Fin 3 → Nat :=
  let v5550 : Index := Scalar.indexCast v5549
  let v5521 : BitVec 32 := v5520
  let v5551 : Index := Scalar.indexCast v5521
  let c0_2304 : Index := 0#32
  ![v5550.toNat, v5551.toNat, 0]

def k0_chk120 (v5520 : BitVec 32) (v5549 : BitVec 32) : Prop :=
  (∀ a, (k0_off348 v5520 v5549) a + S1x40x128.size a ≤ S256x64x128.size a)
theorem k0_off348_inb : ∀ (v5520 : BitVec 32) (v5549 : BitVec 32) (k0_hw120 : k0_chk120 v5520 v5549), ∀ a, (k0_off348 v5520 v5549) a + S1x40x128.size a ≤ S256x64x128.size a := fun v5520 v5549 k0_hw120 => k0_hw120

def k0_off349 (i : grid0.Coords) : Fin 3 → Nat :=
  let arg0 : BitVec 32 := BitVec.ofNat 32 (i 0).val
  let v5554 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5555 : Index := Scalar.indexCast v5517
  let c9_2305 : Index := 9#32
  ![v5554.toNat, v5555.toNat, 9]
def k0_off350 (v5520 : BitVec 32) (v5556 : BitVec 32) : Fin 3 → Nat :=
  let v5557 : Index := Scalar.indexCast v5556
  let v5521 : BitVec 32 := v5520
  let v5558 : Index := Scalar.indexCast v5521
  let c0_2306 : Index := 0#32
  ![v5557.toNat, v5558.toNat, 0]

def k0_chk121 (v5520 : BitVec 32) (v5556 : BitVec 32) : Prop :=
  (∀ a, (k0_off350 v5520 v5556) a + S1x40x128.size a ≤ S256x64x128.size a)
theorem k0_off350_inb : ∀ (v5520 : BitVec 32) (v5556 : BitVec 32) (k0_hw121 : k0_chk121 v5520 v5556), ∀ a, (k0_off350 v5520 v5556) a + S1x40x128.size a ≤ S256x64x128.size a := fun v5520 v5556 k0_hw121 => k0_hw121

def k0_off351 (i : grid0.Coords) : Fin 3 → Nat :=
  let arg0 : BitVec 32 := BitVec.ofNat 32 (i 0).val
  let v5562 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5563 : Index := Scalar.indexCast v5517
  let c16_2307 : Index := 16#32
  ![v5562.toNat, v5563.toNat, 16]
def k0_off352 (i : grid0.Coords) : Fin 3 → Nat :=
  let arg0 : BitVec 32 := BitVec.ofNat 32 (i 0).val
  let v5572 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5573 : Index := Scalar.indexCast v5517
  let c3_2312 : Index := 3#32
  ![v5572.toNat, v5573.toNat, 3]
def k0_off353 (v5520 : BitVec 32) (v5574 : BitVec 32) : Fin 3 → Nat :=
  let v5575 : Index := Scalar.indexCast v5574
  let v5521 : BitVec 32 := v5520
  let v5576 : Index := Scalar.indexCast v5521
  let c0_2313 : Index := 0#32
  ![v5575.toNat, v5576.toNat, 0]

def k0_chk122 (v5520 : BitVec 32) (v5574 : BitVec 32) : Prop :=
  (∀ a, (k0_off353 v5520 v5574) a + S1x40x128.size a ≤ S256x64x128.size a)
theorem k0_off353_inb : ∀ (v5520 : BitVec 32) (v5574 : BitVec 32) (k0_hw122 : k0_chk122 v5520 v5574), ∀ a, (k0_off353 v5520 v5574) a + S1x40x128.size a ≤ S256x64x128.size a := fun v5520 v5574 k0_hw122 => k0_hw122

def k0_off354 (i : grid0.Coords) : Fin 3 → Nat :=
  let arg0 : BitVec 32 := BitVec.ofNat 32 (i 0).val
  let v5579 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5580 : Index := Scalar.indexCast v5517
  let c10_2314 : Index := 10#32
  ![v5579.toNat, v5580.toNat, 10]
def k0_off355 (v5520 : BitVec 32) (v5581 : BitVec 32) : Fin 3 → Nat :=
  let v5582 : Index := Scalar.indexCast v5581
  let v5521 : BitVec 32 := v5520
  let v5583 : Index := Scalar.indexCast v5521
  let c0_2315 : Index := 0#32
  ![v5582.toNat, v5583.toNat, 0]

def k0_chk123 (v5520 : BitVec 32) (v5581 : BitVec 32) : Prop :=
  (∀ a, (k0_off355 v5520 v5581) a + S1x40x128.size a ≤ S256x64x128.size a)
theorem k0_off355_inb : ∀ (v5520 : BitVec 32) (v5581 : BitVec 32) (k0_hw123 : k0_chk123 v5520 v5581), ∀ a, (k0_off355 v5520 v5581) a + S1x40x128.size a ≤ S256x64x128.size a := fun v5520 v5581 k0_hw123 => k0_hw123

def k0_off356 (i : grid0.Coords) : Fin 3 → Nat :=
  let arg0 : BitVec 32 := BitVec.ofNat 32 (i 0).val
  let v5587 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5588 : Index := Scalar.indexCast v5517
  let c17_2316 : Index := 17#32
  ![v5587.toNat, v5588.toNat, 17]
def k0_off357 (i : grid0.Coords) : Fin 3 → Nat :=
  let arg0 : BitVec 32 := BitVec.ofNat 32 (i 0).val
  let v5597 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5598 : Index := Scalar.indexCast v5517
  let c4_2321 : Index := 4#32
  ![v5597.toNat, v5598.toNat, 4]
def k0_off358 (v5520 : BitVec 32) (v5599 : BitVec 32) : Fin 3 → Nat :=
  let v5600 : Index := Scalar.indexCast v5599
  let v5521 : BitVec 32 := v5520
  let v5601 : Index := Scalar.indexCast v5521
  let c0_2322 : Index := 0#32
  ![v5600.toNat, v5601.toNat, 0]

def k0_chk124 (v5520 : BitVec 32) (v5599 : BitVec 32) : Prop :=
  (∀ a, (k0_off358 v5520 v5599) a + S1x40x128.size a ≤ S256x64x128.size a)
theorem k0_off358_inb : ∀ (v5520 : BitVec 32) (v5599 : BitVec 32) (k0_hw124 : k0_chk124 v5520 v5599), ∀ a, (k0_off358 v5520 v5599) a + S1x40x128.size a ≤ S256x64x128.size a := fun v5520 v5599 k0_hw124 => k0_hw124

def k0_off359 (i : grid0.Coords) : Fin 3 → Nat :=
  let arg0 : BitVec 32 := BitVec.ofNat 32 (i 0).val
  let v5604 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5605 : Index := Scalar.indexCast v5517
  let c11_2323 : Index := 11#32
  ![v5604.toNat, v5605.toNat, 11]
def k0_off360 (v5520 : BitVec 32) (v5606 : BitVec 32) : Fin 3 → Nat :=
  let v5607 : Index := Scalar.indexCast v5606
  let v5521 : BitVec 32 := v5520
  let v5608 : Index := Scalar.indexCast v5521
  let c0_2324 : Index := 0#32
  ![v5607.toNat, v5608.toNat, 0]

def k0_chk125 (v5520 : BitVec 32) (v5606 : BitVec 32) : Prop :=
  (∀ a, (k0_off360 v5520 v5606) a + S1x40x128.size a ≤ S256x64x128.size a)
theorem k0_off360_inb : ∀ (v5520 : BitVec 32) (v5606 : BitVec 32) (k0_hw125 : k0_chk125 v5520 v5606), ∀ a, (k0_off360 v5520 v5606) a + S1x40x128.size a ≤ S256x64x128.size a := fun v5520 v5606 k0_hw125 => k0_hw125

def k0_off361 (i : grid0.Coords) : Fin 3 → Nat :=
  let arg0 : BitVec 32 := BitVec.ofNat 32 (i 0).val
  let v5612 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5613 : Index := Scalar.indexCast v5517
  let c18_2325 : Index := 18#32
  ![v5612.toNat, v5613.toNat, 18]
def k0_off362 (i : grid0.Coords) : Fin 3 → Nat :=
  let arg0 : BitVec 32 := BitVec.ofNat 32 (i 0).val
  let v5622 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5623 : Index := Scalar.indexCast v5517
  let c5_2330 : Index := 5#32
  ![v5622.toNat, v5623.toNat, 5]
def k0_off363 (v5520 : BitVec 32) (v5624 : BitVec 32) : Fin 3 → Nat :=
  let v5625 : Index := Scalar.indexCast v5624
  let v5521 : BitVec 32 := v5520
  let v5626 : Index := Scalar.indexCast v5521
  let c0_2331 : Index := 0#32
  ![v5625.toNat, v5626.toNat, 0]

def k0_chk126 (v5520 : BitVec 32) (v5624 : BitVec 32) : Prop :=
  (∀ a, (k0_off363 v5520 v5624) a + S1x40x128.size a ≤ S256x64x128.size a)
theorem k0_off363_inb : ∀ (v5520 : BitVec 32) (v5624 : BitVec 32) (k0_hw126 : k0_chk126 v5520 v5624), ∀ a, (k0_off363 v5520 v5624) a + S1x40x128.size a ≤ S256x64x128.size a := fun v5520 v5624 k0_hw126 => k0_hw126

def k0_off364 (i : grid0.Coords) : Fin 3 → Nat :=
  let arg0 : BitVec 32 := BitVec.ofNat 32 (i 0).val
  let v5629 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5630 : Index := Scalar.indexCast v5517
  let c12_2332 : Index := 12#32
  ![v5629.toNat, v5630.toNat, 12]
def k0_off365 (v5520 : BitVec 32) (v5631 : BitVec 32) : Fin 3 → Nat :=
  let v5632 : Index := Scalar.indexCast v5631
  let v5521 : BitVec 32 := v5520
  let v5633 : Index := Scalar.indexCast v5521
  let c0_2333 : Index := 0#32
  ![v5632.toNat, v5633.toNat, 0]

def k0_chk127 (v5520 : BitVec 32) (v5631 : BitVec 32) : Prop :=
  (∀ a, (k0_off365 v5520 v5631) a + S1x40x128.size a ≤ S256x64x128.size a)
theorem k0_off365_inb : ∀ (v5520 : BitVec 32) (v5631 : BitVec 32) (k0_hw127 : k0_chk127 v5520 v5631), ∀ a, (k0_off365 v5520 v5631) a + S1x40x128.size a ≤ S256x64x128.size a := fun v5520 v5631 k0_hw127 => k0_hw127

def k0_off366 (i : grid0.Coords) : Fin 3 → Nat :=
  let arg0 : BitVec 32 := BitVec.ofNat 32 (i 0).val
  let v5637 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5638 : Index := Scalar.indexCast v5517
  let c19_2334 : Index := 19#32
  ![v5637.toNat, v5638.toNat, 19]
def k0_off367 (i : grid0.Coords) : Fin 3 → Nat :=
  let arg0 : BitVec 32 := BitVec.ofNat 32 (i 0).val
  let v5647 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5648 : Index := Scalar.indexCast v5517
  let c6_2339 : Index := 6#32
  ![v5647.toNat, v5648.toNat, 6]
def k0_off368 (v5520 : BitVec 32) (v5649 : BitVec 32) : Fin 3 → Nat :=
  let v5650 : Index := Scalar.indexCast v5649
  let v5521 : BitVec 32 := v5520
  let v5651 : Index := Scalar.indexCast v5521
  let c0_2340 : Index := 0#32
  ![v5650.toNat, v5651.toNat, 0]

def k0_chk128 (v5520 : BitVec 32) (v5649 : BitVec 32) : Prop :=
  (∀ a, (k0_off368 v5520 v5649) a + S1x40x128.size a ≤ S256x64x128.size a)
theorem k0_off368_inb : ∀ (v5520 : BitVec 32) (v5649 : BitVec 32) (k0_hw128 : k0_chk128 v5520 v5649), ∀ a, (k0_off368 v5520 v5649) a + S1x40x128.size a ≤ S256x64x128.size a := fun v5520 v5649 k0_hw128 => k0_hw128

def k0_off369 (i : grid0.Coords) : Fin 3 → Nat :=
  let arg0 : BitVec 32 := BitVec.ofNat 32 (i 0).val
  let v5654 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5655 : Index := Scalar.indexCast v5517
  let c13_2341 : Index := 13#32
  ![v5654.toNat, v5655.toNat, 13]
def k0_off370 (v5520 : BitVec 32) (v5656 : BitVec 32) : Fin 3 → Nat :=
  let v5657 : Index := Scalar.indexCast v5656
  let v5521 : BitVec 32 := v5520
  let v5658 : Index := Scalar.indexCast v5521
  let c0_2342 : Index := 0#32
  ![v5657.toNat, v5658.toNat, 0]

def k0_chk129 (v5520 : BitVec 32) (v5656 : BitVec 32) : Prop :=
  (∀ a, (k0_off370 v5520 v5656) a + S1x40x128.size a ≤ S256x64x128.size a)
theorem k0_off370_inb : ∀ (v5520 : BitVec 32) (v5656 : BitVec 32) (k0_hw129 : k0_chk129 v5520 v5656), ∀ a, (k0_off370 v5520 v5656) a + S1x40x128.size a ≤ S256x64x128.size a := fun v5520 v5656 k0_hw129 => k0_hw129

def k0_off371 (i : grid0.Coords) : Fin 3 → Nat :=
  let arg0 : BitVec 32 := BitVec.ofNat 32 (i 0).val
  let v5662 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5663 : Index := Scalar.indexCast v5517
  let c20_2343 : Index := 20#32
  ![v5662.toNat, v5663.toNat, 20]
def k0_off372 (i : grid0.Coords) : Fin 3 → Nat :=
  let arg0 : BitVec 32 := BitVec.ofNat 32 (i 0).val
  let v5672 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5673 : Index := Scalar.indexCast v5517
  let c7_2348 : Index := 7#32
  ![v5672.toNat, v5673.toNat, 7]
def k0_off373 (v5520 : BitVec 32) (v5674 : BitVec 32) : Fin 3 → Nat :=
  let v5675 : Index := Scalar.indexCast v5674
  let v5521 : BitVec 32 := v5520
  let v5676 : Index := Scalar.indexCast v5521
  let c0_2349 : Index := 0#32
  ![v5675.toNat, v5676.toNat, 0]

def k0_chk130 (v5520 : BitVec 32) (v5674 : BitVec 32) : Prop :=
  (∀ a, (k0_off373 v5520 v5674) a + S1x40x128.size a ≤ S256x64x128.size a)
theorem k0_off373_inb : ∀ (v5520 : BitVec 32) (v5674 : BitVec 32) (k0_hw130 : k0_chk130 v5520 v5674), ∀ a, (k0_off373 v5520 v5674) a + S1x40x128.size a ≤ S256x64x128.size a := fun v5520 v5674 k0_hw130 => k0_hw130

def k0_off374 (i : grid0.Coords) : Fin 3 → Nat :=
  let arg0 : BitVec 32 := BitVec.ofNat 32 (i 0).val
  let v5679 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5680 : Index := Scalar.indexCast v5517
  let c14_2350 : Index := 14#32
  ![v5679.toNat, v5680.toNat, 14]
def k0_off375 (v5520 : BitVec 32) (v5681 : BitVec 32) : Fin 3 → Nat :=
  let v5682 : Index := Scalar.indexCast v5681
  let v5521 : BitVec 32 := v5520
  let v5683 : Index := Scalar.indexCast v5521
  let c0_2351 : Index := 0#32
  ![v5682.toNat, v5683.toNat, 0]

def k0_chk131 (v5520 : BitVec 32) (v5681 : BitVec 32) : Prop :=
  (∀ a, (k0_off375 v5520 v5681) a + S1x40x128.size a ≤ S256x64x128.size a)
theorem k0_off375_inb : ∀ (v5520 : BitVec 32) (v5681 : BitVec 32) (k0_hw131 : k0_chk131 v5520 v5681), ∀ a, (k0_off375 v5520 v5681) a + S1x40x128.size a ≤ S256x64x128.size a := fun v5520 v5681 k0_hw131 => k0_hw131

def k0_off376 (i : grid0.Coords) : Fin 3 → Nat :=
  let arg0 : BitVec 32 := BitVec.ofNat 32 (i 0).val
  let v5687 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5688 : Index := Scalar.indexCast v5517
  let c21_2352 : Index := 21#32
  ![v5687.toNat, v5688.toNat, 21]
def k0_off377 (i : grid0.Coords) : Fin 3 → Nat :=
  let arg0 : BitVec 32 := BitVec.ofNat 32 (i 0).val
  let v5697 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5698 : Index := Scalar.indexCast v5517
  let c22_2357 : Index := 22#32
  ![v5697.toNat, v5698.toNat, 22]
def k0_off378 (i : grid0.Coords) : Fin 3 → Nat :=
  let arg0 : BitVec 32 := BitVec.ofNat 32 (i 0).val
  let v5700 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5701 : Index := Scalar.indexCast v5517
  let c29_2358 : Index := 29#32
  ![v5700.toNat, v5701.toNat, 29]
def k0_off379 (i : grid0.Coords) : Fin 3 → Nat :=
  let arg0 : BitVec 32 := BitVec.ofNat 32 (i 0).val
  let v5703 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5704 : Index := Scalar.indexCast v5517
  let c36_2359 : Index := 36#32
  ![v5703.toNat, v5704.toNat, 36]
def k0_off380 (i : grid0.Coords) : Fin 3 → Nat :=
  let arg0 : BitVec 32 := BitVec.ofNat 32 (i 0).val
  let v5706 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5707 : Index := Scalar.indexCast v5517
  let c43_2360 : Index := 43#32
  ![v5706.toNat, v5707.toNat, 43]
def k0_off381 (v5699 : BitVec 32) : Fin 3 → Nat :=
  let c140_i32 : BitVec 32 := 140#32
  let v5731 : BitVec 32 := Scalar.addi c140_i32 v5699
  let v5732 : Index := Scalar.indexCast v5731
  let c0_2365 : Index := 0#32
  let c0_2366 : Index := 0#32
  ![v5732.toNat, 0, 0]

def k0_off382 (v5702 : BitVec 32) (c140_i32_2368 : BitVec 32) : Fin 3 → Nat :=
  let v5739 : BitVec 32 := Scalar.addi c140_i32_2368 v5702
  let v5740 : Index := Scalar.indexCast v5739
  let c0_2369 : Index := 0#32
  let c0_2370 : Index := 0#32
  ![v5740.toNat, 0, 0]

def k0_chk133 (v5702 : BitVec 32) : Prop :=
  (∀ (r : Fin 7), ∀ a, (k0_off382 v5702 (BitVec.ofNat 32 (140 + 5 * r.val))) a + S1x8x128.size a ≤ S1120x8x128.size a)
theorem k0_off382_inb : ∀ (v5702 : BitVec 32) (k0_hw133 : k0_chk133 v5702), ∀ (r : Fin 7), ∀ a, (k0_off382 v5702 (BitVec.ofNat 32 (140 + 5 * r.val))) a + S1x8x128.size a ≤ S1120x8x128.size a := fun v5702 k0_hw133 r => k0_hw133 r

def k0_off383 (v5699 : BitVec 32) (c145_i32 : BitVec 32) : Fin 3 → Nat :=
  let v5749 : BitVec 32 := Scalar.addi c145_i32 v5699
  let v5750 : Index := Scalar.indexCast v5749
  let c0_2373 : Index := 0#32
  let c0_2374 : Index := 0#32
  ![v5750.toNat, 0, 0]

def k0_chk132 (v5699 : BitVec 32) : Prop :=
  (∀ a, (k0_off381 v5699) a + S1x8x128.size a ≤ S1120x8x128.size a) ∧
  (∀ (r : Fin 6), ∀ a, (k0_off383 v5699 (BitVec.ofNat 32 (145 + 5 * r.val))) a + S1x8x128.size a ≤ S1120x8x128.size a)
theorem k0_off381_inb : ∀ (v5699 : BitVec 32) (k0_hw132 : k0_chk132 v5699), ∀ a, (k0_off381 v5699) a + S1x8x128.size a ≤ S1120x8x128.size a := fun v5699 k0_hw132 => k0_hw132.1
theorem k0_off383_inb : ∀ (v5699 : BitVec 32) (k0_hw132 : k0_chk132 v5699), ∀ (r : Fin 6), ∀ a, (k0_off383 v5699 (BitVec.ofNat 32 (145 + 5 * r.val))) a + S1x8x128.size a ≤ S1120x8x128.size a := fun v5699 k0_hw132 r => k0_hw132.2 r

def k0_off384 (i : grid0.Coords) : Fin 3 → Nat :=
  let arg0 : BitVec 32 := BitVec.ofNat 32 (i 0).val
  let v5857 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5858 : Index := Scalar.indexCast v5517
  let c23_2421 : Index := 23#32
  ![v5857.toNat, v5858.toNat, 23]
def k0_off385 (i : grid0.Coords) : Fin 3 → Nat :=
  let arg0 : BitVec 32 := BitVec.ofNat 32 (i 0).val
  let v5860 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5861 : Index := Scalar.indexCast v5517
  let c30_2422 : Index := 30#32
  ![v5860.toNat, v5861.toNat, 30]
def k0_off386 (i : grid0.Coords) : Fin 3 → Nat :=
  let arg0 : BitVec 32 := BitVec.ofNat 32 (i 0).val
  let v5863 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5864 : Index := Scalar.indexCast v5517
  let c37_2423 : Index := 37#32
  ![v5863.toNat, v5864.toNat, 37]
def k0_off387 (i : grid0.Coords) : Fin 3 → Nat :=
  let arg0 : BitVec 32 := BitVec.ofNat 32 (i 0).val
  let v5866 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v5867 : Index := Scalar.indexCast v5517
  let c44_2424 : Index := 44#32
  ![v5866.toNat, v5867.toNat, 44]
def k0_off388 (v5859 : BitVec 32) : Fin 3 → Nat :=
  let c140_i32_2429 : BitVec 32 := 140#32
  let v5891 : BitVec 32 := Scalar.addi c140_i32_2429 v5859
  let v5892 : Index := Scalar.indexCast v5891
  let c0_2430 : Index := 0#32
  let c0_2431 : Index := 0#32
  ![v5892.toNat, 0, 0]

def k0_off389 (v5862 : BitVec 32) (c140_i32_2433 : BitVec 32) : Fin 3 → Nat :=
  let v5899 : BitVec 32 := Scalar.addi c140_i32_2433 v5862
  let v5900 : Index := Scalar.indexCast v5899
  let c0_2434 : Index := 0#32
  let c0_2435 : Index := 0#32
  ![v5900.toNat, 0, 0]

def k0_chk135 (v5862 : BitVec 32) : Prop :=
  (∀ (r : Fin 7), ∀ a, (k0_off389 v5862 (BitVec.ofNat 32 (140 + 5 * r.val))) a + S1x8x128.size a ≤ S1120x8x128.size a)
theorem k0_off389_inb : ∀ (v5862 : BitVec 32) (k0_hw135 : k0_chk135 v5862), ∀ (r : Fin 7), ∀ a, (k0_off389 v5862 (BitVec.ofNat 32 (140 + 5 * r.val))) a + S1x8x128.size a ≤ S1120x8x128.size a := fun v5862 k0_hw135 r => k0_hw135 r

def k0_off390 (v5859 : BitVec 32) (c145_i32_2438 : BitVec 32) : Fin 3 → Nat :=
  let v5909 : BitVec 32 := Scalar.addi c145_i32_2438 v5859
  let v5910 : Index := Scalar.indexCast v5909
  let c0_2439 : Index := 0#32
  let c0_2440 : Index := 0#32
  ![v5910.toNat, 0, 0]

def k0_chk134 (v5859 : BitVec 32) : Prop :=
  (∀ a, (k0_off388 v5859) a + S1x8x128.size a ≤ S1120x8x128.size a) ∧
  (∀ (r : Fin 6), ∀ a, (k0_off390 v5859 (BitVec.ofNat 32 (145 + 5 * r.val))) a + S1x8x128.size a ≤ S1120x8x128.size a)
theorem k0_off388_inb : ∀ (v5859 : BitVec 32) (k0_hw134 : k0_chk134 v5859), ∀ a, (k0_off388 v5859) a + S1x8x128.size a ≤ S1120x8x128.size a := fun v5859 k0_hw134 => k0_hw134.1
theorem k0_off390_inb : ∀ (v5859 : BitVec 32) (k0_hw134 : k0_chk134 v5859), ∀ (r : Fin 6), ∀ a, (k0_off390 v5859 (BitVec.ofNat 32 (145 + 5 * r.val))) a + S1x8x128.size a ≤ S1120x8x128.size a := fun v5859 k0_hw134 r => k0_hw134.2 r

def k0_off391 (i : grid0.Coords) : Fin 3 → Nat :=
  let arg0 : BitVec 32 := BitVec.ofNat 32 (i 0).val
  let v6017 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6018 : Index := Scalar.indexCast v5517
  let c24_2492 : Index := 24#32
  ![v6017.toNat, v6018.toNat, 24]
def k0_off392 (i : grid0.Coords) : Fin 3 → Nat :=
  let arg0 : BitVec 32 := BitVec.ofNat 32 (i 0).val
  let v6020 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6021 : Index := Scalar.indexCast v5517
  let c31_2493 : Index := 31#32
  ![v6020.toNat, v6021.toNat, 31]
def k0_off393 (i : grid0.Coords) : Fin 3 → Nat :=
  let arg0 : BitVec 32 := BitVec.ofNat 32 (i 0).val
  let v6023 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6024 : Index := Scalar.indexCast v5517
  let c38_2494 : Index := 38#32
  ![v6023.toNat, v6024.toNat, 38]
def k0_off394 (i : grid0.Coords) : Fin 3 → Nat :=
  let arg0 : BitVec 32 := BitVec.ofNat 32 (i 0).val
  let v6026 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6027 : Index := Scalar.indexCast v5517
  let c45_2495 : Index := 45#32
  ![v6026.toNat, v6027.toNat, 45]
def k0_off395 (v6019 : BitVec 32) : Fin 3 → Nat :=
  let c140_i32_2500 : BitVec 32 := 140#32
  let v6051 : BitVec 32 := Scalar.addi c140_i32_2500 v6019
  let v6052 : Index := Scalar.indexCast v6051
  let c0_2501 : Index := 0#32
  let c0_2502 : Index := 0#32
  ![v6052.toNat, 0, 0]

def k0_off396 (v6022 : BitVec 32) (c140_i32_2504 : BitVec 32) : Fin 3 → Nat :=
  let v6059 : BitVec 32 := Scalar.addi c140_i32_2504 v6022
  let v6060 : Index := Scalar.indexCast v6059
  let c0_2505 : Index := 0#32
  let c0_2506 : Index := 0#32
  ![v6060.toNat, 0, 0]

def k0_chk137 (v6022 : BitVec 32) : Prop :=
  (∀ (r : Fin 7), ∀ a, (k0_off396 v6022 (BitVec.ofNat 32 (140 + 5 * r.val))) a + S1x8x128.size a ≤ S1120x8x128.size a)
theorem k0_off396_inb : ∀ (v6022 : BitVec 32) (k0_hw137 : k0_chk137 v6022), ∀ (r : Fin 7), ∀ a, (k0_off396 v6022 (BitVec.ofNat 32 (140 + 5 * r.val))) a + S1x8x128.size a ≤ S1120x8x128.size a := fun v6022 k0_hw137 r => k0_hw137 r

def k0_off397 (v6019 : BitVec 32) (c145_i32_2509 : BitVec 32) : Fin 3 → Nat :=
  let v6069 : BitVec 32 := Scalar.addi c145_i32_2509 v6019
  let v6070 : Index := Scalar.indexCast v6069
  let c0_2510 : Index := 0#32
  let c0_2511 : Index := 0#32
  ![v6070.toNat, 0, 0]

def k0_chk136 (v6019 : BitVec 32) : Prop :=
  (∀ a, (k0_off395 v6019) a + S1x8x128.size a ≤ S1120x8x128.size a) ∧
  (∀ (r : Fin 6), ∀ a, (k0_off397 v6019 (BitVec.ofNat 32 (145 + 5 * r.val))) a + S1x8x128.size a ≤ S1120x8x128.size a)
theorem k0_off395_inb : ∀ (v6019 : BitVec 32) (k0_hw136 : k0_chk136 v6019), ∀ a, (k0_off395 v6019) a + S1x8x128.size a ≤ S1120x8x128.size a := fun v6019 k0_hw136 => k0_hw136.1
theorem k0_off397_inb : ∀ (v6019 : BitVec 32) (k0_hw136 : k0_chk136 v6019), ∀ (r : Fin 6), ∀ a, (k0_off397 v6019 (BitVec.ofNat 32 (145 + 5 * r.val))) a + S1x8x128.size a ≤ S1120x8x128.size a := fun v6019 k0_hw136 r => k0_hw136.2 r

def k0_off398 (i : grid0.Coords) : Fin 3 → Nat :=
  let arg0 : BitVec 32 := BitVec.ofNat 32 (i 0).val
  let v6177 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6178 : Index := Scalar.indexCast v5517
  let c25_2563 : Index := 25#32
  ![v6177.toNat, v6178.toNat, 25]
def k0_off399 (i : grid0.Coords) : Fin 3 → Nat :=
  let arg0 : BitVec 32 := BitVec.ofNat 32 (i 0).val
  let v6180 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6181 : Index := Scalar.indexCast v5517
  let c32_2564 : Index := 32#32
  ![v6180.toNat, v6181.toNat, 32]
def k0_off400 (i : grid0.Coords) : Fin 3 → Nat :=
  let arg0 : BitVec 32 := BitVec.ofNat 32 (i 0).val
  let v6183 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6184 : Index := Scalar.indexCast v5517
  let c39_2565 : Index := 39#32
  ![v6183.toNat, v6184.toNat, 39]
def k0_off401 (i : grid0.Coords) : Fin 3 → Nat :=
  let arg0 : BitVec 32 := BitVec.ofNat 32 (i 0).val
  let v6186 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6187 : Index := Scalar.indexCast v5517
  let c46_2566 : Index := 46#32
  ![v6186.toNat, v6187.toNat, 46]
def k0_off402 (v6179 : BitVec 32) : Fin 3 → Nat :=
  let c140_i32_2571 : BitVec 32 := 140#32
  let v6211 : BitVec 32 := Scalar.addi c140_i32_2571 v6179
  let v6212 : Index := Scalar.indexCast v6211
  let c0_2572 : Index := 0#32
  let c0_2573 : Index := 0#32
  ![v6212.toNat, 0, 0]

def k0_off403 (v6182 : BitVec 32) (c140_i32_2575 : BitVec 32) : Fin 3 → Nat :=
  let v6219 : BitVec 32 := Scalar.addi c140_i32_2575 v6182
  let v6220 : Index := Scalar.indexCast v6219
  let c0_2576 : Index := 0#32
  let c0_2577 : Index := 0#32
  ![v6220.toNat, 0, 0]

def k0_chk139 (v6182 : BitVec 32) : Prop :=
  (∀ (r : Fin 7), ∀ a, (k0_off403 v6182 (BitVec.ofNat 32 (140 + 5 * r.val))) a + S1x8x128.size a ≤ S1120x8x128.size a)
theorem k0_off403_inb : ∀ (v6182 : BitVec 32) (k0_hw139 : k0_chk139 v6182), ∀ (r : Fin 7), ∀ a, (k0_off403 v6182 (BitVec.ofNat 32 (140 + 5 * r.val))) a + S1x8x128.size a ≤ S1120x8x128.size a := fun v6182 k0_hw139 r => k0_hw139 r

def k0_off404 (v6179 : BitVec 32) (c145_i32_2580 : BitVec 32) : Fin 3 → Nat :=
  let v6229 : BitVec 32 := Scalar.addi c145_i32_2580 v6179
  let v6230 : Index := Scalar.indexCast v6229
  let c0_2581 : Index := 0#32
  let c0_2582 : Index := 0#32
  ![v6230.toNat, 0, 0]

def k0_chk138 (v6179 : BitVec 32) : Prop :=
  (∀ a, (k0_off402 v6179) a + S1x8x128.size a ≤ S1120x8x128.size a) ∧
  (∀ (r : Fin 6), ∀ a, (k0_off404 v6179 (BitVec.ofNat 32 (145 + 5 * r.val))) a + S1x8x128.size a ≤ S1120x8x128.size a)
theorem k0_off402_inb : ∀ (v6179 : BitVec 32) (k0_hw138 : k0_chk138 v6179), ∀ a, (k0_off402 v6179) a + S1x8x128.size a ≤ S1120x8x128.size a := fun v6179 k0_hw138 => k0_hw138.1
theorem k0_off404_inb : ∀ (v6179 : BitVec 32) (k0_hw138 : k0_chk138 v6179), ∀ (r : Fin 6), ∀ a, (k0_off404 v6179 (BitVec.ofNat 32 (145 + 5 * r.val))) a + S1x8x128.size a ≤ S1120x8x128.size a := fun v6179 k0_hw138 r => k0_hw138.2 r

def k0_off405 (i : grid0.Coords) : Fin 3 → Nat :=
  let arg0 : BitVec 32 := BitVec.ofNat 32 (i 0).val
  let v6337 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6338 : Index := Scalar.indexCast v5517
  let c26_2634 : Index := 26#32
  ![v6337.toNat, v6338.toNat, 26]
def k0_off406 (i : grid0.Coords) : Fin 3 → Nat :=
  let arg0 : BitVec 32 := BitVec.ofNat 32 (i 0).val
  let v6340 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6341 : Index := Scalar.indexCast v5517
  let c33_2635 : Index := 33#32
  ![v6340.toNat, v6341.toNat, 33]
def k0_off407 (i : grid0.Coords) : Fin 3 → Nat :=
  let arg0 : BitVec 32 := BitVec.ofNat 32 (i 0).val
  let v6343 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6344 : Index := Scalar.indexCast v5517
  let c40_2636 : Index := 40#32
  ![v6343.toNat, v6344.toNat, 40]
def k0_off408 (i : grid0.Coords) : Fin 3 → Nat :=
  let arg0 : BitVec 32 := BitVec.ofNat 32 (i 0).val
  let v6346 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6347 : Index := Scalar.indexCast v5517
  let c47_2637 : Index := 47#32
  ![v6346.toNat, v6347.toNat, 47]
def k0_off409 (v6339 : BitVec 32) : Fin 3 → Nat :=
  let c140_i32_2642 : BitVec 32 := 140#32
  let v6371 : BitVec 32 := Scalar.addi c140_i32_2642 v6339
  let v6372 : Index := Scalar.indexCast v6371
  let c0_2643 : Index := 0#32
  let c0_2644 : Index := 0#32
  ![v6372.toNat, 0, 0]

def k0_off410 (v6342 : BitVec 32) (c140_i32_2646 : BitVec 32) : Fin 3 → Nat :=
  let v6379 : BitVec 32 := Scalar.addi c140_i32_2646 v6342
  let v6380 : Index := Scalar.indexCast v6379
  let c0_2647 : Index := 0#32
  let c0_2648 : Index := 0#32
  ![v6380.toNat, 0, 0]

def k0_chk141 (v6342 : BitVec 32) : Prop :=
  (∀ (r : Fin 7), ∀ a, (k0_off410 v6342 (BitVec.ofNat 32 (140 + 5 * r.val))) a + S1x8x128.size a ≤ S1120x8x128.size a)
theorem k0_off410_inb : ∀ (v6342 : BitVec 32) (k0_hw141 : k0_chk141 v6342), ∀ (r : Fin 7), ∀ a, (k0_off410 v6342 (BitVec.ofNat 32 (140 + 5 * r.val))) a + S1x8x128.size a ≤ S1120x8x128.size a := fun v6342 k0_hw141 r => k0_hw141 r

def k0_off411 (v6339 : BitVec 32) (c145_i32_2651 : BitVec 32) : Fin 3 → Nat :=
  let v6389 : BitVec 32 := Scalar.addi c145_i32_2651 v6339
  let v6390 : Index := Scalar.indexCast v6389
  let c0_2652 : Index := 0#32
  let c0_2653 : Index := 0#32
  ![v6390.toNat, 0, 0]

def k0_chk140 (v6339 : BitVec 32) : Prop :=
  (∀ a, (k0_off409 v6339) a + S1x8x128.size a ≤ S1120x8x128.size a) ∧
  (∀ (r : Fin 6), ∀ a, (k0_off411 v6339 (BitVec.ofNat 32 (145 + 5 * r.val))) a + S1x8x128.size a ≤ S1120x8x128.size a)
theorem k0_off409_inb : ∀ (v6339 : BitVec 32) (k0_hw140 : k0_chk140 v6339), ∀ a, (k0_off409 v6339) a + S1x8x128.size a ≤ S1120x8x128.size a := fun v6339 k0_hw140 => k0_hw140.1
theorem k0_off411_inb : ∀ (v6339 : BitVec 32) (k0_hw140 : k0_chk140 v6339), ∀ (r : Fin 6), ∀ a, (k0_off411 v6339 (BitVec.ofNat 32 (145 + 5 * r.val))) a + S1x8x128.size a ≤ S1120x8x128.size a := fun v6339 k0_hw140 r => k0_hw140.2 r

def k0_off412 (i : grid0.Coords) : Fin 3 → Nat :=
  let arg0 : BitVec 32 := BitVec.ofNat 32 (i 0).val
  let v6497 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6498 : Index := Scalar.indexCast v5517
  let c27_2705 : Index := 27#32
  ![v6497.toNat, v6498.toNat, 27]
def k0_off413 (i : grid0.Coords) : Fin 3 → Nat :=
  let arg0 : BitVec 32 := BitVec.ofNat 32 (i 0).val
  let v6500 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6501 : Index := Scalar.indexCast v5517
  let c34_2706 : Index := 34#32
  ![v6500.toNat, v6501.toNat, 34]
def k0_off414 (i : grid0.Coords) : Fin 3 → Nat :=
  let arg0 : BitVec 32 := BitVec.ofNat 32 (i 0).val
  let v6503 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6504 : Index := Scalar.indexCast v5517
  let c41_2707 : Index := 41#32
  ![v6503.toNat, v6504.toNat, 41]
def k0_off415 (i : grid0.Coords) : Fin 3 → Nat :=
  let arg0 : BitVec 32 := BitVec.ofNat 32 (i 0).val
  let v6506 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6507 : Index := Scalar.indexCast v5517
  let c48_2708 : Index := 48#32
  ![v6506.toNat, v6507.toNat, 48]
def k0_off416 (v6499 : BitVec 32) : Fin 3 → Nat :=
  let c140_i32_2713 : BitVec 32 := 140#32
  let v6531 : BitVec 32 := Scalar.addi c140_i32_2713 v6499
  let v6532 : Index := Scalar.indexCast v6531
  let c0_2714 : Index := 0#32
  let c0_2715 : Index := 0#32
  ![v6532.toNat, 0, 0]

def k0_off417 (v6502 : BitVec 32) (c140_i32_2717 : BitVec 32) : Fin 3 → Nat :=
  let v6539 : BitVec 32 := Scalar.addi c140_i32_2717 v6502
  let v6540 : Index := Scalar.indexCast v6539
  let c0_2718 : Index := 0#32
  let c0_2719 : Index := 0#32
  ![v6540.toNat, 0, 0]

def k0_chk143 (v6502 : BitVec 32) : Prop :=
  (∀ (r : Fin 7), ∀ a, (k0_off417 v6502 (BitVec.ofNat 32 (140 + 5 * r.val))) a + S1x8x128.size a ≤ S1120x8x128.size a)
theorem k0_off417_inb : ∀ (v6502 : BitVec 32) (k0_hw143 : k0_chk143 v6502), ∀ (r : Fin 7), ∀ a, (k0_off417 v6502 (BitVec.ofNat 32 (140 + 5 * r.val))) a + S1x8x128.size a ≤ S1120x8x128.size a := fun v6502 k0_hw143 r => k0_hw143 r

def k0_off418 (v6499 : BitVec 32) (c145_i32_2722 : BitVec 32) : Fin 3 → Nat :=
  let v6549 : BitVec 32 := Scalar.addi c145_i32_2722 v6499
  let v6550 : Index := Scalar.indexCast v6549
  let c0_2723 : Index := 0#32
  let c0_2724 : Index := 0#32
  ![v6550.toNat, 0, 0]

def k0_chk142 (v6499 : BitVec 32) : Prop :=
  (∀ a, (k0_off416 v6499) a + S1x8x128.size a ≤ S1120x8x128.size a) ∧
  (∀ (r : Fin 6), ∀ a, (k0_off418 v6499 (BitVec.ofNat 32 (145 + 5 * r.val))) a + S1x8x128.size a ≤ S1120x8x128.size a)
theorem k0_off416_inb : ∀ (v6499 : BitVec 32) (k0_hw142 : k0_chk142 v6499), ∀ a, (k0_off416 v6499) a + S1x8x128.size a ≤ S1120x8x128.size a := fun v6499 k0_hw142 => k0_hw142.1
theorem k0_off418_inb : ∀ (v6499 : BitVec 32) (k0_hw142 : k0_chk142 v6499), ∀ (r : Fin 6), ∀ a, (k0_off418 v6499 (BitVec.ofNat 32 (145 + 5 * r.val))) a + S1x8x128.size a ≤ S1120x8x128.size a := fun v6499 k0_hw142 r => k0_hw142.2 r

def k0_off419 (i : grid0.Coords) : Fin 3 → Nat :=
  let arg0 : BitVec 32 := BitVec.ofNat 32 (i 0).val
  let v6657 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6658 : Index := Scalar.indexCast v5517
  let c28_2776 : Index := 28#32
  ![v6657.toNat, v6658.toNat, 28]
def k0_off420 (i : grid0.Coords) : Fin 3 → Nat :=
  let arg0 : BitVec 32 := BitVec.ofNat 32 (i 0).val
  let v6660 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6661 : Index := Scalar.indexCast v5517
  let c35_2777 : Index := 35#32
  ![v6660.toNat, v6661.toNat, 35]
def k0_off421 (i : grid0.Coords) : Fin 3 → Nat :=
  let arg0 : BitVec 32 := BitVec.ofNat 32 (i 0).val
  let v6663 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6664 : Index := Scalar.indexCast v5517
  let c42_2778 : Index := 42#32
  ![v6663.toNat, v6664.toNat, 42]
def k0_off422 (i : grid0.Coords) : Fin 3 → Nat :=
  let arg0 : BitVec 32 := BitVec.ofNat 32 (i 0).val
  let v6666 : Index := Scalar.indexCast arg0
  let arg1 : BitVec 32 := BitVec.ofNat 32 (i 1).val
  let c32_i32_2292 : BitVec 32 := 32#32
  let v5516 : BitVec 32 := Scalar.muli arg1 c32_i32_2292
  let c4_i32 : BitVec 32 := 4#32
  let v5517 : BitVec 32 := Scalar.addi v5516 c4_i32
  let v6667 : Index := Scalar.indexCast v5517
  let c49_2779 : Index := 49#32
  ![v6666.toNat, v6667.toNat, 49]
def k0_off423 (v6659 : BitVec 32) : Fin 3 → Nat :=
  let c140_i32_2784 : BitVec 32 := 140#32
  let v6691 : BitVec 32 := Scalar.addi c140_i32_2784 v6659
  let v6692 : Index := Scalar.indexCast v6691
  let c0_2785 : Index := 0#32
  let c0_2786 : Index := 0#32
  ![v6692.toNat, 0, 0]

def k0_off424 (v6662 : BitVec 32) (c140_i32_2788 : BitVec 32) : Fin 3 → Nat :=
  let v6699 : BitVec 32 := Scalar.addi c140_i32_2788 v6662
  let v6700 : Index := Scalar.indexCast v6699
  let c0_2789 : Index := 0#32
  let c0_2790 : Index := 0#32
  ![v6700.toNat, 0, 0]

def k0_chk145 (v6662 : BitVec 32) : Prop :=
  (∀ (r : Fin 7), ∀ a, (k0_off424 v6662 (BitVec.ofNat 32 (140 + 5 * r.val))) a + S1x8x128.size a ≤ S1120x8x128.size a)
theorem k0_off424_inb : ∀ (v6662 : BitVec 32) (k0_hw145 : k0_chk145 v6662), ∀ (r : Fin 7), ∀ a, (k0_off424 v6662 (BitVec.ofNat 32 (140 + 5 * r.val))) a + S1x8x128.size a ≤ S1120x8x128.size a := fun v6662 k0_hw145 r => k0_hw145 r

def k0_off425 (v6659 : BitVec 32) (c145_i32_2793 : BitVec 32) : Fin 3 → Nat :=
  let v6709 : BitVec 32 := Scalar.addi c145_i32_2793 v6659
  let v6710 : Index := Scalar.indexCast v6709
  let c0_2794 : Index := 0#32
  let c0_2795 : Index := 0#32
  ![v6710.toNat, 0, 0]

def k0_chk144 (v6659 : BitVec 32) : Prop :=
  (∀ a, (k0_off423 v6659) a + S1x8x128.size a ≤ S1120x8x128.size a) ∧
  (∀ (r : Fin 6), ∀ a, (k0_off425 v6659 (BitVec.ofNat 32 (145 + 5 * r.val))) a + S1x8x128.size a ≤ S1120x8x128.size a)
theorem k0_off423_inb : ∀ (v6659 : BitVec 32) (k0_hw144 : k0_chk144 v6659), ∀ a, (k0_off423 v6659) a + S1x8x128.size a ≤ S1120x8x128.size a := fun v6659 k0_hw144 => k0_hw144.1
theorem k0_off425_inb : ∀ (v6659 : BitVec 32) (k0_hw144 : k0_chk144 v6659), ∀ (r : Fin 6), ∀ a, (k0_off425 v6659 (BitVec.ofNat 32 (145 + 5 * r.val))) a + S1x8x128.size a ≤ S1120x8x128.size a := fun v6659 k0_hw144 r => k0_hw144.2 r

def k0_off426 (i : grid0.Coords) : Fin 3 → Nat :=
  let arg0 : BitVec 32 := BitVec.ofNat 32 (i 0).val
  let v6896 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6897 : Index := Scalar.indexCast v6895
  let c0_2877 : Index := 0#32
  ![v6896.toNat, v6897.toNat, 0]
def k0_mult6 (v6898 : BitVec 32) : BitVec 32 :=
  v6898

def k0_chk146 (v6898 : BitVec 32) : Prop :=
  (8 ∣ (k0_mult6 v6898).toNat)
theorem k0_mult6_dvd : ∀ (v6898 : BitVec 32) (k0_hw146 : k0_chk146 v6898), 8 ∣ (k0_mult6 v6898).toNat := fun v6898 k0_hw146 => k0_hw146

def k0_off427 (i : grid0.Coords) : Fin 3 → Nat :=
  let arg0 : BitVec 32 := BitVec.ofNat 32 (i 0).val
  let v6900 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6901 : Index := Scalar.indexCast v6895
  let c1_2878 : Index := 1#32
  ![v6900.toNat, v6901.toNat, 1]
def k0_off428 (v6898 : BitVec 32) (v6902 : BitVec 32) : Fin 3 → Nat :=
  let v6903 : Index := Scalar.indexCast v6902
  let v6899 : BitVec 32 := v6898
  let v6904 : Index := Scalar.indexCast v6899
  let c0_2879 : Index := 0#32
  ![v6903.toNat, v6904.toNat, 0]

def k0_chk147 (v6898 : BitVec 32) (v6902 : BitVec 32) : Prop :=
  (∀ a, (k0_off428 v6898 v6902) a + S1x40x128.size a ≤ S256x64x128.size a)
theorem k0_off428_inb : ∀ (v6898 : BitVec 32) (v6902 : BitVec 32) (k0_hw147 : k0_chk147 v6898 v6902), ∀ a, (k0_off428 v6898 v6902) a + S1x40x128.size a ≤ S256x64x128.size a := fun v6898 v6902 k0_hw147 => k0_hw147

def k0_off429 (i : grid0.Coords) : Fin 3 → Nat :=
  let arg0 : BitVec 32 := BitVec.ofNat 32 (i 0).val
  let v6907 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6908 : Index := Scalar.indexCast v6895
  let c8_2880 : Index := 8#32
  ![v6907.toNat, v6908.toNat, 8]
def k0_off430 (v6898 : BitVec 32) (v6909 : BitVec 32) : Fin 3 → Nat :=
  let v6910 : Index := Scalar.indexCast v6909
  let v6899 : BitVec 32 := v6898
  let v6911 : Index := Scalar.indexCast v6899
  let c0_2881 : Index := 0#32
  ![v6910.toNat, v6911.toNat, 0]

def k0_chk148 (v6898 : BitVec 32) (v6909 : BitVec 32) : Prop :=
  (∀ a, (k0_off430 v6898 v6909) a + S1x40x128.size a ≤ S256x64x128.size a)
theorem k0_off430_inb : ∀ (v6898 : BitVec 32) (v6909 : BitVec 32) (k0_hw148 : k0_chk148 v6898 v6909), ∀ a, (k0_off430 v6898 v6909) a + S1x40x128.size a ≤ S256x64x128.size a := fun v6898 v6909 k0_hw148 => k0_hw148

def k0_off431 (i : grid0.Coords) : Fin 3 → Nat :=
  let arg0 : BitVec 32 := BitVec.ofNat 32 (i 0).val
  let v6915 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6916 : Index := Scalar.indexCast v6895
  let c15_2882 : Index := 15#32
  ![v6915.toNat, v6916.toNat, 15]
def k0_off432 (i : grid0.Coords) : Fin 3 → Nat :=
  let arg0 : BitVec 32 := BitVec.ofNat 32 (i 0).val
  let v6925 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6926 : Index := Scalar.indexCast v6895
  let c2_2887 : Index := 2#32
  ![v6925.toNat, v6926.toNat, 2]
def k0_off433 (v6898 : BitVec 32) (v6927 : BitVec 32) : Fin 3 → Nat :=
  let v6928 : Index := Scalar.indexCast v6927
  let v6899 : BitVec 32 := v6898
  let v6929 : Index := Scalar.indexCast v6899
  let c0_2888 : Index := 0#32
  ![v6928.toNat, v6929.toNat, 0]

def k0_chk149 (v6898 : BitVec 32) (v6927 : BitVec 32) : Prop :=
  (∀ a, (k0_off433 v6898 v6927) a + S1x40x128.size a ≤ S256x64x128.size a)
theorem k0_off433_inb : ∀ (v6898 : BitVec 32) (v6927 : BitVec 32) (k0_hw149 : k0_chk149 v6898 v6927), ∀ a, (k0_off433 v6898 v6927) a + S1x40x128.size a ≤ S256x64x128.size a := fun v6898 v6927 k0_hw149 => k0_hw149

def k0_off434 (i : grid0.Coords) : Fin 3 → Nat :=
  let arg0 : BitVec 32 := BitVec.ofNat 32 (i 0).val
  let v6932 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6933 : Index := Scalar.indexCast v6895
  let c9_2889 : Index := 9#32
  ![v6932.toNat, v6933.toNat, 9]
def k0_off435 (v6898 : BitVec 32) (v6934 : BitVec 32) : Fin 3 → Nat :=
  let v6935 : Index := Scalar.indexCast v6934
  let v6899 : BitVec 32 := v6898
  let v6936 : Index := Scalar.indexCast v6899
  let c0_2890 : Index := 0#32
  ![v6935.toNat, v6936.toNat, 0]

def k0_chk150 (v6898 : BitVec 32) (v6934 : BitVec 32) : Prop :=
  (∀ a, (k0_off435 v6898 v6934) a + S1x40x128.size a ≤ S256x64x128.size a)
theorem k0_off435_inb : ∀ (v6898 : BitVec 32) (v6934 : BitVec 32) (k0_hw150 : k0_chk150 v6898 v6934), ∀ a, (k0_off435 v6898 v6934) a + S1x40x128.size a ≤ S256x64x128.size a := fun v6898 v6934 k0_hw150 => k0_hw150

def k0_off436 (i : grid0.Coords) : Fin 3 → Nat :=
  let arg0 : BitVec 32 := BitVec.ofNat 32 (i 0).val
  let v6940 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6941 : Index := Scalar.indexCast v6895
  let c16_2891 : Index := 16#32
  ![v6940.toNat, v6941.toNat, 16]
def k0_off437 (i : grid0.Coords) : Fin 3 → Nat :=
  let arg0 : BitVec 32 := BitVec.ofNat 32 (i 0).val
  let v6950 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6951 : Index := Scalar.indexCast v6895
  let c3_2896 : Index := 3#32
  ![v6950.toNat, v6951.toNat, 3]
def k0_off438 (v6898 : BitVec 32) (v6952 : BitVec 32) : Fin 3 → Nat :=
  let v6953 : Index := Scalar.indexCast v6952
  let v6899 : BitVec 32 := v6898
  let v6954 : Index := Scalar.indexCast v6899
  let c0_2897 : Index := 0#32
  ![v6953.toNat, v6954.toNat, 0]

def k0_chk151 (v6898 : BitVec 32) (v6952 : BitVec 32) : Prop :=
  (∀ a, (k0_off438 v6898 v6952) a + S1x40x128.size a ≤ S256x64x128.size a)
theorem k0_off438_inb : ∀ (v6898 : BitVec 32) (v6952 : BitVec 32) (k0_hw151 : k0_chk151 v6898 v6952), ∀ a, (k0_off438 v6898 v6952) a + S1x40x128.size a ≤ S256x64x128.size a := fun v6898 v6952 k0_hw151 => k0_hw151

def k0_off439 (i : grid0.Coords) : Fin 3 → Nat :=
  let arg0 : BitVec 32 := BitVec.ofNat 32 (i 0).val
  let v6957 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6958 : Index := Scalar.indexCast v6895
  let c10_2898 : Index := 10#32
  ![v6957.toNat, v6958.toNat, 10]
def k0_off440 (v6898 : BitVec 32) (v6959 : BitVec 32) : Fin 3 → Nat :=
  let v6960 : Index := Scalar.indexCast v6959
  let v6899 : BitVec 32 := v6898
  let v6961 : Index := Scalar.indexCast v6899
  let c0_2899 : Index := 0#32
  ![v6960.toNat, v6961.toNat, 0]

def k0_chk152 (v6898 : BitVec 32) (v6959 : BitVec 32) : Prop :=
  (∀ a, (k0_off440 v6898 v6959) a + S1x40x128.size a ≤ S256x64x128.size a)
theorem k0_off440_inb : ∀ (v6898 : BitVec 32) (v6959 : BitVec 32) (k0_hw152 : k0_chk152 v6898 v6959), ∀ a, (k0_off440 v6898 v6959) a + S1x40x128.size a ≤ S256x64x128.size a := fun v6898 v6959 k0_hw152 => k0_hw152

def k0_off441 (i : grid0.Coords) : Fin 3 → Nat :=
  let arg0 : BitVec 32 := BitVec.ofNat 32 (i 0).val
  let v6965 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6966 : Index := Scalar.indexCast v6895
  let c17_2900 : Index := 17#32
  ![v6965.toNat, v6966.toNat, 17]
def k0_off442 (i : grid0.Coords) : Fin 3 → Nat :=
  let arg0 : BitVec 32 := BitVec.ofNat 32 (i 0).val
  let v6975 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6976 : Index := Scalar.indexCast v6895
  let c4_2905 : Index := 4#32
  ![v6975.toNat, v6976.toNat, 4]
def k0_off443 (v6898 : BitVec 32) (v6977 : BitVec 32) : Fin 3 → Nat :=
  let v6978 : Index := Scalar.indexCast v6977
  let v6899 : BitVec 32 := v6898
  let v6979 : Index := Scalar.indexCast v6899
  let c0_2906 : Index := 0#32
  ![v6978.toNat, v6979.toNat, 0]

def k0_chk153 (v6898 : BitVec 32) (v6977 : BitVec 32) : Prop :=
  (∀ a, (k0_off443 v6898 v6977) a + S1x40x128.size a ≤ S256x64x128.size a)
theorem k0_off443_inb : ∀ (v6898 : BitVec 32) (v6977 : BitVec 32) (k0_hw153 : k0_chk153 v6898 v6977), ∀ a, (k0_off443 v6898 v6977) a + S1x40x128.size a ≤ S256x64x128.size a := fun v6898 v6977 k0_hw153 => k0_hw153

def k0_off444 (i : grid0.Coords) : Fin 3 → Nat :=
  let arg0 : BitVec 32 := BitVec.ofNat 32 (i 0).val
  let v6982 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6983 : Index := Scalar.indexCast v6895
  let c11_2907 : Index := 11#32
  ![v6982.toNat, v6983.toNat, 11]
def k0_off445 (v6898 : BitVec 32) (v6984 : BitVec 32) : Fin 3 → Nat :=
  let v6985 : Index := Scalar.indexCast v6984
  let v6899 : BitVec 32 := v6898
  let v6986 : Index := Scalar.indexCast v6899
  let c0_2908 : Index := 0#32
  ![v6985.toNat, v6986.toNat, 0]

def k0_chk154 (v6898 : BitVec 32) (v6984 : BitVec 32) : Prop :=
  (∀ a, (k0_off445 v6898 v6984) a + S1x40x128.size a ≤ S256x64x128.size a)
theorem k0_off445_inb : ∀ (v6898 : BitVec 32) (v6984 : BitVec 32) (k0_hw154 : k0_chk154 v6898 v6984), ∀ a, (k0_off445 v6898 v6984) a + S1x40x128.size a ≤ S256x64x128.size a := fun v6898 v6984 k0_hw154 => k0_hw154

def k0_off446 (i : grid0.Coords) : Fin 3 → Nat :=
  let arg0 : BitVec 32 := BitVec.ofNat 32 (i 0).val
  let v6990 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v6991 : Index := Scalar.indexCast v6895
  let c18_2909 : Index := 18#32
  ![v6990.toNat, v6991.toNat, 18]
def k0_off447 (i : grid0.Coords) : Fin 3 → Nat :=
  let arg0 : BitVec 32 := BitVec.ofNat 32 (i 0).val
  let v7000 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7001 : Index := Scalar.indexCast v6895
  let c5_2914 : Index := 5#32
  ![v7000.toNat, v7001.toNat, 5]
def k0_off448 (v6898 : BitVec 32) (v7002 : BitVec 32) : Fin 3 → Nat :=
  let v7003 : Index := Scalar.indexCast v7002
  let v6899 : BitVec 32 := v6898
  let v7004 : Index := Scalar.indexCast v6899
  let c0_2915 : Index := 0#32
  ![v7003.toNat, v7004.toNat, 0]

def k0_chk155 (v6898 : BitVec 32) (v7002 : BitVec 32) : Prop :=
  (∀ a, (k0_off448 v6898 v7002) a + S1x40x128.size a ≤ S256x64x128.size a)
theorem k0_off448_inb : ∀ (v6898 : BitVec 32) (v7002 : BitVec 32) (k0_hw155 : k0_chk155 v6898 v7002), ∀ a, (k0_off448 v6898 v7002) a + S1x40x128.size a ≤ S256x64x128.size a := fun v6898 v7002 k0_hw155 => k0_hw155

def k0_off449 (i : grid0.Coords) : Fin 3 → Nat :=
  let arg0 : BitVec 32 := BitVec.ofNat 32 (i 0).val
  let v7007 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7008 : Index := Scalar.indexCast v6895
  let c12_2916 : Index := 12#32
  ![v7007.toNat, v7008.toNat, 12]
def k0_off450 (v6898 : BitVec 32) (v7009 : BitVec 32) : Fin 3 → Nat :=
  let v7010 : Index := Scalar.indexCast v7009
  let v6899 : BitVec 32 := v6898
  let v7011 : Index := Scalar.indexCast v6899
  let c0_2917 : Index := 0#32
  ![v7010.toNat, v7011.toNat, 0]

def k0_chk156 (v6898 : BitVec 32) (v7009 : BitVec 32) : Prop :=
  (∀ a, (k0_off450 v6898 v7009) a + S1x40x128.size a ≤ S256x64x128.size a)
theorem k0_off450_inb : ∀ (v6898 : BitVec 32) (v7009 : BitVec 32) (k0_hw156 : k0_chk156 v6898 v7009), ∀ a, (k0_off450 v6898 v7009) a + S1x40x128.size a ≤ S256x64x128.size a := fun v6898 v7009 k0_hw156 => k0_hw156

def k0_off451 (i : grid0.Coords) : Fin 3 → Nat :=
  let arg0 : BitVec 32 := BitVec.ofNat 32 (i 0).val
  let v7015 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7016 : Index := Scalar.indexCast v6895
  let c19_2918 : Index := 19#32
  ![v7015.toNat, v7016.toNat, 19]
def k0_off452 (i : grid0.Coords) : Fin 3 → Nat :=
  let arg0 : BitVec 32 := BitVec.ofNat 32 (i 0).val
  let v7025 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7026 : Index := Scalar.indexCast v6895
  let c6_2923 : Index := 6#32
  ![v7025.toNat, v7026.toNat, 6]
def k0_off453 (v6898 : BitVec 32) (v7027 : BitVec 32) : Fin 3 → Nat :=
  let v7028 : Index := Scalar.indexCast v7027
  let v6899 : BitVec 32 := v6898
  let v7029 : Index := Scalar.indexCast v6899
  let c0_2924 : Index := 0#32
  ![v7028.toNat, v7029.toNat, 0]

def k0_chk157 (v6898 : BitVec 32) (v7027 : BitVec 32) : Prop :=
  (∀ a, (k0_off453 v6898 v7027) a + S1x40x128.size a ≤ S256x64x128.size a)
theorem k0_off453_inb : ∀ (v6898 : BitVec 32) (v7027 : BitVec 32) (k0_hw157 : k0_chk157 v6898 v7027), ∀ a, (k0_off453 v6898 v7027) a + S1x40x128.size a ≤ S256x64x128.size a := fun v6898 v7027 k0_hw157 => k0_hw157

def k0_off454 (i : grid0.Coords) : Fin 3 → Nat :=
  let arg0 : BitVec 32 := BitVec.ofNat 32 (i 0).val
  let v7032 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7033 : Index := Scalar.indexCast v6895
  let c13_2925 : Index := 13#32
  ![v7032.toNat, v7033.toNat, 13]
def k0_off455 (v6898 : BitVec 32) (v7034 : BitVec 32) : Fin 3 → Nat :=
  let v7035 : Index := Scalar.indexCast v7034
  let v6899 : BitVec 32 := v6898
  let v7036 : Index := Scalar.indexCast v6899
  let c0_2926 : Index := 0#32
  ![v7035.toNat, v7036.toNat, 0]

def k0_chk158 (v6898 : BitVec 32) (v7034 : BitVec 32) : Prop :=
  (∀ a, (k0_off455 v6898 v7034) a + S1x40x128.size a ≤ S256x64x128.size a)
theorem k0_off455_inb : ∀ (v6898 : BitVec 32) (v7034 : BitVec 32) (k0_hw158 : k0_chk158 v6898 v7034), ∀ a, (k0_off455 v6898 v7034) a + S1x40x128.size a ≤ S256x64x128.size a := fun v6898 v7034 k0_hw158 => k0_hw158

def k0_off456 (i : grid0.Coords) : Fin 3 → Nat :=
  let arg0 : BitVec 32 := BitVec.ofNat 32 (i 0).val
  let v7040 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7041 : Index := Scalar.indexCast v6895
  let c20_2927 : Index := 20#32
  ![v7040.toNat, v7041.toNat, 20]
def k0_off457 (i : grid0.Coords) : Fin 3 → Nat :=
  let arg0 : BitVec 32 := BitVec.ofNat 32 (i 0).val
  let v7050 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7051 : Index := Scalar.indexCast v6895
  let c7_2932 : Index := 7#32
  ![v7050.toNat, v7051.toNat, 7]
def k0_off458 (v6898 : BitVec 32) (v7052 : BitVec 32) : Fin 3 → Nat :=
  let v7053 : Index := Scalar.indexCast v7052
  let v6899 : BitVec 32 := v6898
  let v7054 : Index := Scalar.indexCast v6899
  let c0_2933 : Index := 0#32
  ![v7053.toNat, v7054.toNat, 0]

def k0_chk159 (v6898 : BitVec 32) (v7052 : BitVec 32) : Prop :=
  (∀ a, (k0_off458 v6898 v7052) a + S1x40x128.size a ≤ S256x64x128.size a)
theorem k0_off458_inb : ∀ (v6898 : BitVec 32) (v7052 : BitVec 32) (k0_hw159 : k0_chk159 v6898 v7052), ∀ a, (k0_off458 v6898 v7052) a + S1x40x128.size a ≤ S256x64x128.size a := fun v6898 v7052 k0_hw159 => k0_hw159

def k0_off459 (i : grid0.Coords) : Fin 3 → Nat :=
  let arg0 : BitVec 32 := BitVec.ofNat 32 (i 0).val
  let v7057 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7058 : Index := Scalar.indexCast v6895
  let c14_2934 : Index := 14#32
  ![v7057.toNat, v7058.toNat, 14]
def k0_off460 (v6898 : BitVec 32) (v7059 : BitVec 32) : Fin 3 → Nat :=
  let v7060 : Index := Scalar.indexCast v7059
  let v6899 : BitVec 32 := v6898
  let v7061 : Index := Scalar.indexCast v6899
  let c0_2935 : Index := 0#32
  ![v7060.toNat, v7061.toNat, 0]

def k0_chk160 (v6898 : BitVec 32) (v7059 : BitVec 32) : Prop :=
  (∀ a, (k0_off460 v6898 v7059) a + S1x40x128.size a ≤ S256x64x128.size a)
theorem k0_off460_inb : ∀ (v6898 : BitVec 32) (v7059 : BitVec 32) (k0_hw160 : k0_chk160 v6898 v7059), ∀ a, (k0_off460 v6898 v7059) a + S1x40x128.size a ≤ S256x64x128.size a := fun v6898 v7059 k0_hw160 => k0_hw160

def k0_off461 (i : grid0.Coords) : Fin 3 → Nat :=
  let arg0 : BitVec 32 := BitVec.ofNat 32 (i 0).val
  let v7065 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7066 : Index := Scalar.indexCast v6895
  let c21_2936 : Index := 21#32
  ![v7065.toNat, v7066.toNat, 21]
def k0_off462 (i : grid0.Coords) : Fin 3 → Nat :=
  let arg0 : BitVec 32 := BitVec.ofNat 32 (i 0).val
  let v7075 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7076 : Index := Scalar.indexCast v6895
  let c22_2941 : Index := 22#32
  ![v7075.toNat, v7076.toNat, 22]
def k0_off463 (i : grid0.Coords) : Fin 3 → Nat :=
  let arg0 : BitVec 32 := BitVec.ofNat 32 (i 0).val
  let v7078 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7079 : Index := Scalar.indexCast v6895
  let c29_2942 : Index := 29#32
  ![v7078.toNat, v7079.toNat, 29]
def k0_off464 (i : grid0.Coords) : Fin 3 → Nat :=
  let arg0 : BitVec 32 := BitVec.ofNat 32 (i 0).val
  let v7081 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7082 : Index := Scalar.indexCast v6895
  let c36_2943 : Index := 36#32
  ![v7081.toNat, v7082.toNat, 36]
def k0_off465 (i : grid0.Coords) : Fin 3 → Nat :=
  let arg0 : BitVec 32 := BitVec.ofNat 32 (i 0).val
  let v7084 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7085 : Index := Scalar.indexCast v6895
  let c43_2944 : Index := 43#32
  ![v7084.toNat, v7085.toNat, 43]
def k0_off466 (v7077 : BitVec 32) : Fin 3 → Nat :=
  let c175_i32 : BitVec 32 := 175#32
  let v7109 : BitVec 32 := Scalar.addi c175_i32 v7077
  let v7110 : Index := Scalar.indexCast v7109
  let c0_2949 : Index := 0#32
  let c0_2950 : Index := 0#32
  ![v7110.toNat, 0, 0]

def k0_off467 (v7080 : BitVec 32) (c175_i32_2952 : BitVec 32) : Fin 3 → Nat :=
  let v7117 : BitVec 32 := Scalar.addi c175_i32_2952 v7080
  let v7118 : Index := Scalar.indexCast v7117
  let c0_2953 : Index := 0#32
  let c0_2954 : Index := 0#32
  ![v7118.toNat, 0, 0]

def k0_chk162 (v7080 : BitVec 32) : Prop :=
  (∀ (r : Fin 7), ∀ a, (k0_off467 v7080 (BitVec.ofNat 32 (175 + 5 * r.val))) a + S1x8x128.size a ≤ S1120x8x128.size a)
theorem k0_off467_inb : ∀ (v7080 : BitVec 32) (k0_hw162 : k0_chk162 v7080), ∀ (r : Fin 7), ∀ a, (k0_off467 v7080 (BitVec.ofNat 32 (175 + 5 * r.val))) a + S1x8x128.size a ≤ S1120x8x128.size a := fun v7080 k0_hw162 r => k0_hw162 r

def k0_off468 (v7077 : BitVec 32) (c180_i32 : BitVec 32) : Fin 3 → Nat :=
  let v7127 : BitVec 32 := Scalar.addi c180_i32 v7077
  let v7128 : Index := Scalar.indexCast v7127
  let c0_2957 : Index := 0#32
  let c0_2958 : Index := 0#32
  ![v7128.toNat, 0, 0]

def k0_chk161 (v7077 : BitVec 32) : Prop :=
  (∀ a, (k0_off466 v7077) a + S1x8x128.size a ≤ S1120x8x128.size a) ∧
  (∀ (r : Fin 6), ∀ a, (k0_off468 v7077 (BitVec.ofNat 32 (180 + 5 * r.val))) a + S1x8x128.size a ≤ S1120x8x128.size a)
theorem k0_off466_inb : ∀ (v7077 : BitVec 32) (k0_hw161 : k0_chk161 v7077), ∀ a, (k0_off466 v7077) a + S1x8x128.size a ≤ S1120x8x128.size a := fun v7077 k0_hw161 => k0_hw161.1
theorem k0_off468_inb : ∀ (v7077 : BitVec 32) (k0_hw161 : k0_chk161 v7077), ∀ (r : Fin 6), ∀ a, (k0_off468 v7077 (BitVec.ofNat 32 (180 + 5 * r.val))) a + S1x8x128.size a ≤ S1120x8x128.size a := fun v7077 k0_hw161 r => k0_hw161.2 r

def k0_off469 (i : grid0.Coords) : Fin 3 → Nat :=
  let arg0 : BitVec 32 := BitVec.ofNat 32 (i 0).val
  let v7235 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7236 : Index := Scalar.indexCast v6895
  let c23_3005 : Index := 23#32
  ![v7235.toNat, v7236.toNat, 23]
def k0_off470 (i : grid0.Coords) : Fin 3 → Nat :=
  let arg0 : BitVec 32 := BitVec.ofNat 32 (i 0).val
  let v7238 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7239 : Index := Scalar.indexCast v6895
  let c30_3006 : Index := 30#32
  ![v7238.toNat, v7239.toNat, 30]
def k0_off471 (i : grid0.Coords) : Fin 3 → Nat :=
  let arg0 : BitVec 32 := BitVec.ofNat 32 (i 0).val
  let v7241 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7242 : Index := Scalar.indexCast v6895
  let c37_3007 : Index := 37#32
  ![v7241.toNat, v7242.toNat, 37]
def k0_off472 (i : grid0.Coords) : Fin 3 → Nat :=
  let arg0 : BitVec 32 := BitVec.ofNat 32 (i 0).val
  let v7244 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7245 : Index := Scalar.indexCast v6895
  let c44_3008 : Index := 44#32
  ![v7244.toNat, v7245.toNat, 44]
def k0_off473 (v7237 : BitVec 32) : Fin 3 → Nat :=
  let c175_i32_3013 : BitVec 32 := 175#32
  let v7269 : BitVec 32 := Scalar.addi c175_i32_3013 v7237
  let v7270 : Index := Scalar.indexCast v7269
  let c0_3014 : Index := 0#32
  let c0_3015 : Index := 0#32
  ![v7270.toNat, 0, 0]

def k0_off474 (v7240 : BitVec 32) (c175_i32_3017 : BitVec 32) : Fin 3 → Nat :=
  let v7277 : BitVec 32 := Scalar.addi c175_i32_3017 v7240
  let v7278 : Index := Scalar.indexCast v7277
  let c0_3018 : Index := 0#32
  let c0_3019 : Index := 0#32
  ![v7278.toNat, 0, 0]

def k0_chk164 (v7240 : BitVec 32) : Prop :=
  (∀ (r : Fin 7), ∀ a, (k0_off474 v7240 (BitVec.ofNat 32 (175 + 5 * r.val))) a + S1x8x128.size a ≤ S1120x8x128.size a)
theorem k0_off474_inb : ∀ (v7240 : BitVec 32) (k0_hw164 : k0_chk164 v7240), ∀ (r : Fin 7), ∀ a, (k0_off474 v7240 (BitVec.ofNat 32 (175 + 5 * r.val))) a + S1x8x128.size a ≤ S1120x8x128.size a := fun v7240 k0_hw164 r => k0_hw164 r

def k0_off475 (v7237 : BitVec 32) (c180_i32_3022 : BitVec 32) : Fin 3 → Nat :=
  let v7287 : BitVec 32 := Scalar.addi c180_i32_3022 v7237
  let v7288 : Index := Scalar.indexCast v7287
  let c0_3023 : Index := 0#32
  let c0_3024 : Index := 0#32
  ![v7288.toNat, 0, 0]

def k0_chk163 (v7237 : BitVec 32) : Prop :=
  (∀ a, (k0_off473 v7237) a + S1x8x128.size a ≤ S1120x8x128.size a) ∧
  (∀ (r : Fin 6), ∀ a, (k0_off475 v7237 (BitVec.ofNat 32 (180 + 5 * r.val))) a + S1x8x128.size a ≤ S1120x8x128.size a)
theorem k0_off473_inb : ∀ (v7237 : BitVec 32) (k0_hw163 : k0_chk163 v7237), ∀ a, (k0_off473 v7237) a + S1x8x128.size a ≤ S1120x8x128.size a := fun v7237 k0_hw163 => k0_hw163.1
theorem k0_off475_inb : ∀ (v7237 : BitVec 32) (k0_hw163 : k0_chk163 v7237), ∀ (r : Fin 6), ∀ a, (k0_off475 v7237 (BitVec.ofNat 32 (180 + 5 * r.val))) a + S1x8x128.size a ≤ S1120x8x128.size a := fun v7237 k0_hw163 r => k0_hw163.2 r

def k0_off476 (i : grid0.Coords) : Fin 3 → Nat :=
  let arg0 : BitVec 32 := BitVec.ofNat 32 (i 0).val
  let v7395 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7396 : Index := Scalar.indexCast v6895
  let c24_3076 : Index := 24#32
  ![v7395.toNat, v7396.toNat, 24]
def k0_off477 (i : grid0.Coords) : Fin 3 → Nat :=
  let arg0 : BitVec 32 := BitVec.ofNat 32 (i 0).val
  let v7398 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7399 : Index := Scalar.indexCast v6895
  let c31_3077 : Index := 31#32
  ![v7398.toNat, v7399.toNat, 31]
def k0_off478 (i : grid0.Coords) : Fin 3 → Nat :=
  let arg0 : BitVec 32 := BitVec.ofNat 32 (i 0).val
  let v7401 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7402 : Index := Scalar.indexCast v6895
  let c38_3078 : Index := 38#32
  ![v7401.toNat, v7402.toNat, 38]
def k0_off479 (i : grid0.Coords) : Fin 3 → Nat :=
  let arg0 : BitVec 32 := BitVec.ofNat 32 (i 0).val
  let v7404 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7405 : Index := Scalar.indexCast v6895
  let c45_3079 : Index := 45#32
  ![v7404.toNat, v7405.toNat, 45]
def k0_off480 (v7397 : BitVec 32) : Fin 3 → Nat :=
  let c175_i32_3084 : BitVec 32 := 175#32
  let v7429 : BitVec 32 := Scalar.addi c175_i32_3084 v7397
  let v7430 : Index := Scalar.indexCast v7429
  let c0_3085 : Index := 0#32
  let c0_3086 : Index := 0#32
  ![v7430.toNat, 0, 0]

def k0_off481 (v7400 : BitVec 32) (c175_i32_3088 : BitVec 32) : Fin 3 → Nat :=
  let v7437 : BitVec 32 := Scalar.addi c175_i32_3088 v7400
  let v7438 : Index := Scalar.indexCast v7437
  let c0_3089 : Index := 0#32
  let c0_3090 : Index := 0#32
  ![v7438.toNat, 0, 0]

def k0_chk166 (v7400 : BitVec 32) : Prop :=
  (∀ (r : Fin 7), ∀ a, (k0_off481 v7400 (BitVec.ofNat 32 (175 + 5 * r.val))) a + S1x8x128.size a ≤ S1120x8x128.size a)
theorem k0_off481_inb : ∀ (v7400 : BitVec 32) (k0_hw166 : k0_chk166 v7400), ∀ (r : Fin 7), ∀ a, (k0_off481 v7400 (BitVec.ofNat 32 (175 + 5 * r.val))) a + S1x8x128.size a ≤ S1120x8x128.size a := fun v7400 k0_hw166 r => k0_hw166 r

def k0_off482 (v7397 : BitVec 32) (c180_i32_3093 : BitVec 32) : Fin 3 → Nat :=
  let v7447 : BitVec 32 := Scalar.addi c180_i32_3093 v7397
  let v7448 : Index := Scalar.indexCast v7447
  let c0_3094 : Index := 0#32
  let c0_3095 : Index := 0#32
  ![v7448.toNat, 0, 0]

def k0_chk165 (v7397 : BitVec 32) : Prop :=
  (∀ a, (k0_off480 v7397) a + S1x8x128.size a ≤ S1120x8x128.size a) ∧
  (∀ (r : Fin 6), ∀ a, (k0_off482 v7397 (BitVec.ofNat 32 (180 + 5 * r.val))) a + S1x8x128.size a ≤ S1120x8x128.size a)
theorem k0_off480_inb : ∀ (v7397 : BitVec 32) (k0_hw165 : k0_chk165 v7397), ∀ a, (k0_off480 v7397) a + S1x8x128.size a ≤ S1120x8x128.size a := fun v7397 k0_hw165 => k0_hw165.1
theorem k0_off482_inb : ∀ (v7397 : BitVec 32) (k0_hw165 : k0_chk165 v7397), ∀ (r : Fin 6), ∀ a, (k0_off482 v7397 (BitVec.ofNat 32 (180 + 5 * r.val))) a + S1x8x128.size a ≤ S1120x8x128.size a := fun v7397 k0_hw165 r => k0_hw165.2 r

def k0_off483 (i : grid0.Coords) : Fin 3 → Nat :=
  let arg0 : BitVec 32 := BitVec.ofNat 32 (i 0).val
  let v7555 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7556 : Index := Scalar.indexCast v6895
  let c25_3147 : Index := 25#32
  ![v7555.toNat, v7556.toNat, 25]
def k0_off484 (i : grid0.Coords) : Fin 3 → Nat :=
  let arg0 : BitVec 32 := BitVec.ofNat 32 (i 0).val
  let v7558 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7559 : Index := Scalar.indexCast v6895
  let c32_3148 : Index := 32#32
  ![v7558.toNat, v7559.toNat, 32]
def k0_off485 (i : grid0.Coords) : Fin 3 → Nat :=
  let arg0 : BitVec 32 := BitVec.ofNat 32 (i 0).val
  let v7561 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7562 : Index := Scalar.indexCast v6895
  let c39_3149 : Index := 39#32
  ![v7561.toNat, v7562.toNat, 39]
def k0_off486 (i : grid0.Coords) : Fin 3 → Nat :=
  let arg0 : BitVec 32 := BitVec.ofNat 32 (i 0).val
  let v7564 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7565 : Index := Scalar.indexCast v6895
  let c46_3150 : Index := 46#32
  ![v7564.toNat, v7565.toNat, 46]
def k0_off487 (v7557 : BitVec 32) : Fin 3 → Nat :=
  let c175_i32_3155 : BitVec 32 := 175#32
  let v7589 : BitVec 32 := Scalar.addi c175_i32_3155 v7557
  let v7590 : Index := Scalar.indexCast v7589
  let c0_3156 : Index := 0#32
  let c0_3157 : Index := 0#32
  ![v7590.toNat, 0, 0]

def k0_off488 (v7560 : BitVec 32) (c175_i32_3159 : BitVec 32) : Fin 3 → Nat :=
  let v7597 : BitVec 32 := Scalar.addi c175_i32_3159 v7560
  let v7598 : Index := Scalar.indexCast v7597
  let c0_3160 : Index := 0#32
  let c0_3161 : Index := 0#32
  ![v7598.toNat, 0, 0]

def k0_chk168 (v7560 : BitVec 32) : Prop :=
  (∀ (r : Fin 7), ∀ a, (k0_off488 v7560 (BitVec.ofNat 32 (175 + 5 * r.val))) a + S1x8x128.size a ≤ S1120x8x128.size a)
theorem k0_off488_inb : ∀ (v7560 : BitVec 32) (k0_hw168 : k0_chk168 v7560), ∀ (r : Fin 7), ∀ a, (k0_off488 v7560 (BitVec.ofNat 32 (175 + 5 * r.val))) a + S1x8x128.size a ≤ S1120x8x128.size a := fun v7560 k0_hw168 r => k0_hw168 r

def k0_off489 (v7557 : BitVec 32) (c180_i32_3164 : BitVec 32) : Fin 3 → Nat :=
  let v7607 : BitVec 32 := Scalar.addi c180_i32_3164 v7557
  let v7608 : Index := Scalar.indexCast v7607
  let c0_3165 : Index := 0#32
  let c0_3166 : Index := 0#32
  ![v7608.toNat, 0, 0]

def k0_chk167 (v7557 : BitVec 32) : Prop :=
  (∀ a, (k0_off487 v7557) a + S1x8x128.size a ≤ S1120x8x128.size a) ∧
  (∀ (r : Fin 6), ∀ a, (k0_off489 v7557 (BitVec.ofNat 32 (180 + 5 * r.val))) a + S1x8x128.size a ≤ S1120x8x128.size a)
theorem k0_off487_inb : ∀ (v7557 : BitVec 32) (k0_hw167 : k0_chk167 v7557), ∀ a, (k0_off487 v7557) a + S1x8x128.size a ≤ S1120x8x128.size a := fun v7557 k0_hw167 => k0_hw167.1
theorem k0_off489_inb : ∀ (v7557 : BitVec 32) (k0_hw167 : k0_chk167 v7557), ∀ (r : Fin 6), ∀ a, (k0_off489 v7557 (BitVec.ofNat 32 (180 + 5 * r.val))) a + S1x8x128.size a ≤ S1120x8x128.size a := fun v7557 k0_hw167 r => k0_hw167.2 r

def k0_off490 (i : grid0.Coords) : Fin 3 → Nat :=
  let arg0 : BitVec 32 := BitVec.ofNat 32 (i 0).val
  let v7715 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7716 : Index := Scalar.indexCast v6895
  let c26_3218 : Index := 26#32
  ![v7715.toNat, v7716.toNat, 26]
def k0_off491 (i : grid0.Coords) : Fin 3 → Nat :=
  let arg0 : BitVec 32 := BitVec.ofNat 32 (i 0).val
  let v7718 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7719 : Index := Scalar.indexCast v6895
  let c33_3219 : Index := 33#32
  ![v7718.toNat, v7719.toNat, 33]
def k0_off492 (i : grid0.Coords) : Fin 3 → Nat :=
  let arg0 : BitVec 32 := BitVec.ofNat 32 (i 0).val
  let v7721 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7722 : Index := Scalar.indexCast v6895
  let c40_3220 : Index := 40#32
  ![v7721.toNat, v7722.toNat, 40]
def k0_off493 (i : grid0.Coords) : Fin 3 → Nat :=
  let arg0 : BitVec 32 := BitVec.ofNat 32 (i 0).val
  let v7724 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7725 : Index := Scalar.indexCast v6895
  let c47_3221 : Index := 47#32
  ![v7724.toNat, v7725.toNat, 47]
def k0_off494 (v7717 : BitVec 32) : Fin 3 → Nat :=
  let c175_i32_3226 : BitVec 32 := 175#32
  let v7749 : BitVec 32 := Scalar.addi c175_i32_3226 v7717
  let v7750 : Index := Scalar.indexCast v7749
  let c0_3227 : Index := 0#32
  let c0_3228 : Index := 0#32
  ![v7750.toNat, 0, 0]

def k0_off495 (v7720 : BitVec 32) (c175_i32_3230 : BitVec 32) : Fin 3 → Nat :=
  let v7757 : BitVec 32 := Scalar.addi c175_i32_3230 v7720
  let v7758 : Index := Scalar.indexCast v7757
  let c0_3231 : Index := 0#32
  let c0_3232 : Index := 0#32
  ![v7758.toNat, 0, 0]

def k0_chk170 (v7720 : BitVec 32) : Prop :=
  (∀ (r : Fin 7), ∀ a, (k0_off495 v7720 (BitVec.ofNat 32 (175 + 5 * r.val))) a + S1x8x128.size a ≤ S1120x8x128.size a)
theorem k0_off495_inb : ∀ (v7720 : BitVec 32) (k0_hw170 : k0_chk170 v7720), ∀ (r : Fin 7), ∀ a, (k0_off495 v7720 (BitVec.ofNat 32 (175 + 5 * r.val))) a + S1x8x128.size a ≤ S1120x8x128.size a := fun v7720 k0_hw170 r => k0_hw170 r

def k0_off496 (v7717 : BitVec 32) (c180_i32_3235 : BitVec 32) : Fin 3 → Nat :=
  let v7767 : BitVec 32 := Scalar.addi c180_i32_3235 v7717
  let v7768 : Index := Scalar.indexCast v7767
  let c0_3236 : Index := 0#32
  let c0_3237 : Index := 0#32
  ![v7768.toNat, 0, 0]

def k0_chk169 (v7717 : BitVec 32) : Prop :=
  (∀ a, (k0_off494 v7717) a + S1x8x128.size a ≤ S1120x8x128.size a) ∧
  (∀ (r : Fin 6), ∀ a, (k0_off496 v7717 (BitVec.ofNat 32 (180 + 5 * r.val))) a + S1x8x128.size a ≤ S1120x8x128.size a)
theorem k0_off494_inb : ∀ (v7717 : BitVec 32) (k0_hw169 : k0_chk169 v7717), ∀ a, (k0_off494 v7717) a + S1x8x128.size a ≤ S1120x8x128.size a := fun v7717 k0_hw169 => k0_hw169.1
theorem k0_off496_inb : ∀ (v7717 : BitVec 32) (k0_hw169 : k0_chk169 v7717), ∀ (r : Fin 6), ∀ a, (k0_off496 v7717 (BitVec.ofNat 32 (180 + 5 * r.val))) a + S1x8x128.size a ≤ S1120x8x128.size a := fun v7717 k0_hw169 r => k0_hw169.2 r

def k0_off497 (i : grid0.Coords) : Fin 3 → Nat :=
  let arg0 : BitVec 32 := BitVec.ofNat 32 (i 0).val
  let v7875 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7876 : Index := Scalar.indexCast v6895
  let c27_3289 : Index := 27#32
  ![v7875.toNat, v7876.toNat, 27]
def k0_off498 (i : grid0.Coords) : Fin 3 → Nat :=
  let arg0 : BitVec 32 := BitVec.ofNat 32 (i 0).val
  let v7878 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7879 : Index := Scalar.indexCast v6895
  let c34_3290 : Index := 34#32
  ![v7878.toNat, v7879.toNat, 34]
def k0_off499 (i : grid0.Coords) : Fin 3 → Nat :=
  let arg0 : BitVec 32 := BitVec.ofNat 32 (i 0).val
  let v7881 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7882 : Index := Scalar.indexCast v6895
  let c41_3291 : Index := 41#32
  ![v7881.toNat, v7882.toNat, 41]
def k0_off500 (i : grid0.Coords) : Fin 3 → Nat :=
  let arg0 : BitVec 32 := BitVec.ofNat 32 (i 0).val
  let v7884 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v7885 : Index := Scalar.indexCast v6895
  let c48_3292 : Index := 48#32
  ![v7884.toNat, v7885.toNat, 48]
def k0_off501 (v7877 : BitVec 32) : Fin 3 → Nat :=
  let c175_i32_3297 : BitVec 32 := 175#32
  let v7909 : BitVec 32 := Scalar.addi c175_i32_3297 v7877
  let v7910 : Index := Scalar.indexCast v7909
  let c0_3298 : Index := 0#32
  let c0_3299 : Index := 0#32
  ![v7910.toNat, 0, 0]

def k0_off502 (v7880 : BitVec 32) (c175_i32_3301 : BitVec 32) : Fin 3 → Nat :=
  let v7917 : BitVec 32 := Scalar.addi c175_i32_3301 v7880
  let v7918 : Index := Scalar.indexCast v7917
  let c0_3302 : Index := 0#32
  let c0_3303 : Index := 0#32
  ![v7918.toNat, 0, 0]

def k0_chk172 (v7880 : BitVec 32) : Prop :=
  (∀ (r : Fin 7), ∀ a, (k0_off502 v7880 (BitVec.ofNat 32 (175 + 5 * r.val))) a + S1x8x128.size a ≤ S1120x8x128.size a)
theorem k0_off502_inb : ∀ (v7880 : BitVec 32) (k0_hw172 : k0_chk172 v7880), ∀ (r : Fin 7), ∀ a, (k0_off502 v7880 (BitVec.ofNat 32 (175 + 5 * r.val))) a + S1x8x128.size a ≤ S1120x8x128.size a := fun v7880 k0_hw172 r => k0_hw172 r

def k0_off503 (v7877 : BitVec 32) (c180_i32_3306 : BitVec 32) : Fin 3 → Nat :=
  let v7927 : BitVec 32 := Scalar.addi c180_i32_3306 v7877
  let v7928 : Index := Scalar.indexCast v7927
  let c0_3307 : Index := 0#32
  let c0_3308 : Index := 0#32
  ![v7928.toNat, 0, 0]

def k0_chk171 (v7877 : BitVec 32) : Prop :=
  (∀ a, (k0_off501 v7877) a + S1x8x128.size a ≤ S1120x8x128.size a) ∧
  (∀ (r : Fin 6), ∀ a, (k0_off503 v7877 (BitVec.ofNat 32 (180 + 5 * r.val))) a + S1x8x128.size a ≤ S1120x8x128.size a)
theorem k0_off501_inb : ∀ (v7877 : BitVec 32) (k0_hw171 : k0_chk171 v7877), ∀ a, (k0_off501 v7877) a + S1x8x128.size a ≤ S1120x8x128.size a := fun v7877 k0_hw171 => k0_hw171.1
theorem k0_off503_inb : ∀ (v7877 : BitVec 32) (k0_hw171 : k0_chk171 v7877), ∀ (r : Fin 6), ∀ a, (k0_off503 v7877 (BitVec.ofNat 32 (180 + 5 * r.val))) a + S1x8x128.size a ≤ S1120x8x128.size a := fun v7877 k0_hw171 r => k0_hw171.2 r

def k0_off504 (i : grid0.Coords) : Fin 3 → Nat :=
  let arg0 : BitVec 32 := BitVec.ofNat 32 (i 0).val
  let v8035 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v8036 : Index := Scalar.indexCast v6895
  let c28_3360 : Index := 28#32
  ![v8035.toNat, v8036.toNat, 28]
def k0_off505 (i : grid0.Coords) : Fin 3 → Nat :=
  let arg0 : BitVec 32 := BitVec.ofNat 32 (i 0).val
  let v8038 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v8039 : Index := Scalar.indexCast v6895
  let c35_3361 : Index := 35#32
  ![v8038.toNat, v8039.toNat, 35]
def k0_off506 (i : grid0.Coords) : Fin 3 → Nat :=
  let arg0 : BitVec 32 := BitVec.ofNat 32 (i 0).val
  let v8041 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v8042 : Index := Scalar.indexCast v6895
  let c42_3362 : Index := 42#32
  ![v8041.toNat, v8042.toNat, 42]
def k0_off507 (i : grid0.Coords) : Fin 3 → Nat :=
  let arg0 : BitVec 32 := BitVec.ofNat 32 (i 0).val
  let v8044 : Index := Scalar.indexCast arg0
  let arg1 : BitVec 32 := BitVec.ofNat 32 (i 1).val
  let c32_i32_2875 : BitVec 32 := 32#32
  let v6894 : BitVec 32 := Scalar.muli arg1 c32_i32_2875
  let c5_i32_2876 : BitVec 32 := 5#32
  let v6895 : BitVec 32 := Scalar.addi v6894 c5_i32_2876
  let v8045 : Index := Scalar.indexCast v6895
  let c49_3363 : Index := 49#32
  ![v8044.toNat, v8045.toNat, 49]
def k0_off508 (v8037 : BitVec 32) : Fin 3 → Nat :=
  let c175_i32_3368 : BitVec 32 := 175#32
  let v8069 : BitVec 32 := Scalar.addi c175_i32_3368 v8037
  let v8070 : Index := Scalar.indexCast v8069
  let c0_3369 : Index := 0#32
  let c0_3370 : Index := 0#32
  ![v8070.toNat, 0, 0]

def k0_off509 (v8040 : BitVec 32) (c175_i32_3372 : BitVec 32) : Fin 3 → Nat :=
  let v8077 : BitVec 32 := Scalar.addi c175_i32_3372 v8040
  let v8078 : Index := Scalar.indexCast v8077
  let c0_3373 : Index := 0#32
  let c0_3374 : Index := 0#32
  ![v8078.toNat, 0, 0]

def k0_chk174 (v8040 : BitVec 32) : Prop :=
  (∀ (r : Fin 7), ∀ a, (k0_off509 v8040 (BitVec.ofNat 32 (175 + 5 * r.val))) a + S1x8x128.size a ≤ S1120x8x128.size a)
theorem k0_off509_inb : ∀ (v8040 : BitVec 32) (k0_hw174 : k0_chk174 v8040), ∀ (r : Fin 7), ∀ a, (k0_off509 v8040 (BitVec.ofNat 32 (175 + 5 * r.val))) a + S1x8x128.size a ≤ S1120x8x128.size a := fun v8040 k0_hw174 r => k0_hw174 r

def k0_off510 (v8037 : BitVec 32) (c180_i32_3377 : BitVec 32) : Fin 3 → Nat :=
  let v8087 : BitVec 32 := Scalar.addi c180_i32_3377 v8037
  let v8088 : Index := Scalar.indexCast v8087
  let c0_3378 : Index := 0#32
  let c0_3379 : Index := 0#32
  ![v8088.toNat, 0, 0]

def k0_chk173 (v8037 : BitVec 32) : Prop :=
  (∀ a, (k0_off508 v8037) a + S1x8x128.size a ≤ S1120x8x128.size a) ∧
  (∀ (r : Fin 6), ∀ a, (k0_off510 v8037 (BitVec.ofNat 32 (180 + 5 * r.val))) a + S1x8x128.size a ≤ S1120x8x128.size a)
theorem k0_off508_inb : ∀ (v8037 : BitVec 32) (k0_hw173 : k0_chk173 v8037), ∀ a, (k0_off508 v8037) a + S1x8x128.size a ≤ S1120x8x128.size a := fun v8037 k0_hw173 => k0_hw173.1
theorem k0_off510_inb : ∀ (v8037 : BitVec 32) (k0_hw173 : k0_chk173 v8037), ∀ (r : Fin 6), ∀ a, (k0_off510 v8037 (BitVec.ofNat 32 (180 + 5 * r.val))) a + S1x8x128.size a ≤ S1120x8x128.size a := fun v8037 k0_hw173 r => k0_hw173.2 r

def k0_off511 (i : grid0.Coords) : Fin 3 → Nat :=
  let arg0 : BitVec 32 := BitVec.ofNat 32 (i 0).val
  let v8274 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8275 : Index := Scalar.indexCast v8273
  let c0_3460 : Index := 0#32
  ![v8274.toNat, v8275.toNat, 0]
def k0_mult7 (v8276 : BitVec 32) : BitVec 32 :=
  v8276

def k0_chk175 (v8276 : BitVec 32) : Prop :=
  (8 ∣ (k0_mult7 v8276).toNat)
theorem k0_mult7_dvd : ∀ (v8276 : BitVec 32) (k0_hw175 : k0_chk175 v8276), 8 ∣ (k0_mult7 v8276).toNat := fun v8276 k0_hw175 => k0_hw175

def k0_off512 (i : grid0.Coords) : Fin 3 → Nat :=
  let arg0 : BitVec 32 := BitVec.ofNat 32 (i 0).val
  let v8278 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8279 : Index := Scalar.indexCast v8273
  let c1_3461 : Index := 1#32
  ![v8278.toNat, v8279.toNat, 1]
def k0_off513 (v8276 : BitVec 32) (v8280 : BitVec 32) : Fin 3 → Nat :=
  let v8281 : Index := Scalar.indexCast v8280
  let v8277 : BitVec 32 := v8276
  let v8282 : Index := Scalar.indexCast v8277
  let c0_3462 : Index := 0#32
  ![v8281.toNat, v8282.toNat, 0]

def k0_chk176 (v8276 : BitVec 32) (v8280 : BitVec 32) : Prop :=
  (∀ a, (k0_off513 v8276 v8280) a + S1x40x128.size a ≤ S256x64x128.size a)
theorem k0_off513_inb : ∀ (v8276 : BitVec 32) (v8280 : BitVec 32) (k0_hw176 : k0_chk176 v8276 v8280), ∀ a, (k0_off513 v8276 v8280) a + S1x40x128.size a ≤ S256x64x128.size a := fun v8276 v8280 k0_hw176 => k0_hw176

def k0_off514 (i : grid0.Coords) : Fin 3 → Nat :=
  let arg0 : BitVec 32 := BitVec.ofNat 32 (i 0).val
  let v8285 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8286 : Index := Scalar.indexCast v8273
  let c8_3463 : Index := 8#32
  ![v8285.toNat, v8286.toNat, 8]
def k0_off515 (v8276 : BitVec 32) (v8287 : BitVec 32) : Fin 3 → Nat :=
  let v8288 : Index := Scalar.indexCast v8287
  let v8277 : BitVec 32 := v8276
  let v8289 : Index := Scalar.indexCast v8277
  let c0_3464 : Index := 0#32
  ![v8288.toNat, v8289.toNat, 0]

def k0_chk177 (v8276 : BitVec 32) (v8287 : BitVec 32) : Prop :=
  (∀ a, (k0_off515 v8276 v8287) a + S1x40x128.size a ≤ S256x64x128.size a)
theorem k0_off515_inb : ∀ (v8276 : BitVec 32) (v8287 : BitVec 32) (k0_hw177 : k0_chk177 v8276 v8287), ∀ a, (k0_off515 v8276 v8287) a + S1x40x128.size a ≤ S256x64x128.size a := fun v8276 v8287 k0_hw177 => k0_hw177

def k0_off516 (i : grid0.Coords) : Fin 3 → Nat :=
  let arg0 : BitVec 32 := BitVec.ofNat 32 (i 0).val
  let v8293 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8294 : Index := Scalar.indexCast v8273
  let c15_3465 : Index := 15#32
  ![v8293.toNat, v8294.toNat, 15]
def k0_off517 (i : grid0.Coords) : Fin 3 → Nat :=
  let arg0 : BitVec 32 := BitVec.ofNat 32 (i 0).val
  let v8303 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8304 : Index := Scalar.indexCast v8273
  let c2_3470 : Index := 2#32
  ![v8303.toNat, v8304.toNat, 2]
def k0_off518 (v8276 : BitVec 32) (v8305 : BitVec 32) : Fin 3 → Nat :=
  let v8306 : Index := Scalar.indexCast v8305
  let v8277 : BitVec 32 := v8276
  let v8307 : Index := Scalar.indexCast v8277
  let c0_3471 : Index := 0#32
  ![v8306.toNat, v8307.toNat, 0]

def k0_chk178 (v8276 : BitVec 32) (v8305 : BitVec 32) : Prop :=
  (∀ a, (k0_off518 v8276 v8305) a + S1x40x128.size a ≤ S256x64x128.size a)
theorem k0_off518_inb : ∀ (v8276 : BitVec 32) (v8305 : BitVec 32) (k0_hw178 : k0_chk178 v8276 v8305), ∀ a, (k0_off518 v8276 v8305) a + S1x40x128.size a ≤ S256x64x128.size a := fun v8276 v8305 k0_hw178 => k0_hw178

def k0_off519 (i : grid0.Coords) : Fin 3 → Nat :=
  let arg0 : BitVec 32 := BitVec.ofNat 32 (i 0).val
  let v8310 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8311 : Index := Scalar.indexCast v8273
  let c9_3472 : Index := 9#32
  ![v8310.toNat, v8311.toNat, 9]
def k0_off520 (v8276 : BitVec 32) (v8312 : BitVec 32) : Fin 3 → Nat :=
  let v8313 : Index := Scalar.indexCast v8312
  let v8277 : BitVec 32 := v8276
  let v8314 : Index := Scalar.indexCast v8277
  let c0_3473 : Index := 0#32
  ![v8313.toNat, v8314.toNat, 0]

def k0_chk179 (v8276 : BitVec 32) (v8312 : BitVec 32) : Prop :=
  (∀ a, (k0_off520 v8276 v8312) a + S1x40x128.size a ≤ S256x64x128.size a)
theorem k0_off520_inb : ∀ (v8276 : BitVec 32) (v8312 : BitVec 32) (k0_hw179 : k0_chk179 v8276 v8312), ∀ a, (k0_off520 v8276 v8312) a + S1x40x128.size a ≤ S256x64x128.size a := fun v8276 v8312 k0_hw179 => k0_hw179

def k0_off521 (i : grid0.Coords) : Fin 3 → Nat :=
  let arg0 : BitVec 32 := BitVec.ofNat 32 (i 0).val
  let v8318 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8319 : Index := Scalar.indexCast v8273
  let c16_3474 : Index := 16#32
  ![v8318.toNat, v8319.toNat, 16]
def k0_off522 (i : grid0.Coords) : Fin 3 → Nat :=
  let arg0 : BitVec 32 := BitVec.ofNat 32 (i 0).val
  let v8328 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8329 : Index := Scalar.indexCast v8273
  let c3_3479 : Index := 3#32
  ![v8328.toNat, v8329.toNat, 3]
def k0_off523 (v8276 : BitVec 32) (v8330 : BitVec 32) : Fin 3 → Nat :=
  let v8331 : Index := Scalar.indexCast v8330
  let v8277 : BitVec 32 := v8276
  let v8332 : Index := Scalar.indexCast v8277
  let c0_3480 : Index := 0#32
  ![v8331.toNat, v8332.toNat, 0]

def k0_chk180 (v8276 : BitVec 32) (v8330 : BitVec 32) : Prop :=
  (∀ a, (k0_off523 v8276 v8330) a + S1x40x128.size a ≤ S256x64x128.size a)
theorem k0_off523_inb : ∀ (v8276 : BitVec 32) (v8330 : BitVec 32) (k0_hw180 : k0_chk180 v8276 v8330), ∀ a, (k0_off523 v8276 v8330) a + S1x40x128.size a ≤ S256x64x128.size a := fun v8276 v8330 k0_hw180 => k0_hw180

def k0_off524 (i : grid0.Coords) : Fin 3 → Nat :=
  let arg0 : BitVec 32 := BitVec.ofNat 32 (i 0).val
  let v8335 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8336 : Index := Scalar.indexCast v8273
  let c10_3481 : Index := 10#32
  ![v8335.toNat, v8336.toNat, 10]
def k0_off525 (v8276 : BitVec 32) (v8337 : BitVec 32) : Fin 3 → Nat :=
  let v8338 : Index := Scalar.indexCast v8337
  let v8277 : BitVec 32 := v8276
  let v8339 : Index := Scalar.indexCast v8277
  let c0_3482 : Index := 0#32
  ![v8338.toNat, v8339.toNat, 0]

def k0_chk181 (v8276 : BitVec 32) (v8337 : BitVec 32) : Prop :=
  (∀ a, (k0_off525 v8276 v8337) a + S1x40x128.size a ≤ S256x64x128.size a)
theorem k0_off525_inb : ∀ (v8276 : BitVec 32) (v8337 : BitVec 32) (k0_hw181 : k0_chk181 v8276 v8337), ∀ a, (k0_off525 v8276 v8337) a + S1x40x128.size a ≤ S256x64x128.size a := fun v8276 v8337 k0_hw181 => k0_hw181

def k0_off526 (i : grid0.Coords) : Fin 3 → Nat :=
  let arg0 : BitVec 32 := BitVec.ofNat 32 (i 0).val
  let v8343 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8344 : Index := Scalar.indexCast v8273
  let c17_3483 : Index := 17#32
  ![v8343.toNat, v8344.toNat, 17]
def k0_off527 (i : grid0.Coords) : Fin 3 → Nat :=
  let arg0 : BitVec 32 := BitVec.ofNat 32 (i 0).val
  let v8353 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8354 : Index := Scalar.indexCast v8273
  let c4_3488 : Index := 4#32
  ![v8353.toNat, v8354.toNat, 4]
def k0_off528 (v8276 : BitVec 32) (v8355 : BitVec 32) : Fin 3 → Nat :=
  let v8356 : Index := Scalar.indexCast v8355
  let v8277 : BitVec 32 := v8276
  let v8357 : Index := Scalar.indexCast v8277
  let c0_3489 : Index := 0#32
  ![v8356.toNat, v8357.toNat, 0]

def k0_chk182 (v8276 : BitVec 32) (v8355 : BitVec 32) : Prop :=
  (∀ a, (k0_off528 v8276 v8355) a + S1x40x128.size a ≤ S256x64x128.size a)
theorem k0_off528_inb : ∀ (v8276 : BitVec 32) (v8355 : BitVec 32) (k0_hw182 : k0_chk182 v8276 v8355), ∀ a, (k0_off528 v8276 v8355) a + S1x40x128.size a ≤ S256x64x128.size a := fun v8276 v8355 k0_hw182 => k0_hw182

def k0_off529 (i : grid0.Coords) : Fin 3 → Nat :=
  let arg0 : BitVec 32 := BitVec.ofNat 32 (i 0).val
  let v8360 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8361 : Index := Scalar.indexCast v8273
  let c11_3490 : Index := 11#32
  ![v8360.toNat, v8361.toNat, 11]
def k0_off530 (v8276 : BitVec 32) (v8362 : BitVec 32) : Fin 3 → Nat :=
  let v8363 : Index := Scalar.indexCast v8362
  let v8277 : BitVec 32 := v8276
  let v8364 : Index := Scalar.indexCast v8277
  let c0_3491 : Index := 0#32
  ![v8363.toNat, v8364.toNat, 0]

def k0_chk183 (v8276 : BitVec 32) (v8362 : BitVec 32) : Prop :=
  (∀ a, (k0_off530 v8276 v8362) a + S1x40x128.size a ≤ S256x64x128.size a)
theorem k0_off530_inb : ∀ (v8276 : BitVec 32) (v8362 : BitVec 32) (k0_hw183 : k0_chk183 v8276 v8362), ∀ a, (k0_off530 v8276 v8362) a + S1x40x128.size a ≤ S256x64x128.size a := fun v8276 v8362 k0_hw183 => k0_hw183

def k0_off531 (i : grid0.Coords) : Fin 3 → Nat :=
  let arg0 : BitVec 32 := BitVec.ofNat 32 (i 0).val
  let v8368 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8369 : Index := Scalar.indexCast v8273
  let c18_3492 : Index := 18#32
  ![v8368.toNat, v8369.toNat, 18]
def k0_off532 (i : grid0.Coords) : Fin 3 → Nat :=
  let arg0 : BitVec 32 := BitVec.ofNat 32 (i 0).val
  let v8378 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8379 : Index := Scalar.indexCast v8273
  let c5_3497 : Index := 5#32
  ![v8378.toNat, v8379.toNat, 5]
def k0_off533 (v8276 : BitVec 32) (v8380 : BitVec 32) : Fin 3 → Nat :=
  let v8381 : Index := Scalar.indexCast v8380
  let v8277 : BitVec 32 := v8276
  let v8382 : Index := Scalar.indexCast v8277
  let c0_3498 : Index := 0#32
  ![v8381.toNat, v8382.toNat, 0]

def k0_chk184 (v8276 : BitVec 32) (v8380 : BitVec 32) : Prop :=
  (∀ a, (k0_off533 v8276 v8380) a + S1x40x128.size a ≤ S256x64x128.size a)
theorem k0_off533_inb : ∀ (v8276 : BitVec 32) (v8380 : BitVec 32) (k0_hw184 : k0_chk184 v8276 v8380), ∀ a, (k0_off533 v8276 v8380) a + S1x40x128.size a ≤ S256x64x128.size a := fun v8276 v8380 k0_hw184 => k0_hw184

def k0_off534 (i : grid0.Coords) : Fin 3 → Nat :=
  let arg0 : BitVec 32 := BitVec.ofNat 32 (i 0).val
  let v8385 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8386 : Index := Scalar.indexCast v8273
  let c12_3499 : Index := 12#32
  ![v8385.toNat, v8386.toNat, 12]
def k0_off535 (v8276 : BitVec 32) (v8387 : BitVec 32) : Fin 3 → Nat :=
  let v8388 : Index := Scalar.indexCast v8387
  let v8277 : BitVec 32 := v8276
  let v8389 : Index := Scalar.indexCast v8277
  let c0_3500 : Index := 0#32
  ![v8388.toNat, v8389.toNat, 0]

def k0_chk185 (v8276 : BitVec 32) (v8387 : BitVec 32) : Prop :=
  (∀ a, (k0_off535 v8276 v8387) a + S1x40x128.size a ≤ S256x64x128.size a)
theorem k0_off535_inb : ∀ (v8276 : BitVec 32) (v8387 : BitVec 32) (k0_hw185 : k0_chk185 v8276 v8387), ∀ a, (k0_off535 v8276 v8387) a + S1x40x128.size a ≤ S256x64x128.size a := fun v8276 v8387 k0_hw185 => k0_hw185

def k0_off536 (i : grid0.Coords) : Fin 3 → Nat :=
  let arg0 : BitVec 32 := BitVec.ofNat 32 (i 0).val
  let v8393 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8394 : Index := Scalar.indexCast v8273
  let c19_3501 : Index := 19#32
  ![v8393.toNat, v8394.toNat, 19]
def k0_off537 (i : grid0.Coords) : Fin 3 → Nat :=
  let arg0 : BitVec 32 := BitVec.ofNat 32 (i 0).val
  let v8403 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8404 : Index := Scalar.indexCast v8273
  let c6_3506 : Index := 6#32
  ![v8403.toNat, v8404.toNat, 6]
def k0_off538 (v8276 : BitVec 32) (v8405 : BitVec 32) : Fin 3 → Nat :=
  let v8406 : Index := Scalar.indexCast v8405
  let v8277 : BitVec 32 := v8276
  let v8407 : Index := Scalar.indexCast v8277
  let c0_3507 : Index := 0#32
  ![v8406.toNat, v8407.toNat, 0]

def k0_chk186 (v8276 : BitVec 32) (v8405 : BitVec 32) : Prop :=
  (∀ a, (k0_off538 v8276 v8405) a + S1x40x128.size a ≤ S256x64x128.size a)
theorem k0_off538_inb : ∀ (v8276 : BitVec 32) (v8405 : BitVec 32) (k0_hw186 : k0_chk186 v8276 v8405), ∀ a, (k0_off538 v8276 v8405) a + S1x40x128.size a ≤ S256x64x128.size a := fun v8276 v8405 k0_hw186 => k0_hw186

def k0_off539 (i : grid0.Coords) : Fin 3 → Nat :=
  let arg0 : BitVec 32 := BitVec.ofNat 32 (i 0).val
  let v8410 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8411 : Index := Scalar.indexCast v8273
  let c13_3508 : Index := 13#32
  ![v8410.toNat, v8411.toNat, 13]
def k0_off540 (v8276 : BitVec 32) (v8412 : BitVec 32) : Fin 3 → Nat :=
  let v8413 : Index := Scalar.indexCast v8412
  let v8277 : BitVec 32 := v8276
  let v8414 : Index := Scalar.indexCast v8277
  let c0_3509 : Index := 0#32
  ![v8413.toNat, v8414.toNat, 0]

def k0_chk187 (v8276 : BitVec 32) (v8412 : BitVec 32) : Prop :=
  (∀ a, (k0_off540 v8276 v8412) a + S1x40x128.size a ≤ S256x64x128.size a)
theorem k0_off540_inb : ∀ (v8276 : BitVec 32) (v8412 : BitVec 32) (k0_hw187 : k0_chk187 v8276 v8412), ∀ a, (k0_off540 v8276 v8412) a + S1x40x128.size a ≤ S256x64x128.size a := fun v8276 v8412 k0_hw187 => k0_hw187

def k0_off541 (i : grid0.Coords) : Fin 3 → Nat :=
  let arg0 : BitVec 32 := BitVec.ofNat 32 (i 0).val
  let v8418 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8419 : Index := Scalar.indexCast v8273
  let c20_3510 : Index := 20#32
  ![v8418.toNat, v8419.toNat, 20]
def k0_off542 (i : grid0.Coords) : Fin 3 → Nat :=
  let arg0 : BitVec 32 := BitVec.ofNat 32 (i 0).val
  let v8428 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8429 : Index := Scalar.indexCast v8273
  let c7_3515 : Index := 7#32
  ![v8428.toNat, v8429.toNat, 7]
def k0_off543 (v8276 : BitVec 32) (v8430 : BitVec 32) : Fin 3 → Nat :=
  let v8431 : Index := Scalar.indexCast v8430
  let v8277 : BitVec 32 := v8276
  let v8432 : Index := Scalar.indexCast v8277
  let c0_3516 : Index := 0#32
  ![v8431.toNat, v8432.toNat, 0]

def k0_chk188 (v8276 : BitVec 32) (v8430 : BitVec 32) : Prop :=
  (∀ a, (k0_off543 v8276 v8430) a + S1x40x128.size a ≤ S256x64x128.size a)
theorem k0_off543_inb : ∀ (v8276 : BitVec 32) (v8430 : BitVec 32) (k0_hw188 : k0_chk188 v8276 v8430), ∀ a, (k0_off543 v8276 v8430) a + S1x40x128.size a ≤ S256x64x128.size a := fun v8276 v8430 k0_hw188 => k0_hw188

def k0_off544 (i : grid0.Coords) : Fin 3 → Nat :=
  let arg0 : BitVec 32 := BitVec.ofNat 32 (i 0).val
  let v8435 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8436 : Index := Scalar.indexCast v8273
  let c14_3517 : Index := 14#32
  ![v8435.toNat, v8436.toNat, 14]
def k0_off545 (v8276 : BitVec 32) (v8437 : BitVec 32) : Fin 3 → Nat :=
  let v8438 : Index := Scalar.indexCast v8437
  let v8277 : BitVec 32 := v8276
  let v8439 : Index := Scalar.indexCast v8277
  let c0_3518 : Index := 0#32
  ![v8438.toNat, v8439.toNat, 0]

def k0_chk189 (v8276 : BitVec 32) (v8437 : BitVec 32) : Prop :=
  (∀ a, (k0_off545 v8276 v8437) a + S1x40x128.size a ≤ S256x64x128.size a)
theorem k0_off545_inb : ∀ (v8276 : BitVec 32) (v8437 : BitVec 32) (k0_hw189 : k0_chk189 v8276 v8437), ∀ a, (k0_off545 v8276 v8437) a + S1x40x128.size a ≤ S256x64x128.size a := fun v8276 v8437 k0_hw189 => k0_hw189

def k0_off546 (i : grid0.Coords) : Fin 3 → Nat :=
  let arg0 : BitVec 32 := BitVec.ofNat 32 (i 0).val
  let v8443 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8444 : Index := Scalar.indexCast v8273
  let c21_3519 : Index := 21#32
  ![v8443.toNat, v8444.toNat, 21]
def k0_off547 (i : grid0.Coords) : Fin 3 → Nat :=
  let arg0 : BitVec 32 := BitVec.ofNat 32 (i 0).val
  let v8453 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8454 : Index := Scalar.indexCast v8273
  let c22_3524 : Index := 22#32
  ![v8453.toNat, v8454.toNat, 22]
def k0_off548 (i : grid0.Coords) : Fin 3 → Nat :=
  let arg0 : BitVec 32 := BitVec.ofNat 32 (i 0).val
  let v8456 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8457 : Index := Scalar.indexCast v8273
  let c29_3525 : Index := 29#32
  ![v8456.toNat, v8457.toNat, 29]
def k0_off549 (i : grid0.Coords) : Fin 3 → Nat :=
  let arg0 : BitVec 32 := BitVec.ofNat 32 (i 0).val
  let v8459 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8460 : Index := Scalar.indexCast v8273
  let c36_3526 : Index := 36#32
  ![v8459.toNat, v8460.toNat, 36]
def k0_off550 (i : grid0.Coords) : Fin 3 → Nat :=
  let arg0 : BitVec 32 := BitVec.ofNat 32 (i 0).val
  let v8462 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8463 : Index := Scalar.indexCast v8273
  let c43_3527 : Index := 43#32
  ![v8462.toNat, v8463.toNat, 43]
def k0_off551 (v8455 : BitVec 32) : Fin 3 → Nat :=
  let c210_i32 : BitVec 32 := 210#32
  let v8487 : BitVec 32 := Scalar.addi c210_i32 v8455
  let v8488 : Index := Scalar.indexCast v8487
  let c0_3532 : Index := 0#32
  let c0_3533 : Index := 0#32
  ![v8488.toNat, 0, 0]

def k0_off552 (v8458 : BitVec 32) (c210_i32_3535 : BitVec 32) : Fin 3 → Nat :=
  let v8495 : BitVec 32 := Scalar.addi c210_i32_3535 v8458
  let v8496 : Index := Scalar.indexCast v8495
  let c0_3536 : Index := 0#32
  let c0_3537 : Index := 0#32
  ![v8496.toNat, 0, 0]

def k0_chk191 (v8458 : BitVec 32) : Prop :=
  (∀ (r : Fin 7), ∀ a, (k0_off552 v8458 (BitVec.ofNat 32 (210 + 5 * r.val))) a + S1x8x128.size a ≤ S1120x8x128.size a)
theorem k0_off552_inb : ∀ (v8458 : BitVec 32) (k0_hw191 : k0_chk191 v8458), ∀ (r : Fin 7), ∀ a, (k0_off552 v8458 (BitVec.ofNat 32 (210 + 5 * r.val))) a + S1x8x128.size a ≤ S1120x8x128.size a := fun v8458 k0_hw191 r => k0_hw191 r

def k0_off553 (v8455 : BitVec 32) (c215_i32 : BitVec 32) : Fin 3 → Nat :=
  let v8505 : BitVec 32 := Scalar.addi c215_i32 v8455
  let v8506 : Index := Scalar.indexCast v8505
  let c0_3540 : Index := 0#32
  let c0_3541 : Index := 0#32
  ![v8506.toNat, 0, 0]

def k0_chk190 (v8455 : BitVec 32) : Prop :=
  (∀ a, (k0_off551 v8455) a + S1x8x128.size a ≤ S1120x8x128.size a) ∧
  (∀ (r : Fin 6), ∀ a, (k0_off553 v8455 (BitVec.ofNat 32 (215 + 5 * r.val))) a + S1x8x128.size a ≤ S1120x8x128.size a)
theorem k0_off551_inb : ∀ (v8455 : BitVec 32) (k0_hw190 : k0_chk190 v8455), ∀ a, (k0_off551 v8455) a + S1x8x128.size a ≤ S1120x8x128.size a := fun v8455 k0_hw190 => k0_hw190.1
theorem k0_off553_inb : ∀ (v8455 : BitVec 32) (k0_hw190 : k0_chk190 v8455), ∀ (r : Fin 6), ∀ a, (k0_off553 v8455 (BitVec.ofNat 32 (215 + 5 * r.val))) a + S1x8x128.size a ≤ S1120x8x128.size a := fun v8455 k0_hw190 r => k0_hw190.2 r

def k0_off554 (i : grid0.Coords) : Fin 3 → Nat :=
  let arg0 : BitVec 32 := BitVec.ofNat 32 (i 0).val
  let v8613 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8614 : Index := Scalar.indexCast v8273
  let c23_3588 : Index := 23#32
  ![v8613.toNat, v8614.toNat, 23]
def k0_off555 (i : grid0.Coords) : Fin 3 → Nat :=
  let arg0 : BitVec 32 := BitVec.ofNat 32 (i 0).val
  let v8616 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8617 : Index := Scalar.indexCast v8273
  let c30_3589 : Index := 30#32
  ![v8616.toNat, v8617.toNat, 30]
def k0_off556 (i : grid0.Coords) : Fin 3 → Nat :=
  let arg0 : BitVec 32 := BitVec.ofNat 32 (i 0).val
  let v8619 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8620 : Index := Scalar.indexCast v8273
  let c37_3590 : Index := 37#32
  ![v8619.toNat, v8620.toNat, 37]
def k0_off557 (i : grid0.Coords) : Fin 3 → Nat :=
  let arg0 : BitVec 32 := BitVec.ofNat 32 (i 0).val
  let v8622 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8623 : Index := Scalar.indexCast v8273
  let c44_3591 : Index := 44#32
  ![v8622.toNat, v8623.toNat, 44]
def k0_off558 (v8615 : BitVec 32) : Fin 3 → Nat :=
  let c210_i32_3596 : BitVec 32 := 210#32
  let v8647 : BitVec 32 := Scalar.addi c210_i32_3596 v8615
  let v8648 : Index := Scalar.indexCast v8647
  let c0_3597 : Index := 0#32
  let c0_3598 : Index := 0#32
  ![v8648.toNat, 0, 0]

def k0_off559 (v8618 : BitVec 32) (c210_i32_3600 : BitVec 32) : Fin 3 → Nat :=
  let v8655 : BitVec 32 := Scalar.addi c210_i32_3600 v8618
  let v8656 : Index := Scalar.indexCast v8655
  let c0_3601 : Index := 0#32
  let c0_3602 : Index := 0#32
  ![v8656.toNat, 0, 0]

def k0_chk193 (v8618 : BitVec 32) : Prop :=
  (∀ (r : Fin 7), ∀ a, (k0_off559 v8618 (BitVec.ofNat 32 (210 + 5 * r.val))) a + S1x8x128.size a ≤ S1120x8x128.size a)
theorem k0_off559_inb : ∀ (v8618 : BitVec 32) (k0_hw193 : k0_chk193 v8618), ∀ (r : Fin 7), ∀ a, (k0_off559 v8618 (BitVec.ofNat 32 (210 + 5 * r.val))) a + S1x8x128.size a ≤ S1120x8x128.size a := fun v8618 k0_hw193 r => k0_hw193 r

def k0_off560 (v8615 : BitVec 32) (c215_i32_3605 : BitVec 32) : Fin 3 → Nat :=
  let v8665 : BitVec 32 := Scalar.addi c215_i32_3605 v8615
  let v8666 : Index := Scalar.indexCast v8665
  let c0_3606 : Index := 0#32
  let c0_3607 : Index := 0#32
  ![v8666.toNat, 0, 0]

def k0_chk192 (v8615 : BitVec 32) : Prop :=
  (∀ a, (k0_off558 v8615) a + S1x8x128.size a ≤ S1120x8x128.size a) ∧
  (∀ (r : Fin 6), ∀ a, (k0_off560 v8615 (BitVec.ofNat 32 (215 + 5 * r.val))) a + S1x8x128.size a ≤ S1120x8x128.size a)
theorem k0_off558_inb : ∀ (v8615 : BitVec 32) (k0_hw192 : k0_chk192 v8615), ∀ a, (k0_off558 v8615) a + S1x8x128.size a ≤ S1120x8x128.size a := fun v8615 k0_hw192 => k0_hw192.1
theorem k0_off560_inb : ∀ (v8615 : BitVec 32) (k0_hw192 : k0_chk192 v8615), ∀ (r : Fin 6), ∀ a, (k0_off560 v8615 (BitVec.ofNat 32 (215 + 5 * r.val))) a + S1x8x128.size a ≤ S1120x8x128.size a := fun v8615 k0_hw192 r => k0_hw192.2 r

def k0_off561 (i : grid0.Coords) : Fin 3 → Nat :=
  let arg0 : BitVec 32 := BitVec.ofNat 32 (i 0).val
  let v8773 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8774 : Index := Scalar.indexCast v8273
  let c24_3659 : Index := 24#32
  ![v8773.toNat, v8774.toNat, 24]
def k0_off562 (i : grid0.Coords) : Fin 3 → Nat :=
  let arg0 : BitVec 32 := BitVec.ofNat 32 (i 0).val
  let v8776 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8777 : Index := Scalar.indexCast v8273
  let c31_3660 : Index := 31#32
  ![v8776.toNat, v8777.toNat, 31]
def k0_off563 (i : grid0.Coords) : Fin 3 → Nat :=
  let arg0 : BitVec 32 := BitVec.ofNat 32 (i 0).val
  let v8779 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8780 : Index := Scalar.indexCast v8273
  let c38_3661 : Index := 38#32
  ![v8779.toNat, v8780.toNat, 38]
def k0_off564 (i : grid0.Coords) : Fin 3 → Nat :=
  let arg0 : BitVec 32 := BitVec.ofNat 32 (i 0).val
  let v8782 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8783 : Index := Scalar.indexCast v8273
  let c45_3662 : Index := 45#32
  ![v8782.toNat, v8783.toNat, 45]
def k0_off565 (v8775 : BitVec 32) : Fin 3 → Nat :=
  let c210_i32_3667 : BitVec 32 := 210#32
  let v8807 : BitVec 32 := Scalar.addi c210_i32_3667 v8775
  let v8808 : Index := Scalar.indexCast v8807
  let c0_3668 : Index := 0#32
  let c0_3669 : Index := 0#32
  ![v8808.toNat, 0, 0]

def k0_off566 (v8778 : BitVec 32) (c210_i32_3671 : BitVec 32) : Fin 3 → Nat :=
  let v8815 : BitVec 32 := Scalar.addi c210_i32_3671 v8778
  let v8816 : Index := Scalar.indexCast v8815
  let c0_3672 : Index := 0#32
  let c0_3673 : Index := 0#32
  ![v8816.toNat, 0, 0]

def k0_chk195 (v8778 : BitVec 32) : Prop :=
  (∀ (r : Fin 7), ∀ a, (k0_off566 v8778 (BitVec.ofNat 32 (210 + 5 * r.val))) a + S1x8x128.size a ≤ S1120x8x128.size a)
theorem k0_off566_inb : ∀ (v8778 : BitVec 32) (k0_hw195 : k0_chk195 v8778), ∀ (r : Fin 7), ∀ a, (k0_off566 v8778 (BitVec.ofNat 32 (210 + 5 * r.val))) a + S1x8x128.size a ≤ S1120x8x128.size a := fun v8778 k0_hw195 r => k0_hw195 r

def k0_off567 (v8775 : BitVec 32) (c215_i32_3676 : BitVec 32) : Fin 3 → Nat :=
  let v8825 : BitVec 32 := Scalar.addi c215_i32_3676 v8775
  let v8826 : Index := Scalar.indexCast v8825
  let c0_3677 : Index := 0#32
  let c0_3678 : Index := 0#32
  ![v8826.toNat, 0, 0]

def k0_chk194 (v8775 : BitVec 32) : Prop :=
  (∀ a, (k0_off565 v8775) a + S1x8x128.size a ≤ S1120x8x128.size a) ∧
  (∀ (r : Fin 6), ∀ a, (k0_off567 v8775 (BitVec.ofNat 32 (215 + 5 * r.val))) a + S1x8x128.size a ≤ S1120x8x128.size a)
theorem k0_off565_inb : ∀ (v8775 : BitVec 32) (k0_hw194 : k0_chk194 v8775), ∀ a, (k0_off565 v8775) a + S1x8x128.size a ≤ S1120x8x128.size a := fun v8775 k0_hw194 => k0_hw194.1
theorem k0_off567_inb : ∀ (v8775 : BitVec 32) (k0_hw194 : k0_chk194 v8775), ∀ (r : Fin 6), ∀ a, (k0_off567 v8775 (BitVec.ofNat 32 (215 + 5 * r.val))) a + S1x8x128.size a ≤ S1120x8x128.size a := fun v8775 k0_hw194 r => k0_hw194.2 r

def k0_off568 (i : grid0.Coords) : Fin 3 → Nat :=
  let arg0 : BitVec 32 := BitVec.ofNat 32 (i 0).val
  let v8933 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8934 : Index := Scalar.indexCast v8273
  let c25_3730 : Index := 25#32
  ![v8933.toNat, v8934.toNat, 25]
def k0_off569 (i : grid0.Coords) : Fin 3 → Nat :=
  let arg0 : BitVec 32 := BitVec.ofNat 32 (i 0).val
  let v8936 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8937 : Index := Scalar.indexCast v8273
  let c32_3731 : Index := 32#32
  ![v8936.toNat, v8937.toNat, 32]
def k0_off570 (i : grid0.Coords) : Fin 3 → Nat :=
  let arg0 : BitVec 32 := BitVec.ofNat 32 (i 0).val
  let v8939 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8940 : Index := Scalar.indexCast v8273
  let c39_3732 : Index := 39#32
  ![v8939.toNat, v8940.toNat, 39]
def k0_off571 (i : grid0.Coords) : Fin 3 → Nat :=
  let arg0 : BitVec 32 := BitVec.ofNat 32 (i 0).val
  let v8942 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v8943 : Index := Scalar.indexCast v8273
  let c46_3733 : Index := 46#32
  ![v8942.toNat, v8943.toNat, 46]
def k0_off572 (v8935 : BitVec 32) : Fin 3 → Nat :=
  let c210_i32_3738 : BitVec 32 := 210#32
  let v8967 : BitVec 32 := Scalar.addi c210_i32_3738 v8935
  let v8968 : Index := Scalar.indexCast v8967
  let c0_3739 : Index := 0#32
  let c0_3740 : Index := 0#32
  ![v8968.toNat, 0, 0]

def k0_off573 (v8938 : BitVec 32) (c210_i32_3742 : BitVec 32) : Fin 3 → Nat :=
  let v8975 : BitVec 32 := Scalar.addi c210_i32_3742 v8938
  let v8976 : Index := Scalar.indexCast v8975
  let c0_3743 : Index := 0#32
  let c0_3744 : Index := 0#32
  ![v8976.toNat, 0, 0]

def k0_chk197 (v8938 : BitVec 32) : Prop :=
  (∀ (r : Fin 7), ∀ a, (k0_off573 v8938 (BitVec.ofNat 32 (210 + 5 * r.val))) a + S1x8x128.size a ≤ S1120x8x128.size a)
theorem k0_off573_inb : ∀ (v8938 : BitVec 32) (k0_hw197 : k0_chk197 v8938), ∀ (r : Fin 7), ∀ a, (k0_off573 v8938 (BitVec.ofNat 32 (210 + 5 * r.val))) a + S1x8x128.size a ≤ S1120x8x128.size a := fun v8938 k0_hw197 r => k0_hw197 r

def k0_off574 (v8935 : BitVec 32) (c215_i32_3747 : BitVec 32) : Fin 3 → Nat :=
  let v8985 : BitVec 32 := Scalar.addi c215_i32_3747 v8935
  let v8986 : Index := Scalar.indexCast v8985
  let c0_3748 : Index := 0#32
  let c0_3749 : Index := 0#32
  ![v8986.toNat, 0, 0]

def k0_chk196 (v8935 : BitVec 32) : Prop :=
  (∀ a, (k0_off572 v8935) a + S1x8x128.size a ≤ S1120x8x128.size a) ∧
  (∀ (r : Fin 6), ∀ a, (k0_off574 v8935 (BitVec.ofNat 32 (215 + 5 * r.val))) a + S1x8x128.size a ≤ S1120x8x128.size a)
theorem k0_off572_inb : ∀ (v8935 : BitVec 32) (k0_hw196 : k0_chk196 v8935), ∀ a, (k0_off572 v8935) a + S1x8x128.size a ≤ S1120x8x128.size a := fun v8935 k0_hw196 => k0_hw196.1
theorem k0_off574_inb : ∀ (v8935 : BitVec 32) (k0_hw196 : k0_chk196 v8935), ∀ (r : Fin 6), ∀ a, (k0_off574 v8935 (BitVec.ofNat 32 (215 + 5 * r.val))) a + S1x8x128.size a ≤ S1120x8x128.size a := fun v8935 k0_hw196 r => k0_hw196.2 r

def k0_off575 (i : grid0.Coords) : Fin 3 → Nat :=
  let arg0 : BitVec 32 := BitVec.ofNat 32 (i 0).val
  let v9093 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9094 : Index := Scalar.indexCast v8273
  let c26_3801 : Index := 26#32
  ![v9093.toNat, v9094.toNat, 26]
def k0_off576 (i : grid0.Coords) : Fin 3 → Nat :=
  let arg0 : BitVec 32 := BitVec.ofNat 32 (i 0).val
  let v9096 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9097 : Index := Scalar.indexCast v8273
  let c33_3802 : Index := 33#32
  ![v9096.toNat, v9097.toNat, 33]
def k0_off577 (i : grid0.Coords) : Fin 3 → Nat :=
  let arg0 : BitVec 32 := BitVec.ofNat 32 (i 0).val
  let v9099 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9100 : Index := Scalar.indexCast v8273
  let c40_3803 : Index := 40#32
  ![v9099.toNat, v9100.toNat, 40]
def k0_off578 (i : grid0.Coords) : Fin 3 → Nat :=
  let arg0 : BitVec 32 := BitVec.ofNat 32 (i 0).val
  let v9102 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9103 : Index := Scalar.indexCast v8273
  let c47_3804 : Index := 47#32
  ![v9102.toNat, v9103.toNat, 47]
def k0_off579 (v9095 : BitVec 32) : Fin 3 → Nat :=
  let c210_i32_3809 : BitVec 32 := 210#32
  let v9127 : BitVec 32 := Scalar.addi c210_i32_3809 v9095
  let v9128 : Index := Scalar.indexCast v9127
  let c0_3810 : Index := 0#32
  let c0_3811 : Index := 0#32
  ![v9128.toNat, 0, 0]

def k0_off580 (v9098 : BitVec 32) (c210_i32_3813 : BitVec 32) : Fin 3 → Nat :=
  let v9135 : BitVec 32 := Scalar.addi c210_i32_3813 v9098
  let v9136 : Index := Scalar.indexCast v9135
  let c0_3814 : Index := 0#32
  let c0_3815 : Index := 0#32
  ![v9136.toNat, 0, 0]

def k0_chk199 (v9098 : BitVec 32) : Prop :=
  (∀ (r : Fin 7), ∀ a, (k0_off580 v9098 (BitVec.ofNat 32 (210 + 5 * r.val))) a + S1x8x128.size a ≤ S1120x8x128.size a)
theorem k0_off580_inb : ∀ (v9098 : BitVec 32) (k0_hw199 : k0_chk199 v9098), ∀ (r : Fin 7), ∀ a, (k0_off580 v9098 (BitVec.ofNat 32 (210 + 5 * r.val))) a + S1x8x128.size a ≤ S1120x8x128.size a := fun v9098 k0_hw199 r => k0_hw199 r

def k0_off581 (v9095 : BitVec 32) (c215_i32_3818 : BitVec 32) : Fin 3 → Nat :=
  let v9145 : BitVec 32 := Scalar.addi c215_i32_3818 v9095
  let v9146 : Index := Scalar.indexCast v9145
  let c0_3819 : Index := 0#32
  let c0_3820 : Index := 0#32
  ![v9146.toNat, 0, 0]

def k0_chk198 (v9095 : BitVec 32) : Prop :=
  (∀ a, (k0_off579 v9095) a + S1x8x128.size a ≤ S1120x8x128.size a) ∧
  (∀ (r : Fin 6), ∀ a, (k0_off581 v9095 (BitVec.ofNat 32 (215 + 5 * r.val))) a + S1x8x128.size a ≤ S1120x8x128.size a)
theorem k0_off579_inb : ∀ (v9095 : BitVec 32) (k0_hw198 : k0_chk198 v9095), ∀ a, (k0_off579 v9095) a + S1x8x128.size a ≤ S1120x8x128.size a := fun v9095 k0_hw198 => k0_hw198.1
theorem k0_off581_inb : ∀ (v9095 : BitVec 32) (k0_hw198 : k0_chk198 v9095), ∀ (r : Fin 6), ∀ a, (k0_off581 v9095 (BitVec.ofNat 32 (215 + 5 * r.val))) a + S1x8x128.size a ≤ S1120x8x128.size a := fun v9095 k0_hw198 r => k0_hw198.2 r

def k0_off582 (i : grid0.Coords) : Fin 3 → Nat :=
  let arg0 : BitVec 32 := BitVec.ofNat 32 (i 0).val
  let v9253 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9254 : Index := Scalar.indexCast v8273
  let c27_3872 : Index := 27#32
  ![v9253.toNat, v9254.toNat, 27]
def k0_off583 (i : grid0.Coords) : Fin 3 → Nat :=
  let arg0 : BitVec 32 := BitVec.ofNat 32 (i 0).val
  let v9256 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9257 : Index := Scalar.indexCast v8273
  let c34_3873 : Index := 34#32
  ![v9256.toNat, v9257.toNat, 34]
def k0_off584 (i : grid0.Coords) : Fin 3 → Nat :=
  let arg0 : BitVec 32 := BitVec.ofNat 32 (i 0).val
  let v9259 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9260 : Index := Scalar.indexCast v8273
  let c41_3874 : Index := 41#32
  ![v9259.toNat, v9260.toNat, 41]
def k0_off585 (i : grid0.Coords) : Fin 3 → Nat :=
  let arg0 : BitVec 32 := BitVec.ofNat 32 (i 0).val
  let v9262 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9263 : Index := Scalar.indexCast v8273
  let c48_3875 : Index := 48#32
  ![v9262.toNat, v9263.toNat, 48]
def k0_off586 (v9255 : BitVec 32) : Fin 3 → Nat :=
  let c210_i32_3880 : BitVec 32 := 210#32
  let v9287 : BitVec 32 := Scalar.addi c210_i32_3880 v9255
  let v9288 : Index := Scalar.indexCast v9287
  let c0_3881 : Index := 0#32
  let c0_3882 : Index := 0#32
  ![v9288.toNat, 0, 0]

def k0_off587 (v9258 : BitVec 32) (c210_i32_3884 : BitVec 32) : Fin 3 → Nat :=
  let v9295 : BitVec 32 := Scalar.addi c210_i32_3884 v9258
  let v9296 : Index := Scalar.indexCast v9295
  let c0_3885 : Index := 0#32
  let c0_3886 : Index := 0#32
  ![v9296.toNat, 0, 0]

def k0_chk201 (v9258 : BitVec 32) : Prop :=
  (∀ (r : Fin 7), ∀ a, (k0_off587 v9258 (BitVec.ofNat 32 (210 + 5 * r.val))) a + S1x8x128.size a ≤ S1120x8x128.size a)
theorem k0_off587_inb : ∀ (v9258 : BitVec 32) (k0_hw201 : k0_chk201 v9258), ∀ (r : Fin 7), ∀ a, (k0_off587 v9258 (BitVec.ofNat 32 (210 + 5 * r.val))) a + S1x8x128.size a ≤ S1120x8x128.size a := fun v9258 k0_hw201 r => k0_hw201 r

def k0_off588 (v9255 : BitVec 32) (c215_i32_3889 : BitVec 32) : Fin 3 → Nat :=
  let v9305 : BitVec 32 := Scalar.addi c215_i32_3889 v9255
  let v9306 : Index := Scalar.indexCast v9305
  let c0_3890 : Index := 0#32
  let c0_3891 : Index := 0#32
  ![v9306.toNat, 0, 0]

def k0_chk200 (v9255 : BitVec 32) : Prop :=
  (∀ a, (k0_off586 v9255) a + S1x8x128.size a ≤ S1120x8x128.size a) ∧
  (∀ (r : Fin 6), ∀ a, (k0_off588 v9255 (BitVec.ofNat 32 (215 + 5 * r.val))) a + S1x8x128.size a ≤ S1120x8x128.size a)
theorem k0_off586_inb : ∀ (v9255 : BitVec 32) (k0_hw200 : k0_chk200 v9255), ∀ a, (k0_off586 v9255) a + S1x8x128.size a ≤ S1120x8x128.size a := fun v9255 k0_hw200 => k0_hw200.1
theorem k0_off588_inb : ∀ (v9255 : BitVec 32) (k0_hw200 : k0_chk200 v9255), ∀ (r : Fin 6), ∀ a, (k0_off588 v9255 (BitVec.ofNat 32 (215 + 5 * r.val))) a + S1x8x128.size a ≤ S1120x8x128.size a := fun v9255 k0_hw200 r => k0_hw200.2 r

def k0_off589 (i : grid0.Coords) : Fin 3 → Nat :=
  let arg0 : BitVec 32 := BitVec.ofNat 32 (i 0).val
  let v9413 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9414 : Index := Scalar.indexCast v8273
  let c28_3943 : Index := 28#32
  ![v9413.toNat, v9414.toNat, 28]
def k0_off590 (i : grid0.Coords) : Fin 3 → Nat :=
  let arg0 : BitVec 32 := BitVec.ofNat 32 (i 0).val
  let v9416 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9417 : Index := Scalar.indexCast v8273
  let c35_3944 : Index := 35#32
  ![v9416.toNat, v9417.toNat, 35]
def k0_off591 (i : grid0.Coords) : Fin 3 → Nat :=
  let arg0 : BitVec 32 := BitVec.ofNat 32 (i 0).val
  let v9419 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9420 : Index := Scalar.indexCast v8273
  let c42_3945 : Index := 42#32
  ![v9419.toNat, v9420.toNat, 42]
def k0_off592 (i : grid0.Coords) : Fin 3 → Nat :=
  let arg0 : BitVec 32 := BitVec.ofNat 32 (i 0).val
  let v9422 : Index := Scalar.indexCast arg0
  let arg1 : BitVec 32 := BitVec.ofNat 32 (i 1).val
  let c32_i32_3459 : BitVec 32 := 32#32
  let v8272 : BitVec 32 := Scalar.muli arg1 c32_i32_3459
  let c6_i32 : BitVec 32 := 6#32
  let v8273 : BitVec 32 := Scalar.addi v8272 c6_i32
  let v9423 : Index := Scalar.indexCast v8273
  let c49_3946 : Index := 49#32
  ![v9422.toNat, v9423.toNat, 49]
def k0_off593 (v9415 : BitVec 32) : Fin 3 → Nat :=
  let c210_i32_3951 : BitVec 32 := 210#32
  let v9447 : BitVec 32 := Scalar.addi c210_i32_3951 v9415
  let v9448 : Index := Scalar.indexCast v9447
  let c0_3952 : Index := 0#32
  let c0_3953 : Index := 0#32
  ![v9448.toNat, 0, 0]

def k0_off594 (v9418 : BitVec 32) (c210_i32_3955 : BitVec 32) : Fin 3 → Nat :=
  let v9455 : BitVec 32 := Scalar.addi c210_i32_3955 v9418
  let v9456 : Index := Scalar.indexCast v9455
  let c0_3956 : Index := 0#32
  let c0_3957 : Index := 0#32
  ![v9456.toNat, 0, 0]

def k0_chk203 (v9418 : BitVec 32) : Prop :=
  (∀ (r : Fin 7), ∀ a, (k0_off594 v9418 (BitVec.ofNat 32 (210 + 5 * r.val))) a + S1x8x128.size a ≤ S1120x8x128.size a)
theorem k0_off594_inb : ∀ (v9418 : BitVec 32) (k0_hw203 : k0_chk203 v9418), ∀ (r : Fin 7), ∀ a, (k0_off594 v9418 (BitVec.ofNat 32 (210 + 5 * r.val))) a + S1x8x128.size a ≤ S1120x8x128.size a := fun v9418 k0_hw203 r => k0_hw203 r

def k0_off595 (v9415 : BitVec 32) (c215_i32_3960 : BitVec 32) : Fin 3 → Nat :=
  let v9465 : BitVec 32 := Scalar.addi c215_i32_3960 v9415
  let v9466 : Index := Scalar.indexCast v9465
  let c0_3961 : Index := 0#32
  let c0_3962 : Index := 0#32
  ![v9466.toNat, 0, 0]

def k0_chk202 (v9415 : BitVec 32) : Prop :=
  (∀ a, (k0_off593 v9415) a + S1x8x128.size a ≤ S1120x8x128.size a) ∧
  (∀ (r : Fin 6), ∀ a, (k0_off595 v9415 (BitVec.ofNat 32 (215 + 5 * r.val))) a + S1x8x128.size a ≤ S1120x8x128.size a)
theorem k0_off593_inb : ∀ (v9415 : BitVec 32) (k0_hw202 : k0_chk202 v9415), ∀ a, (k0_off593 v9415) a + S1x8x128.size a ≤ S1120x8x128.size a := fun v9415 k0_hw202 => k0_hw202.1
theorem k0_off595_inb : ∀ (v9415 : BitVec 32) (k0_hw202 : k0_chk202 v9415), ∀ (r : Fin 6), ∀ a, (k0_off595 v9415 (BitVec.ofNat 32 (215 + 5 * r.val))) a + S1x8x128.size a ≤ S1120x8x128.size a := fun v9415 k0_hw202 r => k0_hw202.2 r

def k0_off596 (i : grid0.Coords) : Fin 3 → Nat :=
  let arg0 : BitVec 32 := BitVec.ofNat 32 (i 0).val
  let v9652 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9653 : Index := Scalar.indexCast v9651
  let c0_4043 : Index := 0#32
  ![v9652.toNat, v9653.toNat, 0]
def k0_mult8 (v9654 : BitVec 32) : BitVec 32 :=
  v9654

def k0_chk204 (v9654 : BitVec 32) : Prop :=
  (8 ∣ (k0_mult8 v9654).toNat)
theorem k0_mult8_dvd : ∀ (v9654 : BitVec 32) (k0_hw204 : k0_chk204 v9654), 8 ∣ (k0_mult8 v9654).toNat := fun v9654 k0_hw204 => k0_hw204

def k0_off597 (i : grid0.Coords) : Fin 3 → Nat :=
  let arg0 : BitVec 32 := BitVec.ofNat 32 (i 0).val
  let v9656 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9657 : Index := Scalar.indexCast v9651
  let c1_4044 : Index := 1#32
  ![v9656.toNat, v9657.toNat, 1]
def k0_off598 (v9654 : BitVec 32) (v9658 : BitVec 32) : Fin 3 → Nat :=
  let v9659 : Index := Scalar.indexCast v9658
  let v9655 : BitVec 32 := v9654
  let v9660 : Index := Scalar.indexCast v9655
  let c0_4045 : Index := 0#32
  ![v9659.toNat, v9660.toNat, 0]

def k0_chk205 (v9654 : BitVec 32) (v9658 : BitVec 32) : Prop :=
  (∀ a, (k0_off598 v9654 v9658) a + S1x40x128.size a ≤ S256x64x128.size a)
theorem k0_off598_inb : ∀ (v9654 : BitVec 32) (v9658 : BitVec 32) (k0_hw205 : k0_chk205 v9654 v9658), ∀ a, (k0_off598 v9654 v9658) a + S1x40x128.size a ≤ S256x64x128.size a := fun v9654 v9658 k0_hw205 => k0_hw205

def k0_off599 (i : grid0.Coords) : Fin 3 → Nat :=
  let arg0 : BitVec 32 := BitVec.ofNat 32 (i 0).val
  let v9663 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9664 : Index := Scalar.indexCast v9651
  let c8_4046 : Index := 8#32
  ![v9663.toNat, v9664.toNat, 8]
def k0_off600 (v9654 : BitVec 32) (v9665 : BitVec 32) : Fin 3 → Nat :=
  let v9666 : Index := Scalar.indexCast v9665
  let v9655 : BitVec 32 := v9654
  let v9667 : Index := Scalar.indexCast v9655
  let c0_4047 : Index := 0#32
  ![v9666.toNat, v9667.toNat, 0]

def k0_chk206 (v9654 : BitVec 32) (v9665 : BitVec 32) : Prop :=
  (∀ a, (k0_off600 v9654 v9665) a + S1x40x128.size a ≤ S256x64x128.size a)
theorem k0_off600_inb : ∀ (v9654 : BitVec 32) (v9665 : BitVec 32) (k0_hw206 : k0_chk206 v9654 v9665), ∀ a, (k0_off600 v9654 v9665) a + S1x40x128.size a ≤ S256x64x128.size a := fun v9654 v9665 k0_hw206 => k0_hw206

def k0_off601 (i : grid0.Coords) : Fin 3 → Nat :=
  let arg0 : BitVec 32 := BitVec.ofNat 32 (i 0).val
  let v9671 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9672 : Index := Scalar.indexCast v9651
  let c15_4048 : Index := 15#32
  ![v9671.toNat, v9672.toNat, 15]
def k0_off602 (i : grid0.Coords) : Fin 3 → Nat :=
  let arg0 : BitVec 32 := BitVec.ofNat 32 (i 0).val
  let v9681 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9682 : Index := Scalar.indexCast v9651
  let c2_4053 : Index := 2#32
  ![v9681.toNat, v9682.toNat, 2]
def k0_off603 (v9654 : BitVec 32) (v9683 : BitVec 32) : Fin 3 → Nat :=
  let v9684 : Index := Scalar.indexCast v9683
  let v9655 : BitVec 32 := v9654
  let v9685 : Index := Scalar.indexCast v9655
  let c0_4054 : Index := 0#32
  ![v9684.toNat, v9685.toNat, 0]

def k0_chk207 (v9654 : BitVec 32) (v9683 : BitVec 32) : Prop :=
  (∀ a, (k0_off603 v9654 v9683) a + S1x40x128.size a ≤ S256x64x128.size a)
theorem k0_off603_inb : ∀ (v9654 : BitVec 32) (v9683 : BitVec 32) (k0_hw207 : k0_chk207 v9654 v9683), ∀ a, (k0_off603 v9654 v9683) a + S1x40x128.size a ≤ S256x64x128.size a := fun v9654 v9683 k0_hw207 => k0_hw207

def k0_off604 (i : grid0.Coords) : Fin 3 → Nat :=
  let arg0 : BitVec 32 := BitVec.ofNat 32 (i 0).val
  let v9688 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9689 : Index := Scalar.indexCast v9651
  let c9_4055 : Index := 9#32
  ![v9688.toNat, v9689.toNat, 9]
def k0_off605 (v9654 : BitVec 32) (v9690 : BitVec 32) : Fin 3 → Nat :=
  let v9691 : Index := Scalar.indexCast v9690
  let v9655 : BitVec 32 := v9654
  let v9692 : Index := Scalar.indexCast v9655
  let c0_4056 : Index := 0#32
  ![v9691.toNat, v9692.toNat, 0]

def k0_chk208 (v9654 : BitVec 32) (v9690 : BitVec 32) : Prop :=
  (∀ a, (k0_off605 v9654 v9690) a + S1x40x128.size a ≤ S256x64x128.size a)
theorem k0_off605_inb : ∀ (v9654 : BitVec 32) (v9690 : BitVec 32) (k0_hw208 : k0_chk208 v9654 v9690), ∀ a, (k0_off605 v9654 v9690) a + S1x40x128.size a ≤ S256x64x128.size a := fun v9654 v9690 k0_hw208 => k0_hw208

def k0_off606 (i : grid0.Coords) : Fin 3 → Nat :=
  let arg0 : BitVec 32 := BitVec.ofNat 32 (i 0).val
  let v9696 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9697 : Index := Scalar.indexCast v9651
  let c16_4057 : Index := 16#32
  ![v9696.toNat, v9697.toNat, 16]
def k0_off607 (i : grid0.Coords) : Fin 3 → Nat :=
  let arg0 : BitVec 32 := BitVec.ofNat 32 (i 0).val
  let v9706 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9707 : Index := Scalar.indexCast v9651
  let c3_4062 : Index := 3#32
  ![v9706.toNat, v9707.toNat, 3]
def k0_off608 (v9654 : BitVec 32) (v9708 : BitVec 32) : Fin 3 → Nat :=
  let v9709 : Index := Scalar.indexCast v9708
  let v9655 : BitVec 32 := v9654
  let v9710 : Index := Scalar.indexCast v9655
  let c0_4063 : Index := 0#32
  ![v9709.toNat, v9710.toNat, 0]

def k0_chk209 (v9654 : BitVec 32) (v9708 : BitVec 32) : Prop :=
  (∀ a, (k0_off608 v9654 v9708) a + S1x40x128.size a ≤ S256x64x128.size a)
theorem k0_off608_inb : ∀ (v9654 : BitVec 32) (v9708 : BitVec 32) (k0_hw209 : k0_chk209 v9654 v9708), ∀ a, (k0_off608 v9654 v9708) a + S1x40x128.size a ≤ S256x64x128.size a := fun v9654 v9708 k0_hw209 => k0_hw209

def k0_off609 (i : grid0.Coords) : Fin 3 → Nat :=
  let arg0 : BitVec 32 := BitVec.ofNat 32 (i 0).val
  let v9713 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9714 : Index := Scalar.indexCast v9651
  let c10_4064 : Index := 10#32
  ![v9713.toNat, v9714.toNat, 10]
def k0_off610 (v9654 : BitVec 32) (v9715 : BitVec 32) : Fin 3 → Nat :=
  let v9716 : Index := Scalar.indexCast v9715
  let v9655 : BitVec 32 := v9654
  let v9717 : Index := Scalar.indexCast v9655
  let c0_4065 : Index := 0#32
  ![v9716.toNat, v9717.toNat, 0]

def k0_chk210 (v9654 : BitVec 32) (v9715 : BitVec 32) : Prop :=
  (∀ a, (k0_off610 v9654 v9715) a + S1x40x128.size a ≤ S256x64x128.size a)
theorem k0_off610_inb : ∀ (v9654 : BitVec 32) (v9715 : BitVec 32) (k0_hw210 : k0_chk210 v9654 v9715), ∀ a, (k0_off610 v9654 v9715) a + S1x40x128.size a ≤ S256x64x128.size a := fun v9654 v9715 k0_hw210 => k0_hw210

def k0_off611 (i : grid0.Coords) : Fin 3 → Nat :=
  let arg0 : BitVec 32 := BitVec.ofNat 32 (i 0).val
  let v9721 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9722 : Index := Scalar.indexCast v9651
  let c17_4066 : Index := 17#32
  ![v9721.toNat, v9722.toNat, 17]
def k0_off612 (i : grid0.Coords) : Fin 3 → Nat :=
  let arg0 : BitVec 32 := BitVec.ofNat 32 (i 0).val
  let v9731 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9732 : Index := Scalar.indexCast v9651
  let c4_4071 : Index := 4#32
  ![v9731.toNat, v9732.toNat, 4]
def k0_off613 (v9654 : BitVec 32) (v9733 : BitVec 32) : Fin 3 → Nat :=
  let v9734 : Index := Scalar.indexCast v9733
  let v9655 : BitVec 32 := v9654
  let v9735 : Index := Scalar.indexCast v9655
  let c0_4072 : Index := 0#32
  ![v9734.toNat, v9735.toNat, 0]

def k0_chk211 (v9654 : BitVec 32) (v9733 : BitVec 32) : Prop :=
  (∀ a, (k0_off613 v9654 v9733) a + S1x40x128.size a ≤ S256x64x128.size a)
theorem k0_off613_inb : ∀ (v9654 : BitVec 32) (v9733 : BitVec 32) (k0_hw211 : k0_chk211 v9654 v9733), ∀ a, (k0_off613 v9654 v9733) a + S1x40x128.size a ≤ S256x64x128.size a := fun v9654 v9733 k0_hw211 => k0_hw211

def k0_off614 (i : grid0.Coords) : Fin 3 → Nat :=
  let arg0 : BitVec 32 := BitVec.ofNat 32 (i 0).val
  let v9738 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9739 : Index := Scalar.indexCast v9651
  let c11_4073 : Index := 11#32
  ![v9738.toNat, v9739.toNat, 11]
def k0_off615 (v9654 : BitVec 32) (v9740 : BitVec 32) : Fin 3 → Nat :=
  let v9741 : Index := Scalar.indexCast v9740
  let v9655 : BitVec 32 := v9654
  let v9742 : Index := Scalar.indexCast v9655
  let c0_4074 : Index := 0#32
  ![v9741.toNat, v9742.toNat, 0]

def k0_chk212 (v9654 : BitVec 32) (v9740 : BitVec 32) : Prop :=
  (∀ a, (k0_off615 v9654 v9740) a + S1x40x128.size a ≤ S256x64x128.size a)
theorem k0_off615_inb : ∀ (v9654 : BitVec 32) (v9740 : BitVec 32) (k0_hw212 : k0_chk212 v9654 v9740), ∀ a, (k0_off615 v9654 v9740) a + S1x40x128.size a ≤ S256x64x128.size a := fun v9654 v9740 k0_hw212 => k0_hw212

def k0_off616 (i : grid0.Coords) : Fin 3 → Nat :=
  let arg0 : BitVec 32 := BitVec.ofNat 32 (i 0).val
  let v9746 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9747 : Index := Scalar.indexCast v9651
  let c18_4075 : Index := 18#32
  ![v9746.toNat, v9747.toNat, 18]
def k0_off617 (i : grid0.Coords) : Fin 3 → Nat :=
  let arg0 : BitVec 32 := BitVec.ofNat 32 (i 0).val
  let v9756 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9757 : Index := Scalar.indexCast v9651
  let c5_4080 : Index := 5#32
  ![v9756.toNat, v9757.toNat, 5]
def k0_off618 (v9654 : BitVec 32) (v9758 : BitVec 32) : Fin 3 → Nat :=
  let v9759 : Index := Scalar.indexCast v9758
  let v9655 : BitVec 32 := v9654
  let v9760 : Index := Scalar.indexCast v9655
  let c0_4081 : Index := 0#32
  ![v9759.toNat, v9760.toNat, 0]

def k0_chk213 (v9654 : BitVec 32) (v9758 : BitVec 32) : Prop :=
  (∀ a, (k0_off618 v9654 v9758) a + S1x40x128.size a ≤ S256x64x128.size a)
theorem k0_off618_inb : ∀ (v9654 : BitVec 32) (v9758 : BitVec 32) (k0_hw213 : k0_chk213 v9654 v9758), ∀ a, (k0_off618 v9654 v9758) a + S1x40x128.size a ≤ S256x64x128.size a := fun v9654 v9758 k0_hw213 => k0_hw213

def k0_off619 (i : grid0.Coords) : Fin 3 → Nat :=
  let arg0 : BitVec 32 := BitVec.ofNat 32 (i 0).val
  let v9763 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9764 : Index := Scalar.indexCast v9651
  let c12_4082 : Index := 12#32
  ![v9763.toNat, v9764.toNat, 12]
def k0_off620 (v9654 : BitVec 32) (v9765 : BitVec 32) : Fin 3 → Nat :=
  let v9766 : Index := Scalar.indexCast v9765
  let v9655 : BitVec 32 := v9654
  let v9767 : Index := Scalar.indexCast v9655
  let c0_4083 : Index := 0#32
  ![v9766.toNat, v9767.toNat, 0]

def k0_chk214 (v9654 : BitVec 32) (v9765 : BitVec 32) : Prop :=
  (∀ a, (k0_off620 v9654 v9765) a + S1x40x128.size a ≤ S256x64x128.size a)
theorem k0_off620_inb : ∀ (v9654 : BitVec 32) (v9765 : BitVec 32) (k0_hw214 : k0_chk214 v9654 v9765), ∀ a, (k0_off620 v9654 v9765) a + S1x40x128.size a ≤ S256x64x128.size a := fun v9654 v9765 k0_hw214 => k0_hw214

def k0_off621 (i : grid0.Coords) : Fin 3 → Nat :=
  let arg0 : BitVec 32 := BitVec.ofNat 32 (i 0).val
  let v9771 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9772 : Index := Scalar.indexCast v9651
  let c19_4084 : Index := 19#32
  ![v9771.toNat, v9772.toNat, 19]
def k0_off622 (i : grid0.Coords) : Fin 3 → Nat :=
  let arg0 : BitVec 32 := BitVec.ofNat 32 (i 0).val
  let v9781 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9782 : Index := Scalar.indexCast v9651
  let c6_4089 : Index := 6#32
  ![v9781.toNat, v9782.toNat, 6]
def k0_off623 (v9654 : BitVec 32) (v9783 : BitVec 32) : Fin 3 → Nat :=
  let v9784 : Index := Scalar.indexCast v9783
  let v9655 : BitVec 32 := v9654
  let v9785 : Index := Scalar.indexCast v9655
  let c0_4090 : Index := 0#32
  ![v9784.toNat, v9785.toNat, 0]

def k0_chk215 (v9654 : BitVec 32) (v9783 : BitVec 32) : Prop :=
  (∀ a, (k0_off623 v9654 v9783) a + S1x40x128.size a ≤ S256x64x128.size a)
theorem k0_off623_inb : ∀ (v9654 : BitVec 32) (v9783 : BitVec 32) (k0_hw215 : k0_chk215 v9654 v9783), ∀ a, (k0_off623 v9654 v9783) a + S1x40x128.size a ≤ S256x64x128.size a := fun v9654 v9783 k0_hw215 => k0_hw215

def k0_off624 (i : grid0.Coords) : Fin 3 → Nat :=
  let arg0 : BitVec 32 := BitVec.ofNat 32 (i 0).val
  let v9788 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9789 : Index := Scalar.indexCast v9651
  let c13_4091 : Index := 13#32
  ![v9788.toNat, v9789.toNat, 13]
def k0_off625 (v9654 : BitVec 32) (v9790 : BitVec 32) : Fin 3 → Nat :=
  let v9791 : Index := Scalar.indexCast v9790
  let v9655 : BitVec 32 := v9654
  let v9792 : Index := Scalar.indexCast v9655
  let c0_4092 : Index := 0#32
  ![v9791.toNat, v9792.toNat, 0]

def k0_chk216 (v9654 : BitVec 32) (v9790 : BitVec 32) : Prop :=
  (∀ a, (k0_off625 v9654 v9790) a + S1x40x128.size a ≤ S256x64x128.size a)
theorem k0_off625_inb : ∀ (v9654 : BitVec 32) (v9790 : BitVec 32) (k0_hw216 : k0_chk216 v9654 v9790), ∀ a, (k0_off625 v9654 v9790) a + S1x40x128.size a ≤ S256x64x128.size a := fun v9654 v9790 k0_hw216 => k0_hw216

def k0_off626 (i : grid0.Coords) : Fin 3 → Nat :=
  let arg0 : BitVec 32 := BitVec.ofNat 32 (i 0).val
  let v9796 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9797 : Index := Scalar.indexCast v9651
  let c20_4093 : Index := 20#32
  ![v9796.toNat, v9797.toNat, 20]
def k0_off627 (i : grid0.Coords) : Fin 3 → Nat :=
  let arg0 : BitVec 32 := BitVec.ofNat 32 (i 0).val
  let v9806 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9807 : Index := Scalar.indexCast v9651
  let c7_4098 : Index := 7#32
  ![v9806.toNat, v9807.toNat, 7]
def k0_off628 (v9654 : BitVec 32) (v9808 : BitVec 32) : Fin 3 → Nat :=
  let v9809 : Index := Scalar.indexCast v9808
  let v9655 : BitVec 32 := v9654
  let v9810 : Index := Scalar.indexCast v9655
  let c0_4099 : Index := 0#32
  ![v9809.toNat, v9810.toNat, 0]

def k0_chk217 (v9654 : BitVec 32) (v9808 : BitVec 32) : Prop :=
  (∀ a, (k0_off628 v9654 v9808) a + S1x40x128.size a ≤ S256x64x128.size a)
theorem k0_off628_inb : ∀ (v9654 : BitVec 32) (v9808 : BitVec 32) (k0_hw217 : k0_chk217 v9654 v9808), ∀ a, (k0_off628 v9654 v9808) a + S1x40x128.size a ≤ S256x64x128.size a := fun v9654 v9808 k0_hw217 => k0_hw217

def k0_off629 (i : grid0.Coords) : Fin 3 → Nat :=
  let arg0 : BitVec 32 := BitVec.ofNat 32 (i 0).val
  let v9813 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9814 : Index := Scalar.indexCast v9651
  let c14_4100 : Index := 14#32
  ![v9813.toNat, v9814.toNat, 14]
def k0_off630 (v9654 : BitVec 32) (v9815 : BitVec 32) : Fin 3 → Nat :=
  let v9816 : Index := Scalar.indexCast v9815
  let v9655 : BitVec 32 := v9654
  let v9817 : Index := Scalar.indexCast v9655
  let c0_4101 : Index := 0#32
  ![v9816.toNat, v9817.toNat, 0]

def k0_chk218 (v9654 : BitVec 32) (v9815 : BitVec 32) : Prop :=
  (∀ a, (k0_off630 v9654 v9815) a + S1x40x128.size a ≤ S256x64x128.size a)
theorem k0_off630_inb : ∀ (v9654 : BitVec 32) (v9815 : BitVec 32) (k0_hw218 : k0_chk218 v9654 v9815), ∀ a, (k0_off630 v9654 v9815) a + S1x40x128.size a ≤ S256x64x128.size a := fun v9654 v9815 k0_hw218 => k0_hw218

def k0_off631 (i : grid0.Coords) : Fin 3 → Nat :=
  let arg0 : BitVec 32 := BitVec.ofNat 32 (i 0).val
  let v9821 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9822 : Index := Scalar.indexCast v9651
  let c21_4102 : Index := 21#32
  ![v9821.toNat, v9822.toNat, 21]
def k0_off632 (i : grid0.Coords) : Fin 3 → Nat :=
  let arg0 : BitVec 32 := BitVec.ofNat 32 (i 0).val
  let v9831 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9832 : Index := Scalar.indexCast v9651
  let c22_4107 : Index := 22#32
  ![v9831.toNat, v9832.toNat, 22]
def k0_off633 (i : grid0.Coords) : Fin 3 → Nat :=
  let arg0 : BitVec 32 := BitVec.ofNat 32 (i 0).val
  let v9834 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9835 : Index := Scalar.indexCast v9651
  let c29_4108 : Index := 29#32
  ![v9834.toNat, v9835.toNat, 29]
def k0_off634 (i : grid0.Coords) : Fin 3 → Nat :=
  let arg0 : BitVec 32 := BitVec.ofNat 32 (i 0).val
  let v9837 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9838 : Index := Scalar.indexCast v9651
  let c36_4109 : Index := 36#32
  ![v9837.toNat, v9838.toNat, 36]
def k0_off635 (i : grid0.Coords) : Fin 3 → Nat :=
  let arg0 : BitVec 32 := BitVec.ofNat 32 (i 0).val
  let v9840 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9841 : Index := Scalar.indexCast v9651
  let c43_4110 : Index := 43#32
  ![v9840.toNat, v9841.toNat, 43]
def k0_off636 (v9833 : BitVec 32) : Fin 3 → Nat :=
  let c245_i32 : BitVec 32 := 245#32
  let v9865 : BitVec 32 := Scalar.addi c245_i32 v9833
  let v9866 : Index := Scalar.indexCast v9865
  let c0_4115 : Index := 0#32
  let c0_4116 : Index := 0#32
  ![v9866.toNat, 0, 0]

def k0_off637 (v9836 : BitVec 32) (c245_i32_4118 : BitVec 32) : Fin 3 → Nat :=
  let v9873 : BitVec 32 := Scalar.addi c245_i32_4118 v9836
  let v9874 : Index := Scalar.indexCast v9873
  let c0_4119 : Index := 0#32
  let c0_4120 : Index := 0#32
  ![v9874.toNat, 0, 0]

def k0_chk220 (v9836 : BitVec 32) : Prop :=
  (∀ (r : Fin 7), ∀ a, (k0_off637 v9836 (BitVec.ofNat 32 (245 + 5 * r.val))) a + S1x8x128.size a ≤ S1120x8x128.size a)
theorem k0_off637_inb : ∀ (v9836 : BitVec 32) (k0_hw220 : k0_chk220 v9836), ∀ (r : Fin 7), ∀ a, (k0_off637 v9836 (BitVec.ofNat 32 (245 + 5 * r.val))) a + S1x8x128.size a ≤ S1120x8x128.size a := fun v9836 k0_hw220 r => k0_hw220 r

def k0_off638 (v9833 : BitVec 32) (c250_i32 : BitVec 32) : Fin 3 → Nat :=
  let v9883 : BitVec 32 := Scalar.addi c250_i32 v9833
  let v9884 : Index := Scalar.indexCast v9883
  let c0_4123 : Index := 0#32
  let c0_4124 : Index := 0#32
  ![v9884.toNat, 0, 0]

def k0_chk219 (v9833 : BitVec 32) : Prop :=
  (∀ a, (k0_off636 v9833) a + S1x8x128.size a ≤ S1120x8x128.size a) ∧
  (∀ (r : Fin 6), ∀ a, (k0_off638 v9833 (BitVec.ofNat 32 (250 + 5 * r.val))) a + S1x8x128.size a ≤ S1120x8x128.size a)
theorem k0_off636_inb : ∀ (v9833 : BitVec 32) (k0_hw219 : k0_chk219 v9833), ∀ a, (k0_off636 v9833) a + S1x8x128.size a ≤ S1120x8x128.size a := fun v9833 k0_hw219 => k0_hw219.1
theorem k0_off638_inb : ∀ (v9833 : BitVec 32) (k0_hw219 : k0_chk219 v9833), ∀ (r : Fin 6), ∀ a, (k0_off638 v9833 (BitVec.ofNat 32 (250 + 5 * r.val))) a + S1x8x128.size a ≤ S1120x8x128.size a := fun v9833 k0_hw219 r => k0_hw219.2 r

def k0_off639 (i : grid0.Coords) : Fin 3 → Nat :=
  let arg0 : BitVec 32 := BitVec.ofNat 32 (i 0).val
  let v9991 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9992 : Index := Scalar.indexCast v9651
  let c23_4171 : Index := 23#32
  ![v9991.toNat, v9992.toNat, 23]
def k0_off640 (i : grid0.Coords) : Fin 3 → Nat :=
  let arg0 : BitVec 32 := BitVec.ofNat 32 (i 0).val
  let v9994 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9995 : Index := Scalar.indexCast v9651
  let c30_4172 : Index := 30#32
  ![v9994.toNat, v9995.toNat, 30]
def k0_off641 (i : grid0.Coords) : Fin 3 → Nat :=
  let arg0 : BitVec 32 := BitVec.ofNat 32 (i 0).val
  let v9997 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v9998 : Index := Scalar.indexCast v9651
  let c37_4173 : Index := 37#32
  ![v9997.toNat, v9998.toNat, 37]
def k0_off642 (i : grid0.Coords) : Fin 3 → Nat :=
  let arg0 : BitVec 32 := BitVec.ofNat 32 (i 0).val
  let v10000 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10001 : Index := Scalar.indexCast v9651
  let c44_4174 : Index := 44#32
  ![v10000.toNat, v10001.toNat, 44]
def k0_off643 (v9993 : BitVec 32) : Fin 3 → Nat :=
  let c245_i32_4179 : BitVec 32 := 245#32
  let v10025 : BitVec 32 := Scalar.addi c245_i32_4179 v9993
  let v10026 : Index := Scalar.indexCast v10025
  let c0_4180 : Index := 0#32
  let c0_4181 : Index := 0#32
  ![v10026.toNat, 0, 0]

def k0_off644 (v9996 : BitVec 32) (c245_i32_4183 : BitVec 32) : Fin 3 → Nat :=
  let v10033 : BitVec 32 := Scalar.addi c245_i32_4183 v9996
  let v10034 : Index := Scalar.indexCast v10033
  let c0_4184 : Index := 0#32
  let c0_4185 : Index := 0#32
  ![v10034.toNat, 0, 0]

def k0_chk222 (v9996 : BitVec 32) : Prop :=
  (∀ (r : Fin 7), ∀ a, (k0_off644 v9996 (BitVec.ofNat 32 (245 + 5 * r.val))) a + S1x8x128.size a ≤ S1120x8x128.size a)
theorem k0_off644_inb : ∀ (v9996 : BitVec 32) (k0_hw222 : k0_chk222 v9996), ∀ (r : Fin 7), ∀ a, (k0_off644 v9996 (BitVec.ofNat 32 (245 + 5 * r.val))) a + S1x8x128.size a ≤ S1120x8x128.size a := fun v9996 k0_hw222 r => k0_hw222 r

def k0_off645 (v9993 : BitVec 32) (c250_i32_4188 : BitVec 32) : Fin 3 → Nat :=
  let v10043 : BitVec 32 := Scalar.addi c250_i32_4188 v9993
  let v10044 : Index := Scalar.indexCast v10043
  let c0_4189 : Index := 0#32
  let c0_4190 : Index := 0#32
  ![v10044.toNat, 0, 0]

def k0_chk221 (v9993 : BitVec 32) : Prop :=
  (∀ a, (k0_off643 v9993) a + S1x8x128.size a ≤ S1120x8x128.size a) ∧
  (∀ (r : Fin 6), ∀ a, (k0_off645 v9993 (BitVec.ofNat 32 (250 + 5 * r.val))) a + S1x8x128.size a ≤ S1120x8x128.size a)
theorem k0_off643_inb : ∀ (v9993 : BitVec 32) (k0_hw221 : k0_chk221 v9993), ∀ a, (k0_off643 v9993) a + S1x8x128.size a ≤ S1120x8x128.size a := fun v9993 k0_hw221 => k0_hw221.1
theorem k0_off645_inb : ∀ (v9993 : BitVec 32) (k0_hw221 : k0_chk221 v9993), ∀ (r : Fin 6), ∀ a, (k0_off645 v9993 (BitVec.ofNat 32 (250 + 5 * r.val))) a + S1x8x128.size a ≤ S1120x8x128.size a := fun v9993 k0_hw221 r => k0_hw221.2 r

def k0_off646 (i : grid0.Coords) : Fin 3 → Nat :=
  let arg0 : BitVec 32 := BitVec.ofNat 32 (i 0).val
  let v10151 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10152 : Index := Scalar.indexCast v9651
  let c24_4242 : Index := 24#32
  ![v10151.toNat, v10152.toNat, 24]
def k0_off647 (i : grid0.Coords) : Fin 3 → Nat :=
  let arg0 : BitVec 32 := BitVec.ofNat 32 (i 0).val
  let v10154 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10155 : Index := Scalar.indexCast v9651
  let c31_4243 : Index := 31#32
  ![v10154.toNat, v10155.toNat, 31]
def k0_off648 (i : grid0.Coords) : Fin 3 → Nat :=
  let arg0 : BitVec 32 := BitVec.ofNat 32 (i 0).val
  let v10157 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10158 : Index := Scalar.indexCast v9651
  let c38_4244 : Index := 38#32
  ![v10157.toNat, v10158.toNat, 38]
def k0_off649 (i : grid0.Coords) : Fin 3 → Nat :=
  let arg0 : BitVec 32 := BitVec.ofNat 32 (i 0).val
  let v10160 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10161 : Index := Scalar.indexCast v9651
  let c45_4245 : Index := 45#32
  ![v10160.toNat, v10161.toNat, 45]
def k0_off650 (v10153 : BitVec 32) : Fin 3 → Nat :=
  let c245_i32_4250 : BitVec 32 := 245#32
  let v10185 : BitVec 32 := Scalar.addi c245_i32_4250 v10153
  let v10186 : Index := Scalar.indexCast v10185
  let c0_4251 : Index := 0#32
  let c0_4252 : Index := 0#32
  ![v10186.toNat, 0, 0]

def k0_off651 (v10156 : BitVec 32) (c245_i32_4254 : BitVec 32) : Fin 3 → Nat :=
  let v10193 : BitVec 32 := Scalar.addi c245_i32_4254 v10156
  let v10194 : Index := Scalar.indexCast v10193
  let c0_4255 : Index := 0#32
  let c0_4256 : Index := 0#32
  ![v10194.toNat, 0, 0]

def k0_chk224 (v10156 : BitVec 32) : Prop :=
  (∀ (r : Fin 7), ∀ a, (k0_off651 v10156 (BitVec.ofNat 32 (245 + 5 * r.val))) a + S1x8x128.size a ≤ S1120x8x128.size a)
theorem k0_off651_inb : ∀ (v10156 : BitVec 32) (k0_hw224 : k0_chk224 v10156), ∀ (r : Fin 7), ∀ a, (k0_off651 v10156 (BitVec.ofNat 32 (245 + 5 * r.val))) a + S1x8x128.size a ≤ S1120x8x128.size a := fun v10156 k0_hw224 r => k0_hw224 r

def k0_off652 (v10153 : BitVec 32) (c250_i32_4259 : BitVec 32) : Fin 3 → Nat :=
  let v10203 : BitVec 32 := Scalar.addi c250_i32_4259 v10153
  let v10204 : Index := Scalar.indexCast v10203
  let c0_4260 : Index := 0#32
  let c0_4261 : Index := 0#32
  ![v10204.toNat, 0, 0]

def k0_chk223 (v10153 : BitVec 32) : Prop :=
  (∀ a, (k0_off650 v10153) a + S1x8x128.size a ≤ S1120x8x128.size a) ∧
  (∀ (r : Fin 6), ∀ a, (k0_off652 v10153 (BitVec.ofNat 32 (250 + 5 * r.val))) a + S1x8x128.size a ≤ S1120x8x128.size a)
theorem k0_off650_inb : ∀ (v10153 : BitVec 32) (k0_hw223 : k0_chk223 v10153), ∀ a, (k0_off650 v10153) a + S1x8x128.size a ≤ S1120x8x128.size a := fun v10153 k0_hw223 => k0_hw223.1
theorem k0_off652_inb : ∀ (v10153 : BitVec 32) (k0_hw223 : k0_chk223 v10153), ∀ (r : Fin 6), ∀ a, (k0_off652 v10153 (BitVec.ofNat 32 (250 + 5 * r.val))) a + S1x8x128.size a ≤ S1120x8x128.size a := fun v10153 k0_hw223 r => k0_hw223.2 r

def k0_off653 (i : grid0.Coords) : Fin 3 → Nat :=
  let arg0 : BitVec 32 := BitVec.ofNat 32 (i 0).val
  let v10311 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10312 : Index := Scalar.indexCast v9651
  let c25_4313 : Index := 25#32
  ![v10311.toNat, v10312.toNat, 25]
def k0_off654 (i : grid0.Coords) : Fin 3 → Nat :=
  let arg0 : BitVec 32 := BitVec.ofNat 32 (i 0).val
  let v10314 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10315 : Index := Scalar.indexCast v9651
  let c32_4314 : Index := 32#32
  ![v10314.toNat, v10315.toNat, 32]
def k0_off655 (i : grid0.Coords) : Fin 3 → Nat :=
  let arg0 : BitVec 32 := BitVec.ofNat 32 (i 0).val
  let v10317 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10318 : Index := Scalar.indexCast v9651
  let c39_4315 : Index := 39#32
  ![v10317.toNat, v10318.toNat, 39]
def k0_off656 (i : grid0.Coords) : Fin 3 → Nat :=
  let arg0 : BitVec 32 := BitVec.ofNat 32 (i 0).val
  let v10320 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10321 : Index := Scalar.indexCast v9651
  let c46_4316 : Index := 46#32
  ![v10320.toNat, v10321.toNat, 46]
def k0_off657 (v10313 : BitVec 32) : Fin 3 → Nat :=
  let c245_i32_4321 : BitVec 32 := 245#32
  let v10345 : BitVec 32 := Scalar.addi c245_i32_4321 v10313
  let v10346 : Index := Scalar.indexCast v10345
  let c0_4322 : Index := 0#32
  let c0_4323 : Index := 0#32
  ![v10346.toNat, 0, 0]

def k0_off658 (v10316 : BitVec 32) (c245_i32_4325 : BitVec 32) : Fin 3 → Nat :=
  let v10353 : BitVec 32 := Scalar.addi c245_i32_4325 v10316
  let v10354 : Index := Scalar.indexCast v10353
  let c0_4326 : Index := 0#32
  let c0_4327 : Index := 0#32
  ![v10354.toNat, 0, 0]

def k0_chk226 (v10316 : BitVec 32) : Prop :=
  (∀ (r : Fin 7), ∀ a, (k0_off658 v10316 (BitVec.ofNat 32 (245 + 5 * r.val))) a + S1x8x128.size a ≤ S1120x8x128.size a)
theorem k0_off658_inb : ∀ (v10316 : BitVec 32) (k0_hw226 : k0_chk226 v10316), ∀ (r : Fin 7), ∀ a, (k0_off658 v10316 (BitVec.ofNat 32 (245 + 5 * r.val))) a + S1x8x128.size a ≤ S1120x8x128.size a := fun v10316 k0_hw226 r => k0_hw226 r

def k0_off659 (v10313 : BitVec 32) (c250_i32_4330 : BitVec 32) : Fin 3 → Nat :=
  let v10363 : BitVec 32 := Scalar.addi c250_i32_4330 v10313
  let v10364 : Index := Scalar.indexCast v10363
  let c0_4331 : Index := 0#32
  let c0_4332 : Index := 0#32
  ![v10364.toNat, 0, 0]

def k0_chk225 (v10313 : BitVec 32) : Prop :=
  (∀ a, (k0_off657 v10313) a + S1x8x128.size a ≤ S1120x8x128.size a) ∧
  (∀ (r : Fin 6), ∀ a, (k0_off659 v10313 (BitVec.ofNat 32 (250 + 5 * r.val))) a + S1x8x128.size a ≤ S1120x8x128.size a)
theorem k0_off657_inb : ∀ (v10313 : BitVec 32) (k0_hw225 : k0_chk225 v10313), ∀ a, (k0_off657 v10313) a + S1x8x128.size a ≤ S1120x8x128.size a := fun v10313 k0_hw225 => k0_hw225.1
theorem k0_off659_inb : ∀ (v10313 : BitVec 32) (k0_hw225 : k0_chk225 v10313), ∀ (r : Fin 6), ∀ a, (k0_off659 v10313 (BitVec.ofNat 32 (250 + 5 * r.val))) a + S1x8x128.size a ≤ S1120x8x128.size a := fun v10313 k0_hw225 r => k0_hw225.2 r

def k0_off660 (i : grid0.Coords) : Fin 3 → Nat :=
  let arg0 : BitVec 32 := BitVec.ofNat 32 (i 0).val
  let v10471 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10472 : Index := Scalar.indexCast v9651
  let c26_4384 : Index := 26#32
  ![v10471.toNat, v10472.toNat, 26]
def k0_off661 (i : grid0.Coords) : Fin 3 → Nat :=
  let arg0 : BitVec 32 := BitVec.ofNat 32 (i 0).val
  let v10474 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10475 : Index := Scalar.indexCast v9651
  let c33_4385 : Index := 33#32
  ![v10474.toNat, v10475.toNat, 33]
def k0_off662 (i : grid0.Coords) : Fin 3 → Nat :=
  let arg0 : BitVec 32 := BitVec.ofNat 32 (i 0).val
  let v10477 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10478 : Index := Scalar.indexCast v9651
  let c40_4386 : Index := 40#32
  ![v10477.toNat, v10478.toNat, 40]
def k0_off663 (i : grid0.Coords) : Fin 3 → Nat :=
  let arg0 : BitVec 32 := BitVec.ofNat 32 (i 0).val
  let v10480 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10481 : Index := Scalar.indexCast v9651
  let c47_4387 : Index := 47#32
  ![v10480.toNat, v10481.toNat, 47]
def k0_off664 (v10473 : BitVec 32) : Fin 3 → Nat :=
  let c245_i32_4392 : BitVec 32 := 245#32
  let v10505 : BitVec 32 := Scalar.addi c245_i32_4392 v10473
  let v10506 : Index := Scalar.indexCast v10505
  let c0_4393 : Index := 0#32
  let c0_4394 : Index := 0#32
  ![v10506.toNat, 0, 0]

def k0_off665 (v10476 : BitVec 32) (c245_i32_4396 : BitVec 32) : Fin 3 → Nat :=
  let v10513 : BitVec 32 := Scalar.addi c245_i32_4396 v10476
  let v10514 : Index := Scalar.indexCast v10513
  let c0_4397 : Index := 0#32
  let c0_4398 : Index := 0#32
  ![v10514.toNat, 0, 0]

def k0_chk228 (v10476 : BitVec 32) : Prop :=
  (∀ (r : Fin 7), ∀ a, (k0_off665 v10476 (BitVec.ofNat 32 (245 + 5 * r.val))) a + S1x8x128.size a ≤ S1120x8x128.size a)
theorem k0_off665_inb : ∀ (v10476 : BitVec 32) (k0_hw228 : k0_chk228 v10476), ∀ (r : Fin 7), ∀ a, (k0_off665 v10476 (BitVec.ofNat 32 (245 + 5 * r.val))) a + S1x8x128.size a ≤ S1120x8x128.size a := fun v10476 k0_hw228 r => k0_hw228 r

def k0_off666 (v10473 : BitVec 32) (c250_i32_4401 : BitVec 32) : Fin 3 → Nat :=
  let v10523 : BitVec 32 := Scalar.addi c250_i32_4401 v10473
  let v10524 : Index := Scalar.indexCast v10523
  let c0_4402 : Index := 0#32
  let c0_4403 : Index := 0#32
  ![v10524.toNat, 0, 0]

def k0_chk227 (v10473 : BitVec 32) : Prop :=
  (∀ a, (k0_off664 v10473) a + S1x8x128.size a ≤ S1120x8x128.size a) ∧
  (∀ (r : Fin 6), ∀ a, (k0_off666 v10473 (BitVec.ofNat 32 (250 + 5 * r.val))) a + S1x8x128.size a ≤ S1120x8x128.size a)
theorem k0_off664_inb : ∀ (v10473 : BitVec 32) (k0_hw227 : k0_chk227 v10473), ∀ a, (k0_off664 v10473) a + S1x8x128.size a ≤ S1120x8x128.size a := fun v10473 k0_hw227 => k0_hw227.1
theorem k0_off666_inb : ∀ (v10473 : BitVec 32) (k0_hw227 : k0_chk227 v10473), ∀ (r : Fin 6), ∀ a, (k0_off666 v10473 (BitVec.ofNat 32 (250 + 5 * r.val))) a + S1x8x128.size a ≤ S1120x8x128.size a := fun v10473 k0_hw227 r => k0_hw227.2 r

def k0_off667 (i : grid0.Coords) : Fin 3 → Nat :=
  let arg0 : BitVec 32 := BitVec.ofNat 32 (i 0).val
  let v10631 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10632 : Index := Scalar.indexCast v9651
  let c27_4455 : Index := 27#32
  ![v10631.toNat, v10632.toNat, 27]
def k0_off668 (i : grid0.Coords) : Fin 3 → Nat :=
  let arg0 : BitVec 32 := BitVec.ofNat 32 (i 0).val
  let v10634 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10635 : Index := Scalar.indexCast v9651
  let c34_4456 : Index := 34#32
  ![v10634.toNat, v10635.toNat, 34]
def k0_off669 (i : grid0.Coords) : Fin 3 → Nat :=
  let arg0 : BitVec 32 := BitVec.ofNat 32 (i 0).val
  let v10637 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10638 : Index := Scalar.indexCast v9651
  let c41_4457 : Index := 41#32
  ![v10637.toNat, v10638.toNat, 41]
def k0_off670 (i : grid0.Coords) : Fin 3 → Nat :=
  let arg0 : BitVec 32 := BitVec.ofNat 32 (i 0).val
  let v10640 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10641 : Index := Scalar.indexCast v9651
  let c48_4458 : Index := 48#32
  ![v10640.toNat, v10641.toNat, 48]
def k0_off671 (v10633 : BitVec 32) : Fin 3 → Nat :=
  let c245_i32_4463 : BitVec 32 := 245#32
  let v10665 : BitVec 32 := Scalar.addi c245_i32_4463 v10633
  let v10666 : Index := Scalar.indexCast v10665
  let c0_4464 : Index := 0#32
  let c0_4465 : Index := 0#32
  ![v10666.toNat, 0, 0]

def k0_off672 (v10636 : BitVec 32) (c245_i32_4467 : BitVec 32) : Fin 3 → Nat :=
  let v10673 : BitVec 32 := Scalar.addi c245_i32_4467 v10636
  let v10674 : Index := Scalar.indexCast v10673
  let c0_4468 : Index := 0#32
  let c0_4469 : Index := 0#32
  ![v10674.toNat, 0, 0]

def k0_chk230 (v10636 : BitVec 32) : Prop :=
  (∀ (r : Fin 7), ∀ a, (k0_off672 v10636 (BitVec.ofNat 32 (245 + 5 * r.val))) a + S1x8x128.size a ≤ S1120x8x128.size a)
theorem k0_off672_inb : ∀ (v10636 : BitVec 32) (k0_hw230 : k0_chk230 v10636), ∀ (r : Fin 7), ∀ a, (k0_off672 v10636 (BitVec.ofNat 32 (245 + 5 * r.val))) a + S1x8x128.size a ≤ S1120x8x128.size a := fun v10636 k0_hw230 r => k0_hw230 r

def k0_off673 (v10633 : BitVec 32) (c250_i32_4472 : BitVec 32) : Fin 3 → Nat :=
  let v10683 : BitVec 32 := Scalar.addi c250_i32_4472 v10633
  let v10684 : Index := Scalar.indexCast v10683
  let c0_4473 : Index := 0#32
  let c0_4474 : Index := 0#32
  ![v10684.toNat, 0, 0]

def k0_chk229 (v10633 : BitVec 32) : Prop :=
  (∀ a, (k0_off671 v10633) a + S1x8x128.size a ≤ S1120x8x128.size a) ∧
  (∀ (r : Fin 6), ∀ a, (k0_off673 v10633 (BitVec.ofNat 32 (250 + 5 * r.val))) a + S1x8x128.size a ≤ S1120x8x128.size a)
theorem k0_off671_inb : ∀ (v10633 : BitVec 32) (k0_hw229 : k0_chk229 v10633), ∀ a, (k0_off671 v10633) a + S1x8x128.size a ≤ S1120x8x128.size a := fun v10633 k0_hw229 => k0_hw229.1
theorem k0_off673_inb : ∀ (v10633 : BitVec 32) (k0_hw229 : k0_chk229 v10633), ∀ (r : Fin 6), ∀ a, (k0_off673 v10633 (BitVec.ofNat 32 (250 + 5 * r.val))) a + S1x8x128.size a ≤ S1120x8x128.size a := fun v10633 k0_hw229 r => k0_hw229.2 r

def k0_off674 (i : grid0.Coords) : Fin 3 → Nat :=
  let arg0 : BitVec 32 := BitVec.ofNat 32 (i 0).val
  let v10791 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10792 : Index := Scalar.indexCast v9651
  let c28_4526 : Index := 28#32
  ![v10791.toNat, v10792.toNat, 28]
def k0_off675 (i : grid0.Coords) : Fin 3 → Nat :=
  let arg0 : BitVec 32 := BitVec.ofNat 32 (i 0).val
  let v10794 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10795 : Index := Scalar.indexCast v9651
  let c35_4527 : Index := 35#32
  ![v10794.toNat, v10795.toNat, 35]
def k0_off676 (i : grid0.Coords) : Fin 3 → Nat :=
  let arg0 : BitVec 32 := BitVec.ofNat 32 (i 0).val
  let v10797 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10798 : Index := Scalar.indexCast v9651
  let c42_4528 : Index := 42#32
  ![v10797.toNat, v10798.toNat, 42]
def k0_off677 (i : grid0.Coords) : Fin 3 → Nat :=
  let arg0 : BitVec 32 := BitVec.ofNat 32 (i 0).val
  let v10800 : Index := Scalar.indexCast arg0
  let arg1 : BitVec 32 := BitVec.ofNat 32 (i 1).val
  let c32_i32_4042 : BitVec 32 := 32#32
  let v9650 : BitVec 32 := Scalar.muli arg1 c32_i32_4042
  let c7_i32 : BitVec 32 := 7#32
  let v9651 : BitVec 32 := Scalar.addi v9650 c7_i32
  let v10801 : Index := Scalar.indexCast v9651
  let c49_4529 : Index := 49#32
  ![v10800.toNat, v10801.toNat, 49]
def k0_off678 (v10793 : BitVec 32) : Fin 3 → Nat :=
  let c245_i32_4534 : BitVec 32 := 245#32
  let v10825 : BitVec 32 := Scalar.addi c245_i32_4534 v10793
  let v10826 : Index := Scalar.indexCast v10825
  let c0_4535 : Index := 0#32
  let c0_4536 : Index := 0#32
  ![v10826.toNat, 0, 0]

def k0_off679 (v10796 : BitVec 32) (c245_i32_4538 : BitVec 32) : Fin 3 → Nat :=
  let v10833 : BitVec 32 := Scalar.addi c245_i32_4538 v10796
  let v10834 : Index := Scalar.indexCast v10833
  let c0_4539 : Index := 0#32
  let c0_4540 : Index := 0#32
  ![v10834.toNat, 0, 0]

def k0_chk232 (v10796 : BitVec 32) : Prop :=
  (∀ (r : Fin 7), ∀ a, (k0_off679 v10796 (BitVec.ofNat 32 (245 + 5 * r.val))) a + S1x8x128.size a ≤ S1120x8x128.size a)
theorem k0_off679_inb : ∀ (v10796 : BitVec 32) (k0_hw232 : k0_chk232 v10796), ∀ (r : Fin 7), ∀ a, (k0_off679 v10796 (BitVec.ofNat 32 (245 + 5 * r.val))) a + S1x8x128.size a ≤ S1120x8x128.size a := fun v10796 k0_hw232 r => k0_hw232 r

def k0_off680 (v10793 : BitVec 32) (c250_i32_4543 : BitVec 32) : Fin 3 → Nat :=
  let v10843 : BitVec 32 := Scalar.addi c250_i32_4543 v10793
  let v10844 : Index := Scalar.indexCast v10843
  let c0_4544 : Index := 0#32
  let c0_4545 : Index := 0#32
  ![v10844.toNat, 0, 0]

def k0_chk231 (v10793 : BitVec 32) : Prop :=
  (∀ a, (k0_off678 v10793) a + S1x8x128.size a ≤ S1120x8x128.size a) ∧
  (∀ (r : Fin 6), ∀ a, (k0_off680 v10793 (BitVec.ofNat 32 (250 + 5 * r.val))) a + S1x8x128.size a ≤ S1120x8x128.size a)
theorem k0_off678_inb : ∀ (v10793 : BitVec 32) (k0_hw231 : k0_chk231 v10793), ∀ a, (k0_off678 v10793) a + S1x8x128.size a ≤ S1120x8x128.size a := fun v10793 k0_hw231 => k0_hw231.1
theorem k0_off680_inb : ∀ (v10793 : BitVec 32) (k0_hw231 : k0_chk231 v10793), ∀ (r : Fin 6), ∀ a, (k0_off680 v10793 (BitVec.ofNat 32 (250 + 5 * r.val))) a + S1x8x128.size a ≤ S1120x8x128.size a := fun v10793 k0_hw231 r => k0_hw231.2 r

def k0_off681 (i : grid0.Coords) : Fin 3 → Nat :=
  let arg0 : BitVec 32 := BitVec.ofNat 32 (i 0).val
  let v11030 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11031 : Index := Scalar.indexCast v11029
  let c0_4627 : Index := 0#32
  ![v11030.toNat, v11031.toNat, 0]
def k0_mult9 (v11032 : BitVec 32) : BitVec 32 :=
  v11032

def k0_chk233 (v11032 : BitVec 32) : Prop :=
  (8 ∣ (k0_mult9 v11032).toNat)
theorem k0_mult9_dvd : ∀ (v11032 : BitVec 32) (k0_hw233 : k0_chk233 v11032), 8 ∣ (k0_mult9 v11032).toNat := fun v11032 k0_hw233 => k0_hw233

def k0_off682 (i : grid0.Coords) : Fin 3 → Nat :=
  let arg0 : BitVec 32 := BitVec.ofNat 32 (i 0).val
  let v11034 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11035 : Index := Scalar.indexCast v11029
  let c1_4628 : Index := 1#32
  ![v11034.toNat, v11035.toNat, 1]
def k0_off683 (v11032 : BitVec 32) (v11036 : BitVec 32) : Fin 3 → Nat :=
  let v11037 : Index := Scalar.indexCast v11036
  let v11033 : BitVec 32 := v11032
  let v11038 : Index := Scalar.indexCast v11033
  let c0_4629 : Index := 0#32
  ![v11037.toNat, v11038.toNat, 0]

def k0_chk234 (v11032 : BitVec 32) (v11036 : BitVec 32) : Prop :=
  (∀ a, (k0_off683 v11032 v11036) a + S1x40x128.size a ≤ S256x64x128.size a)
theorem k0_off683_inb : ∀ (v11032 : BitVec 32) (v11036 : BitVec 32) (k0_hw234 : k0_chk234 v11032 v11036), ∀ a, (k0_off683 v11032 v11036) a + S1x40x128.size a ≤ S256x64x128.size a := fun v11032 v11036 k0_hw234 => k0_hw234

def k0_off684 (i : grid0.Coords) : Fin 3 → Nat :=
  let arg0 : BitVec 32 := BitVec.ofNat 32 (i 0).val
  let v11041 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11042 : Index := Scalar.indexCast v11029
  let c8_4630 : Index := 8#32
  ![v11041.toNat, v11042.toNat, 8]
def k0_off685 (v11032 : BitVec 32) (v11043 : BitVec 32) : Fin 3 → Nat :=
  let v11044 : Index := Scalar.indexCast v11043
  let v11033 : BitVec 32 := v11032
  let v11045 : Index := Scalar.indexCast v11033
  let c0_4631 : Index := 0#32
  ![v11044.toNat, v11045.toNat, 0]

def k0_chk235 (v11032 : BitVec 32) (v11043 : BitVec 32) : Prop :=
  (∀ a, (k0_off685 v11032 v11043) a + S1x40x128.size a ≤ S256x64x128.size a)
theorem k0_off685_inb : ∀ (v11032 : BitVec 32) (v11043 : BitVec 32) (k0_hw235 : k0_chk235 v11032 v11043), ∀ a, (k0_off685 v11032 v11043) a + S1x40x128.size a ≤ S256x64x128.size a := fun v11032 v11043 k0_hw235 => k0_hw235

def k0_off686 (i : grid0.Coords) : Fin 3 → Nat :=
  let arg0 : BitVec 32 := BitVec.ofNat 32 (i 0).val
  let v11049 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11050 : Index := Scalar.indexCast v11029
  let c15_4632 : Index := 15#32
  ![v11049.toNat, v11050.toNat, 15]
def k0_off687 (i : grid0.Coords) : Fin 3 → Nat :=
  let arg0 : BitVec 32 := BitVec.ofNat 32 (i 0).val
  let v11059 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11060 : Index := Scalar.indexCast v11029
  let c2_4637 : Index := 2#32
  ![v11059.toNat, v11060.toNat, 2]
def k0_off688 (v11032 : BitVec 32) (v11061 : BitVec 32) : Fin 3 → Nat :=
  let v11062 : Index := Scalar.indexCast v11061
  let v11033 : BitVec 32 := v11032
  let v11063 : Index := Scalar.indexCast v11033
  let c0_4638 : Index := 0#32
  ![v11062.toNat, v11063.toNat, 0]

def k0_chk236 (v11032 : BitVec 32) (v11061 : BitVec 32) : Prop :=
  (∀ a, (k0_off688 v11032 v11061) a + S1x40x128.size a ≤ S256x64x128.size a)
theorem k0_off688_inb : ∀ (v11032 : BitVec 32) (v11061 : BitVec 32) (k0_hw236 : k0_chk236 v11032 v11061), ∀ a, (k0_off688 v11032 v11061) a + S1x40x128.size a ≤ S256x64x128.size a := fun v11032 v11061 k0_hw236 => k0_hw236

def k0_off689 (i : grid0.Coords) : Fin 3 → Nat :=
  let arg0 : BitVec 32 := BitVec.ofNat 32 (i 0).val
  let v11066 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11067 : Index := Scalar.indexCast v11029
  let c9_4639 : Index := 9#32
  ![v11066.toNat, v11067.toNat, 9]
def k0_off690 (v11032 : BitVec 32) (v11068 : BitVec 32) : Fin 3 → Nat :=
  let v11069 : Index := Scalar.indexCast v11068
  let v11033 : BitVec 32 := v11032
  let v11070 : Index := Scalar.indexCast v11033
  let c0_4640 : Index := 0#32
  ![v11069.toNat, v11070.toNat, 0]

def k0_chk237 (v11032 : BitVec 32) (v11068 : BitVec 32) : Prop :=
  (∀ a, (k0_off690 v11032 v11068) a + S1x40x128.size a ≤ S256x64x128.size a)
theorem k0_off690_inb : ∀ (v11032 : BitVec 32) (v11068 : BitVec 32) (k0_hw237 : k0_chk237 v11032 v11068), ∀ a, (k0_off690 v11032 v11068) a + S1x40x128.size a ≤ S256x64x128.size a := fun v11032 v11068 k0_hw237 => k0_hw237

def k0_off691 (i : grid0.Coords) : Fin 3 → Nat :=
  let arg0 : BitVec 32 := BitVec.ofNat 32 (i 0).val
  let v11074 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11075 : Index := Scalar.indexCast v11029
  let c16_4641 : Index := 16#32
  ![v11074.toNat, v11075.toNat, 16]
def k0_off692 (i : grid0.Coords) : Fin 3 → Nat :=
  let arg0 : BitVec 32 := BitVec.ofNat 32 (i 0).val
  let v11084 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11085 : Index := Scalar.indexCast v11029
  let c3_4646 : Index := 3#32
  ![v11084.toNat, v11085.toNat, 3]
def k0_off693 (v11032 : BitVec 32) (v11086 : BitVec 32) : Fin 3 → Nat :=
  let v11087 : Index := Scalar.indexCast v11086
  let v11033 : BitVec 32 := v11032
  let v11088 : Index := Scalar.indexCast v11033
  let c0_4647 : Index := 0#32
  ![v11087.toNat, v11088.toNat, 0]

def k0_chk238 (v11032 : BitVec 32) (v11086 : BitVec 32) : Prop :=
  (∀ a, (k0_off693 v11032 v11086) a + S1x40x128.size a ≤ S256x64x128.size a)
theorem k0_off693_inb : ∀ (v11032 : BitVec 32) (v11086 : BitVec 32) (k0_hw238 : k0_chk238 v11032 v11086), ∀ a, (k0_off693 v11032 v11086) a + S1x40x128.size a ≤ S256x64x128.size a := fun v11032 v11086 k0_hw238 => k0_hw238

def k0_off694 (i : grid0.Coords) : Fin 3 → Nat :=
  let arg0 : BitVec 32 := BitVec.ofNat 32 (i 0).val
  let v11091 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11092 : Index := Scalar.indexCast v11029
  let c10_4648 : Index := 10#32
  ![v11091.toNat, v11092.toNat, 10]
def k0_off695 (v11032 : BitVec 32) (v11093 : BitVec 32) : Fin 3 → Nat :=
  let v11094 : Index := Scalar.indexCast v11093
  let v11033 : BitVec 32 := v11032
  let v11095 : Index := Scalar.indexCast v11033
  let c0_4649 : Index := 0#32
  ![v11094.toNat, v11095.toNat, 0]

def k0_chk239 (v11032 : BitVec 32) (v11093 : BitVec 32) : Prop :=
  (∀ a, (k0_off695 v11032 v11093) a + S1x40x128.size a ≤ S256x64x128.size a)
theorem k0_off695_inb : ∀ (v11032 : BitVec 32) (v11093 : BitVec 32) (k0_hw239 : k0_chk239 v11032 v11093), ∀ a, (k0_off695 v11032 v11093) a + S1x40x128.size a ≤ S256x64x128.size a := fun v11032 v11093 k0_hw239 => k0_hw239

def k0_off696 (i : grid0.Coords) : Fin 3 → Nat :=
  let arg0 : BitVec 32 := BitVec.ofNat 32 (i 0).val
  let v11099 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11100 : Index := Scalar.indexCast v11029
  let c17_4650 : Index := 17#32
  ![v11099.toNat, v11100.toNat, 17]
def k0_off697 (i : grid0.Coords) : Fin 3 → Nat :=
  let arg0 : BitVec 32 := BitVec.ofNat 32 (i 0).val
  let v11109 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11110 : Index := Scalar.indexCast v11029
  let c4_4655 : Index := 4#32
  ![v11109.toNat, v11110.toNat, 4]
def k0_off698 (v11032 : BitVec 32) (v11111 : BitVec 32) : Fin 3 → Nat :=
  let v11112 : Index := Scalar.indexCast v11111
  let v11033 : BitVec 32 := v11032
  let v11113 : Index := Scalar.indexCast v11033
  let c0_4656 : Index := 0#32
  ![v11112.toNat, v11113.toNat, 0]

def k0_chk240 (v11032 : BitVec 32) (v11111 : BitVec 32) : Prop :=
  (∀ a, (k0_off698 v11032 v11111) a + S1x40x128.size a ≤ S256x64x128.size a)
theorem k0_off698_inb : ∀ (v11032 : BitVec 32) (v11111 : BitVec 32) (k0_hw240 : k0_chk240 v11032 v11111), ∀ a, (k0_off698 v11032 v11111) a + S1x40x128.size a ≤ S256x64x128.size a := fun v11032 v11111 k0_hw240 => k0_hw240

def k0_off699 (i : grid0.Coords) : Fin 3 → Nat :=
  let arg0 : BitVec 32 := BitVec.ofNat 32 (i 0).val
  let v11116 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11117 : Index := Scalar.indexCast v11029
  let c11_4657 : Index := 11#32
  ![v11116.toNat, v11117.toNat, 11]
def k0_off700 (v11032 : BitVec 32) (v11118 : BitVec 32) : Fin 3 → Nat :=
  let v11119 : Index := Scalar.indexCast v11118
  let v11033 : BitVec 32 := v11032
  let v11120 : Index := Scalar.indexCast v11033
  let c0_4658 : Index := 0#32
  ![v11119.toNat, v11120.toNat, 0]

def k0_chk241 (v11032 : BitVec 32) (v11118 : BitVec 32) : Prop :=
  (∀ a, (k0_off700 v11032 v11118) a + S1x40x128.size a ≤ S256x64x128.size a)
theorem k0_off700_inb : ∀ (v11032 : BitVec 32) (v11118 : BitVec 32) (k0_hw241 : k0_chk241 v11032 v11118), ∀ a, (k0_off700 v11032 v11118) a + S1x40x128.size a ≤ S256x64x128.size a := fun v11032 v11118 k0_hw241 => k0_hw241

def k0_off701 (i : grid0.Coords) : Fin 3 → Nat :=
  let arg0 : BitVec 32 := BitVec.ofNat 32 (i 0).val
  let v11124 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11125 : Index := Scalar.indexCast v11029
  let c18_4659 : Index := 18#32
  ![v11124.toNat, v11125.toNat, 18]
def k0_off702 (i : grid0.Coords) : Fin 3 → Nat :=
  let arg0 : BitVec 32 := BitVec.ofNat 32 (i 0).val
  let v11134 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11135 : Index := Scalar.indexCast v11029
  let c5_4664 : Index := 5#32
  ![v11134.toNat, v11135.toNat, 5]
def k0_off703 (v11032 : BitVec 32) (v11136 : BitVec 32) : Fin 3 → Nat :=
  let v11137 : Index := Scalar.indexCast v11136
  let v11033 : BitVec 32 := v11032
  let v11138 : Index := Scalar.indexCast v11033
  let c0_4665 : Index := 0#32
  ![v11137.toNat, v11138.toNat, 0]

def k0_chk242 (v11032 : BitVec 32) (v11136 : BitVec 32) : Prop :=
  (∀ a, (k0_off703 v11032 v11136) a + S1x40x128.size a ≤ S256x64x128.size a)
theorem k0_off703_inb : ∀ (v11032 : BitVec 32) (v11136 : BitVec 32) (k0_hw242 : k0_chk242 v11032 v11136), ∀ a, (k0_off703 v11032 v11136) a + S1x40x128.size a ≤ S256x64x128.size a := fun v11032 v11136 k0_hw242 => k0_hw242

def k0_off704 (i : grid0.Coords) : Fin 3 → Nat :=
  let arg0 : BitVec 32 := BitVec.ofNat 32 (i 0).val
  let v11141 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11142 : Index := Scalar.indexCast v11029
  let c12_4666 : Index := 12#32
  ![v11141.toNat, v11142.toNat, 12]
def k0_off705 (v11032 : BitVec 32) (v11143 : BitVec 32) : Fin 3 → Nat :=
  let v11144 : Index := Scalar.indexCast v11143
  let v11033 : BitVec 32 := v11032
  let v11145 : Index := Scalar.indexCast v11033
  let c0_4667 : Index := 0#32
  ![v11144.toNat, v11145.toNat, 0]

def k0_chk243 (v11032 : BitVec 32) (v11143 : BitVec 32) : Prop :=
  (∀ a, (k0_off705 v11032 v11143) a + S1x40x128.size a ≤ S256x64x128.size a)
theorem k0_off705_inb : ∀ (v11032 : BitVec 32) (v11143 : BitVec 32) (k0_hw243 : k0_chk243 v11032 v11143), ∀ a, (k0_off705 v11032 v11143) a + S1x40x128.size a ≤ S256x64x128.size a := fun v11032 v11143 k0_hw243 => k0_hw243

def k0_off706 (i : grid0.Coords) : Fin 3 → Nat :=
  let arg0 : BitVec 32 := BitVec.ofNat 32 (i 0).val
  let v11149 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11150 : Index := Scalar.indexCast v11029
  let c19_4668 : Index := 19#32
  ![v11149.toNat, v11150.toNat, 19]
def k0_off707 (i : grid0.Coords) : Fin 3 → Nat :=
  let arg0 : BitVec 32 := BitVec.ofNat 32 (i 0).val
  let v11159 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11160 : Index := Scalar.indexCast v11029
  let c6_4673 : Index := 6#32
  ![v11159.toNat, v11160.toNat, 6]
def k0_off708 (v11032 : BitVec 32) (v11161 : BitVec 32) : Fin 3 → Nat :=
  let v11162 : Index := Scalar.indexCast v11161
  let v11033 : BitVec 32 := v11032
  let v11163 : Index := Scalar.indexCast v11033
  let c0_4674 : Index := 0#32
  ![v11162.toNat, v11163.toNat, 0]

def k0_chk244 (v11032 : BitVec 32) (v11161 : BitVec 32) : Prop :=
  (∀ a, (k0_off708 v11032 v11161) a + S1x40x128.size a ≤ S256x64x128.size a)
theorem k0_off708_inb : ∀ (v11032 : BitVec 32) (v11161 : BitVec 32) (k0_hw244 : k0_chk244 v11032 v11161), ∀ a, (k0_off708 v11032 v11161) a + S1x40x128.size a ≤ S256x64x128.size a := fun v11032 v11161 k0_hw244 => k0_hw244

def k0_off709 (i : grid0.Coords) : Fin 3 → Nat :=
  let arg0 : BitVec 32 := BitVec.ofNat 32 (i 0).val
  let v11166 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11167 : Index := Scalar.indexCast v11029
  let c13_4675 : Index := 13#32
  ![v11166.toNat, v11167.toNat, 13]
def k0_off710 (v11032 : BitVec 32) (v11168 : BitVec 32) : Fin 3 → Nat :=
  let v11169 : Index := Scalar.indexCast v11168
  let v11033 : BitVec 32 := v11032
  let v11170 : Index := Scalar.indexCast v11033
  let c0_4676 : Index := 0#32
  ![v11169.toNat, v11170.toNat, 0]

def k0_chk245 (v11032 : BitVec 32) (v11168 : BitVec 32) : Prop :=
  (∀ a, (k0_off710 v11032 v11168) a + S1x40x128.size a ≤ S256x64x128.size a)
theorem k0_off710_inb : ∀ (v11032 : BitVec 32) (v11168 : BitVec 32) (k0_hw245 : k0_chk245 v11032 v11168), ∀ a, (k0_off710 v11032 v11168) a + S1x40x128.size a ≤ S256x64x128.size a := fun v11032 v11168 k0_hw245 => k0_hw245

def k0_off711 (i : grid0.Coords) : Fin 3 → Nat :=
  let arg0 : BitVec 32 := BitVec.ofNat 32 (i 0).val
  let v11174 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11175 : Index := Scalar.indexCast v11029
  let c20_4677 : Index := 20#32
  ![v11174.toNat, v11175.toNat, 20]
def k0_off712 (i : grid0.Coords) : Fin 3 → Nat :=
  let arg0 : BitVec 32 := BitVec.ofNat 32 (i 0).val
  let v11184 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11185 : Index := Scalar.indexCast v11029
  let c7_4682 : Index := 7#32
  ![v11184.toNat, v11185.toNat, 7]
def k0_off713 (v11032 : BitVec 32) (v11186 : BitVec 32) : Fin 3 → Nat :=
  let v11187 : Index := Scalar.indexCast v11186
  let v11033 : BitVec 32 := v11032
  let v11188 : Index := Scalar.indexCast v11033
  let c0_4683 : Index := 0#32
  ![v11187.toNat, v11188.toNat, 0]

def k0_chk246 (v11032 : BitVec 32) (v11186 : BitVec 32) : Prop :=
  (∀ a, (k0_off713 v11032 v11186) a + S1x40x128.size a ≤ S256x64x128.size a)
theorem k0_off713_inb : ∀ (v11032 : BitVec 32) (v11186 : BitVec 32) (k0_hw246 : k0_chk246 v11032 v11186), ∀ a, (k0_off713 v11032 v11186) a + S1x40x128.size a ≤ S256x64x128.size a := fun v11032 v11186 k0_hw246 => k0_hw246

def k0_off714 (i : grid0.Coords) : Fin 3 → Nat :=
  let arg0 : BitVec 32 := BitVec.ofNat 32 (i 0).val
  let v11191 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11192 : Index := Scalar.indexCast v11029
  let c14_4684 : Index := 14#32
  ![v11191.toNat, v11192.toNat, 14]
def k0_off715 (v11032 : BitVec 32) (v11193 : BitVec 32) : Fin 3 → Nat :=
  let v11194 : Index := Scalar.indexCast v11193
  let v11033 : BitVec 32 := v11032
  let v11195 : Index := Scalar.indexCast v11033
  let c0_4685 : Index := 0#32
  ![v11194.toNat, v11195.toNat, 0]

def k0_chk247 (v11032 : BitVec 32) (v11193 : BitVec 32) : Prop :=
  (∀ a, (k0_off715 v11032 v11193) a + S1x40x128.size a ≤ S256x64x128.size a)
theorem k0_off715_inb : ∀ (v11032 : BitVec 32) (v11193 : BitVec 32) (k0_hw247 : k0_chk247 v11032 v11193), ∀ a, (k0_off715 v11032 v11193) a + S1x40x128.size a ≤ S256x64x128.size a := fun v11032 v11193 k0_hw247 => k0_hw247

def k0_off716 (i : grid0.Coords) : Fin 3 → Nat :=
  let arg0 : BitVec 32 := BitVec.ofNat 32 (i 0).val
  let v11199 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11200 : Index := Scalar.indexCast v11029
  let c21_4686 : Index := 21#32
  ![v11199.toNat, v11200.toNat, 21]
def k0_off717 (i : grid0.Coords) : Fin 3 → Nat :=
  let arg0 : BitVec 32 := BitVec.ofNat 32 (i 0).val
  let v11209 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11210 : Index := Scalar.indexCast v11029
  let c22_4691 : Index := 22#32
  ![v11209.toNat, v11210.toNat, 22]
def k0_off718 (i : grid0.Coords) : Fin 3 → Nat :=
  let arg0 : BitVec 32 := BitVec.ofNat 32 (i 0).val
  let v11212 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11213 : Index := Scalar.indexCast v11029
  let c29_4692 : Index := 29#32
  ![v11212.toNat, v11213.toNat, 29]
def k0_off719 (i : grid0.Coords) : Fin 3 → Nat :=
  let arg0 : BitVec 32 := BitVec.ofNat 32 (i 0).val
  let v11215 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11216 : Index := Scalar.indexCast v11029
  let c36_4693 : Index := 36#32
  ![v11215.toNat, v11216.toNat, 36]
def k0_off720 (i : grid0.Coords) : Fin 3 → Nat :=
  let arg0 : BitVec 32 := BitVec.ofNat 32 (i 0).val
  let v11218 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11219 : Index := Scalar.indexCast v11029
  let c43_4694 : Index := 43#32
  ![v11218.toNat, v11219.toNat, 43]
def k0_off721 (v11211 : BitVec 32) : Fin 3 → Nat :=
  let c280_i32 : BitVec 32 := 280#32
  let v11243 : BitVec 32 := Scalar.addi c280_i32 v11211
  let v11244 : Index := Scalar.indexCast v11243
  let c0_4699 : Index := 0#32
  let c0_4700 : Index := 0#32
  ![v11244.toNat, 0, 0]

def k0_off722 (v11214 : BitVec 32) (c280_i32_4702 : BitVec 32) : Fin 3 → Nat :=
  let v11251 : BitVec 32 := Scalar.addi c280_i32_4702 v11214
  let v11252 : Index := Scalar.indexCast v11251
  let c0_4703 : Index := 0#32
  let c0_4704 : Index := 0#32
  ![v11252.toNat, 0, 0]

def k0_chk249 (v11214 : BitVec 32) : Prop :=
  (∀ (r : Fin 7), ∀ a, (k0_off722 v11214 (BitVec.ofNat 32 (280 + 5 * r.val))) a + S1x8x128.size a ≤ S1120x8x128.size a)
theorem k0_off722_inb : ∀ (v11214 : BitVec 32) (k0_hw249 : k0_chk249 v11214), ∀ (r : Fin 7), ∀ a, (k0_off722 v11214 (BitVec.ofNat 32 (280 + 5 * r.val))) a + S1x8x128.size a ≤ S1120x8x128.size a := fun v11214 k0_hw249 r => k0_hw249 r

def k0_off723 (v11211 : BitVec 32) (c285_i32 : BitVec 32) : Fin 3 → Nat :=
  let v11261 : BitVec 32 := Scalar.addi c285_i32 v11211
  let v11262 : Index := Scalar.indexCast v11261
  let c0_4707 : Index := 0#32
  let c0_4708 : Index := 0#32
  ![v11262.toNat, 0, 0]

def k0_chk248 (v11211 : BitVec 32) : Prop :=
  (∀ a, (k0_off721 v11211) a + S1x8x128.size a ≤ S1120x8x128.size a) ∧
  (∀ (r : Fin 6), ∀ a, (k0_off723 v11211 (BitVec.ofNat 32 (285 + 5 * r.val))) a + S1x8x128.size a ≤ S1120x8x128.size a)
theorem k0_off721_inb : ∀ (v11211 : BitVec 32) (k0_hw248 : k0_chk248 v11211), ∀ a, (k0_off721 v11211) a + S1x8x128.size a ≤ S1120x8x128.size a := fun v11211 k0_hw248 => k0_hw248.1
theorem k0_off723_inb : ∀ (v11211 : BitVec 32) (k0_hw248 : k0_chk248 v11211), ∀ (r : Fin 6), ∀ a, (k0_off723 v11211 (BitVec.ofNat 32 (285 + 5 * r.val))) a + S1x8x128.size a ≤ S1120x8x128.size a := fun v11211 k0_hw248 r => k0_hw248.2 r

def k0_off724 (i : grid0.Coords) : Fin 3 → Nat :=
  let arg0 : BitVec 32 := BitVec.ofNat 32 (i 0).val
  let v11369 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11370 : Index := Scalar.indexCast v11029
  let c23_4755 : Index := 23#32
  ![v11369.toNat, v11370.toNat, 23]
def k0_off725 (i : grid0.Coords) : Fin 3 → Nat :=
  let arg0 : BitVec 32 := BitVec.ofNat 32 (i 0).val
  let v11372 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11373 : Index := Scalar.indexCast v11029
  let c30_4756 : Index := 30#32
  ![v11372.toNat, v11373.toNat, 30]
def k0_off726 (i : grid0.Coords) : Fin 3 → Nat :=
  let arg0 : BitVec 32 := BitVec.ofNat 32 (i 0).val
  let v11375 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11376 : Index := Scalar.indexCast v11029
  let c37_4757 : Index := 37#32
  ![v11375.toNat, v11376.toNat, 37]
def k0_off727 (i : grid0.Coords) : Fin 3 → Nat :=
  let arg0 : BitVec 32 := BitVec.ofNat 32 (i 0).val
  let v11378 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11379 : Index := Scalar.indexCast v11029
  let c44_4758 : Index := 44#32
  ![v11378.toNat, v11379.toNat, 44]
def k0_off728 (v11371 : BitVec 32) : Fin 3 → Nat :=
  let c280_i32_4763 : BitVec 32 := 280#32
  let v11403 : BitVec 32 := Scalar.addi c280_i32_4763 v11371
  let v11404 : Index := Scalar.indexCast v11403
  let c0_4764 : Index := 0#32
  let c0_4765 : Index := 0#32
  ![v11404.toNat, 0, 0]

def k0_off729 (v11374 : BitVec 32) (c280_i32_4767 : BitVec 32) : Fin 3 → Nat :=
  let v11411 : BitVec 32 := Scalar.addi c280_i32_4767 v11374
  let v11412 : Index := Scalar.indexCast v11411
  let c0_4768 : Index := 0#32
  let c0_4769 : Index := 0#32
  ![v11412.toNat, 0, 0]

def k0_chk251 (v11374 : BitVec 32) : Prop :=
  (∀ (r : Fin 7), ∀ a, (k0_off729 v11374 (BitVec.ofNat 32 (280 + 5 * r.val))) a + S1x8x128.size a ≤ S1120x8x128.size a)
theorem k0_off729_inb : ∀ (v11374 : BitVec 32) (k0_hw251 : k0_chk251 v11374), ∀ (r : Fin 7), ∀ a, (k0_off729 v11374 (BitVec.ofNat 32 (280 + 5 * r.val))) a + S1x8x128.size a ≤ S1120x8x128.size a := fun v11374 k0_hw251 r => k0_hw251 r

def k0_off730 (v11371 : BitVec 32) (c285_i32_4772 : BitVec 32) : Fin 3 → Nat :=
  let v11421 : BitVec 32 := Scalar.addi c285_i32_4772 v11371
  let v11422 : Index := Scalar.indexCast v11421
  let c0_4773 : Index := 0#32
  let c0_4774 : Index := 0#32
  ![v11422.toNat, 0, 0]

def k0_chk250 (v11371 : BitVec 32) : Prop :=
  (∀ a, (k0_off728 v11371) a + S1x8x128.size a ≤ S1120x8x128.size a) ∧
  (∀ (r : Fin 6), ∀ a, (k0_off730 v11371 (BitVec.ofNat 32 (285 + 5 * r.val))) a + S1x8x128.size a ≤ S1120x8x128.size a)
theorem k0_off728_inb : ∀ (v11371 : BitVec 32) (k0_hw250 : k0_chk250 v11371), ∀ a, (k0_off728 v11371) a + S1x8x128.size a ≤ S1120x8x128.size a := fun v11371 k0_hw250 => k0_hw250.1
theorem k0_off730_inb : ∀ (v11371 : BitVec 32) (k0_hw250 : k0_chk250 v11371), ∀ (r : Fin 6), ∀ a, (k0_off730 v11371 (BitVec.ofNat 32 (285 + 5 * r.val))) a + S1x8x128.size a ≤ S1120x8x128.size a := fun v11371 k0_hw250 r => k0_hw250.2 r

def k0_off731 (i : grid0.Coords) : Fin 3 → Nat :=
  let arg0 : BitVec 32 := BitVec.ofNat 32 (i 0).val
  let v11529 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11530 : Index := Scalar.indexCast v11029
  let c24_4826 : Index := 24#32
  ![v11529.toNat, v11530.toNat, 24]
def k0_off732 (i : grid0.Coords) : Fin 3 → Nat :=
  let arg0 : BitVec 32 := BitVec.ofNat 32 (i 0).val
  let v11532 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11533 : Index := Scalar.indexCast v11029
  let c31_4827 : Index := 31#32
  ![v11532.toNat, v11533.toNat, 31]
def k0_off733 (i : grid0.Coords) : Fin 3 → Nat :=
  let arg0 : BitVec 32 := BitVec.ofNat 32 (i 0).val
  let v11535 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11536 : Index := Scalar.indexCast v11029
  let c38_4828 : Index := 38#32
  ![v11535.toNat, v11536.toNat, 38]
def k0_off734 (i : grid0.Coords) : Fin 3 → Nat :=
  let arg0 : BitVec 32 := BitVec.ofNat 32 (i 0).val
  let v11538 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11539 : Index := Scalar.indexCast v11029
  let c45_4829 : Index := 45#32
  ![v11538.toNat, v11539.toNat, 45]
def k0_off735 (v11531 : BitVec 32) : Fin 3 → Nat :=
  let c280_i32_4834 : BitVec 32 := 280#32
  let v11563 : BitVec 32 := Scalar.addi c280_i32_4834 v11531
  let v11564 : Index := Scalar.indexCast v11563
  let c0_4835 : Index := 0#32
  let c0_4836 : Index := 0#32
  ![v11564.toNat, 0, 0]

def k0_off736 (v11534 : BitVec 32) (c280_i32_4838 : BitVec 32) : Fin 3 → Nat :=
  let v11571 : BitVec 32 := Scalar.addi c280_i32_4838 v11534
  let v11572 : Index := Scalar.indexCast v11571
  let c0_4839 : Index := 0#32
  let c0_4840 : Index := 0#32
  ![v11572.toNat, 0, 0]

def k0_chk253 (v11534 : BitVec 32) : Prop :=
  (∀ (r : Fin 7), ∀ a, (k0_off736 v11534 (BitVec.ofNat 32 (280 + 5 * r.val))) a + S1x8x128.size a ≤ S1120x8x128.size a)
theorem k0_off736_inb : ∀ (v11534 : BitVec 32) (k0_hw253 : k0_chk253 v11534), ∀ (r : Fin 7), ∀ a, (k0_off736 v11534 (BitVec.ofNat 32 (280 + 5 * r.val))) a + S1x8x128.size a ≤ S1120x8x128.size a := fun v11534 k0_hw253 r => k0_hw253 r

def k0_off737 (v11531 : BitVec 32) (c285_i32_4843 : BitVec 32) : Fin 3 → Nat :=
  let v11581 : BitVec 32 := Scalar.addi c285_i32_4843 v11531
  let v11582 : Index := Scalar.indexCast v11581
  let c0_4844 : Index := 0#32
  let c0_4845 : Index := 0#32
  ![v11582.toNat, 0, 0]

def k0_chk252 (v11531 : BitVec 32) : Prop :=
  (∀ a, (k0_off735 v11531) a + S1x8x128.size a ≤ S1120x8x128.size a) ∧
  (∀ (r : Fin 6), ∀ a, (k0_off737 v11531 (BitVec.ofNat 32 (285 + 5 * r.val))) a + S1x8x128.size a ≤ S1120x8x128.size a)
theorem k0_off735_inb : ∀ (v11531 : BitVec 32) (k0_hw252 : k0_chk252 v11531), ∀ a, (k0_off735 v11531) a + S1x8x128.size a ≤ S1120x8x128.size a := fun v11531 k0_hw252 => k0_hw252.1
theorem k0_off737_inb : ∀ (v11531 : BitVec 32) (k0_hw252 : k0_chk252 v11531), ∀ (r : Fin 6), ∀ a, (k0_off737 v11531 (BitVec.ofNat 32 (285 + 5 * r.val))) a + S1x8x128.size a ≤ S1120x8x128.size a := fun v11531 k0_hw252 r => k0_hw252.2 r

def k0_off738 (i : grid0.Coords) : Fin 3 → Nat :=
  let arg0 : BitVec 32 := BitVec.ofNat 32 (i 0).val
  let v11689 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11690 : Index := Scalar.indexCast v11029
  let c25_4897 : Index := 25#32
  ![v11689.toNat, v11690.toNat, 25]
def k0_off739 (i : grid0.Coords) : Fin 3 → Nat :=
  let arg0 : BitVec 32 := BitVec.ofNat 32 (i 0).val
  let v11692 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11693 : Index := Scalar.indexCast v11029
  let c32_4898 : Index := 32#32
  ![v11692.toNat, v11693.toNat, 32]
def k0_off740 (i : grid0.Coords) : Fin 3 → Nat :=
  let arg0 : BitVec 32 := BitVec.ofNat 32 (i 0).val
  let v11695 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11696 : Index := Scalar.indexCast v11029
  let c39_4899 : Index := 39#32
  ![v11695.toNat, v11696.toNat, 39]
def k0_off741 (i : grid0.Coords) : Fin 3 → Nat :=
  let arg0 : BitVec 32 := BitVec.ofNat 32 (i 0).val
  let v11698 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11699 : Index := Scalar.indexCast v11029
  let c46_4900 : Index := 46#32
  ![v11698.toNat, v11699.toNat, 46]
def k0_off742 (v11691 : BitVec 32) : Fin 3 → Nat :=
  let c280_i32_4905 : BitVec 32 := 280#32
  let v11723 : BitVec 32 := Scalar.addi c280_i32_4905 v11691
  let v11724 : Index := Scalar.indexCast v11723
  let c0_4906 : Index := 0#32
  let c0_4907 : Index := 0#32
  ![v11724.toNat, 0, 0]

def k0_off743 (v11694 : BitVec 32) (c280_i32_4909 : BitVec 32) : Fin 3 → Nat :=
  let v11731 : BitVec 32 := Scalar.addi c280_i32_4909 v11694
  let v11732 : Index := Scalar.indexCast v11731
  let c0_4910 : Index := 0#32
  let c0_4911 : Index := 0#32
  ![v11732.toNat, 0, 0]

def k0_chk255 (v11694 : BitVec 32) : Prop :=
  (∀ (r : Fin 7), ∀ a, (k0_off743 v11694 (BitVec.ofNat 32 (280 + 5 * r.val))) a + S1x8x128.size a ≤ S1120x8x128.size a)
theorem k0_off743_inb : ∀ (v11694 : BitVec 32) (k0_hw255 : k0_chk255 v11694), ∀ (r : Fin 7), ∀ a, (k0_off743 v11694 (BitVec.ofNat 32 (280 + 5 * r.val))) a + S1x8x128.size a ≤ S1120x8x128.size a := fun v11694 k0_hw255 r => k0_hw255 r

def k0_off744 (v11691 : BitVec 32) (c285_i32_4914 : BitVec 32) : Fin 3 → Nat :=
  let v11741 : BitVec 32 := Scalar.addi c285_i32_4914 v11691
  let v11742 : Index := Scalar.indexCast v11741
  let c0_4915 : Index := 0#32
  let c0_4916 : Index := 0#32
  ![v11742.toNat, 0, 0]

def k0_chk254 (v11691 : BitVec 32) : Prop :=
  (∀ a, (k0_off742 v11691) a + S1x8x128.size a ≤ S1120x8x128.size a) ∧
  (∀ (r : Fin 6), ∀ a, (k0_off744 v11691 (BitVec.ofNat 32 (285 + 5 * r.val))) a + S1x8x128.size a ≤ S1120x8x128.size a)
theorem k0_off742_inb : ∀ (v11691 : BitVec 32) (k0_hw254 : k0_chk254 v11691), ∀ a, (k0_off742 v11691) a + S1x8x128.size a ≤ S1120x8x128.size a := fun v11691 k0_hw254 => k0_hw254.1
theorem k0_off744_inb : ∀ (v11691 : BitVec 32) (k0_hw254 : k0_chk254 v11691), ∀ (r : Fin 6), ∀ a, (k0_off744 v11691 (BitVec.ofNat 32 (285 + 5 * r.val))) a + S1x8x128.size a ≤ S1120x8x128.size a := fun v11691 k0_hw254 r => k0_hw254.2 r

def k0_off745 (i : grid0.Coords) : Fin 3 → Nat :=
  let arg0 : BitVec 32 := BitVec.ofNat 32 (i 0).val
  let v11849 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11850 : Index := Scalar.indexCast v11029
  let c26_4968 : Index := 26#32
  ![v11849.toNat, v11850.toNat, 26]
def k0_off746 (i : grid0.Coords) : Fin 3 → Nat :=
  let arg0 : BitVec 32 := BitVec.ofNat 32 (i 0).val
  let v11852 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11853 : Index := Scalar.indexCast v11029
  let c33_4969 : Index := 33#32
  ![v11852.toNat, v11853.toNat, 33]
def k0_off747 (i : grid0.Coords) : Fin 3 → Nat :=
  let arg0 : BitVec 32 := BitVec.ofNat 32 (i 0).val
  let v11855 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11856 : Index := Scalar.indexCast v11029
  let c40_4970 : Index := 40#32
  ![v11855.toNat, v11856.toNat, 40]
def k0_off748 (i : grid0.Coords) : Fin 3 → Nat :=
  let arg0 : BitVec 32 := BitVec.ofNat 32 (i 0).val
  let v11858 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v11859 : Index := Scalar.indexCast v11029
  let c47_4971 : Index := 47#32
  ![v11858.toNat, v11859.toNat, 47]
def k0_off749 (v11851 : BitVec 32) : Fin 3 → Nat :=
  let c280_i32_4976 : BitVec 32 := 280#32
  let v11883 : BitVec 32 := Scalar.addi c280_i32_4976 v11851
  let v11884 : Index := Scalar.indexCast v11883
  let c0_4977 : Index := 0#32
  let c0_4978 : Index := 0#32
  ![v11884.toNat, 0, 0]

def k0_off750 (v11854 : BitVec 32) (c280_i32_4980 : BitVec 32) : Fin 3 → Nat :=
  let v11891 : BitVec 32 := Scalar.addi c280_i32_4980 v11854
  let v11892 : Index := Scalar.indexCast v11891
  let c0_4981 : Index := 0#32
  let c0_4982 : Index := 0#32
  ![v11892.toNat, 0, 0]

def k0_chk257 (v11854 : BitVec 32) : Prop :=
  (∀ (r : Fin 7), ∀ a, (k0_off750 v11854 (BitVec.ofNat 32 (280 + 5 * r.val))) a + S1x8x128.size a ≤ S1120x8x128.size a)
theorem k0_off750_inb : ∀ (v11854 : BitVec 32) (k0_hw257 : k0_chk257 v11854), ∀ (r : Fin 7), ∀ a, (k0_off750 v11854 (BitVec.ofNat 32 (280 + 5 * r.val))) a + S1x8x128.size a ≤ S1120x8x128.size a := fun v11854 k0_hw257 r => k0_hw257 r

def k0_off751 (v11851 : BitVec 32) (c285_i32_4985 : BitVec 32) : Fin 3 → Nat :=
  let v11901 : BitVec 32 := Scalar.addi c285_i32_4985 v11851
  let v11902 : Index := Scalar.indexCast v11901
  let c0_4986 : Index := 0#32
  let c0_4987 : Index := 0#32
  ![v11902.toNat, 0, 0]

def k0_chk256 (v11851 : BitVec 32) : Prop :=
  (∀ a, (k0_off749 v11851) a + S1x8x128.size a ≤ S1120x8x128.size a) ∧
  (∀ (r : Fin 6), ∀ a, (k0_off751 v11851 (BitVec.ofNat 32 (285 + 5 * r.val))) a + S1x8x128.size a ≤ S1120x8x128.size a)
theorem k0_off749_inb : ∀ (v11851 : BitVec 32) (k0_hw256 : k0_chk256 v11851), ∀ a, (k0_off749 v11851) a + S1x8x128.size a ≤ S1120x8x128.size a := fun v11851 k0_hw256 => k0_hw256.1
theorem k0_off751_inb : ∀ (v11851 : BitVec 32) (k0_hw256 : k0_chk256 v11851), ∀ (r : Fin 6), ∀ a, (k0_off751 v11851 (BitVec.ofNat 32 (285 + 5 * r.val))) a + S1x8x128.size a ≤ S1120x8x128.size a := fun v11851 k0_hw256 r => k0_hw256.2 r

def k0_off752 (i : grid0.Coords) : Fin 3 → Nat :=
  let arg0 : BitVec 32 := BitVec.ofNat 32 (i 0).val
  let v12009 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12010 : Index := Scalar.indexCast v11029
  let c27_5039 : Index := 27#32
  ![v12009.toNat, v12010.toNat, 27]
def k0_off753 (i : grid0.Coords) : Fin 3 → Nat :=
  let arg0 : BitVec 32 := BitVec.ofNat 32 (i 0).val
  let v12012 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12013 : Index := Scalar.indexCast v11029
  let c34_5040 : Index := 34#32
  ![v12012.toNat, v12013.toNat, 34]
def k0_off754 (i : grid0.Coords) : Fin 3 → Nat :=
  let arg0 : BitVec 32 := BitVec.ofNat 32 (i 0).val
  let v12015 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12016 : Index := Scalar.indexCast v11029
  let c41_5041 : Index := 41#32
  ![v12015.toNat, v12016.toNat, 41]
def k0_off755 (i : grid0.Coords) : Fin 3 → Nat :=
  let arg0 : BitVec 32 := BitVec.ofNat 32 (i 0).val
  let v12018 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12019 : Index := Scalar.indexCast v11029
  let c48_5042 : Index := 48#32
  ![v12018.toNat, v12019.toNat, 48]
def k0_off756 (v12011 : BitVec 32) : Fin 3 → Nat :=
  let c280_i32_5047 : BitVec 32 := 280#32
  let v12043 : BitVec 32 := Scalar.addi c280_i32_5047 v12011
  let v12044 : Index := Scalar.indexCast v12043
  let c0_5048 : Index := 0#32
  let c0_5049 : Index := 0#32
  ![v12044.toNat, 0, 0]

def k0_off757 (v12014 : BitVec 32) (c280_i32_5051 : BitVec 32) : Fin 3 → Nat :=
  let v12051 : BitVec 32 := Scalar.addi c280_i32_5051 v12014
  let v12052 : Index := Scalar.indexCast v12051
  let c0_5052 : Index := 0#32
  let c0_5053 : Index := 0#32
  ![v12052.toNat, 0, 0]

def k0_chk259 (v12014 : BitVec 32) : Prop :=
  (∀ (r : Fin 7), ∀ a, (k0_off757 v12014 (BitVec.ofNat 32 (280 + 5 * r.val))) a + S1x8x128.size a ≤ S1120x8x128.size a)
theorem k0_off757_inb : ∀ (v12014 : BitVec 32) (k0_hw259 : k0_chk259 v12014), ∀ (r : Fin 7), ∀ a, (k0_off757 v12014 (BitVec.ofNat 32 (280 + 5 * r.val))) a + S1x8x128.size a ≤ S1120x8x128.size a := fun v12014 k0_hw259 r => k0_hw259 r

def k0_off758 (v12011 : BitVec 32) (c285_i32_5056 : BitVec 32) : Fin 3 → Nat :=
  let v12061 : BitVec 32 := Scalar.addi c285_i32_5056 v12011
  let v12062 : Index := Scalar.indexCast v12061
  let c0_5057 : Index := 0#32
  let c0_5058 : Index := 0#32
  ![v12062.toNat, 0, 0]

def k0_chk258 (v12011 : BitVec 32) : Prop :=
  (∀ a, (k0_off756 v12011) a + S1x8x128.size a ≤ S1120x8x128.size a) ∧
  (∀ (r : Fin 6), ∀ a, (k0_off758 v12011 (BitVec.ofNat 32 (285 + 5 * r.val))) a + S1x8x128.size a ≤ S1120x8x128.size a)
theorem k0_off756_inb : ∀ (v12011 : BitVec 32) (k0_hw258 : k0_chk258 v12011), ∀ a, (k0_off756 v12011) a + S1x8x128.size a ≤ S1120x8x128.size a := fun v12011 k0_hw258 => k0_hw258.1
theorem k0_off758_inb : ∀ (v12011 : BitVec 32) (k0_hw258 : k0_chk258 v12011), ∀ (r : Fin 6), ∀ a, (k0_off758 v12011 (BitVec.ofNat 32 (285 + 5 * r.val))) a + S1x8x128.size a ≤ S1120x8x128.size a := fun v12011 k0_hw258 r => k0_hw258.2 r

def k0_off759 (i : grid0.Coords) : Fin 3 → Nat :=
  let arg0 : BitVec 32 := BitVec.ofNat 32 (i 0).val
  let v12169 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12170 : Index := Scalar.indexCast v11029
  let c28_5110 : Index := 28#32
  ![v12169.toNat, v12170.toNat, 28]
def k0_off760 (i : grid0.Coords) : Fin 3 → Nat :=
  let arg0 : BitVec 32 := BitVec.ofNat 32 (i 0).val
  let v12172 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12173 : Index := Scalar.indexCast v11029
  let c35_5111 : Index := 35#32
  ![v12172.toNat, v12173.toNat, 35]
def k0_off761 (i : grid0.Coords) : Fin 3 → Nat :=
  let arg0 : BitVec 32 := BitVec.ofNat 32 (i 0).val
  let v12175 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12176 : Index := Scalar.indexCast v11029
  let c42_5112 : Index := 42#32
  ![v12175.toNat, v12176.toNat, 42]
def k0_off762 (i : grid0.Coords) : Fin 3 → Nat :=
  let arg0 : BitVec 32 := BitVec.ofNat 32 (i 0).val
  let v12178 : Index := Scalar.indexCast arg0
  let arg1 : BitVec 32 := BitVec.ofNat 32 (i 1).val
  let c32_i32_4625 : BitVec 32 := 32#32
  let v11028 : BitVec 32 := Scalar.muli arg1 c32_i32_4625
  let c8_i32_4626 : BitVec 32 := 8#32
  let v11029 : BitVec 32 := Scalar.addi v11028 c8_i32_4626
  let v12179 : Index := Scalar.indexCast v11029
  let c49_5113 : Index := 49#32
  ![v12178.toNat, v12179.toNat, 49]
def k0_off763 (v12171 : BitVec 32) : Fin 3 → Nat :=
  let c280_i32_5118 : BitVec 32 := 280#32
  let v12203 : BitVec 32 := Scalar.addi c280_i32_5118 v12171
  let v12204 : Index := Scalar.indexCast v12203
  let c0_5119 : Index := 0#32
  let c0_5120 : Index := 0#32
  ![v12204.toNat, 0, 0]

def k0_off764 (v12174 : BitVec 32) (c280_i32_5122 : BitVec 32) : Fin 3 → Nat :=
  let v12211 : BitVec 32 := Scalar.addi c280_i32_5122 v12174
  let v12212 : Index := Scalar.indexCast v12211
  let c0_5123 : Index := 0#32
  let c0_5124 : Index := 0#32
  ![v12212.toNat, 0, 0]

def k0_chk261 (v12174 : BitVec 32) : Prop :=
  (∀ (r : Fin 7), ∀ a, (k0_off764 v12174 (BitVec.ofNat 32 (280 + 5 * r.val))) a + S1x8x128.size a ≤ S1120x8x128.size a)
theorem k0_off764_inb : ∀ (v12174 : BitVec 32) (k0_hw261 : k0_chk261 v12174), ∀ (r : Fin 7), ∀ a, (k0_off764 v12174 (BitVec.ofNat 32 (280 + 5 * r.val))) a + S1x8x128.size a ≤ S1120x8x128.size a := fun v12174 k0_hw261 r => k0_hw261 r

def k0_off765 (v12171 : BitVec 32) (c285_i32_5127 : BitVec 32) : Fin 3 → Nat :=
  let v12221 : BitVec 32 := Scalar.addi c285_i32_5127 v12171
  let v12222 : Index := Scalar.indexCast v12221
  let c0_5128 : Index := 0#32
  let c0_5129 : Index := 0#32
  ![v12222.toNat, 0, 0]

def k0_chk260 (v12171 : BitVec 32) : Prop :=
  (∀ a, (k0_off763 v12171) a + S1x8x128.size a ≤ S1120x8x128.size a) ∧
  (∀ (r : Fin 6), ∀ a, (k0_off765 v12171 (BitVec.ofNat 32 (285 + 5 * r.val))) a + S1x8x128.size a ≤ S1120x8x128.size a)
theorem k0_off763_inb : ∀ (v12171 : BitVec 32) (k0_hw260 : k0_chk260 v12171), ∀ a, (k0_off763 v12171) a + S1x8x128.size a ≤ S1120x8x128.size a := fun v12171 k0_hw260 => k0_hw260.1
theorem k0_off765_inb : ∀ (v12171 : BitVec 32) (k0_hw260 : k0_chk260 v12171), ∀ (r : Fin 6), ∀ a, (k0_off765 v12171 (BitVec.ofNat 32 (285 + 5 * r.val))) a + S1x8x128.size a ≤ S1120x8x128.size a := fun v12171 k0_hw260 r => k0_hw260.2 r

def k0_off766 (i : grid0.Coords) : Fin 3 → Nat :=
  let arg0 : BitVec 32 := BitVec.ofNat 32 (i 0).val
  let v12408 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12409 : Index := Scalar.indexCast v12407
  let c0_5210 : Index := 0#32
  ![v12408.toNat, v12409.toNat, 0]
def k0_mult10 (v12410 : BitVec 32) : BitVec 32 :=
  v12410

def k0_chk262 (v12410 : BitVec 32) : Prop :=
  (8 ∣ (k0_mult10 v12410).toNat)
theorem k0_mult10_dvd : ∀ (v12410 : BitVec 32) (k0_hw262 : k0_chk262 v12410), 8 ∣ (k0_mult10 v12410).toNat := fun v12410 k0_hw262 => k0_hw262

def k0_off767 (i : grid0.Coords) : Fin 3 → Nat :=
  let arg0 : BitVec 32 := BitVec.ofNat 32 (i 0).val
  let v12412 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12413 : Index := Scalar.indexCast v12407
  let c1_5211 : Index := 1#32
  ![v12412.toNat, v12413.toNat, 1]
def k0_off768 (v12410 : BitVec 32) (v12414 : BitVec 32) : Fin 3 → Nat :=
  let v12415 : Index := Scalar.indexCast v12414
  let v12411 : BitVec 32 := v12410
  let v12416 : Index := Scalar.indexCast v12411
  let c0_5212 : Index := 0#32
  ![v12415.toNat, v12416.toNat, 0]

def k0_chk263 (v12410 : BitVec 32) (v12414 : BitVec 32) : Prop :=
  (∀ a, (k0_off768 v12410 v12414) a + S1x40x128.size a ≤ S256x64x128.size a)
theorem k0_off768_inb : ∀ (v12410 : BitVec 32) (v12414 : BitVec 32) (k0_hw263 : k0_chk263 v12410 v12414), ∀ a, (k0_off768 v12410 v12414) a + S1x40x128.size a ≤ S256x64x128.size a := fun v12410 v12414 k0_hw263 => k0_hw263

def k0_off769 (i : grid0.Coords) : Fin 3 → Nat :=
  let arg0 : BitVec 32 := BitVec.ofNat 32 (i 0).val
  let v12419 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12420 : Index := Scalar.indexCast v12407
  let c8_5213 : Index := 8#32
  ![v12419.toNat, v12420.toNat, 8]
def k0_off770 (v12410 : BitVec 32) (v12421 : BitVec 32) : Fin 3 → Nat :=
  let v12422 : Index := Scalar.indexCast v12421
  let v12411 : BitVec 32 := v12410
  let v12423 : Index := Scalar.indexCast v12411
  let c0_5214 : Index := 0#32
  ![v12422.toNat, v12423.toNat, 0]

def k0_chk264 (v12410 : BitVec 32) (v12421 : BitVec 32) : Prop :=
  (∀ a, (k0_off770 v12410 v12421) a + S1x40x128.size a ≤ S256x64x128.size a)
theorem k0_off770_inb : ∀ (v12410 : BitVec 32) (v12421 : BitVec 32) (k0_hw264 : k0_chk264 v12410 v12421), ∀ a, (k0_off770 v12410 v12421) a + S1x40x128.size a ≤ S256x64x128.size a := fun v12410 v12421 k0_hw264 => k0_hw264

def k0_off771 (i : grid0.Coords) : Fin 3 → Nat :=
  let arg0 : BitVec 32 := BitVec.ofNat 32 (i 0).val
  let v12427 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12428 : Index := Scalar.indexCast v12407
  let c15_5215 : Index := 15#32
  ![v12427.toNat, v12428.toNat, 15]
def k0_off772 (i : grid0.Coords) : Fin 3 → Nat :=
  let arg0 : BitVec 32 := BitVec.ofNat 32 (i 0).val
  let v12437 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12438 : Index := Scalar.indexCast v12407
  let c2_5220 : Index := 2#32
  ![v12437.toNat, v12438.toNat, 2]
def k0_off773 (v12410 : BitVec 32) (v12439 : BitVec 32) : Fin 3 → Nat :=
  let v12440 : Index := Scalar.indexCast v12439
  let v12411 : BitVec 32 := v12410
  let v12441 : Index := Scalar.indexCast v12411
  let c0_5221 : Index := 0#32
  ![v12440.toNat, v12441.toNat, 0]

def k0_chk265 (v12410 : BitVec 32) (v12439 : BitVec 32) : Prop :=
  (∀ a, (k0_off773 v12410 v12439) a + S1x40x128.size a ≤ S256x64x128.size a)
theorem k0_off773_inb : ∀ (v12410 : BitVec 32) (v12439 : BitVec 32) (k0_hw265 : k0_chk265 v12410 v12439), ∀ a, (k0_off773 v12410 v12439) a + S1x40x128.size a ≤ S256x64x128.size a := fun v12410 v12439 k0_hw265 => k0_hw265

def k0_off774 (i : grid0.Coords) : Fin 3 → Nat :=
  let arg0 : BitVec 32 := BitVec.ofNat 32 (i 0).val
  let v12444 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12445 : Index := Scalar.indexCast v12407
  let c9_5222 : Index := 9#32
  ![v12444.toNat, v12445.toNat, 9]
def k0_off775 (v12410 : BitVec 32) (v12446 : BitVec 32) : Fin 3 → Nat :=
  let v12447 : Index := Scalar.indexCast v12446
  let v12411 : BitVec 32 := v12410
  let v12448 : Index := Scalar.indexCast v12411
  let c0_5223 : Index := 0#32
  ![v12447.toNat, v12448.toNat, 0]

def k0_chk266 (v12410 : BitVec 32) (v12446 : BitVec 32) : Prop :=
  (∀ a, (k0_off775 v12410 v12446) a + S1x40x128.size a ≤ S256x64x128.size a)
theorem k0_off775_inb : ∀ (v12410 : BitVec 32) (v12446 : BitVec 32) (k0_hw266 : k0_chk266 v12410 v12446), ∀ a, (k0_off775 v12410 v12446) a + S1x40x128.size a ≤ S256x64x128.size a := fun v12410 v12446 k0_hw266 => k0_hw266

def k0_off776 (i : grid0.Coords) : Fin 3 → Nat :=
  let arg0 : BitVec 32 := BitVec.ofNat 32 (i 0).val
  let v12452 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12453 : Index := Scalar.indexCast v12407
  let c16_5224 : Index := 16#32
  ![v12452.toNat, v12453.toNat, 16]
def k0_off777 (i : grid0.Coords) : Fin 3 → Nat :=
  let arg0 : BitVec 32 := BitVec.ofNat 32 (i 0).val
  let v12462 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12463 : Index := Scalar.indexCast v12407
  let c3_5229 : Index := 3#32
  ![v12462.toNat, v12463.toNat, 3]
def k0_off778 (v12410 : BitVec 32) (v12464 : BitVec 32) : Fin 3 → Nat :=
  let v12465 : Index := Scalar.indexCast v12464
  let v12411 : BitVec 32 := v12410
  let v12466 : Index := Scalar.indexCast v12411
  let c0_5230 : Index := 0#32
  ![v12465.toNat, v12466.toNat, 0]

def k0_chk267 (v12410 : BitVec 32) (v12464 : BitVec 32) : Prop :=
  (∀ a, (k0_off778 v12410 v12464) a + S1x40x128.size a ≤ S256x64x128.size a)
theorem k0_off778_inb : ∀ (v12410 : BitVec 32) (v12464 : BitVec 32) (k0_hw267 : k0_chk267 v12410 v12464), ∀ a, (k0_off778 v12410 v12464) a + S1x40x128.size a ≤ S256x64x128.size a := fun v12410 v12464 k0_hw267 => k0_hw267

def k0_off779 (i : grid0.Coords) : Fin 3 → Nat :=
  let arg0 : BitVec 32 := BitVec.ofNat 32 (i 0).val
  let v12469 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12470 : Index := Scalar.indexCast v12407
  let c10_5231 : Index := 10#32
  ![v12469.toNat, v12470.toNat, 10]
def k0_off780 (v12410 : BitVec 32) (v12471 : BitVec 32) : Fin 3 → Nat :=
  let v12472 : Index := Scalar.indexCast v12471
  let v12411 : BitVec 32 := v12410
  let v12473 : Index := Scalar.indexCast v12411
  let c0_5232 : Index := 0#32
  ![v12472.toNat, v12473.toNat, 0]

def k0_chk268 (v12410 : BitVec 32) (v12471 : BitVec 32) : Prop :=
  (∀ a, (k0_off780 v12410 v12471) a + S1x40x128.size a ≤ S256x64x128.size a)
theorem k0_off780_inb : ∀ (v12410 : BitVec 32) (v12471 : BitVec 32) (k0_hw268 : k0_chk268 v12410 v12471), ∀ a, (k0_off780 v12410 v12471) a + S1x40x128.size a ≤ S256x64x128.size a := fun v12410 v12471 k0_hw268 => k0_hw268

def k0_off781 (i : grid0.Coords) : Fin 3 → Nat :=
  let arg0 : BitVec 32 := BitVec.ofNat 32 (i 0).val
  let v12477 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12478 : Index := Scalar.indexCast v12407
  let c17_5233 : Index := 17#32
  ![v12477.toNat, v12478.toNat, 17]
def k0_off782 (i : grid0.Coords) : Fin 3 → Nat :=
  let arg0 : BitVec 32 := BitVec.ofNat 32 (i 0).val
  let v12487 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12488 : Index := Scalar.indexCast v12407
  let c4_5238 : Index := 4#32
  ![v12487.toNat, v12488.toNat, 4]
def k0_off783 (v12410 : BitVec 32) (v12489 : BitVec 32) : Fin 3 → Nat :=
  let v12490 : Index := Scalar.indexCast v12489
  let v12411 : BitVec 32 := v12410
  let v12491 : Index := Scalar.indexCast v12411
  let c0_5239 : Index := 0#32
  ![v12490.toNat, v12491.toNat, 0]

def k0_chk269 (v12410 : BitVec 32) (v12489 : BitVec 32) : Prop :=
  (∀ a, (k0_off783 v12410 v12489) a + S1x40x128.size a ≤ S256x64x128.size a)
theorem k0_off783_inb : ∀ (v12410 : BitVec 32) (v12489 : BitVec 32) (k0_hw269 : k0_chk269 v12410 v12489), ∀ a, (k0_off783 v12410 v12489) a + S1x40x128.size a ≤ S256x64x128.size a := fun v12410 v12489 k0_hw269 => k0_hw269

def k0_off784 (i : grid0.Coords) : Fin 3 → Nat :=
  let arg0 : BitVec 32 := BitVec.ofNat 32 (i 0).val
  let v12494 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12495 : Index := Scalar.indexCast v12407
  let c11_5240 : Index := 11#32
  ![v12494.toNat, v12495.toNat, 11]
def k0_off785 (v12410 : BitVec 32) (v12496 : BitVec 32) : Fin 3 → Nat :=
  let v12497 : Index := Scalar.indexCast v12496
  let v12411 : BitVec 32 := v12410
  let v12498 : Index := Scalar.indexCast v12411
  let c0_5241 : Index := 0#32
  ![v12497.toNat, v12498.toNat, 0]

def k0_chk270 (v12410 : BitVec 32) (v12496 : BitVec 32) : Prop :=
  (∀ a, (k0_off785 v12410 v12496) a + S1x40x128.size a ≤ S256x64x128.size a)
theorem k0_off785_inb : ∀ (v12410 : BitVec 32) (v12496 : BitVec 32) (k0_hw270 : k0_chk270 v12410 v12496), ∀ a, (k0_off785 v12410 v12496) a + S1x40x128.size a ≤ S256x64x128.size a := fun v12410 v12496 k0_hw270 => k0_hw270

def k0_off786 (i : grid0.Coords) : Fin 3 → Nat :=
  let arg0 : BitVec 32 := BitVec.ofNat 32 (i 0).val
  let v12502 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12503 : Index := Scalar.indexCast v12407
  let c18_5242 : Index := 18#32
  ![v12502.toNat, v12503.toNat, 18]
def k0_off787 (i : grid0.Coords) : Fin 3 → Nat :=
  let arg0 : BitVec 32 := BitVec.ofNat 32 (i 0).val
  let v12512 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12513 : Index := Scalar.indexCast v12407
  let c5_5247 : Index := 5#32
  ![v12512.toNat, v12513.toNat, 5]
def k0_off788 (v12410 : BitVec 32) (v12514 : BitVec 32) : Fin 3 → Nat :=
  let v12515 : Index := Scalar.indexCast v12514
  let v12411 : BitVec 32 := v12410
  let v12516 : Index := Scalar.indexCast v12411
  let c0_5248 : Index := 0#32
  ![v12515.toNat, v12516.toNat, 0]

def k0_chk271 (v12410 : BitVec 32) (v12514 : BitVec 32) : Prop :=
  (∀ a, (k0_off788 v12410 v12514) a + S1x40x128.size a ≤ S256x64x128.size a)
theorem k0_off788_inb : ∀ (v12410 : BitVec 32) (v12514 : BitVec 32) (k0_hw271 : k0_chk271 v12410 v12514), ∀ a, (k0_off788 v12410 v12514) a + S1x40x128.size a ≤ S256x64x128.size a := fun v12410 v12514 k0_hw271 => k0_hw271

def k0_off789 (i : grid0.Coords) : Fin 3 → Nat :=
  let arg0 : BitVec 32 := BitVec.ofNat 32 (i 0).val
  let v12519 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12520 : Index := Scalar.indexCast v12407
  let c12_5249 : Index := 12#32
  ![v12519.toNat, v12520.toNat, 12]
def k0_off790 (v12410 : BitVec 32) (v12521 : BitVec 32) : Fin 3 → Nat :=
  let v12522 : Index := Scalar.indexCast v12521
  let v12411 : BitVec 32 := v12410
  let v12523 : Index := Scalar.indexCast v12411
  let c0_5250 : Index := 0#32
  ![v12522.toNat, v12523.toNat, 0]

def k0_chk272 (v12410 : BitVec 32) (v12521 : BitVec 32) : Prop :=
  (∀ a, (k0_off790 v12410 v12521) a + S1x40x128.size a ≤ S256x64x128.size a)
theorem k0_off790_inb : ∀ (v12410 : BitVec 32) (v12521 : BitVec 32) (k0_hw272 : k0_chk272 v12410 v12521), ∀ a, (k0_off790 v12410 v12521) a + S1x40x128.size a ≤ S256x64x128.size a := fun v12410 v12521 k0_hw272 => k0_hw272

def k0_off791 (i : grid0.Coords) : Fin 3 → Nat :=
  let arg0 : BitVec 32 := BitVec.ofNat 32 (i 0).val
  let v12527 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12528 : Index := Scalar.indexCast v12407
  let c19_5251 : Index := 19#32
  ![v12527.toNat, v12528.toNat, 19]
def k0_off792 (i : grid0.Coords) : Fin 3 → Nat :=
  let arg0 : BitVec 32 := BitVec.ofNat 32 (i 0).val
  let v12537 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12538 : Index := Scalar.indexCast v12407
  let c6_5256 : Index := 6#32
  ![v12537.toNat, v12538.toNat, 6]
def k0_off793 (v12410 : BitVec 32) (v12539 : BitVec 32) : Fin 3 → Nat :=
  let v12540 : Index := Scalar.indexCast v12539
  let v12411 : BitVec 32 := v12410
  let v12541 : Index := Scalar.indexCast v12411
  let c0_5257 : Index := 0#32
  ![v12540.toNat, v12541.toNat, 0]

def k0_chk273 (v12410 : BitVec 32) (v12539 : BitVec 32) : Prop :=
  (∀ a, (k0_off793 v12410 v12539) a + S1x40x128.size a ≤ S256x64x128.size a)
theorem k0_off793_inb : ∀ (v12410 : BitVec 32) (v12539 : BitVec 32) (k0_hw273 : k0_chk273 v12410 v12539), ∀ a, (k0_off793 v12410 v12539) a + S1x40x128.size a ≤ S256x64x128.size a := fun v12410 v12539 k0_hw273 => k0_hw273

def k0_off794 (i : grid0.Coords) : Fin 3 → Nat :=
  let arg0 : BitVec 32 := BitVec.ofNat 32 (i 0).val
  let v12544 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12545 : Index := Scalar.indexCast v12407
  let c13_5258 : Index := 13#32
  ![v12544.toNat, v12545.toNat, 13]
def k0_off795 (v12410 : BitVec 32) (v12546 : BitVec 32) : Fin 3 → Nat :=
  let v12547 : Index := Scalar.indexCast v12546
  let v12411 : BitVec 32 := v12410
  let v12548 : Index := Scalar.indexCast v12411
  let c0_5259 : Index := 0#32
  ![v12547.toNat, v12548.toNat, 0]

def k0_chk274 (v12410 : BitVec 32) (v12546 : BitVec 32) : Prop :=
  (∀ a, (k0_off795 v12410 v12546) a + S1x40x128.size a ≤ S256x64x128.size a)
theorem k0_off795_inb : ∀ (v12410 : BitVec 32) (v12546 : BitVec 32) (k0_hw274 : k0_chk274 v12410 v12546), ∀ a, (k0_off795 v12410 v12546) a + S1x40x128.size a ≤ S256x64x128.size a := fun v12410 v12546 k0_hw274 => k0_hw274

def k0_off796 (i : grid0.Coords) : Fin 3 → Nat :=
  let arg0 : BitVec 32 := BitVec.ofNat 32 (i 0).val
  let v12552 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12553 : Index := Scalar.indexCast v12407
  let c20_5260 : Index := 20#32
  ![v12552.toNat, v12553.toNat, 20]
def k0_off797 (i : grid0.Coords) : Fin 3 → Nat :=
  let arg0 : BitVec 32 := BitVec.ofNat 32 (i 0).val
  let v12562 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12563 : Index := Scalar.indexCast v12407
  let c7_5265 : Index := 7#32
  ![v12562.toNat, v12563.toNat, 7]
def k0_off798 (v12410 : BitVec 32) (v12564 : BitVec 32) : Fin 3 → Nat :=
  let v12565 : Index := Scalar.indexCast v12564
  let v12411 : BitVec 32 := v12410
  let v12566 : Index := Scalar.indexCast v12411
  let c0_5266 : Index := 0#32
  ![v12565.toNat, v12566.toNat, 0]

def k0_chk275 (v12410 : BitVec 32) (v12564 : BitVec 32) : Prop :=
  (∀ a, (k0_off798 v12410 v12564) a + S1x40x128.size a ≤ S256x64x128.size a)
theorem k0_off798_inb : ∀ (v12410 : BitVec 32) (v12564 : BitVec 32) (k0_hw275 : k0_chk275 v12410 v12564), ∀ a, (k0_off798 v12410 v12564) a + S1x40x128.size a ≤ S256x64x128.size a := fun v12410 v12564 k0_hw275 => k0_hw275

def k0_off799 (i : grid0.Coords) : Fin 3 → Nat :=
  let arg0 : BitVec 32 := BitVec.ofNat 32 (i 0).val
  let v12569 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12570 : Index := Scalar.indexCast v12407
  let c14_5267 : Index := 14#32
  ![v12569.toNat, v12570.toNat, 14]
def k0_off800 (v12410 : BitVec 32) (v12571 : BitVec 32) : Fin 3 → Nat :=
  let v12572 : Index := Scalar.indexCast v12571
  let v12411 : BitVec 32 := v12410
  let v12573 : Index := Scalar.indexCast v12411
  let c0_5268 : Index := 0#32
  ![v12572.toNat, v12573.toNat, 0]

def k0_chk276 (v12410 : BitVec 32) (v12571 : BitVec 32) : Prop :=
  (∀ a, (k0_off800 v12410 v12571) a + S1x40x128.size a ≤ S256x64x128.size a)
theorem k0_off800_inb : ∀ (v12410 : BitVec 32) (v12571 : BitVec 32) (k0_hw276 : k0_chk276 v12410 v12571), ∀ a, (k0_off800 v12410 v12571) a + S1x40x128.size a ≤ S256x64x128.size a := fun v12410 v12571 k0_hw276 => k0_hw276

def k0_off801 (i : grid0.Coords) : Fin 3 → Nat :=
  let arg0 : BitVec 32 := BitVec.ofNat 32 (i 0).val
  let v12577 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12578 : Index := Scalar.indexCast v12407
  let c21_5269 : Index := 21#32
  ![v12577.toNat, v12578.toNat, 21]
def k0_off802 (i : grid0.Coords) : Fin 3 → Nat :=
  let arg0 : BitVec 32 := BitVec.ofNat 32 (i 0).val
  let v12587 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12588 : Index := Scalar.indexCast v12407
  let c22_5274 : Index := 22#32
  ![v12587.toNat, v12588.toNat, 22]
def k0_off803 (i : grid0.Coords) : Fin 3 → Nat :=
  let arg0 : BitVec 32 := BitVec.ofNat 32 (i 0).val
  let v12590 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12591 : Index := Scalar.indexCast v12407
  let c29_5275 : Index := 29#32
  ![v12590.toNat, v12591.toNat, 29]
def k0_off804 (i : grid0.Coords) : Fin 3 → Nat :=
  let arg0 : BitVec 32 := BitVec.ofNat 32 (i 0).val
  let v12593 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12594 : Index := Scalar.indexCast v12407
  let c36_5276 : Index := 36#32
  ![v12593.toNat, v12594.toNat, 36]
def k0_off805 (i : grid0.Coords) : Fin 3 → Nat :=
  let arg0 : BitVec 32 := BitVec.ofNat 32 (i 0).val
  let v12596 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12597 : Index := Scalar.indexCast v12407
  let c43_5277 : Index := 43#32
  ![v12596.toNat, v12597.toNat, 43]
def k0_off806 (v12589 : BitVec 32) : Fin 3 → Nat :=
  let c315_i32 : BitVec 32 := 315#32
  let v12621 : BitVec 32 := Scalar.addi c315_i32 v12589
  let v12622 : Index := Scalar.indexCast v12621
  let c0_5282 : Index := 0#32
  let c0_5283 : Index := 0#32
  ![v12622.toNat, 0, 0]

def k0_off807 (v12592 : BitVec 32) (c315_i32_5285 : BitVec 32) : Fin 3 → Nat :=
  let v12629 : BitVec 32 := Scalar.addi c315_i32_5285 v12592
  let v12630 : Index := Scalar.indexCast v12629
  let c0_5286 : Index := 0#32
  let c0_5287 : Index := 0#32
  ![v12630.toNat, 0, 0]

def k0_chk278 (v12592 : BitVec 32) : Prop :=
  (∀ (r : Fin 7), ∀ a, (k0_off807 v12592 (BitVec.ofNat 32 (315 + 5 * r.val))) a + S1x8x128.size a ≤ S1120x8x128.size a)
theorem k0_off807_inb : ∀ (v12592 : BitVec 32) (k0_hw278 : k0_chk278 v12592), ∀ (r : Fin 7), ∀ a, (k0_off807 v12592 (BitVec.ofNat 32 (315 + 5 * r.val))) a + S1x8x128.size a ≤ S1120x8x128.size a := fun v12592 k0_hw278 r => k0_hw278 r

def k0_off808 (v12589 : BitVec 32) (c320_i32 : BitVec 32) : Fin 3 → Nat :=
  let v12639 : BitVec 32 := Scalar.addi c320_i32 v12589
  let v12640 : Index := Scalar.indexCast v12639
  let c0_5290 : Index := 0#32
  let c0_5291 : Index := 0#32
  ![v12640.toNat, 0, 0]

def k0_chk277 (v12589 : BitVec 32) : Prop :=
  (∀ a, (k0_off806 v12589) a + S1x8x128.size a ≤ S1120x8x128.size a) ∧
  (∀ (r : Fin 6), ∀ a, (k0_off808 v12589 (BitVec.ofNat 32 (320 + 5 * r.val))) a + S1x8x128.size a ≤ S1120x8x128.size a)
theorem k0_off806_inb : ∀ (v12589 : BitVec 32) (k0_hw277 : k0_chk277 v12589), ∀ a, (k0_off806 v12589) a + S1x8x128.size a ≤ S1120x8x128.size a := fun v12589 k0_hw277 => k0_hw277.1
theorem k0_off808_inb : ∀ (v12589 : BitVec 32) (k0_hw277 : k0_chk277 v12589), ∀ (r : Fin 6), ∀ a, (k0_off808 v12589 (BitVec.ofNat 32 (320 + 5 * r.val))) a + S1x8x128.size a ≤ S1120x8x128.size a := fun v12589 k0_hw277 r => k0_hw277.2 r

def k0_off809 (i : grid0.Coords) : Fin 3 → Nat :=
  let arg0 : BitVec 32 := BitVec.ofNat 32 (i 0).val
  let v12747 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12748 : Index := Scalar.indexCast v12407
  let c23_5338 : Index := 23#32
  ![v12747.toNat, v12748.toNat, 23]
def k0_off810 (i : grid0.Coords) : Fin 3 → Nat :=
  let arg0 : BitVec 32 := BitVec.ofNat 32 (i 0).val
  let v12750 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12751 : Index := Scalar.indexCast v12407
  let c30_5339 : Index := 30#32
  ![v12750.toNat, v12751.toNat, 30]
def k0_off811 (i : grid0.Coords) : Fin 3 → Nat :=
  let arg0 : BitVec 32 := BitVec.ofNat 32 (i 0).val
  let v12753 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12754 : Index := Scalar.indexCast v12407
  let c37_5340 : Index := 37#32
  ![v12753.toNat, v12754.toNat, 37]
def k0_off812 (i : grid0.Coords) : Fin 3 → Nat :=
  let arg0 : BitVec 32 := BitVec.ofNat 32 (i 0).val
  let v12756 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12757 : Index := Scalar.indexCast v12407
  let c44_5341 : Index := 44#32
  ![v12756.toNat, v12757.toNat, 44]
def k0_off813 (v12749 : BitVec 32) : Fin 3 → Nat :=
  let c315_i32_5346 : BitVec 32 := 315#32
  let v12781 : BitVec 32 := Scalar.addi c315_i32_5346 v12749
  let v12782 : Index := Scalar.indexCast v12781
  let c0_5347 : Index := 0#32
  let c0_5348 : Index := 0#32
  ![v12782.toNat, 0, 0]

def k0_off814 (v12752 : BitVec 32) (c315_i32_5350 : BitVec 32) : Fin 3 → Nat :=
  let v12789 : BitVec 32 := Scalar.addi c315_i32_5350 v12752
  let v12790 : Index := Scalar.indexCast v12789
  let c0_5351 : Index := 0#32
  let c0_5352 : Index := 0#32
  ![v12790.toNat, 0, 0]

def k0_chk280 (v12752 : BitVec 32) : Prop :=
  (∀ (r : Fin 7), ∀ a, (k0_off814 v12752 (BitVec.ofNat 32 (315 + 5 * r.val))) a + S1x8x128.size a ≤ S1120x8x128.size a)
theorem k0_off814_inb : ∀ (v12752 : BitVec 32) (k0_hw280 : k0_chk280 v12752), ∀ (r : Fin 7), ∀ a, (k0_off814 v12752 (BitVec.ofNat 32 (315 + 5 * r.val))) a + S1x8x128.size a ≤ S1120x8x128.size a := fun v12752 k0_hw280 r => k0_hw280 r

def k0_off815 (v12749 : BitVec 32) (c320_i32_5355 : BitVec 32) : Fin 3 → Nat :=
  let v12799 : BitVec 32 := Scalar.addi c320_i32_5355 v12749
  let v12800 : Index := Scalar.indexCast v12799
  let c0_5356 : Index := 0#32
  let c0_5357 : Index := 0#32
  ![v12800.toNat, 0, 0]

def k0_chk279 (v12749 : BitVec 32) : Prop :=
  (∀ a, (k0_off813 v12749) a + S1x8x128.size a ≤ S1120x8x128.size a) ∧
  (∀ (r : Fin 6), ∀ a, (k0_off815 v12749 (BitVec.ofNat 32 (320 + 5 * r.val))) a + S1x8x128.size a ≤ S1120x8x128.size a)
theorem k0_off813_inb : ∀ (v12749 : BitVec 32) (k0_hw279 : k0_chk279 v12749), ∀ a, (k0_off813 v12749) a + S1x8x128.size a ≤ S1120x8x128.size a := fun v12749 k0_hw279 => k0_hw279.1
theorem k0_off815_inb : ∀ (v12749 : BitVec 32) (k0_hw279 : k0_chk279 v12749), ∀ (r : Fin 6), ∀ a, (k0_off815 v12749 (BitVec.ofNat 32 (320 + 5 * r.val))) a + S1x8x128.size a ≤ S1120x8x128.size a := fun v12749 k0_hw279 r => k0_hw279.2 r

def k0_off816 (i : grid0.Coords) : Fin 3 → Nat :=
  let arg0 : BitVec 32 := BitVec.ofNat 32 (i 0).val
  let v12907 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12908 : Index := Scalar.indexCast v12407
  let c24_5409 : Index := 24#32
  ![v12907.toNat, v12908.toNat, 24]
def k0_off817 (i : grid0.Coords) : Fin 3 → Nat :=
  let arg0 : BitVec 32 := BitVec.ofNat 32 (i 0).val
  let v12910 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12911 : Index := Scalar.indexCast v12407
  let c31_5410 : Index := 31#32
  ![v12910.toNat, v12911.toNat, 31]
def k0_off818 (i : grid0.Coords) : Fin 3 → Nat :=
  let arg0 : BitVec 32 := BitVec.ofNat 32 (i 0).val
  let v12913 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12914 : Index := Scalar.indexCast v12407
  let c38_5411 : Index := 38#32
  ![v12913.toNat, v12914.toNat, 38]
def k0_off819 (i : grid0.Coords) : Fin 3 → Nat :=
  let arg0 : BitVec 32 := BitVec.ofNat 32 (i 0).val
  let v12916 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v12917 : Index := Scalar.indexCast v12407
  let c45_5412 : Index := 45#32
  ![v12916.toNat, v12917.toNat, 45]
def k0_off820 (v12909 : BitVec 32) : Fin 3 → Nat :=
  let c315_i32_5417 : BitVec 32 := 315#32
  let v12941 : BitVec 32 := Scalar.addi c315_i32_5417 v12909
  let v12942 : Index := Scalar.indexCast v12941
  let c0_5418 : Index := 0#32
  let c0_5419 : Index := 0#32
  ![v12942.toNat, 0, 0]

def k0_off821 (v12912 : BitVec 32) (c315_i32_5421 : BitVec 32) : Fin 3 → Nat :=
  let v12949 : BitVec 32 := Scalar.addi c315_i32_5421 v12912
  let v12950 : Index := Scalar.indexCast v12949
  let c0_5422 : Index := 0#32
  let c0_5423 : Index := 0#32
  ![v12950.toNat, 0, 0]

def k0_chk282 (v12912 : BitVec 32) : Prop :=
  (∀ (r : Fin 7), ∀ a, (k0_off821 v12912 (BitVec.ofNat 32 (315 + 5 * r.val))) a + S1x8x128.size a ≤ S1120x8x128.size a)
theorem k0_off821_inb : ∀ (v12912 : BitVec 32) (k0_hw282 : k0_chk282 v12912), ∀ (r : Fin 7), ∀ a, (k0_off821 v12912 (BitVec.ofNat 32 (315 + 5 * r.val))) a + S1x8x128.size a ≤ S1120x8x128.size a := fun v12912 k0_hw282 r => k0_hw282 r

def k0_off822 (v12909 : BitVec 32) (c320_i32_5426 : BitVec 32) : Fin 3 → Nat :=
  let v12959 : BitVec 32 := Scalar.addi c320_i32_5426 v12909
  let v12960 : Index := Scalar.indexCast v12959
  let c0_5427 : Index := 0#32
  let c0_5428 : Index := 0#32
  ![v12960.toNat, 0, 0]

def k0_chk281 (v12909 : BitVec 32) : Prop :=
  (∀ a, (k0_off820 v12909) a + S1x8x128.size a ≤ S1120x8x128.size a) ∧
  (∀ (r : Fin 6), ∀ a, (k0_off822 v12909 (BitVec.ofNat 32 (320 + 5 * r.val))) a + S1x8x128.size a ≤ S1120x8x128.size a)
theorem k0_off820_inb : ∀ (v12909 : BitVec 32) (k0_hw281 : k0_chk281 v12909), ∀ a, (k0_off820 v12909) a + S1x8x128.size a ≤ S1120x8x128.size a := fun v12909 k0_hw281 => k0_hw281.1
theorem k0_off822_inb : ∀ (v12909 : BitVec 32) (k0_hw281 : k0_chk281 v12909), ∀ (r : Fin 6), ∀ a, (k0_off822 v12909 (BitVec.ofNat 32 (320 + 5 * r.val))) a + S1x8x128.size a ≤ S1120x8x128.size a := fun v12909 k0_hw281 r => k0_hw281.2 r

def k0_off823 (i : grid0.Coords) : Fin 3 → Nat :=
  let arg0 : BitVec 32 := BitVec.ofNat 32 (i 0).val
  let v13067 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13068 : Index := Scalar.indexCast v12407
  let c25_5480 : Index := 25#32
  ![v13067.toNat, v13068.toNat, 25]
def k0_off824 (i : grid0.Coords) : Fin 3 → Nat :=
  let arg0 : BitVec 32 := BitVec.ofNat 32 (i 0).val
  let v13070 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13071 : Index := Scalar.indexCast v12407
  let c32_5481 : Index := 32#32
  ![v13070.toNat, v13071.toNat, 32]
def k0_off825 (i : grid0.Coords) : Fin 3 → Nat :=
  let arg0 : BitVec 32 := BitVec.ofNat 32 (i 0).val
  let v13073 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13074 : Index := Scalar.indexCast v12407
  let c39_5482 : Index := 39#32
  ![v13073.toNat, v13074.toNat, 39]
def k0_off826 (i : grid0.Coords) : Fin 3 → Nat :=
  let arg0 : BitVec 32 := BitVec.ofNat 32 (i 0).val
  let v13076 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13077 : Index := Scalar.indexCast v12407
  let c46_5483 : Index := 46#32
  ![v13076.toNat, v13077.toNat, 46]
def k0_off827 (v13069 : BitVec 32) : Fin 3 → Nat :=
  let c315_i32_5488 : BitVec 32 := 315#32
  let v13101 : BitVec 32 := Scalar.addi c315_i32_5488 v13069
  let v13102 : Index := Scalar.indexCast v13101
  let c0_5489 : Index := 0#32
  let c0_5490 : Index := 0#32
  ![v13102.toNat, 0, 0]

def k0_off828 (v13072 : BitVec 32) (c315_i32_5492 : BitVec 32) : Fin 3 → Nat :=
  let v13109 : BitVec 32 := Scalar.addi c315_i32_5492 v13072
  let v13110 : Index := Scalar.indexCast v13109
  let c0_5493 : Index := 0#32
  let c0_5494 : Index := 0#32
  ![v13110.toNat, 0, 0]

def k0_chk284 (v13072 : BitVec 32) : Prop :=
  (∀ (r : Fin 7), ∀ a, (k0_off828 v13072 (BitVec.ofNat 32 (315 + 5 * r.val))) a + S1x8x128.size a ≤ S1120x8x128.size a)
theorem k0_off828_inb : ∀ (v13072 : BitVec 32) (k0_hw284 : k0_chk284 v13072), ∀ (r : Fin 7), ∀ a, (k0_off828 v13072 (BitVec.ofNat 32 (315 + 5 * r.val))) a + S1x8x128.size a ≤ S1120x8x128.size a := fun v13072 k0_hw284 r => k0_hw284 r

def k0_off829 (v13069 : BitVec 32) (c320_i32_5497 : BitVec 32) : Fin 3 → Nat :=
  let v13119 : BitVec 32 := Scalar.addi c320_i32_5497 v13069
  let v13120 : Index := Scalar.indexCast v13119
  let c0_5498 : Index := 0#32
  let c0_5499 : Index := 0#32
  ![v13120.toNat, 0, 0]

def k0_chk283 (v13069 : BitVec 32) : Prop :=
  (∀ a, (k0_off827 v13069) a + S1x8x128.size a ≤ S1120x8x128.size a) ∧
  (∀ (r : Fin 6), ∀ a, (k0_off829 v13069 (BitVec.ofNat 32 (320 + 5 * r.val))) a + S1x8x128.size a ≤ S1120x8x128.size a)
theorem k0_off827_inb : ∀ (v13069 : BitVec 32) (k0_hw283 : k0_chk283 v13069), ∀ a, (k0_off827 v13069) a + S1x8x128.size a ≤ S1120x8x128.size a := fun v13069 k0_hw283 => k0_hw283.1
theorem k0_off829_inb : ∀ (v13069 : BitVec 32) (k0_hw283 : k0_chk283 v13069), ∀ (r : Fin 6), ∀ a, (k0_off829 v13069 (BitVec.ofNat 32 (320 + 5 * r.val))) a + S1x8x128.size a ≤ S1120x8x128.size a := fun v13069 k0_hw283 r => k0_hw283.2 r

def k0_off830 (i : grid0.Coords) : Fin 3 → Nat :=
  let arg0 : BitVec 32 := BitVec.ofNat 32 (i 0).val
  let v13227 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13228 : Index := Scalar.indexCast v12407
  let c26_5551 : Index := 26#32
  ![v13227.toNat, v13228.toNat, 26]
def k0_off831 (i : grid0.Coords) : Fin 3 → Nat :=
  let arg0 : BitVec 32 := BitVec.ofNat 32 (i 0).val
  let v13230 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13231 : Index := Scalar.indexCast v12407
  let c33_5552 : Index := 33#32
  ![v13230.toNat, v13231.toNat, 33]
def k0_off832 (i : grid0.Coords) : Fin 3 → Nat :=
  let arg0 : BitVec 32 := BitVec.ofNat 32 (i 0).val
  let v13233 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13234 : Index := Scalar.indexCast v12407
  let c40_5553 : Index := 40#32
  ![v13233.toNat, v13234.toNat, 40]
def k0_off833 (i : grid0.Coords) : Fin 3 → Nat :=
  let arg0 : BitVec 32 := BitVec.ofNat 32 (i 0).val
  let v13236 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13237 : Index := Scalar.indexCast v12407
  let c47_5554 : Index := 47#32
  ![v13236.toNat, v13237.toNat, 47]
def k0_off834 (v13229 : BitVec 32) : Fin 3 → Nat :=
  let c315_i32_5559 : BitVec 32 := 315#32
  let v13261 : BitVec 32 := Scalar.addi c315_i32_5559 v13229
  let v13262 : Index := Scalar.indexCast v13261
  let c0_5560 : Index := 0#32
  let c0_5561 : Index := 0#32
  ![v13262.toNat, 0, 0]

def k0_off835 (v13232 : BitVec 32) (c315_i32_5563 : BitVec 32) : Fin 3 → Nat :=
  let v13269 : BitVec 32 := Scalar.addi c315_i32_5563 v13232
  let v13270 : Index := Scalar.indexCast v13269
  let c0_5564 : Index := 0#32
  let c0_5565 : Index := 0#32
  ![v13270.toNat, 0, 0]

def k0_chk286 (v13232 : BitVec 32) : Prop :=
  (∀ (r : Fin 7), ∀ a, (k0_off835 v13232 (BitVec.ofNat 32 (315 + 5 * r.val))) a + S1x8x128.size a ≤ S1120x8x128.size a)
theorem k0_off835_inb : ∀ (v13232 : BitVec 32) (k0_hw286 : k0_chk286 v13232), ∀ (r : Fin 7), ∀ a, (k0_off835 v13232 (BitVec.ofNat 32 (315 + 5 * r.val))) a + S1x8x128.size a ≤ S1120x8x128.size a := fun v13232 k0_hw286 r => k0_hw286 r

def k0_off836 (v13229 : BitVec 32) (c320_i32_5568 : BitVec 32) : Fin 3 → Nat :=
  let v13279 : BitVec 32 := Scalar.addi c320_i32_5568 v13229
  let v13280 : Index := Scalar.indexCast v13279
  let c0_5569 : Index := 0#32
  let c0_5570 : Index := 0#32
  ![v13280.toNat, 0, 0]

def k0_chk285 (v13229 : BitVec 32) : Prop :=
  (∀ a, (k0_off834 v13229) a + S1x8x128.size a ≤ S1120x8x128.size a) ∧
  (∀ (r : Fin 6), ∀ a, (k0_off836 v13229 (BitVec.ofNat 32 (320 + 5 * r.val))) a + S1x8x128.size a ≤ S1120x8x128.size a)
theorem k0_off834_inb : ∀ (v13229 : BitVec 32) (k0_hw285 : k0_chk285 v13229), ∀ a, (k0_off834 v13229) a + S1x8x128.size a ≤ S1120x8x128.size a := fun v13229 k0_hw285 => k0_hw285.1
theorem k0_off836_inb : ∀ (v13229 : BitVec 32) (k0_hw285 : k0_chk285 v13229), ∀ (r : Fin 6), ∀ a, (k0_off836 v13229 (BitVec.ofNat 32 (320 + 5 * r.val))) a + S1x8x128.size a ≤ S1120x8x128.size a := fun v13229 k0_hw285 r => k0_hw285.2 r

def k0_off837 (i : grid0.Coords) : Fin 3 → Nat :=
  let arg0 : BitVec 32 := BitVec.ofNat 32 (i 0).val
  let v13387 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13388 : Index := Scalar.indexCast v12407
  let c27_5622 : Index := 27#32
  ![v13387.toNat, v13388.toNat, 27]
def k0_off838 (i : grid0.Coords) : Fin 3 → Nat :=
  let arg0 : BitVec 32 := BitVec.ofNat 32 (i 0).val
  let v13390 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13391 : Index := Scalar.indexCast v12407
  let c34_5623 : Index := 34#32
  ![v13390.toNat, v13391.toNat, 34]
def k0_off839 (i : grid0.Coords) : Fin 3 → Nat :=
  let arg0 : BitVec 32 := BitVec.ofNat 32 (i 0).val
  let v13393 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13394 : Index := Scalar.indexCast v12407
  let c41_5624 : Index := 41#32
  ![v13393.toNat, v13394.toNat, 41]
def k0_off840 (i : grid0.Coords) : Fin 3 → Nat :=
  let arg0 : BitVec 32 := BitVec.ofNat 32 (i 0).val
  let v13396 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13397 : Index := Scalar.indexCast v12407
  let c48_5625 : Index := 48#32
  ![v13396.toNat, v13397.toNat, 48]
def k0_off841 (v13389 : BitVec 32) : Fin 3 → Nat :=
  let c315_i32_5630 : BitVec 32 := 315#32
  let v13421 : BitVec 32 := Scalar.addi c315_i32_5630 v13389
  let v13422 : Index := Scalar.indexCast v13421
  let c0_5631 : Index := 0#32
  let c0_5632 : Index := 0#32
  ![v13422.toNat, 0, 0]

def k0_off842 (v13392 : BitVec 32) (c315_i32_5634 : BitVec 32) : Fin 3 → Nat :=
  let v13429 : BitVec 32 := Scalar.addi c315_i32_5634 v13392
  let v13430 : Index := Scalar.indexCast v13429
  let c0_5635 : Index := 0#32
  let c0_5636 : Index := 0#32
  ![v13430.toNat, 0, 0]

def k0_chk288 (v13392 : BitVec 32) : Prop :=
  (∀ (r : Fin 7), ∀ a, (k0_off842 v13392 (BitVec.ofNat 32 (315 + 5 * r.val))) a + S1x8x128.size a ≤ S1120x8x128.size a)
theorem k0_off842_inb : ∀ (v13392 : BitVec 32) (k0_hw288 : k0_chk288 v13392), ∀ (r : Fin 7), ∀ a, (k0_off842 v13392 (BitVec.ofNat 32 (315 + 5 * r.val))) a + S1x8x128.size a ≤ S1120x8x128.size a := fun v13392 k0_hw288 r => k0_hw288 r

def k0_off843 (v13389 : BitVec 32) (c320_i32_5639 : BitVec 32) : Fin 3 → Nat :=
  let v13439 : BitVec 32 := Scalar.addi c320_i32_5639 v13389
  let v13440 : Index := Scalar.indexCast v13439
  let c0_5640 : Index := 0#32
  let c0_5641 : Index := 0#32
  ![v13440.toNat, 0, 0]

def k0_chk287 (v13389 : BitVec 32) : Prop :=
  (∀ a, (k0_off841 v13389) a + S1x8x128.size a ≤ S1120x8x128.size a) ∧
  (∀ (r : Fin 6), ∀ a, (k0_off843 v13389 (BitVec.ofNat 32 (320 + 5 * r.val))) a + S1x8x128.size a ≤ S1120x8x128.size a)
theorem k0_off841_inb : ∀ (v13389 : BitVec 32) (k0_hw287 : k0_chk287 v13389), ∀ a, (k0_off841 v13389) a + S1x8x128.size a ≤ S1120x8x128.size a := fun v13389 k0_hw287 => k0_hw287.1
theorem k0_off843_inb : ∀ (v13389 : BitVec 32) (k0_hw287 : k0_chk287 v13389), ∀ (r : Fin 6), ∀ a, (k0_off843 v13389 (BitVec.ofNat 32 (320 + 5 * r.val))) a + S1x8x128.size a ≤ S1120x8x128.size a := fun v13389 k0_hw287 r => k0_hw287.2 r

def k0_off844 (i : grid0.Coords) : Fin 3 → Nat :=
  let arg0 : BitVec 32 := BitVec.ofNat 32 (i 0).val
  let v13547 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13548 : Index := Scalar.indexCast v12407
  let c28_5693 : Index := 28#32
  ![v13547.toNat, v13548.toNat, 28]
def k0_off845 (i : grid0.Coords) : Fin 3 → Nat :=
  let arg0 : BitVec 32 := BitVec.ofNat 32 (i 0).val
  let v13550 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13551 : Index := Scalar.indexCast v12407
  let c35_5694 : Index := 35#32
  ![v13550.toNat, v13551.toNat, 35]
def k0_off846 (i : grid0.Coords) : Fin 3 → Nat :=
  let arg0 : BitVec 32 := BitVec.ofNat 32 (i 0).val
  let v13553 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13554 : Index := Scalar.indexCast v12407
  let c42_5695 : Index := 42#32
  ![v13553.toNat, v13554.toNat, 42]
def k0_off847 (i : grid0.Coords) : Fin 3 → Nat :=
  let arg0 : BitVec 32 := BitVec.ofNat 32 (i 0).val
  let v13556 : Index := Scalar.indexCast arg0
  let arg1 : BitVec 32 := BitVec.ofNat 32 (i 1).val
  let c32_i32_5209 : BitVec 32 := 32#32
  let v12406 : BitVec 32 := Scalar.muli arg1 c32_i32_5209
  let c9_i32 : BitVec 32 := 9#32
  let v12407 : BitVec 32 := Scalar.addi v12406 c9_i32
  let v13557 : Index := Scalar.indexCast v12407
  let c49_5696 : Index := 49#32
  ![v13556.toNat, v13557.toNat, 49]
def k0_off848 (v13549 : BitVec 32) : Fin 3 → Nat :=
  let c315_i32_5701 : BitVec 32 := 315#32
  let v13581 : BitVec 32 := Scalar.addi c315_i32_5701 v13549
  let v13582 : Index := Scalar.indexCast v13581
  let c0_5702 : Index := 0#32
  let c0_5703 : Index := 0#32
  ![v13582.toNat, 0, 0]

def k0_off849 (v13552 : BitVec 32) (c315_i32_5705 : BitVec 32) : Fin 3 → Nat :=
  let v13589 : BitVec 32 := Scalar.addi c315_i32_5705 v13552
  let v13590 : Index := Scalar.indexCast v13589
  let c0_5706 : Index := 0#32
  let c0_5707 : Index := 0#32
  ![v13590.toNat, 0, 0]

def k0_chk290 (v13552 : BitVec 32) : Prop :=
  (∀ (r : Fin 7), ∀ a, (k0_off849 v13552 (BitVec.ofNat 32 (315 + 5 * r.val))) a + S1x8x128.size a ≤ S1120x8x128.size a)
theorem k0_off849_inb : ∀ (v13552 : BitVec 32) (k0_hw290 : k0_chk290 v13552), ∀ (r : Fin 7), ∀ a, (k0_off849 v13552 (BitVec.ofNat 32 (315 + 5 * r.val))) a + S1x8x128.size a ≤ S1120x8x128.size a := fun v13552 k0_hw290 r => k0_hw290 r

def k0_off850 (v13549 : BitVec 32) (c320_i32_5710 : BitVec 32) : Fin 3 → Nat :=
  let v13599 : BitVec 32 := Scalar.addi c320_i32_5710 v13549
  let v13600 : Index := Scalar.indexCast v13599
  let c0_5711 : Index := 0#32
  let c0_5712 : Index := 0#32
  ![v13600.toNat, 0, 0]

def k0_chk289 (v13549 : BitVec 32) : Prop :=
  (∀ a, (k0_off848 v13549) a + S1x8x128.size a ≤ S1120x8x128.size a) ∧
  (∀ (r : Fin 6), ∀ a, (k0_off850 v13549 (BitVec.ofNat 32 (320 + 5 * r.val))) a + S1x8x128.size a ≤ S1120x8x128.size a)
theorem k0_off848_inb : ∀ (v13549 : BitVec 32) (k0_hw289 : k0_chk289 v13549), ∀ a, (k0_off848 v13549) a + S1x8x128.size a ≤ S1120x8x128.size a := fun v13549 k0_hw289 => k0_hw289.1
theorem k0_off850_inb : ∀ (v13549 : BitVec 32) (k0_hw289 : k0_chk289 v13549), ∀ (r : Fin 6), ∀ a, (k0_off850 v13549 (BitVec.ofNat 32 (320 + 5 * r.val))) a + S1x8x128.size a ≤ S1120x8x128.size a := fun v13549 k0_hw289 r => k0_hw289.2 r

def k0_off851 (i : grid0.Coords) : Fin 3 → Nat :=
  let arg0 : BitVec 32 := BitVec.ofNat 32 (i 0).val
  let v13786 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13787 : Index := Scalar.indexCast v13785
  let c0_5794 : Index := 0#32
  ![v13786.toNat, v13787.toNat, 0]
def k0_mult11 (v13788 : BitVec 32) : BitVec 32 :=
  v13788

def k0_chk291 (v13788 : BitVec 32) : Prop :=
  (8 ∣ (k0_mult11 v13788).toNat)
theorem k0_mult11_dvd : ∀ (v13788 : BitVec 32) (k0_hw291 : k0_chk291 v13788), 8 ∣ (k0_mult11 v13788).toNat := fun v13788 k0_hw291 => k0_hw291

def k0_off852 (i : grid0.Coords) : Fin 3 → Nat :=
  let arg0 : BitVec 32 := BitVec.ofNat 32 (i 0).val
  let v13790 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13791 : Index := Scalar.indexCast v13785
  let c1_5795 : Index := 1#32
  ![v13790.toNat, v13791.toNat, 1]
def k0_off853 (v13788 : BitVec 32) (v13792 : BitVec 32) : Fin 3 → Nat :=
  let v13793 : Index := Scalar.indexCast v13792
  let v13789 : BitVec 32 := v13788
  let v13794 : Index := Scalar.indexCast v13789
  let c0_5796 : Index := 0#32
  ![v13793.toNat, v13794.toNat, 0]

def k0_chk292 (v13788 : BitVec 32) (v13792 : BitVec 32) : Prop :=
  (∀ a, (k0_off853 v13788 v13792) a + S1x40x128.size a ≤ S256x64x128.size a)
theorem k0_off853_inb : ∀ (v13788 : BitVec 32) (v13792 : BitVec 32) (k0_hw292 : k0_chk292 v13788 v13792), ∀ a, (k0_off853 v13788 v13792) a + S1x40x128.size a ≤ S256x64x128.size a := fun v13788 v13792 k0_hw292 => k0_hw292

def k0_off854 (i : grid0.Coords) : Fin 3 → Nat :=
  let arg0 : BitVec 32 := BitVec.ofNat 32 (i 0).val
  let v13797 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13798 : Index := Scalar.indexCast v13785
  let c8_5797 : Index := 8#32
  ![v13797.toNat, v13798.toNat, 8]
def k0_off855 (v13788 : BitVec 32) (v13799 : BitVec 32) : Fin 3 → Nat :=
  let v13800 : Index := Scalar.indexCast v13799
  let v13789 : BitVec 32 := v13788
  let v13801 : Index := Scalar.indexCast v13789
  let c0_5798 : Index := 0#32
  ![v13800.toNat, v13801.toNat, 0]

def k0_chk293 (v13788 : BitVec 32) (v13799 : BitVec 32) : Prop :=
  (∀ a, (k0_off855 v13788 v13799) a + S1x40x128.size a ≤ S256x64x128.size a)
theorem k0_off855_inb : ∀ (v13788 : BitVec 32) (v13799 : BitVec 32) (k0_hw293 : k0_chk293 v13788 v13799), ∀ a, (k0_off855 v13788 v13799) a + S1x40x128.size a ≤ S256x64x128.size a := fun v13788 v13799 k0_hw293 => k0_hw293

def k0_off856 (i : grid0.Coords) : Fin 3 → Nat :=
  let arg0 : BitVec 32 := BitVec.ofNat 32 (i 0).val
  let v13805 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13806 : Index := Scalar.indexCast v13785
  let c15_5799 : Index := 15#32
  ![v13805.toNat, v13806.toNat, 15]
def k0_off857 (i : grid0.Coords) : Fin 3 → Nat :=
  let arg0 : BitVec 32 := BitVec.ofNat 32 (i 0).val
  let v13815 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13816 : Index := Scalar.indexCast v13785
  let c2_5804 : Index := 2#32
  ![v13815.toNat, v13816.toNat, 2]
def k0_off858 (v13788 : BitVec 32) (v13817 : BitVec 32) : Fin 3 → Nat :=
  let v13818 : Index := Scalar.indexCast v13817
  let v13789 : BitVec 32 := v13788
  let v13819 : Index := Scalar.indexCast v13789
  let c0_5805 : Index := 0#32
  ![v13818.toNat, v13819.toNat, 0]

def k0_chk294 (v13788 : BitVec 32) (v13817 : BitVec 32) : Prop :=
  (∀ a, (k0_off858 v13788 v13817) a + S1x40x128.size a ≤ S256x64x128.size a)
theorem k0_off858_inb : ∀ (v13788 : BitVec 32) (v13817 : BitVec 32) (k0_hw294 : k0_chk294 v13788 v13817), ∀ a, (k0_off858 v13788 v13817) a + S1x40x128.size a ≤ S256x64x128.size a := fun v13788 v13817 k0_hw294 => k0_hw294

def k0_off859 (i : grid0.Coords) : Fin 3 → Nat :=
  let arg0 : BitVec 32 := BitVec.ofNat 32 (i 0).val
  let v13822 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13823 : Index := Scalar.indexCast v13785
  let c9_5806 : Index := 9#32
  ![v13822.toNat, v13823.toNat, 9]
def k0_off860 (v13788 : BitVec 32) (v13824 : BitVec 32) : Fin 3 → Nat :=
  let v13825 : Index := Scalar.indexCast v13824
  let v13789 : BitVec 32 := v13788
  let v13826 : Index := Scalar.indexCast v13789
  let c0_5807 : Index := 0#32
  ![v13825.toNat, v13826.toNat, 0]

def k0_chk295 (v13788 : BitVec 32) (v13824 : BitVec 32) : Prop :=
  (∀ a, (k0_off860 v13788 v13824) a + S1x40x128.size a ≤ S256x64x128.size a)
theorem k0_off860_inb : ∀ (v13788 : BitVec 32) (v13824 : BitVec 32) (k0_hw295 : k0_chk295 v13788 v13824), ∀ a, (k0_off860 v13788 v13824) a + S1x40x128.size a ≤ S256x64x128.size a := fun v13788 v13824 k0_hw295 => k0_hw295

def k0_off861 (i : grid0.Coords) : Fin 3 → Nat :=
  let arg0 : BitVec 32 := BitVec.ofNat 32 (i 0).val
  let v13830 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13831 : Index := Scalar.indexCast v13785
  let c16_5808 : Index := 16#32
  ![v13830.toNat, v13831.toNat, 16]
def k0_off862 (i : grid0.Coords) : Fin 3 → Nat :=
  let arg0 : BitVec 32 := BitVec.ofNat 32 (i 0).val
  let v13840 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13841 : Index := Scalar.indexCast v13785
  let c3_5813 : Index := 3#32
  ![v13840.toNat, v13841.toNat, 3]
def k0_off863 (v13788 : BitVec 32) (v13842 : BitVec 32) : Fin 3 → Nat :=
  let v13843 : Index := Scalar.indexCast v13842
  let v13789 : BitVec 32 := v13788
  let v13844 : Index := Scalar.indexCast v13789
  let c0_5814 : Index := 0#32
  ![v13843.toNat, v13844.toNat, 0]

def k0_chk296 (v13788 : BitVec 32) (v13842 : BitVec 32) : Prop :=
  (∀ a, (k0_off863 v13788 v13842) a + S1x40x128.size a ≤ S256x64x128.size a)
theorem k0_off863_inb : ∀ (v13788 : BitVec 32) (v13842 : BitVec 32) (k0_hw296 : k0_chk296 v13788 v13842), ∀ a, (k0_off863 v13788 v13842) a + S1x40x128.size a ≤ S256x64x128.size a := fun v13788 v13842 k0_hw296 => k0_hw296

def k0_off864 (i : grid0.Coords) : Fin 3 → Nat :=
  let arg0 : BitVec 32 := BitVec.ofNat 32 (i 0).val
  let v13847 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13848 : Index := Scalar.indexCast v13785
  let c10_5815 : Index := 10#32
  ![v13847.toNat, v13848.toNat, 10]
def k0_off865 (v13788 : BitVec 32) (v13849 : BitVec 32) : Fin 3 → Nat :=
  let v13850 : Index := Scalar.indexCast v13849
  let v13789 : BitVec 32 := v13788
  let v13851 : Index := Scalar.indexCast v13789
  let c0_5816 : Index := 0#32
  ![v13850.toNat, v13851.toNat, 0]

def k0_chk297 (v13788 : BitVec 32) (v13849 : BitVec 32) : Prop :=
  (∀ a, (k0_off865 v13788 v13849) a + S1x40x128.size a ≤ S256x64x128.size a)
theorem k0_off865_inb : ∀ (v13788 : BitVec 32) (v13849 : BitVec 32) (k0_hw297 : k0_chk297 v13788 v13849), ∀ a, (k0_off865 v13788 v13849) a + S1x40x128.size a ≤ S256x64x128.size a := fun v13788 v13849 k0_hw297 => k0_hw297

def k0_off866 (i : grid0.Coords) : Fin 3 → Nat :=
  let arg0 : BitVec 32 := BitVec.ofNat 32 (i 0).val
  let v13855 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13856 : Index := Scalar.indexCast v13785
  let c17_5817 : Index := 17#32
  ![v13855.toNat, v13856.toNat, 17]
def k0_off867 (i : grid0.Coords) : Fin 3 → Nat :=
  let arg0 : BitVec 32 := BitVec.ofNat 32 (i 0).val
  let v13865 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13866 : Index := Scalar.indexCast v13785
  let c4_5822 : Index := 4#32
  ![v13865.toNat, v13866.toNat, 4]
def k0_off868 (v13788 : BitVec 32) (v13867 : BitVec 32) : Fin 3 → Nat :=
  let v13868 : Index := Scalar.indexCast v13867
  let v13789 : BitVec 32 := v13788
  let v13869 : Index := Scalar.indexCast v13789
  let c0_5823 : Index := 0#32
  ![v13868.toNat, v13869.toNat, 0]

def k0_chk298 (v13788 : BitVec 32) (v13867 : BitVec 32) : Prop :=
  (∀ a, (k0_off868 v13788 v13867) a + S1x40x128.size a ≤ S256x64x128.size a)
theorem k0_off868_inb : ∀ (v13788 : BitVec 32) (v13867 : BitVec 32) (k0_hw298 : k0_chk298 v13788 v13867), ∀ a, (k0_off868 v13788 v13867) a + S1x40x128.size a ≤ S256x64x128.size a := fun v13788 v13867 k0_hw298 => k0_hw298

def k0_off869 (i : grid0.Coords) : Fin 3 → Nat :=
  let arg0 : BitVec 32 := BitVec.ofNat 32 (i 0).val
  let v13872 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13873 : Index := Scalar.indexCast v13785
  let c11_5824 : Index := 11#32
  ![v13872.toNat, v13873.toNat, 11]
def k0_off870 (v13788 : BitVec 32) (v13874 : BitVec 32) : Fin 3 → Nat :=
  let v13875 : Index := Scalar.indexCast v13874
  let v13789 : BitVec 32 := v13788
  let v13876 : Index := Scalar.indexCast v13789
  let c0_5825 : Index := 0#32
  ![v13875.toNat, v13876.toNat, 0]

def k0_chk299 (v13788 : BitVec 32) (v13874 : BitVec 32) : Prop :=
  (∀ a, (k0_off870 v13788 v13874) a + S1x40x128.size a ≤ S256x64x128.size a)
theorem k0_off870_inb : ∀ (v13788 : BitVec 32) (v13874 : BitVec 32) (k0_hw299 : k0_chk299 v13788 v13874), ∀ a, (k0_off870 v13788 v13874) a + S1x40x128.size a ≤ S256x64x128.size a := fun v13788 v13874 k0_hw299 => k0_hw299

def k0_off871 (i : grid0.Coords) : Fin 3 → Nat :=
  let arg0 : BitVec 32 := BitVec.ofNat 32 (i 0).val
  let v13880 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13881 : Index := Scalar.indexCast v13785
  let c18_5826 : Index := 18#32
  ![v13880.toNat, v13881.toNat, 18]
def k0_off872 (i : grid0.Coords) : Fin 3 → Nat :=
  let arg0 : BitVec 32 := BitVec.ofNat 32 (i 0).val
  let v13890 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13891 : Index := Scalar.indexCast v13785
  let c5_5831 : Index := 5#32
  ![v13890.toNat, v13891.toNat, 5]
def k0_off873 (v13788 : BitVec 32) (v13892 : BitVec 32) : Fin 3 → Nat :=
  let v13893 : Index := Scalar.indexCast v13892
  let v13789 : BitVec 32 := v13788
  let v13894 : Index := Scalar.indexCast v13789
  let c0_5832 : Index := 0#32
  ![v13893.toNat, v13894.toNat, 0]

def k0_chk300 (v13788 : BitVec 32) (v13892 : BitVec 32) : Prop :=
  (∀ a, (k0_off873 v13788 v13892) a + S1x40x128.size a ≤ S256x64x128.size a)
theorem k0_off873_inb : ∀ (v13788 : BitVec 32) (v13892 : BitVec 32) (k0_hw300 : k0_chk300 v13788 v13892), ∀ a, (k0_off873 v13788 v13892) a + S1x40x128.size a ≤ S256x64x128.size a := fun v13788 v13892 k0_hw300 => k0_hw300

def k0_off874 (i : grid0.Coords) : Fin 3 → Nat :=
  let arg0 : BitVec 32 := BitVec.ofNat 32 (i 0).val
  let v13897 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13898 : Index := Scalar.indexCast v13785
  let c12_5833 : Index := 12#32
  ![v13897.toNat, v13898.toNat, 12]
def k0_off875 (v13788 : BitVec 32) (v13899 : BitVec 32) : Fin 3 → Nat :=
  let v13900 : Index := Scalar.indexCast v13899
  let v13789 : BitVec 32 := v13788
  let v13901 : Index := Scalar.indexCast v13789
  let c0_5834 : Index := 0#32
  ![v13900.toNat, v13901.toNat, 0]

def k0_chk301 (v13788 : BitVec 32) (v13899 : BitVec 32) : Prop :=
  (∀ a, (k0_off875 v13788 v13899) a + S1x40x128.size a ≤ S256x64x128.size a)
theorem k0_off875_inb : ∀ (v13788 : BitVec 32) (v13899 : BitVec 32) (k0_hw301 : k0_chk301 v13788 v13899), ∀ a, (k0_off875 v13788 v13899) a + S1x40x128.size a ≤ S256x64x128.size a := fun v13788 v13899 k0_hw301 => k0_hw301

def k0_off876 (i : grid0.Coords) : Fin 3 → Nat :=
  let arg0 : BitVec 32 := BitVec.ofNat 32 (i 0).val
  let v13905 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13906 : Index := Scalar.indexCast v13785
  let c19_5835 : Index := 19#32
  ![v13905.toNat, v13906.toNat, 19]
def k0_off877 (i : grid0.Coords) : Fin 3 → Nat :=
  let arg0 : BitVec 32 := BitVec.ofNat 32 (i 0).val
  let v13915 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13916 : Index := Scalar.indexCast v13785
  let c6_5840 : Index := 6#32
  ![v13915.toNat, v13916.toNat, 6]
def k0_off878 (v13788 : BitVec 32) (v13917 : BitVec 32) : Fin 3 → Nat :=
  let v13918 : Index := Scalar.indexCast v13917
  let v13789 : BitVec 32 := v13788
  let v13919 : Index := Scalar.indexCast v13789
  let c0_5841 : Index := 0#32
  ![v13918.toNat, v13919.toNat, 0]

def k0_chk302 (v13788 : BitVec 32) (v13917 : BitVec 32) : Prop :=
  (∀ a, (k0_off878 v13788 v13917) a + S1x40x128.size a ≤ S256x64x128.size a)
theorem k0_off878_inb : ∀ (v13788 : BitVec 32) (v13917 : BitVec 32) (k0_hw302 : k0_chk302 v13788 v13917), ∀ a, (k0_off878 v13788 v13917) a + S1x40x128.size a ≤ S256x64x128.size a := fun v13788 v13917 k0_hw302 => k0_hw302

def k0_off879 (i : grid0.Coords) : Fin 3 → Nat :=
  let arg0 : BitVec 32 := BitVec.ofNat 32 (i 0).val
  let v13922 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13923 : Index := Scalar.indexCast v13785
  let c13_5842 : Index := 13#32
  ![v13922.toNat, v13923.toNat, 13]
def k0_off880 (v13788 : BitVec 32) (v13924 : BitVec 32) : Fin 3 → Nat :=
  let v13925 : Index := Scalar.indexCast v13924
  let v13789 : BitVec 32 := v13788
  let v13926 : Index := Scalar.indexCast v13789
  let c0_5843 : Index := 0#32
  ![v13925.toNat, v13926.toNat, 0]

def k0_chk303 (v13788 : BitVec 32) (v13924 : BitVec 32) : Prop :=
  (∀ a, (k0_off880 v13788 v13924) a + S1x40x128.size a ≤ S256x64x128.size a)
theorem k0_off880_inb : ∀ (v13788 : BitVec 32) (v13924 : BitVec 32) (k0_hw303 : k0_chk303 v13788 v13924), ∀ a, (k0_off880 v13788 v13924) a + S1x40x128.size a ≤ S256x64x128.size a := fun v13788 v13924 k0_hw303 => k0_hw303

def k0_off881 (i : grid0.Coords) : Fin 3 → Nat :=
  let arg0 : BitVec 32 := BitVec.ofNat 32 (i 0).val
  let v13930 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13931 : Index := Scalar.indexCast v13785
  let c20_5844 : Index := 20#32
  ![v13930.toNat, v13931.toNat, 20]
def k0_off882 (i : grid0.Coords) : Fin 3 → Nat :=
  let arg0 : BitVec 32 := BitVec.ofNat 32 (i 0).val
  let v13940 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13941 : Index := Scalar.indexCast v13785
  let c7_5849 : Index := 7#32
  ![v13940.toNat, v13941.toNat, 7]
def k0_off883 (v13788 : BitVec 32) (v13942 : BitVec 32) : Fin 3 → Nat :=
  let v13943 : Index := Scalar.indexCast v13942
  let v13789 : BitVec 32 := v13788
  let v13944 : Index := Scalar.indexCast v13789
  let c0_5850 : Index := 0#32
  ![v13943.toNat, v13944.toNat, 0]

def k0_chk304 (v13788 : BitVec 32) (v13942 : BitVec 32) : Prop :=
  (∀ a, (k0_off883 v13788 v13942) a + S1x40x128.size a ≤ S256x64x128.size a)
theorem k0_off883_inb : ∀ (v13788 : BitVec 32) (v13942 : BitVec 32) (k0_hw304 : k0_chk304 v13788 v13942), ∀ a, (k0_off883 v13788 v13942) a + S1x40x128.size a ≤ S256x64x128.size a := fun v13788 v13942 k0_hw304 => k0_hw304

def k0_off884 (i : grid0.Coords) : Fin 3 → Nat :=
  let arg0 : BitVec 32 := BitVec.ofNat 32 (i 0).val
  let v13947 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13948 : Index := Scalar.indexCast v13785
  let c14_5851 : Index := 14#32
  ![v13947.toNat, v13948.toNat, 14]
def k0_off885 (v13788 : BitVec 32) (v13949 : BitVec 32) : Fin 3 → Nat :=
  let v13950 : Index := Scalar.indexCast v13949
  let v13789 : BitVec 32 := v13788
  let v13951 : Index := Scalar.indexCast v13789
  let c0_5852 : Index := 0#32
  ![v13950.toNat, v13951.toNat, 0]

def k0_chk305 (v13788 : BitVec 32) (v13949 : BitVec 32) : Prop :=
  (∀ a, (k0_off885 v13788 v13949) a + S1x40x128.size a ≤ S256x64x128.size a)
theorem k0_off885_inb : ∀ (v13788 : BitVec 32) (v13949 : BitVec 32) (k0_hw305 : k0_chk305 v13788 v13949), ∀ a, (k0_off885 v13788 v13949) a + S1x40x128.size a ≤ S256x64x128.size a := fun v13788 v13949 k0_hw305 => k0_hw305

def k0_off886 (i : grid0.Coords) : Fin 3 → Nat :=
  let arg0 : BitVec 32 := BitVec.ofNat 32 (i 0).val
  let v13955 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13956 : Index := Scalar.indexCast v13785
  let c21_5853 : Index := 21#32
  ![v13955.toNat, v13956.toNat, 21]
def k0_off887 (i : grid0.Coords) : Fin 3 → Nat :=
  let arg0 : BitVec 32 := BitVec.ofNat 32 (i 0).val
  let v13965 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13966 : Index := Scalar.indexCast v13785
  let c22_5858 : Index := 22#32
  ![v13965.toNat, v13966.toNat, 22]
def k0_off888 (i : grid0.Coords) : Fin 3 → Nat :=
  let arg0 : BitVec 32 := BitVec.ofNat 32 (i 0).val
  let v13968 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13969 : Index := Scalar.indexCast v13785
  let c29_5859 : Index := 29#32
  ![v13968.toNat, v13969.toNat, 29]
def k0_off889 (i : grid0.Coords) : Fin 3 → Nat :=
  let arg0 : BitVec 32 := BitVec.ofNat 32 (i 0).val
  let v13971 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13972 : Index := Scalar.indexCast v13785
  let c36_5860 : Index := 36#32
  ![v13971.toNat, v13972.toNat, 36]
def k0_off890 (i : grid0.Coords) : Fin 3 → Nat :=
  let arg0 : BitVec 32 := BitVec.ofNat 32 (i 0).val
  let v13974 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v13975 : Index := Scalar.indexCast v13785
  let c43_5861 : Index := 43#32
  ![v13974.toNat, v13975.toNat, 43]
def k0_off891 (v13967 : BitVec 32) : Fin 3 → Nat :=
  let c350_i32 : BitVec 32 := 350#32
  let v13999 : BitVec 32 := Scalar.addi c350_i32 v13967
  let v14000 : Index := Scalar.indexCast v13999
  let c0_5866 : Index := 0#32
  let c0_5867 : Index := 0#32
  ![v14000.toNat, 0, 0]

def k0_off892 (v13970 : BitVec 32) (c350_i32_5869 : BitVec 32) : Fin 3 → Nat :=
  let v14007 : BitVec 32 := Scalar.addi c350_i32_5869 v13970
  let v14008 : Index := Scalar.indexCast v14007
  let c0_5870 : Index := 0#32
  let c0_5871 : Index := 0#32
  ![v14008.toNat, 0, 0]

def k0_chk307 (v13970 : BitVec 32) : Prop :=
  (∀ (r : Fin 7), ∀ a, (k0_off892 v13970 (BitVec.ofNat 32 (350 + 5 * r.val))) a + S1x8x128.size a ≤ S1120x8x128.size a)
theorem k0_off892_inb : ∀ (v13970 : BitVec 32) (k0_hw307 : k0_chk307 v13970), ∀ (r : Fin 7), ∀ a, (k0_off892 v13970 (BitVec.ofNat 32 (350 + 5 * r.val))) a + S1x8x128.size a ≤ S1120x8x128.size a := fun v13970 k0_hw307 r => k0_hw307 r

def k0_off893 (v13967 : BitVec 32) (c355_i32 : BitVec 32) : Fin 3 → Nat :=
  let v14017 : BitVec 32 := Scalar.addi c355_i32 v13967
  let v14018 : Index := Scalar.indexCast v14017
  let c0_5874 : Index := 0#32
  let c0_5875 : Index := 0#32
  ![v14018.toNat, 0, 0]

def k0_chk306 (v13967 : BitVec 32) : Prop :=
  (∀ a, (k0_off891 v13967) a + S1x8x128.size a ≤ S1120x8x128.size a) ∧
  (∀ (r : Fin 6), ∀ a, (k0_off893 v13967 (BitVec.ofNat 32 (355 + 5 * r.val))) a + S1x8x128.size a ≤ S1120x8x128.size a)
theorem k0_off891_inb : ∀ (v13967 : BitVec 32) (k0_hw306 : k0_chk306 v13967), ∀ a, (k0_off891 v13967) a + S1x8x128.size a ≤ S1120x8x128.size a := fun v13967 k0_hw306 => k0_hw306.1
theorem k0_off893_inb : ∀ (v13967 : BitVec 32) (k0_hw306 : k0_chk306 v13967), ∀ (r : Fin 6), ∀ a, (k0_off893 v13967 (BitVec.ofNat 32 (355 + 5 * r.val))) a + S1x8x128.size a ≤ S1120x8x128.size a := fun v13967 k0_hw306 r => k0_hw306.2 r

def k0_off894 (i : grid0.Coords) : Fin 3 → Nat :=
  let arg0 : BitVec 32 := BitVec.ofNat 32 (i 0).val
  let v14125 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14126 : Index := Scalar.indexCast v13785
  let c23_5922 : Index := 23#32
  ![v14125.toNat, v14126.toNat, 23]
def k0_off895 (i : grid0.Coords) : Fin 3 → Nat :=
  let arg0 : BitVec 32 := BitVec.ofNat 32 (i 0).val
  let v14128 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14129 : Index := Scalar.indexCast v13785
  let c30_5923 : Index := 30#32
  ![v14128.toNat, v14129.toNat, 30]
def k0_off896 (i : grid0.Coords) : Fin 3 → Nat :=
  let arg0 : BitVec 32 := BitVec.ofNat 32 (i 0).val
  let v14131 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14132 : Index := Scalar.indexCast v13785
  let c37_5924 : Index := 37#32
  ![v14131.toNat, v14132.toNat, 37]
def k0_off897 (i : grid0.Coords) : Fin 3 → Nat :=
  let arg0 : BitVec 32 := BitVec.ofNat 32 (i 0).val
  let v14134 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14135 : Index := Scalar.indexCast v13785
  let c44_5925 : Index := 44#32
  ![v14134.toNat, v14135.toNat, 44]
def k0_off898 (v14127 : BitVec 32) : Fin 3 → Nat :=
  let c350_i32_5930 : BitVec 32 := 350#32
  let v14159 : BitVec 32 := Scalar.addi c350_i32_5930 v14127
  let v14160 : Index := Scalar.indexCast v14159
  let c0_5931 : Index := 0#32
  let c0_5932 : Index := 0#32
  ![v14160.toNat, 0, 0]

def k0_off899 (v14130 : BitVec 32) (c350_i32_5934 : BitVec 32) : Fin 3 → Nat :=
  let v14167 : BitVec 32 := Scalar.addi c350_i32_5934 v14130
  let v14168 : Index := Scalar.indexCast v14167
  let c0_5935 : Index := 0#32
  let c0_5936 : Index := 0#32
  ![v14168.toNat, 0, 0]

def k0_chk309 (v14130 : BitVec 32) : Prop :=
  (∀ (r : Fin 7), ∀ a, (k0_off899 v14130 (BitVec.ofNat 32 (350 + 5 * r.val))) a + S1x8x128.size a ≤ S1120x8x128.size a)
theorem k0_off899_inb : ∀ (v14130 : BitVec 32) (k0_hw309 : k0_chk309 v14130), ∀ (r : Fin 7), ∀ a, (k0_off899 v14130 (BitVec.ofNat 32 (350 + 5 * r.val))) a + S1x8x128.size a ≤ S1120x8x128.size a := fun v14130 k0_hw309 r => k0_hw309 r

def k0_off900 (v14127 : BitVec 32) (c355_i32_5939 : BitVec 32) : Fin 3 → Nat :=
  let v14177 : BitVec 32 := Scalar.addi c355_i32_5939 v14127
  let v14178 : Index := Scalar.indexCast v14177
  let c0_5940 : Index := 0#32
  let c0_5941 : Index := 0#32
  ![v14178.toNat, 0, 0]

def k0_chk308 (v14127 : BitVec 32) : Prop :=
  (∀ a, (k0_off898 v14127) a + S1x8x128.size a ≤ S1120x8x128.size a) ∧
  (∀ (r : Fin 6), ∀ a, (k0_off900 v14127 (BitVec.ofNat 32 (355 + 5 * r.val))) a + S1x8x128.size a ≤ S1120x8x128.size a)
theorem k0_off898_inb : ∀ (v14127 : BitVec 32) (k0_hw308 : k0_chk308 v14127), ∀ a, (k0_off898 v14127) a + S1x8x128.size a ≤ S1120x8x128.size a := fun v14127 k0_hw308 => k0_hw308.1
theorem k0_off900_inb : ∀ (v14127 : BitVec 32) (k0_hw308 : k0_chk308 v14127), ∀ (r : Fin 6), ∀ a, (k0_off900 v14127 (BitVec.ofNat 32 (355 + 5 * r.val))) a + S1x8x128.size a ≤ S1120x8x128.size a := fun v14127 k0_hw308 r => k0_hw308.2 r

def k0_off901 (i : grid0.Coords) : Fin 3 → Nat :=
  let arg0 : BitVec 32 := BitVec.ofNat 32 (i 0).val
  let v14285 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14286 : Index := Scalar.indexCast v13785
  let c24_5993 : Index := 24#32
  ![v14285.toNat, v14286.toNat, 24]
def k0_off902 (i : grid0.Coords) : Fin 3 → Nat :=
  let arg0 : BitVec 32 := BitVec.ofNat 32 (i 0).val
  let v14288 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14289 : Index := Scalar.indexCast v13785
  let c31_5994 : Index := 31#32
  ![v14288.toNat, v14289.toNat, 31]
def k0_off903 (i : grid0.Coords) : Fin 3 → Nat :=
  let arg0 : BitVec 32 := BitVec.ofNat 32 (i 0).val
  let v14291 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14292 : Index := Scalar.indexCast v13785
  let c38_5995 : Index := 38#32
  ![v14291.toNat, v14292.toNat, 38]
def k0_off904 (i : grid0.Coords) : Fin 3 → Nat :=
  let arg0 : BitVec 32 := BitVec.ofNat 32 (i 0).val
  let v14294 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14295 : Index := Scalar.indexCast v13785
  let c45_5996 : Index := 45#32
  ![v14294.toNat, v14295.toNat, 45]
def k0_off905 (v14287 : BitVec 32) : Fin 3 → Nat :=
  let c350_i32_6001 : BitVec 32 := 350#32
  let v14319 : BitVec 32 := Scalar.addi c350_i32_6001 v14287
  let v14320 : Index := Scalar.indexCast v14319
  let c0_6002 : Index := 0#32
  let c0_6003 : Index := 0#32
  ![v14320.toNat, 0, 0]

def k0_off906 (v14290 : BitVec 32) (c350_i32_6005 : BitVec 32) : Fin 3 → Nat :=
  let v14327 : BitVec 32 := Scalar.addi c350_i32_6005 v14290
  let v14328 : Index := Scalar.indexCast v14327
  let c0_6006 : Index := 0#32
  let c0_6007 : Index := 0#32
  ![v14328.toNat, 0, 0]

def k0_chk311 (v14290 : BitVec 32) : Prop :=
  (∀ (r : Fin 7), ∀ a, (k0_off906 v14290 (BitVec.ofNat 32 (350 + 5 * r.val))) a + S1x8x128.size a ≤ S1120x8x128.size a)
theorem k0_off906_inb : ∀ (v14290 : BitVec 32) (k0_hw311 : k0_chk311 v14290), ∀ (r : Fin 7), ∀ a, (k0_off906 v14290 (BitVec.ofNat 32 (350 + 5 * r.val))) a + S1x8x128.size a ≤ S1120x8x128.size a := fun v14290 k0_hw311 r => k0_hw311 r

def k0_off907 (v14287 : BitVec 32) (c355_i32_6010 : BitVec 32) : Fin 3 → Nat :=
  let v14337 : BitVec 32 := Scalar.addi c355_i32_6010 v14287
  let v14338 : Index := Scalar.indexCast v14337
  let c0_6011 : Index := 0#32
  let c0_6012 : Index := 0#32
  ![v14338.toNat, 0, 0]

def k0_chk310 (v14287 : BitVec 32) : Prop :=
  (∀ a, (k0_off905 v14287) a + S1x8x128.size a ≤ S1120x8x128.size a) ∧
  (∀ (r : Fin 6), ∀ a, (k0_off907 v14287 (BitVec.ofNat 32 (355 + 5 * r.val))) a + S1x8x128.size a ≤ S1120x8x128.size a)
theorem k0_off905_inb : ∀ (v14287 : BitVec 32) (k0_hw310 : k0_chk310 v14287), ∀ a, (k0_off905 v14287) a + S1x8x128.size a ≤ S1120x8x128.size a := fun v14287 k0_hw310 => k0_hw310.1
theorem k0_off907_inb : ∀ (v14287 : BitVec 32) (k0_hw310 : k0_chk310 v14287), ∀ (r : Fin 6), ∀ a, (k0_off907 v14287 (BitVec.ofNat 32 (355 + 5 * r.val))) a + S1x8x128.size a ≤ S1120x8x128.size a := fun v14287 k0_hw310 r => k0_hw310.2 r

def k0_off908 (i : grid0.Coords) : Fin 3 → Nat :=
  let arg0 : BitVec 32 := BitVec.ofNat 32 (i 0).val
  let v14445 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14446 : Index := Scalar.indexCast v13785
  let c25_6064 : Index := 25#32
  ![v14445.toNat, v14446.toNat, 25]
def k0_off909 (i : grid0.Coords) : Fin 3 → Nat :=
  let arg0 : BitVec 32 := BitVec.ofNat 32 (i 0).val
  let v14448 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14449 : Index := Scalar.indexCast v13785
  let c32_6065 : Index := 32#32
  ![v14448.toNat, v14449.toNat, 32]
def k0_off910 (i : grid0.Coords) : Fin 3 → Nat :=
  let arg0 : BitVec 32 := BitVec.ofNat 32 (i 0).val
  let v14451 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14452 : Index := Scalar.indexCast v13785
  let c39_6066 : Index := 39#32
  ![v14451.toNat, v14452.toNat, 39]
def k0_off911 (i : grid0.Coords) : Fin 3 → Nat :=
  let arg0 : BitVec 32 := BitVec.ofNat 32 (i 0).val
  let v14454 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14455 : Index := Scalar.indexCast v13785
  let c46_6067 : Index := 46#32
  ![v14454.toNat, v14455.toNat, 46]
def k0_off912 (v14447 : BitVec 32) : Fin 3 → Nat :=
  let c350_i32_6072 : BitVec 32 := 350#32
  let v14479 : BitVec 32 := Scalar.addi c350_i32_6072 v14447
  let v14480 : Index := Scalar.indexCast v14479
  let c0_6073 : Index := 0#32
  let c0_6074 : Index := 0#32
  ![v14480.toNat, 0, 0]

def k0_off913 (v14450 : BitVec 32) (c350_i32_6076 : BitVec 32) : Fin 3 → Nat :=
  let v14487 : BitVec 32 := Scalar.addi c350_i32_6076 v14450
  let v14488 : Index := Scalar.indexCast v14487
  let c0_6077 : Index := 0#32
  let c0_6078 : Index := 0#32
  ![v14488.toNat, 0, 0]

def k0_chk313 (v14450 : BitVec 32) : Prop :=
  (∀ (r : Fin 7), ∀ a, (k0_off913 v14450 (BitVec.ofNat 32 (350 + 5 * r.val))) a + S1x8x128.size a ≤ S1120x8x128.size a)
theorem k0_off913_inb : ∀ (v14450 : BitVec 32) (k0_hw313 : k0_chk313 v14450), ∀ (r : Fin 7), ∀ a, (k0_off913 v14450 (BitVec.ofNat 32 (350 + 5 * r.val))) a + S1x8x128.size a ≤ S1120x8x128.size a := fun v14450 k0_hw313 r => k0_hw313 r

def k0_off914 (v14447 : BitVec 32) (c355_i32_6081 : BitVec 32) : Fin 3 → Nat :=
  let v14497 : BitVec 32 := Scalar.addi c355_i32_6081 v14447
  let v14498 : Index := Scalar.indexCast v14497
  let c0_6082 : Index := 0#32
  let c0_6083 : Index := 0#32
  ![v14498.toNat, 0, 0]

def k0_chk312 (v14447 : BitVec 32) : Prop :=
  (∀ a, (k0_off912 v14447) a + S1x8x128.size a ≤ S1120x8x128.size a) ∧
  (∀ (r : Fin 6), ∀ a, (k0_off914 v14447 (BitVec.ofNat 32 (355 + 5 * r.val))) a + S1x8x128.size a ≤ S1120x8x128.size a)
theorem k0_off912_inb : ∀ (v14447 : BitVec 32) (k0_hw312 : k0_chk312 v14447), ∀ a, (k0_off912 v14447) a + S1x8x128.size a ≤ S1120x8x128.size a := fun v14447 k0_hw312 => k0_hw312.1
theorem k0_off914_inb : ∀ (v14447 : BitVec 32) (k0_hw312 : k0_chk312 v14447), ∀ (r : Fin 6), ∀ a, (k0_off914 v14447 (BitVec.ofNat 32 (355 + 5 * r.val))) a + S1x8x128.size a ≤ S1120x8x128.size a := fun v14447 k0_hw312 r => k0_hw312.2 r

def k0_off915 (i : grid0.Coords) : Fin 3 → Nat :=
  let arg0 : BitVec 32 := BitVec.ofNat 32 (i 0).val
  let v14605 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14606 : Index := Scalar.indexCast v13785
  let c26_6135 : Index := 26#32
  ![v14605.toNat, v14606.toNat, 26]
def k0_off916 (i : grid0.Coords) : Fin 3 → Nat :=
  let arg0 : BitVec 32 := BitVec.ofNat 32 (i 0).val
  let v14608 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14609 : Index := Scalar.indexCast v13785
  let c33_6136 : Index := 33#32
  ![v14608.toNat, v14609.toNat, 33]
def k0_off917 (i : grid0.Coords) : Fin 3 → Nat :=
  let arg0 : BitVec 32 := BitVec.ofNat 32 (i 0).val
  let v14611 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14612 : Index := Scalar.indexCast v13785
  let c40_6137 : Index := 40#32
  ![v14611.toNat, v14612.toNat, 40]
def k0_off918 (i : grid0.Coords) : Fin 3 → Nat :=
  let arg0 : BitVec 32 := BitVec.ofNat 32 (i 0).val
  let v14614 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14615 : Index := Scalar.indexCast v13785
  let c47_6138 : Index := 47#32
  ![v14614.toNat, v14615.toNat, 47]
def k0_off919 (v14607 : BitVec 32) : Fin 3 → Nat :=
  let c350_i32_6143 : BitVec 32 := 350#32
  let v14639 : BitVec 32 := Scalar.addi c350_i32_6143 v14607
  let v14640 : Index := Scalar.indexCast v14639
  let c0_6144 : Index := 0#32
  let c0_6145 : Index := 0#32
  ![v14640.toNat, 0, 0]

def k0_off920 (v14610 : BitVec 32) (c350_i32_6147 : BitVec 32) : Fin 3 → Nat :=
  let v14647 : BitVec 32 := Scalar.addi c350_i32_6147 v14610
  let v14648 : Index := Scalar.indexCast v14647
  let c0_6148 : Index := 0#32
  let c0_6149 : Index := 0#32
  ![v14648.toNat, 0, 0]

def k0_chk315 (v14610 : BitVec 32) : Prop :=
  (∀ (r : Fin 7), ∀ a, (k0_off920 v14610 (BitVec.ofNat 32 (350 + 5 * r.val))) a + S1x8x128.size a ≤ S1120x8x128.size a)
theorem k0_off920_inb : ∀ (v14610 : BitVec 32) (k0_hw315 : k0_chk315 v14610), ∀ (r : Fin 7), ∀ a, (k0_off920 v14610 (BitVec.ofNat 32 (350 + 5 * r.val))) a + S1x8x128.size a ≤ S1120x8x128.size a := fun v14610 k0_hw315 r => k0_hw315 r

def k0_off921 (v14607 : BitVec 32) (c355_i32_6152 : BitVec 32) : Fin 3 → Nat :=
  let v14657 : BitVec 32 := Scalar.addi c355_i32_6152 v14607
  let v14658 : Index := Scalar.indexCast v14657
  let c0_6153 : Index := 0#32
  let c0_6154 : Index := 0#32
  ![v14658.toNat, 0, 0]

def k0_chk314 (v14607 : BitVec 32) : Prop :=
  (∀ a, (k0_off919 v14607) a + S1x8x128.size a ≤ S1120x8x128.size a) ∧
  (∀ (r : Fin 6), ∀ a, (k0_off921 v14607 (BitVec.ofNat 32 (355 + 5 * r.val))) a + S1x8x128.size a ≤ S1120x8x128.size a)
theorem k0_off919_inb : ∀ (v14607 : BitVec 32) (k0_hw314 : k0_chk314 v14607), ∀ a, (k0_off919 v14607) a + S1x8x128.size a ≤ S1120x8x128.size a := fun v14607 k0_hw314 => k0_hw314.1
theorem k0_off921_inb : ∀ (v14607 : BitVec 32) (k0_hw314 : k0_chk314 v14607), ∀ (r : Fin 6), ∀ a, (k0_off921 v14607 (BitVec.ofNat 32 (355 + 5 * r.val))) a + S1x8x128.size a ≤ S1120x8x128.size a := fun v14607 k0_hw314 r => k0_hw314.2 r

def k0_off922 (i : grid0.Coords) : Fin 3 → Nat :=
  let arg0 : BitVec 32 := BitVec.ofNat 32 (i 0).val
  let v14765 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14766 : Index := Scalar.indexCast v13785
  let c27_6206 : Index := 27#32
  ![v14765.toNat, v14766.toNat, 27]
def k0_off923 (i : grid0.Coords) : Fin 3 → Nat :=
  let arg0 : BitVec 32 := BitVec.ofNat 32 (i 0).val
  let v14768 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14769 : Index := Scalar.indexCast v13785
  let c34_6207 : Index := 34#32
  ![v14768.toNat, v14769.toNat, 34]
def k0_off924 (i : grid0.Coords) : Fin 3 → Nat :=
  let arg0 : BitVec 32 := BitVec.ofNat 32 (i 0).val
  let v14771 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14772 : Index := Scalar.indexCast v13785
  let c41_6208 : Index := 41#32
  ![v14771.toNat, v14772.toNat, 41]
def k0_off925 (i : grid0.Coords) : Fin 3 → Nat :=
  let arg0 : BitVec 32 := BitVec.ofNat 32 (i 0).val
  let v14774 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14775 : Index := Scalar.indexCast v13785
  let c48_6209 : Index := 48#32
  ![v14774.toNat, v14775.toNat, 48]
def k0_off926 (v14767 : BitVec 32) : Fin 3 → Nat :=
  let c350_i32_6214 : BitVec 32 := 350#32
  let v14799 : BitVec 32 := Scalar.addi c350_i32_6214 v14767
  let v14800 : Index := Scalar.indexCast v14799
  let c0_6215 : Index := 0#32
  let c0_6216 : Index := 0#32
  ![v14800.toNat, 0, 0]

def k0_off927 (v14770 : BitVec 32) (c350_i32_6218 : BitVec 32) : Fin 3 → Nat :=
  let v14807 : BitVec 32 := Scalar.addi c350_i32_6218 v14770
  let v14808 : Index := Scalar.indexCast v14807
  let c0_6219 : Index := 0#32
  let c0_6220 : Index := 0#32
  ![v14808.toNat, 0, 0]

def k0_chk317 (v14770 : BitVec 32) : Prop :=
  (∀ (r : Fin 7), ∀ a, (k0_off927 v14770 (BitVec.ofNat 32 (350 + 5 * r.val))) a + S1x8x128.size a ≤ S1120x8x128.size a)
theorem k0_off927_inb : ∀ (v14770 : BitVec 32) (k0_hw317 : k0_chk317 v14770), ∀ (r : Fin 7), ∀ a, (k0_off927 v14770 (BitVec.ofNat 32 (350 + 5 * r.val))) a + S1x8x128.size a ≤ S1120x8x128.size a := fun v14770 k0_hw317 r => k0_hw317 r

def k0_off928 (v14767 : BitVec 32) (c355_i32_6223 : BitVec 32) : Fin 3 → Nat :=
  let v14817 : BitVec 32 := Scalar.addi c355_i32_6223 v14767
  let v14818 : Index := Scalar.indexCast v14817
  let c0_6224 : Index := 0#32
  let c0_6225 : Index := 0#32
  ![v14818.toNat, 0, 0]

def k0_chk316 (v14767 : BitVec 32) : Prop :=
  (∀ a, (k0_off926 v14767) a + S1x8x128.size a ≤ S1120x8x128.size a) ∧
  (∀ (r : Fin 6), ∀ a, (k0_off928 v14767 (BitVec.ofNat 32 (355 + 5 * r.val))) a + S1x8x128.size a ≤ S1120x8x128.size a)
theorem k0_off926_inb : ∀ (v14767 : BitVec 32) (k0_hw316 : k0_chk316 v14767), ∀ a, (k0_off926 v14767) a + S1x8x128.size a ≤ S1120x8x128.size a := fun v14767 k0_hw316 => k0_hw316.1
theorem k0_off928_inb : ∀ (v14767 : BitVec 32) (k0_hw316 : k0_chk316 v14767), ∀ (r : Fin 6), ∀ a, (k0_off928 v14767 (BitVec.ofNat 32 (355 + 5 * r.val))) a + S1x8x128.size a ≤ S1120x8x128.size a := fun v14767 k0_hw316 r => k0_hw316.2 r

def k0_off929 (i : grid0.Coords) : Fin 3 → Nat :=
  let arg0 : BitVec 32 := BitVec.ofNat 32 (i 0).val
  let v14925 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14926 : Index := Scalar.indexCast v13785
  let c28_6277 : Index := 28#32
  ![v14925.toNat, v14926.toNat, 28]
def k0_off930 (i : grid0.Coords) : Fin 3 → Nat :=
  let arg0 : BitVec 32 := BitVec.ofNat 32 (i 0).val
  let v14928 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14929 : Index := Scalar.indexCast v13785
  let c35_6278 : Index := 35#32
  ![v14928.toNat, v14929.toNat, 35]
def k0_off931 (i : grid0.Coords) : Fin 3 → Nat :=
  let arg0 : BitVec 32 := BitVec.ofNat 32 (i 0).val
  let v14931 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14932 : Index := Scalar.indexCast v13785
  let c42_6279 : Index := 42#32
  ![v14931.toNat, v14932.toNat, 42]
def k0_off932 (i : grid0.Coords) : Fin 3 → Nat :=
  let arg0 : BitVec 32 := BitVec.ofNat 32 (i 0).val
  let v14934 : Index := Scalar.indexCast arg0
  let arg1 : BitVec 32 := BitVec.ofNat 32 (i 1).val
  let c32_i32_5792 : BitVec 32 := 32#32
  let v13784 : BitVec 32 := Scalar.muli arg1 c32_i32_5792
  let c10_i32_5793 : BitVec 32 := 10#32
  let v13785 : BitVec 32 := Scalar.addi v13784 c10_i32_5793
  let v14935 : Index := Scalar.indexCast v13785
  let c49_6280 : Index := 49#32
  ![v14934.toNat, v14935.toNat, 49]
def k0_off933 (v14927 : BitVec 32) : Fin 3 → Nat :=
  let c350_i32_6285 : BitVec 32 := 350#32
  let v14959 : BitVec 32 := Scalar.addi c350_i32_6285 v14927
  let v14960 : Index := Scalar.indexCast v14959
  let c0_6286 : Index := 0#32
  let c0_6287 : Index := 0#32
  ![v14960.toNat, 0, 0]

def k0_off934 (v14930 : BitVec 32) (c350_i32_6289 : BitVec 32) : Fin 3 → Nat :=
  let v14967 : BitVec 32 := Scalar.addi c350_i32_6289 v14930
  let v14968 : Index := Scalar.indexCast v14967
  let c0_6290 : Index := 0#32
  let c0_6291 : Index := 0#32
  ![v14968.toNat, 0, 0]

def k0_chk319 (v14930 : BitVec 32) : Prop :=
  (∀ (r : Fin 7), ∀ a, (k0_off934 v14930 (BitVec.ofNat 32 (350 + 5 * r.val))) a + S1x8x128.size a ≤ S1120x8x128.size a)
theorem k0_off934_inb : ∀ (v14930 : BitVec 32) (k0_hw319 : k0_chk319 v14930), ∀ (r : Fin 7), ∀ a, (k0_off934 v14930 (BitVec.ofNat 32 (350 + 5 * r.val))) a + S1x8x128.size a ≤ S1120x8x128.size a := fun v14930 k0_hw319 r => k0_hw319 r

def k0_off935 (v14927 : BitVec 32) (c355_i32_6294 : BitVec 32) : Fin 3 → Nat :=
  let v14977 : BitVec 32 := Scalar.addi c355_i32_6294 v14927
  let v14978 : Index := Scalar.indexCast v14977
  let c0_6295 : Index := 0#32
  let c0_6296 : Index := 0#32
  ![v14978.toNat, 0, 0]

def k0_chk318 (v14927 : BitVec 32) : Prop :=
  (∀ a, (k0_off933 v14927) a + S1x8x128.size a ≤ S1120x8x128.size a) ∧
  (∀ (r : Fin 6), ∀ a, (k0_off935 v14927 (BitVec.ofNat 32 (355 + 5 * r.val))) a + S1x8x128.size a ≤ S1120x8x128.size a)
theorem k0_off933_inb : ∀ (v14927 : BitVec 32) (k0_hw318 : k0_chk318 v14927), ∀ a, (k0_off933 v14927) a + S1x8x128.size a ≤ S1120x8x128.size a := fun v14927 k0_hw318 => k0_hw318.1
theorem k0_off935_inb : ∀ (v14927 : BitVec 32) (k0_hw318 : k0_chk318 v14927), ∀ (r : Fin 6), ∀ a, (k0_off935 v14927 (BitVec.ofNat 32 (355 + 5 * r.val))) a + S1x8x128.size a ≤ S1120x8x128.size a := fun v14927 k0_hw318 r => k0_hw318.2 r

def k0_off936 (i : grid0.Coords) : Fin 3 → Nat :=
  let arg0 : BitVec 32 := BitVec.ofNat 32 (i 0).val
  let v15164 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15165 : Index := Scalar.indexCast v15163
  let c0_6377 : Index := 0#32
  ![v15164.toNat, v15165.toNat, 0]
def k0_mult12 (v15166 : BitVec 32) : BitVec 32 :=
  v15166

def k0_chk320 (v15166 : BitVec 32) : Prop :=
  (8 ∣ (k0_mult12 v15166).toNat)
theorem k0_mult12_dvd : ∀ (v15166 : BitVec 32) (k0_hw320 : k0_chk320 v15166), 8 ∣ (k0_mult12 v15166).toNat := fun v15166 k0_hw320 => k0_hw320

def k0_off937 (i : grid0.Coords) : Fin 3 → Nat :=
  let arg0 : BitVec 32 := BitVec.ofNat 32 (i 0).val
  let v15168 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15169 : Index := Scalar.indexCast v15163
  let c1_6378 : Index := 1#32
  ![v15168.toNat, v15169.toNat, 1]
def k0_off938 (v15166 : BitVec 32) (v15170 : BitVec 32) : Fin 3 → Nat :=
  let v15171 : Index := Scalar.indexCast v15170
  let v15167 : BitVec 32 := v15166
  let v15172 : Index := Scalar.indexCast v15167
  let c0_6379 : Index := 0#32
  ![v15171.toNat, v15172.toNat, 0]

def k0_chk321 (v15166 : BitVec 32) (v15170 : BitVec 32) : Prop :=
  (∀ a, (k0_off938 v15166 v15170) a + S1x40x128.size a ≤ S256x64x128.size a)
theorem k0_off938_inb : ∀ (v15166 : BitVec 32) (v15170 : BitVec 32) (k0_hw321 : k0_chk321 v15166 v15170), ∀ a, (k0_off938 v15166 v15170) a + S1x40x128.size a ≤ S256x64x128.size a := fun v15166 v15170 k0_hw321 => k0_hw321

def k0_off939 (i : grid0.Coords) : Fin 3 → Nat :=
  let arg0 : BitVec 32 := BitVec.ofNat 32 (i 0).val
  let v15175 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15176 : Index := Scalar.indexCast v15163
  let c8_6380 : Index := 8#32
  ![v15175.toNat, v15176.toNat, 8]
def k0_off940 (v15166 : BitVec 32) (v15177 : BitVec 32) : Fin 3 → Nat :=
  let v15178 : Index := Scalar.indexCast v15177
  let v15167 : BitVec 32 := v15166
  let v15179 : Index := Scalar.indexCast v15167
  let c0_6381 : Index := 0#32
  ![v15178.toNat, v15179.toNat, 0]

def k0_chk322 (v15166 : BitVec 32) (v15177 : BitVec 32) : Prop :=
  (∀ a, (k0_off940 v15166 v15177) a + S1x40x128.size a ≤ S256x64x128.size a)
theorem k0_off940_inb : ∀ (v15166 : BitVec 32) (v15177 : BitVec 32) (k0_hw322 : k0_chk322 v15166 v15177), ∀ a, (k0_off940 v15166 v15177) a + S1x40x128.size a ≤ S256x64x128.size a := fun v15166 v15177 k0_hw322 => k0_hw322

def k0_off941 (i : grid0.Coords) : Fin 3 → Nat :=
  let arg0 : BitVec 32 := BitVec.ofNat 32 (i 0).val
  let v15183 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15184 : Index := Scalar.indexCast v15163
  let c15_6382 : Index := 15#32
  ![v15183.toNat, v15184.toNat, 15]
def k0_off942 (i : grid0.Coords) : Fin 3 → Nat :=
  let arg0 : BitVec 32 := BitVec.ofNat 32 (i 0).val
  let v15193 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15194 : Index := Scalar.indexCast v15163
  let c2_6387 : Index := 2#32
  ![v15193.toNat, v15194.toNat, 2]
def k0_off943 (v15166 : BitVec 32) (v15195 : BitVec 32) : Fin 3 → Nat :=
  let v15196 : Index := Scalar.indexCast v15195
  let v15167 : BitVec 32 := v15166
  let v15197 : Index := Scalar.indexCast v15167
  let c0_6388 : Index := 0#32
  ![v15196.toNat, v15197.toNat, 0]

def k0_chk323 (v15166 : BitVec 32) (v15195 : BitVec 32) : Prop :=
  (∀ a, (k0_off943 v15166 v15195) a + S1x40x128.size a ≤ S256x64x128.size a)
theorem k0_off943_inb : ∀ (v15166 : BitVec 32) (v15195 : BitVec 32) (k0_hw323 : k0_chk323 v15166 v15195), ∀ a, (k0_off943 v15166 v15195) a + S1x40x128.size a ≤ S256x64x128.size a := fun v15166 v15195 k0_hw323 => k0_hw323

def k0_off944 (i : grid0.Coords) : Fin 3 → Nat :=
  let arg0 : BitVec 32 := BitVec.ofNat 32 (i 0).val
  let v15200 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15201 : Index := Scalar.indexCast v15163
  let c9_6389 : Index := 9#32
  ![v15200.toNat, v15201.toNat, 9]
def k0_off945 (v15166 : BitVec 32) (v15202 : BitVec 32) : Fin 3 → Nat :=
  let v15203 : Index := Scalar.indexCast v15202
  let v15167 : BitVec 32 := v15166
  let v15204 : Index := Scalar.indexCast v15167
  let c0_6390 : Index := 0#32
  ![v15203.toNat, v15204.toNat, 0]

def k0_chk324 (v15166 : BitVec 32) (v15202 : BitVec 32) : Prop :=
  (∀ a, (k0_off945 v15166 v15202) a + S1x40x128.size a ≤ S256x64x128.size a)
theorem k0_off945_inb : ∀ (v15166 : BitVec 32) (v15202 : BitVec 32) (k0_hw324 : k0_chk324 v15166 v15202), ∀ a, (k0_off945 v15166 v15202) a + S1x40x128.size a ≤ S256x64x128.size a := fun v15166 v15202 k0_hw324 => k0_hw324

def k0_off946 (i : grid0.Coords) : Fin 3 → Nat :=
  let arg0 : BitVec 32 := BitVec.ofNat 32 (i 0).val
  let v15208 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15209 : Index := Scalar.indexCast v15163
  let c16_6391 : Index := 16#32
  ![v15208.toNat, v15209.toNat, 16]
def k0_off947 (i : grid0.Coords) : Fin 3 → Nat :=
  let arg0 : BitVec 32 := BitVec.ofNat 32 (i 0).val
  let v15218 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15219 : Index := Scalar.indexCast v15163
  let c3_6396 : Index := 3#32
  ![v15218.toNat, v15219.toNat, 3]
def k0_off948 (v15166 : BitVec 32) (v15220 : BitVec 32) : Fin 3 → Nat :=
  let v15221 : Index := Scalar.indexCast v15220
  let v15167 : BitVec 32 := v15166
  let v15222 : Index := Scalar.indexCast v15167
  let c0_6397 : Index := 0#32
  ![v15221.toNat, v15222.toNat, 0]

def k0_chk325 (v15166 : BitVec 32) (v15220 : BitVec 32) : Prop :=
  (∀ a, (k0_off948 v15166 v15220) a + S1x40x128.size a ≤ S256x64x128.size a)
theorem k0_off948_inb : ∀ (v15166 : BitVec 32) (v15220 : BitVec 32) (k0_hw325 : k0_chk325 v15166 v15220), ∀ a, (k0_off948 v15166 v15220) a + S1x40x128.size a ≤ S256x64x128.size a := fun v15166 v15220 k0_hw325 => k0_hw325

def k0_off949 (i : grid0.Coords) : Fin 3 → Nat :=
  let arg0 : BitVec 32 := BitVec.ofNat 32 (i 0).val
  let v15225 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15226 : Index := Scalar.indexCast v15163
  let c10_6398 : Index := 10#32
  ![v15225.toNat, v15226.toNat, 10]
def k0_off950 (v15166 : BitVec 32) (v15227 : BitVec 32) : Fin 3 → Nat :=
  let v15228 : Index := Scalar.indexCast v15227
  let v15167 : BitVec 32 := v15166
  let v15229 : Index := Scalar.indexCast v15167
  let c0_6399 : Index := 0#32
  ![v15228.toNat, v15229.toNat, 0]

def k0_chk326 (v15166 : BitVec 32) (v15227 : BitVec 32) : Prop :=
  (∀ a, (k0_off950 v15166 v15227) a + S1x40x128.size a ≤ S256x64x128.size a)
theorem k0_off950_inb : ∀ (v15166 : BitVec 32) (v15227 : BitVec 32) (k0_hw326 : k0_chk326 v15166 v15227), ∀ a, (k0_off950 v15166 v15227) a + S1x40x128.size a ≤ S256x64x128.size a := fun v15166 v15227 k0_hw326 => k0_hw326

def k0_off951 (i : grid0.Coords) : Fin 3 → Nat :=
  let arg0 : BitVec 32 := BitVec.ofNat 32 (i 0).val
  let v15233 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15234 : Index := Scalar.indexCast v15163
  let c17_6400 : Index := 17#32
  ![v15233.toNat, v15234.toNat, 17]
def k0_off952 (i : grid0.Coords) : Fin 3 → Nat :=
  let arg0 : BitVec 32 := BitVec.ofNat 32 (i 0).val
  let v15243 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15244 : Index := Scalar.indexCast v15163
  let c4_6405 : Index := 4#32
  ![v15243.toNat, v15244.toNat, 4]
def k0_off953 (v15166 : BitVec 32) (v15245 : BitVec 32) : Fin 3 → Nat :=
  let v15246 : Index := Scalar.indexCast v15245
  let v15167 : BitVec 32 := v15166
  let v15247 : Index := Scalar.indexCast v15167
  let c0_6406 : Index := 0#32
  ![v15246.toNat, v15247.toNat, 0]

def k0_chk327 (v15166 : BitVec 32) (v15245 : BitVec 32) : Prop :=
  (∀ a, (k0_off953 v15166 v15245) a + S1x40x128.size a ≤ S256x64x128.size a)
theorem k0_off953_inb : ∀ (v15166 : BitVec 32) (v15245 : BitVec 32) (k0_hw327 : k0_chk327 v15166 v15245), ∀ a, (k0_off953 v15166 v15245) a + S1x40x128.size a ≤ S256x64x128.size a := fun v15166 v15245 k0_hw327 => k0_hw327

def k0_off954 (i : grid0.Coords) : Fin 3 → Nat :=
  let arg0 : BitVec 32 := BitVec.ofNat 32 (i 0).val
  let v15250 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15251 : Index := Scalar.indexCast v15163
  let c11_6407 : Index := 11#32
  ![v15250.toNat, v15251.toNat, 11]
def k0_off955 (v15166 : BitVec 32) (v15252 : BitVec 32) : Fin 3 → Nat :=
  let v15253 : Index := Scalar.indexCast v15252
  let v15167 : BitVec 32 := v15166
  let v15254 : Index := Scalar.indexCast v15167
  let c0_6408 : Index := 0#32
  ![v15253.toNat, v15254.toNat, 0]

def k0_chk328 (v15166 : BitVec 32) (v15252 : BitVec 32) : Prop :=
  (∀ a, (k0_off955 v15166 v15252) a + S1x40x128.size a ≤ S256x64x128.size a)
theorem k0_off955_inb : ∀ (v15166 : BitVec 32) (v15252 : BitVec 32) (k0_hw328 : k0_chk328 v15166 v15252), ∀ a, (k0_off955 v15166 v15252) a + S1x40x128.size a ≤ S256x64x128.size a := fun v15166 v15252 k0_hw328 => k0_hw328

def k0_off956 (i : grid0.Coords) : Fin 3 → Nat :=
  let arg0 : BitVec 32 := BitVec.ofNat 32 (i 0).val
  let v15258 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15259 : Index := Scalar.indexCast v15163
  let c18_6409 : Index := 18#32
  ![v15258.toNat, v15259.toNat, 18]
def k0_off957 (i : grid0.Coords) : Fin 3 → Nat :=
  let arg0 : BitVec 32 := BitVec.ofNat 32 (i 0).val
  let v15268 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15269 : Index := Scalar.indexCast v15163
  let c5_6414 : Index := 5#32
  ![v15268.toNat, v15269.toNat, 5]
def k0_off958 (v15166 : BitVec 32) (v15270 : BitVec 32) : Fin 3 → Nat :=
  let v15271 : Index := Scalar.indexCast v15270
  let v15167 : BitVec 32 := v15166
  let v15272 : Index := Scalar.indexCast v15167
  let c0_6415 : Index := 0#32
  ![v15271.toNat, v15272.toNat, 0]

def k0_chk329 (v15166 : BitVec 32) (v15270 : BitVec 32) : Prop :=
  (∀ a, (k0_off958 v15166 v15270) a + S1x40x128.size a ≤ S256x64x128.size a)
theorem k0_off958_inb : ∀ (v15166 : BitVec 32) (v15270 : BitVec 32) (k0_hw329 : k0_chk329 v15166 v15270), ∀ a, (k0_off958 v15166 v15270) a + S1x40x128.size a ≤ S256x64x128.size a := fun v15166 v15270 k0_hw329 => k0_hw329

def k0_off959 (i : grid0.Coords) : Fin 3 → Nat :=
  let arg0 : BitVec 32 := BitVec.ofNat 32 (i 0).val
  let v15275 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15276 : Index := Scalar.indexCast v15163
  let c12_6416 : Index := 12#32
  ![v15275.toNat, v15276.toNat, 12]
def k0_off960 (v15166 : BitVec 32) (v15277 : BitVec 32) : Fin 3 → Nat :=
  let v15278 : Index := Scalar.indexCast v15277
  let v15167 : BitVec 32 := v15166
  let v15279 : Index := Scalar.indexCast v15167
  let c0_6417 : Index := 0#32
  ![v15278.toNat, v15279.toNat, 0]

def k0_chk330 (v15166 : BitVec 32) (v15277 : BitVec 32) : Prop :=
  (∀ a, (k0_off960 v15166 v15277) a + S1x40x128.size a ≤ S256x64x128.size a)
theorem k0_off960_inb : ∀ (v15166 : BitVec 32) (v15277 : BitVec 32) (k0_hw330 : k0_chk330 v15166 v15277), ∀ a, (k0_off960 v15166 v15277) a + S1x40x128.size a ≤ S256x64x128.size a := fun v15166 v15277 k0_hw330 => k0_hw330

def k0_off961 (i : grid0.Coords) : Fin 3 → Nat :=
  let arg0 : BitVec 32 := BitVec.ofNat 32 (i 0).val
  let v15283 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15284 : Index := Scalar.indexCast v15163
  let c19_6418 : Index := 19#32
  ![v15283.toNat, v15284.toNat, 19]
def k0_off962 (i : grid0.Coords) : Fin 3 → Nat :=
  let arg0 : BitVec 32 := BitVec.ofNat 32 (i 0).val
  let v15293 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15294 : Index := Scalar.indexCast v15163
  let c6_6423 : Index := 6#32
  ![v15293.toNat, v15294.toNat, 6]
def k0_off963 (v15166 : BitVec 32) (v15295 : BitVec 32) : Fin 3 → Nat :=
  let v15296 : Index := Scalar.indexCast v15295
  let v15167 : BitVec 32 := v15166
  let v15297 : Index := Scalar.indexCast v15167
  let c0_6424 : Index := 0#32
  ![v15296.toNat, v15297.toNat, 0]

def k0_chk331 (v15166 : BitVec 32) (v15295 : BitVec 32) : Prop :=
  (∀ a, (k0_off963 v15166 v15295) a + S1x40x128.size a ≤ S256x64x128.size a)
theorem k0_off963_inb : ∀ (v15166 : BitVec 32) (v15295 : BitVec 32) (k0_hw331 : k0_chk331 v15166 v15295), ∀ a, (k0_off963 v15166 v15295) a + S1x40x128.size a ≤ S256x64x128.size a := fun v15166 v15295 k0_hw331 => k0_hw331

def k0_off964 (i : grid0.Coords) : Fin 3 → Nat :=
  let arg0 : BitVec 32 := BitVec.ofNat 32 (i 0).val
  let v15300 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15301 : Index := Scalar.indexCast v15163
  let c13_6425 : Index := 13#32
  ![v15300.toNat, v15301.toNat, 13]
def k0_off965 (v15166 : BitVec 32) (v15302 : BitVec 32) : Fin 3 → Nat :=
  let v15303 : Index := Scalar.indexCast v15302
  let v15167 : BitVec 32 := v15166
  let v15304 : Index := Scalar.indexCast v15167
  let c0_6426 : Index := 0#32
  ![v15303.toNat, v15304.toNat, 0]

def k0_chk332 (v15166 : BitVec 32) (v15302 : BitVec 32) : Prop :=
  (∀ a, (k0_off965 v15166 v15302) a + S1x40x128.size a ≤ S256x64x128.size a)
theorem k0_off965_inb : ∀ (v15166 : BitVec 32) (v15302 : BitVec 32) (k0_hw332 : k0_chk332 v15166 v15302), ∀ a, (k0_off965 v15166 v15302) a + S1x40x128.size a ≤ S256x64x128.size a := fun v15166 v15302 k0_hw332 => k0_hw332

def k0_off966 (i : grid0.Coords) : Fin 3 → Nat :=
  let arg0 : BitVec 32 := BitVec.ofNat 32 (i 0).val
  let v15308 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15309 : Index := Scalar.indexCast v15163
  let c20_6427 : Index := 20#32
  ![v15308.toNat, v15309.toNat, 20]
def k0_off967 (i : grid0.Coords) : Fin 3 → Nat :=
  let arg0 : BitVec 32 := BitVec.ofNat 32 (i 0).val
  let v15318 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15319 : Index := Scalar.indexCast v15163
  let c7_6432 : Index := 7#32
  ![v15318.toNat, v15319.toNat, 7]
def k0_off968 (v15166 : BitVec 32) (v15320 : BitVec 32) : Fin 3 → Nat :=
  let v15321 : Index := Scalar.indexCast v15320
  let v15167 : BitVec 32 := v15166
  let v15322 : Index := Scalar.indexCast v15167
  let c0_6433 : Index := 0#32
  ![v15321.toNat, v15322.toNat, 0]

def k0_chk333 (v15166 : BitVec 32) (v15320 : BitVec 32) : Prop :=
  (∀ a, (k0_off968 v15166 v15320) a + S1x40x128.size a ≤ S256x64x128.size a)
theorem k0_off968_inb : ∀ (v15166 : BitVec 32) (v15320 : BitVec 32) (k0_hw333 : k0_chk333 v15166 v15320), ∀ a, (k0_off968 v15166 v15320) a + S1x40x128.size a ≤ S256x64x128.size a := fun v15166 v15320 k0_hw333 => k0_hw333

def k0_off969 (i : grid0.Coords) : Fin 3 → Nat :=
  let arg0 : BitVec 32 := BitVec.ofNat 32 (i 0).val
  let v15325 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15326 : Index := Scalar.indexCast v15163
  let c14_6434 : Index := 14#32
  ![v15325.toNat, v15326.toNat, 14]
def k0_off970 (v15166 : BitVec 32) (v15327 : BitVec 32) : Fin 3 → Nat :=
  let v15328 : Index := Scalar.indexCast v15327
  let v15167 : BitVec 32 := v15166
  let v15329 : Index := Scalar.indexCast v15167
  let c0_6435 : Index := 0#32
  ![v15328.toNat, v15329.toNat, 0]

def k0_chk334 (v15166 : BitVec 32) (v15327 : BitVec 32) : Prop :=
  (∀ a, (k0_off970 v15166 v15327) a + S1x40x128.size a ≤ S256x64x128.size a)
theorem k0_off970_inb : ∀ (v15166 : BitVec 32) (v15327 : BitVec 32) (k0_hw334 : k0_chk334 v15166 v15327), ∀ a, (k0_off970 v15166 v15327) a + S1x40x128.size a ≤ S256x64x128.size a := fun v15166 v15327 k0_hw334 => k0_hw334

def k0_off971 (i : grid0.Coords) : Fin 3 → Nat :=
  let arg0 : BitVec 32 := BitVec.ofNat 32 (i 0).val
  let v15333 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15334 : Index := Scalar.indexCast v15163
  let c21_6436 : Index := 21#32
  ![v15333.toNat, v15334.toNat, 21]
def k0_off972 (i : grid0.Coords) : Fin 3 → Nat :=
  let arg0 : BitVec 32 := BitVec.ofNat 32 (i 0).val
  let v15343 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15344 : Index := Scalar.indexCast v15163
  let c22_6441 : Index := 22#32
  ![v15343.toNat, v15344.toNat, 22]
def k0_off973 (i : grid0.Coords) : Fin 3 → Nat :=
  let arg0 : BitVec 32 := BitVec.ofNat 32 (i 0).val
  let v15346 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15347 : Index := Scalar.indexCast v15163
  let c29_6442 : Index := 29#32
  ![v15346.toNat, v15347.toNat, 29]
def k0_off974 (i : grid0.Coords) : Fin 3 → Nat :=
  let arg0 : BitVec 32 := BitVec.ofNat 32 (i 0).val
  let v15349 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15350 : Index := Scalar.indexCast v15163
  let c36_6443 : Index := 36#32
  ![v15349.toNat, v15350.toNat, 36]
def k0_off975 (i : grid0.Coords) : Fin 3 → Nat :=
  let arg0 : BitVec 32 := BitVec.ofNat 32 (i 0).val
  let v15352 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15353 : Index := Scalar.indexCast v15163
  let c43_6444 : Index := 43#32
  ![v15352.toNat, v15353.toNat, 43]
def k0_off976 (v15345 : BitVec 32) : Fin 3 → Nat :=
  let c385_i32 : BitVec 32 := 385#32
  let v15377 : BitVec 32 := Scalar.addi c385_i32 v15345
  let v15378 : Index := Scalar.indexCast v15377
  let c0_6449 : Index := 0#32
  let c0_6450 : Index := 0#32
  ![v15378.toNat, 0, 0]

def k0_off977 (v15348 : BitVec 32) (c385_i32_6452 : BitVec 32) : Fin 3 → Nat :=
  let v15385 : BitVec 32 := Scalar.addi c385_i32_6452 v15348
  let v15386 : Index := Scalar.indexCast v15385
  let c0_6453 : Index := 0#32
  let c0_6454 : Index := 0#32
  ![v15386.toNat, 0, 0]

def k0_chk336 (v15348 : BitVec 32) : Prop :=
  (∀ (r : Fin 7), ∀ a, (k0_off977 v15348 (BitVec.ofNat 32 (385 + 5 * r.val))) a + S1x8x128.size a ≤ S1120x8x128.size a)
theorem k0_off977_inb : ∀ (v15348 : BitVec 32) (k0_hw336 : k0_chk336 v15348), ∀ (r : Fin 7), ∀ a, (k0_off977 v15348 (BitVec.ofNat 32 (385 + 5 * r.val))) a + S1x8x128.size a ≤ S1120x8x128.size a := fun v15348 k0_hw336 r => k0_hw336 r

def k0_off978 (v15345 : BitVec 32) (c390_i32 : BitVec 32) : Fin 3 → Nat :=
  let v15395 : BitVec 32 := Scalar.addi c390_i32 v15345
  let v15396 : Index := Scalar.indexCast v15395
  let c0_6457 : Index := 0#32
  let c0_6458 : Index := 0#32
  ![v15396.toNat, 0, 0]

def k0_chk335 (v15345 : BitVec 32) : Prop :=
  (∀ a, (k0_off976 v15345) a + S1x8x128.size a ≤ S1120x8x128.size a) ∧
  (∀ (r : Fin 6), ∀ a, (k0_off978 v15345 (BitVec.ofNat 32 (390 + 5 * r.val))) a + S1x8x128.size a ≤ S1120x8x128.size a)
theorem k0_off976_inb : ∀ (v15345 : BitVec 32) (k0_hw335 : k0_chk335 v15345), ∀ a, (k0_off976 v15345) a + S1x8x128.size a ≤ S1120x8x128.size a := fun v15345 k0_hw335 => k0_hw335.1
theorem k0_off978_inb : ∀ (v15345 : BitVec 32) (k0_hw335 : k0_chk335 v15345), ∀ (r : Fin 6), ∀ a, (k0_off978 v15345 (BitVec.ofNat 32 (390 + 5 * r.val))) a + S1x8x128.size a ≤ S1120x8x128.size a := fun v15345 k0_hw335 r => k0_hw335.2 r

def k0_off979 (i : grid0.Coords) : Fin 3 → Nat :=
  let arg0 : BitVec 32 := BitVec.ofNat 32 (i 0).val
  let v15503 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15504 : Index := Scalar.indexCast v15163
  let c23_6505 : Index := 23#32
  ![v15503.toNat, v15504.toNat, 23]
def k0_off980 (i : grid0.Coords) : Fin 3 → Nat :=
  let arg0 : BitVec 32 := BitVec.ofNat 32 (i 0).val
  let v15506 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15507 : Index := Scalar.indexCast v15163
  let c30_6506 : Index := 30#32
  ![v15506.toNat, v15507.toNat, 30]
def k0_off981 (i : grid0.Coords) : Fin 3 → Nat :=
  let arg0 : BitVec 32 := BitVec.ofNat 32 (i 0).val
  let v15509 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15510 : Index := Scalar.indexCast v15163
  let c37_6507 : Index := 37#32
  ![v15509.toNat, v15510.toNat, 37]
def k0_off982 (i : grid0.Coords) : Fin 3 → Nat :=
  let arg0 : BitVec 32 := BitVec.ofNat 32 (i 0).val
  let v15512 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15513 : Index := Scalar.indexCast v15163
  let c44_6508 : Index := 44#32
  ![v15512.toNat, v15513.toNat, 44]
def k0_off983 (v15505 : BitVec 32) : Fin 3 → Nat :=
  let c385_i32_6513 : BitVec 32 := 385#32
  let v15537 : BitVec 32 := Scalar.addi c385_i32_6513 v15505
  let v15538 : Index := Scalar.indexCast v15537
  let c0_6514 : Index := 0#32
  let c0_6515 : Index := 0#32
  ![v15538.toNat, 0, 0]

def k0_off984 (v15508 : BitVec 32) (c385_i32_6517 : BitVec 32) : Fin 3 → Nat :=
  let v15545 : BitVec 32 := Scalar.addi c385_i32_6517 v15508
  let v15546 : Index := Scalar.indexCast v15545
  let c0_6518 : Index := 0#32
  let c0_6519 : Index := 0#32
  ![v15546.toNat, 0, 0]

def k0_chk338 (v15508 : BitVec 32) : Prop :=
  (∀ (r : Fin 7), ∀ a, (k0_off984 v15508 (BitVec.ofNat 32 (385 + 5 * r.val))) a + S1x8x128.size a ≤ S1120x8x128.size a)
theorem k0_off984_inb : ∀ (v15508 : BitVec 32) (k0_hw338 : k0_chk338 v15508), ∀ (r : Fin 7), ∀ a, (k0_off984 v15508 (BitVec.ofNat 32 (385 + 5 * r.val))) a + S1x8x128.size a ≤ S1120x8x128.size a := fun v15508 k0_hw338 r => k0_hw338 r

def k0_off985 (v15505 : BitVec 32) (c390_i32_6522 : BitVec 32) : Fin 3 → Nat :=
  let v15555 : BitVec 32 := Scalar.addi c390_i32_6522 v15505
  let v15556 : Index := Scalar.indexCast v15555
  let c0_6523 : Index := 0#32
  let c0_6524 : Index := 0#32
  ![v15556.toNat, 0, 0]

def k0_chk337 (v15505 : BitVec 32) : Prop :=
  (∀ a, (k0_off983 v15505) a + S1x8x128.size a ≤ S1120x8x128.size a) ∧
  (∀ (r : Fin 6), ∀ a, (k0_off985 v15505 (BitVec.ofNat 32 (390 + 5 * r.val))) a + S1x8x128.size a ≤ S1120x8x128.size a)
theorem k0_off983_inb : ∀ (v15505 : BitVec 32) (k0_hw337 : k0_chk337 v15505), ∀ a, (k0_off983 v15505) a + S1x8x128.size a ≤ S1120x8x128.size a := fun v15505 k0_hw337 => k0_hw337.1
theorem k0_off985_inb : ∀ (v15505 : BitVec 32) (k0_hw337 : k0_chk337 v15505), ∀ (r : Fin 6), ∀ a, (k0_off985 v15505 (BitVec.ofNat 32 (390 + 5 * r.val))) a + S1x8x128.size a ≤ S1120x8x128.size a := fun v15505 k0_hw337 r => k0_hw337.2 r

def k0_off986 (i : grid0.Coords) : Fin 3 → Nat :=
  let arg0 : BitVec 32 := BitVec.ofNat 32 (i 0).val
  let v15663 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15664 : Index := Scalar.indexCast v15163
  let c24_6576 : Index := 24#32
  ![v15663.toNat, v15664.toNat, 24]
def k0_off987 (i : grid0.Coords) : Fin 3 → Nat :=
  let arg0 : BitVec 32 := BitVec.ofNat 32 (i 0).val
  let v15666 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15667 : Index := Scalar.indexCast v15163
  let c31_6577 : Index := 31#32
  ![v15666.toNat, v15667.toNat, 31]
def k0_off988 (i : grid0.Coords) : Fin 3 → Nat :=
  let arg0 : BitVec 32 := BitVec.ofNat 32 (i 0).val
  let v15669 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15670 : Index := Scalar.indexCast v15163
  let c38_6578 : Index := 38#32
  ![v15669.toNat, v15670.toNat, 38]
def k0_off989 (i : grid0.Coords) : Fin 3 → Nat :=
  let arg0 : BitVec 32 := BitVec.ofNat 32 (i 0).val
  let v15672 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15673 : Index := Scalar.indexCast v15163
  let c45_6579 : Index := 45#32
  ![v15672.toNat, v15673.toNat, 45]
def k0_off990 (v15665 : BitVec 32) : Fin 3 → Nat :=
  let c385_i32_6584 : BitVec 32 := 385#32
  let v15697 : BitVec 32 := Scalar.addi c385_i32_6584 v15665
  let v15698 : Index := Scalar.indexCast v15697
  let c0_6585 : Index := 0#32
  let c0_6586 : Index := 0#32
  ![v15698.toNat, 0, 0]

def k0_off991 (v15668 : BitVec 32) (c385_i32_6588 : BitVec 32) : Fin 3 → Nat :=
  let v15705 : BitVec 32 := Scalar.addi c385_i32_6588 v15668
  let v15706 : Index := Scalar.indexCast v15705
  let c0_6589 : Index := 0#32
  let c0_6590 : Index := 0#32
  ![v15706.toNat, 0, 0]

def k0_chk340 (v15668 : BitVec 32) : Prop :=
  (∀ (r : Fin 7), ∀ a, (k0_off991 v15668 (BitVec.ofNat 32 (385 + 5 * r.val))) a + S1x8x128.size a ≤ S1120x8x128.size a)
theorem k0_off991_inb : ∀ (v15668 : BitVec 32) (k0_hw340 : k0_chk340 v15668), ∀ (r : Fin 7), ∀ a, (k0_off991 v15668 (BitVec.ofNat 32 (385 + 5 * r.val))) a + S1x8x128.size a ≤ S1120x8x128.size a := fun v15668 k0_hw340 r => k0_hw340 r

def k0_off992 (v15665 : BitVec 32) (c390_i32_6593 : BitVec 32) : Fin 3 → Nat :=
  let v15715 : BitVec 32 := Scalar.addi c390_i32_6593 v15665
  let v15716 : Index := Scalar.indexCast v15715
  let c0_6594 : Index := 0#32
  let c0_6595 : Index := 0#32
  ![v15716.toNat, 0, 0]

def k0_chk339 (v15665 : BitVec 32) : Prop :=
  (∀ a, (k0_off990 v15665) a + S1x8x128.size a ≤ S1120x8x128.size a) ∧
  (∀ (r : Fin 6), ∀ a, (k0_off992 v15665 (BitVec.ofNat 32 (390 + 5 * r.val))) a + S1x8x128.size a ≤ S1120x8x128.size a)
theorem k0_off990_inb : ∀ (v15665 : BitVec 32) (k0_hw339 : k0_chk339 v15665), ∀ a, (k0_off990 v15665) a + S1x8x128.size a ≤ S1120x8x128.size a := fun v15665 k0_hw339 => k0_hw339.1
theorem k0_off992_inb : ∀ (v15665 : BitVec 32) (k0_hw339 : k0_chk339 v15665), ∀ (r : Fin 6), ∀ a, (k0_off992 v15665 (BitVec.ofNat 32 (390 + 5 * r.val))) a + S1x8x128.size a ≤ S1120x8x128.size a := fun v15665 k0_hw339 r => k0_hw339.2 r

def k0_off993 (i : grid0.Coords) : Fin 3 → Nat :=
  let arg0 : BitVec 32 := BitVec.ofNat 32 (i 0).val
  let v15823 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15824 : Index := Scalar.indexCast v15163
  let c25_6647 : Index := 25#32
  ![v15823.toNat, v15824.toNat, 25]
def k0_off994 (i : grid0.Coords) : Fin 3 → Nat :=
  let arg0 : BitVec 32 := BitVec.ofNat 32 (i 0).val
  let v15826 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15827 : Index := Scalar.indexCast v15163
  let c32_6648 : Index := 32#32
  ![v15826.toNat, v15827.toNat, 32]
def k0_off995 (i : grid0.Coords) : Fin 3 → Nat :=
  let arg0 : BitVec 32 := BitVec.ofNat 32 (i 0).val
  let v15829 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15830 : Index := Scalar.indexCast v15163
  let c39_6649 : Index := 39#32
  ![v15829.toNat, v15830.toNat, 39]
def k0_off996 (i : grid0.Coords) : Fin 3 → Nat :=
  let arg0 : BitVec 32 := BitVec.ofNat 32 (i 0).val
  let v15832 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15833 : Index := Scalar.indexCast v15163
  let c46_6650 : Index := 46#32
  ![v15832.toNat, v15833.toNat, 46]
def k0_off997 (v15825 : BitVec 32) : Fin 3 → Nat :=
  let c385_i32_6655 : BitVec 32 := 385#32
  let v15857 : BitVec 32 := Scalar.addi c385_i32_6655 v15825
  let v15858 : Index := Scalar.indexCast v15857
  let c0_6656 : Index := 0#32
  let c0_6657 : Index := 0#32
  ![v15858.toNat, 0, 0]

def k0_off998 (v15828 : BitVec 32) (c385_i32_6659 : BitVec 32) : Fin 3 → Nat :=
  let v15865 : BitVec 32 := Scalar.addi c385_i32_6659 v15828
  let v15866 : Index := Scalar.indexCast v15865
  let c0_6660 : Index := 0#32
  let c0_6661 : Index := 0#32
  ![v15866.toNat, 0, 0]

def k0_chk342 (v15828 : BitVec 32) : Prop :=
  (∀ (r : Fin 7), ∀ a, (k0_off998 v15828 (BitVec.ofNat 32 (385 + 5 * r.val))) a + S1x8x128.size a ≤ S1120x8x128.size a)
theorem k0_off998_inb : ∀ (v15828 : BitVec 32) (k0_hw342 : k0_chk342 v15828), ∀ (r : Fin 7), ∀ a, (k0_off998 v15828 (BitVec.ofNat 32 (385 + 5 * r.val))) a + S1x8x128.size a ≤ S1120x8x128.size a := fun v15828 k0_hw342 r => k0_hw342 r

def k0_off999 (v15825 : BitVec 32) (c390_i32_6664 : BitVec 32) : Fin 3 → Nat :=
  let v15875 : BitVec 32 := Scalar.addi c390_i32_6664 v15825
  let v15876 : Index := Scalar.indexCast v15875
  let c0_6665 : Index := 0#32
  let c0_6666 : Index := 0#32
  ![v15876.toNat, 0, 0]

def k0_chk341 (v15825 : BitVec 32) : Prop :=
  (∀ a, (k0_off997 v15825) a + S1x8x128.size a ≤ S1120x8x128.size a) ∧
  (∀ (r : Fin 6), ∀ a, (k0_off999 v15825 (BitVec.ofNat 32 (390 + 5 * r.val))) a + S1x8x128.size a ≤ S1120x8x128.size a)
theorem k0_off997_inb : ∀ (v15825 : BitVec 32) (k0_hw341 : k0_chk341 v15825), ∀ a, (k0_off997 v15825) a + S1x8x128.size a ≤ S1120x8x128.size a := fun v15825 k0_hw341 => k0_hw341.1
theorem k0_off999_inb : ∀ (v15825 : BitVec 32) (k0_hw341 : k0_chk341 v15825), ∀ (r : Fin 6), ∀ a, (k0_off999 v15825 (BitVec.ofNat 32 (390 + 5 * r.val))) a + S1x8x128.size a ≤ S1120x8x128.size a := fun v15825 k0_hw341 r => k0_hw341.2 r

def k0_off1000 (i : grid0.Coords) : Fin 3 → Nat :=
  let arg0 : BitVec 32 := BitVec.ofNat 32 (i 0).val
  let v15983 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15984 : Index := Scalar.indexCast v15163
  let c26_6718 : Index := 26#32
  ![v15983.toNat, v15984.toNat, 26]
def k0_off1001 (i : grid0.Coords) : Fin 3 → Nat :=
  let arg0 : BitVec 32 := BitVec.ofNat 32 (i 0).val
  let v15986 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15987 : Index := Scalar.indexCast v15163
  let c33_6719 : Index := 33#32
  ![v15986.toNat, v15987.toNat, 33]
def k0_off1002 (i : grid0.Coords) : Fin 3 → Nat :=
  let arg0 : BitVec 32 := BitVec.ofNat 32 (i 0).val
  let v15989 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15990 : Index := Scalar.indexCast v15163
  let c40_6720 : Index := 40#32
  ![v15989.toNat, v15990.toNat, 40]
def k0_off1003 (i : grid0.Coords) : Fin 3 → Nat :=
  let arg0 : BitVec 32 := BitVec.ofNat 32 (i 0).val
  let v15992 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v15993 : Index := Scalar.indexCast v15163
  let c47_6721 : Index := 47#32
  ![v15992.toNat, v15993.toNat, 47]
def k0_off1004 (v15985 : BitVec 32) : Fin 3 → Nat :=
  let c385_i32_6726 : BitVec 32 := 385#32
  let v16017 : BitVec 32 := Scalar.addi c385_i32_6726 v15985
  let v16018 : Index := Scalar.indexCast v16017
  let c0_6727 : Index := 0#32
  let c0_6728 : Index := 0#32
  ![v16018.toNat, 0, 0]

def k0_off1005 (v15988 : BitVec 32) (c385_i32_6730 : BitVec 32) : Fin 3 → Nat :=
  let v16025 : BitVec 32 := Scalar.addi c385_i32_6730 v15988
  let v16026 : Index := Scalar.indexCast v16025
  let c0_6731 : Index := 0#32
  let c0_6732 : Index := 0#32
  ![v16026.toNat, 0, 0]

def k0_chk344 (v15988 : BitVec 32) : Prop :=
  (∀ (r : Fin 7), ∀ a, (k0_off1005 v15988 (BitVec.ofNat 32 (385 + 5 * r.val))) a + S1x8x128.size a ≤ S1120x8x128.size a)
theorem k0_off1005_inb : ∀ (v15988 : BitVec 32) (k0_hw344 : k0_chk344 v15988), ∀ (r : Fin 7), ∀ a, (k0_off1005 v15988 (BitVec.ofNat 32 (385 + 5 * r.val))) a + S1x8x128.size a ≤ S1120x8x128.size a := fun v15988 k0_hw344 r => k0_hw344 r

def k0_off1006 (v15985 : BitVec 32) (c390_i32_6735 : BitVec 32) : Fin 3 → Nat :=
  let v16035 : BitVec 32 := Scalar.addi c390_i32_6735 v15985
  let v16036 : Index := Scalar.indexCast v16035
  let c0_6736 : Index := 0#32
  let c0_6737 : Index := 0#32
  ![v16036.toNat, 0, 0]

def k0_chk343 (v15985 : BitVec 32) : Prop :=
  (∀ a, (k0_off1004 v15985) a + S1x8x128.size a ≤ S1120x8x128.size a) ∧
  (∀ (r : Fin 6), ∀ a, (k0_off1006 v15985 (BitVec.ofNat 32 (390 + 5 * r.val))) a + S1x8x128.size a ≤ S1120x8x128.size a)
theorem k0_off1004_inb : ∀ (v15985 : BitVec 32) (k0_hw343 : k0_chk343 v15985), ∀ a, (k0_off1004 v15985) a + S1x8x128.size a ≤ S1120x8x128.size a := fun v15985 k0_hw343 => k0_hw343.1
theorem k0_off1006_inb : ∀ (v15985 : BitVec 32) (k0_hw343 : k0_chk343 v15985), ∀ (r : Fin 6), ∀ a, (k0_off1006 v15985 (BitVec.ofNat 32 (390 + 5 * r.val))) a + S1x8x128.size a ≤ S1120x8x128.size a := fun v15985 k0_hw343 r => k0_hw343.2 r

def k0_off1007 (i : grid0.Coords) : Fin 3 → Nat :=
  let arg0 : BitVec 32 := BitVec.ofNat 32 (i 0).val
  let v16143 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16144 : Index := Scalar.indexCast v15163
  let c27_6789 : Index := 27#32
  ![v16143.toNat, v16144.toNat, 27]
def k0_off1008 (i : grid0.Coords) : Fin 3 → Nat :=
  let arg0 : BitVec 32 := BitVec.ofNat 32 (i 0).val
  let v16146 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16147 : Index := Scalar.indexCast v15163
  let c34_6790 : Index := 34#32
  ![v16146.toNat, v16147.toNat, 34]
def k0_off1009 (i : grid0.Coords) : Fin 3 → Nat :=
  let arg0 : BitVec 32 := BitVec.ofNat 32 (i 0).val
  let v16149 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16150 : Index := Scalar.indexCast v15163
  let c41_6791 : Index := 41#32
  ![v16149.toNat, v16150.toNat, 41]
def k0_off1010 (i : grid0.Coords) : Fin 3 → Nat :=
  let arg0 : BitVec 32 := BitVec.ofNat 32 (i 0).val
  let v16152 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16153 : Index := Scalar.indexCast v15163
  let c48_6792 : Index := 48#32
  ![v16152.toNat, v16153.toNat, 48]
def k0_off1011 (v16145 : BitVec 32) : Fin 3 → Nat :=
  let c385_i32_6797 : BitVec 32 := 385#32
  let v16177 : BitVec 32 := Scalar.addi c385_i32_6797 v16145
  let v16178 : Index := Scalar.indexCast v16177
  let c0_6798 : Index := 0#32
  let c0_6799 : Index := 0#32
  ![v16178.toNat, 0, 0]

def k0_off1012 (v16148 : BitVec 32) (c385_i32_6801 : BitVec 32) : Fin 3 → Nat :=
  let v16185 : BitVec 32 := Scalar.addi c385_i32_6801 v16148
  let v16186 : Index := Scalar.indexCast v16185
  let c0_6802 : Index := 0#32
  let c0_6803 : Index := 0#32
  ![v16186.toNat, 0, 0]

def k0_chk346 (v16148 : BitVec 32) : Prop :=
  (∀ (r : Fin 7), ∀ a, (k0_off1012 v16148 (BitVec.ofNat 32 (385 + 5 * r.val))) a + S1x8x128.size a ≤ S1120x8x128.size a)
theorem k0_off1012_inb : ∀ (v16148 : BitVec 32) (k0_hw346 : k0_chk346 v16148), ∀ (r : Fin 7), ∀ a, (k0_off1012 v16148 (BitVec.ofNat 32 (385 + 5 * r.val))) a + S1x8x128.size a ≤ S1120x8x128.size a := fun v16148 k0_hw346 r => k0_hw346 r

def k0_off1013 (v16145 : BitVec 32) (c390_i32_6806 : BitVec 32) : Fin 3 → Nat :=
  let v16195 : BitVec 32 := Scalar.addi c390_i32_6806 v16145
  let v16196 : Index := Scalar.indexCast v16195
  let c0_6807 : Index := 0#32
  let c0_6808 : Index := 0#32
  ![v16196.toNat, 0, 0]

def k0_chk345 (v16145 : BitVec 32) : Prop :=
  (∀ a, (k0_off1011 v16145) a + S1x8x128.size a ≤ S1120x8x128.size a) ∧
  (∀ (r : Fin 6), ∀ a, (k0_off1013 v16145 (BitVec.ofNat 32 (390 + 5 * r.val))) a + S1x8x128.size a ≤ S1120x8x128.size a)
theorem k0_off1011_inb : ∀ (v16145 : BitVec 32) (k0_hw345 : k0_chk345 v16145), ∀ a, (k0_off1011 v16145) a + S1x8x128.size a ≤ S1120x8x128.size a := fun v16145 k0_hw345 => k0_hw345.1
theorem k0_off1013_inb : ∀ (v16145 : BitVec 32) (k0_hw345 : k0_chk345 v16145), ∀ (r : Fin 6), ∀ a, (k0_off1013 v16145 (BitVec.ofNat 32 (390 + 5 * r.val))) a + S1x8x128.size a ≤ S1120x8x128.size a := fun v16145 k0_hw345 r => k0_hw345.2 r

def k0_off1014 (i : grid0.Coords) : Fin 3 → Nat :=
  let arg0 : BitVec 32 := BitVec.ofNat 32 (i 0).val
  let v16303 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16304 : Index := Scalar.indexCast v15163
  let c28_6860 : Index := 28#32
  ![v16303.toNat, v16304.toNat, 28]
def k0_off1015 (i : grid0.Coords) : Fin 3 → Nat :=
  let arg0 : BitVec 32 := BitVec.ofNat 32 (i 0).val
  let v16306 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16307 : Index := Scalar.indexCast v15163
  let c35_6861 : Index := 35#32
  ![v16306.toNat, v16307.toNat, 35]
def k0_off1016 (i : grid0.Coords) : Fin 3 → Nat :=
  let arg0 : BitVec 32 := BitVec.ofNat 32 (i 0).val
  let v16309 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16310 : Index := Scalar.indexCast v15163
  let c42_6862 : Index := 42#32
  ![v16309.toNat, v16310.toNat, 42]
def k0_off1017 (i : grid0.Coords) : Fin 3 → Nat :=
  let arg0 : BitVec 32 := BitVec.ofNat 32 (i 0).val
  let v16312 : Index := Scalar.indexCast arg0
  let arg1 : BitVec 32 := BitVec.ofNat 32 (i 1).val
  let c32_i32_6376 : BitVec 32 := 32#32
  let v15162 : BitVec 32 := Scalar.muli arg1 c32_i32_6376
  let c11_i32 : BitVec 32 := 11#32
  let v15163 : BitVec 32 := Scalar.addi v15162 c11_i32
  let v16313 : Index := Scalar.indexCast v15163
  let c49_6863 : Index := 49#32
  ![v16312.toNat, v16313.toNat, 49]
def k0_off1018 (v16305 : BitVec 32) : Fin 3 → Nat :=
  let c385_i32_6868 : BitVec 32 := 385#32
  let v16337 : BitVec 32 := Scalar.addi c385_i32_6868 v16305
  let v16338 : Index := Scalar.indexCast v16337
  let c0_6869 : Index := 0#32
  let c0_6870 : Index := 0#32
  ![v16338.toNat, 0, 0]

def k0_off1019 (v16308 : BitVec 32) (c385_i32_6872 : BitVec 32) : Fin 3 → Nat :=
  let v16345 : BitVec 32 := Scalar.addi c385_i32_6872 v16308
  let v16346 : Index := Scalar.indexCast v16345
  let c0_6873 : Index := 0#32
  let c0_6874 : Index := 0#32
  ![v16346.toNat, 0, 0]

def k0_chk348 (v16308 : BitVec 32) : Prop :=
  (∀ (r : Fin 7), ∀ a, (k0_off1019 v16308 (BitVec.ofNat 32 (385 + 5 * r.val))) a + S1x8x128.size a ≤ S1120x8x128.size a)
theorem k0_off1019_inb : ∀ (v16308 : BitVec 32) (k0_hw348 : k0_chk348 v16308), ∀ (r : Fin 7), ∀ a, (k0_off1019 v16308 (BitVec.ofNat 32 (385 + 5 * r.val))) a + S1x8x128.size a ≤ S1120x8x128.size a := fun v16308 k0_hw348 r => k0_hw348 r

def k0_off1020 (v16305 : BitVec 32) (c390_i32_6877 : BitVec 32) : Fin 3 → Nat :=
  let v16355 : BitVec 32 := Scalar.addi c390_i32_6877 v16305
  let v16356 : Index := Scalar.indexCast v16355
  let c0_6878 : Index := 0#32
  let c0_6879 : Index := 0#32
  ![v16356.toNat, 0, 0]

def k0_chk347 (v16305 : BitVec 32) : Prop :=
  (∀ a, (k0_off1018 v16305) a + S1x8x128.size a ≤ S1120x8x128.size a) ∧
  (∀ (r : Fin 6), ∀ a, (k0_off1020 v16305 (BitVec.ofNat 32 (390 + 5 * r.val))) a + S1x8x128.size a ≤ S1120x8x128.size a)
theorem k0_off1018_inb : ∀ (v16305 : BitVec 32) (k0_hw347 : k0_chk347 v16305), ∀ a, (k0_off1018 v16305) a + S1x8x128.size a ≤ S1120x8x128.size a := fun v16305 k0_hw347 => k0_hw347.1
theorem k0_off1020_inb : ∀ (v16305 : BitVec 32) (k0_hw347 : k0_chk347 v16305), ∀ (r : Fin 6), ∀ a, (k0_off1020 v16305 (BitVec.ofNat 32 (390 + 5 * r.val))) a + S1x8x128.size a ≤ S1120x8x128.size a := fun v16305 k0_hw347 r => k0_hw347.2 r

def k0_off1021 (i : grid0.Coords) : Fin 3 → Nat :=
  let arg0 : BitVec 32 := BitVec.ofNat 32 (i 0).val
  let v16542 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16543 : Index := Scalar.indexCast v16541
  let c0_6960 : Index := 0#32
  ![v16542.toNat, v16543.toNat, 0]
def k0_mult13 (v16544 : BitVec 32) : BitVec 32 :=
  v16544

def k0_chk349 (v16544 : BitVec 32) : Prop :=
  (8 ∣ (k0_mult13 v16544).toNat)
theorem k0_mult13_dvd : ∀ (v16544 : BitVec 32) (k0_hw349 : k0_chk349 v16544), 8 ∣ (k0_mult13 v16544).toNat := fun v16544 k0_hw349 => k0_hw349

def k0_off1022 (i : grid0.Coords) : Fin 3 → Nat :=
  let arg0 : BitVec 32 := BitVec.ofNat 32 (i 0).val
  let v16546 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16547 : Index := Scalar.indexCast v16541
  let c1_6961 : Index := 1#32
  ![v16546.toNat, v16547.toNat, 1]
def k0_off1023 (v16544 : BitVec 32) (v16548 : BitVec 32) : Fin 3 → Nat :=
  let v16549 : Index := Scalar.indexCast v16548
  let v16545 : BitVec 32 := v16544
  let v16550 : Index := Scalar.indexCast v16545
  let c0_6962 : Index := 0#32
  ![v16549.toNat, v16550.toNat, 0]

def k0_chk350 (v16544 : BitVec 32) (v16548 : BitVec 32) : Prop :=
  (∀ a, (k0_off1023 v16544 v16548) a + S1x40x128.size a ≤ S256x64x128.size a)
theorem k0_off1023_inb : ∀ (v16544 : BitVec 32) (v16548 : BitVec 32) (k0_hw350 : k0_chk350 v16544 v16548), ∀ a, (k0_off1023 v16544 v16548) a + S1x40x128.size a ≤ S256x64x128.size a := fun v16544 v16548 k0_hw350 => k0_hw350

def k0_off1024 (i : grid0.Coords) : Fin 3 → Nat :=
  let arg0 : BitVec 32 := BitVec.ofNat 32 (i 0).val
  let v16553 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16554 : Index := Scalar.indexCast v16541
  let c8_6963 : Index := 8#32
  ![v16553.toNat, v16554.toNat, 8]
def k0_off1025 (v16544 : BitVec 32) (v16555 : BitVec 32) : Fin 3 → Nat :=
  let v16556 : Index := Scalar.indexCast v16555
  let v16545 : BitVec 32 := v16544
  let v16557 : Index := Scalar.indexCast v16545
  let c0_6964 : Index := 0#32
  ![v16556.toNat, v16557.toNat, 0]

def k0_chk351 (v16544 : BitVec 32) (v16555 : BitVec 32) : Prop :=
  (∀ a, (k0_off1025 v16544 v16555) a + S1x40x128.size a ≤ S256x64x128.size a)
theorem k0_off1025_inb : ∀ (v16544 : BitVec 32) (v16555 : BitVec 32) (k0_hw351 : k0_chk351 v16544 v16555), ∀ a, (k0_off1025 v16544 v16555) a + S1x40x128.size a ≤ S256x64x128.size a := fun v16544 v16555 k0_hw351 => k0_hw351

def k0_off1026 (i : grid0.Coords) : Fin 3 → Nat :=
  let arg0 : BitVec 32 := BitVec.ofNat 32 (i 0).val
  let v16561 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16562 : Index := Scalar.indexCast v16541
  let c15_6965 : Index := 15#32
  ![v16561.toNat, v16562.toNat, 15]
def k0_off1027 (i : grid0.Coords) : Fin 3 → Nat :=
  let arg0 : BitVec 32 := BitVec.ofNat 32 (i 0).val
  let v16571 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16572 : Index := Scalar.indexCast v16541
  let c2_6970 : Index := 2#32
  ![v16571.toNat, v16572.toNat, 2]
def k0_off1028 (v16544 : BitVec 32) (v16573 : BitVec 32) : Fin 3 → Nat :=
  let v16574 : Index := Scalar.indexCast v16573
  let v16545 : BitVec 32 := v16544
  let v16575 : Index := Scalar.indexCast v16545
  let c0_6971 : Index := 0#32
  ![v16574.toNat, v16575.toNat, 0]

def k0_chk352 (v16544 : BitVec 32) (v16573 : BitVec 32) : Prop :=
  (∀ a, (k0_off1028 v16544 v16573) a + S1x40x128.size a ≤ S256x64x128.size a)
theorem k0_off1028_inb : ∀ (v16544 : BitVec 32) (v16573 : BitVec 32) (k0_hw352 : k0_chk352 v16544 v16573), ∀ a, (k0_off1028 v16544 v16573) a + S1x40x128.size a ≤ S256x64x128.size a := fun v16544 v16573 k0_hw352 => k0_hw352

def k0_off1029 (i : grid0.Coords) : Fin 3 → Nat :=
  let arg0 : BitVec 32 := BitVec.ofNat 32 (i 0).val
  let v16578 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16579 : Index := Scalar.indexCast v16541
  let c9_6972 : Index := 9#32
  ![v16578.toNat, v16579.toNat, 9]
def k0_off1030 (v16544 : BitVec 32) (v16580 : BitVec 32) : Fin 3 → Nat :=
  let v16581 : Index := Scalar.indexCast v16580
  let v16545 : BitVec 32 := v16544
  let v16582 : Index := Scalar.indexCast v16545
  let c0_6973 : Index := 0#32
  ![v16581.toNat, v16582.toNat, 0]

def k0_chk353 (v16544 : BitVec 32) (v16580 : BitVec 32) : Prop :=
  (∀ a, (k0_off1030 v16544 v16580) a + S1x40x128.size a ≤ S256x64x128.size a)
theorem k0_off1030_inb : ∀ (v16544 : BitVec 32) (v16580 : BitVec 32) (k0_hw353 : k0_chk353 v16544 v16580), ∀ a, (k0_off1030 v16544 v16580) a + S1x40x128.size a ≤ S256x64x128.size a := fun v16544 v16580 k0_hw353 => k0_hw353

def k0_off1031 (i : grid0.Coords) : Fin 3 → Nat :=
  let arg0 : BitVec 32 := BitVec.ofNat 32 (i 0).val
  let v16586 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16587 : Index := Scalar.indexCast v16541
  let c16_6974 : Index := 16#32
  ![v16586.toNat, v16587.toNat, 16]
def k0_off1032 (i : grid0.Coords) : Fin 3 → Nat :=
  let arg0 : BitVec 32 := BitVec.ofNat 32 (i 0).val
  let v16596 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16597 : Index := Scalar.indexCast v16541
  let c3_6979 : Index := 3#32
  ![v16596.toNat, v16597.toNat, 3]
def k0_off1033 (v16544 : BitVec 32) (v16598 : BitVec 32) : Fin 3 → Nat :=
  let v16599 : Index := Scalar.indexCast v16598
  let v16545 : BitVec 32 := v16544
  let v16600 : Index := Scalar.indexCast v16545
  let c0_6980 : Index := 0#32
  ![v16599.toNat, v16600.toNat, 0]

def k0_chk354 (v16544 : BitVec 32) (v16598 : BitVec 32) : Prop :=
  (∀ a, (k0_off1033 v16544 v16598) a + S1x40x128.size a ≤ S256x64x128.size a)
theorem k0_off1033_inb : ∀ (v16544 : BitVec 32) (v16598 : BitVec 32) (k0_hw354 : k0_chk354 v16544 v16598), ∀ a, (k0_off1033 v16544 v16598) a + S1x40x128.size a ≤ S256x64x128.size a := fun v16544 v16598 k0_hw354 => k0_hw354

def k0_off1034 (i : grid0.Coords) : Fin 3 → Nat :=
  let arg0 : BitVec 32 := BitVec.ofNat 32 (i 0).val
  let v16603 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16604 : Index := Scalar.indexCast v16541
  let c10_6981 : Index := 10#32
  ![v16603.toNat, v16604.toNat, 10]
def k0_off1035 (v16544 : BitVec 32) (v16605 : BitVec 32) : Fin 3 → Nat :=
  let v16606 : Index := Scalar.indexCast v16605
  let v16545 : BitVec 32 := v16544
  let v16607 : Index := Scalar.indexCast v16545
  let c0_6982 : Index := 0#32
  ![v16606.toNat, v16607.toNat, 0]

def k0_chk355 (v16544 : BitVec 32) (v16605 : BitVec 32) : Prop :=
  (∀ a, (k0_off1035 v16544 v16605) a + S1x40x128.size a ≤ S256x64x128.size a)
theorem k0_off1035_inb : ∀ (v16544 : BitVec 32) (v16605 : BitVec 32) (k0_hw355 : k0_chk355 v16544 v16605), ∀ a, (k0_off1035 v16544 v16605) a + S1x40x128.size a ≤ S256x64x128.size a := fun v16544 v16605 k0_hw355 => k0_hw355

def k0_off1036 (i : grid0.Coords) : Fin 3 → Nat :=
  let arg0 : BitVec 32 := BitVec.ofNat 32 (i 0).val
  let v16611 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16612 : Index := Scalar.indexCast v16541
  let c17_6983 : Index := 17#32
  ![v16611.toNat, v16612.toNat, 17]
def k0_off1037 (i : grid0.Coords) : Fin 3 → Nat :=
  let arg0 : BitVec 32 := BitVec.ofNat 32 (i 0).val
  let v16621 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16622 : Index := Scalar.indexCast v16541
  let c4_6988 : Index := 4#32
  ![v16621.toNat, v16622.toNat, 4]
def k0_off1038 (v16544 : BitVec 32) (v16623 : BitVec 32) : Fin 3 → Nat :=
  let v16624 : Index := Scalar.indexCast v16623
  let v16545 : BitVec 32 := v16544
  let v16625 : Index := Scalar.indexCast v16545
  let c0_6989 : Index := 0#32
  ![v16624.toNat, v16625.toNat, 0]

def k0_chk356 (v16544 : BitVec 32) (v16623 : BitVec 32) : Prop :=
  (∀ a, (k0_off1038 v16544 v16623) a + S1x40x128.size a ≤ S256x64x128.size a)
theorem k0_off1038_inb : ∀ (v16544 : BitVec 32) (v16623 : BitVec 32) (k0_hw356 : k0_chk356 v16544 v16623), ∀ a, (k0_off1038 v16544 v16623) a + S1x40x128.size a ≤ S256x64x128.size a := fun v16544 v16623 k0_hw356 => k0_hw356

def k0_off1039 (i : grid0.Coords) : Fin 3 → Nat :=
  let arg0 : BitVec 32 := BitVec.ofNat 32 (i 0).val
  let v16628 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16629 : Index := Scalar.indexCast v16541
  let c11_6990 : Index := 11#32
  ![v16628.toNat, v16629.toNat, 11]
def k0_off1040 (v16544 : BitVec 32) (v16630 : BitVec 32) : Fin 3 → Nat :=
  let v16631 : Index := Scalar.indexCast v16630
  let v16545 : BitVec 32 := v16544
  let v16632 : Index := Scalar.indexCast v16545
  let c0_6991 : Index := 0#32
  ![v16631.toNat, v16632.toNat, 0]

def k0_chk357 (v16544 : BitVec 32) (v16630 : BitVec 32) : Prop :=
  (∀ a, (k0_off1040 v16544 v16630) a + S1x40x128.size a ≤ S256x64x128.size a)
theorem k0_off1040_inb : ∀ (v16544 : BitVec 32) (v16630 : BitVec 32) (k0_hw357 : k0_chk357 v16544 v16630), ∀ a, (k0_off1040 v16544 v16630) a + S1x40x128.size a ≤ S256x64x128.size a := fun v16544 v16630 k0_hw357 => k0_hw357

def k0_off1041 (i : grid0.Coords) : Fin 3 → Nat :=
  let arg0 : BitVec 32 := BitVec.ofNat 32 (i 0).val
  let v16636 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16637 : Index := Scalar.indexCast v16541
  let c18_6992 : Index := 18#32
  ![v16636.toNat, v16637.toNat, 18]
def k0_off1042 (i : grid0.Coords) : Fin 3 → Nat :=
  let arg0 : BitVec 32 := BitVec.ofNat 32 (i 0).val
  let v16646 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16647 : Index := Scalar.indexCast v16541
  let c5_6997 : Index := 5#32
  ![v16646.toNat, v16647.toNat, 5]
def k0_off1043 (v16544 : BitVec 32) (v16648 : BitVec 32) : Fin 3 → Nat :=
  let v16649 : Index := Scalar.indexCast v16648
  let v16545 : BitVec 32 := v16544
  let v16650 : Index := Scalar.indexCast v16545
  let c0_6998 : Index := 0#32
  ![v16649.toNat, v16650.toNat, 0]

def k0_chk358 (v16544 : BitVec 32) (v16648 : BitVec 32) : Prop :=
  (∀ a, (k0_off1043 v16544 v16648) a + S1x40x128.size a ≤ S256x64x128.size a)
theorem k0_off1043_inb : ∀ (v16544 : BitVec 32) (v16648 : BitVec 32) (k0_hw358 : k0_chk358 v16544 v16648), ∀ a, (k0_off1043 v16544 v16648) a + S1x40x128.size a ≤ S256x64x128.size a := fun v16544 v16648 k0_hw358 => k0_hw358

def k0_off1044 (i : grid0.Coords) : Fin 3 → Nat :=
  let arg0 : BitVec 32 := BitVec.ofNat 32 (i 0).val
  let v16653 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16654 : Index := Scalar.indexCast v16541
  let c12_6999 : Index := 12#32
  ![v16653.toNat, v16654.toNat, 12]
def k0_off1045 (v16544 : BitVec 32) (v16655 : BitVec 32) : Fin 3 → Nat :=
  let v16656 : Index := Scalar.indexCast v16655
  let v16545 : BitVec 32 := v16544
  let v16657 : Index := Scalar.indexCast v16545
  let c0_7000 : Index := 0#32
  ![v16656.toNat, v16657.toNat, 0]

def k0_chk359 (v16544 : BitVec 32) (v16655 : BitVec 32) : Prop :=
  (∀ a, (k0_off1045 v16544 v16655) a + S1x40x128.size a ≤ S256x64x128.size a)
theorem k0_off1045_inb : ∀ (v16544 : BitVec 32) (v16655 : BitVec 32) (k0_hw359 : k0_chk359 v16544 v16655), ∀ a, (k0_off1045 v16544 v16655) a + S1x40x128.size a ≤ S256x64x128.size a := fun v16544 v16655 k0_hw359 => k0_hw359

def k0_off1046 (i : grid0.Coords) : Fin 3 → Nat :=
  let arg0 : BitVec 32 := BitVec.ofNat 32 (i 0).val
  let v16661 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16662 : Index := Scalar.indexCast v16541
  let c19_7001 : Index := 19#32
  ![v16661.toNat, v16662.toNat, 19]
def k0_off1047 (i : grid0.Coords) : Fin 3 → Nat :=
  let arg0 : BitVec 32 := BitVec.ofNat 32 (i 0).val
  let v16671 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16672 : Index := Scalar.indexCast v16541
  let c6_7006 : Index := 6#32
  ![v16671.toNat, v16672.toNat, 6]
def k0_off1048 (v16544 : BitVec 32) (v16673 : BitVec 32) : Fin 3 → Nat :=
  let v16674 : Index := Scalar.indexCast v16673
  let v16545 : BitVec 32 := v16544
  let v16675 : Index := Scalar.indexCast v16545
  let c0_7007 : Index := 0#32
  ![v16674.toNat, v16675.toNat, 0]

def k0_chk360 (v16544 : BitVec 32) (v16673 : BitVec 32) : Prop :=
  (∀ a, (k0_off1048 v16544 v16673) a + S1x40x128.size a ≤ S256x64x128.size a)
theorem k0_off1048_inb : ∀ (v16544 : BitVec 32) (v16673 : BitVec 32) (k0_hw360 : k0_chk360 v16544 v16673), ∀ a, (k0_off1048 v16544 v16673) a + S1x40x128.size a ≤ S256x64x128.size a := fun v16544 v16673 k0_hw360 => k0_hw360

def k0_off1049 (i : grid0.Coords) : Fin 3 → Nat :=
  let arg0 : BitVec 32 := BitVec.ofNat 32 (i 0).val
  let v16678 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16679 : Index := Scalar.indexCast v16541
  let c13_7008 : Index := 13#32
  ![v16678.toNat, v16679.toNat, 13]
def k0_off1050 (v16544 : BitVec 32) (v16680 : BitVec 32) : Fin 3 → Nat :=
  let v16681 : Index := Scalar.indexCast v16680
  let v16545 : BitVec 32 := v16544
  let v16682 : Index := Scalar.indexCast v16545
  let c0_7009 : Index := 0#32
  ![v16681.toNat, v16682.toNat, 0]

def k0_chk361 (v16544 : BitVec 32) (v16680 : BitVec 32) : Prop :=
  (∀ a, (k0_off1050 v16544 v16680) a + S1x40x128.size a ≤ S256x64x128.size a)
theorem k0_off1050_inb : ∀ (v16544 : BitVec 32) (v16680 : BitVec 32) (k0_hw361 : k0_chk361 v16544 v16680), ∀ a, (k0_off1050 v16544 v16680) a + S1x40x128.size a ≤ S256x64x128.size a := fun v16544 v16680 k0_hw361 => k0_hw361

def k0_off1051 (i : grid0.Coords) : Fin 3 → Nat :=
  let arg0 : BitVec 32 := BitVec.ofNat 32 (i 0).val
  let v16686 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16687 : Index := Scalar.indexCast v16541
  let c20_7010 : Index := 20#32
  ![v16686.toNat, v16687.toNat, 20]
def k0_off1052 (i : grid0.Coords) : Fin 3 → Nat :=
  let arg0 : BitVec 32 := BitVec.ofNat 32 (i 0).val
  let v16696 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16697 : Index := Scalar.indexCast v16541
  let c7_7015 : Index := 7#32
  ![v16696.toNat, v16697.toNat, 7]
def k0_off1053 (v16544 : BitVec 32) (v16698 : BitVec 32) : Fin 3 → Nat :=
  let v16699 : Index := Scalar.indexCast v16698
  let v16545 : BitVec 32 := v16544
  let v16700 : Index := Scalar.indexCast v16545
  let c0_7016 : Index := 0#32
  ![v16699.toNat, v16700.toNat, 0]

def k0_chk362 (v16544 : BitVec 32) (v16698 : BitVec 32) : Prop :=
  (∀ a, (k0_off1053 v16544 v16698) a + S1x40x128.size a ≤ S256x64x128.size a)
theorem k0_off1053_inb : ∀ (v16544 : BitVec 32) (v16698 : BitVec 32) (k0_hw362 : k0_chk362 v16544 v16698), ∀ a, (k0_off1053 v16544 v16698) a + S1x40x128.size a ≤ S256x64x128.size a := fun v16544 v16698 k0_hw362 => k0_hw362

def k0_off1054 (i : grid0.Coords) : Fin 3 → Nat :=
  let arg0 : BitVec 32 := BitVec.ofNat 32 (i 0).val
  let v16703 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16704 : Index := Scalar.indexCast v16541
  let c14_7017 : Index := 14#32
  ![v16703.toNat, v16704.toNat, 14]
def k0_off1055 (v16544 : BitVec 32) (v16705 : BitVec 32) : Fin 3 → Nat :=
  let v16706 : Index := Scalar.indexCast v16705
  let v16545 : BitVec 32 := v16544
  let v16707 : Index := Scalar.indexCast v16545
  let c0_7018 : Index := 0#32
  ![v16706.toNat, v16707.toNat, 0]

def k0_chk363 (v16544 : BitVec 32) (v16705 : BitVec 32) : Prop :=
  (∀ a, (k0_off1055 v16544 v16705) a + S1x40x128.size a ≤ S256x64x128.size a)
theorem k0_off1055_inb : ∀ (v16544 : BitVec 32) (v16705 : BitVec 32) (k0_hw363 : k0_chk363 v16544 v16705), ∀ a, (k0_off1055 v16544 v16705) a + S1x40x128.size a ≤ S256x64x128.size a := fun v16544 v16705 k0_hw363 => k0_hw363

def k0_off1056 (i : grid0.Coords) : Fin 3 → Nat :=
  let arg0 : BitVec 32 := BitVec.ofNat 32 (i 0).val
  let v16711 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16712 : Index := Scalar.indexCast v16541
  let c21_7019 : Index := 21#32
  ![v16711.toNat, v16712.toNat, 21]
def k0_off1057 (i : grid0.Coords) : Fin 3 → Nat :=
  let arg0 : BitVec 32 := BitVec.ofNat 32 (i 0).val
  let v16721 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16722 : Index := Scalar.indexCast v16541
  let c22_7024 : Index := 22#32
  ![v16721.toNat, v16722.toNat, 22]
def k0_off1058 (i : grid0.Coords) : Fin 3 → Nat :=
  let arg0 : BitVec 32 := BitVec.ofNat 32 (i 0).val
  let v16724 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16725 : Index := Scalar.indexCast v16541
  let c29_7025 : Index := 29#32
  ![v16724.toNat, v16725.toNat, 29]
def k0_off1059 (i : grid0.Coords) : Fin 3 → Nat :=
  let arg0 : BitVec 32 := BitVec.ofNat 32 (i 0).val
  let v16727 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16728 : Index := Scalar.indexCast v16541
  let c36_7026 : Index := 36#32
  ![v16727.toNat, v16728.toNat, 36]
def k0_off1060 (i : grid0.Coords) : Fin 3 → Nat :=
  let arg0 : BitVec 32 := BitVec.ofNat 32 (i 0).val
  let v16730 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16731 : Index := Scalar.indexCast v16541
  let c43_7027 : Index := 43#32
  ![v16730.toNat, v16731.toNat, 43]
def k0_off1061 (v16723 : BitVec 32) : Fin 3 → Nat :=
  let c420_i32 : BitVec 32 := 420#32
  let v16755 : BitVec 32 := Scalar.addi c420_i32 v16723
  let v16756 : Index := Scalar.indexCast v16755
  let c0_7032 : Index := 0#32
  let c0_7033 : Index := 0#32
  ![v16756.toNat, 0, 0]

def k0_off1062 (v16726 : BitVec 32) (c420_i32_7035 : BitVec 32) : Fin 3 → Nat :=
  let v16763 : BitVec 32 := Scalar.addi c420_i32_7035 v16726
  let v16764 : Index := Scalar.indexCast v16763
  let c0_7036 : Index := 0#32
  let c0_7037 : Index := 0#32
  ![v16764.toNat, 0, 0]

def k0_chk365 (v16726 : BitVec 32) : Prop :=
  (∀ (r : Fin 7), ∀ a, (k0_off1062 v16726 (BitVec.ofNat 32 (420 + 5 * r.val))) a + S1x8x128.size a ≤ S1120x8x128.size a)
theorem k0_off1062_inb : ∀ (v16726 : BitVec 32) (k0_hw365 : k0_chk365 v16726), ∀ (r : Fin 7), ∀ a, (k0_off1062 v16726 (BitVec.ofNat 32 (420 + 5 * r.val))) a + S1x8x128.size a ≤ S1120x8x128.size a := fun v16726 k0_hw365 r => k0_hw365 r

def k0_off1063 (v16723 : BitVec 32) (c425_i32 : BitVec 32) : Fin 3 → Nat :=
  let v16773 : BitVec 32 := Scalar.addi c425_i32 v16723
  let v16774 : Index := Scalar.indexCast v16773
  let c0_7040 : Index := 0#32
  let c0_7041 : Index := 0#32
  ![v16774.toNat, 0, 0]

def k0_chk364 (v16723 : BitVec 32) : Prop :=
  (∀ a, (k0_off1061 v16723) a + S1x8x128.size a ≤ S1120x8x128.size a) ∧
  (∀ (r : Fin 6), ∀ a, (k0_off1063 v16723 (BitVec.ofNat 32 (425 + 5 * r.val))) a + S1x8x128.size a ≤ S1120x8x128.size a)
theorem k0_off1061_inb : ∀ (v16723 : BitVec 32) (k0_hw364 : k0_chk364 v16723), ∀ a, (k0_off1061 v16723) a + S1x8x128.size a ≤ S1120x8x128.size a := fun v16723 k0_hw364 => k0_hw364.1
theorem k0_off1063_inb : ∀ (v16723 : BitVec 32) (k0_hw364 : k0_chk364 v16723), ∀ (r : Fin 6), ∀ a, (k0_off1063 v16723 (BitVec.ofNat 32 (425 + 5 * r.val))) a + S1x8x128.size a ≤ S1120x8x128.size a := fun v16723 k0_hw364 r => k0_hw364.2 r

def k0_off1064 (i : grid0.Coords) : Fin 3 → Nat :=
  let arg0 : BitVec 32 := BitVec.ofNat 32 (i 0).val
  let v16881 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16882 : Index := Scalar.indexCast v16541
  let c23_7088 : Index := 23#32
  ![v16881.toNat, v16882.toNat, 23]
def k0_off1065 (i : grid0.Coords) : Fin 3 → Nat :=
  let arg0 : BitVec 32 := BitVec.ofNat 32 (i 0).val
  let v16884 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16885 : Index := Scalar.indexCast v16541
  let c30_7089 : Index := 30#32
  ![v16884.toNat, v16885.toNat, 30]
def k0_off1066 (i : grid0.Coords) : Fin 3 → Nat :=
  let arg0 : BitVec 32 := BitVec.ofNat 32 (i 0).val
  let v16887 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16888 : Index := Scalar.indexCast v16541
  let c37_7090 : Index := 37#32
  ![v16887.toNat, v16888.toNat, 37]
def k0_off1067 (i : grid0.Coords) : Fin 3 → Nat :=
  let arg0 : BitVec 32 := BitVec.ofNat 32 (i 0).val
  let v16890 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v16891 : Index := Scalar.indexCast v16541
  let c44_7091 : Index := 44#32
  ![v16890.toNat, v16891.toNat, 44]
def k0_off1068 (v16883 : BitVec 32) : Fin 3 → Nat :=
  let c420_i32_7096 : BitVec 32 := 420#32
  let v16915 : BitVec 32 := Scalar.addi c420_i32_7096 v16883
  let v16916 : Index := Scalar.indexCast v16915
  let c0_7097 : Index := 0#32
  let c0_7098 : Index := 0#32
  ![v16916.toNat, 0, 0]

def k0_off1069 (v16886 : BitVec 32) (c420_i32_7100 : BitVec 32) : Fin 3 → Nat :=
  let v16923 : BitVec 32 := Scalar.addi c420_i32_7100 v16886
  let v16924 : Index := Scalar.indexCast v16923
  let c0_7101 : Index := 0#32
  let c0_7102 : Index := 0#32
  ![v16924.toNat, 0, 0]

def k0_chk367 (v16886 : BitVec 32) : Prop :=
  (∀ (r : Fin 7), ∀ a, (k0_off1069 v16886 (BitVec.ofNat 32 (420 + 5 * r.val))) a + S1x8x128.size a ≤ S1120x8x128.size a)
theorem k0_off1069_inb : ∀ (v16886 : BitVec 32) (k0_hw367 : k0_chk367 v16886), ∀ (r : Fin 7), ∀ a, (k0_off1069 v16886 (BitVec.ofNat 32 (420 + 5 * r.val))) a + S1x8x128.size a ≤ S1120x8x128.size a := fun v16886 k0_hw367 r => k0_hw367 r

def k0_off1070 (v16883 : BitVec 32) (c425_i32_7105 : BitVec 32) : Fin 3 → Nat :=
  let v16933 : BitVec 32 := Scalar.addi c425_i32_7105 v16883
  let v16934 : Index := Scalar.indexCast v16933
  let c0_7106 : Index := 0#32
  let c0_7107 : Index := 0#32
  ![v16934.toNat, 0, 0]

def k0_chk366 (v16883 : BitVec 32) : Prop :=
  (∀ a, (k0_off1068 v16883) a + S1x8x128.size a ≤ S1120x8x128.size a) ∧
  (∀ (r : Fin 6), ∀ a, (k0_off1070 v16883 (BitVec.ofNat 32 (425 + 5 * r.val))) a + S1x8x128.size a ≤ S1120x8x128.size a)
theorem k0_off1068_inb : ∀ (v16883 : BitVec 32) (k0_hw366 : k0_chk366 v16883), ∀ a, (k0_off1068 v16883) a + S1x8x128.size a ≤ S1120x8x128.size a := fun v16883 k0_hw366 => k0_hw366.1
theorem k0_off1070_inb : ∀ (v16883 : BitVec 32) (k0_hw366 : k0_chk366 v16883), ∀ (r : Fin 6), ∀ a, (k0_off1070 v16883 (BitVec.ofNat 32 (425 + 5 * r.val))) a + S1x8x128.size a ≤ S1120x8x128.size a := fun v16883 k0_hw366 r => k0_hw366.2 r

def k0_off1071 (i : grid0.Coords) : Fin 3 → Nat :=
  let arg0 : BitVec 32 := BitVec.ofNat 32 (i 0).val
  let v17041 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17042 : Index := Scalar.indexCast v16541
  let c24_7159 : Index := 24#32
  ![v17041.toNat, v17042.toNat, 24]
def k0_off1072 (i : grid0.Coords) : Fin 3 → Nat :=
  let arg0 : BitVec 32 := BitVec.ofNat 32 (i 0).val
  let v17044 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17045 : Index := Scalar.indexCast v16541
  let c31_7160 : Index := 31#32
  ![v17044.toNat, v17045.toNat, 31]
def k0_off1073 (i : grid0.Coords) : Fin 3 → Nat :=
  let arg0 : BitVec 32 := BitVec.ofNat 32 (i 0).val
  let v17047 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17048 : Index := Scalar.indexCast v16541
  let c38_7161 : Index := 38#32
  ![v17047.toNat, v17048.toNat, 38]
def k0_off1074 (i : grid0.Coords) : Fin 3 → Nat :=
  let arg0 : BitVec 32 := BitVec.ofNat 32 (i 0).val
  let v17050 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17051 : Index := Scalar.indexCast v16541
  let c45_7162 : Index := 45#32
  ![v17050.toNat, v17051.toNat, 45]
def k0_off1075 (v17043 : BitVec 32) : Fin 3 → Nat :=
  let c420_i32_7167 : BitVec 32 := 420#32
  let v17075 : BitVec 32 := Scalar.addi c420_i32_7167 v17043
  let v17076 : Index := Scalar.indexCast v17075
  let c0_7168 : Index := 0#32
  let c0_7169 : Index := 0#32
  ![v17076.toNat, 0, 0]

def k0_off1076 (v17046 : BitVec 32) (c420_i32_7171 : BitVec 32) : Fin 3 → Nat :=
  let v17083 : BitVec 32 := Scalar.addi c420_i32_7171 v17046
  let v17084 : Index := Scalar.indexCast v17083
  let c0_7172 : Index := 0#32
  let c0_7173 : Index := 0#32
  ![v17084.toNat, 0, 0]

def k0_chk369 (v17046 : BitVec 32) : Prop :=
  (∀ (r : Fin 7), ∀ a, (k0_off1076 v17046 (BitVec.ofNat 32 (420 + 5 * r.val))) a + S1x8x128.size a ≤ S1120x8x128.size a)
theorem k0_off1076_inb : ∀ (v17046 : BitVec 32) (k0_hw369 : k0_chk369 v17046), ∀ (r : Fin 7), ∀ a, (k0_off1076 v17046 (BitVec.ofNat 32 (420 + 5 * r.val))) a + S1x8x128.size a ≤ S1120x8x128.size a := fun v17046 k0_hw369 r => k0_hw369 r

def k0_off1077 (v17043 : BitVec 32) (c425_i32_7176 : BitVec 32) : Fin 3 → Nat :=
  let v17093 : BitVec 32 := Scalar.addi c425_i32_7176 v17043
  let v17094 : Index := Scalar.indexCast v17093
  let c0_7177 : Index := 0#32
  let c0_7178 : Index := 0#32
  ![v17094.toNat, 0, 0]

def k0_chk368 (v17043 : BitVec 32) : Prop :=
  (∀ a, (k0_off1075 v17043) a + S1x8x128.size a ≤ S1120x8x128.size a) ∧
  (∀ (r : Fin 6), ∀ a, (k0_off1077 v17043 (BitVec.ofNat 32 (425 + 5 * r.val))) a + S1x8x128.size a ≤ S1120x8x128.size a)
theorem k0_off1075_inb : ∀ (v17043 : BitVec 32) (k0_hw368 : k0_chk368 v17043), ∀ a, (k0_off1075 v17043) a + S1x8x128.size a ≤ S1120x8x128.size a := fun v17043 k0_hw368 => k0_hw368.1
theorem k0_off1077_inb : ∀ (v17043 : BitVec 32) (k0_hw368 : k0_chk368 v17043), ∀ (r : Fin 6), ∀ a, (k0_off1077 v17043 (BitVec.ofNat 32 (425 + 5 * r.val))) a + S1x8x128.size a ≤ S1120x8x128.size a := fun v17043 k0_hw368 r => k0_hw368.2 r

def k0_off1078 (i : grid0.Coords) : Fin 3 → Nat :=
  let arg0 : BitVec 32 := BitVec.ofNat 32 (i 0).val
  let v17201 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17202 : Index := Scalar.indexCast v16541
  let c25_7230 : Index := 25#32
  ![v17201.toNat, v17202.toNat, 25]
def k0_off1079 (i : grid0.Coords) : Fin 3 → Nat :=
  let arg0 : BitVec 32 := BitVec.ofNat 32 (i 0).val
  let v17204 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17205 : Index := Scalar.indexCast v16541
  let c32_7231 : Index := 32#32
  ![v17204.toNat, v17205.toNat, 32]
def k0_off1080 (i : grid0.Coords) : Fin 3 → Nat :=
  let arg0 : BitVec 32 := BitVec.ofNat 32 (i 0).val
  let v17207 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17208 : Index := Scalar.indexCast v16541
  let c39_7232 : Index := 39#32
  ![v17207.toNat, v17208.toNat, 39]
def k0_off1081 (i : grid0.Coords) : Fin 3 → Nat :=
  let arg0 : BitVec 32 := BitVec.ofNat 32 (i 0).val
  let v17210 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17211 : Index := Scalar.indexCast v16541
  let c46_7233 : Index := 46#32
  ![v17210.toNat, v17211.toNat, 46]
def k0_off1082 (v17203 : BitVec 32) : Fin 3 → Nat :=
  let c420_i32_7238 : BitVec 32 := 420#32
  let v17235 : BitVec 32 := Scalar.addi c420_i32_7238 v17203
  let v17236 : Index := Scalar.indexCast v17235
  let c0_7239 : Index := 0#32
  let c0_7240 : Index := 0#32
  ![v17236.toNat, 0, 0]

def k0_off1083 (v17206 : BitVec 32) (c420_i32_7242 : BitVec 32) : Fin 3 → Nat :=
  let v17243 : BitVec 32 := Scalar.addi c420_i32_7242 v17206
  let v17244 : Index := Scalar.indexCast v17243
  let c0_7243 : Index := 0#32
  let c0_7244 : Index := 0#32
  ![v17244.toNat, 0, 0]

def k0_chk371 (v17206 : BitVec 32) : Prop :=
  (∀ (r : Fin 7), ∀ a, (k0_off1083 v17206 (BitVec.ofNat 32 (420 + 5 * r.val))) a + S1x8x128.size a ≤ S1120x8x128.size a)
theorem k0_off1083_inb : ∀ (v17206 : BitVec 32) (k0_hw371 : k0_chk371 v17206), ∀ (r : Fin 7), ∀ a, (k0_off1083 v17206 (BitVec.ofNat 32 (420 + 5 * r.val))) a + S1x8x128.size a ≤ S1120x8x128.size a := fun v17206 k0_hw371 r => k0_hw371 r

def k0_off1084 (v17203 : BitVec 32) (c425_i32_7247 : BitVec 32) : Fin 3 → Nat :=
  let v17253 : BitVec 32 := Scalar.addi c425_i32_7247 v17203
  let v17254 : Index := Scalar.indexCast v17253
  let c0_7248 : Index := 0#32
  let c0_7249 : Index := 0#32
  ![v17254.toNat, 0, 0]

def k0_chk370 (v17203 : BitVec 32) : Prop :=
  (∀ a, (k0_off1082 v17203) a + S1x8x128.size a ≤ S1120x8x128.size a) ∧
  (∀ (r : Fin 6), ∀ a, (k0_off1084 v17203 (BitVec.ofNat 32 (425 + 5 * r.val))) a + S1x8x128.size a ≤ S1120x8x128.size a)
theorem k0_off1082_inb : ∀ (v17203 : BitVec 32) (k0_hw370 : k0_chk370 v17203), ∀ a, (k0_off1082 v17203) a + S1x8x128.size a ≤ S1120x8x128.size a := fun v17203 k0_hw370 => k0_hw370.1
theorem k0_off1084_inb : ∀ (v17203 : BitVec 32) (k0_hw370 : k0_chk370 v17203), ∀ (r : Fin 6), ∀ a, (k0_off1084 v17203 (BitVec.ofNat 32 (425 + 5 * r.val))) a + S1x8x128.size a ≤ S1120x8x128.size a := fun v17203 k0_hw370 r => k0_hw370.2 r

def k0_off1085 (i : grid0.Coords) : Fin 3 → Nat :=
  let arg0 : BitVec 32 := BitVec.ofNat 32 (i 0).val
  let v17361 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17362 : Index := Scalar.indexCast v16541
  let c26_7301 : Index := 26#32
  ![v17361.toNat, v17362.toNat, 26]
def k0_off1086 (i : grid0.Coords) : Fin 3 → Nat :=
  let arg0 : BitVec 32 := BitVec.ofNat 32 (i 0).val
  let v17364 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17365 : Index := Scalar.indexCast v16541
  let c33_7302 : Index := 33#32
  ![v17364.toNat, v17365.toNat, 33]
def k0_off1087 (i : grid0.Coords) : Fin 3 → Nat :=
  let arg0 : BitVec 32 := BitVec.ofNat 32 (i 0).val
  let v17367 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17368 : Index := Scalar.indexCast v16541
  let c40_7303 : Index := 40#32
  ![v17367.toNat, v17368.toNat, 40]
def k0_off1088 (i : grid0.Coords) : Fin 3 → Nat :=
  let arg0 : BitVec 32 := BitVec.ofNat 32 (i 0).val
  let v17370 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17371 : Index := Scalar.indexCast v16541
  let c47_7304 : Index := 47#32
  ![v17370.toNat, v17371.toNat, 47]
def k0_off1089 (v17363 : BitVec 32) : Fin 3 → Nat :=
  let c420_i32_7309 : BitVec 32 := 420#32
  let v17395 : BitVec 32 := Scalar.addi c420_i32_7309 v17363
  let v17396 : Index := Scalar.indexCast v17395
  let c0_7310 : Index := 0#32
  let c0_7311 : Index := 0#32
  ![v17396.toNat, 0, 0]

def k0_off1090 (v17366 : BitVec 32) (c420_i32_7313 : BitVec 32) : Fin 3 → Nat :=
  let v17403 : BitVec 32 := Scalar.addi c420_i32_7313 v17366
  let v17404 : Index := Scalar.indexCast v17403
  let c0_7314 : Index := 0#32
  let c0_7315 : Index := 0#32
  ![v17404.toNat, 0, 0]

def k0_chk373 (v17366 : BitVec 32) : Prop :=
  (∀ (r : Fin 7), ∀ a, (k0_off1090 v17366 (BitVec.ofNat 32 (420 + 5 * r.val))) a + S1x8x128.size a ≤ S1120x8x128.size a)
theorem k0_off1090_inb : ∀ (v17366 : BitVec 32) (k0_hw373 : k0_chk373 v17366), ∀ (r : Fin 7), ∀ a, (k0_off1090 v17366 (BitVec.ofNat 32 (420 + 5 * r.val))) a + S1x8x128.size a ≤ S1120x8x128.size a := fun v17366 k0_hw373 r => k0_hw373 r

def k0_off1091 (v17363 : BitVec 32) (c425_i32_7318 : BitVec 32) : Fin 3 → Nat :=
  let v17413 : BitVec 32 := Scalar.addi c425_i32_7318 v17363
  let v17414 : Index := Scalar.indexCast v17413
  let c0_7319 : Index := 0#32
  let c0_7320 : Index := 0#32
  ![v17414.toNat, 0, 0]

def k0_chk372 (v17363 : BitVec 32) : Prop :=
  (∀ a, (k0_off1089 v17363) a + S1x8x128.size a ≤ S1120x8x128.size a) ∧
  (∀ (r : Fin 6), ∀ a, (k0_off1091 v17363 (BitVec.ofNat 32 (425 + 5 * r.val))) a + S1x8x128.size a ≤ S1120x8x128.size a)
theorem k0_off1089_inb : ∀ (v17363 : BitVec 32) (k0_hw372 : k0_chk372 v17363), ∀ a, (k0_off1089 v17363) a + S1x8x128.size a ≤ S1120x8x128.size a := fun v17363 k0_hw372 => k0_hw372.1
theorem k0_off1091_inb : ∀ (v17363 : BitVec 32) (k0_hw372 : k0_chk372 v17363), ∀ (r : Fin 6), ∀ a, (k0_off1091 v17363 (BitVec.ofNat 32 (425 + 5 * r.val))) a + S1x8x128.size a ≤ S1120x8x128.size a := fun v17363 k0_hw372 r => k0_hw372.2 r

def k0_off1092 (i : grid0.Coords) : Fin 3 → Nat :=
  let arg0 : BitVec 32 := BitVec.ofNat 32 (i 0).val
  let v17521 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17522 : Index := Scalar.indexCast v16541
  let c27_7372 : Index := 27#32
  ![v17521.toNat, v17522.toNat, 27]
def k0_off1093 (i : grid0.Coords) : Fin 3 → Nat :=
  let arg0 : BitVec 32 := BitVec.ofNat 32 (i 0).val
  let v17524 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17525 : Index := Scalar.indexCast v16541
  let c34_7373 : Index := 34#32
  ![v17524.toNat, v17525.toNat, 34]
def k0_off1094 (i : grid0.Coords) : Fin 3 → Nat :=
  let arg0 : BitVec 32 := BitVec.ofNat 32 (i 0).val
  let v17527 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17528 : Index := Scalar.indexCast v16541
  let c41_7374 : Index := 41#32
  ![v17527.toNat, v17528.toNat, 41]
def k0_off1095 (i : grid0.Coords) : Fin 3 → Nat :=
  let arg0 : BitVec 32 := BitVec.ofNat 32 (i 0).val
  let v17530 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17531 : Index := Scalar.indexCast v16541
  let c48_7375 : Index := 48#32
  ![v17530.toNat, v17531.toNat, 48]
def k0_off1096 (v17523 : BitVec 32) : Fin 3 → Nat :=
  let c420_i32_7380 : BitVec 32 := 420#32
  let v17555 : BitVec 32 := Scalar.addi c420_i32_7380 v17523
  let v17556 : Index := Scalar.indexCast v17555
  let c0_7381 : Index := 0#32
  let c0_7382 : Index := 0#32
  ![v17556.toNat, 0, 0]

def k0_off1097 (v17526 : BitVec 32) (c420_i32_7384 : BitVec 32) : Fin 3 → Nat :=
  let v17563 : BitVec 32 := Scalar.addi c420_i32_7384 v17526
  let v17564 : Index := Scalar.indexCast v17563
  let c0_7385 : Index := 0#32
  let c0_7386 : Index := 0#32
  ![v17564.toNat, 0, 0]

def k0_chk375 (v17526 : BitVec 32) : Prop :=
  (∀ (r : Fin 7), ∀ a, (k0_off1097 v17526 (BitVec.ofNat 32 (420 + 5 * r.val))) a + S1x8x128.size a ≤ S1120x8x128.size a)
theorem k0_off1097_inb : ∀ (v17526 : BitVec 32) (k0_hw375 : k0_chk375 v17526), ∀ (r : Fin 7), ∀ a, (k0_off1097 v17526 (BitVec.ofNat 32 (420 + 5 * r.val))) a + S1x8x128.size a ≤ S1120x8x128.size a := fun v17526 k0_hw375 r => k0_hw375 r

def k0_off1098 (v17523 : BitVec 32) (c425_i32_7389 : BitVec 32) : Fin 3 → Nat :=
  let v17573 : BitVec 32 := Scalar.addi c425_i32_7389 v17523
  let v17574 : Index := Scalar.indexCast v17573
  let c0_7390 : Index := 0#32
  let c0_7391 : Index := 0#32
  ![v17574.toNat, 0, 0]

def k0_chk374 (v17523 : BitVec 32) : Prop :=
  (∀ a, (k0_off1096 v17523) a + S1x8x128.size a ≤ S1120x8x128.size a) ∧
  (∀ (r : Fin 6), ∀ a, (k0_off1098 v17523 (BitVec.ofNat 32 (425 + 5 * r.val))) a + S1x8x128.size a ≤ S1120x8x128.size a)
theorem k0_off1096_inb : ∀ (v17523 : BitVec 32) (k0_hw374 : k0_chk374 v17523), ∀ a, (k0_off1096 v17523) a + S1x8x128.size a ≤ S1120x8x128.size a := fun v17523 k0_hw374 => k0_hw374.1
theorem k0_off1098_inb : ∀ (v17523 : BitVec 32) (k0_hw374 : k0_chk374 v17523), ∀ (r : Fin 6), ∀ a, (k0_off1098 v17523 (BitVec.ofNat 32 (425 + 5 * r.val))) a + S1x8x128.size a ≤ S1120x8x128.size a := fun v17523 k0_hw374 r => k0_hw374.2 r

def k0_off1099 (i : grid0.Coords) : Fin 3 → Nat :=
  let arg0 : BitVec 32 := BitVec.ofNat 32 (i 0).val
  let v17681 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17682 : Index := Scalar.indexCast v16541
  let c28_7443 : Index := 28#32
  ![v17681.toNat, v17682.toNat, 28]
def k0_off1100 (i : grid0.Coords) : Fin 3 → Nat :=
  let arg0 : BitVec 32 := BitVec.ofNat 32 (i 0).val
  let v17684 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17685 : Index := Scalar.indexCast v16541
  let c35_7444 : Index := 35#32
  ![v17684.toNat, v17685.toNat, 35]
def k0_off1101 (i : grid0.Coords) : Fin 3 → Nat :=
  let arg0 : BitVec 32 := BitVec.ofNat 32 (i 0).val
  let v17687 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17688 : Index := Scalar.indexCast v16541
  let c42_7445 : Index := 42#32
  ![v17687.toNat, v17688.toNat, 42]
def k0_off1102 (i : grid0.Coords) : Fin 3 → Nat :=
  let arg0 : BitVec 32 := BitVec.ofNat 32 (i 0).val
  let v17690 : Index := Scalar.indexCast arg0
  let arg1 : BitVec 32 := BitVec.ofNat 32 (i 1).val
  let c32_i32_6959 : BitVec 32 := 32#32
  let v16540 : BitVec 32 := Scalar.muli arg1 c32_i32_6959
  let c12_i32 : BitVec 32 := 12#32
  let v16541 : BitVec 32 := Scalar.addi v16540 c12_i32
  let v17691 : Index := Scalar.indexCast v16541
  let c49_7446 : Index := 49#32
  ![v17690.toNat, v17691.toNat, 49]
def k0_off1103 (v17683 : BitVec 32) : Fin 3 → Nat :=
  let c420_i32_7451 : BitVec 32 := 420#32
  let v17715 : BitVec 32 := Scalar.addi c420_i32_7451 v17683
  let v17716 : Index := Scalar.indexCast v17715
  let c0_7452 : Index := 0#32
  let c0_7453 : Index := 0#32
  ![v17716.toNat, 0, 0]

def k0_off1104 (v17686 : BitVec 32) (c420_i32_7455 : BitVec 32) : Fin 3 → Nat :=
  let v17723 : BitVec 32 := Scalar.addi c420_i32_7455 v17686
  let v17724 : Index := Scalar.indexCast v17723
  let c0_7456 : Index := 0#32
  let c0_7457 : Index := 0#32
  ![v17724.toNat, 0, 0]

def k0_chk377 (v17686 : BitVec 32) : Prop :=
  (∀ (r : Fin 7), ∀ a, (k0_off1104 v17686 (BitVec.ofNat 32 (420 + 5 * r.val))) a + S1x8x128.size a ≤ S1120x8x128.size a)
theorem k0_off1104_inb : ∀ (v17686 : BitVec 32) (k0_hw377 : k0_chk377 v17686), ∀ (r : Fin 7), ∀ a, (k0_off1104 v17686 (BitVec.ofNat 32 (420 + 5 * r.val))) a + S1x8x128.size a ≤ S1120x8x128.size a := fun v17686 k0_hw377 r => k0_hw377 r

def k0_off1105 (v17683 : BitVec 32) (c425_i32_7460 : BitVec 32) : Fin 3 → Nat :=
  let v17733 : BitVec 32 := Scalar.addi c425_i32_7460 v17683
  let v17734 : Index := Scalar.indexCast v17733
  let c0_7461 : Index := 0#32
  let c0_7462 : Index := 0#32
  ![v17734.toNat, 0, 0]

def k0_chk376 (v17683 : BitVec 32) : Prop :=
  (∀ a, (k0_off1103 v17683) a + S1x8x128.size a ≤ S1120x8x128.size a) ∧
  (∀ (r : Fin 6), ∀ a, (k0_off1105 v17683 (BitVec.ofNat 32 (425 + 5 * r.val))) a + S1x8x128.size a ≤ S1120x8x128.size a)
theorem k0_off1103_inb : ∀ (v17683 : BitVec 32) (k0_hw376 : k0_chk376 v17683), ∀ a, (k0_off1103 v17683) a + S1x8x128.size a ≤ S1120x8x128.size a := fun v17683 k0_hw376 => k0_hw376.1
theorem k0_off1105_inb : ∀ (v17683 : BitVec 32) (k0_hw376 : k0_chk376 v17683), ∀ (r : Fin 6), ∀ a, (k0_off1105 v17683 (BitVec.ofNat 32 (425 + 5 * r.val))) a + S1x8x128.size a ≤ S1120x8x128.size a := fun v17683 k0_hw376 r => k0_hw376.2 r

def k0_off1106 (i : grid0.Coords) : Fin 3 → Nat :=
  let arg0 : BitVec 32 := BitVec.ofNat 32 (i 0).val
  let v17920 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17921 : Index := Scalar.indexCast v17919
  let c0_7543 : Index := 0#32
  ![v17920.toNat, v17921.toNat, 0]
def k0_mult14 (v17922 : BitVec 32) : BitVec 32 :=
  v17922

def k0_chk378 (v17922 : BitVec 32) : Prop :=
  (8 ∣ (k0_mult14 v17922).toNat)
theorem k0_mult14_dvd : ∀ (v17922 : BitVec 32) (k0_hw378 : k0_chk378 v17922), 8 ∣ (k0_mult14 v17922).toNat := fun v17922 k0_hw378 => k0_hw378

def k0_off1107 (i : grid0.Coords) : Fin 3 → Nat :=
  let arg0 : BitVec 32 := BitVec.ofNat 32 (i 0).val
  let v17924 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17925 : Index := Scalar.indexCast v17919
  let c1_7544 : Index := 1#32
  ![v17924.toNat, v17925.toNat, 1]
def k0_off1108 (v17922 : BitVec 32) (v17926 : BitVec 32) : Fin 3 → Nat :=
  let v17927 : Index := Scalar.indexCast v17926
  let v17923 : BitVec 32 := v17922
  let v17928 : Index := Scalar.indexCast v17923
  let c0_7545 : Index := 0#32
  ![v17927.toNat, v17928.toNat, 0]

def k0_chk379 (v17922 : BitVec 32) (v17926 : BitVec 32) : Prop :=
  (∀ a, (k0_off1108 v17922 v17926) a + S1x40x128.size a ≤ S256x64x128.size a)
theorem k0_off1108_inb : ∀ (v17922 : BitVec 32) (v17926 : BitVec 32) (k0_hw379 : k0_chk379 v17922 v17926), ∀ a, (k0_off1108 v17922 v17926) a + S1x40x128.size a ≤ S256x64x128.size a := fun v17922 v17926 k0_hw379 => k0_hw379

def k0_off1109 (i : grid0.Coords) : Fin 3 → Nat :=
  let arg0 : BitVec 32 := BitVec.ofNat 32 (i 0).val
  let v17931 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17932 : Index := Scalar.indexCast v17919
  let c8_7546 : Index := 8#32
  ![v17931.toNat, v17932.toNat, 8]
def k0_off1110 (v17922 : BitVec 32) (v17933 : BitVec 32) : Fin 3 → Nat :=
  let v17934 : Index := Scalar.indexCast v17933
  let v17923 : BitVec 32 := v17922
  let v17935 : Index := Scalar.indexCast v17923
  let c0_7547 : Index := 0#32
  ![v17934.toNat, v17935.toNat, 0]

def k0_chk380 (v17922 : BitVec 32) (v17933 : BitVec 32) : Prop :=
  (∀ a, (k0_off1110 v17922 v17933) a + S1x40x128.size a ≤ S256x64x128.size a)
theorem k0_off1110_inb : ∀ (v17922 : BitVec 32) (v17933 : BitVec 32) (k0_hw380 : k0_chk380 v17922 v17933), ∀ a, (k0_off1110 v17922 v17933) a + S1x40x128.size a ≤ S256x64x128.size a := fun v17922 v17933 k0_hw380 => k0_hw380

def k0_off1111 (i : grid0.Coords) : Fin 3 → Nat :=
  let arg0 : BitVec 32 := BitVec.ofNat 32 (i 0).val
  let v17939 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17940 : Index := Scalar.indexCast v17919
  let c15_7548 : Index := 15#32
  ![v17939.toNat, v17940.toNat, 15]
def k0_off1112 (i : grid0.Coords) : Fin 3 → Nat :=
  let arg0 : BitVec 32 := BitVec.ofNat 32 (i 0).val
  let v17949 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17950 : Index := Scalar.indexCast v17919
  let c2_7553 : Index := 2#32
  ![v17949.toNat, v17950.toNat, 2]
def k0_off1113 (v17922 : BitVec 32) (v17951 : BitVec 32) : Fin 3 → Nat :=
  let v17952 : Index := Scalar.indexCast v17951
  let v17923 : BitVec 32 := v17922
  let v17953 : Index := Scalar.indexCast v17923
  let c0_7554 : Index := 0#32
  ![v17952.toNat, v17953.toNat, 0]

def k0_chk381 (v17922 : BitVec 32) (v17951 : BitVec 32) : Prop :=
  (∀ a, (k0_off1113 v17922 v17951) a + S1x40x128.size a ≤ S256x64x128.size a)
theorem k0_off1113_inb : ∀ (v17922 : BitVec 32) (v17951 : BitVec 32) (k0_hw381 : k0_chk381 v17922 v17951), ∀ a, (k0_off1113 v17922 v17951) a + S1x40x128.size a ≤ S256x64x128.size a := fun v17922 v17951 k0_hw381 => k0_hw381

def k0_off1114 (i : grid0.Coords) : Fin 3 → Nat :=
  let arg0 : BitVec 32 := BitVec.ofNat 32 (i 0).val
  let v17956 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17957 : Index := Scalar.indexCast v17919
  let c9_7555 : Index := 9#32
  ![v17956.toNat, v17957.toNat, 9]
def k0_off1115 (v17922 : BitVec 32) (v17958 : BitVec 32) : Fin 3 → Nat :=
  let v17959 : Index := Scalar.indexCast v17958
  let v17923 : BitVec 32 := v17922
  let v17960 : Index := Scalar.indexCast v17923
  let c0_7556 : Index := 0#32
  ![v17959.toNat, v17960.toNat, 0]

def k0_chk382 (v17922 : BitVec 32) (v17958 : BitVec 32) : Prop :=
  (∀ a, (k0_off1115 v17922 v17958) a + S1x40x128.size a ≤ S256x64x128.size a)
theorem k0_off1115_inb : ∀ (v17922 : BitVec 32) (v17958 : BitVec 32) (k0_hw382 : k0_chk382 v17922 v17958), ∀ a, (k0_off1115 v17922 v17958) a + S1x40x128.size a ≤ S256x64x128.size a := fun v17922 v17958 k0_hw382 => k0_hw382

def k0_off1116 (i : grid0.Coords) : Fin 3 → Nat :=
  let arg0 : BitVec 32 := BitVec.ofNat 32 (i 0).val
  let v17964 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17965 : Index := Scalar.indexCast v17919
  let c16_7557 : Index := 16#32
  ![v17964.toNat, v17965.toNat, 16]
def k0_off1117 (i : grid0.Coords) : Fin 3 → Nat :=
  let arg0 : BitVec 32 := BitVec.ofNat 32 (i 0).val
  let v17974 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17975 : Index := Scalar.indexCast v17919
  let c3_7562 : Index := 3#32
  ![v17974.toNat, v17975.toNat, 3]
def k0_off1118 (v17922 : BitVec 32) (v17976 : BitVec 32) : Fin 3 → Nat :=
  let v17977 : Index := Scalar.indexCast v17976
  let v17923 : BitVec 32 := v17922
  let v17978 : Index := Scalar.indexCast v17923
  let c0_7563 : Index := 0#32
  ![v17977.toNat, v17978.toNat, 0]

def k0_chk383 (v17922 : BitVec 32) (v17976 : BitVec 32) : Prop :=
  (∀ a, (k0_off1118 v17922 v17976) a + S1x40x128.size a ≤ S256x64x128.size a)
theorem k0_off1118_inb : ∀ (v17922 : BitVec 32) (v17976 : BitVec 32) (k0_hw383 : k0_chk383 v17922 v17976), ∀ a, (k0_off1118 v17922 v17976) a + S1x40x128.size a ≤ S256x64x128.size a := fun v17922 v17976 k0_hw383 => k0_hw383

def k0_off1119 (i : grid0.Coords) : Fin 3 → Nat :=
  let arg0 : BitVec 32 := BitVec.ofNat 32 (i 0).val
  let v17981 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17982 : Index := Scalar.indexCast v17919
  let c10_7564 : Index := 10#32
  ![v17981.toNat, v17982.toNat, 10]
def k0_off1120 (v17922 : BitVec 32) (v17983 : BitVec 32) : Fin 3 → Nat :=
  let v17984 : Index := Scalar.indexCast v17983
  let v17923 : BitVec 32 := v17922
  let v17985 : Index := Scalar.indexCast v17923
  let c0_7565 : Index := 0#32
  ![v17984.toNat, v17985.toNat, 0]

def k0_chk384 (v17922 : BitVec 32) (v17983 : BitVec 32) : Prop :=
  (∀ a, (k0_off1120 v17922 v17983) a + S1x40x128.size a ≤ S256x64x128.size a)
theorem k0_off1120_inb : ∀ (v17922 : BitVec 32) (v17983 : BitVec 32) (k0_hw384 : k0_chk384 v17922 v17983), ∀ a, (k0_off1120 v17922 v17983) a + S1x40x128.size a ≤ S256x64x128.size a := fun v17922 v17983 k0_hw384 => k0_hw384

def k0_off1121 (i : grid0.Coords) : Fin 3 → Nat :=
  let arg0 : BitVec 32 := BitVec.ofNat 32 (i 0).val
  let v17989 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v17990 : Index := Scalar.indexCast v17919
  let c17_7566 : Index := 17#32
  ![v17989.toNat, v17990.toNat, 17]
def k0_off1122 (i : grid0.Coords) : Fin 3 → Nat :=
  let arg0 : BitVec 32 := BitVec.ofNat 32 (i 0).val
  let v17999 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18000 : Index := Scalar.indexCast v17919
  let c4_7571 : Index := 4#32
  ![v17999.toNat, v18000.toNat, 4]
def k0_off1123 (v17922 : BitVec 32) (v18001 : BitVec 32) : Fin 3 → Nat :=
  let v18002 : Index := Scalar.indexCast v18001
  let v17923 : BitVec 32 := v17922
  let v18003 : Index := Scalar.indexCast v17923
  let c0_7572 : Index := 0#32
  ![v18002.toNat, v18003.toNat, 0]

def k0_chk385 (v17922 : BitVec 32) (v18001 : BitVec 32) : Prop :=
  (∀ a, (k0_off1123 v17922 v18001) a + S1x40x128.size a ≤ S256x64x128.size a)
theorem k0_off1123_inb : ∀ (v17922 : BitVec 32) (v18001 : BitVec 32) (k0_hw385 : k0_chk385 v17922 v18001), ∀ a, (k0_off1123 v17922 v18001) a + S1x40x128.size a ≤ S256x64x128.size a := fun v17922 v18001 k0_hw385 => k0_hw385

def k0_off1124 (i : grid0.Coords) : Fin 3 → Nat :=
  let arg0 : BitVec 32 := BitVec.ofNat 32 (i 0).val
  let v18006 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18007 : Index := Scalar.indexCast v17919
  let c11_7573 : Index := 11#32
  ![v18006.toNat, v18007.toNat, 11]
def k0_off1125 (v17922 : BitVec 32) (v18008 : BitVec 32) : Fin 3 → Nat :=
  let v18009 : Index := Scalar.indexCast v18008
  let v17923 : BitVec 32 := v17922
  let v18010 : Index := Scalar.indexCast v17923
  let c0_7574 : Index := 0#32
  ![v18009.toNat, v18010.toNat, 0]

def k0_chk386 (v17922 : BitVec 32) (v18008 : BitVec 32) : Prop :=
  (∀ a, (k0_off1125 v17922 v18008) a + S1x40x128.size a ≤ S256x64x128.size a)
theorem k0_off1125_inb : ∀ (v17922 : BitVec 32) (v18008 : BitVec 32) (k0_hw386 : k0_chk386 v17922 v18008), ∀ a, (k0_off1125 v17922 v18008) a + S1x40x128.size a ≤ S256x64x128.size a := fun v17922 v18008 k0_hw386 => k0_hw386

def k0_off1126 (i : grid0.Coords) : Fin 3 → Nat :=
  let arg0 : BitVec 32 := BitVec.ofNat 32 (i 0).val
  let v18014 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18015 : Index := Scalar.indexCast v17919
  let c18_7575 : Index := 18#32
  ![v18014.toNat, v18015.toNat, 18]
def k0_off1127 (i : grid0.Coords) : Fin 3 → Nat :=
  let arg0 : BitVec 32 := BitVec.ofNat 32 (i 0).val
  let v18024 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18025 : Index := Scalar.indexCast v17919
  let c5_7580 : Index := 5#32
  ![v18024.toNat, v18025.toNat, 5]
def k0_off1128 (v17922 : BitVec 32) (v18026 : BitVec 32) : Fin 3 → Nat :=
  let v18027 : Index := Scalar.indexCast v18026
  let v17923 : BitVec 32 := v17922
  let v18028 : Index := Scalar.indexCast v17923
  let c0_7581 : Index := 0#32
  ![v18027.toNat, v18028.toNat, 0]

def k0_chk387 (v17922 : BitVec 32) (v18026 : BitVec 32) : Prop :=
  (∀ a, (k0_off1128 v17922 v18026) a + S1x40x128.size a ≤ S256x64x128.size a)
theorem k0_off1128_inb : ∀ (v17922 : BitVec 32) (v18026 : BitVec 32) (k0_hw387 : k0_chk387 v17922 v18026), ∀ a, (k0_off1128 v17922 v18026) a + S1x40x128.size a ≤ S256x64x128.size a := fun v17922 v18026 k0_hw387 => k0_hw387

def k0_off1129 (i : grid0.Coords) : Fin 3 → Nat :=
  let arg0 : BitVec 32 := BitVec.ofNat 32 (i 0).val
  let v18031 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18032 : Index := Scalar.indexCast v17919
  let c12_7582 : Index := 12#32
  ![v18031.toNat, v18032.toNat, 12]
def k0_off1130 (v17922 : BitVec 32) (v18033 : BitVec 32) : Fin 3 → Nat :=
  let v18034 : Index := Scalar.indexCast v18033
  let v17923 : BitVec 32 := v17922
  let v18035 : Index := Scalar.indexCast v17923
  let c0_7583 : Index := 0#32
  ![v18034.toNat, v18035.toNat, 0]

def k0_chk388 (v17922 : BitVec 32) (v18033 : BitVec 32) : Prop :=
  (∀ a, (k0_off1130 v17922 v18033) a + S1x40x128.size a ≤ S256x64x128.size a)
theorem k0_off1130_inb : ∀ (v17922 : BitVec 32) (v18033 : BitVec 32) (k0_hw388 : k0_chk388 v17922 v18033), ∀ a, (k0_off1130 v17922 v18033) a + S1x40x128.size a ≤ S256x64x128.size a := fun v17922 v18033 k0_hw388 => k0_hw388

def k0_off1131 (i : grid0.Coords) : Fin 3 → Nat :=
  let arg0 : BitVec 32 := BitVec.ofNat 32 (i 0).val
  let v18039 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18040 : Index := Scalar.indexCast v17919
  let c19_7584 : Index := 19#32
  ![v18039.toNat, v18040.toNat, 19]
def k0_off1132 (i : grid0.Coords) : Fin 3 → Nat :=
  let arg0 : BitVec 32 := BitVec.ofNat 32 (i 0).val
  let v18049 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18050 : Index := Scalar.indexCast v17919
  let c6_7589 : Index := 6#32
  ![v18049.toNat, v18050.toNat, 6]
def k0_off1133 (v17922 : BitVec 32) (v18051 : BitVec 32) : Fin 3 → Nat :=
  let v18052 : Index := Scalar.indexCast v18051
  let v17923 : BitVec 32 := v17922
  let v18053 : Index := Scalar.indexCast v17923
  let c0_7590 : Index := 0#32
  ![v18052.toNat, v18053.toNat, 0]

def k0_chk389 (v17922 : BitVec 32) (v18051 : BitVec 32) : Prop :=
  (∀ a, (k0_off1133 v17922 v18051) a + S1x40x128.size a ≤ S256x64x128.size a)
theorem k0_off1133_inb : ∀ (v17922 : BitVec 32) (v18051 : BitVec 32) (k0_hw389 : k0_chk389 v17922 v18051), ∀ a, (k0_off1133 v17922 v18051) a + S1x40x128.size a ≤ S256x64x128.size a := fun v17922 v18051 k0_hw389 => k0_hw389

def k0_off1134 (i : grid0.Coords) : Fin 3 → Nat :=
  let arg0 : BitVec 32 := BitVec.ofNat 32 (i 0).val
  let v18056 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18057 : Index := Scalar.indexCast v17919
  let c13_7591 : Index := 13#32
  ![v18056.toNat, v18057.toNat, 13]
def k0_off1135 (v17922 : BitVec 32) (v18058 : BitVec 32) : Fin 3 → Nat :=
  let v18059 : Index := Scalar.indexCast v18058
  let v17923 : BitVec 32 := v17922
  let v18060 : Index := Scalar.indexCast v17923
  let c0_7592 : Index := 0#32
  ![v18059.toNat, v18060.toNat, 0]

def k0_chk390 (v17922 : BitVec 32) (v18058 : BitVec 32) : Prop :=
  (∀ a, (k0_off1135 v17922 v18058) a + S1x40x128.size a ≤ S256x64x128.size a)
theorem k0_off1135_inb : ∀ (v17922 : BitVec 32) (v18058 : BitVec 32) (k0_hw390 : k0_chk390 v17922 v18058), ∀ a, (k0_off1135 v17922 v18058) a + S1x40x128.size a ≤ S256x64x128.size a := fun v17922 v18058 k0_hw390 => k0_hw390

def k0_off1136 (i : grid0.Coords) : Fin 3 → Nat :=
  let arg0 : BitVec 32 := BitVec.ofNat 32 (i 0).val
  let v18064 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18065 : Index := Scalar.indexCast v17919
  let c20_7593 : Index := 20#32
  ![v18064.toNat, v18065.toNat, 20]
def k0_off1137 (i : grid0.Coords) : Fin 3 → Nat :=
  let arg0 : BitVec 32 := BitVec.ofNat 32 (i 0).val
  let v18074 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18075 : Index := Scalar.indexCast v17919
  let c7_7598 : Index := 7#32
  ![v18074.toNat, v18075.toNat, 7]
def k0_off1138 (v17922 : BitVec 32) (v18076 : BitVec 32) : Fin 3 → Nat :=
  let v18077 : Index := Scalar.indexCast v18076
  let v17923 : BitVec 32 := v17922
  let v18078 : Index := Scalar.indexCast v17923
  let c0_7599 : Index := 0#32
  ![v18077.toNat, v18078.toNat, 0]

def k0_chk391 (v17922 : BitVec 32) (v18076 : BitVec 32) : Prop :=
  (∀ a, (k0_off1138 v17922 v18076) a + S1x40x128.size a ≤ S256x64x128.size a)
theorem k0_off1138_inb : ∀ (v17922 : BitVec 32) (v18076 : BitVec 32) (k0_hw391 : k0_chk391 v17922 v18076), ∀ a, (k0_off1138 v17922 v18076) a + S1x40x128.size a ≤ S256x64x128.size a := fun v17922 v18076 k0_hw391 => k0_hw391

def k0_off1139 (i : grid0.Coords) : Fin 3 → Nat :=
  let arg0 : BitVec 32 := BitVec.ofNat 32 (i 0).val
  let v18081 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18082 : Index := Scalar.indexCast v17919
  let c14_7600 : Index := 14#32
  ![v18081.toNat, v18082.toNat, 14]
def k0_off1140 (v17922 : BitVec 32) (v18083 : BitVec 32) : Fin 3 → Nat :=
  let v18084 : Index := Scalar.indexCast v18083
  let v17923 : BitVec 32 := v17922
  let v18085 : Index := Scalar.indexCast v17923
  let c0_7601 : Index := 0#32
  ![v18084.toNat, v18085.toNat, 0]

def k0_chk392 (v17922 : BitVec 32) (v18083 : BitVec 32) : Prop :=
  (∀ a, (k0_off1140 v17922 v18083) a + S1x40x128.size a ≤ S256x64x128.size a)
theorem k0_off1140_inb : ∀ (v17922 : BitVec 32) (v18083 : BitVec 32) (k0_hw392 : k0_chk392 v17922 v18083), ∀ a, (k0_off1140 v17922 v18083) a + S1x40x128.size a ≤ S256x64x128.size a := fun v17922 v18083 k0_hw392 => k0_hw392

def k0_off1141 (i : grid0.Coords) : Fin 3 → Nat :=
  let arg0 : BitVec 32 := BitVec.ofNat 32 (i 0).val
  let v18089 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18090 : Index := Scalar.indexCast v17919
  let c21_7602 : Index := 21#32
  ![v18089.toNat, v18090.toNat, 21]
def k0_off1142 (i : grid0.Coords) : Fin 3 → Nat :=
  let arg0 : BitVec 32 := BitVec.ofNat 32 (i 0).val
  let v18099 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18100 : Index := Scalar.indexCast v17919
  let c22_7607 : Index := 22#32
  ![v18099.toNat, v18100.toNat, 22]
def k0_off1143 (i : grid0.Coords) : Fin 3 → Nat :=
  let arg0 : BitVec 32 := BitVec.ofNat 32 (i 0).val
  let v18102 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18103 : Index := Scalar.indexCast v17919
  let c29_7608 : Index := 29#32
  ![v18102.toNat, v18103.toNat, 29]
def k0_off1144 (i : grid0.Coords) : Fin 3 → Nat :=
  let arg0 : BitVec 32 := BitVec.ofNat 32 (i 0).val
  let v18105 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18106 : Index := Scalar.indexCast v17919
  let c36_7609 : Index := 36#32
  ![v18105.toNat, v18106.toNat, 36]
def k0_off1145 (i : grid0.Coords) : Fin 3 → Nat :=
  let arg0 : BitVec 32 := BitVec.ofNat 32 (i 0).val
  let v18108 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18109 : Index := Scalar.indexCast v17919
  let c43_7610 : Index := 43#32
  ![v18108.toNat, v18109.toNat, 43]
def k0_off1146 (v18101 : BitVec 32) : Fin 3 → Nat :=
  let c455_i32 : BitVec 32 := 455#32
  let v18133 : BitVec 32 := Scalar.addi c455_i32 v18101
  let v18134 : Index := Scalar.indexCast v18133
  let c0_7615 : Index := 0#32
  let c0_7616 : Index := 0#32
  ![v18134.toNat, 0, 0]

def k0_off1147 (v18104 : BitVec 32) (c455_i32_7618 : BitVec 32) : Fin 3 → Nat :=
  let v18141 : BitVec 32 := Scalar.addi c455_i32_7618 v18104
  let v18142 : Index := Scalar.indexCast v18141
  let c0_7619 : Index := 0#32
  let c0_7620 : Index := 0#32
  ![v18142.toNat, 0, 0]

def k0_chk394 (v18104 : BitVec 32) : Prop :=
  (∀ (r : Fin 7), ∀ a, (k0_off1147 v18104 (BitVec.ofNat 32 (455 + 5 * r.val))) a + S1x8x128.size a ≤ S1120x8x128.size a)
theorem k0_off1147_inb : ∀ (v18104 : BitVec 32) (k0_hw394 : k0_chk394 v18104), ∀ (r : Fin 7), ∀ a, (k0_off1147 v18104 (BitVec.ofNat 32 (455 + 5 * r.val))) a + S1x8x128.size a ≤ S1120x8x128.size a := fun v18104 k0_hw394 r => k0_hw394 r

def k0_off1148 (v18101 : BitVec 32) (c460_i32 : BitVec 32) : Fin 3 → Nat :=
  let v18151 : BitVec 32 := Scalar.addi c460_i32 v18101
  let v18152 : Index := Scalar.indexCast v18151
  let c0_7623 : Index := 0#32
  let c0_7624 : Index := 0#32
  ![v18152.toNat, 0, 0]

def k0_chk393 (v18101 : BitVec 32) : Prop :=
  (∀ a, (k0_off1146 v18101) a + S1x8x128.size a ≤ S1120x8x128.size a) ∧
  (∀ (r : Fin 6), ∀ a, (k0_off1148 v18101 (BitVec.ofNat 32 (460 + 5 * r.val))) a + S1x8x128.size a ≤ S1120x8x128.size a)
theorem k0_off1146_inb : ∀ (v18101 : BitVec 32) (k0_hw393 : k0_chk393 v18101), ∀ a, (k0_off1146 v18101) a + S1x8x128.size a ≤ S1120x8x128.size a := fun v18101 k0_hw393 => k0_hw393.1
theorem k0_off1148_inb : ∀ (v18101 : BitVec 32) (k0_hw393 : k0_chk393 v18101), ∀ (r : Fin 6), ∀ a, (k0_off1148 v18101 (BitVec.ofNat 32 (460 + 5 * r.val))) a + S1x8x128.size a ≤ S1120x8x128.size a := fun v18101 k0_hw393 r => k0_hw393.2 r

def k0_off1149 (i : grid0.Coords) : Fin 3 → Nat :=
  let arg0 : BitVec 32 := BitVec.ofNat 32 (i 0).val
  let v18259 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18260 : Index := Scalar.indexCast v17919
  let c23_7671 : Index := 23#32
  ![v18259.toNat, v18260.toNat, 23]
def k0_off1150 (i : grid0.Coords) : Fin 3 → Nat :=
  let arg0 : BitVec 32 := BitVec.ofNat 32 (i 0).val
  let v18262 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18263 : Index := Scalar.indexCast v17919
  let c30_7672 : Index := 30#32
  ![v18262.toNat, v18263.toNat, 30]
def k0_off1151 (i : grid0.Coords) : Fin 3 → Nat :=
  let arg0 : BitVec 32 := BitVec.ofNat 32 (i 0).val
  let v18265 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18266 : Index := Scalar.indexCast v17919
  let c37_7673 : Index := 37#32
  ![v18265.toNat, v18266.toNat, 37]
def k0_off1152 (i : grid0.Coords) : Fin 3 → Nat :=
  let arg0 : BitVec 32 := BitVec.ofNat 32 (i 0).val
  let v18268 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18269 : Index := Scalar.indexCast v17919
  let c44_7674 : Index := 44#32
  ![v18268.toNat, v18269.toNat, 44]
def k0_off1153 (v18261 : BitVec 32) : Fin 3 → Nat :=
  let c455_i32_7679 : BitVec 32 := 455#32
  let v18293 : BitVec 32 := Scalar.addi c455_i32_7679 v18261
  let v18294 : Index := Scalar.indexCast v18293
  let c0_7680 : Index := 0#32
  let c0_7681 : Index := 0#32
  ![v18294.toNat, 0, 0]

def k0_off1154 (v18264 : BitVec 32) (c455_i32_7683 : BitVec 32) : Fin 3 → Nat :=
  let v18301 : BitVec 32 := Scalar.addi c455_i32_7683 v18264
  let v18302 : Index := Scalar.indexCast v18301
  let c0_7684 : Index := 0#32
  let c0_7685 : Index := 0#32
  ![v18302.toNat, 0, 0]

def k0_chk396 (v18264 : BitVec 32) : Prop :=
  (∀ (r : Fin 7), ∀ a, (k0_off1154 v18264 (BitVec.ofNat 32 (455 + 5 * r.val))) a + S1x8x128.size a ≤ S1120x8x128.size a)
theorem k0_off1154_inb : ∀ (v18264 : BitVec 32) (k0_hw396 : k0_chk396 v18264), ∀ (r : Fin 7), ∀ a, (k0_off1154 v18264 (BitVec.ofNat 32 (455 + 5 * r.val))) a + S1x8x128.size a ≤ S1120x8x128.size a := fun v18264 k0_hw396 r => k0_hw396 r

def k0_off1155 (v18261 : BitVec 32) (c460_i32_7688 : BitVec 32) : Fin 3 → Nat :=
  let v18311 : BitVec 32 := Scalar.addi c460_i32_7688 v18261
  let v18312 : Index := Scalar.indexCast v18311
  let c0_7689 : Index := 0#32
  let c0_7690 : Index := 0#32
  ![v18312.toNat, 0, 0]

def k0_chk395 (v18261 : BitVec 32) : Prop :=
  (∀ a, (k0_off1153 v18261) a + S1x8x128.size a ≤ S1120x8x128.size a) ∧
  (∀ (r : Fin 6), ∀ a, (k0_off1155 v18261 (BitVec.ofNat 32 (460 + 5 * r.val))) a + S1x8x128.size a ≤ S1120x8x128.size a)
theorem k0_off1153_inb : ∀ (v18261 : BitVec 32) (k0_hw395 : k0_chk395 v18261), ∀ a, (k0_off1153 v18261) a + S1x8x128.size a ≤ S1120x8x128.size a := fun v18261 k0_hw395 => k0_hw395.1
theorem k0_off1155_inb : ∀ (v18261 : BitVec 32) (k0_hw395 : k0_chk395 v18261), ∀ (r : Fin 6), ∀ a, (k0_off1155 v18261 (BitVec.ofNat 32 (460 + 5 * r.val))) a + S1x8x128.size a ≤ S1120x8x128.size a := fun v18261 k0_hw395 r => k0_hw395.2 r

def k0_off1156 (i : grid0.Coords) : Fin 3 → Nat :=
  let arg0 : BitVec 32 := BitVec.ofNat 32 (i 0).val
  let v18419 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18420 : Index := Scalar.indexCast v17919
  let c24_7742 : Index := 24#32
  ![v18419.toNat, v18420.toNat, 24]
def k0_off1157 (i : grid0.Coords) : Fin 3 → Nat :=
  let arg0 : BitVec 32 := BitVec.ofNat 32 (i 0).val
  let v18422 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18423 : Index := Scalar.indexCast v17919
  let c31_7743 : Index := 31#32
  ![v18422.toNat, v18423.toNat, 31]
def k0_off1158 (i : grid0.Coords) : Fin 3 → Nat :=
  let arg0 : BitVec 32 := BitVec.ofNat 32 (i 0).val
  let v18425 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18426 : Index := Scalar.indexCast v17919
  let c38_7744 : Index := 38#32
  ![v18425.toNat, v18426.toNat, 38]
def k0_off1159 (i : grid0.Coords) : Fin 3 → Nat :=
  let arg0 : BitVec 32 := BitVec.ofNat 32 (i 0).val
  let v18428 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18429 : Index := Scalar.indexCast v17919
  let c45_7745 : Index := 45#32
  ![v18428.toNat, v18429.toNat, 45]
def k0_off1160 (v18421 : BitVec 32) : Fin 3 → Nat :=
  let c455_i32_7750 : BitVec 32 := 455#32
  let v18453 : BitVec 32 := Scalar.addi c455_i32_7750 v18421
  let v18454 : Index := Scalar.indexCast v18453
  let c0_7751 : Index := 0#32
  let c0_7752 : Index := 0#32
  ![v18454.toNat, 0, 0]

def k0_off1161 (v18424 : BitVec 32) (c455_i32_7754 : BitVec 32) : Fin 3 → Nat :=
  let v18461 : BitVec 32 := Scalar.addi c455_i32_7754 v18424
  let v18462 : Index := Scalar.indexCast v18461
  let c0_7755 : Index := 0#32
  let c0_7756 : Index := 0#32
  ![v18462.toNat, 0, 0]

def k0_chk398 (v18424 : BitVec 32) : Prop :=
  (∀ (r : Fin 7), ∀ a, (k0_off1161 v18424 (BitVec.ofNat 32 (455 + 5 * r.val))) a + S1x8x128.size a ≤ S1120x8x128.size a)
theorem k0_off1161_inb : ∀ (v18424 : BitVec 32) (k0_hw398 : k0_chk398 v18424), ∀ (r : Fin 7), ∀ a, (k0_off1161 v18424 (BitVec.ofNat 32 (455 + 5 * r.val))) a + S1x8x128.size a ≤ S1120x8x128.size a := fun v18424 k0_hw398 r => k0_hw398 r

def k0_off1162 (v18421 : BitVec 32) (c460_i32_7759 : BitVec 32) : Fin 3 → Nat :=
  let v18471 : BitVec 32 := Scalar.addi c460_i32_7759 v18421
  let v18472 : Index := Scalar.indexCast v18471
  let c0_7760 : Index := 0#32
  let c0_7761 : Index := 0#32
  ![v18472.toNat, 0, 0]

def k0_chk397 (v18421 : BitVec 32) : Prop :=
  (∀ a, (k0_off1160 v18421) a + S1x8x128.size a ≤ S1120x8x128.size a) ∧
  (∀ (r : Fin 6), ∀ a, (k0_off1162 v18421 (BitVec.ofNat 32 (460 + 5 * r.val))) a + S1x8x128.size a ≤ S1120x8x128.size a)
theorem k0_off1160_inb : ∀ (v18421 : BitVec 32) (k0_hw397 : k0_chk397 v18421), ∀ a, (k0_off1160 v18421) a + S1x8x128.size a ≤ S1120x8x128.size a := fun v18421 k0_hw397 => k0_hw397.1
theorem k0_off1162_inb : ∀ (v18421 : BitVec 32) (k0_hw397 : k0_chk397 v18421), ∀ (r : Fin 6), ∀ a, (k0_off1162 v18421 (BitVec.ofNat 32 (460 + 5 * r.val))) a + S1x8x128.size a ≤ S1120x8x128.size a := fun v18421 k0_hw397 r => k0_hw397.2 r

def k0_off1163 (i : grid0.Coords) : Fin 3 → Nat :=
  let arg0 : BitVec 32 := BitVec.ofNat 32 (i 0).val
  let v18579 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18580 : Index := Scalar.indexCast v17919
  let c25_7813 : Index := 25#32
  ![v18579.toNat, v18580.toNat, 25]
def k0_off1164 (i : grid0.Coords) : Fin 3 → Nat :=
  let arg0 : BitVec 32 := BitVec.ofNat 32 (i 0).val
  let v18582 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18583 : Index := Scalar.indexCast v17919
  let c32_7814 : Index := 32#32
  ![v18582.toNat, v18583.toNat, 32]
def k0_off1165 (i : grid0.Coords) : Fin 3 → Nat :=
  let arg0 : BitVec 32 := BitVec.ofNat 32 (i 0).val
  let v18585 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18586 : Index := Scalar.indexCast v17919
  let c39_7815 : Index := 39#32
  ![v18585.toNat, v18586.toNat, 39]
def k0_off1166 (i : grid0.Coords) : Fin 3 → Nat :=
  let arg0 : BitVec 32 := BitVec.ofNat 32 (i 0).val
  let v18588 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18589 : Index := Scalar.indexCast v17919
  let c46_7816 : Index := 46#32
  ![v18588.toNat, v18589.toNat, 46]
def k0_off1167 (v18581 : BitVec 32) : Fin 3 → Nat :=
  let c455_i32_7821 : BitVec 32 := 455#32
  let v18613 : BitVec 32 := Scalar.addi c455_i32_7821 v18581
  let v18614 : Index := Scalar.indexCast v18613
  let c0_7822 : Index := 0#32
  let c0_7823 : Index := 0#32
  ![v18614.toNat, 0, 0]

def k0_off1168 (v18584 : BitVec 32) (c455_i32_7825 : BitVec 32) : Fin 3 → Nat :=
  let v18621 : BitVec 32 := Scalar.addi c455_i32_7825 v18584
  let v18622 : Index := Scalar.indexCast v18621
  let c0_7826 : Index := 0#32
  let c0_7827 : Index := 0#32
  ![v18622.toNat, 0, 0]

def k0_chk400 (v18584 : BitVec 32) : Prop :=
  (∀ (r : Fin 7), ∀ a, (k0_off1168 v18584 (BitVec.ofNat 32 (455 + 5 * r.val))) a + S1x8x128.size a ≤ S1120x8x128.size a)
theorem k0_off1168_inb : ∀ (v18584 : BitVec 32) (k0_hw400 : k0_chk400 v18584), ∀ (r : Fin 7), ∀ a, (k0_off1168 v18584 (BitVec.ofNat 32 (455 + 5 * r.val))) a + S1x8x128.size a ≤ S1120x8x128.size a := fun v18584 k0_hw400 r => k0_hw400 r

def k0_off1169 (v18581 : BitVec 32) (c460_i32_7830 : BitVec 32) : Fin 3 → Nat :=
  let v18631 : BitVec 32 := Scalar.addi c460_i32_7830 v18581
  let v18632 : Index := Scalar.indexCast v18631
  let c0_7831 : Index := 0#32
  let c0_7832 : Index := 0#32
  ![v18632.toNat, 0, 0]

def k0_chk399 (v18581 : BitVec 32) : Prop :=
  (∀ a, (k0_off1167 v18581) a + S1x8x128.size a ≤ S1120x8x128.size a) ∧
  (∀ (r : Fin 6), ∀ a, (k0_off1169 v18581 (BitVec.ofNat 32 (460 + 5 * r.val))) a + S1x8x128.size a ≤ S1120x8x128.size a)
theorem k0_off1167_inb : ∀ (v18581 : BitVec 32) (k0_hw399 : k0_chk399 v18581), ∀ a, (k0_off1167 v18581) a + S1x8x128.size a ≤ S1120x8x128.size a := fun v18581 k0_hw399 => k0_hw399.1
theorem k0_off1169_inb : ∀ (v18581 : BitVec 32) (k0_hw399 : k0_chk399 v18581), ∀ (r : Fin 6), ∀ a, (k0_off1169 v18581 (BitVec.ofNat 32 (460 + 5 * r.val))) a + S1x8x128.size a ≤ S1120x8x128.size a := fun v18581 k0_hw399 r => k0_hw399.2 r

def k0_off1170 (i : grid0.Coords) : Fin 3 → Nat :=
  let arg0 : BitVec 32 := BitVec.ofNat 32 (i 0).val
  let v18739 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18740 : Index := Scalar.indexCast v17919
  let c26_7884 : Index := 26#32
  ![v18739.toNat, v18740.toNat, 26]
def k0_off1171 (i : grid0.Coords) : Fin 3 → Nat :=
  let arg0 : BitVec 32 := BitVec.ofNat 32 (i 0).val
  let v18742 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18743 : Index := Scalar.indexCast v17919
  let c33_7885 : Index := 33#32
  ![v18742.toNat, v18743.toNat, 33]
def k0_off1172 (i : grid0.Coords) : Fin 3 → Nat :=
  let arg0 : BitVec 32 := BitVec.ofNat 32 (i 0).val
  let v18745 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18746 : Index := Scalar.indexCast v17919
  let c40_7886 : Index := 40#32
  ![v18745.toNat, v18746.toNat, 40]
def k0_off1173 (i : grid0.Coords) : Fin 3 → Nat :=
  let arg0 : BitVec 32 := BitVec.ofNat 32 (i 0).val
  let v18748 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18749 : Index := Scalar.indexCast v17919
  let c47_7887 : Index := 47#32
  ![v18748.toNat, v18749.toNat, 47]
def k0_off1174 (v18741 : BitVec 32) : Fin 3 → Nat :=
  let c455_i32_7892 : BitVec 32 := 455#32
  let v18773 : BitVec 32 := Scalar.addi c455_i32_7892 v18741
  let v18774 : Index := Scalar.indexCast v18773
  let c0_7893 : Index := 0#32
  let c0_7894 : Index := 0#32
  ![v18774.toNat, 0, 0]

def k0_off1175 (v18744 : BitVec 32) (c455_i32_7896 : BitVec 32) : Fin 3 → Nat :=
  let v18781 : BitVec 32 := Scalar.addi c455_i32_7896 v18744
  let v18782 : Index := Scalar.indexCast v18781
  let c0_7897 : Index := 0#32
  let c0_7898 : Index := 0#32
  ![v18782.toNat, 0, 0]

def k0_chk402 (v18744 : BitVec 32) : Prop :=
  (∀ (r : Fin 7), ∀ a, (k0_off1175 v18744 (BitVec.ofNat 32 (455 + 5 * r.val))) a + S1x8x128.size a ≤ S1120x8x128.size a)
theorem k0_off1175_inb : ∀ (v18744 : BitVec 32) (k0_hw402 : k0_chk402 v18744), ∀ (r : Fin 7), ∀ a, (k0_off1175 v18744 (BitVec.ofNat 32 (455 + 5 * r.val))) a + S1x8x128.size a ≤ S1120x8x128.size a := fun v18744 k0_hw402 r => k0_hw402 r

def k0_off1176 (v18741 : BitVec 32) (c460_i32_7901 : BitVec 32) : Fin 3 → Nat :=
  let v18791 : BitVec 32 := Scalar.addi c460_i32_7901 v18741
  let v18792 : Index := Scalar.indexCast v18791
  let c0_7902 : Index := 0#32
  let c0_7903 : Index := 0#32
  ![v18792.toNat, 0, 0]

def k0_chk401 (v18741 : BitVec 32) : Prop :=
  (∀ a, (k0_off1174 v18741) a + S1x8x128.size a ≤ S1120x8x128.size a) ∧
  (∀ (r : Fin 6), ∀ a, (k0_off1176 v18741 (BitVec.ofNat 32 (460 + 5 * r.val))) a + S1x8x128.size a ≤ S1120x8x128.size a)
theorem k0_off1174_inb : ∀ (v18741 : BitVec 32) (k0_hw401 : k0_chk401 v18741), ∀ a, (k0_off1174 v18741) a + S1x8x128.size a ≤ S1120x8x128.size a := fun v18741 k0_hw401 => k0_hw401.1
theorem k0_off1176_inb : ∀ (v18741 : BitVec 32) (k0_hw401 : k0_chk401 v18741), ∀ (r : Fin 6), ∀ a, (k0_off1176 v18741 (BitVec.ofNat 32 (460 + 5 * r.val))) a + S1x8x128.size a ≤ S1120x8x128.size a := fun v18741 k0_hw401 r => k0_hw401.2 r

def k0_off1177 (i : grid0.Coords) : Fin 3 → Nat :=
  let arg0 : BitVec 32 := BitVec.ofNat 32 (i 0).val
  let v18899 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18900 : Index := Scalar.indexCast v17919
  let c27_7955 : Index := 27#32
  ![v18899.toNat, v18900.toNat, 27]
def k0_off1178 (i : grid0.Coords) : Fin 3 → Nat :=
  let arg0 : BitVec 32 := BitVec.ofNat 32 (i 0).val
  let v18902 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18903 : Index := Scalar.indexCast v17919
  let c34_7956 : Index := 34#32
  ![v18902.toNat, v18903.toNat, 34]
def k0_off1179 (i : grid0.Coords) : Fin 3 → Nat :=
  let arg0 : BitVec 32 := BitVec.ofNat 32 (i 0).val
  let v18905 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18906 : Index := Scalar.indexCast v17919
  let c41_7957 : Index := 41#32
  ![v18905.toNat, v18906.toNat, 41]
def k0_off1180 (i : grid0.Coords) : Fin 3 → Nat :=
  let arg0 : BitVec 32 := BitVec.ofNat 32 (i 0).val
  let v18908 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v18909 : Index := Scalar.indexCast v17919
  let c48_7958 : Index := 48#32
  ![v18908.toNat, v18909.toNat, 48]
def k0_off1181 (v18901 : BitVec 32) : Fin 3 → Nat :=
  let c455_i32_7963 : BitVec 32 := 455#32
  let v18933 : BitVec 32 := Scalar.addi c455_i32_7963 v18901
  let v18934 : Index := Scalar.indexCast v18933
  let c0_7964 : Index := 0#32
  let c0_7965 : Index := 0#32
  ![v18934.toNat, 0, 0]

def k0_off1182 (v18904 : BitVec 32) (c455_i32_7967 : BitVec 32) : Fin 3 → Nat :=
  let v18941 : BitVec 32 := Scalar.addi c455_i32_7967 v18904
  let v18942 : Index := Scalar.indexCast v18941
  let c0_7968 : Index := 0#32
  let c0_7969 : Index := 0#32
  ![v18942.toNat, 0, 0]

def k0_chk404 (v18904 : BitVec 32) : Prop :=
  (∀ (r : Fin 7), ∀ a, (k0_off1182 v18904 (BitVec.ofNat 32 (455 + 5 * r.val))) a + S1x8x128.size a ≤ S1120x8x128.size a)
theorem k0_off1182_inb : ∀ (v18904 : BitVec 32) (k0_hw404 : k0_chk404 v18904), ∀ (r : Fin 7), ∀ a, (k0_off1182 v18904 (BitVec.ofNat 32 (455 + 5 * r.val))) a + S1x8x128.size a ≤ S1120x8x128.size a := fun v18904 k0_hw404 r => k0_hw404 r

def k0_off1183 (v18901 : BitVec 32) (c460_i32_7972 : BitVec 32) : Fin 3 → Nat :=
  let v18951 : BitVec 32 := Scalar.addi c460_i32_7972 v18901
  let v18952 : Index := Scalar.indexCast v18951
  let c0_7973 : Index := 0#32
  let c0_7974 : Index := 0#32
  ![v18952.toNat, 0, 0]

def k0_chk403 (v18901 : BitVec 32) : Prop :=
  (∀ a, (k0_off1181 v18901) a + S1x8x128.size a ≤ S1120x8x128.size a) ∧
  (∀ (r : Fin 6), ∀ a, (k0_off1183 v18901 (BitVec.ofNat 32 (460 + 5 * r.val))) a + S1x8x128.size a ≤ S1120x8x128.size a)
theorem k0_off1181_inb : ∀ (v18901 : BitVec 32) (k0_hw403 : k0_chk403 v18901), ∀ a, (k0_off1181 v18901) a + S1x8x128.size a ≤ S1120x8x128.size a := fun v18901 k0_hw403 => k0_hw403.1
theorem k0_off1183_inb : ∀ (v18901 : BitVec 32) (k0_hw403 : k0_chk403 v18901), ∀ (r : Fin 6), ∀ a, (k0_off1183 v18901 (BitVec.ofNat 32 (460 + 5 * r.val))) a + S1x8x128.size a ≤ S1120x8x128.size a := fun v18901 k0_hw403 r => k0_hw403.2 r

def k0_off1184 (i : grid0.Coords) : Fin 3 → Nat :=
  let arg0 : BitVec 32 := BitVec.ofNat 32 (i 0).val
  let v19059 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v19060 : Index := Scalar.indexCast v17919
  let c28_8026 : Index := 28#32
  ![v19059.toNat, v19060.toNat, 28]
def k0_off1185 (i : grid0.Coords) : Fin 3 → Nat :=
  let arg0 : BitVec 32 := BitVec.ofNat 32 (i 0).val
  let v19062 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v19063 : Index := Scalar.indexCast v17919
  let c35_8027 : Index := 35#32
  ![v19062.toNat, v19063.toNat, 35]
def k0_off1186 (i : grid0.Coords) : Fin 3 → Nat :=
  let arg0 : BitVec 32 := BitVec.ofNat 32 (i 0).val
  let v19065 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v19066 : Index := Scalar.indexCast v17919
  let c42_8028 : Index := 42#32
  ![v19065.toNat, v19066.toNat, 42]
def k0_off1187 (i : grid0.Coords) : Fin 3 → Nat :=
  let arg0 : BitVec 32 := BitVec.ofNat 32 (i 0).val
  let v19068 : Index := Scalar.indexCast arg0
  let arg1 : BitVec 32 := BitVec.ofNat 32 (i 1).val
  let c32_i32_7542 : BitVec 32 := 32#32
  let v17918 : BitVec 32 := Scalar.muli arg1 c32_i32_7542
  let c13_i32 : BitVec 32 := 13#32
  let v17919 : BitVec 32 := Scalar.addi v17918 c13_i32
  let v19069 : Index := Scalar.indexCast v17919
  let c49_8029 : Index := 49#32
  ![v19068.toNat, v19069.toNat, 49]
def k0_off1188 (v19061 : BitVec 32) : Fin 3 → Nat :=
  let c455_i32_8034 : BitVec 32 := 455#32
  let v19093 : BitVec 32 := Scalar.addi c455_i32_8034 v19061
  let v19094 : Index := Scalar.indexCast v19093
  let c0_8035 : Index := 0#32
  let c0_8036 : Index := 0#32
  ![v19094.toNat, 0, 0]

def k0_off1189 (v19064 : BitVec 32) (c455_i32_8038 : BitVec 32) : Fin 3 → Nat :=
  let v19101 : BitVec 32 := Scalar.addi c455_i32_8038 v19064
  let v19102 : Index := Scalar.indexCast v19101
  let c0_8039 : Index := 0#32
  let c0_8040 : Index := 0#32
  ![v19102.toNat, 0, 0]

def k0_chk406 (v19064 : BitVec 32) : Prop :=
  (∀ (r : Fin 7), ∀ a, (k0_off1189 v19064 (BitVec.ofNat 32 (455 + 5 * r.val))) a + S1x8x128.size a ≤ S1120x8x128.size a)
theorem k0_off1189_inb : ∀ (v19064 : BitVec 32) (k0_hw406 : k0_chk406 v19064), ∀ (r : Fin 7), ∀ a, (k0_off1189 v19064 (BitVec.ofNat 32 (455 + 5 * r.val))) a + S1x8x128.size a ≤ S1120x8x128.size a := fun v19064 k0_hw406 r => k0_hw406 r

def k0_off1190 (v19061 : BitVec 32) (c460_i32_8043 : BitVec 32) : Fin 3 → Nat :=
  let v19111 : BitVec 32 := Scalar.addi c460_i32_8043 v19061
  let v19112 : Index := Scalar.indexCast v19111
  let c0_8044 : Index := 0#32
  let c0_8045 : Index := 0#32
  ![v19112.toNat, 0, 0]

def k0_chk405 (v19061 : BitVec 32) : Prop :=
  (∀ a, (k0_off1188 v19061) a + S1x8x128.size a ≤ S1120x8x128.size a) ∧
  (∀ (r : Fin 6), ∀ a, (k0_off1190 v19061 (BitVec.ofNat 32 (460 + 5 * r.val))) a + S1x8x128.size a ≤ S1120x8x128.size a)
theorem k0_off1188_inb : ∀ (v19061 : BitVec 32) (k0_hw405 : k0_chk405 v19061), ∀ a, (k0_off1188 v19061) a + S1x8x128.size a ≤ S1120x8x128.size a := fun v19061 k0_hw405 => k0_hw405.1
theorem k0_off1190_inb : ∀ (v19061 : BitVec 32) (k0_hw405 : k0_chk405 v19061), ∀ (r : Fin 6), ∀ a, (k0_off1190 v19061 (BitVec.ofNat 32 (460 + 5 * r.val))) a + S1x8x128.size a ≤ S1120x8x128.size a := fun v19061 k0_hw405 r => k0_hw405.2 r

def k0_off1191 (i : grid0.Coords) : Fin 3 → Nat :=
  let arg0 : BitVec 32 := BitVec.ofNat 32 (i 0).val
  let v19298 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19299 : Index := Scalar.indexCast v19297
  let c0_8126 : Index := 0#32
  ![v19298.toNat, v19299.toNat, 0]
def k0_mult15 (v19300 : BitVec 32) : BitVec 32 :=
  v19300

def k0_chk407 (v19300 : BitVec 32) : Prop :=
  (8 ∣ (k0_mult15 v19300).toNat)
theorem k0_mult15_dvd : ∀ (v19300 : BitVec 32) (k0_hw407 : k0_chk407 v19300), 8 ∣ (k0_mult15 v19300).toNat := fun v19300 k0_hw407 => k0_hw407

def k0_off1192 (i : grid0.Coords) : Fin 3 → Nat :=
  let arg0 : BitVec 32 := BitVec.ofNat 32 (i 0).val
  let v19302 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19303 : Index := Scalar.indexCast v19297
  let c1_8127 : Index := 1#32
  ![v19302.toNat, v19303.toNat, 1]
def k0_off1193 (v19300 : BitVec 32) (v19304 : BitVec 32) : Fin 3 → Nat :=
  let v19305 : Index := Scalar.indexCast v19304
  let v19301 : BitVec 32 := v19300
  let v19306 : Index := Scalar.indexCast v19301
  let c0_8128 : Index := 0#32
  ![v19305.toNat, v19306.toNat, 0]

def k0_chk408 (v19300 : BitVec 32) (v19304 : BitVec 32) : Prop :=
  (∀ a, (k0_off1193 v19300 v19304) a + S1x40x128.size a ≤ S256x64x128.size a)
theorem k0_off1193_inb : ∀ (v19300 : BitVec 32) (v19304 : BitVec 32) (k0_hw408 : k0_chk408 v19300 v19304), ∀ a, (k0_off1193 v19300 v19304) a + S1x40x128.size a ≤ S256x64x128.size a := fun v19300 v19304 k0_hw408 => k0_hw408

def k0_off1194 (i : grid0.Coords) : Fin 3 → Nat :=
  let arg0 : BitVec 32 := BitVec.ofNat 32 (i 0).val
  let v19309 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19310 : Index := Scalar.indexCast v19297
  let c8_8129 : Index := 8#32
  ![v19309.toNat, v19310.toNat, 8]
def k0_off1195 (v19300 : BitVec 32) (v19311 : BitVec 32) : Fin 3 → Nat :=
  let v19312 : Index := Scalar.indexCast v19311
  let v19301 : BitVec 32 := v19300
  let v19313 : Index := Scalar.indexCast v19301
  let c0_8130 : Index := 0#32
  ![v19312.toNat, v19313.toNat, 0]

def k0_chk409 (v19300 : BitVec 32) (v19311 : BitVec 32) : Prop :=
  (∀ a, (k0_off1195 v19300 v19311) a + S1x40x128.size a ≤ S256x64x128.size a)
theorem k0_off1195_inb : ∀ (v19300 : BitVec 32) (v19311 : BitVec 32) (k0_hw409 : k0_chk409 v19300 v19311), ∀ a, (k0_off1195 v19300 v19311) a + S1x40x128.size a ≤ S256x64x128.size a := fun v19300 v19311 k0_hw409 => k0_hw409

def k0_off1196 (i : grid0.Coords) : Fin 3 → Nat :=
  let arg0 : BitVec 32 := BitVec.ofNat 32 (i 0).val
  let v19317 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19318 : Index := Scalar.indexCast v19297
  let c15_8131 : Index := 15#32
  ![v19317.toNat, v19318.toNat, 15]
def k0_off1197 (i : grid0.Coords) : Fin 3 → Nat :=
  let arg0 : BitVec 32 := BitVec.ofNat 32 (i 0).val
  let v19327 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19328 : Index := Scalar.indexCast v19297
  let c2_8136 : Index := 2#32
  ![v19327.toNat, v19328.toNat, 2]
def k0_off1198 (v19300 : BitVec 32) (v19329 : BitVec 32) : Fin 3 → Nat :=
  let v19330 : Index := Scalar.indexCast v19329
  let v19301 : BitVec 32 := v19300
  let v19331 : Index := Scalar.indexCast v19301
  let c0_8137 : Index := 0#32
  ![v19330.toNat, v19331.toNat, 0]

def k0_chk410 (v19300 : BitVec 32) (v19329 : BitVec 32) : Prop :=
  (∀ a, (k0_off1198 v19300 v19329) a + S1x40x128.size a ≤ S256x64x128.size a)
theorem k0_off1198_inb : ∀ (v19300 : BitVec 32) (v19329 : BitVec 32) (k0_hw410 : k0_chk410 v19300 v19329), ∀ a, (k0_off1198 v19300 v19329) a + S1x40x128.size a ≤ S256x64x128.size a := fun v19300 v19329 k0_hw410 => k0_hw410

def k0_off1199 (i : grid0.Coords) : Fin 3 → Nat :=
  let arg0 : BitVec 32 := BitVec.ofNat 32 (i 0).val
  let v19334 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19335 : Index := Scalar.indexCast v19297
  let c9_8138 : Index := 9#32
  ![v19334.toNat, v19335.toNat, 9]
def k0_off1200 (v19300 : BitVec 32) (v19336 : BitVec 32) : Fin 3 → Nat :=
  let v19337 : Index := Scalar.indexCast v19336
  let v19301 : BitVec 32 := v19300
  let v19338 : Index := Scalar.indexCast v19301
  let c0_8139 : Index := 0#32
  ![v19337.toNat, v19338.toNat, 0]

def k0_chk411 (v19300 : BitVec 32) (v19336 : BitVec 32) : Prop :=
  (∀ a, (k0_off1200 v19300 v19336) a + S1x40x128.size a ≤ S256x64x128.size a)
theorem k0_off1200_inb : ∀ (v19300 : BitVec 32) (v19336 : BitVec 32) (k0_hw411 : k0_chk411 v19300 v19336), ∀ a, (k0_off1200 v19300 v19336) a + S1x40x128.size a ≤ S256x64x128.size a := fun v19300 v19336 k0_hw411 => k0_hw411

def k0_off1201 (i : grid0.Coords) : Fin 3 → Nat :=
  let arg0 : BitVec 32 := BitVec.ofNat 32 (i 0).val
  let v19342 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19343 : Index := Scalar.indexCast v19297
  let c16_8140 : Index := 16#32
  ![v19342.toNat, v19343.toNat, 16]
def k0_off1202 (i : grid0.Coords) : Fin 3 → Nat :=
  let arg0 : BitVec 32 := BitVec.ofNat 32 (i 0).val
  let v19352 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19353 : Index := Scalar.indexCast v19297
  let c3_8145 : Index := 3#32
  ![v19352.toNat, v19353.toNat, 3]
def k0_off1203 (v19300 : BitVec 32) (v19354 : BitVec 32) : Fin 3 → Nat :=
  let v19355 : Index := Scalar.indexCast v19354
  let v19301 : BitVec 32 := v19300
  let v19356 : Index := Scalar.indexCast v19301
  let c0_8146 : Index := 0#32
  ![v19355.toNat, v19356.toNat, 0]

def k0_chk412 (v19300 : BitVec 32) (v19354 : BitVec 32) : Prop :=
  (∀ a, (k0_off1203 v19300 v19354) a + S1x40x128.size a ≤ S256x64x128.size a)
theorem k0_off1203_inb : ∀ (v19300 : BitVec 32) (v19354 : BitVec 32) (k0_hw412 : k0_chk412 v19300 v19354), ∀ a, (k0_off1203 v19300 v19354) a + S1x40x128.size a ≤ S256x64x128.size a := fun v19300 v19354 k0_hw412 => k0_hw412

def k0_off1204 (i : grid0.Coords) : Fin 3 → Nat :=
  let arg0 : BitVec 32 := BitVec.ofNat 32 (i 0).val
  let v19359 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19360 : Index := Scalar.indexCast v19297
  let c10_8147 : Index := 10#32
  ![v19359.toNat, v19360.toNat, 10]
def k0_off1205 (v19300 : BitVec 32) (v19361 : BitVec 32) : Fin 3 → Nat :=
  let v19362 : Index := Scalar.indexCast v19361
  let v19301 : BitVec 32 := v19300
  let v19363 : Index := Scalar.indexCast v19301
  let c0_8148 : Index := 0#32
  ![v19362.toNat, v19363.toNat, 0]

def k0_chk413 (v19300 : BitVec 32) (v19361 : BitVec 32) : Prop :=
  (∀ a, (k0_off1205 v19300 v19361) a + S1x40x128.size a ≤ S256x64x128.size a)
theorem k0_off1205_inb : ∀ (v19300 : BitVec 32) (v19361 : BitVec 32) (k0_hw413 : k0_chk413 v19300 v19361), ∀ a, (k0_off1205 v19300 v19361) a + S1x40x128.size a ≤ S256x64x128.size a := fun v19300 v19361 k0_hw413 => k0_hw413

def k0_off1206 (i : grid0.Coords) : Fin 3 → Nat :=
  let arg0 : BitVec 32 := BitVec.ofNat 32 (i 0).val
  let v19367 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19368 : Index := Scalar.indexCast v19297
  let c17_8149 : Index := 17#32
  ![v19367.toNat, v19368.toNat, 17]
def k0_off1207 (i : grid0.Coords) : Fin 3 → Nat :=
  let arg0 : BitVec 32 := BitVec.ofNat 32 (i 0).val
  let v19377 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19378 : Index := Scalar.indexCast v19297
  let c4_8154 : Index := 4#32
  ![v19377.toNat, v19378.toNat, 4]
def k0_off1208 (v19300 : BitVec 32) (v19379 : BitVec 32) : Fin 3 → Nat :=
  let v19380 : Index := Scalar.indexCast v19379
  let v19301 : BitVec 32 := v19300
  let v19381 : Index := Scalar.indexCast v19301
  let c0_8155 : Index := 0#32
  ![v19380.toNat, v19381.toNat, 0]

def k0_chk414 (v19300 : BitVec 32) (v19379 : BitVec 32) : Prop :=
  (∀ a, (k0_off1208 v19300 v19379) a + S1x40x128.size a ≤ S256x64x128.size a)
theorem k0_off1208_inb : ∀ (v19300 : BitVec 32) (v19379 : BitVec 32) (k0_hw414 : k0_chk414 v19300 v19379), ∀ a, (k0_off1208 v19300 v19379) a + S1x40x128.size a ≤ S256x64x128.size a := fun v19300 v19379 k0_hw414 => k0_hw414

def k0_off1209 (i : grid0.Coords) : Fin 3 → Nat :=
  let arg0 : BitVec 32 := BitVec.ofNat 32 (i 0).val
  let v19384 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19385 : Index := Scalar.indexCast v19297
  let c11_8156 : Index := 11#32
  ![v19384.toNat, v19385.toNat, 11]
def k0_off1210 (v19300 : BitVec 32) (v19386 : BitVec 32) : Fin 3 → Nat :=
  let v19387 : Index := Scalar.indexCast v19386
  let v19301 : BitVec 32 := v19300
  let v19388 : Index := Scalar.indexCast v19301
  let c0_8157 : Index := 0#32
  ![v19387.toNat, v19388.toNat, 0]

def k0_chk415 (v19300 : BitVec 32) (v19386 : BitVec 32) : Prop :=
  (∀ a, (k0_off1210 v19300 v19386) a + S1x40x128.size a ≤ S256x64x128.size a)
theorem k0_off1210_inb : ∀ (v19300 : BitVec 32) (v19386 : BitVec 32) (k0_hw415 : k0_chk415 v19300 v19386), ∀ a, (k0_off1210 v19300 v19386) a + S1x40x128.size a ≤ S256x64x128.size a := fun v19300 v19386 k0_hw415 => k0_hw415

def k0_off1211 (i : grid0.Coords) : Fin 3 → Nat :=
  let arg0 : BitVec 32 := BitVec.ofNat 32 (i 0).val
  let v19392 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19393 : Index := Scalar.indexCast v19297
  let c18_8158 : Index := 18#32
  ![v19392.toNat, v19393.toNat, 18]
def k0_off1212 (i : grid0.Coords) : Fin 3 → Nat :=
  let arg0 : BitVec 32 := BitVec.ofNat 32 (i 0).val
  let v19402 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19403 : Index := Scalar.indexCast v19297
  let c5_8163 : Index := 5#32
  ![v19402.toNat, v19403.toNat, 5]
def k0_off1213 (v19300 : BitVec 32) (v19404 : BitVec 32) : Fin 3 → Nat :=
  let v19405 : Index := Scalar.indexCast v19404
  let v19301 : BitVec 32 := v19300
  let v19406 : Index := Scalar.indexCast v19301
  let c0_8164 : Index := 0#32
  ![v19405.toNat, v19406.toNat, 0]

def k0_chk416 (v19300 : BitVec 32) (v19404 : BitVec 32) : Prop :=
  (∀ a, (k0_off1213 v19300 v19404) a + S1x40x128.size a ≤ S256x64x128.size a)
theorem k0_off1213_inb : ∀ (v19300 : BitVec 32) (v19404 : BitVec 32) (k0_hw416 : k0_chk416 v19300 v19404), ∀ a, (k0_off1213 v19300 v19404) a + S1x40x128.size a ≤ S256x64x128.size a := fun v19300 v19404 k0_hw416 => k0_hw416

def k0_off1214 (i : grid0.Coords) : Fin 3 → Nat :=
  let arg0 : BitVec 32 := BitVec.ofNat 32 (i 0).val
  let v19409 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19410 : Index := Scalar.indexCast v19297
  let c12_8165 : Index := 12#32
  ![v19409.toNat, v19410.toNat, 12]
def k0_off1215 (v19300 : BitVec 32) (v19411 : BitVec 32) : Fin 3 → Nat :=
  let v19412 : Index := Scalar.indexCast v19411
  let v19301 : BitVec 32 := v19300
  let v19413 : Index := Scalar.indexCast v19301
  let c0_8166 : Index := 0#32
  ![v19412.toNat, v19413.toNat, 0]

def k0_chk417 (v19300 : BitVec 32) (v19411 : BitVec 32) : Prop :=
  (∀ a, (k0_off1215 v19300 v19411) a + S1x40x128.size a ≤ S256x64x128.size a)
theorem k0_off1215_inb : ∀ (v19300 : BitVec 32) (v19411 : BitVec 32) (k0_hw417 : k0_chk417 v19300 v19411), ∀ a, (k0_off1215 v19300 v19411) a + S1x40x128.size a ≤ S256x64x128.size a := fun v19300 v19411 k0_hw417 => k0_hw417

def k0_off1216 (i : grid0.Coords) : Fin 3 → Nat :=
  let arg0 : BitVec 32 := BitVec.ofNat 32 (i 0).val
  let v19417 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19418 : Index := Scalar.indexCast v19297
  let c19_8167 : Index := 19#32
  ![v19417.toNat, v19418.toNat, 19]
def k0_off1217 (i : grid0.Coords) : Fin 3 → Nat :=
  let arg0 : BitVec 32 := BitVec.ofNat 32 (i 0).val
  let v19427 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19428 : Index := Scalar.indexCast v19297
  let c6_8172 : Index := 6#32
  ![v19427.toNat, v19428.toNat, 6]
def k0_off1218 (v19300 : BitVec 32) (v19429 : BitVec 32) : Fin 3 → Nat :=
  let v19430 : Index := Scalar.indexCast v19429
  let v19301 : BitVec 32 := v19300
  let v19431 : Index := Scalar.indexCast v19301
  let c0_8173 : Index := 0#32
  ![v19430.toNat, v19431.toNat, 0]

def k0_chk418 (v19300 : BitVec 32) (v19429 : BitVec 32) : Prop :=
  (∀ a, (k0_off1218 v19300 v19429) a + S1x40x128.size a ≤ S256x64x128.size a)
theorem k0_off1218_inb : ∀ (v19300 : BitVec 32) (v19429 : BitVec 32) (k0_hw418 : k0_chk418 v19300 v19429), ∀ a, (k0_off1218 v19300 v19429) a + S1x40x128.size a ≤ S256x64x128.size a := fun v19300 v19429 k0_hw418 => k0_hw418

def k0_off1219 (i : grid0.Coords) : Fin 3 → Nat :=
  let arg0 : BitVec 32 := BitVec.ofNat 32 (i 0).val
  let v19434 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19435 : Index := Scalar.indexCast v19297
  let c13_8174 : Index := 13#32
  ![v19434.toNat, v19435.toNat, 13]
def k0_off1220 (v19300 : BitVec 32) (v19436 : BitVec 32) : Fin 3 → Nat :=
  let v19437 : Index := Scalar.indexCast v19436
  let v19301 : BitVec 32 := v19300
  let v19438 : Index := Scalar.indexCast v19301
  let c0_8175 : Index := 0#32
  ![v19437.toNat, v19438.toNat, 0]

def k0_chk419 (v19300 : BitVec 32) (v19436 : BitVec 32) : Prop :=
  (∀ a, (k0_off1220 v19300 v19436) a + S1x40x128.size a ≤ S256x64x128.size a)
theorem k0_off1220_inb : ∀ (v19300 : BitVec 32) (v19436 : BitVec 32) (k0_hw419 : k0_chk419 v19300 v19436), ∀ a, (k0_off1220 v19300 v19436) a + S1x40x128.size a ≤ S256x64x128.size a := fun v19300 v19436 k0_hw419 => k0_hw419

def k0_off1221 (i : grid0.Coords) : Fin 3 → Nat :=
  let arg0 : BitVec 32 := BitVec.ofNat 32 (i 0).val
  let v19442 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19443 : Index := Scalar.indexCast v19297
  let c20_8176 : Index := 20#32
  ![v19442.toNat, v19443.toNat, 20]
def k0_off1222 (i : grid0.Coords) : Fin 3 → Nat :=
  let arg0 : BitVec 32 := BitVec.ofNat 32 (i 0).val
  let v19452 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19453 : Index := Scalar.indexCast v19297
  let c7_8181 : Index := 7#32
  ![v19452.toNat, v19453.toNat, 7]
def k0_off1223 (v19300 : BitVec 32) (v19454 : BitVec 32) : Fin 3 → Nat :=
  let v19455 : Index := Scalar.indexCast v19454
  let v19301 : BitVec 32 := v19300
  let v19456 : Index := Scalar.indexCast v19301
  let c0_8182 : Index := 0#32
  ![v19455.toNat, v19456.toNat, 0]

def k0_chk420 (v19300 : BitVec 32) (v19454 : BitVec 32) : Prop :=
  (∀ a, (k0_off1223 v19300 v19454) a + S1x40x128.size a ≤ S256x64x128.size a)
theorem k0_off1223_inb : ∀ (v19300 : BitVec 32) (v19454 : BitVec 32) (k0_hw420 : k0_chk420 v19300 v19454), ∀ a, (k0_off1223 v19300 v19454) a + S1x40x128.size a ≤ S256x64x128.size a := fun v19300 v19454 k0_hw420 => k0_hw420

def k0_off1224 (i : grid0.Coords) : Fin 3 → Nat :=
  let arg0 : BitVec 32 := BitVec.ofNat 32 (i 0).val
  let v19459 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19460 : Index := Scalar.indexCast v19297
  let c14_8183 : Index := 14#32
  ![v19459.toNat, v19460.toNat, 14]
def k0_off1225 (v19300 : BitVec 32) (v19461 : BitVec 32) : Fin 3 → Nat :=
  let v19462 : Index := Scalar.indexCast v19461
  let v19301 : BitVec 32 := v19300
  let v19463 : Index := Scalar.indexCast v19301
  let c0_8184 : Index := 0#32
  ![v19462.toNat, v19463.toNat, 0]

def k0_chk421 (v19300 : BitVec 32) (v19461 : BitVec 32) : Prop :=
  (∀ a, (k0_off1225 v19300 v19461) a + S1x40x128.size a ≤ S256x64x128.size a)
theorem k0_off1225_inb : ∀ (v19300 : BitVec 32) (v19461 : BitVec 32) (k0_hw421 : k0_chk421 v19300 v19461), ∀ a, (k0_off1225 v19300 v19461) a + S1x40x128.size a ≤ S256x64x128.size a := fun v19300 v19461 k0_hw421 => k0_hw421

def k0_off1226 (i : grid0.Coords) : Fin 3 → Nat :=
  let arg0 : BitVec 32 := BitVec.ofNat 32 (i 0).val
  let v19467 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19468 : Index := Scalar.indexCast v19297
  let c21_8185 : Index := 21#32
  ![v19467.toNat, v19468.toNat, 21]
def k0_off1227 (i : grid0.Coords) : Fin 3 → Nat :=
  let arg0 : BitVec 32 := BitVec.ofNat 32 (i 0).val
  let v19477 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19478 : Index := Scalar.indexCast v19297
  let c22_8190 : Index := 22#32
  ![v19477.toNat, v19478.toNat, 22]
def k0_off1228 (i : grid0.Coords) : Fin 3 → Nat :=
  let arg0 : BitVec 32 := BitVec.ofNat 32 (i 0).val
  let v19480 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19481 : Index := Scalar.indexCast v19297
  let c29_8191 : Index := 29#32
  ![v19480.toNat, v19481.toNat, 29]
def k0_off1229 (i : grid0.Coords) : Fin 3 → Nat :=
  let arg0 : BitVec 32 := BitVec.ofNat 32 (i 0).val
  let v19483 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19484 : Index := Scalar.indexCast v19297
  let c36_8192 : Index := 36#32
  ![v19483.toNat, v19484.toNat, 36]
def k0_off1230 (i : grid0.Coords) : Fin 3 → Nat :=
  let arg0 : BitVec 32 := BitVec.ofNat 32 (i 0).val
  let v19486 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19487 : Index := Scalar.indexCast v19297
  let c43_8193 : Index := 43#32
  ![v19486.toNat, v19487.toNat, 43]
def k0_off1231 (v19479 : BitVec 32) : Fin 3 → Nat :=
  let c490_i32 : BitVec 32 := 490#32
  let v19511 : BitVec 32 := Scalar.addi c490_i32 v19479
  let v19512 : Index := Scalar.indexCast v19511
  let c0_8198 : Index := 0#32
  let c0_8199 : Index := 0#32
  ![v19512.toNat, 0, 0]

def k0_off1232 (v19482 : BitVec 32) (c490_i32_8201 : BitVec 32) : Fin 3 → Nat :=
  let v19519 : BitVec 32 := Scalar.addi c490_i32_8201 v19482
  let v19520 : Index := Scalar.indexCast v19519
  let c0_8202 : Index := 0#32
  let c0_8203 : Index := 0#32
  ![v19520.toNat, 0, 0]

def k0_chk423 (v19482 : BitVec 32) : Prop :=
  (∀ (r : Fin 7), ∀ a, (k0_off1232 v19482 (BitVec.ofNat 32 (490 + 5 * r.val))) a + S1x8x128.size a ≤ S1120x8x128.size a)
theorem k0_off1232_inb : ∀ (v19482 : BitVec 32) (k0_hw423 : k0_chk423 v19482), ∀ (r : Fin 7), ∀ a, (k0_off1232 v19482 (BitVec.ofNat 32 (490 + 5 * r.val))) a + S1x8x128.size a ≤ S1120x8x128.size a := fun v19482 k0_hw423 r => k0_hw423 r

def k0_off1233 (v19479 : BitVec 32) (c495_i32 : BitVec 32) : Fin 3 → Nat :=
  let v19529 : BitVec 32 := Scalar.addi c495_i32 v19479
  let v19530 : Index := Scalar.indexCast v19529
  let c0_8206 : Index := 0#32
  let c0_8207 : Index := 0#32
  ![v19530.toNat, 0, 0]

def k0_chk422 (v19479 : BitVec 32) : Prop :=
  (∀ a, (k0_off1231 v19479) a + S1x8x128.size a ≤ S1120x8x128.size a) ∧
  (∀ (r : Fin 6), ∀ a, (k0_off1233 v19479 (BitVec.ofNat 32 (495 + 5 * r.val))) a + S1x8x128.size a ≤ S1120x8x128.size a)
theorem k0_off1231_inb : ∀ (v19479 : BitVec 32) (k0_hw422 : k0_chk422 v19479), ∀ a, (k0_off1231 v19479) a + S1x8x128.size a ≤ S1120x8x128.size a := fun v19479 k0_hw422 => k0_hw422.1
theorem k0_off1233_inb : ∀ (v19479 : BitVec 32) (k0_hw422 : k0_chk422 v19479), ∀ (r : Fin 6), ∀ a, (k0_off1233 v19479 (BitVec.ofNat 32 (495 + 5 * r.val))) a + S1x8x128.size a ≤ S1120x8x128.size a := fun v19479 k0_hw422 r => k0_hw422.2 r

def k0_off1234 (i : grid0.Coords) : Fin 3 → Nat :=
  let arg0 : BitVec 32 := BitVec.ofNat 32 (i 0).val
  let v19637 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19638 : Index := Scalar.indexCast v19297
  let c23_8254 : Index := 23#32
  ![v19637.toNat, v19638.toNat, 23]
def k0_off1235 (i : grid0.Coords) : Fin 3 → Nat :=
  let arg0 : BitVec 32 := BitVec.ofNat 32 (i 0).val
  let v19640 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19641 : Index := Scalar.indexCast v19297
  let c30_8255 : Index := 30#32
  ![v19640.toNat, v19641.toNat, 30]
def k0_off1236 (i : grid0.Coords) : Fin 3 → Nat :=
  let arg0 : BitVec 32 := BitVec.ofNat 32 (i 0).val
  let v19643 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19644 : Index := Scalar.indexCast v19297
  let c37_8256 : Index := 37#32
  ![v19643.toNat, v19644.toNat, 37]
def k0_off1237 (i : grid0.Coords) : Fin 3 → Nat :=
  let arg0 : BitVec 32 := BitVec.ofNat 32 (i 0).val
  let v19646 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19647 : Index := Scalar.indexCast v19297
  let c44_8257 : Index := 44#32
  ![v19646.toNat, v19647.toNat, 44]
def k0_off1238 (v19639 : BitVec 32) : Fin 3 → Nat :=
  let c490_i32_8262 : BitVec 32 := 490#32
  let v19671 : BitVec 32 := Scalar.addi c490_i32_8262 v19639
  let v19672 : Index := Scalar.indexCast v19671
  let c0_8263 : Index := 0#32
  let c0_8264 : Index := 0#32
  ![v19672.toNat, 0, 0]

def k0_off1239 (v19642 : BitVec 32) (c490_i32_8266 : BitVec 32) : Fin 3 → Nat :=
  let v19679 : BitVec 32 := Scalar.addi c490_i32_8266 v19642
  let v19680 : Index := Scalar.indexCast v19679
  let c0_8267 : Index := 0#32
  let c0_8268 : Index := 0#32
  ![v19680.toNat, 0, 0]

def k0_chk425 (v19642 : BitVec 32) : Prop :=
  (∀ (r : Fin 7), ∀ a, (k0_off1239 v19642 (BitVec.ofNat 32 (490 + 5 * r.val))) a + S1x8x128.size a ≤ S1120x8x128.size a)
theorem k0_off1239_inb : ∀ (v19642 : BitVec 32) (k0_hw425 : k0_chk425 v19642), ∀ (r : Fin 7), ∀ a, (k0_off1239 v19642 (BitVec.ofNat 32 (490 + 5 * r.val))) a + S1x8x128.size a ≤ S1120x8x128.size a := fun v19642 k0_hw425 r => k0_hw425 r

def k0_off1240 (v19639 : BitVec 32) (c495_i32_8271 : BitVec 32) : Fin 3 → Nat :=
  let v19689 : BitVec 32 := Scalar.addi c495_i32_8271 v19639
  let v19690 : Index := Scalar.indexCast v19689
  let c0_8272 : Index := 0#32
  let c0_8273 : Index := 0#32
  ![v19690.toNat, 0, 0]

def k0_chk424 (v19639 : BitVec 32) : Prop :=
  (∀ a, (k0_off1238 v19639) a + S1x8x128.size a ≤ S1120x8x128.size a) ∧
  (∀ (r : Fin 6), ∀ a, (k0_off1240 v19639 (BitVec.ofNat 32 (495 + 5 * r.val))) a + S1x8x128.size a ≤ S1120x8x128.size a)
theorem k0_off1238_inb : ∀ (v19639 : BitVec 32) (k0_hw424 : k0_chk424 v19639), ∀ a, (k0_off1238 v19639) a + S1x8x128.size a ≤ S1120x8x128.size a := fun v19639 k0_hw424 => k0_hw424.1
theorem k0_off1240_inb : ∀ (v19639 : BitVec 32) (k0_hw424 : k0_chk424 v19639), ∀ (r : Fin 6), ∀ a, (k0_off1240 v19639 (BitVec.ofNat 32 (495 + 5 * r.val))) a + S1x8x128.size a ≤ S1120x8x128.size a := fun v19639 k0_hw424 r => k0_hw424.2 r

def k0_off1241 (i : grid0.Coords) : Fin 3 → Nat :=
  let arg0 : BitVec 32 := BitVec.ofNat 32 (i 0).val
  let v19797 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19798 : Index := Scalar.indexCast v19297
  let c24_8325 : Index := 24#32
  ![v19797.toNat, v19798.toNat, 24]
def k0_off1242 (i : grid0.Coords) : Fin 3 → Nat :=
  let arg0 : BitVec 32 := BitVec.ofNat 32 (i 0).val
  let v19800 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19801 : Index := Scalar.indexCast v19297
  let c31_8326 : Index := 31#32
  ![v19800.toNat, v19801.toNat, 31]
def k0_off1243 (i : grid0.Coords) : Fin 3 → Nat :=
  let arg0 : BitVec 32 := BitVec.ofNat 32 (i 0).val
  let v19803 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19804 : Index := Scalar.indexCast v19297
  let c38_8327 : Index := 38#32
  ![v19803.toNat, v19804.toNat, 38]
def k0_off1244 (i : grid0.Coords) : Fin 3 → Nat :=
  let arg0 : BitVec 32 := BitVec.ofNat 32 (i 0).val
  let v19806 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19807 : Index := Scalar.indexCast v19297
  let c45_8328 : Index := 45#32
  ![v19806.toNat, v19807.toNat, 45]
def k0_off1245 (v19799 : BitVec 32) : Fin 3 → Nat :=
  let c490_i32_8333 : BitVec 32 := 490#32
  let v19831 : BitVec 32 := Scalar.addi c490_i32_8333 v19799
  let v19832 : Index := Scalar.indexCast v19831
  let c0_8334 : Index := 0#32
  let c0_8335 : Index := 0#32
  ![v19832.toNat, 0, 0]

def k0_off1246 (v19802 : BitVec 32) (c490_i32_8337 : BitVec 32) : Fin 3 → Nat :=
  let v19839 : BitVec 32 := Scalar.addi c490_i32_8337 v19802
  let v19840 : Index := Scalar.indexCast v19839
  let c0_8338 : Index := 0#32
  let c0_8339 : Index := 0#32
  ![v19840.toNat, 0, 0]

def k0_chk427 (v19802 : BitVec 32) : Prop :=
  (∀ (r : Fin 7), ∀ a, (k0_off1246 v19802 (BitVec.ofNat 32 (490 + 5 * r.val))) a + S1x8x128.size a ≤ S1120x8x128.size a)
theorem k0_off1246_inb : ∀ (v19802 : BitVec 32) (k0_hw427 : k0_chk427 v19802), ∀ (r : Fin 7), ∀ a, (k0_off1246 v19802 (BitVec.ofNat 32 (490 + 5 * r.val))) a + S1x8x128.size a ≤ S1120x8x128.size a := fun v19802 k0_hw427 r => k0_hw427 r

def k0_off1247 (v19799 : BitVec 32) (c495_i32_8342 : BitVec 32) : Fin 3 → Nat :=
  let v19849 : BitVec 32 := Scalar.addi c495_i32_8342 v19799
  let v19850 : Index := Scalar.indexCast v19849
  let c0_8343 : Index := 0#32
  let c0_8344 : Index := 0#32
  ![v19850.toNat, 0, 0]

def k0_chk426 (v19799 : BitVec 32) : Prop :=
  (∀ a, (k0_off1245 v19799) a + S1x8x128.size a ≤ S1120x8x128.size a) ∧
  (∀ (r : Fin 6), ∀ a, (k0_off1247 v19799 (BitVec.ofNat 32 (495 + 5 * r.val))) a + S1x8x128.size a ≤ S1120x8x128.size a)
theorem k0_off1245_inb : ∀ (v19799 : BitVec 32) (k0_hw426 : k0_chk426 v19799), ∀ a, (k0_off1245 v19799) a + S1x8x128.size a ≤ S1120x8x128.size a := fun v19799 k0_hw426 => k0_hw426.1
theorem k0_off1247_inb : ∀ (v19799 : BitVec 32) (k0_hw426 : k0_chk426 v19799), ∀ (r : Fin 6), ∀ a, (k0_off1247 v19799 (BitVec.ofNat 32 (495 + 5 * r.val))) a + S1x8x128.size a ≤ S1120x8x128.size a := fun v19799 k0_hw426 r => k0_hw426.2 r

def k0_off1248 (i : grid0.Coords) : Fin 3 → Nat :=
  let arg0 : BitVec 32 := BitVec.ofNat 32 (i 0).val
  let v19957 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19958 : Index := Scalar.indexCast v19297
  let c25_8396 : Index := 25#32
  ![v19957.toNat, v19958.toNat, 25]
def k0_off1249 (i : grid0.Coords) : Fin 3 → Nat :=
  let arg0 : BitVec 32 := BitVec.ofNat 32 (i 0).val
  let v19960 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19961 : Index := Scalar.indexCast v19297
  let c32_8397 : Index := 32#32
  ![v19960.toNat, v19961.toNat, 32]
def k0_off1250 (i : grid0.Coords) : Fin 3 → Nat :=
  let arg0 : BitVec 32 := BitVec.ofNat 32 (i 0).val
  let v19963 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19964 : Index := Scalar.indexCast v19297
  let c39_8398 : Index := 39#32
  ![v19963.toNat, v19964.toNat, 39]
def k0_off1251 (i : grid0.Coords) : Fin 3 → Nat :=
  let arg0 : BitVec 32 := BitVec.ofNat 32 (i 0).val
  let v19966 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v19967 : Index := Scalar.indexCast v19297
  let c46_8399 : Index := 46#32
  ![v19966.toNat, v19967.toNat, 46]
def k0_off1252 (v19959 : BitVec 32) : Fin 3 → Nat :=
  let c490_i32_8404 : BitVec 32 := 490#32
  let v19991 : BitVec 32 := Scalar.addi c490_i32_8404 v19959
  let v19992 : Index := Scalar.indexCast v19991
  let c0_8405 : Index := 0#32
  let c0_8406 : Index := 0#32
  ![v19992.toNat, 0, 0]

def k0_off1253 (v19962 : BitVec 32) (c490_i32_8408 : BitVec 32) : Fin 3 → Nat :=
  let v19999 : BitVec 32 := Scalar.addi c490_i32_8408 v19962
  let v20000 : Index := Scalar.indexCast v19999
  let c0_8409 : Index := 0#32
  let c0_8410 : Index := 0#32
  ![v20000.toNat, 0, 0]

def k0_chk429 (v19962 : BitVec 32) : Prop :=
  (∀ (r : Fin 7), ∀ a, (k0_off1253 v19962 (BitVec.ofNat 32 (490 + 5 * r.val))) a + S1x8x128.size a ≤ S1120x8x128.size a)
theorem k0_off1253_inb : ∀ (v19962 : BitVec 32) (k0_hw429 : k0_chk429 v19962), ∀ (r : Fin 7), ∀ a, (k0_off1253 v19962 (BitVec.ofNat 32 (490 + 5 * r.val))) a + S1x8x128.size a ≤ S1120x8x128.size a := fun v19962 k0_hw429 r => k0_hw429 r

def k0_off1254 (v19959 : BitVec 32) (c495_i32_8413 : BitVec 32) : Fin 3 → Nat :=
  let v20009 : BitVec 32 := Scalar.addi c495_i32_8413 v19959
  let v20010 : Index := Scalar.indexCast v20009
  let c0_8414 : Index := 0#32
  let c0_8415 : Index := 0#32
  ![v20010.toNat, 0, 0]

def k0_chk428 (v19959 : BitVec 32) : Prop :=
  (∀ a, (k0_off1252 v19959) a + S1x8x128.size a ≤ S1120x8x128.size a) ∧
  (∀ (r : Fin 6), ∀ a, (k0_off1254 v19959 (BitVec.ofNat 32 (495 + 5 * r.val))) a + S1x8x128.size a ≤ S1120x8x128.size a)
theorem k0_off1252_inb : ∀ (v19959 : BitVec 32) (k0_hw428 : k0_chk428 v19959), ∀ a, (k0_off1252 v19959) a + S1x8x128.size a ≤ S1120x8x128.size a := fun v19959 k0_hw428 => k0_hw428.1
theorem k0_off1254_inb : ∀ (v19959 : BitVec 32) (k0_hw428 : k0_chk428 v19959), ∀ (r : Fin 6), ∀ a, (k0_off1254 v19959 (BitVec.ofNat 32 (495 + 5 * r.val))) a + S1x8x128.size a ≤ S1120x8x128.size a := fun v19959 k0_hw428 r => k0_hw428.2 r

def k0_off1255 (i : grid0.Coords) : Fin 3 → Nat :=
  let arg0 : BitVec 32 := BitVec.ofNat 32 (i 0).val
  let v20117 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20118 : Index := Scalar.indexCast v19297
  let c26_8467 : Index := 26#32
  ![v20117.toNat, v20118.toNat, 26]
def k0_off1256 (i : grid0.Coords) : Fin 3 → Nat :=
  let arg0 : BitVec 32 := BitVec.ofNat 32 (i 0).val
  let v20120 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20121 : Index := Scalar.indexCast v19297
  let c33_8468 : Index := 33#32
  ![v20120.toNat, v20121.toNat, 33]
def k0_off1257 (i : grid0.Coords) : Fin 3 → Nat :=
  let arg0 : BitVec 32 := BitVec.ofNat 32 (i 0).val
  let v20123 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20124 : Index := Scalar.indexCast v19297
  let c40_8469 : Index := 40#32
  ![v20123.toNat, v20124.toNat, 40]
def k0_off1258 (i : grid0.Coords) : Fin 3 → Nat :=
  let arg0 : BitVec 32 := BitVec.ofNat 32 (i 0).val
  let v20126 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20127 : Index := Scalar.indexCast v19297
  let c47_8470 : Index := 47#32
  ![v20126.toNat, v20127.toNat, 47]
def k0_off1259 (v20119 : BitVec 32) : Fin 3 → Nat :=
  let c490_i32_8475 : BitVec 32 := 490#32
  let v20151 : BitVec 32 := Scalar.addi c490_i32_8475 v20119
  let v20152 : Index := Scalar.indexCast v20151
  let c0_8476 : Index := 0#32
  let c0_8477 : Index := 0#32
  ![v20152.toNat, 0, 0]

def k0_off1260 (v20122 : BitVec 32) (c490_i32_8479 : BitVec 32) : Fin 3 → Nat :=
  let v20159 : BitVec 32 := Scalar.addi c490_i32_8479 v20122
  let v20160 : Index := Scalar.indexCast v20159
  let c0_8480 : Index := 0#32
  let c0_8481 : Index := 0#32
  ![v20160.toNat, 0, 0]

def k0_chk431 (v20122 : BitVec 32) : Prop :=
  (∀ (r : Fin 7), ∀ a, (k0_off1260 v20122 (BitVec.ofNat 32 (490 + 5 * r.val))) a + S1x8x128.size a ≤ S1120x8x128.size a)
theorem k0_off1260_inb : ∀ (v20122 : BitVec 32) (k0_hw431 : k0_chk431 v20122), ∀ (r : Fin 7), ∀ a, (k0_off1260 v20122 (BitVec.ofNat 32 (490 + 5 * r.val))) a + S1x8x128.size a ≤ S1120x8x128.size a := fun v20122 k0_hw431 r => k0_hw431 r

def k0_off1261 (v20119 : BitVec 32) (c495_i32_8484 : BitVec 32) : Fin 3 → Nat :=
  let v20169 : BitVec 32 := Scalar.addi c495_i32_8484 v20119
  let v20170 : Index := Scalar.indexCast v20169
  let c0_8485 : Index := 0#32
  let c0_8486 : Index := 0#32
  ![v20170.toNat, 0, 0]

def k0_chk430 (v20119 : BitVec 32) : Prop :=
  (∀ a, (k0_off1259 v20119) a + S1x8x128.size a ≤ S1120x8x128.size a) ∧
  (∀ (r : Fin 6), ∀ a, (k0_off1261 v20119 (BitVec.ofNat 32 (495 + 5 * r.val))) a + S1x8x128.size a ≤ S1120x8x128.size a)
theorem k0_off1259_inb : ∀ (v20119 : BitVec 32) (k0_hw430 : k0_chk430 v20119), ∀ a, (k0_off1259 v20119) a + S1x8x128.size a ≤ S1120x8x128.size a := fun v20119 k0_hw430 => k0_hw430.1
theorem k0_off1261_inb : ∀ (v20119 : BitVec 32) (k0_hw430 : k0_chk430 v20119), ∀ (r : Fin 6), ∀ a, (k0_off1261 v20119 (BitVec.ofNat 32 (495 + 5 * r.val))) a + S1x8x128.size a ≤ S1120x8x128.size a := fun v20119 k0_hw430 r => k0_hw430.2 r

def k0_off1262 (i : grid0.Coords) : Fin 3 → Nat :=
  let arg0 : BitVec 32 := BitVec.ofNat 32 (i 0).val
  let v20277 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20278 : Index := Scalar.indexCast v19297
  let c27_8538 : Index := 27#32
  ![v20277.toNat, v20278.toNat, 27]
def k0_off1263 (i : grid0.Coords) : Fin 3 → Nat :=
  let arg0 : BitVec 32 := BitVec.ofNat 32 (i 0).val
  let v20280 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20281 : Index := Scalar.indexCast v19297
  let c34_8539 : Index := 34#32
  ![v20280.toNat, v20281.toNat, 34]
def k0_off1264 (i : grid0.Coords) : Fin 3 → Nat :=
  let arg0 : BitVec 32 := BitVec.ofNat 32 (i 0).val
  let v20283 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20284 : Index := Scalar.indexCast v19297
  let c41_8540 : Index := 41#32
  ![v20283.toNat, v20284.toNat, 41]
def k0_off1265 (i : grid0.Coords) : Fin 3 → Nat :=
  let arg0 : BitVec 32 := BitVec.ofNat 32 (i 0).val
  let v20286 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20287 : Index := Scalar.indexCast v19297
  let c48_8541 : Index := 48#32
  ![v20286.toNat, v20287.toNat, 48]
def k0_off1266 (v20279 : BitVec 32) : Fin 3 → Nat :=
  let c490_i32_8546 : BitVec 32 := 490#32
  let v20311 : BitVec 32 := Scalar.addi c490_i32_8546 v20279
  let v20312 : Index := Scalar.indexCast v20311
  let c0_8547 : Index := 0#32
  let c0_8548 : Index := 0#32
  ![v20312.toNat, 0, 0]

def k0_off1267 (v20282 : BitVec 32) (c490_i32_8550 : BitVec 32) : Fin 3 → Nat :=
  let v20319 : BitVec 32 := Scalar.addi c490_i32_8550 v20282
  let v20320 : Index := Scalar.indexCast v20319
  let c0_8551 : Index := 0#32
  let c0_8552 : Index := 0#32
  ![v20320.toNat, 0, 0]

def k0_chk433 (v20282 : BitVec 32) : Prop :=
  (∀ (r : Fin 7), ∀ a, (k0_off1267 v20282 (BitVec.ofNat 32 (490 + 5 * r.val))) a + S1x8x128.size a ≤ S1120x8x128.size a)
theorem k0_off1267_inb : ∀ (v20282 : BitVec 32) (k0_hw433 : k0_chk433 v20282), ∀ (r : Fin 7), ∀ a, (k0_off1267 v20282 (BitVec.ofNat 32 (490 + 5 * r.val))) a + S1x8x128.size a ≤ S1120x8x128.size a := fun v20282 k0_hw433 r => k0_hw433 r

def k0_off1268 (v20279 : BitVec 32) (c495_i32_8555 : BitVec 32) : Fin 3 → Nat :=
  let v20329 : BitVec 32 := Scalar.addi c495_i32_8555 v20279
  let v20330 : Index := Scalar.indexCast v20329
  let c0_8556 : Index := 0#32
  let c0_8557 : Index := 0#32
  ![v20330.toNat, 0, 0]

def k0_chk432 (v20279 : BitVec 32) : Prop :=
  (∀ a, (k0_off1266 v20279) a + S1x8x128.size a ≤ S1120x8x128.size a) ∧
  (∀ (r : Fin 6), ∀ a, (k0_off1268 v20279 (BitVec.ofNat 32 (495 + 5 * r.val))) a + S1x8x128.size a ≤ S1120x8x128.size a)
theorem k0_off1266_inb : ∀ (v20279 : BitVec 32) (k0_hw432 : k0_chk432 v20279), ∀ a, (k0_off1266 v20279) a + S1x8x128.size a ≤ S1120x8x128.size a := fun v20279 k0_hw432 => k0_hw432.1
theorem k0_off1268_inb : ∀ (v20279 : BitVec 32) (k0_hw432 : k0_chk432 v20279), ∀ (r : Fin 6), ∀ a, (k0_off1268 v20279 (BitVec.ofNat 32 (495 + 5 * r.val))) a + S1x8x128.size a ≤ S1120x8x128.size a := fun v20279 k0_hw432 r => k0_hw432.2 r

def k0_off1269 (i : grid0.Coords) : Fin 3 → Nat :=
  let arg0 : BitVec 32 := BitVec.ofNat 32 (i 0).val
  let v20437 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20438 : Index := Scalar.indexCast v19297
  let c28_8609 : Index := 28#32
  ![v20437.toNat, v20438.toNat, 28]
def k0_off1270 (i : grid0.Coords) : Fin 3 → Nat :=
  let arg0 : BitVec 32 := BitVec.ofNat 32 (i 0).val
  let v20440 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20441 : Index := Scalar.indexCast v19297
  let c35_8610 : Index := 35#32
  ![v20440.toNat, v20441.toNat, 35]
def k0_off1271 (i : grid0.Coords) : Fin 3 → Nat :=
  let arg0 : BitVec 32 := BitVec.ofNat 32 (i 0).val
  let v20443 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20444 : Index := Scalar.indexCast v19297
  let c42_8611 : Index := 42#32
  ![v20443.toNat, v20444.toNat, 42]
def k0_off1272 (i : grid0.Coords) : Fin 3 → Nat :=
  let arg0 : BitVec 32 := BitVec.ofNat 32 (i 0).val
  let v20446 : Index := Scalar.indexCast arg0
  let arg1 : BitVec 32 := BitVec.ofNat 32 (i 1).val
  let c32_i32_8125 : BitVec 32 := 32#32
  let v19296 : BitVec 32 := Scalar.muli arg1 c32_i32_8125
  let c14_i32 : BitVec 32 := 14#32
  let v19297 : BitVec 32 := Scalar.addi v19296 c14_i32
  let v20447 : Index := Scalar.indexCast v19297
  let c49_8612 : Index := 49#32
  ![v20446.toNat, v20447.toNat, 49]
def k0_off1273 (v20439 : BitVec 32) : Fin 3 → Nat :=
  let c490_i32_8617 : BitVec 32 := 490#32
  let v20471 : BitVec 32 := Scalar.addi c490_i32_8617 v20439
  let v20472 : Index := Scalar.indexCast v20471
  let c0_8618 : Index := 0#32
  let c0_8619 : Index := 0#32
  ![v20472.toNat, 0, 0]

def k0_off1274 (v20442 : BitVec 32) (c490_i32_8621 : BitVec 32) : Fin 3 → Nat :=
  let v20479 : BitVec 32 := Scalar.addi c490_i32_8621 v20442
  let v20480 : Index := Scalar.indexCast v20479
  let c0_8622 : Index := 0#32
  let c0_8623 : Index := 0#32
  ![v20480.toNat, 0, 0]

def k0_chk435 (v20442 : BitVec 32) : Prop :=
  (∀ (r : Fin 7), ∀ a, (k0_off1274 v20442 (BitVec.ofNat 32 (490 + 5 * r.val))) a + S1x8x128.size a ≤ S1120x8x128.size a)
theorem k0_off1274_inb : ∀ (v20442 : BitVec 32) (k0_hw435 : k0_chk435 v20442), ∀ (r : Fin 7), ∀ a, (k0_off1274 v20442 (BitVec.ofNat 32 (490 + 5 * r.val))) a + S1x8x128.size a ≤ S1120x8x128.size a := fun v20442 k0_hw435 r => k0_hw435 r

def k0_off1275 (v20439 : BitVec 32) (c495_i32_8626 : BitVec 32) : Fin 3 → Nat :=
  let v20489 : BitVec 32 := Scalar.addi c495_i32_8626 v20439
  let v20490 : Index := Scalar.indexCast v20489
  let c0_8627 : Index := 0#32
  let c0_8628 : Index := 0#32
  ![v20490.toNat, 0, 0]

def k0_chk434 (v20439 : BitVec 32) : Prop :=
  (∀ a, (k0_off1273 v20439) a + S1x8x128.size a ≤ S1120x8x128.size a) ∧
  (∀ (r : Fin 6), ∀ a, (k0_off1275 v20439 (BitVec.ofNat 32 (495 + 5 * r.val))) a + S1x8x128.size a ≤ S1120x8x128.size a)
theorem k0_off1273_inb : ∀ (v20439 : BitVec 32) (k0_hw434 : k0_chk434 v20439), ∀ a, (k0_off1273 v20439) a + S1x8x128.size a ≤ S1120x8x128.size a := fun v20439 k0_hw434 => k0_hw434.1
theorem k0_off1275_inb : ∀ (v20439 : BitVec 32) (k0_hw434 : k0_chk434 v20439), ∀ (r : Fin 6), ∀ a, (k0_off1275 v20439 (BitVec.ofNat 32 (495 + 5 * r.val))) a + S1x8x128.size a ≤ S1120x8x128.size a := fun v20439 k0_hw434 r => k0_hw434.2 r

def k0_off1276 (i : grid0.Coords) : Fin 3 → Nat :=
  let arg0 : BitVec 32 := BitVec.ofNat 32 (i 0).val
  let v20676 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20677 : Index := Scalar.indexCast v20675
  let c0_8710 : Index := 0#32
  ![v20676.toNat, v20677.toNat, 0]
def k0_mult16 (v20678 : BitVec 32) : BitVec 32 :=
  v20678

def k0_chk436 (v20678 : BitVec 32) : Prop :=
  (8 ∣ (k0_mult16 v20678).toNat)
theorem k0_mult16_dvd : ∀ (v20678 : BitVec 32) (k0_hw436 : k0_chk436 v20678), 8 ∣ (k0_mult16 v20678).toNat := fun v20678 k0_hw436 => k0_hw436

def k0_off1277 (i : grid0.Coords) : Fin 3 → Nat :=
  let arg0 : BitVec 32 := BitVec.ofNat 32 (i 0).val
  let v20680 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20681 : Index := Scalar.indexCast v20675
  let c1_8711 : Index := 1#32
  ![v20680.toNat, v20681.toNat, 1]
def k0_off1278 (v20678 : BitVec 32) (v20682 : BitVec 32) : Fin 3 → Nat :=
  let v20683 : Index := Scalar.indexCast v20682
  let v20679 : BitVec 32 := v20678
  let v20684 : Index := Scalar.indexCast v20679
  let c0_8712 : Index := 0#32
  ![v20683.toNat, v20684.toNat, 0]

def k0_chk437 (v20678 : BitVec 32) (v20682 : BitVec 32) : Prop :=
  (∀ a, (k0_off1278 v20678 v20682) a + S1x40x128.size a ≤ S256x64x128.size a)
theorem k0_off1278_inb : ∀ (v20678 : BitVec 32) (v20682 : BitVec 32) (k0_hw437 : k0_chk437 v20678 v20682), ∀ a, (k0_off1278 v20678 v20682) a + S1x40x128.size a ≤ S256x64x128.size a := fun v20678 v20682 k0_hw437 => k0_hw437

def k0_off1279 (i : grid0.Coords) : Fin 3 → Nat :=
  let arg0 : BitVec 32 := BitVec.ofNat 32 (i 0).val
  let v20687 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20688 : Index := Scalar.indexCast v20675
  let c8_8713 : Index := 8#32
  ![v20687.toNat, v20688.toNat, 8]
def k0_off1280 (v20678 : BitVec 32) (v20689 : BitVec 32) : Fin 3 → Nat :=
  let v20690 : Index := Scalar.indexCast v20689
  let v20679 : BitVec 32 := v20678
  let v20691 : Index := Scalar.indexCast v20679
  let c0_8714 : Index := 0#32
  ![v20690.toNat, v20691.toNat, 0]

def k0_chk438 (v20678 : BitVec 32) (v20689 : BitVec 32) : Prop :=
  (∀ a, (k0_off1280 v20678 v20689) a + S1x40x128.size a ≤ S256x64x128.size a)
theorem k0_off1280_inb : ∀ (v20678 : BitVec 32) (v20689 : BitVec 32) (k0_hw438 : k0_chk438 v20678 v20689), ∀ a, (k0_off1280 v20678 v20689) a + S1x40x128.size a ≤ S256x64x128.size a := fun v20678 v20689 k0_hw438 => k0_hw438

def k0_off1281 (i : grid0.Coords) : Fin 3 → Nat :=
  let arg0 : BitVec 32 := BitVec.ofNat 32 (i 0).val
  let v20695 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20696 : Index := Scalar.indexCast v20675
  let c15_8715 : Index := 15#32
  ![v20695.toNat, v20696.toNat, 15]
def k0_off1282 (i : grid0.Coords) : Fin 3 → Nat :=
  let arg0 : BitVec 32 := BitVec.ofNat 32 (i 0).val
  let v20705 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20706 : Index := Scalar.indexCast v20675
  let c2_8720 : Index := 2#32
  ![v20705.toNat, v20706.toNat, 2]
def k0_off1283 (v20678 : BitVec 32) (v20707 : BitVec 32) : Fin 3 → Nat :=
  let v20708 : Index := Scalar.indexCast v20707
  let v20679 : BitVec 32 := v20678
  let v20709 : Index := Scalar.indexCast v20679
  let c0_8721 : Index := 0#32
  ![v20708.toNat, v20709.toNat, 0]

def k0_chk439 (v20678 : BitVec 32) (v20707 : BitVec 32) : Prop :=
  (∀ a, (k0_off1283 v20678 v20707) a + S1x40x128.size a ≤ S256x64x128.size a)
theorem k0_off1283_inb : ∀ (v20678 : BitVec 32) (v20707 : BitVec 32) (k0_hw439 : k0_chk439 v20678 v20707), ∀ a, (k0_off1283 v20678 v20707) a + S1x40x128.size a ≤ S256x64x128.size a := fun v20678 v20707 k0_hw439 => k0_hw439

def k0_off1284 (i : grid0.Coords) : Fin 3 → Nat :=
  let arg0 : BitVec 32 := BitVec.ofNat 32 (i 0).val
  let v20712 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20713 : Index := Scalar.indexCast v20675
  let c9_8722 : Index := 9#32
  ![v20712.toNat, v20713.toNat, 9]
def k0_off1285 (v20678 : BitVec 32) (v20714 : BitVec 32) : Fin 3 → Nat :=
  let v20715 : Index := Scalar.indexCast v20714
  let v20679 : BitVec 32 := v20678
  let v20716 : Index := Scalar.indexCast v20679
  let c0_8723 : Index := 0#32
  ![v20715.toNat, v20716.toNat, 0]

def k0_chk440 (v20678 : BitVec 32) (v20714 : BitVec 32) : Prop :=
  (∀ a, (k0_off1285 v20678 v20714) a + S1x40x128.size a ≤ S256x64x128.size a)
theorem k0_off1285_inb : ∀ (v20678 : BitVec 32) (v20714 : BitVec 32) (k0_hw440 : k0_chk440 v20678 v20714), ∀ a, (k0_off1285 v20678 v20714) a + S1x40x128.size a ≤ S256x64x128.size a := fun v20678 v20714 k0_hw440 => k0_hw440

def k0_off1286 (i : grid0.Coords) : Fin 3 → Nat :=
  let arg0 : BitVec 32 := BitVec.ofNat 32 (i 0).val
  let v20720 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20721 : Index := Scalar.indexCast v20675
  let c16_8724 : Index := 16#32
  ![v20720.toNat, v20721.toNat, 16]
def k0_off1287 (i : grid0.Coords) : Fin 3 → Nat :=
  let arg0 : BitVec 32 := BitVec.ofNat 32 (i 0).val
  let v20730 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20731 : Index := Scalar.indexCast v20675
  let c3_8729 : Index := 3#32
  ![v20730.toNat, v20731.toNat, 3]
def k0_off1288 (v20678 : BitVec 32) (v20732 : BitVec 32) : Fin 3 → Nat :=
  let v20733 : Index := Scalar.indexCast v20732
  let v20679 : BitVec 32 := v20678
  let v20734 : Index := Scalar.indexCast v20679
  let c0_8730 : Index := 0#32
  ![v20733.toNat, v20734.toNat, 0]

def k0_chk441 (v20678 : BitVec 32) (v20732 : BitVec 32) : Prop :=
  (∀ a, (k0_off1288 v20678 v20732) a + S1x40x128.size a ≤ S256x64x128.size a)
theorem k0_off1288_inb : ∀ (v20678 : BitVec 32) (v20732 : BitVec 32) (k0_hw441 : k0_chk441 v20678 v20732), ∀ a, (k0_off1288 v20678 v20732) a + S1x40x128.size a ≤ S256x64x128.size a := fun v20678 v20732 k0_hw441 => k0_hw441

def k0_off1289 (i : grid0.Coords) : Fin 3 → Nat :=
  let arg0 : BitVec 32 := BitVec.ofNat 32 (i 0).val
  let v20737 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20738 : Index := Scalar.indexCast v20675
  let c10_8731 : Index := 10#32
  ![v20737.toNat, v20738.toNat, 10]
def k0_off1290 (v20678 : BitVec 32) (v20739 : BitVec 32) : Fin 3 → Nat :=
  let v20740 : Index := Scalar.indexCast v20739
  let v20679 : BitVec 32 := v20678
  let v20741 : Index := Scalar.indexCast v20679
  let c0_8732 : Index := 0#32
  ![v20740.toNat, v20741.toNat, 0]

def k0_chk442 (v20678 : BitVec 32) (v20739 : BitVec 32) : Prop :=
  (∀ a, (k0_off1290 v20678 v20739) a + S1x40x128.size a ≤ S256x64x128.size a)
theorem k0_off1290_inb : ∀ (v20678 : BitVec 32) (v20739 : BitVec 32) (k0_hw442 : k0_chk442 v20678 v20739), ∀ a, (k0_off1290 v20678 v20739) a + S1x40x128.size a ≤ S256x64x128.size a := fun v20678 v20739 k0_hw442 => k0_hw442

def k0_off1291 (i : grid0.Coords) : Fin 3 → Nat :=
  let arg0 : BitVec 32 := BitVec.ofNat 32 (i 0).val
  let v20745 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20746 : Index := Scalar.indexCast v20675
  let c17_8733 : Index := 17#32
  ![v20745.toNat, v20746.toNat, 17]
def k0_off1292 (i : grid0.Coords) : Fin 3 → Nat :=
  let arg0 : BitVec 32 := BitVec.ofNat 32 (i 0).val
  let v20755 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20756 : Index := Scalar.indexCast v20675
  let c4_8738 : Index := 4#32
  ![v20755.toNat, v20756.toNat, 4]
def k0_off1293 (v20678 : BitVec 32) (v20757 : BitVec 32) : Fin 3 → Nat :=
  let v20758 : Index := Scalar.indexCast v20757
  let v20679 : BitVec 32 := v20678
  let v20759 : Index := Scalar.indexCast v20679
  let c0_8739 : Index := 0#32
  ![v20758.toNat, v20759.toNat, 0]

def k0_chk443 (v20678 : BitVec 32) (v20757 : BitVec 32) : Prop :=
  (∀ a, (k0_off1293 v20678 v20757) a + S1x40x128.size a ≤ S256x64x128.size a)
theorem k0_off1293_inb : ∀ (v20678 : BitVec 32) (v20757 : BitVec 32) (k0_hw443 : k0_chk443 v20678 v20757), ∀ a, (k0_off1293 v20678 v20757) a + S1x40x128.size a ≤ S256x64x128.size a := fun v20678 v20757 k0_hw443 => k0_hw443

def k0_off1294 (i : grid0.Coords) : Fin 3 → Nat :=
  let arg0 : BitVec 32 := BitVec.ofNat 32 (i 0).val
  let v20762 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20763 : Index := Scalar.indexCast v20675
  let c11_8740 : Index := 11#32
  ![v20762.toNat, v20763.toNat, 11]
def k0_off1295 (v20678 : BitVec 32) (v20764 : BitVec 32) : Fin 3 → Nat :=
  let v20765 : Index := Scalar.indexCast v20764
  let v20679 : BitVec 32 := v20678
  let v20766 : Index := Scalar.indexCast v20679
  let c0_8741 : Index := 0#32
  ![v20765.toNat, v20766.toNat, 0]

def k0_chk444 (v20678 : BitVec 32) (v20764 : BitVec 32) : Prop :=
  (∀ a, (k0_off1295 v20678 v20764) a + S1x40x128.size a ≤ S256x64x128.size a)
theorem k0_off1295_inb : ∀ (v20678 : BitVec 32) (v20764 : BitVec 32) (k0_hw444 : k0_chk444 v20678 v20764), ∀ a, (k0_off1295 v20678 v20764) a + S1x40x128.size a ≤ S256x64x128.size a := fun v20678 v20764 k0_hw444 => k0_hw444

def k0_off1296 (i : grid0.Coords) : Fin 3 → Nat :=
  let arg0 : BitVec 32 := BitVec.ofNat 32 (i 0).val
  let v20770 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20771 : Index := Scalar.indexCast v20675
  let c18_8742 : Index := 18#32
  ![v20770.toNat, v20771.toNat, 18]
def k0_off1297 (i : grid0.Coords) : Fin 3 → Nat :=
  let arg0 : BitVec 32 := BitVec.ofNat 32 (i 0).val
  let v20780 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20781 : Index := Scalar.indexCast v20675
  let c5_8747 : Index := 5#32
  ![v20780.toNat, v20781.toNat, 5]
def k0_off1298 (v20678 : BitVec 32) (v20782 : BitVec 32) : Fin 3 → Nat :=
  let v20783 : Index := Scalar.indexCast v20782
  let v20679 : BitVec 32 := v20678
  let v20784 : Index := Scalar.indexCast v20679
  let c0_8748 : Index := 0#32
  ![v20783.toNat, v20784.toNat, 0]

def k0_chk445 (v20678 : BitVec 32) (v20782 : BitVec 32) : Prop :=
  (∀ a, (k0_off1298 v20678 v20782) a + S1x40x128.size a ≤ S256x64x128.size a)
theorem k0_off1298_inb : ∀ (v20678 : BitVec 32) (v20782 : BitVec 32) (k0_hw445 : k0_chk445 v20678 v20782), ∀ a, (k0_off1298 v20678 v20782) a + S1x40x128.size a ≤ S256x64x128.size a := fun v20678 v20782 k0_hw445 => k0_hw445

def k0_off1299 (i : grid0.Coords) : Fin 3 → Nat :=
  let arg0 : BitVec 32 := BitVec.ofNat 32 (i 0).val
  let v20787 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20788 : Index := Scalar.indexCast v20675
  let c12_8749 : Index := 12#32
  ![v20787.toNat, v20788.toNat, 12]
def k0_off1300 (v20678 : BitVec 32) (v20789 : BitVec 32) : Fin 3 → Nat :=
  let v20790 : Index := Scalar.indexCast v20789
  let v20679 : BitVec 32 := v20678
  let v20791 : Index := Scalar.indexCast v20679
  let c0_8750 : Index := 0#32
  ![v20790.toNat, v20791.toNat, 0]

def k0_chk446 (v20678 : BitVec 32) (v20789 : BitVec 32) : Prop :=
  (∀ a, (k0_off1300 v20678 v20789) a + S1x40x128.size a ≤ S256x64x128.size a)
theorem k0_off1300_inb : ∀ (v20678 : BitVec 32) (v20789 : BitVec 32) (k0_hw446 : k0_chk446 v20678 v20789), ∀ a, (k0_off1300 v20678 v20789) a + S1x40x128.size a ≤ S256x64x128.size a := fun v20678 v20789 k0_hw446 => k0_hw446

def k0_off1301 (i : grid0.Coords) : Fin 3 → Nat :=
  let arg0 : BitVec 32 := BitVec.ofNat 32 (i 0).val
  let v20795 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20796 : Index := Scalar.indexCast v20675
  let c19_8751 : Index := 19#32
  ![v20795.toNat, v20796.toNat, 19]
def k0_off1302 (i : grid0.Coords) : Fin 3 → Nat :=
  let arg0 : BitVec 32 := BitVec.ofNat 32 (i 0).val
  let v20805 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20806 : Index := Scalar.indexCast v20675
  let c6_8756 : Index := 6#32
  ![v20805.toNat, v20806.toNat, 6]
def k0_off1303 (v20678 : BitVec 32) (v20807 : BitVec 32) : Fin 3 → Nat :=
  let v20808 : Index := Scalar.indexCast v20807
  let v20679 : BitVec 32 := v20678
  let v20809 : Index := Scalar.indexCast v20679
  let c0_8757 : Index := 0#32
  ![v20808.toNat, v20809.toNat, 0]

def k0_chk447 (v20678 : BitVec 32) (v20807 : BitVec 32) : Prop :=
  (∀ a, (k0_off1303 v20678 v20807) a + S1x40x128.size a ≤ S256x64x128.size a)
theorem k0_off1303_inb : ∀ (v20678 : BitVec 32) (v20807 : BitVec 32) (k0_hw447 : k0_chk447 v20678 v20807), ∀ a, (k0_off1303 v20678 v20807) a + S1x40x128.size a ≤ S256x64x128.size a := fun v20678 v20807 k0_hw447 => k0_hw447

def k0_off1304 (i : grid0.Coords) : Fin 3 → Nat :=
  let arg0 : BitVec 32 := BitVec.ofNat 32 (i 0).val
  let v20812 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20813 : Index := Scalar.indexCast v20675
  let c13_8758 : Index := 13#32
  ![v20812.toNat, v20813.toNat, 13]
def k0_off1305 (v20678 : BitVec 32) (v20814 : BitVec 32) : Fin 3 → Nat :=
  let v20815 : Index := Scalar.indexCast v20814
  let v20679 : BitVec 32 := v20678
  let v20816 : Index := Scalar.indexCast v20679
  let c0_8759 : Index := 0#32
  ![v20815.toNat, v20816.toNat, 0]

def k0_chk448 (v20678 : BitVec 32) (v20814 : BitVec 32) : Prop :=
  (∀ a, (k0_off1305 v20678 v20814) a + S1x40x128.size a ≤ S256x64x128.size a)
theorem k0_off1305_inb : ∀ (v20678 : BitVec 32) (v20814 : BitVec 32) (k0_hw448 : k0_chk448 v20678 v20814), ∀ a, (k0_off1305 v20678 v20814) a + S1x40x128.size a ≤ S256x64x128.size a := fun v20678 v20814 k0_hw448 => k0_hw448

def k0_off1306 (i : grid0.Coords) : Fin 3 → Nat :=
  let arg0 : BitVec 32 := BitVec.ofNat 32 (i 0).val
  let v20820 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20821 : Index := Scalar.indexCast v20675
  let c20_8760 : Index := 20#32
  ![v20820.toNat, v20821.toNat, 20]
def k0_off1307 (i : grid0.Coords) : Fin 3 → Nat :=
  let arg0 : BitVec 32 := BitVec.ofNat 32 (i 0).val
  let v20830 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20831 : Index := Scalar.indexCast v20675
  let c7_8765 : Index := 7#32
  ![v20830.toNat, v20831.toNat, 7]
def k0_off1308 (v20678 : BitVec 32) (v20832 : BitVec 32) : Fin 3 → Nat :=
  let v20833 : Index := Scalar.indexCast v20832
  let v20679 : BitVec 32 := v20678
  let v20834 : Index := Scalar.indexCast v20679
  let c0_8766 : Index := 0#32
  ![v20833.toNat, v20834.toNat, 0]

def k0_chk449 (v20678 : BitVec 32) (v20832 : BitVec 32) : Prop :=
  (∀ a, (k0_off1308 v20678 v20832) a + S1x40x128.size a ≤ S256x64x128.size a)
theorem k0_off1308_inb : ∀ (v20678 : BitVec 32) (v20832 : BitVec 32) (k0_hw449 : k0_chk449 v20678 v20832), ∀ a, (k0_off1308 v20678 v20832) a + S1x40x128.size a ≤ S256x64x128.size a := fun v20678 v20832 k0_hw449 => k0_hw449

def k0_off1309 (i : grid0.Coords) : Fin 3 → Nat :=
  let arg0 : BitVec 32 := BitVec.ofNat 32 (i 0).val
  let v20837 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20838 : Index := Scalar.indexCast v20675
  let c14_8767 : Index := 14#32
  ![v20837.toNat, v20838.toNat, 14]
def k0_off1310 (v20678 : BitVec 32) (v20839 : BitVec 32) : Fin 3 → Nat :=
  let v20840 : Index := Scalar.indexCast v20839
  let v20679 : BitVec 32 := v20678
  let v20841 : Index := Scalar.indexCast v20679
  let c0_8768 : Index := 0#32
  ![v20840.toNat, v20841.toNat, 0]

def k0_chk450 (v20678 : BitVec 32) (v20839 : BitVec 32) : Prop :=
  (∀ a, (k0_off1310 v20678 v20839) a + S1x40x128.size a ≤ S256x64x128.size a)
theorem k0_off1310_inb : ∀ (v20678 : BitVec 32) (v20839 : BitVec 32) (k0_hw450 : k0_chk450 v20678 v20839), ∀ a, (k0_off1310 v20678 v20839) a + S1x40x128.size a ≤ S256x64x128.size a := fun v20678 v20839 k0_hw450 => k0_hw450

def k0_off1311 (i : grid0.Coords) : Fin 3 → Nat :=
  let arg0 : BitVec 32 := BitVec.ofNat 32 (i 0).val
  let v20845 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20846 : Index := Scalar.indexCast v20675
  let c21_8769 : Index := 21#32
  ![v20845.toNat, v20846.toNat, 21]
def k0_off1312 (i : grid0.Coords) : Fin 3 → Nat :=
  let arg0 : BitVec 32 := BitVec.ofNat 32 (i 0).val
  let v20855 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20856 : Index := Scalar.indexCast v20675
  let c22_8774 : Index := 22#32
  ![v20855.toNat, v20856.toNat, 22]
def k0_off1313 (i : grid0.Coords) : Fin 3 → Nat :=
  let arg0 : BitVec 32 := BitVec.ofNat 32 (i 0).val
  let v20858 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20859 : Index := Scalar.indexCast v20675
  let c29_8775 : Index := 29#32
  ![v20858.toNat, v20859.toNat, 29]
def k0_off1314 (i : grid0.Coords) : Fin 3 → Nat :=
  let arg0 : BitVec 32 := BitVec.ofNat 32 (i 0).val
  let v20861 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20862 : Index := Scalar.indexCast v20675
  let c36_8776 : Index := 36#32
  ![v20861.toNat, v20862.toNat, 36]
def k0_off1315 (i : grid0.Coords) : Fin 3 → Nat :=
  let arg0 : BitVec 32 := BitVec.ofNat 32 (i 0).val
  let v20864 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v20865 : Index := Scalar.indexCast v20675
  let c43_8777 : Index := 43#32
  ![v20864.toNat, v20865.toNat, 43]
def k0_off1316 (v20857 : BitVec 32) : Fin 3 → Nat :=
  let c525_i32 : BitVec 32 := 525#32
  let v20889 : BitVec 32 := Scalar.addi c525_i32 v20857
  let v20890 : Index := Scalar.indexCast v20889
  let c0_8782 : Index := 0#32
  let c0_8783 : Index := 0#32
  ![v20890.toNat, 0, 0]

def k0_off1317 (v20860 : BitVec 32) (c525_i32_8785 : BitVec 32) : Fin 3 → Nat :=
  let v20897 : BitVec 32 := Scalar.addi c525_i32_8785 v20860
  let v20898 : Index := Scalar.indexCast v20897
  let c0_8786 : Index := 0#32
  let c0_8787 : Index := 0#32
  ![v20898.toNat, 0, 0]

def k0_chk452 (v20860 : BitVec 32) : Prop :=
  (∀ (r : Fin 7), ∀ a, (k0_off1317 v20860 (BitVec.ofNat 32 (525 + 5 * r.val))) a + S1x8x128.size a ≤ S1120x8x128.size a)
theorem k0_off1317_inb : ∀ (v20860 : BitVec 32) (k0_hw452 : k0_chk452 v20860), ∀ (r : Fin 7), ∀ a, (k0_off1317 v20860 (BitVec.ofNat 32 (525 + 5 * r.val))) a + S1x8x128.size a ≤ S1120x8x128.size a := fun v20860 k0_hw452 r => k0_hw452 r

def k0_off1318 (v20857 : BitVec 32) (c530_i32 : BitVec 32) : Fin 3 → Nat :=
  let v20907 : BitVec 32 := Scalar.addi c530_i32 v20857
  let v20908 : Index := Scalar.indexCast v20907
  let c0_8790 : Index := 0#32
  let c0_8791 : Index := 0#32
  ![v20908.toNat, 0, 0]

def k0_chk451 (v20857 : BitVec 32) : Prop :=
  (∀ a, (k0_off1316 v20857) a + S1x8x128.size a ≤ S1120x8x128.size a) ∧
  (∀ (r : Fin 6), ∀ a, (k0_off1318 v20857 (BitVec.ofNat 32 (530 + 5 * r.val))) a + S1x8x128.size a ≤ S1120x8x128.size a)
theorem k0_off1316_inb : ∀ (v20857 : BitVec 32) (k0_hw451 : k0_chk451 v20857), ∀ a, (k0_off1316 v20857) a + S1x8x128.size a ≤ S1120x8x128.size a := fun v20857 k0_hw451 => k0_hw451.1
theorem k0_off1318_inb : ∀ (v20857 : BitVec 32) (k0_hw451 : k0_chk451 v20857), ∀ (r : Fin 6), ∀ a, (k0_off1318 v20857 (BitVec.ofNat 32 (530 + 5 * r.val))) a + S1x8x128.size a ≤ S1120x8x128.size a := fun v20857 k0_hw451 r => k0_hw451.2 r

def k0_off1319 (i : grid0.Coords) : Fin 3 → Nat :=
  let arg0 : BitVec 32 := BitVec.ofNat 32 (i 0).val
  let v21015 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21016 : Index := Scalar.indexCast v20675
  let c23_8838 : Index := 23#32
  ![v21015.toNat, v21016.toNat, 23]
def k0_off1320 (i : grid0.Coords) : Fin 3 → Nat :=
  let arg0 : BitVec 32 := BitVec.ofNat 32 (i 0).val
  let v21018 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21019 : Index := Scalar.indexCast v20675
  let c30_8839 : Index := 30#32
  ![v21018.toNat, v21019.toNat, 30]
def k0_off1321 (i : grid0.Coords) : Fin 3 → Nat :=
  let arg0 : BitVec 32 := BitVec.ofNat 32 (i 0).val
  let v21021 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21022 : Index := Scalar.indexCast v20675
  let c37_8840 : Index := 37#32
  ![v21021.toNat, v21022.toNat, 37]
def k0_off1322 (i : grid0.Coords) : Fin 3 → Nat :=
  let arg0 : BitVec 32 := BitVec.ofNat 32 (i 0).val
  let v21024 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21025 : Index := Scalar.indexCast v20675
  let c44_8841 : Index := 44#32
  ![v21024.toNat, v21025.toNat, 44]
def k0_off1323 (v21017 : BitVec 32) : Fin 3 → Nat :=
  let c525_i32_8846 : BitVec 32 := 525#32
  let v21049 : BitVec 32 := Scalar.addi c525_i32_8846 v21017
  let v21050 : Index := Scalar.indexCast v21049
  let c0_8847 : Index := 0#32
  let c0_8848 : Index := 0#32
  ![v21050.toNat, 0, 0]

def k0_off1324 (v21020 : BitVec 32) (c525_i32_8850 : BitVec 32) : Fin 3 → Nat :=
  let v21057 : BitVec 32 := Scalar.addi c525_i32_8850 v21020
  let v21058 : Index := Scalar.indexCast v21057
  let c0_8851 : Index := 0#32
  let c0_8852 : Index := 0#32
  ![v21058.toNat, 0, 0]

def k0_chk454 (v21020 : BitVec 32) : Prop :=
  (∀ (r : Fin 7), ∀ a, (k0_off1324 v21020 (BitVec.ofNat 32 (525 + 5 * r.val))) a + S1x8x128.size a ≤ S1120x8x128.size a)
theorem k0_off1324_inb : ∀ (v21020 : BitVec 32) (k0_hw454 : k0_chk454 v21020), ∀ (r : Fin 7), ∀ a, (k0_off1324 v21020 (BitVec.ofNat 32 (525 + 5 * r.val))) a + S1x8x128.size a ≤ S1120x8x128.size a := fun v21020 k0_hw454 r => k0_hw454 r

def k0_off1325 (v21017 : BitVec 32) (c530_i32_8855 : BitVec 32) : Fin 3 → Nat :=
  let v21067 : BitVec 32 := Scalar.addi c530_i32_8855 v21017
  let v21068 : Index := Scalar.indexCast v21067
  let c0_8856 : Index := 0#32
  let c0_8857 : Index := 0#32
  ![v21068.toNat, 0, 0]

def k0_chk453 (v21017 : BitVec 32) : Prop :=
  (∀ a, (k0_off1323 v21017) a + S1x8x128.size a ≤ S1120x8x128.size a) ∧
  (∀ (r : Fin 6), ∀ a, (k0_off1325 v21017 (BitVec.ofNat 32 (530 + 5 * r.val))) a + S1x8x128.size a ≤ S1120x8x128.size a)
theorem k0_off1323_inb : ∀ (v21017 : BitVec 32) (k0_hw453 : k0_chk453 v21017), ∀ a, (k0_off1323 v21017) a + S1x8x128.size a ≤ S1120x8x128.size a := fun v21017 k0_hw453 => k0_hw453.1
theorem k0_off1325_inb : ∀ (v21017 : BitVec 32) (k0_hw453 : k0_chk453 v21017), ∀ (r : Fin 6), ∀ a, (k0_off1325 v21017 (BitVec.ofNat 32 (530 + 5 * r.val))) a + S1x8x128.size a ≤ S1120x8x128.size a := fun v21017 k0_hw453 r => k0_hw453.2 r

def k0_off1326 (i : grid0.Coords) : Fin 3 → Nat :=
  let arg0 : BitVec 32 := BitVec.ofNat 32 (i 0).val
  let v21175 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21176 : Index := Scalar.indexCast v20675
  let c24_8909 : Index := 24#32
  ![v21175.toNat, v21176.toNat, 24]
def k0_off1327 (i : grid0.Coords) : Fin 3 → Nat :=
  let arg0 : BitVec 32 := BitVec.ofNat 32 (i 0).val
  let v21178 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21179 : Index := Scalar.indexCast v20675
  let c31_8910 : Index := 31#32
  ![v21178.toNat, v21179.toNat, 31]
def k0_off1328 (i : grid0.Coords) : Fin 3 → Nat :=
  let arg0 : BitVec 32 := BitVec.ofNat 32 (i 0).val
  let v21181 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21182 : Index := Scalar.indexCast v20675
  let c38_8911 : Index := 38#32
  ![v21181.toNat, v21182.toNat, 38]
def k0_off1329 (i : grid0.Coords) : Fin 3 → Nat :=
  let arg0 : BitVec 32 := BitVec.ofNat 32 (i 0).val
  let v21184 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21185 : Index := Scalar.indexCast v20675
  let c45_8912 : Index := 45#32
  ![v21184.toNat, v21185.toNat, 45]
def k0_off1330 (v21177 : BitVec 32) : Fin 3 → Nat :=
  let c525_i32_8917 : BitVec 32 := 525#32
  let v21209 : BitVec 32 := Scalar.addi c525_i32_8917 v21177
  let v21210 : Index := Scalar.indexCast v21209
  let c0_8918 : Index := 0#32
  let c0_8919 : Index := 0#32
  ![v21210.toNat, 0, 0]

def k0_off1331 (v21180 : BitVec 32) (c525_i32_8921 : BitVec 32) : Fin 3 → Nat :=
  let v21217 : BitVec 32 := Scalar.addi c525_i32_8921 v21180
  let v21218 : Index := Scalar.indexCast v21217
  let c0_8922 : Index := 0#32
  let c0_8923 : Index := 0#32
  ![v21218.toNat, 0, 0]

def k0_chk456 (v21180 : BitVec 32) : Prop :=
  (∀ (r : Fin 7), ∀ a, (k0_off1331 v21180 (BitVec.ofNat 32 (525 + 5 * r.val))) a + S1x8x128.size a ≤ S1120x8x128.size a)
theorem k0_off1331_inb : ∀ (v21180 : BitVec 32) (k0_hw456 : k0_chk456 v21180), ∀ (r : Fin 7), ∀ a, (k0_off1331 v21180 (BitVec.ofNat 32 (525 + 5 * r.val))) a + S1x8x128.size a ≤ S1120x8x128.size a := fun v21180 k0_hw456 r => k0_hw456 r

def k0_off1332 (v21177 : BitVec 32) (c530_i32_8926 : BitVec 32) : Fin 3 → Nat :=
  let v21227 : BitVec 32 := Scalar.addi c530_i32_8926 v21177
  let v21228 : Index := Scalar.indexCast v21227
  let c0_8927 : Index := 0#32
  let c0_8928 : Index := 0#32
  ![v21228.toNat, 0, 0]

def k0_chk455 (v21177 : BitVec 32) : Prop :=
  (∀ a, (k0_off1330 v21177) a + S1x8x128.size a ≤ S1120x8x128.size a) ∧
  (∀ (r : Fin 6), ∀ a, (k0_off1332 v21177 (BitVec.ofNat 32 (530 + 5 * r.val))) a + S1x8x128.size a ≤ S1120x8x128.size a)
theorem k0_off1330_inb : ∀ (v21177 : BitVec 32) (k0_hw455 : k0_chk455 v21177), ∀ a, (k0_off1330 v21177) a + S1x8x128.size a ≤ S1120x8x128.size a := fun v21177 k0_hw455 => k0_hw455.1
theorem k0_off1332_inb : ∀ (v21177 : BitVec 32) (k0_hw455 : k0_chk455 v21177), ∀ (r : Fin 6), ∀ a, (k0_off1332 v21177 (BitVec.ofNat 32 (530 + 5 * r.val))) a + S1x8x128.size a ≤ S1120x8x128.size a := fun v21177 k0_hw455 r => k0_hw455.2 r

def k0_off1333 (i : grid0.Coords) : Fin 3 → Nat :=
  let arg0 : BitVec 32 := BitVec.ofNat 32 (i 0).val
  let v21335 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21336 : Index := Scalar.indexCast v20675
  let c25_8980 : Index := 25#32
  ![v21335.toNat, v21336.toNat, 25]
def k0_off1334 (i : grid0.Coords) : Fin 3 → Nat :=
  let arg0 : BitVec 32 := BitVec.ofNat 32 (i 0).val
  let v21338 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21339 : Index := Scalar.indexCast v20675
  let c32_8981 : Index := 32#32
  ![v21338.toNat, v21339.toNat, 32]
def k0_off1335 (i : grid0.Coords) : Fin 3 → Nat :=
  let arg0 : BitVec 32 := BitVec.ofNat 32 (i 0).val
  let v21341 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21342 : Index := Scalar.indexCast v20675
  let c39_8982 : Index := 39#32
  ![v21341.toNat, v21342.toNat, 39]
def k0_off1336 (i : grid0.Coords) : Fin 3 → Nat :=
  let arg0 : BitVec 32 := BitVec.ofNat 32 (i 0).val
  let v21344 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21345 : Index := Scalar.indexCast v20675
  let c46_8983 : Index := 46#32
  ![v21344.toNat, v21345.toNat, 46]
def k0_off1337 (v21337 : BitVec 32) : Fin 3 → Nat :=
  let c525_i32_8988 : BitVec 32 := 525#32
  let v21369 : BitVec 32 := Scalar.addi c525_i32_8988 v21337
  let v21370 : Index := Scalar.indexCast v21369
  let c0_8989 : Index := 0#32
  let c0_8990 : Index := 0#32
  ![v21370.toNat, 0, 0]

def k0_off1338 (v21340 : BitVec 32) (c525_i32_8992 : BitVec 32) : Fin 3 → Nat :=
  let v21377 : BitVec 32 := Scalar.addi c525_i32_8992 v21340
  let v21378 : Index := Scalar.indexCast v21377
  let c0_8993 : Index := 0#32
  let c0_8994 : Index := 0#32
  ![v21378.toNat, 0, 0]

def k0_chk458 (v21340 : BitVec 32) : Prop :=
  (∀ (r : Fin 7), ∀ a, (k0_off1338 v21340 (BitVec.ofNat 32 (525 + 5 * r.val))) a + S1x8x128.size a ≤ S1120x8x128.size a)
theorem k0_off1338_inb : ∀ (v21340 : BitVec 32) (k0_hw458 : k0_chk458 v21340), ∀ (r : Fin 7), ∀ a, (k0_off1338 v21340 (BitVec.ofNat 32 (525 + 5 * r.val))) a + S1x8x128.size a ≤ S1120x8x128.size a := fun v21340 k0_hw458 r => k0_hw458 r

def k0_off1339 (v21337 : BitVec 32) (c530_i32_8997 : BitVec 32) : Fin 3 → Nat :=
  let v21387 : BitVec 32 := Scalar.addi c530_i32_8997 v21337
  let v21388 : Index := Scalar.indexCast v21387
  let c0_8998 : Index := 0#32
  let c0_8999 : Index := 0#32
  ![v21388.toNat, 0, 0]

def k0_chk457 (v21337 : BitVec 32) : Prop :=
  (∀ a, (k0_off1337 v21337) a + S1x8x128.size a ≤ S1120x8x128.size a) ∧
  (∀ (r : Fin 6), ∀ a, (k0_off1339 v21337 (BitVec.ofNat 32 (530 + 5 * r.val))) a + S1x8x128.size a ≤ S1120x8x128.size a)
theorem k0_off1337_inb : ∀ (v21337 : BitVec 32) (k0_hw457 : k0_chk457 v21337), ∀ a, (k0_off1337 v21337) a + S1x8x128.size a ≤ S1120x8x128.size a := fun v21337 k0_hw457 => k0_hw457.1
theorem k0_off1339_inb : ∀ (v21337 : BitVec 32) (k0_hw457 : k0_chk457 v21337), ∀ (r : Fin 6), ∀ a, (k0_off1339 v21337 (BitVec.ofNat 32 (530 + 5 * r.val))) a + S1x8x128.size a ≤ S1120x8x128.size a := fun v21337 k0_hw457 r => k0_hw457.2 r

def k0_off1340 (i : grid0.Coords) : Fin 3 → Nat :=
  let arg0 : BitVec 32 := BitVec.ofNat 32 (i 0).val
  let v21495 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21496 : Index := Scalar.indexCast v20675
  let c26_9051 : Index := 26#32
  ![v21495.toNat, v21496.toNat, 26]
def k0_off1341 (i : grid0.Coords) : Fin 3 → Nat :=
  let arg0 : BitVec 32 := BitVec.ofNat 32 (i 0).val
  let v21498 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21499 : Index := Scalar.indexCast v20675
  let c33_9052 : Index := 33#32
  ![v21498.toNat, v21499.toNat, 33]
def k0_off1342 (i : grid0.Coords) : Fin 3 → Nat :=
  let arg0 : BitVec 32 := BitVec.ofNat 32 (i 0).val
  let v21501 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21502 : Index := Scalar.indexCast v20675
  let c40_9053 : Index := 40#32
  ![v21501.toNat, v21502.toNat, 40]
def k0_off1343 (i : grid0.Coords) : Fin 3 → Nat :=
  let arg0 : BitVec 32 := BitVec.ofNat 32 (i 0).val
  let v21504 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21505 : Index := Scalar.indexCast v20675
  let c47_9054 : Index := 47#32
  ![v21504.toNat, v21505.toNat, 47]
def k0_off1344 (v21497 : BitVec 32) : Fin 3 → Nat :=
  let c525_i32_9059 : BitVec 32 := 525#32
  let v21529 : BitVec 32 := Scalar.addi c525_i32_9059 v21497
  let v21530 : Index := Scalar.indexCast v21529
  let c0_9060 : Index := 0#32
  let c0_9061 : Index := 0#32
  ![v21530.toNat, 0, 0]

def k0_off1345 (v21500 : BitVec 32) (c525_i32_9063 : BitVec 32) : Fin 3 → Nat :=
  let v21537 : BitVec 32 := Scalar.addi c525_i32_9063 v21500
  let v21538 : Index := Scalar.indexCast v21537
  let c0_9064 : Index := 0#32
  let c0_9065 : Index := 0#32
  ![v21538.toNat, 0, 0]

def k0_chk460 (v21500 : BitVec 32) : Prop :=
  (∀ (r : Fin 7), ∀ a, (k0_off1345 v21500 (BitVec.ofNat 32 (525 + 5 * r.val))) a + S1x8x128.size a ≤ S1120x8x128.size a)
theorem k0_off1345_inb : ∀ (v21500 : BitVec 32) (k0_hw460 : k0_chk460 v21500), ∀ (r : Fin 7), ∀ a, (k0_off1345 v21500 (BitVec.ofNat 32 (525 + 5 * r.val))) a + S1x8x128.size a ≤ S1120x8x128.size a := fun v21500 k0_hw460 r => k0_hw460 r

def k0_off1346 (v21497 : BitVec 32) (c530_i32_9068 : BitVec 32) : Fin 3 → Nat :=
  let v21547 : BitVec 32 := Scalar.addi c530_i32_9068 v21497
  let v21548 : Index := Scalar.indexCast v21547
  let c0_9069 : Index := 0#32
  let c0_9070 : Index := 0#32
  ![v21548.toNat, 0, 0]

def k0_chk459 (v21497 : BitVec 32) : Prop :=
  (∀ a, (k0_off1344 v21497) a + S1x8x128.size a ≤ S1120x8x128.size a) ∧
  (∀ (r : Fin 6), ∀ a, (k0_off1346 v21497 (BitVec.ofNat 32 (530 + 5 * r.val))) a + S1x8x128.size a ≤ S1120x8x128.size a)
theorem k0_off1344_inb : ∀ (v21497 : BitVec 32) (k0_hw459 : k0_chk459 v21497), ∀ a, (k0_off1344 v21497) a + S1x8x128.size a ≤ S1120x8x128.size a := fun v21497 k0_hw459 => k0_hw459.1
theorem k0_off1346_inb : ∀ (v21497 : BitVec 32) (k0_hw459 : k0_chk459 v21497), ∀ (r : Fin 6), ∀ a, (k0_off1346 v21497 (BitVec.ofNat 32 (530 + 5 * r.val))) a + S1x8x128.size a ≤ S1120x8x128.size a := fun v21497 k0_hw459 r => k0_hw459.2 r

def k0_off1347 (i : grid0.Coords) : Fin 3 → Nat :=
  let arg0 : BitVec 32 := BitVec.ofNat 32 (i 0).val
  let v21655 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21656 : Index := Scalar.indexCast v20675
  let c27_9122 : Index := 27#32
  ![v21655.toNat, v21656.toNat, 27]
def k0_off1348 (i : grid0.Coords) : Fin 3 → Nat :=
  let arg0 : BitVec 32 := BitVec.ofNat 32 (i 0).val
  let v21658 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21659 : Index := Scalar.indexCast v20675
  let c34_9123 : Index := 34#32
  ![v21658.toNat, v21659.toNat, 34]
def k0_off1349 (i : grid0.Coords) : Fin 3 → Nat :=
  let arg0 : BitVec 32 := BitVec.ofNat 32 (i 0).val
  let v21661 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21662 : Index := Scalar.indexCast v20675
  let c41_9124 : Index := 41#32
  ![v21661.toNat, v21662.toNat, 41]
def k0_off1350 (i : grid0.Coords) : Fin 3 → Nat :=
  let arg0 : BitVec 32 := BitVec.ofNat 32 (i 0).val
  let v21664 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21665 : Index := Scalar.indexCast v20675
  let c48_9125 : Index := 48#32
  ![v21664.toNat, v21665.toNat, 48]
def k0_off1351 (v21657 : BitVec 32) : Fin 3 → Nat :=
  let c525_i32_9130 : BitVec 32 := 525#32
  let v21689 : BitVec 32 := Scalar.addi c525_i32_9130 v21657
  let v21690 : Index := Scalar.indexCast v21689
  let c0_9131 : Index := 0#32
  let c0_9132 : Index := 0#32
  ![v21690.toNat, 0, 0]

def k0_off1352 (v21660 : BitVec 32) (c525_i32_9134 : BitVec 32) : Fin 3 → Nat :=
  let v21697 : BitVec 32 := Scalar.addi c525_i32_9134 v21660
  let v21698 : Index := Scalar.indexCast v21697
  let c0_9135 : Index := 0#32
  let c0_9136 : Index := 0#32
  ![v21698.toNat, 0, 0]

def k0_chk462 (v21660 : BitVec 32) : Prop :=
  (∀ (r : Fin 7), ∀ a, (k0_off1352 v21660 (BitVec.ofNat 32 (525 + 5 * r.val))) a + S1x8x128.size a ≤ S1120x8x128.size a)
theorem k0_off1352_inb : ∀ (v21660 : BitVec 32) (k0_hw462 : k0_chk462 v21660), ∀ (r : Fin 7), ∀ a, (k0_off1352 v21660 (BitVec.ofNat 32 (525 + 5 * r.val))) a + S1x8x128.size a ≤ S1120x8x128.size a := fun v21660 k0_hw462 r => k0_hw462 r

def k0_off1353 (v21657 : BitVec 32) (c530_i32_9139 : BitVec 32) : Fin 3 → Nat :=
  let v21707 : BitVec 32 := Scalar.addi c530_i32_9139 v21657
  let v21708 : Index := Scalar.indexCast v21707
  let c0_9140 : Index := 0#32
  let c0_9141 : Index := 0#32
  ![v21708.toNat, 0, 0]

def k0_chk461 (v21657 : BitVec 32) : Prop :=
  (∀ a, (k0_off1351 v21657) a + S1x8x128.size a ≤ S1120x8x128.size a) ∧
  (∀ (r : Fin 6), ∀ a, (k0_off1353 v21657 (BitVec.ofNat 32 (530 + 5 * r.val))) a + S1x8x128.size a ≤ S1120x8x128.size a)
theorem k0_off1351_inb : ∀ (v21657 : BitVec 32) (k0_hw461 : k0_chk461 v21657), ∀ a, (k0_off1351 v21657) a + S1x8x128.size a ≤ S1120x8x128.size a := fun v21657 k0_hw461 => k0_hw461.1
theorem k0_off1353_inb : ∀ (v21657 : BitVec 32) (k0_hw461 : k0_chk461 v21657), ∀ (r : Fin 6), ∀ a, (k0_off1353 v21657 (BitVec.ofNat 32 (530 + 5 * r.val))) a + S1x8x128.size a ≤ S1120x8x128.size a := fun v21657 k0_hw461 r => k0_hw461.2 r

def k0_off1354 (i : grid0.Coords) : Fin 3 → Nat :=
  let arg0 : BitVec 32 := BitVec.ofNat 32 (i 0).val
  let v21815 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21816 : Index := Scalar.indexCast v20675
  let c28_9193 : Index := 28#32
  ![v21815.toNat, v21816.toNat, 28]
def k0_off1355 (i : grid0.Coords) : Fin 3 → Nat :=
  let arg0 : BitVec 32 := BitVec.ofNat 32 (i 0).val
  let v21818 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21819 : Index := Scalar.indexCast v20675
  let c35_9194 : Index := 35#32
  ![v21818.toNat, v21819.toNat, 35]
def k0_off1356 (i : grid0.Coords) : Fin 3 → Nat :=
  let arg0 : BitVec 32 := BitVec.ofNat 32 (i 0).val
  let v21821 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21822 : Index := Scalar.indexCast v20675
  let c42_9195 : Index := 42#32
  ![v21821.toNat, v21822.toNat, 42]
def k0_off1357 (i : grid0.Coords) : Fin 3 → Nat :=
  let arg0 : BitVec 32 := BitVec.ofNat 32 (i 0).val
  let v21824 : Index := Scalar.indexCast arg0
  let arg1 : BitVec 32 := BitVec.ofNat 32 (i 1).val
  let c32_i32_8708 : BitVec 32 := 32#32
  let v20674 : BitVec 32 := Scalar.muli arg1 c32_i32_8708
  let c15_i32_8709 : BitVec 32 := 15#32
  let v20675 : BitVec 32 := Scalar.addi v20674 c15_i32_8709
  let v21825 : Index := Scalar.indexCast v20675
  let c49_9196 : Index := 49#32
  ![v21824.toNat, v21825.toNat, 49]
def k0_off1358 (v21817 : BitVec 32) : Fin 3 → Nat :=
  let c525_i32_9201 : BitVec 32 := 525#32
  let v21849 : BitVec 32 := Scalar.addi c525_i32_9201 v21817
  let v21850 : Index := Scalar.indexCast v21849
  let c0_9202 : Index := 0#32
  let c0_9203 : Index := 0#32
  ![v21850.toNat, 0, 0]

def k0_off1359 (v21820 : BitVec 32) (c525_i32_9205 : BitVec 32) : Fin 3 → Nat :=
  let v21857 : BitVec 32 := Scalar.addi c525_i32_9205 v21820
  let v21858 : Index := Scalar.indexCast v21857
  let c0_9206 : Index := 0#32
  let c0_9207 : Index := 0#32
  ![v21858.toNat, 0, 0]

def k0_chk464 (v21820 : BitVec 32) : Prop :=
  (∀ (r : Fin 7), ∀ a, (k0_off1359 v21820 (BitVec.ofNat 32 (525 + 5 * r.val))) a + S1x8x128.size a ≤ S1120x8x128.size a)
theorem k0_off1359_inb : ∀ (v21820 : BitVec 32) (k0_hw464 : k0_chk464 v21820), ∀ (r : Fin 7), ∀ a, (k0_off1359 v21820 (BitVec.ofNat 32 (525 + 5 * r.val))) a + S1x8x128.size a ≤ S1120x8x128.size a := fun v21820 k0_hw464 r => k0_hw464 r

def k0_off1360 (v21817 : BitVec 32) (c530_i32_9210 : BitVec 32) : Fin 3 → Nat :=
  let v21867 : BitVec 32 := Scalar.addi c530_i32_9210 v21817
  let v21868 : Index := Scalar.indexCast v21867
  let c0_9211 : Index := 0#32
  let c0_9212 : Index := 0#32
  ![v21868.toNat, 0, 0]

def k0_chk463 (v21817 : BitVec 32) : Prop :=
  (∀ a, (k0_off1358 v21817) a + S1x8x128.size a ≤ S1120x8x128.size a) ∧
  (∀ (r : Fin 6), ∀ a, (k0_off1360 v21817 (BitVec.ofNat 32 (530 + 5 * r.val))) a + S1x8x128.size a ≤ S1120x8x128.size a)
theorem k0_off1358_inb : ∀ (v21817 : BitVec 32) (k0_hw463 : k0_chk463 v21817), ∀ a, (k0_off1358 v21817) a + S1x8x128.size a ≤ S1120x8x128.size a := fun v21817 k0_hw463 => k0_hw463.1
theorem k0_off1360_inb : ∀ (v21817 : BitVec 32) (k0_hw463 : k0_chk463 v21817), ∀ (r : Fin 6), ∀ a, (k0_off1360 v21817 (BitVec.ofNat 32 (530 + 5 * r.val))) a + S1x8x128.size a ≤ S1120x8x128.size a := fun v21817 k0_hw463 r => k0_hw463.2 r

def k0_off1361 (i : grid0.Coords) : Fin 3 → Nat :=
  let arg0 : BitVec 32 := BitVec.ofNat 32 (i 0).val
  let v22054 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22055 : Index := Scalar.indexCast v22053
  let c0_9293 : Index := 0#32
  ![v22054.toNat, v22055.toNat, 0]
def k0_mult17 (v22056 : BitVec 32) : BitVec 32 :=
  v22056

def k0_chk465 (v22056 : BitVec 32) : Prop :=
  (8 ∣ (k0_mult17 v22056).toNat)
theorem k0_mult17_dvd : ∀ (v22056 : BitVec 32) (k0_hw465 : k0_chk465 v22056), 8 ∣ (k0_mult17 v22056).toNat := fun v22056 k0_hw465 => k0_hw465

def k0_off1362 (i : grid0.Coords) : Fin 3 → Nat :=
  let arg0 : BitVec 32 := BitVec.ofNat 32 (i 0).val
  let v22058 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22059 : Index := Scalar.indexCast v22053
  let c1_9294 : Index := 1#32
  ![v22058.toNat, v22059.toNat, 1]
def k0_off1363 (v22056 : BitVec 32) (v22060 : BitVec 32) : Fin 3 → Nat :=
  let v22061 : Index := Scalar.indexCast v22060
  let v22057 : BitVec 32 := v22056
  let v22062 : Index := Scalar.indexCast v22057
  let c0_9295 : Index := 0#32
  ![v22061.toNat, v22062.toNat, 0]

def k0_chk466 (v22056 : BitVec 32) (v22060 : BitVec 32) : Prop :=
  (∀ a, (k0_off1363 v22056 v22060) a + S1x40x128.size a ≤ S256x64x128.size a)
theorem k0_off1363_inb : ∀ (v22056 : BitVec 32) (v22060 : BitVec 32) (k0_hw466 : k0_chk466 v22056 v22060), ∀ a, (k0_off1363 v22056 v22060) a + S1x40x128.size a ≤ S256x64x128.size a := fun v22056 v22060 k0_hw466 => k0_hw466

def k0_off1364 (i : grid0.Coords) : Fin 3 → Nat :=
  let arg0 : BitVec 32 := BitVec.ofNat 32 (i 0).val
  let v22065 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22066 : Index := Scalar.indexCast v22053
  let c8_9296 : Index := 8#32
  ![v22065.toNat, v22066.toNat, 8]
def k0_off1365 (v22056 : BitVec 32) (v22067 : BitVec 32) : Fin 3 → Nat :=
  let v22068 : Index := Scalar.indexCast v22067
  let v22057 : BitVec 32 := v22056
  let v22069 : Index := Scalar.indexCast v22057
  let c0_9297 : Index := 0#32
  ![v22068.toNat, v22069.toNat, 0]

def k0_chk467 (v22056 : BitVec 32) (v22067 : BitVec 32) : Prop :=
  (∀ a, (k0_off1365 v22056 v22067) a + S1x40x128.size a ≤ S256x64x128.size a)
theorem k0_off1365_inb : ∀ (v22056 : BitVec 32) (v22067 : BitVec 32) (k0_hw467 : k0_chk467 v22056 v22067), ∀ a, (k0_off1365 v22056 v22067) a + S1x40x128.size a ≤ S256x64x128.size a := fun v22056 v22067 k0_hw467 => k0_hw467

def k0_off1366 (i : grid0.Coords) : Fin 3 → Nat :=
  let arg0 : BitVec 32 := BitVec.ofNat 32 (i 0).val
  let v22073 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22074 : Index := Scalar.indexCast v22053
  let c15_9298 : Index := 15#32
  ![v22073.toNat, v22074.toNat, 15]
def k0_off1367 (i : grid0.Coords) : Fin 3 → Nat :=
  let arg0 : BitVec 32 := BitVec.ofNat 32 (i 0).val
  let v22083 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22084 : Index := Scalar.indexCast v22053
  let c2_9303 : Index := 2#32
  ![v22083.toNat, v22084.toNat, 2]
def k0_off1368 (v22056 : BitVec 32) (v22085 : BitVec 32) : Fin 3 → Nat :=
  let v22086 : Index := Scalar.indexCast v22085
  let v22057 : BitVec 32 := v22056
  let v22087 : Index := Scalar.indexCast v22057
  let c0_9304 : Index := 0#32
  ![v22086.toNat, v22087.toNat, 0]

def k0_chk468 (v22056 : BitVec 32) (v22085 : BitVec 32) : Prop :=
  (∀ a, (k0_off1368 v22056 v22085) a + S1x40x128.size a ≤ S256x64x128.size a)
theorem k0_off1368_inb : ∀ (v22056 : BitVec 32) (v22085 : BitVec 32) (k0_hw468 : k0_chk468 v22056 v22085), ∀ a, (k0_off1368 v22056 v22085) a + S1x40x128.size a ≤ S256x64x128.size a := fun v22056 v22085 k0_hw468 => k0_hw468

def k0_off1369 (i : grid0.Coords) : Fin 3 → Nat :=
  let arg0 : BitVec 32 := BitVec.ofNat 32 (i 0).val
  let v22090 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22091 : Index := Scalar.indexCast v22053
  let c9_9305 : Index := 9#32
  ![v22090.toNat, v22091.toNat, 9]
def k0_off1370 (v22056 : BitVec 32) (v22092 : BitVec 32) : Fin 3 → Nat :=
  let v22093 : Index := Scalar.indexCast v22092
  let v22057 : BitVec 32 := v22056
  let v22094 : Index := Scalar.indexCast v22057
  let c0_9306 : Index := 0#32
  ![v22093.toNat, v22094.toNat, 0]

def k0_chk469 (v22056 : BitVec 32) (v22092 : BitVec 32) : Prop :=
  (∀ a, (k0_off1370 v22056 v22092) a + S1x40x128.size a ≤ S256x64x128.size a)
theorem k0_off1370_inb : ∀ (v22056 : BitVec 32) (v22092 : BitVec 32) (k0_hw469 : k0_chk469 v22056 v22092), ∀ a, (k0_off1370 v22056 v22092) a + S1x40x128.size a ≤ S256x64x128.size a := fun v22056 v22092 k0_hw469 => k0_hw469

def k0_off1371 (i : grid0.Coords) : Fin 3 → Nat :=
  let arg0 : BitVec 32 := BitVec.ofNat 32 (i 0).val
  let v22098 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22099 : Index := Scalar.indexCast v22053
  let c16_9307 : Index := 16#32
  ![v22098.toNat, v22099.toNat, 16]
def k0_off1372 (i : grid0.Coords) : Fin 3 → Nat :=
  let arg0 : BitVec 32 := BitVec.ofNat 32 (i 0).val
  let v22108 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22109 : Index := Scalar.indexCast v22053
  let c3_9312 : Index := 3#32
  ![v22108.toNat, v22109.toNat, 3]
def k0_off1373 (v22056 : BitVec 32) (v22110 : BitVec 32) : Fin 3 → Nat :=
  let v22111 : Index := Scalar.indexCast v22110
  let v22057 : BitVec 32 := v22056
  let v22112 : Index := Scalar.indexCast v22057
  let c0_9313 : Index := 0#32
  ![v22111.toNat, v22112.toNat, 0]

def k0_chk470 (v22056 : BitVec 32) (v22110 : BitVec 32) : Prop :=
  (∀ a, (k0_off1373 v22056 v22110) a + S1x40x128.size a ≤ S256x64x128.size a)
theorem k0_off1373_inb : ∀ (v22056 : BitVec 32) (v22110 : BitVec 32) (k0_hw470 : k0_chk470 v22056 v22110), ∀ a, (k0_off1373 v22056 v22110) a + S1x40x128.size a ≤ S256x64x128.size a := fun v22056 v22110 k0_hw470 => k0_hw470

def k0_off1374 (i : grid0.Coords) : Fin 3 → Nat :=
  let arg0 : BitVec 32 := BitVec.ofNat 32 (i 0).val
  let v22115 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22116 : Index := Scalar.indexCast v22053
  let c10_9314 : Index := 10#32
  ![v22115.toNat, v22116.toNat, 10]
def k0_off1375 (v22056 : BitVec 32) (v22117 : BitVec 32) : Fin 3 → Nat :=
  let v22118 : Index := Scalar.indexCast v22117
  let v22057 : BitVec 32 := v22056
  let v22119 : Index := Scalar.indexCast v22057
  let c0_9315 : Index := 0#32
  ![v22118.toNat, v22119.toNat, 0]

def k0_chk471 (v22056 : BitVec 32) (v22117 : BitVec 32) : Prop :=
  (∀ a, (k0_off1375 v22056 v22117) a + S1x40x128.size a ≤ S256x64x128.size a)
theorem k0_off1375_inb : ∀ (v22056 : BitVec 32) (v22117 : BitVec 32) (k0_hw471 : k0_chk471 v22056 v22117), ∀ a, (k0_off1375 v22056 v22117) a + S1x40x128.size a ≤ S256x64x128.size a := fun v22056 v22117 k0_hw471 => k0_hw471

def k0_off1376 (i : grid0.Coords) : Fin 3 → Nat :=
  let arg0 : BitVec 32 := BitVec.ofNat 32 (i 0).val
  let v22123 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22124 : Index := Scalar.indexCast v22053
  let c17_9316 : Index := 17#32
  ![v22123.toNat, v22124.toNat, 17]
def k0_off1377 (i : grid0.Coords) : Fin 3 → Nat :=
  let arg0 : BitVec 32 := BitVec.ofNat 32 (i 0).val
  let v22133 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22134 : Index := Scalar.indexCast v22053
  let c4_9321 : Index := 4#32
  ![v22133.toNat, v22134.toNat, 4]
def k0_off1378 (v22056 : BitVec 32) (v22135 : BitVec 32) : Fin 3 → Nat :=
  let v22136 : Index := Scalar.indexCast v22135
  let v22057 : BitVec 32 := v22056
  let v22137 : Index := Scalar.indexCast v22057
  let c0_9322 : Index := 0#32
  ![v22136.toNat, v22137.toNat, 0]

def k0_chk472 (v22056 : BitVec 32) (v22135 : BitVec 32) : Prop :=
  (∀ a, (k0_off1378 v22056 v22135) a + S1x40x128.size a ≤ S256x64x128.size a)
theorem k0_off1378_inb : ∀ (v22056 : BitVec 32) (v22135 : BitVec 32) (k0_hw472 : k0_chk472 v22056 v22135), ∀ a, (k0_off1378 v22056 v22135) a + S1x40x128.size a ≤ S256x64x128.size a := fun v22056 v22135 k0_hw472 => k0_hw472

def k0_off1379 (i : grid0.Coords) : Fin 3 → Nat :=
  let arg0 : BitVec 32 := BitVec.ofNat 32 (i 0).val
  let v22140 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22141 : Index := Scalar.indexCast v22053
  let c11_9323 : Index := 11#32
  ![v22140.toNat, v22141.toNat, 11]
def k0_off1380 (v22056 : BitVec 32) (v22142 : BitVec 32) : Fin 3 → Nat :=
  let v22143 : Index := Scalar.indexCast v22142
  let v22057 : BitVec 32 := v22056
  let v22144 : Index := Scalar.indexCast v22057
  let c0_9324 : Index := 0#32
  ![v22143.toNat, v22144.toNat, 0]

def k0_chk473 (v22056 : BitVec 32) (v22142 : BitVec 32) : Prop :=
  (∀ a, (k0_off1380 v22056 v22142) a + S1x40x128.size a ≤ S256x64x128.size a)
theorem k0_off1380_inb : ∀ (v22056 : BitVec 32) (v22142 : BitVec 32) (k0_hw473 : k0_chk473 v22056 v22142), ∀ a, (k0_off1380 v22056 v22142) a + S1x40x128.size a ≤ S256x64x128.size a := fun v22056 v22142 k0_hw473 => k0_hw473

def k0_off1381 (i : grid0.Coords) : Fin 3 → Nat :=
  let arg0 : BitVec 32 := BitVec.ofNat 32 (i 0).val
  let v22148 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22149 : Index := Scalar.indexCast v22053
  let c18_9325 : Index := 18#32
  ![v22148.toNat, v22149.toNat, 18]
def k0_off1382 (i : grid0.Coords) : Fin 3 → Nat :=
  let arg0 : BitVec 32 := BitVec.ofNat 32 (i 0).val
  let v22158 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22159 : Index := Scalar.indexCast v22053
  let c5_9330 : Index := 5#32
  ![v22158.toNat, v22159.toNat, 5]
def k0_off1383 (v22056 : BitVec 32) (v22160 : BitVec 32) : Fin 3 → Nat :=
  let v22161 : Index := Scalar.indexCast v22160
  let v22057 : BitVec 32 := v22056
  let v22162 : Index := Scalar.indexCast v22057
  let c0_9331 : Index := 0#32
  ![v22161.toNat, v22162.toNat, 0]

def k0_chk474 (v22056 : BitVec 32) (v22160 : BitVec 32) : Prop :=
  (∀ a, (k0_off1383 v22056 v22160) a + S1x40x128.size a ≤ S256x64x128.size a)
theorem k0_off1383_inb : ∀ (v22056 : BitVec 32) (v22160 : BitVec 32) (k0_hw474 : k0_chk474 v22056 v22160), ∀ a, (k0_off1383 v22056 v22160) a + S1x40x128.size a ≤ S256x64x128.size a := fun v22056 v22160 k0_hw474 => k0_hw474

def k0_off1384 (i : grid0.Coords) : Fin 3 → Nat :=
  let arg0 : BitVec 32 := BitVec.ofNat 32 (i 0).val
  let v22165 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22166 : Index := Scalar.indexCast v22053
  let c12_9332 : Index := 12#32
  ![v22165.toNat, v22166.toNat, 12]
def k0_off1385 (v22056 : BitVec 32) (v22167 : BitVec 32) : Fin 3 → Nat :=
  let v22168 : Index := Scalar.indexCast v22167
  let v22057 : BitVec 32 := v22056
  let v22169 : Index := Scalar.indexCast v22057
  let c0_9333 : Index := 0#32
  ![v22168.toNat, v22169.toNat, 0]

def k0_chk475 (v22056 : BitVec 32) (v22167 : BitVec 32) : Prop :=
  (∀ a, (k0_off1385 v22056 v22167) a + S1x40x128.size a ≤ S256x64x128.size a)
theorem k0_off1385_inb : ∀ (v22056 : BitVec 32) (v22167 : BitVec 32) (k0_hw475 : k0_chk475 v22056 v22167), ∀ a, (k0_off1385 v22056 v22167) a + S1x40x128.size a ≤ S256x64x128.size a := fun v22056 v22167 k0_hw475 => k0_hw475

def k0_off1386 (i : grid0.Coords) : Fin 3 → Nat :=
  let arg0 : BitVec 32 := BitVec.ofNat 32 (i 0).val
  let v22173 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22174 : Index := Scalar.indexCast v22053
  let c19_9334 : Index := 19#32
  ![v22173.toNat, v22174.toNat, 19]
def k0_off1387 (i : grid0.Coords) : Fin 3 → Nat :=
  let arg0 : BitVec 32 := BitVec.ofNat 32 (i 0).val
  let v22183 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22184 : Index := Scalar.indexCast v22053
  let c6_9339 : Index := 6#32
  ![v22183.toNat, v22184.toNat, 6]
def k0_off1388 (v22056 : BitVec 32) (v22185 : BitVec 32) : Fin 3 → Nat :=
  let v22186 : Index := Scalar.indexCast v22185
  let v22057 : BitVec 32 := v22056
  let v22187 : Index := Scalar.indexCast v22057
  let c0_9340 : Index := 0#32
  ![v22186.toNat, v22187.toNat, 0]

def k0_chk476 (v22056 : BitVec 32) (v22185 : BitVec 32) : Prop :=
  (∀ a, (k0_off1388 v22056 v22185) a + S1x40x128.size a ≤ S256x64x128.size a)
theorem k0_off1388_inb : ∀ (v22056 : BitVec 32) (v22185 : BitVec 32) (k0_hw476 : k0_chk476 v22056 v22185), ∀ a, (k0_off1388 v22056 v22185) a + S1x40x128.size a ≤ S256x64x128.size a := fun v22056 v22185 k0_hw476 => k0_hw476

def k0_off1389 (i : grid0.Coords) : Fin 3 → Nat :=
  let arg0 : BitVec 32 := BitVec.ofNat 32 (i 0).val
  let v22190 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22191 : Index := Scalar.indexCast v22053
  let c13_9341 : Index := 13#32
  ![v22190.toNat, v22191.toNat, 13]
def k0_off1390 (v22056 : BitVec 32) (v22192 : BitVec 32) : Fin 3 → Nat :=
  let v22193 : Index := Scalar.indexCast v22192
  let v22057 : BitVec 32 := v22056
  let v22194 : Index := Scalar.indexCast v22057
  let c0_9342 : Index := 0#32
  ![v22193.toNat, v22194.toNat, 0]

def k0_chk477 (v22056 : BitVec 32) (v22192 : BitVec 32) : Prop :=
  (∀ a, (k0_off1390 v22056 v22192) a + S1x40x128.size a ≤ S256x64x128.size a)
theorem k0_off1390_inb : ∀ (v22056 : BitVec 32) (v22192 : BitVec 32) (k0_hw477 : k0_chk477 v22056 v22192), ∀ a, (k0_off1390 v22056 v22192) a + S1x40x128.size a ≤ S256x64x128.size a := fun v22056 v22192 k0_hw477 => k0_hw477

def k0_off1391 (i : grid0.Coords) : Fin 3 → Nat :=
  let arg0 : BitVec 32 := BitVec.ofNat 32 (i 0).val
  let v22198 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22199 : Index := Scalar.indexCast v22053
  let c20_9343 : Index := 20#32
  ![v22198.toNat, v22199.toNat, 20]
def k0_off1392 (i : grid0.Coords) : Fin 3 → Nat :=
  let arg0 : BitVec 32 := BitVec.ofNat 32 (i 0).val
  let v22208 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22209 : Index := Scalar.indexCast v22053
  let c7_9348 : Index := 7#32
  ![v22208.toNat, v22209.toNat, 7]
def k0_off1393 (v22056 : BitVec 32) (v22210 : BitVec 32) : Fin 3 → Nat :=
  let v22211 : Index := Scalar.indexCast v22210
  let v22057 : BitVec 32 := v22056
  let v22212 : Index := Scalar.indexCast v22057
  let c0_9349 : Index := 0#32
  ![v22211.toNat, v22212.toNat, 0]

def k0_chk478 (v22056 : BitVec 32) (v22210 : BitVec 32) : Prop :=
  (∀ a, (k0_off1393 v22056 v22210) a + S1x40x128.size a ≤ S256x64x128.size a)
theorem k0_off1393_inb : ∀ (v22056 : BitVec 32) (v22210 : BitVec 32) (k0_hw478 : k0_chk478 v22056 v22210), ∀ a, (k0_off1393 v22056 v22210) a + S1x40x128.size a ≤ S256x64x128.size a := fun v22056 v22210 k0_hw478 => k0_hw478

def k0_off1394 (i : grid0.Coords) : Fin 3 → Nat :=
  let arg0 : BitVec 32 := BitVec.ofNat 32 (i 0).val
  let v22215 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22216 : Index := Scalar.indexCast v22053
  let c14_9350 : Index := 14#32
  ![v22215.toNat, v22216.toNat, 14]
def k0_off1395 (v22056 : BitVec 32) (v22217 : BitVec 32) : Fin 3 → Nat :=
  let v22218 : Index := Scalar.indexCast v22217
  let v22057 : BitVec 32 := v22056
  let v22219 : Index := Scalar.indexCast v22057
  let c0_9351 : Index := 0#32
  ![v22218.toNat, v22219.toNat, 0]

def k0_chk479 (v22056 : BitVec 32) (v22217 : BitVec 32) : Prop :=
  (∀ a, (k0_off1395 v22056 v22217) a + S1x40x128.size a ≤ S256x64x128.size a)
theorem k0_off1395_inb : ∀ (v22056 : BitVec 32) (v22217 : BitVec 32) (k0_hw479 : k0_chk479 v22056 v22217), ∀ a, (k0_off1395 v22056 v22217) a + S1x40x128.size a ≤ S256x64x128.size a := fun v22056 v22217 k0_hw479 => k0_hw479

def k0_off1396 (i : grid0.Coords) : Fin 3 → Nat :=
  let arg0 : BitVec 32 := BitVec.ofNat 32 (i 0).val
  let v22223 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22224 : Index := Scalar.indexCast v22053
  let c21_9352 : Index := 21#32
  ![v22223.toNat, v22224.toNat, 21]
def k0_off1397 (i : grid0.Coords) : Fin 3 → Nat :=
  let arg0 : BitVec 32 := BitVec.ofNat 32 (i 0).val
  let v22233 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22234 : Index := Scalar.indexCast v22053
  let c22_9357 : Index := 22#32
  ![v22233.toNat, v22234.toNat, 22]
def k0_off1398 (i : grid0.Coords) : Fin 3 → Nat :=
  let arg0 : BitVec 32 := BitVec.ofNat 32 (i 0).val
  let v22236 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22237 : Index := Scalar.indexCast v22053
  let c29_9358 : Index := 29#32
  ![v22236.toNat, v22237.toNat, 29]
def k0_off1399 (i : grid0.Coords) : Fin 3 → Nat :=
  let arg0 : BitVec 32 := BitVec.ofNat 32 (i 0).val
  let v22239 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22240 : Index := Scalar.indexCast v22053
  let c36_9359 : Index := 36#32
  ![v22239.toNat, v22240.toNat, 36]
def k0_off1400 (i : grid0.Coords) : Fin 3 → Nat :=
  let arg0 : BitVec 32 := BitVec.ofNat 32 (i 0).val
  let v22242 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22243 : Index := Scalar.indexCast v22053
  let c43_9360 : Index := 43#32
  ![v22242.toNat, v22243.toNat, 43]
def k0_off1401 (v22235 : BitVec 32) : Fin 3 → Nat :=
  let c560_i32 : BitVec 32 := 560#32
  let v22267 : BitVec 32 := Scalar.addi c560_i32 v22235
  let v22268 : Index := Scalar.indexCast v22267
  let c0_9365 : Index := 0#32
  let c0_9366 : Index := 0#32
  ![v22268.toNat, 0, 0]

def k0_off1402 (v22238 : BitVec 32) (c560_i32_9368 : BitVec 32) : Fin 3 → Nat :=
  let v22275 : BitVec 32 := Scalar.addi c560_i32_9368 v22238
  let v22276 : Index := Scalar.indexCast v22275
  let c0_9369 : Index := 0#32
  let c0_9370 : Index := 0#32
  ![v22276.toNat, 0, 0]

def k0_chk481 (v22238 : BitVec 32) : Prop :=
  (∀ (r : Fin 7), ∀ a, (k0_off1402 v22238 (BitVec.ofNat 32 (560 + 5 * r.val))) a + S1x8x128.size a ≤ S1120x8x128.size a)
theorem k0_off1402_inb : ∀ (v22238 : BitVec 32) (k0_hw481 : k0_chk481 v22238), ∀ (r : Fin 7), ∀ a, (k0_off1402 v22238 (BitVec.ofNat 32 (560 + 5 * r.val))) a + S1x8x128.size a ≤ S1120x8x128.size a := fun v22238 k0_hw481 r => k0_hw481 r

def k0_off1403 (v22235 : BitVec 32) (c565_i32 : BitVec 32) : Fin 3 → Nat :=
  let v22285 : BitVec 32 := Scalar.addi c565_i32 v22235
  let v22286 : Index := Scalar.indexCast v22285
  let c0_9373 : Index := 0#32
  let c0_9374 : Index := 0#32
  ![v22286.toNat, 0, 0]

def k0_chk480 (v22235 : BitVec 32) : Prop :=
  (∀ a, (k0_off1401 v22235) a + S1x8x128.size a ≤ S1120x8x128.size a) ∧
  (∀ (r : Fin 6), ∀ a, (k0_off1403 v22235 (BitVec.ofNat 32 (565 + 5 * r.val))) a + S1x8x128.size a ≤ S1120x8x128.size a)
theorem k0_off1401_inb : ∀ (v22235 : BitVec 32) (k0_hw480 : k0_chk480 v22235), ∀ a, (k0_off1401 v22235) a + S1x8x128.size a ≤ S1120x8x128.size a := fun v22235 k0_hw480 => k0_hw480.1
theorem k0_off1403_inb : ∀ (v22235 : BitVec 32) (k0_hw480 : k0_chk480 v22235), ∀ (r : Fin 6), ∀ a, (k0_off1403 v22235 (BitVec.ofNat 32 (565 + 5 * r.val))) a + S1x8x128.size a ≤ S1120x8x128.size a := fun v22235 k0_hw480 r => k0_hw480.2 r

def k0_off1404 (i : grid0.Coords) : Fin 3 → Nat :=
  let arg0 : BitVec 32 := BitVec.ofNat 32 (i 0).val
  let v22393 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22394 : Index := Scalar.indexCast v22053
  let c23_9421 : Index := 23#32
  ![v22393.toNat, v22394.toNat, 23]
def k0_off1405 (i : grid0.Coords) : Fin 3 → Nat :=
  let arg0 : BitVec 32 := BitVec.ofNat 32 (i 0).val
  let v22396 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22397 : Index := Scalar.indexCast v22053
  let c30_9422 : Index := 30#32
  ![v22396.toNat, v22397.toNat, 30]
def k0_off1406 (i : grid0.Coords) : Fin 3 → Nat :=
  let arg0 : BitVec 32 := BitVec.ofNat 32 (i 0).val
  let v22399 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22400 : Index := Scalar.indexCast v22053
  let c37_9423 : Index := 37#32
  ![v22399.toNat, v22400.toNat, 37]
def k0_off1407 (i : grid0.Coords) : Fin 3 → Nat :=
  let arg0 : BitVec 32 := BitVec.ofNat 32 (i 0).val
  let v22402 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22403 : Index := Scalar.indexCast v22053
  let c44_9424 : Index := 44#32
  ![v22402.toNat, v22403.toNat, 44]
def k0_off1408 (v22395 : BitVec 32) : Fin 3 → Nat :=
  let c560_i32_9429 : BitVec 32 := 560#32
  let v22427 : BitVec 32 := Scalar.addi c560_i32_9429 v22395
  let v22428 : Index := Scalar.indexCast v22427
  let c0_9430 : Index := 0#32
  let c0_9431 : Index := 0#32
  ![v22428.toNat, 0, 0]

def k0_off1409 (v22398 : BitVec 32) (c560_i32_9433 : BitVec 32) : Fin 3 → Nat :=
  let v22435 : BitVec 32 := Scalar.addi c560_i32_9433 v22398
  let v22436 : Index := Scalar.indexCast v22435
  let c0_9434 : Index := 0#32
  let c0_9435 : Index := 0#32
  ![v22436.toNat, 0, 0]

def k0_chk483 (v22398 : BitVec 32) : Prop :=
  (∀ (r : Fin 7), ∀ a, (k0_off1409 v22398 (BitVec.ofNat 32 (560 + 5 * r.val))) a + S1x8x128.size a ≤ S1120x8x128.size a)
theorem k0_off1409_inb : ∀ (v22398 : BitVec 32) (k0_hw483 : k0_chk483 v22398), ∀ (r : Fin 7), ∀ a, (k0_off1409 v22398 (BitVec.ofNat 32 (560 + 5 * r.val))) a + S1x8x128.size a ≤ S1120x8x128.size a := fun v22398 k0_hw483 r => k0_hw483 r

def k0_off1410 (v22395 : BitVec 32) (c565_i32_9438 : BitVec 32) : Fin 3 → Nat :=
  let v22445 : BitVec 32 := Scalar.addi c565_i32_9438 v22395
  let v22446 : Index := Scalar.indexCast v22445
  let c0_9439 : Index := 0#32
  let c0_9440 : Index := 0#32
  ![v22446.toNat, 0, 0]

def k0_chk482 (v22395 : BitVec 32) : Prop :=
  (∀ a, (k0_off1408 v22395) a + S1x8x128.size a ≤ S1120x8x128.size a) ∧
  (∀ (r : Fin 6), ∀ a, (k0_off1410 v22395 (BitVec.ofNat 32 (565 + 5 * r.val))) a + S1x8x128.size a ≤ S1120x8x128.size a)
theorem k0_off1408_inb : ∀ (v22395 : BitVec 32) (k0_hw482 : k0_chk482 v22395), ∀ a, (k0_off1408 v22395) a + S1x8x128.size a ≤ S1120x8x128.size a := fun v22395 k0_hw482 => k0_hw482.1
theorem k0_off1410_inb : ∀ (v22395 : BitVec 32) (k0_hw482 : k0_chk482 v22395), ∀ (r : Fin 6), ∀ a, (k0_off1410 v22395 (BitVec.ofNat 32 (565 + 5 * r.val))) a + S1x8x128.size a ≤ S1120x8x128.size a := fun v22395 k0_hw482 r => k0_hw482.2 r

def k0_off1411 (i : grid0.Coords) : Fin 3 → Nat :=
  let arg0 : BitVec 32 := BitVec.ofNat 32 (i 0).val
  let v22553 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22554 : Index := Scalar.indexCast v22053
  let c24_9492 : Index := 24#32
  ![v22553.toNat, v22554.toNat, 24]
def k0_off1412 (i : grid0.Coords) : Fin 3 → Nat :=
  let arg0 : BitVec 32 := BitVec.ofNat 32 (i 0).val
  let v22556 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22557 : Index := Scalar.indexCast v22053
  let c31_9493 : Index := 31#32
  ![v22556.toNat, v22557.toNat, 31]
def k0_off1413 (i : grid0.Coords) : Fin 3 → Nat :=
  let arg0 : BitVec 32 := BitVec.ofNat 32 (i 0).val
  let v22559 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22560 : Index := Scalar.indexCast v22053
  let c38_9494 : Index := 38#32
  ![v22559.toNat, v22560.toNat, 38]
def k0_off1414 (i : grid0.Coords) : Fin 3 → Nat :=
  let arg0 : BitVec 32 := BitVec.ofNat 32 (i 0).val
  let v22562 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22563 : Index := Scalar.indexCast v22053
  let c45_9495 : Index := 45#32
  ![v22562.toNat, v22563.toNat, 45]
def k0_off1415 (v22555 : BitVec 32) : Fin 3 → Nat :=
  let c560_i32_9500 : BitVec 32 := 560#32
  let v22587 : BitVec 32 := Scalar.addi c560_i32_9500 v22555
  let v22588 : Index := Scalar.indexCast v22587
  let c0_9501 : Index := 0#32
  let c0_9502 : Index := 0#32
  ![v22588.toNat, 0, 0]

def k0_off1416 (v22558 : BitVec 32) (c560_i32_9504 : BitVec 32) : Fin 3 → Nat :=
  let v22595 : BitVec 32 := Scalar.addi c560_i32_9504 v22558
  let v22596 : Index := Scalar.indexCast v22595
  let c0_9505 : Index := 0#32
  let c0_9506 : Index := 0#32
  ![v22596.toNat, 0, 0]

def k0_chk485 (v22558 : BitVec 32) : Prop :=
  (∀ (r : Fin 7), ∀ a, (k0_off1416 v22558 (BitVec.ofNat 32 (560 + 5 * r.val))) a + S1x8x128.size a ≤ S1120x8x128.size a)
theorem k0_off1416_inb : ∀ (v22558 : BitVec 32) (k0_hw485 : k0_chk485 v22558), ∀ (r : Fin 7), ∀ a, (k0_off1416 v22558 (BitVec.ofNat 32 (560 + 5 * r.val))) a + S1x8x128.size a ≤ S1120x8x128.size a := fun v22558 k0_hw485 r => k0_hw485 r

def k0_off1417 (v22555 : BitVec 32) (c565_i32_9509 : BitVec 32) : Fin 3 → Nat :=
  let v22605 : BitVec 32 := Scalar.addi c565_i32_9509 v22555
  let v22606 : Index := Scalar.indexCast v22605
  let c0_9510 : Index := 0#32
  let c0_9511 : Index := 0#32
  ![v22606.toNat, 0, 0]

def k0_chk484 (v22555 : BitVec 32) : Prop :=
  (∀ a, (k0_off1415 v22555) a + S1x8x128.size a ≤ S1120x8x128.size a) ∧
  (∀ (r : Fin 6), ∀ a, (k0_off1417 v22555 (BitVec.ofNat 32 (565 + 5 * r.val))) a + S1x8x128.size a ≤ S1120x8x128.size a)
theorem k0_off1415_inb : ∀ (v22555 : BitVec 32) (k0_hw484 : k0_chk484 v22555), ∀ a, (k0_off1415 v22555) a + S1x8x128.size a ≤ S1120x8x128.size a := fun v22555 k0_hw484 => k0_hw484.1
theorem k0_off1417_inb : ∀ (v22555 : BitVec 32) (k0_hw484 : k0_chk484 v22555), ∀ (r : Fin 6), ∀ a, (k0_off1417 v22555 (BitVec.ofNat 32 (565 + 5 * r.val))) a + S1x8x128.size a ≤ S1120x8x128.size a := fun v22555 k0_hw484 r => k0_hw484.2 r

def k0_off1418 (i : grid0.Coords) : Fin 3 → Nat :=
  let arg0 : BitVec 32 := BitVec.ofNat 32 (i 0).val
  let v22713 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22714 : Index := Scalar.indexCast v22053
  let c25_9563 : Index := 25#32
  ![v22713.toNat, v22714.toNat, 25]
def k0_off1419 (i : grid0.Coords) : Fin 3 → Nat :=
  let arg0 : BitVec 32 := BitVec.ofNat 32 (i 0).val
  let v22716 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22717 : Index := Scalar.indexCast v22053
  let c32_9564 : Index := 32#32
  ![v22716.toNat, v22717.toNat, 32]
def k0_off1420 (i : grid0.Coords) : Fin 3 → Nat :=
  let arg0 : BitVec 32 := BitVec.ofNat 32 (i 0).val
  let v22719 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22720 : Index := Scalar.indexCast v22053
  let c39_9565 : Index := 39#32
  ![v22719.toNat, v22720.toNat, 39]
def k0_off1421 (i : grid0.Coords) : Fin 3 → Nat :=
  let arg0 : BitVec 32 := BitVec.ofNat 32 (i 0).val
  let v22722 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22723 : Index := Scalar.indexCast v22053
  let c46_9566 : Index := 46#32
  ![v22722.toNat, v22723.toNat, 46]
def k0_off1422 (v22715 : BitVec 32) : Fin 3 → Nat :=
  let c560_i32_9571 : BitVec 32 := 560#32
  let v22747 : BitVec 32 := Scalar.addi c560_i32_9571 v22715
  let v22748 : Index := Scalar.indexCast v22747
  let c0_9572 : Index := 0#32
  let c0_9573 : Index := 0#32
  ![v22748.toNat, 0, 0]

def k0_off1423 (v22718 : BitVec 32) (c560_i32_9575 : BitVec 32) : Fin 3 → Nat :=
  let v22755 : BitVec 32 := Scalar.addi c560_i32_9575 v22718
  let v22756 : Index := Scalar.indexCast v22755
  let c0_9576 : Index := 0#32
  let c0_9577 : Index := 0#32
  ![v22756.toNat, 0, 0]

def k0_chk487 (v22718 : BitVec 32) : Prop :=
  (∀ (r : Fin 7), ∀ a, (k0_off1423 v22718 (BitVec.ofNat 32 (560 + 5 * r.val))) a + S1x8x128.size a ≤ S1120x8x128.size a)
theorem k0_off1423_inb : ∀ (v22718 : BitVec 32) (k0_hw487 : k0_chk487 v22718), ∀ (r : Fin 7), ∀ a, (k0_off1423 v22718 (BitVec.ofNat 32 (560 + 5 * r.val))) a + S1x8x128.size a ≤ S1120x8x128.size a := fun v22718 k0_hw487 r => k0_hw487 r

def k0_off1424 (v22715 : BitVec 32) (c565_i32_9580 : BitVec 32) : Fin 3 → Nat :=
  let v22765 : BitVec 32 := Scalar.addi c565_i32_9580 v22715
  let v22766 : Index := Scalar.indexCast v22765
  let c0_9581 : Index := 0#32
  let c0_9582 : Index := 0#32
  ![v22766.toNat, 0, 0]

def k0_chk486 (v22715 : BitVec 32) : Prop :=
  (∀ a, (k0_off1422 v22715) a + S1x8x128.size a ≤ S1120x8x128.size a) ∧
  (∀ (r : Fin 6), ∀ a, (k0_off1424 v22715 (BitVec.ofNat 32 (565 + 5 * r.val))) a + S1x8x128.size a ≤ S1120x8x128.size a)
theorem k0_off1422_inb : ∀ (v22715 : BitVec 32) (k0_hw486 : k0_chk486 v22715), ∀ a, (k0_off1422 v22715) a + S1x8x128.size a ≤ S1120x8x128.size a := fun v22715 k0_hw486 => k0_hw486.1
theorem k0_off1424_inb : ∀ (v22715 : BitVec 32) (k0_hw486 : k0_chk486 v22715), ∀ (r : Fin 6), ∀ a, (k0_off1424 v22715 (BitVec.ofNat 32 (565 + 5 * r.val))) a + S1x8x128.size a ≤ S1120x8x128.size a := fun v22715 k0_hw486 r => k0_hw486.2 r

def k0_off1425 (i : grid0.Coords) : Fin 3 → Nat :=
  let arg0 : BitVec 32 := BitVec.ofNat 32 (i 0).val
  let v22873 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22874 : Index := Scalar.indexCast v22053
  let c26_9634 : Index := 26#32
  ![v22873.toNat, v22874.toNat, 26]
def k0_off1426 (i : grid0.Coords) : Fin 3 → Nat :=
  let arg0 : BitVec 32 := BitVec.ofNat 32 (i 0).val
  let v22876 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22877 : Index := Scalar.indexCast v22053
  let c33_9635 : Index := 33#32
  ![v22876.toNat, v22877.toNat, 33]
def k0_off1427 (i : grid0.Coords) : Fin 3 → Nat :=
  let arg0 : BitVec 32 := BitVec.ofNat 32 (i 0).val
  let v22879 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22880 : Index := Scalar.indexCast v22053
  let c40_9636 : Index := 40#32
  ![v22879.toNat, v22880.toNat, 40]
def k0_off1428 (i : grid0.Coords) : Fin 3 → Nat :=
  let arg0 : BitVec 32 := BitVec.ofNat 32 (i 0).val
  let v22882 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v22883 : Index := Scalar.indexCast v22053
  let c47_9637 : Index := 47#32
  ![v22882.toNat, v22883.toNat, 47]
def k0_off1429 (v22875 : BitVec 32) : Fin 3 → Nat :=
  let c560_i32_9642 : BitVec 32 := 560#32
  let v22907 : BitVec 32 := Scalar.addi c560_i32_9642 v22875
  let v22908 : Index := Scalar.indexCast v22907
  let c0_9643 : Index := 0#32
  let c0_9644 : Index := 0#32
  ![v22908.toNat, 0, 0]

def k0_off1430 (v22878 : BitVec 32) (c560_i32_9646 : BitVec 32) : Fin 3 → Nat :=
  let v22915 : BitVec 32 := Scalar.addi c560_i32_9646 v22878
  let v22916 : Index := Scalar.indexCast v22915
  let c0_9647 : Index := 0#32
  let c0_9648 : Index := 0#32
  ![v22916.toNat, 0, 0]

def k0_chk489 (v22878 : BitVec 32) : Prop :=
  (∀ (r : Fin 7), ∀ a, (k0_off1430 v22878 (BitVec.ofNat 32 (560 + 5 * r.val))) a + S1x8x128.size a ≤ S1120x8x128.size a)
theorem k0_off1430_inb : ∀ (v22878 : BitVec 32) (k0_hw489 : k0_chk489 v22878), ∀ (r : Fin 7), ∀ a, (k0_off1430 v22878 (BitVec.ofNat 32 (560 + 5 * r.val))) a + S1x8x128.size a ≤ S1120x8x128.size a := fun v22878 k0_hw489 r => k0_hw489 r

def k0_off1431 (v22875 : BitVec 32) (c565_i32_9651 : BitVec 32) : Fin 3 → Nat :=
  let v22925 : BitVec 32 := Scalar.addi c565_i32_9651 v22875
  let v22926 : Index := Scalar.indexCast v22925
  let c0_9652 : Index := 0#32
  let c0_9653 : Index := 0#32
  ![v22926.toNat, 0, 0]

def k0_chk488 (v22875 : BitVec 32) : Prop :=
  (∀ a, (k0_off1429 v22875) a + S1x8x128.size a ≤ S1120x8x128.size a) ∧
  (∀ (r : Fin 6), ∀ a, (k0_off1431 v22875 (BitVec.ofNat 32 (565 + 5 * r.val))) a + S1x8x128.size a ≤ S1120x8x128.size a)
theorem k0_off1429_inb : ∀ (v22875 : BitVec 32) (k0_hw488 : k0_chk488 v22875), ∀ a, (k0_off1429 v22875) a + S1x8x128.size a ≤ S1120x8x128.size a := fun v22875 k0_hw488 => k0_hw488.1
theorem k0_off1431_inb : ∀ (v22875 : BitVec 32) (k0_hw488 : k0_chk488 v22875), ∀ (r : Fin 6), ∀ a, (k0_off1431 v22875 (BitVec.ofNat 32 (565 + 5 * r.val))) a + S1x8x128.size a ≤ S1120x8x128.size a := fun v22875 k0_hw488 r => k0_hw488.2 r

def k0_off1432 (i : grid0.Coords) : Fin 3 → Nat :=
  let arg0 : BitVec 32 := BitVec.ofNat 32 (i 0).val
  let v23033 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23034 : Index := Scalar.indexCast v22053
  let c27_9705 : Index := 27#32
  ![v23033.toNat, v23034.toNat, 27]
def k0_off1433 (i : grid0.Coords) : Fin 3 → Nat :=
  let arg0 : BitVec 32 := BitVec.ofNat 32 (i 0).val
  let v23036 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23037 : Index := Scalar.indexCast v22053
  let c34_9706 : Index := 34#32
  ![v23036.toNat, v23037.toNat, 34]
def k0_off1434 (i : grid0.Coords) : Fin 3 → Nat :=
  let arg0 : BitVec 32 := BitVec.ofNat 32 (i 0).val
  let v23039 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23040 : Index := Scalar.indexCast v22053
  let c41_9707 : Index := 41#32
  ![v23039.toNat, v23040.toNat, 41]
def k0_off1435 (i : grid0.Coords) : Fin 3 → Nat :=
  let arg0 : BitVec 32 := BitVec.ofNat 32 (i 0).val
  let v23042 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23043 : Index := Scalar.indexCast v22053
  let c48_9708 : Index := 48#32
  ![v23042.toNat, v23043.toNat, 48]
def k0_off1436 (v23035 : BitVec 32) : Fin 3 → Nat :=
  let c560_i32_9713 : BitVec 32 := 560#32
  let v23067 : BitVec 32 := Scalar.addi c560_i32_9713 v23035
  let v23068 : Index := Scalar.indexCast v23067
  let c0_9714 : Index := 0#32
  let c0_9715 : Index := 0#32
  ![v23068.toNat, 0, 0]

def k0_off1437 (v23038 : BitVec 32) (c560_i32_9717 : BitVec 32) : Fin 3 → Nat :=
  let v23075 : BitVec 32 := Scalar.addi c560_i32_9717 v23038
  let v23076 : Index := Scalar.indexCast v23075
  let c0_9718 : Index := 0#32
  let c0_9719 : Index := 0#32
  ![v23076.toNat, 0, 0]

def k0_chk491 (v23038 : BitVec 32) : Prop :=
  (∀ (r : Fin 7), ∀ a, (k0_off1437 v23038 (BitVec.ofNat 32 (560 + 5 * r.val))) a + S1x8x128.size a ≤ S1120x8x128.size a)
theorem k0_off1437_inb : ∀ (v23038 : BitVec 32) (k0_hw491 : k0_chk491 v23038), ∀ (r : Fin 7), ∀ a, (k0_off1437 v23038 (BitVec.ofNat 32 (560 + 5 * r.val))) a + S1x8x128.size a ≤ S1120x8x128.size a := fun v23038 k0_hw491 r => k0_hw491 r

def k0_off1438 (v23035 : BitVec 32) (c565_i32_9722 : BitVec 32) : Fin 3 → Nat :=
  let v23085 : BitVec 32 := Scalar.addi c565_i32_9722 v23035
  let v23086 : Index := Scalar.indexCast v23085
  let c0_9723 : Index := 0#32
  let c0_9724 : Index := 0#32
  ![v23086.toNat, 0, 0]

def k0_chk490 (v23035 : BitVec 32) : Prop :=
  (∀ a, (k0_off1436 v23035) a + S1x8x128.size a ≤ S1120x8x128.size a) ∧
  (∀ (r : Fin 6), ∀ a, (k0_off1438 v23035 (BitVec.ofNat 32 (565 + 5 * r.val))) a + S1x8x128.size a ≤ S1120x8x128.size a)
theorem k0_off1436_inb : ∀ (v23035 : BitVec 32) (k0_hw490 : k0_chk490 v23035), ∀ a, (k0_off1436 v23035) a + S1x8x128.size a ≤ S1120x8x128.size a := fun v23035 k0_hw490 => k0_hw490.1
theorem k0_off1438_inb : ∀ (v23035 : BitVec 32) (k0_hw490 : k0_chk490 v23035), ∀ (r : Fin 6), ∀ a, (k0_off1438 v23035 (BitVec.ofNat 32 (565 + 5 * r.val))) a + S1x8x128.size a ≤ S1120x8x128.size a := fun v23035 k0_hw490 r => k0_hw490.2 r

def k0_off1439 (i : grid0.Coords) : Fin 3 → Nat :=
  let arg0 : BitVec 32 := BitVec.ofNat 32 (i 0).val
  let v23193 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23194 : Index := Scalar.indexCast v22053
  let c28_9776 : Index := 28#32
  ![v23193.toNat, v23194.toNat, 28]
def k0_off1440 (i : grid0.Coords) : Fin 3 → Nat :=
  let arg0 : BitVec 32 := BitVec.ofNat 32 (i 0).val
  let v23196 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23197 : Index := Scalar.indexCast v22053
  let c35_9777 : Index := 35#32
  ![v23196.toNat, v23197.toNat, 35]
def k0_off1441 (i : grid0.Coords) : Fin 3 → Nat :=
  let arg0 : BitVec 32 := BitVec.ofNat 32 (i 0).val
  let v23199 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23200 : Index := Scalar.indexCast v22053
  let c42_9778 : Index := 42#32
  ![v23199.toNat, v23200.toNat, 42]
def k0_off1442 (i : grid0.Coords) : Fin 3 → Nat :=
  let arg0 : BitVec 32 := BitVec.ofNat 32 (i 0).val
  let v23202 : Index := Scalar.indexCast arg0
  let arg1 : BitVec 32 := BitVec.ofNat 32 (i 1).val
  let c32_i32_9292 : BitVec 32 := 32#32
  let v22052 : BitVec 32 := Scalar.muli arg1 c32_i32_9292
  let c16_i32 : BitVec 32 := 16#32
  let v22053 : BitVec 32 := Scalar.addi v22052 c16_i32
  let v23203 : Index := Scalar.indexCast v22053
  let c49_9779 : Index := 49#32
  ![v23202.toNat, v23203.toNat, 49]
def k0_off1443 (v23195 : BitVec 32) : Fin 3 → Nat :=
  let c560_i32_9784 : BitVec 32 := 560#32
  let v23227 : BitVec 32 := Scalar.addi c560_i32_9784 v23195
  let v23228 : Index := Scalar.indexCast v23227
  let c0_9785 : Index := 0#32
  let c0_9786 : Index := 0#32
  ![v23228.toNat, 0, 0]

def k0_off1444 (v23198 : BitVec 32) (c560_i32_9788 : BitVec 32) : Fin 3 → Nat :=
  let v23235 : BitVec 32 := Scalar.addi c560_i32_9788 v23198
  let v23236 : Index := Scalar.indexCast v23235
  let c0_9789 : Index := 0#32
  let c0_9790 : Index := 0#32
  ![v23236.toNat, 0, 0]

def k0_chk493 (v23198 : BitVec 32) : Prop :=
  (∀ (r : Fin 7), ∀ a, (k0_off1444 v23198 (BitVec.ofNat 32 (560 + 5 * r.val))) a + S1x8x128.size a ≤ S1120x8x128.size a)
theorem k0_off1444_inb : ∀ (v23198 : BitVec 32) (k0_hw493 : k0_chk493 v23198), ∀ (r : Fin 7), ∀ a, (k0_off1444 v23198 (BitVec.ofNat 32 (560 + 5 * r.val))) a + S1x8x128.size a ≤ S1120x8x128.size a := fun v23198 k0_hw493 r => k0_hw493 r

def k0_off1445 (v23195 : BitVec 32) (c565_i32_9793 : BitVec 32) : Fin 3 → Nat :=
  let v23245 : BitVec 32 := Scalar.addi c565_i32_9793 v23195
  let v23246 : Index := Scalar.indexCast v23245
  let c0_9794 : Index := 0#32
  let c0_9795 : Index := 0#32
  ![v23246.toNat, 0, 0]

def k0_chk492 (v23195 : BitVec 32) : Prop :=
  (∀ a, (k0_off1443 v23195) a + S1x8x128.size a ≤ S1120x8x128.size a) ∧
  (∀ (r : Fin 6), ∀ a, (k0_off1445 v23195 (BitVec.ofNat 32 (565 + 5 * r.val))) a + S1x8x128.size a ≤ S1120x8x128.size a)
theorem k0_off1443_inb : ∀ (v23195 : BitVec 32) (k0_hw492 : k0_chk492 v23195), ∀ a, (k0_off1443 v23195) a + S1x8x128.size a ≤ S1120x8x128.size a := fun v23195 k0_hw492 => k0_hw492.1
theorem k0_off1445_inb : ∀ (v23195 : BitVec 32) (k0_hw492 : k0_chk492 v23195), ∀ (r : Fin 6), ∀ a, (k0_off1445 v23195 (BitVec.ofNat 32 (565 + 5 * r.val))) a + S1x8x128.size a ≤ S1120x8x128.size a := fun v23195 k0_hw492 r => k0_hw492.2 r

def k0_off1446 (i : grid0.Coords) : Fin 3 → Nat :=
  let arg0 : BitVec 32 := BitVec.ofNat 32 (i 0).val
  let v23432 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23433 : Index := Scalar.indexCast v23431
  let c0_9876 : Index := 0#32
  ![v23432.toNat, v23433.toNat, 0]
def k0_mult18 (v23434 : BitVec 32) : BitVec 32 :=
  v23434

def k0_chk494 (v23434 : BitVec 32) : Prop :=
  (8 ∣ (k0_mult18 v23434).toNat)
theorem k0_mult18_dvd : ∀ (v23434 : BitVec 32) (k0_hw494 : k0_chk494 v23434), 8 ∣ (k0_mult18 v23434).toNat := fun v23434 k0_hw494 => k0_hw494

def k0_off1447 (i : grid0.Coords) : Fin 3 → Nat :=
  let arg0 : BitVec 32 := BitVec.ofNat 32 (i 0).val
  let v23436 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23437 : Index := Scalar.indexCast v23431
  let c1_9877 : Index := 1#32
  ![v23436.toNat, v23437.toNat, 1]
def k0_off1448 (v23434 : BitVec 32) (v23438 : BitVec 32) : Fin 3 → Nat :=
  let v23439 : Index := Scalar.indexCast v23438
  let v23435 : BitVec 32 := v23434
  let v23440 : Index := Scalar.indexCast v23435
  let c0_9878 : Index := 0#32
  ![v23439.toNat, v23440.toNat, 0]

def k0_chk495 (v23434 : BitVec 32) (v23438 : BitVec 32) : Prop :=
  (∀ a, (k0_off1448 v23434 v23438) a + S1x40x128.size a ≤ S256x64x128.size a)
theorem k0_off1448_inb : ∀ (v23434 : BitVec 32) (v23438 : BitVec 32) (k0_hw495 : k0_chk495 v23434 v23438), ∀ a, (k0_off1448 v23434 v23438) a + S1x40x128.size a ≤ S256x64x128.size a := fun v23434 v23438 k0_hw495 => k0_hw495

def k0_off1449 (i : grid0.Coords) : Fin 3 → Nat :=
  let arg0 : BitVec 32 := BitVec.ofNat 32 (i 0).val
  let v23443 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23444 : Index := Scalar.indexCast v23431
  let c8_9879 : Index := 8#32
  ![v23443.toNat, v23444.toNat, 8]
def k0_off1450 (v23434 : BitVec 32) (v23445 : BitVec 32) : Fin 3 → Nat :=
  let v23446 : Index := Scalar.indexCast v23445
  let v23435 : BitVec 32 := v23434
  let v23447 : Index := Scalar.indexCast v23435
  let c0_9880 : Index := 0#32
  ![v23446.toNat, v23447.toNat, 0]

def k0_chk496 (v23434 : BitVec 32) (v23445 : BitVec 32) : Prop :=
  (∀ a, (k0_off1450 v23434 v23445) a + S1x40x128.size a ≤ S256x64x128.size a)
theorem k0_off1450_inb : ∀ (v23434 : BitVec 32) (v23445 : BitVec 32) (k0_hw496 : k0_chk496 v23434 v23445), ∀ a, (k0_off1450 v23434 v23445) a + S1x40x128.size a ≤ S256x64x128.size a := fun v23434 v23445 k0_hw496 => k0_hw496

def k0_off1451 (i : grid0.Coords) : Fin 3 → Nat :=
  let arg0 : BitVec 32 := BitVec.ofNat 32 (i 0).val
  let v23451 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23452 : Index := Scalar.indexCast v23431
  let c15_9881 : Index := 15#32
  ![v23451.toNat, v23452.toNat, 15]
def k0_off1452 (i : grid0.Coords) : Fin 3 → Nat :=
  let arg0 : BitVec 32 := BitVec.ofNat 32 (i 0).val
  let v23461 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23462 : Index := Scalar.indexCast v23431
  let c2_9886 : Index := 2#32
  ![v23461.toNat, v23462.toNat, 2]
def k0_off1453 (v23434 : BitVec 32) (v23463 : BitVec 32) : Fin 3 → Nat :=
  let v23464 : Index := Scalar.indexCast v23463
  let v23435 : BitVec 32 := v23434
  let v23465 : Index := Scalar.indexCast v23435
  let c0_9887 : Index := 0#32
  ![v23464.toNat, v23465.toNat, 0]

def k0_chk497 (v23434 : BitVec 32) (v23463 : BitVec 32) : Prop :=
  (∀ a, (k0_off1453 v23434 v23463) a + S1x40x128.size a ≤ S256x64x128.size a)
theorem k0_off1453_inb : ∀ (v23434 : BitVec 32) (v23463 : BitVec 32) (k0_hw497 : k0_chk497 v23434 v23463), ∀ a, (k0_off1453 v23434 v23463) a + S1x40x128.size a ≤ S256x64x128.size a := fun v23434 v23463 k0_hw497 => k0_hw497

def k0_off1454 (i : grid0.Coords) : Fin 3 → Nat :=
  let arg0 : BitVec 32 := BitVec.ofNat 32 (i 0).val
  let v23468 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23469 : Index := Scalar.indexCast v23431
  let c9_9888 : Index := 9#32
  ![v23468.toNat, v23469.toNat, 9]
def k0_off1455 (v23434 : BitVec 32) (v23470 : BitVec 32) : Fin 3 → Nat :=
  let v23471 : Index := Scalar.indexCast v23470
  let v23435 : BitVec 32 := v23434
  let v23472 : Index := Scalar.indexCast v23435
  let c0_9889 : Index := 0#32
  ![v23471.toNat, v23472.toNat, 0]

def k0_chk498 (v23434 : BitVec 32) (v23470 : BitVec 32) : Prop :=
  (∀ a, (k0_off1455 v23434 v23470) a + S1x40x128.size a ≤ S256x64x128.size a)
theorem k0_off1455_inb : ∀ (v23434 : BitVec 32) (v23470 : BitVec 32) (k0_hw498 : k0_chk498 v23434 v23470), ∀ a, (k0_off1455 v23434 v23470) a + S1x40x128.size a ≤ S256x64x128.size a := fun v23434 v23470 k0_hw498 => k0_hw498

def k0_off1456 (i : grid0.Coords) : Fin 3 → Nat :=
  let arg0 : BitVec 32 := BitVec.ofNat 32 (i 0).val
  let v23476 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23477 : Index := Scalar.indexCast v23431
  let c16_9890 : Index := 16#32
  ![v23476.toNat, v23477.toNat, 16]
def k0_off1457 (i : grid0.Coords) : Fin 3 → Nat :=
  let arg0 : BitVec 32 := BitVec.ofNat 32 (i 0).val
  let v23486 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23487 : Index := Scalar.indexCast v23431
  let c3_9895 : Index := 3#32
  ![v23486.toNat, v23487.toNat, 3]
def k0_off1458 (v23434 : BitVec 32) (v23488 : BitVec 32) : Fin 3 → Nat :=
  let v23489 : Index := Scalar.indexCast v23488
  let v23435 : BitVec 32 := v23434
  let v23490 : Index := Scalar.indexCast v23435
  let c0_9896 : Index := 0#32
  ![v23489.toNat, v23490.toNat, 0]

def k0_chk499 (v23434 : BitVec 32) (v23488 : BitVec 32) : Prop :=
  (∀ a, (k0_off1458 v23434 v23488) a + S1x40x128.size a ≤ S256x64x128.size a)
theorem k0_off1458_inb : ∀ (v23434 : BitVec 32) (v23488 : BitVec 32) (k0_hw499 : k0_chk499 v23434 v23488), ∀ a, (k0_off1458 v23434 v23488) a + S1x40x128.size a ≤ S256x64x128.size a := fun v23434 v23488 k0_hw499 => k0_hw499

def k0_off1459 (i : grid0.Coords) : Fin 3 → Nat :=
  let arg0 : BitVec 32 := BitVec.ofNat 32 (i 0).val
  let v23493 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23494 : Index := Scalar.indexCast v23431
  let c10_9897 : Index := 10#32
  ![v23493.toNat, v23494.toNat, 10]
def k0_off1460 (v23434 : BitVec 32) (v23495 : BitVec 32) : Fin 3 → Nat :=
  let v23496 : Index := Scalar.indexCast v23495
  let v23435 : BitVec 32 := v23434
  let v23497 : Index := Scalar.indexCast v23435
  let c0_9898 : Index := 0#32
  ![v23496.toNat, v23497.toNat, 0]

def k0_chk500 (v23434 : BitVec 32) (v23495 : BitVec 32) : Prop :=
  (∀ a, (k0_off1460 v23434 v23495) a + S1x40x128.size a ≤ S256x64x128.size a)
theorem k0_off1460_inb : ∀ (v23434 : BitVec 32) (v23495 : BitVec 32) (k0_hw500 : k0_chk500 v23434 v23495), ∀ a, (k0_off1460 v23434 v23495) a + S1x40x128.size a ≤ S256x64x128.size a := fun v23434 v23495 k0_hw500 => k0_hw500

def k0_off1461 (i : grid0.Coords) : Fin 3 → Nat :=
  let arg0 : BitVec 32 := BitVec.ofNat 32 (i 0).val
  let v23501 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23502 : Index := Scalar.indexCast v23431
  let c17_9899 : Index := 17#32
  ![v23501.toNat, v23502.toNat, 17]
def k0_off1462 (i : grid0.Coords) : Fin 3 → Nat :=
  let arg0 : BitVec 32 := BitVec.ofNat 32 (i 0).val
  let v23511 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23512 : Index := Scalar.indexCast v23431
  let c4_9904 : Index := 4#32
  ![v23511.toNat, v23512.toNat, 4]
def k0_off1463 (v23434 : BitVec 32) (v23513 : BitVec 32) : Fin 3 → Nat :=
  let v23514 : Index := Scalar.indexCast v23513
  let v23435 : BitVec 32 := v23434
  let v23515 : Index := Scalar.indexCast v23435
  let c0_9905 : Index := 0#32
  ![v23514.toNat, v23515.toNat, 0]

def k0_chk501 (v23434 : BitVec 32) (v23513 : BitVec 32) : Prop :=
  (∀ a, (k0_off1463 v23434 v23513) a + S1x40x128.size a ≤ S256x64x128.size a)
theorem k0_off1463_inb : ∀ (v23434 : BitVec 32) (v23513 : BitVec 32) (k0_hw501 : k0_chk501 v23434 v23513), ∀ a, (k0_off1463 v23434 v23513) a + S1x40x128.size a ≤ S256x64x128.size a := fun v23434 v23513 k0_hw501 => k0_hw501

def k0_off1464 (i : grid0.Coords) : Fin 3 → Nat :=
  let arg0 : BitVec 32 := BitVec.ofNat 32 (i 0).val
  let v23518 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23519 : Index := Scalar.indexCast v23431
  let c11_9906 : Index := 11#32
  ![v23518.toNat, v23519.toNat, 11]
def k0_off1465 (v23434 : BitVec 32) (v23520 : BitVec 32) : Fin 3 → Nat :=
  let v23521 : Index := Scalar.indexCast v23520
  let v23435 : BitVec 32 := v23434
  let v23522 : Index := Scalar.indexCast v23435
  let c0_9907 : Index := 0#32
  ![v23521.toNat, v23522.toNat, 0]

def k0_chk502 (v23434 : BitVec 32) (v23520 : BitVec 32) : Prop :=
  (∀ a, (k0_off1465 v23434 v23520) a + S1x40x128.size a ≤ S256x64x128.size a)
theorem k0_off1465_inb : ∀ (v23434 : BitVec 32) (v23520 : BitVec 32) (k0_hw502 : k0_chk502 v23434 v23520), ∀ a, (k0_off1465 v23434 v23520) a + S1x40x128.size a ≤ S256x64x128.size a := fun v23434 v23520 k0_hw502 => k0_hw502

def k0_off1466 (i : grid0.Coords) : Fin 3 → Nat :=
  let arg0 : BitVec 32 := BitVec.ofNat 32 (i 0).val
  let v23526 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23527 : Index := Scalar.indexCast v23431
  let c18_9908 : Index := 18#32
  ![v23526.toNat, v23527.toNat, 18]
def k0_off1467 (i : grid0.Coords) : Fin 3 → Nat :=
  let arg0 : BitVec 32 := BitVec.ofNat 32 (i 0).val
  let v23536 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23537 : Index := Scalar.indexCast v23431
  let c5_9913 : Index := 5#32
  ![v23536.toNat, v23537.toNat, 5]
def k0_off1468 (v23434 : BitVec 32) (v23538 : BitVec 32) : Fin 3 → Nat :=
  let v23539 : Index := Scalar.indexCast v23538
  let v23435 : BitVec 32 := v23434
  let v23540 : Index := Scalar.indexCast v23435
  let c0_9914 : Index := 0#32
  ![v23539.toNat, v23540.toNat, 0]

def k0_chk503 (v23434 : BitVec 32) (v23538 : BitVec 32) : Prop :=
  (∀ a, (k0_off1468 v23434 v23538) a + S1x40x128.size a ≤ S256x64x128.size a)
theorem k0_off1468_inb : ∀ (v23434 : BitVec 32) (v23538 : BitVec 32) (k0_hw503 : k0_chk503 v23434 v23538), ∀ a, (k0_off1468 v23434 v23538) a + S1x40x128.size a ≤ S256x64x128.size a := fun v23434 v23538 k0_hw503 => k0_hw503

def k0_off1469 (i : grid0.Coords) : Fin 3 → Nat :=
  let arg0 : BitVec 32 := BitVec.ofNat 32 (i 0).val
  let v23543 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23544 : Index := Scalar.indexCast v23431
  let c12_9915 : Index := 12#32
  ![v23543.toNat, v23544.toNat, 12]
def k0_off1470 (v23434 : BitVec 32) (v23545 : BitVec 32) : Fin 3 → Nat :=
  let v23546 : Index := Scalar.indexCast v23545
  let v23435 : BitVec 32 := v23434
  let v23547 : Index := Scalar.indexCast v23435
  let c0_9916 : Index := 0#32
  ![v23546.toNat, v23547.toNat, 0]

def k0_chk504 (v23434 : BitVec 32) (v23545 : BitVec 32) : Prop :=
  (∀ a, (k0_off1470 v23434 v23545) a + S1x40x128.size a ≤ S256x64x128.size a)
theorem k0_off1470_inb : ∀ (v23434 : BitVec 32) (v23545 : BitVec 32) (k0_hw504 : k0_chk504 v23434 v23545), ∀ a, (k0_off1470 v23434 v23545) a + S1x40x128.size a ≤ S256x64x128.size a := fun v23434 v23545 k0_hw504 => k0_hw504

def k0_off1471 (i : grid0.Coords) : Fin 3 → Nat :=
  let arg0 : BitVec 32 := BitVec.ofNat 32 (i 0).val
  let v23551 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23552 : Index := Scalar.indexCast v23431
  let c19_9917 : Index := 19#32
  ![v23551.toNat, v23552.toNat, 19]
def k0_off1472 (i : grid0.Coords) : Fin 3 → Nat :=
  let arg0 : BitVec 32 := BitVec.ofNat 32 (i 0).val
  let v23561 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23562 : Index := Scalar.indexCast v23431
  let c6_9922 : Index := 6#32
  ![v23561.toNat, v23562.toNat, 6]
def k0_off1473 (v23434 : BitVec 32) (v23563 : BitVec 32) : Fin 3 → Nat :=
  let v23564 : Index := Scalar.indexCast v23563
  let v23435 : BitVec 32 := v23434
  let v23565 : Index := Scalar.indexCast v23435
  let c0_9923 : Index := 0#32
  ![v23564.toNat, v23565.toNat, 0]

def k0_chk505 (v23434 : BitVec 32) (v23563 : BitVec 32) : Prop :=
  (∀ a, (k0_off1473 v23434 v23563) a + S1x40x128.size a ≤ S256x64x128.size a)
theorem k0_off1473_inb : ∀ (v23434 : BitVec 32) (v23563 : BitVec 32) (k0_hw505 : k0_chk505 v23434 v23563), ∀ a, (k0_off1473 v23434 v23563) a + S1x40x128.size a ≤ S256x64x128.size a := fun v23434 v23563 k0_hw505 => k0_hw505

def k0_off1474 (i : grid0.Coords) : Fin 3 → Nat :=
  let arg0 : BitVec 32 := BitVec.ofNat 32 (i 0).val
  let v23568 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23569 : Index := Scalar.indexCast v23431
  let c13_9924 : Index := 13#32
  ![v23568.toNat, v23569.toNat, 13]
def k0_off1475 (v23434 : BitVec 32) (v23570 : BitVec 32) : Fin 3 → Nat :=
  let v23571 : Index := Scalar.indexCast v23570
  let v23435 : BitVec 32 := v23434
  let v23572 : Index := Scalar.indexCast v23435
  let c0_9925 : Index := 0#32
  ![v23571.toNat, v23572.toNat, 0]

def k0_chk506 (v23434 : BitVec 32) (v23570 : BitVec 32) : Prop :=
  (∀ a, (k0_off1475 v23434 v23570) a + S1x40x128.size a ≤ S256x64x128.size a)
theorem k0_off1475_inb : ∀ (v23434 : BitVec 32) (v23570 : BitVec 32) (k0_hw506 : k0_chk506 v23434 v23570), ∀ a, (k0_off1475 v23434 v23570) a + S1x40x128.size a ≤ S256x64x128.size a := fun v23434 v23570 k0_hw506 => k0_hw506

def k0_off1476 (i : grid0.Coords) : Fin 3 → Nat :=
  let arg0 : BitVec 32 := BitVec.ofNat 32 (i 0).val
  let v23576 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23577 : Index := Scalar.indexCast v23431
  let c20_9926 : Index := 20#32
  ![v23576.toNat, v23577.toNat, 20]
def k0_off1477 (i : grid0.Coords) : Fin 3 → Nat :=
  let arg0 : BitVec 32 := BitVec.ofNat 32 (i 0).val
  let v23586 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23587 : Index := Scalar.indexCast v23431
  let c7_9931 : Index := 7#32
  ![v23586.toNat, v23587.toNat, 7]
def k0_off1478 (v23434 : BitVec 32) (v23588 : BitVec 32) : Fin 3 → Nat :=
  let v23589 : Index := Scalar.indexCast v23588
  let v23435 : BitVec 32 := v23434
  let v23590 : Index := Scalar.indexCast v23435
  let c0_9932 : Index := 0#32
  ![v23589.toNat, v23590.toNat, 0]

def k0_chk507 (v23434 : BitVec 32) (v23588 : BitVec 32) : Prop :=
  (∀ a, (k0_off1478 v23434 v23588) a + S1x40x128.size a ≤ S256x64x128.size a)
theorem k0_off1478_inb : ∀ (v23434 : BitVec 32) (v23588 : BitVec 32) (k0_hw507 : k0_chk507 v23434 v23588), ∀ a, (k0_off1478 v23434 v23588) a + S1x40x128.size a ≤ S256x64x128.size a := fun v23434 v23588 k0_hw507 => k0_hw507

def k0_off1479 (i : grid0.Coords) : Fin 3 → Nat :=
  let arg0 : BitVec 32 := BitVec.ofNat 32 (i 0).val
  let v23593 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23594 : Index := Scalar.indexCast v23431
  let c14_9933 : Index := 14#32
  ![v23593.toNat, v23594.toNat, 14]
def k0_off1480 (v23434 : BitVec 32) (v23595 : BitVec 32) : Fin 3 → Nat :=
  let v23596 : Index := Scalar.indexCast v23595
  let v23435 : BitVec 32 := v23434
  let v23597 : Index := Scalar.indexCast v23435
  let c0_9934 : Index := 0#32
  ![v23596.toNat, v23597.toNat, 0]

def k0_chk508 (v23434 : BitVec 32) (v23595 : BitVec 32) : Prop :=
  (∀ a, (k0_off1480 v23434 v23595) a + S1x40x128.size a ≤ S256x64x128.size a)
theorem k0_off1480_inb : ∀ (v23434 : BitVec 32) (v23595 : BitVec 32) (k0_hw508 : k0_chk508 v23434 v23595), ∀ a, (k0_off1480 v23434 v23595) a + S1x40x128.size a ≤ S256x64x128.size a := fun v23434 v23595 k0_hw508 => k0_hw508

def k0_off1481 (i : grid0.Coords) : Fin 3 → Nat :=
  let arg0 : BitVec 32 := BitVec.ofNat 32 (i 0).val
  let v23601 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23602 : Index := Scalar.indexCast v23431
  let c21_9935 : Index := 21#32
  ![v23601.toNat, v23602.toNat, 21]
def k0_off1482 (i : grid0.Coords) : Fin 3 → Nat :=
  let arg0 : BitVec 32 := BitVec.ofNat 32 (i 0).val
  let v23611 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23612 : Index := Scalar.indexCast v23431
  let c22_9940 : Index := 22#32
  ![v23611.toNat, v23612.toNat, 22]
def k0_off1483 (i : grid0.Coords) : Fin 3 → Nat :=
  let arg0 : BitVec 32 := BitVec.ofNat 32 (i 0).val
  let v23614 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23615 : Index := Scalar.indexCast v23431
  let c29_9941 : Index := 29#32
  ![v23614.toNat, v23615.toNat, 29]
def k0_off1484 (i : grid0.Coords) : Fin 3 → Nat :=
  let arg0 : BitVec 32 := BitVec.ofNat 32 (i 0).val
  let v23617 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23618 : Index := Scalar.indexCast v23431
  let c36_9942 : Index := 36#32
  ![v23617.toNat, v23618.toNat, 36]
def k0_off1485 (i : grid0.Coords) : Fin 3 → Nat :=
  let arg0 : BitVec 32 := BitVec.ofNat 32 (i 0).val
  let v23620 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23621 : Index := Scalar.indexCast v23431
  let c43_9943 : Index := 43#32
  ![v23620.toNat, v23621.toNat, 43]
def k0_off1486 (v23613 : BitVec 32) : Fin 3 → Nat :=
  let c595_i32 : BitVec 32 := 595#32
  let v23645 : BitVec 32 := Scalar.addi c595_i32 v23613
  let v23646 : Index := Scalar.indexCast v23645
  let c0_9948 : Index := 0#32
  let c0_9949 : Index := 0#32
  ![v23646.toNat, 0, 0]

def k0_off1487 (v23616 : BitVec 32) (c595_i32_9951 : BitVec 32) : Fin 3 → Nat :=
  let v23653 : BitVec 32 := Scalar.addi c595_i32_9951 v23616
  let v23654 : Index := Scalar.indexCast v23653
  let c0_9952 : Index := 0#32
  let c0_9953 : Index := 0#32
  ![v23654.toNat, 0, 0]

def k0_chk510 (v23616 : BitVec 32) : Prop :=
  (∀ (r : Fin 7), ∀ a, (k0_off1487 v23616 (BitVec.ofNat 32 (595 + 5 * r.val))) a + S1x8x128.size a ≤ S1120x8x128.size a)
theorem k0_off1487_inb : ∀ (v23616 : BitVec 32) (k0_hw510 : k0_chk510 v23616), ∀ (r : Fin 7), ∀ a, (k0_off1487 v23616 (BitVec.ofNat 32 (595 + 5 * r.val))) a + S1x8x128.size a ≤ S1120x8x128.size a := fun v23616 k0_hw510 r => k0_hw510 r

def k0_off1488 (v23613 : BitVec 32) (c600_i32 : BitVec 32) : Fin 3 → Nat :=
  let v23663 : BitVec 32 := Scalar.addi c600_i32 v23613
  let v23664 : Index := Scalar.indexCast v23663
  let c0_9956 : Index := 0#32
  let c0_9957 : Index := 0#32
  ![v23664.toNat, 0, 0]

def k0_chk509 (v23613 : BitVec 32) : Prop :=
  (∀ a, (k0_off1486 v23613) a + S1x8x128.size a ≤ S1120x8x128.size a) ∧
  (∀ (r : Fin 6), ∀ a, (k0_off1488 v23613 (BitVec.ofNat 32 (600 + 5 * r.val))) a + S1x8x128.size a ≤ S1120x8x128.size a)
theorem k0_off1486_inb : ∀ (v23613 : BitVec 32) (k0_hw509 : k0_chk509 v23613), ∀ a, (k0_off1486 v23613) a + S1x8x128.size a ≤ S1120x8x128.size a := fun v23613 k0_hw509 => k0_hw509.1
theorem k0_off1488_inb : ∀ (v23613 : BitVec 32) (k0_hw509 : k0_chk509 v23613), ∀ (r : Fin 6), ∀ a, (k0_off1488 v23613 (BitVec.ofNat 32 (600 + 5 * r.val))) a + S1x8x128.size a ≤ S1120x8x128.size a := fun v23613 k0_hw509 r => k0_hw509.2 r

def k0_off1489 (i : grid0.Coords) : Fin 3 → Nat :=
  let arg0 : BitVec 32 := BitVec.ofNat 32 (i 0).val
  let v23771 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23772 : Index := Scalar.indexCast v23431
  let c23_10004 : Index := 23#32
  ![v23771.toNat, v23772.toNat, 23]
def k0_off1490 (i : grid0.Coords) : Fin 3 → Nat :=
  let arg0 : BitVec 32 := BitVec.ofNat 32 (i 0).val
  let v23774 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23775 : Index := Scalar.indexCast v23431
  let c30_10005 : Index := 30#32
  ![v23774.toNat, v23775.toNat, 30]
def k0_off1491 (i : grid0.Coords) : Fin 3 → Nat :=
  let arg0 : BitVec 32 := BitVec.ofNat 32 (i 0).val
  let v23777 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23778 : Index := Scalar.indexCast v23431
  let c37_10006 : Index := 37#32
  ![v23777.toNat, v23778.toNat, 37]
def k0_off1492 (i : grid0.Coords) : Fin 3 → Nat :=
  let arg0 : BitVec 32 := BitVec.ofNat 32 (i 0).val
  let v23780 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23781 : Index := Scalar.indexCast v23431
  let c44_10007 : Index := 44#32
  ![v23780.toNat, v23781.toNat, 44]
def k0_off1493 (v23773 : BitVec 32) : Fin 3 → Nat :=
  let c595_i32_10012 : BitVec 32 := 595#32
  let v23805 : BitVec 32 := Scalar.addi c595_i32_10012 v23773
  let v23806 : Index := Scalar.indexCast v23805
  let c0_10013 : Index := 0#32
  let c0_10014 : Index := 0#32
  ![v23806.toNat, 0, 0]

def k0_off1494 (v23776 : BitVec 32) (c595_i32_10016 : BitVec 32) : Fin 3 → Nat :=
  let v23813 : BitVec 32 := Scalar.addi c595_i32_10016 v23776
  let v23814 : Index := Scalar.indexCast v23813
  let c0_10017 : Index := 0#32
  let c0_10018 : Index := 0#32
  ![v23814.toNat, 0, 0]

def k0_chk512 (v23776 : BitVec 32) : Prop :=
  (∀ (r : Fin 7), ∀ a, (k0_off1494 v23776 (BitVec.ofNat 32 (595 + 5 * r.val))) a + S1x8x128.size a ≤ S1120x8x128.size a)
theorem k0_off1494_inb : ∀ (v23776 : BitVec 32) (k0_hw512 : k0_chk512 v23776), ∀ (r : Fin 7), ∀ a, (k0_off1494 v23776 (BitVec.ofNat 32 (595 + 5 * r.val))) a + S1x8x128.size a ≤ S1120x8x128.size a := fun v23776 k0_hw512 r => k0_hw512 r

def k0_off1495 (v23773 : BitVec 32) (c600_i32_10021 : BitVec 32) : Fin 3 → Nat :=
  let v23823 : BitVec 32 := Scalar.addi c600_i32_10021 v23773
  let v23824 : Index := Scalar.indexCast v23823
  let c0_10022 : Index := 0#32
  let c0_10023 : Index := 0#32
  ![v23824.toNat, 0, 0]

def k0_chk511 (v23773 : BitVec 32) : Prop :=
  (∀ a, (k0_off1493 v23773) a + S1x8x128.size a ≤ S1120x8x128.size a) ∧
  (∀ (r : Fin 6), ∀ a, (k0_off1495 v23773 (BitVec.ofNat 32 (600 + 5 * r.val))) a + S1x8x128.size a ≤ S1120x8x128.size a)
theorem k0_off1493_inb : ∀ (v23773 : BitVec 32) (k0_hw511 : k0_chk511 v23773), ∀ a, (k0_off1493 v23773) a + S1x8x128.size a ≤ S1120x8x128.size a := fun v23773 k0_hw511 => k0_hw511.1
theorem k0_off1495_inb : ∀ (v23773 : BitVec 32) (k0_hw511 : k0_chk511 v23773), ∀ (r : Fin 6), ∀ a, (k0_off1495 v23773 (BitVec.ofNat 32 (600 + 5 * r.val))) a + S1x8x128.size a ≤ S1120x8x128.size a := fun v23773 k0_hw511 r => k0_hw511.2 r

def k0_off1496 (i : grid0.Coords) : Fin 3 → Nat :=
  let arg0 : BitVec 32 := BitVec.ofNat 32 (i 0).val
  let v23931 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23932 : Index := Scalar.indexCast v23431
  let c24_10075 : Index := 24#32
  ![v23931.toNat, v23932.toNat, 24]
def k0_off1497 (i : grid0.Coords) : Fin 3 → Nat :=
  let arg0 : BitVec 32 := BitVec.ofNat 32 (i 0).val
  let v23934 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23935 : Index := Scalar.indexCast v23431
  let c31_10076 : Index := 31#32
  ![v23934.toNat, v23935.toNat, 31]
def k0_off1498 (i : grid0.Coords) : Fin 3 → Nat :=
  let arg0 : BitVec 32 := BitVec.ofNat 32 (i 0).val
  let v23937 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23938 : Index := Scalar.indexCast v23431
  let c38_10077 : Index := 38#32
  ![v23937.toNat, v23938.toNat, 38]
def k0_off1499 (i : grid0.Coords) : Fin 3 → Nat :=
  let arg0 : BitVec 32 := BitVec.ofNat 32 (i 0).val
  let v23940 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v23941 : Index := Scalar.indexCast v23431
  let c45_10078 : Index := 45#32
  ![v23940.toNat, v23941.toNat, 45]
def k0_off1500 (v23933 : BitVec 32) : Fin 3 → Nat :=
  let c595_i32_10083 : BitVec 32 := 595#32
  let v23965 : BitVec 32 := Scalar.addi c595_i32_10083 v23933
  let v23966 : Index := Scalar.indexCast v23965
  let c0_10084 : Index := 0#32
  let c0_10085 : Index := 0#32
  ![v23966.toNat, 0, 0]

def k0_off1501 (v23936 : BitVec 32) (c595_i32_10087 : BitVec 32) : Fin 3 → Nat :=
  let v23973 : BitVec 32 := Scalar.addi c595_i32_10087 v23936
  let v23974 : Index := Scalar.indexCast v23973
  let c0_10088 : Index := 0#32
  let c0_10089 : Index := 0#32
  ![v23974.toNat, 0, 0]

def k0_chk514 (v23936 : BitVec 32) : Prop :=
  (∀ (r : Fin 7), ∀ a, (k0_off1501 v23936 (BitVec.ofNat 32 (595 + 5 * r.val))) a + S1x8x128.size a ≤ S1120x8x128.size a)
theorem k0_off1501_inb : ∀ (v23936 : BitVec 32) (k0_hw514 : k0_chk514 v23936), ∀ (r : Fin 7), ∀ a, (k0_off1501 v23936 (BitVec.ofNat 32 (595 + 5 * r.val))) a + S1x8x128.size a ≤ S1120x8x128.size a := fun v23936 k0_hw514 r => k0_hw514 r

def k0_off1502 (v23933 : BitVec 32) (c600_i32_10092 : BitVec 32) : Fin 3 → Nat :=
  let v23983 : BitVec 32 := Scalar.addi c600_i32_10092 v23933
  let v23984 : Index := Scalar.indexCast v23983
  let c0_10093 : Index := 0#32
  let c0_10094 : Index := 0#32
  ![v23984.toNat, 0, 0]

def k0_chk513 (v23933 : BitVec 32) : Prop :=
  (∀ a, (k0_off1500 v23933) a + S1x8x128.size a ≤ S1120x8x128.size a) ∧
  (∀ (r : Fin 6), ∀ a, (k0_off1502 v23933 (BitVec.ofNat 32 (600 + 5 * r.val))) a + S1x8x128.size a ≤ S1120x8x128.size a)
theorem k0_off1500_inb : ∀ (v23933 : BitVec 32) (k0_hw513 : k0_chk513 v23933), ∀ a, (k0_off1500 v23933) a + S1x8x128.size a ≤ S1120x8x128.size a := fun v23933 k0_hw513 => k0_hw513.1
theorem k0_off1502_inb : ∀ (v23933 : BitVec 32) (k0_hw513 : k0_chk513 v23933), ∀ (r : Fin 6), ∀ a, (k0_off1502 v23933 (BitVec.ofNat 32 (600 + 5 * r.val))) a + S1x8x128.size a ≤ S1120x8x128.size a := fun v23933 k0_hw513 r => k0_hw513.2 r

def k0_off1503 (i : grid0.Coords) : Fin 3 → Nat :=
  let arg0 : BitVec 32 := BitVec.ofNat 32 (i 0).val
  let v24091 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24092 : Index := Scalar.indexCast v23431
  let c25_10146 : Index := 25#32
  ![v24091.toNat, v24092.toNat, 25]
def k0_off1504 (i : grid0.Coords) : Fin 3 → Nat :=
  let arg0 : BitVec 32 := BitVec.ofNat 32 (i 0).val
  let v24094 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24095 : Index := Scalar.indexCast v23431
  let c32_10147 : Index := 32#32
  ![v24094.toNat, v24095.toNat, 32]
def k0_off1505 (i : grid0.Coords) : Fin 3 → Nat :=
  let arg0 : BitVec 32 := BitVec.ofNat 32 (i 0).val
  let v24097 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24098 : Index := Scalar.indexCast v23431
  let c39_10148 : Index := 39#32
  ![v24097.toNat, v24098.toNat, 39]
def k0_off1506 (i : grid0.Coords) : Fin 3 → Nat :=
  let arg0 : BitVec 32 := BitVec.ofNat 32 (i 0).val
  let v24100 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24101 : Index := Scalar.indexCast v23431
  let c46_10149 : Index := 46#32
  ![v24100.toNat, v24101.toNat, 46]
def k0_off1507 (v24093 : BitVec 32) : Fin 3 → Nat :=
  let c595_i32_10154 : BitVec 32 := 595#32
  let v24125 : BitVec 32 := Scalar.addi c595_i32_10154 v24093
  let v24126 : Index := Scalar.indexCast v24125
  let c0_10155 : Index := 0#32
  let c0_10156 : Index := 0#32
  ![v24126.toNat, 0, 0]

def k0_off1508 (v24096 : BitVec 32) (c595_i32_10158 : BitVec 32) : Fin 3 → Nat :=
  let v24133 : BitVec 32 := Scalar.addi c595_i32_10158 v24096
  let v24134 : Index := Scalar.indexCast v24133
  let c0_10159 : Index := 0#32
  let c0_10160 : Index := 0#32
  ![v24134.toNat, 0, 0]

def k0_chk516 (v24096 : BitVec 32) : Prop :=
  (∀ (r : Fin 7), ∀ a, (k0_off1508 v24096 (BitVec.ofNat 32 (595 + 5 * r.val))) a + S1x8x128.size a ≤ S1120x8x128.size a)
theorem k0_off1508_inb : ∀ (v24096 : BitVec 32) (k0_hw516 : k0_chk516 v24096), ∀ (r : Fin 7), ∀ a, (k0_off1508 v24096 (BitVec.ofNat 32 (595 + 5 * r.val))) a + S1x8x128.size a ≤ S1120x8x128.size a := fun v24096 k0_hw516 r => k0_hw516 r

def k0_off1509 (v24093 : BitVec 32) (c600_i32_10163 : BitVec 32) : Fin 3 → Nat :=
  let v24143 : BitVec 32 := Scalar.addi c600_i32_10163 v24093
  let v24144 : Index := Scalar.indexCast v24143
  let c0_10164 : Index := 0#32
  let c0_10165 : Index := 0#32
  ![v24144.toNat, 0, 0]

def k0_chk515 (v24093 : BitVec 32) : Prop :=
  (∀ a, (k0_off1507 v24093) a + S1x8x128.size a ≤ S1120x8x128.size a) ∧
  (∀ (r : Fin 6), ∀ a, (k0_off1509 v24093 (BitVec.ofNat 32 (600 + 5 * r.val))) a + S1x8x128.size a ≤ S1120x8x128.size a)
theorem k0_off1507_inb : ∀ (v24093 : BitVec 32) (k0_hw515 : k0_chk515 v24093), ∀ a, (k0_off1507 v24093) a + S1x8x128.size a ≤ S1120x8x128.size a := fun v24093 k0_hw515 => k0_hw515.1
theorem k0_off1509_inb : ∀ (v24093 : BitVec 32) (k0_hw515 : k0_chk515 v24093), ∀ (r : Fin 6), ∀ a, (k0_off1509 v24093 (BitVec.ofNat 32 (600 + 5 * r.val))) a + S1x8x128.size a ≤ S1120x8x128.size a := fun v24093 k0_hw515 r => k0_hw515.2 r

def k0_off1510 (i : grid0.Coords) : Fin 3 → Nat :=
  let arg0 : BitVec 32 := BitVec.ofNat 32 (i 0).val
  let v24251 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24252 : Index := Scalar.indexCast v23431
  let c26_10217 : Index := 26#32
  ![v24251.toNat, v24252.toNat, 26]
def k0_off1511 (i : grid0.Coords) : Fin 3 → Nat :=
  let arg0 : BitVec 32 := BitVec.ofNat 32 (i 0).val
  let v24254 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24255 : Index := Scalar.indexCast v23431
  let c33_10218 : Index := 33#32
  ![v24254.toNat, v24255.toNat, 33]
def k0_off1512 (i : grid0.Coords) : Fin 3 → Nat :=
  let arg0 : BitVec 32 := BitVec.ofNat 32 (i 0).val
  let v24257 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24258 : Index := Scalar.indexCast v23431
  let c40_10219 : Index := 40#32
  ![v24257.toNat, v24258.toNat, 40]
def k0_off1513 (i : grid0.Coords) : Fin 3 → Nat :=
  let arg0 : BitVec 32 := BitVec.ofNat 32 (i 0).val
  let v24260 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24261 : Index := Scalar.indexCast v23431
  let c47_10220 : Index := 47#32
  ![v24260.toNat, v24261.toNat, 47]
def k0_off1514 (v24253 : BitVec 32) : Fin 3 → Nat :=
  let c595_i32_10225 : BitVec 32 := 595#32
  let v24285 : BitVec 32 := Scalar.addi c595_i32_10225 v24253
  let v24286 : Index := Scalar.indexCast v24285
  let c0_10226 : Index := 0#32
  let c0_10227 : Index := 0#32
  ![v24286.toNat, 0, 0]

def k0_off1515 (v24256 : BitVec 32) (c595_i32_10229 : BitVec 32) : Fin 3 → Nat :=
  let v24293 : BitVec 32 := Scalar.addi c595_i32_10229 v24256
  let v24294 : Index := Scalar.indexCast v24293
  let c0_10230 : Index := 0#32
  let c0_10231 : Index := 0#32
  ![v24294.toNat, 0, 0]

def k0_chk518 (v24256 : BitVec 32) : Prop :=
  (∀ (r : Fin 7), ∀ a, (k0_off1515 v24256 (BitVec.ofNat 32 (595 + 5 * r.val))) a + S1x8x128.size a ≤ S1120x8x128.size a)
theorem k0_off1515_inb : ∀ (v24256 : BitVec 32) (k0_hw518 : k0_chk518 v24256), ∀ (r : Fin 7), ∀ a, (k0_off1515 v24256 (BitVec.ofNat 32 (595 + 5 * r.val))) a + S1x8x128.size a ≤ S1120x8x128.size a := fun v24256 k0_hw518 r => k0_hw518 r

def k0_off1516 (v24253 : BitVec 32) (c600_i32_10234 : BitVec 32) : Fin 3 → Nat :=
  let v24303 : BitVec 32 := Scalar.addi c600_i32_10234 v24253
  let v24304 : Index := Scalar.indexCast v24303
  let c0_10235 : Index := 0#32
  let c0_10236 : Index := 0#32
  ![v24304.toNat, 0, 0]

def k0_chk517 (v24253 : BitVec 32) : Prop :=
  (∀ a, (k0_off1514 v24253) a + S1x8x128.size a ≤ S1120x8x128.size a) ∧
  (∀ (r : Fin 6), ∀ a, (k0_off1516 v24253 (BitVec.ofNat 32 (600 + 5 * r.val))) a + S1x8x128.size a ≤ S1120x8x128.size a)
theorem k0_off1514_inb : ∀ (v24253 : BitVec 32) (k0_hw517 : k0_chk517 v24253), ∀ a, (k0_off1514 v24253) a + S1x8x128.size a ≤ S1120x8x128.size a := fun v24253 k0_hw517 => k0_hw517.1
theorem k0_off1516_inb : ∀ (v24253 : BitVec 32) (k0_hw517 : k0_chk517 v24253), ∀ (r : Fin 6), ∀ a, (k0_off1516 v24253 (BitVec.ofNat 32 (600 + 5 * r.val))) a + S1x8x128.size a ≤ S1120x8x128.size a := fun v24253 k0_hw517 r => k0_hw517.2 r

def k0_off1517 (i : grid0.Coords) : Fin 3 → Nat :=
  let arg0 : BitVec 32 := BitVec.ofNat 32 (i 0).val
  let v24411 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24412 : Index := Scalar.indexCast v23431
  let c27_10288 : Index := 27#32
  ![v24411.toNat, v24412.toNat, 27]
def k0_off1518 (i : grid0.Coords) : Fin 3 → Nat :=
  let arg0 : BitVec 32 := BitVec.ofNat 32 (i 0).val
  let v24414 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24415 : Index := Scalar.indexCast v23431
  let c34_10289 : Index := 34#32
  ![v24414.toNat, v24415.toNat, 34]
def k0_off1519 (i : grid0.Coords) : Fin 3 → Nat :=
  let arg0 : BitVec 32 := BitVec.ofNat 32 (i 0).val
  let v24417 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24418 : Index := Scalar.indexCast v23431
  let c41_10290 : Index := 41#32
  ![v24417.toNat, v24418.toNat, 41]
def k0_off1520 (i : grid0.Coords) : Fin 3 → Nat :=
  let arg0 : BitVec 32 := BitVec.ofNat 32 (i 0).val
  let v24420 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24421 : Index := Scalar.indexCast v23431
  let c48_10291 : Index := 48#32
  ![v24420.toNat, v24421.toNat, 48]
def k0_off1521 (v24413 : BitVec 32) : Fin 3 → Nat :=
  let c595_i32_10296 : BitVec 32 := 595#32
  let v24445 : BitVec 32 := Scalar.addi c595_i32_10296 v24413
  let v24446 : Index := Scalar.indexCast v24445
  let c0_10297 : Index := 0#32
  let c0_10298 : Index := 0#32
  ![v24446.toNat, 0, 0]

def k0_off1522 (v24416 : BitVec 32) (c595_i32_10300 : BitVec 32) : Fin 3 → Nat :=
  let v24453 : BitVec 32 := Scalar.addi c595_i32_10300 v24416
  let v24454 : Index := Scalar.indexCast v24453
  let c0_10301 : Index := 0#32
  let c0_10302 : Index := 0#32
  ![v24454.toNat, 0, 0]

def k0_chk520 (v24416 : BitVec 32) : Prop :=
  (∀ (r : Fin 7), ∀ a, (k0_off1522 v24416 (BitVec.ofNat 32 (595 + 5 * r.val))) a + S1x8x128.size a ≤ S1120x8x128.size a)
theorem k0_off1522_inb : ∀ (v24416 : BitVec 32) (k0_hw520 : k0_chk520 v24416), ∀ (r : Fin 7), ∀ a, (k0_off1522 v24416 (BitVec.ofNat 32 (595 + 5 * r.val))) a + S1x8x128.size a ≤ S1120x8x128.size a := fun v24416 k0_hw520 r => k0_hw520 r

def k0_off1523 (v24413 : BitVec 32) (c600_i32_10305 : BitVec 32) : Fin 3 → Nat :=
  let v24463 : BitVec 32 := Scalar.addi c600_i32_10305 v24413
  let v24464 : Index := Scalar.indexCast v24463
  let c0_10306 : Index := 0#32
  let c0_10307 : Index := 0#32
  ![v24464.toNat, 0, 0]

def k0_chk519 (v24413 : BitVec 32) : Prop :=
  (∀ a, (k0_off1521 v24413) a + S1x8x128.size a ≤ S1120x8x128.size a) ∧
  (∀ (r : Fin 6), ∀ a, (k0_off1523 v24413 (BitVec.ofNat 32 (600 + 5 * r.val))) a + S1x8x128.size a ≤ S1120x8x128.size a)
theorem k0_off1521_inb : ∀ (v24413 : BitVec 32) (k0_hw519 : k0_chk519 v24413), ∀ a, (k0_off1521 v24413) a + S1x8x128.size a ≤ S1120x8x128.size a := fun v24413 k0_hw519 => k0_hw519.1
theorem k0_off1523_inb : ∀ (v24413 : BitVec 32) (k0_hw519 : k0_chk519 v24413), ∀ (r : Fin 6), ∀ a, (k0_off1523 v24413 (BitVec.ofNat 32 (600 + 5 * r.val))) a + S1x8x128.size a ≤ S1120x8x128.size a := fun v24413 k0_hw519 r => k0_hw519.2 r

def k0_off1524 (i : grid0.Coords) : Fin 3 → Nat :=
  let arg0 : BitVec 32 := BitVec.ofNat 32 (i 0).val
  let v24571 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24572 : Index := Scalar.indexCast v23431
  let c28_10359 : Index := 28#32
  ![v24571.toNat, v24572.toNat, 28]
def k0_off1525 (i : grid0.Coords) : Fin 3 → Nat :=
  let arg0 : BitVec 32 := BitVec.ofNat 32 (i 0).val
  let v24574 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24575 : Index := Scalar.indexCast v23431
  let c35_10360 : Index := 35#32
  ![v24574.toNat, v24575.toNat, 35]
def k0_off1526 (i : grid0.Coords) : Fin 3 → Nat :=
  let arg0 : BitVec 32 := BitVec.ofNat 32 (i 0).val
  let v24577 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24578 : Index := Scalar.indexCast v23431
  let c42_10361 : Index := 42#32
  ![v24577.toNat, v24578.toNat, 42]
def k0_off1527 (i : grid0.Coords) : Fin 3 → Nat :=
  let arg0 : BitVec 32 := BitVec.ofNat 32 (i 0).val
  let v24580 : Index := Scalar.indexCast arg0
  let arg1 : BitVec 32 := BitVec.ofNat 32 (i 1).val
  let c32_i32_9875 : BitVec 32 := 32#32
  let v23430 : BitVec 32 := Scalar.muli arg1 c32_i32_9875
  let c17_i32 : BitVec 32 := 17#32
  let v23431 : BitVec 32 := Scalar.addi v23430 c17_i32
  let v24581 : Index := Scalar.indexCast v23431
  let c49_10362 : Index := 49#32
  ![v24580.toNat, v24581.toNat, 49]
def k0_off1528 (v24573 : BitVec 32) : Fin 3 → Nat :=
  let c595_i32_10367 : BitVec 32 := 595#32
  let v24605 : BitVec 32 := Scalar.addi c595_i32_10367 v24573
  let v24606 : Index := Scalar.indexCast v24605
  let c0_10368 : Index := 0#32
  let c0_10369 : Index := 0#32
  ![v24606.toNat, 0, 0]

def k0_off1529 (v24576 : BitVec 32) (c595_i32_10371 : BitVec 32) : Fin 3 → Nat :=
  let v24613 : BitVec 32 := Scalar.addi c595_i32_10371 v24576
  let v24614 : Index := Scalar.indexCast v24613
  let c0_10372 : Index := 0#32
  let c0_10373 : Index := 0#32
  ![v24614.toNat, 0, 0]

def k0_chk522 (v24576 : BitVec 32) : Prop :=
  (∀ (r : Fin 7), ∀ a, (k0_off1529 v24576 (BitVec.ofNat 32 (595 + 5 * r.val))) a + S1x8x128.size a ≤ S1120x8x128.size a)
theorem k0_off1529_inb : ∀ (v24576 : BitVec 32) (k0_hw522 : k0_chk522 v24576), ∀ (r : Fin 7), ∀ a, (k0_off1529 v24576 (BitVec.ofNat 32 (595 + 5 * r.val))) a + S1x8x128.size a ≤ S1120x8x128.size a := fun v24576 k0_hw522 r => k0_hw522 r

def k0_off1530 (v24573 : BitVec 32) (c600_i32_10376 : BitVec 32) : Fin 3 → Nat :=
  let v24623 : BitVec 32 := Scalar.addi c600_i32_10376 v24573
  let v24624 : Index := Scalar.indexCast v24623
  let c0_10377 : Index := 0#32
  let c0_10378 : Index := 0#32
  ![v24624.toNat, 0, 0]

def k0_chk521 (v24573 : BitVec 32) : Prop :=
  (∀ a, (k0_off1528 v24573) a + S1x8x128.size a ≤ S1120x8x128.size a) ∧
  (∀ (r : Fin 6), ∀ a, (k0_off1530 v24573 (BitVec.ofNat 32 (600 + 5 * r.val))) a + S1x8x128.size a ≤ S1120x8x128.size a)
theorem k0_off1528_inb : ∀ (v24573 : BitVec 32) (k0_hw521 : k0_chk521 v24573), ∀ a, (k0_off1528 v24573) a + S1x8x128.size a ≤ S1120x8x128.size a := fun v24573 k0_hw521 => k0_hw521.1
theorem k0_off1530_inb : ∀ (v24573 : BitVec 32) (k0_hw521 : k0_chk521 v24573), ∀ (r : Fin 6), ∀ a, (k0_off1530 v24573 (BitVec.ofNat 32 (600 + 5 * r.val))) a + S1x8x128.size a ≤ S1120x8x128.size a := fun v24573 k0_hw521 r => k0_hw521.2 r

def k0_off1531 (i : grid0.Coords) : Fin 3 → Nat :=
  let arg0 : BitVec 32 := BitVec.ofNat 32 (i 0).val
  let v24810 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24811 : Index := Scalar.indexCast v24809
  let c0_10459 : Index := 0#32
  ![v24810.toNat, v24811.toNat, 0]
def k0_mult19 (v24812 : BitVec 32) : BitVec 32 :=
  v24812

def k0_chk523 (v24812 : BitVec 32) : Prop :=
  (8 ∣ (k0_mult19 v24812).toNat)
theorem k0_mult19_dvd : ∀ (v24812 : BitVec 32) (k0_hw523 : k0_chk523 v24812), 8 ∣ (k0_mult19 v24812).toNat := fun v24812 k0_hw523 => k0_hw523

def k0_off1532 (i : grid0.Coords) : Fin 3 → Nat :=
  let arg0 : BitVec 32 := BitVec.ofNat 32 (i 0).val
  let v24814 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24815 : Index := Scalar.indexCast v24809
  let c1_10460 : Index := 1#32
  ![v24814.toNat, v24815.toNat, 1]
def k0_off1533 (v24812 : BitVec 32) (v24816 : BitVec 32) : Fin 3 → Nat :=
  let v24817 : Index := Scalar.indexCast v24816
  let v24813 : BitVec 32 := v24812
  let v24818 : Index := Scalar.indexCast v24813
  let c0_10461 : Index := 0#32
  ![v24817.toNat, v24818.toNat, 0]

def k0_chk524 (v24812 : BitVec 32) (v24816 : BitVec 32) : Prop :=
  (∀ a, (k0_off1533 v24812 v24816) a + S1x40x128.size a ≤ S256x64x128.size a)
theorem k0_off1533_inb : ∀ (v24812 : BitVec 32) (v24816 : BitVec 32) (k0_hw524 : k0_chk524 v24812 v24816), ∀ a, (k0_off1533 v24812 v24816) a + S1x40x128.size a ≤ S256x64x128.size a := fun v24812 v24816 k0_hw524 => k0_hw524

def k0_off1534 (i : grid0.Coords) : Fin 3 → Nat :=
  let arg0 : BitVec 32 := BitVec.ofNat 32 (i 0).val
  let v24821 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24822 : Index := Scalar.indexCast v24809
  let c8_10462 : Index := 8#32
  ![v24821.toNat, v24822.toNat, 8]
def k0_off1535 (v24812 : BitVec 32) (v24823 : BitVec 32) : Fin 3 → Nat :=
  let v24824 : Index := Scalar.indexCast v24823
  let v24813 : BitVec 32 := v24812
  let v24825 : Index := Scalar.indexCast v24813
  let c0_10463 : Index := 0#32
  ![v24824.toNat, v24825.toNat, 0]

def k0_chk525 (v24812 : BitVec 32) (v24823 : BitVec 32) : Prop :=
  (∀ a, (k0_off1535 v24812 v24823) a + S1x40x128.size a ≤ S256x64x128.size a)
theorem k0_off1535_inb : ∀ (v24812 : BitVec 32) (v24823 : BitVec 32) (k0_hw525 : k0_chk525 v24812 v24823), ∀ a, (k0_off1535 v24812 v24823) a + S1x40x128.size a ≤ S256x64x128.size a := fun v24812 v24823 k0_hw525 => k0_hw525

def k0_off1536 (i : grid0.Coords) : Fin 3 → Nat :=
  let arg0 : BitVec 32 := BitVec.ofNat 32 (i 0).val
  let v24829 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24830 : Index := Scalar.indexCast v24809
  let c15_10464 : Index := 15#32
  ![v24829.toNat, v24830.toNat, 15]
def k0_off1537 (i : grid0.Coords) : Fin 3 → Nat :=
  let arg0 : BitVec 32 := BitVec.ofNat 32 (i 0).val
  let v24839 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24840 : Index := Scalar.indexCast v24809
  let c2_10469 : Index := 2#32
  ![v24839.toNat, v24840.toNat, 2]
def k0_off1538 (v24812 : BitVec 32) (v24841 : BitVec 32) : Fin 3 → Nat :=
  let v24842 : Index := Scalar.indexCast v24841
  let v24813 : BitVec 32 := v24812
  let v24843 : Index := Scalar.indexCast v24813
  let c0_10470 : Index := 0#32
  ![v24842.toNat, v24843.toNat, 0]

def k0_chk526 (v24812 : BitVec 32) (v24841 : BitVec 32) : Prop :=
  (∀ a, (k0_off1538 v24812 v24841) a + S1x40x128.size a ≤ S256x64x128.size a)
theorem k0_off1538_inb : ∀ (v24812 : BitVec 32) (v24841 : BitVec 32) (k0_hw526 : k0_chk526 v24812 v24841), ∀ a, (k0_off1538 v24812 v24841) a + S1x40x128.size a ≤ S256x64x128.size a := fun v24812 v24841 k0_hw526 => k0_hw526

def k0_off1539 (i : grid0.Coords) : Fin 3 → Nat :=
  let arg0 : BitVec 32 := BitVec.ofNat 32 (i 0).val
  let v24846 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24847 : Index := Scalar.indexCast v24809
  let c9_10471 : Index := 9#32
  ![v24846.toNat, v24847.toNat, 9]
def k0_off1540 (v24812 : BitVec 32) (v24848 : BitVec 32) : Fin 3 → Nat :=
  let v24849 : Index := Scalar.indexCast v24848
  let v24813 : BitVec 32 := v24812
  let v24850 : Index := Scalar.indexCast v24813
  let c0_10472 : Index := 0#32
  ![v24849.toNat, v24850.toNat, 0]

def k0_chk527 (v24812 : BitVec 32) (v24848 : BitVec 32) : Prop :=
  (∀ a, (k0_off1540 v24812 v24848) a + S1x40x128.size a ≤ S256x64x128.size a)
theorem k0_off1540_inb : ∀ (v24812 : BitVec 32) (v24848 : BitVec 32) (k0_hw527 : k0_chk527 v24812 v24848), ∀ a, (k0_off1540 v24812 v24848) a + S1x40x128.size a ≤ S256x64x128.size a := fun v24812 v24848 k0_hw527 => k0_hw527

def k0_off1541 (i : grid0.Coords) : Fin 3 → Nat :=
  let arg0 : BitVec 32 := BitVec.ofNat 32 (i 0).val
  let v24854 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24855 : Index := Scalar.indexCast v24809
  let c16_10473 : Index := 16#32
  ![v24854.toNat, v24855.toNat, 16]
def k0_off1542 (i : grid0.Coords) : Fin 3 → Nat :=
  let arg0 : BitVec 32 := BitVec.ofNat 32 (i 0).val
  let v24864 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24865 : Index := Scalar.indexCast v24809
  let c3_10478 : Index := 3#32
  ![v24864.toNat, v24865.toNat, 3]
def k0_off1543 (v24812 : BitVec 32) (v24866 : BitVec 32) : Fin 3 → Nat :=
  let v24867 : Index := Scalar.indexCast v24866
  let v24813 : BitVec 32 := v24812
  let v24868 : Index := Scalar.indexCast v24813
  let c0_10479 : Index := 0#32
  ![v24867.toNat, v24868.toNat, 0]

def k0_chk528 (v24812 : BitVec 32) (v24866 : BitVec 32) : Prop :=
  (∀ a, (k0_off1543 v24812 v24866) a + S1x40x128.size a ≤ S256x64x128.size a)
theorem k0_off1543_inb : ∀ (v24812 : BitVec 32) (v24866 : BitVec 32) (k0_hw528 : k0_chk528 v24812 v24866), ∀ a, (k0_off1543 v24812 v24866) a + S1x40x128.size a ≤ S256x64x128.size a := fun v24812 v24866 k0_hw528 => k0_hw528

def k0_off1544 (i : grid0.Coords) : Fin 3 → Nat :=
  let arg0 : BitVec 32 := BitVec.ofNat 32 (i 0).val
  let v24871 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24872 : Index := Scalar.indexCast v24809
  let c10_10480 : Index := 10#32
  ![v24871.toNat, v24872.toNat, 10]
def k0_off1545 (v24812 : BitVec 32) (v24873 : BitVec 32) : Fin 3 → Nat :=
  let v24874 : Index := Scalar.indexCast v24873
  let v24813 : BitVec 32 := v24812
  let v24875 : Index := Scalar.indexCast v24813
  let c0_10481 : Index := 0#32
  ![v24874.toNat, v24875.toNat, 0]

def k0_chk529 (v24812 : BitVec 32) (v24873 : BitVec 32) : Prop :=
  (∀ a, (k0_off1545 v24812 v24873) a + S1x40x128.size a ≤ S256x64x128.size a)
theorem k0_off1545_inb : ∀ (v24812 : BitVec 32) (v24873 : BitVec 32) (k0_hw529 : k0_chk529 v24812 v24873), ∀ a, (k0_off1545 v24812 v24873) a + S1x40x128.size a ≤ S256x64x128.size a := fun v24812 v24873 k0_hw529 => k0_hw529

def k0_off1546 (i : grid0.Coords) : Fin 3 → Nat :=
  let arg0 : BitVec 32 := BitVec.ofNat 32 (i 0).val
  let v24879 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24880 : Index := Scalar.indexCast v24809
  let c17_10482 : Index := 17#32
  ![v24879.toNat, v24880.toNat, 17]
def k0_off1547 (i : grid0.Coords) : Fin 3 → Nat :=
  let arg0 : BitVec 32 := BitVec.ofNat 32 (i 0).val
  let v24889 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24890 : Index := Scalar.indexCast v24809
  let c4_10487 : Index := 4#32
  ![v24889.toNat, v24890.toNat, 4]
def k0_off1548 (v24812 : BitVec 32) (v24891 : BitVec 32) : Fin 3 → Nat :=
  let v24892 : Index := Scalar.indexCast v24891
  let v24813 : BitVec 32 := v24812
  let v24893 : Index := Scalar.indexCast v24813
  let c0_10488 : Index := 0#32
  ![v24892.toNat, v24893.toNat, 0]

def k0_chk530 (v24812 : BitVec 32) (v24891 : BitVec 32) : Prop :=
  (∀ a, (k0_off1548 v24812 v24891) a + S1x40x128.size a ≤ S256x64x128.size a)
theorem k0_off1548_inb : ∀ (v24812 : BitVec 32) (v24891 : BitVec 32) (k0_hw530 : k0_chk530 v24812 v24891), ∀ a, (k0_off1548 v24812 v24891) a + S1x40x128.size a ≤ S256x64x128.size a := fun v24812 v24891 k0_hw530 => k0_hw530

def k0_off1549 (i : grid0.Coords) : Fin 3 → Nat :=
  let arg0 : BitVec 32 := BitVec.ofNat 32 (i 0).val
  let v24896 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24897 : Index := Scalar.indexCast v24809
  let c11_10489 : Index := 11#32
  ![v24896.toNat, v24897.toNat, 11]
def k0_off1550 (v24812 : BitVec 32) (v24898 : BitVec 32) : Fin 3 → Nat :=
  let v24899 : Index := Scalar.indexCast v24898
  let v24813 : BitVec 32 := v24812
  let v24900 : Index := Scalar.indexCast v24813
  let c0_10490 : Index := 0#32
  ![v24899.toNat, v24900.toNat, 0]

def k0_chk531 (v24812 : BitVec 32) (v24898 : BitVec 32) : Prop :=
  (∀ a, (k0_off1550 v24812 v24898) a + S1x40x128.size a ≤ S256x64x128.size a)
theorem k0_off1550_inb : ∀ (v24812 : BitVec 32) (v24898 : BitVec 32) (k0_hw531 : k0_chk531 v24812 v24898), ∀ a, (k0_off1550 v24812 v24898) a + S1x40x128.size a ≤ S256x64x128.size a := fun v24812 v24898 k0_hw531 => k0_hw531

def k0_off1551 (i : grid0.Coords) : Fin 3 → Nat :=
  let arg0 : BitVec 32 := BitVec.ofNat 32 (i 0).val
  let v24904 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24905 : Index := Scalar.indexCast v24809
  let c18_10491 : Index := 18#32
  ![v24904.toNat, v24905.toNat, 18]
def k0_off1552 (i : grid0.Coords) : Fin 3 → Nat :=
  let arg0 : BitVec 32 := BitVec.ofNat 32 (i 0).val
  let v24914 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24915 : Index := Scalar.indexCast v24809
  let c5_10496 : Index := 5#32
  ![v24914.toNat, v24915.toNat, 5]
def k0_off1553 (v24812 : BitVec 32) (v24916 : BitVec 32) : Fin 3 → Nat :=
  let v24917 : Index := Scalar.indexCast v24916
  let v24813 : BitVec 32 := v24812
  let v24918 : Index := Scalar.indexCast v24813
  let c0_10497 : Index := 0#32
  ![v24917.toNat, v24918.toNat, 0]

def k0_chk532 (v24812 : BitVec 32) (v24916 : BitVec 32) : Prop :=
  (∀ a, (k0_off1553 v24812 v24916) a + S1x40x128.size a ≤ S256x64x128.size a)
theorem k0_off1553_inb : ∀ (v24812 : BitVec 32) (v24916 : BitVec 32) (k0_hw532 : k0_chk532 v24812 v24916), ∀ a, (k0_off1553 v24812 v24916) a + S1x40x128.size a ≤ S256x64x128.size a := fun v24812 v24916 k0_hw532 => k0_hw532

def k0_off1554 (i : grid0.Coords) : Fin 3 → Nat :=
  let arg0 : BitVec 32 := BitVec.ofNat 32 (i 0).val
  let v24921 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24922 : Index := Scalar.indexCast v24809
  let c12_10498 : Index := 12#32
  ![v24921.toNat, v24922.toNat, 12]
def k0_off1555 (v24812 : BitVec 32) (v24923 : BitVec 32) : Fin 3 → Nat :=
  let v24924 : Index := Scalar.indexCast v24923
  let v24813 : BitVec 32 := v24812
  let v24925 : Index := Scalar.indexCast v24813
  let c0_10499 : Index := 0#32
  ![v24924.toNat, v24925.toNat, 0]

def k0_chk533 (v24812 : BitVec 32) (v24923 : BitVec 32) : Prop :=
  (∀ a, (k0_off1555 v24812 v24923) a + S1x40x128.size a ≤ S256x64x128.size a)
theorem k0_off1555_inb : ∀ (v24812 : BitVec 32) (v24923 : BitVec 32) (k0_hw533 : k0_chk533 v24812 v24923), ∀ a, (k0_off1555 v24812 v24923) a + S1x40x128.size a ≤ S256x64x128.size a := fun v24812 v24923 k0_hw533 => k0_hw533

def k0_off1556 (i : grid0.Coords) : Fin 3 → Nat :=
  let arg0 : BitVec 32 := BitVec.ofNat 32 (i 0).val
  let v24929 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24930 : Index := Scalar.indexCast v24809
  let c19_10500 : Index := 19#32
  ![v24929.toNat, v24930.toNat, 19]
def k0_off1557 (i : grid0.Coords) : Fin 3 → Nat :=
  let arg0 : BitVec 32 := BitVec.ofNat 32 (i 0).val
  let v24939 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24940 : Index := Scalar.indexCast v24809
  let c6_10505 : Index := 6#32
  ![v24939.toNat, v24940.toNat, 6]
def k0_off1558 (v24812 : BitVec 32) (v24941 : BitVec 32) : Fin 3 → Nat :=
  let v24942 : Index := Scalar.indexCast v24941
  let v24813 : BitVec 32 := v24812
  let v24943 : Index := Scalar.indexCast v24813
  let c0_10506 : Index := 0#32
  ![v24942.toNat, v24943.toNat, 0]

def k0_chk534 (v24812 : BitVec 32) (v24941 : BitVec 32) : Prop :=
  (∀ a, (k0_off1558 v24812 v24941) a + S1x40x128.size a ≤ S256x64x128.size a)
theorem k0_off1558_inb : ∀ (v24812 : BitVec 32) (v24941 : BitVec 32) (k0_hw534 : k0_chk534 v24812 v24941), ∀ a, (k0_off1558 v24812 v24941) a + S1x40x128.size a ≤ S256x64x128.size a := fun v24812 v24941 k0_hw534 => k0_hw534

def k0_off1559 (i : grid0.Coords) : Fin 3 → Nat :=
  let arg0 : BitVec 32 := BitVec.ofNat 32 (i 0).val
  let v24946 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24947 : Index := Scalar.indexCast v24809
  let c13_10507 : Index := 13#32
  ![v24946.toNat, v24947.toNat, 13]
def k0_off1560 (v24812 : BitVec 32) (v24948 : BitVec 32) : Fin 3 → Nat :=
  let v24949 : Index := Scalar.indexCast v24948
  let v24813 : BitVec 32 := v24812
  let v24950 : Index := Scalar.indexCast v24813
  let c0_10508 : Index := 0#32
  ![v24949.toNat, v24950.toNat, 0]

def k0_chk535 (v24812 : BitVec 32) (v24948 : BitVec 32) : Prop :=
  (∀ a, (k0_off1560 v24812 v24948) a + S1x40x128.size a ≤ S256x64x128.size a)
theorem k0_off1560_inb : ∀ (v24812 : BitVec 32) (v24948 : BitVec 32) (k0_hw535 : k0_chk535 v24812 v24948), ∀ a, (k0_off1560 v24812 v24948) a + S1x40x128.size a ≤ S256x64x128.size a := fun v24812 v24948 k0_hw535 => k0_hw535

def k0_off1561 (i : grid0.Coords) : Fin 3 → Nat :=
  let arg0 : BitVec 32 := BitVec.ofNat 32 (i 0).val
  let v24954 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24955 : Index := Scalar.indexCast v24809
  let c20_10509 : Index := 20#32
  ![v24954.toNat, v24955.toNat, 20]
def k0_off1562 (i : grid0.Coords) : Fin 3 → Nat :=
  let arg0 : BitVec 32 := BitVec.ofNat 32 (i 0).val
  let v24964 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24965 : Index := Scalar.indexCast v24809
  let c7_10514 : Index := 7#32
  ![v24964.toNat, v24965.toNat, 7]
def k0_off1563 (v24812 : BitVec 32) (v24966 : BitVec 32) : Fin 3 → Nat :=
  let v24967 : Index := Scalar.indexCast v24966
  let v24813 : BitVec 32 := v24812
  let v24968 : Index := Scalar.indexCast v24813
  let c0_10515 : Index := 0#32
  ![v24967.toNat, v24968.toNat, 0]

def k0_chk536 (v24812 : BitVec 32) (v24966 : BitVec 32) : Prop :=
  (∀ a, (k0_off1563 v24812 v24966) a + S1x40x128.size a ≤ S256x64x128.size a)
theorem k0_off1563_inb : ∀ (v24812 : BitVec 32) (v24966 : BitVec 32) (k0_hw536 : k0_chk536 v24812 v24966), ∀ a, (k0_off1563 v24812 v24966) a + S1x40x128.size a ≤ S256x64x128.size a := fun v24812 v24966 k0_hw536 => k0_hw536

def k0_off1564 (i : grid0.Coords) : Fin 3 → Nat :=
  let arg0 : BitVec 32 := BitVec.ofNat 32 (i 0).val
  let v24971 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24972 : Index := Scalar.indexCast v24809
  let c14_10516 : Index := 14#32
  ![v24971.toNat, v24972.toNat, 14]
def k0_off1565 (v24812 : BitVec 32) (v24973 : BitVec 32) : Fin 3 → Nat :=
  let v24974 : Index := Scalar.indexCast v24973
  let v24813 : BitVec 32 := v24812
  let v24975 : Index := Scalar.indexCast v24813
  let c0_10517 : Index := 0#32
  ![v24974.toNat, v24975.toNat, 0]

def k0_chk537 (v24812 : BitVec 32) (v24973 : BitVec 32) : Prop :=
  (∀ a, (k0_off1565 v24812 v24973) a + S1x40x128.size a ≤ S256x64x128.size a)
theorem k0_off1565_inb : ∀ (v24812 : BitVec 32) (v24973 : BitVec 32) (k0_hw537 : k0_chk537 v24812 v24973), ∀ a, (k0_off1565 v24812 v24973) a + S1x40x128.size a ≤ S256x64x128.size a := fun v24812 v24973 k0_hw537 => k0_hw537

def k0_off1566 (i : grid0.Coords) : Fin 3 → Nat :=
  let arg0 : BitVec 32 := BitVec.ofNat 32 (i 0).val
  let v24979 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24980 : Index := Scalar.indexCast v24809
  let c21_10518 : Index := 21#32
  ![v24979.toNat, v24980.toNat, 21]
def k0_off1567 (i : grid0.Coords) : Fin 3 → Nat :=
  let arg0 : BitVec 32 := BitVec.ofNat 32 (i 0).val
  let v24989 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24990 : Index := Scalar.indexCast v24809
  let c22_10523 : Index := 22#32
  ![v24989.toNat, v24990.toNat, 22]
def k0_off1568 (i : grid0.Coords) : Fin 3 → Nat :=
  let arg0 : BitVec 32 := BitVec.ofNat 32 (i 0).val
  let v24992 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24993 : Index := Scalar.indexCast v24809
  let c29_10524 : Index := 29#32
  ![v24992.toNat, v24993.toNat, 29]
def k0_off1569 (i : grid0.Coords) : Fin 3 → Nat :=
  let arg0 : BitVec 32 := BitVec.ofNat 32 (i 0).val
  let v24995 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24996 : Index := Scalar.indexCast v24809
  let c36_10525 : Index := 36#32
  ![v24995.toNat, v24996.toNat, 36]
def k0_off1570 (i : grid0.Coords) : Fin 3 → Nat :=
  let arg0 : BitVec 32 := BitVec.ofNat 32 (i 0).val
  let v24998 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v24999 : Index := Scalar.indexCast v24809
  let c43_10526 : Index := 43#32
  ![v24998.toNat, v24999.toNat, 43]
def k0_off1571 (v24991 : BitVec 32) : Fin 3 → Nat :=
  let c630_i32 : BitVec 32 := 630#32
  let v25023 : BitVec 32 := Scalar.addi c630_i32 v24991
  let v25024 : Index := Scalar.indexCast v25023
  let c0_10531 : Index := 0#32
  let c0_10532 : Index := 0#32
  ![v25024.toNat, 0, 0]

def k0_off1572 (v24994 : BitVec 32) (c630_i32_10534 : BitVec 32) : Fin 3 → Nat :=
  let v25031 : BitVec 32 := Scalar.addi c630_i32_10534 v24994
  let v25032 : Index := Scalar.indexCast v25031
  let c0_10535 : Index := 0#32
  let c0_10536 : Index := 0#32
  ![v25032.toNat, 0, 0]

def k0_chk539 (v24994 : BitVec 32) : Prop :=
  (∀ (r : Fin 7), ∀ a, (k0_off1572 v24994 (BitVec.ofNat 32 (630 + 5 * r.val))) a + S1x8x128.size a ≤ S1120x8x128.size a)
theorem k0_off1572_inb : ∀ (v24994 : BitVec 32) (k0_hw539 : k0_chk539 v24994), ∀ (r : Fin 7), ∀ a, (k0_off1572 v24994 (BitVec.ofNat 32 (630 + 5 * r.val))) a + S1x8x128.size a ≤ S1120x8x128.size a := fun v24994 k0_hw539 r => k0_hw539 r

def k0_off1573 (v24991 : BitVec 32) (c635_i32 : BitVec 32) : Fin 3 → Nat :=
  let v25041 : BitVec 32 := Scalar.addi c635_i32 v24991
  let v25042 : Index := Scalar.indexCast v25041
  let c0_10539 : Index := 0#32
  let c0_10540 : Index := 0#32
  ![v25042.toNat, 0, 0]

def k0_chk538 (v24991 : BitVec 32) : Prop :=
  (∀ a, (k0_off1571 v24991) a + S1x8x128.size a ≤ S1120x8x128.size a) ∧
  (∀ (r : Fin 6), ∀ a, (k0_off1573 v24991 (BitVec.ofNat 32 (635 + 5 * r.val))) a + S1x8x128.size a ≤ S1120x8x128.size a)
theorem k0_off1571_inb : ∀ (v24991 : BitVec 32) (k0_hw538 : k0_chk538 v24991), ∀ a, (k0_off1571 v24991) a + S1x8x128.size a ≤ S1120x8x128.size a := fun v24991 k0_hw538 => k0_hw538.1
theorem k0_off1573_inb : ∀ (v24991 : BitVec 32) (k0_hw538 : k0_chk538 v24991), ∀ (r : Fin 6), ∀ a, (k0_off1573 v24991 (BitVec.ofNat 32 (635 + 5 * r.val))) a + S1x8x128.size a ≤ S1120x8x128.size a := fun v24991 k0_hw538 r => k0_hw538.2 r

def k0_off1574 (i : grid0.Coords) : Fin 3 → Nat :=
  let arg0 : BitVec 32 := BitVec.ofNat 32 (i 0).val
  let v25149 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25150 : Index := Scalar.indexCast v24809
  let c23_10587 : Index := 23#32
  ![v25149.toNat, v25150.toNat, 23]
def k0_off1575 (i : grid0.Coords) : Fin 3 → Nat :=
  let arg0 : BitVec 32 := BitVec.ofNat 32 (i 0).val
  let v25152 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25153 : Index := Scalar.indexCast v24809
  let c30_10588 : Index := 30#32
  ![v25152.toNat, v25153.toNat, 30]
def k0_off1576 (i : grid0.Coords) : Fin 3 → Nat :=
  let arg0 : BitVec 32 := BitVec.ofNat 32 (i 0).val
  let v25155 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25156 : Index := Scalar.indexCast v24809
  let c37_10589 : Index := 37#32
  ![v25155.toNat, v25156.toNat, 37]
def k0_off1577 (i : grid0.Coords) : Fin 3 → Nat :=
  let arg0 : BitVec 32 := BitVec.ofNat 32 (i 0).val
  let v25158 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25159 : Index := Scalar.indexCast v24809
  let c44_10590 : Index := 44#32
  ![v25158.toNat, v25159.toNat, 44]
def k0_off1578 (v25151 : BitVec 32) : Fin 3 → Nat :=
  let c630_i32_10595 : BitVec 32 := 630#32
  let v25183 : BitVec 32 := Scalar.addi c630_i32_10595 v25151
  let v25184 : Index := Scalar.indexCast v25183
  let c0_10596 : Index := 0#32
  let c0_10597 : Index := 0#32
  ![v25184.toNat, 0, 0]

def k0_off1579 (v25154 : BitVec 32) (c630_i32_10599 : BitVec 32) : Fin 3 → Nat :=
  let v25191 : BitVec 32 := Scalar.addi c630_i32_10599 v25154
  let v25192 : Index := Scalar.indexCast v25191
  let c0_10600 : Index := 0#32
  let c0_10601 : Index := 0#32
  ![v25192.toNat, 0, 0]

def k0_chk541 (v25154 : BitVec 32) : Prop :=
  (∀ (r : Fin 7), ∀ a, (k0_off1579 v25154 (BitVec.ofNat 32 (630 + 5 * r.val))) a + S1x8x128.size a ≤ S1120x8x128.size a)
theorem k0_off1579_inb : ∀ (v25154 : BitVec 32) (k0_hw541 : k0_chk541 v25154), ∀ (r : Fin 7), ∀ a, (k0_off1579 v25154 (BitVec.ofNat 32 (630 + 5 * r.val))) a + S1x8x128.size a ≤ S1120x8x128.size a := fun v25154 k0_hw541 r => k0_hw541 r

def k0_off1580 (v25151 : BitVec 32) (c635_i32_10604 : BitVec 32) : Fin 3 → Nat :=
  let v25201 : BitVec 32 := Scalar.addi c635_i32_10604 v25151
  let v25202 : Index := Scalar.indexCast v25201
  let c0_10605 : Index := 0#32
  let c0_10606 : Index := 0#32
  ![v25202.toNat, 0, 0]

def k0_chk540 (v25151 : BitVec 32) : Prop :=
  (∀ a, (k0_off1578 v25151) a + S1x8x128.size a ≤ S1120x8x128.size a) ∧
  (∀ (r : Fin 6), ∀ a, (k0_off1580 v25151 (BitVec.ofNat 32 (635 + 5 * r.val))) a + S1x8x128.size a ≤ S1120x8x128.size a)
theorem k0_off1578_inb : ∀ (v25151 : BitVec 32) (k0_hw540 : k0_chk540 v25151), ∀ a, (k0_off1578 v25151) a + S1x8x128.size a ≤ S1120x8x128.size a := fun v25151 k0_hw540 => k0_hw540.1
theorem k0_off1580_inb : ∀ (v25151 : BitVec 32) (k0_hw540 : k0_chk540 v25151), ∀ (r : Fin 6), ∀ a, (k0_off1580 v25151 (BitVec.ofNat 32 (635 + 5 * r.val))) a + S1x8x128.size a ≤ S1120x8x128.size a := fun v25151 k0_hw540 r => k0_hw540.2 r

def k0_off1581 (i : grid0.Coords) : Fin 3 → Nat :=
  let arg0 : BitVec 32 := BitVec.ofNat 32 (i 0).val
  let v25309 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25310 : Index := Scalar.indexCast v24809
  let c24_10658 : Index := 24#32
  ![v25309.toNat, v25310.toNat, 24]
def k0_off1582 (i : grid0.Coords) : Fin 3 → Nat :=
  let arg0 : BitVec 32 := BitVec.ofNat 32 (i 0).val
  let v25312 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25313 : Index := Scalar.indexCast v24809
  let c31_10659 : Index := 31#32
  ![v25312.toNat, v25313.toNat, 31]
def k0_off1583 (i : grid0.Coords) : Fin 3 → Nat :=
  let arg0 : BitVec 32 := BitVec.ofNat 32 (i 0).val
  let v25315 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25316 : Index := Scalar.indexCast v24809
  let c38_10660 : Index := 38#32
  ![v25315.toNat, v25316.toNat, 38]
def k0_off1584 (i : grid0.Coords) : Fin 3 → Nat :=
  let arg0 : BitVec 32 := BitVec.ofNat 32 (i 0).val
  let v25318 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25319 : Index := Scalar.indexCast v24809
  let c45_10661 : Index := 45#32
  ![v25318.toNat, v25319.toNat, 45]
def k0_off1585 (v25311 : BitVec 32) : Fin 3 → Nat :=
  let c630_i32_10666 : BitVec 32 := 630#32
  let v25343 : BitVec 32 := Scalar.addi c630_i32_10666 v25311
  let v25344 : Index := Scalar.indexCast v25343
  let c0_10667 : Index := 0#32
  let c0_10668 : Index := 0#32
  ![v25344.toNat, 0, 0]

def k0_off1586 (v25314 : BitVec 32) (c630_i32_10670 : BitVec 32) : Fin 3 → Nat :=
  let v25351 : BitVec 32 := Scalar.addi c630_i32_10670 v25314
  let v25352 : Index := Scalar.indexCast v25351
  let c0_10671 : Index := 0#32
  let c0_10672 : Index := 0#32
  ![v25352.toNat, 0, 0]

def k0_chk543 (v25314 : BitVec 32) : Prop :=
  (∀ (r : Fin 7), ∀ a, (k0_off1586 v25314 (BitVec.ofNat 32 (630 + 5 * r.val))) a + S1x8x128.size a ≤ S1120x8x128.size a)
theorem k0_off1586_inb : ∀ (v25314 : BitVec 32) (k0_hw543 : k0_chk543 v25314), ∀ (r : Fin 7), ∀ a, (k0_off1586 v25314 (BitVec.ofNat 32 (630 + 5 * r.val))) a + S1x8x128.size a ≤ S1120x8x128.size a := fun v25314 k0_hw543 r => k0_hw543 r

def k0_off1587 (v25311 : BitVec 32) (c635_i32_10675 : BitVec 32) : Fin 3 → Nat :=
  let v25361 : BitVec 32 := Scalar.addi c635_i32_10675 v25311
  let v25362 : Index := Scalar.indexCast v25361
  let c0_10676 : Index := 0#32
  let c0_10677 : Index := 0#32
  ![v25362.toNat, 0, 0]

def k0_chk542 (v25311 : BitVec 32) : Prop :=
  (∀ a, (k0_off1585 v25311) a + S1x8x128.size a ≤ S1120x8x128.size a) ∧
  (∀ (r : Fin 6), ∀ a, (k0_off1587 v25311 (BitVec.ofNat 32 (635 + 5 * r.val))) a + S1x8x128.size a ≤ S1120x8x128.size a)
theorem k0_off1585_inb : ∀ (v25311 : BitVec 32) (k0_hw542 : k0_chk542 v25311), ∀ a, (k0_off1585 v25311) a + S1x8x128.size a ≤ S1120x8x128.size a := fun v25311 k0_hw542 => k0_hw542.1
theorem k0_off1587_inb : ∀ (v25311 : BitVec 32) (k0_hw542 : k0_chk542 v25311), ∀ (r : Fin 6), ∀ a, (k0_off1587 v25311 (BitVec.ofNat 32 (635 + 5 * r.val))) a + S1x8x128.size a ≤ S1120x8x128.size a := fun v25311 k0_hw542 r => k0_hw542.2 r

def k0_off1588 (i : grid0.Coords) : Fin 3 → Nat :=
  let arg0 : BitVec 32 := BitVec.ofNat 32 (i 0).val
  let v25469 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25470 : Index := Scalar.indexCast v24809
  let c25_10729 : Index := 25#32
  ![v25469.toNat, v25470.toNat, 25]
def k0_off1589 (i : grid0.Coords) : Fin 3 → Nat :=
  let arg0 : BitVec 32 := BitVec.ofNat 32 (i 0).val
  let v25472 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25473 : Index := Scalar.indexCast v24809
  let c32_10730 : Index := 32#32
  ![v25472.toNat, v25473.toNat, 32]
def k0_off1590 (i : grid0.Coords) : Fin 3 → Nat :=
  let arg0 : BitVec 32 := BitVec.ofNat 32 (i 0).val
  let v25475 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25476 : Index := Scalar.indexCast v24809
  let c39_10731 : Index := 39#32
  ![v25475.toNat, v25476.toNat, 39]
def k0_off1591 (i : grid0.Coords) : Fin 3 → Nat :=
  let arg0 : BitVec 32 := BitVec.ofNat 32 (i 0).val
  let v25478 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25479 : Index := Scalar.indexCast v24809
  let c46_10732 : Index := 46#32
  ![v25478.toNat, v25479.toNat, 46]
def k0_off1592 (v25471 : BitVec 32) : Fin 3 → Nat :=
  let c630_i32_10737 : BitVec 32 := 630#32
  let v25503 : BitVec 32 := Scalar.addi c630_i32_10737 v25471
  let v25504 : Index := Scalar.indexCast v25503
  let c0_10738 : Index := 0#32
  let c0_10739 : Index := 0#32
  ![v25504.toNat, 0, 0]

def k0_off1593 (v25474 : BitVec 32) (c630_i32_10741 : BitVec 32) : Fin 3 → Nat :=
  let v25511 : BitVec 32 := Scalar.addi c630_i32_10741 v25474
  let v25512 : Index := Scalar.indexCast v25511
  let c0_10742 : Index := 0#32
  let c0_10743 : Index := 0#32
  ![v25512.toNat, 0, 0]

def k0_chk545 (v25474 : BitVec 32) : Prop :=
  (∀ (r : Fin 7), ∀ a, (k0_off1593 v25474 (BitVec.ofNat 32 (630 + 5 * r.val))) a + S1x8x128.size a ≤ S1120x8x128.size a)
theorem k0_off1593_inb : ∀ (v25474 : BitVec 32) (k0_hw545 : k0_chk545 v25474), ∀ (r : Fin 7), ∀ a, (k0_off1593 v25474 (BitVec.ofNat 32 (630 + 5 * r.val))) a + S1x8x128.size a ≤ S1120x8x128.size a := fun v25474 k0_hw545 r => k0_hw545 r

def k0_off1594 (v25471 : BitVec 32) (c635_i32_10746 : BitVec 32) : Fin 3 → Nat :=
  let v25521 : BitVec 32 := Scalar.addi c635_i32_10746 v25471
  let v25522 : Index := Scalar.indexCast v25521
  let c0_10747 : Index := 0#32
  let c0_10748 : Index := 0#32
  ![v25522.toNat, 0, 0]

def k0_chk544 (v25471 : BitVec 32) : Prop :=
  (∀ a, (k0_off1592 v25471) a + S1x8x128.size a ≤ S1120x8x128.size a) ∧
  (∀ (r : Fin 6), ∀ a, (k0_off1594 v25471 (BitVec.ofNat 32 (635 + 5 * r.val))) a + S1x8x128.size a ≤ S1120x8x128.size a)
theorem k0_off1592_inb : ∀ (v25471 : BitVec 32) (k0_hw544 : k0_chk544 v25471), ∀ a, (k0_off1592 v25471) a + S1x8x128.size a ≤ S1120x8x128.size a := fun v25471 k0_hw544 => k0_hw544.1
theorem k0_off1594_inb : ∀ (v25471 : BitVec 32) (k0_hw544 : k0_chk544 v25471), ∀ (r : Fin 6), ∀ a, (k0_off1594 v25471 (BitVec.ofNat 32 (635 + 5 * r.val))) a + S1x8x128.size a ≤ S1120x8x128.size a := fun v25471 k0_hw544 r => k0_hw544.2 r

def k0_off1595 (i : grid0.Coords) : Fin 3 → Nat :=
  let arg0 : BitVec 32 := BitVec.ofNat 32 (i 0).val
  let v25629 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25630 : Index := Scalar.indexCast v24809
  let c26_10800 : Index := 26#32
  ![v25629.toNat, v25630.toNat, 26]
def k0_off1596 (i : grid0.Coords) : Fin 3 → Nat :=
  let arg0 : BitVec 32 := BitVec.ofNat 32 (i 0).val
  let v25632 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25633 : Index := Scalar.indexCast v24809
  let c33_10801 : Index := 33#32
  ![v25632.toNat, v25633.toNat, 33]
def k0_off1597 (i : grid0.Coords) : Fin 3 → Nat :=
  let arg0 : BitVec 32 := BitVec.ofNat 32 (i 0).val
  let v25635 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25636 : Index := Scalar.indexCast v24809
  let c40_10802 : Index := 40#32
  ![v25635.toNat, v25636.toNat, 40]
def k0_off1598 (i : grid0.Coords) : Fin 3 → Nat :=
  let arg0 : BitVec 32 := BitVec.ofNat 32 (i 0).val
  let v25638 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25639 : Index := Scalar.indexCast v24809
  let c47_10803 : Index := 47#32
  ![v25638.toNat, v25639.toNat, 47]
def k0_off1599 (v25631 : BitVec 32) : Fin 3 → Nat :=
  let c630_i32_10808 : BitVec 32 := 630#32
  let v25663 : BitVec 32 := Scalar.addi c630_i32_10808 v25631
  let v25664 : Index := Scalar.indexCast v25663
  let c0_10809 : Index := 0#32
  let c0_10810 : Index := 0#32
  ![v25664.toNat, 0, 0]

def k0_off1600 (v25634 : BitVec 32) (c630_i32_10812 : BitVec 32) : Fin 3 → Nat :=
  let v25671 : BitVec 32 := Scalar.addi c630_i32_10812 v25634
  let v25672 : Index := Scalar.indexCast v25671
  let c0_10813 : Index := 0#32
  let c0_10814 : Index := 0#32
  ![v25672.toNat, 0, 0]

def k0_chk547 (v25634 : BitVec 32) : Prop :=
  (∀ (r : Fin 7), ∀ a, (k0_off1600 v25634 (BitVec.ofNat 32 (630 + 5 * r.val))) a + S1x8x128.size a ≤ S1120x8x128.size a)
theorem k0_off1600_inb : ∀ (v25634 : BitVec 32) (k0_hw547 : k0_chk547 v25634), ∀ (r : Fin 7), ∀ a, (k0_off1600 v25634 (BitVec.ofNat 32 (630 + 5 * r.val))) a + S1x8x128.size a ≤ S1120x8x128.size a := fun v25634 k0_hw547 r => k0_hw547 r

def k0_off1601 (v25631 : BitVec 32) (c635_i32_10817 : BitVec 32) : Fin 3 → Nat :=
  let v25681 : BitVec 32 := Scalar.addi c635_i32_10817 v25631
  let v25682 : Index := Scalar.indexCast v25681
  let c0_10818 : Index := 0#32
  let c0_10819 : Index := 0#32
  ![v25682.toNat, 0, 0]

def k0_chk546 (v25631 : BitVec 32) : Prop :=
  (∀ a, (k0_off1599 v25631) a + S1x8x128.size a ≤ S1120x8x128.size a) ∧
  (∀ (r : Fin 6), ∀ a, (k0_off1601 v25631 (BitVec.ofNat 32 (635 + 5 * r.val))) a + S1x8x128.size a ≤ S1120x8x128.size a)
theorem k0_off1599_inb : ∀ (v25631 : BitVec 32) (k0_hw546 : k0_chk546 v25631), ∀ a, (k0_off1599 v25631) a + S1x8x128.size a ≤ S1120x8x128.size a := fun v25631 k0_hw546 => k0_hw546.1
theorem k0_off1601_inb : ∀ (v25631 : BitVec 32) (k0_hw546 : k0_chk546 v25631), ∀ (r : Fin 6), ∀ a, (k0_off1601 v25631 (BitVec.ofNat 32 (635 + 5 * r.val))) a + S1x8x128.size a ≤ S1120x8x128.size a := fun v25631 k0_hw546 r => k0_hw546.2 r

def k0_off1602 (i : grid0.Coords) : Fin 3 → Nat :=
  let arg0 : BitVec 32 := BitVec.ofNat 32 (i 0).val
  let v25789 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25790 : Index := Scalar.indexCast v24809
  let c27_10871 : Index := 27#32
  ![v25789.toNat, v25790.toNat, 27]
def k0_off1603 (i : grid0.Coords) : Fin 3 → Nat :=
  let arg0 : BitVec 32 := BitVec.ofNat 32 (i 0).val
  let v25792 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25793 : Index := Scalar.indexCast v24809
  let c34_10872 : Index := 34#32
  ![v25792.toNat, v25793.toNat, 34]
def k0_off1604 (i : grid0.Coords) : Fin 3 → Nat :=
  let arg0 : BitVec 32 := BitVec.ofNat 32 (i 0).val
  let v25795 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25796 : Index := Scalar.indexCast v24809
  let c41_10873 : Index := 41#32
  ![v25795.toNat, v25796.toNat, 41]
def k0_off1605 (i : grid0.Coords) : Fin 3 → Nat :=
  let arg0 : BitVec 32 := BitVec.ofNat 32 (i 0).val
  let v25798 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25799 : Index := Scalar.indexCast v24809
  let c48_10874 : Index := 48#32
  ![v25798.toNat, v25799.toNat, 48]
def k0_off1606 (v25791 : BitVec 32) : Fin 3 → Nat :=
  let c630_i32_10879 : BitVec 32 := 630#32
  let v25823 : BitVec 32 := Scalar.addi c630_i32_10879 v25791
  let v25824 : Index := Scalar.indexCast v25823
  let c0_10880 : Index := 0#32
  let c0_10881 : Index := 0#32
  ![v25824.toNat, 0, 0]

def k0_off1607 (v25794 : BitVec 32) (c630_i32_10883 : BitVec 32) : Fin 3 → Nat :=
  let v25831 : BitVec 32 := Scalar.addi c630_i32_10883 v25794
  let v25832 : Index := Scalar.indexCast v25831
  let c0_10884 : Index := 0#32
  let c0_10885 : Index := 0#32
  ![v25832.toNat, 0, 0]

def k0_chk549 (v25794 : BitVec 32) : Prop :=
  (∀ (r : Fin 7), ∀ a, (k0_off1607 v25794 (BitVec.ofNat 32 (630 + 5 * r.val))) a + S1x8x128.size a ≤ S1120x8x128.size a)
theorem k0_off1607_inb : ∀ (v25794 : BitVec 32) (k0_hw549 : k0_chk549 v25794), ∀ (r : Fin 7), ∀ a, (k0_off1607 v25794 (BitVec.ofNat 32 (630 + 5 * r.val))) a + S1x8x128.size a ≤ S1120x8x128.size a := fun v25794 k0_hw549 r => k0_hw549 r

def k0_off1608 (v25791 : BitVec 32) (c635_i32_10888 : BitVec 32) : Fin 3 → Nat :=
  let v25841 : BitVec 32 := Scalar.addi c635_i32_10888 v25791
  let v25842 : Index := Scalar.indexCast v25841
  let c0_10889 : Index := 0#32
  let c0_10890 : Index := 0#32
  ![v25842.toNat, 0, 0]

def k0_chk548 (v25791 : BitVec 32) : Prop :=
  (∀ a, (k0_off1606 v25791) a + S1x8x128.size a ≤ S1120x8x128.size a) ∧
  (∀ (r : Fin 6), ∀ a, (k0_off1608 v25791 (BitVec.ofNat 32 (635 + 5 * r.val))) a + S1x8x128.size a ≤ S1120x8x128.size a)
theorem k0_off1606_inb : ∀ (v25791 : BitVec 32) (k0_hw548 : k0_chk548 v25791), ∀ a, (k0_off1606 v25791) a + S1x8x128.size a ≤ S1120x8x128.size a := fun v25791 k0_hw548 => k0_hw548.1
theorem k0_off1608_inb : ∀ (v25791 : BitVec 32) (k0_hw548 : k0_chk548 v25791), ∀ (r : Fin 6), ∀ a, (k0_off1608 v25791 (BitVec.ofNat 32 (635 + 5 * r.val))) a + S1x8x128.size a ≤ S1120x8x128.size a := fun v25791 k0_hw548 r => k0_hw548.2 r

def k0_off1609 (i : grid0.Coords) : Fin 3 → Nat :=
  let arg0 : BitVec 32 := BitVec.ofNat 32 (i 0).val
  let v25949 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25950 : Index := Scalar.indexCast v24809
  let c28_10942 : Index := 28#32
  ![v25949.toNat, v25950.toNat, 28]
def k0_off1610 (i : grid0.Coords) : Fin 3 → Nat :=
  let arg0 : BitVec 32 := BitVec.ofNat 32 (i 0).val
  let v25952 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25953 : Index := Scalar.indexCast v24809
  let c35_10943 : Index := 35#32
  ![v25952.toNat, v25953.toNat, 35]
def k0_off1611 (i : grid0.Coords) : Fin 3 → Nat :=
  let arg0 : BitVec 32 := BitVec.ofNat 32 (i 0).val
  let v25955 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25956 : Index := Scalar.indexCast v24809
  let c42_10944 : Index := 42#32
  ![v25955.toNat, v25956.toNat, 42]
def k0_off1612 (i : grid0.Coords) : Fin 3 → Nat :=
  let arg0 : BitVec 32 := BitVec.ofNat 32 (i 0).val
  let v25958 : Index := Scalar.indexCast arg0
  let arg1 : BitVec 32 := BitVec.ofNat 32 (i 1).val
  let c32_i32_10458 : BitVec 32 := 32#32
  let v24808 : BitVec 32 := Scalar.muli arg1 c32_i32_10458
  let c18_i32 : BitVec 32 := 18#32
  let v24809 : BitVec 32 := Scalar.addi v24808 c18_i32
  let v25959 : Index := Scalar.indexCast v24809
  let c49_10945 : Index := 49#32
  ![v25958.toNat, v25959.toNat, 49]
def k0_off1613 (v25951 : BitVec 32) : Fin 3 → Nat :=
  let c630_i32_10950 : BitVec 32 := 630#32
  let v25983 : BitVec 32 := Scalar.addi c630_i32_10950 v25951
  let v25984 : Index := Scalar.indexCast v25983
  let c0_10951 : Index := 0#32
  let c0_10952 : Index := 0#32
  ![v25984.toNat, 0, 0]

def k0_off1614 (v25954 : BitVec 32) (c630_i32_10954 : BitVec 32) : Fin 3 → Nat :=
  let v25991 : BitVec 32 := Scalar.addi c630_i32_10954 v25954
  let v25992 : Index := Scalar.indexCast v25991
  let c0_10955 : Index := 0#32
  let c0_10956 : Index := 0#32
  ![v25992.toNat, 0, 0]

def k0_chk551 (v25954 : BitVec 32) : Prop :=
  (∀ (r : Fin 7), ∀ a, (k0_off1614 v25954 (BitVec.ofNat 32 (630 + 5 * r.val))) a + S1x8x128.size a ≤ S1120x8x128.size a)
theorem k0_off1614_inb : ∀ (v25954 : BitVec 32) (k0_hw551 : k0_chk551 v25954), ∀ (r : Fin 7), ∀ a, (k0_off1614 v25954 (BitVec.ofNat 32 (630 + 5 * r.val))) a + S1x8x128.size a ≤ S1120x8x128.size a := fun v25954 k0_hw551 r => k0_hw551 r

def k0_off1615 (v25951 : BitVec 32) (c635_i32_10959 : BitVec 32) : Fin 3 → Nat :=
  let v26001 : BitVec 32 := Scalar.addi c635_i32_10959 v25951
  let v26002 : Index := Scalar.indexCast v26001
  let c0_10960 : Index := 0#32
  let c0_10961 : Index := 0#32
  ![v26002.toNat, 0, 0]

def k0_chk550 (v25951 : BitVec 32) : Prop :=
  (∀ a, (k0_off1613 v25951) a + S1x8x128.size a ≤ S1120x8x128.size a) ∧
  (∀ (r : Fin 6), ∀ a, (k0_off1615 v25951 (BitVec.ofNat 32 (635 + 5 * r.val))) a + S1x8x128.size a ≤ S1120x8x128.size a)
theorem k0_off1613_inb : ∀ (v25951 : BitVec 32) (k0_hw550 : k0_chk550 v25951), ∀ a, (k0_off1613 v25951) a + S1x8x128.size a ≤ S1120x8x128.size a := fun v25951 k0_hw550 => k0_hw550.1
theorem k0_off1615_inb : ∀ (v25951 : BitVec 32) (k0_hw550 : k0_chk550 v25951), ∀ (r : Fin 6), ∀ a, (k0_off1615 v25951 (BitVec.ofNat 32 (635 + 5 * r.val))) a + S1x8x128.size a ≤ S1120x8x128.size a := fun v25951 k0_hw550 r => k0_hw550.2 r

def k0_off1616 (i : grid0.Coords) : Fin 3 → Nat :=
  let arg0 : BitVec 32 := BitVec.ofNat 32 (i 0).val
  let v26188 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26189 : Index := Scalar.indexCast v26187
  let c0_11042 : Index := 0#32
  ![v26188.toNat, v26189.toNat, 0]
def k0_mult20 (v26190 : BitVec 32) : BitVec 32 :=
  v26190

def k0_chk552 (v26190 : BitVec 32) : Prop :=
  (8 ∣ (k0_mult20 v26190).toNat)
theorem k0_mult20_dvd : ∀ (v26190 : BitVec 32) (k0_hw552 : k0_chk552 v26190), 8 ∣ (k0_mult20 v26190).toNat := fun v26190 k0_hw552 => k0_hw552

def k0_off1617 (i : grid0.Coords) : Fin 3 → Nat :=
  let arg0 : BitVec 32 := BitVec.ofNat 32 (i 0).val
  let v26192 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26193 : Index := Scalar.indexCast v26187
  let c1_11043 : Index := 1#32
  ![v26192.toNat, v26193.toNat, 1]
def k0_off1618 (v26190 : BitVec 32) (v26194 : BitVec 32) : Fin 3 → Nat :=
  let v26195 : Index := Scalar.indexCast v26194
  let v26191 : BitVec 32 := v26190
  let v26196 : Index := Scalar.indexCast v26191
  let c0_11044 : Index := 0#32
  ![v26195.toNat, v26196.toNat, 0]

def k0_chk553 (v26190 : BitVec 32) (v26194 : BitVec 32) : Prop :=
  (∀ a, (k0_off1618 v26190 v26194) a + S1x40x128.size a ≤ S256x64x128.size a)
theorem k0_off1618_inb : ∀ (v26190 : BitVec 32) (v26194 : BitVec 32) (k0_hw553 : k0_chk553 v26190 v26194), ∀ a, (k0_off1618 v26190 v26194) a + S1x40x128.size a ≤ S256x64x128.size a := fun v26190 v26194 k0_hw553 => k0_hw553

def k0_off1619 (i : grid0.Coords) : Fin 3 → Nat :=
  let arg0 : BitVec 32 := BitVec.ofNat 32 (i 0).val
  let v26199 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26200 : Index := Scalar.indexCast v26187
  let c8_11045 : Index := 8#32
  ![v26199.toNat, v26200.toNat, 8]
def k0_off1620 (v26190 : BitVec 32) (v26201 : BitVec 32) : Fin 3 → Nat :=
  let v26202 : Index := Scalar.indexCast v26201
  let v26191 : BitVec 32 := v26190
  let v26203 : Index := Scalar.indexCast v26191
  let c0_11046 : Index := 0#32
  ![v26202.toNat, v26203.toNat, 0]

def k0_chk554 (v26190 : BitVec 32) (v26201 : BitVec 32) : Prop :=
  (∀ a, (k0_off1620 v26190 v26201) a + S1x40x128.size a ≤ S256x64x128.size a)
theorem k0_off1620_inb : ∀ (v26190 : BitVec 32) (v26201 : BitVec 32) (k0_hw554 : k0_chk554 v26190 v26201), ∀ a, (k0_off1620 v26190 v26201) a + S1x40x128.size a ≤ S256x64x128.size a := fun v26190 v26201 k0_hw554 => k0_hw554

def k0_off1621 (i : grid0.Coords) : Fin 3 → Nat :=
  let arg0 : BitVec 32 := BitVec.ofNat 32 (i 0).val
  let v26207 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26208 : Index := Scalar.indexCast v26187
  let c15_11047 : Index := 15#32
  ![v26207.toNat, v26208.toNat, 15]
def k0_off1622 (i : grid0.Coords) : Fin 3 → Nat :=
  let arg0 : BitVec 32 := BitVec.ofNat 32 (i 0).val
  let v26217 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26218 : Index := Scalar.indexCast v26187
  let c2_11052 : Index := 2#32
  ![v26217.toNat, v26218.toNat, 2]
def k0_off1623 (v26190 : BitVec 32) (v26219 : BitVec 32) : Fin 3 → Nat :=
  let v26220 : Index := Scalar.indexCast v26219
  let v26191 : BitVec 32 := v26190
  let v26221 : Index := Scalar.indexCast v26191
  let c0_11053 : Index := 0#32
  ![v26220.toNat, v26221.toNat, 0]

def k0_chk555 (v26190 : BitVec 32) (v26219 : BitVec 32) : Prop :=
  (∀ a, (k0_off1623 v26190 v26219) a + S1x40x128.size a ≤ S256x64x128.size a)
theorem k0_off1623_inb : ∀ (v26190 : BitVec 32) (v26219 : BitVec 32) (k0_hw555 : k0_chk555 v26190 v26219), ∀ a, (k0_off1623 v26190 v26219) a + S1x40x128.size a ≤ S256x64x128.size a := fun v26190 v26219 k0_hw555 => k0_hw555

def k0_off1624 (i : grid0.Coords) : Fin 3 → Nat :=
  let arg0 : BitVec 32 := BitVec.ofNat 32 (i 0).val
  let v26224 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26225 : Index := Scalar.indexCast v26187
  let c9_11054 : Index := 9#32
  ![v26224.toNat, v26225.toNat, 9]
def k0_off1625 (v26190 : BitVec 32) (v26226 : BitVec 32) : Fin 3 → Nat :=
  let v26227 : Index := Scalar.indexCast v26226
  let v26191 : BitVec 32 := v26190
  let v26228 : Index := Scalar.indexCast v26191
  let c0_11055 : Index := 0#32
  ![v26227.toNat, v26228.toNat, 0]

def k0_chk556 (v26190 : BitVec 32) (v26226 : BitVec 32) : Prop :=
  (∀ a, (k0_off1625 v26190 v26226) a + S1x40x128.size a ≤ S256x64x128.size a)
theorem k0_off1625_inb : ∀ (v26190 : BitVec 32) (v26226 : BitVec 32) (k0_hw556 : k0_chk556 v26190 v26226), ∀ a, (k0_off1625 v26190 v26226) a + S1x40x128.size a ≤ S256x64x128.size a := fun v26190 v26226 k0_hw556 => k0_hw556

def k0_off1626 (i : grid0.Coords) : Fin 3 → Nat :=
  let arg0 : BitVec 32 := BitVec.ofNat 32 (i 0).val
  let v26232 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26233 : Index := Scalar.indexCast v26187
  let c16_11056 : Index := 16#32
  ![v26232.toNat, v26233.toNat, 16]
def k0_off1627 (i : grid0.Coords) : Fin 3 → Nat :=
  let arg0 : BitVec 32 := BitVec.ofNat 32 (i 0).val
  let v26242 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26243 : Index := Scalar.indexCast v26187
  let c3_11061 : Index := 3#32
  ![v26242.toNat, v26243.toNat, 3]
def k0_off1628 (v26190 : BitVec 32) (v26244 : BitVec 32) : Fin 3 → Nat :=
  let v26245 : Index := Scalar.indexCast v26244
  let v26191 : BitVec 32 := v26190
  let v26246 : Index := Scalar.indexCast v26191
  let c0_11062 : Index := 0#32
  ![v26245.toNat, v26246.toNat, 0]

def k0_chk557 (v26190 : BitVec 32) (v26244 : BitVec 32) : Prop :=
  (∀ a, (k0_off1628 v26190 v26244) a + S1x40x128.size a ≤ S256x64x128.size a)
theorem k0_off1628_inb : ∀ (v26190 : BitVec 32) (v26244 : BitVec 32) (k0_hw557 : k0_chk557 v26190 v26244), ∀ a, (k0_off1628 v26190 v26244) a + S1x40x128.size a ≤ S256x64x128.size a := fun v26190 v26244 k0_hw557 => k0_hw557

def k0_off1629 (i : grid0.Coords) : Fin 3 → Nat :=
  let arg0 : BitVec 32 := BitVec.ofNat 32 (i 0).val
  let v26249 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26250 : Index := Scalar.indexCast v26187
  let c10_11063 : Index := 10#32
  ![v26249.toNat, v26250.toNat, 10]
def k0_off1630 (v26190 : BitVec 32) (v26251 : BitVec 32) : Fin 3 → Nat :=
  let v26252 : Index := Scalar.indexCast v26251
  let v26191 : BitVec 32 := v26190
  let v26253 : Index := Scalar.indexCast v26191
  let c0_11064 : Index := 0#32
  ![v26252.toNat, v26253.toNat, 0]

def k0_chk558 (v26190 : BitVec 32) (v26251 : BitVec 32) : Prop :=
  (∀ a, (k0_off1630 v26190 v26251) a + S1x40x128.size a ≤ S256x64x128.size a)
theorem k0_off1630_inb : ∀ (v26190 : BitVec 32) (v26251 : BitVec 32) (k0_hw558 : k0_chk558 v26190 v26251), ∀ a, (k0_off1630 v26190 v26251) a + S1x40x128.size a ≤ S256x64x128.size a := fun v26190 v26251 k0_hw558 => k0_hw558

def k0_off1631 (i : grid0.Coords) : Fin 3 → Nat :=
  let arg0 : BitVec 32 := BitVec.ofNat 32 (i 0).val
  let v26257 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26258 : Index := Scalar.indexCast v26187
  let c17_11065 : Index := 17#32
  ![v26257.toNat, v26258.toNat, 17]
def k0_off1632 (i : grid0.Coords) : Fin 3 → Nat :=
  let arg0 : BitVec 32 := BitVec.ofNat 32 (i 0).val
  let v26267 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26268 : Index := Scalar.indexCast v26187
  let c4_11070 : Index := 4#32
  ![v26267.toNat, v26268.toNat, 4]
def k0_off1633 (v26190 : BitVec 32) (v26269 : BitVec 32) : Fin 3 → Nat :=
  let v26270 : Index := Scalar.indexCast v26269
  let v26191 : BitVec 32 := v26190
  let v26271 : Index := Scalar.indexCast v26191
  let c0_11071 : Index := 0#32
  ![v26270.toNat, v26271.toNat, 0]

def k0_chk559 (v26190 : BitVec 32) (v26269 : BitVec 32) : Prop :=
  (∀ a, (k0_off1633 v26190 v26269) a + S1x40x128.size a ≤ S256x64x128.size a)
theorem k0_off1633_inb : ∀ (v26190 : BitVec 32) (v26269 : BitVec 32) (k0_hw559 : k0_chk559 v26190 v26269), ∀ a, (k0_off1633 v26190 v26269) a + S1x40x128.size a ≤ S256x64x128.size a := fun v26190 v26269 k0_hw559 => k0_hw559

def k0_off1634 (i : grid0.Coords) : Fin 3 → Nat :=
  let arg0 : BitVec 32 := BitVec.ofNat 32 (i 0).val
  let v26274 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26275 : Index := Scalar.indexCast v26187
  let c11_11072 : Index := 11#32
  ![v26274.toNat, v26275.toNat, 11]
def k0_off1635 (v26190 : BitVec 32) (v26276 : BitVec 32) : Fin 3 → Nat :=
  let v26277 : Index := Scalar.indexCast v26276
  let v26191 : BitVec 32 := v26190
  let v26278 : Index := Scalar.indexCast v26191
  let c0_11073 : Index := 0#32
  ![v26277.toNat, v26278.toNat, 0]

def k0_chk560 (v26190 : BitVec 32) (v26276 : BitVec 32) : Prop :=
  (∀ a, (k0_off1635 v26190 v26276) a + S1x40x128.size a ≤ S256x64x128.size a)
theorem k0_off1635_inb : ∀ (v26190 : BitVec 32) (v26276 : BitVec 32) (k0_hw560 : k0_chk560 v26190 v26276), ∀ a, (k0_off1635 v26190 v26276) a + S1x40x128.size a ≤ S256x64x128.size a := fun v26190 v26276 k0_hw560 => k0_hw560

def k0_off1636 (i : grid0.Coords) : Fin 3 → Nat :=
  let arg0 : BitVec 32 := BitVec.ofNat 32 (i 0).val
  let v26282 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26283 : Index := Scalar.indexCast v26187
  let c18_11074 : Index := 18#32
  ![v26282.toNat, v26283.toNat, 18]
def k0_off1637 (i : grid0.Coords) : Fin 3 → Nat :=
  let arg0 : BitVec 32 := BitVec.ofNat 32 (i 0).val
  let v26292 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26293 : Index := Scalar.indexCast v26187
  let c5_11079 : Index := 5#32
  ![v26292.toNat, v26293.toNat, 5]
def k0_off1638 (v26190 : BitVec 32) (v26294 : BitVec 32) : Fin 3 → Nat :=
  let v26295 : Index := Scalar.indexCast v26294
  let v26191 : BitVec 32 := v26190
  let v26296 : Index := Scalar.indexCast v26191
  let c0_11080 : Index := 0#32
  ![v26295.toNat, v26296.toNat, 0]

def k0_chk561 (v26190 : BitVec 32) (v26294 : BitVec 32) : Prop :=
  (∀ a, (k0_off1638 v26190 v26294) a + S1x40x128.size a ≤ S256x64x128.size a)
theorem k0_off1638_inb : ∀ (v26190 : BitVec 32) (v26294 : BitVec 32) (k0_hw561 : k0_chk561 v26190 v26294), ∀ a, (k0_off1638 v26190 v26294) a + S1x40x128.size a ≤ S256x64x128.size a := fun v26190 v26294 k0_hw561 => k0_hw561

def k0_off1639 (i : grid0.Coords) : Fin 3 → Nat :=
  let arg0 : BitVec 32 := BitVec.ofNat 32 (i 0).val
  let v26299 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26300 : Index := Scalar.indexCast v26187
  let c12_11081 : Index := 12#32
  ![v26299.toNat, v26300.toNat, 12]
def k0_off1640 (v26190 : BitVec 32) (v26301 : BitVec 32) : Fin 3 → Nat :=
  let v26302 : Index := Scalar.indexCast v26301
  let v26191 : BitVec 32 := v26190
  let v26303 : Index := Scalar.indexCast v26191
  let c0_11082 : Index := 0#32
  ![v26302.toNat, v26303.toNat, 0]

def k0_chk562 (v26190 : BitVec 32) (v26301 : BitVec 32) : Prop :=
  (∀ a, (k0_off1640 v26190 v26301) a + S1x40x128.size a ≤ S256x64x128.size a)
theorem k0_off1640_inb : ∀ (v26190 : BitVec 32) (v26301 : BitVec 32) (k0_hw562 : k0_chk562 v26190 v26301), ∀ a, (k0_off1640 v26190 v26301) a + S1x40x128.size a ≤ S256x64x128.size a := fun v26190 v26301 k0_hw562 => k0_hw562

def k0_off1641 (i : grid0.Coords) : Fin 3 → Nat :=
  let arg0 : BitVec 32 := BitVec.ofNat 32 (i 0).val
  let v26307 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26308 : Index := Scalar.indexCast v26187
  let c19_11083 : Index := 19#32
  ![v26307.toNat, v26308.toNat, 19]
def k0_off1642 (i : grid0.Coords) : Fin 3 → Nat :=
  let arg0 : BitVec 32 := BitVec.ofNat 32 (i 0).val
  let v26317 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26318 : Index := Scalar.indexCast v26187
  let c6_11088 : Index := 6#32
  ![v26317.toNat, v26318.toNat, 6]
def k0_off1643 (v26190 : BitVec 32) (v26319 : BitVec 32) : Fin 3 → Nat :=
  let v26320 : Index := Scalar.indexCast v26319
  let v26191 : BitVec 32 := v26190
  let v26321 : Index := Scalar.indexCast v26191
  let c0_11089 : Index := 0#32
  ![v26320.toNat, v26321.toNat, 0]

def k0_chk563 (v26190 : BitVec 32) (v26319 : BitVec 32) : Prop :=
  (∀ a, (k0_off1643 v26190 v26319) a + S1x40x128.size a ≤ S256x64x128.size a)
theorem k0_off1643_inb : ∀ (v26190 : BitVec 32) (v26319 : BitVec 32) (k0_hw563 : k0_chk563 v26190 v26319), ∀ a, (k0_off1643 v26190 v26319) a + S1x40x128.size a ≤ S256x64x128.size a := fun v26190 v26319 k0_hw563 => k0_hw563

def k0_off1644 (i : grid0.Coords) : Fin 3 → Nat :=
  let arg0 : BitVec 32 := BitVec.ofNat 32 (i 0).val
  let v26324 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26325 : Index := Scalar.indexCast v26187
  let c13_11090 : Index := 13#32
  ![v26324.toNat, v26325.toNat, 13]
def k0_off1645 (v26190 : BitVec 32) (v26326 : BitVec 32) : Fin 3 → Nat :=
  let v26327 : Index := Scalar.indexCast v26326
  let v26191 : BitVec 32 := v26190
  let v26328 : Index := Scalar.indexCast v26191
  let c0_11091 : Index := 0#32
  ![v26327.toNat, v26328.toNat, 0]

def k0_chk564 (v26190 : BitVec 32) (v26326 : BitVec 32) : Prop :=
  (∀ a, (k0_off1645 v26190 v26326) a + S1x40x128.size a ≤ S256x64x128.size a)
theorem k0_off1645_inb : ∀ (v26190 : BitVec 32) (v26326 : BitVec 32) (k0_hw564 : k0_chk564 v26190 v26326), ∀ a, (k0_off1645 v26190 v26326) a + S1x40x128.size a ≤ S256x64x128.size a := fun v26190 v26326 k0_hw564 => k0_hw564

def k0_off1646 (i : grid0.Coords) : Fin 3 → Nat :=
  let arg0 : BitVec 32 := BitVec.ofNat 32 (i 0).val
  let v26332 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26333 : Index := Scalar.indexCast v26187
  let c20_11092 : Index := 20#32
  ![v26332.toNat, v26333.toNat, 20]
def k0_off1647 (i : grid0.Coords) : Fin 3 → Nat :=
  let arg0 : BitVec 32 := BitVec.ofNat 32 (i 0).val
  let v26342 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26343 : Index := Scalar.indexCast v26187
  let c7_11097 : Index := 7#32
  ![v26342.toNat, v26343.toNat, 7]
def k0_off1648 (v26190 : BitVec 32) (v26344 : BitVec 32) : Fin 3 → Nat :=
  let v26345 : Index := Scalar.indexCast v26344
  let v26191 : BitVec 32 := v26190
  let v26346 : Index := Scalar.indexCast v26191
  let c0_11098 : Index := 0#32
  ![v26345.toNat, v26346.toNat, 0]

def k0_chk565 (v26190 : BitVec 32) (v26344 : BitVec 32) : Prop :=
  (∀ a, (k0_off1648 v26190 v26344) a + S1x40x128.size a ≤ S256x64x128.size a)
theorem k0_off1648_inb : ∀ (v26190 : BitVec 32) (v26344 : BitVec 32) (k0_hw565 : k0_chk565 v26190 v26344), ∀ a, (k0_off1648 v26190 v26344) a + S1x40x128.size a ≤ S256x64x128.size a := fun v26190 v26344 k0_hw565 => k0_hw565

def k0_off1649 (i : grid0.Coords) : Fin 3 → Nat :=
  let arg0 : BitVec 32 := BitVec.ofNat 32 (i 0).val
  let v26349 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26350 : Index := Scalar.indexCast v26187
  let c14_11099 : Index := 14#32
  ![v26349.toNat, v26350.toNat, 14]
def k0_off1650 (v26190 : BitVec 32) (v26351 : BitVec 32) : Fin 3 → Nat :=
  let v26352 : Index := Scalar.indexCast v26351
  let v26191 : BitVec 32 := v26190
  let v26353 : Index := Scalar.indexCast v26191
  let c0_11100 : Index := 0#32
  ![v26352.toNat, v26353.toNat, 0]

def k0_chk566 (v26190 : BitVec 32) (v26351 : BitVec 32) : Prop :=
  (∀ a, (k0_off1650 v26190 v26351) a + S1x40x128.size a ≤ S256x64x128.size a)
theorem k0_off1650_inb : ∀ (v26190 : BitVec 32) (v26351 : BitVec 32) (k0_hw566 : k0_chk566 v26190 v26351), ∀ a, (k0_off1650 v26190 v26351) a + S1x40x128.size a ≤ S256x64x128.size a := fun v26190 v26351 k0_hw566 => k0_hw566

def k0_off1651 (i : grid0.Coords) : Fin 3 → Nat :=
  let arg0 : BitVec 32 := BitVec.ofNat 32 (i 0).val
  let v26357 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26358 : Index := Scalar.indexCast v26187
  let c21_11101 : Index := 21#32
  ![v26357.toNat, v26358.toNat, 21]
def k0_off1652 (i : grid0.Coords) : Fin 3 → Nat :=
  let arg0 : BitVec 32 := BitVec.ofNat 32 (i 0).val
  let v26367 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26368 : Index := Scalar.indexCast v26187
  let c22_11106 : Index := 22#32
  ![v26367.toNat, v26368.toNat, 22]
def k0_off1653 (i : grid0.Coords) : Fin 3 → Nat :=
  let arg0 : BitVec 32 := BitVec.ofNat 32 (i 0).val
  let v26370 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26371 : Index := Scalar.indexCast v26187
  let c29_11107 : Index := 29#32
  ![v26370.toNat, v26371.toNat, 29]
def k0_off1654 (i : grid0.Coords) : Fin 3 → Nat :=
  let arg0 : BitVec 32 := BitVec.ofNat 32 (i 0).val
  let v26373 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26374 : Index := Scalar.indexCast v26187
  let c36_11108 : Index := 36#32
  ![v26373.toNat, v26374.toNat, 36]
def k0_off1655 (i : grid0.Coords) : Fin 3 → Nat :=
  let arg0 : BitVec 32 := BitVec.ofNat 32 (i 0).val
  let v26376 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26377 : Index := Scalar.indexCast v26187
  let c43_11109 : Index := 43#32
  ![v26376.toNat, v26377.toNat, 43]
def k0_off1656 (v26369 : BitVec 32) : Fin 3 → Nat :=
  let c665_i32 : BitVec 32 := 665#32
  let v26401 : BitVec 32 := Scalar.addi c665_i32 v26369
  let v26402 : Index := Scalar.indexCast v26401
  let c0_11114 : Index := 0#32
  let c0_11115 : Index := 0#32
  ![v26402.toNat, 0, 0]

def k0_off1657 (v26372 : BitVec 32) (c665_i32_11117 : BitVec 32) : Fin 3 → Nat :=
  let v26409 : BitVec 32 := Scalar.addi c665_i32_11117 v26372
  let v26410 : Index := Scalar.indexCast v26409
  let c0_11118 : Index := 0#32
  let c0_11119 : Index := 0#32
  ![v26410.toNat, 0, 0]

def k0_chk568 (v26372 : BitVec 32) : Prop :=
  (∀ (r : Fin 7), ∀ a, (k0_off1657 v26372 (BitVec.ofNat 32 (665 + 5 * r.val))) a + S1x8x128.size a ≤ S1120x8x128.size a)
theorem k0_off1657_inb : ∀ (v26372 : BitVec 32) (k0_hw568 : k0_chk568 v26372), ∀ (r : Fin 7), ∀ a, (k0_off1657 v26372 (BitVec.ofNat 32 (665 + 5 * r.val))) a + S1x8x128.size a ≤ S1120x8x128.size a := fun v26372 k0_hw568 r => k0_hw568 r

def k0_off1658 (v26369 : BitVec 32) (c670_i32 : BitVec 32) : Fin 3 → Nat :=
  let v26419 : BitVec 32 := Scalar.addi c670_i32 v26369
  let v26420 : Index := Scalar.indexCast v26419
  let c0_11122 : Index := 0#32
  let c0_11123 : Index := 0#32
  ![v26420.toNat, 0, 0]

def k0_chk567 (v26369 : BitVec 32) : Prop :=
  (∀ a, (k0_off1656 v26369) a + S1x8x128.size a ≤ S1120x8x128.size a) ∧
  (∀ (r : Fin 6), ∀ a, (k0_off1658 v26369 (BitVec.ofNat 32 (670 + 5 * r.val))) a + S1x8x128.size a ≤ S1120x8x128.size a)
theorem k0_off1656_inb : ∀ (v26369 : BitVec 32) (k0_hw567 : k0_chk567 v26369), ∀ a, (k0_off1656 v26369) a + S1x8x128.size a ≤ S1120x8x128.size a := fun v26369 k0_hw567 => k0_hw567.1
theorem k0_off1658_inb : ∀ (v26369 : BitVec 32) (k0_hw567 : k0_chk567 v26369), ∀ (r : Fin 6), ∀ a, (k0_off1658 v26369 (BitVec.ofNat 32 (670 + 5 * r.val))) a + S1x8x128.size a ≤ S1120x8x128.size a := fun v26369 k0_hw567 r => k0_hw567.2 r

def k0_off1659 (i : grid0.Coords) : Fin 3 → Nat :=
  let arg0 : BitVec 32 := BitVec.ofNat 32 (i 0).val
  let v26527 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26528 : Index := Scalar.indexCast v26187
  let c23_11170 : Index := 23#32
  ![v26527.toNat, v26528.toNat, 23]
def k0_off1660 (i : grid0.Coords) : Fin 3 → Nat :=
  let arg0 : BitVec 32 := BitVec.ofNat 32 (i 0).val
  let v26530 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26531 : Index := Scalar.indexCast v26187
  let c30_11171 : Index := 30#32
  ![v26530.toNat, v26531.toNat, 30]
def k0_off1661 (i : grid0.Coords) : Fin 3 → Nat :=
  let arg0 : BitVec 32 := BitVec.ofNat 32 (i 0).val
  let v26533 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26534 : Index := Scalar.indexCast v26187
  let c37_11172 : Index := 37#32
  ![v26533.toNat, v26534.toNat, 37]
def k0_off1662 (i : grid0.Coords) : Fin 3 → Nat :=
  let arg0 : BitVec 32 := BitVec.ofNat 32 (i 0).val
  let v26536 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26537 : Index := Scalar.indexCast v26187
  let c44_11173 : Index := 44#32
  ![v26536.toNat, v26537.toNat, 44]
def k0_off1663 (v26529 : BitVec 32) : Fin 3 → Nat :=
  let c665_i32_11178 : BitVec 32 := 665#32
  let v26561 : BitVec 32 := Scalar.addi c665_i32_11178 v26529
  let v26562 : Index := Scalar.indexCast v26561
  let c0_11179 : Index := 0#32
  let c0_11180 : Index := 0#32
  ![v26562.toNat, 0, 0]

def k0_off1664 (v26532 : BitVec 32) (c665_i32_11182 : BitVec 32) : Fin 3 → Nat :=
  let v26569 : BitVec 32 := Scalar.addi c665_i32_11182 v26532
  let v26570 : Index := Scalar.indexCast v26569
  let c0_11183 : Index := 0#32
  let c0_11184 : Index := 0#32
  ![v26570.toNat, 0, 0]

def k0_chk570 (v26532 : BitVec 32) : Prop :=
  (∀ (r : Fin 7), ∀ a, (k0_off1664 v26532 (BitVec.ofNat 32 (665 + 5 * r.val))) a + S1x8x128.size a ≤ S1120x8x128.size a)
theorem k0_off1664_inb : ∀ (v26532 : BitVec 32) (k0_hw570 : k0_chk570 v26532), ∀ (r : Fin 7), ∀ a, (k0_off1664 v26532 (BitVec.ofNat 32 (665 + 5 * r.val))) a + S1x8x128.size a ≤ S1120x8x128.size a := fun v26532 k0_hw570 r => k0_hw570 r

def k0_off1665 (v26529 : BitVec 32) (c670_i32_11187 : BitVec 32) : Fin 3 → Nat :=
  let v26579 : BitVec 32 := Scalar.addi c670_i32_11187 v26529
  let v26580 : Index := Scalar.indexCast v26579
  let c0_11188 : Index := 0#32
  let c0_11189 : Index := 0#32
  ![v26580.toNat, 0, 0]

def k0_chk569 (v26529 : BitVec 32) : Prop :=
  (∀ a, (k0_off1663 v26529) a + S1x8x128.size a ≤ S1120x8x128.size a) ∧
  (∀ (r : Fin 6), ∀ a, (k0_off1665 v26529 (BitVec.ofNat 32 (670 + 5 * r.val))) a + S1x8x128.size a ≤ S1120x8x128.size a)
theorem k0_off1663_inb : ∀ (v26529 : BitVec 32) (k0_hw569 : k0_chk569 v26529), ∀ a, (k0_off1663 v26529) a + S1x8x128.size a ≤ S1120x8x128.size a := fun v26529 k0_hw569 => k0_hw569.1
theorem k0_off1665_inb : ∀ (v26529 : BitVec 32) (k0_hw569 : k0_chk569 v26529), ∀ (r : Fin 6), ∀ a, (k0_off1665 v26529 (BitVec.ofNat 32 (670 + 5 * r.val))) a + S1x8x128.size a ≤ S1120x8x128.size a := fun v26529 k0_hw569 r => k0_hw569.2 r

def k0_off1666 (i : grid0.Coords) : Fin 3 → Nat :=
  let arg0 : BitVec 32 := BitVec.ofNat 32 (i 0).val
  let v26687 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26688 : Index := Scalar.indexCast v26187
  let c24_11241 : Index := 24#32
  ![v26687.toNat, v26688.toNat, 24]
def k0_off1667 (i : grid0.Coords) : Fin 3 → Nat :=
  let arg0 : BitVec 32 := BitVec.ofNat 32 (i 0).val
  let v26690 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26691 : Index := Scalar.indexCast v26187
  let c31_11242 : Index := 31#32
  ![v26690.toNat, v26691.toNat, 31]
def k0_off1668 (i : grid0.Coords) : Fin 3 → Nat :=
  let arg0 : BitVec 32 := BitVec.ofNat 32 (i 0).val
  let v26693 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26694 : Index := Scalar.indexCast v26187
  let c38_11243 : Index := 38#32
  ![v26693.toNat, v26694.toNat, 38]
def k0_off1669 (i : grid0.Coords) : Fin 3 → Nat :=
  let arg0 : BitVec 32 := BitVec.ofNat 32 (i 0).val
  let v26696 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26697 : Index := Scalar.indexCast v26187
  let c45_11244 : Index := 45#32
  ![v26696.toNat, v26697.toNat, 45]
def k0_off1670 (v26689 : BitVec 32) : Fin 3 → Nat :=
  let c665_i32_11249 : BitVec 32 := 665#32
  let v26721 : BitVec 32 := Scalar.addi c665_i32_11249 v26689
  let v26722 : Index := Scalar.indexCast v26721
  let c0_11250 : Index := 0#32
  let c0_11251 : Index := 0#32
  ![v26722.toNat, 0, 0]

def k0_off1671 (v26692 : BitVec 32) (c665_i32_11253 : BitVec 32) : Fin 3 → Nat :=
  let v26729 : BitVec 32 := Scalar.addi c665_i32_11253 v26692
  let v26730 : Index := Scalar.indexCast v26729
  let c0_11254 : Index := 0#32
  let c0_11255 : Index := 0#32
  ![v26730.toNat, 0, 0]

def k0_chk572 (v26692 : BitVec 32) : Prop :=
  (∀ (r : Fin 7), ∀ a, (k0_off1671 v26692 (BitVec.ofNat 32 (665 + 5 * r.val))) a + S1x8x128.size a ≤ S1120x8x128.size a)
theorem k0_off1671_inb : ∀ (v26692 : BitVec 32) (k0_hw572 : k0_chk572 v26692), ∀ (r : Fin 7), ∀ a, (k0_off1671 v26692 (BitVec.ofNat 32 (665 + 5 * r.val))) a + S1x8x128.size a ≤ S1120x8x128.size a := fun v26692 k0_hw572 r => k0_hw572 r

def k0_off1672 (v26689 : BitVec 32) (c670_i32_11258 : BitVec 32) : Fin 3 → Nat :=
  let v26739 : BitVec 32 := Scalar.addi c670_i32_11258 v26689
  let v26740 : Index := Scalar.indexCast v26739
  let c0_11259 : Index := 0#32
  let c0_11260 : Index := 0#32
  ![v26740.toNat, 0, 0]

def k0_chk571 (v26689 : BitVec 32) : Prop :=
  (∀ a, (k0_off1670 v26689) a + S1x8x128.size a ≤ S1120x8x128.size a) ∧
  (∀ (r : Fin 6), ∀ a, (k0_off1672 v26689 (BitVec.ofNat 32 (670 + 5 * r.val))) a + S1x8x128.size a ≤ S1120x8x128.size a)
theorem k0_off1670_inb : ∀ (v26689 : BitVec 32) (k0_hw571 : k0_chk571 v26689), ∀ a, (k0_off1670 v26689) a + S1x8x128.size a ≤ S1120x8x128.size a := fun v26689 k0_hw571 => k0_hw571.1
theorem k0_off1672_inb : ∀ (v26689 : BitVec 32) (k0_hw571 : k0_chk571 v26689), ∀ (r : Fin 6), ∀ a, (k0_off1672 v26689 (BitVec.ofNat 32 (670 + 5 * r.val))) a + S1x8x128.size a ≤ S1120x8x128.size a := fun v26689 k0_hw571 r => k0_hw571.2 r

def k0_off1673 (i : grid0.Coords) : Fin 3 → Nat :=
  let arg0 : BitVec 32 := BitVec.ofNat 32 (i 0).val
  let v26847 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26848 : Index := Scalar.indexCast v26187
  let c25_11312 : Index := 25#32
  ![v26847.toNat, v26848.toNat, 25]
def k0_off1674 (i : grid0.Coords) : Fin 3 → Nat :=
  let arg0 : BitVec 32 := BitVec.ofNat 32 (i 0).val
  let v26850 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26851 : Index := Scalar.indexCast v26187
  let c32_11313 : Index := 32#32
  ![v26850.toNat, v26851.toNat, 32]
def k0_off1675 (i : grid0.Coords) : Fin 3 → Nat :=
  let arg0 : BitVec 32 := BitVec.ofNat 32 (i 0).val
  let v26853 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26854 : Index := Scalar.indexCast v26187
  let c39_11314 : Index := 39#32
  ![v26853.toNat, v26854.toNat, 39]
def k0_off1676 (i : grid0.Coords) : Fin 3 → Nat :=
  let arg0 : BitVec 32 := BitVec.ofNat 32 (i 0).val
  let v26856 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v26857 : Index := Scalar.indexCast v26187
  let c46_11315 : Index := 46#32
  ![v26856.toNat, v26857.toNat, 46]
def k0_off1677 (v26849 : BitVec 32) : Fin 3 → Nat :=
  let c665_i32_11320 : BitVec 32 := 665#32
  let v26881 : BitVec 32 := Scalar.addi c665_i32_11320 v26849
  let v26882 : Index := Scalar.indexCast v26881
  let c0_11321 : Index := 0#32
  let c0_11322 : Index := 0#32
  ![v26882.toNat, 0, 0]

def k0_off1678 (v26852 : BitVec 32) (c665_i32_11324 : BitVec 32) : Fin 3 → Nat :=
  let v26889 : BitVec 32 := Scalar.addi c665_i32_11324 v26852
  let v26890 : Index := Scalar.indexCast v26889
  let c0_11325 : Index := 0#32
  let c0_11326 : Index := 0#32
  ![v26890.toNat, 0, 0]

def k0_chk574 (v26852 : BitVec 32) : Prop :=
  (∀ (r : Fin 7), ∀ a, (k0_off1678 v26852 (BitVec.ofNat 32 (665 + 5 * r.val))) a + S1x8x128.size a ≤ S1120x8x128.size a)
theorem k0_off1678_inb : ∀ (v26852 : BitVec 32) (k0_hw574 : k0_chk574 v26852), ∀ (r : Fin 7), ∀ a, (k0_off1678 v26852 (BitVec.ofNat 32 (665 + 5 * r.val))) a + S1x8x128.size a ≤ S1120x8x128.size a := fun v26852 k0_hw574 r => k0_hw574 r

def k0_off1679 (v26849 : BitVec 32) (c670_i32_11329 : BitVec 32) : Fin 3 → Nat :=
  let v26899 : BitVec 32 := Scalar.addi c670_i32_11329 v26849
  let v26900 : Index := Scalar.indexCast v26899
  let c0_11330 : Index := 0#32
  let c0_11331 : Index := 0#32
  ![v26900.toNat, 0, 0]

def k0_chk573 (v26849 : BitVec 32) : Prop :=
  (∀ a, (k0_off1677 v26849) a + S1x8x128.size a ≤ S1120x8x128.size a) ∧
  (∀ (r : Fin 6), ∀ a, (k0_off1679 v26849 (BitVec.ofNat 32 (670 + 5 * r.val))) a + S1x8x128.size a ≤ S1120x8x128.size a)
theorem k0_off1677_inb : ∀ (v26849 : BitVec 32) (k0_hw573 : k0_chk573 v26849), ∀ a, (k0_off1677 v26849) a + S1x8x128.size a ≤ S1120x8x128.size a := fun v26849 k0_hw573 => k0_hw573.1
theorem k0_off1679_inb : ∀ (v26849 : BitVec 32) (k0_hw573 : k0_chk573 v26849), ∀ (r : Fin 6), ∀ a, (k0_off1679 v26849 (BitVec.ofNat 32 (670 + 5 * r.val))) a + S1x8x128.size a ≤ S1120x8x128.size a := fun v26849 k0_hw573 r => k0_hw573.2 r

def k0_off1680 (i : grid0.Coords) : Fin 3 → Nat :=
  let arg0 : BitVec 32 := BitVec.ofNat 32 (i 0).val
  let v27007 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27008 : Index := Scalar.indexCast v26187
  let c26_11383 : Index := 26#32
  ![v27007.toNat, v27008.toNat, 26]
def k0_off1681 (i : grid0.Coords) : Fin 3 → Nat :=
  let arg0 : BitVec 32 := BitVec.ofNat 32 (i 0).val
  let v27010 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27011 : Index := Scalar.indexCast v26187
  let c33_11384 : Index := 33#32
  ![v27010.toNat, v27011.toNat, 33]
def k0_off1682 (i : grid0.Coords) : Fin 3 → Nat :=
  let arg0 : BitVec 32 := BitVec.ofNat 32 (i 0).val
  let v27013 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27014 : Index := Scalar.indexCast v26187
  let c40_11385 : Index := 40#32
  ![v27013.toNat, v27014.toNat, 40]
def k0_off1683 (i : grid0.Coords) : Fin 3 → Nat :=
  let arg0 : BitVec 32 := BitVec.ofNat 32 (i 0).val
  let v27016 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27017 : Index := Scalar.indexCast v26187
  let c47_11386 : Index := 47#32
  ![v27016.toNat, v27017.toNat, 47]
def k0_off1684 (v27009 : BitVec 32) : Fin 3 → Nat :=
  let c665_i32_11391 : BitVec 32 := 665#32
  let v27041 : BitVec 32 := Scalar.addi c665_i32_11391 v27009
  let v27042 : Index := Scalar.indexCast v27041
  let c0_11392 : Index := 0#32
  let c0_11393 : Index := 0#32
  ![v27042.toNat, 0, 0]

def k0_off1685 (v27012 : BitVec 32) (c665_i32_11395 : BitVec 32) : Fin 3 → Nat :=
  let v27049 : BitVec 32 := Scalar.addi c665_i32_11395 v27012
  let v27050 : Index := Scalar.indexCast v27049
  let c0_11396 : Index := 0#32
  let c0_11397 : Index := 0#32
  ![v27050.toNat, 0, 0]

def k0_chk576 (v27012 : BitVec 32) : Prop :=
  (∀ (r : Fin 7), ∀ a, (k0_off1685 v27012 (BitVec.ofNat 32 (665 + 5 * r.val))) a + S1x8x128.size a ≤ S1120x8x128.size a)
theorem k0_off1685_inb : ∀ (v27012 : BitVec 32) (k0_hw576 : k0_chk576 v27012), ∀ (r : Fin 7), ∀ a, (k0_off1685 v27012 (BitVec.ofNat 32 (665 + 5 * r.val))) a + S1x8x128.size a ≤ S1120x8x128.size a := fun v27012 k0_hw576 r => k0_hw576 r

def k0_off1686 (v27009 : BitVec 32) (c670_i32_11400 : BitVec 32) : Fin 3 → Nat :=
  let v27059 : BitVec 32 := Scalar.addi c670_i32_11400 v27009
  let v27060 : Index := Scalar.indexCast v27059
  let c0_11401 : Index := 0#32
  let c0_11402 : Index := 0#32
  ![v27060.toNat, 0, 0]

def k0_chk575 (v27009 : BitVec 32) : Prop :=
  (∀ a, (k0_off1684 v27009) a + S1x8x128.size a ≤ S1120x8x128.size a) ∧
  (∀ (r : Fin 6), ∀ a, (k0_off1686 v27009 (BitVec.ofNat 32 (670 + 5 * r.val))) a + S1x8x128.size a ≤ S1120x8x128.size a)
theorem k0_off1684_inb : ∀ (v27009 : BitVec 32) (k0_hw575 : k0_chk575 v27009), ∀ a, (k0_off1684 v27009) a + S1x8x128.size a ≤ S1120x8x128.size a := fun v27009 k0_hw575 => k0_hw575.1
theorem k0_off1686_inb : ∀ (v27009 : BitVec 32) (k0_hw575 : k0_chk575 v27009), ∀ (r : Fin 6), ∀ a, (k0_off1686 v27009 (BitVec.ofNat 32 (670 + 5 * r.val))) a + S1x8x128.size a ≤ S1120x8x128.size a := fun v27009 k0_hw575 r => k0_hw575.2 r

def k0_off1687 (i : grid0.Coords) : Fin 3 → Nat :=
  let arg0 : BitVec 32 := BitVec.ofNat 32 (i 0).val
  let v27167 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27168 : Index := Scalar.indexCast v26187
  let c27_11454 : Index := 27#32
  ![v27167.toNat, v27168.toNat, 27]
def k0_off1688 (i : grid0.Coords) : Fin 3 → Nat :=
  let arg0 : BitVec 32 := BitVec.ofNat 32 (i 0).val
  let v27170 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27171 : Index := Scalar.indexCast v26187
  let c34_11455 : Index := 34#32
  ![v27170.toNat, v27171.toNat, 34]
def k0_off1689 (i : grid0.Coords) : Fin 3 → Nat :=
  let arg0 : BitVec 32 := BitVec.ofNat 32 (i 0).val
  let v27173 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27174 : Index := Scalar.indexCast v26187
  let c41_11456 : Index := 41#32
  ![v27173.toNat, v27174.toNat, 41]
def k0_off1690 (i : grid0.Coords) : Fin 3 → Nat :=
  let arg0 : BitVec 32 := BitVec.ofNat 32 (i 0).val
  let v27176 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27177 : Index := Scalar.indexCast v26187
  let c48_11457 : Index := 48#32
  ![v27176.toNat, v27177.toNat, 48]
def k0_off1691 (v27169 : BitVec 32) : Fin 3 → Nat :=
  let c665_i32_11462 : BitVec 32 := 665#32
  let v27201 : BitVec 32 := Scalar.addi c665_i32_11462 v27169
  let v27202 : Index := Scalar.indexCast v27201
  let c0_11463 : Index := 0#32
  let c0_11464 : Index := 0#32
  ![v27202.toNat, 0, 0]

def k0_off1692 (v27172 : BitVec 32) (c665_i32_11466 : BitVec 32) : Fin 3 → Nat :=
  let v27209 : BitVec 32 := Scalar.addi c665_i32_11466 v27172
  let v27210 : Index := Scalar.indexCast v27209
  let c0_11467 : Index := 0#32
  let c0_11468 : Index := 0#32
  ![v27210.toNat, 0, 0]

def k0_chk578 (v27172 : BitVec 32) : Prop :=
  (∀ (r : Fin 7), ∀ a, (k0_off1692 v27172 (BitVec.ofNat 32 (665 + 5 * r.val))) a + S1x8x128.size a ≤ S1120x8x128.size a)
theorem k0_off1692_inb : ∀ (v27172 : BitVec 32) (k0_hw578 : k0_chk578 v27172), ∀ (r : Fin 7), ∀ a, (k0_off1692 v27172 (BitVec.ofNat 32 (665 + 5 * r.val))) a + S1x8x128.size a ≤ S1120x8x128.size a := fun v27172 k0_hw578 r => k0_hw578 r

def k0_off1693 (v27169 : BitVec 32) (c670_i32_11471 : BitVec 32) : Fin 3 → Nat :=
  let v27219 : BitVec 32 := Scalar.addi c670_i32_11471 v27169
  let v27220 : Index := Scalar.indexCast v27219
  let c0_11472 : Index := 0#32
  let c0_11473 : Index := 0#32
  ![v27220.toNat, 0, 0]

def k0_chk577 (v27169 : BitVec 32) : Prop :=
  (∀ a, (k0_off1691 v27169) a + S1x8x128.size a ≤ S1120x8x128.size a) ∧
  (∀ (r : Fin 6), ∀ a, (k0_off1693 v27169 (BitVec.ofNat 32 (670 + 5 * r.val))) a + S1x8x128.size a ≤ S1120x8x128.size a)
theorem k0_off1691_inb : ∀ (v27169 : BitVec 32) (k0_hw577 : k0_chk577 v27169), ∀ a, (k0_off1691 v27169) a + S1x8x128.size a ≤ S1120x8x128.size a := fun v27169 k0_hw577 => k0_hw577.1
theorem k0_off1693_inb : ∀ (v27169 : BitVec 32) (k0_hw577 : k0_chk577 v27169), ∀ (r : Fin 6), ∀ a, (k0_off1693 v27169 (BitVec.ofNat 32 (670 + 5 * r.val))) a + S1x8x128.size a ≤ S1120x8x128.size a := fun v27169 k0_hw577 r => k0_hw577.2 r

def k0_off1694 (i : grid0.Coords) : Fin 3 → Nat :=
  let arg0 : BitVec 32 := BitVec.ofNat 32 (i 0).val
  let v27327 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27328 : Index := Scalar.indexCast v26187
  let c28_11525 : Index := 28#32
  ![v27327.toNat, v27328.toNat, 28]
def k0_off1695 (i : grid0.Coords) : Fin 3 → Nat :=
  let arg0 : BitVec 32 := BitVec.ofNat 32 (i 0).val
  let v27330 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27331 : Index := Scalar.indexCast v26187
  let c35_11526 : Index := 35#32
  ![v27330.toNat, v27331.toNat, 35]
def k0_off1696 (i : grid0.Coords) : Fin 3 → Nat :=
  let arg0 : BitVec 32 := BitVec.ofNat 32 (i 0).val
  let v27333 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27334 : Index := Scalar.indexCast v26187
  let c42_11527 : Index := 42#32
  ![v27333.toNat, v27334.toNat, 42]
def k0_off1697 (i : grid0.Coords) : Fin 3 → Nat :=
  let arg0 : BitVec 32 := BitVec.ofNat 32 (i 0).val
  let v27336 : Index := Scalar.indexCast arg0
  let arg1 : BitVec 32 := BitVec.ofNat 32 (i 1).val
  let c32_i32_11041 : BitVec 32 := 32#32
  let v26186 : BitVec 32 := Scalar.muli arg1 c32_i32_11041
  let c19_i32 : BitVec 32 := 19#32
  let v26187 : BitVec 32 := Scalar.addi v26186 c19_i32
  let v27337 : Index := Scalar.indexCast v26187
  let c49_11528 : Index := 49#32
  ![v27336.toNat, v27337.toNat, 49]
def k0_off1698 (v27329 : BitVec 32) : Fin 3 → Nat :=
  let c665_i32_11533 : BitVec 32 := 665#32
  let v27361 : BitVec 32 := Scalar.addi c665_i32_11533 v27329
  let v27362 : Index := Scalar.indexCast v27361
  let c0_11534 : Index := 0#32
  let c0_11535 : Index := 0#32
  ![v27362.toNat, 0, 0]

def k0_off1699 (v27332 : BitVec 32) (c665_i32_11537 : BitVec 32) : Fin 3 → Nat :=
  let v27369 : BitVec 32 := Scalar.addi c665_i32_11537 v27332
  let v27370 : Index := Scalar.indexCast v27369
  let c0_11538 : Index := 0#32
  let c0_11539 : Index := 0#32
  ![v27370.toNat, 0, 0]

def k0_chk580 (v27332 : BitVec 32) : Prop :=
  (∀ (r : Fin 7), ∀ a, (k0_off1699 v27332 (BitVec.ofNat 32 (665 + 5 * r.val))) a + S1x8x128.size a ≤ S1120x8x128.size a)
theorem k0_off1699_inb : ∀ (v27332 : BitVec 32) (k0_hw580 : k0_chk580 v27332), ∀ (r : Fin 7), ∀ a, (k0_off1699 v27332 (BitVec.ofNat 32 (665 + 5 * r.val))) a + S1x8x128.size a ≤ S1120x8x128.size a := fun v27332 k0_hw580 r => k0_hw580 r

def k0_off1700 (v27329 : BitVec 32) (c670_i32_11542 : BitVec 32) : Fin 3 → Nat :=
  let v27379 : BitVec 32 := Scalar.addi c670_i32_11542 v27329
  let v27380 : Index := Scalar.indexCast v27379
  let c0_11543 : Index := 0#32
  let c0_11544 : Index := 0#32
  ![v27380.toNat, 0, 0]

def k0_chk579 (v27329 : BitVec 32) : Prop :=
  (∀ a, (k0_off1698 v27329) a + S1x8x128.size a ≤ S1120x8x128.size a) ∧
  (∀ (r : Fin 6), ∀ a, (k0_off1700 v27329 (BitVec.ofNat 32 (670 + 5 * r.val))) a + S1x8x128.size a ≤ S1120x8x128.size a)
theorem k0_off1698_inb : ∀ (v27329 : BitVec 32) (k0_hw579 : k0_chk579 v27329), ∀ a, (k0_off1698 v27329) a + S1x8x128.size a ≤ S1120x8x128.size a := fun v27329 k0_hw579 => k0_hw579.1
theorem k0_off1700_inb : ∀ (v27329 : BitVec 32) (k0_hw579 : k0_chk579 v27329), ∀ (r : Fin 6), ∀ a, (k0_off1700 v27329 (BitVec.ofNat 32 (670 + 5 * r.val))) a + S1x8x128.size a ≤ S1120x8x128.size a := fun v27329 k0_hw579 r => k0_hw579.2 r

def k0_off1701 (i : grid0.Coords) : Fin 3 → Nat :=
  let arg0 : BitVec 32 := BitVec.ofNat 32 (i 0).val
  let v27566 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27567 : Index := Scalar.indexCast v27565
  let c0_11626 : Index := 0#32
  ![v27566.toNat, v27567.toNat, 0]
def k0_mult21 (v27568 : BitVec 32) : BitVec 32 :=
  v27568

def k0_chk581 (v27568 : BitVec 32) : Prop :=
  (8 ∣ (k0_mult21 v27568).toNat)
theorem k0_mult21_dvd : ∀ (v27568 : BitVec 32) (k0_hw581 : k0_chk581 v27568), 8 ∣ (k0_mult21 v27568).toNat := fun v27568 k0_hw581 => k0_hw581

def k0_off1702 (i : grid0.Coords) : Fin 3 → Nat :=
  let arg0 : BitVec 32 := BitVec.ofNat 32 (i 0).val
  let v27570 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27571 : Index := Scalar.indexCast v27565
  let c1_11627 : Index := 1#32
  ![v27570.toNat, v27571.toNat, 1]
def k0_off1703 (v27568 : BitVec 32) (v27572 : BitVec 32) : Fin 3 → Nat :=
  let v27573 : Index := Scalar.indexCast v27572
  let v27569 : BitVec 32 := v27568
  let v27574 : Index := Scalar.indexCast v27569
  let c0_11628 : Index := 0#32
  ![v27573.toNat, v27574.toNat, 0]

def k0_chk582 (v27568 : BitVec 32) (v27572 : BitVec 32) : Prop :=
  (∀ a, (k0_off1703 v27568 v27572) a + S1x40x128.size a ≤ S256x64x128.size a)
theorem k0_off1703_inb : ∀ (v27568 : BitVec 32) (v27572 : BitVec 32) (k0_hw582 : k0_chk582 v27568 v27572), ∀ a, (k0_off1703 v27568 v27572) a + S1x40x128.size a ≤ S256x64x128.size a := fun v27568 v27572 k0_hw582 => k0_hw582

def k0_off1704 (i : grid0.Coords) : Fin 3 → Nat :=
  let arg0 : BitVec 32 := BitVec.ofNat 32 (i 0).val
  let v27577 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27578 : Index := Scalar.indexCast v27565
  let c8_11629 : Index := 8#32
  ![v27577.toNat, v27578.toNat, 8]
def k0_off1705 (v27568 : BitVec 32) (v27579 : BitVec 32) : Fin 3 → Nat :=
  let v27580 : Index := Scalar.indexCast v27579
  let v27569 : BitVec 32 := v27568
  let v27581 : Index := Scalar.indexCast v27569
  let c0_11630 : Index := 0#32
  ![v27580.toNat, v27581.toNat, 0]

def k0_chk583 (v27568 : BitVec 32) (v27579 : BitVec 32) : Prop :=
  (∀ a, (k0_off1705 v27568 v27579) a + S1x40x128.size a ≤ S256x64x128.size a)
theorem k0_off1705_inb : ∀ (v27568 : BitVec 32) (v27579 : BitVec 32) (k0_hw583 : k0_chk583 v27568 v27579), ∀ a, (k0_off1705 v27568 v27579) a + S1x40x128.size a ≤ S256x64x128.size a := fun v27568 v27579 k0_hw583 => k0_hw583

def k0_off1706 (i : grid0.Coords) : Fin 3 → Nat :=
  let arg0 : BitVec 32 := BitVec.ofNat 32 (i 0).val
  let v27585 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27586 : Index := Scalar.indexCast v27565
  let c15_11631 : Index := 15#32
  ![v27585.toNat, v27586.toNat, 15]
def k0_off1707 (i : grid0.Coords) : Fin 3 → Nat :=
  let arg0 : BitVec 32 := BitVec.ofNat 32 (i 0).val
  let v27595 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27596 : Index := Scalar.indexCast v27565
  let c2_11636 : Index := 2#32
  ![v27595.toNat, v27596.toNat, 2]
def k0_off1708 (v27568 : BitVec 32) (v27597 : BitVec 32) : Fin 3 → Nat :=
  let v27598 : Index := Scalar.indexCast v27597
  let v27569 : BitVec 32 := v27568
  let v27599 : Index := Scalar.indexCast v27569
  let c0_11637 : Index := 0#32
  ![v27598.toNat, v27599.toNat, 0]

def k0_chk584 (v27568 : BitVec 32) (v27597 : BitVec 32) : Prop :=
  (∀ a, (k0_off1708 v27568 v27597) a + S1x40x128.size a ≤ S256x64x128.size a)
theorem k0_off1708_inb : ∀ (v27568 : BitVec 32) (v27597 : BitVec 32) (k0_hw584 : k0_chk584 v27568 v27597), ∀ a, (k0_off1708 v27568 v27597) a + S1x40x128.size a ≤ S256x64x128.size a := fun v27568 v27597 k0_hw584 => k0_hw584

def k0_off1709 (i : grid0.Coords) : Fin 3 → Nat :=
  let arg0 : BitVec 32 := BitVec.ofNat 32 (i 0).val
  let v27602 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27603 : Index := Scalar.indexCast v27565
  let c9_11638 : Index := 9#32
  ![v27602.toNat, v27603.toNat, 9]
def k0_off1710 (v27568 : BitVec 32) (v27604 : BitVec 32) : Fin 3 → Nat :=
  let v27605 : Index := Scalar.indexCast v27604
  let v27569 : BitVec 32 := v27568
  let v27606 : Index := Scalar.indexCast v27569
  let c0_11639 : Index := 0#32
  ![v27605.toNat, v27606.toNat, 0]

def k0_chk585 (v27568 : BitVec 32) (v27604 : BitVec 32) : Prop :=
  (∀ a, (k0_off1710 v27568 v27604) a + S1x40x128.size a ≤ S256x64x128.size a)
theorem k0_off1710_inb : ∀ (v27568 : BitVec 32) (v27604 : BitVec 32) (k0_hw585 : k0_chk585 v27568 v27604), ∀ a, (k0_off1710 v27568 v27604) a + S1x40x128.size a ≤ S256x64x128.size a := fun v27568 v27604 k0_hw585 => k0_hw585

def k0_off1711 (i : grid0.Coords) : Fin 3 → Nat :=
  let arg0 : BitVec 32 := BitVec.ofNat 32 (i 0).val
  let v27610 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27611 : Index := Scalar.indexCast v27565
  let c16_11640 : Index := 16#32
  ![v27610.toNat, v27611.toNat, 16]
def k0_off1712 (i : grid0.Coords) : Fin 3 → Nat :=
  let arg0 : BitVec 32 := BitVec.ofNat 32 (i 0).val
  let v27620 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27621 : Index := Scalar.indexCast v27565
  let c3_11645 : Index := 3#32
  ![v27620.toNat, v27621.toNat, 3]
def k0_off1713 (v27568 : BitVec 32) (v27622 : BitVec 32) : Fin 3 → Nat :=
  let v27623 : Index := Scalar.indexCast v27622
  let v27569 : BitVec 32 := v27568
  let v27624 : Index := Scalar.indexCast v27569
  let c0_11646 : Index := 0#32
  ![v27623.toNat, v27624.toNat, 0]

def k0_chk586 (v27568 : BitVec 32) (v27622 : BitVec 32) : Prop :=
  (∀ a, (k0_off1713 v27568 v27622) a + S1x40x128.size a ≤ S256x64x128.size a)
theorem k0_off1713_inb : ∀ (v27568 : BitVec 32) (v27622 : BitVec 32) (k0_hw586 : k0_chk586 v27568 v27622), ∀ a, (k0_off1713 v27568 v27622) a + S1x40x128.size a ≤ S256x64x128.size a := fun v27568 v27622 k0_hw586 => k0_hw586

def k0_off1714 (i : grid0.Coords) : Fin 3 → Nat :=
  let arg0 : BitVec 32 := BitVec.ofNat 32 (i 0).val
  let v27627 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27628 : Index := Scalar.indexCast v27565
  let c10_11647 : Index := 10#32
  ![v27627.toNat, v27628.toNat, 10]
def k0_off1715 (v27568 : BitVec 32) (v27629 : BitVec 32) : Fin 3 → Nat :=
  let v27630 : Index := Scalar.indexCast v27629
  let v27569 : BitVec 32 := v27568
  let v27631 : Index := Scalar.indexCast v27569
  let c0_11648 : Index := 0#32
  ![v27630.toNat, v27631.toNat, 0]

def k0_chk587 (v27568 : BitVec 32) (v27629 : BitVec 32) : Prop :=
  (∀ a, (k0_off1715 v27568 v27629) a + S1x40x128.size a ≤ S256x64x128.size a)
theorem k0_off1715_inb : ∀ (v27568 : BitVec 32) (v27629 : BitVec 32) (k0_hw587 : k0_chk587 v27568 v27629), ∀ a, (k0_off1715 v27568 v27629) a + S1x40x128.size a ≤ S256x64x128.size a := fun v27568 v27629 k0_hw587 => k0_hw587

def k0_off1716 (i : grid0.Coords) : Fin 3 → Nat :=
  let arg0 : BitVec 32 := BitVec.ofNat 32 (i 0).val
  let v27635 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27636 : Index := Scalar.indexCast v27565
  let c17_11649 : Index := 17#32
  ![v27635.toNat, v27636.toNat, 17]
def k0_off1717 (i : grid0.Coords) : Fin 3 → Nat :=
  let arg0 : BitVec 32 := BitVec.ofNat 32 (i 0).val
  let v27645 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27646 : Index := Scalar.indexCast v27565
  let c4_11654 : Index := 4#32
  ![v27645.toNat, v27646.toNat, 4]
def k0_off1718 (v27568 : BitVec 32) (v27647 : BitVec 32) : Fin 3 → Nat :=
  let v27648 : Index := Scalar.indexCast v27647
  let v27569 : BitVec 32 := v27568
  let v27649 : Index := Scalar.indexCast v27569
  let c0_11655 : Index := 0#32
  ![v27648.toNat, v27649.toNat, 0]

def k0_chk588 (v27568 : BitVec 32) (v27647 : BitVec 32) : Prop :=
  (∀ a, (k0_off1718 v27568 v27647) a + S1x40x128.size a ≤ S256x64x128.size a)
theorem k0_off1718_inb : ∀ (v27568 : BitVec 32) (v27647 : BitVec 32) (k0_hw588 : k0_chk588 v27568 v27647), ∀ a, (k0_off1718 v27568 v27647) a + S1x40x128.size a ≤ S256x64x128.size a := fun v27568 v27647 k0_hw588 => k0_hw588

def k0_off1719 (i : grid0.Coords) : Fin 3 → Nat :=
  let arg0 : BitVec 32 := BitVec.ofNat 32 (i 0).val
  let v27652 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27653 : Index := Scalar.indexCast v27565
  let c11_11656 : Index := 11#32
  ![v27652.toNat, v27653.toNat, 11]
def k0_off1720 (v27568 : BitVec 32) (v27654 : BitVec 32) : Fin 3 → Nat :=
  let v27655 : Index := Scalar.indexCast v27654
  let v27569 : BitVec 32 := v27568
  let v27656 : Index := Scalar.indexCast v27569
  let c0_11657 : Index := 0#32
  ![v27655.toNat, v27656.toNat, 0]

def k0_chk589 (v27568 : BitVec 32) (v27654 : BitVec 32) : Prop :=
  (∀ a, (k0_off1720 v27568 v27654) a + S1x40x128.size a ≤ S256x64x128.size a)
theorem k0_off1720_inb : ∀ (v27568 : BitVec 32) (v27654 : BitVec 32) (k0_hw589 : k0_chk589 v27568 v27654), ∀ a, (k0_off1720 v27568 v27654) a + S1x40x128.size a ≤ S256x64x128.size a := fun v27568 v27654 k0_hw589 => k0_hw589

def k0_off1721 (i : grid0.Coords) : Fin 3 → Nat :=
  let arg0 : BitVec 32 := BitVec.ofNat 32 (i 0).val
  let v27660 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27661 : Index := Scalar.indexCast v27565
  let c18_11658 : Index := 18#32
  ![v27660.toNat, v27661.toNat, 18]
def k0_off1722 (i : grid0.Coords) : Fin 3 → Nat :=
  let arg0 : BitVec 32 := BitVec.ofNat 32 (i 0).val
  let v27670 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27671 : Index := Scalar.indexCast v27565
  let c5_11663 : Index := 5#32
  ![v27670.toNat, v27671.toNat, 5]
def k0_off1723 (v27568 : BitVec 32) (v27672 : BitVec 32) : Fin 3 → Nat :=
  let v27673 : Index := Scalar.indexCast v27672
  let v27569 : BitVec 32 := v27568
  let v27674 : Index := Scalar.indexCast v27569
  let c0_11664 : Index := 0#32
  ![v27673.toNat, v27674.toNat, 0]

def k0_chk590 (v27568 : BitVec 32) (v27672 : BitVec 32) : Prop :=
  (∀ a, (k0_off1723 v27568 v27672) a + S1x40x128.size a ≤ S256x64x128.size a)
theorem k0_off1723_inb : ∀ (v27568 : BitVec 32) (v27672 : BitVec 32) (k0_hw590 : k0_chk590 v27568 v27672), ∀ a, (k0_off1723 v27568 v27672) a + S1x40x128.size a ≤ S256x64x128.size a := fun v27568 v27672 k0_hw590 => k0_hw590

def k0_off1724 (i : grid0.Coords) : Fin 3 → Nat :=
  let arg0 : BitVec 32 := BitVec.ofNat 32 (i 0).val
  let v27677 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27678 : Index := Scalar.indexCast v27565
  let c12_11665 : Index := 12#32
  ![v27677.toNat, v27678.toNat, 12]
def k0_off1725 (v27568 : BitVec 32) (v27679 : BitVec 32) : Fin 3 → Nat :=
  let v27680 : Index := Scalar.indexCast v27679
  let v27569 : BitVec 32 := v27568
  let v27681 : Index := Scalar.indexCast v27569
  let c0_11666 : Index := 0#32
  ![v27680.toNat, v27681.toNat, 0]

def k0_chk591 (v27568 : BitVec 32) (v27679 : BitVec 32) : Prop :=
  (∀ a, (k0_off1725 v27568 v27679) a + S1x40x128.size a ≤ S256x64x128.size a)
theorem k0_off1725_inb : ∀ (v27568 : BitVec 32) (v27679 : BitVec 32) (k0_hw591 : k0_chk591 v27568 v27679), ∀ a, (k0_off1725 v27568 v27679) a + S1x40x128.size a ≤ S256x64x128.size a := fun v27568 v27679 k0_hw591 => k0_hw591

def k0_off1726 (i : grid0.Coords) : Fin 3 → Nat :=
  let arg0 : BitVec 32 := BitVec.ofNat 32 (i 0).val
  let v27685 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27686 : Index := Scalar.indexCast v27565
  let c19_11667 : Index := 19#32
  ![v27685.toNat, v27686.toNat, 19]
def k0_off1727 (i : grid0.Coords) : Fin 3 → Nat :=
  let arg0 : BitVec 32 := BitVec.ofNat 32 (i 0).val
  let v27695 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27696 : Index := Scalar.indexCast v27565
  let c6_11672 : Index := 6#32
  ![v27695.toNat, v27696.toNat, 6]
def k0_off1728 (v27568 : BitVec 32) (v27697 : BitVec 32) : Fin 3 → Nat :=
  let v27698 : Index := Scalar.indexCast v27697
  let v27569 : BitVec 32 := v27568
  let v27699 : Index := Scalar.indexCast v27569
  let c0_11673 : Index := 0#32
  ![v27698.toNat, v27699.toNat, 0]

def k0_chk592 (v27568 : BitVec 32) (v27697 : BitVec 32) : Prop :=
  (∀ a, (k0_off1728 v27568 v27697) a + S1x40x128.size a ≤ S256x64x128.size a)
theorem k0_off1728_inb : ∀ (v27568 : BitVec 32) (v27697 : BitVec 32) (k0_hw592 : k0_chk592 v27568 v27697), ∀ a, (k0_off1728 v27568 v27697) a + S1x40x128.size a ≤ S256x64x128.size a := fun v27568 v27697 k0_hw592 => k0_hw592

def k0_off1729 (i : grid0.Coords) : Fin 3 → Nat :=
  let arg0 : BitVec 32 := BitVec.ofNat 32 (i 0).val
  let v27702 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27703 : Index := Scalar.indexCast v27565
  let c13_11674 : Index := 13#32
  ![v27702.toNat, v27703.toNat, 13]
def k0_off1730 (v27568 : BitVec 32) (v27704 : BitVec 32) : Fin 3 → Nat :=
  let v27705 : Index := Scalar.indexCast v27704
  let v27569 : BitVec 32 := v27568
  let v27706 : Index := Scalar.indexCast v27569
  let c0_11675 : Index := 0#32
  ![v27705.toNat, v27706.toNat, 0]

def k0_chk593 (v27568 : BitVec 32) (v27704 : BitVec 32) : Prop :=
  (∀ a, (k0_off1730 v27568 v27704) a + S1x40x128.size a ≤ S256x64x128.size a)
theorem k0_off1730_inb : ∀ (v27568 : BitVec 32) (v27704 : BitVec 32) (k0_hw593 : k0_chk593 v27568 v27704), ∀ a, (k0_off1730 v27568 v27704) a + S1x40x128.size a ≤ S256x64x128.size a := fun v27568 v27704 k0_hw593 => k0_hw593

def k0_off1731 (i : grid0.Coords) : Fin 3 → Nat :=
  let arg0 : BitVec 32 := BitVec.ofNat 32 (i 0).val
  let v27710 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27711 : Index := Scalar.indexCast v27565
  let c20_11676 : Index := 20#32
  ![v27710.toNat, v27711.toNat, 20]
def k0_off1732 (i : grid0.Coords) : Fin 3 → Nat :=
  let arg0 : BitVec 32 := BitVec.ofNat 32 (i 0).val
  let v27720 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27721 : Index := Scalar.indexCast v27565
  let c7_11681 : Index := 7#32
  ![v27720.toNat, v27721.toNat, 7]
def k0_off1733 (v27568 : BitVec 32) (v27722 : BitVec 32) : Fin 3 → Nat :=
  let v27723 : Index := Scalar.indexCast v27722
  let v27569 : BitVec 32 := v27568
  let v27724 : Index := Scalar.indexCast v27569
  let c0_11682 : Index := 0#32
  ![v27723.toNat, v27724.toNat, 0]

def k0_chk594 (v27568 : BitVec 32) (v27722 : BitVec 32) : Prop :=
  (∀ a, (k0_off1733 v27568 v27722) a + S1x40x128.size a ≤ S256x64x128.size a)
theorem k0_off1733_inb : ∀ (v27568 : BitVec 32) (v27722 : BitVec 32) (k0_hw594 : k0_chk594 v27568 v27722), ∀ a, (k0_off1733 v27568 v27722) a + S1x40x128.size a ≤ S256x64x128.size a := fun v27568 v27722 k0_hw594 => k0_hw594

def k0_off1734 (i : grid0.Coords) : Fin 3 → Nat :=
  let arg0 : BitVec 32 := BitVec.ofNat 32 (i 0).val
  let v27727 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27728 : Index := Scalar.indexCast v27565
  let c14_11683 : Index := 14#32
  ![v27727.toNat, v27728.toNat, 14]
def k0_off1735 (v27568 : BitVec 32) (v27729 : BitVec 32) : Fin 3 → Nat :=
  let v27730 : Index := Scalar.indexCast v27729
  let v27569 : BitVec 32 := v27568
  let v27731 : Index := Scalar.indexCast v27569
  let c0_11684 : Index := 0#32
  ![v27730.toNat, v27731.toNat, 0]

def k0_chk595 (v27568 : BitVec 32) (v27729 : BitVec 32) : Prop :=
  (∀ a, (k0_off1735 v27568 v27729) a + S1x40x128.size a ≤ S256x64x128.size a)
theorem k0_off1735_inb : ∀ (v27568 : BitVec 32) (v27729 : BitVec 32) (k0_hw595 : k0_chk595 v27568 v27729), ∀ a, (k0_off1735 v27568 v27729) a + S1x40x128.size a ≤ S256x64x128.size a := fun v27568 v27729 k0_hw595 => k0_hw595

def k0_off1736 (i : grid0.Coords) : Fin 3 → Nat :=
  let arg0 : BitVec 32 := BitVec.ofNat 32 (i 0).val
  let v27735 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27736 : Index := Scalar.indexCast v27565
  let c21_11685 : Index := 21#32
  ![v27735.toNat, v27736.toNat, 21]
def k0_off1737 (i : grid0.Coords) : Fin 3 → Nat :=
  let arg0 : BitVec 32 := BitVec.ofNat 32 (i 0).val
  let v27745 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27746 : Index := Scalar.indexCast v27565
  let c22_11690 : Index := 22#32
  ![v27745.toNat, v27746.toNat, 22]
def k0_off1738 (i : grid0.Coords) : Fin 3 → Nat :=
  let arg0 : BitVec 32 := BitVec.ofNat 32 (i 0).val
  let v27748 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27749 : Index := Scalar.indexCast v27565
  let c29_11691 : Index := 29#32
  ![v27748.toNat, v27749.toNat, 29]
def k0_off1739 (i : grid0.Coords) : Fin 3 → Nat :=
  let arg0 : BitVec 32 := BitVec.ofNat 32 (i 0).val
  let v27751 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27752 : Index := Scalar.indexCast v27565
  let c36_11692 : Index := 36#32
  ![v27751.toNat, v27752.toNat, 36]
def k0_off1740 (i : grid0.Coords) : Fin 3 → Nat :=
  let arg0 : BitVec 32 := BitVec.ofNat 32 (i 0).val
  let v27754 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27755 : Index := Scalar.indexCast v27565
  let c43_11693 : Index := 43#32
  ![v27754.toNat, v27755.toNat, 43]
def k0_off1741 (v27747 : BitVec 32) : Fin 3 → Nat :=
  let c700_i32 : BitVec 32 := 700#32
  let v27779 : BitVec 32 := Scalar.addi c700_i32 v27747
  let v27780 : Index := Scalar.indexCast v27779
  let c0_11698 : Index := 0#32
  let c0_11699 : Index := 0#32
  ![v27780.toNat, 0, 0]

def k0_off1742 (v27750 : BitVec 32) (c700_i32_11701 : BitVec 32) : Fin 3 → Nat :=
  let v27787 : BitVec 32 := Scalar.addi c700_i32_11701 v27750
  let v27788 : Index := Scalar.indexCast v27787
  let c0_11702 : Index := 0#32
  let c0_11703 : Index := 0#32
  ![v27788.toNat, 0, 0]

def k0_chk597 (v27750 : BitVec 32) : Prop :=
  (∀ (r : Fin 7), ∀ a, (k0_off1742 v27750 (BitVec.ofNat 32 (700 + 5 * r.val))) a + S1x8x128.size a ≤ S1120x8x128.size a)
theorem k0_off1742_inb : ∀ (v27750 : BitVec 32) (k0_hw597 : k0_chk597 v27750), ∀ (r : Fin 7), ∀ a, (k0_off1742 v27750 (BitVec.ofNat 32 (700 + 5 * r.val))) a + S1x8x128.size a ≤ S1120x8x128.size a := fun v27750 k0_hw597 r => k0_hw597 r

def k0_off1743 (v27747 : BitVec 32) (c705_i32 : BitVec 32) : Fin 3 → Nat :=
  let v27797 : BitVec 32 := Scalar.addi c705_i32 v27747
  let v27798 : Index := Scalar.indexCast v27797
  let c0_11706 : Index := 0#32
  let c0_11707 : Index := 0#32
  ![v27798.toNat, 0, 0]

def k0_chk596 (v27747 : BitVec 32) : Prop :=
  (∀ a, (k0_off1741 v27747) a + S1x8x128.size a ≤ S1120x8x128.size a) ∧
  (∀ (r : Fin 6), ∀ a, (k0_off1743 v27747 (BitVec.ofNat 32 (705 + 5 * r.val))) a + S1x8x128.size a ≤ S1120x8x128.size a)
theorem k0_off1741_inb : ∀ (v27747 : BitVec 32) (k0_hw596 : k0_chk596 v27747), ∀ a, (k0_off1741 v27747) a + S1x8x128.size a ≤ S1120x8x128.size a := fun v27747 k0_hw596 => k0_hw596.1
theorem k0_off1743_inb : ∀ (v27747 : BitVec 32) (k0_hw596 : k0_chk596 v27747), ∀ (r : Fin 6), ∀ a, (k0_off1743 v27747 (BitVec.ofNat 32 (705 + 5 * r.val))) a + S1x8x128.size a ≤ S1120x8x128.size a := fun v27747 k0_hw596 r => k0_hw596.2 r

def k0_off1744 (i : grid0.Coords) : Fin 3 → Nat :=
  let arg0 : BitVec 32 := BitVec.ofNat 32 (i 0).val
  let v27905 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27906 : Index := Scalar.indexCast v27565
  let c23_11754 : Index := 23#32
  ![v27905.toNat, v27906.toNat, 23]
def k0_off1745 (i : grid0.Coords) : Fin 3 → Nat :=
  let arg0 : BitVec 32 := BitVec.ofNat 32 (i 0).val
  let v27908 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27909 : Index := Scalar.indexCast v27565
  let c30_11755 : Index := 30#32
  ![v27908.toNat, v27909.toNat, 30]
def k0_off1746 (i : grid0.Coords) : Fin 3 → Nat :=
  let arg0 : BitVec 32 := BitVec.ofNat 32 (i 0).val
  let v27911 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27912 : Index := Scalar.indexCast v27565
  let c37_11756 : Index := 37#32
  ![v27911.toNat, v27912.toNat, 37]
def k0_off1747 (i : grid0.Coords) : Fin 3 → Nat :=
  let arg0 : BitVec 32 := BitVec.ofNat 32 (i 0).val
  let v27914 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v27915 : Index := Scalar.indexCast v27565
  let c44_11757 : Index := 44#32
  ![v27914.toNat, v27915.toNat, 44]
def k0_off1748 (v27907 : BitVec 32) : Fin 3 → Nat :=
  let c700_i32_11762 : BitVec 32 := 700#32
  let v27939 : BitVec 32 := Scalar.addi c700_i32_11762 v27907
  let v27940 : Index := Scalar.indexCast v27939
  let c0_11763 : Index := 0#32
  let c0_11764 : Index := 0#32
  ![v27940.toNat, 0, 0]

def k0_off1749 (v27910 : BitVec 32) (c700_i32_11766 : BitVec 32) : Fin 3 → Nat :=
  let v27947 : BitVec 32 := Scalar.addi c700_i32_11766 v27910
  let v27948 : Index := Scalar.indexCast v27947
  let c0_11767 : Index := 0#32
  let c0_11768 : Index := 0#32
  ![v27948.toNat, 0, 0]

def k0_chk599 (v27910 : BitVec 32) : Prop :=
  (∀ (r : Fin 7), ∀ a, (k0_off1749 v27910 (BitVec.ofNat 32 (700 + 5 * r.val))) a + S1x8x128.size a ≤ S1120x8x128.size a)
theorem k0_off1749_inb : ∀ (v27910 : BitVec 32) (k0_hw599 : k0_chk599 v27910), ∀ (r : Fin 7), ∀ a, (k0_off1749 v27910 (BitVec.ofNat 32 (700 + 5 * r.val))) a + S1x8x128.size a ≤ S1120x8x128.size a := fun v27910 k0_hw599 r => k0_hw599 r

def k0_off1750 (v27907 : BitVec 32) (c705_i32_11771 : BitVec 32) : Fin 3 → Nat :=
  let v27957 : BitVec 32 := Scalar.addi c705_i32_11771 v27907
  let v27958 : Index := Scalar.indexCast v27957
  let c0_11772 : Index := 0#32
  let c0_11773 : Index := 0#32
  ![v27958.toNat, 0, 0]

def k0_chk598 (v27907 : BitVec 32) : Prop :=
  (∀ a, (k0_off1748 v27907) a + S1x8x128.size a ≤ S1120x8x128.size a) ∧
  (∀ (r : Fin 6), ∀ a, (k0_off1750 v27907 (BitVec.ofNat 32 (705 + 5 * r.val))) a + S1x8x128.size a ≤ S1120x8x128.size a)
theorem k0_off1748_inb : ∀ (v27907 : BitVec 32) (k0_hw598 : k0_chk598 v27907), ∀ a, (k0_off1748 v27907) a + S1x8x128.size a ≤ S1120x8x128.size a := fun v27907 k0_hw598 => k0_hw598.1
theorem k0_off1750_inb : ∀ (v27907 : BitVec 32) (k0_hw598 : k0_chk598 v27907), ∀ (r : Fin 6), ∀ a, (k0_off1750 v27907 (BitVec.ofNat 32 (705 + 5 * r.val))) a + S1x8x128.size a ≤ S1120x8x128.size a := fun v27907 k0_hw598 r => k0_hw598.2 r

def k0_off1751 (i : grid0.Coords) : Fin 3 → Nat :=
  let arg0 : BitVec 32 := BitVec.ofNat 32 (i 0).val
  let v28065 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28066 : Index := Scalar.indexCast v27565
  let c24_11825 : Index := 24#32
  ![v28065.toNat, v28066.toNat, 24]
def k0_off1752 (i : grid0.Coords) : Fin 3 → Nat :=
  let arg0 : BitVec 32 := BitVec.ofNat 32 (i 0).val
  let v28068 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28069 : Index := Scalar.indexCast v27565
  let c31_11826 : Index := 31#32
  ![v28068.toNat, v28069.toNat, 31]
def k0_off1753 (i : grid0.Coords) : Fin 3 → Nat :=
  let arg0 : BitVec 32 := BitVec.ofNat 32 (i 0).val
  let v28071 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28072 : Index := Scalar.indexCast v27565
  let c38_11827 : Index := 38#32
  ![v28071.toNat, v28072.toNat, 38]
def k0_off1754 (i : grid0.Coords) : Fin 3 → Nat :=
  let arg0 : BitVec 32 := BitVec.ofNat 32 (i 0).val
  let v28074 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28075 : Index := Scalar.indexCast v27565
  let c45_11828 : Index := 45#32
  ![v28074.toNat, v28075.toNat, 45]
def k0_off1755 (v28067 : BitVec 32) : Fin 3 → Nat :=
  let c700_i32_11833 : BitVec 32 := 700#32
  let v28099 : BitVec 32 := Scalar.addi c700_i32_11833 v28067
  let v28100 : Index := Scalar.indexCast v28099
  let c0_11834 : Index := 0#32
  let c0_11835 : Index := 0#32
  ![v28100.toNat, 0, 0]

def k0_off1756 (v28070 : BitVec 32) (c700_i32_11837 : BitVec 32) : Fin 3 → Nat :=
  let v28107 : BitVec 32 := Scalar.addi c700_i32_11837 v28070
  let v28108 : Index := Scalar.indexCast v28107
  let c0_11838 : Index := 0#32
  let c0_11839 : Index := 0#32
  ![v28108.toNat, 0, 0]

def k0_chk601 (v28070 : BitVec 32) : Prop :=
  (∀ (r : Fin 7), ∀ a, (k0_off1756 v28070 (BitVec.ofNat 32 (700 + 5 * r.val))) a + S1x8x128.size a ≤ S1120x8x128.size a)
theorem k0_off1756_inb : ∀ (v28070 : BitVec 32) (k0_hw601 : k0_chk601 v28070), ∀ (r : Fin 7), ∀ a, (k0_off1756 v28070 (BitVec.ofNat 32 (700 + 5 * r.val))) a + S1x8x128.size a ≤ S1120x8x128.size a := fun v28070 k0_hw601 r => k0_hw601 r

def k0_off1757 (v28067 : BitVec 32) (c705_i32_11842 : BitVec 32) : Fin 3 → Nat :=
  let v28117 : BitVec 32 := Scalar.addi c705_i32_11842 v28067
  let v28118 : Index := Scalar.indexCast v28117
  let c0_11843 : Index := 0#32
  let c0_11844 : Index := 0#32
  ![v28118.toNat, 0, 0]

def k0_chk600 (v28067 : BitVec 32) : Prop :=
  (∀ a, (k0_off1755 v28067) a + S1x8x128.size a ≤ S1120x8x128.size a) ∧
  (∀ (r : Fin 6), ∀ a, (k0_off1757 v28067 (BitVec.ofNat 32 (705 + 5 * r.val))) a + S1x8x128.size a ≤ S1120x8x128.size a)
theorem k0_off1755_inb : ∀ (v28067 : BitVec 32) (k0_hw600 : k0_chk600 v28067), ∀ a, (k0_off1755 v28067) a + S1x8x128.size a ≤ S1120x8x128.size a := fun v28067 k0_hw600 => k0_hw600.1
theorem k0_off1757_inb : ∀ (v28067 : BitVec 32) (k0_hw600 : k0_chk600 v28067), ∀ (r : Fin 6), ∀ a, (k0_off1757 v28067 (BitVec.ofNat 32 (705 + 5 * r.val))) a + S1x8x128.size a ≤ S1120x8x128.size a := fun v28067 k0_hw600 r => k0_hw600.2 r

def k0_off1758 (i : grid0.Coords) : Fin 3 → Nat :=
  let arg0 : BitVec 32 := BitVec.ofNat 32 (i 0).val
  let v28225 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28226 : Index := Scalar.indexCast v27565
  let c25_11896 : Index := 25#32
  ![v28225.toNat, v28226.toNat, 25]
def k0_off1759 (i : grid0.Coords) : Fin 3 → Nat :=
  let arg0 : BitVec 32 := BitVec.ofNat 32 (i 0).val
  let v28228 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28229 : Index := Scalar.indexCast v27565
  let c32_11897 : Index := 32#32
  ![v28228.toNat, v28229.toNat, 32]
def k0_off1760 (i : grid0.Coords) : Fin 3 → Nat :=
  let arg0 : BitVec 32 := BitVec.ofNat 32 (i 0).val
  let v28231 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28232 : Index := Scalar.indexCast v27565
  let c39_11898 : Index := 39#32
  ![v28231.toNat, v28232.toNat, 39]
def k0_off1761 (i : grid0.Coords) : Fin 3 → Nat :=
  let arg0 : BitVec 32 := BitVec.ofNat 32 (i 0).val
  let v28234 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28235 : Index := Scalar.indexCast v27565
  let c46_11899 : Index := 46#32
  ![v28234.toNat, v28235.toNat, 46]
def k0_off1762 (v28227 : BitVec 32) : Fin 3 → Nat :=
  let c700_i32_11904 : BitVec 32 := 700#32
  let v28259 : BitVec 32 := Scalar.addi c700_i32_11904 v28227
  let v28260 : Index := Scalar.indexCast v28259
  let c0_11905 : Index := 0#32
  let c0_11906 : Index := 0#32
  ![v28260.toNat, 0, 0]

def k0_off1763 (v28230 : BitVec 32) (c700_i32_11908 : BitVec 32) : Fin 3 → Nat :=
  let v28267 : BitVec 32 := Scalar.addi c700_i32_11908 v28230
  let v28268 : Index := Scalar.indexCast v28267
  let c0_11909 : Index := 0#32
  let c0_11910 : Index := 0#32
  ![v28268.toNat, 0, 0]

def k0_chk603 (v28230 : BitVec 32) : Prop :=
  (∀ (r : Fin 7), ∀ a, (k0_off1763 v28230 (BitVec.ofNat 32 (700 + 5 * r.val))) a + S1x8x128.size a ≤ S1120x8x128.size a)
theorem k0_off1763_inb : ∀ (v28230 : BitVec 32) (k0_hw603 : k0_chk603 v28230), ∀ (r : Fin 7), ∀ a, (k0_off1763 v28230 (BitVec.ofNat 32 (700 + 5 * r.val))) a + S1x8x128.size a ≤ S1120x8x128.size a := fun v28230 k0_hw603 r => k0_hw603 r

def k0_off1764 (v28227 : BitVec 32) (c705_i32_11913 : BitVec 32) : Fin 3 → Nat :=
  let v28277 : BitVec 32 := Scalar.addi c705_i32_11913 v28227
  let v28278 : Index := Scalar.indexCast v28277
  let c0_11914 : Index := 0#32
  let c0_11915 : Index := 0#32
  ![v28278.toNat, 0, 0]

def k0_chk602 (v28227 : BitVec 32) : Prop :=
  (∀ a, (k0_off1762 v28227) a + S1x8x128.size a ≤ S1120x8x128.size a) ∧
  (∀ (r : Fin 6), ∀ a, (k0_off1764 v28227 (BitVec.ofNat 32 (705 + 5 * r.val))) a + S1x8x128.size a ≤ S1120x8x128.size a)
theorem k0_off1762_inb : ∀ (v28227 : BitVec 32) (k0_hw602 : k0_chk602 v28227), ∀ a, (k0_off1762 v28227) a + S1x8x128.size a ≤ S1120x8x128.size a := fun v28227 k0_hw602 => k0_hw602.1
theorem k0_off1764_inb : ∀ (v28227 : BitVec 32) (k0_hw602 : k0_chk602 v28227), ∀ (r : Fin 6), ∀ a, (k0_off1764 v28227 (BitVec.ofNat 32 (705 + 5 * r.val))) a + S1x8x128.size a ≤ S1120x8x128.size a := fun v28227 k0_hw602 r => k0_hw602.2 r

def k0_off1765 (i : grid0.Coords) : Fin 3 → Nat :=
  let arg0 : BitVec 32 := BitVec.ofNat 32 (i 0).val
  let v28385 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28386 : Index := Scalar.indexCast v27565
  let c26_11967 : Index := 26#32
  ![v28385.toNat, v28386.toNat, 26]
def k0_off1766 (i : grid0.Coords) : Fin 3 → Nat :=
  let arg0 : BitVec 32 := BitVec.ofNat 32 (i 0).val
  let v28388 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28389 : Index := Scalar.indexCast v27565
  let c33_11968 : Index := 33#32
  ![v28388.toNat, v28389.toNat, 33]
def k0_off1767 (i : grid0.Coords) : Fin 3 → Nat :=
  let arg0 : BitVec 32 := BitVec.ofNat 32 (i 0).val
  let v28391 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28392 : Index := Scalar.indexCast v27565
  let c40_11969 : Index := 40#32
  ![v28391.toNat, v28392.toNat, 40]
def k0_off1768 (i : grid0.Coords) : Fin 3 → Nat :=
  let arg0 : BitVec 32 := BitVec.ofNat 32 (i 0).val
  let v28394 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28395 : Index := Scalar.indexCast v27565
  let c47_11970 : Index := 47#32
  ![v28394.toNat, v28395.toNat, 47]
def k0_off1769 (v28387 : BitVec 32) : Fin 3 → Nat :=
  let c700_i32_11975 : BitVec 32 := 700#32
  let v28419 : BitVec 32 := Scalar.addi c700_i32_11975 v28387
  let v28420 : Index := Scalar.indexCast v28419
  let c0_11976 : Index := 0#32
  let c0_11977 : Index := 0#32
  ![v28420.toNat, 0, 0]

def k0_off1770 (v28390 : BitVec 32) (c700_i32_11979 : BitVec 32) : Fin 3 → Nat :=
  let v28427 : BitVec 32 := Scalar.addi c700_i32_11979 v28390
  let v28428 : Index := Scalar.indexCast v28427
  let c0_11980 : Index := 0#32
  let c0_11981 : Index := 0#32
  ![v28428.toNat, 0, 0]

def k0_chk605 (v28390 : BitVec 32) : Prop :=
  (∀ (r : Fin 7), ∀ a, (k0_off1770 v28390 (BitVec.ofNat 32 (700 + 5 * r.val))) a + S1x8x128.size a ≤ S1120x8x128.size a)
theorem k0_off1770_inb : ∀ (v28390 : BitVec 32) (k0_hw605 : k0_chk605 v28390), ∀ (r : Fin 7), ∀ a, (k0_off1770 v28390 (BitVec.ofNat 32 (700 + 5 * r.val))) a + S1x8x128.size a ≤ S1120x8x128.size a := fun v28390 k0_hw605 r => k0_hw605 r

def k0_off1771 (v28387 : BitVec 32) (c705_i32_11984 : BitVec 32) : Fin 3 → Nat :=
  let v28437 : BitVec 32 := Scalar.addi c705_i32_11984 v28387
  let v28438 : Index := Scalar.indexCast v28437
  let c0_11985 : Index := 0#32
  let c0_11986 : Index := 0#32
  ![v28438.toNat, 0, 0]

def k0_chk604 (v28387 : BitVec 32) : Prop :=
  (∀ a, (k0_off1769 v28387) a + S1x8x128.size a ≤ S1120x8x128.size a) ∧
  (∀ (r : Fin 6), ∀ a, (k0_off1771 v28387 (BitVec.ofNat 32 (705 + 5 * r.val))) a + S1x8x128.size a ≤ S1120x8x128.size a)
theorem k0_off1769_inb : ∀ (v28387 : BitVec 32) (k0_hw604 : k0_chk604 v28387), ∀ a, (k0_off1769 v28387) a + S1x8x128.size a ≤ S1120x8x128.size a := fun v28387 k0_hw604 => k0_hw604.1
theorem k0_off1771_inb : ∀ (v28387 : BitVec 32) (k0_hw604 : k0_chk604 v28387), ∀ (r : Fin 6), ∀ a, (k0_off1771 v28387 (BitVec.ofNat 32 (705 + 5 * r.val))) a + S1x8x128.size a ≤ S1120x8x128.size a := fun v28387 k0_hw604 r => k0_hw604.2 r

def k0_off1772 (i : grid0.Coords) : Fin 3 → Nat :=
  let arg0 : BitVec 32 := BitVec.ofNat 32 (i 0).val
  let v28545 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28546 : Index := Scalar.indexCast v27565
  let c27_12038 : Index := 27#32
  ![v28545.toNat, v28546.toNat, 27]
def k0_off1773 (i : grid0.Coords) : Fin 3 → Nat :=
  let arg0 : BitVec 32 := BitVec.ofNat 32 (i 0).val
  let v28548 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28549 : Index := Scalar.indexCast v27565
  let c34_12039 : Index := 34#32
  ![v28548.toNat, v28549.toNat, 34]
def k0_off1774 (i : grid0.Coords) : Fin 3 → Nat :=
  let arg0 : BitVec 32 := BitVec.ofNat 32 (i 0).val
  let v28551 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28552 : Index := Scalar.indexCast v27565
  let c41_12040 : Index := 41#32
  ![v28551.toNat, v28552.toNat, 41]
def k0_off1775 (i : grid0.Coords) : Fin 3 → Nat :=
  let arg0 : BitVec 32 := BitVec.ofNat 32 (i 0).val
  let v28554 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28555 : Index := Scalar.indexCast v27565
  let c48_12041 : Index := 48#32
  ![v28554.toNat, v28555.toNat, 48]
def k0_off1776 (v28547 : BitVec 32) : Fin 3 → Nat :=
  let c700_i32_12046 : BitVec 32 := 700#32
  let v28579 : BitVec 32 := Scalar.addi c700_i32_12046 v28547
  let v28580 : Index := Scalar.indexCast v28579
  let c0_12047 : Index := 0#32
  let c0_12048 : Index := 0#32
  ![v28580.toNat, 0, 0]

def k0_off1777 (v28550 : BitVec 32) (c700_i32_12050 : BitVec 32) : Fin 3 → Nat :=
  let v28587 : BitVec 32 := Scalar.addi c700_i32_12050 v28550
  let v28588 : Index := Scalar.indexCast v28587
  let c0_12051 : Index := 0#32
  let c0_12052 : Index := 0#32
  ![v28588.toNat, 0, 0]

def k0_chk607 (v28550 : BitVec 32) : Prop :=
  (∀ (r : Fin 7), ∀ a, (k0_off1777 v28550 (BitVec.ofNat 32 (700 + 5 * r.val))) a + S1x8x128.size a ≤ S1120x8x128.size a)
theorem k0_off1777_inb : ∀ (v28550 : BitVec 32) (k0_hw607 : k0_chk607 v28550), ∀ (r : Fin 7), ∀ a, (k0_off1777 v28550 (BitVec.ofNat 32 (700 + 5 * r.val))) a + S1x8x128.size a ≤ S1120x8x128.size a := fun v28550 k0_hw607 r => k0_hw607 r

def k0_off1778 (v28547 : BitVec 32) (c705_i32_12055 : BitVec 32) : Fin 3 → Nat :=
  let v28597 : BitVec 32 := Scalar.addi c705_i32_12055 v28547
  let v28598 : Index := Scalar.indexCast v28597
  let c0_12056 : Index := 0#32
  let c0_12057 : Index := 0#32
  ![v28598.toNat, 0, 0]

def k0_chk606 (v28547 : BitVec 32) : Prop :=
  (∀ a, (k0_off1776 v28547) a + S1x8x128.size a ≤ S1120x8x128.size a) ∧
  (∀ (r : Fin 6), ∀ a, (k0_off1778 v28547 (BitVec.ofNat 32 (705 + 5 * r.val))) a + S1x8x128.size a ≤ S1120x8x128.size a)
theorem k0_off1776_inb : ∀ (v28547 : BitVec 32) (k0_hw606 : k0_chk606 v28547), ∀ a, (k0_off1776 v28547) a + S1x8x128.size a ≤ S1120x8x128.size a := fun v28547 k0_hw606 => k0_hw606.1
theorem k0_off1778_inb : ∀ (v28547 : BitVec 32) (k0_hw606 : k0_chk606 v28547), ∀ (r : Fin 6), ∀ a, (k0_off1778 v28547 (BitVec.ofNat 32 (705 + 5 * r.val))) a + S1x8x128.size a ≤ S1120x8x128.size a := fun v28547 k0_hw606 r => k0_hw606.2 r

def k0_off1779 (i : grid0.Coords) : Fin 3 → Nat :=
  let arg0 : BitVec 32 := BitVec.ofNat 32 (i 0).val
  let v28705 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28706 : Index := Scalar.indexCast v27565
  let c28_12109 : Index := 28#32
  ![v28705.toNat, v28706.toNat, 28]
def k0_off1780 (i : grid0.Coords) : Fin 3 → Nat :=
  let arg0 : BitVec 32 := BitVec.ofNat 32 (i 0).val
  let v28708 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28709 : Index := Scalar.indexCast v27565
  let c35_12110 : Index := 35#32
  ![v28708.toNat, v28709.toNat, 35]
def k0_off1781 (i : grid0.Coords) : Fin 3 → Nat :=
  let arg0 : BitVec 32 := BitVec.ofNat 32 (i 0).val
  let v28711 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28712 : Index := Scalar.indexCast v27565
  let c42_12111 : Index := 42#32
  ![v28711.toNat, v28712.toNat, 42]
def k0_off1782 (i : grid0.Coords) : Fin 3 → Nat :=
  let arg0 : BitVec 32 := BitVec.ofNat 32 (i 0).val
  let v28714 : Index := Scalar.indexCast arg0
  let arg1 : BitVec 32 := BitVec.ofNat 32 (i 1).val
  let c32_i32_11624 : BitVec 32 := 32#32
  let v27564 : BitVec 32 := Scalar.muli arg1 c32_i32_11624
  let c20_i32_11625 : BitVec 32 := 20#32
  let v27565 : BitVec 32 := Scalar.addi v27564 c20_i32_11625
  let v28715 : Index := Scalar.indexCast v27565
  let c49_12112 : Index := 49#32
  ![v28714.toNat, v28715.toNat, 49]
def k0_off1783 (v28707 : BitVec 32) : Fin 3 → Nat :=
  let c700_i32_12117 : BitVec 32 := 700#32
  let v28739 : BitVec 32 := Scalar.addi c700_i32_12117 v28707
  let v28740 : Index := Scalar.indexCast v28739
  let c0_12118 : Index := 0#32
  let c0_12119 : Index := 0#32
  ![v28740.toNat, 0, 0]

def k0_off1784 (v28710 : BitVec 32) (c700_i32_12121 : BitVec 32) : Fin 3 → Nat :=
  let v28747 : BitVec 32 := Scalar.addi c700_i32_12121 v28710
  let v28748 : Index := Scalar.indexCast v28747
  let c0_12122 : Index := 0#32
  let c0_12123 : Index := 0#32
  ![v28748.toNat, 0, 0]

def k0_chk609 (v28710 : BitVec 32) : Prop :=
  (∀ (r : Fin 7), ∀ a, (k0_off1784 v28710 (BitVec.ofNat 32 (700 + 5 * r.val))) a + S1x8x128.size a ≤ S1120x8x128.size a)
theorem k0_off1784_inb : ∀ (v28710 : BitVec 32) (k0_hw609 : k0_chk609 v28710), ∀ (r : Fin 7), ∀ a, (k0_off1784 v28710 (BitVec.ofNat 32 (700 + 5 * r.val))) a + S1x8x128.size a ≤ S1120x8x128.size a := fun v28710 k0_hw609 r => k0_hw609 r

def k0_off1785 (v28707 : BitVec 32) (c705_i32_12126 : BitVec 32) : Fin 3 → Nat :=
  let v28757 : BitVec 32 := Scalar.addi c705_i32_12126 v28707
  let v28758 : Index := Scalar.indexCast v28757
  let c0_12127 : Index := 0#32
  let c0_12128 : Index := 0#32
  ![v28758.toNat, 0, 0]

def k0_chk608 (v28707 : BitVec 32) : Prop :=
  (∀ a, (k0_off1783 v28707) a + S1x8x128.size a ≤ S1120x8x128.size a) ∧
  (∀ (r : Fin 6), ∀ a, (k0_off1785 v28707 (BitVec.ofNat 32 (705 + 5 * r.val))) a + S1x8x128.size a ≤ S1120x8x128.size a)
theorem k0_off1783_inb : ∀ (v28707 : BitVec 32) (k0_hw608 : k0_chk608 v28707), ∀ a, (k0_off1783 v28707) a + S1x8x128.size a ≤ S1120x8x128.size a := fun v28707 k0_hw608 => k0_hw608.1
theorem k0_off1785_inb : ∀ (v28707 : BitVec 32) (k0_hw608 : k0_chk608 v28707), ∀ (r : Fin 6), ∀ a, (k0_off1785 v28707 (BitVec.ofNat 32 (705 + 5 * r.val))) a + S1x8x128.size a ≤ S1120x8x128.size a := fun v28707 k0_hw608 r => k0_hw608.2 r

def k0_off1786 (i : grid0.Coords) : Fin 3 → Nat :=
  let arg0 : BitVec 32 := BitVec.ofNat 32 (i 0).val
  let v28944 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28945 : Index := Scalar.indexCast v28943
  let c0_12209 : Index := 0#32
  ![v28944.toNat, v28945.toNat, 0]
def k0_mult22 (v28946 : BitVec 32) : BitVec 32 :=
  v28946

def k0_chk610 (v28946 : BitVec 32) : Prop :=
  (8 ∣ (k0_mult22 v28946).toNat)
theorem k0_mult22_dvd : ∀ (v28946 : BitVec 32) (k0_hw610 : k0_chk610 v28946), 8 ∣ (k0_mult22 v28946).toNat := fun v28946 k0_hw610 => k0_hw610

def k0_off1787 (i : grid0.Coords) : Fin 3 → Nat :=
  let arg0 : BitVec 32 := BitVec.ofNat 32 (i 0).val
  let v28948 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28949 : Index := Scalar.indexCast v28943
  let c1_12210 : Index := 1#32
  ![v28948.toNat, v28949.toNat, 1]
def k0_off1788 (v28946 : BitVec 32) (v28950 : BitVec 32) : Fin 3 → Nat :=
  let v28951 : Index := Scalar.indexCast v28950
  let v28947 : BitVec 32 := v28946
  let v28952 : Index := Scalar.indexCast v28947
  let c0_12211 : Index := 0#32
  ![v28951.toNat, v28952.toNat, 0]

def k0_chk611 (v28946 : BitVec 32) (v28950 : BitVec 32) : Prop :=
  (∀ a, (k0_off1788 v28946 v28950) a + S1x40x128.size a ≤ S256x64x128.size a)
theorem k0_off1788_inb : ∀ (v28946 : BitVec 32) (v28950 : BitVec 32) (k0_hw611 : k0_chk611 v28946 v28950), ∀ a, (k0_off1788 v28946 v28950) a + S1x40x128.size a ≤ S256x64x128.size a := fun v28946 v28950 k0_hw611 => k0_hw611

def k0_off1789 (i : grid0.Coords) : Fin 3 → Nat :=
  let arg0 : BitVec 32 := BitVec.ofNat 32 (i 0).val
  let v28955 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28956 : Index := Scalar.indexCast v28943
  let c8_12212 : Index := 8#32
  ![v28955.toNat, v28956.toNat, 8]
def k0_off1790 (v28946 : BitVec 32) (v28957 : BitVec 32) : Fin 3 → Nat :=
  let v28958 : Index := Scalar.indexCast v28957
  let v28947 : BitVec 32 := v28946
  let v28959 : Index := Scalar.indexCast v28947
  let c0_12213 : Index := 0#32
  ![v28958.toNat, v28959.toNat, 0]

def k0_chk612 (v28946 : BitVec 32) (v28957 : BitVec 32) : Prop :=
  (∀ a, (k0_off1790 v28946 v28957) a + S1x40x128.size a ≤ S256x64x128.size a)
theorem k0_off1790_inb : ∀ (v28946 : BitVec 32) (v28957 : BitVec 32) (k0_hw612 : k0_chk612 v28946 v28957), ∀ a, (k0_off1790 v28946 v28957) a + S1x40x128.size a ≤ S256x64x128.size a := fun v28946 v28957 k0_hw612 => k0_hw612

def k0_off1791 (i : grid0.Coords) : Fin 3 → Nat :=
  let arg0 : BitVec 32 := BitVec.ofNat 32 (i 0).val
  let v28963 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28964 : Index := Scalar.indexCast v28943
  let c15_12214 : Index := 15#32
  ![v28963.toNat, v28964.toNat, 15]
def k0_off1792 (i : grid0.Coords) : Fin 3 → Nat :=
  let arg0 : BitVec 32 := BitVec.ofNat 32 (i 0).val
  let v28973 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28974 : Index := Scalar.indexCast v28943
  let c2_12219 : Index := 2#32
  ![v28973.toNat, v28974.toNat, 2]
def k0_off1793 (v28946 : BitVec 32) (v28975 : BitVec 32) : Fin 3 → Nat :=
  let v28976 : Index := Scalar.indexCast v28975
  let v28947 : BitVec 32 := v28946
  let v28977 : Index := Scalar.indexCast v28947
  let c0_12220 : Index := 0#32
  ![v28976.toNat, v28977.toNat, 0]

def k0_chk613 (v28946 : BitVec 32) (v28975 : BitVec 32) : Prop :=
  (∀ a, (k0_off1793 v28946 v28975) a + S1x40x128.size a ≤ S256x64x128.size a)
theorem k0_off1793_inb : ∀ (v28946 : BitVec 32) (v28975 : BitVec 32) (k0_hw613 : k0_chk613 v28946 v28975), ∀ a, (k0_off1793 v28946 v28975) a + S1x40x128.size a ≤ S256x64x128.size a := fun v28946 v28975 k0_hw613 => k0_hw613

def k0_off1794 (i : grid0.Coords) : Fin 3 → Nat :=
  let arg0 : BitVec 32 := BitVec.ofNat 32 (i 0).val
  let v28980 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28981 : Index := Scalar.indexCast v28943
  let c9_12221 : Index := 9#32
  ![v28980.toNat, v28981.toNat, 9]
def k0_off1795 (v28946 : BitVec 32) (v28982 : BitVec 32) : Fin 3 → Nat :=
  let v28983 : Index := Scalar.indexCast v28982
  let v28947 : BitVec 32 := v28946
  let v28984 : Index := Scalar.indexCast v28947
  let c0_12222 : Index := 0#32
  ![v28983.toNat, v28984.toNat, 0]

def k0_chk614 (v28946 : BitVec 32) (v28982 : BitVec 32) : Prop :=
  (∀ a, (k0_off1795 v28946 v28982) a + S1x40x128.size a ≤ S256x64x128.size a)
theorem k0_off1795_inb : ∀ (v28946 : BitVec 32) (v28982 : BitVec 32) (k0_hw614 : k0_chk614 v28946 v28982), ∀ a, (k0_off1795 v28946 v28982) a + S1x40x128.size a ≤ S256x64x128.size a := fun v28946 v28982 k0_hw614 => k0_hw614

def k0_off1796 (i : grid0.Coords) : Fin 3 → Nat :=
  let arg0 : BitVec 32 := BitVec.ofNat 32 (i 0).val
  let v28988 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28989 : Index := Scalar.indexCast v28943
  let c16_12223 : Index := 16#32
  ![v28988.toNat, v28989.toNat, 16]
def k0_off1797 (i : grid0.Coords) : Fin 3 → Nat :=
  let arg0 : BitVec 32 := BitVec.ofNat 32 (i 0).val
  let v28998 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v28999 : Index := Scalar.indexCast v28943
  let c3_12228 : Index := 3#32
  ![v28998.toNat, v28999.toNat, 3]
def k0_off1798 (v28946 : BitVec 32) (v29000 : BitVec 32) : Fin 3 → Nat :=
  let v29001 : Index := Scalar.indexCast v29000
  let v28947 : BitVec 32 := v28946
  let v29002 : Index := Scalar.indexCast v28947
  let c0_12229 : Index := 0#32
  ![v29001.toNat, v29002.toNat, 0]

def k0_chk615 (v28946 : BitVec 32) (v29000 : BitVec 32) : Prop :=
  (∀ a, (k0_off1798 v28946 v29000) a + S1x40x128.size a ≤ S256x64x128.size a)
theorem k0_off1798_inb : ∀ (v28946 : BitVec 32) (v29000 : BitVec 32) (k0_hw615 : k0_chk615 v28946 v29000), ∀ a, (k0_off1798 v28946 v29000) a + S1x40x128.size a ≤ S256x64x128.size a := fun v28946 v29000 k0_hw615 => k0_hw615

def k0_off1799 (i : grid0.Coords) : Fin 3 → Nat :=
  let arg0 : BitVec 32 := BitVec.ofNat 32 (i 0).val
  let v29005 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29006 : Index := Scalar.indexCast v28943
  let c10_12230 : Index := 10#32
  ![v29005.toNat, v29006.toNat, 10]
def k0_off1800 (v28946 : BitVec 32) (v29007 : BitVec 32) : Fin 3 → Nat :=
  let v29008 : Index := Scalar.indexCast v29007
  let v28947 : BitVec 32 := v28946
  let v29009 : Index := Scalar.indexCast v28947
  let c0_12231 : Index := 0#32
  ![v29008.toNat, v29009.toNat, 0]

def k0_chk616 (v28946 : BitVec 32) (v29007 : BitVec 32) : Prop :=
  (∀ a, (k0_off1800 v28946 v29007) a + S1x40x128.size a ≤ S256x64x128.size a)
theorem k0_off1800_inb : ∀ (v28946 : BitVec 32) (v29007 : BitVec 32) (k0_hw616 : k0_chk616 v28946 v29007), ∀ a, (k0_off1800 v28946 v29007) a + S1x40x128.size a ≤ S256x64x128.size a := fun v28946 v29007 k0_hw616 => k0_hw616

def k0_off1801 (i : grid0.Coords) : Fin 3 → Nat :=
  let arg0 : BitVec 32 := BitVec.ofNat 32 (i 0).val
  let v29013 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29014 : Index := Scalar.indexCast v28943
  let c17_12232 : Index := 17#32
  ![v29013.toNat, v29014.toNat, 17]
def k0_off1802 (i : grid0.Coords) : Fin 3 → Nat :=
  let arg0 : BitVec 32 := BitVec.ofNat 32 (i 0).val
  let v29023 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29024 : Index := Scalar.indexCast v28943
  let c4_12237 : Index := 4#32
  ![v29023.toNat, v29024.toNat, 4]
def k0_off1803 (v28946 : BitVec 32) (v29025 : BitVec 32) : Fin 3 → Nat :=
  let v29026 : Index := Scalar.indexCast v29025
  let v28947 : BitVec 32 := v28946
  let v29027 : Index := Scalar.indexCast v28947
  let c0_12238 : Index := 0#32
  ![v29026.toNat, v29027.toNat, 0]

def k0_chk617 (v28946 : BitVec 32) (v29025 : BitVec 32) : Prop :=
  (∀ a, (k0_off1803 v28946 v29025) a + S1x40x128.size a ≤ S256x64x128.size a)
theorem k0_off1803_inb : ∀ (v28946 : BitVec 32) (v29025 : BitVec 32) (k0_hw617 : k0_chk617 v28946 v29025), ∀ a, (k0_off1803 v28946 v29025) a + S1x40x128.size a ≤ S256x64x128.size a := fun v28946 v29025 k0_hw617 => k0_hw617

def k0_off1804 (i : grid0.Coords) : Fin 3 → Nat :=
  let arg0 : BitVec 32 := BitVec.ofNat 32 (i 0).val
  let v29030 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29031 : Index := Scalar.indexCast v28943
  let c11_12239 : Index := 11#32
  ![v29030.toNat, v29031.toNat, 11]
def k0_off1805 (v28946 : BitVec 32) (v29032 : BitVec 32) : Fin 3 → Nat :=
  let v29033 : Index := Scalar.indexCast v29032
  let v28947 : BitVec 32 := v28946
  let v29034 : Index := Scalar.indexCast v28947
  let c0_12240 : Index := 0#32
  ![v29033.toNat, v29034.toNat, 0]

def k0_chk618 (v28946 : BitVec 32) (v29032 : BitVec 32) : Prop :=
  (∀ a, (k0_off1805 v28946 v29032) a + S1x40x128.size a ≤ S256x64x128.size a)
theorem k0_off1805_inb : ∀ (v28946 : BitVec 32) (v29032 : BitVec 32) (k0_hw618 : k0_chk618 v28946 v29032), ∀ a, (k0_off1805 v28946 v29032) a + S1x40x128.size a ≤ S256x64x128.size a := fun v28946 v29032 k0_hw618 => k0_hw618

def k0_off1806 (i : grid0.Coords) : Fin 3 → Nat :=
  let arg0 : BitVec 32 := BitVec.ofNat 32 (i 0).val
  let v29038 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29039 : Index := Scalar.indexCast v28943
  let c18_12241 : Index := 18#32
  ![v29038.toNat, v29039.toNat, 18]
def k0_off1807 (i : grid0.Coords) : Fin 3 → Nat :=
  let arg0 : BitVec 32 := BitVec.ofNat 32 (i 0).val
  let v29048 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29049 : Index := Scalar.indexCast v28943
  let c5_12246 : Index := 5#32
  ![v29048.toNat, v29049.toNat, 5]
def k0_off1808 (v28946 : BitVec 32) (v29050 : BitVec 32) : Fin 3 → Nat :=
  let v29051 : Index := Scalar.indexCast v29050
  let v28947 : BitVec 32 := v28946
  let v29052 : Index := Scalar.indexCast v28947
  let c0_12247 : Index := 0#32
  ![v29051.toNat, v29052.toNat, 0]

def k0_chk619 (v28946 : BitVec 32) (v29050 : BitVec 32) : Prop :=
  (∀ a, (k0_off1808 v28946 v29050) a + S1x40x128.size a ≤ S256x64x128.size a)
theorem k0_off1808_inb : ∀ (v28946 : BitVec 32) (v29050 : BitVec 32) (k0_hw619 : k0_chk619 v28946 v29050), ∀ a, (k0_off1808 v28946 v29050) a + S1x40x128.size a ≤ S256x64x128.size a := fun v28946 v29050 k0_hw619 => k0_hw619

def k0_off1809 (i : grid0.Coords) : Fin 3 → Nat :=
  let arg0 : BitVec 32 := BitVec.ofNat 32 (i 0).val
  let v29055 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29056 : Index := Scalar.indexCast v28943
  let c12_12248 : Index := 12#32
  ![v29055.toNat, v29056.toNat, 12]
def k0_off1810 (v28946 : BitVec 32) (v29057 : BitVec 32) : Fin 3 → Nat :=
  let v29058 : Index := Scalar.indexCast v29057
  let v28947 : BitVec 32 := v28946
  let v29059 : Index := Scalar.indexCast v28947
  let c0_12249 : Index := 0#32
  ![v29058.toNat, v29059.toNat, 0]

def k0_chk620 (v28946 : BitVec 32) (v29057 : BitVec 32) : Prop :=
  (∀ a, (k0_off1810 v28946 v29057) a + S1x40x128.size a ≤ S256x64x128.size a)
theorem k0_off1810_inb : ∀ (v28946 : BitVec 32) (v29057 : BitVec 32) (k0_hw620 : k0_chk620 v28946 v29057), ∀ a, (k0_off1810 v28946 v29057) a + S1x40x128.size a ≤ S256x64x128.size a := fun v28946 v29057 k0_hw620 => k0_hw620

def k0_off1811 (i : grid0.Coords) : Fin 3 → Nat :=
  let arg0 : BitVec 32 := BitVec.ofNat 32 (i 0).val
  let v29063 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29064 : Index := Scalar.indexCast v28943
  let c19_12250 : Index := 19#32
  ![v29063.toNat, v29064.toNat, 19]
def k0_off1812 (i : grid0.Coords) : Fin 3 → Nat :=
  let arg0 : BitVec 32 := BitVec.ofNat 32 (i 0).val
  let v29073 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29074 : Index := Scalar.indexCast v28943
  let c6_12255 : Index := 6#32
  ![v29073.toNat, v29074.toNat, 6]
def k0_off1813 (v28946 : BitVec 32) (v29075 : BitVec 32) : Fin 3 → Nat :=
  let v29076 : Index := Scalar.indexCast v29075
  let v28947 : BitVec 32 := v28946
  let v29077 : Index := Scalar.indexCast v28947
  let c0_12256 : Index := 0#32
  ![v29076.toNat, v29077.toNat, 0]

def k0_chk621 (v28946 : BitVec 32) (v29075 : BitVec 32) : Prop :=
  (∀ a, (k0_off1813 v28946 v29075) a + S1x40x128.size a ≤ S256x64x128.size a)
theorem k0_off1813_inb : ∀ (v28946 : BitVec 32) (v29075 : BitVec 32) (k0_hw621 : k0_chk621 v28946 v29075), ∀ a, (k0_off1813 v28946 v29075) a + S1x40x128.size a ≤ S256x64x128.size a := fun v28946 v29075 k0_hw621 => k0_hw621

def k0_off1814 (i : grid0.Coords) : Fin 3 → Nat :=
  let arg0 : BitVec 32 := BitVec.ofNat 32 (i 0).val
  let v29080 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29081 : Index := Scalar.indexCast v28943
  let c13_12257 : Index := 13#32
  ![v29080.toNat, v29081.toNat, 13]
def k0_off1815 (v28946 : BitVec 32) (v29082 : BitVec 32) : Fin 3 → Nat :=
  let v29083 : Index := Scalar.indexCast v29082
  let v28947 : BitVec 32 := v28946
  let v29084 : Index := Scalar.indexCast v28947
  let c0_12258 : Index := 0#32
  ![v29083.toNat, v29084.toNat, 0]

def k0_chk622 (v28946 : BitVec 32) (v29082 : BitVec 32) : Prop :=
  (∀ a, (k0_off1815 v28946 v29082) a + S1x40x128.size a ≤ S256x64x128.size a)
theorem k0_off1815_inb : ∀ (v28946 : BitVec 32) (v29082 : BitVec 32) (k0_hw622 : k0_chk622 v28946 v29082), ∀ a, (k0_off1815 v28946 v29082) a + S1x40x128.size a ≤ S256x64x128.size a := fun v28946 v29082 k0_hw622 => k0_hw622

def k0_off1816 (i : grid0.Coords) : Fin 3 → Nat :=
  let arg0 : BitVec 32 := BitVec.ofNat 32 (i 0).val
  let v29088 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29089 : Index := Scalar.indexCast v28943
  let c20_12259 : Index := 20#32
  ![v29088.toNat, v29089.toNat, 20]
def k0_off1817 (i : grid0.Coords) : Fin 3 → Nat :=
  let arg0 : BitVec 32 := BitVec.ofNat 32 (i 0).val
  let v29098 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29099 : Index := Scalar.indexCast v28943
  let c7_12264 : Index := 7#32
  ![v29098.toNat, v29099.toNat, 7]
def k0_off1818 (v28946 : BitVec 32) (v29100 : BitVec 32) : Fin 3 → Nat :=
  let v29101 : Index := Scalar.indexCast v29100
  let v28947 : BitVec 32 := v28946
  let v29102 : Index := Scalar.indexCast v28947
  let c0_12265 : Index := 0#32
  ![v29101.toNat, v29102.toNat, 0]

def k0_chk623 (v28946 : BitVec 32) (v29100 : BitVec 32) : Prop :=
  (∀ a, (k0_off1818 v28946 v29100) a + S1x40x128.size a ≤ S256x64x128.size a)
theorem k0_off1818_inb : ∀ (v28946 : BitVec 32) (v29100 : BitVec 32) (k0_hw623 : k0_chk623 v28946 v29100), ∀ a, (k0_off1818 v28946 v29100) a + S1x40x128.size a ≤ S256x64x128.size a := fun v28946 v29100 k0_hw623 => k0_hw623

def k0_off1819 (i : grid0.Coords) : Fin 3 → Nat :=
  let arg0 : BitVec 32 := BitVec.ofNat 32 (i 0).val
  let v29105 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29106 : Index := Scalar.indexCast v28943
  let c14_12266 : Index := 14#32
  ![v29105.toNat, v29106.toNat, 14]
def k0_off1820 (v28946 : BitVec 32) (v29107 : BitVec 32) : Fin 3 → Nat :=
  let v29108 : Index := Scalar.indexCast v29107
  let v28947 : BitVec 32 := v28946
  let v29109 : Index := Scalar.indexCast v28947
  let c0_12267 : Index := 0#32
  ![v29108.toNat, v29109.toNat, 0]

def k0_chk624 (v28946 : BitVec 32) (v29107 : BitVec 32) : Prop :=
  (∀ a, (k0_off1820 v28946 v29107) a + S1x40x128.size a ≤ S256x64x128.size a)
theorem k0_off1820_inb : ∀ (v28946 : BitVec 32) (v29107 : BitVec 32) (k0_hw624 : k0_chk624 v28946 v29107), ∀ a, (k0_off1820 v28946 v29107) a + S1x40x128.size a ≤ S256x64x128.size a := fun v28946 v29107 k0_hw624 => k0_hw624

def k0_off1821 (i : grid0.Coords) : Fin 3 → Nat :=
  let arg0 : BitVec 32 := BitVec.ofNat 32 (i 0).val
  let v29113 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29114 : Index := Scalar.indexCast v28943
  let c21_12268 : Index := 21#32
  ![v29113.toNat, v29114.toNat, 21]
def k0_off1822 (i : grid0.Coords) : Fin 3 → Nat :=
  let arg0 : BitVec 32 := BitVec.ofNat 32 (i 0).val
  let v29123 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29124 : Index := Scalar.indexCast v28943
  let c22_12273 : Index := 22#32
  ![v29123.toNat, v29124.toNat, 22]
def k0_off1823 (i : grid0.Coords) : Fin 3 → Nat :=
  let arg0 : BitVec 32 := BitVec.ofNat 32 (i 0).val
  let v29126 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29127 : Index := Scalar.indexCast v28943
  let c29_12274 : Index := 29#32
  ![v29126.toNat, v29127.toNat, 29]
def k0_off1824 (i : grid0.Coords) : Fin 3 → Nat :=
  let arg0 : BitVec 32 := BitVec.ofNat 32 (i 0).val
  let v29129 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29130 : Index := Scalar.indexCast v28943
  let c36_12275 : Index := 36#32
  ![v29129.toNat, v29130.toNat, 36]
def k0_off1825 (i : grid0.Coords) : Fin 3 → Nat :=
  let arg0 : BitVec 32 := BitVec.ofNat 32 (i 0).val
  let v29132 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29133 : Index := Scalar.indexCast v28943
  let c43_12276 : Index := 43#32
  ![v29132.toNat, v29133.toNat, 43]
def k0_off1826 (v29125 : BitVec 32) : Fin 3 → Nat :=
  let c735_i32 : BitVec 32 := 735#32
  let v29157 : BitVec 32 := Scalar.addi c735_i32 v29125
  let v29158 : Index := Scalar.indexCast v29157
  let c0_12281 : Index := 0#32
  let c0_12282 : Index := 0#32
  ![v29158.toNat, 0, 0]

def k0_off1827 (v29128 : BitVec 32) (c735_i32_12284 : BitVec 32) : Fin 3 → Nat :=
  let v29165 : BitVec 32 := Scalar.addi c735_i32_12284 v29128
  let v29166 : Index := Scalar.indexCast v29165
  let c0_12285 : Index := 0#32
  let c0_12286 : Index := 0#32
  ![v29166.toNat, 0, 0]

def k0_chk626 (v29128 : BitVec 32) : Prop :=
  (∀ (r : Fin 7), ∀ a, (k0_off1827 v29128 (BitVec.ofNat 32 (735 + 5 * r.val))) a + S1x8x128.size a ≤ S1120x8x128.size a)
theorem k0_off1827_inb : ∀ (v29128 : BitVec 32) (k0_hw626 : k0_chk626 v29128), ∀ (r : Fin 7), ∀ a, (k0_off1827 v29128 (BitVec.ofNat 32 (735 + 5 * r.val))) a + S1x8x128.size a ≤ S1120x8x128.size a := fun v29128 k0_hw626 r => k0_hw626 r

def k0_off1828 (v29125 : BitVec 32) (c740_i32 : BitVec 32) : Fin 3 → Nat :=
  let v29175 : BitVec 32 := Scalar.addi c740_i32 v29125
  let v29176 : Index := Scalar.indexCast v29175
  let c0_12289 : Index := 0#32
  let c0_12290 : Index := 0#32
  ![v29176.toNat, 0, 0]

def k0_chk625 (v29125 : BitVec 32) : Prop :=
  (∀ a, (k0_off1826 v29125) a + S1x8x128.size a ≤ S1120x8x128.size a) ∧
  (∀ (r : Fin 6), ∀ a, (k0_off1828 v29125 (BitVec.ofNat 32 (740 + 5 * r.val))) a + S1x8x128.size a ≤ S1120x8x128.size a)
theorem k0_off1826_inb : ∀ (v29125 : BitVec 32) (k0_hw625 : k0_chk625 v29125), ∀ a, (k0_off1826 v29125) a + S1x8x128.size a ≤ S1120x8x128.size a := fun v29125 k0_hw625 => k0_hw625.1
theorem k0_off1828_inb : ∀ (v29125 : BitVec 32) (k0_hw625 : k0_chk625 v29125), ∀ (r : Fin 6), ∀ a, (k0_off1828 v29125 (BitVec.ofNat 32 (740 + 5 * r.val))) a + S1x8x128.size a ≤ S1120x8x128.size a := fun v29125 k0_hw625 r => k0_hw625.2 r

def k0_off1829 (i : grid0.Coords) : Fin 3 → Nat :=
  let arg0 : BitVec 32 := BitVec.ofNat 32 (i 0).val
  let v29283 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29284 : Index := Scalar.indexCast v28943
  let c23_12337 : Index := 23#32
  ![v29283.toNat, v29284.toNat, 23]
def k0_off1830 (i : grid0.Coords) : Fin 3 → Nat :=
  let arg0 : BitVec 32 := BitVec.ofNat 32 (i 0).val
  let v29286 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29287 : Index := Scalar.indexCast v28943
  let c30_12338 : Index := 30#32
  ![v29286.toNat, v29287.toNat, 30]
def k0_off1831 (i : grid0.Coords) : Fin 3 → Nat :=
  let arg0 : BitVec 32 := BitVec.ofNat 32 (i 0).val
  let v29289 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29290 : Index := Scalar.indexCast v28943
  let c37_12339 : Index := 37#32
  ![v29289.toNat, v29290.toNat, 37]
def k0_off1832 (i : grid0.Coords) : Fin 3 → Nat :=
  let arg0 : BitVec 32 := BitVec.ofNat 32 (i 0).val
  let v29292 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29293 : Index := Scalar.indexCast v28943
  let c44_12340 : Index := 44#32
  ![v29292.toNat, v29293.toNat, 44]
def k0_off1833 (v29285 : BitVec 32) : Fin 3 → Nat :=
  let c735_i32_12345 : BitVec 32 := 735#32
  let v29317 : BitVec 32 := Scalar.addi c735_i32_12345 v29285
  let v29318 : Index := Scalar.indexCast v29317
  let c0_12346 : Index := 0#32
  let c0_12347 : Index := 0#32
  ![v29318.toNat, 0, 0]

def k0_off1834 (v29288 : BitVec 32) (c735_i32_12349 : BitVec 32) : Fin 3 → Nat :=
  let v29325 : BitVec 32 := Scalar.addi c735_i32_12349 v29288
  let v29326 : Index := Scalar.indexCast v29325
  let c0_12350 : Index := 0#32
  let c0_12351 : Index := 0#32
  ![v29326.toNat, 0, 0]

def k0_chk628 (v29288 : BitVec 32) : Prop :=
  (∀ (r : Fin 7), ∀ a, (k0_off1834 v29288 (BitVec.ofNat 32 (735 + 5 * r.val))) a + S1x8x128.size a ≤ S1120x8x128.size a)
theorem k0_off1834_inb : ∀ (v29288 : BitVec 32) (k0_hw628 : k0_chk628 v29288), ∀ (r : Fin 7), ∀ a, (k0_off1834 v29288 (BitVec.ofNat 32 (735 + 5 * r.val))) a + S1x8x128.size a ≤ S1120x8x128.size a := fun v29288 k0_hw628 r => k0_hw628 r

def k0_off1835 (v29285 : BitVec 32) (c740_i32_12354 : BitVec 32) : Fin 3 → Nat :=
  let v29335 : BitVec 32 := Scalar.addi c740_i32_12354 v29285
  let v29336 : Index := Scalar.indexCast v29335
  let c0_12355 : Index := 0#32
  let c0_12356 : Index := 0#32
  ![v29336.toNat, 0, 0]

def k0_chk627 (v29285 : BitVec 32) : Prop :=
  (∀ a, (k0_off1833 v29285) a + S1x8x128.size a ≤ S1120x8x128.size a) ∧
  (∀ (r : Fin 6), ∀ a, (k0_off1835 v29285 (BitVec.ofNat 32 (740 + 5 * r.val))) a + S1x8x128.size a ≤ S1120x8x128.size a)
theorem k0_off1833_inb : ∀ (v29285 : BitVec 32) (k0_hw627 : k0_chk627 v29285), ∀ a, (k0_off1833 v29285) a + S1x8x128.size a ≤ S1120x8x128.size a := fun v29285 k0_hw627 => k0_hw627.1
theorem k0_off1835_inb : ∀ (v29285 : BitVec 32) (k0_hw627 : k0_chk627 v29285), ∀ (r : Fin 6), ∀ a, (k0_off1835 v29285 (BitVec.ofNat 32 (740 + 5 * r.val))) a + S1x8x128.size a ≤ S1120x8x128.size a := fun v29285 k0_hw627 r => k0_hw627.2 r

def k0_off1836 (i : grid0.Coords) : Fin 3 → Nat :=
  let arg0 : BitVec 32 := BitVec.ofNat 32 (i 0).val
  let v29443 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29444 : Index := Scalar.indexCast v28943
  let c24_12408 : Index := 24#32
  ![v29443.toNat, v29444.toNat, 24]
def k0_off1837 (i : grid0.Coords) : Fin 3 → Nat :=
  let arg0 : BitVec 32 := BitVec.ofNat 32 (i 0).val
  let v29446 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29447 : Index := Scalar.indexCast v28943
  let c31_12409 : Index := 31#32
  ![v29446.toNat, v29447.toNat, 31]
def k0_off1838 (i : grid0.Coords) : Fin 3 → Nat :=
  let arg0 : BitVec 32 := BitVec.ofNat 32 (i 0).val
  let v29449 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29450 : Index := Scalar.indexCast v28943
  let c38_12410 : Index := 38#32
  ![v29449.toNat, v29450.toNat, 38]
def k0_off1839 (i : grid0.Coords) : Fin 3 → Nat :=
  let arg0 : BitVec 32 := BitVec.ofNat 32 (i 0).val
  let v29452 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29453 : Index := Scalar.indexCast v28943
  let c45_12411 : Index := 45#32
  ![v29452.toNat, v29453.toNat, 45]
def k0_off1840 (v29445 : BitVec 32) : Fin 3 → Nat :=
  let c735_i32_12416 : BitVec 32 := 735#32
  let v29477 : BitVec 32 := Scalar.addi c735_i32_12416 v29445
  let v29478 : Index := Scalar.indexCast v29477
  let c0_12417 : Index := 0#32
  let c0_12418 : Index := 0#32
  ![v29478.toNat, 0, 0]

def k0_off1841 (v29448 : BitVec 32) (c735_i32_12420 : BitVec 32) : Fin 3 → Nat :=
  let v29485 : BitVec 32 := Scalar.addi c735_i32_12420 v29448
  let v29486 : Index := Scalar.indexCast v29485
  let c0_12421 : Index := 0#32
  let c0_12422 : Index := 0#32
  ![v29486.toNat, 0, 0]

def k0_chk630 (v29448 : BitVec 32) : Prop :=
  (∀ (r : Fin 7), ∀ a, (k0_off1841 v29448 (BitVec.ofNat 32 (735 + 5 * r.val))) a + S1x8x128.size a ≤ S1120x8x128.size a)
theorem k0_off1841_inb : ∀ (v29448 : BitVec 32) (k0_hw630 : k0_chk630 v29448), ∀ (r : Fin 7), ∀ a, (k0_off1841 v29448 (BitVec.ofNat 32 (735 + 5 * r.val))) a + S1x8x128.size a ≤ S1120x8x128.size a := fun v29448 k0_hw630 r => k0_hw630 r

def k0_off1842 (v29445 : BitVec 32) (c740_i32_12425 : BitVec 32) : Fin 3 → Nat :=
  let v29495 : BitVec 32 := Scalar.addi c740_i32_12425 v29445
  let v29496 : Index := Scalar.indexCast v29495
  let c0_12426 : Index := 0#32
  let c0_12427 : Index := 0#32
  ![v29496.toNat, 0, 0]

def k0_chk629 (v29445 : BitVec 32) : Prop :=
  (∀ a, (k0_off1840 v29445) a + S1x8x128.size a ≤ S1120x8x128.size a) ∧
  (∀ (r : Fin 6), ∀ a, (k0_off1842 v29445 (BitVec.ofNat 32 (740 + 5 * r.val))) a + S1x8x128.size a ≤ S1120x8x128.size a)
theorem k0_off1840_inb : ∀ (v29445 : BitVec 32) (k0_hw629 : k0_chk629 v29445), ∀ a, (k0_off1840 v29445) a + S1x8x128.size a ≤ S1120x8x128.size a := fun v29445 k0_hw629 => k0_hw629.1
theorem k0_off1842_inb : ∀ (v29445 : BitVec 32) (k0_hw629 : k0_chk629 v29445), ∀ (r : Fin 6), ∀ a, (k0_off1842 v29445 (BitVec.ofNat 32 (740 + 5 * r.val))) a + S1x8x128.size a ≤ S1120x8x128.size a := fun v29445 k0_hw629 r => k0_hw629.2 r

def k0_off1843 (i : grid0.Coords) : Fin 3 → Nat :=
  let arg0 : BitVec 32 := BitVec.ofNat 32 (i 0).val
  let v29603 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29604 : Index := Scalar.indexCast v28943
  let c25_12479 : Index := 25#32
  ![v29603.toNat, v29604.toNat, 25]
def k0_off1844 (i : grid0.Coords) : Fin 3 → Nat :=
  let arg0 : BitVec 32 := BitVec.ofNat 32 (i 0).val
  let v29606 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29607 : Index := Scalar.indexCast v28943
  let c32_12480 : Index := 32#32
  ![v29606.toNat, v29607.toNat, 32]
def k0_off1845 (i : grid0.Coords) : Fin 3 → Nat :=
  let arg0 : BitVec 32 := BitVec.ofNat 32 (i 0).val
  let v29609 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29610 : Index := Scalar.indexCast v28943
  let c39_12481 : Index := 39#32
  ![v29609.toNat, v29610.toNat, 39]
def k0_off1846 (i : grid0.Coords) : Fin 3 → Nat :=
  let arg0 : BitVec 32 := BitVec.ofNat 32 (i 0).val
  let v29612 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29613 : Index := Scalar.indexCast v28943
  let c46_12482 : Index := 46#32
  ![v29612.toNat, v29613.toNat, 46]
def k0_off1847 (v29605 : BitVec 32) : Fin 3 → Nat :=
  let c735_i32_12487 : BitVec 32 := 735#32
  let v29637 : BitVec 32 := Scalar.addi c735_i32_12487 v29605
  let v29638 : Index := Scalar.indexCast v29637
  let c0_12488 : Index := 0#32
  let c0_12489 : Index := 0#32
  ![v29638.toNat, 0, 0]

def k0_off1848 (v29608 : BitVec 32) (c735_i32_12491 : BitVec 32) : Fin 3 → Nat :=
  let v29645 : BitVec 32 := Scalar.addi c735_i32_12491 v29608
  let v29646 : Index := Scalar.indexCast v29645
  let c0_12492 : Index := 0#32
  let c0_12493 : Index := 0#32
  ![v29646.toNat, 0, 0]

def k0_chk632 (v29608 : BitVec 32) : Prop :=
  (∀ (r : Fin 7), ∀ a, (k0_off1848 v29608 (BitVec.ofNat 32 (735 + 5 * r.val))) a + S1x8x128.size a ≤ S1120x8x128.size a)
theorem k0_off1848_inb : ∀ (v29608 : BitVec 32) (k0_hw632 : k0_chk632 v29608), ∀ (r : Fin 7), ∀ a, (k0_off1848 v29608 (BitVec.ofNat 32 (735 + 5 * r.val))) a + S1x8x128.size a ≤ S1120x8x128.size a := fun v29608 k0_hw632 r => k0_hw632 r

def k0_off1849 (v29605 : BitVec 32) (c740_i32_12496 : BitVec 32) : Fin 3 → Nat :=
  let v29655 : BitVec 32 := Scalar.addi c740_i32_12496 v29605
  let v29656 : Index := Scalar.indexCast v29655
  let c0_12497 : Index := 0#32
  let c0_12498 : Index := 0#32
  ![v29656.toNat, 0, 0]

def k0_chk631 (v29605 : BitVec 32) : Prop :=
  (∀ a, (k0_off1847 v29605) a + S1x8x128.size a ≤ S1120x8x128.size a) ∧
  (∀ (r : Fin 6), ∀ a, (k0_off1849 v29605 (BitVec.ofNat 32 (740 + 5 * r.val))) a + S1x8x128.size a ≤ S1120x8x128.size a)
theorem k0_off1847_inb : ∀ (v29605 : BitVec 32) (k0_hw631 : k0_chk631 v29605), ∀ a, (k0_off1847 v29605) a + S1x8x128.size a ≤ S1120x8x128.size a := fun v29605 k0_hw631 => k0_hw631.1
theorem k0_off1849_inb : ∀ (v29605 : BitVec 32) (k0_hw631 : k0_chk631 v29605), ∀ (r : Fin 6), ∀ a, (k0_off1849 v29605 (BitVec.ofNat 32 (740 + 5 * r.val))) a + S1x8x128.size a ≤ S1120x8x128.size a := fun v29605 k0_hw631 r => k0_hw631.2 r

def k0_off1850 (i : grid0.Coords) : Fin 3 → Nat :=
  let arg0 : BitVec 32 := BitVec.ofNat 32 (i 0).val
  let v29763 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29764 : Index := Scalar.indexCast v28943
  let c26_12550 : Index := 26#32
  ![v29763.toNat, v29764.toNat, 26]
def k0_off1851 (i : grid0.Coords) : Fin 3 → Nat :=
  let arg0 : BitVec 32 := BitVec.ofNat 32 (i 0).val
  let v29766 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29767 : Index := Scalar.indexCast v28943
  let c33_12551 : Index := 33#32
  ![v29766.toNat, v29767.toNat, 33]
def k0_off1852 (i : grid0.Coords) : Fin 3 → Nat :=
  let arg0 : BitVec 32 := BitVec.ofNat 32 (i 0).val
  let v29769 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29770 : Index := Scalar.indexCast v28943
  let c40_12552 : Index := 40#32
  ![v29769.toNat, v29770.toNat, 40]
def k0_off1853 (i : grid0.Coords) : Fin 3 → Nat :=
  let arg0 : BitVec 32 := BitVec.ofNat 32 (i 0).val
  let v29772 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29773 : Index := Scalar.indexCast v28943
  let c47_12553 : Index := 47#32
  ![v29772.toNat, v29773.toNat, 47]
def k0_off1854 (v29765 : BitVec 32) : Fin 3 → Nat :=
  let c735_i32_12558 : BitVec 32 := 735#32
  let v29797 : BitVec 32 := Scalar.addi c735_i32_12558 v29765
  let v29798 : Index := Scalar.indexCast v29797
  let c0_12559 : Index := 0#32
  let c0_12560 : Index := 0#32
  ![v29798.toNat, 0, 0]

def k0_off1855 (v29768 : BitVec 32) (c735_i32_12562 : BitVec 32) : Fin 3 → Nat :=
  let v29805 : BitVec 32 := Scalar.addi c735_i32_12562 v29768
  let v29806 : Index := Scalar.indexCast v29805
  let c0_12563 : Index := 0#32
  let c0_12564 : Index := 0#32
  ![v29806.toNat, 0, 0]

def k0_chk634 (v29768 : BitVec 32) : Prop :=
  (∀ (r : Fin 7), ∀ a, (k0_off1855 v29768 (BitVec.ofNat 32 (735 + 5 * r.val))) a + S1x8x128.size a ≤ S1120x8x128.size a)
theorem k0_off1855_inb : ∀ (v29768 : BitVec 32) (k0_hw634 : k0_chk634 v29768), ∀ (r : Fin 7), ∀ a, (k0_off1855 v29768 (BitVec.ofNat 32 (735 + 5 * r.val))) a + S1x8x128.size a ≤ S1120x8x128.size a := fun v29768 k0_hw634 r => k0_hw634 r

def k0_off1856 (v29765 : BitVec 32) (c740_i32_12567 : BitVec 32) : Fin 3 → Nat :=
  let v29815 : BitVec 32 := Scalar.addi c740_i32_12567 v29765
  let v29816 : Index := Scalar.indexCast v29815
  let c0_12568 : Index := 0#32
  let c0_12569 : Index := 0#32
  ![v29816.toNat, 0, 0]

def k0_chk633 (v29765 : BitVec 32) : Prop :=
  (∀ a, (k0_off1854 v29765) a + S1x8x128.size a ≤ S1120x8x128.size a) ∧
  (∀ (r : Fin 6), ∀ a, (k0_off1856 v29765 (BitVec.ofNat 32 (740 + 5 * r.val))) a + S1x8x128.size a ≤ S1120x8x128.size a)
theorem k0_off1854_inb : ∀ (v29765 : BitVec 32) (k0_hw633 : k0_chk633 v29765), ∀ a, (k0_off1854 v29765) a + S1x8x128.size a ≤ S1120x8x128.size a := fun v29765 k0_hw633 => k0_hw633.1
theorem k0_off1856_inb : ∀ (v29765 : BitVec 32) (k0_hw633 : k0_chk633 v29765), ∀ (r : Fin 6), ∀ a, (k0_off1856 v29765 (BitVec.ofNat 32 (740 + 5 * r.val))) a + S1x8x128.size a ≤ S1120x8x128.size a := fun v29765 k0_hw633 r => k0_hw633.2 r

def k0_off1857 (i : grid0.Coords) : Fin 3 → Nat :=
  let arg0 : BitVec 32 := BitVec.ofNat 32 (i 0).val
  let v29923 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29924 : Index := Scalar.indexCast v28943
  let c27_12621 : Index := 27#32
  ![v29923.toNat, v29924.toNat, 27]
def k0_off1858 (i : grid0.Coords) : Fin 3 → Nat :=
  let arg0 : BitVec 32 := BitVec.ofNat 32 (i 0).val
  let v29926 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29927 : Index := Scalar.indexCast v28943
  let c34_12622 : Index := 34#32
  ![v29926.toNat, v29927.toNat, 34]
def k0_off1859 (i : grid0.Coords) : Fin 3 → Nat :=
  let arg0 : BitVec 32 := BitVec.ofNat 32 (i 0).val
  let v29929 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29930 : Index := Scalar.indexCast v28943
  let c41_12623 : Index := 41#32
  ![v29929.toNat, v29930.toNat, 41]
def k0_off1860 (i : grid0.Coords) : Fin 3 → Nat :=
  let arg0 : BitVec 32 := BitVec.ofNat 32 (i 0).val
  let v29932 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v29933 : Index := Scalar.indexCast v28943
  let c48_12624 : Index := 48#32
  ![v29932.toNat, v29933.toNat, 48]
def k0_off1861 (v29925 : BitVec 32) : Fin 3 → Nat :=
  let c735_i32_12629 : BitVec 32 := 735#32
  let v29957 : BitVec 32 := Scalar.addi c735_i32_12629 v29925
  let v29958 : Index := Scalar.indexCast v29957
  let c0_12630 : Index := 0#32
  let c0_12631 : Index := 0#32
  ![v29958.toNat, 0, 0]

def k0_off1862 (v29928 : BitVec 32) (c735_i32_12633 : BitVec 32) : Fin 3 → Nat :=
  let v29965 : BitVec 32 := Scalar.addi c735_i32_12633 v29928
  let v29966 : Index := Scalar.indexCast v29965
  let c0_12634 : Index := 0#32
  let c0_12635 : Index := 0#32
  ![v29966.toNat, 0, 0]

def k0_chk636 (v29928 : BitVec 32) : Prop :=
  (∀ (r : Fin 7), ∀ a, (k0_off1862 v29928 (BitVec.ofNat 32 (735 + 5 * r.val))) a + S1x8x128.size a ≤ S1120x8x128.size a)
theorem k0_off1862_inb : ∀ (v29928 : BitVec 32) (k0_hw636 : k0_chk636 v29928), ∀ (r : Fin 7), ∀ a, (k0_off1862 v29928 (BitVec.ofNat 32 (735 + 5 * r.val))) a + S1x8x128.size a ≤ S1120x8x128.size a := fun v29928 k0_hw636 r => k0_hw636 r

def k0_off1863 (v29925 : BitVec 32) (c740_i32_12638 : BitVec 32) : Fin 3 → Nat :=
  let v29975 : BitVec 32 := Scalar.addi c740_i32_12638 v29925
  let v29976 : Index := Scalar.indexCast v29975
  let c0_12639 : Index := 0#32
  let c0_12640 : Index := 0#32
  ![v29976.toNat, 0, 0]

def k0_chk635 (v29925 : BitVec 32) : Prop :=
  (∀ a, (k0_off1861 v29925) a + S1x8x128.size a ≤ S1120x8x128.size a) ∧
  (∀ (r : Fin 6), ∀ a, (k0_off1863 v29925 (BitVec.ofNat 32 (740 + 5 * r.val))) a + S1x8x128.size a ≤ S1120x8x128.size a)
theorem k0_off1861_inb : ∀ (v29925 : BitVec 32) (k0_hw635 : k0_chk635 v29925), ∀ a, (k0_off1861 v29925) a + S1x8x128.size a ≤ S1120x8x128.size a := fun v29925 k0_hw635 => k0_hw635.1
theorem k0_off1863_inb : ∀ (v29925 : BitVec 32) (k0_hw635 : k0_chk635 v29925), ∀ (r : Fin 6), ∀ a, (k0_off1863 v29925 (BitVec.ofNat 32 (740 + 5 * r.val))) a + S1x8x128.size a ≤ S1120x8x128.size a := fun v29925 k0_hw635 r => k0_hw635.2 r

def k0_off1864 (i : grid0.Coords) : Fin 3 → Nat :=
  let arg0 : BitVec 32 := BitVec.ofNat 32 (i 0).val
  let v30083 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v30084 : Index := Scalar.indexCast v28943
  let c28_12692 : Index := 28#32
  ![v30083.toNat, v30084.toNat, 28]
def k0_off1865 (i : grid0.Coords) : Fin 3 → Nat :=
  let arg0 : BitVec 32 := BitVec.ofNat 32 (i 0).val
  let v30086 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v30087 : Index := Scalar.indexCast v28943
  let c35_12693 : Index := 35#32
  ![v30086.toNat, v30087.toNat, 35]
def k0_off1866 (i : grid0.Coords) : Fin 3 → Nat :=
  let arg0 : BitVec 32 := BitVec.ofNat 32 (i 0).val
  let v30089 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v30090 : Index := Scalar.indexCast v28943
  let c42_12694 : Index := 42#32
  ![v30089.toNat, v30090.toNat, 42]
def k0_off1867 (i : grid0.Coords) : Fin 3 → Nat :=
  let arg0 : BitVec 32 := BitVec.ofNat 32 (i 0).val
  let v30092 : Index := Scalar.indexCast arg0
  let arg1 : BitVec 32 := BitVec.ofNat 32 (i 1).val
  let c32_i32_12208 : BitVec 32 := 32#32
  let v28942 : BitVec 32 := Scalar.muli arg1 c32_i32_12208
  let c21_i32 : BitVec 32 := 21#32
  let v28943 : BitVec 32 := Scalar.addi v28942 c21_i32
  let v30093 : Index := Scalar.indexCast v28943
  let c49_12695 : Index := 49#32
  ![v30092.toNat, v30093.toNat, 49]
def k0_off1868 (v30085 : BitVec 32) : Fin 3 → Nat :=
  let c735_i32_12700 : BitVec 32 := 735#32
  let v30117 : BitVec 32 := Scalar.addi c735_i32_12700 v30085
  let v30118 : Index := Scalar.indexCast v30117
  let c0_12701 : Index := 0#32
  let c0_12702 : Index := 0#32
  ![v30118.toNat, 0, 0]

def k0_off1869 (v30088 : BitVec 32) (c735_i32_12704 : BitVec 32) : Fin 3 → Nat :=
  let v30125 : BitVec 32 := Scalar.addi c735_i32_12704 v30088
  let v30126 : Index := Scalar.indexCast v30125
  let c0_12705 : Index := 0#32
  let c0_12706 : Index := 0#32
  ![v30126.toNat, 0, 0]

def k0_chk638 (v30088 : BitVec 32) : Prop :=
  (∀ (r : Fin 7), ∀ a, (k0_off1869 v30088 (BitVec.ofNat 32 (735 + 5 * r.val))) a + S1x8x128.size a ≤ S1120x8x128.size a)
theorem k0_off1869_inb : ∀ (v30088 : BitVec 32) (k0_hw638 : k0_chk638 v30088), ∀ (r : Fin 7), ∀ a, (k0_off1869 v30088 (BitVec.ofNat 32 (735 + 5 * r.val))) a + S1x8x128.size a ≤ S1120x8x128.size a := fun v30088 k0_hw638 r => k0_hw638 r

def k0_off1870 (v30085 : BitVec 32) (c740_i32_12709 : BitVec 32) : Fin 3 → Nat :=
  let v30135 : BitVec 32 := Scalar.addi c740_i32_12709 v30085
  let v30136 : Index := Scalar.indexCast v30135
  let c0_12710 : Index := 0#32
  let c0_12711 : Index := 0#32
  ![v30136.toNat, 0, 0]

def k0_chk637 (v30085 : BitVec 32) : Prop :=
  (∀ a, (k0_off1868 v30085) a + S1x8x128.size a ≤ S1120x8x128.size a) ∧
  (∀ (r : Fin 6), ∀ a, (k0_off1870 v30085 (BitVec.ofNat 32 (740 + 5 * r.val))) a + S1x8x128.size a ≤ S1120x8x128.size a)
theorem k0_off1868_inb : ∀ (v30085 : BitVec 32) (k0_hw637 : k0_chk637 v30085), ∀ a, (k0_off1868 v30085) a + S1x8x128.size a ≤ S1120x8x128.size a := fun v30085 k0_hw637 => k0_hw637.1
theorem k0_off1870_inb : ∀ (v30085 : BitVec 32) (k0_hw637 : k0_chk637 v30085), ∀ (r : Fin 6), ∀ a, (k0_off1870 v30085 (BitVec.ofNat 32 (740 + 5 * r.val))) a + S1x8x128.size a ≤ S1120x8x128.size a := fun v30085 k0_hw637 r => k0_hw637.2 r

def k0_off1871 (i : grid0.Coords) : Fin 3 → Nat :=
  let arg0 : BitVec 32 := BitVec.ofNat 32 (i 0).val
  let v30322 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30323 : Index := Scalar.indexCast v30321
  let c0_12792 : Index := 0#32
  ![v30322.toNat, v30323.toNat, 0]
def k0_mult23 (v30324 : BitVec 32) : BitVec 32 :=
  v30324

def k0_chk639 (v30324 : BitVec 32) : Prop :=
  (8 ∣ (k0_mult23 v30324).toNat)
theorem k0_mult23_dvd : ∀ (v30324 : BitVec 32) (k0_hw639 : k0_chk639 v30324), 8 ∣ (k0_mult23 v30324).toNat := fun v30324 k0_hw639 => k0_hw639

def k0_off1872 (i : grid0.Coords) : Fin 3 → Nat :=
  let arg0 : BitVec 32 := BitVec.ofNat 32 (i 0).val
  let v30326 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30327 : Index := Scalar.indexCast v30321
  let c1_12793 : Index := 1#32
  ![v30326.toNat, v30327.toNat, 1]
def k0_off1873 (v30324 : BitVec 32) (v30328 : BitVec 32) : Fin 3 → Nat :=
  let v30329 : Index := Scalar.indexCast v30328
  let v30325 : BitVec 32 := v30324
  let v30330 : Index := Scalar.indexCast v30325
  let c0_12794 : Index := 0#32
  ![v30329.toNat, v30330.toNat, 0]

def k0_chk640 (v30324 : BitVec 32) (v30328 : BitVec 32) : Prop :=
  (∀ a, (k0_off1873 v30324 v30328) a + S1x40x128.size a ≤ S256x64x128.size a)
theorem k0_off1873_inb : ∀ (v30324 : BitVec 32) (v30328 : BitVec 32) (k0_hw640 : k0_chk640 v30324 v30328), ∀ a, (k0_off1873 v30324 v30328) a + S1x40x128.size a ≤ S256x64x128.size a := fun v30324 v30328 k0_hw640 => k0_hw640

def k0_off1874 (i : grid0.Coords) : Fin 3 → Nat :=
  let arg0 : BitVec 32 := BitVec.ofNat 32 (i 0).val
  let v30333 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30334 : Index := Scalar.indexCast v30321
  let c8_12795 : Index := 8#32
  ![v30333.toNat, v30334.toNat, 8]
def k0_off1875 (v30324 : BitVec 32) (v30335 : BitVec 32) : Fin 3 → Nat :=
  let v30336 : Index := Scalar.indexCast v30335
  let v30325 : BitVec 32 := v30324
  let v30337 : Index := Scalar.indexCast v30325
  let c0_12796 : Index := 0#32
  ![v30336.toNat, v30337.toNat, 0]

def k0_chk641 (v30324 : BitVec 32) (v30335 : BitVec 32) : Prop :=
  (∀ a, (k0_off1875 v30324 v30335) a + S1x40x128.size a ≤ S256x64x128.size a)
theorem k0_off1875_inb : ∀ (v30324 : BitVec 32) (v30335 : BitVec 32) (k0_hw641 : k0_chk641 v30324 v30335), ∀ a, (k0_off1875 v30324 v30335) a + S1x40x128.size a ≤ S256x64x128.size a := fun v30324 v30335 k0_hw641 => k0_hw641

def k0_off1876 (i : grid0.Coords) : Fin 3 → Nat :=
  let arg0 : BitVec 32 := BitVec.ofNat 32 (i 0).val
  let v30341 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30342 : Index := Scalar.indexCast v30321
  let c15_12797 : Index := 15#32
  ![v30341.toNat, v30342.toNat, 15]
def k0_off1877 (i : grid0.Coords) : Fin 3 → Nat :=
  let arg0 : BitVec 32 := BitVec.ofNat 32 (i 0).val
  let v30351 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30352 : Index := Scalar.indexCast v30321
  let c2_12802 : Index := 2#32
  ![v30351.toNat, v30352.toNat, 2]
def k0_off1878 (v30324 : BitVec 32) (v30353 : BitVec 32) : Fin 3 → Nat :=
  let v30354 : Index := Scalar.indexCast v30353
  let v30325 : BitVec 32 := v30324
  let v30355 : Index := Scalar.indexCast v30325
  let c0_12803 : Index := 0#32
  ![v30354.toNat, v30355.toNat, 0]

def k0_chk642 (v30324 : BitVec 32) (v30353 : BitVec 32) : Prop :=
  (∀ a, (k0_off1878 v30324 v30353) a + S1x40x128.size a ≤ S256x64x128.size a)
theorem k0_off1878_inb : ∀ (v30324 : BitVec 32) (v30353 : BitVec 32) (k0_hw642 : k0_chk642 v30324 v30353), ∀ a, (k0_off1878 v30324 v30353) a + S1x40x128.size a ≤ S256x64x128.size a := fun v30324 v30353 k0_hw642 => k0_hw642

def k0_off1879 (i : grid0.Coords) : Fin 3 → Nat :=
  let arg0 : BitVec 32 := BitVec.ofNat 32 (i 0).val
  let v30358 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30359 : Index := Scalar.indexCast v30321
  let c9_12804 : Index := 9#32
  ![v30358.toNat, v30359.toNat, 9]
def k0_off1880 (v30324 : BitVec 32) (v30360 : BitVec 32) : Fin 3 → Nat :=
  let v30361 : Index := Scalar.indexCast v30360
  let v30325 : BitVec 32 := v30324
  let v30362 : Index := Scalar.indexCast v30325
  let c0_12805 : Index := 0#32
  ![v30361.toNat, v30362.toNat, 0]

def k0_chk643 (v30324 : BitVec 32) (v30360 : BitVec 32) : Prop :=
  (∀ a, (k0_off1880 v30324 v30360) a + S1x40x128.size a ≤ S256x64x128.size a)
theorem k0_off1880_inb : ∀ (v30324 : BitVec 32) (v30360 : BitVec 32) (k0_hw643 : k0_chk643 v30324 v30360), ∀ a, (k0_off1880 v30324 v30360) a + S1x40x128.size a ≤ S256x64x128.size a := fun v30324 v30360 k0_hw643 => k0_hw643

def k0_off1881 (i : grid0.Coords) : Fin 3 → Nat :=
  let arg0 : BitVec 32 := BitVec.ofNat 32 (i 0).val
  let v30366 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30367 : Index := Scalar.indexCast v30321
  let c16_12806 : Index := 16#32
  ![v30366.toNat, v30367.toNat, 16]
def k0_off1882 (i : grid0.Coords) : Fin 3 → Nat :=
  let arg0 : BitVec 32 := BitVec.ofNat 32 (i 0).val
  let v30376 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30377 : Index := Scalar.indexCast v30321
  let c3_12811 : Index := 3#32
  ![v30376.toNat, v30377.toNat, 3]
def k0_off1883 (v30324 : BitVec 32) (v30378 : BitVec 32) : Fin 3 → Nat :=
  let v30379 : Index := Scalar.indexCast v30378
  let v30325 : BitVec 32 := v30324
  let v30380 : Index := Scalar.indexCast v30325
  let c0_12812 : Index := 0#32
  ![v30379.toNat, v30380.toNat, 0]

def k0_chk644 (v30324 : BitVec 32) (v30378 : BitVec 32) : Prop :=
  (∀ a, (k0_off1883 v30324 v30378) a + S1x40x128.size a ≤ S256x64x128.size a)
theorem k0_off1883_inb : ∀ (v30324 : BitVec 32) (v30378 : BitVec 32) (k0_hw644 : k0_chk644 v30324 v30378), ∀ a, (k0_off1883 v30324 v30378) a + S1x40x128.size a ≤ S256x64x128.size a := fun v30324 v30378 k0_hw644 => k0_hw644

def k0_off1884 (i : grid0.Coords) : Fin 3 → Nat :=
  let arg0 : BitVec 32 := BitVec.ofNat 32 (i 0).val
  let v30383 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30384 : Index := Scalar.indexCast v30321
  let c10_12813 : Index := 10#32
  ![v30383.toNat, v30384.toNat, 10]
def k0_off1885 (v30324 : BitVec 32) (v30385 : BitVec 32) : Fin 3 → Nat :=
  let v30386 : Index := Scalar.indexCast v30385
  let v30325 : BitVec 32 := v30324
  let v30387 : Index := Scalar.indexCast v30325
  let c0_12814 : Index := 0#32
  ![v30386.toNat, v30387.toNat, 0]

def k0_chk645 (v30324 : BitVec 32) (v30385 : BitVec 32) : Prop :=
  (∀ a, (k0_off1885 v30324 v30385) a + S1x40x128.size a ≤ S256x64x128.size a)
theorem k0_off1885_inb : ∀ (v30324 : BitVec 32) (v30385 : BitVec 32) (k0_hw645 : k0_chk645 v30324 v30385), ∀ a, (k0_off1885 v30324 v30385) a + S1x40x128.size a ≤ S256x64x128.size a := fun v30324 v30385 k0_hw645 => k0_hw645

def k0_off1886 (i : grid0.Coords) : Fin 3 → Nat :=
  let arg0 : BitVec 32 := BitVec.ofNat 32 (i 0).val
  let v30391 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30392 : Index := Scalar.indexCast v30321
  let c17_12815 : Index := 17#32
  ![v30391.toNat, v30392.toNat, 17]
def k0_off1887 (i : grid0.Coords) : Fin 3 → Nat :=
  let arg0 : BitVec 32 := BitVec.ofNat 32 (i 0).val
  let v30401 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30402 : Index := Scalar.indexCast v30321
  let c4_12820 : Index := 4#32
  ![v30401.toNat, v30402.toNat, 4]
def k0_off1888 (v30324 : BitVec 32) (v30403 : BitVec 32) : Fin 3 → Nat :=
  let v30404 : Index := Scalar.indexCast v30403
  let v30325 : BitVec 32 := v30324
  let v30405 : Index := Scalar.indexCast v30325
  let c0_12821 : Index := 0#32
  ![v30404.toNat, v30405.toNat, 0]

def k0_chk646 (v30324 : BitVec 32) (v30403 : BitVec 32) : Prop :=
  (∀ a, (k0_off1888 v30324 v30403) a + S1x40x128.size a ≤ S256x64x128.size a)
theorem k0_off1888_inb : ∀ (v30324 : BitVec 32) (v30403 : BitVec 32) (k0_hw646 : k0_chk646 v30324 v30403), ∀ a, (k0_off1888 v30324 v30403) a + S1x40x128.size a ≤ S256x64x128.size a := fun v30324 v30403 k0_hw646 => k0_hw646

def k0_off1889 (i : grid0.Coords) : Fin 3 → Nat :=
  let arg0 : BitVec 32 := BitVec.ofNat 32 (i 0).val
  let v30408 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30409 : Index := Scalar.indexCast v30321
  let c11_12822 : Index := 11#32
  ![v30408.toNat, v30409.toNat, 11]
def k0_off1890 (v30324 : BitVec 32) (v30410 : BitVec 32) : Fin 3 → Nat :=
  let v30411 : Index := Scalar.indexCast v30410
  let v30325 : BitVec 32 := v30324
  let v30412 : Index := Scalar.indexCast v30325
  let c0_12823 : Index := 0#32
  ![v30411.toNat, v30412.toNat, 0]

def k0_chk647 (v30324 : BitVec 32) (v30410 : BitVec 32) : Prop :=
  (∀ a, (k0_off1890 v30324 v30410) a + S1x40x128.size a ≤ S256x64x128.size a)
theorem k0_off1890_inb : ∀ (v30324 : BitVec 32) (v30410 : BitVec 32) (k0_hw647 : k0_chk647 v30324 v30410), ∀ a, (k0_off1890 v30324 v30410) a + S1x40x128.size a ≤ S256x64x128.size a := fun v30324 v30410 k0_hw647 => k0_hw647

def k0_off1891 (i : grid0.Coords) : Fin 3 → Nat :=
  let arg0 : BitVec 32 := BitVec.ofNat 32 (i 0).val
  let v30416 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30417 : Index := Scalar.indexCast v30321
  let c18_12824 : Index := 18#32
  ![v30416.toNat, v30417.toNat, 18]
def k0_off1892 (i : grid0.Coords) : Fin 3 → Nat :=
  let arg0 : BitVec 32 := BitVec.ofNat 32 (i 0).val
  let v30426 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30427 : Index := Scalar.indexCast v30321
  let c5_12829 : Index := 5#32
  ![v30426.toNat, v30427.toNat, 5]
def k0_off1893 (v30324 : BitVec 32) (v30428 : BitVec 32) : Fin 3 → Nat :=
  let v30429 : Index := Scalar.indexCast v30428
  let v30325 : BitVec 32 := v30324
  let v30430 : Index := Scalar.indexCast v30325
  let c0_12830 : Index := 0#32
  ![v30429.toNat, v30430.toNat, 0]

def k0_chk648 (v30324 : BitVec 32) (v30428 : BitVec 32) : Prop :=
  (∀ a, (k0_off1893 v30324 v30428) a + S1x40x128.size a ≤ S256x64x128.size a)
theorem k0_off1893_inb : ∀ (v30324 : BitVec 32) (v30428 : BitVec 32) (k0_hw648 : k0_chk648 v30324 v30428), ∀ a, (k0_off1893 v30324 v30428) a + S1x40x128.size a ≤ S256x64x128.size a := fun v30324 v30428 k0_hw648 => k0_hw648

def k0_off1894 (i : grid0.Coords) : Fin 3 → Nat :=
  let arg0 : BitVec 32 := BitVec.ofNat 32 (i 0).val
  let v30433 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30434 : Index := Scalar.indexCast v30321
  let c12_12831 : Index := 12#32
  ![v30433.toNat, v30434.toNat, 12]
def k0_off1895 (v30324 : BitVec 32) (v30435 : BitVec 32) : Fin 3 → Nat :=
  let v30436 : Index := Scalar.indexCast v30435
  let v30325 : BitVec 32 := v30324
  let v30437 : Index := Scalar.indexCast v30325
  let c0_12832 : Index := 0#32
  ![v30436.toNat, v30437.toNat, 0]

def k0_chk649 (v30324 : BitVec 32) (v30435 : BitVec 32) : Prop :=
  (∀ a, (k0_off1895 v30324 v30435) a + S1x40x128.size a ≤ S256x64x128.size a)
theorem k0_off1895_inb : ∀ (v30324 : BitVec 32) (v30435 : BitVec 32) (k0_hw649 : k0_chk649 v30324 v30435), ∀ a, (k0_off1895 v30324 v30435) a + S1x40x128.size a ≤ S256x64x128.size a := fun v30324 v30435 k0_hw649 => k0_hw649

def k0_off1896 (i : grid0.Coords) : Fin 3 → Nat :=
  let arg0 : BitVec 32 := BitVec.ofNat 32 (i 0).val
  let v30441 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30442 : Index := Scalar.indexCast v30321
  let c19_12833 : Index := 19#32
  ![v30441.toNat, v30442.toNat, 19]
def k0_off1897 (i : grid0.Coords) : Fin 3 → Nat :=
  let arg0 : BitVec 32 := BitVec.ofNat 32 (i 0).val
  let v30451 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30452 : Index := Scalar.indexCast v30321
  let c6_12838 : Index := 6#32
  ![v30451.toNat, v30452.toNat, 6]
def k0_off1898 (v30324 : BitVec 32) (v30453 : BitVec 32) : Fin 3 → Nat :=
  let v30454 : Index := Scalar.indexCast v30453
  let v30325 : BitVec 32 := v30324
  let v30455 : Index := Scalar.indexCast v30325
  let c0_12839 : Index := 0#32
  ![v30454.toNat, v30455.toNat, 0]

def k0_chk650 (v30324 : BitVec 32) (v30453 : BitVec 32) : Prop :=
  (∀ a, (k0_off1898 v30324 v30453) a + S1x40x128.size a ≤ S256x64x128.size a)
theorem k0_off1898_inb : ∀ (v30324 : BitVec 32) (v30453 : BitVec 32) (k0_hw650 : k0_chk650 v30324 v30453), ∀ a, (k0_off1898 v30324 v30453) a + S1x40x128.size a ≤ S256x64x128.size a := fun v30324 v30453 k0_hw650 => k0_hw650

def k0_off1899 (i : grid0.Coords) : Fin 3 → Nat :=
  let arg0 : BitVec 32 := BitVec.ofNat 32 (i 0).val
  let v30458 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30459 : Index := Scalar.indexCast v30321
  let c13_12840 : Index := 13#32
  ![v30458.toNat, v30459.toNat, 13]
def k0_off1900 (v30324 : BitVec 32) (v30460 : BitVec 32) : Fin 3 → Nat :=
  let v30461 : Index := Scalar.indexCast v30460
  let v30325 : BitVec 32 := v30324
  let v30462 : Index := Scalar.indexCast v30325
  let c0_12841 : Index := 0#32
  ![v30461.toNat, v30462.toNat, 0]

def k0_chk651 (v30324 : BitVec 32) (v30460 : BitVec 32) : Prop :=
  (∀ a, (k0_off1900 v30324 v30460) a + S1x40x128.size a ≤ S256x64x128.size a)
theorem k0_off1900_inb : ∀ (v30324 : BitVec 32) (v30460 : BitVec 32) (k0_hw651 : k0_chk651 v30324 v30460), ∀ a, (k0_off1900 v30324 v30460) a + S1x40x128.size a ≤ S256x64x128.size a := fun v30324 v30460 k0_hw651 => k0_hw651

def k0_off1901 (i : grid0.Coords) : Fin 3 → Nat :=
  let arg0 : BitVec 32 := BitVec.ofNat 32 (i 0).val
  let v30466 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30467 : Index := Scalar.indexCast v30321
  let c20_12842 : Index := 20#32
  ![v30466.toNat, v30467.toNat, 20]
def k0_off1902 (i : grid0.Coords) : Fin 3 → Nat :=
  let arg0 : BitVec 32 := BitVec.ofNat 32 (i 0).val
  let v30476 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30477 : Index := Scalar.indexCast v30321
  let c7_12847 : Index := 7#32
  ![v30476.toNat, v30477.toNat, 7]
def k0_off1903 (v30324 : BitVec 32) (v30478 : BitVec 32) : Fin 3 → Nat :=
  let v30479 : Index := Scalar.indexCast v30478
  let v30325 : BitVec 32 := v30324
  let v30480 : Index := Scalar.indexCast v30325
  let c0_12848 : Index := 0#32
  ![v30479.toNat, v30480.toNat, 0]

def k0_chk652 (v30324 : BitVec 32) (v30478 : BitVec 32) : Prop :=
  (∀ a, (k0_off1903 v30324 v30478) a + S1x40x128.size a ≤ S256x64x128.size a)
theorem k0_off1903_inb : ∀ (v30324 : BitVec 32) (v30478 : BitVec 32) (k0_hw652 : k0_chk652 v30324 v30478), ∀ a, (k0_off1903 v30324 v30478) a + S1x40x128.size a ≤ S256x64x128.size a := fun v30324 v30478 k0_hw652 => k0_hw652

def k0_off1904 (i : grid0.Coords) : Fin 3 → Nat :=
  let arg0 : BitVec 32 := BitVec.ofNat 32 (i 0).val
  let v30483 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30484 : Index := Scalar.indexCast v30321
  let c14_12849 : Index := 14#32
  ![v30483.toNat, v30484.toNat, 14]
def k0_off1905 (v30324 : BitVec 32) (v30485 : BitVec 32) : Fin 3 → Nat :=
  let v30486 : Index := Scalar.indexCast v30485
  let v30325 : BitVec 32 := v30324
  let v30487 : Index := Scalar.indexCast v30325
  let c0_12850 : Index := 0#32
  ![v30486.toNat, v30487.toNat, 0]

def k0_chk653 (v30324 : BitVec 32) (v30485 : BitVec 32) : Prop :=
  (∀ a, (k0_off1905 v30324 v30485) a + S1x40x128.size a ≤ S256x64x128.size a)
theorem k0_off1905_inb : ∀ (v30324 : BitVec 32) (v30485 : BitVec 32) (k0_hw653 : k0_chk653 v30324 v30485), ∀ a, (k0_off1905 v30324 v30485) a + S1x40x128.size a ≤ S256x64x128.size a := fun v30324 v30485 k0_hw653 => k0_hw653

def k0_off1906 (i : grid0.Coords) : Fin 3 → Nat :=
  let arg0 : BitVec 32 := BitVec.ofNat 32 (i 0).val
  let v30491 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30492 : Index := Scalar.indexCast v30321
  let c21_12851 : Index := 21#32
  ![v30491.toNat, v30492.toNat, 21]
def k0_off1907 (i : grid0.Coords) : Fin 3 → Nat :=
  let arg0 : BitVec 32 := BitVec.ofNat 32 (i 0).val
  let v30501 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30502 : Index := Scalar.indexCast v30321
  let c22_12856 : Index := 22#32
  ![v30501.toNat, v30502.toNat, 22]
def k0_off1908 (i : grid0.Coords) : Fin 3 → Nat :=
  let arg0 : BitVec 32 := BitVec.ofNat 32 (i 0).val
  let v30504 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30505 : Index := Scalar.indexCast v30321
  let c29_12857 : Index := 29#32
  ![v30504.toNat, v30505.toNat, 29]
def k0_off1909 (i : grid0.Coords) : Fin 3 → Nat :=
  let arg0 : BitVec 32 := BitVec.ofNat 32 (i 0).val
  let v30507 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30508 : Index := Scalar.indexCast v30321
  let c36_12858 : Index := 36#32
  ![v30507.toNat, v30508.toNat, 36]
def k0_off1910 (i : grid0.Coords) : Fin 3 → Nat :=
  let arg0 : BitVec 32 := BitVec.ofNat 32 (i 0).val
  let v30510 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30511 : Index := Scalar.indexCast v30321
  let c43_12859 : Index := 43#32
  ![v30510.toNat, v30511.toNat, 43]
def k0_off1911 (v30503 : BitVec 32) : Fin 3 → Nat :=
  let c770_i32 : BitVec 32 := 770#32
  let v30535 : BitVec 32 := Scalar.addi c770_i32 v30503
  let v30536 : Index := Scalar.indexCast v30535
  let c0_12864 : Index := 0#32
  let c0_12865 : Index := 0#32
  ![v30536.toNat, 0, 0]

def k0_off1912 (v30506 : BitVec 32) (c770_i32_12867 : BitVec 32) : Fin 3 → Nat :=
  let v30543 : BitVec 32 := Scalar.addi c770_i32_12867 v30506
  let v30544 : Index := Scalar.indexCast v30543
  let c0_12868 : Index := 0#32
  let c0_12869 : Index := 0#32
  ![v30544.toNat, 0, 0]

def k0_chk655 (v30506 : BitVec 32) : Prop :=
  (∀ (r : Fin 7), ∀ a, (k0_off1912 v30506 (BitVec.ofNat 32 (770 + 5 * r.val))) a + S1x8x128.size a ≤ S1120x8x128.size a)
theorem k0_off1912_inb : ∀ (v30506 : BitVec 32) (k0_hw655 : k0_chk655 v30506), ∀ (r : Fin 7), ∀ a, (k0_off1912 v30506 (BitVec.ofNat 32 (770 + 5 * r.val))) a + S1x8x128.size a ≤ S1120x8x128.size a := fun v30506 k0_hw655 r => k0_hw655 r

def k0_off1913 (v30503 : BitVec 32) (c775_i32 : BitVec 32) : Fin 3 → Nat :=
  let v30553 : BitVec 32 := Scalar.addi c775_i32 v30503
  let v30554 : Index := Scalar.indexCast v30553
  let c0_12872 : Index := 0#32
  let c0_12873 : Index := 0#32
  ![v30554.toNat, 0, 0]

def k0_chk654 (v30503 : BitVec 32) : Prop :=
  (∀ a, (k0_off1911 v30503) a + S1x8x128.size a ≤ S1120x8x128.size a) ∧
  (∀ (r : Fin 6), ∀ a, (k0_off1913 v30503 (BitVec.ofNat 32 (775 + 5 * r.val))) a + S1x8x128.size a ≤ S1120x8x128.size a)
theorem k0_off1911_inb : ∀ (v30503 : BitVec 32) (k0_hw654 : k0_chk654 v30503), ∀ a, (k0_off1911 v30503) a + S1x8x128.size a ≤ S1120x8x128.size a := fun v30503 k0_hw654 => k0_hw654.1
theorem k0_off1913_inb : ∀ (v30503 : BitVec 32) (k0_hw654 : k0_chk654 v30503), ∀ (r : Fin 6), ∀ a, (k0_off1913 v30503 (BitVec.ofNat 32 (775 + 5 * r.val))) a + S1x8x128.size a ≤ S1120x8x128.size a := fun v30503 k0_hw654 r => k0_hw654.2 r

def k0_off1914 (i : grid0.Coords) : Fin 3 → Nat :=
  let arg0 : BitVec 32 := BitVec.ofNat 32 (i 0).val
  let v30661 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30662 : Index := Scalar.indexCast v30321
  let c23_12920 : Index := 23#32
  ![v30661.toNat, v30662.toNat, 23]
def k0_off1915 (i : grid0.Coords) : Fin 3 → Nat :=
  let arg0 : BitVec 32 := BitVec.ofNat 32 (i 0).val
  let v30664 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30665 : Index := Scalar.indexCast v30321
  let c30_12921 : Index := 30#32
  ![v30664.toNat, v30665.toNat, 30]
def k0_off1916 (i : grid0.Coords) : Fin 3 → Nat :=
  let arg0 : BitVec 32 := BitVec.ofNat 32 (i 0).val
  let v30667 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30668 : Index := Scalar.indexCast v30321
  let c37_12922 : Index := 37#32
  ![v30667.toNat, v30668.toNat, 37]
def k0_off1917 (i : grid0.Coords) : Fin 3 → Nat :=
  let arg0 : BitVec 32 := BitVec.ofNat 32 (i 0).val
  let v30670 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30671 : Index := Scalar.indexCast v30321
  let c44_12923 : Index := 44#32
  ![v30670.toNat, v30671.toNat, 44]
def k0_off1918 (v30663 : BitVec 32) : Fin 3 → Nat :=
  let c770_i32_12928 : BitVec 32 := 770#32
  let v30695 : BitVec 32 := Scalar.addi c770_i32_12928 v30663
  let v30696 : Index := Scalar.indexCast v30695
  let c0_12929 : Index := 0#32
  let c0_12930 : Index := 0#32
  ![v30696.toNat, 0, 0]

variable {F : FTy → Type} [FloatOps F]

def k0_off1919 (v30666 : BitVec 32) (c770_i32_12932 : BitVec 32) : Fin 3 → Nat :=
  let v30703 : BitVec 32 := Scalar.addi c770_i32_12932 v30666
  let v30704 : Index := Scalar.indexCast v30703
  let c0_12933 : Index := 0#32
  let c0_12934 : Index := 0#32
  ![v30704.toNat, 0, 0]

def k0_chk657 (v30666 : BitVec 32) : Prop :=
  (∀ (r : Fin 7), ∀ a, (k0_off1919 v30666 (BitVec.ofNat 32 (770 + 5 * r.val))) a + S1x8x128.size a ≤ S1120x8x128.size a)
theorem k0_off1919_inb : ∀ (v30666 : BitVec 32) (k0_hw657 : k0_chk657 v30666), ∀ (r : Fin 7), ∀ a, (k0_off1919 v30666 (BitVec.ofNat 32 (770 + 5 * r.val))) a + S1x8x128.size a ≤ S1120x8x128.size a := fun v30666 k0_hw657 r => k0_hw657 r

def k0_off1920 (v30663 : BitVec 32) (c775_i32_12937 : BitVec 32) : Fin 3 → Nat :=
  let v30713 : BitVec 32 := Scalar.addi c775_i32_12937 v30663
  let v30714 : Index := Scalar.indexCast v30713
  let c0_12938 : Index := 0#32
  let c0_12939 : Index := 0#32
  ![v30714.toNat, 0, 0]

def k0_chk656 (v30663 : BitVec 32) : Prop :=
  (∀ a, (k0_off1918 v30663) a + S1x8x128.size a ≤ S1120x8x128.size a) ∧
  (∀ (r : Fin 6), ∀ a, (k0_off1920 v30663 (BitVec.ofNat 32 (775 + 5 * r.val))) a + S1x8x128.size a ≤ S1120x8x128.size a)
theorem k0_off1918_inb : ∀ (v30663 : BitVec 32) (k0_hw656 : k0_chk656 v30663), ∀ a, (k0_off1918 v30663) a + S1x8x128.size a ≤ S1120x8x128.size a := fun v30663 k0_hw656 => k0_hw656.1
theorem k0_off1920_inb : ∀ (v30663 : BitVec 32) (k0_hw656 : k0_chk656 v30663), ∀ (r : Fin 6), ∀ a, (k0_off1920 v30663 (BitVec.ofNat 32 (775 + 5 * r.val))) a + S1x8x128.size a ≤ S1120x8x128.size a := fun v30663 k0_hw656 r => k0_hw656.2 r

def k0_off1921 (i : grid0.Coords) : Fin 3 → Nat :=
  let arg0 : BitVec 32 := BitVec.ofNat 32 (i 0).val
  let v30821 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30822 : Index := Scalar.indexCast v30321
  let c24_12991 : Index := 24#32
  ![v30821.toNat, v30822.toNat, 24]
def k0_off1922 (i : grid0.Coords) : Fin 3 → Nat :=
  let arg0 : BitVec 32 := BitVec.ofNat 32 (i 0).val
  let v30824 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30825 : Index := Scalar.indexCast v30321
  let c31_12992 : Index := 31#32
  ![v30824.toNat, v30825.toNat, 31]
def k0_off1923 (i : grid0.Coords) : Fin 3 → Nat :=
  let arg0 : BitVec 32 := BitVec.ofNat 32 (i 0).val
  let v30827 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30828 : Index := Scalar.indexCast v30321
  let c38_12993 : Index := 38#32
  ![v30827.toNat, v30828.toNat, 38]
def k0_off1924 (i : grid0.Coords) : Fin 3 → Nat :=
  let arg0 : BitVec 32 := BitVec.ofNat 32 (i 0).val
  let v30830 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30831 : Index := Scalar.indexCast v30321
  let c45_12994 : Index := 45#32
  ![v30830.toNat, v30831.toNat, 45]
def k0_off1925 (v30823 : BitVec 32) : Fin 3 → Nat :=
  let c770_i32_12999 : BitVec 32 := 770#32
  let v30855 : BitVec 32 := Scalar.addi c770_i32_12999 v30823
  let v30856 : Index := Scalar.indexCast v30855
  let c0_13000 : Index := 0#32
  let c0_13001 : Index := 0#32
  ![v30856.toNat, 0, 0]

def k0_off1926 (v30826 : BitVec 32) (c770_i32_13003 : BitVec 32) : Fin 3 → Nat :=
  let v30863 : BitVec 32 := Scalar.addi c770_i32_13003 v30826
  let v30864 : Index := Scalar.indexCast v30863
  let c0_13004 : Index := 0#32
  let c0_13005 : Index := 0#32
  ![v30864.toNat, 0, 0]

def k0_chk659 (v30826 : BitVec 32) : Prop :=
  (∀ (r : Fin 7), ∀ a, (k0_off1926 v30826 (BitVec.ofNat 32 (770 + 5 * r.val))) a + S1x8x128.size a ≤ S1120x8x128.size a)
theorem k0_off1926_inb : ∀ (v30826 : BitVec 32) (k0_hw659 : k0_chk659 v30826), ∀ (r : Fin 7), ∀ a, (k0_off1926 v30826 (BitVec.ofNat 32 (770 + 5 * r.val))) a + S1x8x128.size a ≤ S1120x8x128.size a := fun v30826 k0_hw659 r => k0_hw659 r

def k0_off1927 (v30823 : BitVec 32) (c775_i32_13008 : BitVec 32) : Fin 3 → Nat :=
  let v30873 : BitVec 32 := Scalar.addi c775_i32_13008 v30823
  let v30874 : Index := Scalar.indexCast v30873
  let c0_13009 : Index := 0#32
  let c0_13010 : Index := 0#32
  ![v30874.toNat, 0, 0]

def k0_chk658 (v30823 : BitVec 32) : Prop :=
  (∀ a, (k0_off1925 v30823) a + S1x8x128.size a ≤ S1120x8x128.size a) ∧
  (∀ (r : Fin 6), ∀ a, (k0_off1927 v30823 (BitVec.ofNat 32 (775 + 5 * r.val))) a + S1x8x128.size a ≤ S1120x8x128.size a)
theorem k0_off1925_inb : ∀ (v30823 : BitVec 32) (k0_hw658 : k0_chk658 v30823), ∀ a, (k0_off1925 v30823) a + S1x8x128.size a ≤ S1120x8x128.size a := fun v30823 k0_hw658 => k0_hw658.1
theorem k0_off1927_inb : ∀ (v30823 : BitVec 32) (k0_hw658 : k0_chk658 v30823), ∀ (r : Fin 6), ∀ a, (k0_off1927 v30823 (BitVec.ofNat 32 (775 + 5 * r.val))) a + S1x8x128.size a ≤ S1120x8x128.size a := fun v30823 k0_hw658 r => k0_hw658.2 r

def k0_off1928 (i : grid0.Coords) : Fin 3 → Nat :=
  let arg0 : BitVec 32 := BitVec.ofNat 32 (i 0).val
  let v30981 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30982 : Index := Scalar.indexCast v30321
  let c25_13062 : Index := 25#32
  ![v30981.toNat, v30982.toNat, 25]
def k0_off1929 (i : grid0.Coords) : Fin 3 → Nat :=
  let arg0 : BitVec 32 := BitVec.ofNat 32 (i 0).val
  let v30984 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30985 : Index := Scalar.indexCast v30321
  let c32_13063 : Index := 32#32
  ![v30984.toNat, v30985.toNat, 32]
def k0_off1930 (i : grid0.Coords) : Fin 3 → Nat :=
  let arg0 : BitVec 32 := BitVec.ofNat 32 (i 0).val
  let v30987 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30988 : Index := Scalar.indexCast v30321
  let c39_13064 : Index := 39#32
  ![v30987.toNat, v30988.toNat, 39]
def k0_off1931 (i : grid0.Coords) : Fin 3 → Nat :=
  let arg0 : BitVec 32 := BitVec.ofNat 32 (i 0).val
  let v30990 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v30991 : Index := Scalar.indexCast v30321
  let c46_13065 : Index := 46#32
  ![v30990.toNat, v30991.toNat, 46]
def k0_off1932 (v30983 : BitVec 32) : Fin 3 → Nat :=
  let c770_i32_13070 : BitVec 32 := 770#32
  let v31015 : BitVec 32 := Scalar.addi c770_i32_13070 v30983
  let v31016 : Index := Scalar.indexCast v31015
  let c0_13071 : Index := 0#32
  let c0_13072 : Index := 0#32
  ![v31016.toNat, 0, 0]

def k0_off1933 (v30986 : BitVec 32) (c770_i32_13074 : BitVec 32) : Fin 3 → Nat :=
  let v31023 : BitVec 32 := Scalar.addi c770_i32_13074 v30986
  let v31024 : Index := Scalar.indexCast v31023
  let c0_13075 : Index := 0#32
  let c0_13076 : Index := 0#32
  ![v31024.toNat, 0, 0]

def k0_chk661 (v30986 : BitVec 32) : Prop :=
  (∀ (r : Fin 7), ∀ a, (k0_off1933 v30986 (BitVec.ofNat 32 (770 + 5 * r.val))) a + S1x8x128.size a ≤ S1120x8x128.size a)
theorem k0_off1933_inb : ∀ (v30986 : BitVec 32) (k0_hw661 : k0_chk661 v30986), ∀ (r : Fin 7), ∀ a, (k0_off1933 v30986 (BitVec.ofNat 32 (770 + 5 * r.val))) a + S1x8x128.size a ≤ S1120x8x128.size a := fun v30986 k0_hw661 r => k0_hw661 r

def k0_off1934 (v30983 : BitVec 32) (c775_i32_13079 : BitVec 32) : Fin 3 → Nat :=
  let v31033 : BitVec 32 := Scalar.addi c775_i32_13079 v30983
  let v31034 : Index := Scalar.indexCast v31033
  let c0_13080 : Index := 0#32
  let c0_13081 : Index := 0#32
  ![v31034.toNat, 0, 0]

def k0_chk660 (v30983 : BitVec 32) : Prop :=
  (∀ a, (k0_off1932 v30983) a + S1x8x128.size a ≤ S1120x8x128.size a) ∧
  (∀ (r : Fin 6), ∀ a, (k0_off1934 v30983 (BitVec.ofNat 32 (775 + 5 * r.val))) a + S1x8x128.size a ≤ S1120x8x128.size a)
theorem k0_off1932_inb : ∀ (v30983 : BitVec 32) (k0_hw660 : k0_chk660 v30983), ∀ a, (k0_off1932 v30983) a + S1x8x128.size a ≤ S1120x8x128.size a := fun v30983 k0_hw660 => k0_hw660.1
theorem k0_off1934_inb : ∀ (v30983 : BitVec 32) (k0_hw660 : k0_chk660 v30983), ∀ (r : Fin 6), ∀ a, (k0_off1934 v30983 (BitVec.ofNat 32 (775 + 5 * r.val))) a + S1x8x128.size a ≤ S1120x8x128.size a := fun v30983 k0_hw660 r => k0_hw660.2 r

def k0_off1935 (i : grid0.Coords) : Fin 3 → Nat :=
  let arg0 : BitVec 32 := BitVec.ofNat 32 (i 0).val
  let v31141 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31142 : Index := Scalar.indexCast v30321
  let c26_13133 : Index := 26#32
  ![v31141.toNat, v31142.toNat, 26]
def k0_off1936 (i : grid0.Coords) : Fin 3 → Nat :=
  let arg0 : BitVec 32 := BitVec.ofNat 32 (i 0).val
  let v31144 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31145 : Index := Scalar.indexCast v30321
  let c33_13134 : Index := 33#32
  ![v31144.toNat, v31145.toNat, 33]
def k0_off1937 (i : grid0.Coords) : Fin 3 → Nat :=
  let arg0 : BitVec 32 := BitVec.ofNat 32 (i 0).val
  let v31147 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31148 : Index := Scalar.indexCast v30321
  let c40_13135 : Index := 40#32
  ![v31147.toNat, v31148.toNat, 40]
def k0_off1938 (i : grid0.Coords) : Fin 3 → Nat :=
  let arg0 : BitVec 32 := BitVec.ofNat 32 (i 0).val
  let v31150 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31151 : Index := Scalar.indexCast v30321
  let c47_13136 : Index := 47#32
  ![v31150.toNat, v31151.toNat, 47]
def k0_off1939 (v31143 : BitVec 32) : Fin 3 → Nat :=
  let c770_i32_13141 : BitVec 32 := 770#32
  let v31175 : BitVec 32 := Scalar.addi c770_i32_13141 v31143
  let v31176 : Index := Scalar.indexCast v31175
  let c0_13142 : Index := 0#32
  let c0_13143 : Index := 0#32
  ![v31176.toNat, 0, 0]

def k0_off1940 (v31146 : BitVec 32) (c770_i32_13145 : BitVec 32) : Fin 3 → Nat :=
  let v31183 : BitVec 32 := Scalar.addi c770_i32_13145 v31146
  let v31184 : Index := Scalar.indexCast v31183
  let c0_13146 : Index := 0#32
  let c0_13147 : Index := 0#32
  ![v31184.toNat, 0, 0]

def k0_chk663 (v31146 : BitVec 32) : Prop :=
  (∀ (r : Fin 7), ∀ a, (k0_off1940 v31146 (BitVec.ofNat 32 (770 + 5 * r.val))) a + S1x8x128.size a ≤ S1120x8x128.size a)
theorem k0_off1940_inb : ∀ (v31146 : BitVec 32) (k0_hw663 : k0_chk663 v31146), ∀ (r : Fin 7), ∀ a, (k0_off1940 v31146 (BitVec.ofNat 32 (770 + 5 * r.val))) a + S1x8x128.size a ≤ S1120x8x128.size a := fun v31146 k0_hw663 r => k0_hw663 r

def k0_off1941 (v31143 : BitVec 32) (c775_i32_13150 : BitVec 32) : Fin 3 → Nat :=
  let v31193 : BitVec 32 := Scalar.addi c775_i32_13150 v31143
  let v31194 : Index := Scalar.indexCast v31193
  let c0_13151 : Index := 0#32
  let c0_13152 : Index := 0#32
  ![v31194.toNat, 0, 0]

def k0_chk662 (v31143 : BitVec 32) : Prop :=
  (∀ a, (k0_off1939 v31143) a + S1x8x128.size a ≤ S1120x8x128.size a) ∧
  (∀ (r : Fin 6), ∀ a, (k0_off1941 v31143 (BitVec.ofNat 32 (775 + 5 * r.val))) a + S1x8x128.size a ≤ S1120x8x128.size a)
theorem k0_off1939_inb : ∀ (v31143 : BitVec 32) (k0_hw662 : k0_chk662 v31143), ∀ a, (k0_off1939 v31143) a + S1x8x128.size a ≤ S1120x8x128.size a := fun v31143 k0_hw662 => k0_hw662.1
theorem k0_off1941_inb : ∀ (v31143 : BitVec 32) (k0_hw662 : k0_chk662 v31143), ∀ (r : Fin 6), ∀ a, (k0_off1941 v31143 (BitVec.ofNat 32 (775 + 5 * r.val))) a + S1x8x128.size a ≤ S1120x8x128.size a := fun v31143 k0_hw662 r => k0_hw662.2 r

def k0_off1942 (i : grid0.Coords) : Fin 3 → Nat :=
  let arg0 : BitVec 32 := BitVec.ofNat 32 (i 0).val
  let v31301 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31302 : Index := Scalar.indexCast v30321
  let c27_13204 : Index := 27#32
  ![v31301.toNat, v31302.toNat, 27]
def k0_off1943 (i : grid0.Coords) : Fin 3 → Nat :=
  let arg0 : BitVec 32 := BitVec.ofNat 32 (i 0).val
  let v31304 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31305 : Index := Scalar.indexCast v30321
  let c34_13205 : Index := 34#32
  ![v31304.toNat, v31305.toNat, 34]
def k0_off1944 (i : grid0.Coords) : Fin 3 → Nat :=
  let arg0 : BitVec 32 := BitVec.ofNat 32 (i 0).val
  let v31307 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31308 : Index := Scalar.indexCast v30321
  let c41_13206 : Index := 41#32
  ![v31307.toNat, v31308.toNat, 41]
def k0_off1945 (i : grid0.Coords) : Fin 3 → Nat :=
  let arg0 : BitVec 32 := BitVec.ofNat 32 (i 0).val
  let v31310 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31311 : Index := Scalar.indexCast v30321
  let c48_13207 : Index := 48#32
  ![v31310.toNat, v31311.toNat, 48]
def k0_off1946 (v31303 : BitVec 32) : Fin 3 → Nat :=
  let c770_i32_13212 : BitVec 32 := 770#32
  let v31335 : BitVec 32 := Scalar.addi c770_i32_13212 v31303
  let v31336 : Index := Scalar.indexCast v31335
  let c0_13213 : Index := 0#32
  let c0_13214 : Index := 0#32
  ![v31336.toNat, 0, 0]

def k0_off1947 (v31306 : BitVec 32) (c770_i32_13216 : BitVec 32) : Fin 3 → Nat :=
  let v31343 : BitVec 32 := Scalar.addi c770_i32_13216 v31306
  let v31344 : Index := Scalar.indexCast v31343
  let c0_13217 : Index := 0#32
  let c0_13218 : Index := 0#32
  ![v31344.toNat, 0, 0]

def k0_chk665 (v31306 : BitVec 32) : Prop :=
  (∀ (r : Fin 7), ∀ a, (k0_off1947 v31306 (BitVec.ofNat 32 (770 + 5 * r.val))) a + S1x8x128.size a ≤ S1120x8x128.size a)
theorem k0_off1947_inb : ∀ (v31306 : BitVec 32) (k0_hw665 : k0_chk665 v31306), ∀ (r : Fin 7), ∀ a, (k0_off1947 v31306 (BitVec.ofNat 32 (770 + 5 * r.val))) a + S1x8x128.size a ≤ S1120x8x128.size a := fun v31306 k0_hw665 r => k0_hw665 r

def k0_off1948 (v31303 : BitVec 32) (c775_i32_13221 : BitVec 32) : Fin 3 → Nat :=
  let v31353 : BitVec 32 := Scalar.addi c775_i32_13221 v31303
  let v31354 : Index := Scalar.indexCast v31353
  let c0_13222 : Index := 0#32
  let c0_13223 : Index := 0#32
  ![v31354.toNat, 0, 0]

def k0_chk664 (v31303 : BitVec 32) : Prop :=
  (∀ a, (k0_off1946 v31303) a + S1x8x128.size a ≤ S1120x8x128.size a) ∧
  (∀ (r : Fin 6), ∀ a, (k0_off1948 v31303 (BitVec.ofNat 32 (775 + 5 * r.val))) a + S1x8x128.size a ≤ S1120x8x128.size a)
theorem k0_off1946_inb : ∀ (v31303 : BitVec 32) (k0_hw664 : k0_chk664 v31303), ∀ a, (k0_off1946 v31303) a + S1x8x128.size a ≤ S1120x8x128.size a := fun v31303 k0_hw664 => k0_hw664.1
theorem k0_off1948_inb : ∀ (v31303 : BitVec 32) (k0_hw664 : k0_chk664 v31303), ∀ (r : Fin 6), ∀ a, (k0_off1948 v31303 (BitVec.ofNat 32 (775 + 5 * r.val))) a + S1x8x128.size a ≤ S1120x8x128.size a := fun v31303 k0_hw664 r => k0_hw664.2 r

def k0_off1949 (i : grid0.Coords) : Fin 3 → Nat :=
  let arg0 : BitVec 32 := BitVec.ofNat 32 (i 0).val
  let v31461 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31462 : Index := Scalar.indexCast v30321
  let c28_13275 : Index := 28#32
  ![v31461.toNat, v31462.toNat, 28]
def k0_off1950 (i : grid0.Coords) : Fin 3 → Nat :=
  let arg0 : BitVec 32 := BitVec.ofNat 32 (i 0).val
  let v31464 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31465 : Index := Scalar.indexCast v30321
  let c35_13276 : Index := 35#32
  ![v31464.toNat, v31465.toNat, 35]
def k0_off1951 (i : grid0.Coords) : Fin 3 → Nat :=
  let arg0 : BitVec 32 := BitVec.ofNat 32 (i 0).val
  let v31467 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31468 : Index := Scalar.indexCast v30321
  let c42_13277 : Index := 42#32
  ![v31467.toNat, v31468.toNat, 42]
def k0_off1952 (i : grid0.Coords) : Fin 3 → Nat :=
  let arg0 : BitVec 32 := BitVec.ofNat 32 (i 0).val
  let v31470 : Index := Scalar.indexCast arg0
  let arg1 : BitVec 32 := BitVec.ofNat 32 (i 1).val
  let c32_i32_12791 : BitVec 32 := 32#32
  let v30320 : BitVec 32 := Scalar.muli arg1 c32_i32_12791
  let c22_i32 : BitVec 32 := 22#32
  let v30321 : BitVec 32 := Scalar.addi v30320 c22_i32
  let v31471 : Index := Scalar.indexCast v30321
  let c49_13278 : Index := 49#32
  ![v31470.toNat, v31471.toNat, 49]
def k0_off1953 (v31463 : BitVec 32) : Fin 3 → Nat :=
  let c770_i32_13283 : BitVec 32 := 770#32
  let v31495 : BitVec 32 := Scalar.addi c770_i32_13283 v31463
  let v31496 : Index := Scalar.indexCast v31495
  let c0_13284 : Index := 0#32
  let c0_13285 : Index := 0#32
  ![v31496.toNat, 0, 0]

def k0_off1954 (v31466 : BitVec 32) (c770_i32_13287 : BitVec 32) : Fin 3 → Nat :=
  let v31503 : BitVec 32 := Scalar.addi c770_i32_13287 v31466
  let v31504 : Index := Scalar.indexCast v31503
  let c0_13288 : Index := 0#32
  let c0_13289 : Index := 0#32
  ![v31504.toNat, 0, 0]

def k0_chk667 (v31466 : BitVec 32) : Prop :=
  (∀ (r : Fin 7), ∀ a, (k0_off1954 v31466 (BitVec.ofNat 32 (770 + 5 * r.val))) a + S1x8x128.size a ≤ S1120x8x128.size a)
theorem k0_off1954_inb : ∀ (v31466 : BitVec 32) (k0_hw667 : k0_chk667 v31466), ∀ (r : Fin 7), ∀ a, (k0_off1954 v31466 (BitVec.ofNat 32 (770 + 5 * r.val))) a + S1x8x128.size a ≤ S1120x8x128.size a := fun v31466 k0_hw667 r => k0_hw667 r

def k0_off1955 (v31463 : BitVec 32) (c775_i32_13292 : BitVec 32) : Fin 3 → Nat :=
  let v31513 : BitVec 32 := Scalar.addi c775_i32_13292 v31463
  let v31514 : Index := Scalar.indexCast v31513
  let c0_13293 : Index := 0#32
  let c0_13294 : Index := 0#32
  ![v31514.toNat, 0, 0]

def k0_chk666 (v31463 : BitVec 32) : Prop :=
  (∀ a, (k0_off1953 v31463) a + S1x8x128.size a ≤ S1120x8x128.size a) ∧
  (∀ (r : Fin 6), ∀ a, (k0_off1955 v31463 (BitVec.ofNat 32 (775 + 5 * r.val))) a + S1x8x128.size a ≤ S1120x8x128.size a)
theorem k0_off1953_inb : ∀ (v31463 : BitVec 32) (k0_hw666 : k0_chk666 v31463), ∀ a, (k0_off1953 v31463) a + S1x8x128.size a ≤ S1120x8x128.size a := fun v31463 k0_hw666 => k0_hw666.1
theorem k0_off1955_inb : ∀ (v31463 : BitVec 32) (k0_hw666 : k0_chk666 v31463), ∀ (r : Fin 6), ∀ a, (k0_off1955 v31463 (BitVec.ofNat 32 (775 + 5 * r.val))) a + S1x8x128.size a ≤ S1120x8x128.size a := fun v31463 k0_hw666 r => k0_hw666.2 r

def k0_off1956 (i : grid0.Coords) : Fin 3 → Nat :=
  let arg0 : BitVec 32 := BitVec.ofNat 32 (i 0).val
  let v31700 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31701 : Index := Scalar.indexCast v31699
  let c0_13375 : Index := 0#32
  ![v31700.toNat, v31701.toNat, 0]
def k0_mult24 (v31702 : BitVec 32) : BitVec 32 :=
  v31702

def k0_chk668 (v31702 : BitVec 32) : Prop :=
  (8 ∣ (k0_mult24 v31702).toNat)
theorem k0_mult24_dvd : ∀ (v31702 : BitVec 32) (k0_hw668 : k0_chk668 v31702), 8 ∣ (k0_mult24 v31702).toNat := fun v31702 k0_hw668 => k0_hw668

def k0_off1957 (i : grid0.Coords) : Fin 3 → Nat :=
  let arg0 : BitVec 32 := BitVec.ofNat 32 (i 0).val
  let v31704 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31705 : Index := Scalar.indexCast v31699
  let c1_13376 : Index := 1#32
  ![v31704.toNat, v31705.toNat, 1]
def k0_off1958 (v31702 : BitVec 32) (v31706 : BitVec 32) : Fin 3 → Nat :=
  let v31707 : Index := Scalar.indexCast v31706
  let v31703 : BitVec 32 := v31702
  let v31708 : Index := Scalar.indexCast v31703
  let c0_13377 : Index := 0#32
  ![v31707.toNat, v31708.toNat, 0]

def k0_chk669 (v31702 : BitVec 32) (v31706 : BitVec 32) : Prop :=
  (∀ a, (k0_off1958 v31702 v31706) a + S1x40x128.size a ≤ S256x64x128.size a)
theorem k0_off1958_inb : ∀ (v31702 : BitVec 32) (v31706 : BitVec 32) (k0_hw669 : k0_chk669 v31702 v31706), ∀ a, (k0_off1958 v31702 v31706) a + S1x40x128.size a ≤ S256x64x128.size a := fun v31702 v31706 k0_hw669 => k0_hw669

def k0_off1959 (i : grid0.Coords) : Fin 3 → Nat :=
  let arg0 : BitVec 32 := BitVec.ofNat 32 (i 0).val
  let v31711 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31712 : Index := Scalar.indexCast v31699
  let c8_13378 : Index := 8#32
  ![v31711.toNat, v31712.toNat, 8]
def k0_off1960 (v31702 : BitVec 32) (v31713 : BitVec 32) : Fin 3 → Nat :=
  let v31714 : Index := Scalar.indexCast v31713
  let v31703 : BitVec 32 := v31702
  let v31715 : Index := Scalar.indexCast v31703
  let c0_13379 : Index := 0#32
  ![v31714.toNat, v31715.toNat, 0]

def k0_chk670 (v31702 : BitVec 32) (v31713 : BitVec 32) : Prop :=
  (∀ a, (k0_off1960 v31702 v31713) a + S1x40x128.size a ≤ S256x64x128.size a)
theorem k0_off1960_inb : ∀ (v31702 : BitVec 32) (v31713 : BitVec 32) (k0_hw670 : k0_chk670 v31702 v31713), ∀ a, (k0_off1960 v31702 v31713) a + S1x40x128.size a ≤ S256x64x128.size a := fun v31702 v31713 k0_hw670 => k0_hw670

def k0_off1961 (i : grid0.Coords) : Fin 3 → Nat :=
  let arg0 : BitVec 32 := BitVec.ofNat 32 (i 0).val
  let v31719 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31720 : Index := Scalar.indexCast v31699
  let c15_13380 : Index := 15#32
  ![v31719.toNat, v31720.toNat, 15]
def k0_off1962 (i : grid0.Coords) : Fin 3 → Nat :=
  let arg0 : BitVec 32 := BitVec.ofNat 32 (i 0).val
  let v31729 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31730 : Index := Scalar.indexCast v31699
  let c2_13385 : Index := 2#32
  ![v31729.toNat, v31730.toNat, 2]
def k0_off1963 (v31702 : BitVec 32) (v31731 : BitVec 32) : Fin 3 → Nat :=
  let v31732 : Index := Scalar.indexCast v31731
  let v31703 : BitVec 32 := v31702
  let v31733 : Index := Scalar.indexCast v31703
  let c0_13386 : Index := 0#32
  ![v31732.toNat, v31733.toNat, 0]

def k0_chk671 (v31702 : BitVec 32) (v31731 : BitVec 32) : Prop :=
  (∀ a, (k0_off1963 v31702 v31731) a + S1x40x128.size a ≤ S256x64x128.size a)
theorem k0_off1963_inb : ∀ (v31702 : BitVec 32) (v31731 : BitVec 32) (k0_hw671 : k0_chk671 v31702 v31731), ∀ a, (k0_off1963 v31702 v31731) a + S1x40x128.size a ≤ S256x64x128.size a := fun v31702 v31731 k0_hw671 => k0_hw671

def k0_off1964 (i : grid0.Coords) : Fin 3 → Nat :=
  let arg0 : BitVec 32 := BitVec.ofNat 32 (i 0).val
  let v31736 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31737 : Index := Scalar.indexCast v31699
  let c9_13387 : Index := 9#32
  ![v31736.toNat, v31737.toNat, 9]
def k0_off1965 (v31702 : BitVec 32) (v31738 : BitVec 32) : Fin 3 → Nat :=
  let v31739 : Index := Scalar.indexCast v31738
  let v31703 : BitVec 32 := v31702
  let v31740 : Index := Scalar.indexCast v31703
  let c0_13388 : Index := 0#32
  ![v31739.toNat, v31740.toNat, 0]

def k0_chk672 (v31702 : BitVec 32) (v31738 : BitVec 32) : Prop :=
  (∀ a, (k0_off1965 v31702 v31738) a + S1x40x128.size a ≤ S256x64x128.size a)
theorem k0_off1965_inb : ∀ (v31702 : BitVec 32) (v31738 : BitVec 32) (k0_hw672 : k0_chk672 v31702 v31738), ∀ a, (k0_off1965 v31702 v31738) a + S1x40x128.size a ≤ S256x64x128.size a := fun v31702 v31738 k0_hw672 => k0_hw672

def k0_off1966 (i : grid0.Coords) : Fin 3 → Nat :=
  let arg0 : BitVec 32 := BitVec.ofNat 32 (i 0).val
  let v31744 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31745 : Index := Scalar.indexCast v31699
  let c16_13389 : Index := 16#32
  ![v31744.toNat, v31745.toNat, 16]
def k0_off1967 (i : grid0.Coords) : Fin 3 → Nat :=
  let arg0 : BitVec 32 := BitVec.ofNat 32 (i 0).val
  let v31754 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31755 : Index := Scalar.indexCast v31699
  let c3_13394 : Index := 3#32
  ![v31754.toNat, v31755.toNat, 3]
def k0_off1968 (v31702 : BitVec 32) (v31756 : BitVec 32) : Fin 3 → Nat :=
  let v31757 : Index := Scalar.indexCast v31756
  let v31703 : BitVec 32 := v31702
  let v31758 : Index := Scalar.indexCast v31703
  let c0_13395 : Index := 0#32
  ![v31757.toNat, v31758.toNat, 0]

def k0_chk673 (v31702 : BitVec 32) (v31756 : BitVec 32) : Prop :=
  (∀ a, (k0_off1968 v31702 v31756) a + S1x40x128.size a ≤ S256x64x128.size a)
theorem k0_off1968_inb : ∀ (v31702 : BitVec 32) (v31756 : BitVec 32) (k0_hw673 : k0_chk673 v31702 v31756), ∀ a, (k0_off1968 v31702 v31756) a + S1x40x128.size a ≤ S256x64x128.size a := fun v31702 v31756 k0_hw673 => k0_hw673

def k0_off1969 (i : grid0.Coords) : Fin 3 → Nat :=
  let arg0 : BitVec 32 := BitVec.ofNat 32 (i 0).val
  let v31761 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31762 : Index := Scalar.indexCast v31699
  let c10_13396 : Index := 10#32
  ![v31761.toNat, v31762.toNat, 10]
def k0_off1970 (v31702 : BitVec 32) (v31763 : BitVec 32) : Fin 3 → Nat :=
  let v31764 : Index := Scalar.indexCast v31763
  let v31703 : BitVec 32 := v31702
  let v31765 : Index := Scalar.indexCast v31703
  let c0_13397 : Index := 0#32
  ![v31764.toNat, v31765.toNat, 0]

def k0_chk674 (v31702 : BitVec 32) (v31763 : BitVec 32) : Prop :=
  (∀ a, (k0_off1970 v31702 v31763) a + S1x40x128.size a ≤ S256x64x128.size a)
theorem k0_off1970_inb : ∀ (v31702 : BitVec 32) (v31763 : BitVec 32) (k0_hw674 : k0_chk674 v31702 v31763), ∀ a, (k0_off1970 v31702 v31763) a + S1x40x128.size a ≤ S256x64x128.size a := fun v31702 v31763 k0_hw674 => k0_hw674

def k0_off1971 (i : grid0.Coords) : Fin 3 → Nat :=
  let arg0 : BitVec 32 := BitVec.ofNat 32 (i 0).val
  let v31769 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31770 : Index := Scalar.indexCast v31699
  let c17_13398 : Index := 17#32
  ![v31769.toNat, v31770.toNat, 17]
def k0_off1972 (i : grid0.Coords) : Fin 3 → Nat :=
  let arg0 : BitVec 32 := BitVec.ofNat 32 (i 0).val
  let v31779 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31780 : Index := Scalar.indexCast v31699
  let c4_13403 : Index := 4#32
  ![v31779.toNat, v31780.toNat, 4]
def k0_off1973 (v31702 : BitVec 32) (v31781 : BitVec 32) : Fin 3 → Nat :=
  let v31782 : Index := Scalar.indexCast v31781
  let v31703 : BitVec 32 := v31702
  let v31783 : Index := Scalar.indexCast v31703
  let c0_13404 : Index := 0#32
  ![v31782.toNat, v31783.toNat, 0]

def k0_chk675 (v31702 : BitVec 32) (v31781 : BitVec 32) : Prop :=
  (∀ a, (k0_off1973 v31702 v31781) a + S1x40x128.size a ≤ S256x64x128.size a)
theorem k0_off1973_inb : ∀ (v31702 : BitVec 32) (v31781 : BitVec 32) (k0_hw675 : k0_chk675 v31702 v31781), ∀ a, (k0_off1973 v31702 v31781) a + S1x40x128.size a ≤ S256x64x128.size a := fun v31702 v31781 k0_hw675 => k0_hw675

def k0_off1974 (i : grid0.Coords) : Fin 3 → Nat :=
  let arg0 : BitVec 32 := BitVec.ofNat 32 (i 0).val
  let v31786 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31787 : Index := Scalar.indexCast v31699
  let c11_13405 : Index := 11#32
  ![v31786.toNat, v31787.toNat, 11]
def k0_off1975 (v31702 : BitVec 32) (v31788 : BitVec 32) : Fin 3 → Nat :=
  let v31789 : Index := Scalar.indexCast v31788
  let v31703 : BitVec 32 := v31702
  let v31790 : Index := Scalar.indexCast v31703
  let c0_13406 : Index := 0#32
  ![v31789.toNat, v31790.toNat, 0]

def k0_chk676 (v31702 : BitVec 32) (v31788 : BitVec 32) : Prop :=
  (∀ a, (k0_off1975 v31702 v31788) a + S1x40x128.size a ≤ S256x64x128.size a)
theorem k0_off1975_inb : ∀ (v31702 : BitVec 32) (v31788 : BitVec 32) (k0_hw676 : k0_chk676 v31702 v31788), ∀ a, (k0_off1975 v31702 v31788) a + S1x40x128.size a ≤ S256x64x128.size a := fun v31702 v31788 k0_hw676 => k0_hw676

def k0_off1976 (i : grid0.Coords) : Fin 3 → Nat :=
  let arg0 : BitVec 32 := BitVec.ofNat 32 (i 0).val
  let v31794 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31795 : Index := Scalar.indexCast v31699
  let c18_13407 : Index := 18#32
  ![v31794.toNat, v31795.toNat, 18]
def k0_off1977 (i : grid0.Coords) : Fin 3 → Nat :=
  let arg0 : BitVec 32 := BitVec.ofNat 32 (i 0).val
  let v31804 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31805 : Index := Scalar.indexCast v31699
  let c5_13412 : Index := 5#32
  ![v31804.toNat, v31805.toNat, 5]
def k0_off1978 (v31702 : BitVec 32) (v31806 : BitVec 32) : Fin 3 → Nat :=
  let v31807 : Index := Scalar.indexCast v31806
  let v31703 : BitVec 32 := v31702
  let v31808 : Index := Scalar.indexCast v31703
  let c0_13413 : Index := 0#32
  ![v31807.toNat, v31808.toNat, 0]

def k0_chk677 (v31702 : BitVec 32) (v31806 : BitVec 32) : Prop :=
  (∀ a, (k0_off1978 v31702 v31806) a + S1x40x128.size a ≤ S256x64x128.size a)
theorem k0_off1978_inb : ∀ (v31702 : BitVec 32) (v31806 : BitVec 32) (k0_hw677 : k0_chk677 v31702 v31806), ∀ a, (k0_off1978 v31702 v31806) a + S1x40x128.size a ≤ S256x64x128.size a := fun v31702 v31806 k0_hw677 => k0_hw677

def k0_off1979 (i : grid0.Coords) : Fin 3 → Nat :=
  let arg0 : BitVec 32 := BitVec.ofNat 32 (i 0).val
  let v31811 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31812 : Index := Scalar.indexCast v31699
  let c12_13414 : Index := 12#32
  ![v31811.toNat, v31812.toNat, 12]
def k0_off1980 (v31702 : BitVec 32) (v31813 : BitVec 32) : Fin 3 → Nat :=
  let v31814 : Index := Scalar.indexCast v31813
  let v31703 : BitVec 32 := v31702
  let v31815 : Index := Scalar.indexCast v31703
  let c0_13415 : Index := 0#32
  ![v31814.toNat, v31815.toNat, 0]

def k0_chk678 (v31702 : BitVec 32) (v31813 : BitVec 32) : Prop :=
  (∀ a, (k0_off1980 v31702 v31813) a + S1x40x128.size a ≤ S256x64x128.size a)
theorem k0_off1980_inb : ∀ (v31702 : BitVec 32) (v31813 : BitVec 32) (k0_hw678 : k0_chk678 v31702 v31813), ∀ a, (k0_off1980 v31702 v31813) a + S1x40x128.size a ≤ S256x64x128.size a := fun v31702 v31813 k0_hw678 => k0_hw678

def k0_off1981 (i : grid0.Coords) : Fin 3 → Nat :=
  let arg0 : BitVec 32 := BitVec.ofNat 32 (i 0).val
  let v31819 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31820 : Index := Scalar.indexCast v31699
  let c19_13416 : Index := 19#32
  ![v31819.toNat, v31820.toNat, 19]
def k0_off1982 (i : grid0.Coords) : Fin 3 → Nat :=
  let arg0 : BitVec 32 := BitVec.ofNat 32 (i 0).val
  let v31829 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31830 : Index := Scalar.indexCast v31699
  let c6_13421 : Index := 6#32
  ![v31829.toNat, v31830.toNat, 6]
def k0_off1983 (v31702 : BitVec 32) (v31831 : BitVec 32) : Fin 3 → Nat :=
  let v31832 : Index := Scalar.indexCast v31831
  let v31703 : BitVec 32 := v31702
  let v31833 : Index := Scalar.indexCast v31703
  let c0_13422 : Index := 0#32
  ![v31832.toNat, v31833.toNat, 0]

def k0_chk679 (v31702 : BitVec 32) (v31831 : BitVec 32) : Prop :=
  (∀ a, (k0_off1983 v31702 v31831) a + S1x40x128.size a ≤ S256x64x128.size a)
theorem k0_off1983_inb : ∀ (v31702 : BitVec 32) (v31831 : BitVec 32) (k0_hw679 : k0_chk679 v31702 v31831), ∀ a, (k0_off1983 v31702 v31831) a + S1x40x128.size a ≤ S256x64x128.size a := fun v31702 v31831 k0_hw679 => k0_hw679

def k0_off1984 (i : grid0.Coords) : Fin 3 → Nat :=
  let arg0 : BitVec 32 := BitVec.ofNat 32 (i 0).val
  let v31836 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31837 : Index := Scalar.indexCast v31699
  let c13_13423 : Index := 13#32
  ![v31836.toNat, v31837.toNat, 13]
def k0_off1985 (v31702 : BitVec 32) (v31838 : BitVec 32) : Fin 3 → Nat :=
  let v31839 : Index := Scalar.indexCast v31838
  let v31703 : BitVec 32 := v31702
  let v31840 : Index := Scalar.indexCast v31703
  let c0_13424 : Index := 0#32
  ![v31839.toNat, v31840.toNat, 0]

def k0_chk680 (v31702 : BitVec 32) (v31838 : BitVec 32) : Prop :=
  (∀ a, (k0_off1985 v31702 v31838) a + S1x40x128.size a ≤ S256x64x128.size a)
theorem k0_off1985_inb : ∀ (v31702 : BitVec 32) (v31838 : BitVec 32) (k0_hw680 : k0_chk680 v31702 v31838), ∀ a, (k0_off1985 v31702 v31838) a + S1x40x128.size a ≤ S256x64x128.size a := fun v31702 v31838 k0_hw680 => k0_hw680

def k0_off1986 (i : grid0.Coords) : Fin 3 → Nat :=
  let arg0 : BitVec 32 := BitVec.ofNat 32 (i 0).val
  let v31844 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31845 : Index := Scalar.indexCast v31699
  let c20_13425 : Index := 20#32
  ![v31844.toNat, v31845.toNat, 20]
def k0_off1987 (i : grid0.Coords) : Fin 3 → Nat :=
  let arg0 : BitVec 32 := BitVec.ofNat 32 (i 0).val
  let v31854 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31855 : Index := Scalar.indexCast v31699
  let c7_13430 : Index := 7#32
  ![v31854.toNat, v31855.toNat, 7]
def k0_off1988 (v31702 : BitVec 32) (v31856 : BitVec 32) : Fin 3 → Nat :=
  let v31857 : Index := Scalar.indexCast v31856
  let v31703 : BitVec 32 := v31702
  let v31858 : Index := Scalar.indexCast v31703
  let c0_13431 : Index := 0#32
  ![v31857.toNat, v31858.toNat, 0]

def k0_chk681 (v31702 : BitVec 32) (v31856 : BitVec 32) : Prop :=
  (∀ a, (k0_off1988 v31702 v31856) a + S1x40x128.size a ≤ S256x64x128.size a)
theorem k0_off1988_inb : ∀ (v31702 : BitVec 32) (v31856 : BitVec 32) (k0_hw681 : k0_chk681 v31702 v31856), ∀ a, (k0_off1988 v31702 v31856) a + S1x40x128.size a ≤ S256x64x128.size a := fun v31702 v31856 k0_hw681 => k0_hw681

def k0_off1989 (i : grid0.Coords) : Fin 3 → Nat :=
  let arg0 : BitVec 32 := BitVec.ofNat 32 (i 0).val
  let v31861 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31862 : Index := Scalar.indexCast v31699
  let c14_13432 : Index := 14#32
  ![v31861.toNat, v31862.toNat, 14]
def k0_off1990 (v31702 : BitVec 32) (v31863 : BitVec 32) : Fin 3 → Nat :=
  let v31864 : Index := Scalar.indexCast v31863
  let v31703 : BitVec 32 := v31702
  let v31865 : Index := Scalar.indexCast v31703
  let c0_13433 : Index := 0#32
  ![v31864.toNat, v31865.toNat, 0]

def k0_chk682 (v31702 : BitVec 32) (v31863 : BitVec 32) : Prop :=
  (∀ a, (k0_off1990 v31702 v31863) a + S1x40x128.size a ≤ S256x64x128.size a)
theorem k0_off1990_inb : ∀ (v31702 : BitVec 32) (v31863 : BitVec 32) (k0_hw682 : k0_chk682 v31702 v31863), ∀ a, (k0_off1990 v31702 v31863) a + S1x40x128.size a ≤ S256x64x128.size a := fun v31702 v31863 k0_hw682 => k0_hw682

def k0_off1991 (i : grid0.Coords) : Fin 3 → Nat :=
  let arg0 : BitVec 32 := BitVec.ofNat 32 (i 0).val
  let v31869 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31870 : Index := Scalar.indexCast v31699
  let c21_13434 : Index := 21#32
  ![v31869.toNat, v31870.toNat, 21]
def k0_off1992 (i : grid0.Coords) : Fin 3 → Nat :=
  let arg0 : BitVec 32 := BitVec.ofNat 32 (i 0).val
  let v31879 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31880 : Index := Scalar.indexCast v31699
  let c22_13439 : Index := 22#32
  ![v31879.toNat, v31880.toNat, 22]
def k0_off1993 (i : grid0.Coords) : Fin 3 → Nat :=
  let arg0 : BitVec 32 := BitVec.ofNat 32 (i 0).val
  let v31882 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31883 : Index := Scalar.indexCast v31699
  let c29_13440 : Index := 29#32
  ![v31882.toNat, v31883.toNat, 29]
def k0_off1994 (i : grid0.Coords) : Fin 3 → Nat :=
  let arg0 : BitVec 32 := BitVec.ofNat 32 (i 0).val
  let v31885 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31886 : Index := Scalar.indexCast v31699
  let c36_13441 : Index := 36#32
  ![v31885.toNat, v31886.toNat, 36]
def k0_off1995 (i : grid0.Coords) : Fin 3 → Nat :=
  let arg0 : BitVec 32 := BitVec.ofNat 32 (i 0).val
  let v31888 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v31889 : Index := Scalar.indexCast v31699
  let c43_13442 : Index := 43#32
  ![v31888.toNat, v31889.toNat, 43]
def k0_off1996 (v31881 : BitVec 32) : Fin 3 → Nat :=
  let c805_i32 : BitVec 32 := 805#32
  let v31913 : BitVec 32 := Scalar.addi c805_i32 v31881
  let v31914 : Index := Scalar.indexCast v31913
  let c0_13447 : Index := 0#32
  let c0_13448 : Index := 0#32
  ![v31914.toNat, 0, 0]

def k0_off1997 (v31884 : BitVec 32) (c805_i32_13450 : BitVec 32) : Fin 3 → Nat :=
  let v31921 : BitVec 32 := Scalar.addi c805_i32_13450 v31884
  let v31922 : Index := Scalar.indexCast v31921
  let c0_13451 : Index := 0#32
  let c0_13452 : Index := 0#32
  ![v31922.toNat, 0, 0]

def k0_chk684 (v31884 : BitVec 32) : Prop :=
  (∀ (r : Fin 7), ∀ a, (k0_off1997 v31884 (BitVec.ofNat 32 (805 + 5 * r.val))) a + S1x8x128.size a ≤ S1120x8x128.size a)
theorem k0_off1997_inb : ∀ (v31884 : BitVec 32) (k0_hw684 : k0_chk684 v31884), ∀ (r : Fin 7), ∀ a, (k0_off1997 v31884 (BitVec.ofNat 32 (805 + 5 * r.val))) a + S1x8x128.size a ≤ S1120x8x128.size a := fun v31884 k0_hw684 r => k0_hw684 r

def k0_off1998 (v31881 : BitVec 32) (c810_i32 : BitVec 32) : Fin 3 → Nat :=
  let v31931 : BitVec 32 := Scalar.addi c810_i32 v31881
  let v31932 : Index := Scalar.indexCast v31931
  let c0_13455 : Index := 0#32
  let c0_13456 : Index := 0#32
  ![v31932.toNat, 0, 0]

def k0_chk683 (v31881 : BitVec 32) : Prop :=
  (∀ a, (k0_off1996 v31881) a + S1x8x128.size a ≤ S1120x8x128.size a) ∧
  (∀ (r : Fin 6), ∀ a, (k0_off1998 v31881 (BitVec.ofNat 32 (810 + 5 * r.val))) a + S1x8x128.size a ≤ S1120x8x128.size a)
theorem k0_off1996_inb : ∀ (v31881 : BitVec 32) (k0_hw683 : k0_chk683 v31881), ∀ a, (k0_off1996 v31881) a + S1x8x128.size a ≤ S1120x8x128.size a := fun v31881 k0_hw683 => k0_hw683.1
theorem k0_off1998_inb : ∀ (v31881 : BitVec 32) (k0_hw683 : k0_chk683 v31881), ∀ (r : Fin 6), ∀ a, (k0_off1998 v31881 (BitVec.ofNat 32 (810 + 5 * r.val))) a + S1x8x128.size a ≤ S1120x8x128.size a := fun v31881 k0_hw683 r => k0_hw683.2 r

def k0_off1999 (i : grid0.Coords) : Fin 3 → Nat :=
  let arg0 : BitVec 32 := BitVec.ofNat 32 (i 0).val
  let v32039 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32040 : Index := Scalar.indexCast v31699
  let c23_13503 : Index := 23#32
  ![v32039.toNat, v32040.toNat, 23]
def k0_off2000 (i : grid0.Coords) : Fin 3 → Nat :=
  let arg0 : BitVec 32 := BitVec.ofNat 32 (i 0).val
  let v32042 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32043 : Index := Scalar.indexCast v31699
  let c30_13504 : Index := 30#32
  ![v32042.toNat, v32043.toNat, 30]
def k0_off2001 (i : grid0.Coords) : Fin 3 → Nat :=
  let arg0 : BitVec 32 := BitVec.ofNat 32 (i 0).val
  let v32045 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32046 : Index := Scalar.indexCast v31699
  let c37_13505 : Index := 37#32
  ![v32045.toNat, v32046.toNat, 37]
def k0_off2002 (i : grid0.Coords) : Fin 3 → Nat :=
  let arg0 : BitVec 32 := BitVec.ofNat 32 (i 0).val
  let v32048 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32049 : Index := Scalar.indexCast v31699
  let c44_13506 : Index := 44#32
  ![v32048.toNat, v32049.toNat, 44]
def k0_off2003 (v32041 : BitVec 32) : Fin 3 → Nat :=
  let c805_i32_13511 : BitVec 32 := 805#32
  let v32073 : BitVec 32 := Scalar.addi c805_i32_13511 v32041
  let v32074 : Index := Scalar.indexCast v32073
  let c0_13512 : Index := 0#32
  let c0_13513 : Index := 0#32
  ![v32074.toNat, 0, 0]

def k0_off2004 (v32044 : BitVec 32) (c805_i32_13515 : BitVec 32) : Fin 3 → Nat :=
  let v32081 : BitVec 32 := Scalar.addi c805_i32_13515 v32044
  let v32082 : Index := Scalar.indexCast v32081
  let c0_13516 : Index := 0#32
  let c0_13517 : Index := 0#32
  ![v32082.toNat, 0, 0]

def k0_chk686 (v32044 : BitVec 32) : Prop :=
  (∀ (r : Fin 7), ∀ a, (k0_off2004 v32044 (BitVec.ofNat 32 (805 + 5 * r.val))) a + S1x8x128.size a ≤ S1120x8x128.size a)
theorem k0_off2004_inb : ∀ (v32044 : BitVec 32) (k0_hw686 : k0_chk686 v32044), ∀ (r : Fin 7), ∀ a, (k0_off2004 v32044 (BitVec.ofNat 32 (805 + 5 * r.val))) a + S1x8x128.size a ≤ S1120x8x128.size a := fun v32044 k0_hw686 r => k0_hw686 r

def k0_off2005 (v32041 : BitVec 32) (c810_i32_13520 : BitVec 32) : Fin 3 → Nat :=
  let v32091 : BitVec 32 := Scalar.addi c810_i32_13520 v32041
  let v32092 : Index := Scalar.indexCast v32091
  let c0_13521 : Index := 0#32
  let c0_13522 : Index := 0#32
  ![v32092.toNat, 0, 0]

def k0_chk685 (v32041 : BitVec 32) : Prop :=
  (∀ a, (k0_off2003 v32041) a + S1x8x128.size a ≤ S1120x8x128.size a) ∧
  (∀ (r : Fin 6), ∀ a, (k0_off2005 v32041 (BitVec.ofNat 32 (810 + 5 * r.val))) a + S1x8x128.size a ≤ S1120x8x128.size a)
theorem k0_off2003_inb : ∀ (v32041 : BitVec 32) (k0_hw685 : k0_chk685 v32041), ∀ a, (k0_off2003 v32041) a + S1x8x128.size a ≤ S1120x8x128.size a := fun v32041 k0_hw685 => k0_hw685.1
theorem k0_off2005_inb : ∀ (v32041 : BitVec 32) (k0_hw685 : k0_chk685 v32041), ∀ (r : Fin 6), ∀ a, (k0_off2005 v32041 (BitVec.ofNat 32 (810 + 5 * r.val))) a + S1x8x128.size a ≤ S1120x8x128.size a := fun v32041 k0_hw685 r => k0_hw685.2 r

def k0_off2006 (i : grid0.Coords) : Fin 3 → Nat :=
  let arg0 : BitVec 32 := BitVec.ofNat 32 (i 0).val
  let v32199 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32200 : Index := Scalar.indexCast v31699
  let c24_13574 : Index := 24#32
  ![v32199.toNat, v32200.toNat, 24]
def k0_off2007 (i : grid0.Coords) : Fin 3 → Nat :=
  let arg0 : BitVec 32 := BitVec.ofNat 32 (i 0).val
  let v32202 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32203 : Index := Scalar.indexCast v31699
  let c31_13575 : Index := 31#32
  ![v32202.toNat, v32203.toNat, 31]
def k0_off2008 (i : grid0.Coords) : Fin 3 → Nat :=
  let arg0 : BitVec 32 := BitVec.ofNat 32 (i 0).val
  let v32205 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32206 : Index := Scalar.indexCast v31699
  let c38_13576 : Index := 38#32
  ![v32205.toNat, v32206.toNat, 38]
def k0_off2009 (i : grid0.Coords) : Fin 3 → Nat :=
  let arg0 : BitVec 32 := BitVec.ofNat 32 (i 0).val
  let v32208 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32209 : Index := Scalar.indexCast v31699
  let c45_13577 : Index := 45#32
  ![v32208.toNat, v32209.toNat, 45]
def k0_off2010 (v32201 : BitVec 32) : Fin 3 → Nat :=
  let c805_i32_13582 : BitVec 32 := 805#32
  let v32233 : BitVec 32 := Scalar.addi c805_i32_13582 v32201
  let v32234 : Index := Scalar.indexCast v32233
  let c0_13583 : Index := 0#32
  let c0_13584 : Index := 0#32
  ![v32234.toNat, 0, 0]

def k0_off2011 (v32204 : BitVec 32) (c805_i32_13586 : BitVec 32) : Fin 3 → Nat :=
  let v32241 : BitVec 32 := Scalar.addi c805_i32_13586 v32204
  let v32242 : Index := Scalar.indexCast v32241
  let c0_13587 : Index := 0#32
  let c0_13588 : Index := 0#32
  ![v32242.toNat, 0, 0]

def k0_chk688 (v32204 : BitVec 32) : Prop :=
  (∀ (r : Fin 7), ∀ a, (k0_off2011 v32204 (BitVec.ofNat 32 (805 + 5 * r.val))) a + S1x8x128.size a ≤ S1120x8x128.size a)
theorem k0_off2011_inb : ∀ (v32204 : BitVec 32) (k0_hw688 : k0_chk688 v32204), ∀ (r : Fin 7), ∀ a, (k0_off2011 v32204 (BitVec.ofNat 32 (805 + 5 * r.val))) a + S1x8x128.size a ≤ S1120x8x128.size a := fun v32204 k0_hw688 r => k0_hw688 r

def k0_off2012 (v32201 : BitVec 32) (c810_i32_13591 : BitVec 32) : Fin 3 → Nat :=
  let v32251 : BitVec 32 := Scalar.addi c810_i32_13591 v32201
  let v32252 : Index := Scalar.indexCast v32251
  let c0_13592 : Index := 0#32
  let c0_13593 : Index := 0#32
  ![v32252.toNat, 0, 0]

def k0_chk687 (v32201 : BitVec 32) : Prop :=
  (∀ a, (k0_off2010 v32201) a + S1x8x128.size a ≤ S1120x8x128.size a) ∧
  (∀ (r : Fin 6), ∀ a, (k0_off2012 v32201 (BitVec.ofNat 32 (810 + 5 * r.val))) a + S1x8x128.size a ≤ S1120x8x128.size a)
theorem k0_off2010_inb : ∀ (v32201 : BitVec 32) (k0_hw687 : k0_chk687 v32201), ∀ a, (k0_off2010 v32201) a + S1x8x128.size a ≤ S1120x8x128.size a := fun v32201 k0_hw687 => k0_hw687.1
theorem k0_off2012_inb : ∀ (v32201 : BitVec 32) (k0_hw687 : k0_chk687 v32201), ∀ (r : Fin 6), ∀ a, (k0_off2012 v32201 (BitVec.ofNat 32 (810 + 5 * r.val))) a + S1x8x128.size a ≤ S1120x8x128.size a := fun v32201 k0_hw687 r => k0_hw687.2 r

def k0_off2013 (i : grid0.Coords) : Fin 3 → Nat :=
  let arg0 : BitVec 32 := BitVec.ofNat 32 (i 0).val
  let v32359 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32360 : Index := Scalar.indexCast v31699
  let c25_13645 : Index := 25#32
  ![v32359.toNat, v32360.toNat, 25]
def k0_off2014 (i : grid0.Coords) : Fin 3 → Nat :=
  let arg0 : BitVec 32 := BitVec.ofNat 32 (i 0).val
  let v32362 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32363 : Index := Scalar.indexCast v31699
  let c32_13646 : Index := 32#32
  ![v32362.toNat, v32363.toNat, 32]
def k0_off2015 (i : grid0.Coords) : Fin 3 → Nat :=
  let arg0 : BitVec 32 := BitVec.ofNat 32 (i 0).val
  let v32365 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32366 : Index := Scalar.indexCast v31699
  let c39_13647 : Index := 39#32
  ![v32365.toNat, v32366.toNat, 39]
def k0_off2016 (i : grid0.Coords) : Fin 3 → Nat :=
  let arg0 : BitVec 32 := BitVec.ofNat 32 (i 0).val
  let v32368 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32369 : Index := Scalar.indexCast v31699
  let c46_13648 : Index := 46#32
  ![v32368.toNat, v32369.toNat, 46]
def k0_off2017 (v32361 : BitVec 32) : Fin 3 → Nat :=
  let c805_i32_13653 : BitVec 32 := 805#32
  let v32393 : BitVec 32 := Scalar.addi c805_i32_13653 v32361
  let v32394 : Index := Scalar.indexCast v32393
  let c0_13654 : Index := 0#32
  let c0_13655 : Index := 0#32
  ![v32394.toNat, 0, 0]

def k0_off2018 (v32364 : BitVec 32) (c805_i32_13657 : BitVec 32) : Fin 3 → Nat :=
  let v32401 : BitVec 32 := Scalar.addi c805_i32_13657 v32364
  let v32402 : Index := Scalar.indexCast v32401
  let c0_13658 : Index := 0#32
  let c0_13659 : Index := 0#32
  ![v32402.toNat, 0, 0]

def k0_chk690 (v32364 : BitVec 32) : Prop :=
  (∀ (r : Fin 7), ∀ a, (k0_off2018 v32364 (BitVec.ofNat 32 (805 + 5 * r.val))) a + S1x8x128.size a ≤ S1120x8x128.size a)
theorem k0_off2018_inb : ∀ (v32364 : BitVec 32) (k0_hw690 : k0_chk690 v32364), ∀ (r : Fin 7), ∀ a, (k0_off2018 v32364 (BitVec.ofNat 32 (805 + 5 * r.val))) a + S1x8x128.size a ≤ S1120x8x128.size a := fun v32364 k0_hw690 r => k0_hw690 r

def k0_off2019 (v32361 : BitVec 32) (c810_i32_13662 : BitVec 32) : Fin 3 → Nat :=
  let v32411 : BitVec 32 := Scalar.addi c810_i32_13662 v32361
  let v32412 : Index := Scalar.indexCast v32411
  let c0_13663 : Index := 0#32
  let c0_13664 : Index := 0#32
  ![v32412.toNat, 0, 0]

def k0_chk689 (v32361 : BitVec 32) : Prop :=
  (∀ a, (k0_off2017 v32361) a + S1x8x128.size a ≤ S1120x8x128.size a) ∧
  (∀ (r : Fin 6), ∀ a, (k0_off2019 v32361 (BitVec.ofNat 32 (810 + 5 * r.val))) a + S1x8x128.size a ≤ S1120x8x128.size a)
theorem k0_off2017_inb : ∀ (v32361 : BitVec 32) (k0_hw689 : k0_chk689 v32361), ∀ a, (k0_off2017 v32361) a + S1x8x128.size a ≤ S1120x8x128.size a := fun v32361 k0_hw689 => k0_hw689.1
theorem k0_off2019_inb : ∀ (v32361 : BitVec 32) (k0_hw689 : k0_chk689 v32361), ∀ (r : Fin 6), ∀ a, (k0_off2019 v32361 (BitVec.ofNat 32 (810 + 5 * r.val))) a + S1x8x128.size a ≤ S1120x8x128.size a := fun v32361 k0_hw689 r => k0_hw689.2 r

def k0_off2020 (i : grid0.Coords) : Fin 3 → Nat :=
  let arg0 : BitVec 32 := BitVec.ofNat 32 (i 0).val
  let v32519 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32520 : Index := Scalar.indexCast v31699
  let c26_13716 : Index := 26#32
  ![v32519.toNat, v32520.toNat, 26]
def k0_off2021 (i : grid0.Coords) : Fin 3 → Nat :=
  let arg0 : BitVec 32 := BitVec.ofNat 32 (i 0).val
  let v32522 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32523 : Index := Scalar.indexCast v31699
  let c33_13717 : Index := 33#32
  ![v32522.toNat, v32523.toNat, 33]
def k0_off2022 (i : grid0.Coords) : Fin 3 → Nat :=
  let arg0 : BitVec 32 := BitVec.ofNat 32 (i 0).val
  let v32525 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32526 : Index := Scalar.indexCast v31699
  let c40_13718 : Index := 40#32
  ![v32525.toNat, v32526.toNat, 40]
def k0_off2023 (i : grid0.Coords) : Fin 3 → Nat :=
  let arg0 : BitVec 32 := BitVec.ofNat 32 (i 0).val
  let v32528 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32529 : Index := Scalar.indexCast v31699
  let c47_13719 : Index := 47#32
  ![v32528.toNat, v32529.toNat, 47]
def k0_off2024 (v32521 : BitVec 32) : Fin 3 → Nat :=
  let c805_i32_13724 : BitVec 32 := 805#32
  let v32553 : BitVec 32 := Scalar.addi c805_i32_13724 v32521
  let v32554 : Index := Scalar.indexCast v32553
  let c0_13725 : Index := 0#32
  let c0_13726 : Index := 0#32
  ![v32554.toNat, 0, 0]

def k0_off2025 (v32524 : BitVec 32) (c805_i32_13728 : BitVec 32) : Fin 3 → Nat :=
  let v32561 : BitVec 32 := Scalar.addi c805_i32_13728 v32524
  let v32562 : Index := Scalar.indexCast v32561
  let c0_13729 : Index := 0#32
  let c0_13730 : Index := 0#32
  ![v32562.toNat, 0, 0]

def k0_chk692 (v32524 : BitVec 32) : Prop :=
  (∀ (r : Fin 7), ∀ a, (k0_off2025 v32524 (BitVec.ofNat 32 (805 + 5 * r.val))) a + S1x8x128.size a ≤ S1120x8x128.size a)
theorem k0_off2025_inb : ∀ (v32524 : BitVec 32) (k0_hw692 : k0_chk692 v32524), ∀ (r : Fin 7), ∀ a, (k0_off2025 v32524 (BitVec.ofNat 32 (805 + 5 * r.val))) a + S1x8x128.size a ≤ S1120x8x128.size a := fun v32524 k0_hw692 r => k0_hw692 r

def k0_off2026 (v32521 : BitVec 32) (c810_i32_13733 : BitVec 32) : Fin 3 → Nat :=
  let v32571 : BitVec 32 := Scalar.addi c810_i32_13733 v32521
  let v32572 : Index := Scalar.indexCast v32571
  let c0_13734 : Index := 0#32
  let c0_13735 : Index := 0#32
  ![v32572.toNat, 0, 0]

def k0_chk691 (v32521 : BitVec 32) : Prop :=
  (∀ a, (k0_off2024 v32521) a + S1x8x128.size a ≤ S1120x8x128.size a) ∧
  (∀ (r : Fin 6), ∀ a, (k0_off2026 v32521 (BitVec.ofNat 32 (810 + 5 * r.val))) a + S1x8x128.size a ≤ S1120x8x128.size a)
theorem k0_off2024_inb : ∀ (v32521 : BitVec 32) (k0_hw691 : k0_chk691 v32521), ∀ a, (k0_off2024 v32521) a + S1x8x128.size a ≤ S1120x8x128.size a := fun v32521 k0_hw691 => k0_hw691.1
theorem k0_off2026_inb : ∀ (v32521 : BitVec 32) (k0_hw691 : k0_chk691 v32521), ∀ (r : Fin 6), ∀ a, (k0_off2026 v32521 (BitVec.ofNat 32 (810 + 5 * r.val))) a + S1x8x128.size a ≤ S1120x8x128.size a := fun v32521 k0_hw691 r => k0_hw691.2 r

def k0_off2027 (i : grid0.Coords) : Fin 3 → Nat :=
  let arg0 : BitVec 32 := BitVec.ofNat 32 (i 0).val
  let v32679 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32680 : Index := Scalar.indexCast v31699
  let c27_13787 : Index := 27#32
  ![v32679.toNat, v32680.toNat, 27]
def k0_off2028 (i : grid0.Coords) : Fin 3 → Nat :=
  let arg0 : BitVec 32 := BitVec.ofNat 32 (i 0).val
  let v32682 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32683 : Index := Scalar.indexCast v31699
  let c34_13788 : Index := 34#32
  ![v32682.toNat, v32683.toNat, 34]
def k0_off2029 (i : grid0.Coords) : Fin 3 → Nat :=
  let arg0 : BitVec 32 := BitVec.ofNat 32 (i 0).val
  let v32685 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32686 : Index := Scalar.indexCast v31699
  let c41_13789 : Index := 41#32
  ![v32685.toNat, v32686.toNat, 41]
def k0_off2030 (i : grid0.Coords) : Fin 3 → Nat :=
  let arg0 : BitVec 32 := BitVec.ofNat 32 (i 0).val
  let v32688 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32689 : Index := Scalar.indexCast v31699
  let c48_13790 : Index := 48#32
  ![v32688.toNat, v32689.toNat, 48]
def k0_off2031 (v32681 : BitVec 32) : Fin 3 → Nat :=
  let c805_i32_13795 : BitVec 32 := 805#32
  let v32713 : BitVec 32 := Scalar.addi c805_i32_13795 v32681
  let v32714 : Index := Scalar.indexCast v32713
  let c0_13796 : Index := 0#32
  let c0_13797 : Index := 0#32
  ![v32714.toNat, 0, 0]

def k0_off2032 (v32684 : BitVec 32) (c805_i32_13799 : BitVec 32) : Fin 3 → Nat :=
  let v32721 : BitVec 32 := Scalar.addi c805_i32_13799 v32684
  let v32722 : Index := Scalar.indexCast v32721
  let c0_13800 : Index := 0#32
  let c0_13801 : Index := 0#32
  ![v32722.toNat, 0, 0]

def k0_chk694 (v32684 : BitVec 32) : Prop :=
  (∀ (r : Fin 7), ∀ a, (k0_off2032 v32684 (BitVec.ofNat 32 (805 + 5 * r.val))) a + S1x8x128.size a ≤ S1120x8x128.size a)
theorem k0_off2032_inb : ∀ (v32684 : BitVec 32) (k0_hw694 : k0_chk694 v32684), ∀ (r : Fin 7), ∀ a, (k0_off2032 v32684 (BitVec.ofNat 32 (805 + 5 * r.val))) a + S1x8x128.size a ≤ S1120x8x128.size a := fun v32684 k0_hw694 r => k0_hw694 r

def k0_off2033 (v32681 : BitVec 32) (c810_i32_13804 : BitVec 32) : Fin 3 → Nat :=
  let v32731 : BitVec 32 := Scalar.addi c810_i32_13804 v32681
  let v32732 : Index := Scalar.indexCast v32731
  let c0_13805 : Index := 0#32
  let c0_13806 : Index := 0#32
  ![v32732.toNat, 0, 0]

def k0_chk693 (v32681 : BitVec 32) : Prop :=
  (∀ a, (k0_off2031 v32681) a + S1x8x128.size a ≤ S1120x8x128.size a) ∧
  (∀ (r : Fin 6), ∀ a, (k0_off2033 v32681 (BitVec.ofNat 32 (810 + 5 * r.val))) a + S1x8x128.size a ≤ S1120x8x128.size a)
theorem k0_off2031_inb : ∀ (v32681 : BitVec 32) (k0_hw693 : k0_chk693 v32681), ∀ a, (k0_off2031 v32681) a + S1x8x128.size a ≤ S1120x8x128.size a := fun v32681 k0_hw693 => k0_hw693.1
theorem k0_off2033_inb : ∀ (v32681 : BitVec 32) (k0_hw693 : k0_chk693 v32681), ∀ (r : Fin 6), ∀ a, (k0_off2033 v32681 (BitVec.ofNat 32 (810 + 5 * r.val))) a + S1x8x128.size a ≤ S1120x8x128.size a := fun v32681 k0_hw693 r => k0_hw693.2 r

def k0_off2034 (i : grid0.Coords) : Fin 3 → Nat :=
  let arg0 : BitVec 32 := BitVec.ofNat 32 (i 0).val
  let v32839 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32840 : Index := Scalar.indexCast v31699
  let c28_13858 : Index := 28#32
  ![v32839.toNat, v32840.toNat, 28]
def k0_off2035 (i : grid0.Coords) : Fin 3 → Nat :=
  let arg0 : BitVec 32 := BitVec.ofNat 32 (i 0).val
  let v32842 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32843 : Index := Scalar.indexCast v31699
  let c35_13859 : Index := 35#32
  ![v32842.toNat, v32843.toNat, 35]
def k0_off2036 (i : grid0.Coords) : Fin 3 → Nat :=
  let arg0 : BitVec 32 := BitVec.ofNat 32 (i 0).val
  let v32845 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32846 : Index := Scalar.indexCast v31699
  let c42_13860 : Index := 42#32
  ![v32845.toNat, v32846.toNat, 42]
def k0_off2037 (i : grid0.Coords) : Fin 3 → Nat :=
  let arg0 : BitVec 32 := BitVec.ofNat 32 (i 0).val
  let v32848 : Index := Scalar.indexCast arg0
  let arg1 : BitVec 32 := BitVec.ofNat 32 (i 1).val
  let c32_i32_13374 : BitVec 32 := 32#32
  let v31698 : BitVec 32 := Scalar.muli arg1 c32_i32_13374
  let c23_i32 : BitVec 32 := 23#32
  let v31699 : BitVec 32 := Scalar.addi v31698 c23_i32
  let v32849 : Index := Scalar.indexCast v31699
  let c49_13861 : Index := 49#32
  ![v32848.toNat, v32849.toNat, 49]
def k0_off2038 (v32841 : BitVec 32) : Fin 3 → Nat :=
  let c805_i32_13866 : BitVec 32 := 805#32
  let v32873 : BitVec 32 := Scalar.addi c805_i32_13866 v32841
  let v32874 : Index := Scalar.indexCast v32873
  let c0_13867 : Index := 0#32
  let c0_13868 : Index := 0#32
  ![v32874.toNat, 0, 0]

def k0_off2039 (v32844 : BitVec 32) (c805_i32_13870 : BitVec 32) : Fin 3 → Nat :=
  let v32881 : BitVec 32 := Scalar.addi c805_i32_13870 v32844
  let v32882 : Index := Scalar.indexCast v32881
  let c0_13871 : Index := 0#32
  let c0_13872 : Index := 0#32
  ![v32882.toNat, 0, 0]

def k0_chk696 (v32844 : BitVec 32) : Prop :=
  (∀ (r : Fin 7), ∀ a, (k0_off2039 v32844 (BitVec.ofNat 32 (805 + 5 * r.val))) a + S1x8x128.size a ≤ S1120x8x128.size a)
theorem k0_off2039_inb : ∀ (v32844 : BitVec 32) (k0_hw696 : k0_chk696 v32844), ∀ (r : Fin 7), ∀ a, (k0_off2039 v32844 (BitVec.ofNat 32 (805 + 5 * r.val))) a + S1x8x128.size a ≤ S1120x8x128.size a := fun v32844 k0_hw696 r => k0_hw696 r

def k0_off2040 (v32841 : BitVec 32) (c810_i32_13875 : BitVec 32) : Fin 3 → Nat :=
  let v32891 : BitVec 32 := Scalar.addi c810_i32_13875 v32841
  let v32892 : Index := Scalar.indexCast v32891
  let c0_13876 : Index := 0#32
  let c0_13877 : Index := 0#32
  ![v32892.toNat, 0, 0]

def k0_chk695 (v32841 : BitVec 32) : Prop :=
  (∀ a, (k0_off2038 v32841) a + S1x8x128.size a ≤ S1120x8x128.size a) ∧
  (∀ (r : Fin 6), ∀ a, (k0_off2040 v32841 (BitVec.ofNat 32 (810 + 5 * r.val))) a + S1x8x128.size a ≤ S1120x8x128.size a)
theorem k0_off2038_inb : ∀ (v32841 : BitVec 32) (k0_hw695 : k0_chk695 v32841), ∀ a, (k0_off2038 v32841) a + S1x8x128.size a ≤ S1120x8x128.size a := fun v32841 k0_hw695 => k0_hw695.1
theorem k0_off2040_inb : ∀ (v32841 : BitVec 32) (k0_hw695 : k0_chk695 v32841), ∀ (r : Fin 6), ∀ a, (k0_off2040 v32841 (BitVec.ofNat 32 (810 + 5 * r.val))) a + S1x8x128.size a ≤ S1120x8x128.size a := fun v32841 k0_hw695 r => k0_hw695.2 r

def k0_off2041 (i : grid0.Coords) : Fin 3 → Nat :=
  let arg0 : BitVec 32 := BitVec.ofNat 32 (i 0).val
  let v33078 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33079 : Index := Scalar.indexCast v33077
  let c0_13958 : Index := 0#32
  ![v33078.toNat, v33079.toNat, 0]
def k0_mult25 (v33080 : BitVec 32) : BitVec 32 :=
  v33080

def k0_chk697 (v33080 : BitVec 32) : Prop :=
  (8 ∣ (k0_mult25 v33080).toNat)
theorem k0_mult25_dvd : ∀ (v33080 : BitVec 32) (k0_hw697 : k0_chk697 v33080), 8 ∣ (k0_mult25 v33080).toNat := fun v33080 k0_hw697 => k0_hw697

def k0_off2042 (i : grid0.Coords) : Fin 3 → Nat :=
  let arg0 : BitVec 32 := BitVec.ofNat 32 (i 0).val
  let v33082 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33083 : Index := Scalar.indexCast v33077
  let c1_13959 : Index := 1#32
  ![v33082.toNat, v33083.toNat, 1]
def k0_off2043 (v33080 : BitVec 32) (v33084 : BitVec 32) : Fin 3 → Nat :=
  let v33085 : Index := Scalar.indexCast v33084
  let v33081 : BitVec 32 := v33080
  let v33086 : Index := Scalar.indexCast v33081
  let c0_13960 : Index := 0#32
  ![v33085.toNat, v33086.toNat, 0]

def k0_chk698 (v33080 : BitVec 32) (v33084 : BitVec 32) : Prop :=
  (∀ a, (k0_off2043 v33080 v33084) a + S1x40x128.size a ≤ S256x64x128.size a)
theorem k0_off2043_inb : ∀ (v33080 : BitVec 32) (v33084 : BitVec 32) (k0_hw698 : k0_chk698 v33080 v33084), ∀ a, (k0_off2043 v33080 v33084) a + S1x40x128.size a ≤ S256x64x128.size a := fun v33080 v33084 k0_hw698 => k0_hw698

def k0_off2044 (i : grid0.Coords) : Fin 3 → Nat :=
  let arg0 : BitVec 32 := BitVec.ofNat 32 (i 0).val
  let v33089 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33090 : Index := Scalar.indexCast v33077
  let c8_13961 : Index := 8#32
  ![v33089.toNat, v33090.toNat, 8]
def k0_off2045 (v33080 : BitVec 32) (v33091 : BitVec 32) : Fin 3 → Nat :=
  let v33092 : Index := Scalar.indexCast v33091
  let v33081 : BitVec 32 := v33080
  let v33093 : Index := Scalar.indexCast v33081
  let c0_13962 : Index := 0#32
  ![v33092.toNat, v33093.toNat, 0]

def k0_chk699 (v33080 : BitVec 32) (v33091 : BitVec 32) : Prop :=
  (∀ a, (k0_off2045 v33080 v33091) a + S1x40x128.size a ≤ S256x64x128.size a)
theorem k0_off2045_inb : ∀ (v33080 : BitVec 32) (v33091 : BitVec 32) (k0_hw699 : k0_chk699 v33080 v33091), ∀ a, (k0_off2045 v33080 v33091) a + S1x40x128.size a ≤ S256x64x128.size a := fun v33080 v33091 k0_hw699 => k0_hw699

def k0_off2046 (i : grid0.Coords) : Fin 3 → Nat :=
  let arg0 : BitVec 32 := BitVec.ofNat 32 (i 0).val
  let v33097 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33098 : Index := Scalar.indexCast v33077
  let c15_13963 : Index := 15#32
  ![v33097.toNat, v33098.toNat, 15]
def k0_off2047 (i : grid0.Coords) : Fin 3 → Nat :=
  let arg0 : BitVec 32 := BitVec.ofNat 32 (i 0).val
  let v33107 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33108 : Index := Scalar.indexCast v33077
  let c2_13968 : Index := 2#32
  ![v33107.toNat, v33108.toNat, 2]
def k0_off2048 (v33080 : BitVec 32) (v33109 : BitVec 32) : Fin 3 → Nat :=
  let v33110 : Index := Scalar.indexCast v33109
  let v33081 : BitVec 32 := v33080
  let v33111 : Index := Scalar.indexCast v33081
  let c0_13969 : Index := 0#32
  ![v33110.toNat, v33111.toNat, 0]

def k0_chk700 (v33080 : BitVec 32) (v33109 : BitVec 32) : Prop :=
  (∀ a, (k0_off2048 v33080 v33109) a + S1x40x128.size a ≤ S256x64x128.size a)
theorem k0_off2048_inb : ∀ (v33080 : BitVec 32) (v33109 : BitVec 32) (k0_hw700 : k0_chk700 v33080 v33109), ∀ a, (k0_off2048 v33080 v33109) a + S1x40x128.size a ≤ S256x64x128.size a := fun v33080 v33109 k0_hw700 => k0_hw700

def k0_off2049 (i : grid0.Coords) : Fin 3 → Nat :=
  let arg0 : BitVec 32 := BitVec.ofNat 32 (i 0).val
  let v33114 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33115 : Index := Scalar.indexCast v33077
  let c9_13970 : Index := 9#32
  ![v33114.toNat, v33115.toNat, 9]
def k0_off2050 (v33080 : BitVec 32) (v33116 : BitVec 32) : Fin 3 → Nat :=
  let v33117 : Index := Scalar.indexCast v33116
  let v33081 : BitVec 32 := v33080
  let v33118 : Index := Scalar.indexCast v33081
  let c0_13971 : Index := 0#32
  ![v33117.toNat, v33118.toNat, 0]

def k0_chk701 (v33080 : BitVec 32) (v33116 : BitVec 32) : Prop :=
  (∀ a, (k0_off2050 v33080 v33116) a + S1x40x128.size a ≤ S256x64x128.size a)
theorem k0_off2050_inb : ∀ (v33080 : BitVec 32) (v33116 : BitVec 32) (k0_hw701 : k0_chk701 v33080 v33116), ∀ a, (k0_off2050 v33080 v33116) a + S1x40x128.size a ≤ S256x64x128.size a := fun v33080 v33116 k0_hw701 => k0_hw701

def k0_off2051 (i : grid0.Coords) : Fin 3 → Nat :=
  let arg0 : BitVec 32 := BitVec.ofNat 32 (i 0).val
  let v33122 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33123 : Index := Scalar.indexCast v33077
  let c16_13972 : Index := 16#32
  ![v33122.toNat, v33123.toNat, 16]
def k0_off2052 (i : grid0.Coords) : Fin 3 → Nat :=
  let arg0 : BitVec 32 := BitVec.ofNat 32 (i 0).val
  let v33132 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33133 : Index := Scalar.indexCast v33077
  let c3_13977 : Index := 3#32
  ![v33132.toNat, v33133.toNat, 3]
def k0_off2053 (v33080 : BitVec 32) (v33134 : BitVec 32) : Fin 3 → Nat :=
  let v33135 : Index := Scalar.indexCast v33134
  let v33081 : BitVec 32 := v33080
  let v33136 : Index := Scalar.indexCast v33081
  let c0_13978 : Index := 0#32
  ![v33135.toNat, v33136.toNat, 0]

def k0_chk702 (v33080 : BitVec 32) (v33134 : BitVec 32) : Prop :=
  (∀ a, (k0_off2053 v33080 v33134) a + S1x40x128.size a ≤ S256x64x128.size a)
theorem k0_off2053_inb : ∀ (v33080 : BitVec 32) (v33134 : BitVec 32) (k0_hw702 : k0_chk702 v33080 v33134), ∀ a, (k0_off2053 v33080 v33134) a + S1x40x128.size a ≤ S256x64x128.size a := fun v33080 v33134 k0_hw702 => k0_hw702

def k0_off2054 (i : grid0.Coords) : Fin 3 → Nat :=
  let arg0 : BitVec 32 := BitVec.ofNat 32 (i 0).val
  let v33139 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33140 : Index := Scalar.indexCast v33077
  let c10_13979 : Index := 10#32
  ![v33139.toNat, v33140.toNat, 10]
def k0_off2055 (v33080 : BitVec 32) (v33141 : BitVec 32) : Fin 3 → Nat :=
  let v33142 : Index := Scalar.indexCast v33141
  let v33081 : BitVec 32 := v33080
  let v33143 : Index := Scalar.indexCast v33081
  let c0_13980 : Index := 0#32
  ![v33142.toNat, v33143.toNat, 0]

def k0_chk703 (v33080 : BitVec 32) (v33141 : BitVec 32) : Prop :=
  (∀ a, (k0_off2055 v33080 v33141) a + S1x40x128.size a ≤ S256x64x128.size a)
theorem k0_off2055_inb : ∀ (v33080 : BitVec 32) (v33141 : BitVec 32) (k0_hw703 : k0_chk703 v33080 v33141), ∀ a, (k0_off2055 v33080 v33141) a + S1x40x128.size a ≤ S256x64x128.size a := fun v33080 v33141 k0_hw703 => k0_hw703

def k0_off2056 (i : grid0.Coords) : Fin 3 → Nat :=
  let arg0 : BitVec 32 := BitVec.ofNat 32 (i 0).val
  let v33147 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33148 : Index := Scalar.indexCast v33077
  let c17_13981 : Index := 17#32
  ![v33147.toNat, v33148.toNat, 17]
def k0_off2057 (i : grid0.Coords) : Fin 3 → Nat :=
  let arg0 : BitVec 32 := BitVec.ofNat 32 (i 0).val
  let v33157 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33158 : Index := Scalar.indexCast v33077
  let c4_13986 : Index := 4#32
  ![v33157.toNat, v33158.toNat, 4]
def k0_off2058 (v33080 : BitVec 32) (v33159 : BitVec 32) : Fin 3 → Nat :=
  let v33160 : Index := Scalar.indexCast v33159
  let v33081 : BitVec 32 := v33080
  let v33161 : Index := Scalar.indexCast v33081
  let c0_13987 : Index := 0#32
  ![v33160.toNat, v33161.toNat, 0]

def k0_chk704 (v33080 : BitVec 32) (v33159 : BitVec 32) : Prop :=
  (∀ a, (k0_off2058 v33080 v33159) a + S1x40x128.size a ≤ S256x64x128.size a)
theorem k0_off2058_inb : ∀ (v33080 : BitVec 32) (v33159 : BitVec 32) (k0_hw704 : k0_chk704 v33080 v33159), ∀ a, (k0_off2058 v33080 v33159) a + S1x40x128.size a ≤ S256x64x128.size a := fun v33080 v33159 k0_hw704 => k0_hw704

def k0_off2059 (i : grid0.Coords) : Fin 3 → Nat :=
  let arg0 : BitVec 32 := BitVec.ofNat 32 (i 0).val
  let v33164 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33165 : Index := Scalar.indexCast v33077
  let c11_13988 : Index := 11#32
  ![v33164.toNat, v33165.toNat, 11]
def k0_off2060 (v33080 : BitVec 32) (v33166 : BitVec 32) : Fin 3 → Nat :=
  let v33167 : Index := Scalar.indexCast v33166
  let v33081 : BitVec 32 := v33080
  let v33168 : Index := Scalar.indexCast v33081
  let c0_13989 : Index := 0#32
  ![v33167.toNat, v33168.toNat, 0]

def k0_chk705 (v33080 : BitVec 32) (v33166 : BitVec 32) : Prop :=
  (∀ a, (k0_off2060 v33080 v33166) a + S1x40x128.size a ≤ S256x64x128.size a)
theorem k0_off2060_inb : ∀ (v33080 : BitVec 32) (v33166 : BitVec 32) (k0_hw705 : k0_chk705 v33080 v33166), ∀ a, (k0_off2060 v33080 v33166) a + S1x40x128.size a ≤ S256x64x128.size a := fun v33080 v33166 k0_hw705 => k0_hw705

def k0_off2061 (i : grid0.Coords) : Fin 3 → Nat :=
  let arg0 : BitVec 32 := BitVec.ofNat 32 (i 0).val
  let v33172 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33173 : Index := Scalar.indexCast v33077
  let c18_13990 : Index := 18#32
  ![v33172.toNat, v33173.toNat, 18]
def k0_off2062 (i : grid0.Coords) : Fin 3 → Nat :=
  let arg0 : BitVec 32 := BitVec.ofNat 32 (i 0).val
  let v33182 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33183 : Index := Scalar.indexCast v33077
  let c5_13995 : Index := 5#32
  ![v33182.toNat, v33183.toNat, 5]
def k0_off2063 (v33080 : BitVec 32) (v33184 : BitVec 32) : Fin 3 → Nat :=
  let v33185 : Index := Scalar.indexCast v33184
  let v33081 : BitVec 32 := v33080
  let v33186 : Index := Scalar.indexCast v33081
  let c0_13996 : Index := 0#32
  ![v33185.toNat, v33186.toNat, 0]

def k0_chk706 (v33080 : BitVec 32) (v33184 : BitVec 32) : Prop :=
  (∀ a, (k0_off2063 v33080 v33184) a + S1x40x128.size a ≤ S256x64x128.size a)
theorem k0_off2063_inb : ∀ (v33080 : BitVec 32) (v33184 : BitVec 32) (k0_hw706 : k0_chk706 v33080 v33184), ∀ a, (k0_off2063 v33080 v33184) a + S1x40x128.size a ≤ S256x64x128.size a := fun v33080 v33184 k0_hw706 => k0_hw706

def k0_off2064 (i : grid0.Coords) : Fin 3 → Nat :=
  let arg0 : BitVec 32 := BitVec.ofNat 32 (i 0).val
  let v33189 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33190 : Index := Scalar.indexCast v33077
  let c12_13997 : Index := 12#32
  ![v33189.toNat, v33190.toNat, 12]
def k0_off2065 (v33080 : BitVec 32) (v33191 : BitVec 32) : Fin 3 → Nat :=
  let v33192 : Index := Scalar.indexCast v33191
  let v33081 : BitVec 32 := v33080
  let v33193 : Index := Scalar.indexCast v33081
  let c0_13998 : Index := 0#32
  ![v33192.toNat, v33193.toNat, 0]

def k0_chk707 (v33080 : BitVec 32) (v33191 : BitVec 32) : Prop :=
  (∀ a, (k0_off2065 v33080 v33191) a + S1x40x128.size a ≤ S256x64x128.size a)
theorem k0_off2065_inb : ∀ (v33080 : BitVec 32) (v33191 : BitVec 32) (k0_hw707 : k0_chk707 v33080 v33191), ∀ a, (k0_off2065 v33080 v33191) a + S1x40x128.size a ≤ S256x64x128.size a := fun v33080 v33191 k0_hw707 => k0_hw707

def k0_off2066 (i : grid0.Coords) : Fin 3 → Nat :=
  let arg0 : BitVec 32 := BitVec.ofNat 32 (i 0).val
  let v33197 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33198 : Index := Scalar.indexCast v33077
  let c19_13999 : Index := 19#32
  ![v33197.toNat, v33198.toNat, 19]
def k0_off2067 (i : grid0.Coords) : Fin 3 → Nat :=
  let arg0 : BitVec 32 := BitVec.ofNat 32 (i 0).val
  let v33207 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33208 : Index := Scalar.indexCast v33077
  let c6_14004 : Index := 6#32
  ![v33207.toNat, v33208.toNat, 6]
def k0_off2068 (v33080 : BitVec 32) (v33209 : BitVec 32) : Fin 3 → Nat :=
  let v33210 : Index := Scalar.indexCast v33209
  let v33081 : BitVec 32 := v33080
  let v33211 : Index := Scalar.indexCast v33081
  let c0_14005 : Index := 0#32
  ![v33210.toNat, v33211.toNat, 0]

def k0_chk708 (v33080 : BitVec 32) (v33209 : BitVec 32) : Prop :=
  (∀ a, (k0_off2068 v33080 v33209) a + S1x40x128.size a ≤ S256x64x128.size a)
theorem k0_off2068_inb : ∀ (v33080 : BitVec 32) (v33209 : BitVec 32) (k0_hw708 : k0_chk708 v33080 v33209), ∀ a, (k0_off2068 v33080 v33209) a + S1x40x128.size a ≤ S256x64x128.size a := fun v33080 v33209 k0_hw708 => k0_hw708

def k0_off2069 (i : grid0.Coords) : Fin 3 → Nat :=
  let arg0 : BitVec 32 := BitVec.ofNat 32 (i 0).val
  let v33214 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33215 : Index := Scalar.indexCast v33077
  let c13_14006 : Index := 13#32
  ![v33214.toNat, v33215.toNat, 13]
def k0_off2070 (v33080 : BitVec 32) (v33216 : BitVec 32) : Fin 3 → Nat :=
  let v33217 : Index := Scalar.indexCast v33216
  let v33081 : BitVec 32 := v33080
  let v33218 : Index := Scalar.indexCast v33081
  let c0_14007 : Index := 0#32
  ![v33217.toNat, v33218.toNat, 0]

def k0_chk709 (v33080 : BitVec 32) (v33216 : BitVec 32) : Prop :=
  (∀ a, (k0_off2070 v33080 v33216) a + S1x40x128.size a ≤ S256x64x128.size a)
theorem k0_off2070_inb : ∀ (v33080 : BitVec 32) (v33216 : BitVec 32) (k0_hw709 : k0_chk709 v33080 v33216), ∀ a, (k0_off2070 v33080 v33216) a + S1x40x128.size a ≤ S256x64x128.size a := fun v33080 v33216 k0_hw709 => k0_hw709

def k0_off2071 (i : grid0.Coords) : Fin 3 → Nat :=
  let arg0 : BitVec 32 := BitVec.ofNat 32 (i 0).val
  let v33222 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33223 : Index := Scalar.indexCast v33077
  let c20_14008 : Index := 20#32
  ![v33222.toNat, v33223.toNat, 20]
def k0_off2072 (i : grid0.Coords) : Fin 3 → Nat :=
  let arg0 : BitVec 32 := BitVec.ofNat 32 (i 0).val
  let v33232 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33233 : Index := Scalar.indexCast v33077
  let c7_14013 : Index := 7#32
  ![v33232.toNat, v33233.toNat, 7]
def k0_off2073 (v33080 : BitVec 32) (v33234 : BitVec 32) : Fin 3 → Nat :=
  let v33235 : Index := Scalar.indexCast v33234
  let v33081 : BitVec 32 := v33080
  let v33236 : Index := Scalar.indexCast v33081
  let c0_14014 : Index := 0#32
  ![v33235.toNat, v33236.toNat, 0]

def k0_chk710 (v33080 : BitVec 32) (v33234 : BitVec 32) : Prop :=
  (∀ a, (k0_off2073 v33080 v33234) a + S1x40x128.size a ≤ S256x64x128.size a)
theorem k0_off2073_inb : ∀ (v33080 : BitVec 32) (v33234 : BitVec 32) (k0_hw710 : k0_chk710 v33080 v33234), ∀ a, (k0_off2073 v33080 v33234) a + S1x40x128.size a ≤ S256x64x128.size a := fun v33080 v33234 k0_hw710 => k0_hw710

def k0_off2074 (i : grid0.Coords) : Fin 3 → Nat :=
  let arg0 : BitVec 32 := BitVec.ofNat 32 (i 0).val
  let v33239 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33240 : Index := Scalar.indexCast v33077
  let c14_14015 : Index := 14#32
  ![v33239.toNat, v33240.toNat, 14]
def k0_off2075 (v33080 : BitVec 32) (v33241 : BitVec 32) : Fin 3 → Nat :=
  let v33242 : Index := Scalar.indexCast v33241
  let v33081 : BitVec 32 := v33080
  let v33243 : Index := Scalar.indexCast v33081
  let c0_14016 : Index := 0#32
  ![v33242.toNat, v33243.toNat, 0]

def k0_chk711 (v33080 : BitVec 32) (v33241 : BitVec 32) : Prop :=
  (∀ a, (k0_off2075 v33080 v33241) a + S1x40x128.size a ≤ S256x64x128.size a)
theorem k0_off2075_inb : ∀ (v33080 : BitVec 32) (v33241 : BitVec 32) (k0_hw711 : k0_chk711 v33080 v33241), ∀ a, (k0_off2075 v33080 v33241) a + S1x40x128.size a ≤ S256x64x128.size a := fun v33080 v33241 k0_hw711 => k0_hw711

def k0_off2076 (i : grid0.Coords) : Fin 3 → Nat :=
  let arg0 : BitVec 32 := BitVec.ofNat 32 (i 0).val
  let v33247 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33248 : Index := Scalar.indexCast v33077
  let c21_14017 : Index := 21#32
  ![v33247.toNat, v33248.toNat, 21]
def k0_off2077 (i : grid0.Coords) : Fin 3 → Nat :=
  let arg0 : BitVec 32 := BitVec.ofNat 32 (i 0).val
  let v33257 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33258 : Index := Scalar.indexCast v33077
  let c22_14022 : Index := 22#32
  ![v33257.toNat, v33258.toNat, 22]
def k0_off2078 (i : grid0.Coords) : Fin 3 → Nat :=
  let arg0 : BitVec 32 := BitVec.ofNat 32 (i 0).val
  let v33260 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33261 : Index := Scalar.indexCast v33077
  let c29_14023 : Index := 29#32
  ![v33260.toNat, v33261.toNat, 29]
def k0_off2079 (i : grid0.Coords) : Fin 3 → Nat :=
  let arg0 : BitVec 32 := BitVec.ofNat 32 (i 0).val
  let v33263 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33264 : Index := Scalar.indexCast v33077
  let c36_14024 : Index := 36#32
  ![v33263.toNat, v33264.toNat, 36]
def k0_off2080 (i : grid0.Coords) : Fin 3 → Nat :=
  let arg0 : BitVec 32 := BitVec.ofNat 32 (i 0).val
  let v33266 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33267 : Index := Scalar.indexCast v33077
  let c43_14025 : Index := 43#32
  ![v33266.toNat, v33267.toNat, 43]
def k0_off2081 (v33259 : BitVec 32) : Fin 3 → Nat :=
  let c840_i32 : BitVec 32 := 840#32
  let v33291 : BitVec 32 := Scalar.addi c840_i32 v33259
  let v33292 : Index := Scalar.indexCast v33291
  let c0_14030 : Index := 0#32
  let c0_14031 : Index := 0#32
  ![v33292.toNat, 0, 0]

def k0_off2082 (v33262 : BitVec 32) (c840_i32_14033 : BitVec 32) : Fin 3 → Nat :=
  let v33299 : BitVec 32 := Scalar.addi c840_i32_14033 v33262
  let v33300 : Index := Scalar.indexCast v33299
  let c0_14034 : Index := 0#32
  let c0_14035 : Index := 0#32
  ![v33300.toNat, 0, 0]

def k0_chk713 (v33262 : BitVec 32) : Prop :=
  (∀ (r : Fin 7), ∀ a, (k0_off2082 v33262 (BitVec.ofNat 32 (840 + 5 * r.val))) a + S1x8x128.size a ≤ S1120x8x128.size a)
theorem k0_off2082_inb : ∀ (v33262 : BitVec 32) (k0_hw713 : k0_chk713 v33262), ∀ (r : Fin 7), ∀ a, (k0_off2082 v33262 (BitVec.ofNat 32 (840 + 5 * r.val))) a + S1x8x128.size a ≤ S1120x8x128.size a := fun v33262 k0_hw713 r => k0_hw713 r

def k0_off2083 (v33259 : BitVec 32) (c845_i32 : BitVec 32) : Fin 3 → Nat :=
  let v33309 : BitVec 32 := Scalar.addi c845_i32 v33259
  let v33310 : Index := Scalar.indexCast v33309
  let c0_14038 : Index := 0#32
  let c0_14039 : Index := 0#32
  ![v33310.toNat, 0, 0]

def k0_chk712 (v33259 : BitVec 32) : Prop :=
  (∀ a, (k0_off2081 v33259) a + S1x8x128.size a ≤ S1120x8x128.size a) ∧
  (∀ (r : Fin 6), ∀ a, (k0_off2083 v33259 (BitVec.ofNat 32 (845 + 5 * r.val))) a + S1x8x128.size a ≤ S1120x8x128.size a)
theorem k0_off2081_inb : ∀ (v33259 : BitVec 32) (k0_hw712 : k0_chk712 v33259), ∀ a, (k0_off2081 v33259) a + S1x8x128.size a ≤ S1120x8x128.size a := fun v33259 k0_hw712 => k0_hw712.1
theorem k0_off2083_inb : ∀ (v33259 : BitVec 32) (k0_hw712 : k0_chk712 v33259), ∀ (r : Fin 6), ∀ a, (k0_off2083 v33259 (BitVec.ofNat 32 (845 + 5 * r.val))) a + S1x8x128.size a ≤ S1120x8x128.size a := fun v33259 k0_hw712 r => k0_hw712.2 r

def k0_off2084 (i : grid0.Coords) : Fin 3 → Nat :=
  let arg0 : BitVec 32 := BitVec.ofNat 32 (i 0).val
  let v33417 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33418 : Index := Scalar.indexCast v33077
  let c23_14086 : Index := 23#32
  ![v33417.toNat, v33418.toNat, 23]
def k0_off2085 (i : grid0.Coords) : Fin 3 → Nat :=
  let arg0 : BitVec 32 := BitVec.ofNat 32 (i 0).val
  let v33420 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33421 : Index := Scalar.indexCast v33077
  let c30_14087 : Index := 30#32
  ![v33420.toNat, v33421.toNat, 30]
def k0_off2086 (i : grid0.Coords) : Fin 3 → Nat :=
  let arg0 : BitVec 32 := BitVec.ofNat 32 (i 0).val
  let v33423 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33424 : Index := Scalar.indexCast v33077
  let c37_14088 : Index := 37#32
  ![v33423.toNat, v33424.toNat, 37]
def k0_off2087 (i : grid0.Coords) : Fin 3 → Nat :=
  let arg0 : BitVec 32 := BitVec.ofNat 32 (i 0).val
  let v33426 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33427 : Index := Scalar.indexCast v33077
  let c44_14089 : Index := 44#32
  ![v33426.toNat, v33427.toNat, 44]
def k0_off2088 (v33419 : BitVec 32) : Fin 3 → Nat :=
  let c840_i32_14094 : BitVec 32 := 840#32
  let v33451 : BitVec 32 := Scalar.addi c840_i32_14094 v33419
  let v33452 : Index := Scalar.indexCast v33451
  let c0_14095 : Index := 0#32
  let c0_14096 : Index := 0#32
  ![v33452.toNat, 0, 0]

def k0_off2089 (v33422 : BitVec 32) (c840_i32_14098 : BitVec 32) : Fin 3 → Nat :=
  let v33459 : BitVec 32 := Scalar.addi c840_i32_14098 v33422
  let v33460 : Index := Scalar.indexCast v33459
  let c0_14099 : Index := 0#32
  let c0_14100 : Index := 0#32
  ![v33460.toNat, 0, 0]

def k0_chk715 (v33422 : BitVec 32) : Prop :=
  (∀ (r : Fin 7), ∀ a, (k0_off2089 v33422 (BitVec.ofNat 32 (840 + 5 * r.val))) a + S1x8x128.size a ≤ S1120x8x128.size a)
theorem k0_off2089_inb : ∀ (v33422 : BitVec 32) (k0_hw715 : k0_chk715 v33422), ∀ (r : Fin 7), ∀ a, (k0_off2089 v33422 (BitVec.ofNat 32 (840 + 5 * r.val))) a + S1x8x128.size a ≤ S1120x8x128.size a := fun v33422 k0_hw715 r => k0_hw715 r

def k0_off2090 (v33419 : BitVec 32) (c845_i32_14103 : BitVec 32) : Fin 3 → Nat :=
  let v33469 : BitVec 32 := Scalar.addi c845_i32_14103 v33419
  let v33470 : Index := Scalar.indexCast v33469
  let c0_14104 : Index := 0#32
  let c0_14105 : Index := 0#32
  ![v33470.toNat, 0, 0]

def k0_chk714 (v33419 : BitVec 32) : Prop :=
  (∀ a, (k0_off2088 v33419) a + S1x8x128.size a ≤ S1120x8x128.size a) ∧
  (∀ (r : Fin 6), ∀ a, (k0_off2090 v33419 (BitVec.ofNat 32 (845 + 5 * r.val))) a + S1x8x128.size a ≤ S1120x8x128.size a)
theorem k0_off2088_inb : ∀ (v33419 : BitVec 32) (k0_hw714 : k0_chk714 v33419), ∀ a, (k0_off2088 v33419) a + S1x8x128.size a ≤ S1120x8x128.size a := fun v33419 k0_hw714 => k0_hw714.1
theorem k0_off2090_inb : ∀ (v33419 : BitVec 32) (k0_hw714 : k0_chk714 v33419), ∀ (r : Fin 6), ∀ a, (k0_off2090 v33419 (BitVec.ofNat 32 (845 + 5 * r.val))) a + S1x8x128.size a ≤ S1120x8x128.size a := fun v33419 k0_hw714 r => k0_hw714.2 r

def k0_off2091 (i : grid0.Coords) : Fin 3 → Nat :=
  let arg0 : BitVec 32 := BitVec.ofNat 32 (i 0).val
  let v33577 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33578 : Index := Scalar.indexCast v33077
  let c24_14157 : Index := 24#32
  ![v33577.toNat, v33578.toNat, 24]
def k0_off2092 (i : grid0.Coords) : Fin 3 → Nat :=
  let arg0 : BitVec 32 := BitVec.ofNat 32 (i 0).val
  let v33580 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33581 : Index := Scalar.indexCast v33077
  let c31_14158 : Index := 31#32
  ![v33580.toNat, v33581.toNat, 31]
def k0_off2093 (i : grid0.Coords) : Fin 3 → Nat :=
  let arg0 : BitVec 32 := BitVec.ofNat 32 (i 0).val
  let v33583 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33584 : Index := Scalar.indexCast v33077
  let c38_14159 : Index := 38#32
  ![v33583.toNat, v33584.toNat, 38]
def k0_off2094 (i : grid0.Coords) : Fin 3 → Nat :=
  let arg0 : BitVec 32 := BitVec.ofNat 32 (i 0).val
  let v33586 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33587 : Index := Scalar.indexCast v33077
  let c45_14160 : Index := 45#32
  ![v33586.toNat, v33587.toNat, 45]
def k0_off2095 (v33579 : BitVec 32) : Fin 3 → Nat :=
  let c840_i32_14165 : BitVec 32 := 840#32
  let v33611 : BitVec 32 := Scalar.addi c840_i32_14165 v33579
  let v33612 : Index := Scalar.indexCast v33611
  let c0_14166 : Index := 0#32
  let c0_14167 : Index := 0#32
  ![v33612.toNat, 0, 0]

def k0_off2096 (v33582 : BitVec 32) (c840_i32_14169 : BitVec 32) : Fin 3 → Nat :=
  let v33619 : BitVec 32 := Scalar.addi c840_i32_14169 v33582
  let v33620 : Index := Scalar.indexCast v33619
  let c0_14170 : Index := 0#32
  let c0_14171 : Index := 0#32
  ![v33620.toNat, 0, 0]

def k0_chk717 (v33582 : BitVec 32) : Prop :=
  (∀ (r : Fin 7), ∀ a, (k0_off2096 v33582 (BitVec.ofNat 32 (840 + 5 * r.val))) a + S1x8x128.size a ≤ S1120x8x128.size a)
theorem k0_off2096_inb : ∀ (v33582 : BitVec 32) (k0_hw717 : k0_chk717 v33582), ∀ (r : Fin 7), ∀ a, (k0_off2096 v33582 (BitVec.ofNat 32 (840 + 5 * r.val))) a + S1x8x128.size a ≤ S1120x8x128.size a := fun v33582 k0_hw717 r => k0_hw717 r

def k0_off2097 (v33579 : BitVec 32) (c845_i32_14174 : BitVec 32) : Fin 3 → Nat :=
  let v33629 : BitVec 32 := Scalar.addi c845_i32_14174 v33579
  let v33630 : Index := Scalar.indexCast v33629
  let c0_14175 : Index := 0#32
  let c0_14176 : Index := 0#32
  ![v33630.toNat, 0, 0]

def k0_chk716 (v33579 : BitVec 32) : Prop :=
  (∀ a, (k0_off2095 v33579) a + S1x8x128.size a ≤ S1120x8x128.size a) ∧
  (∀ (r : Fin 6), ∀ a, (k0_off2097 v33579 (BitVec.ofNat 32 (845 + 5 * r.val))) a + S1x8x128.size a ≤ S1120x8x128.size a)
theorem k0_off2095_inb : ∀ (v33579 : BitVec 32) (k0_hw716 : k0_chk716 v33579), ∀ a, (k0_off2095 v33579) a + S1x8x128.size a ≤ S1120x8x128.size a := fun v33579 k0_hw716 => k0_hw716.1
theorem k0_off2097_inb : ∀ (v33579 : BitVec 32) (k0_hw716 : k0_chk716 v33579), ∀ (r : Fin 6), ∀ a, (k0_off2097 v33579 (BitVec.ofNat 32 (845 + 5 * r.val))) a + S1x8x128.size a ≤ S1120x8x128.size a := fun v33579 k0_hw716 r => k0_hw716.2 r

def k0_off2098 (i : grid0.Coords) : Fin 3 → Nat :=
  let arg0 : BitVec 32 := BitVec.ofNat 32 (i 0).val
  let v33737 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33738 : Index := Scalar.indexCast v33077
  let c25_14228 : Index := 25#32
  ![v33737.toNat, v33738.toNat, 25]
def k0_off2099 (i : grid0.Coords) : Fin 3 → Nat :=
  let arg0 : BitVec 32 := BitVec.ofNat 32 (i 0).val
  let v33740 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33741 : Index := Scalar.indexCast v33077
  let c32_14229 : Index := 32#32
  ![v33740.toNat, v33741.toNat, 32]
def k0_off2100 (i : grid0.Coords) : Fin 3 → Nat :=
  let arg0 : BitVec 32 := BitVec.ofNat 32 (i 0).val
  let v33743 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33744 : Index := Scalar.indexCast v33077
  let c39_14230 : Index := 39#32
  ![v33743.toNat, v33744.toNat, 39]
def k0_off2101 (i : grid0.Coords) : Fin 3 → Nat :=
  let arg0 : BitVec 32 := BitVec.ofNat 32 (i 0).val
  let v33746 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33747 : Index := Scalar.indexCast v33077
  let c46_14231 : Index := 46#32
  ![v33746.toNat, v33747.toNat, 46]
def k0_off2102 (v33739 : BitVec 32) : Fin 3 → Nat :=
  let c840_i32_14236 : BitVec 32 := 840#32
  let v33771 : BitVec 32 := Scalar.addi c840_i32_14236 v33739
  let v33772 : Index := Scalar.indexCast v33771
  let c0_14237 : Index := 0#32
  let c0_14238 : Index := 0#32
  ![v33772.toNat, 0, 0]

def k0_off2103 (v33742 : BitVec 32) (c840_i32_14240 : BitVec 32) : Fin 3 → Nat :=
  let v33779 : BitVec 32 := Scalar.addi c840_i32_14240 v33742
  let v33780 : Index := Scalar.indexCast v33779
  let c0_14241 : Index := 0#32
  let c0_14242 : Index := 0#32
  ![v33780.toNat, 0, 0]

def k0_chk719 (v33742 : BitVec 32) : Prop :=
  (∀ (r : Fin 7), ∀ a, (k0_off2103 v33742 (BitVec.ofNat 32 (840 + 5 * r.val))) a + S1x8x128.size a ≤ S1120x8x128.size a)
theorem k0_off2103_inb : ∀ (v33742 : BitVec 32) (k0_hw719 : k0_chk719 v33742), ∀ (r : Fin 7), ∀ a, (k0_off2103 v33742 (BitVec.ofNat 32 (840 + 5 * r.val))) a + S1x8x128.size a ≤ S1120x8x128.size a := fun v33742 k0_hw719 r => k0_hw719 r

def k0_off2104 (v33739 : BitVec 32) (c845_i32_14245 : BitVec 32) : Fin 3 → Nat :=
  let v33789 : BitVec 32 := Scalar.addi c845_i32_14245 v33739
  let v33790 : Index := Scalar.indexCast v33789
  let c0_14246 : Index := 0#32
  let c0_14247 : Index := 0#32
  ![v33790.toNat, 0, 0]

def k0_chk718 (v33739 : BitVec 32) : Prop :=
  (∀ a, (k0_off2102 v33739) a + S1x8x128.size a ≤ S1120x8x128.size a) ∧
  (∀ (r : Fin 6), ∀ a, (k0_off2104 v33739 (BitVec.ofNat 32 (845 + 5 * r.val))) a + S1x8x128.size a ≤ S1120x8x128.size a)
theorem k0_off2102_inb : ∀ (v33739 : BitVec 32) (k0_hw718 : k0_chk718 v33739), ∀ a, (k0_off2102 v33739) a + S1x8x128.size a ≤ S1120x8x128.size a := fun v33739 k0_hw718 => k0_hw718.1
theorem k0_off2104_inb : ∀ (v33739 : BitVec 32) (k0_hw718 : k0_chk718 v33739), ∀ (r : Fin 6), ∀ a, (k0_off2104 v33739 (BitVec.ofNat 32 (845 + 5 * r.val))) a + S1x8x128.size a ≤ S1120x8x128.size a := fun v33739 k0_hw718 r => k0_hw718.2 r

def k0_off2105 (i : grid0.Coords) : Fin 3 → Nat :=
  let arg0 : BitVec 32 := BitVec.ofNat 32 (i 0).val
  let v33897 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33898 : Index := Scalar.indexCast v33077
  let c26_14299 : Index := 26#32
  ![v33897.toNat, v33898.toNat, 26]
def k0_off2106 (i : grid0.Coords) : Fin 3 → Nat :=
  let arg0 : BitVec 32 := BitVec.ofNat 32 (i 0).val
  let v33900 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33901 : Index := Scalar.indexCast v33077
  let c33_14300 : Index := 33#32
  ![v33900.toNat, v33901.toNat, 33]
def k0_off2107 (i : grid0.Coords) : Fin 3 → Nat :=
  let arg0 : BitVec 32 := BitVec.ofNat 32 (i 0).val
  let v33903 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33904 : Index := Scalar.indexCast v33077
  let c40_14301 : Index := 40#32
  ![v33903.toNat, v33904.toNat, 40]
def k0_off2108 (i : grid0.Coords) : Fin 3 → Nat :=
  let arg0 : BitVec 32 := BitVec.ofNat 32 (i 0).val
  let v33906 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v33907 : Index := Scalar.indexCast v33077
  let c47_14302 : Index := 47#32
  ![v33906.toNat, v33907.toNat, 47]
def k0_off2109 (v33899 : BitVec 32) : Fin 3 → Nat :=
  let c840_i32_14307 : BitVec 32 := 840#32
  let v33931 : BitVec 32 := Scalar.addi c840_i32_14307 v33899
  let v33932 : Index := Scalar.indexCast v33931
  let c0_14308 : Index := 0#32
  let c0_14309 : Index := 0#32
  ![v33932.toNat, 0, 0]

def k0_off2110 (v33902 : BitVec 32) (c840_i32_14311 : BitVec 32) : Fin 3 → Nat :=
  let v33939 : BitVec 32 := Scalar.addi c840_i32_14311 v33902
  let v33940 : Index := Scalar.indexCast v33939
  let c0_14312 : Index := 0#32
  let c0_14313 : Index := 0#32
  ![v33940.toNat, 0, 0]

def k0_chk721 (v33902 : BitVec 32) : Prop :=
  (∀ (r : Fin 7), ∀ a, (k0_off2110 v33902 (BitVec.ofNat 32 (840 + 5 * r.val))) a + S1x8x128.size a ≤ S1120x8x128.size a)
theorem k0_off2110_inb : ∀ (v33902 : BitVec 32) (k0_hw721 : k0_chk721 v33902), ∀ (r : Fin 7), ∀ a, (k0_off2110 v33902 (BitVec.ofNat 32 (840 + 5 * r.val))) a + S1x8x128.size a ≤ S1120x8x128.size a := fun v33902 k0_hw721 r => k0_hw721 r

def k0_off2111 (v33899 : BitVec 32) (c845_i32_14316 : BitVec 32) : Fin 3 → Nat :=
  let v33949 : BitVec 32 := Scalar.addi c845_i32_14316 v33899
  let v33950 : Index := Scalar.indexCast v33949
  let c0_14317 : Index := 0#32
  let c0_14318 : Index := 0#32
  ![v33950.toNat, 0, 0]

def k0_chk720 (v33899 : BitVec 32) : Prop :=
  (∀ a, (k0_off2109 v33899) a + S1x8x128.size a ≤ S1120x8x128.size a) ∧
  (∀ (r : Fin 6), ∀ a, (k0_off2111 v33899 (BitVec.ofNat 32 (845 + 5 * r.val))) a + S1x8x128.size a ≤ S1120x8x128.size a)
theorem k0_off2109_inb : ∀ (v33899 : BitVec 32) (k0_hw720 : k0_chk720 v33899), ∀ a, (k0_off2109 v33899) a + S1x8x128.size a ≤ S1120x8x128.size a := fun v33899 k0_hw720 => k0_hw720.1
theorem k0_off2111_inb : ∀ (v33899 : BitVec 32) (k0_hw720 : k0_chk720 v33899), ∀ (r : Fin 6), ∀ a, (k0_off2111 v33899 (BitVec.ofNat 32 (845 + 5 * r.val))) a + S1x8x128.size a ≤ S1120x8x128.size a := fun v33899 k0_hw720 r => k0_hw720.2 r

def k0_off2112 (i : grid0.Coords) : Fin 3 → Nat :=
  let arg0 : BitVec 32 := BitVec.ofNat 32 (i 0).val
  let v34057 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34058 : Index := Scalar.indexCast v33077
  let c27_14370 : Index := 27#32
  ![v34057.toNat, v34058.toNat, 27]
def k0_off2113 (i : grid0.Coords) : Fin 3 → Nat :=
  let arg0 : BitVec 32 := BitVec.ofNat 32 (i 0).val
  let v34060 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34061 : Index := Scalar.indexCast v33077
  let c34_14371 : Index := 34#32
  ![v34060.toNat, v34061.toNat, 34]
def k0_off2114 (i : grid0.Coords) : Fin 3 → Nat :=
  let arg0 : BitVec 32 := BitVec.ofNat 32 (i 0).val
  let v34063 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34064 : Index := Scalar.indexCast v33077
  let c41_14372 : Index := 41#32
  ![v34063.toNat, v34064.toNat, 41]
def k0_off2115 (i : grid0.Coords) : Fin 3 → Nat :=
  let arg0 : BitVec 32 := BitVec.ofNat 32 (i 0).val
  let v34066 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34067 : Index := Scalar.indexCast v33077
  let c48_14373 : Index := 48#32
  ![v34066.toNat, v34067.toNat, 48]
def k0_off2116 (v34059 : BitVec 32) : Fin 3 → Nat :=
  let c840_i32_14378 : BitVec 32 := 840#32
  let v34091 : BitVec 32 := Scalar.addi c840_i32_14378 v34059
  let v34092 : Index := Scalar.indexCast v34091
  let c0_14379 : Index := 0#32
  let c0_14380 : Index := 0#32
  ![v34092.toNat, 0, 0]

def k0_off2117 (v34062 : BitVec 32) (c840_i32_14382 : BitVec 32) : Fin 3 → Nat :=
  let v34099 : BitVec 32 := Scalar.addi c840_i32_14382 v34062
  let v34100 : Index := Scalar.indexCast v34099
  let c0_14383 : Index := 0#32
  let c0_14384 : Index := 0#32
  ![v34100.toNat, 0, 0]

def k0_chk723 (v34062 : BitVec 32) : Prop :=
  (∀ (r : Fin 7), ∀ a, (k0_off2117 v34062 (BitVec.ofNat 32 (840 + 5 * r.val))) a + S1x8x128.size a ≤ S1120x8x128.size a)
theorem k0_off2117_inb : ∀ (v34062 : BitVec 32) (k0_hw723 : k0_chk723 v34062), ∀ (r : Fin 7), ∀ a, (k0_off2117 v34062 (BitVec.ofNat 32 (840 + 5 * r.val))) a + S1x8x128.size a ≤ S1120x8x128.size a := fun v34062 k0_hw723 r => k0_hw723 r

def k0_off2118 (v34059 : BitVec 32) (c845_i32_14387 : BitVec 32) : Fin 3 → Nat :=
  let v34109 : BitVec 32 := Scalar.addi c845_i32_14387 v34059
  let v34110 : Index := Scalar.indexCast v34109
  let c0_14388 : Index := 0#32
  let c0_14389 : Index := 0#32
  ![v34110.toNat, 0, 0]

def k0_chk722 (v34059 : BitVec 32) : Prop :=
  (∀ a, (k0_off2116 v34059) a + S1x8x128.size a ≤ S1120x8x128.size a) ∧
  (∀ (r : Fin 6), ∀ a, (k0_off2118 v34059 (BitVec.ofNat 32 (845 + 5 * r.val))) a + S1x8x128.size a ≤ S1120x8x128.size a)
theorem k0_off2116_inb : ∀ (v34059 : BitVec 32) (k0_hw722 : k0_chk722 v34059), ∀ a, (k0_off2116 v34059) a + S1x8x128.size a ≤ S1120x8x128.size a := fun v34059 k0_hw722 => k0_hw722.1
theorem k0_off2118_inb : ∀ (v34059 : BitVec 32) (k0_hw722 : k0_chk722 v34059), ∀ (r : Fin 6), ∀ a, (k0_off2118 v34059 (BitVec.ofNat 32 (845 + 5 * r.val))) a + S1x8x128.size a ≤ S1120x8x128.size a := fun v34059 k0_hw722 r => k0_hw722.2 r

def k0_off2119 (i : grid0.Coords) : Fin 3 → Nat :=
  let arg0 : BitVec 32 := BitVec.ofNat 32 (i 0).val
  let v34217 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34218 : Index := Scalar.indexCast v33077
  let c28_14441 : Index := 28#32
  ![v34217.toNat, v34218.toNat, 28]
def k0_off2120 (i : grid0.Coords) : Fin 3 → Nat :=
  let arg0 : BitVec 32 := BitVec.ofNat 32 (i 0).val
  let v34220 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34221 : Index := Scalar.indexCast v33077
  let c35_14442 : Index := 35#32
  ![v34220.toNat, v34221.toNat, 35]
def k0_off2121 (i : grid0.Coords) : Fin 3 → Nat :=
  let arg0 : BitVec 32 := BitVec.ofNat 32 (i 0).val
  let v34223 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34224 : Index := Scalar.indexCast v33077
  let c42_14443 : Index := 42#32
  ![v34223.toNat, v34224.toNat, 42]
def k0_off2122 (i : grid0.Coords) : Fin 3 → Nat :=
  let arg0 : BitVec 32 := BitVec.ofNat 32 (i 0).val
  let v34226 : Index := Scalar.indexCast arg0
  let arg1 : BitVec 32 := BitVec.ofNat 32 (i 1).val
  let c32_i32_13957 : BitVec 32 := 32#32
  let v33076 : BitVec 32 := Scalar.muli arg1 c32_i32_13957
  let c24_i32 : BitVec 32 := 24#32
  let v33077 : BitVec 32 := Scalar.addi v33076 c24_i32
  let v34227 : Index := Scalar.indexCast v33077
  let c49_14444 : Index := 49#32
  ![v34226.toNat, v34227.toNat, 49]
def k0_off2123 (v34219 : BitVec 32) : Fin 3 → Nat :=
  let c840_i32_14449 : BitVec 32 := 840#32
  let v34251 : BitVec 32 := Scalar.addi c840_i32_14449 v34219
  let v34252 : Index := Scalar.indexCast v34251
  let c0_14450 : Index := 0#32
  let c0_14451 : Index := 0#32
  ![v34252.toNat, 0, 0]

def k0_off2124 (v34222 : BitVec 32) (c840_i32_14453 : BitVec 32) : Fin 3 → Nat :=
  let v34259 : BitVec 32 := Scalar.addi c840_i32_14453 v34222
  let v34260 : Index := Scalar.indexCast v34259
  let c0_14454 : Index := 0#32
  let c0_14455 : Index := 0#32
  ![v34260.toNat, 0, 0]

def k0_chk725 (v34222 : BitVec 32) : Prop :=
  (∀ (r : Fin 7), ∀ a, (k0_off2124 v34222 (BitVec.ofNat 32 (840 + 5 * r.val))) a + S1x8x128.size a ≤ S1120x8x128.size a)
theorem k0_off2124_inb : ∀ (v34222 : BitVec 32) (k0_hw725 : k0_chk725 v34222), ∀ (r : Fin 7), ∀ a, (k0_off2124 v34222 (BitVec.ofNat 32 (840 + 5 * r.val))) a + S1x8x128.size a ≤ S1120x8x128.size a := fun v34222 k0_hw725 r => k0_hw725 r

def k0_off2125 (v34219 : BitVec 32) (c845_i32_14458 : BitVec 32) : Fin 3 → Nat :=
  let v34269 : BitVec 32 := Scalar.addi c845_i32_14458 v34219
  let v34270 : Index := Scalar.indexCast v34269
  let c0_14459 : Index := 0#32
  let c0_14460 : Index := 0#32
  ![v34270.toNat, 0, 0]

def k0_chk724 (v34219 : BitVec 32) : Prop :=
  (∀ a, (k0_off2123 v34219) a + S1x8x128.size a ≤ S1120x8x128.size a) ∧
  (∀ (r : Fin 6), ∀ a, (k0_off2125 v34219 (BitVec.ofNat 32 (845 + 5 * r.val))) a + S1x8x128.size a ≤ S1120x8x128.size a)
theorem k0_off2123_inb : ∀ (v34219 : BitVec 32) (k0_hw724 : k0_chk724 v34219), ∀ a, (k0_off2123 v34219) a + S1x8x128.size a ≤ S1120x8x128.size a := fun v34219 k0_hw724 => k0_hw724.1
theorem k0_off2125_inb : ∀ (v34219 : BitVec 32) (k0_hw724 : k0_chk724 v34219), ∀ (r : Fin 6), ∀ a, (k0_off2125 v34219 (BitVec.ofNat 32 (845 + 5 * r.val))) a + S1x8x128.size a ≤ S1120x8x128.size a := fun v34219 k0_hw724 r => k0_hw724.2 r

def k0_off2126 (i : grid0.Coords) : Fin 3 → Nat :=
  let arg0 : BitVec 32 := BitVec.ofNat 32 (i 0).val
  let v34456 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34457 : Index := Scalar.indexCast v34455
  let c0_14542 : Index := 0#32
  ![v34456.toNat, v34457.toNat, 0]
def k0_mult26 (v34458 : BitVec 32) : BitVec 32 :=
  v34458

def k0_chk726 (v34458 : BitVec 32) : Prop :=
  (8 ∣ (k0_mult26 v34458).toNat)
theorem k0_mult26_dvd : ∀ (v34458 : BitVec 32) (k0_hw726 : k0_chk726 v34458), 8 ∣ (k0_mult26 v34458).toNat := fun v34458 k0_hw726 => k0_hw726

def k0_off2127 (i : grid0.Coords) : Fin 3 → Nat :=
  let arg0 : BitVec 32 := BitVec.ofNat 32 (i 0).val
  let v34460 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34461 : Index := Scalar.indexCast v34455
  let c1_14543 : Index := 1#32
  ![v34460.toNat, v34461.toNat, 1]
def k0_off2128 (v34458 : BitVec 32) (v34462 : BitVec 32) : Fin 3 → Nat :=
  let v34463 : Index := Scalar.indexCast v34462
  let v34459 : BitVec 32 := v34458
  let v34464 : Index := Scalar.indexCast v34459
  let c0_14544 : Index := 0#32
  ![v34463.toNat, v34464.toNat, 0]

def k0_chk727 (v34458 : BitVec 32) (v34462 : BitVec 32) : Prop :=
  (∀ a, (k0_off2128 v34458 v34462) a + S1x40x128.size a ≤ S256x64x128.size a)
theorem k0_off2128_inb : ∀ (v34458 : BitVec 32) (v34462 : BitVec 32) (k0_hw727 : k0_chk727 v34458 v34462), ∀ a, (k0_off2128 v34458 v34462) a + S1x40x128.size a ≤ S256x64x128.size a := fun v34458 v34462 k0_hw727 => k0_hw727

def k0_off2129 (i : grid0.Coords) : Fin 3 → Nat :=
  let arg0 : BitVec 32 := BitVec.ofNat 32 (i 0).val
  let v34467 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34468 : Index := Scalar.indexCast v34455
  let c8_14545 : Index := 8#32
  ![v34467.toNat, v34468.toNat, 8]
def k0_off2130 (v34458 : BitVec 32) (v34469 : BitVec 32) : Fin 3 → Nat :=
  let v34470 : Index := Scalar.indexCast v34469
  let v34459 : BitVec 32 := v34458
  let v34471 : Index := Scalar.indexCast v34459
  let c0_14546 : Index := 0#32
  ![v34470.toNat, v34471.toNat, 0]

def k0_chk728 (v34458 : BitVec 32) (v34469 : BitVec 32) : Prop :=
  (∀ a, (k0_off2130 v34458 v34469) a + S1x40x128.size a ≤ S256x64x128.size a)
theorem k0_off2130_inb : ∀ (v34458 : BitVec 32) (v34469 : BitVec 32) (k0_hw728 : k0_chk728 v34458 v34469), ∀ a, (k0_off2130 v34458 v34469) a + S1x40x128.size a ≤ S256x64x128.size a := fun v34458 v34469 k0_hw728 => k0_hw728

def k0_off2131 (i : grid0.Coords) : Fin 3 → Nat :=
  let arg0 : BitVec 32 := BitVec.ofNat 32 (i 0).val
  let v34475 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34476 : Index := Scalar.indexCast v34455
  let c15_14547 : Index := 15#32
  ![v34475.toNat, v34476.toNat, 15]
def k0_off2132 (i : grid0.Coords) : Fin 3 → Nat :=
  let arg0 : BitVec 32 := BitVec.ofNat 32 (i 0).val
  let v34485 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34486 : Index := Scalar.indexCast v34455
  let c2_14552 : Index := 2#32
  ![v34485.toNat, v34486.toNat, 2]
def k0_off2133 (v34458 : BitVec 32) (v34487 : BitVec 32) : Fin 3 → Nat :=
  let v34488 : Index := Scalar.indexCast v34487
  let v34459 : BitVec 32 := v34458
  let v34489 : Index := Scalar.indexCast v34459
  let c0_14553 : Index := 0#32
  ![v34488.toNat, v34489.toNat, 0]

def k0_chk729 (v34458 : BitVec 32) (v34487 : BitVec 32) : Prop :=
  (∀ a, (k0_off2133 v34458 v34487) a + S1x40x128.size a ≤ S256x64x128.size a)
theorem k0_off2133_inb : ∀ (v34458 : BitVec 32) (v34487 : BitVec 32) (k0_hw729 : k0_chk729 v34458 v34487), ∀ a, (k0_off2133 v34458 v34487) a + S1x40x128.size a ≤ S256x64x128.size a := fun v34458 v34487 k0_hw729 => k0_hw729

def k0_off2134 (i : grid0.Coords) : Fin 3 → Nat :=
  let arg0 : BitVec 32 := BitVec.ofNat 32 (i 0).val
  let v34492 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34493 : Index := Scalar.indexCast v34455
  let c9_14554 : Index := 9#32
  ![v34492.toNat, v34493.toNat, 9]
def k0_off2135 (v34458 : BitVec 32) (v34494 : BitVec 32) : Fin 3 → Nat :=
  let v34495 : Index := Scalar.indexCast v34494
  let v34459 : BitVec 32 := v34458
  let v34496 : Index := Scalar.indexCast v34459
  let c0_14555 : Index := 0#32
  ![v34495.toNat, v34496.toNat, 0]

def k0_chk730 (v34458 : BitVec 32) (v34494 : BitVec 32) : Prop :=
  (∀ a, (k0_off2135 v34458 v34494) a + S1x40x128.size a ≤ S256x64x128.size a)
theorem k0_off2135_inb : ∀ (v34458 : BitVec 32) (v34494 : BitVec 32) (k0_hw730 : k0_chk730 v34458 v34494), ∀ a, (k0_off2135 v34458 v34494) a + S1x40x128.size a ≤ S256x64x128.size a := fun v34458 v34494 k0_hw730 => k0_hw730

def k0_off2136 (i : grid0.Coords) : Fin 3 → Nat :=
  let arg0 : BitVec 32 := BitVec.ofNat 32 (i 0).val
  let v34500 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34501 : Index := Scalar.indexCast v34455
  let c16_14556 : Index := 16#32
  ![v34500.toNat, v34501.toNat, 16]
def k0_off2137 (i : grid0.Coords) : Fin 3 → Nat :=
  let arg0 : BitVec 32 := BitVec.ofNat 32 (i 0).val
  let v34510 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34511 : Index := Scalar.indexCast v34455
  let c3_14561 : Index := 3#32
  ![v34510.toNat, v34511.toNat, 3]
def k0_off2138 (v34458 : BitVec 32) (v34512 : BitVec 32) : Fin 3 → Nat :=
  let v34513 : Index := Scalar.indexCast v34512
  let v34459 : BitVec 32 := v34458
  let v34514 : Index := Scalar.indexCast v34459
  let c0_14562 : Index := 0#32
  ![v34513.toNat, v34514.toNat, 0]

def k0_chk731 (v34458 : BitVec 32) (v34512 : BitVec 32) : Prop :=
  (∀ a, (k0_off2138 v34458 v34512) a + S1x40x128.size a ≤ S256x64x128.size a)
theorem k0_off2138_inb : ∀ (v34458 : BitVec 32) (v34512 : BitVec 32) (k0_hw731 : k0_chk731 v34458 v34512), ∀ a, (k0_off2138 v34458 v34512) a + S1x40x128.size a ≤ S256x64x128.size a := fun v34458 v34512 k0_hw731 => k0_hw731

def k0_off2139 (i : grid0.Coords) : Fin 3 → Nat :=
  let arg0 : BitVec 32 := BitVec.ofNat 32 (i 0).val
  let v34517 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34518 : Index := Scalar.indexCast v34455
  let c10_14563 : Index := 10#32
  ![v34517.toNat, v34518.toNat, 10]
def k0_off2140 (v34458 : BitVec 32) (v34519 : BitVec 32) : Fin 3 → Nat :=
  let v34520 : Index := Scalar.indexCast v34519
  let v34459 : BitVec 32 := v34458
  let v34521 : Index := Scalar.indexCast v34459
  let c0_14564 : Index := 0#32
  ![v34520.toNat, v34521.toNat, 0]

def k0_chk732 (v34458 : BitVec 32) (v34519 : BitVec 32) : Prop :=
  (∀ a, (k0_off2140 v34458 v34519) a + S1x40x128.size a ≤ S256x64x128.size a)
theorem k0_off2140_inb : ∀ (v34458 : BitVec 32) (v34519 : BitVec 32) (k0_hw732 : k0_chk732 v34458 v34519), ∀ a, (k0_off2140 v34458 v34519) a + S1x40x128.size a ≤ S256x64x128.size a := fun v34458 v34519 k0_hw732 => k0_hw732

def k0_off2141 (i : grid0.Coords) : Fin 3 → Nat :=
  let arg0 : BitVec 32 := BitVec.ofNat 32 (i 0).val
  let v34525 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34526 : Index := Scalar.indexCast v34455
  let c17_14565 : Index := 17#32
  ![v34525.toNat, v34526.toNat, 17]
def k0_off2142 (i : grid0.Coords) : Fin 3 → Nat :=
  let arg0 : BitVec 32 := BitVec.ofNat 32 (i 0).val
  let v34535 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34536 : Index := Scalar.indexCast v34455
  let c4_14570 : Index := 4#32
  ![v34535.toNat, v34536.toNat, 4]
def k0_off2143 (v34458 : BitVec 32) (v34537 : BitVec 32) : Fin 3 → Nat :=
  let v34538 : Index := Scalar.indexCast v34537
  let v34459 : BitVec 32 := v34458
  let v34539 : Index := Scalar.indexCast v34459
  let c0_14571 : Index := 0#32
  ![v34538.toNat, v34539.toNat, 0]

def k0_chk733 (v34458 : BitVec 32) (v34537 : BitVec 32) : Prop :=
  (∀ a, (k0_off2143 v34458 v34537) a + S1x40x128.size a ≤ S256x64x128.size a)
theorem k0_off2143_inb : ∀ (v34458 : BitVec 32) (v34537 : BitVec 32) (k0_hw733 : k0_chk733 v34458 v34537), ∀ a, (k0_off2143 v34458 v34537) a + S1x40x128.size a ≤ S256x64x128.size a := fun v34458 v34537 k0_hw733 => k0_hw733

def k0_off2144 (i : grid0.Coords) : Fin 3 → Nat :=
  let arg0 : BitVec 32 := BitVec.ofNat 32 (i 0).val
  let v34542 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34543 : Index := Scalar.indexCast v34455
  let c11_14572 : Index := 11#32
  ![v34542.toNat, v34543.toNat, 11]
def k0_off2145 (v34458 : BitVec 32) (v34544 : BitVec 32) : Fin 3 → Nat :=
  let v34545 : Index := Scalar.indexCast v34544
  let v34459 : BitVec 32 := v34458
  let v34546 : Index := Scalar.indexCast v34459
  let c0_14573 : Index := 0#32
  ![v34545.toNat, v34546.toNat, 0]

def k0_chk734 (v34458 : BitVec 32) (v34544 : BitVec 32) : Prop :=
  (∀ a, (k0_off2145 v34458 v34544) a + S1x40x128.size a ≤ S256x64x128.size a)
theorem k0_off2145_inb : ∀ (v34458 : BitVec 32) (v34544 : BitVec 32) (k0_hw734 : k0_chk734 v34458 v34544), ∀ a, (k0_off2145 v34458 v34544) a + S1x40x128.size a ≤ S256x64x128.size a := fun v34458 v34544 k0_hw734 => k0_hw734

def k0_off2146 (i : grid0.Coords) : Fin 3 → Nat :=
  let arg0 : BitVec 32 := BitVec.ofNat 32 (i 0).val
  let v34550 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34551 : Index := Scalar.indexCast v34455
  let c18_14574 : Index := 18#32
  ![v34550.toNat, v34551.toNat, 18]
def k0_off2147 (i : grid0.Coords) : Fin 3 → Nat :=
  let arg0 : BitVec 32 := BitVec.ofNat 32 (i 0).val
  let v34560 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34561 : Index := Scalar.indexCast v34455
  let c5_14579 : Index := 5#32
  ![v34560.toNat, v34561.toNat, 5]
def k0_off2148 (v34458 : BitVec 32) (v34562 : BitVec 32) : Fin 3 → Nat :=
  let v34563 : Index := Scalar.indexCast v34562
  let v34459 : BitVec 32 := v34458
  let v34564 : Index := Scalar.indexCast v34459
  let c0_14580 : Index := 0#32
  ![v34563.toNat, v34564.toNat, 0]

def k0_chk735 (v34458 : BitVec 32) (v34562 : BitVec 32) : Prop :=
  (∀ a, (k0_off2148 v34458 v34562) a + S1x40x128.size a ≤ S256x64x128.size a)
theorem k0_off2148_inb : ∀ (v34458 : BitVec 32) (v34562 : BitVec 32) (k0_hw735 : k0_chk735 v34458 v34562), ∀ a, (k0_off2148 v34458 v34562) a + S1x40x128.size a ≤ S256x64x128.size a := fun v34458 v34562 k0_hw735 => k0_hw735

def k0_off2149 (i : grid0.Coords) : Fin 3 → Nat :=
  let arg0 : BitVec 32 := BitVec.ofNat 32 (i 0).val
  let v34567 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34568 : Index := Scalar.indexCast v34455
  let c12_14581 : Index := 12#32
  ![v34567.toNat, v34568.toNat, 12]
def k0_off2150 (v34458 : BitVec 32) (v34569 : BitVec 32) : Fin 3 → Nat :=
  let v34570 : Index := Scalar.indexCast v34569
  let v34459 : BitVec 32 := v34458
  let v34571 : Index := Scalar.indexCast v34459
  let c0_14582 : Index := 0#32
  ![v34570.toNat, v34571.toNat, 0]

def k0_chk736 (v34458 : BitVec 32) (v34569 : BitVec 32) : Prop :=
  (∀ a, (k0_off2150 v34458 v34569) a + S1x40x128.size a ≤ S256x64x128.size a)
theorem k0_off2150_inb : ∀ (v34458 : BitVec 32) (v34569 : BitVec 32) (k0_hw736 : k0_chk736 v34458 v34569), ∀ a, (k0_off2150 v34458 v34569) a + S1x40x128.size a ≤ S256x64x128.size a := fun v34458 v34569 k0_hw736 => k0_hw736

def k0_off2151 (i : grid0.Coords) : Fin 3 → Nat :=
  let arg0 : BitVec 32 := BitVec.ofNat 32 (i 0).val
  let v34575 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34576 : Index := Scalar.indexCast v34455
  let c19_14583 : Index := 19#32
  ![v34575.toNat, v34576.toNat, 19]
def k0_off2152 (i : grid0.Coords) : Fin 3 → Nat :=
  let arg0 : BitVec 32 := BitVec.ofNat 32 (i 0).val
  let v34585 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34586 : Index := Scalar.indexCast v34455
  let c6_14588 : Index := 6#32
  ![v34585.toNat, v34586.toNat, 6]
def k0_off2153 (v34458 : BitVec 32) (v34587 : BitVec 32) : Fin 3 → Nat :=
  let v34588 : Index := Scalar.indexCast v34587
  let v34459 : BitVec 32 := v34458
  let v34589 : Index := Scalar.indexCast v34459
  let c0_14589 : Index := 0#32
  ![v34588.toNat, v34589.toNat, 0]

def k0_chk737 (v34458 : BitVec 32) (v34587 : BitVec 32) : Prop :=
  (∀ a, (k0_off2153 v34458 v34587) a + S1x40x128.size a ≤ S256x64x128.size a)
theorem k0_off2153_inb : ∀ (v34458 : BitVec 32) (v34587 : BitVec 32) (k0_hw737 : k0_chk737 v34458 v34587), ∀ a, (k0_off2153 v34458 v34587) a + S1x40x128.size a ≤ S256x64x128.size a := fun v34458 v34587 k0_hw737 => k0_hw737

def k0_off2154 (i : grid0.Coords) : Fin 3 → Nat :=
  let arg0 : BitVec 32 := BitVec.ofNat 32 (i 0).val
  let v34592 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34593 : Index := Scalar.indexCast v34455
  let c13_14590 : Index := 13#32
  ![v34592.toNat, v34593.toNat, 13]
def k0_off2155 (v34458 : BitVec 32) (v34594 : BitVec 32) : Fin 3 → Nat :=
  let v34595 : Index := Scalar.indexCast v34594
  let v34459 : BitVec 32 := v34458
  let v34596 : Index := Scalar.indexCast v34459
  let c0_14591 : Index := 0#32
  ![v34595.toNat, v34596.toNat, 0]

def k0_chk738 (v34458 : BitVec 32) (v34594 : BitVec 32) : Prop :=
  (∀ a, (k0_off2155 v34458 v34594) a + S1x40x128.size a ≤ S256x64x128.size a)
theorem k0_off2155_inb : ∀ (v34458 : BitVec 32) (v34594 : BitVec 32) (k0_hw738 : k0_chk738 v34458 v34594), ∀ a, (k0_off2155 v34458 v34594) a + S1x40x128.size a ≤ S256x64x128.size a := fun v34458 v34594 k0_hw738 => k0_hw738

def k0_off2156 (i : grid0.Coords) : Fin 3 → Nat :=
  let arg0 : BitVec 32 := BitVec.ofNat 32 (i 0).val
  let v34600 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34601 : Index := Scalar.indexCast v34455
  let c20_14592 : Index := 20#32
  ![v34600.toNat, v34601.toNat, 20]
def k0_off2157 (i : grid0.Coords) : Fin 3 → Nat :=
  let arg0 : BitVec 32 := BitVec.ofNat 32 (i 0).val
  let v34610 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34611 : Index := Scalar.indexCast v34455
  let c7_14597 : Index := 7#32
  ![v34610.toNat, v34611.toNat, 7]
def k0_off2158 (v34458 : BitVec 32) (v34612 : BitVec 32) : Fin 3 → Nat :=
  let v34613 : Index := Scalar.indexCast v34612
  let v34459 : BitVec 32 := v34458
  let v34614 : Index := Scalar.indexCast v34459
  let c0_14598 : Index := 0#32
  ![v34613.toNat, v34614.toNat, 0]

def k0_chk739 (v34458 : BitVec 32) (v34612 : BitVec 32) : Prop :=
  (∀ a, (k0_off2158 v34458 v34612) a + S1x40x128.size a ≤ S256x64x128.size a)
theorem k0_off2158_inb : ∀ (v34458 : BitVec 32) (v34612 : BitVec 32) (k0_hw739 : k0_chk739 v34458 v34612), ∀ a, (k0_off2158 v34458 v34612) a + S1x40x128.size a ≤ S256x64x128.size a := fun v34458 v34612 k0_hw739 => k0_hw739

def k0_off2159 (i : grid0.Coords) : Fin 3 → Nat :=
  let arg0 : BitVec 32 := BitVec.ofNat 32 (i 0).val
  let v34617 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34618 : Index := Scalar.indexCast v34455
  let c14_14599 : Index := 14#32
  ![v34617.toNat, v34618.toNat, 14]
def k0_off2160 (v34458 : BitVec 32) (v34619 : BitVec 32) : Fin 3 → Nat :=
  let v34620 : Index := Scalar.indexCast v34619
  let v34459 : BitVec 32 := v34458
  let v34621 : Index := Scalar.indexCast v34459
  let c0_14600 : Index := 0#32
  ![v34620.toNat, v34621.toNat, 0]

def k0_chk740 (v34458 : BitVec 32) (v34619 : BitVec 32) : Prop :=
  (∀ a, (k0_off2160 v34458 v34619) a + S1x40x128.size a ≤ S256x64x128.size a)
theorem k0_off2160_inb : ∀ (v34458 : BitVec 32) (v34619 : BitVec 32) (k0_hw740 : k0_chk740 v34458 v34619), ∀ a, (k0_off2160 v34458 v34619) a + S1x40x128.size a ≤ S256x64x128.size a := fun v34458 v34619 k0_hw740 => k0_hw740

def k0_off2161 (i : grid0.Coords) : Fin 3 → Nat :=
  let arg0 : BitVec 32 := BitVec.ofNat 32 (i 0).val
  let v34625 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34626 : Index := Scalar.indexCast v34455
  let c21_14601 : Index := 21#32
  ![v34625.toNat, v34626.toNat, 21]
def k0_off2162 (i : grid0.Coords) : Fin 3 → Nat :=
  let arg0 : BitVec 32 := BitVec.ofNat 32 (i 0).val
  let v34635 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34636 : Index := Scalar.indexCast v34455
  let c22_14606 : Index := 22#32
  ![v34635.toNat, v34636.toNat, 22]
def k0_off2163 (i : grid0.Coords) : Fin 3 → Nat :=
  let arg0 : BitVec 32 := BitVec.ofNat 32 (i 0).val
  let v34638 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34639 : Index := Scalar.indexCast v34455
  let c29_14607 : Index := 29#32
  ![v34638.toNat, v34639.toNat, 29]
def k0_off2164 (i : grid0.Coords) : Fin 3 → Nat :=
  let arg0 : BitVec 32 := BitVec.ofNat 32 (i 0).val
  let v34641 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34642 : Index := Scalar.indexCast v34455
  let c36_14608 : Index := 36#32
  ![v34641.toNat, v34642.toNat, 36]
def k0_off2165 (i : grid0.Coords) : Fin 3 → Nat :=
  let arg0 : BitVec 32 := BitVec.ofNat 32 (i 0).val
  let v34644 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34645 : Index := Scalar.indexCast v34455
  let c43_14609 : Index := 43#32
  ![v34644.toNat, v34645.toNat, 43]
def k0_off2166 (v34637 : BitVec 32) : Fin 3 → Nat :=
  let c875_i32 : BitVec 32 := 875#32
  let v34669 : BitVec 32 := Scalar.addi c875_i32 v34637
  let v34670 : Index := Scalar.indexCast v34669
  let c0_14614 : Index := 0#32
  let c0_14615 : Index := 0#32
  ![v34670.toNat, 0, 0]

def k0_off2167 (v34640 : BitVec 32) (c875_i32_14617 : BitVec 32) : Fin 3 → Nat :=
  let v34677 : BitVec 32 := Scalar.addi c875_i32_14617 v34640
  let v34678 : Index := Scalar.indexCast v34677
  let c0_14618 : Index := 0#32
  let c0_14619 : Index := 0#32
  ![v34678.toNat, 0, 0]

def k0_chk742 (v34640 : BitVec 32) : Prop :=
  (∀ (r : Fin 7), ∀ a, (k0_off2167 v34640 (BitVec.ofNat 32 (875 + 5 * r.val))) a + S1x8x128.size a ≤ S1120x8x128.size a)
theorem k0_off2167_inb : ∀ (v34640 : BitVec 32) (k0_hw742 : k0_chk742 v34640), ∀ (r : Fin 7), ∀ a, (k0_off2167 v34640 (BitVec.ofNat 32 (875 + 5 * r.val))) a + S1x8x128.size a ≤ S1120x8x128.size a := fun v34640 k0_hw742 r => k0_hw742 r

def k0_off2168 (v34637 : BitVec 32) (c880_i32 : BitVec 32) : Fin 3 → Nat :=
  let v34687 : BitVec 32 := Scalar.addi c880_i32 v34637
  let v34688 : Index := Scalar.indexCast v34687
  let c0_14622 : Index := 0#32
  let c0_14623 : Index := 0#32
  ![v34688.toNat, 0, 0]

def k0_chk741 (v34637 : BitVec 32) : Prop :=
  (∀ a, (k0_off2166 v34637) a + S1x8x128.size a ≤ S1120x8x128.size a) ∧
  (∀ (r : Fin 6), ∀ a, (k0_off2168 v34637 (BitVec.ofNat 32 (880 + 5 * r.val))) a + S1x8x128.size a ≤ S1120x8x128.size a)
theorem k0_off2166_inb : ∀ (v34637 : BitVec 32) (k0_hw741 : k0_chk741 v34637), ∀ a, (k0_off2166 v34637) a + S1x8x128.size a ≤ S1120x8x128.size a := fun v34637 k0_hw741 => k0_hw741.1
theorem k0_off2168_inb : ∀ (v34637 : BitVec 32) (k0_hw741 : k0_chk741 v34637), ∀ (r : Fin 6), ∀ a, (k0_off2168 v34637 (BitVec.ofNat 32 (880 + 5 * r.val))) a + S1x8x128.size a ≤ S1120x8x128.size a := fun v34637 k0_hw741 r => k0_hw741.2 r

def k0_off2169 (i : grid0.Coords) : Fin 3 → Nat :=
  let arg0 : BitVec 32 := BitVec.ofNat 32 (i 0).val
  let v34795 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34796 : Index := Scalar.indexCast v34455
  let c23_14670 : Index := 23#32
  ![v34795.toNat, v34796.toNat, 23]
def k0_off2170 (i : grid0.Coords) : Fin 3 → Nat :=
  let arg0 : BitVec 32 := BitVec.ofNat 32 (i 0).val
  let v34798 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34799 : Index := Scalar.indexCast v34455
  let c30_14671 : Index := 30#32
  ![v34798.toNat, v34799.toNat, 30]
def k0_off2171 (i : grid0.Coords) : Fin 3 → Nat :=
  let arg0 : BitVec 32 := BitVec.ofNat 32 (i 0).val
  let v34801 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34802 : Index := Scalar.indexCast v34455
  let c37_14672 : Index := 37#32
  ![v34801.toNat, v34802.toNat, 37]
def k0_off2172 (i : grid0.Coords) : Fin 3 → Nat :=
  let arg0 : BitVec 32 := BitVec.ofNat 32 (i 0).val
  let v34804 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34805 : Index := Scalar.indexCast v34455
  let c44_14673 : Index := 44#32
  ![v34804.toNat, v34805.toNat, 44]
def k0_off2173 (v34797 : BitVec 32) : Fin 3 → Nat :=
  let c875_i32_14678 : BitVec 32 := 875#32
  let v34829 : BitVec 32 := Scalar.addi c875_i32_14678 v34797
  let v34830 : Index := Scalar.indexCast v34829
  let c0_14679 : Index := 0#32
  let c0_14680 : Index := 0#32
  ![v34830.toNat, 0, 0]

def k0_off2174 (v34800 : BitVec 32) (c875_i32_14682 : BitVec 32) : Fin 3 → Nat :=
  let v34837 : BitVec 32 := Scalar.addi c875_i32_14682 v34800
  let v34838 : Index := Scalar.indexCast v34837
  let c0_14683 : Index := 0#32
  let c0_14684 : Index := 0#32
  ![v34838.toNat, 0, 0]

def k0_chk744 (v34800 : BitVec 32) : Prop :=
  (∀ (r : Fin 7), ∀ a, (k0_off2174 v34800 (BitVec.ofNat 32 (875 + 5 * r.val))) a + S1x8x128.size a ≤ S1120x8x128.size a)
theorem k0_off2174_inb : ∀ (v34800 : BitVec 32) (k0_hw744 : k0_chk744 v34800), ∀ (r : Fin 7), ∀ a, (k0_off2174 v34800 (BitVec.ofNat 32 (875 + 5 * r.val))) a + S1x8x128.size a ≤ S1120x8x128.size a := fun v34800 k0_hw744 r => k0_hw744 r

def k0_off2175 (v34797 : BitVec 32) (c880_i32_14687 : BitVec 32) : Fin 3 → Nat :=
  let v34847 : BitVec 32 := Scalar.addi c880_i32_14687 v34797
  let v34848 : Index := Scalar.indexCast v34847
  let c0_14688 : Index := 0#32
  let c0_14689 : Index := 0#32
  ![v34848.toNat, 0, 0]

def k0_chk743 (v34797 : BitVec 32) : Prop :=
  (∀ a, (k0_off2173 v34797) a + S1x8x128.size a ≤ S1120x8x128.size a) ∧
  (∀ (r : Fin 6), ∀ a, (k0_off2175 v34797 (BitVec.ofNat 32 (880 + 5 * r.val))) a + S1x8x128.size a ≤ S1120x8x128.size a)
theorem k0_off2173_inb : ∀ (v34797 : BitVec 32) (k0_hw743 : k0_chk743 v34797), ∀ a, (k0_off2173 v34797) a + S1x8x128.size a ≤ S1120x8x128.size a := fun v34797 k0_hw743 => k0_hw743.1
theorem k0_off2175_inb : ∀ (v34797 : BitVec 32) (k0_hw743 : k0_chk743 v34797), ∀ (r : Fin 6), ∀ a, (k0_off2175 v34797 (BitVec.ofNat 32 (880 + 5 * r.val))) a + S1x8x128.size a ≤ S1120x8x128.size a := fun v34797 k0_hw743 r => k0_hw743.2 r

def k0_off2176 (i : grid0.Coords) : Fin 3 → Nat :=
  let arg0 : BitVec 32 := BitVec.ofNat 32 (i 0).val
  let v34955 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34956 : Index := Scalar.indexCast v34455
  let c24_14741 : Index := 24#32
  ![v34955.toNat, v34956.toNat, 24]
def k0_off2177 (i : grid0.Coords) : Fin 3 → Nat :=
  let arg0 : BitVec 32 := BitVec.ofNat 32 (i 0).val
  let v34958 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34959 : Index := Scalar.indexCast v34455
  let c31_14742 : Index := 31#32
  ![v34958.toNat, v34959.toNat, 31]
def k0_off2178 (i : grid0.Coords) : Fin 3 → Nat :=
  let arg0 : BitVec 32 := BitVec.ofNat 32 (i 0).val
  let v34961 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34962 : Index := Scalar.indexCast v34455
  let c38_14743 : Index := 38#32
  ![v34961.toNat, v34962.toNat, 38]
def k0_off2179 (i : grid0.Coords) : Fin 3 → Nat :=
  let arg0 : BitVec 32 := BitVec.ofNat 32 (i 0).val
  let v34964 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v34965 : Index := Scalar.indexCast v34455
  let c45_14744 : Index := 45#32
  ![v34964.toNat, v34965.toNat, 45]
def k0_off2180 (v34957 : BitVec 32) : Fin 3 → Nat :=
  let c875_i32_14749 : BitVec 32 := 875#32
  let v34989 : BitVec 32 := Scalar.addi c875_i32_14749 v34957
  let v34990 : Index := Scalar.indexCast v34989
  let c0_14750 : Index := 0#32
  let c0_14751 : Index := 0#32
  ![v34990.toNat, 0, 0]

def k0_off2181 (v34960 : BitVec 32) (c875_i32_14753 : BitVec 32) : Fin 3 → Nat :=
  let v34997 : BitVec 32 := Scalar.addi c875_i32_14753 v34960
  let v34998 : Index := Scalar.indexCast v34997
  let c0_14754 : Index := 0#32
  let c0_14755 : Index := 0#32
  ![v34998.toNat, 0, 0]

def k0_chk746 (v34960 : BitVec 32) : Prop :=
  (∀ (r : Fin 7), ∀ a, (k0_off2181 v34960 (BitVec.ofNat 32 (875 + 5 * r.val))) a + S1x8x128.size a ≤ S1120x8x128.size a)
theorem k0_off2181_inb : ∀ (v34960 : BitVec 32) (k0_hw746 : k0_chk746 v34960), ∀ (r : Fin 7), ∀ a, (k0_off2181 v34960 (BitVec.ofNat 32 (875 + 5 * r.val))) a + S1x8x128.size a ≤ S1120x8x128.size a := fun v34960 k0_hw746 r => k0_hw746 r

def k0_off2182 (v34957 : BitVec 32) (c880_i32_14758 : BitVec 32) : Fin 3 → Nat :=
  let v35007 : BitVec 32 := Scalar.addi c880_i32_14758 v34957
  let v35008 : Index := Scalar.indexCast v35007
  let c0_14759 : Index := 0#32
  let c0_14760 : Index := 0#32
  ![v35008.toNat, 0, 0]

def k0_chk745 (v34957 : BitVec 32) : Prop :=
  (∀ a, (k0_off2180 v34957) a + S1x8x128.size a ≤ S1120x8x128.size a) ∧
  (∀ (r : Fin 6), ∀ a, (k0_off2182 v34957 (BitVec.ofNat 32 (880 + 5 * r.val))) a + S1x8x128.size a ≤ S1120x8x128.size a)
theorem k0_off2180_inb : ∀ (v34957 : BitVec 32) (k0_hw745 : k0_chk745 v34957), ∀ a, (k0_off2180 v34957) a + S1x8x128.size a ≤ S1120x8x128.size a := fun v34957 k0_hw745 => k0_hw745.1
theorem k0_off2182_inb : ∀ (v34957 : BitVec 32) (k0_hw745 : k0_chk745 v34957), ∀ (r : Fin 6), ∀ a, (k0_off2182 v34957 (BitVec.ofNat 32 (880 + 5 * r.val))) a + S1x8x128.size a ≤ S1120x8x128.size a := fun v34957 k0_hw745 r => k0_hw745.2 r

def k0_off2183 (i : grid0.Coords) : Fin 3 → Nat :=
  let arg0 : BitVec 32 := BitVec.ofNat 32 (i 0).val
  let v35115 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35116 : Index := Scalar.indexCast v34455
  let c25_14812 : Index := 25#32
  ![v35115.toNat, v35116.toNat, 25]
def k0_off2184 (i : grid0.Coords) : Fin 3 → Nat :=
  let arg0 : BitVec 32 := BitVec.ofNat 32 (i 0).val
  let v35118 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35119 : Index := Scalar.indexCast v34455
  let c32_14813 : Index := 32#32
  ![v35118.toNat, v35119.toNat, 32]
def k0_off2185 (i : grid0.Coords) : Fin 3 → Nat :=
  let arg0 : BitVec 32 := BitVec.ofNat 32 (i 0).val
  let v35121 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35122 : Index := Scalar.indexCast v34455
  let c39_14814 : Index := 39#32
  ![v35121.toNat, v35122.toNat, 39]
def k0_off2186 (i : grid0.Coords) : Fin 3 → Nat :=
  let arg0 : BitVec 32 := BitVec.ofNat 32 (i 0).val
  let v35124 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35125 : Index := Scalar.indexCast v34455
  let c46_14815 : Index := 46#32
  ![v35124.toNat, v35125.toNat, 46]
def k0_off2187 (v35117 : BitVec 32) : Fin 3 → Nat :=
  let c875_i32_14820 : BitVec 32 := 875#32
  let v35149 : BitVec 32 := Scalar.addi c875_i32_14820 v35117
  let v35150 : Index := Scalar.indexCast v35149
  let c0_14821 : Index := 0#32
  let c0_14822 : Index := 0#32
  ![v35150.toNat, 0, 0]

def k0_off2188 (v35120 : BitVec 32) (c875_i32_14824 : BitVec 32) : Fin 3 → Nat :=
  let v35157 : BitVec 32 := Scalar.addi c875_i32_14824 v35120
  let v35158 : Index := Scalar.indexCast v35157
  let c0_14825 : Index := 0#32
  let c0_14826 : Index := 0#32
  ![v35158.toNat, 0, 0]

def k0_chk748 (v35120 : BitVec 32) : Prop :=
  (∀ (r : Fin 7), ∀ a, (k0_off2188 v35120 (BitVec.ofNat 32 (875 + 5 * r.val))) a + S1x8x128.size a ≤ S1120x8x128.size a)
theorem k0_off2188_inb : ∀ (v35120 : BitVec 32) (k0_hw748 : k0_chk748 v35120), ∀ (r : Fin 7), ∀ a, (k0_off2188 v35120 (BitVec.ofNat 32 (875 + 5 * r.val))) a + S1x8x128.size a ≤ S1120x8x128.size a := fun v35120 k0_hw748 r => k0_hw748 r

def k0_off2189 (v35117 : BitVec 32) (c880_i32_14829 : BitVec 32) : Fin 3 → Nat :=
  let v35167 : BitVec 32 := Scalar.addi c880_i32_14829 v35117
  let v35168 : Index := Scalar.indexCast v35167
  let c0_14830 : Index := 0#32
  let c0_14831 : Index := 0#32
  ![v35168.toNat, 0, 0]

def k0_chk747 (v35117 : BitVec 32) : Prop :=
  (∀ a, (k0_off2187 v35117) a + S1x8x128.size a ≤ S1120x8x128.size a) ∧
  (∀ (r : Fin 6), ∀ a, (k0_off2189 v35117 (BitVec.ofNat 32 (880 + 5 * r.val))) a + S1x8x128.size a ≤ S1120x8x128.size a)
theorem k0_off2187_inb : ∀ (v35117 : BitVec 32) (k0_hw747 : k0_chk747 v35117), ∀ a, (k0_off2187 v35117) a + S1x8x128.size a ≤ S1120x8x128.size a := fun v35117 k0_hw747 => k0_hw747.1
theorem k0_off2189_inb : ∀ (v35117 : BitVec 32) (k0_hw747 : k0_chk747 v35117), ∀ (r : Fin 6), ∀ a, (k0_off2189 v35117 (BitVec.ofNat 32 (880 + 5 * r.val))) a + S1x8x128.size a ≤ S1120x8x128.size a := fun v35117 k0_hw747 r => k0_hw747.2 r

def k0_off2190 (i : grid0.Coords) : Fin 3 → Nat :=
  let arg0 : BitVec 32 := BitVec.ofNat 32 (i 0).val
  let v35275 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35276 : Index := Scalar.indexCast v34455
  let c26_14883 : Index := 26#32
  ![v35275.toNat, v35276.toNat, 26]
def k0_off2191 (i : grid0.Coords) : Fin 3 → Nat :=
  let arg0 : BitVec 32 := BitVec.ofNat 32 (i 0).val
  let v35278 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35279 : Index := Scalar.indexCast v34455
  let c33_14884 : Index := 33#32
  ![v35278.toNat, v35279.toNat, 33]
def k0_off2192 (i : grid0.Coords) : Fin 3 → Nat :=
  let arg0 : BitVec 32 := BitVec.ofNat 32 (i 0).val
  let v35281 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35282 : Index := Scalar.indexCast v34455
  let c40_14885 : Index := 40#32
  ![v35281.toNat, v35282.toNat, 40]
def k0_off2193 (i : grid0.Coords) : Fin 3 → Nat :=
  let arg0 : BitVec 32 := BitVec.ofNat 32 (i 0).val
  let v35284 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35285 : Index := Scalar.indexCast v34455
  let c47_14886 : Index := 47#32
  ![v35284.toNat, v35285.toNat, 47]
def k0_off2194 (v35277 : BitVec 32) : Fin 3 → Nat :=
  let c875_i32_14891 : BitVec 32 := 875#32
  let v35309 : BitVec 32 := Scalar.addi c875_i32_14891 v35277
  let v35310 : Index := Scalar.indexCast v35309
  let c0_14892 : Index := 0#32
  let c0_14893 : Index := 0#32
  ![v35310.toNat, 0, 0]

def k0_off2195 (v35280 : BitVec 32) (c875_i32_14895 : BitVec 32) : Fin 3 → Nat :=
  let v35317 : BitVec 32 := Scalar.addi c875_i32_14895 v35280
  let v35318 : Index := Scalar.indexCast v35317
  let c0_14896 : Index := 0#32
  let c0_14897 : Index := 0#32
  ![v35318.toNat, 0, 0]

def k0_chk750 (v35280 : BitVec 32) : Prop :=
  (∀ (r : Fin 7), ∀ a, (k0_off2195 v35280 (BitVec.ofNat 32 (875 + 5 * r.val))) a + S1x8x128.size a ≤ S1120x8x128.size a)
theorem k0_off2195_inb : ∀ (v35280 : BitVec 32) (k0_hw750 : k0_chk750 v35280), ∀ (r : Fin 7), ∀ a, (k0_off2195 v35280 (BitVec.ofNat 32 (875 + 5 * r.val))) a + S1x8x128.size a ≤ S1120x8x128.size a := fun v35280 k0_hw750 r => k0_hw750 r

def k0_off2196 (v35277 : BitVec 32) (c880_i32_14900 : BitVec 32) : Fin 3 → Nat :=
  let v35327 : BitVec 32 := Scalar.addi c880_i32_14900 v35277
  let v35328 : Index := Scalar.indexCast v35327
  let c0_14901 : Index := 0#32
  let c0_14902 : Index := 0#32
  ![v35328.toNat, 0, 0]

def k0_chk749 (v35277 : BitVec 32) : Prop :=
  (∀ a, (k0_off2194 v35277) a + S1x8x128.size a ≤ S1120x8x128.size a) ∧
  (∀ (r : Fin 6), ∀ a, (k0_off2196 v35277 (BitVec.ofNat 32 (880 + 5 * r.val))) a + S1x8x128.size a ≤ S1120x8x128.size a)
theorem k0_off2194_inb : ∀ (v35277 : BitVec 32) (k0_hw749 : k0_chk749 v35277), ∀ a, (k0_off2194 v35277) a + S1x8x128.size a ≤ S1120x8x128.size a := fun v35277 k0_hw749 => k0_hw749.1
theorem k0_off2196_inb : ∀ (v35277 : BitVec 32) (k0_hw749 : k0_chk749 v35277), ∀ (r : Fin 6), ∀ a, (k0_off2196 v35277 (BitVec.ofNat 32 (880 + 5 * r.val))) a + S1x8x128.size a ≤ S1120x8x128.size a := fun v35277 k0_hw749 r => k0_hw749.2 r

def k0_off2197 (i : grid0.Coords) : Fin 3 → Nat :=
  let arg0 : BitVec 32 := BitVec.ofNat 32 (i 0).val
  let v35435 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35436 : Index := Scalar.indexCast v34455
  let c27_14954 : Index := 27#32
  ![v35435.toNat, v35436.toNat, 27]
def k0_off2198 (i : grid0.Coords) : Fin 3 → Nat :=
  let arg0 : BitVec 32 := BitVec.ofNat 32 (i 0).val
  let v35438 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35439 : Index := Scalar.indexCast v34455
  let c34_14955 : Index := 34#32
  ![v35438.toNat, v35439.toNat, 34]
def k0_off2199 (i : grid0.Coords) : Fin 3 → Nat :=
  let arg0 : BitVec 32 := BitVec.ofNat 32 (i 0).val
  let v35441 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35442 : Index := Scalar.indexCast v34455
  let c41_14956 : Index := 41#32
  ![v35441.toNat, v35442.toNat, 41]
def k0_off2200 (i : grid0.Coords) : Fin 3 → Nat :=
  let arg0 : BitVec 32 := BitVec.ofNat 32 (i 0).val
  let v35444 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35445 : Index := Scalar.indexCast v34455
  let c48_14957 : Index := 48#32
  ![v35444.toNat, v35445.toNat, 48]
def k0_off2201 (v35437 : BitVec 32) : Fin 3 → Nat :=
  let c875_i32_14962 : BitVec 32 := 875#32
  let v35469 : BitVec 32 := Scalar.addi c875_i32_14962 v35437
  let v35470 : Index := Scalar.indexCast v35469
  let c0_14963 : Index := 0#32
  let c0_14964 : Index := 0#32
  ![v35470.toNat, 0, 0]

def k0_off2202 (v35440 : BitVec 32) (c875_i32_14966 : BitVec 32) : Fin 3 → Nat :=
  let v35477 : BitVec 32 := Scalar.addi c875_i32_14966 v35440
  let v35478 : Index := Scalar.indexCast v35477
  let c0_14967 : Index := 0#32
  let c0_14968 : Index := 0#32
  ![v35478.toNat, 0, 0]

def k0_chk752 (v35440 : BitVec 32) : Prop :=
  (∀ (r : Fin 7), ∀ a, (k0_off2202 v35440 (BitVec.ofNat 32 (875 + 5 * r.val))) a + S1x8x128.size a ≤ S1120x8x128.size a)
theorem k0_off2202_inb : ∀ (v35440 : BitVec 32) (k0_hw752 : k0_chk752 v35440), ∀ (r : Fin 7), ∀ a, (k0_off2202 v35440 (BitVec.ofNat 32 (875 + 5 * r.val))) a + S1x8x128.size a ≤ S1120x8x128.size a := fun v35440 k0_hw752 r => k0_hw752 r

def k0_off2203 (v35437 : BitVec 32) (c880_i32_14971 : BitVec 32) : Fin 3 → Nat :=
  let v35487 : BitVec 32 := Scalar.addi c880_i32_14971 v35437
  let v35488 : Index := Scalar.indexCast v35487
  let c0_14972 : Index := 0#32
  let c0_14973 : Index := 0#32
  ![v35488.toNat, 0, 0]

def k0_chk751 (v35437 : BitVec 32) : Prop :=
  (∀ a, (k0_off2201 v35437) a + S1x8x128.size a ≤ S1120x8x128.size a) ∧
  (∀ (r : Fin 6), ∀ a, (k0_off2203 v35437 (BitVec.ofNat 32 (880 + 5 * r.val))) a + S1x8x128.size a ≤ S1120x8x128.size a)
theorem k0_off2201_inb : ∀ (v35437 : BitVec 32) (k0_hw751 : k0_chk751 v35437), ∀ a, (k0_off2201 v35437) a + S1x8x128.size a ≤ S1120x8x128.size a := fun v35437 k0_hw751 => k0_hw751.1
theorem k0_off2203_inb : ∀ (v35437 : BitVec 32) (k0_hw751 : k0_chk751 v35437), ∀ (r : Fin 6), ∀ a, (k0_off2203 v35437 (BitVec.ofNat 32 (880 + 5 * r.val))) a + S1x8x128.size a ≤ S1120x8x128.size a := fun v35437 k0_hw751 r => k0_hw751.2 r

def k0_off2204 (i : grid0.Coords) : Fin 3 → Nat :=
  let arg0 : BitVec 32 := BitVec.ofNat 32 (i 0).val
  let v35595 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35596 : Index := Scalar.indexCast v34455
  let c28_15025 : Index := 28#32
  ![v35595.toNat, v35596.toNat, 28]
def k0_off2205 (i : grid0.Coords) : Fin 3 → Nat :=
  let arg0 : BitVec 32 := BitVec.ofNat 32 (i 0).val
  let v35598 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35599 : Index := Scalar.indexCast v34455
  let c35_15026 : Index := 35#32
  ![v35598.toNat, v35599.toNat, 35]
def k0_off2206 (i : grid0.Coords) : Fin 3 → Nat :=
  let arg0 : BitVec 32 := BitVec.ofNat 32 (i 0).val
  let v35601 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35602 : Index := Scalar.indexCast v34455
  let c42_15027 : Index := 42#32
  ![v35601.toNat, v35602.toNat, 42]
def k0_off2207 (i : grid0.Coords) : Fin 3 → Nat :=
  let arg0 : BitVec 32 := BitVec.ofNat 32 (i 0).val
  let v35604 : Index := Scalar.indexCast arg0
  let arg1 : BitVec 32 := BitVec.ofNat 32 (i 1).val
  let c32_i32_14540 : BitVec 32 := 32#32
  let v34454 : BitVec 32 := Scalar.muli arg1 c32_i32_14540
  let c25_i32_14541 : BitVec 32 := 25#32
  let v34455 : BitVec 32 := Scalar.addi v34454 c25_i32_14541
  let v35605 : Index := Scalar.indexCast v34455
  let c49_15028 : Index := 49#32
  ![v35604.toNat, v35605.toNat, 49]
def k0_off2208 (v35597 : BitVec 32) : Fin 3 → Nat :=
  let c875_i32_15033 : BitVec 32 := 875#32
  let v35629 : BitVec 32 := Scalar.addi c875_i32_15033 v35597
  let v35630 : Index := Scalar.indexCast v35629
  let c0_15034 : Index := 0#32
  let c0_15035 : Index := 0#32
  ![v35630.toNat, 0, 0]

def k0_off2209 (v35600 : BitVec 32) (c875_i32_15037 : BitVec 32) : Fin 3 → Nat :=
  let v35637 : BitVec 32 := Scalar.addi c875_i32_15037 v35600
  let v35638 : Index := Scalar.indexCast v35637
  let c0_15038 : Index := 0#32
  let c0_15039 : Index := 0#32
  ![v35638.toNat, 0, 0]

def k0_chk754 (v35600 : BitVec 32) : Prop :=
  (∀ (r : Fin 7), ∀ a, (k0_off2209 v35600 (BitVec.ofNat 32 (875 + 5 * r.val))) a + S1x8x128.size a ≤ S1120x8x128.size a)
theorem k0_off2209_inb : ∀ (v35600 : BitVec 32) (k0_hw754 : k0_chk754 v35600), ∀ (r : Fin 7), ∀ a, (k0_off2209 v35600 (BitVec.ofNat 32 (875 + 5 * r.val))) a + S1x8x128.size a ≤ S1120x8x128.size a := fun v35600 k0_hw754 r => k0_hw754 r

def k0_off2210 (v35597 : BitVec 32) (c880_i32_15042 : BitVec 32) : Fin 3 → Nat :=
  let v35647 : BitVec 32 := Scalar.addi c880_i32_15042 v35597
  let v35648 : Index := Scalar.indexCast v35647
  let c0_15043 : Index := 0#32
  let c0_15044 : Index := 0#32
  ![v35648.toNat, 0, 0]

def k0_chk753 (v35597 : BitVec 32) : Prop :=
  (∀ a, (k0_off2208 v35597) a + S1x8x128.size a ≤ S1120x8x128.size a) ∧
  (∀ (r : Fin 6), ∀ a, (k0_off2210 v35597 (BitVec.ofNat 32 (880 + 5 * r.val))) a + S1x8x128.size a ≤ S1120x8x128.size a)
theorem k0_off2208_inb : ∀ (v35597 : BitVec 32) (k0_hw753 : k0_chk753 v35597), ∀ a, (k0_off2208 v35597) a + S1x8x128.size a ≤ S1120x8x128.size a := fun v35597 k0_hw753 => k0_hw753.1
theorem k0_off2210_inb : ∀ (v35597 : BitVec 32) (k0_hw753 : k0_chk753 v35597), ∀ (r : Fin 6), ∀ a, (k0_off2210 v35597 (BitVec.ofNat 32 (880 + 5 * r.val))) a + S1x8x128.size a ≤ S1120x8x128.size a := fun v35597 k0_hw753 r => k0_hw753.2 r

def k0_off2211 (i : grid0.Coords) : Fin 3 → Nat :=
  let arg0 : BitVec 32 := BitVec.ofNat 32 (i 0).val
  let v35834 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35835 : Index := Scalar.indexCast v35833
  let c0_15125 : Index := 0#32
  ![v35834.toNat, v35835.toNat, 0]
def k0_mult27 (v35836 : BitVec 32) : BitVec 32 :=
  v35836

def k0_chk755 (v35836 : BitVec 32) : Prop :=
  (8 ∣ (k0_mult27 v35836).toNat)
theorem k0_mult27_dvd : ∀ (v35836 : BitVec 32) (k0_hw755 : k0_chk755 v35836), 8 ∣ (k0_mult27 v35836).toNat := fun v35836 k0_hw755 => k0_hw755

def k0_off2212 (i : grid0.Coords) : Fin 3 → Nat :=
  let arg0 : BitVec 32 := BitVec.ofNat 32 (i 0).val
  let v35838 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35839 : Index := Scalar.indexCast v35833
  let c1_15126 : Index := 1#32
  ![v35838.toNat, v35839.toNat, 1]
def k0_off2213 (v35836 : BitVec 32) (v35840 : BitVec 32) : Fin 3 → Nat :=
  let v35841 : Index := Scalar.indexCast v35840
  let v35837 : BitVec 32 := v35836
  let v35842 : Index := Scalar.indexCast v35837
  let c0_15127 : Index := 0#32
  ![v35841.toNat, v35842.toNat, 0]

def k0_chk756 (v35836 : BitVec 32) (v35840 : BitVec 32) : Prop :=
  (∀ a, (k0_off2213 v35836 v35840) a + S1x40x128.size a ≤ S256x64x128.size a)
theorem k0_off2213_inb : ∀ (v35836 : BitVec 32) (v35840 : BitVec 32) (k0_hw756 : k0_chk756 v35836 v35840), ∀ a, (k0_off2213 v35836 v35840) a + S1x40x128.size a ≤ S256x64x128.size a := fun v35836 v35840 k0_hw756 => k0_hw756

def k0_off2214 (i : grid0.Coords) : Fin 3 → Nat :=
  let arg0 : BitVec 32 := BitVec.ofNat 32 (i 0).val
  let v35845 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35846 : Index := Scalar.indexCast v35833
  let c8_15128 : Index := 8#32
  ![v35845.toNat, v35846.toNat, 8]
def k0_off2215 (v35836 : BitVec 32) (v35847 : BitVec 32) : Fin 3 → Nat :=
  let v35848 : Index := Scalar.indexCast v35847
  let v35837 : BitVec 32 := v35836
  let v35849 : Index := Scalar.indexCast v35837
  let c0_15129 : Index := 0#32
  ![v35848.toNat, v35849.toNat, 0]

def k0_chk757 (v35836 : BitVec 32) (v35847 : BitVec 32) : Prop :=
  (∀ a, (k0_off2215 v35836 v35847) a + S1x40x128.size a ≤ S256x64x128.size a)
theorem k0_off2215_inb : ∀ (v35836 : BitVec 32) (v35847 : BitVec 32) (k0_hw757 : k0_chk757 v35836 v35847), ∀ a, (k0_off2215 v35836 v35847) a + S1x40x128.size a ≤ S256x64x128.size a := fun v35836 v35847 k0_hw757 => k0_hw757

def k0_off2216 (i : grid0.Coords) : Fin 3 → Nat :=
  let arg0 : BitVec 32 := BitVec.ofNat 32 (i 0).val
  let v35853 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35854 : Index := Scalar.indexCast v35833
  let c15_15130 : Index := 15#32
  ![v35853.toNat, v35854.toNat, 15]
def k0_off2217 (i : grid0.Coords) : Fin 3 → Nat :=
  let arg0 : BitVec 32 := BitVec.ofNat 32 (i 0).val
  let v35863 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35864 : Index := Scalar.indexCast v35833
  let c2_15135 : Index := 2#32
  ![v35863.toNat, v35864.toNat, 2]
def k0_off2218 (v35836 : BitVec 32) (v35865 : BitVec 32) : Fin 3 → Nat :=
  let v35866 : Index := Scalar.indexCast v35865
  let v35837 : BitVec 32 := v35836
  let v35867 : Index := Scalar.indexCast v35837
  let c0_15136 : Index := 0#32
  ![v35866.toNat, v35867.toNat, 0]

def k0_chk758 (v35836 : BitVec 32) (v35865 : BitVec 32) : Prop :=
  (∀ a, (k0_off2218 v35836 v35865) a + S1x40x128.size a ≤ S256x64x128.size a)
theorem k0_off2218_inb : ∀ (v35836 : BitVec 32) (v35865 : BitVec 32) (k0_hw758 : k0_chk758 v35836 v35865), ∀ a, (k0_off2218 v35836 v35865) a + S1x40x128.size a ≤ S256x64x128.size a := fun v35836 v35865 k0_hw758 => k0_hw758

def k0_off2219 (i : grid0.Coords) : Fin 3 → Nat :=
  let arg0 : BitVec 32 := BitVec.ofNat 32 (i 0).val
  let v35870 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35871 : Index := Scalar.indexCast v35833
  let c9_15137 : Index := 9#32
  ![v35870.toNat, v35871.toNat, 9]
def k0_off2220 (v35836 : BitVec 32) (v35872 : BitVec 32) : Fin 3 → Nat :=
  let v35873 : Index := Scalar.indexCast v35872
  let v35837 : BitVec 32 := v35836
  let v35874 : Index := Scalar.indexCast v35837
  let c0_15138 : Index := 0#32
  ![v35873.toNat, v35874.toNat, 0]

def k0_chk759 (v35836 : BitVec 32) (v35872 : BitVec 32) : Prop :=
  (∀ a, (k0_off2220 v35836 v35872) a + S1x40x128.size a ≤ S256x64x128.size a)
theorem k0_off2220_inb : ∀ (v35836 : BitVec 32) (v35872 : BitVec 32) (k0_hw759 : k0_chk759 v35836 v35872), ∀ a, (k0_off2220 v35836 v35872) a + S1x40x128.size a ≤ S256x64x128.size a := fun v35836 v35872 k0_hw759 => k0_hw759

def k0_off2221 (i : grid0.Coords) : Fin 3 → Nat :=
  let arg0 : BitVec 32 := BitVec.ofNat 32 (i 0).val
  let v35878 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35879 : Index := Scalar.indexCast v35833
  let c16_15139 : Index := 16#32
  ![v35878.toNat, v35879.toNat, 16]
def k0_off2222 (i : grid0.Coords) : Fin 3 → Nat :=
  let arg0 : BitVec 32 := BitVec.ofNat 32 (i 0).val
  let v35888 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35889 : Index := Scalar.indexCast v35833
  let c3_15144 : Index := 3#32
  ![v35888.toNat, v35889.toNat, 3]
def k0_off2223 (v35836 : BitVec 32) (v35890 : BitVec 32) : Fin 3 → Nat :=
  let v35891 : Index := Scalar.indexCast v35890
  let v35837 : BitVec 32 := v35836
  let v35892 : Index := Scalar.indexCast v35837
  let c0_15145 : Index := 0#32
  ![v35891.toNat, v35892.toNat, 0]

def k0_chk760 (v35836 : BitVec 32) (v35890 : BitVec 32) : Prop :=
  (∀ a, (k0_off2223 v35836 v35890) a + S1x40x128.size a ≤ S256x64x128.size a)
theorem k0_off2223_inb : ∀ (v35836 : BitVec 32) (v35890 : BitVec 32) (k0_hw760 : k0_chk760 v35836 v35890), ∀ a, (k0_off2223 v35836 v35890) a + S1x40x128.size a ≤ S256x64x128.size a := fun v35836 v35890 k0_hw760 => k0_hw760

def k0_off2224 (i : grid0.Coords) : Fin 3 → Nat :=
  let arg0 : BitVec 32 := BitVec.ofNat 32 (i 0).val
  let v35895 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35896 : Index := Scalar.indexCast v35833
  let c10_15146 : Index := 10#32
  ![v35895.toNat, v35896.toNat, 10]
def k0_off2225 (v35836 : BitVec 32) (v35897 : BitVec 32) : Fin 3 → Nat :=
  let v35898 : Index := Scalar.indexCast v35897
  let v35837 : BitVec 32 := v35836
  let v35899 : Index := Scalar.indexCast v35837
  let c0_15147 : Index := 0#32
  ![v35898.toNat, v35899.toNat, 0]

def k0_chk761 (v35836 : BitVec 32) (v35897 : BitVec 32) : Prop :=
  (∀ a, (k0_off2225 v35836 v35897) a + S1x40x128.size a ≤ S256x64x128.size a)
theorem k0_off2225_inb : ∀ (v35836 : BitVec 32) (v35897 : BitVec 32) (k0_hw761 : k0_chk761 v35836 v35897), ∀ a, (k0_off2225 v35836 v35897) a + S1x40x128.size a ≤ S256x64x128.size a := fun v35836 v35897 k0_hw761 => k0_hw761

def k0_off2226 (i : grid0.Coords) : Fin 3 → Nat :=
  let arg0 : BitVec 32 := BitVec.ofNat 32 (i 0).val
  let v35903 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35904 : Index := Scalar.indexCast v35833
  let c17_15148 : Index := 17#32
  ![v35903.toNat, v35904.toNat, 17]
def k0_off2227 (i : grid0.Coords) : Fin 3 → Nat :=
  let arg0 : BitVec 32 := BitVec.ofNat 32 (i 0).val
  let v35913 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35914 : Index := Scalar.indexCast v35833
  let c4_15153 : Index := 4#32
  ![v35913.toNat, v35914.toNat, 4]
def k0_off2228 (v35836 : BitVec 32) (v35915 : BitVec 32) : Fin 3 → Nat :=
  let v35916 : Index := Scalar.indexCast v35915
  let v35837 : BitVec 32 := v35836
  let v35917 : Index := Scalar.indexCast v35837
  let c0_15154 : Index := 0#32
  ![v35916.toNat, v35917.toNat, 0]

def k0_chk762 (v35836 : BitVec 32) (v35915 : BitVec 32) : Prop :=
  (∀ a, (k0_off2228 v35836 v35915) a + S1x40x128.size a ≤ S256x64x128.size a)
theorem k0_off2228_inb : ∀ (v35836 : BitVec 32) (v35915 : BitVec 32) (k0_hw762 : k0_chk762 v35836 v35915), ∀ a, (k0_off2228 v35836 v35915) a + S1x40x128.size a ≤ S256x64x128.size a := fun v35836 v35915 k0_hw762 => k0_hw762

def k0_off2229 (i : grid0.Coords) : Fin 3 → Nat :=
  let arg0 : BitVec 32 := BitVec.ofNat 32 (i 0).val
  let v35920 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35921 : Index := Scalar.indexCast v35833
  let c11_15155 : Index := 11#32
  ![v35920.toNat, v35921.toNat, 11]
def k0_off2230 (v35836 : BitVec 32) (v35922 : BitVec 32) : Fin 3 → Nat :=
  let v35923 : Index := Scalar.indexCast v35922
  let v35837 : BitVec 32 := v35836
  let v35924 : Index := Scalar.indexCast v35837
  let c0_15156 : Index := 0#32
  ![v35923.toNat, v35924.toNat, 0]

def k0_chk763 (v35836 : BitVec 32) (v35922 : BitVec 32) : Prop :=
  (∀ a, (k0_off2230 v35836 v35922) a + S1x40x128.size a ≤ S256x64x128.size a)
theorem k0_off2230_inb : ∀ (v35836 : BitVec 32) (v35922 : BitVec 32) (k0_hw763 : k0_chk763 v35836 v35922), ∀ a, (k0_off2230 v35836 v35922) a + S1x40x128.size a ≤ S256x64x128.size a := fun v35836 v35922 k0_hw763 => k0_hw763

def k0_off2231 (i : grid0.Coords) : Fin 3 → Nat :=
  let arg0 : BitVec 32 := BitVec.ofNat 32 (i 0).val
  let v35928 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35929 : Index := Scalar.indexCast v35833
  let c18_15157 : Index := 18#32
  ![v35928.toNat, v35929.toNat, 18]
def k0_off2232 (i : grid0.Coords) : Fin 3 → Nat :=
  let arg0 : BitVec 32 := BitVec.ofNat 32 (i 0).val
  let v35938 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35939 : Index := Scalar.indexCast v35833
  let c5_15162 : Index := 5#32
  ![v35938.toNat, v35939.toNat, 5]
def k0_off2233 (v35836 : BitVec 32) (v35940 : BitVec 32) : Fin 3 → Nat :=
  let v35941 : Index := Scalar.indexCast v35940
  let v35837 : BitVec 32 := v35836
  let v35942 : Index := Scalar.indexCast v35837
  let c0_15163 : Index := 0#32
  ![v35941.toNat, v35942.toNat, 0]

def k0_chk764 (v35836 : BitVec 32) (v35940 : BitVec 32) : Prop :=
  (∀ a, (k0_off2233 v35836 v35940) a + S1x40x128.size a ≤ S256x64x128.size a)
theorem k0_off2233_inb : ∀ (v35836 : BitVec 32) (v35940 : BitVec 32) (k0_hw764 : k0_chk764 v35836 v35940), ∀ a, (k0_off2233 v35836 v35940) a + S1x40x128.size a ≤ S256x64x128.size a := fun v35836 v35940 k0_hw764 => k0_hw764

def k0_off2234 (i : grid0.Coords) : Fin 3 → Nat :=
  let arg0 : BitVec 32 := BitVec.ofNat 32 (i 0).val
  let v35945 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35946 : Index := Scalar.indexCast v35833
  let c12_15164 : Index := 12#32
  ![v35945.toNat, v35946.toNat, 12]
def k0_off2235 (v35836 : BitVec 32) (v35947 : BitVec 32) : Fin 3 → Nat :=
  let v35948 : Index := Scalar.indexCast v35947
  let v35837 : BitVec 32 := v35836
  let v35949 : Index := Scalar.indexCast v35837
  let c0_15165 : Index := 0#32
  ![v35948.toNat, v35949.toNat, 0]

def k0_chk765 (v35836 : BitVec 32) (v35947 : BitVec 32) : Prop :=
  (∀ a, (k0_off2235 v35836 v35947) a + S1x40x128.size a ≤ S256x64x128.size a)
theorem k0_off2235_inb : ∀ (v35836 : BitVec 32) (v35947 : BitVec 32) (k0_hw765 : k0_chk765 v35836 v35947), ∀ a, (k0_off2235 v35836 v35947) a + S1x40x128.size a ≤ S256x64x128.size a := fun v35836 v35947 k0_hw765 => k0_hw765

def k0_off2236 (i : grid0.Coords) : Fin 3 → Nat :=
  let arg0 : BitVec 32 := BitVec.ofNat 32 (i 0).val
  let v35953 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35954 : Index := Scalar.indexCast v35833
  let c19_15166 : Index := 19#32
  ![v35953.toNat, v35954.toNat, 19]
def k0_off2237 (i : grid0.Coords) : Fin 3 → Nat :=
  let arg0 : BitVec 32 := BitVec.ofNat 32 (i 0).val
  let v35963 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35964 : Index := Scalar.indexCast v35833
  let c6_15171 : Index := 6#32
  ![v35963.toNat, v35964.toNat, 6]
def k0_off2238 (v35836 : BitVec 32) (v35965 : BitVec 32) : Fin 3 → Nat :=
  let v35966 : Index := Scalar.indexCast v35965
  let v35837 : BitVec 32 := v35836
  let v35967 : Index := Scalar.indexCast v35837
  let c0_15172 : Index := 0#32
  ![v35966.toNat, v35967.toNat, 0]

def k0_chk766 (v35836 : BitVec 32) (v35965 : BitVec 32) : Prop :=
  (∀ a, (k0_off2238 v35836 v35965) a + S1x40x128.size a ≤ S256x64x128.size a)
theorem k0_off2238_inb : ∀ (v35836 : BitVec 32) (v35965 : BitVec 32) (k0_hw766 : k0_chk766 v35836 v35965), ∀ a, (k0_off2238 v35836 v35965) a + S1x40x128.size a ≤ S256x64x128.size a := fun v35836 v35965 k0_hw766 => k0_hw766

def k0_off2239 (i : grid0.Coords) : Fin 3 → Nat :=
  let arg0 : BitVec 32 := BitVec.ofNat 32 (i 0).val
  let v35970 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35971 : Index := Scalar.indexCast v35833
  let c13_15173 : Index := 13#32
  ![v35970.toNat, v35971.toNat, 13]
def k0_off2240 (v35836 : BitVec 32) (v35972 : BitVec 32) : Fin 3 → Nat :=
  let v35973 : Index := Scalar.indexCast v35972
  let v35837 : BitVec 32 := v35836
  let v35974 : Index := Scalar.indexCast v35837
  let c0_15174 : Index := 0#32
  ![v35973.toNat, v35974.toNat, 0]

def k0_chk767 (v35836 : BitVec 32) (v35972 : BitVec 32) : Prop :=
  (∀ a, (k0_off2240 v35836 v35972) a + S1x40x128.size a ≤ S256x64x128.size a)
theorem k0_off2240_inb : ∀ (v35836 : BitVec 32) (v35972 : BitVec 32) (k0_hw767 : k0_chk767 v35836 v35972), ∀ a, (k0_off2240 v35836 v35972) a + S1x40x128.size a ≤ S256x64x128.size a := fun v35836 v35972 k0_hw767 => k0_hw767

def k0_off2241 (i : grid0.Coords) : Fin 3 → Nat :=
  let arg0 : BitVec 32 := BitVec.ofNat 32 (i 0).val
  let v35978 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35979 : Index := Scalar.indexCast v35833
  let c20_15175 : Index := 20#32
  ![v35978.toNat, v35979.toNat, 20]
def k0_off2242 (i : grid0.Coords) : Fin 3 → Nat :=
  let arg0 : BitVec 32 := BitVec.ofNat 32 (i 0).val
  let v35988 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35989 : Index := Scalar.indexCast v35833
  let c7_15180 : Index := 7#32
  ![v35988.toNat, v35989.toNat, 7]
def k0_off2243 (v35836 : BitVec 32) (v35990 : BitVec 32) : Fin 3 → Nat :=
  let v35991 : Index := Scalar.indexCast v35990
  let v35837 : BitVec 32 := v35836
  let v35992 : Index := Scalar.indexCast v35837
  let c0_15181 : Index := 0#32
  ![v35991.toNat, v35992.toNat, 0]

def k0_chk768 (v35836 : BitVec 32) (v35990 : BitVec 32) : Prop :=
  (∀ a, (k0_off2243 v35836 v35990) a + S1x40x128.size a ≤ S256x64x128.size a)
theorem k0_off2243_inb : ∀ (v35836 : BitVec 32) (v35990 : BitVec 32) (k0_hw768 : k0_chk768 v35836 v35990), ∀ a, (k0_off2243 v35836 v35990) a + S1x40x128.size a ≤ S256x64x128.size a := fun v35836 v35990 k0_hw768 => k0_hw768

def k0_off2244 (i : grid0.Coords) : Fin 3 → Nat :=
  let arg0 : BitVec 32 := BitVec.ofNat 32 (i 0).val
  let v35995 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v35996 : Index := Scalar.indexCast v35833
  let c14_15182 : Index := 14#32
  ![v35995.toNat, v35996.toNat, 14]
def k0_off2245 (v35836 : BitVec 32) (v35997 : BitVec 32) : Fin 3 → Nat :=
  let v35998 : Index := Scalar.indexCast v35997
  let v35837 : BitVec 32 := v35836
  let v35999 : Index := Scalar.indexCast v35837
  let c0_15183 : Index := 0#32
  ![v35998.toNat, v35999.toNat, 0]

def k0_chk769 (v35836 : BitVec 32) (v35997 : BitVec 32) : Prop :=
  (∀ a, (k0_off2245 v35836 v35997) a + S1x40x128.size a ≤ S256x64x128.size a)
theorem k0_off2245_inb : ∀ (v35836 : BitVec 32) (v35997 : BitVec 32) (k0_hw769 : k0_chk769 v35836 v35997), ∀ a, (k0_off2245 v35836 v35997) a + S1x40x128.size a ≤ S256x64x128.size a := fun v35836 v35997 k0_hw769 => k0_hw769

def k0_off2246 (i : grid0.Coords) : Fin 3 → Nat :=
  let arg0 : BitVec 32 := BitVec.ofNat 32 (i 0).val
  let v36003 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36004 : Index := Scalar.indexCast v35833
  let c21_15184 : Index := 21#32
  ![v36003.toNat, v36004.toNat, 21]
def k0_off2247 (i : grid0.Coords) : Fin 3 → Nat :=
  let arg0 : BitVec 32 := BitVec.ofNat 32 (i 0).val
  let v36013 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36014 : Index := Scalar.indexCast v35833
  let c22_15189 : Index := 22#32
  ![v36013.toNat, v36014.toNat, 22]
def k0_off2248 (i : grid0.Coords) : Fin 3 → Nat :=
  let arg0 : BitVec 32 := BitVec.ofNat 32 (i 0).val
  let v36016 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36017 : Index := Scalar.indexCast v35833
  let c29_15190 : Index := 29#32
  ![v36016.toNat, v36017.toNat, 29]
def k0_off2249 (i : grid0.Coords) : Fin 3 → Nat :=
  let arg0 : BitVec 32 := BitVec.ofNat 32 (i 0).val
  let v36019 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36020 : Index := Scalar.indexCast v35833
  let c36_15191 : Index := 36#32
  ![v36019.toNat, v36020.toNat, 36]
def k0_off2250 (i : grid0.Coords) : Fin 3 → Nat :=
  let arg0 : BitVec 32 := BitVec.ofNat 32 (i 0).val
  let v36022 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36023 : Index := Scalar.indexCast v35833
  let c43_15192 : Index := 43#32
  ![v36022.toNat, v36023.toNat, 43]
def k0_off2251 (v36015 : BitVec 32) : Fin 3 → Nat :=
  let c910_i32 : BitVec 32 := 910#32
  let v36047 : BitVec 32 := Scalar.addi c910_i32 v36015
  let v36048 : Index := Scalar.indexCast v36047
  let c0_15197 : Index := 0#32
  let c0_15198 : Index := 0#32
  ![v36048.toNat, 0, 0]

def k0_off2252 (v36018 : BitVec 32) (c910_i32_15200 : BitVec 32) : Fin 3 → Nat :=
  let v36055 : BitVec 32 := Scalar.addi c910_i32_15200 v36018
  let v36056 : Index := Scalar.indexCast v36055
  let c0_15201 : Index := 0#32
  let c0_15202 : Index := 0#32
  ![v36056.toNat, 0, 0]

def k0_chk771 (v36018 : BitVec 32) : Prop :=
  (∀ (r : Fin 7), ∀ a, (k0_off2252 v36018 (BitVec.ofNat 32 (910 + 5 * r.val))) a + S1x8x128.size a ≤ S1120x8x128.size a)
theorem k0_off2252_inb : ∀ (v36018 : BitVec 32) (k0_hw771 : k0_chk771 v36018), ∀ (r : Fin 7), ∀ a, (k0_off2252 v36018 (BitVec.ofNat 32 (910 + 5 * r.val))) a + S1x8x128.size a ≤ S1120x8x128.size a := fun v36018 k0_hw771 r => k0_hw771 r

def k0_off2253 (v36015 : BitVec 32) (c915_i32 : BitVec 32) : Fin 3 → Nat :=
  let v36065 : BitVec 32 := Scalar.addi c915_i32 v36015
  let v36066 : Index := Scalar.indexCast v36065
  let c0_15205 : Index := 0#32
  let c0_15206 : Index := 0#32
  ![v36066.toNat, 0, 0]

def k0_chk770 (v36015 : BitVec 32) : Prop :=
  (∀ a, (k0_off2251 v36015) a + S1x8x128.size a ≤ S1120x8x128.size a) ∧
  (∀ (r : Fin 6), ∀ a, (k0_off2253 v36015 (BitVec.ofNat 32 (915 + 5 * r.val))) a + S1x8x128.size a ≤ S1120x8x128.size a)
theorem k0_off2251_inb : ∀ (v36015 : BitVec 32) (k0_hw770 : k0_chk770 v36015), ∀ a, (k0_off2251 v36015) a + S1x8x128.size a ≤ S1120x8x128.size a := fun v36015 k0_hw770 => k0_hw770.1
theorem k0_off2253_inb : ∀ (v36015 : BitVec 32) (k0_hw770 : k0_chk770 v36015), ∀ (r : Fin 6), ∀ a, (k0_off2253 v36015 (BitVec.ofNat 32 (915 + 5 * r.val))) a + S1x8x128.size a ≤ S1120x8x128.size a := fun v36015 k0_hw770 r => k0_hw770.2 r

def k0_off2254 (i : grid0.Coords) : Fin 3 → Nat :=
  let arg0 : BitVec 32 := BitVec.ofNat 32 (i 0).val
  let v36173 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36174 : Index := Scalar.indexCast v35833
  let c23_15253 : Index := 23#32
  ![v36173.toNat, v36174.toNat, 23]
def k0_off2255 (i : grid0.Coords) : Fin 3 → Nat :=
  let arg0 : BitVec 32 := BitVec.ofNat 32 (i 0).val
  let v36176 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36177 : Index := Scalar.indexCast v35833
  let c30_15254 : Index := 30#32
  ![v36176.toNat, v36177.toNat, 30]
def k0_off2256 (i : grid0.Coords) : Fin 3 → Nat :=
  let arg0 : BitVec 32 := BitVec.ofNat 32 (i 0).val
  let v36179 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36180 : Index := Scalar.indexCast v35833
  let c37_15255 : Index := 37#32
  ![v36179.toNat, v36180.toNat, 37]
def k0_off2257 (i : grid0.Coords) : Fin 3 → Nat :=
  let arg0 : BitVec 32 := BitVec.ofNat 32 (i 0).val
  let v36182 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36183 : Index := Scalar.indexCast v35833
  let c44_15256 : Index := 44#32
  ![v36182.toNat, v36183.toNat, 44]
def k0_off2258 (v36175 : BitVec 32) : Fin 3 → Nat :=
  let c910_i32_15261 : BitVec 32 := 910#32
  let v36207 : BitVec 32 := Scalar.addi c910_i32_15261 v36175
  let v36208 : Index := Scalar.indexCast v36207
  let c0_15262 : Index := 0#32
  let c0_15263 : Index := 0#32
  ![v36208.toNat, 0, 0]

def k0_off2259 (v36178 : BitVec 32) (c910_i32_15265 : BitVec 32) : Fin 3 → Nat :=
  let v36215 : BitVec 32 := Scalar.addi c910_i32_15265 v36178
  let v36216 : Index := Scalar.indexCast v36215
  let c0_15266 : Index := 0#32
  let c0_15267 : Index := 0#32
  ![v36216.toNat, 0, 0]

def k0_chk773 (v36178 : BitVec 32) : Prop :=
  (∀ (r : Fin 7), ∀ a, (k0_off2259 v36178 (BitVec.ofNat 32 (910 + 5 * r.val))) a + S1x8x128.size a ≤ S1120x8x128.size a)
theorem k0_off2259_inb : ∀ (v36178 : BitVec 32) (k0_hw773 : k0_chk773 v36178), ∀ (r : Fin 7), ∀ a, (k0_off2259 v36178 (BitVec.ofNat 32 (910 + 5 * r.val))) a + S1x8x128.size a ≤ S1120x8x128.size a := fun v36178 k0_hw773 r => k0_hw773 r

def k0_off2260 (v36175 : BitVec 32) (c915_i32_15270 : BitVec 32) : Fin 3 → Nat :=
  let v36225 : BitVec 32 := Scalar.addi c915_i32_15270 v36175
  let v36226 : Index := Scalar.indexCast v36225
  let c0_15271 : Index := 0#32
  let c0_15272 : Index := 0#32
  ![v36226.toNat, 0, 0]

def k0_chk772 (v36175 : BitVec 32) : Prop :=
  (∀ a, (k0_off2258 v36175) a + S1x8x128.size a ≤ S1120x8x128.size a) ∧
  (∀ (r : Fin 6), ∀ a, (k0_off2260 v36175 (BitVec.ofNat 32 (915 + 5 * r.val))) a + S1x8x128.size a ≤ S1120x8x128.size a)
theorem k0_off2258_inb : ∀ (v36175 : BitVec 32) (k0_hw772 : k0_chk772 v36175), ∀ a, (k0_off2258 v36175) a + S1x8x128.size a ≤ S1120x8x128.size a := fun v36175 k0_hw772 => k0_hw772.1
theorem k0_off2260_inb : ∀ (v36175 : BitVec 32) (k0_hw772 : k0_chk772 v36175), ∀ (r : Fin 6), ∀ a, (k0_off2260 v36175 (BitVec.ofNat 32 (915 + 5 * r.val))) a + S1x8x128.size a ≤ S1120x8x128.size a := fun v36175 k0_hw772 r => k0_hw772.2 r

def k0_off2261 (i : grid0.Coords) : Fin 3 → Nat :=
  let arg0 : BitVec 32 := BitVec.ofNat 32 (i 0).val
  let v36333 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36334 : Index := Scalar.indexCast v35833
  let c24_15324 : Index := 24#32
  ![v36333.toNat, v36334.toNat, 24]
def k0_off2262 (i : grid0.Coords) : Fin 3 → Nat :=
  let arg0 : BitVec 32 := BitVec.ofNat 32 (i 0).val
  let v36336 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36337 : Index := Scalar.indexCast v35833
  let c31_15325 : Index := 31#32
  ![v36336.toNat, v36337.toNat, 31]
def k0_off2263 (i : grid0.Coords) : Fin 3 → Nat :=
  let arg0 : BitVec 32 := BitVec.ofNat 32 (i 0).val
  let v36339 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36340 : Index := Scalar.indexCast v35833
  let c38_15326 : Index := 38#32
  ![v36339.toNat, v36340.toNat, 38]
def k0_off2264 (i : grid0.Coords) : Fin 3 → Nat :=
  let arg0 : BitVec 32 := BitVec.ofNat 32 (i 0).val
  let v36342 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36343 : Index := Scalar.indexCast v35833
  let c45_15327 : Index := 45#32
  ![v36342.toNat, v36343.toNat, 45]
def k0_off2265 (v36335 : BitVec 32) : Fin 3 → Nat :=
  let c910_i32_15332 : BitVec 32 := 910#32
  let v36367 : BitVec 32 := Scalar.addi c910_i32_15332 v36335
  let v36368 : Index := Scalar.indexCast v36367
  let c0_15333 : Index := 0#32
  let c0_15334 : Index := 0#32
  ![v36368.toNat, 0, 0]

def k0_off2266 (v36338 : BitVec 32) (c910_i32_15336 : BitVec 32) : Fin 3 → Nat :=
  let v36375 : BitVec 32 := Scalar.addi c910_i32_15336 v36338
  let v36376 : Index := Scalar.indexCast v36375
  let c0_15337 : Index := 0#32
  let c0_15338 : Index := 0#32
  ![v36376.toNat, 0, 0]

def k0_chk775 (v36338 : BitVec 32) : Prop :=
  (∀ (r : Fin 7), ∀ a, (k0_off2266 v36338 (BitVec.ofNat 32 (910 + 5 * r.val))) a + S1x8x128.size a ≤ S1120x8x128.size a)
theorem k0_off2266_inb : ∀ (v36338 : BitVec 32) (k0_hw775 : k0_chk775 v36338), ∀ (r : Fin 7), ∀ a, (k0_off2266 v36338 (BitVec.ofNat 32 (910 + 5 * r.val))) a + S1x8x128.size a ≤ S1120x8x128.size a := fun v36338 k0_hw775 r => k0_hw775 r

def k0_off2267 (v36335 : BitVec 32) (c915_i32_15341 : BitVec 32) : Fin 3 → Nat :=
  let v36385 : BitVec 32 := Scalar.addi c915_i32_15341 v36335
  let v36386 : Index := Scalar.indexCast v36385
  let c0_15342 : Index := 0#32
  let c0_15343 : Index := 0#32
  ![v36386.toNat, 0, 0]

def k0_chk774 (v36335 : BitVec 32) : Prop :=
  (∀ a, (k0_off2265 v36335) a + S1x8x128.size a ≤ S1120x8x128.size a) ∧
  (∀ (r : Fin 6), ∀ a, (k0_off2267 v36335 (BitVec.ofNat 32 (915 + 5 * r.val))) a + S1x8x128.size a ≤ S1120x8x128.size a)
theorem k0_off2265_inb : ∀ (v36335 : BitVec 32) (k0_hw774 : k0_chk774 v36335), ∀ a, (k0_off2265 v36335) a + S1x8x128.size a ≤ S1120x8x128.size a := fun v36335 k0_hw774 => k0_hw774.1
theorem k0_off2267_inb : ∀ (v36335 : BitVec 32) (k0_hw774 : k0_chk774 v36335), ∀ (r : Fin 6), ∀ a, (k0_off2267 v36335 (BitVec.ofNat 32 (915 + 5 * r.val))) a + S1x8x128.size a ≤ S1120x8x128.size a := fun v36335 k0_hw774 r => k0_hw774.2 r

def k0_off2268 (i : grid0.Coords) : Fin 3 → Nat :=
  let arg0 : BitVec 32 := BitVec.ofNat 32 (i 0).val
  let v36493 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36494 : Index := Scalar.indexCast v35833
  let c25_15395 : Index := 25#32
  ![v36493.toNat, v36494.toNat, 25]
def k0_off2269 (i : grid0.Coords) : Fin 3 → Nat :=
  let arg0 : BitVec 32 := BitVec.ofNat 32 (i 0).val
  let v36496 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36497 : Index := Scalar.indexCast v35833
  let c32_15396 : Index := 32#32
  ![v36496.toNat, v36497.toNat, 32]
def k0_off2270 (i : grid0.Coords) : Fin 3 → Nat :=
  let arg0 : BitVec 32 := BitVec.ofNat 32 (i 0).val
  let v36499 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36500 : Index := Scalar.indexCast v35833
  let c39_15397 : Index := 39#32
  ![v36499.toNat, v36500.toNat, 39]
def k0_off2271 (i : grid0.Coords) : Fin 3 → Nat :=
  let arg0 : BitVec 32 := BitVec.ofNat 32 (i 0).val
  let v36502 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36503 : Index := Scalar.indexCast v35833
  let c46_15398 : Index := 46#32
  ![v36502.toNat, v36503.toNat, 46]
def k0_off2272 (v36495 : BitVec 32) : Fin 3 → Nat :=
  let c910_i32_15403 : BitVec 32 := 910#32
  let v36527 : BitVec 32 := Scalar.addi c910_i32_15403 v36495
  let v36528 : Index := Scalar.indexCast v36527
  let c0_15404 : Index := 0#32
  let c0_15405 : Index := 0#32
  ![v36528.toNat, 0, 0]

def k0_off2273 (v36498 : BitVec 32) (c910_i32_15407 : BitVec 32) : Fin 3 → Nat :=
  let v36535 : BitVec 32 := Scalar.addi c910_i32_15407 v36498
  let v36536 : Index := Scalar.indexCast v36535
  let c0_15408 : Index := 0#32
  let c0_15409 : Index := 0#32
  ![v36536.toNat, 0, 0]

def k0_chk777 (v36498 : BitVec 32) : Prop :=
  (∀ (r : Fin 7), ∀ a, (k0_off2273 v36498 (BitVec.ofNat 32 (910 + 5 * r.val))) a + S1x8x128.size a ≤ S1120x8x128.size a)
theorem k0_off2273_inb : ∀ (v36498 : BitVec 32) (k0_hw777 : k0_chk777 v36498), ∀ (r : Fin 7), ∀ a, (k0_off2273 v36498 (BitVec.ofNat 32 (910 + 5 * r.val))) a + S1x8x128.size a ≤ S1120x8x128.size a := fun v36498 k0_hw777 r => k0_hw777 r

def k0_off2274 (v36495 : BitVec 32) (c915_i32_15412 : BitVec 32) : Fin 3 → Nat :=
  let v36545 : BitVec 32 := Scalar.addi c915_i32_15412 v36495
  let v36546 : Index := Scalar.indexCast v36545
  let c0_15413 : Index := 0#32
  let c0_15414 : Index := 0#32
  ![v36546.toNat, 0, 0]

def k0_chk776 (v36495 : BitVec 32) : Prop :=
  (∀ a, (k0_off2272 v36495) a + S1x8x128.size a ≤ S1120x8x128.size a) ∧
  (∀ (r : Fin 6), ∀ a, (k0_off2274 v36495 (BitVec.ofNat 32 (915 + 5 * r.val))) a + S1x8x128.size a ≤ S1120x8x128.size a)
theorem k0_off2272_inb : ∀ (v36495 : BitVec 32) (k0_hw776 : k0_chk776 v36495), ∀ a, (k0_off2272 v36495) a + S1x8x128.size a ≤ S1120x8x128.size a := fun v36495 k0_hw776 => k0_hw776.1
theorem k0_off2274_inb : ∀ (v36495 : BitVec 32) (k0_hw776 : k0_chk776 v36495), ∀ (r : Fin 6), ∀ a, (k0_off2274 v36495 (BitVec.ofNat 32 (915 + 5 * r.val))) a + S1x8x128.size a ≤ S1120x8x128.size a := fun v36495 k0_hw776 r => k0_hw776.2 r

def k0_off2275 (i : grid0.Coords) : Fin 3 → Nat :=
  let arg0 : BitVec 32 := BitVec.ofNat 32 (i 0).val
  let v36653 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36654 : Index := Scalar.indexCast v35833
  let c26_15466 : Index := 26#32
  ![v36653.toNat, v36654.toNat, 26]
def k0_off2276 (i : grid0.Coords) : Fin 3 → Nat :=
  let arg0 : BitVec 32 := BitVec.ofNat 32 (i 0).val
  let v36656 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36657 : Index := Scalar.indexCast v35833
  let c33_15467 : Index := 33#32
  ![v36656.toNat, v36657.toNat, 33]
def k0_off2277 (i : grid0.Coords) : Fin 3 → Nat :=
  let arg0 : BitVec 32 := BitVec.ofNat 32 (i 0).val
  let v36659 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36660 : Index := Scalar.indexCast v35833
  let c40_15468 : Index := 40#32
  ![v36659.toNat, v36660.toNat, 40]
def k0_off2278 (i : grid0.Coords) : Fin 3 → Nat :=
  let arg0 : BitVec 32 := BitVec.ofNat 32 (i 0).val
  let v36662 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36663 : Index := Scalar.indexCast v35833
  let c47_15469 : Index := 47#32
  ![v36662.toNat, v36663.toNat, 47]
def k0_off2279 (v36655 : BitVec 32) : Fin 3 → Nat :=
  let c910_i32_15474 : BitVec 32 := 910#32
  let v36687 : BitVec 32 := Scalar.addi c910_i32_15474 v36655
  let v36688 : Index := Scalar.indexCast v36687
  let c0_15475 : Index := 0#32
  let c0_15476 : Index := 0#32
  ![v36688.toNat, 0, 0]

def k0_off2280 (v36658 : BitVec 32) (c910_i32_15478 : BitVec 32) : Fin 3 → Nat :=
  let v36695 : BitVec 32 := Scalar.addi c910_i32_15478 v36658
  let v36696 : Index := Scalar.indexCast v36695
  let c0_15479 : Index := 0#32
  let c0_15480 : Index := 0#32
  ![v36696.toNat, 0, 0]

def k0_chk779 (v36658 : BitVec 32) : Prop :=
  (∀ (r : Fin 7), ∀ a, (k0_off2280 v36658 (BitVec.ofNat 32 (910 + 5 * r.val))) a + S1x8x128.size a ≤ S1120x8x128.size a)
theorem k0_off2280_inb : ∀ (v36658 : BitVec 32) (k0_hw779 : k0_chk779 v36658), ∀ (r : Fin 7), ∀ a, (k0_off2280 v36658 (BitVec.ofNat 32 (910 + 5 * r.val))) a + S1x8x128.size a ≤ S1120x8x128.size a := fun v36658 k0_hw779 r => k0_hw779 r

def k0_off2281 (v36655 : BitVec 32) (c915_i32_15483 : BitVec 32) : Fin 3 → Nat :=
  let v36705 : BitVec 32 := Scalar.addi c915_i32_15483 v36655
  let v36706 : Index := Scalar.indexCast v36705
  let c0_15484 : Index := 0#32
  let c0_15485 : Index := 0#32
  ![v36706.toNat, 0, 0]

def k0_chk778 (v36655 : BitVec 32) : Prop :=
  (∀ a, (k0_off2279 v36655) a + S1x8x128.size a ≤ S1120x8x128.size a) ∧
  (∀ (r : Fin 6), ∀ a, (k0_off2281 v36655 (BitVec.ofNat 32 (915 + 5 * r.val))) a + S1x8x128.size a ≤ S1120x8x128.size a)
theorem k0_off2279_inb : ∀ (v36655 : BitVec 32) (k0_hw778 : k0_chk778 v36655), ∀ a, (k0_off2279 v36655) a + S1x8x128.size a ≤ S1120x8x128.size a := fun v36655 k0_hw778 => k0_hw778.1
theorem k0_off2281_inb : ∀ (v36655 : BitVec 32) (k0_hw778 : k0_chk778 v36655), ∀ (r : Fin 6), ∀ a, (k0_off2281 v36655 (BitVec.ofNat 32 (915 + 5 * r.val))) a + S1x8x128.size a ≤ S1120x8x128.size a := fun v36655 k0_hw778 r => k0_hw778.2 r

def k0_off2282 (i : grid0.Coords) : Fin 3 → Nat :=
  let arg0 : BitVec 32 := BitVec.ofNat 32 (i 0).val
  let v36813 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36814 : Index := Scalar.indexCast v35833
  let c27_15537 : Index := 27#32
  ![v36813.toNat, v36814.toNat, 27]
def k0_off2283 (i : grid0.Coords) : Fin 3 → Nat :=
  let arg0 : BitVec 32 := BitVec.ofNat 32 (i 0).val
  let v36816 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36817 : Index := Scalar.indexCast v35833
  let c34_15538 : Index := 34#32
  ![v36816.toNat, v36817.toNat, 34]
def k0_off2284 (i : grid0.Coords) : Fin 3 → Nat :=
  let arg0 : BitVec 32 := BitVec.ofNat 32 (i 0).val
  let v36819 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36820 : Index := Scalar.indexCast v35833
  let c41_15539 : Index := 41#32
  ![v36819.toNat, v36820.toNat, 41]
def k0_off2285 (i : grid0.Coords) : Fin 3 → Nat :=
  let arg0 : BitVec 32 := BitVec.ofNat 32 (i 0).val
  let v36822 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36823 : Index := Scalar.indexCast v35833
  let c48_15540 : Index := 48#32
  ![v36822.toNat, v36823.toNat, 48]
def k0_off2286 (v36815 : BitVec 32) : Fin 3 → Nat :=
  let c910_i32_15545 : BitVec 32 := 910#32
  let v36847 : BitVec 32 := Scalar.addi c910_i32_15545 v36815
  let v36848 : Index := Scalar.indexCast v36847
  let c0_15546 : Index := 0#32
  let c0_15547 : Index := 0#32
  ![v36848.toNat, 0, 0]

def k0_off2287 (v36818 : BitVec 32) (c910_i32_15549 : BitVec 32) : Fin 3 → Nat :=
  let v36855 : BitVec 32 := Scalar.addi c910_i32_15549 v36818
  let v36856 : Index := Scalar.indexCast v36855
  let c0_15550 : Index := 0#32
  let c0_15551 : Index := 0#32
  ![v36856.toNat, 0, 0]

def k0_chk781 (v36818 : BitVec 32) : Prop :=
  (∀ (r : Fin 7), ∀ a, (k0_off2287 v36818 (BitVec.ofNat 32 (910 + 5 * r.val))) a + S1x8x128.size a ≤ S1120x8x128.size a)
theorem k0_off2287_inb : ∀ (v36818 : BitVec 32) (k0_hw781 : k0_chk781 v36818), ∀ (r : Fin 7), ∀ a, (k0_off2287 v36818 (BitVec.ofNat 32 (910 + 5 * r.val))) a + S1x8x128.size a ≤ S1120x8x128.size a := fun v36818 k0_hw781 r => k0_hw781 r

def k0_off2288 (v36815 : BitVec 32) (c915_i32_15554 : BitVec 32) : Fin 3 → Nat :=
  let v36865 : BitVec 32 := Scalar.addi c915_i32_15554 v36815
  let v36866 : Index := Scalar.indexCast v36865
  let c0_15555 : Index := 0#32
  let c0_15556 : Index := 0#32
  ![v36866.toNat, 0, 0]

def k0_chk780 (v36815 : BitVec 32) : Prop :=
  (∀ a, (k0_off2286 v36815) a + S1x8x128.size a ≤ S1120x8x128.size a) ∧
  (∀ (r : Fin 6), ∀ a, (k0_off2288 v36815 (BitVec.ofNat 32 (915 + 5 * r.val))) a + S1x8x128.size a ≤ S1120x8x128.size a)
theorem k0_off2286_inb : ∀ (v36815 : BitVec 32) (k0_hw780 : k0_chk780 v36815), ∀ a, (k0_off2286 v36815) a + S1x8x128.size a ≤ S1120x8x128.size a := fun v36815 k0_hw780 => k0_hw780.1
theorem k0_off2288_inb : ∀ (v36815 : BitVec 32) (k0_hw780 : k0_chk780 v36815), ∀ (r : Fin 6), ∀ a, (k0_off2288 v36815 (BitVec.ofNat 32 (915 + 5 * r.val))) a + S1x8x128.size a ≤ S1120x8x128.size a := fun v36815 k0_hw780 r => k0_hw780.2 r

def k0_off2289 (i : grid0.Coords) : Fin 3 → Nat :=
  let arg0 : BitVec 32 := BitVec.ofNat 32 (i 0).val
  let v36973 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36974 : Index := Scalar.indexCast v35833
  let c28_15608 : Index := 28#32
  ![v36973.toNat, v36974.toNat, 28]
def k0_off2290 (i : grid0.Coords) : Fin 3 → Nat :=
  let arg0 : BitVec 32 := BitVec.ofNat 32 (i 0).val
  let v36976 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36977 : Index := Scalar.indexCast v35833
  let c35_15609 : Index := 35#32
  ![v36976.toNat, v36977.toNat, 35]
def k0_off2291 (i : grid0.Coords) : Fin 3 → Nat :=
  let arg0 : BitVec 32 := BitVec.ofNat 32 (i 0).val
  let v36979 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36980 : Index := Scalar.indexCast v35833
  let c42_15610 : Index := 42#32
  ![v36979.toNat, v36980.toNat, 42]
def k0_off2292 (i : grid0.Coords) : Fin 3 → Nat :=
  let arg0 : BitVec 32 := BitVec.ofNat 32 (i 0).val
  let v36982 : Index := Scalar.indexCast arg0
  let arg1 : BitVec 32 := BitVec.ofNat 32 (i 1).val
  let c32_i32_15124 : BitVec 32 := 32#32
  let v35832 : BitVec 32 := Scalar.muli arg1 c32_i32_15124
  let c26_i32 : BitVec 32 := 26#32
  let v35833 : BitVec 32 := Scalar.addi v35832 c26_i32
  let v36983 : Index := Scalar.indexCast v35833
  let c49_15611 : Index := 49#32
  ![v36982.toNat, v36983.toNat, 49]
def k0_off2293 (v36975 : BitVec 32) : Fin 3 → Nat :=
  let c910_i32_15616 : BitVec 32 := 910#32
  let v37007 : BitVec 32 := Scalar.addi c910_i32_15616 v36975
  let v37008 : Index := Scalar.indexCast v37007
  let c0_15617 : Index := 0#32
  let c0_15618 : Index := 0#32
  ![v37008.toNat, 0, 0]

def k0_off2294 (v36978 : BitVec 32) (c910_i32_15620 : BitVec 32) : Fin 3 → Nat :=
  let v37015 : BitVec 32 := Scalar.addi c910_i32_15620 v36978
  let v37016 : Index := Scalar.indexCast v37015
  let c0_15621 : Index := 0#32
  let c0_15622 : Index := 0#32
  ![v37016.toNat, 0, 0]

def k0_chk783 (v36978 : BitVec 32) : Prop :=
  (∀ (r : Fin 7), ∀ a, (k0_off2294 v36978 (BitVec.ofNat 32 (910 + 5 * r.val))) a + S1x8x128.size a ≤ S1120x8x128.size a)
theorem k0_off2294_inb : ∀ (v36978 : BitVec 32) (k0_hw783 : k0_chk783 v36978), ∀ (r : Fin 7), ∀ a, (k0_off2294 v36978 (BitVec.ofNat 32 (910 + 5 * r.val))) a + S1x8x128.size a ≤ S1120x8x128.size a := fun v36978 k0_hw783 r => k0_hw783 r

def k0_off2295 (v36975 : BitVec 32) (c915_i32_15625 : BitVec 32) : Fin 3 → Nat :=
  let v37025 : BitVec 32 := Scalar.addi c915_i32_15625 v36975
  let v37026 : Index := Scalar.indexCast v37025
  let c0_15626 : Index := 0#32
  let c0_15627 : Index := 0#32
  ![v37026.toNat, 0, 0]

def k0_chk782 (v36975 : BitVec 32) : Prop :=
  (∀ a, (k0_off2293 v36975) a + S1x8x128.size a ≤ S1120x8x128.size a) ∧
  (∀ (r : Fin 6), ∀ a, (k0_off2295 v36975 (BitVec.ofNat 32 (915 + 5 * r.val))) a + S1x8x128.size a ≤ S1120x8x128.size a)
theorem k0_off2293_inb : ∀ (v36975 : BitVec 32) (k0_hw782 : k0_chk782 v36975), ∀ a, (k0_off2293 v36975) a + S1x8x128.size a ≤ S1120x8x128.size a := fun v36975 k0_hw782 => k0_hw782.1
theorem k0_off2295_inb : ∀ (v36975 : BitVec 32) (k0_hw782 : k0_chk782 v36975), ∀ (r : Fin 6), ∀ a, (k0_off2295 v36975 (BitVec.ofNat 32 (915 + 5 * r.val))) a + S1x8x128.size a ≤ S1120x8x128.size a := fun v36975 k0_hw782 r => k0_hw782.2 r

def k0_off2296 (i : grid0.Coords) : Fin 3 → Nat :=
  let arg0 : BitVec 32 := BitVec.ofNat 32 (i 0).val
  let v37212 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37213 : Index := Scalar.indexCast v37211
  let c0_15708 : Index := 0#32
  ![v37212.toNat, v37213.toNat, 0]
def k0_mult28 (v37214 : BitVec 32) : BitVec 32 :=
  v37214

def k0_chk784 (v37214 : BitVec 32) : Prop :=
  (8 ∣ (k0_mult28 v37214).toNat)
theorem k0_mult28_dvd : ∀ (v37214 : BitVec 32) (k0_hw784 : k0_chk784 v37214), 8 ∣ (k0_mult28 v37214).toNat := fun v37214 k0_hw784 => k0_hw784

def k0_off2297 (i : grid0.Coords) : Fin 3 → Nat :=
  let arg0 : BitVec 32 := BitVec.ofNat 32 (i 0).val
  let v37216 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37217 : Index := Scalar.indexCast v37211
  let c1_15709 : Index := 1#32
  ![v37216.toNat, v37217.toNat, 1]
def k0_off2298 (v37214 : BitVec 32) (v37218 : BitVec 32) : Fin 3 → Nat :=
  let v37219 : Index := Scalar.indexCast v37218
  let v37215 : BitVec 32 := v37214
  let v37220 : Index := Scalar.indexCast v37215
  let c0_15710 : Index := 0#32
  ![v37219.toNat, v37220.toNat, 0]

def k0_chk785 (v37214 : BitVec 32) (v37218 : BitVec 32) : Prop :=
  (∀ a, (k0_off2298 v37214 v37218) a + S1x40x128.size a ≤ S256x64x128.size a)
theorem k0_off2298_inb : ∀ (v37214 : BitVec 32) (v37218 : BitVec 32) (k0_hw785 : k0_chk785 v37214 v37218), ∀ a, (k0_off2298 v37214 v37218) a + S1x40x128.size a ≤ S256x64x128.size a := fun v37214 v37218 k0_hw785 => k0_hw785

def k0_off2299 (i : grid0.Coords) : Fin 3 → Nat :=
  let arg0 : BitVec 32 := BitVec.ofNat 32 (i 0).val
  let v37223 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37224 : Index := Scalar.indexCast v37211
  let c8_15711 : Index := 8#32
  ![v37223.toNat, v37224.toNat, 8]
def k0_off2300 (v37214 : BitVec 32) (v37225 : BitVec 32) : Fin 3 → Nat :=
  let v37226 : Index := Scalar.indexCast v37225
  let v37215 : BitVec 32 := v37214
  let v37227 : Index := Scalar.indexCast v37215
  let c0_15712 : Index := 0#32
  ![v37226.toNat, v37227.toNat, 0]

def k0_chk786 (v37214 : BitVec 32) (v37225 : BitVec 32) : Prop :=
  (∀ a, (k0_off2300 v37214 v37225) a + S1x40x128.size a ≤ S256x64x128.size a)
theorem k0_off2300_inb : ∀ (v37214 : BitVec 32) (v37225 : BitVec 32) (k0_hw786 : k0_chk786 v37214 v37225), ∀ a, (k0_off2300 v37214 v37225) a + S1x40x128.size a ≤ S256x64x128.size a := fun v37214 v37225 k0_hw786 => k0_hw786

def k0_off2301 (i : grid0.Coords) : Fin 3 → Nat :=
  let arg0 : BitVec 32 := BitVec.ofNat 32 (i 0).val
  let v37231 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37232 : Index := Scalar.indexCast v37211
  let c15_15713 : Index := 15#32
  ![v37231.toNat, v37232.toNat, 15]
def k0_off2302 (i : grid0.Coords) : Fin 3 → Nat :=
  let arg0 : BitVec 32 := BitVec.ofNat 32 (i 0).val
  let v37241 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37242 : Index := Scalar.indexCast v37211
  let c2_15718 : Index := 2#32
  ![v37241.toNat, v37242.toNat, 2]
def k0_off2303 (v37214 : BitVec 32) (v37243 : BitVec 32) : Fin 3 → Nat :=
  let v37244 : Index := Scalar.indexCast v37243
  let v37215 : BitVec 32 := v37214
  let v37245 : Index := Scalar.indexCast v37215
  let c0_15719 : Index := 0#32
  ![v37244.toNat, v37245.toNat, 0]

def k0_chk787 (v37214 : BitVec 32) (v37243 : BitVec 32) : Prop :=
  (∀ a, (k0_off2303 v37214 v37243) a + S1x40x128.size a ≤ S256x64x128.size a)
theorem k0_off2303_inb : ∀ (v37214 : BitVec 32) (v37243 : BitVec 32) (k0_hw787 : k0_chk787 v37214 v37243), ∀ a, (k0_off2303 v37214 v37243) a + S1x40x128.size a ≤ S256x64x128.size a := fun v37214 v37243 k0_hw787 => k0_hw787

def k0_off2304 (i : grid0.Coords) : Fin 3 → Nat :=
  let arg0 : BitVec 32 := BitVec.ofNat 32 (i 0).val
  let v37248 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37249 : Index := Scalar.indexCast v37211
  let c9_15720 : Index := 9#32
  ![v37248.toNat, v37249.toNat, 9]
def k0_off2305 (v37214 : BitVec 32) (v37250 : BitVec 32) : Fin 3 → Nat :=
  let v37251 : Index := Scalar.indexCast v37250
  let v37215 : BitVec 32 := v37214
  let v37252 : Index := Scalar.indexCast v37215
  let c0_15721 : Index := 0#32
  ![v37251.toNat, v37252.toNat, 0]

def k0_chk788 (v37214 : BitVec 32) (v37250 : BitVec 32) : Prop :=
  (∀ a, (k0_off2305 v37214 v37250) a + S1x40x128.size a ≤ S256x64x128.size a)
theorem k0_off2305_inb : ∀ (v37214 : BitVec 32) (v37250 : BitVec 32) (k0_hw788 : k0_chk788 v37214 v37250), ∀ a, (k0_off2305 v37214 v37250) a + S1x40x128.size a ≤ S256x64x128.size a := fun v37214 v37250 k0_hw788 => k0_hw788

def k0_off2306 (i : grid0.Coords) : Fin 3 → Nat :=
  let arg0 : BitVec 32 := BitVec.ofNat 32 (i 0).val
  let v37256 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37257 : Index := Scalar.indexCast v37211
  let c16_15722 : Index := 16#32
  ![v37256.toNat, v37257.toNat, 16]
def k0_off2307 (i : grid0.Coords) : Fin 3 → Nat :=
  let arg0 : BitVec 32 := BitVec.ofNat 32 (i 0).val
  let v37266 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37267 : Index := Scalar.indexCast v37211
  let c3_15727 : Index := 3#32
  ![v37266.toNat, v37267.toNat, 3]
def k0_off2308 (v37214 : BitVec 32) (v37268 : BitVec 32) : Fin 3 → Nat :=
  let v37269 : Index := Scalar.indexCast v37268
  let v37215 : BitVec 32 := v37214
  let v37270 : Index := Scalar.indexCast v37215
  let c0_15728 : Index := 0#32
  ![v37269.toNat, v37270.toNat, 0]

def k0_chk789 (v37214 : BitVec 32) (v37268 : BitVec 32) : Prop :=
  (∀ a, (k0_off2308 v37214 v37268) a + S1x40x128.size a ≤ S256x64x128.size a)
theorem k0_off2308_inb : ∀ (v37214 : BitVec 32) (v37268 : BitVec 32) (k0_hw789 : k0_chk789 v37214 v37268), ∀ a, (k0_off2308 v37214 v37268) a + S1x40x128.size a ≤ S256x64x128.size a := fun v37214 v37268 k0_hw789 => k0_hw789

def k0_off2309 (i : grid0.Coords) : Fin 3 → Nat :=
  let arg0 : BitVec 32 := BitVec.ofNat 32 (i 0).val
  let v37273 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37274 : Index := Scalar.indexCast v37211
  let c10_15729 : Index := 10#32
  ![v37273.toNat, v37274.toNat, 10]
def k0_off2310 (v37214 : BitVec 32) (v37275 : BitVec 32) : Fin 3 → Nat :=
  let v37276 : Index := Scalar.indexCast v37275
  let v37215 : BitVec 32 := v37214
  let v37277 : Index := Scalar.indexCast v37215
  let c0_15730 : Index := 0#32
  ![v37276.toNat, v37277.toNat, 0]

def k0_chk790 (v37214 : BitVec 32) (v37275 : BitVec 32) : Prop :=
  (∀ a, (k0_off2310 v37214 v37275) a + S1x40x128.size a ≤ S256x64x128.size a)
theorem k0_off2310_inb : ∀ (v37214 : BitVec 32) (v37275 : BitVec 32) (k0_hw790 : k0_chk790 v37214 v37275), ∀ a, (k0_off2310 v37214 v37275) a + S1x40x128.size a ≤ S256x64x128.size a := fun v37214 v37275 k0_hw790 => k0_hw790

def k0_off2311 (i : grid0.Coords) : Fin 3 → Nat :=
  let arg0 : BitVec 32 := BitVec.ofNat 32 (i 0).val
  let v37281 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37282 : Index := Scalar.indexCast v37211
  let c17_15731 : Index := 17#32
  ![v37281.toNat, v37282.toNat, 17]
def k0_off2312 (i : grid0.Coords) : Fin 3 → Nat :=
  let arg0 : BitVec 32 := BitVec.ofNat 32 (i 0).val
  let v37291 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37292 : Index := Scalar.indexCast v37211
  let c4_15736 : Index := 4#32
  ![v37291.toNat, v37292.toNat, 4]
def k0_off2313 (v37214 : BitVec 32) (v37293 : BitVec 32) : Fin 3 → Nat :=
  let v37294 : Index := Scalar.indexCast v37293
  let v37215 : BitVec 32 := v37214
  let v37295 : Index := Scalar.indexCast v37215
  let c0_15737 : Index := 0#32
  ![v37294.toNat, v37295.toNat, 0]

def k0_chk791 (v37214 : BitVec 32) (v37293 : BitVec 32) : Prop :=
  (∀ a, (k0_off2313 v37214 v37293) a + S1x40x128.size a ≤ S256x64x128.size a)
theorem k0_off2313_inb : ∀ (v37214 : BitVec 32) (v37293 : BitVec 32) (k0_hw791 : k0_chk791 v37214 v37293), ∀ a, (k0_off2313 v37214 v37293) a + S1x40x128.size a ≤ S256x64x128.size a := fun v37214 v37293 k0_hw791 => k0_hw791

def k0_off2314 (i : grid0.Coords) : Fin 3 → Nat :=
  let arg0 : BitVec 32 := BitVec.ofNat 32 (i 0).val
  let v37298 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37299 : Index := Scalar.indexCast v37211
  let c11_15738 : Index := 11#32
  ![v37298.toNat, v37299.toNat, 11]
def k0_off2315 (v37214 : BitVec 32) (v37300 : BitVec 32) : Fin 3 → Nat :=
  let v37301 : Index := Scalar.indexCast v37300
  let v37215 : BitVec 32 := v37214
  let v37302 : Index := Scalar.indexCast v37215
  let c0_15739 : Index := 0#32
  ![v37301.toNat, v37302.toNat, 0]

def k0_chk792 (v37214 : BitVec 32) (v37300 : BitVec 32) : Prop :=
  (∀ a, (k0_off2315 v37214 v37300) a + S1x40x128.size a ≤ S256x64x128.size a)
theorem k0_off2315_inb : ∀ (v37214 : BitVec 32) (v37300 : BitVec 32) (k0_hw792 : k0_chk792 v37214 v37300), ∀ a, (k0_off2315 v37214 v37300) a + S1x40x128.size a ≤ S256x64x128.size a := fun v37214 v37300 k0_hw792 => k0_hw792

def k0_off2316 (i : grid0.Coords) : Fin 3 → Nat :=
  let arg0 : BitVec 32 := BitVec.ofNat 32 (i 0).val
  let v37306 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37307 : Index := Scalar.indexCast v37211
  let c18_15740 : Index := 18#32
  ![v37306.toNat, v37307.toNat, 18]
def k0_off2317 (i : grid0.Coords) : Fin 3 → Nat :=
  let arg0 : BitVec 32 := BitVec.ofNat 32 (i 0).val
  let v37316 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37317 : Index := Scalar.indexCast v37211
  let c5_15745 : Index := 5#32
  ![v37316.toNat, v37317.toNat, 5]
def k0_off2318 (v37214 : BitVec 32) (v37318 : BitVec 32) : Fin 3 → Nat :=
  let v37319 : Index := Scalar.indexCast v37318
  let v37215 : BitVec 32 := v37214
  let v37320 : Index := Scalar.indexCast v37215
  let c0_15746 : Index := 0#32
  ![v37319.toNat, v37320.toNat, 0]

def k0_chk793 (v37214 : BitVec 32) (v37318 : BitVec 32) : Prop :=
  (∀ a, (k0_off2318 v37214 v37318) a + S1x40x128.size a ≤ S256x64x128.size a)
theorem k0_off2318_inb : ∀ (v37214 : BitVec 32) (v37318 : BitVec 32) (k0_hw793 : k0_chk793 v37214 v37318), ∀ a, (k0_off2318 v37214 v37318) a + S1x40x128.size a ≤ S256x64x128.size a := fun v37214 v37318 k0_hw793 => k0_hw793

def k0_off2319 (i : grid0.Coords) : Fin 3 → Nat :=
  let arg0 : BitVec 32 := BitVec.ofNat 32 (i 0).val
  let v37323 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37324 : Index := Scalar.indexCast v37211
  let c12_15747 : Index := 12#32
  ![v37323.toNat, v37324.toNat, 12]
def k0_off2320 (v37214 : BitVec 32) (v37325 : BitVec 32) : Fin 3 → Nat :=
  let v37326 : Index := Scalar.indexCast v37325
  let v37215 : BitVec 32 := v37214
  let v37327 : Index := Scalar.indexCast v37215
  let c0_15748 : Index := 0#32
  ![v37326.toNat, v37327.toNat, 0]

def k0_chk794 (v37214 : BitVec 32) (v37325 : BitVec 32) : Prop :=
  (∀ a, (k0_off2320 v37214 v37325) a + S1x40x128.size a ≤ S256x64x128.size a)
theorem k0_off2320_inb : ∀ (v37214 : BitVec 32) (v37325 : BitVec 32) (k0_hw794 : k0_chk794 v37214 v37325), ∀ a, (k0_off2320 v37214 v37325) a + S1x40x128.size a ≤ S256x64x128.size a := fun v37214 v37325 k0_hw794 => k0_hw794

def k0_off2321 (i : grid0.Coords) : Fin 3 → Nat :=
  let arg0 : BitVec 32 := BitVec.ofNat 32 (i 0).val
  let v37331 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37332 : Index := Scalar.indexCast v37211
  let c19_15749 : Index := 19#32
  ![v37331.toNat, v37332.toNat, 19]
def k0_off2322 (i : grid0.Coords) : Fin 3 → Nat :=
  let arg0 : BitVec 32 := BitVec.ofNat 32 (i 0).val
  let v37341 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37342 : Index := Scalar.indexCast v37211
  let c6_15754 : Index := 6#32
  ![v37341.toNat, v37342.toNat, 6]
def k0_off2323 (v37214 : BitVec 32) (v37343 : BitVec 32) : Fin 3 → Nat :=
  let v37344 : Index := Scalar.indexCast v37343
  let v37215 : BitVec 32 := v37214
  let v37345 : Index := Scalar.indexCast v37215
  let c0_15755 : Index := 0#32
  ![v37344.toNat, v37345.toNat, 0]

def k0_chk795 (v37214 : BitVec 32) (v37343 : BitVec 32) : Prop :=
  (∀ a, (k0_off2323 v37214 v37343) a + S1x40x128.size a ≤ S256x64x128.size a)
theorem k0_off2323_inb : ∀ (v37214 : BitVec 32) (v37343 : BitVec 32) (k0_hw795 : k0_chk795 v37214 v37343), ∀ a, (k0_off2323 v37214 v37343) a + S1x40x128.size a ≤ S256x64x128.size a := fun v37214 v37343 k0_hw795 => k0_hw795

def k0_off2324 (i : grid0.Coords) : Fin 3 → Nat :=
  let arg0 : BitVec 32 := BitVec.ofNat 32 (i 0).val
  let v37348 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37349 : Index := Scalar.indexCast v37211
  let c13_15756 : Index := 13#32
  ![v37348.toNat, v37349.toNat, 13]
def k0_off2325 (v37214 : BitVec 32) (v37350 : BitVec 32) : Fin 3 → Nat :=
  let v37351 : Index := Scalar.indexCast v37350
  let v37215 : BitVec 32 := v37214
  let v37352 : Index := Scalar.indexCast v37215
  let c0_15757 : Index := 0#32
  ![v37351.toNat, v37352.toNat, 0]

def k0_chk796 (v37214 : BitVec 32) (v37350 : BitVec 32) : Prop :=
  (∀ a, (k0_off2325 v37214 v37350) a + S1x40x128.size a ≤ S256x64x128.size a)
theorem k0_off2325_inb : ∀ (v37214 : BitVec 32) (v37350 : BitVec 32) (k0_hw796 : k0_chk796 v37214 v37350), ∀ a, (k0_off2325 v37214 v37350) a + S1x40x128.size a ≤ S256x64x128.size a := fun v37214 v37350 k0_hw796 => k0_hw796

def k0_off2326 (i : grid0.Coords) : Fin 3 → Nat :=
  let arg0 : BitVec 32 := BitVec.ofNat 32 (i 0).val
  let v37356 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37357 : Index := Scalar.indexCast v37211
  let c20_15758 : Index := 20#32
  ![v37356.toNat, v37357.toNat, 20]
def k0_off2327 (i : grid0.Coords) : Fin 3 → Nat :=
  let arg0 : BitVec 32 := BitVec.ofNat 32 (i 0).val
  let v37366 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37367 : Index := Scalar.indexCast v37211
  let c7_15763 : Index := 7#32
  ![v37366.toNat, v37367.toNat, 7]
def k0_off2328 (v37214 : BitVec 32) (v37368 : BitVec 32) : Fin 3 → Nat :=
  let v37369 : Index := Scalar.indexCast v37368
  let v37215 : BitVec 32 := v37214
  let v37370 : Index := Scalar.indexCast v37215
  let c0_15764 : Index := 0#32
  ![v37369.toNat, v37370.toNat, 0]

def k0_chk797 (v37214 : BitVec 32) (v37368 : BitVec 32) : Prop :=
  (∀ a, (k0_off2328 v37214 v37368) a + S1x40x128.size a ≤ S256x64x128.size a)
theorem k0_off2328_inb : ∀ (v37214 : BitVec 32) (v37368 : BitVec 32) (k0_hw797 : k0_chk797 v37214 v37368), ∀ a, (k0_off2328 v37214 v37368) a + S1x40x128.size a ≤ S256x64x128.size a := fun v37214 v37368 k0_hw797 => k0_hw797

def k0_off2329 (i : grid0.Coords) : Fin 3 → Nat :=
  let arg0 : BitVec 32 := BitVec.ofNat 32 (i 0).val
  let v37373 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37374 : Index := Scalar.indexCast v37211
  let c14_15765 : Index := 14#32
  ![v37373.toNat, v37374.toNat, 14]
def k0_off2330 (v37214 : BitVec 32) (v37375 : BitVec 32) : Fin 3 → Nat :=
  let v37376 : Index := Scalar.indexCast v37375
  let v37215 : BitVec 32 := v37214
  let v37377 : Index := Scalar.indexCast v37215
  let c0_15766 : Index := 0#32
  ![v37376.toNat, v37377.toNat, 0]

def k0_chk798 (v37214 : BitVec 32) (v37375 : BitVec 32) : Prop :=
  (∀ a, (k0_off2330 v37214 v37375) a + S1x40x128.size a ≤ S256x64x128.size a)
theorem k0_off2330_inb : ∀ (v37214 : BitVec 32) (v37375 : BitVec 32) (k0_hw798 : k0_chk798 v37214 v37375), ∀ a, (k0_off2330 v37214 v37375) a + S1x40x128.size a ≤ S256x64x128.size a := fun v37214 v37375 k0_hw798 => k0_hw798

def k0_off2331 (i : grid0.Coords) : Fin 3 → Nat :=
  let arg0 : BitVec 32 := BitVec.ofNat 32 (i 0).val
  let v37381 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37382 : Index := Scalar.indexCast v37211
  let c21_15767 : Index := 21#32
  ![v37381.toNat, v37382.toNat, 21]
def k0_off2332 (i : grid0.Coords) : Fin 3 → Nat :=
  let arg0 : BitVec 32 := BitVec.ofNat 32 (i 0).val
  let v37391 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37392 : Index := Scalar.indexCast v37211
  let c22_15772 : Index := 22#32
  ![v37391.toNat, v37392.toNat, 22]
def k0_off2333 (i : grid0.Coords) : Fin 3 → Nat :=
  let arg0 : BitVec 32 := BitVec.ofNat 32 (i 0).val
  let v37394 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37395 : Index := Scalar.indexCast v37211
  let c29_15773 : Index := 29#32
  ![v37394.toNat, v37395.toNat, 29]
def k0_off2334 (i : grid0.Coords) : Fin 3 → Nat :=
  let arg0 : BitVec 32 := BitVec.ofNat 32 (i 0).val
  let v37397 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37398 : Index := Scalar.indexCast v37211
  let c36_15774 : Index := 36#32
  ![v37397.toNat, v37398.toNat, 36]
def k0_off2335 (i : grid0.Coords) : Fin 3 → Nat :=
  let arg0 : BitVec 32 := BitVec.ofNat 32 (i 0).val
  let v37400 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37401 : Index := Scalar.indexCast v37211
  let c43_15775 : Index := 43#32
  ![v37400.toNat, v37401.toNat, 43]
def k0_off2336 (v37393 : BitVec 32) : Fin 3 → Nat :=
  let c945_i32 : BitVec 32 := 945#32
  let v37425 : BitVec 32 := Scalar.addi c945_i32 v37393
  let v37426 : Index := Scalar.indexCast v37425
  let c0_15780 : Index := 0#32
  let c0_15781 : Index := 0#32
  ![v37426.toNat, 0, 0]

def k0_off2337 (v37396 : BitVec 32) (c945_i32_15783 : BitVec 32) : Fin 3 → Nat :=
  let v37433 : BitVec 32 := Scalar.addi c945_i32_15783 v37396
  let v37434 : Index := Scalar.indexCast v37433
  let c0_15784 : Index := 0#32
  let c0_15785 : Index := 0#32
  ![v37434.toNat, 0, 0]

def k0_chk800 (v37396 : BitVec 32) : Prop :=
  (∀ (r : Fin 7), ∀ a, (k0_off2337 v37396 (BitVec.ofNat 32 (945 + 5 * r.val))) a + S1x8x128.size a ≤ S1120x8x128.size a)
theorem k0_off2337_inb : ∀ (v37396 : BitVec 32) (k0_hw800 : k0_chk800 v37396), ∀ (r : Fin 7), ∀ a, (k0_off2337 v37396 (BitVec.ofNat 32 (945 + 5 * r.val))) a + S1x8x128.size a ≤ S1120x8x128.size a := fun v37396 k0_hw800 r => k0_hw800 r

def k0_off2338 (v37393 : BitVec 32) (c950_i32 : BitVec 32) : Fin 3 → Nat :=
  let v37443 : BitVec 32 := Scalar.addi c950_i32 v37393
  let v37444 : Index := Scalar.indexCast v37443
  let c0_15788 : Index := 0#32
  let c0_15789 : Index := 0#32
  ![v37444.toNat, 0, 0]

def k0_chk799 (v37393 : BitVec 32) : Prop :=
  (∀ a, (k0_off2336 v37393) a + S1x8x128.size a ≤ S1120x8x128.size a) ∧
  (∀ (r : Fin 6), ∀ a, (k0_off2338 v37393 (BitVec.ofNat 32 (950 + 5 * r.val))) a + S1x8x128.size a ≤ S1120x8x128.size a)
theorem k0_off2336_inb : ∀ (v37393 : BitVec 32) (k0_hw799 : k0_chk799 v37393), ∀ a, (k0_off2336 v37393) a + S1x8x128.size a ≤ S1120x8x128.size a := fun v37393 k0_hw799 => k0_hw799.1
theorem k0_off2338_inb : ∀ (v37393 : BitVec 32) (k0_hw799 : k0_chk799 v37393), ∀ (r : Fin 6), ∀ a, (k0_off2338 v37393 (BitVec.ofNat 32 (950 + 5 * r.val))) a + S1x8x128.size a ≤ S1120x8x128.size a := fun v37393 k0_hw799 r => k0_hw799.2 r

def k0_off2339 (i : grid0.Coords) : Fin 3 → Nat :=
  let arg0 : BitVec 32 := BitVec.ofNat 32 (i 0).val
  let v37551 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37552 : Index := Scalar.indexCast v37211
  let c23_15836 : Index := 23#32
  ![v37551.toNat, v37552.toNat, 23]
def k0_off2340 (i : grid0.Coords) : Fin 3 → Nat :=
  let arg0 : BitVec 32 := BitVec.ofNat 32 (i 0).val
  let v37554 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37555 : Index := Scalar.indexCast v37211
  let c30_15837 : Index := 30#32
  ![v37554.toNat, v37555.toNat, 30]
def k0_off2341 (i : grid0.Coords) : Fin 3 → Nat :=
  let arg0 : BitVec 32 := BitVec.ofNat 32 (i 0).val
  let v37557 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37558 : Index := Scalar.indexCast v37211
  let c37_15838 : Index := 37#32
  ![v37557.toNat, v37558.toNat, 37]
def k0_off2342 (i : grid0.Coords) : Fin 3 → Nat :=
  let arg0 : BitVec 32 := BitVec.ofNat 32 (i 0).val
  let v37560 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37561 : Index := Scalar.indexCast v37211
  let c44_15839 : Index := 44#32
  ![v37560.toNat, v37561.toNat, 44]
def k0_off2343 (v37553 : BitVec 32) : Fin 3 → Nat :=
  let c945_i32_15844 : BitVec 32 := 945#32
  let v37585 : BitVec 32 := Scalar.addi c945_i32_15844 v37553
  let v37586 : Index := Scalar.indexCast v37585
  let c0_15845 : Index := 0#32
  let c0_15846 : Index := 0#32
  ![v37586.toNat, 0, 0]

def k0_off2344 (v37556 : BitVec 32) (c945_i32_15848 : BitVec 32) : Fin 3 → Nat :=
  let v37593 : BitVec 32 := Scalar.addi c945_i32_15848 v37556
  let v37594 : Index := Scalar.indexCast v37593
  let c0_15849 : Index := 0#32
  let c0_15850 : Index := 0#32
  ![v37594.toNat, 0, 0]

def k0_chk802 (v37556 : BitVec 32) : Prop :=
  (∀ (r : Fin 7), ∀ a, (k0_off2344 v37556 (BitVec.ofNat 32 (945 + 5 * r.val))) a + S1x8x128.size a ≤ S1120x8x128.size a)
theorem k0_off2344_inb : ∀ (v37556 : BitVec 32) (k0_hw802 : k0_chk802 v37556), ∀ (r : Fin 7), ∀ a, (k0_off2344 v37556 (BitVec.ofNat 32 (945 + 5 * r.val))) a + S1x8x128.size a ≤ S1120x8x128.size a := fun v37556 k0_hw802 r => k0_hw802 r

def k0_off2345 (v37553 : BitVec 32) (c950_i32_15853 : BitVec 32) : Fin 3 → Nat :=
  let v37603 : BitVec 32 := Scalar.addi c950_i32_15853 v37553
  let v37604 : Index := Scalar.indexCast v37603
  let c0_15854 : Index := 0#32
  let c0_15855 : Index := 0#32
  ![v37604.toNat, 0, 0]

def k0_chk801 (v37553 : BitVec 32) : Prop :=
  (∀ a, (k0_off2343 v37553) a + S1x8x128.size a ≤ S1120x8x128.size a) ∧
  (∀ (r : Fin 6), ∀ a, (k0_off2345 v37553 (BitVec.ofNat 32 (950 + 5 * r.val))) a + S1x8x128.size a ≤ S1120x8x128.size a)
theorem k0_off2343_inb : ∀ (v37553 : BitVec 32) (k0_hw801 : k0_chk801 v37553), ∀ a, (k0_off2343 v37553) a + S1x8x128.size a ≤ S1120x8x128.size a := fun v37553 k0_hw801 => k0_hw801.1
theorem k0_off2345_inb : ∀ (v37553 : BitVec 32) (k0_hw801 : k0_chk801 v37553), ∀ (r : Fin 6), ∀ a, (k0_off2345 v37553 (BitVec.ofNat 32 (950 + 5 * r.val))) a + S1x8x128.size a ≤ S1120x8x128.size a := fun v37553 k0_hw801 r => k0_hw801.2 r

def k0_off2346 (i : grid0.Coords) : Fin 3 → Nat :=
  let arg0 : BitVec 32 := BitVec.ofNat 32 (i 0).val
  let v37711 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37712 : Index := Scalar.indexCast v37211
  let c24_15907 : Index := 24#32
  ![v37711.toNat, v37712.toNat, 24]
def k0_off2347 (i : grid0.Coords) : Fin 3 → Nat :=
  let arg0 : BitVec 32 := BitVec.ofNat 32 (i 0).val
  let v37714 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37715 : Index := Scalar.indexCast v37211
  let c31_15908 : Index := 31#32
  ![v37714.toNat, v37715.toNat, 31]
def k0_off2348 (i : grid0.Coords) : Fin 3 → Nat :=
  let arg0 : BitVec 32 := BitVec.ofNat 32 (i 0).val
  let v37717 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37718 : Index := Scalar.indexCast v37211
  let c38_15909 : Index := 38#32
  ![v37717.toNat, v37718.toNat, 38]
def k0_off2349 (i : grid0.Coords) : Fin 3 → Nat :=
  let arg0 : BitVec 32 := BitVec.ofNat 32 (i 0).val
  let v37720 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37721 : Index := Scalar.indexCast v37211
  let c45_15910 : Index := 45#32
  ![v37720.toNat, v37721.toNat, 45]
def k0_off2350 (v37713 : BitVec 32) : Fin 3 → Nat :=
  let c945_i32_15915 : BitVec 32 := 945#32
  let v37745 : BitVec 32 := Scalar.addi c945_i32_15915 v37713
  let v37746 : Index := Scalar.indexCast v37745
  let c0_15916 : Index := 0#32
  let c0_15917 : Index := 0#32
  ![v37746.toNat, 0, 0]

def k0_off2351 (v37716 : BitVec 32) (c945_i32_15919 : BitVec 32) : Fin 3 → Nat :=
  let v37753 : BitVec 32 := Scalar.addi c945_i32_15919 v37716
  let v37754 : Index := Scalar.indexCast v37753
  let c0_15920 : Index := 0#32
  let c0_15921 : Index := 0#32
  ![v37754.toNat, 0, 0]

def k0_chk804 (v37716 : BitVec 32) : Prop :=
  (∀ (r : Fin 7), ∀ a, (k0_off2351 v37716 (BitVec.ofNat 32 (945 + 5 * r.val))) a + S1x8x128.size a ≤ S1120x8x128.size a)
theorem k0_off2351_inb : ∀ (v37716 : BitVec 32) (k0_hw804 : k0_chk804 v37716), ∀ (r : Fin 7), ∀ a, (k0_off2351 v37716 (BitVec.ofNat 32 (945 + 5 * r.val))) a + S1x8x128.size a ≤ S1120x8x128.size a := fun v37716 k0_hw804 r => k0_hw804 r

def k0_off2352 (v37713 : BitVec 32) (c950_i32_15924 : BitVec 32) : Fin 3 → Nat :=
  let v37763 : BitVec 32 := Scalar.addi c950_i32_15924 v37713
  let v37764 : Index := Scalar.indexCast v37763
  let c0_15925 : Index := 0#32
  let c0_15926 : Index := 0#32
  ![v37764.toNat, 0, 0]

def k0_chk803 (v37713 : BitVec 32) : Prop :=
  (∀ a, (k0_off2350 v37713) a + S1x8x128.size a ≤ S1120x8x128.size a) ∧
  (∀ (r : Fin 6), ∀ a, (k0_off2352 v37713 (BitVec.ofNat 32 (950 + 5 * r.val))) a + S1x8x128.size a ≤ S1120x8x128.size a)
theorem k0_off2350_inb : ∀ (v37713 : BitVec 32) (k0_hw803 : k0_chk803 v37713), ∀ a, (k0_off2350 v37713) a + S1x8x128.size a ≤ S1120x8x128.size a := fun v37713 k0_hw803 => k0_hw803.1
theorem k0_off2352_inb : ∀ (v37713 : BitVec 32) (k0_hw803 : k0_chk803 v37713), ∀ (r : Fin 6), ∀ a, (k0_off2352 v37713 (BitVec.ofNat 32 (950 + 5 * r.val))) a + S1x8x128.size a ≤ S1120x8x128.size a := fun v37713 k0_hw803 r => k0_hw803.2 r

def k0_off2353 (i : grid0.Coords) : Fin 3 → Nat :=
  let arg0 : BitVec 32 := BitVec.ofNat 32 (i 0).val
  let v37871 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37872 : Index := Scalar.indexCast v37211
  let c25_15978 : Index := 25#32
  ![v37871.toNat, v37872.toNat, 25]
def k0_off2354 (i : grid0.Coords) : Fin 3 → Nat :=
  let arg0 : BitVec 32 := BitVec.ofNat 32 (i 0).val
  let v37874 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37875 : Index := Scalar.indexCast v37211
  let c32_15979 : Index := 32#32
  ![v37874.toNat, v37875.toNat, 32]
def k0_off2355 (i : grid0.Coords) : Fin 3 → Nat :=
  let arg0 : BitVec 32 := BitVec.ofNat 32 (i 0).val
  let v37877 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37878 : Index := Scalar.indexCast v37211
  let c39_15980 : Index := 39#32
  ![v37877.toNat, v37878.toNat, 39]
def k0_off2356 (i : grid0.Coords) : Fin 3 → Nat :=
  let arg0 : BitVec 32 := BitVec.ofNat 32 (i 0).val
  let v37880 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v37881 : Index := Scalar.indexCast v37211
  let c46_15981 : Index := 46#32
  ![v37880.toNat, v37881.toNat, 46]
def k0_off2357 (v37873 : BitVec 32) : Fin 3 → Nat :=
  let c945_i32_15986 : BitVec 32 := 945#32
  let v37905 : BitVec 32 := Scalar.addi c945_i32_15986 v37873
  let v37906 : Index := Scalar.indexCast v37905
  let c0_15987 : Index := 0#32
  let c0_15988 : Index := 0#32
  ![v37906.toNat, 0, 0]

def k0_off2358 (v37876 : BitVec 32) (c945_i32_15990 : BitVec 32) : Fin 3 → Nat :=
  let v37913 : BitVec 32 := Scalar.addi c945_i32_15990 v37876
  let v37914 : Index := Scalar.indexCast v37913
  let c0_15991 : Index := 0#32
  let c0_15992 : Index := 0#32
  ![v37914.toNat, 0, 0]

def k0_chk806 (v37876 : BitVec 32) : Prop :=
  (∀ (r : Fin 7), ∀ a, (k0_off2358 v37876 (BitVec.ofNat 32 (945 + 5 * r.val))) a + S1x8x128.size a ≤ S1120x8x128.size a)
theorem k0_off2358_inb : ∀ (v37876 : BitVec 32) (k0_hw806 : k0_chk806 v37876), ∀ (r : Fin 7), ∀ a, (k0_off2358 v37876 (BitVec.ofNat 32 (945 + 5 * r.val))) a + S1x8x128.size a ≤ S1120x8x128.size a := fun v37876 k0_hw806 r => k0_hw806 r

def k0_off2359 (v37873 : BitVec 32) (c950_i32_15995 : BitVec 32) : Fin 3 → Nat :=
  let v37923 : BitVec 32 := Scalar.addi c950_i32_15995 v37873
  let v37924 : Index := Scalar.indexCast v37923
  let c0_15996 : Index := 0#32
  let c0_15997 : Index := 0#32
  ![v37924.toNat, 0, 0]

def k0_chk805 (v37873 : BitVec 32) : Prop :=
  (∀ a, (k0_off2357 v37873) a + S1x8x128.size a ≤ S1120x8x128.size a) ∧
  (∀ (r : Fin 6), ∀ a, (k0_off2359 v37873 (BitVec.ofNat 32 (950 + 5 * r.val))) a + S1x8x128.size a ≤ S1120x8x128.size a)
theorem k0_off2357_inb : ∀ (v37873 : BitVec 32) (k0_hw805 : k0_chk805 v37873), ∀ a, (k0_off2357 v37873) a + S1x8x128.size a ≤ S1120x8x128.size a := fun v37873 k0_hw805 => k0_hw805.1
theorem k0_off2359_inb : ∀ (v37873 : BitVec 32) (k0_hw805 : k0_chk805 v37873), ∀ (r : Fin 6), ∀ a, (k0_off2359 v37873 (BitVec.ofNat 32 (950 + 5 * r.val))) a + S1x8x128.size a ≤ S1120x8x128.size a := fun v37873 k0_hw805 r => k0_hw805.2 r

def k0_off2360 (i : grid0.Coords) : Fin 3 → Nat :=
  let arg0 : BitVec 32 := BitVec.ofNat 32 (i 0).val
  let v38031 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38032 : Index := Scalar.indexCast v37211
  let c26_16049 : Index := 26#32
  ![v38031.toNat, v38032.toNat, 26]
def k0_off2361 (i : grid0.Coords) : Fin 3 → Nat :=
  let arg0 : BitVec 32 := BitVec.ofNat 32 (i 0).val
  let v38034 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38035 : Index := Scalar.indexCast v37211
  let c33_16050 : Index := 33#32
  ![v38034.toNat, v38035.toNat, 33]
def k0_off2362 (i : grid0.Coords) : Fin 3 → Nat :=
  let arg0 : BitVec 32 := BitVec.ofNat 32 (i 0).val
  let v38037 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38038 : Index := Scalar.indexCast v37211
  let c40_16051 : Index := 40#32
  ![v38037.toNat, v38038.toNat, 40]
def k0_off2363 (i : grid0.Coords) : Fin 3 → Nat :=
  let arg0 : BitVec 32 := BitVec.ofNat 32 (i 0).val
  let v38040 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38041 : Index := Scalar.indexCast v37211
  let c47_16052 : Index := 47#32
  ![v38040.toNat, v38041.toNat, 47]
def k0_off2364 (v38033 : BitVec 32) : Fin 3 → Nat :=
  let c945_i32_16057 : BitVec 32 := 945#32
  let v38065 : BitVec 32 := Scalar.addi c945_i32_16057 v38033
  let v38066 : Index := Scalar.indexCast v38065
  let c0_16058 : Index := 0#32
  let c0_16059 : Index := 0#32
  ![v38066.toNat, 0, 0]

def k0_off2365 (v38036 : BitVec 32) (c945_i32_16061 : BitVec 32) : Fin 3 → Nat :=
  let v38073 : BitVec 32 := Scalar.addi c945_i32_16061 v38036
  let v38074 : Index := Scalar.indexCast v38073
  let c0_16062 : Index := 0#32
  let c0_16063 : Index := 0#32
  ![v38074.toNat, 0, 0]

def k0_chk808 (v38036 : BitVec 32) : Prop :=
  (∀ (r : Fin 7), ∀ a, (k0_off2365 v38036 (BitVec.ofNat 32 (945 + 5 * r.val))) a + S1x8x128.size a ≤ S1120x8x128.size a)
theorem k0_off2365_inb : ∀ (v38036 : BitVec 32) (k0_hw808 : k0_chk808 v38036), ∀ (r : Fin 7), ∀ a, (k0_off2365 v38036 (BitVec.ofNat 32 (945 + 5 * r.val))) a + S1x8x128.size a ≤ S1120x8x128.size a := fun v38036 k0_hw808 r => k0_hw808 r

def k0_off2366 (v38033 : BitVec 32) (c950_i32_16066 : BitVec 32) : Fin 3 → Nat :=
  let v38083 : BitVec 32 := Scalar.addi c950_i32_16066 v38033
  let v38084 : Index := Scalar.indexCast v38083
  let c0_16067 : Index := 0#32
  let c0_16068 : Index := 0#32
  ![v38084.toNat, 0, 0]

def k0_chk807 (v38033 : BitVec 32) : Prop :=
  (∀ a, (k0_off2364 v38033) a + S1x8x128.size a ≤ S1120x8x128.size a) ∧
  (∀ (r : Fin 6), ∀ a, (k0_off2366 v38033 (BitVec.ofNat 32 (950 + 5 * r.val))) a + S1x8x128.size a ≤ S1120x8x128.size a)
theorem k0_off2364_inb : ∀ (v38033 : BitVec 32) (k0_hw807 : k0_chk807 v38033), ∀ a, (k0_off2364 v38033) a + S1x8x128.size a ≤ S1120x8x128.size a := fun v38033 k0_hw807 => k0_hw807.1
theorem k0_off2366_inb : ∀ (v38033 : BitVec 32) (k0_hw807 : k0_chk807 v38033), ∀ (r : Fin 6), ∀ a, (k0_off2366 v38033 (BitVec.ofNat 32 (950 + 5 * r.val))) a + S1x8x128.size a ≤ S1120x8x128.size a := fun v38033 k0_hw807 r => k0_hw807.2 r

def k0_off2367 (i : grid0.Coords) : Fin 3 → Nat :=
  let arg0 : BitVec 32 := BitVec.ofNat 32 (i 0).val
  let v38191 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38192 : Index := Scalar.indexCast v37211
  let c27_16120 : Index := 27#32
  ![v38191.toNat, v38192.toNat, 27]
def k0_off2368 (i : grid0.Coords) : Fin 3 → Nat :=
  let arg0 : BitVec 32 := BitVec.ofNat 32 (i 0).val
  let v38194 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38195 : Index := Scalar.indexCast v37211
  let c34_16121 : Index := 34#32
  ![v38194.toNat, v38195.toNat, 34]
def k0_off2369 (i : grid0.Coords) : Fin 3 → Nat :=
  let arg0 : BitVec 32 := BitVec.ofNat 32 (i 0).val
  let v38197 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38198 : Index := Scalar.indexCast v37211
  let c41_16122 : Index := 41#32
  ![v38197.toNat, v38198.toNat, 41]
def k0_off2370 (i : grid0.Coords) : Fin 3 → Nat :=
  let arg0 : BitVec 32 := BitVec.ofNat 32 (i 0).val
  let v38200 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38201 : Index := Scalar.indexCast v37211
  let c48_16123 : Index := 48#32
  ![v38200.toNat, v38201.toNat, 48]
def k0_off2371 (v38193 : BitVec 32) : Fin 3 → Nat :=
  let c945_i32_16128 : BitVec 32 := 945#32
  let v38225 : BitVec 32 := Scalar.addi c945_i32_16128 v38193
  let v38226 : Index := Scalar.indexCast v38225
  let c0_16129 : Index := 0#32
  let c0_16130 : Index := 0#32
  ![v38226.toNat, 0, 0]

def k0_off2372 (v38196 : BitVec 32) (c945_i32_16132 : BitVec 32) : Fin 3 → Nat :=
  let v38233 : BitVec 32 := Scalar.addi c945_i32_16132 v38196
  let v38234 : Index := Scalar.indexCast v38233
  let c0_16133 : Index := 0#32
  let c0_16134 : Index := 0#32
  ![v38234.toNat, 0, 0]

def k0_chk810 (v38196 : BitVec 32) : Prop :=
  (∀ (r : Fin 7), ∀ a, (k0_off2372 v38196 (BitVec.ofNat 32 (945 + 5 * r.val))) a + S1x8x128.size a ≤ S1120x8x128.size a)
theorem k0_off2372_inb : ∀ (v38196 : BitVec 32) (k0_hw810 : k0_chk810 v38196), ∀ (r : Fin 7), ∀ a, (k0_off2372 v38196 (BitVec.ofNat 32 (945 + 5 * r.val))) a + S1x8x128.size a ≤ S1120x8x128.size a := fun v38196 k0_hw810 r => k0_hw810 r

def k0_off2373 (v38193 : BitVec 32) (c950_i32_16137 : BitVec 32) : Fin 3 → Nat :=
  let v38243 : BitVec 32 := Scalar.addi c950_i32_16137 v38193
  let v38244 : Index := Scalar.indexCast v38243
  let c0_16138 : Index := 0#32
  let c0_16139 : Index := 0#32
  ![v38244.toNat, 0, 0]

def k0_chk809 (v38193 : BitVec 32) : Prop :=
  (∀ a, (k0_off2371 v38193) a + S1x8x128.size a ≤ S1120x8x128.size a) ∧
  (∀ (r : Fin 6), ∀ a, (k0_off2373 v38193 (BitVec.ofNat 32 (950 + 5 * r.val))) a + S1x8x128.size a ≤ S1120x8x128.size a)
theorem k0_off2371_inb : ∀ (v38193 : BitVec 32) (k0_hw809 : k0_chk809 v38193), ∀ a, (k0_off2371 v38193) a + S1x8x128.size a ≤ S1120x8x128.size a := fun v38193 k0_hw809 => k0_hw809.1
theorem k0_off2373_inb : ∀ (v38193 : BitVec 32) (k0_hw809 : k0_chk809 v38193), ∀ (r : Fin 6), ∀ a, (k0_off2373 v38193 (BitVec.ofNat 32 (950 + 5 * r.val))) a + S1x8x128.size a ≤ S1120x8x128.size a := fun v38193 k0_hw809 r => k0_hw809.2 r

def k0_off2374 (i : grid0.Coords) : Fin 3 → Nat :=
  let arg0 : BitVec 32 := BitVec.ofNat 32 (i 0).val
  let v38351 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38352 : Index := Scalar.indexCast v37211
  let c28_16191 : Index := 28#32
  ![v38351.toNat, v38352.toNat, 28]
def k0_off2375 (i : grid0.Coords) : Fin 3 → Nat :=
  let arg0 : BitVec 32 := BitVec.ofNat 32 (i 0).val
  let v38354 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38355 : Index := Scalar.indexCast v37211
  let c35_16192 : Index := 35#32
  ![v38354.toNat, v38355.toNat, 35]
def k0_off2376 (i : grid0.Coords) : Fin 3 → Nat :=
  let arg0 : BitVec 32 := BitVec.ofNat 32 (i 0).val
  let v38357 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38358 : Index := Scalar.indexCast v37211
  let c42_16193 : Index := 42#32
  ![v38357.toNat, v38358.toNat, 42]
def k0_off2377 (i : grid0.Coords) : Fin 3 → Nat :=
  let arg0 : BitVec 32 := BitVec.ofNat 32 (i 0).val
  let v38360 : Index := Scalar.indexCast arg0
  let arg1 : BitVec 32 := BitVec.ofNat 32 (i 1).val
  let c32_i32_15707 : BitVec 32 := 32#32
  let v37210 : BitVec 32 := Scalar.muli arg1 c32_i32_15707
  let c27_i32 : BitVec 32 := 27#32
  let v37211 : BitVec 32 := Scalar.addi v37210 c27_i32
  let v38361 : Index := Scalar.indexCast v37211
  let c49_16194 : Index := 49#32
  ![v38360.toNat, v38361.toNat, 49]
def k0_off2378 (v38353 : BitVec 32) : Fin 3 → Nat :=
  let c945_i32_16199 : BitVec 32 := 945#32
  let v38385 : BitVec 32 := Scalar.addi c945_i32_16199 v38353
  let v38386 : Index := Scalar.indexCast v38385
  let c0_16200 : Index := 0#32
  let c0_16201 : Index := 0#32
  ![v38386.toNat, 0, 0]

def k0_off2379 (v38356 : BitVec 32) (c945_i32_16203 : BitVec 32) : Fin 3 → Nat :=
  let v38393 : BitVec 32 := Scalar.addi c945_i32_16203 v38356
  let v38394 : Index := Scalar.indexCast v38393
  let c0_16204 : Index := 0#32
  let c0_16205 : Index := 0#32
  ![v38394.toNat, 0, 0]

def k0_chk812 (v38356 : BitVec 32) : Prop :=
  (∀ (r : Fin 7), ∀ a, (k0_off2379 v38356 (BitVec.ofNat 32 (945 + 5 * r.val))) a + S1x8x128.size a ≤ S1120x8x128.size a)
theorem k0_off2379_inb : ∀ (v38356 : BitVec 32) (k0_hw812 : k0_chk812 v38356), ∀ (r : Fin 7), ∀ a, (k0_off2379 v38356 (BitVec.ofNat 32 (945 + 5 * r.val))) a + S1x8x128.size a ≤ S1120x8x128.size a := fun v38356 k0_hw812 r => k0_hw812 r

def k0_off2380 (v38353 : BitVec 32) (c950_i32_16208 : BitVec 32) : Fin 3 → Nat :=
  let v38403 : BitVec 32 := Scalar.addi c950_i32_16208 v38353
  let v38404 : Index := Scalar.indexCast v38403
  let c0_16209 : Index := 0#32
  let c0_16210 : Index := 0#32
  ![v38404.toNat, 0, 0]

def k0_chk811 (v38353 : BitVec 32) : Prop :=
  (∀ a, (k0_off2378 v38353) a + S1x8x128.size a ≤ S1120x8x128.size a) ∧
  (∀ (r : Fin 6), ∀ a, (k0_off2380 v38353 (BitVec.ofNat 32 (950 + 5 * r.val))) a + S1x8x128.size a ≤ S1120x8x128.size a)
theorem k0_off2378_inb : ∀ (v38353 : BitVec 32) (k0_hw811 : k0_chk811 v38353), ∀ a, (k0_off2378 v38353) a + S1x8x128.size a ≤ S1120x8x128.size a := fun v38353 k0_hw811 => k0_hw811.1
theorem k0_off2380_inb : ∀ (v38353 : BitVec 32) (k0_hw811 : k0_chk811 v38353), ∀ (r : Fin 6), ∀ a, (k0_off2380 v38353 (BitVec.ofNat 32 (950 + 5 * r.val))) a + S1x8x128.size a ≤ S1120x8x128.size a := fun v38353 k0_hw811 r => k0_hw811.2 r

def k0_off2381 (i : grid0.Coords) : Fin 3 → Nat :=
  let arg0 : BitVec 32 := BitVec.ofNat 32 (i 0).val
  let v38590 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38591 : Index := Scalar.indexCast v38589
  let c0_16291 : Index := 0#32
  ![v38590.toNat, v38591.toNat, 0]
def k0_mult29 (v38592 : BitVec 32) : BitVec 32 :=
  v38592

def k0_chk813 (v38592 : BitVec 32) : Prop :=
  (8 ∣ (k0_mult29 v38592).toNat)
theorem k0_mult29_dvd : ∀ (v38592 : BitVec 32) (k0_hw813 : k0_chk813 v38592), 8 ∣ (k0_mult29 v38592).toNat := fun v38592 k0_hw813 => k0_hw813

def k0_off2382 (i : grid0.Coords) : Fin 3 → Nat :=
  let arg0 : BitVec 32 := BitVec.ofNat 32 (i 0).val
  let v38594 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38595 : Index := Scalar.indexCast v38589
  let c1_16292 : Index := 1#32
  ![v38594.toNat, v38595.toNat, 1]
def k0_off2383 (v38592 : BitVec 32) (v38596 : BitVec 32) : Fin 3 → Nat :=
  let v38597 : Index := Scalar.indexCast v38596
  let v38593 : BitVec 32 := v38592
  let v38598 : Index := Scalar.indexCast v38593
  let c0_16293 : Index := 0#32
  ![v38597.toNat, v38598.toNat, 0]

def k0_chk814 (v38592 : BitVec 32) (v38596 : BitVec 32) : Prop :=
  (∀ a, (k0_off2383 v38592 v38596) a + S1x40x128.size a ≤ S256x64x128.size a)
theorem k0_off2383_inb : ∀ (v38592 : BitVec 32) (v38596 : BitVec 32) (k0_hw814 : k0_chk814 v38592 v38596), ∀ a, (k0_off2383 v38592 v38596) a + S1x40x128.size a ≤ S256x64x128.size a := fun v38592 v38596 k0_hw814 => k0_hw814

def k0_off2384 (i : grid0.Coords) : Fin 3 → Nat :=
  let arg0 : BitVec 32 := BitVec.ofNat 32 (i 0).val
  let v38601 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38602 : Index := Scalar.indexCast v38589
  let c8_16294 : Index := 8#32
  ![v38601.toNat, v38602.toNat, 8]
def k0_off2385 (v38592 : BitVec 32) (v38603 : BitVec 32) : Fin 3 → Nat :=
  let v38604 : Index := Scalar.indexCast v38603
  let v38593 : BitVec 32 := v38592
  let v38605 : Index := Scalar.indexCast v38593
  let c0_16295 : Index := 0#32
  ![v38604.toNat, v38605.toNat, 0]

def k0_chk815 (v38592 : BitVec 32) (v38603 : BitVec 32) : Prop :=
  (∀ a, (k0_off2385 v38592 v38603) a + S1x40x128.size a ≤ S256x64x128.size a)
theorem k0_off2385_inb : ∀ (v38592 : BitVec 32) (v38603 : BitVec 32) (k0_hw815 : k0_chk815 v38592 v38603), ∀ a, (k0_off2385 v38592 v38603) a + S1x40x128.size a ≤ S256x64x128.size a := fun v38592 v38603 k0_hw815 => k0_hw815

def k0_off2386 (i : grid0.Coords) : Fin 3 → Nat :=
  let arg0 : BitVec 32 := BitVec.ofNat 32 (i 0).val
  let v38609 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38610 : Index := Scalar.indexCast v38589
  let c15_16296 : Index := 15#32
  ![v38609.toNat, v38610.toNat, 15]
def k0_off2387 (i : grid0.Coords) : Fin 3 → Nat :=
  let arg0 : BitVec 32 := BitVec.ofNat 32 (i 0).val
  let v38619 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38620 : Index := Scalar.indexCast v38589
  let c2_16301 : Index := 2#32
  ![v38619.toNat, v38620.toNat, 2]
def k0_off2388 (v38592 : BitVec 32) (v38621 : BitVec 32) : Fin 3 → Nat :=
  let v38622 : Index := Scalar.indexCast v38621
  let v38593 : BitVec 32 := v38592
  let v38623 : Index := Scalar.indexCast v38593
  let c0_16302 : Index := 0#32
  ![v38622.toNat, v38623.toNat, 0]

def k0_chk816 (v38592 : BitVec 32) (v38621 : BitVec 32) : Prop :=
  (∀ a, (k0_off2388 v38592 v38621) a + S1x40x128.size a ≤ S256x64x128.size a)
theorem k0_off2388_inb : ∀ (v38592 : BitVec 32) (v38621 : BitVec 32) (k0_hw816 : k0_chk816 v38592 v38621), ∀ a, (k0_off2388 v38592 v38621) a + S1x40x128.size a ≤ S256x64x128.size a := fun v38592 v38621 k0_hw816 => k0_hw816

def k0_off2389 (i : grid0.Coords) : Fin 3 → Nat :=
  let arg0 : BitVec 32 := BitVec.ofNat 32 (i 0).val
  let v38626 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38627 : Index := Scalar.indexCast v38589
  let c9_16303 : Index := 9#32
  ![v38626.toNat, v38627.toNat, 9]
def k0_off2390 (v38592 : BitVec 32) (v38628 : BitVec 32) : Fin 3 → Nat :=
  let v38629 : Index := Scalar.indexCast v38628
  let v38593 : BitVec 32 := v38592
  let v38630 : Index := Scalar.indexCast v38593
  let c0_16304 : Index := 0#32
  ![v38629.toNat, v38630.toNat, 0]

def k0_chk817 (v38592 : BitVec 32) (v38628 : BitVec 32) : Prop :=
  (∀ a, (k0_off2390 v38592 v38628) a + S1x40x128.size a ≤ S256x64x128.size a)
theorem k0_off2390_inb : ∀ (v38592 : BitVec 32) (v38628 : BitVec 32) (k0_hw817 : k0_chk817 v38592 v38628), ∀ a, (k0_off2390 v38592 v38628) a + S1x40x128.size a ≤ S256x64x128.size a := fun v38592 v38628 k0_hw817 => k0_hw817

def k0_off2391 (i : grid0.Coords) : Fin 3 → Nat :=
  let arg0 : BitVec 32 := BitVec.ofNat 32 (i 0).val
  let v38634 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38635 : Index := Scalar.indexCast v38589
  let c16_16305 : Index := 16#32
  ![v38634.toNat, v38635.toNat, 16]
def k0_off2392 (i : grid0.Coords) : Fin 3 → Nat :=
  let arg0 : BitVec 32 := BitVec.ofNat 32 (i 0).val
  let v38644 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38645 : Index := Scalar.indexCast v38589
  let c3_16310 : Index := 3#32
  ![v38644.toNat, v38645.toNat, 3]
def k0_off2393 (v38592 : BitVec 32) (v38646 : BitVec 32) : Fin 3 → Nat :=
  let v38647 : Index := Scalar.indexCast v38646
  let v38593 : BitVec 32 := v38592
  let v38648 : Index := Scalar.indexCast v38593
  let c0_16311 : Index := 0#32
  ![v38647.toNat, v38648.toNat, 0]

def k0_chk818 (v38592 : BitVec 32) (v38646 : BitVec 32) : Prop :=
  (∀ a, (k0_off2393 v38592 v38646) a + S1x40x128.size a ≤ S256x64x128.size a)
theorem k0_off2393_inb : ∀ (v38592 : BitVec 32) (v38646 : BitVec 32) (k0_hw818 : k0_chk818 v38592 v38646), ∀ a, (k0_off2393 v38592 v38646) a + S1x40x128.size a ≤ S256x64x128.size a := fun v38592 v38646 k0_hw818 => k0_hw818

def k0_off2394 (i : grid0.Coords) : Fin 3 → Nat :=
  let arg0 : BitVec 32 := BitVec.ofNat 32 (i 0).val
  let v38651 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38652 : Index := Scalar.indexCast v38589
  let c10_16312 : Index := 10#32
  ![v38651.toNat, v38652.toNat, 10]
def k0_off2395 (v38592 : BitVec 32) (v38653 : BitVec 32) : Fin 3 → Nat :=
  let v38654 : Index := Scalar.indexCast v38653
  let v38593 : BitVec 32 := v38592
  let v38655 : Index := Scalar.indexCast v38593
  let c0_16313 : Index := 0#32
  ![v38654.toNat, v38655.toNat, 0]

def k0_chk819 (v38592 : BitVec 32) (v38653 : BitVec 32) : Prop :=
  (∀ a, (k0_off2395 v38592 v38653) a + S1x40x128.size a ≤ S256x64x128.size a)
theorem k0_off2395_inb : ∀ (v38592 : BitVec 32) (v38653 : BitVec 32) (k0_hw819 : k0_chk819 v38592 v38653), ∀ a, (k0_off2395 v38592 v38653) a + S1x40x128.size a ≤ S256x64x128.size a := fun v38592 v38653 k0_hw819 => k0_hw819

def k0_off2396 (i : grid0.Coords) : Fin 3 → Nat :=
  let arg0 : BitVec 32 := BitVec.ofNat 32 (i 0).val
  let v38659 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38660 : Index := Scalar.indexCast v38589
  let c17_16314 : Index := 17#32
  ![v38659.toNat, v38660.toNat, 17]
def k0_off2397 (i : grid0.Coords) : Fin 3 → Nat :=
  let arg0 : BitVec 32 := BitVec.ofNat 32 (i 0).val
  let v38669 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38670 : Index := Scalar.indexCast v38589
  let c4_16319 : Index := 4#32
  ![v38669.toNat, v38670.toNat, 4]
def k0_off2398 (v38592 : BitVec 32) (v38671 : BitVec 32) : Fin 3 → Nat :=
  let v38672 : Index := Scalar.indexCast v38671
  let v38593 : BitVec 32 := v38592
  let v38673 : Index := Scalar.indexCast v38593
  let c0_16320 : Index := 0#32
  ![v38672.toNat, v38673.toNat, 0]

def k0_chk820 (v38592 : BitVec 32) (v38671 : BitVec 32) : Prop :=
  (∀ a, (k0_off2398 v38592 v38671) a + S1x40x128.size a ≤ S256x64x128.size a)
theorem k0_off2398_inb : ∀ (v38592 : BitVec 32) (v38671 : BitVec 32) (k0_hw820 : k0_chk820 v38592 v38671), ∀ a, (k0_off2398 v38592 v38671) a + S1x40x128.size a ≤ S256x64x128.size a := fun v38592 v38671 k0_hw820 => k0_hw820

def k0_off2399 (i : grid0.Coords) : Fin 3 → Nat :=
  let arg0 : BitVec 32 := BitVec.ofNat 32 (i 0).val
  let v38676 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38677 : Index := Scalar.indexCast v38589
  let c11_16321 : Index := 11#32
  ![v38676.toNat, v38677.toNat, 11]
def k0_off2400 (v38592 : BitVec 32) (v38678 : BitVec 32) : Fin 3 → Nat :=
  let v38679 : Index := Scalar.indexCast v38678
  let v38593 : BitVec 32 := v38592
  let v38680 : Index := Scalar.indexCast v38593
  let c0_16322 : Index := 0#32
  ![v38679.toNat, v38680.toNat, 0]

def k0_chk821 (v38592 : BitVec 32) (v38678 : BitVec 32) : Prop :=
  (∀ a, (k0_off2400 v38592 v38678) a + S1x40x128.size a ≤ S256x64x128.size a)
theorem k0_off2400_inb : ∀ (v38592 : BitVec 32) (v38678 : BitVec 32) (k0_hw821 : k0_chk821 v38592 v38678), ∀ a, (k0_off2400 v38592 v38678) a + S1x40x128.size a ≤ S256x64x128.size a := fun v38592 v38678 k0_hw821 => k0_hw821

def k0_off2401 (i : grid0.Coords) : Fin 3 → Nat :=
  let arg0 : BitVec 32 := BitVec.ofNat 32 (i 0).val
  let v38684 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38685 : Index := Scalar.indexCast v38589
  let c18_16323 : Index := 18#32
  ![v38684.toNat, v38685.toNat, 18]
def k0_off2402 (i : grid0.Coords) : Fin 3 → Nat :=
  let arg0 : BitVec 32 := BitVec.ofNat 32 (i 0).val
  let v38694 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38695 : Index := Scalar.indexCast v38589
  let c5_16328 : Index := 5#32
  ![v38694.toNat, v38695.toNat, 5]
def k0_off2403 (v38592 : BitVec 32) (v38696 : BitVec 32) : Fin 3 → Nat :=
  let v38697 : Index := Scalar.indexCast v38696
  let v38593 : BitVec 32 := v38592
  let v38698 : Index := Scalar.indexCast v38593
  let c0_16329 : Index := 0#32
  ![v38697.toNat, v38698.toNat, 0]

def k0_chk822 (v38592 : BitVec 32) (v38696 : BitVec 32) : Prop :=
  (∀ a, (k0_off2403 v38592 v38696) a + S1x40x128.size a ≤ S256x64x128.size a)
theorem k0_off2403_inb : ∀ (v38592 : BitVec 32) (v38696 : BitVec 32) (k0_hw822 : k0_chk822 v38592 v38696), ∀ a, (k0_off2403 v38592 v38696) a + S1x40x128.size a ≤ S256x64x128.size a := fun v38592 v38696 k0_hw822 => k0_hw822

def k0_off2404 (i : grid0.Coords) : Fin 3 → Nat :=
  let arg0 : BitVec 32 := BitVec.ofNat 32 (i 0).val
  let v38701 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38702 : Index := Scalar.indexCast v38589
  let c12_16330 : Index := 12#32
  ![v38701.toNat, v38702.toNat, 12]
def k0_off2405 (v38592 : BitVec 32) (v38703 : BitVec 32) : Fin 3 → Nat :=
  let v38704 : Index := Scalar.indexCast v38703
  let v38593 : BitVec 32 := v38592
  let v38705 : Index := Scalar.indexCast v38593
  let c0_16331 : Index := 0#32
  ![v38704.toNat, v38705.toNat, 0]

def k0_chk823 (v38592 : BitVec 32) (v38703 : BitVec 32) : Prop :=
  (∀ a, (k0_off2405 v38592 v38703) a + S1x40x128.size a ≤ S256x64x128.size a)
theorem k0_off2405_inb : ∀ (v38592 : BitVec 32) (v38703 : BitVec 32) (k0_hw823 : k0_chk823 v38592 v38703), ∀ a, (k0_off2405 v38592 v38703) a + S1x40x128.size a ≤ S256x64x128.size a := fun v38592 v38703 k0_hw823 => k0_hw823

def k0_off2406 (i : grid0.Coords) : Fin 3 → Nat :=
  let arg0 : BitVec 32 := BitVec.ofNat 32 (i 0).val
  let v38709 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38710 : Index := Scalar.indexCast v38589
  let c19_16332 : Index := 19#32
  ![v38709.toNat, v38710.toNat, 19]
def k0_off2407 (i : grid0.Coords) : Fin 3 → Nat :=
  let arg0 : BitVec 32 := BitVec.ofNat 32 (i 0).val
  let v38719 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38720 : Index := Scalar.indexCast v38589
  let c6_16337 : Index := 6#32
  ![v38719.toNat, v38720.toNat, 6]
def k0_off2408 (v38592 : BitVec 32) (v38721 : BitVec 32) : Fin 3 → Nat :=
  let v38722 : Index := Scalar.indexCast v38721
  let v38593 : BitVec 32 := v38592
  let v38723 : Index := Scalar.indexCast v38593
  let c0_16338 : Index := 0#32
  ![v38722.toNat, v38723.toNat, 0]

def k0_chk824 (v38592 : BitVec 32) (v38721 : BitVec 32) : Prop :=
  (∀ a, (k0_off2408 v38592 v38721) a + S1x40x128.size a ≤ S256x64x128.size a)
theorem k0_off2408_inb : ∀ (v38592 : BitVec 32) (v38721 : BitVec 32) (k0_hw824 : k0_chk824 v38592 v38721), ∀ a, (k0_off2408 v38592 v38721) a + S1x40x128.size a ≤ S256x64x128.size a := fun v38592 v38721 k0_hw824 => k0_hw824

def k0_off2409 (i : grid0.Coords) : Fin 3 → Nat :=
  let arg0 : BitVec 32 := BitVec.ofNat 32 (i 0).val
  let v38726 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38727 : Index := Scalar.indexCast v38589
  let c13_16339 : Index := 13#32
  ![v38726.toNat, v38727.toNat, 13]
def k0_off2410 (v38592 : BitVec 32) (v38728 : BitVec 32) : Fin 3 → Nat :=
  let v38729 : Index := Scalar.indexCast v38728
  let v38593 : BitVec 32 := v38592
  let v38730 : Index := Scalar.indexCast v38593
  let c0_16340 : Index := 0#32
  ![v38729.toNat, v38730.toNat, 0]

def k0_chk825 (v38592 : BitVec 32) (v38728 : BitVec 32) : Prop :=
  (∀ a, (k0_off2410 v38592 v38728) a + S1x40x128.size a ≤ S256x64x128.size a)
theorem k0_off2410_inb : ∀ (v38592 : BitVec 32) (v38728 : BitVec 32) (k0_hw825 : k0_chk825 v38592 v38728), ∀ a, (k0_off2410 v38592 v38728) a + S1x40x128.size a ≤ S256x64x128.size a := fun v38592 v38728 k0_hw825 => k0_hw825

def k0_off2411 (i : grid0.Coords) : Fin 3 → Nat :=
  let arg0 : BitVec 32 := BitVec.ofNat 32 (i 0).val
  let v38734 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38735 : Index := Scalar.indexCast v38589
  let c20_16341 : Index := 20#32
  ![v38734.toNat, v38735.toNat, 20]
def k0_off2412 (i : grid0.Coords) : Fin 3 → Nat :=
  let arg0 : BitVec 32 := BitVec.ofNat 32 (i 0).val
  let v38744 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38745 : Index := Scalar.indexCast v38589
  let c7_16346 : Index := 7#32
  ![v38744.toNat, v38745.toNat, 7]
def k0_off2413 (v38592 : BitVec 32) (v38746 : BitVec 32) : Fin 3 → Nat :=
  let v38747 : Index := Scalar.indexCast v38746
  let v38593 : BitVec 32 := v38592
  let v38748 : Index := Scalar.indexCast v38593
  let c0_16347 : Index := 0#32
  ![v38747.toNat, v38748.toNat, 0]

def k0_chk826 (v38592 : BitVec 32) (v38746 : BitVec 32) : Prop :=
  (∀ a, (k0_off2413 v38592 v38746) a + S1x40x128.size a ≤ S256x64x128.size a)
theorem k0_off2413_inb : ∀ (v38592 : BitVec 32) (v38746 : BitVec 32) (k0_hw826 : k0_chk826 v38592 v38746), ∀ a, (k0_off2413 v38592 v38746) a + S1x40x128.size a ≤ S256x64x128.size a := fun v38592 v38746 k0_hw826 => k0_hw826

def k0_off2414 (i : grid0.Coords) : Fin 3 → Nat :=
  let arg0 : BitVec 32 := BitVec.ofNat 32 (i 0).val
  let v38751 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38752 : Index := Scalar.indexCast v38589
  let c14_16348 : Index := 14#32
  ![v38751.toNat, v38752.toNat, 14]
def k0_off2415 (v38592 : BitVec 32) (v38753 : BitVec 32) : Fin 3 → Nat :=
  let v38754 : Index := Scalar.indexCast v38753
  let v38593 : BitVec 32 := v38592
  let v38755 : Index := Scalar.indexCast v38593
  let c0_16349 : Index := 0#32
  ![v38754.toNat, v38755.toNat, 0]

def k0_chk827 (v38592 : BitVec 32) (v38753 : BitVec 32) : Prop :=
  (∀ a, (k0_off2415 v38592 v38753) a + S1x40x128.size a ≤ S256x64x128.size a)
theorem k0_off2415_inb : ∀ (v38592 : BitVec 32) (v38753 : BitVec 32) (k0_hw827 : k0_chk827 v38592 v38753), ∀ a, (k0_off2415 v38592 v38753) a + S1x40x128.size a ≤ S256x64x128.size a := fun v38592 v38753 k0_hw827 => k0_hw827

def k0_off2416 (i : grid0.Coords) : Fin 3 → Nat :=
  let arg0 : BitVec 32 := BitVec.ofNat 32 (i 0).val
  let v38759 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38760 : Index := Scalar.indexCast v38589
  let c21_16350 : Index := 21#32
  ![v38759.toNat, v38760.toNat, 21]
def k0_off2417 (i : grid0.Coords) : Fin 3 → Nat :=
  let arg0 : BitVec 32 := BitVec.ofNat 32 (i 0).val
  let v38769 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38770 : Index := Scalar.indexCast v38589
  let c22_16355 : Index := 22#32
  ![v38769.toNat, v38770.toNat, 22]
def k0_off2418 (i : grid0.Coords) : Fin 3 → Nat :=
  let arg0 : BitVec 32 := BitVec.ofNat 32 (i 0).val
  let v38772 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38773 : Index := Scalar.indexCast v38589
  let c29_16356 : Index := 29#32
  ![v38772.toNat, v38773.toNat, 29]
def k0_off2419 (i : grid0.Coords) : Fin 3 → Nat :=
  let arg0 : BitVec 32 := BitVec.ofNat 32 (i 0).val
  let v38775 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38776 : Index := Scalar.indexCast v38589
  let c36_16357 : Index := 36#32
  ![v38775.toNat, v38776.toNat, 36]
def k0_off2420 (i : grid0.Coords) : Fin 3 → Nat :=
  let arg0 : BitVec 32 := BitVec.ofNat 32 (i 0).val
  let v38778 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38779 : Index := Scalar.indexCast v38589
  let c43_16358 : Index := 43#32
  ![v38778.toNat, v38779.toNat, 43]
def k0_off2421 (v38771 : BitVec 32) : Fin 3 → Nat :=
  let c980_i32 : BitVec 32 := 980#32
  let v38803 : BitVec 32 := Scalar.addi c980_i32 v38771
  let v38804 : Index := Scalar.indexCast v38803
  let c0_16363 : Index := 0#32
  let c0_16364 : Index := 0#32
  ![v38804.toNat, 0, 0]

def k0_off2422 (v38774 : BitVec 32) (c980_i32_16366 : BitVec 32) : Fin 3 → Nat :=
  let v38811 : BitVec 32 := Scalar.addi c980_i32_16366 v38774
  let v38812 : Index := Scalar.indexCast v38811
  let c0_16367 : Index := 0#32
  let c0_16368 : Index := 0#32
  ![v38812.toNat, 0, 0]

def k0_chk829 (v38774 : BitVec 32) : Prop :=
  (∀ (r : Fin 7), ∀ a, (k0_off2422 v38774 (BitVec.ofNat 32 (980 + 5 * r.val))) a + S1x8x128.size a ≤ S1120x8x128.size a)
theorem k0_off2422_inb : ∀ (v38774 : BitVec 32) (k0_hw829 : k0_chk829 v38774), ∀ (r : Fin 7), ∀ a, (k0_off2422 v38774 (BitVec.ofNat 32 (980 + 5 * r.val))) a + S1x8x128.size a ≤ S1120x8x128.size a := fun v38774 k0_hw829 r => k0_hw829 r

def k0_off2423 (v38771 : BitVec 32) (c985_i32 : BitVec 32) : Fin 3 → Nat :=
  let v38821 : BitVec 32 := Scalar.addi c985_i32 v38771
  let v38822 : Index := Scalar.indexCast v38821
  let c0_16371 : Index := 0#32
  let c0_16372 : Index := 0#32
  ![v38822.toNat, 0, 0]

def k0_chk828 (v38771 : BitVec 32) : Prop :=
  (∀ a, (k0_off2421 v38771) a + S1x8x128.size a ≤ S1120x8x128.size a) ∧
  (∀ (r : Fin 6), ∀ a, (k0_off2423 v38771 (BitVec.ofNat 32 (985 + 5 * r.val))) a + S1x8x128.size a ≤ S1120x8x128.size a)
theorem k0_off2421_inb : ∀ (v38771 : BitVec 32) (k0_hw828 : k0_chk828 v38771), ∀ a, (k0_off2421 v38771) a + S1x8x128.size a ≤ S1120x8x128.size a := fun v38771 k0_hw828 => k0_hw828.1
theorem k0_off2423_inb : ∀ (v38771 : BitVec 32) (k0_hw828 : k0_chk828 v38771), ∀ (r : Fin 6), ∀ a, (k0_off2423 v38771 (BitVec.ofNat 32 (985 + 5 * r.val))) a + S1x8x128.size a ≤ S1120x8x128.size a := fun v38771 k0_hw828 r => k0_hw828.2 r

def k0_off2424 (i : grid0.Coords) : Fin 3 → Nat :=
  let arg0 : BitVec 32 := BitVec.ofNat 32 (i 0).val
  let v38929 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38930 : Index := Scalar.indexCast v38589
  let c23_16419 : Index := 23#32
  ![v38929.toNat, v38930.toNat, 23]
def k0_off2425 (i : grid0.Coords) : Fin 3 → Nat :=
  let arg0 : BitVec 32 := BitVec.ofNat 32 (i 0).val
  let v38932 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38933 : Index := Scalar.indexCast v38589
  let c30_16420 : Index := 30#32
  ![v38932.toNat, v38933.toNat, 30]
def k0_off2426 (i : grid0.Coords) : Fin 3 → Nat :=
  let arg0 : BitVec 32 := BitVec.ofNat 32 (i 0).val
  let v38935 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38936 : Index := Scalar.indexCast v38589
  let c37_16421 : Index := 37#32
  ![v38935.toNat, v38936.toNat, 37]
def k0_off2427 (i : grid0.Coords) : Fin 3 → Nat :=
  let arg0 : BitVec 32 := BitVec.ofNat 32 (i 0).val
  let v38938 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v38939 : Index := Scalar.indexCast v38589
  let c44_16422 : Index := 44#32
  ![v38938.toNat, v38939.toNat, 44]
def k0_off2428 (v38931 : BitVec 32) : Fin 3 → Nat :=
  let c980_i32_16427 : BitVec 32 := 980#32
  let v38963 : BitVec 32 := Scalar.addi c980_i32_16427 v38931
  let v38964 : Index := Scalar.indexCast v38963
  let c0_16428 : Index := 0#32
  let c0_16429 : Index := 0#32
  ![v38964.toNat, 0, 0]

def k0_off2429 (v38934 : BitVec 32) (c980_i32_16431 : BitVec 32) : Fin 3 → Nat :=
  let v38971 : BitVec 32 := Scalar.addi c980_i32_16431 v38934
  let v38972 : Index := Scalar.indexCast v38971
  let c0_16432 : Index := 0#32
  let c0_16433 : Index := 0#32
  ![v38972.toNat, 0, 0]

def k0_chk831 (v38934 : BitVec 32) : Prop :=
  (∀ (r : Fin 7), ∀ a, (k0_off2429 v38934 (BitVec.ofNat 32 (980 + 5 * r.val))) a + S1x8x128.size a ≤ S1120x8x128.size a)
theorem k0_off2429_inb : ∀ (v38934 : BitVec 32) (k0_hw831 : k0_chk831 v38934), ∀ (r : Fin 7), ∀ a, (k0_off2429 v38934 (BitVec.ofNat 32 (980 + 5 * r.val))) a + S1x8x128.size a ≤ S1120x8x128.size a := fun v38934 k0_hw831 r => k0_hw831 r

def k0_off2430 (v38931 : BitVec 32) (c985_i32_16436 : BitVec 32) : Fin 3 → Nat :=
  let v38981 : BitVec 32 := Scalar.addi c985_i32_16436 v38931
  let v38982 : Index := Scalar.indexCast v38981
  let c0_16437 : Index := 0#32
  let c0_16438 : Index := 0#32
  ![v38982.toNat, 0, 0]

def k0_chk830 (v38931 : BitVec 32) : Prop :=
  (∀ a, (k0_off2428 v38931) a + S1x8x128.size a ≤ S1120x8x128.size a) ∧
  (∀ (r : Fin 6), ∀ a, (k0_off2430 v38931 (BitVec.ofNat 32 (985 + 5 * r.val))) a + S1x8x128.size a ≤ S1120x8x128.size a)
theorem k0_off2428_inb : ∀ (v38931 : BitVec 32) (k0_hw830 : k0_chk830 v38931), ∀ a, (k0_off2428 v38931) a + S1x8x128.size a ≤ S1120x8x128.size a := fun v38931 k0_hw830 => k0_hw830.1
theorem k0_off2430_inb : ∀ (v38931 : BitVec 32) (k0_hw830 : k0_chk830 v38931), ∀ (r : Fin 6), ∀ a, (k0_off2430 v38931 (BitVec.ofNat 32 (985 + 5 * r.val))) a + S1x8x128.size a ≤ S1120x8x128.size a := fun v38931 k0_hw830 r => k0_hw830.2 r

def k0_off2431 (i : grid0.Coords) : Fin 3 → Nat :=
  let arg0 : BitVec 32 := BitVec.ofNat 32 (i 0).val
  let v39089 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39090 : Index := Scalar.indexCast v38589
  let c24_16490 : Index := 24#32
  ![v39089.toNat, v39090.toNat, 24]
def k0_off2432 (i : grid0.Coords) : Fin 3 → Nat :=
  let arg0 : BitVec 32 := BitVec.ofNat 32 (i 0).val
  let v39092 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39093 : Index := Scalar.indexCast v38589
  let c31_16491 : Index := 31#32
  ![v39092.toNat, v39093.toNat, 31]
def k0_off2433 (i : grid0.Coords) : Fin 3 → Nat :=
  let arg0 : BitVec 32 := BitVec.ofNat 32 (i 0).val
  let v39095 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39096 : Index := Scalar.indexCast v38589
  let c38_16492 : Index := 38#32
  ![v39095.toNat, v39096.toNat, 38]
def k0_off2434 (i : grid0.Coords) : Fin 3 → Nat :=
  let arg0 : BitVec 32 := BitVec.ofNat 32 (i 0).val
  let v39098 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39099 : Index := Scalar.indexCast v38589
  let c45_16493 : Index := 45#32
  ![v39098.toNat, v39099.toNat, 45]
def k0_off2435 (v39091 : BitVec 32) : Fin 3 → Nat :=
  let c980_i32_16498 : BitVec 32 := 980#32
  let v39123 : BitVec 32 := Scalar.addi c980_i32_16498 v39091
  let v39124 : Index := Scalar.indexCast v39123
  let c0_16499 : Index := 0#32
  let c0_16500 : Index := 0#32
  ![v39124.toNat, 0, 0]

def k0_off2436 (v39094 : BitVec 32) (c980_i32_16502 : BitVec 32) : Fin 3 → Nat :=
  let v39131 : BitVec 32 := Scalar.addi c980_i32_16502 v39094
  let v39132 : Index := Scalar.indexCast v39131
  let c0_16503 : Index := 0#32
  let c0_16504 : Index := 0#32
  ![v39132.toNat, 0, 0]

def k0_chk833 (v39094 : BitVec 32) : Prop :=
  (∀ (r : Fin 7), ∀ a, (k0_off2436 v39094 (BitVec.ofNat 32 (980 + 5 * r.val))) a + S1x8x128.size a ≤ S1120x8x128.size a)
theorem k0_off2436_inb : ∀ (v39094 : BitVec 32) (k0_hw833 : k0_chk833 v39094), ∀ (r : Fin 7), ∀ a, (k0_off2436 v39094 (BitVec.ofNat 32 (980 + 5 * r.val))) a + S1x8x128.size a ≤ S1120x8x128.size a := fun v39094 k0_hw833 r => k0_hw833 r

def k0_off2437 (v39091 : BitVec 32) (c985_i32_16507 : BitVec 32) : Fin 3 → Nat :=
  let v39141 : BitVec 32 := Scalar.addi c985_i32_16507 v39091
  let v39142 : Index := Scalar.indexCast v39141
  let c0_16508 : Index := 0#32
  let c0_16509 : Index := 0#32
  ![v39142.toNat, 0, 0]

def k0_chk832 (v39091 : BitVec 32) : Prop :=
  (∀ a, (k0_off2435 v39091) a + S1x8x128.size a ≤ S1120x8x128.size a) ∧
  (∀ (r : Fin 6), ∀ a, (k0_off2437 v39091 (BitVec.ofNat 32 (985 + 5 * r.val))) a + S1x8x128.size a ≤ S1120x8x128.size a)
theorem k0_off2435_inb : ∀ (v39091 : BitVec 32) (k0_hw832 : k0_chk832 v39091), ∀ a, (k0_off2435 v39091) a + S1x8x128.size a ≤ S1120x8x128.size a := fun v39091 k0_hw832 => k0_hw832.1
theorem k0_off2437_inb : ∀ (v39091 : BitVec 32) (k0_hw832 : k0_chk832 v39091), ∀ (r : Fin 6), ∀ a, (k0_off2437 v39091 (BitVec.ofNat 32 (985 + 5 * r.val))) a + S1x8x128.size a ≤ S1120x8x128.size a := fun v39091 k0_hw832 r => k0_hw832.2 r

def k0_off2438 (i : grid0.Coords) : Fin 3 → Nat :=
  let arg0 : BitVec 32 := BitVec.ofNat 32 (i 0).val
  let v39249 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39250 : Index := Scalar.indexCast v38589
  let c25_16561 : Index := 25#32
  ![v39249.toNat, v39250.toNat, 25]
def k0_off2439 (i : grid0.Coords) : Fin 3 → Nat :=
  let arg0 : BitVec 32 := BitVec.ofNat 32 (i 0).val
  let v39252 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39253 : Index := Scalar.indexCast v38589
  let c32_16562 : Index := 32#32
  ![v39252.toNat, v39253.toNat, 32]
def k0_off2440 (i : grid0.Coords) : Fin 3 → Nat :=
  let arg0 : BitVec 32 := BitVec.ofNat 32 (i 0).val
  let v39255 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39256 : Index := Scalar.indexCast v38589
  let c39_16563 : Index := 39#32
  ![v39255.toNat, v39256.toNat, 39]
def k0_off2441 (i : grid0.Coords) : Fin 3 → Nat :=
  let arg0 : BitVec 32 := BitVec.ofNat 32 (i 0).val
  let v39258 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39259 : Index := Scalar.indexCast v38589
  let c46_16564 : Index := 46#32
  ![v39258.toNat, v39259.toNat, 46]
def k0_off2442 (v39251 : BitVec 32) : Fin 3 → Nat :=
  let c980_i32_16569 : BitVec 32 := 980#32
  let v39283 : BitVec 32 := Scalar.addi c980_i32_16569 v39251
  let v39284 : Index := Scalar.indexCast v39283
  let c0_16570 : Index := 0#32
  let c0_16571 : Index := 0#32
  ![v39284.toNat, 0, 0]

def k0_off2443 (v39254 : BitVec 32) (c980_i32_16573 : BitVec 32) : Fin 3 → Nat :=
  let v39291 : BitVec 32 := Scalar.addi c980_i32_16573 v39254
  let v39292 : Index := Scalar.indexCast v39291
  let c0_16574 : Index := 0#32
  let c0_16575 : Index := 0#32
  ![v39292.toNat, 0, 0]

def k0_chk835 (v39254 : BitVec 32) : Prop :=
  (∀ (r : Fin 7), ∀ a, (k0_off2443 v39254 (BitVec.ofNat 32 (980 + 5 * r.val))) a + S1x8x128.size a ≤ S1120x8x128.size a)
theorem k0_off2443_inb : ∀ (v39254 : BitVec 32) (k0_hw835 : k0_chk835 v39254), ∀ (r : Fin 7), ∀ a, (k0_off2443 v39254 (BitVec.ofNat 32 (980 + 5 * r.val))) a + S1x8x128.size a ≤ S1120x8x128.size a := fun v39254 k0_hw835 r => k0_hw835 r

def k0_off2444 (v39251 : BitVec 32) (c985_i32_16578 : BitVec 32) : Fin 3 → Nat :=
  let v39301 : BitVec 32 := Scalar.addi c985_i32_16578 v39251
  let v39302 : Index := Scalar.indexCast v39301
  let c0_16579 : Index := 0#32
  let c0_16580 : Index := 0#32
  ![v39302.toNat, 0, 0]

def k0_chk834 (v39251 : BitVec 32) : Prop :=
  (∀ a, (k0_off2442 v39251) a + S1x8x128.size a ≤ S1120x8x128.size a) ∧
  (∀ (r : Fin 6), ∀ a, (k0_off2444 v39251 (BitVec.ofNat 32 (985 + 5 * r.val))) a + S1x8x128.size a ≤ S1120x8x128.size a)
theorem k0_off2442_inb : ∀ (v39251 : BitVec 32) (k0_hw834 : k0_chk834 v39251), ∀ a, (k0_off2442 v39251) a + S1x8x128.size a ≤ S1120x8x128.size a := fun v39251 k0_hw834 => k0_hw834.1
theorem k0_off2444_inb : ∀ (v39251 : BitVec 32) (k0_hw834 : k0_chk834 v39251), ∀ (r : Fin 6), ∀ a, (k0_off2444 v39251 (BitVec.ofNat 32 (985 + 5 * r.val))) a + S1x8x128.size a ≤ S1120x8x128.size a := fun v39251 k0_hw834 r => k0_hw834.2 r

def k0_off2445 (i : grid0.Coords) : Fin 3 → Nat :=
  let arg0 : BitVec 32 := BitVec.ofNat 32 (i 0).val
  let v39409 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39410 : Index := Scalar.indexCast v38589
  let c26_16632 : Index := 26#32
  ![v39409.toNat, v39410.toNat, 26]
def k0_off2446 (i : grid0.Coords) : Fin 3 → Nat :=
  let arg0 : BitVec 32 := BitVec.ofNat 32 (i 0).val
  let v39412 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39413 : Index := Scalar.indexCast v38589
  let c33_16633 : Index := 33#32
  ![v39412.toNat, v39413.toNat, 33]
def k0_off2447 (i : grid0.Coords) : Fin 3 → Nat :=
  let arg0 : BitVec 32 := BitVec.ofNat 32 (i 0).val
  let v39415 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39416 : Index := Scalar.indexCast v38589
  let c40_16634 : Index := 40#32
  ![v39415.toNat, v39416.toNat, 40]
def k0_off2448 (i : grid0.Coords) : Fin 3 → Nat :=
  let arg0 : BitVec 32 := BitVec.ofNat 32 (i 0).val
  let v39418 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39419 : Index := Scalar.indexCast v38589
  let c47_16635 : Index := 47#32
  ![v39418.toNat, v39419.toNat, 47]
def k0_off2449 (v39411 : BitVec 32) : Fin 3 → Nat :=
  let c980_i32_16640 : BitVec 32 := 980#32
  let v39443 : BitVec 32 := Scalar.addi c980_i32_16640 v39411
  let v39444 : Index := Scalar.indexCast v39443
  let c0_16641 : Index := 0#32
  let c0_16642 : Index := 0#32
  ![v39444.toNat, 0, 0]

def k0_off2450 (v39414 : BitVec 32) (c980_i32_16644 : BitVec 32) : Fin 3 → Nat :=
  let v39451 : BitVec 32 := Scalar.addi c980_i32_16644 v39414
  let v39452 : Index := Scalar.indexCast v39451
  let c0_16645 : Index := 0#32
  let c0_16646 : Index := 0#32
  ![v39452.toNat, 0, 0]

def k0_chk837 (v39414 : BitVec 32) : Prop :=
  (∀ (r : Fin 7), ∀ a, (k0_off2450 v39414 (BitVec.ofNat 32 (980 + 5 * r.val))) a + S1x8x128.size a ≤ S1120x8x128.size a)
theorem k0_off2450_inb : ∀ (v39414 : BitVec 32) (k0_hw837 : k0_chk837 v39414), ∀ (r : Fin 7), ∀ a, (k0_off2450 v39414 (BitVec.ofNat 32 (980 + 5 * r.val))) a + S1x8x128.size a ≤ S1120x8x128.size a := fun v39414 k0_hw837 r => k0_hw837 r

def k0_off2451 (v39411 : BitVec 32) (c985_i32_16649 : BitVec 32) : Fin 3 → Nat :=
  let v39461 : BitVec 32 := Scalar.addi c985_i32_16649 v39411
  let v39462 : Index := Scalar.indexCast v39461
  let c0_16650 : Index := 0#32
  let c0_16651 : Index := 0#32
  ![v39462.toNat, 0, 0]

def k0_chk836 (v39411 : BitVec 32) : Prop :=
  (∀ a, (k0_off2449 v39411) a + S1x8x128.size a ≤ S1120x8x128.size a) ∧
  (∀ (r : Fin 6), ∀ a, (k0_off2451 v39411 (BitVec.ofNat 32 (985 + 5 * r.val))) a + S1x8x128.size a ≤ S1120x8x128.size a)
theorem k0_off2449_inb : ∀ (v39411 : BitVec 32) (k0_hw836 : k0_chk836 v39411), ∀ a, (k0_off2449 v39411) a + S1x8x128.size a ≤ S1120x8x128.size a := fun v39411 k0_hw836 => k0_hw836.1
theorem k0_off2451_inb : ∀ (v39411 : BitVec 32) (k0_hw836 : k0_chk836 v39411), ∀ (r : Fin 6), ∀ a, (k0_off2451 v39411 (BitVec.ofNat 32 (985 + 5 * r.val))) a + S1x8x128.size a ≤ S1120x8x128.size a := fun v39411 k0_hw836 r => k0_hw836.2 r

def k0_off2452 (i : grid0.Coords) : Fin 3 → Nat :=
  let arg0 : BitVec 32 := BitVec.ofNat 32 (i 0).val
  let v39569 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39570 : Index := Scalar.indexCast v38589
  let c27_16703 : Index := 27#32
  ![v39569.toNat, v39570.toNat, 27]
def k0_off2453 (i : grid0.Coords) : Fin 3 → Nat :=
  let arg0 : BitVec 32 := BitVec.ofNat 32 (i 0).val
  let v39572 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39573 : Index := Scalar.indexCast v38589
  let c34_16704 : Index := 34#32
  ![v39572.toNat, v39573.toNat, 34]
def k0_off2454 (i : grid0.Coords) : Fin 3 → Nat :=
  let arg0 : BitVec 32 := BitVec.ofNat 32 (i 0).val
  let v39575 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39576 : Index := Scalar.indexCast v38589
  let c41_16705 : Index := 41#32
  ![v39575.toNat, v39576.toNat, 41]
def k0_off2455 (i : grid0.Coords) : Fin 3 → Nat :=
  let arg0 : BitVec 32 := BitVec.ofNat 32 (i 0).val
  let v39578 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39579 : Index := Scalar.indexCast v38589
  let c48_16706 : Index := 48#32
  ![v39578.toNat, v39579.toNat, 48]
def k0_off2456 (v39571 : BitVec 32) : Fin 3 → Nat :=
  let c980_i32_16711 : BitVec 32 := 980#32
  let v39603 : BitVec 32 := Scalar.addi c980_i32_16711 v39571
  let v39604 : Index := Scalar.indexCast v39603
  let c0_16712 : Index := 0#32
  let c0_16713 : Index := 0#32
  ![v39604.toNat, 0, 0]

def k0_off2457 (v39574 : BitVec 32) (c980_i32_16715 : BitVec 32) : Fin 3 → Nat :=
  let v39611 : BitVec 32 := Scalar.addi c980_i32_16715 v39574
  let v39612 : Index := Scalar.indexCast v39611
  let c0_16716 : Index := 0#32
  let c0_16717 : Index := 0#32
  ![v39612.toNat, 0, 0]

def k0_chk839 (v39574 : BitVec 32) : Prop :=
  (∀ (r : Fin 7), ∀ a, (k0_off2457 v39574 (BitVec.ofNat 32 (980 + 5 * r.val))) a + S1x8x128.size a ≤ S1120x8x128.size a)
theorem k0_off2457_inb : ∀ (v39574 : BitVec 32) (k0_hw839 : k0_chk839 v39574), ∀ (r : Fin 7), ∀ a, (k0_off2457 v39574 (BitVec.ofNat 32 (980 + 5 * r.val))) a + S1x8x128.size a ≤ S1120x8x128.size a := fun v39574 k0_hw839 r => k0_hw839 r

def k0_off2458 (v39571 : BitVec 32) (c985_i32_16720 : BitVec 32) : Fin 3 → Nat :=
  let v39621 : BitVec 32 := Scalar.addi c985_i32_16720 v39571
  let v39622 : Index := Scalar.indexCast v39621
  let c0_16721 : Index := 0#32
  let c0_16722 : Index := 0#32
  ![v39622.toNat, 0, 0]

def k0_chk838 (v39571 : BitVec 32) : Prop :=
  (∀ a, (k0_off2456 v39571) a + S1x8x128.size a ≤ S1120x8x128.size a) ∧
  (∀ (r : Fin 6), ∀ a, (k0_off2458 v39571 (BitVec.ofNat 32 (985 + 5 * r.val))) a + S1x8x128.size a ≤ S1120x8x128.size a)
theorem k0_off2456_inb : ∀ (v39571 : BitVec 32) (k0_hw838 : k0_chk838 v39571), ∀ a, (k0_off2456 v39571) a + S1x8x128.size a ≤ S1120x8x128.size a := fun v39571 k0_hw838 => k0_hw838.1
theorem k0_off2458_inb : ∀ (v39571 : BitVec 32) (k0_hw838 : k0_chk838 v39571), ∀ (r : Fin 6), ∀ a, (k0_off2458 v39571 (BitVec.ofNat 32 (985 + 5 * r.val))) a + S1x8x128.size a ≤ S1120x8x128.size a := fun v39571 k0_hw838 r => k0_hw838.2 r

def k0_off2459 (i : grid0.Coords) : Fin 3 → Nat :=
  let arg0 : BitVec 32 := BitVec.ofNat 32 (i 0).val
  let v39729 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39730 : Index := Scalar.indexCast v38589
  let c28_16774 : Index := 28#32
  ![v39729.toNat, v39730.toNat, 28]
def k0_off2460 (i : grid0.Coords) : Fin 3 → Nat :=
  let arg0 : BitVec 32 := BitVec.ofNat 32 (i 0).val
  let v39732 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39733 : Index := Scalar.indexCast v38589
  let c35_16775 : Index := 35#32
  ![v39732.toNat, v39733.toNat, 35]
def k0_off2461 (i : grid0.Coords) : Fin 3 → Nat :=
  let arg0 : BitVec 32 := BitVec.ofNat 32 (i 0).val
  let v39735 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39736 : Index := Scalar.indexCast v38589
  let c42_16776 : Index := 42#32
  ![v39735.toNat, v39736.toNat, 42]
def k0_off2462 (i : grid0.Coords) : Fin 3 → Nat :=
  let arg0 : BitVec 32 := BitVec.ofNat 32 (i 0).val
  let v39738 : Index := Scalar.indexCast arg0
  let arg1 : BitVec 32 := BitVec.ofNat 32 (i 1).val
  let c32_i32_16290 : BitVec 32 := 32#32
  let v38588 : BitVec 32 := Scalar.muli arg1 c32_i32_16290
  let c28_i32 : BitVec 32 := 28#32
  let v38589 : BitVec 32 := Scalar.addi v38588 c28_i32
  let v39739 : Index := Scalar.indexCast v38589
  let c49_16777 : Index := 49#32
  ![v39738.toNat, v39739.toNat, 49]
def k0_off2463 (v39731 : BitVec 32) : Fin 3 → Nat :=
  let c980_i32_16782 : BitVec 32 := 980#32
  let v39763 : BitVec 32 := Scalar.addi c980_i32_16782 v39731
  let v39764 : Index := Scalar.indexCast v39763
  let c0_16783 : Index := 0#32
  let c0_16784 : Index := 0#32
  ![v39764.toNat, 0, 0]

def k0_off2464 (v39734 : BitVec 32) (c980_i32_16786 : BitVec 32) : Fin 3 → Nat :=
  let v39771 : BitVec 32 := Scalar.addi c980_i32_16786 v39734
  let v39772 : Index := Scalar.indexCast v39771
  let c0_16787 : Index := 0#32
  let c0_16788 : Index := 0#32
  ![v39772.toNat, 0, 0]

def k0_chk841 (v39734 : BitVec 32) : Prop :=
  (∀ (r : Fin 7), ∀ a, (k0_off2464 v39734 (BitVec.ofNat 32 (980 + 5 * r.val))) a + S1x8x128.size a ≤ S1120x8x128.size a)
theorem k0_off2464_inb : ∀ (v39734 : BitVec 32) (k0_hw841 : k0_chk841 v39734), ∀ (r : Fin 7), ∀ a, (k0_off2464 v39734 (BitVec.ofNat 32 (980 + 5 * r.val))) a + S1x8x128.size a ≤ S1120x8x128.size a := fun v39734 k0_hw841 r => k0_hw841 r

def k0_off2465 (v39731 : BitVec 32) (c985_i32_16791 : BitVec 32) : Fin 3 → Nat :=
  let v39781 : BitVec 32 := Scalar.addi c985_i32_16791 v39731
  let v39782 : Index := Scalar.indexCast v39781
  let c0_16792 : Index := 0#32
  let c0_16793 : Index := 0#32
  ![v39782.toNat, 0, 0]

def k0_chk840 (v39731 : BitVec 32) : Prop :=
  (∀ a, (k0_off2463 v39731) a + S1x8x128.size a ≤ S1120x8x128.size a) ∧
  (∀ (r : Fin 6), ∀ a, (k0_off2465 v39731 (BitVec.ofNat 32 (985 + 5 * r.val))) a + S1x8x128.size a ≤ S1120x8x128.size a)
theorem k0_off2463_inb : ∀ (v39731 : BitVec 32) (k0_hw840 : k0_chk840 v39731), ∀ a, (k0_off2463 v39731) a + S1x8x128.size a ≤ S1120x8x128.size a := fun v39731 k0_hw840 => k0_hw840.1
theorem k0_off2465_inb : ∀ (v39731 : BitVec 32) (k0_hw840 : k0_chk840 v39731), ∀ (r : Fin 6), ∀ a, (k0_off2465 v39731 (BitVec.ofNat 32 (985 + 5 * r.val))) a + S1x8x128.size a ≤ S1120x8x128.size a := fun v39731 k0_hw840 r => k0_hw840.2 r

def k0_off2466 (i : grid0.Coords) : Fin 3 → Nat :=
  let arg0 : BitVec 32 := BitVec.ofNat 32 (i 0).val
  let v39968 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v39969 : Index := Scalar.indexCast v39967
  let c0_16874 : Index := 0#32
  ![v39968.toNat, v39969.toNat, 0]
def k0_mult30 (v39970 : BitVec 32) : BitVec 32 :=
  v39970

def k0_chk842 (v39970 : BitVec 32) : Prop :=
  (8 ∣ (k0_mult30 v39970).toNat)
theorem k0_mult30_dvd : ∀ (v39970 : BitVec 32) (k0_hw842 : k0_chk842 v39970), 8 ∣ (k0_mult30 v39970).toNat := fun v39970 k0_hw842 => k0_hw842

def k0_off2467 (i : grid0.Coords) : Fin 3 → Nat :=
  let arg0 : BitVec 32 := BitVec.ofNat 32 (i 0).val
  let v39972 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v39973 : Index := Scalar.indexCast v39967
  let c1_16875 : Index := 1#32
  ![v39972.toNat, v39973.toNat, 1]
def k0_off2468 (v39970 : BitVec 32) (v39974 : BitVec 32) : Fin 3 → Nat :=
  let v39975 : Index := Scalar.indexCast v39974
  let v39971 : BitVec 32 := v39970
  let v39976 : Index := Scalar.indexCast v39971
  let c0_16876 : Index := 0#32
  ![v39975.toNat, v39976.toNat, 0]

def k0_chk843 (v39970 : BitVec 32) (v39974 : BitVec 32) : Prop :=
  (∀ a, (k0_off2468 v39970 v39974) a + S1x40x128.size a ≤ S256x64x128.size a)
theorem k0_off2468_inb : ∀ (v39970 : BitVec 32) (v39974 : BitVec 32) (k0_hw843 : k0_chk843 v39970 v39974), ∀ a, (k0_off2468 v39970 v39974) a + S1x40x128.size a ≤ S256x64x128.size a := fun v39970 v39974 k0_hw843 => k0_hw843

def k0_off2469 (i : grid0.Coords) : Fin 3 → Nat :=
  let arg0 : BitVec 32 := BitVec.ofNat 32 (i 0).val
  let v39979 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v39980 : Index := Scalar.indexCast v39967
  let c8_16877 : Index := 8#32
  ![v39979.toNat, v39980.toNat, 8]
def k0_off2470 (v39970 : BitVec 32) (v39981 : BitVec 32) : Fin 3 → Nat :=
  let v39982 : Index := Scalar.indexCast v39981
  let v39971 : BitVec 32 := v39970
  let v39983 : Index := Scalar.indexCast v39971
  let c0_16878 : Index := 0#32
  ![v39982.toNat, v39983.toNat, 0]

def k0_chk844 (v39970 : BitVec 32) (v39981 : BitVec 32) : Prop :=
  (∀ a, (k0_off2470 v39970 v39981) a + S1x40x128.size a ≤ S256x64x128.size a)
theorem k0_off2470_inb : ∀ (v39970 : BitVec 32) (v39981 : BitVec 32) (k0_hw844 : k0_chk844 v39970 v39981), ∀ a, (k0_off2470 v39970 v39981) a + S1x40x128.size a ≤ S256x64x128.size a := fun v39970 v39981 k0_hw844 => k0_hw844

def k0_off2471 (i : grid0.Coords) : Fin 3 → Nat :=
  let arg0 : BitVec 32 := BitVec.ofNat 32 (i 0).val
  let v39987 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v39988 : Index := Scalar.indexCast v39967
  let c15_16879 : Index := 15#32
  ![v39987.toNat, v39988.toNat, 15]
def k0_off2472 (i : grid0.Coords) : Fin 3 → Nat :=
  let arg0 : BitVec 32 := BitVec.ofNat 32 (i 0).val
  let v39997 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v39998 : Index := Scalar.indexCast v39967
  let c2_16884 : Index := 2#32
  ![v39997.toNat, v39998.toNat, 2]
def k0_off2473 (v39970 : BitVec 32) (v39999 : BitVec 32) : Fin 3 → Nat :=
  let v40000 : Index := Scalar.indexCast v39999
  let v39971 : BitVec 32 := v39970
  let v40001 : Index := Scalar.indexCast v39971
  let c0_16885 : Index := 0#32
  ![v40000.toNat, v40001.toNat, 0]

def k0_chk845 (v39970 : BitVec 32) (v39999 : BitVec 32) : Prop :=
  (∀ a, (k0_off2473 v39970 v39999) a + S1x40x128.size a ≤ S256x64x128.size a)
theorem k0_off2473_inb : ∀ (v39970 : BitVec 32) (v39999 : BitVec 32) (k0_hw845 : k0_chk845 v39970 v39999), ∀ a, (k0_off2473 v39970 v39999) a + S1x40x128.size a ≤ S256x64x128.size a := fun v39970 v39999 k0_hw845 => k0_hw845

def k0_off2474 (i : grid0.Coords) : Fin 3 → Nat :=
  let arg0 : BitVec 32 := BitVec.ofNat 32 (i 0).val
  let v40004 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40005 : Index := Scalar.indexCast v39967
  let c9_16886 : Index := 9#32
  ![v40004.toNat, v40005.toNat, 9]
def k0_off2475 (v39970 : BitVec 32) (v40006 : BitVec 32) : Fin 3 → Nat :=
  let v40007 : Index := Scalar.indexCast v40006
  let v39971 : BitVec 32 := v39970
  let v40008 : Index := Scalar.indexCast v39971
  let c0_16887 : Index := 0#32
  ![v40007.toNat, v40008.toNat, 0]

def k0_chk846 (v39970 : BitVec 32) (v40006 : BitVec 32) : Prop :=
  (∀ a, (k0_off2475 v39970 v40006) a + S1x40x128.size a ≤ S256x64x128.size a)
theorem k0_off2475_inb : ∀ (v39970 : BitVec 32) (v40006 : BitVec 32) (k0_hw846 : k0_chk846 v39970 v40006), ∀ a, (k0_off2475 v39970 v40006) a + S1x40x128.size a ≤ S256x64x128.size a := fun v39970 v40006 k0_hw846 => k0_hw846

def k0_off2476 (i : grid0.Coords) : Fin 3 → Nat :=
  let arg0 : BitVec 32 := BitVec.ofNat 32 (i 0).val
  let v40012 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40013 : Index := Scalar.indexCast v39967
  let c16_16888 : Index := 16#32
  ![v40012.toNat, v40013.toNat, 16]
def k0_off2477 (i : grid0.Coords) : Fin 3 → Nat :=
  let arg0 : BitVec 32 := BitVec.ofNat 32 (i 0).val
  let v40022 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40023 : Index := Scalar.indexCast v39967
  let c3_16893 : Index := 3#32
  ![v40022.toNat, v40023.toNat, 3]
def k0_off2478 (v39970 : BitVec 32) (v40024 : BitVec 32) : Fin 3 → Nat :=
  let v40025 : Index := Scalar.indexCast v40024
  let v39971 : BitVec 32 := v39970
  let v40026 : Index := Scalar.indexCast v39971
  let c0_16894 : Index := 0#32
  ![v40025.toNat, v40026.toNat, 0]

def k0_chk847 (v39970 : BitVec 32) (v40024 : BitVec 32) : Prop :=
  (∀ a, (k0_off2478 v39970 v40024) a + S1x40x128.size a ≤ S256x64x128.size a)
theorem k0_off2478_inb : ∀ (v39970 : BitVec 32) (v40024 : BitVec 32) (k0_hw847 : k0_chk847 v39970 v40024), ∀ a, (k0_off2478 v39970 v40024) a + S1x40x128.size a ≤ S256x64x128.size a := fun v39970 v40024 k0_hw847 => k0_hw847

def k0_off2479 (i : grid0.Coords) : Fin 3 → Nat :=
  let arg0 : BitVec 32 := BitVec.ofNat 32 (i 0).val
  let v40029 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40030 : Index := Scalar.indexCast v39967
  let c10_16895 : Index := 10#32
  ![v40029.toNat, v40030.toNat, 10]
def k0_off2480 (v39970 : BitVec 32) (v40031 : BitVec 32) : Fin 3 → Nat :=
  let v40032 : Index := Scalar.indexCast v40031
  let v39971 : BitVec 32 := v39970
  let v40033 : Index := Scalar.indexCast v39971
  let c0_16896 : Index := 0#32
  ![v40032.toNat, v40033.toNat, 0]

def k0_chk848 (v39970 : BitVec 32) (v40031 : BitVec 32) : Prop :=
  (∀ a, (k0_off2480 v39970 v40031) a + S1x40x128.size a ≤ S256x64x128.size a)
theorem k0_off2480_inb : ∀ (v39970 : BitVec 32) (v40031 : BitVec 32) (k0_hw848 : k0_chk848 v39970 v40031), ∀ a, (k0_off2480 v39970 v40031) a + S1x40x128.size a ≤ S256x64x128.size a := fun v39970 v40031 k0_hw848 => k0_hw848

def k0_off2481 (i : grid0.Coords) : Fin 3 → Nat :=
  let arg0 : BitVec 32 := BitVec.ofNat 32 (i 0).val
  let v40037 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40038 : Index := Scalar.indexCast v39967
  let c17_16897 : Index := 17#32
  ![v40037.toNat, v40038.toNat, 17]
def k0_off2482 (i : grid0.Coords) : Fin 3 → Nat :=
  let arg0 : BitVec 32 := BitVec.ofNat 32 (i 0).val
  let v40047 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40048 : Index := Scalar.indexCast v39967
  let c4_16902 : Index := 4#32
  ![v40047.toNat, v40048.toNat, 4]
def k0_off2483 (v39970 : BitVec 32) (v40049 : BitVec 32) : Fin 3 → Nat :=
  let v40050 : Index := Scalar.indexCast v40049
  let v39971 : BitVec 32 := v39970
  let v40051 : Index := Scalar.indexCast v39971
  let c0_16903 : Index := 0#32
  ![v40050.toNat, v40051.toNat, 0]

def k0_chk849 (v39970 : BitVec 32) (v40049 : BitVec 32) : Prop :=
  (∀ a, (k0_off2483 v39970 v40049) a + S1x40x128.size a ≤ S256x64x128.size a)
theorem k0_off2483_inb : ∀ (v39970 : BitVec 32) (v40049 : BitVec 32) (k0_hw849 : k0_chk849 v39970 v40049), ∀ a, (k0_off2483 v39970 v40049) a + S1x40x128.size a ≤ S256x64x128.size a := fun v39970 v40049 k0_hw849 => k0_hw849

def k0_off2484 (i : grid0.Coords) : Fin 3 → Nat :=
  let arg0 : BitVec 32 := BitVec.ofNat 32 (i 0).val
  let v40054 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40055 : Index := Scalar.indexCast v39967
  let c11_16904 : Index := 11#32
  ![v40054.toNat, v40055.toNat, 11]
def k0_off2485 (v39970 : BitVec 32) (v40056 : BitVec 32) : Fin 3 → Nat :=
  let v40057 : Index := Scalar.indexCast v40056
  let v39971 : BitVec 32 := v39970
  let v40058 : Index := Scalar.indexCast v39971
  let c0_16905 : Index := 0#32
  ![v40057.toNat, v40058.toNat, 0]

def k0_chk850 (v39970 : BitVec 32) (v40056 : BitVec 32) : Prop :=
  (∀ a, (k0_off2485 v39970 v40056) a + S1x40x128.size a ≤ S256x64x128.size a)
theorem k0_off2485_inb : ∀ (v39970 : BitVec 32) (v40056 : BitVec 32) (k0_hw850 : k0_chk850 v39970 v40056), ∀ a, (k0_off2485 v39970 v40056) a + S1x40x128.size a ≤ S256x64x128.size a := fun v39970 v40056 k0_hw850 => k0_hw850

def k0_off2486 (i : grid0.Coords) : Fin 3 → Nat :=
  let arg0 : BitVec 32 := BitVec.ofNat 32 (i 0).val
  let v40062 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40063 : Index := Scalar.indexCast v39967
  let c18_16906 : Index := 18#32
  ![v40062.toNat, v40063.toNat, 18]
def k0_off2487 (i : grid0.Coords) : Fin 3 → Nat :=
  let arg0 : BitVec 32 := BitVec.ofNat 32 (i 0).val
  let v40072 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40073 : Index := Scalar.indexCast v39967
  let c5_16911 : Index := 5#32
  ![v40072.toNat, v40073.toNat, 5]
def k0_off2488 (v39970 : BitVec 32) (v40074 : BitVec 32) : Fin 3 → Nat :=
  let v40075 : Index := Scalar.indexCast v40074
  let v39971 : BitVec 32 := v39970
  let v40076 : Index := Scalar.indexCast v39971
  let c0_16912 : Index := 0#32
  ![v40075.toNat, v40076.toNat, 0]

def k0_chk851 (v39970 : BitVec 32) (v40074 : BitVec 32) : Prop :=
  (∀ a, (k0_off2488 v39970 v40074) a + S1x40x128.size a ≤ S256x64x128.size a)
theorem k0_off2488_inb : ∀ (v39970 : BitVec 32) (v40074 : BitVec 32) (k0_hw851 : k0_chk851 v39970 v40074), ∀ a, (k0_off2488 v39970 v40074) a + S1x40x128.size a ≤ S256x64x128.size a := fun v39970 v40074 k0_hw851 => k0_hw851

def k0_off2489 (i : grid0.Coords) : Fin 3 → Nat :=
  let arg0 : BitVec 32 := BitVec.ofNat 32 (i 0).val
  let v40079 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40080 : Index := Scalar.indexCast v39967
  let c12_16913 : Index := 12#32
  ![v40079.toNat, v40080.toNat, 12]
def k0_off2490 (v39970 : BitVec 32) (v40081 : BitVec 32) : Fin 3 → Nat :=
  let v40082 : Index := Scalar.indexCast v40081
  let v39971 : BitVec 32 := v39970
  let v40083 : Index := Scalar.indexCast v39971
  let c0_16914 : Index := 0#32
  ![v40082.toNat, v40083.toNat, 0]

def k0_chk852 (v39970 : BitVec 32) (v40081 : BitVec 32) : Prop :=
  (∀ a, (k0_off2490 v39970 v40081) a + S1x40x128.size a ≤ S256x64x128.size a)
theorem k0_off2490_inb : ∀ (v39970 : BitVec 32) (v40081 : BitVec 32) (k0_hw852 : k0_chk852 v39970 v40081), ∀ a, (k0_off2490 v39970 v40081) a + S1x40x128.size a ≤ S256x64x128.size a := fun v39970 v40081 k0_hw852 => k0_hw852

def k0_off2491 (i : grid0.Coords) : Fin 3 → Nat :=
  let arg0 : BitVec 32 := BitVec.ofNat 32 (i 0).val
  let v40087 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40088 : Index := Scalar.indexCast v39967
  let c19_16915 : Index := 19#32
  ![v40087.toNat, v40088.toNat, 19]
def k0_off2492 (i : grid0.Coords) : Fin 3 → Nat :=
  let arg0 : BitVec 32 := BitVec.ofNat 32 (i 0).val
  let v40097 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40098 : Index := Scalar.indexCast v39967
  let c6_16920 : Index := 6#32
  ![v40097.toNat, v40098.toNat, 6]
def k0_off2493 (v39970 : BitVec 32) (v40099 : BitVec 32) : Fin 3 → Nat :=
  let v40100 : Index := Scalar.indexCast v40099
  let v39971 : BitVec 32 := v39970
  let v40101 : Index := Scalar.indexCast v39971
  let c0_16921 : Index := 0#32
  ![v40100.toNat, v40101.toNat, 0]

def k0_chk853 (v39970 : BitVec 32) (v40099 : BitVec 32) : Prop :=
  (∀ a, (k0_off2493 v39970 v40099) a + S1x40x128.size a ≤ S256x64x128.size a)
theorem k0_off2493_inb : ∀ (v39970 : BitVec 32) (v40099 : BitVec 32) (k0_hw853 : k0_chk853 v39970 v40099), ∀ a, (k0_off2493 v39970 v40099) a + S1x40x128.size a ≤ S256x64x128.size a := fun v39970 v40099 k0_hw853 => k0_hw853

def k0_off2494 (i : grid0.Coords) : Fin 3 → Nat :=
  let arg0 : BitVec 32 := BitVec.ofNat 32 (i 0).val
  let v40104 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40105 : Index := Scalar.indexCast v39967
  let c13_16922 : Index := 13#32
  ![v40104.toNat, v40105.toNat, 13]
def k0_off2495 (v39970 : BitVec 32) (v40106 : BitVec 32) : Fin 3 → Nat :=
  let v40107 : Index := Scalar.indexCast v40106
  let v39971 : BitVec 32 := v39970
  let v40108 : Index := Scalar.indexCast v39971
  let c0_16923 : Index := 0#32
  ![v40107.toNat, v40108.toNat, 0]

def k0_chk854 (v39970 : BitVec 32) (v40106 : BitVec 32) : Prop :=
  (∀ a, (k0_off2495 v39970 v40106) a + S1x40x128.size a ≤ S256x64x128.size a)
theorem k0_off2495_inb : ∀ (v39970 : BitVec 32) (v40106 : BitVec 32) (k0_hw854 : k0_chk854 v39970 v40106), ∀ a, (k0_off2495 v39970 v40106) a + S1x40x128.size a ≤ S256x64x128.size a := fun v39970 v40106 k0_hw854 => k0_hw854

def k0_off2496 (i : grid0.Coords) : Fin 3 → Nat :=
  let arg0 : BitVec 32 := BitVec.ofNat 32 (i 0).val
  let v40112 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40113 : Index := Scalar.indexCast v39967
  let c20_16924 : Index := 20#32
  ![v40112.toNat, v40113.toNat, 20]
def k0_off2497 (i : grid0.Coords) : Fin 3 → Nat :=
  let arg0 : BitVec 32 := BitVec.ofNat 32 (i 0).val
  let v40122 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40123 : Index := Scalar.indexCast v39967
  let c7_16929 : Index := 7#32
  ![v40122.toNat, v40123.toNat, 7]
def k0_off2498 (v39970 : BitVec 32) (v40124 : BitVec 32) : Fin 3 → Nat :=
  let v40125 : Index := Scalar.indexCast v40124
  let v39971 : BitVec 32 := v39970
  let v40126 : Index := Scalar.indexCast v39971
  let c0_16930 : Index := 0#32
  ![v40125.toNat, v40126.toNat, 0]

def k0_chk855 (v39970 : BitVec 32) (v40124 : BitVec 32) : Prop :=
  (∀ a, (k0_off2498 v39970 v40124) a + S1x40x128.size a ≤ S256x64x128.size a)
theorem k0_off2498_inb : ∀ (v39970 : BitVec 32) (v40124 : BitVec 32) (k0_hw855 : k0_chk855 v39970 v40124), ∀ a, (k0_off2498 v39970 v40124) a + S1x40x128.size a ≤ S256x64x128.size a := fun v39970 v40124 k0_hw855 => k0_hw855

def k0_off2499 (i : grid0.Coords) : Fin 3 → Nat :=
  let arg0 : BitVec 32 := BitVec.ofNat 32 (i 0).val
  let v40129 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40130 : Index := Scalar.indexCast v39967
  let c14_16931 : Index := 14#32
  ![v40129.toNat, v40130.toNat, 14]
def k0_off2500 (v39970 : BitVec 32) (v40131 : BitVec 32) : Fin 3 → Nat :=
  let v40132 : Index := Scalar.indexCast v40131
  let v39971 : BitVec 32 := v39970
  let v40133 : Index := Scalar.indexCast v39971
  let c0_16932 : Index := 0#32
  ![v40132.toNat, v40133.toNat, 0]

def k0_chk856 (v39970 : BitVec 32) (v40131 : BitVec 32) : Prop :=
  (∀ a, (k0_off2500 v39970 v40131) a + S1x40x128.size a ≤ S256x64x128.size a)
theorem k0_off2500_inb : ∀ (v39970 : BitVec 32) (v40131 : BitVec 32) (k0_hw856 : k0_chk856 v39970 v40131), ∀ a, (k0_off2500 v39970 v40131) a + S1x40x128.size a ≤ S256x64x128.size a := fun v39970 v40131 k0_hw856 => k0_hw856

def k0_off2501 (i : grid0.Coords) : Fin 3 → Nat :=
  let arg0 : BitVec 32 := BitVec.ofNat 32 (i 0).val
  let v40137 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40138 : Index := Scalar.indexCast v39967
  let c21_16933 : Index := 21#32
  ![v40137.toNat, v40138.toNat, 21]
def k0_off2502 (i : grid0.Coords) : Fin 3 → Nat :=
  let arg0 : BitVec 32 := BitVec.ofNat 32 (i 0).val
  let v40147 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40148 : Index := Scalar.indexCast v39967
  let c22_16938 : Index := 22#32
  ![v40147.toNat, v40148.toNat, 22]
def k0_off2503 (i : grid0.Coords) : Fin 3 → Nat :=
  let arg0 : BitVec 32 := BitVec.ofNat 32 (i 0).val
  let v40150 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40151 : Index := Scalar.indexCast v39967
  let c29_16939 : Index := 29#32
  ![v40150.toNat, v40151.toNat, 29]
def k0_off2504 (i : grid0.Coords) : Fin 3 → Nat :=
  let arg0 : BitVec 32 := BitVec.ofNat 32 (i 0).val
  let v40153 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40154 : Index := Scalar.indexCast v39967
  let c36_16940 : Index := 36#32
  ![v40153.toNat, v40154.toNat, 36]
def k0_off2505 (i : grid0.Coords) : Fin 3 → Nat :=
  let arg0 : BitVec 32 := BitVec.ofNat 32 (i 0).val
  let v40156 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40157 : Index := Scalar.indexCast v39967
  let c43_16941 : Index := 43#32
  ![v40156.toNat, v40157.toNat, 43]
def k0_off2506 (v40149 : BitVec 32) : Fin 3 → Nat :=
  let c1015_i32 : BitVec 32 := 1015#32
  let v40181 : BitVec 32 := Scalar.addi c1015_i32 v40149
  let v40182 : Index := Scalar.indexCast v40181
  let c0_16946 : Index := 0#32
  let c0_16947 : Index := 0#32
  ![v40182.toNat, 0, 0]

def k0_off2507 (v40152 : BitVec 32) (c1015_i32_16949 : BitVec 32) : Fin 3 → Nat :=
  let v40189 : BitVec 32 := Scalar.addi c1015_i32_16949 v40152
  let v40190 : Index := Scalar.indexCast v40189
  let c0_16950 : Index := 0#32
  let c0_16951 : Index := 0#32
  ![v40190.toNat, 0, 0]

def k0_chk858 (v40152 : BitVec 32) : Prop :=
  (∀ (r : Fin 7), ∀ a, (k0_off2507 v40152 (BitVec.ofNat 32 (1015 + 5 * r.val))) a + S1x8x128.size a ≤ S1120x8x128.size a)
theorem k0_off2507_inb : ∀ (v40152 : BitVec 32) (k0_hw858 : k0_chk858 v40152), ∀ (r : Fin 7), ∀ a, (k0_off2507 v40152 (BitVec.ofNat 32 (1015 + 5 * r.val))) a + S1x8x128.size a ≤ S1120x8x128.size a := fun v40152 k0_hw858 r => k0_hw858 r

def k0_off2508 (v40149 : BitVec 32) (c1020_i32 : BitVec 32) : Fin 3 → Nat :=
  let v40199 : BitVec 32 := Scalar.addi c1020_i32 v40149
  let v40200 : Index := Scalar.indexCast v40199
  let c0_16954 : Index := 0#32
  let c0_16955 : Index := 0#32
  ![v40200.toNat, 0, 0]

def k0_chk857 (v40149 : BitVec 32) : Prop :=
  (∀ a, (k0_off2506 v40149) a + S1x8x128.size a ≤ S1120x8x128.size a) ∧
  (∀ (r : Fin 6), ∀ a, (k0_off2508 v40149 (BitVec.ofNat 32 (1020 + 5 * r.val))) a + S1x8x128.size a ≤ S1120x8x128.size a)
theorem k0_off2506_inb : ∀ (v40149 : BitVec 32) (k0_hw857 : k0_chk857 v40149), ∀ a, (k0_off2506 v40149) a + S1x8x128.size a ≤ S1120x8x128.size a := fun v40149 k0_hw857 => k0_hw857.1
theorem k0_off2508_inb : ∀ (v40149 : BitVec 32) (k0_hw857 : k0_chk857 v40149), ∀ (r : Fin 6), ∀ a, (k0_off2508 v40149 (BitVec.ofNat 32 (1020 + 5 * r.val))) a + S1x8x128.size a ≤ S1120x8x128.size a := fun v40149 k0_hw857 r => k0_hw857.2 r

def k0_off2509 (i : grid0.Coords) : Fin 3 → Nat :=
  let arg0 : BitVec 32 := BitVec.ofNat 32 (i 0).val
  let v40307 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40308 : Index := Scalar.indexCast v39967
  let c23_17002 : Index := 23#32
  ![v40307.toNat, v40308.toNat, 23]
def k0_off2510 (i : grid0.Coords) : Fin 3 → Nat :=
  let arg0 : BitVec 32 := BitVec.ofNat 32 (i 0).val
  let v40310 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40311 : Index := Scalar.indexCast v39967
  let c30_17003 : Index := 30#32
  ![v40310.toNat, v40311.toNat, 30]
def k0_off2511 (i : grid0.Coords) : Fin 3 → Nat :=
  let arg0 : BitVec 32 := BitVec.ofNat 32 (i 0).val
  let v40313 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40314 : Index := Scalar.indexCast v39967
  let c37_17004 : Index := 37#32
  ![v40313.toNat, v40314.toNat, 37]
def k0_off2512 (i : grid0.Coords) : Fin 3 → Nat :=
  let arg0 : BitVec 32 := BitVec.ofNat 32 (i 0).val
  let v40316 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40317 : Index := Scalar.indexCast v39967
  let c44_17005 : Index := 44#32
  ![v40316.toNat, v40317.toNat, 44]
def k0_off2513 (v40309 : BitVec 32) : Fin 3 → Nat :=
  let c1015_i32_17010 : BitVec 32 := 1015#32
  let v40341 : BitVec 32 := Scalar.addi c1015_i32_17010 v40309
  let v40342 : Index := Scalar.indexCast v40341
  let c0_17011 : Index := 0#32
  let c0_17012 : Index := 0#32
  ![v40342.toNat, 0, 0]

def k0_off2514 (v40312 : BitVec 32) (c1015_i32_17014 : BitVec 32) : Fin 3 → Nat :=
  let v40349 : BitVec 32 := Scalar.addi c1015_i32_17014 v40312
  let v40350 : Index := Scalar.indexCast v40349
  let c0_17015 : Index := 0#32
  let c0_17016 : Index := 0#32
  ![v40350.toNat, 0, 0]

def k0_chk860 (v40312 : BitVec 32) : Prop :=
  (∀ (r : Fin 7), ∀ a, (k0_off2514 v40312 (BitVec.ofNat 32 (1015 + 5 * r.val))) a + S1x8x128.size a ≤ S1120x8x128.size a)
theorem k0_off2514_inb : ∀ (v40312 : BitVec 32) (k0_hw860 : k0_chk860 v40312), ∀ (r : Fin 7), ∀ a, (k0_off2514 v40312 (BitVec.ofNat 32 (1015 + 5 * r.val))) a + S1x8x128.size a ≤ S1120x8x128.size a := fun v40312 k0_hw860 r => k0_hw860 r

def k0_off2515 (v40309 : BitVec 32) (c1020_i32_17019 : BitVec 32) : Fin 3 → Nat :=
  let v40359 : BitVec 32 := Scalar.addi c1020_i32_17019 v40309
  let v40360 : Index := Scalar.indexCast v40359
  let c0_17020 : Index := 0#32
  let c0_17021 : Index := 0#32
  ![v40360.toNat, 0, 0]

def k0_chk859 (v40309 : BitVec 32) : Prop :=
  (∀ a, (k0_off2513 v40309) a + S1x8x128.size a ≤ S1120x8x128.size a) ∧
  (∀ (r : Fin 6), ∀ a, (k0_off2515 v40309 (BitVec.ofNat 32 (1020 + 5 * r.val))) a + S1x8x128.size a ≤ S1120x8x128.size a)
theorem k0_off2513_inb : ∀ (v40309 : BitVec 32) (k0_hw859 : k0_chk859 v40309), ∀ a, (k0_off2513 v40309) a + S1x8x128.size a ≤ S1120x8x128.size a := fun v40309 k0_hw859 => k0_hw859.1
theorem k0_off2515_inb : ∀ (v40309 : BitVec 32) (k0_hw859 : k0_chk859 v40309), ∀ (r : Fin 6), ∀ a, (k0_off2515 v40309 (BitVec.ofNat 32 (1020 + 5 * r.val))) a + S1x8x128.size a ≤ S1120x8x128.size a := fun v40309 k0_hw859 r => k0_hw859.2 r

def k0_off2516 (i : grid0.Coords) : Fin 3 → Nat :=
  let arg0 : BitVec 32 := BitVec.ofNat 32 (i 0).val
  let v40467 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40468 : Index := Scalar.indexCast v39967
  let c24_17073 : Index := 24#32
  ![v40467.toNat, v40468.toNat, 24]
def k0_off2517 (i : grid0.Coords) : Fin 3 → Nat :=
  let arg0 : BitVec 32 := BitVec.ofNat 32 (i 0).val
  let v40470 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40471 : Index := Scalar.indexCast v39967
  let c31_17074 : Index := 31#32
  ![v40470.toNat, v40471.toNat, 31]
def k0_off2518 (i : grid0.Coords) : Fin 3 → Nat :=
  let arg0 : BitVec 32 := BitVec.ofNat 32 (i 0).val
  let v40473 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40474 : Index := Scalar.indexCast v39967
  let c38_17075 : Index := 38#32
  ![v40473.toNat, v40474.toNat, 38]
def k0_off2519 (i : grid0.Coords) : Fin 3 → Nat :=
  let arg0 : BitVec 32 := BitVec.ofNat 32 (i 0).val
  let v40476 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40477 : Index := Scalar.indexCast v39967
  let c45_17076 : Index := 45#32
  ![v40476.toNat, v40477.toNat, 45]
def k0_off2520 (v40469 : BitVec 32) : Fin 3 → Nat :=
  let c1015_i32_17081 : BitVec 32 := 1015#32
  let v40501 : BitVec 32 := Scalar.addi c1015_i32_17081 v40469
  let v40502 : Index := Scalar.indexCast v40501
  let c0_17082 : Index := 0#32
  let c0_17083 : Index := 0#32
  ![v40502.toNat, 0, 0]

def k0_off2521 (v40472 : BitVec 32) (c1015_i32_17085 : BitVec 32) : Fin 3 → Nat :=
  let v40509 : BitVec 32 := Scalar.addi c1015_i32_17085 v40472
  let v40510 : Index := Scalar.indexCast v40509
  let c0_17086 : Index := 0#32
  let c0_17087 : Index := 0#32
  ![v40510.toNat, 0, 0]

def k0_chk862 (v40472 : BitVec 32) : Prop :=
  (∀ (r : Fin 7), ∀ a, (k0_off2521 v40472 (BitVec.ofNat 32 (1015 + 5 * r.val))) a + S1x8x128.size a ≤ S1120x8x128.size a)
theorem k0_off2521_inb : ∀ (v40472 : BitVec 32) (k0_hw862 : k0_chk862 v40472), ∀ (r : Fin 7), ∀ a, (k0_off2521 v40472 (BitVec.ofNat 32 (1015 + 5 * r.val))) a + S1x8x128.size a ≤ S1120x8x128.size a := fun v40472 k0_hw862 r => k0_hw862 r

def k0_off2522 (v40469 : BitVec 32) (c1020_i32_17090 : BitVec 32) : Fin 3 → Nat :=
  let v40519 : BitVec 32 := Scalar.addi c1020_i32_17090 v40469
  let v40520 : Index := Scalar.indexCast v40519
  let c0_17091 : Index := 0#32
  let c0_17092 : Index := 0#32
  ![v40520.toNat, 0, 0]

def k0_chk861 (v40469 : BitVec 32) : Prop :=
  (∀ a, (k0_off2520 v40469) a + S1x8x128.size a ≤ S1120x8x128.size a) ∧
  (∀ (r : Fin 6), ∀ a, (k0_off2522 v40469 (BitVec.ofNat 32 (1020 + 5 * r.val))) a + S1x8x128.size a ≤ S1120x8x128.size a)
theorem k0_off2520_inb : ∀ (v40469 : BitVec 32) (k0_hw861 : k0_chk861 v40469), ∀ a, (k0_off2520 v40469) a + S1x8x128.size a ≤ S1120x8x128.size a := fun v40469 k0_hw861 => k0_hw861.1
theorem k0_off2522_inb : ∀ (v40469 : BitVec 32) (k0_hw861 : k0_chk861 v40469), ∀ (r : Fin 6), ∀ a, (k0_off2522 v40469 (BitVec.ofNat 32 (1020 + 5 * r.val))) a + S1x8x128.size a ≤ S1120x8x128.size a := fun v40469 k0_hw861 r => k0_hw861.2 r

def k0_off2523 (i : grid0.Coords) : Fin 3 → Nat :=
  let arg0 : BitVec 32 := BitVec.ofNat 32 (i 0).val
  let v40627 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40628 : Index := Scalar.indexCast v39967
  let c25_17144 : Index := 25#32
  ![v40627.toNat, v40628.toNat, 25]
def k0_off2524 (i : grid0.Coords) : Fin 3 → Nat :=
  let arg0 : BitVec 32 := BitVec.ofNat 32 (i 0).val
  let v40630 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40631 : Index := Scalar.indexCast v39967
  let c32_17145 : Index := 32#32
  ![v40630.toNat, v40631.toNat, 32]
def k0_off2525 (i : grid0.Coords) : Fin 3 → Nat :=
  let arg0 : BitVec 32 := BitVec.ofNat 32 (i 0).val
  let v40633 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40634 : Index := Scalar.indexCast v39967
  let c39_17146 : Index := 39#32
  ![v40633.toNat, v40634.toNat, 39]
def k0_off2526 (i : grid0.Coords) : Fin 3 → Nat :=
  let arg0 : BitVec 32 := BitVec.ofNat 32 (i 0).val
  let v40636 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40637 : Index := Scalar.indexCast v39967
  let c46_17147 : Index := 46#32
  ![v40636.toNat, v40637.toNat, 46]
def k0_off2527 (v40629 : BitVec 32) : Fin 3 → Nat :=
  let c1015_i32_17152 : BitVec 32 := 1015#32
  let v40661 : BitVec 32 := Scalar.addi c1015_i32_17152 v40629
  let v40662 : Index := Scalar.indexCast v40661
  let c0_17153 : Index := 0#32
  let c0_17154 : Index := 0#32
  ![v40662.toNat, 0, 0]

def k0_off2528 (v40632 : BitVec 32) (c1015_i32_17156 : BitVec 32) : Fin 3 → Nat :=
  let v40669 : BitVec 32 := Scalar.addi c1015_i32_17156 v40632
  let v40670 : Index := Scalar.indexCast v40669
  let c0_17157 : Index := 0#32
  let c0_17158 : Index := 0#32
  ![v40670.toNat, 0, 0]

def k0_chk864 (v40632 : BitVec 32) : Prop :=
  (∀ (r : Fin 7), ∀ a, (k0_off2528 v40632 (BitVec.ofNat 32 (1015 + 5 * r.val))) a + S1x8x128.size a ≤ S1120x8x128.size a)
theorem k0_off2528_inb : ∀ (v40632 : BitVec 32) (k0_hw864 : k0_chk864 v40632), ∀ (r : Fin 7), ∀ a, (k0_off2528 v40632 (BitVec.ofNat 32 (1015 + 5 * r.val))) a + S1x8x128.size a ≤ S1120x8x128.size a := fun v40632 k0_hw864 r => k0_hw864 r

def k0_off2529 (v40629 : BitVec 32) (c1020_i32_17161 : BitVec 32) : Fin 3 → Nat :=
  let v40679 : BitVec 32 := Scalar.addi c1020_i32_17161 v40629
  let v40680 : Index := Scalar.indexCast v40679
  let c0_17162 : Index := 0#32
  let c0_17163 : Index := 0#32
  ![v40680.toNat, 0, 0]

def k0_chk863 (v40629 : BitVec 32) : Prop :=
  (∀ a, (k0_off2527 v40629) a + S1x8x128.size a ≤ S1120x8x128.size a) ∧
  (∀ (r : Fin 6), ∀ a, (k0_off2529 v40629 (BitVec.ofNat 32 (1020 + 5 * r.val))) a + S1x8x128.size a ≤ S1120x8x128.size a)
theorem k0_off2527_inb : ∀ (v40629 : BitVec 32) (k0_hw863 : k0_chk863 v40629), ∀ a, (k0_off2527 v40629) a + S1x8x128.size a ≤ S1120x8x128.size a := fun v40629 k0_hw863 => k0_hw863.1
theorem k0_off2529_inb : ∀ (v40629 : BitVec 32) (k0_hw863 : k0_chk863 v40629), ∀ (r : Fin 6), ∀ a, (k0_off2529 v40629 (BitVec.ofNat 32 (1020 + 5 * r.val))) a + S1x8x128.size a ≤ S1120x8x128.size a := fun v40629 k0_hw863 r => k0_hw863.2 r

def k0_off2530 (i : grid0.Coords) : Fin 3 → Nat :=
  let arg0 : BitVec 32 := BitVec.ofNat 32 (i 0).val
  let v40787 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40788 : Index := Scalar.indexCast v39967
  let c26_17215 : Index := 26#32
  ![v40787.toNat, v40788.toNat, 26]
def k0_off2531 (i : grid0.Coords) : Fin 3 → Nat :=
  let arg0 : BitVec 32 := BitVec.ofNat 32 (i 0).val
  let v40790 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40791 : Index := Scalar.indexCast v39967
  let c33_17216 : Index := 33#32
  ![v40790.toNat, v40791.toNat, 33]
def k0_off2532 (i : grid0.Coords) : Fin 3 → Nat :=
  let arg0 : BitVec 32 := BitVec.ofNat 32 (i 0).val
  let v40793 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40794 : Index := Scalar.indexCast v39967
  let c40_17217 : Index := 40#32
  ![v40793.toNat, v40794.toNat, 40]
def k0_off2533 (i : grid0.Coords) : Fin 3 → Nat :=
  let arg0 : BitVec 32 := BitVec.ofNat 32 (i 0).val
  let v40796 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40797 : Index := Scalar.indexCast v39967
  let c47_17218 : Index := 47#32
  ![v40796.toNat, v40797.toNat, 47]
def k0_off2534 (v40789 : BitVec 32) : Fin 3 → Nat :=
  let c1015_i32_17223 : BitVec 32 := 1015#32
  let v40821 : BitVec 32 := Scalar.addi c1015_i32_17223 v40789
  let v40822 : Index := Scalar.indexCast v40821
  let c0_17224 : Index := 0#32
  let c0_17225 : Index := 0#32
  ![v40822.toNat, 0, 0]

def k0_off2535 (v40792 : BitVec 32) (c1015_i32_17227 : BitVec 32) : Fin 3 → Nat :=
  let v40829 : BitVec 32 := Scalar.addi c1015_i32_17227 v40792
  let v40830 : Index := Scalar.indexCast v40829
  let c0_17228 : Index := 0#32
  let c0_17229 : Index := 0#32
  ![v40830.toNat, 0, 0]

def k0_chk866 (v40792 : BitVec 32) : Prop :=
  (∀ (r : Fin 7), ∀ a, (k0_off2535 v40792 (BitVec.ofNat 32 (1015 + 5 * r.val))) a + S1x8x128.size a ≤ S1120x8x128.size a)
theorem k0_off2535_inb : ∀ (v40792 : BitVec 32) (k0_hw866 : k0_chk866 v40792), ∀ (r : Fin 7), ∀ a, (k0_off2535 v40792 (BitVec.ofNat 32 (1015 + 5 * r.val))) a + S1x8x128.size a ≤ S1120x8x128.size a := fun v40792 k0_hw866 r => k0_hw866 r

def k0_off2536 (v40789 : BitVec 32) (c1020_i32_17232 : BitVec 32) : Fin 3 → Nat :=
  let v40839 : BitVec 32 := Scalar.addi c1020_i32_17232 v40789
  let v40840 : Index := Scalar.indexCast v40839
  let c0_17233 : Index := 0#32
  let c0_17234 : Index := 0#32
  ![v40840.toNat, 0, 0]

def k0_chk865 (v40789 : BitVec 32) : Prop :=
  (∀ a, (k0_off2534 v40789) a + S1x8x128.size a ≤ S1120x8x128.size a) ∧
  (∀ (r : Fin 6), ∀ a, (k0_off2536 v40789 (BitVec.ofNat 32 (1020 + 5 * r.val))) a + S1x8x128.size a ≤ S1120x8x128.size a)
theorem k0_off2534_inb : ∀ (v40789 : BitVec 32) (k0_hw865 : k0_chk865 v40789), ∀ a, (k0_off2534 v40789) a + S1x8x128.size a ≤ S1120x8x128.size a := fun v40789 k0_hw865 => k0_hw865.1
theorem k0_off2536_inb : ∀ (v40789 : BitVec 32) (k0_hw865 : k0_chk865 v40789), ∀ (r : Fin 6), ∀ a, (k0_off2536 v40789 (BitVec.ofNat 32 (1020 + 5 * r.val))) a + S1x8x128.size a ≤ S1120x8x128.size a := fun v40789 k0_hw865 r => k0_hw865.2 r

def k0_off2537 (i : grid0.Coords) : Fin 3 → Nat :=
  let arg0 : BitVec 32 := BitVec.ofNat 32 (i 0).val
  let v40947 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40948 : Index := Scalar.indexCast v39967
  let c27_17286 : Index := 27#32
  ![v40947.toNat, v40948.toNat, 27]
def k0_off2538 (i : grid0.Coords) : Fin 3 → Nat :=
  let arg0 : BitVec 32 := BitVec.ofNat 32 (i 0).val
  let v40950 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40951 : Index := Scalar.indexCast v39967
  let c34_17287 : Index := 34#32
  ![v40950.toNat, v40951.toNat, 34]
def k0_off2539 (i : grid0.Coords) : Fin 3 → Nat :=
  let arg0 : BitVec 32 := BitVec.ofNat 32 (i 0).val
  let v40953 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40954 : Index := Scalar.indexCast v39967
  let c41_17288 : Index := 41#32
  ![v40953.toNat, v40954.toNat, 41]
def k0_off2540 (i : grid0.Coords) : Fin 3 → Nat :=
  let arg0 : BitVec 32 := BitVec.ofNat 32 (i 0).val
  let v40956 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v40957 : Index := Scalar.indexCast v39967
  let c48_17289 : Index := 48#32
  ![v40956.toNat, v40957.toNat, 48]
def k0_off2541 (v40949 : BitVec 32) : Fin 3 → Nat :=
  let c1015_i32_17294 : BitVec 32 := 1015#32
  let v40981 : BitVec 32 := Scalar.addi c1015_i32_17294 v40949
  let v40982 : Index := Scalar.indexCast v40981
  let c0_17295 : Index := 0#32
  let c0_17296 : Index := 0#32
  ![v40982.toNat, 0, 0]

def k0_off2542 (v40952 : BitVec 32) (c1015_i32_17298 : BitVec 32) : Fin 3 → Nat :=
  let v40989 : BitVec 32 := Scalar.addi c1015_i32_17298 v40952
  let v40990 : Index := Scalar.indexCast v40989
  let c0_17299 : Index := 0#32
  let c0_17300 : Index := 0#32
  ![v40990.toNat, 0, 0]

def k0_chk868 (v40952 : BitVec 32) : Prop :=
  (∀ (r : Fin 7), ∀ a, (k0_off2542 v40952 (BitVec.ofNat 32 (1015 + 5 * r.val))) a + S1x8x128.size a ≤ S1120x8x128.size a)
theorem k0_off2542_inb : ∀ (v40952 : BitVec 32) (k0_hw868 : k0_chk868 v40952), ∀ (r : Fin 7), ∀ a, (k0_off2542 v40952 (BitVec.ofNat 32 (1015 + 5 * r.val))) a + S1x8x128.size a ≤ S1120x8x128.size a := fun v40952 k0_hw868 r => k0_hw868 r

def k0_off2543 (v40949 : BitVec 32) (c1020_i32_17303 : BitVec 32) : Fin 3 → Nat :=
  let v40999 : BitVec 32 := Scalar.addi c1020_i32_17303 v40949
  let v41000 : Index := Scalar.indexCast v40999
  let c0_17304 : Index := 0#32
  let c0_17305 : Index := 0#32
  ![v41000.toNat, 0, 0]

def k0_chk867 (v40949 : BitVec 32) : Prop :=
  (∀ a, (k0_off2541 v40949) a + S1x8x128.size a ≤ S1120x8x128.size a) ∧
  (∀ (r : Fin 6), ∀ a, (k0_off2543 v40949 (BitVec.ofNat 32 (1020 + 5 * r.val))) a + S1x8x128.size a ≤ S1120x8x128.size a)
theorem k0_off2541_inb : ∀ (v40949 : BitVec 32) (k0_hw867 : k0_chk867 v40949), ∀ a, (k0_off2541 v40949) a + S1x8x128.size a ≤ S1120x8x128.size a := fun v40949 k0_hw867 => k0_hw867.1
theorem k0_off2543_inb : ∀ (v40949 : BitVec 32) (k0_hw867 : k0_chk867 v40949), ∀ (r : Fin 6), ∀ a, (k0_off2543 v40949 (BitVec.ofNat 32 (1020 + 5 * r.val))) a + S1x8x128.size a ≤ S1120x8x128.size a := fun v40949 k0_hw867 r => k0_hw867.2 r

def k0_off2544 (i : grid0.Coords) : Fin 3 → Nat :=
  let arg0 : BitVec 32 := BitVec.ofNat 32 (i 0).val
  let v41107 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v41108 : Index := Scalar.indexCast v39967
  let c28_17357 : Index := 28#32
  ![v41107.toNat, v41108.toNat, 28]
def k0_off2545 (i : grid0.Coords) : Fin 3 → Nat :=
  let arg0 : BitVec 32 := BitVec.ofNat 32 (i 0).val
  let v41110 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v41111 : Index := Scalar.indexCast v39967
  let c35_17358 : Index := 35#32
  ![v41110.toNat, v41111.toNat, 35]
def k0_off2546 (i : grid0.Coords) : Fin 3 → Nat :=
  let arg0 : BitVec 32 := BitVec.ofNat 32 (i 0).val
  let v41113 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v41114 : Index := Scalar.indexCast v39967
  let c42_17359 : Index := 42#32
  ![v41113.toNat, v41114.toNat, 42]
def k0_off2547 (i : grid0.Coords) : Fin 3 → Nat :=
  let arg0 : BitVec 32 := BitVec.ofNat 32 (i 0).val
  let v41116 : Index := Scalar.indexCast arg0
  let arg1 : BitVec 32 := BitVec.ofNat 32 (i 1).val
  let c32_i32_16873 : BitVec 32 := 32#32
  let v39966 : BitVec 32 := Scalar.muli arg1 c32_i32_16873
  let c29_i32 : BitVec 32 := 29#32
  let v39967 : BitVec 32 := Scalar.addi v39966 c29_i32
  let v41117 : Index := Scalar.indexCast v39967
  let c49_17360 : Index := 49#32
  ![v41116.toNat, v41117.toNat, 49]
def k0_off2548 (v41109 : BitVec 32) : Fin 3 → Nat :=
  let c1015_i32_17365 : BitVec 32 := 1015#32
  let v41141 : BitVec 32 := Scalar.addi c1015_i32_17365 v41109
  let v41142 : Index := Scalar.indexCast v41141
  let c0_17366 : Index := 0#32
  let c0_17367 : Index := 0#32
  ![v41142.toNat, 0, 0]

def k0_off2549 (v41112 : BitVec 32) (c1015_i32_17369 : BitVec 32) : Fin 3 → Nat :=
  let v41149 : BitVec 32 := Scalar.addi c1015_i32_17369 v41112
  let v41150 : Index := Scalar.indexCast v41149
  let c0_17370 : Index := 0#32
  let c0_17371 : Index := 0#32
  ![v41150.toNat, 0, 0]

def k0_chk870 (v41112 : BitVec 32) : Prop :=
  (∀ (r : Fin 7), ∀ a, (k0_off2549 v41112 (BitVec.ofNat 32 (1015 + 5 * r.val))) a + S1x8x128.size a ≤ S1120x8x128.size a)
theorem k0_off2549_inb : ∀ (v41112 : BitVec 32) (k0_hw870 : k0_chk870 v41112), ∀ (r : Fin 7), ∀ a, (k0_off2549 v41112 (BitVec.ofNat 32 (1015 + 5 * r.val))) a + S1x8x128.size a ≤ S1120x8x128.size a := fun v41112 k0_hw870 r => k0_hw870 r

def k0_off2550 (v41109 : BitVec 32) (c1020_i32_17374 : BitVec 32) : Fin 3 → Nat :=
  let v41159 : BitVec 32 := Scalar.addi c1020_i32_17374 v41109
  let v41160 : Index := Scalar.indexCast v41159
  let c0_17375 : Index := 0#32
  let c0_17376 : Index := 0#32
  ![v41160.toNat, 0, 0]

def k0_chk869 (v41109 : BitVec 32) : Prop :=
  (∀ a, (k0_off2548 v41109) a + S1x8x128.size a ≤ S1120x8x128.size a) ∧
  (∀ (r : Fin 6), ∀ a, (k0_off2550 v41109 (BitVec.ofNat 32 (1020 + 5 * r.val))) a + S1x8x128.size a ≤ S1120x8x128.size a)
theorem k0_off2548_inb : ∀ (v41109 : BitVec 32) (k0_hw869 : k0_chk869 v41109), ∀ a, (k0_off2548 v41109) a + S1x8x128.size a ≤ S1120x8x128.size a := fun v41109 k0_hw869 => k0_hw869.1
theorem k0_off2550_inb : ∀ (v41109 : BitVec 32) (k0_hw869 : k0_chk869 v41109), ∀ (r : Fin 6), ∀ a, (k0_off2550 v41109 (BitVec.ofNat 32 (1020 + 5 * r.val))) a + S1x8x128.size a ≤ S1120x8x128.size a := fun v41109 k0_hw869 r => k0_hw869.2 r

def k0_off2551 (i : grid0.Coords) : Fin 3 → Nat :=
  let arg0 : BitVec 32 := BitVec.ofNat 32 (i 0).val
  let v41346 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41347 : Index := Scalar.indexCast v41345
  let c0_17458 : Index := 0#32
  ![v41346.toNat, v41347.toNat, 0]
def k0_mult31 (v41348 : BitVec 32) : BitVec 32 :=
  v41348

def k0_chk871 (v41348 : BitVec 32) : Prop :=
  (8 ∣ (k0_mult31 v41348).toNat)
theorem k0_mult31_dvd : ∀ (v41348 : BitVec 32) (k0_hw871 : k0_chk871 v41348), 8 ∣ (k0_mult31 v41348).toNat := fun v41348 k0_hw871 => k0_hw871

def k0_off2552 (i : grid0.Coords) : Fin 3 → Nat :=
  let arg0 : BitVec 32 := BitVec.ofNat 32 (i 0).val
  let v41350 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41351 : Index := Scalar.indexCast v41345
  let c1_17459 : Index := 1#32
  ![v41350.toNat, v41351.toNat, 1]
def k0_off2553 (v41348 : BitVec 32) (v41352 : BitVec 32) : Fin 3 → Nat :=
  let v41353 : Index := Scalar.indexCast v41352
  let v41349 : BitVec 32 := v41348
  let v41354 : Index := Scalar.indexCast v41349
  let c0_17460 : Index := 0#32
  ![v41353.toNat, v41354.toNat, 0]

def k0_chk872 (v41348 : BitVec 32) (v41352 : BitVec 32) : Prop :=
  (∀ a, (k0_off2553 v41348 v41352) a + S1x40x128.size a ≤ S256x64x128.size a)
theorem k0_off2553_inb : ∀ (v41348 : BitVec 32) (v41352 : BitVec 32) (k0_hw872 : k0_chk872 v41348 v41352), ∀ a, (k0_off2553 v41348 v41352) a + S1x40x128.size a ≤ S256x64x128.size a := fun v41348 v41352 k0_hw872 => k0_hw872

def k0_off2554 (i : grid0.Coords) : Fin 3 → Nat :=
  let arg0 : BitVec 32 := BitVec.ofNat 32 (i 0).val
  let v41357 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41358 : Index := Scalar.indexCast v41345
  let c8_17461 : Index := 8#32
  ![v41357.toNat, v41358.toNat, 8]
def k0_off2555 (v41348 : BitVec 32) (v41359 : BitVec 32) : Fin 3 → Nat :=
  let v41360 : Index := Scalar.indexCast v41359
  let v41349 : BitVec 32 := v41348
  let v41361 : Index := Scalar.indexCast v41349
  let c0_17462 : Index := 0#32
  ![v41360.toNat, v41361.toNat, 0]

def k0_chk873 (v41348 : BitVec 32) (v41359 : BitVec 32) : Prop :=
  (∀ a, (k0_off2555 v41348 v41359) a + S1x40x128.size a ≤ S256x64x128.size a)
theorem k0_off2555_inb : ∀ (v41348 : BitVec 32) (v41359 : BitVec 32) (k0_hw873 : k0_chk873 v41348 v41359), ∀ a, (k0_off2555 v41348 v41359) a + S1x40x128.size a ≤ S256x64x128.size a := fun v41348 v41359 k0_hw873 => k0_hw873

def k0_off2556 (i : grid0.Coords) : Fin 3 → Nat :=
  let arg0 : BitVec 32 := BitVec.ofNat 32 (i 0).val
  let v41365 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41366 : Index := Scalar.indexCast v41345
  let c15_17463 : Index := 15#32
  ![v41365.toNat, v41366.toNat, 15]
def k0_off2557 (i : grid0.Coords) : Fin 3 → Nat :=
  let arg0 : BitVec 32 := BitVec.ofNat 32 (i 0).val
  let v41375 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41376 : Index := Scalar.indexCast v41345
  let c2_17468 : Index := 2#32
  ![v41375.toNat, v41376.toNat, 2]
def k0_off2558 (v41348 : BitVec 32) (v41377 : BitVec 32) : Fin 3 → Nat :=
  let v41378 : Index := Scalar.indexCast v41377
  let v41349 : BitVec 32 := v41348
  let v41379 : Index := Scalar.indexCast v41349
  let c0_17469 : Index := 0#32
  ![v41378.toNat, v41379.toNat, 0]

def k0_chk874 (v41348 : BitVec 32) (v41377 : BitVec 32) : Prop :=
  (∀ a, (k0_off2558 v41348 v41377) a + S1x40x128.size a ≤ S256x64x128.size a)
theorem k0_off2558_inb : ∀ (v41348 : BitVec 32) (v41377 : BitVec 32) (k0_hw874 : k0_chk874 v41348 v41377), ∀ a, (k0_off2558 v41348 v41377) a + S1x40x128.size a ≤ S256x64x128.size a := fun v41348 v41377 k0_hw874 => k0_hw874

def k0_off2559 (i : grid0.Coords) : Fin 3 → Nat :=
  let arg0 : BitVec 32 := BitVec.ofNat 32 (i 0).val
  let v41382 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41383 : Index := Scalar.indexCast v41345
  let c9_17470 : Index := 9#32
  ![v41382.toNat, v41383.toNat, 9]
def k0_off2560 (v41348 : BitVec 32) (v41384 : BitVec 32) : Fin 3 → Nat :=
  let v41385 : Index := Scalar.indexCast v41384
  let v41349 : BitVec 32 := v41348
  let v41386 : Index := Scalar.indexCast v41349
  let c0_17471 : Index := 0#32
  ![v41385.toNat, v41386.toNat, 0]

def k0_chk875 (v41348 : BitVec 32) (v41384 : BitVec 32) : Prop :=
  (∀ a, (k0_off2560 v41348 v41384) a + S1x40x128.size a ≤ S256x64x128.size a)
theorem k0_off2560_inb : ∀ (v41348 : BitVec 32) (v41384 : BitVec 32) (k0_hw875 : k0_chk875 v41348 v41384), ∀ a, (k0_off2560 v41348 v41384) a + S1x40x128.size a ≤ S256x64x128.size a := fun v41348 v41384 k0_hw875 => k0_hw875

def k0_off2561 (i : grid0.Coords) : Fin 3 → Nat :=
  let arg0 : BitVec 32 := BitVec.ofNat 32 (i 0).val
  let v41390 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41391 : Index := Scalar.indexCast v41345
  let c16_17472 : Index := 16#32
  ![v41390.toNat, v41391.toNat, 16]
def k0_off2562 (i : grid0.Coords) : Fin 3 → Nat :=
  let arg0 : BitVec 32 := BitVec.ofNat 32 (i 0).val
  let v41400 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41401 : Index := Scalar.indexCast v41345
  let c3_17477 : Index := 3#32
  ![v41400.toNat, v41401.toNat, 3]
def k0_off2563 (v41348 : BitVec 32) (v41402 : BitVec 32) : Fin 3 → Nat :=
  let v41403 : Index := Scalar.indexCast v41402
  let v41349 : BitVec 32 := v41348
  let v41404 : Index := Scalar.indexCast v41349
  let c0_17478 : Index := 0#32
  ![v41403.toNat, v41404.toNat, 0]

def k0_chk876 (v41348 : BitVec 32) (v41402 : BitVec 32) : Prop :=
  (∀ a, (k0_off2563 v41348 v41402) a + S1x40x128.size a ≤ S256x64x128.size a)
theorem k0_off2563_inb : ∀ (v41348 : BitVec 32) (v41402 : BitVec 32) (k0_hw876 : k0_chk876 v41348 v41402), ∀ a, (k0_off2563 v41348 v41402) a + S1x40x128.size a ≤ S256x64x128.size a := fun v41348 v41402 k0_hw876 => k0_hw876

def k0_off2564 (i : grid0.Coords) : Fin 3 → Nat :=
  let arg0 : BitVec 32 := BitVec.ofNat 32 (i 0).val
  let v41407 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41408 : Index := Scalar.indexCast v41345
  let c10_17479 : Index := 10#32
  ![v41407.toNat, v41408.toNat, 10]
def k0_off2565 (v41348 : BitVec 32) (v41409 : BitVec 32) : Fin 3 → Nat :=
  let v41410 : Index := Scalar.indexCast v41409
  let v41349 : BitVec 32 := v41348
  let v41411 : Index := Scalar.indexCast v41349
  let c0_17480 : Index := 0#32
  ![v41410.toNat, v41411.toNat, 0]

def k0_chk877 (v41348 : BitVec 32) (v41409 : BitVec 32) : Prop :=
  (∀ a, (k0_off2565 v41348 v41409) a + S1x40x128.size a ≤ S256x64x128.size a)
theorem k0_off2565_inb : ∀ (v41348 : BitVec 32) (v41409 : BitVec 32) (k0_hw877 : k0_chk877 v41348 v41409), ∀ a, (k0_off2565 v41348 v41409) a + S1x40x128.size a ≤ S256x64x128.size a := fun v41348 v41409 k0_hw877 => k0_hw877

def k0_off2566 (i : grid0.Coords) : Fin 3 → Nat :=
  let arg0 : BitVec 32 := BitVec.ofNat 32 (i 0).val
  let v41415 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41416 : Index := Scalar.indexCast v41345
  let c17_17481 : Index := 17#32
  ![v41415.toNat, v41416.toNat, 17]
def k0_off2567 (i : grid0.Coords) : Fin 3 → Nat :=
  let arg0 : BitVec 32 := BitVec.ofNat 32 (i 0).val
  let v41425 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41426 : Index := Scalar.indexCast v41345
  let c4_17486 : Index := 4#32
  ![v41425.toNat, v41426.toNat, 4]
def k0_off2568 (v41348 : BitVec 32) (v41427 : BitVec 32) : Fin 3 → Nat :=
  let v41428 : Index := Scalar.indexCast v41427
  let v41349 : BitVec 32 := v41348
  let v41429 : Index := Scalar.indexCast v41349
  let c0_17487 : Index := 0#32
  ![v41428.toNat, v41429.toNat, 0]

def k0_chk878 (v41348 : BitVec 32) (v41427 : BitVec 32) : Prop :=
  (∀ a, (k0_off2568 v41348 v41427) a + S1x40x128.size a ≤ S256x64x128.size a)
theorem k0_off2568_inb : ∀ (v41348 : BitVec 32) (v41427 : BitVec 32) (k0_hw878 : k0_chk878 v41348 v41427), ∀ a, (k0_off2568 v41348 v41427) a + S1x40x128.size a ≤ S256x64x128.size a := fun v41348 v41427 k0_hw878 => k0_hw878

def k0_off2569 (i : grid0.Coords) : Fin 3 → Nat :=
  let arg0 : BitVec 32 := BitVec.ofNat 32 (i 0).val
  let v41432 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41433 : Index := Scalar.indexCast v41345
  let c11_17488 : Index := 11#32
  ![v41432.toNat, v41433.toNat, 11]
def k0_off2570 (v41348 : BitVec 32) (v41434 : BitVec 32) : Fin 3 → Nat :=
  let v41435 : Index := Scalar.indexCast v41434
  let v41349 : BitVec 32 := v41348
  let v41436 : Index := Scalar.indexCast v41349
  let c0_17489 : Index := 0#32
  ![v41435.toNat, v41436.toNat, 0]

def k0_chk879 (v41348 : BitVec 32) (v41434 : BitVec 32) : Prop :=
  (∀ a, (k0_off2570 v41348 v41434) a + S1x40x128.size a ≤ S256x64x128.size a)
theorem k0_off2570_inb : ∀ (v41348 : BitVec 32) (v41434 : BitVec 32) (k0_hw879 : k0_chk879 v41348 v41434), ∀ a, (k0_off2570 v41348 v41434) a + S1x40x128.size a ≤ S256x64x128.size a := fun v41348 v41434 k0_hw879 => k0_hw879

def k0_off2571 (i : grid0.Coords) : Fin 3 → Nat :=
  let arg0 : BitVec 32 := BitVec.ofNat 32 (i 0).val
  let v41440 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41441 : Index := Scalar.indexCast v41345
  let c18_17490 : Index := 18#32
  ![v41440.toNat, v41441.toNat, 18]
def k0_off2572 (i : grid0.Coords) : Fin 3 → Nat :=
  let arg0 : BitVec 32 := BitVec.ofNat 32 (i 0).val
  let v41450 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41451 : Index := Scalar.indexCast v41345
  let c5_17495 : Index := 5#32
  ![v41450.toNat, v41451.toNat, 5]
def k0_off2573 (v41348 : BitVec 32) (v41452 : BitVec 32) : Fin 3 → Nat :=
  let v41453 : Index := Scalar.indexCast v41452
  let v41349 : BitVec 32 := v41348
  let v41454 : Index := Scalar.indexCast v41349
  let c0_17496 : Index := 0#32
  ![v41453.toNat, v41454.toNat, 0]

def k0_chk880 (v41348 : BitVec 32) (v41452 : BitVec 32) : Prop :=
  (∀ a, (k0_off2573 v41348 v41452) a + S1x40x128.size a ≤ S256x64x128.size a)
theorem k0_off2573_inb : ∀ (v41348 : BitVec 32) (v41452 : BitVec 32) (k0_hw880 : k0_chk880 v41348 v41452), ∀ a, (k0_off2573 v41348 v41452) a + S1x40x128.size a ≤ S256x64x128.size a := fun v41348 v41452 k0_hw880 => k0_hw880

def k0_off2574 (i : grid0.Coords) : Fin 3 → Nat :=
  let arg0 : BitVec 32 := BitVec.ofNat 32 (i 0).val
  let v41457 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41458 : Index := Scalar.indexCast v41345
  let c12_17497 : Index := 12#32
  ![v41457.toNat, v41458.toNat, 12]
def k0_off2575 (v41348 : BitVec 32) (v41459 : BitVec 32) : Fin 3 → Nat :=
  let v41460 : Index := Scalar.indexCast v41459
  let v41349 : BitVec 32 := v41348
  let v41461 : Index := Scalar.indexCast v41349
  let c0_17498 : Index := 0#32
  ![v41460.toNat, v41461.toNat, 0]

def k0_chk881 (v41348 : BitVec 32) (v41459 : BitVec 32) : Prop :=
  (∀ a, (k0_off2575 v41348 v41459) a + S1x40x128.size a ≤ S256x64x128.size a)
theorem k0_off2575_inb : ∀ (v41348 : BitVec 32) (v41459 : BitVec 32) (k0_hw881 : k0_chk881 v41348 v41459), ∀ a, (k0_off2575 v41348 v41459) a + S1x40x128.size a ≤ S256x64x128.size a := fun v41348 v41459 k0_hw881 => k0_hw881

def k0_off2576 (i : grid0.Coords) : Fin 3 → Nat :=
  let arg0 : BitVec 32 := BitVec.ofNat 32 (i 0).val
  let v41465 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41466 : Index := Scalar.indexCast v41345
  let c19_17499 : Index := 19#32
  ![v41465.toNat, v41466.toNat, 19]
def k0_off2577 (i : grid0.Coords) : Fin 3 → Nat :=
  let arg0 : BitVec 32 := BitVec.ofNat 32 (i 0).val
  let v41475 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41476 : Index := Scalar.indexCast v41345
  let c6_17504 : Index := 6#32
  ![v41475.toNat, v41476.toNat, 6]
def k0_off2578 (v41348 : BitVec 32) (v41477 : BitVec 32) : Fin 3 → Nat :=
  let v41478 : Index := Scalar.indexCast v41477
  let v41349 : BitVec 32 := v41348
  let v41479 : Index := Scalar.indexCast v41349
  let c0_17505 : Index := 0#32
  ![v41478.toNat, v41479.toNat, 0]

def k0_chk882 (v41348 : BitVec 32) (v41477 : BitVec 32) : Prop :=
  (∀ a, (k0_off2578 v41348 v41477) a + S1x40x128.size a ≤ S256x64x128.size a)
theorem k0_off2578_inb : ∀ (v41348 : BitVec 32) (v41477 : BitVec 32) (k0_hw882 : k0_chk882 v41348 v41477), ∀ a, (k0_off2578 v41348 v41477) a + S1x40x128.size a ≤ S256x64x128.size a := fun v41348 v41477 k0_hw882 => k0_hw882

def k0_off2579 (i : grid0.Coords) : Fin 3 → Nat :=
  let arg0 : BitVec 32 := BitVec.ofNat 32 (i 0).val
  let v41482 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41483 : Index := Scalar.indexCast v41345
  let c13_17506 : Index := 13#32
  ![v41482.toNat, v41483.toNat, 13]
def k0_off2580 (v41348 : BitVec 32) (v41484 : BitVec 32) : Fin 3 → Nat :=
  let v41485 : Index := Scalar.indexCast v41484
  let v41349 : BitVec 32 := v41348
  let v41486 : Index := Scalar.indexCast v41349
  let c0_17507 : Index := 0#32
  ![v41485.toNat, v41486.toNat, 0]

def k0_chk883 (v41348 : BitVec 32) (v41484 : BitVec 32) : Prop :=
  (∀ a, (k0_off2580 v41348 v41484) a + S1x40x128.size a ≤ S256x64x128.size a)
theorem k0_off2580_inb : ∀ (v41348 : BitVec 32) (v41484 : BitVec 32) (k0_hw883 : k0_chk883 v41348 v41484), ∀ a, (k0_off2580 v41348 v41484) a + S1x40x128.size a ≤ S256x64x128.size a := fun v41348 v41484 k0_hw883 => k0_hw883

def k0_off2581 (i : grid0.Coords) : Fin 3 → Nat :=
  let arg0 : BitVec 32 := BitVec.ofNat 32 (i 0).val
  let v41490 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41491 : Index := Scalar.indexCast v41345
  let c20_17508 : Index := 20#32
  ![v41490.toNat, v41491.toNat, 20]
def k0_off2582 (i : grid0.Coords) : Fin 3 → Nat :=
  let arg0 : BitVec 32 := BitVec.ofNat 32 (i 0).val
  let v41500 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41501 : Index := Scalar.indexCast v41345
  let c7_17513 : Index := 7#32
  ![v41500.toNat, v41501.toNat, 7]
def k0_off2583 (v41348 : BitVec 32) (v41502 : BitVec 32) : Fin 3 → Nat :=
  let v41503 : Index := Scalar.indexCast v41502
  let v41349 : BitVec 32 := v41348
  let v41504 : Index := Scalar.indexCast v41349
  let c0_17514 : Index := 0#32
  ![v41503.toNat, v41504.toNat, 0]

def k0_chk884 (v41348 : BitVec 32) (v41502 : BitVec 32) : Prop :=
  (∀ a, (k0_off2583 v41348 v41502) a + S1x40x128.size a ≤ S256x64x128.size a)
theorem k0_off2583_inb : ∀ (v41348 : BitVec 32) (v41502 : BitVec 32) (k0_hw884 : k0_chk884 v41348 v41502), ∀ a, (k0_off2583 v41348 v41502) a + S1x40x128.size a ≤ S256x64x128.size a := fun v41348 v41502 k0_hw884 => k0_hw884

def k0_off2584 (i : grid0.Coords) : Fin 3 → Nat :=
  let arg0 : BitVec 32 := BitVec.ofNat 32 (i 0).val
  let v41507 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41508 : Index := Scalar.indexCast v41345
  let c14_17515 : Index := 14#32
  ![v41507.toNat, v41508.toNat, 14]
def k0_off2585 (v41348 : BitVec 32) (v41509 : BitVec 32) : Fin 3 → Nat :=
  let v41510 : Index := Scalar.indexCast v41509
  let v41349 : BitVec 32 := v41348
  let v41511 : Index := Scalar.indexCast v41349
  let c0_17516 : Index := 0#32
  ![v41510.toNat, v41511.toNat, 0]

def k0_chk885 (v41348 : BitVec 32) (v41509 : BitVec 32) : Prop :=
  (∀ a, (k0_off2585 v41348 v41509) a + S1x40x128.size a ≤ S256x64x128.size a)
theorem k0_off2585_inb : ∀ (v41348 : BitVec 32) (v41509 : BitVec 32) (k0_hw885 : k0_chk885 v41348 v41509), ∀ a, (k0_off2585 v41348 v41509) a + S1x40x128.size a ≤ S256x64x128.size a := fun v41348 v41509 k0_hw885 => k0_hw885

def k0_off2586 (i : grid0.Coords) : Fin 3 → Nat :=
  let arg0 : BitVec 32 := BitVec.ofNat 32 (i 0).val
  let v41515 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41516 : Index := Scalar.indexCast v41345
  let c21_17517 : Index := 21#32
  ![v41515.toNat, v41516.toNat, 21]
def k0_off2587 (i : grid0.Coords) : Fin 3 → Nat :=
  let arg0 : BitVec 32 := BitVec.ofNat 32 (i 0).val
  let v41525 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41526 : Index := Scalar.indexCast v41345
  let c22_17522 : Index := 22#32
  ![v41525.toNat, v41526.toNat, 22]
def k0_off2588 (i : grid0.Coords) : Fin 3 → Nat :=
  let arg0 : BitVec 32 := BitVec.ofNat 32 (i 0).val
  let v41528 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41529 : Index := Scalar.indexCast v41345
  let c29_17523 : Index := 29#32
  ![v41528.toNat, v41529.toNat, 29]
def k0_off2589 (i : grid0.Coords) : Fin 3 → Nat :=
  let arg0 : BitVec 32 := BitVec.ofNat 32 (i 0).val
  let v41531 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41532 : Index := Scalar.indexCast v41345
  let c36_17524 : Index := 36#32
  ![v41531.toNat, v41532.toNat, 36]
def k0_off2590 (i : grid0.Coords) : Fin 3 → Nat :=
  let arg0 : BitVec 32 := BitVec.ofNat 32 (i 0).val
  let v41534 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41535 : Index := Scalar.indexCast v41345
  let c43_17525 : Index := 43#32
  ![v41534.toNat, v41535.toNat, 43]
def k0_off2591 (v41527 : BitVec 32) : Fin 3 → Nat :=
  let c1050_i32 : BitVec 32 := 1050#32
  let v41559 : BitVec 32 := Scalar.addi c1050_i32 v41527
  let v41560 : Index := Scalar.indexCast v41559
  let c0_17530 : Index := 0#32
  let c0_17531 : Index := 0#32
  ![v41560.toNat, 0, 0]

def k0_off2592 (v41530 : BitVec 32) (c1050_i32_17533 : BitVec 32) : Fin 3 → Nat :=
  let v41567 : BitVec 32 := Scalar.addi c1050_i32_17533 v41530
  let v41568 : Index := Scalar.indexCast v41567
  let c0_17534 : Index := 0#32
  let c0_17535 : Index := 0#32
  ![v41568.toNat, 0, 0]

def k0_chk887 (v41530 : BitVec 32) : Prop :=
  (∀ (r : Fin 7), ∀ a, (k0_off2592 v41530 (BitVec.ofNat 32 (1050 + 5 * r.val))) a + S1x8x128.size a ≤ S1120x8x128.size a)
theorem k0_off2592_inb : ∀ (v41530 : BitVec 32) (k0_hw887 : k0_chk887 v41530), ∀ (r : Fin 7), ∀ a, (k0_off2592 v41530 (BitVec.ofNat 32 (1050 + 5 * r.val))) a + S1x8x128.size a ≤ S1120x8x128.size a := fun v41530 k0_hw887 r => k0_hw887 r

def k0_off2593 (v41527 : BitVec 32) (c1055_i32 : BitVec 32) : Fin 3 → Nat :=
  let v41577 : BitVec 32 := Scalar.addi c1055_i32 v41527
  let v41578 : Index := Scalar.indexCast v41577
  let c0_17538 : Index := 0#32
  let c0_17539 : Index := 0#32
  ![v41578.toNat, 0, 0]

def k0_chk886 (v41527 : BitVec 32) : Prop :=
  (∀ a, (k0_off2591 v41527) a + S1x8x128.size a ≤ S1120x8x128.size a) ∧
  (∀ (r : Fin 6), ∀ a, (k0_off2593 v41527 (BitVec.ofNat 32 (1055 + 5 * r.val))) a + S1x8x128.size a ≤ S1120x8x128.size a)
theorem k0_off2591_inb : ∀ (v41527 : BitVec 32) (k0_hw886 : k0_chk886 v41527), ∀ a, (k0_off2591 v41527) a + S1x8x128.size a ≤ S1120x8x128.size a := fun v41527 k0_hw886 => k0_hw886.1
theorem k0_off2593_inb : ∀ (v41527 : BitVec 32) (k0_hw886 : k0_chk886 v41527), ∀ (r : Fin 6), ∀ a, (k0_off2593 v41527 (BitVec.ofNat 32 (1055 + 5 * r.val))) a + S1x8x128.size a ≤ S1120x8x128.size a := fun v41527 k0_hw886 r => k0_hw886.2 r

def k0_off2594 (i : grid0.Coords) : Fin 3 → Nat :=
  let arg0 : BitVec 32 := BitVec.ofNat 32 (i 0).val
  let v41685 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41686 : Index := Scalar.indexCast v41345
  let c23_17586 : Index := 23#32
  ![v41685.toNat, v41686.toNat, 23]
def k0_off2595 (i : grid0.Coords) : Fin 3 → Nat :=
  let arg0 : BitVec 32 := BitVec.ofNat 32 (i 0).val
  let v41688 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41689 : Index := Scalar.indexCast v41345
  let c30_17587 : Index := 30#32
  ![v41688.toNat, v41689.toNat, 30]
def k0_off2596 (i : grid0.Coords) : Fin 3 → Nat :=
  let arg0 : BitVec 32 := BitVec.ofNat 32 (i 0).val
  let v41691 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41692 : Index := Scalar.indexCast v41345
  let c37_17588 : Index := 37#32
  ![v41691.toNat, v41692.toNat, 37]
def k0_off2597 (i : grid0.Coords) : Fin 3 → Nat :=
  let arg0 : BitVec 32 := BitVec.ofNat 32 (i 0).val
  let v41694 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41695 : Index := Scalar.indexCast v41345
  let c44_17589 : Index := 44#32
  ![v41694.toNat, v41695.toNat, 44]
def k0_off2598 (v41687 : BitVec 32) : Fin 3 → Nat :=
  let c1050_i32_17594 : BitVec 32 := 1050#32
  let v41719 : BitVec 32 := Scalar.addi c1050_i32_17594 v41687
  let v41720 : Index := Scalar.indexCast v41719
  let c0_17595 : Index := 0#32
  let c0_17596 : Index := 0#32
  ![v41720.toNat, 0, 0]

def k0_off2599 (v41690 : BitVec 32) (c1050_i32_17598 : BitVec 32) : Fin 3 → Nat :=
  let v41727 : BitVec 32 := Scalar.addi c1050_i32_17598 v41690
  let v41728 : Index := Scalar.indexCast v41727
  let c0_17599 : Index := 0#32
  let c0_17600 : Index := 0#32
  ![v41728.toNat, 0, 0]

def k0_chk889 (v41690 : BitVec 32) : Prop :=
  (∀ (r : Fin 7), ∀ a, (k0_off2599 v41690 (BitVec.ofNat 32 (1050 + 5 * r.val))) a + S1x8x128.size a ≤ S1120x8x128.size a)
theorem k0_off2599_inb : ∀ (v41690 : BitVec 32) (k0_hw889 : k0_chk889 v41690), ∀ (r : Fin 7), ∀ a, (k0_off2599 v41690 (BitVec.ofNat 32 (1050 + 5 * r.val))) a + S1x8x128.size a ≤ S1120x8x128.size a := fun v41690 k0_hw889 r => k0_hw889 r

def k0_off2600 (v41687 : BitVec 32) (c1055_i32_17603 : BitVec 32) : Fin 3 → Nat :=
  let v41737 : BitVec 32 := Scalar.addi c1055_i32_17603 v41687
  let v41738 : Index := Scalar.indexCast v41737
  let c0_17604 : Index := 0#32
  let c0_17605 : Index := 0#32
  ![v41738.toNat, 0, 0]

def k0_chk888 (v41687 : BitVec 32) : Prop :=
  (∀ a, (k0_off2598 v41687) a + S1x8x128.size a ≤ S1120x8x128.size a) ∧
  (∀ (r : Fin 6), ∀ a, (k0_off2600 v41687 (BitVec.ofNat 32 (1055 + 5 * r.val))) a + S1x8x128.size a ≤ S1120x8x128.size a)
theorem k0_off2598_inb : ∀ (v41687 : BitVec 32) (k0_hw888 : k0_chk888 v41687), ∀ a, (k0_off2598 v41687) a + S1x8x128.size a ≤ S1120x8x128.size a := fun v41687 k0_hw888 => k0_hw888.1
theorem k0_off2600_inb : ∀ (v41687 : BitVec 32) (k0_hw888 : k0_chk888 v41687), ∀ (r : Fin 6), ∀ a, (k0_off2600 v41687 (BitVec.ofNat 32 (1055 + 5 * r.val))) a + S1x8x128.size a ≤ S1120x8x128.size a := fun v41687 k0_hw888 r => k0_hw888.2 r

def k0_off2601 (i : grid0.Coords) : Fin 3 → Nat :=
  let arg0 : BitVec 32 := BitVec.ofNat 32 (i 0).val
  let v41845 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41846 : Index := Scalar.indexCast v41345
  let c24_17657 : Index := 24#32
  ![v41845.toNat, v41846.toNat, 24]
def k0_off2602 (i : grid0.Coords) : Fin 3 → Nat :=
  let arg0 : BitVec 32 := BitVec.ofNat 32 (i 0).val
  let v41848 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41849 : Index := Scalar.indexCast v41345
  let c31_17658 : Index := 31#32
  ![v41848.toNat, v41849.toNat, 31]
def k0_off2603 (i : grid0.Coords) : Fin 3 → Nat :=
  let arg0 : BitVec 32 := BitVec.ofNat 32 (i 0).val
  let v41851 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41852 : Index := Scalar.indexCast v41345
  let c38_17659 : Index := 38#32
  ![v41851.toNat, v41852.toNat, 38]
def k0_off2604 (i : grid0.Coords) : Fin 3 → Nat :=
  let arg0 : BitVec 32 := BitVec.ofNat 32 (i 0).val
  let v41854 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v41855 : Index := Scalar.indexCast v41345
  let c45_17660 : Index := 45#32
  ![v41854.toNat, v41855.toNat, 45]
def k0_off2605 (v41847 : BitVec 32) : Fin 3 → Nat :=
  let c1050_i32_17665 : BitVec 32 := 1050#32
  let v41879 : BitVec 32 := Scalar.addi c1050_i32_17665 v41847
  let v41880 : Index := Scalar.indexCast v41879
  let c0_17666 : Index := 0#32
  let c0_17667 : Index := 0#32
  ![v41880.toNat, 0, 0]

def k0_off2606 (v41850 : BitVec 32) (c1050_i32_17669 : BitVec 32) : Fin 3 → Nat :=
  let v41887 : BitVec 32 := Scalar.addi c1050_i32_17669 v41850
  let v41888 : Index := Scalar.indexCast v41887
  let c0_17670 : Index := 0#32
  let c0_17671 : Index := 0#32
  ![v41888.toNat, 0, 0]

def k0_chk891 (v41850 : BitVec 32) : Prop :=
  (∀ (r : Fin 7), ∀ a, (k0_off2606 v41850 (BitVec.ofNat 32 (1050 + 5 * r.val))) a + S1x8x128.size a ≤ S1120x8x128.size a)
theorem k0_off2606_inb : ∀ (v41850 : BitVec 32) (k0_hw891 : k0_chk891 v41850), ∀ (r : Fin 7), ∀ a, (k0_off2606 v41850 (BitVec.ofNat 32 (1050 + 5 * r.val))) a + S1x8x128.size a ≤ S1120x8x128.size a := fun v41850 k0_hw891 r => k0_hw891 r

def k0_off2607 (v41847 : BitVec 32) (c1055_i32_17674 : BitVec 32) : Fin 3 → Nat :=
  let v41897 : BitVec 32 := Scalar.addi c1055_i32_17674 v41847
  let v41898 : Index := Scalar.indexCast v41897
  let c0_17675 : Index := 0#32
  let c0_17676 : Index := 0#32
  ![v41898.toNat, 0, 0]

def k0_chk890 (v41847 : BitVec 32) : Prop :=
  (∀ a, (k0_off2605 v41847) a + S1x8x128.size a ≤ S1120x8x128.size a) ∧
  (∀ (r : Fin 6), ∀ a, (k0_off2607 v41847 (BitVec.ofNat 32 (1055 + 5 * r.val))) a + S1x8x128.size a ≤ S1120x8x128.size a)
theorem k0_off2605_inb : ∀ (v41847 : BitVec 32) (k0_hw890 : k0_chk890 v41847), ∀ a, (k0_off2605 v41847) a + S1x8x128.size a ≤ S1120x8x128.size a := fun v41847 k0_hw890 => k0_hw890.1
theorem k0_off2607_inb : ∀ (v41847 : BitVec 32) (k0_hw890 : k0_chk890 v41847), ∀ (r : Fin 6), ∀ a, (k0_off2607 v41847 (BitVec.ofNat 32 (1055 + 5 * r.val))) a + S1x8x128.size a ≤ S1120x8x128.size a := fun v41847 k0_hw890 r => k0_hw890.2 r

def k0_off2608 (i : grid0.Coords) : Fin 3 → Nat :=
  let arg0 : BitVec 32 := BitVec.ofNat 32 (i 0).val
  let v42005 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42006 : Index := Scalar.indexCast v41345
  let c25_17728 : Index := 25#32
  ![v42005.toNat, v42006.toNat, 25]
def k0_off2609 (i : grid0.Coords) : Fin 3 → Nat :=
  let arg0 : BitVec 32 := BitVec.ofNat 32 (i 0).val
  let v42008 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42009 : Index := Scalar.indexCast v41345
  let c32_17729 : Index := 32#32
  ![v42008.toNat, v42009.toNat, 32]
def k0_off2610 (i : grid0.Coords) : Fin 3 → Nat :=
  let arg0 : BitVec 32 := BitVec.ofNat 32 (i 0).val
  let v42011 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42012 : Index := Scalar.indexCast v41345
  let c39_17730 : Index := 39#32
  ![v42011.toNat, v42012.toNat, 39]
def k0_off2611 (i : grid0.Coords) : Fin 3 → Nat :=
  let arg0 : BitVec 32 := BitVec.ofNat 32 (i 0).val
  let v42014 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42015 : Index := Scalar.indexCast v41345
  let c46_17731 : Index := 46#32
  ![v42014.toNat, v42015.toNat, 46]
def k0_off2612 (v42007 : BitVec 32) : Fin 3 → Nat :=
  let c1050_i32_17736 : BitVec 32 := 1050#32
  let v42039 : BitVec 32 := Scalar.addi c1050_i32_17736 v42007
  let v42040 : Index := Scalar.indexCast v42039
  let c0_17737 : Index := 0#32
  let c0_17738 : Index := 0#32
  ![v42040.toNat, 0, 0]

def k0_off2613 (v42010 : BitVec 32) (c1050_i32_17740 : BitVec 32) : Fin 3 → Nat :=
  let v42047 : BitVec 32 := Scalar.addi c1050_i32_17740 v42010
  let v42048 : Index := Scalar.indexCast v42047
  let c0_17741 : Index := 0#32
  let c0_17742 : Index := 0#32
  ![v42048.toNat, 0, 0]

def k0_chk893 (v42010 : BitVec 32) : Prop :=
  (∀ (r : Fin 7), ∀ a, (k0_off2613 v42010 (BitVec.ofNat 32 (1050 + 5 * r.val))) a + S1x8x128.size a ≤ S1120x8x128.size a)
theorem k0_off2613_inb : ∀ (v42010 : BitVec 32) (k0_hw893 : k0_chk893 v42010), ∀ (r : Fin 7), ∀ a, (k0_off2613 v42010 (BitVec.ofNat 32 (1050 + 5 * r.val))) a + S1x8x128.size a ≤ S1120x8x128.size a := fun v42010 k0_hw893 r => k0_hw893 r

def k0_off2614 (v42007 : BitVec 32) (c1055_i32_17745 : BitVec 32) : Fin 3 → Nat :=
  let v42057 : BitVec 32 := Scalar.addi c1055_i32_17745 v42007
  let v42058 : Index := Scalar.indexCast v42057
  let c0_17746 : Index := 0#32
  let c0_17747 : Index := 0#32
  ![v42058.toNat, 0, 0]

def k0_chk892 (v42007 : BitVec 32) : Prop :=
  (∀ a, (k0_off2612 v42007) a + S1x8x128.size a ≤ S1120x8x128.size a) ∧
  (∀ (r : Fin 6), ∀ a, (k0_off2614 v42007 (BitVec.ofNat 32 (1055 + 5 * r.val))) a + S1x8x128.size a ≤ S1120x8x128.size a)
theorem k0_off2612_inb : ∀ (v42007 : BitVec 32) (k0_hw892 : k0_chk892 v42007), ∀ a, (k0_off2612 v42007) a + S1x8x128.size a ≤ S1120x8x128.size a := fun v42007 k0_hw892 => k0_hw892.1
theorem k0_off2614_inb : ∀ (v42007 : BitVec 32) (k0_hw892 : k0_chk892 v42007), ∀ (r : Fin 6), ∀ a, (k0_off2614 v42007 (BitVec.ofNat 32 (1055 + 5 * r.val))) a + S1x8x128.size a ≤ S1120x8x128.size a := fun v42007 k0_hw892 r => k0_hw892.2 r

def k0_off2615 (i : grid0.Coords) : Fin 3 → Nat :=
  let arg0 : BitVec 32 := BitVec.ofNat 32 (i 0).val
  let v42165 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42166 : Index := Scalar.indexCast v41345
  let c26_17799 : Index := 26#32
  ![v42165.toNat, v42166.toNat, 26]
def k0_off2616 (i : grid0.Coords) : Fin 3 → Nat :=
  let arg0 : BitVec 32 := BitVec.ofNat 32 (i 0).val
  let v42168 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42169 : Index := Scalar.indexCast v41345
  let c33_17800 : Index := 33#32
  ![v42168.toNat, v42169.toNat, 33]
def k0_off2617 (i : grid0.Coords) : Fin 3 → Nat :=
  let arg0 : BitVec 32 := BitVec.ofNat 32 (i 0).val
  let v42171 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42172 : Index := Scalar.indexCast v41345
  let c40_17801 : Index := 40#32
  ![v42171.toNat, v42172.toNat, 40]
def k0_off2618 (i : grid0.Coords) : Fin 3 → Nat :=
  let arg0 : BitVec 32 := BitVec.ofNat 32 (i 0).val
  let v42174 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42175 : Index := Scalar.indexCast v41345
  let c47_17802 : Index := 47#32
  ![v42174.toNat, v42175.toNat, 47]
def k0_off2619 (v42167 : BitVec 32) : Fin 3 → Nat :=
  let c1050_i32_17807 : BitVec 32 := 1050#32
  let v42199 : BitVec 32 := Scalar.addi c1050_i32_17807 v42167
  let v42200 : Index := Scalar.indexCast v42199
  let c0_17808 : Index := 0#32
  let c0_17809 : Index := 0#32
  ![v42200.toNat, 0, 0]

def k0_off2620 (v42170 : BitVec 32) (c1050_i32_17811 : BitVec 32) : Fin 3 → Nat :=
  let v42207 : BitVec 32 := Scalar.addi c1050_i32_17811 v42170
  let v42208 : Index := Scalar.indexCast v42207
  let c0_17812 : Index := 0#32
  let c0_17813 : Index := 0#32
  ![v42208.toNat, 0, 0]

def k0_chk895 (v42170 : BitVec 32) : Prop :=
  (∀ (r : Fin 7), ∀ a, (k0_off2620 v42170 (BitVec.ofNat 32 (1050 + 5 * r.val))) a + S1x8x128.size a ≤ S1120x8x128.size a)
theorem k0_off2620_inb : ∀ (v42170 : BitVec 32) (k0_hw895 : k0_chk895 v42170), ∀ (r : Fin 7), ∀ a, (k0_off2620 v42170 (BitVec.ofNat 32 (1050 + 5 * r.val))) a + S1x8x128.size a ≤ S1120x8x128.size a := fun v42170 k0_hw895 r => k0_hw895 r

def k0_off2621 (v42167 : BitVec 32) (c1055_i32_17816 : BitVec 32) : Fin 3 → Nat :=
  let v42217 : BitVec 32 := Scalar.addi c1055_i32_17816 v42167
  let v42218 : Index := Scalar.indexCast v42217
  let c0_17817 : Index := 0#32
  let c0_17818 : Index := 0#32
  ![v42218.toNat, 0, 0]

def k0_chk894 (v42167 : BitVec 32) : Prop :=
  (∀ a, (k0_off2619 v42167) a + S1x8x128.size a ≤ S1120x8x128.size a) ∧
  (∀ (r : Fin 6), ∀ a, (k0_off2621 v42167 (BitVec.ofNat 32 (1055 + 5 * r.val))) a + S1x8x128.size a ≤ S1120x8x128.size a)
theorem k0_off2619_inb : ∀ (v42167 : BitVec 32) (k0_hw894 : k0_chk894 v42167), ∀ a, (k0_off2619 v42167) a + S1x8x128.size a ≤ S1120x8x128.size a := fun v42167 k0_hw894 => k0_hw894.1
theorem k0_off2621_inb : ∀ (v42167 : BitVec 32) (k0_hw894 : k0_chk894 v42167), ∀ (r : Fin 6), ∀ a, (k0_off2621 v42167 (BitVec.ofNat 32 (1055 + 5 * r.val))) a + S1x8x128.size a ≤ S1120x8x128.size a := fun v42167 k0_hw894 r => k0_hw894.2 r

def k0_off2622 (i : grid0.Coords) : Fin 3 → Nat :=
  let arg0 : BitVec 32 := BitVec.ofNat 32 (i 0).val
  let v42325 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42326 : Index := Scalar.indexCast v41345
  let c27_17870 : Index := 27#32
  ![v42325.toNat, v42326.toNat, 27]
def k0_off2623 (i : grid0.Coords) : Fin 3 → Nat :=
  let arg0 : BitVec 32 := BitVec.ofNat 32 (i 0).val
  let v42328 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42329 : Index := Scalar.indexCast v41345
  let c34_17871 : Index := 34#32
  ![v42328.toNat, v42329.toNat, 34]
def k0_off2624 (i : grid0.Coords) : Fin 3 → Nat :=
  let arg0 : BitVec 32 := BitVec.ofNat 32 (i 0).val
  let v42331 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42332 : Index := Scalar.indexCast v41345
  let c41_17872 : Index := 41#32
  ![v42331.toNat, v42332.toNat, 41]
def k0_off2625 (i : grid0.Coords) : Fin 3 → Nat :=
  let arg0 : BitVec 32 := BitVec.ofNat 32 (i 0).val
  let v42334 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42335 : Index := Scalar.indexCast v41345
  let c48_17873 : Index := 48#32
  ![v42334.toNat, v42335.toNat, 48]
def k0_off2626 (v42327 : BitVec 32) : Fin 3 → Nat :=
  let c1050_i32_17878 : BitVec 32 := 1050#32
  let v42359 : BitVec 32 := Scalar.addi c1050_i32_17878 v42327
  let v42360 : Index := Scalar.indexCast v42359
  let c0_17879 : Index := 0#32
  let c0_17880 : Index := 0#32
  ![v42360.toNat, 0, 0]

def k0_off2627 (v42330 : BitVec 32) (c1050_i32_17882 : BitVec 32) : Fin 3 → Nat :=
  let v42367 : BitVec 32 := Scalar.addi c1050_i32_17882 v42330
  let v42368 : Index := Scalar.indexCast v42367
  let c0_17883 : Index := 0#32
  let c0_17884 : Index := 0#32
  ![v42368.toNat, 0, 0]

def k0_chk897 (v42330 : BitVec 32) : Prop :=
  (∀ (r : Fin 7), ∀ a, (k0_off2627 v42330 (BitVec.ofNat 32 (1050 + 5 * r.val))) a + S1x8x128.size a ≤ S1120x8x128.size a)
theorem k0_off2627_inb : ∀ (v42330 : BitVec 32) (k0_hw897 : k0_chk897 v42330), ∀ (r : Fin 7), ∀ a, (k0_off2627 v42330 (BitVec.ofNat 32 (1050 + 5 * r.val))) a + S1x8x128.size a ≤ S1120x8x128.size a := fun v42330 k0_hw897 r => k0_hw897 r

def k0_off2628 (v42327 : BitVec 32) (c1055_i32_17887 : BitVec 32) : Fin 3 → Nat :=
  let v42377 : BitVec 32 := Scalar.addi c1055_i32_17887 v42327
  let v42378 : Index := Scalar.indexCast v42377
  let c0_17888 : Index := 0#32
  let c0_17889 : Index := 0#32
  ![v42378.toNat, 0, 0]

def k0_chk896 (v42327 : BitVec 32) : Prop :=
  (∀ a, (k0_off2626 v42327) a + S1x8x128.size a ≤ S1120x8x128.size a) ∧
  (∀ (r : Fin 6), ∀ a, (k0_off2628 v42327 (BitVec.ofNat 32 (1055 + 5 * r.val))) a + S1x8x128.size a ≤ S1120x8x128.size a)
theorem k0_off2626_inb : ∀ (v42327 : BitVec 32) (k0_hw896 : k0_chk896 v42327), ∀ a, (k0_off2626 v42327) a + S1x8x128.size a ≤ S1120x8x128.size a := fun v42327 k0_hw896 => k0_hw896.1
theorem k0_off2628_inb : ∀ (v42327 : BitVec 32) (k0_hw896 : k0_chk896 v42327), ∀ (r : Fin 6), ∀ a, (k0_off2628 v42327 (BitVec.ofNat 32 (1055 + 5 * r.val))) a + S1x8x128.size a ≤ S1120x8x128.size a := fun v42327 k0_hw896 r => k0_hw896.2 r

def k0_off2629 (i : grid0.Coords) : Fin 3 → Nat :=
  let arg0 : BitVec 32 := BitVec.ofNat 32 (i 0).val
  let v42485 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42486 : Index := Scalar.indexCast v41345
  let c28_17941 : Index := 28#32
  ![v42485.toNat, v42486.toNat, 28]
def k0_off2630 (i : grid0.Coords) : Fin 3 → Nat :=
  let arg0 : BitVec 32 := BitVec.ofNat 32 (i 0).val
  let v42488 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42489 : Index := Scalar.indexCast v41345
  let c35_17942 : Index := 35#32
  ![v42488.toNat, v42489.toNat, 35]
def k0_off2631 (i : grid0.Coords) : Fin 3 → Nat :=
  let arg0 : BitVec 32 := BitVec.ofNat 32 (i 0).val
  let v42491 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42492 : Index := Scalar.indexCast v41345
  let c42_17943 : Index := 42#32
  ![v42491.toNat, v42492.toNat, 42]
def k0_off2632 (i : grid0.Coords) : Fin 3 → Nat :=
  let arg0 : BitVec 32 := BitVec.ofNat 32 (i 0).val
  let v42494 : Index := Scalar.indexCast arg0
  let arg1 : BitVec 32 := BitVec.ofNat 32 (i 1).val
  let c32_i32_17456 : BitVec 32 := 32#32
  let v41344 : BitVec 32 := Scalar.muli arg1 c32_i32_17456
  let c30_i32_17457 : BitVec 32 := 30#32
  let v41345 : BitVec 32 := Scalar.addi v41344 c30_i32_17457
  let v42495 : Index := Scalar.indexCast v41345
  let c49_17944 : Index := 49#32
  ![v42494.toNat, v42495.toNat, 49]
def k0_off2633 (v42487 : BitVec 32) : Fin 3 → Nat :=
  let c1050_i32_17949 : BitVec 32 := 1050#32
  let v42519 : BitVec 32 := Scalar.addi c1050_i32_17949 v42487
  let v42520 : Index := Scalar.indexCast v42519
  let c0_17950 : Index := 0#32
  let c0_17951 : Index := 0#32
  ![v42520.toNat, 0, 0]

def k0_off2634 (v42490 : BitVec 32) (c1050_i32_17953 : BitVec 32) : Fin 3 → Nat :=
  let v42527 : BitVec 32 := Scalar.addi c1050_i32_17953 v42490
  let v42528 : Index := Scalar.indexCast v42527
  let c0_17954 : Index := 0#32
  let c0_17955 : Index := 0#32
  ![v42528.toNat, 0, 0]

def k0_chk899 (v42490 : BitVec 32) : Prop :=
  (∀ (r : Fin 7), ∀ a, (k0_off2634 v42490 (BitVec.ofNat 32 (1050 + 5 * r.val))) a + S1x8x128.size a ≤ S1120x8x128.size a)
theorem k0_off2634_inb : ∀ (v42490 : BitVec 32) (k0_hw899 : k0_chk899 v42490), ∀ (r : Fin 7), ∀ a, (k0_off2634 v42490 (BitVec.ofNat 32 (1050 + 5 * r.val))) a + S1x8x128.size a ≤ S1120x8x128.size a := fun v42490 k0_hw899 r => k0_hw899 r

def k0_off2635 (v42487 : BitVec 32) (c1055_i32_17958 : BitVec 32) : Fin 3 → Nat :=
  let v42537 : BitVec 32 := Scalar.addi c1055_i32_17958 v42487
  let v42538 : Index := Scalar.indexCast v42537
  let c0_17959 : Index := 0#32
  let c0_17960 : Index := 0#32
  ![v42538.toNat, 0, 0]

def k0_chk898 (v42487 : BitVec 32) : Prop :=
  (∀ a, (k0_off2633 v42487) a + S1x8x128.size a ≤ S1120x8x128.size a) ∧
  (∀ (r : Fin 6), ∀ a, (k0_off2635 v42487 (BitVec.ofNat 32 (1055 + 5 * r.val))) a + S1x8x128.size a ≤ S1120x8x128.size a)
theorem k0_off2633_inb : ∀ (v42487 : BitVec 32) (k0_hw898 : k0_chk898 v42487), ∀ a, (k0_off2633 v42487) a + S1x8x128.size a ≤ S1120x8x128.size a := fun v42487 k0_hw898 => k0_hw898.1
theorem k0_off2635_inb : ∀ (v42487 : BitVec 32) (k0_hw898 : k0_chk898 v42487), ∀ (r : Fin 6), ∀ a, (k0_off2635 v42487 (BitVec.ofNat 32 (1055 + 5 * r.val))) a + S1x8x128.size a ≤ S1120x8x128.size a := fun v42487 k0_hw898 r => k0_hw898.2 r

def k0_off2636 (i : grid0.Coords) : Fin 3 → Nat :=
  let arg0 : BitVec 32 := BitVec.ofNat 32 (i 0).val
  let v42724 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42725 : Index := Scalar.indexCast v42723
  let c0_18041 : Index := 0#32
  ![v42724.toNat, v42725.toNat, 0]
def k0_mult32 (v42726 : BitVec 32) : BitVec 32 :=
  v42726

def k0_chk900 (v42726 : BitVec 32) : Prop :=
  (8 ∣ (k0_mult32 v42726).toNat)
theorem k0_mult32_dvd : ∀ (v42726 : BitVec 32) (k0_hw900 : k0_chk900 v42726), 8 ∣ (k0_mult32 v42726).toNat := fun v42726 k0_hw900 => k0_hw900

def k0_off2637 (i : grid0.Coords) : Fin 3 → Nat :=
  let arg0 : BitVec 32 := BitVec.ofNat 32 (i 0).val
  let v42728 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42729 : Index := Scalar.indexCast v42723
  let c1_18042 : Index := 1#32
  ![v42728.toNat, v42729.toNat, 1]
def k0_off2638 (v42726 : BitVec 32) (v42730 : BitVec 32) : Fin 3 → Nat :=
  let v42731 : Index := Scalar.indexCast v42730
  let v42727 : BitVec 32 := v42726
  let v42732 : Index := Scalar.indexCast v42727
  let c0_18043 : Index := 0#32
  ![v42731.toNat, v42732.toNat, 0]

def k0_chk901 (v42726 : BitVec 32) (v42730 : BitVec 32) : Prop :=
  (∀ a, (k0_off2638 v42726 v42730) a + S1x40x128.size a ≤ S256x64x128.size a)
theorem k0_off2638_inb : ∀ (v42726 : BitVec 32) (v42730 : BitVec 32) (k0_hw901 : k0_chk901 v42726 v42730), ∀ a, (k0_off2638 v42726 v42730) a + S1x40x128.size a ≤ S256x64x128.size a := fun v42726 v42730 k0_hw901 => k0_hw901

def k0_off2639 (i : grid0.Coords) : Fin 3 → Nat :=
  let arg0 : BitVec 32 := BitVec.ofNat 32 (i 0).val
  let v42735 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42736 : Index := Scalar.indexCast v42723
  let c8_18044 : Index := 8#32
  ![v42735.toNat, v42736.toNat, 8]
def k0_off2640 (v42726 : BitVec 32) (v42737 : BitVec 32) : Fin 3 → Nat :=
  let v42738 : Index := Scalar.indexCast v42737
  let v42727 : BitVec 32 := v42726
  let v42739 : Index := Scalar.indexCast v42727
  let c0_18045 : Index := 0#32
  ![v42738.toNat, v42739.toNat, 0]

def k0_chk902 (v42726 : BitVec 32) (v42737 : BitVec 32) : Prop :=
  (∀ a, (k0_off2640 v42726 v42737) a + S1x40x128.size a ≤ S256x64x128.size a)
theorem k0_off2640_inb : ∀ (v42726 : BitVec 32) (v42737 : BitVec 32) (k0_hw902 : k0_chk902 v42726 v42737), ∀ a, (k0_off2640 v42726 v42737) a + S1x40x128.size a ≤ S256x64x128.size a := fun v42726 v42737 k0_hw902 => k0_hw902

def k0_off2641 (i : grid0.Coords) : Fin 3 → Nat :=
  let arg0 : BitVec 32 := BitVec.ofNat 32 (i 0).val
  let v42743 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42744 : Index := Scalar.indexCast v42723
  let c15_18046 : Index := 15#32
  ![v42743.toNat, v42744.toNat, 15]
def k0_off2642 (i : grid0.Coords) : Fin 3 → Nat :=
  let arg0 : BitVec 32 := BitVec.ofNat 32 (i 0).val
  let v42753 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42754 : Index := Scalar.indexCast v42723
  let c2_18051 : Index := 2#32
  ![v42753.toNat, v42754.toNat, 2]
def k0_off2643 (v42726 : BitVec 32) (v42755 : BitVec 32) : Fin 3 → Nat :=
  let v42756 : Index := Scalar.indexCast v42755
  let v42727 : BitVec 32 := v42726
  let v42757 : Index := Scalar.indexCast v42727
  let c0_18052 : Index := 0#32
  ![v42756.toNat, v42757.toNat, 0]

def k0_chk903 (v42726 : BitVec 32) (v42755 : BitVec 32) : Prop :=
  (∀ a, (k0_off2643 v42726 v42755) a + S1x40x128.size a ≤ S256x64x128.size a)
theorem k0_off2643_inb : ∀ (v42726 : BitVec 32) (v42755 : BitVec 32) (k0_hw903 : k0_chk903 v42726 v42755), ∀ a, (k0_off2643 v42726 v42755) a + S1x40x128.size a ≤ S256x64x128.size a := fun v42726 v42755 k0_hw903 => k0_hw903

def k0_off2644 (i : grid0.Coords) : Fin 3 → Nat :=
  let arg0 : BitVec 32 := BitVec.ofNat 32 (i 0).val
  let v42760 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42761 : Index := Scalar.indexCast v42723
  let c9_18053 : Index := 9#32
  ![v42760.toNat, v42761.toNat, 9]
def k0_off2645 (v42726 : BitVec 32) (v42762 : BitVec 32) : Fin 3 → Nat :=
  let v42763 : Index := Scalar.indexCast v42762
  let v42727 : BitVec 32 := v42726
  let v42764 : Index := Scalar.indexCast v42727
  let c0_18054 : Index := 0#32
  ![v42763.toNat, v42764.toNat, 0]

def k0_chk904 (v42726 : BitVec 32) (v42762 : BitVec 32) : Prop :=
  (∀ a, (k0_off2645 v42726 v42762) a + S1x40x128.size a ≤ S256x64x128.size a)
theorem k0_off2645_inb : ∀ (v42726 : BitVec 32) (v42762 : BitVec 32) (k0_hw904 : k0_chk904 v42726 v42762), ∀ a, (k0_off2645 v42726 v42762) a + S1x40x128.size a ≤ S256x64x128.size a := fun v42726 v42762 k0_hw904 => k0_hw904

def k0_off2646 (i : grid0.Coords) : Fin 3 → Nat :=
  let arg0 : BitVec 32 := BitVec.ofNat 32 (i 0).val
  let v42768 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42769 : Index := Scalar.indexCast v42723
  let c16_18055 : Index := 16#32
  ![v42768.toNat, v42769.toNat, 16]
def k0_off2647 (i : grid0.Coords) : Fin 3 → Nat :=
  let arg0 : BitVec 32 := BitVec.ofNat 32 (i 0).val
  let v42778 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42779 : Index := Scalar.indexCast v42723
  let c3_18060 : Index := 3#32
  ![v42778.toNat, v42779.toNat, 3]
def k0_off2648 (v42726 : BitVec 32) (v42780 : BitVec 32) : Fin 3 → Nat :=
  let v42781 : Index := Scalar.indexCast v42780
  let v42727 : BitVec 32 := v42726
  let v42782 : Index := Scalar.indexCast v42727
  let c0_18061 : Index := 0#32
  ![v42781.toNat, v42782.toNat, 0]

def k0_chk905 (v42726 : BitVec 32) (v42780 : BitVec 32) : Prop :=
  (∀ a, (k0_off2648 v42726 v42780) a + S1x40x128.size a ≤ S256x64x128.size a)
theorem k0_off2648_inb : ∀ (v42726 : BitVec 32) (v42780 : BitVec 32) (k0_hw905 : k0_chk905 v42726 v42780), ∀ a, (k0_off2648 v42726 v42780) a + S1x40x128.size a ≤ S256x64x128.size a := fun v42726 v42780 k0_hw905 => k0_hw905

def k0_off2649 (i : grid0.Coords) : Fin 3 → Nat :=
  let arg0 : BitVec 32 := BitVec.ofNat 32 (i 0).val
  let v42785 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42786 : Index := Scalar.indexCast v42723
  let c10_18062 : Index := 10#32
  ![v42785.toNat, v42786.toNat, 10]
def k0_off2650 (v42726 : BitVec 32) (v42787 : BitVec 32) : Fin 3 → Nat :=
  let v42788 : Index := Scalar.indexCast v42787
  let v42727 : BitVec 32 := v42726
  let v42789 : Index := Scalar.indexCast v42727
  let c0_18063 : Index := 0#32
  ![v42788.toNat, v42789.toNat, 0]

def k0_chk906 (v42726 : BitVec 32) (v42787 : BitVec 32) : Prop :=
  (∀ a, (k0_off2650 v42726 v42787) a + S1x40x128.size a ≤ S256x64x128.size a)
theorem k0_off2650_inb : ∀ (v42726 : BitVec 32) (v42787 : BitVec 32) (k0_hw906 : k0_chk906 v42726 v42787), ∀ a, (k0_off2650 v42726 v42787) a + S1x40x128.size a ≤ S256x64x128.size a := fun v42726 v42787 k0_hw906 => k0_hw906

def k0_off2651 (i : grid0.Coords) : Fin 3 → Nat :=
  let arg0 : BitVec 32 := BitVec.ofNat 32 (i 0).val
  let v42793 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42794 : Index := Scalar.indexCast v42723
  let c17_18064 : Index := 17#32
  ![v42793.toNat, v42794.toNat, 17]
def k0_off2652 (i : grid0.Coords) : Fin 3 → Nat :=
  let arg0 : BitVec 32 := BitVec.ofNat 32 (i 0).val
  let v42803 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42804 : Index := Scalar.indexCast v42723
  let c4_18069 : Index := 4#32
  ![v42803.toNat, v42804.toNat, 4]
def k0_off2653 (v42726 : BitVec 32) (v42805 : BitVec 32) : Fin 3 → Nat :=
  let v42806 : Index := Scalar.indexCast v42805
  let v42727 : BitVec 32 := v42726
  let v42807 : Index := Scalar.indexCast v42727
  let c0_18070 : Index := 0#32
  ![v42806.toNat, v42807.toNat, 0]

def k0_chk907 (v42726 : BitVec 32) (v42805 : BitVec 32) : Prop :=
  (∀ a, (k0_off2653 v42726 v42805) a + S1x40x128.size a ≤ S256x64x128.size a)
theorem k0_off2653_inb : ∀ (v42726 : BitVec 32) (v42805 : BitVec 32) (k0_hw907 : k0_chk907 v42726 v42805), ∀ a, (k0_off2653 v42726 v42805) a + S1x40x128.size a ≤ S256x64x128.size a := fun v42726 v42805 k0_hw907 => k0_hw907

def k0_off2654 (i : grid0.Coords) : Fin 3 → Nat :=
  let arg0 : BitVec 32 := BitVec.ofNat 32 (i 0).val
  let v42810 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42811 : Index := Scalar.indexCast v42723
  let c11_18071 : Index := 11#32
  ![v42810.toNat, v42811.toNat, 11]
def k0_off2655 (v42726 : BitVec 32) (v42812 : BitVec 32) : Fin 3 → Nat :=
  let v42813 : Index := Scalar.indexCast v42812
  let v42727 : BitVec 32 := v42726
  let v42814 : Index := Scalar.indexCast v42727
  let c0_18072 : Index := 0#32
  ![v42813.toNat, v42814.toNat, 0]

def k0_chk908 (v42726 : BitVec 32) (v42812 : BitVec 32) : Prop :=
  (∀ a, (k0_off2655 v42726 v42812) a + S1x40x128.size a ≤ S256x64x128.size a)
theorem k0_off2655_inb : ∀ (v42726 : BitVec 32) (v42812 : BitVec 32) (k0_hw908 : k0_chk908 v42726 v42812), ∀ a, (k0_off2655 v42726 v42812) a + S1x40x128.size a ≤ S256x64x128.size a := fun v42726 v42812 k0_hw908 => k0_hw908

def k0_off2656 (i : grid0.Coords) : Fin 3 → Nat :=
  let arg0 : BitVec 32 := BitVec.ofNat 32 (i 0).val
  let v42818 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42819 : Index := Scalar.indexCast v42723
  let c18_18073 : Index := 18#32
  ![v42818.toNat, v42819.toNat, 18]
def k0_off2657 (i : grid0.Coords) : Fin 3 → Nat :=
  let arg0 : BitVec 32 := BitVec.ofNat 32 (i 0).val
  let v42828 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42829 : Index := Scalar.indexCast v42723
  let c5_18078 : Index := 5#32
  ![v42828.toNat, v42829.toNat, 5]
def k0_off2658 (v42726 : BitVec 32) (v42830 : BitVec 32) : Fin 3 → Nat :=
  let v42831 : Index := Scalar.indexCast v42830
  let v42727 : BitVec 32 := v42726
  let v42832 : Index := Scalar.indexCast v42727
  let c0_18079 : Index := 0#32
  ![v42831.toNat, v42832.toNat, 0]

def k0_chk909 (v42726 : BitVec 32) (v42830 : BitVec 32) : Prop :=
  (∀ a, (k0_off2658 v42726 v42830) a + S1x40x128.size a ≤ S256x64x128.size a)
theorem k0_off2658_inb : ∀ (v42726 : BitVec 32) (v42830 : BitVec 32) (k0_hw909 : k0_chk909 v42726 v42830), ∀ a, (k0_off2658 v42726 v42830) a + S1x40x128.size a ≤ S256x64x128.size a := fun v42726 v42830 k0_hw909 => k0_hw909

def k0_off2659 (i : grid0.Coords) : Fin 3 → Nat :=
  let arg0 : BitVec 32 := BitVec.ofNat 32 (i 0).val
  let v42835 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42836 : Index := Scalar.indexCast v42723
  let c12_18080 : Index := 12#32
  ![v42835.toNat, v42836.toNat, 12]
def k0_off2660 (v42726 : BitVec 32) (v42837 : BitVec 32) : Fin 3 → Nat :=
  let v42838 : Index := Scalar.indexCast v42837
  let v42727 : BitVec 32 := v42726
  let v42839 : Index := Scalar.indexCast v42727
  let c0_18081 : Index := 0#32
  ![v42838.toNat, v42839.toNat, 0]

def k0_chk910 (v42726 : BitVec 32) (v42837 : BitVec 32) : Prop :=
  (∀ a, (k0_off2660 v42726 v42837) a + S1x40x128.size a ≤ S256x64x128.size a)
theorem k0_off2660_inb : ∀ (v42726 : BitVec 32) (v42837 : BitVec 32) (k0_hw910 : k0_chk910 v42726 v42837), ∀ a, (k0_off2660 v42726 v42837) a + S1x40x128.size a ≤ S256x64x128.size a := fun v42726 v42837 k0_hw910 => k0_hw910

def k0_off2661 (i : grid0.Coords) : Fin 3 → Nat :=
  let arg0 : BitVec 32 := BitVec.ofNat 32 (i 0).val
  let v42843 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42844 : Index := Scalar.indexCast v42723
  let c19_18082 : Index := 19#32
  ![v42843.toNat, v42844.toNat, 19]
def k0_off2662 (i : grid0.Coords) : Fin 3 → Nat :=
  let arg0 : BitVec 32 := BitVec.ofNat 32 (i 0).val
  let v42853 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42854 : Index := Scalar.indexCast v42723
  let c6_18087 : Index := 6#32
  ![v42853.toNat, v42854.toNat, 6]
def k0_off2663 (v42726 : BitVec 32) (v42855 : BitVec 32) : Fin 3 → Nat :=
  let v42856 : Index := Scalar.indexCast v42855
  let v42727 : BitVec 32 := v42726
  let v42857 : Index := Scalar.indexCast v42727
  let c0_18088 : Index := 0#32
  ![v42856.toNat, v42857.toNat, 0]

def k0_chk911 (v42726 : BitVec 32) (v42855 : BitVec 32) : Prop :=
  (∀ a, (k0_off2663 v42726 v42855) a + S1x40x128.size a ≤ S256x64x128.size a)
theorem k0_off2663_inb : ∀ (v42726 : BitVec 32) (v42855 : BitVec 32) (k0_hw911 : k0_chk911 v42726 v42855), ∀ a, (k0_off2663 v42726 v42855) a + S1x40x128.size a ≤ S256x64x128.size a := fun v42726 v42855 k0_hw911 => k0_hw911

def k0_off2664 (i : grid0.Coords) : Fin 3 → Nat :=
  let arg0 : BitVec 32 := BitVec.ofNat 32 (i 0).val
  let v42860 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42861 : Index := Scalar.indexCast v42723
  let c13_18089 : Index := 13#32
  ![v42860.toNat, v42861.toNat, 13]
def k0_off2665 (v42726 : BitVec 32) (v42862 : BitVec 32) : Fin 3 → Nat :=
  let v42863 : Index := Scalar.indexCast v42862
  let v42727 : BitVec 32 := v42726
  let v42864 : Index := Scalar.indexCast v42727
  let c0_18090 : Index := 0#32
  ![v42863.toNat, v42864.toNat, 0]

def k0_chk912 (v42726 : BitVec 32) (v42862 : BitVec 32) : Prop :=
  (∀ a, (k0_off2665 v42726 v42862) a + S1x40x128.size a ≤ S256x64x128.size a)
theorem k0_off2665_inb : ∀ (v42726 : BitVec 32) (v42862 : BitVec 32) (k0_hw912 : k0_chk912 v42726 v42862), ∀ a, (k0_off2665 v42726 v42862) a + S1x40x128.size a ≤ S256x64x128.size a := fun v42726 v42862 k0_hw912 => k0_hw912

def k0_off2666 (i : grid0.Coords) : Fin 3 → Nat :=
  let arg0 : BitVec 32 := BitVec.ofNat 32 (i 0).val
  let v42868 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42869 : Index := Scalar.indexCast v42723
  let c20_18091 : Index := 20#32
  ![v42868.toNat, v42869.toNat, 20]
def k0_off2667 (i : grid0.Coords) : Fin 3 → Nat :=
  let arg0 : BitVec 32 := BitVec.ofNat 32 (i 0).val
  let v42878 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42879 : Index := Scalar.indexCast v42723
  let c7_18096 : Index := 7#32
  ![v42878.toNat, v42879.toNat, 7]
def k0_off2668 (v42726 : BitVec 32) (v42880 : BitVec 32) : Fin 3 → Nat :=
  let v42881 : Index := Scalar.indexCast v42880
  let v42727 : BitVec 32 := v42726
  let v42882 : Index := Scalar.indexCast v42727
  let c0_18097 : Index := 0#32
  ![v42881.toNat, v42882.toNat, 0]

def k0_chk913 (v42726 : BitVec 32) (v42880 : BitVec 32) : Prop :=
  (∀ a, (k0_off2668 v42726 v42880) a + S1x40x128.size a ≤ S256x64x128.size a)
theorem k0_off2668_inb : ∀ (v42726 : BitVec 32) (v42880 : BitVec 32) (k0_hw913 : k0_chk913 v42726 v42880), ∀ a, (k0_off2668 v42726 v42880) a + S1x40x128.size a ≤ S256x64x128.size a := fun v42726 v42880 k0_hw913 => k0_hw913

def k0_off2669 (i : grid0.Coords) : Fin 3 → Nat :=
  let arg0 : BitVec 32 := BitVec.ofNat 32 (i 0).val
  let v42885 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42886 : Index := Scalar.indexCast v42723
  let c14_18098 : Index := 14#32
  ![v42885.toNat, v42886.toNat, 14]
def k0_off2670 (v42726 : BitVec 32) (v42887 : BitVec 32) : Fin 3 → Nat :=
  let v42888 : Index := Scalar.indexCast v42887
  let v42727 : BitVec 32 := v42726
  let v42889 : Index := Scalar.indexCast v42727
  let c0_18099 : Index := 0#32
  ![v42888.toNat, v42889.toNat, 0]

def k0_chk914 (v42726 : BitVec 32) (v42887 : BitVec 32) : Prop :=
  (∀ a, (k0_off2670 v42726 v42887) a + S1x40x128.size a ≤ S256x64x128.size a)
theorem k0_off2670_inb : ∀ (v42726 : BitVec 32) (v42887 : BitVec 32) (k0_hw914 : k0_chk914 v42726 v42887), ∀ a, (k0_off2670 v42726 v42887) a + S1x40x128.size a ≤ S256x64x128.size a := fun v42726 v42887 k0_hw914 => k0_hw914

def k0_off2671 (i : grid0.Coords) : Fin 3 → Nat :=
  let arg0 : BitVec 32 := BitVec.ofNat 32 (i 0).val
  let v42893 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42894 : Index := Scalar.indexCast v42723
  let c21_18100 : Index := 21#32
  ![v42893.toNat, v42894.toNat, 21]
def k0_off2672 (i : grid0.Coords) : Fin 3 → Nat :=
  let arg0 : BitVec 32 := BitVec.ofNat 32 (i 0).val
  let v42903 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42904 : Index := Scalar.indexCast v42723
  let c22_18105 : Index := 22#32
  ![v42903.toNat, v42904.toNat, 22]
def k0_off2673 (i : grid0.Coords) : Fin 3 → Nat :=
  let arg0 : BitVec 32 := BitVec.ofNat 32 (i 0).val
  let v42906 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42907 : Index := Scalar.indexCast v42723
  let c29_18106 : Index := 29#32
  ![v42906.toNat, v42907.toNat, 29]
def k0_off2674 (i : grid0.Coords) : Fin 3 → Nat :=
  let arg0 : BitVec 32 := BitVec.ofNat 32 (i 0).val
  let v42909 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42910 : Index := Scalar.indexCast v42723
  let c36_18107 : Index := 36#32
  ![v42909.toNat, v42910.toNat, 36]
def k0_off2675 (i : grid0.Coords) : Fin 3 → Nat :=
  let arg0 : BitVec 32 := BitVec.ofNat 32 (i 0).val
  let v42912 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v42913 : Index := Scalar.indexCast v42723
  let c43_18108 : Index := 43#32
  ![v42912.toNat, v42913.toNat, 43]
def k0_off2676 (v42905 : BitVec 32) : Fin 3 → Nat :=
  let c1085_i32 : BitVec 32 := 1085#32
  let v42937 : BitVec 32 := Scalar.addi c1085_i32 v42905
  let v42938 : Index := Scalar.indexCast v42937
  let c0_18113 : Index := 0#32
  let c0_18114 : Index := 0#32
  ![v42938.toNat, 0, 0]

def k0_off2677 (v42908 : BitVec 32) (c1085_i32_18116 : BitVec 32) : Fin 3 → Nat :=
  let v42945 : BitVec 32 := Scalar.addi c1085_i32_18116 v42908
  let v42946 : Index := Scalar.indexCast v42945
  let c0_18117 : Index := 0#32
  let c0_18118 : Index := 0#32
  ![v42946.toNat, 0, 0]

def k0_chk916 (v42908 : BitVec 32) : Prop :=
  (∀ (r : Fin 7), ∀ a, (k0_off2677 v42908 (BitVec.ofNat 32 (1085 + 5 * r.val))) a + S1x8x128.size a ≤ S1120x8x128.size a)
theorem k0_off2677_inb : ∀ (v42908 : BitVec 32) (k0_hw916 : k0_chk916 v42908), ∀ (r : Fin 7), ∀ a, (k0_off2677 v42908 (BitVec.ofNat 32 (1085 + 5 * r.val))) a + S1x8x128.size a ≤ S1120x8x128.size a := fun v42908 k0_hw916 r => k0_hw916 r

def k0_off2678 (v42905 : BitVec 32) (c1090_i32 : BitVec 32) : Fin 3 → Nat :=
  let v42955 : BitVec 32 := Scalar.addi c1090_i32 v42905
  let v42956 : Index := Scalar.indexCast v42955
  let c0_18121 : Index := 0#32
  let c0_18122 : Index := 0#32
  ![v42956.toNat, 0, 0]

def k0_chk915 (v42905 : BitVec 32) : Prop :=
  (∀ a, (k0_off2676 v42905) a + S1x8x128.size a ≤ S1120x8x128.size a) ∧
  (∀ (r : Fin 6), ∀ a, (k0_off2678 v42905 (BitVec.ofNat 32 (1090 + 5 * r.val))) a + S1x8x128.size a ≤ S1120x8x128.size a)
theorem k0_off2676_inb : ∀ (v42905 : BitVec 32) (k0_hw915 : k0_chk915 v42905), ∀ a, (k0_off2676 v42905) a + S1x8x128.size a ≤ S1120x8x128.size a := fun v42905 k0_hw915 => k0_hw915.1
theorem k0_off2678_inb : ∀ (v42905 : BitVec 32) (k0_hw915 : k0_chk915 v42905), ∀ (r : Fin 6), ∀ a, (k0_off2678 v42905 (BitVec.ofNat 32 (1090 + 5 * r.val))) a + S1x8x128.size a ≤ S1120x8x128.size a := fun v42905 k0_hw915 r => k0_hw915.2 r

def k0_off2679 (i : grid0.Coords) : Fin 3 → Nat :=
  let arg0 : BitVec 32 := BitVec.ofNat 32 (i 0).val
  let v43063 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43064 : Index := Scalar.indexCast v42723
  let c23_18169 : Index := 23#32
  ![v43063.toNat, v43064.toNat, 23]
def k0_off2680 (i : grid0.Coords) : Fin 3 → Nat :=
  let arg0 : BitVec 32 := BitVec.ofNat 32 (i 0).val
  let v43066 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43067 : Index := Scalar.indexCast v42723
  let c30_18170 : Index := 30#32
  ![v43066.toNat, v43067.toNat, 30]
def k0_off2681 (i : grid0.Coords) : Fin 3 → Nat :=
  let arg0 : BitVec 32 := BitVec.ofNat 32 (i 0).val
  let v43069 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43070 : Index := Scalar.indexCast v42723
  let c37_18171 : Index := 37#32
  ![v43069.toNat, v43070.toNat, 37]
def k0_off2682 (i : grid0.Coords) : Fin 3 → Nat :=
  let arg0 : BitVec 32 := BitVec.ofNat 32 (i 0).val
  let v43072 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43073 : Index := Scalar.indexCast v42723
  let c44_18172 : Index := 44#32
  ![v43072.toNat, v43073.toNat, 44]
def k0_off2683 (v43065 : BitVec 32) : Fin 3 → Nat :=
  let c1085_i32_18177 : BitVec 32 := 1085#32
  let v43097 : BitVec 32 := Scalar.addi c1085_i32_18177 v43065
  let v43098 : Index := Scalar.indexCast v43097
  let c0_18178 : Index := 0#32
  let c0_18179 : Index := 0#32
  ![v43098.toNat, 0, 0]

def k0_off2684 (v43068 : BitVec 32) (c1085_i32_18181 : BitVec 32) : Fin 3 → Nat :=
  let v43105 : BitVec 32 := Scalar.addi c1085_i32_18181 v43068
  let v43106 : Index := Scalar.indexCast v43105
  let c0_18182 : Index := 0#32
  let c0_18183 : Index := 0#32
  ![v43106.toNat, 0, 0]

def k0_chk918 (v43068 : BitVec 32) : Prop :=
  (∀ (r : Fin 7), ∀ a, (k0_off2684 v43068 (BitVec.ofNat 32 (1085 + 5 * r.val))) a + S1x8x128.size a ≤ S1120x8x128.size a)
theorem k0_off2684_inb : ∀ (v43068 : BitVec 32) (k0_hw918 : k0_chk918 v43068), ∀ (r : Fin 7), ∀ a, (k0_off2684 v43068 (BitVec.ofNat 32 (1085 + 5 * r.val))) a + S1x8x128.size a ≤ S1120x8x128.size a := fun v43068 k0_hw918 r => k0_hw918 r

def k0_off2685 (v43065 : BitVec 32) (c1090_i32_18186 : BitVec 32) : Fin 3 → Nat :=
  let v43115 : BitVec 32 := Scalar.addi c1090_i32_18186 v43065
  let v43116 : Index := Scalar.indexCast v43115
  let c0_18187 : Index := 0#32
  let c0_18188 : Index := 0#32
  ![v43116.toNat, 0, 0]

def k0_chk917 (v43065 : BitVec 32) : Prop :=
  (∀ a, (k0_off2683 v43065) a + S1x8x128.size a ≤ S1120x8x128.size a) ∧
  (∀ (r : Fin 6), ∀ a, (k0_off2685 v43065 (BitVec.ofNat 32 (1090 + 5 * r.val))) a + S1x8x128.size a ≤ S1120x8x128.size a)
theorem k0_off2683_inb : ∀ (v43065 : BitVec 32) (k0_hw917 : k0_chk917 v43065), ∀ a, (k0_off2683 v43065) a + S1x8x128.size a ≤ S1120x8x128.size a := fun v43065 k0_hw917 => k0_hw917.1
theorem k0_off2685_inb : ∀ (v43065 : BitVec 32) (k0_hw917 : k0_chk917 v43065), ∀ (r : Fin 6), ∀ a, (k0_off2685 v43065 (BitVec.ofNat 32 (1090 + 5 * r.val))) a + S1x8x128.size a ≤ S1120x8x128.size a := fun v43065 k0_hw917 r => k0_hw917.2 r

def k0_off2686 (i : grid0.Coords) : Fin 3 → Nat :=
  let arg0 : BitVec 32 := BitVec.ofNat 32 (i 0).val
  let v43223 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43224 : Index := Scalar.indexCast v42723
  let c24_18240 : Index := 24#32
  ![v43223.toNat, v43224.toNat, 24]
def k0_off2687 (i : grid0.Coords) : Fin 3 → Nat :=
  let arg0 : BitVec 32 := BitVec.ofNat 32 (i 0).val
  let v43226 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43227 : Index := Scalar.indexCast v42723
  let c31_18241 : Index := 31#32
  ![v43226.toNat, v43227.toNat, 31]
def k0_off2688 (i : grid0.Coords) : Fin 3 → Nat :=
  let arg0 : BitVec 32 := BitVec.ofNat 32 (i 0).val
  let v43229 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43230 : Index := Scalar.indexCast v42723
  let c38_18242 : Index := 38#32
  ![v43229.toNat, v43230.toNat, 38]
def k0_off2689 (i : grid0.Coords) : Fin 3 → Nat :=
  let arg0 : BitVec 32 := BitVec.ofNat 32 (i 0).val
  let v43232 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43233 : Index := Scalar.indexCast v42723
  let c45_18243 : Index := 45#32
  ![v43232.toNat, v43233.toNat, 45]
def k0_off2690 (v43225 : BitVec 32) : Fin 3 → Nat :=
  let c1085_i32_18248 : BitVec 32 := 1085#32
  let v43257 : BitVec 32 := Scalar.addi c1085_i32_18248 v43225
  let v43258 : Index := Scalar.indexCast v43257
  let c0_18249 : Index := 0#32
  let c0_18250 : Index := 0#32
  ![v43258.toNat, 0, 0]

def k0_off2691 (v43228 : BitVec 32) (c1085_i32_18252 : BitVec 32) : Fin 3 → Nat :=
  let v43265 : BitVec 32 := Scalar.addi c1085_i32_18252 v43228
  let v43266 : Index := Scalar.indexCast v43265
  let c0_18253 : Index := 0#32
  let c0_18254 : Index := 0#32
  ![v43266.toNat, 0, 0]

def k0_chk920 (v43228 : BitVec 32) : Prop :=
  (∀ (r : Fin 7), ∀ a, (k0_off2691 v43228 (BitVec.ofNat 32 (1085 + 5 * r.val))) a + S1x8x128.size a ≤ S1120x8x128.size a)
theorem k0_off2691_inb : ∀ (v43228 : BitVec 32) (k0_hw920 : k0_chk920 v43228), ∀ (r : Fin 7), ∀ a, (k0_off2691 v43228 (BitVec.ofNat 32 (1085 + 5 * r.val))) a + S1x8x128.size a ≤ S1120x8x128.size a := fun v43228 k0_hw920 r => k0_hw920 r

def k0_off2692 (v43225 : BitVec 32) (c1090_i32_18257 : BitVec 32) : Fin 3 → Nat :=
  let v43275 : BitVec 32 := Scalar.addi c1090_i32_18257 v43225
  let v43276 : Index := Scalar.indexCast v43275
  let c0_18258 : Index := 0#32
  let c0_18259 : Index := 0#32
  ![v43276.toNat, 0, 0]

def k0_chk919 (v43225 : BitVec 32) : Prop :=
  (∀ a, (k0_off2690 v43225) a + S1x8x128.size a ≤ S1120x8x128.size a) ∧
  (∀ (r : Fin 6), ∀ a, (k0_off2692 v43225 (BitVec.ofNat 32 (1090 + 5 * r.val))) a + S1x8x128.size a ≤ S1120x8x128.size a)
theorem k0_off2690_inb : ∀ (v43225 : BitVec 32) (k0_hw919 : k0_chk919 v43225), ∀ a, (k0_off2690 v43225) a + S1x8x128.size a ≤ S1120x8x128.size a := fun v43225 k0_hw919 => k0_hw919.1
theorem k0_off2692_inb : ∀ (v43225 : BitVec 32) (k0_hw919 : k0_chk919 v43225), ∀ (r : Fin 6), ∀ a, (k0_off2692 v43225 (BitVec.ofNat 32 (1090 + 5 * r.val))) a + S1x8x128.size a ≤ S1120x8x128.size a := fun v43225 k0_hw919 r => k0_hw919.2 r

def k0_off2693 (i : grid0.Coords) : Fin 3 → Nat :=
  let arg0 : BitVec 32 := BitVec.ofNat 32 (i 0).val
  let v43383 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43384 : Index := Scalar.indexCast v42723
  let c25_18311 : Index := 25#32
  ![v43383.toNat, v43384.toNat, 25]
def k0_off2694 (i : grid0.Coords) : Fin 3 → Nat :=
  let arg0 : BitVec 32 := BitVec.ofNat 32 (i 0).val
  let v43386 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43387 : Index := Scalar.indexCast v42723
  let c32_18312 : Index := 32#32
  ![v43386.toNat, v43387.toNat, 32]
def k0_off2695 (i : grid0.Coords) : Fin 3 → Nat :=
  let arg0 : BitVec 32 := BitVec.ofNat 32 (i 0).val
  let v43389 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43390 : Index := Scalar.indexCast v42723
  let c39_18313 : Index := 39#32
  ![v43389.toNat, v43390.toNat, 39]
def k0_off2696 (i : grid0.Coords) : Fin 3 → Nat :=
  let arg0 : BitVec 32 := BitVec.ofNat 32 (i 0).val
  let v43392 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43393 : Index := Scalar.indexCast v42723
  let c46_18314 : Index := 46#32
  ![v43392.toNat, v43393.toNat, 46]
def k0_off2697 (v43385 : BitVec 32) : Fin 3 → Nat :=
  let c1085_i32_18319 : BitVec 32 := 1085#32
  let v43417 : BitVec 32 := Scalar.addi c1085_i32_18319 v43385
  let v43418 : Index := Scalar.indexCast v43417
  let c0_18320 : Index := 0#32
  let c0_18321 : Index := 0#32
  ![v43418.toNat, 0, 0]

def k0_off2698 (v43388 : BitVec 32) (c1085_i32_18323 : BitVec 32) : Fin 3 → Nat :=
  let v43425 : BitVec 32 := Scalar.addi c1085_i32_18323 v43388
  let v43426 : Index := Scalar.indexCast v43425
  let c0_18324 : Index := 0#32
  let c0_18325 : Index := 0#32
  ![v43426.toNat, 0, 0]

def k0_chk922 (v43388 : BitVec 32) : Prop :=
  (∀ (r : Fin 7), ∀ a, (k0_off2698 v43388 (BitVec.ofNat 32 (1085 + 5 * r.val))) a + S1x8x128.size a ≤ S1120x8x128.size a)
theorem k0_off2698_inb : ∀ (v43388 : BitVec 32) (k0_hw922 : k0_chk922 v43388), ∀ (r : Fin 7), ∀ a, (k0_off2698 v43388 (BitVec.ofNat 32 (1085 + 5 * r.val))) a + S1x8x128.size a ≤ S1120x8x128.size a := fun v43388 k0_hw922 r => k0_hw922 r

def k0_off2699 (v43385 : BitVec 32) (c1090_i32_18328 : BitVec 32) : Fin 3 → Nat :=
  let v43435 : BitVec 32 := Scalar.addi c1090_i32_18328 v43385
  let v43436 : Index := Scalar.indexCast v43435
  let c0_18329 : Index := 0#32
  let c0_18330 : Index := 0#32
  ![v43436.toNat, 0, 0]

def k0_chk921 (v43385 : BitVec 32) : Prop :=
  (∀ a, (k0_off2697 v43385) a + S1x8x128.size a ≤ S1120x8x128.size a) ∧
  (∀ (r : Fin 6), ∀ a, (k0_off2699 v43385 (BitVec.ofNat 32 (1090 + 5 * r.val))) a + S1x8x128.size a ≤ S1120x8x128.size a)
theorem k0_off2697_inb : ∀ (v43385 : BitVec 32) (k0_hw921 : k0_chk921 v43385), ∀ a, (k0_off2697 v43385) a + S1x8x128.size a ≤ S1120x8x128.size a := fun v43385 k0_hw921 => k0_hw921.1
theorem k0_off2699_inb : ∀ (v43385 : BitVec 32) (k0_hw921 : k0_chk921 v43385), ∀ (r : Fin 6), ∀ a, (k0_off2699 v43385 (BitVec.ofNat 32 (1090 + 5 * r.val))) a + S1x8x128.size a ≤ S1120x8x128.size a := fun v43385 k0_hw921 r => k0_hw921.2 r

def k0_off2700 (i : grid0.Coords) : Fin 3 → Nat :=
  let arg0 : BitVec 32 := BitVec.ofNat 32 (i 0).val
  let v43543 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43544 : Index := Scalar.indexCast v42723
  let c26_18382 : Index := 26#32
  ![v43543.toNat, v43544.toNat, 26]
def k0_off2701 (i : grid0.Coords) : Fin 3 → Nat :=
  let arg0 : BitVec 32 := BitVec.ofNat 32 (i 0).val
  let v43546 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43547 : Index := Scalar.indexCast v42723
  let c33_18383 : Index := 33#32
  ![v43546.toNat, v43547.toNat, 33]
def k0_off2702 (i : grid0.Coords) : Fin 3 → Nat :=
  let arg0 : BitVec 32 := BitVec.ofNat 32 (i 0).val
  let v43549 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43550 : Index := Scalar.indexCast v42723
  let c40_18384 : Index := 40#32
  ![v43549.toNat, v43550.toNat, 40]
def k0_off2703 (i : grid0.Coords) : Fin 3 → Nat :=
  let arg0 : BitVec 32 := BitVec.ofNat 32 (i 0).val
  let v43552 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43553 : Index := Scalar.indexCast v42723
  let c47_18385 : Index := 47#32
  ![v43552.toNat, v43553.toNat, 47]
def k0_off2704 (v43545 : BitVec 32) : Fin 3 → Nat :=
  let c1085_i32_18390 : BitVec 32 := 1085#32
  let v43577 : BitVec 32 := Scalar.addi c1085_i32_18390 v43545
  let v43578 : Index := Scalar.indexCast v43577
  let c0_18391 : Index := 0#32
  let c0_18392 : Index := 0#32
  ![v43578.toNat, 0, 0]

def k0_off2705 (v43548 : BitVec 32) (c1085_i32_18394 : BitVec 32) : Fin 3 → Nat :=
  let v43585 : BitVec 32 := Scalar.addi c1085_i32_18394 v43548
  let v43586 : Index := Scalar.indexCast v43585
  let c0_18395 : Index := 0#32
  let c0_18396 : Index := 0#32
  ![v43586.toNat, 0, 0]

def k0_chk924 (v43548 : BitVec 32) : Prop :=
  (∀ (r : Fin 7), ∀ a, (k0_off2705 v43548 (BitVec.ofNat 32 (1085 + 5 * r.val))) a + S1x8x128.size a ≤ S1120x8x128.size a)
theorem k0_off2705_inb : ∀ (v43548 : BitVec 32) (k0_hw924 : k0_chk924 v43548), ∀ (r : Fin 7), ∀ a, (k0_off2705 v43548 (BitVec.ofNat 32 (1085 + 5 * r.val))) a + S1x8x128.size a ≤ S1120x8x128.size a := fun v43548 k0_hw924 r => k0_hw924 r

def k0_off2706 (v43545 : BitVec 32) (c1090_i32_18399 : BitVec 32) : Fin 3 → Nat :=
  let v43595 : BitVec 32 := Scalar.addi c1090_i32_18399 v43545
  let v43596 : Index := Scalar.indexCast v43595
  let c0_18400 : Index := 0#32
  let c0_18401 : Index := 0#32
  ![v43596.toNat, 0, 0]

def k0_chk923 (v43545 : BitVec 32) : Prop :=
  (∀ a, (k0_off2704 v43545) a + S1x8x128.size a ≤ S1120x8x128.size a) ∧
  (∀ (r : Fin 6), ∀ a, (k0_off2706 v43545 (BitVec.ofNat 32 (1090 + 5 * r.val))) a + S1x8x128.size a ≤ S1120x8x128.size a)
theorem k0_off2704_inb : ∀ (v43545 : BitVec 32) (k0_hw923 : k0_chk923 v43545), ∀ a, (k0_off2704 v43545) a + S1x8x128.size a ≤ S1120x8x128.size a := fun v43545 k0_hw923 => k0_hw923.1
theorem k0_off2706_inb : ∀ (v43545 : BitVec 32) (k0_hw923 : k0_chk923 v43545), ∀ (r : Fin 6), ∀ a, (k0_off2706 v43545 (BitVec.ofNat 32 (1090 + 5 * r.val))) a + S1x8x128.size a ≤ S1120x8x128.size a := fun v43545 k0_hw923 r => k0_hw923.2 r

def k0_off2707 (i : grid0.Coords) : Fin 3 → Nat :=
  let arg0 : BitVec 32 := BitVec.ofNat 32 (i 0).val
  let v43703 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43704 : Index := Scalar.indexCast v42723
  let c27_18453 : Index := 27#32
  ![v43703.toNat, v43704.toNat, 27]
def k0_off2708 (i : grid0.Coords) : Fin 3 → Nat :=
  let arg0 : BitVec 32 := BitVec.ofNat 32 (i 0).val
  let v43706 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43707 : Index := Scalar.indexCast v42723
  let c34_18454 : Index := 34#32
  ![v43706.toNat, v43707.toNat, 34]
def k0_off2709 (i : grid0.Coords) : Fin 3 → Nat :=
  let arg0 : BitVec 32 := BitVec.ofNat 32 (i 0).val
  let v43709 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43710 : Index := Scalar.indexCast v42723
  let c41_18455 : Index := 41#32
  ![v43709.toNat, v43710.toNat, 41]
def k0_off2710 (i : grid0.Coords) : Fin 3 → Nat :=
  let arg0 : BitVec 32 := BitVec.ofNat 32 (i 0).val
  let v43712 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43713 : Index := Scalar.indexCast v42723
  let c48_18456 : Index := 48#32
  ![v43712.toNat, v43713.toNat, 48]
def k0_off2711 (v43705 : BitVec 32) : Fin 3 → Nat :=
  let c1085_i32_18461 : BitVec 32 := 1085#32
  let v43737 : BitVec 32 := Scalar.addi c1085_i32_18461 v43705
  let v43738 : Index := Scalar.indexCast v43737
  let c0_18462 : Index := 0#32
  let c0_18463 : Index := 0#32
  ![v43738.toNat, 0, 0]

def k0_off2712 (v43708 : BitVec 32) (c1085_i32_18465 : BitVec 32) : Fin 3 → Nat :=
  let v43745 : BitVec 32 := Scalar.addi c1085_i32_18465 v43708
  let v43746 : Index := Scalar.indexCast v43745
  let c0_18466 : Index := 0#32
  let c0_18467 : Index := 0#32
  ![v43746.toNat, 0, 0]

def k0_chk926 (v43708 : BitVec 32) : Prop :=
  (∀ (r : Fin 7), ∀ a, (k0_off2712 v43708 (BitVec.ofNat 32 (1085 + 5 * r.val))) a + S1x8x128.size a ≤ S1120x8x128.size a)
theorem k0_off2712_inb : ∀ (v43708 : BitVec 32) (k0_hw926 : k0_chk926 v43708), ∀ (r : Fin 7), ∀ a, (k0_off2712 v43708 (BitVec.ofNat 32 (1085 + 5 * r.val))) a + S1x8x128.size a ≤ S1120x8x128.size a := fun v43708 k0_hw926 r => k0_hw926 r

def k0_off2713 (v43705 : BitVec 32) (c1090_i32_18470 : BitVec 32) : Fin 3 → Nat :=
  let v43755 : BitVec 32 := Scalar.addi c1090_i32_18470 v43705
  let v43756 : Index := Scalar.indexCast v43755
  let c0_18471 : Index := 0#32
  let c0_18472 : Index := 0#32
  ![v43756.toNat, 0, 0]

def k0_chk925 (v43705 : BitVec 32) : Prop :=
  (∀ a, (k0_off2711 v43705) a + S1x8x128.size a ≤ S1120x8x128.size a) ∧
  (∀ (r : Fin 6), ∀ a, (k0_off2713 v43705 (BitVec.ofNat 32 (1090 + 5 * r.val))) a + S1x8x128.size a ≤ S1120x8x128.size a)
theorem k0_off2711_inb : ∀ (v43705 : BitVec 32) (k0_hw925 : k0_chk925 v43705), ∀ a, (k0_off2711 v43705) a + S1x8x128.size a ≤ S1120x8x128.size a := fun v43705 k0_hw925 => k0_hw925.1
theorem k0_off2713_inb : ∀ (v43705 : BitVec 32) (k0_hw925 : k0_chk925 v43705), ∀ (r : Fin 6), ∀ a, (k0_off2713 v43705 (BitVec.ofNat 32 (1090 + 5 * r.val))) a + S1x8x128.size a ≤ S1120x8x128.size a := fun v43705 k0_hw925 r => k0_hw925.2 r

def k0_off2714 (i : grid0.Coords) : Fin 3 → Nat :=
  let arg0 : BitVec 32 := BitVec.ofNat 32 (i 0).val
  let v43863 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43864 : Index := Scalar.indexCast v42723
  let c28_18524 : Index := 28#32
  ![v43863.toNat, v43864.toNat, 28]
def k0_off2715 (i : grid0.Coords) : Fin 3 → Nat :=
  let arg0 : BitVec 32 := BitVec.ofNat 32 (i 0).val
  let v43866 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43867 : Index := Scalar.indexCast v42723
  let c35_18525 : Index := 35#32
  ![v43866.toNat, v43867.toNat, 35]
def k0_off2716 (i : grid0.Coords) : Fin 3 → Nat :=
  let arg0 : BitVec 32 := BitVec.ofNat 32 (i 0).val
  let v43869 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43870 : Index := Scalar.indexCast v42723
  let c42_18526 : Index := 42#32
  ![v43869.toNat, v43870.toNat, 42]
def k0_off2717 (i : grid0.Coords) : Fin 3 → Nat :=
  let arg0 : BitVec 32 := BitVec.ofNat 32 (i 0).val
  let v43872 : Index := Scalar.indexCast arg0
  let arg1 : BitVec 32 := BitVec.ofNat 32 (i 1).val
  let c32_i32_18040 : BitVec 32 := 32#32
  let v42722 : BitVec 32 := Scalar.muli arg1 c32_i32_18040
  let c31_i32 : BitVec 32 := 31#32
  let v42723 : BitVec 32 := Scalar.addi v42722 c31_i32
  let v43873 : Index := Scalar.indexCast v42723
  let c49_18527 : Index := 49#32
  ![v43872.toNat, v43873.toNat, 49]
def k0_off2718 (v43865 : BitVec 32) : Fin 3 → Nat :=
  let c1085_i32_18532 : BitVec 32 := 1085#32
  let v43897 : BitVec 32 := Scalar.addi c1085_i32_18532 v43865
  let v43898 : Index := Scalar.indexCast v43897
  let c0_18533 : Index := 0#32
  let c0_18534 : Index := 0#32
  ![v43898.toNat, 0, 0]

def k0_off2719 (v43868 : BitVec 32) (c1085_i32_18536 : BitVec 32) : Fin 3 → Nat :=
  let v43905 : BitVec 32 := Scalar.addi c1085_i32_18536 v43868
  let v43906 : Index := Scalar.indexCast v43905
  let c0_18537 : Index := 0#32
  let c0_18538 : Index := 0#32
  ![v43906.toNat, 0, 0]

def k0_chk928 (v43868 : BitVec 32) : Prop :=
  (∀ (r : Fin 7), ∀ a, (k0_off2719 v43868 (BitVec.ofNat 32 (1085 + 5 * r.val))) a + S1x8x128.size a ≤ S1120x8x128.size a)
theorem k0_off2719_inb : ∀ (v43868 : BitVec 32) (k0_hw928 : k0_chk928 v43868), ∀ (r : Fin 7), ∀ a, (k0_off2719 v43868 (BitVec.ofNat 32 (1085 + 5 * r.val))) a + S1x8x128.size a ≤ S1120x8x128.size a := fun v43868 k0_hw928 r => k0_hw928 r

def k0_off2720 (v43865 : BitVec 32) (c1090_i32_18541 : BitVec 32) : Fin 3 → Nat :=
  let v43915 : BitVec 32 := Scalar.addi c1090_i32_18541 v43865
  let v43916 : Index := Scalar.indexCast v43915
  let c0_18542 : Index := 0#32
  let c0_18543 : Index := 0#32
  ![v43916.toNat, 0, 0]

def k0_chk927 (v43865 : BitVec 32) : Prop :=
  (∀ a, (k0_off2718 v43865) a + S1x8x128.size a ≤ S1120x8x128.size a) ∧
  (∀ (r : Fin 6), ∀ a, (k0_off2720 v43865 (BitVec.ofNat 32 (1090 + 5 * r.val))) a + S1x8x128.size a ≤ S1120x8x128.size a)
theorem k0_off2718_inb : ∀ (v43865 : BitVec 32) (k0_hw927 : k0_chk927 v43865), ∀ a, (k0_off2718 v43865) a + S1x8x128.size a ≤ S1120x8x128.size a := fun v43865 k0_hw927 => k0_hw927.1
theorem k0_off2720_inb : ∀ (v43865 : BitVec 32) (k0_hw927 : k0_chk927 v43865), ∀ (r : Fin 6), ∀ a, (k0_off2720 v43865 (BitVec.ofNat 32 (1090 + 5 * r.val))) a + S1x8x128.size a ≤ S1120x8x128.size a := fun v43865 k0_hw927 r => k0_hw927.2 r

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x49x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x128x64x64 : Shape := ⟨4, ![4, 128, 64, 64]⟩
abbrev S4x128x5 : Shape := ⟨3, ![4, 128, 5]⟩
abbrev S4x128x1 : Shape := ⟨3, ![4, 128, 1]⟩
abbrev S4x128 : Shape := ⟨2, ![4, 128]⟩
abbrev S_ : Shape := ⟨0, ![]⟩
abbrev S32 : Shape := ⟨1, ![32]⟩
abbrev S1x1x32 : Shape := ⟨3, ![1, 1, 32]⟩
abbrev S4x128x32 : Shape := ⟨3, ![4, 128, 32]⟩
abbrev S4 : Shape := ⟨1, ![4]⟩
abbrev S4x1x1x1x1 : Shape := ⟨5, ![4, 1, 1, 1, 1]⟩
abbrev S128 : Shape := ⟨1, ![128]⟩
abbrev S1x1x128x1x1 : Shape := ⟨5, ![1, 1, 128, 1, 1]⟩
abbrev S4x128x1x32x1 : Shape := ⟨5, ![4, 128, 1, 32, 1]⟩
abbrev S4x128x1x1x32 : Shape := ⟨5, ![4, 128, 1, 1, 32]⟩
abbrev S4x128x128x32x32 : Shape := ⟨5, ![4, 128, 128, 32, 32]⟩
abbrev S4x128x128x32x32x1 : Shape := ⟨6, ![4, 128, 128, 32, 32, 1]⟩
abbrev S4x128x128x32x32x4 : Shape := ⟨6, ![4, 128, 128, 32, 32, 4]⟩
abbrev S7 : Shape := ⟨1, ![7]⟩
abbrev S1x1x7 : Shape := ⟨3, ![1, 1, 7]⟩
abbrev S4x128x7 : Shape := ⟨3, ![4, 128, 7]⟩
abbrev S1x1x1x32 : Shape := ⟨4, ![1, 1, 1, 32]⟩
abbrev S4x128x7x1 : Shape := ⟨4, ![4, 128, 7, 1]⟩
abbrev S4x128x7x32 : Shape := ⟨4, ![4, 128, 7, 32]⟩
abbrev S4x128x1x1 : Shape := ⟨4, ![4, 128, 1, 1]⟩
abbrev S4x128x1x32 : Shape := ⟨4, ![4, 128, 1, 32]⟩
abbrev S4x128x128x32 : Shape := ⟨4, ![4, 128, 128, 32]⟩
abbrev S4x128x128x32x1 : Shape := ⟨5, ![4, 128, 128, 32, 1]⟩
abbrev S4x128x128x32x7 : Shape := ⟨5, ![4, 128, 128, 32, 7]⟩
abbrev S4x128x128x7 : Shape := ⟨4, ![4, 128, 128, 7]⟩
abbrev S4x128x128x1x7 : Shape := ⟨5, ![4, 128, 128, 1, 7]⟩
abbrev S4x128x128x7x7 : Shape := ⟨5, ![4, 128, 128, 7, 7]⟩

abbrev nBuf : Space → Nat
  | .hbm => 420
  | .vmem => 0
  | .smem => 0
  | _ => 0

abbrev hbmTy0_0 (i : Nat) : BufTy := match i % 128 with
  | 0 => ⟨S4x128x64x64, .f32⟩
  | 1 => ⟨S4x128x5, .i32⟩
  | 2 => ⟨S4x128x5, .f32⟩
  | 3 => ⟨S4x128x1, .f32⟩
  | 4 => ⟨S4x128, .f32⟩
  | 5 => ⟨S_, .f32⟩
  | 6 => ⟨S4x128, .f32⟩
  | 7 => ⟨S4x128, .f32⟩
  | 8 => ⟨S4x128x1, .f32⟩
  | 9 => ⟨S4x128, .f32⟩
  | 10 => ⟨S_, .f32⟩
  | 11 => ⟨S4x128, .f32⟩
  | 12 => ⟨S4x128, .f32⟩
  | 13 => ⟨S4x128x1, .f32⟩
  | 14 => ⟨S4x128, .f32⟩
  | 15 => ⟨S_, .f32⟩
  | 16 => ⟨S4x128, .f32⟩
  | 17 => ⟨S4x128, .f32⟩
  | 18 => ⟨S_, .f32⟩
  | 19 => ⟨S4x128, .f32⟩
  | 20 => ⟨S4x128, .f32⟩
  | 21 => ⟨S4x128x1, .f32⟩
  | 22 => ⟨S4x128, .f32⟩
  | 23 => ⟨S_, .f32⟩
  | 24 => ⟨S4x128, .f32⟩
  | 25 => ⟨S4x128, .f32⟩
  | 26 => ⟨S_, .f32⟩
  | 27 => ⟨S4x128, .f32⟩
  | 28 => ⟨S4x128, .f32⟩
  | 29 => ⟨S_, .f32⟩
  | 30 => ⟨S4x128, .f32⟩
  | 31 => ⟨S4x128, .i1⟩
  | 32 => ⟨S_, .f32⟩
  | 33 => ⟨S4x128, .f32⟩
  | 34 => ⟨S4x128, .f32⟩
  | 35 => ⟨S4x128, .f32⟩
  | 36 => ⟨S_, .f32⟩
  | 37 => ⟨S4x128, .f32⟩
  | 38 => ⟨S4x128, .i1⟩
  | 39 => ⟨S_, .f32⟩
  | 40 => ⟨S4x128, .f32⟩
  | 41 => ⟨S4x128, .f32⟩
  | 42 => ⟨S4x128, .f32⟩
  | 43 => ⟨S4x128, .f32⟩
  | 44 => ⟨S4x128, .i32⟩
  | 45 => ⟨S4x128, .f32⟩
  | 46 => ⟨S4x128, .i32⟩
  | 47 => ⟨S4x128, .f32⟩
  | 48 => ⟨S4x128, .f32⟩
  | 49 => ⟨S4x128, .i32⟩
  | 50 => ⟨S_, .i32⟩
  | 51 => ⟨S4x128, .i32⟩
  | 52 => ⟨S4x128, .i32⟩
  | 53 => ⟨S4x128, .i32⟩
  | 54 => ⟨S_, .i32⟩
  | 55 => ⟨S4x128, .i32⟩
  | 56 => ⟨S4x128, .i32⟩
  | 57 => ⟨S4x128, .f32⟩
  | 58 => ⟨S4x128, .f32⟩
  | 59 => ⟨S4x128, .i32⟩
  | 60 => ⟨S_, .i32⟩
  | 61 => ⟨S4x128, .i32⟩
  | 62 => ⟨S4x128, .i32⟩
  | 63 => ⟨S4x128, .i32⟩
  | 64 => ⟨S_, .i32⟩
  | 65 => ⟨S4x128, .i32⟩
  | 66 => ⟨S4x128, .i32⟩
  | 67 => ⟨S32, .i32⟩
  | 68 => ⟨S4x128x1, .i32⟩
  | 69 => ⟨S1x1x32, .i32⟩
  | 70 => ⟨S4x128x32, .i32⟩
  | 71 => ⟨S4x128x32, .i32⟩
  | 72 => ⟨S4x128x32, .i32⟩
  | 73 => ⟨S_, .i32⟩
  | 74 => ⟨S_, .i32⟩
  | 75 => ⟨S_, .i32⟩
  | 76 => ⟨S4x128x32, .i32⟩
  | 77 => ⟨S4x128x32, .i32⟩
  | 78 => ⟨S_, .i32⟩
  | 79 => ⟨S4x128x32, .i32⟩
  | 80 => ⟨S4x128x32, .i32⟩
  | 81 => ⟨S4x128x1, .i32⟩
  | 82 => ⟨S1x1x32, .i32⟩
  | 83 => ⟨S4x128x32, .i32⟩
  | 84 => ⟨S4x128x32, .i32⟩
  | 85 => ⟨S4x128x32, .i32⟩
  | 86 => ⟨S_, .i32⟩
  | 87 => ⟨S_, .i32⟩
  | 88 => ⟨S_, .i32⟩
  | 89 => ⟨S4x128x32, .i32⟩
  | 90 => ⟨S4x128x32, .i32⟩
  | 91 => ⟨S_, .i32⟩
  | 92 => ⟨S4x128x32, .i32⟩
  | 93 => ⟨S4x128x32, .i32⟩
  | 94 => ⟨S4, .i32⟩
  | 95 => ⟨S4x1x1x1x1, .i32⟩
  | 96 => ⟨S128, .i32⟩
  | 97 => ⟨S1x1x128x1x1, .i32⟩
  | 98 => ⟨S4x128x1x32x1, .i32⟩
  | 99 => ⟨S4x128x1x1x32, .i32⟩
  | 100 => ⟨S_, .i32⟩
  | 101 => ⟨S4x1x1x1x1, .i32⟩
  | 102 => ⟨S4x1x1x1x1, .i1⟩
  | 103 => ⟨S_, .i32⟩
  | 104 => ⟨S4x1x1x1x1, .i32⟩
  | 105 => ⟨S4x1x1x1x1, .i32⟩
  | 106 => ⟨S4x1x1x1x1, .i32⟩
  | 107 => ⟨S_, .i32⟩
  | 108 => ⟨S1x1x128x1x1, .i32⟩
  | 109 => ⟨S1x1x128x1x1, .i1⟩
  | 110 => ⟨S_, .i32⟩
  | 111 => ⟨S1x1x128x1x1, .i32⟩
  | 112 => ⟨S1x1x128x1x1, .i32⟩
  | 113 => ⟨S1x1x128x1x1, .i32⟩
  | 114 => ⟨S_, .i32⟩
  | 115 => ⟨S4x128x1x32x1, .i32⟩
  | 116 => ⟨S4x128x1x32x1, .i1⟩
  | 117 => ⟨S_, .i32⟩
  | 118 => ⟨S4x128x1x32x1, .i32⟩
  | 119 => ⟨S4x128x1x32x1, .i32⟩
  | 120 => ⟨S4x128x1x32x1, .i32⟩
  | 121 => ⟨S_, .i32⟩
  | 122 => ⟨S4x128x1x1x32, .i32⟩
  | 123 => ⟨S4x128x1x1x32, .i1⟩
  | 124 => ⟨S_, .i32⟩
  | 125 => ⟨S4x128x1x1x32, .i32⟩
  | 126 => ⟨S4x128x1x1x32, .i32⟩
  | 127 => ⟨S4x128x1x1x32, .i32⟩
  | _ => ⟨S4x128x64x64, .f32⟩

abbrev hbmTy0_1 (i : Nat) : BufTy := match i % 128 with
  | 0 => ⟨S4x128x128x32x32, .i32⟩
  | 1 => ⟨S4x128x128x32x32, .i32⟩
  | 2 => ⟨S4x128x128x32x32, .i32⟩
  | 3 => ⟨S4x128x128x32x32, .i32⟩
  | 4 => ⟨S4x128x128x32x32x1, .i32⟩
  | 5 => ⟨S4x128x128x32x32x1, .i32⟩
  | 6 => ⟨S4x128x128x32x32x1, .i32⟩
  | 7 => ⟨S4x128x128x32x32x1, .i32⟩
  | 8 => ⟨S4x128x128x32x32x4, .i32⟩
  | 9 => ⟨S4x128x128x32x32, .f32⟩
  | 10 => ⟨S7, .i32⟩
  | 11 => ⟨S1x1x7, .i32⟩
  | 12 => ⟨S4x128x1, .i32⟩
  | 13 => ⟨S4x128x7, .i32⟩
  | 14 => ⟨S4x128x7, .i32⟩
  | 15 => ⟨S4x128x7, .i32⟩
  | 16 => ⟨S_, .i32⟩
  | 17 => ⟨S_, .i32⟩
  | 18 => ⟨S4x128x7, .i32⟩
  | 19 => ⟨S4x128x7, .i32⟩
  | 20 => ⟨S4x128x7, .i32⟩
  | 21 => ⟨S_, .i32⟩
  | 22 => ⟨S4x128x7, .i32⟩
  | 23 => ⟨S4x128x7, .i1⟩
  | 24 => ⟨S4x128x7, .i32⟩
  | 25 => ⟨S4x128x7, .i32⟩
  | 26 => ⟨S_, .i32⟩
  | 27 => ⟨S4x128x7, .i32⟩
  | 28 => ⟨S4x128x7, .i1⟩
  | 29 => ⟨S4x128x7, .i1⟩
  | 30 => ⟨S_, .i32⟩
  | 31 => ⟨S4x128x7, .i32⟩
  | 32 => ⟨S4x128x7, .i32⟩
  | 33 => ⟨S4x128x7, .i32⟩
  | 34 => ⟨S1x1x7, .i32⟩
  | 35 => ⟨S_, .i32⟩
  | 36 => ⟨S1x1x7, .i32⟩
  | 37 => ⟨S1x1x7, .i32⟩
  | 38 => ⟨S1x1x7, .i32⟩
  | 39 => ⟨S4x128x1, .i32⟩
  | 40 => ⟨S4x128x7, .i32⟩
  | 41 => ⟨S4x128x7, .i32⟩
  | 42 => ⟨S4x128x7, .i32⟩
  | 43 => ⟨S_, .i32⟩
  | 44 => ⟨S_, .i32⟩
  | 45 => ⟨S4x128x7, .i32⟩
  | 46 => ⟨S4x128x7, .i32⟩
  | 47 => ⟨S4x128x7, .i32⟩
  | 48 => ⟨S_, .i32⟩
  | 49 => ⟨S4x128x7, .i32⟩
  | 50 => ⟨S4x128x7, .i1⟩
  | 51 => ⟨S4x128x7, .i32⟩
  | 52 => ⟨S4x128x7, .i32⟩
  | 53 => ⟨S_, .i32⟩
  | 54 => ⟨S4x128x7, .i32⟩
  | 55 => ⟨S4x128x7, .i1⟩
  | 56 => ⟨S4x128x7, .i1⟩
  | 57 => ⟨S_, .i32⟩
  | 58 => ⟨S4x128x7, .i32⟩
  | 59 => ⟨S4x128x7, .i32⟩
  | 60 => ⟨S4x128x7, .i32⟩
  | 61 => ⟨S4x128x7, .i32⟩
  | 62 => ⟨S1x1x1x32, .i32⟩
  | 63 => ⟨S4x128x7x1, .i32⟩
  | 64 => ⟨S4x128x7x32, .i32⟩
  | 65 => ⟨S4x128x7x32, .i32⟩
  | 66 => ⟨S4x128x7x32, .i1⟩
  | 67 => ⟨S1x1x1x32, .i32⟩
  | 68 => ⟨S4x128x7x1, .i32⟩
  | 69 => ⟨S4x128x7x32, .i32⟩
  | 70 => ⟨S4x128x7x32, .i32⟩
  | 71 => ⟨S4x128x7x32, .i1⟩
  | 72 => ⟨S4x128x7x32, .i1⟩
  | 73 => ⟨S1x1x1x32, .i32⟩
  | 74 => ⟨S4x128x1x1, .i32⟩
  | 75 => ⟨S4x128x1x32, .i32⟩
  | 76 => ⟨S4x128x1x32, .i32⟩
  | 77 => ⟨S4x128x1x32, .i1⟩
  | 78 => ⟨S4x128x7x32, .i1⟩
  | 79 => ⟨S4x128x7x32, .i1⟩
  | 80 => ⟨S7, .i32⟩
  | 81 => ⟨S1x1x7, .i32⟩
  | 82 => ⟨S4x128x1, .i32⟩
  | 83 => ⟨S4x128x7, .i32⟩
  | 84 => ⟨S4x128x7, .i32⟩
  | 85 => ⟨S4x128x7, .i32⟩
  | 86 => ⟨S_, .i32⟩
  | 87 => ⟨S_, .i32⟩
  | 88 => ⟨S4x128x7, .i32⟩
  | 89 => ⟨S4x128x7, .i32⟩
  | 90 => ⟨S4x128x7, .i32⟩
  | 91 => ⟨S_, .i32⟩
  | 92 => ⟨S4x128x7, .i32⟩
  | 93 => ⟨S4x128x7, .i1⟩
  | 94 => ⟨S4x128x7, .i32⟩
  | 95 => ⟨S4x128x7, .i32⟩
  | 96 => ⟨S_, .i32⟩
  | 97 => ⟨S4x128x7, .i32⟩
  | 98 => ⟨S4x128x7, .i1⟩
  | 99 => ⟨S4x128x7, .i1⟩
  | 100 => ⟨S_, .i32⟩
  | 101 => ⟨S4x128x7, .i32⟩
  | 102 => ⟨S4x128x7, .i32⟩
  | 103 => ⟨S4x128x7, .i32⟩
  | 104 => ⟨S1x1x7, .i32⟩
  | 105 => ⟨S_, .i32⟩
  | 106 => ⟨S1x1x7, .i32⟩
  | 107 => ⟨S1x1x7, .i32⟩
  | 108 => ⟨S1x1x7, .i32⟩
  | 109 => ⟨S4x128x1, .i32⟩
  | 110 => ⟨S4x128x7, .i32⟩
  | 111 => ⟨S4x128x7, .i32⟩
  | 112 => ⟨S4x128x7, .i32⟩
  | 113 => ⟨S_, .i32⟩
  | 114 => ⟨S_, .i32⟩
  | 115 => ⟨S4x128x7, .i32⟩
  | 116 => ⟨S4x128x7, .i32⟩
  | 117 => ⟨S4x128x7, .i32⟩
  | 118 => ⟨S_, .i32⟩
  | 119 => ⟨S4x128x7, .i32⟩
  | 120 => ⟨S4x128x7, .i1⟩
  | 121 => ⟨S4x128x7, .i32⟩
  | 122 => ⟨S4x128x7, .i32⟩
  | 123 => ⟨S_, .i32⟩
  | 124 => ⟨S4x128x7, .i32⟩
  | 125 => ⟨S4x128x7, .i1⟩
  | 126 => ⟨S4x128x7, .i1⟩
  | 127 => ⟨S_, .i32⟩
  | _ => ⟨S4x128x64x64, .f32⟩

abbrev hbmTy0_2 (i : Nat) : BufTy := match i % 128 with
  | 0 => ⟨S4x128x7, .i32⟩
  | 1 => ⟨S4x128x7, .i32⟩
  | 2 => ⟨S4x128x7, .i32⟩
  | 3 => ⟨S4x128x7, .i32⟩
  | 4 => ⟨S1x1x1x32, .i32⟩
  | 5 => ⟨S4x128x7x1, .i32⟩
  | 6 => ⟨S4x128x7x32, .i32⟩
  | 7 => ⟨S4x128x7x32, .i32⟩
  | 8 => ⟨S4x128x7x32, .i1⟩
  | 9 => ⟨S1x1x1x32, .i32⟩
  | 10 => ⟨S4x128x7x1, .i32⟩
  | 11 => ⟨S4x128x7x32, .i32⟩
  | 12 => ⟨S4x128x7x32, .i32⟩
  | 13 => ⟨S4x128x7x32, .i1⟩
  | 14 => ⟨S4x128x7x32, .i1⟩
  | 15 => ⟨S1x1x1x32, .i32⟩
  | 16 => ⟨S4x128x1x1, .i32⟩
  | 17 => ⟨S4x128x1x32, .i32⟩
  | 18 => ⟨S4x128x1x32, .i32⟩
  | 19 => ⟨S4x128x1x32, .i1⟩
  | 20 => ⟨S4x128x7x32, .i1⟩
  | 21 => ⟨S4x128x7x32, .i1⟩
  | 22 => ⟨S4x128x1x32, .i1⟩
  | 23 => ⟨S4x128x32, .i1⟩
  | 24 => ⟨S4x128x1x1x32, .i1⟩
  | 25 => ⟨S_, .f32⟩
  | 26 => ⟨S4x128x128x32x32, .i1⟩
  | 27 => ⟨S4x128x128x32x32, .f32⟩
  | 28 => ⟨S4x128x128x32x32, .f32⟩
  | 29 => ⟨S_, .f32⟩
  | 30 => ⟨S4x128x128x32, .f32⟩
  | 31 => ⟨S4x128x1x32, .i1⟩
  | 32 => ⟨S4x128x32, .i1⟩
  | 33 => ⟨S4x128x1x1x32, .i1⟩
  | 34 => ⟨S_, .f32⟩
  | 35 => ⟨S4x128x128x32x32, .i1⟩
  | 36 => ⟨S4x128x128x32x32, .f32⟩
  | 37 => ⟨S4x128x128x32x32, .f32⟩
  | 38 => ⟨S_, .f32⟩
  | 39 => ⟨S4x128x128x32, .f32⟩
  | 40 => ⟨S4x128x1x32, .i1⟩
  | 41 => ⟨S4x128x32, .i1⟩
  | 42 => ⟨S4x128x1x1x32, .i1⟩
  | 43 => ⟨S_, .f32⟩
  | 44 => ⟨S4x128x128x32x32, .i1⟩
  | 45 => ⟨S4x128x128x32x32, .f32⟩
  | 46 => ⟨S4x128x128x32x32, .f32⟩
  | 47 => ⟨S_, .f32⟩
  | 48 => ⟨S4x128x128x32, .f32⟩
  | 49 => ⟨S4x128x1x32, .i1⟩
  | 50 => ⟨S4x128x32, .i1⟩
  | 51 => ⟨S4x128x1x1x32, .i1⟩
  | 52 => ⟨S_, .f32⟩
  | 53 => ⟨S4x128x128x32x32, .i1⟩
  | 54 => ⟨S4x128x128x32x32, .f32⟩
  | 55 => ⟨S4x128x128x32x32, .f32⟩
  | 56 => ⟨S_, .f32⟩
  | 57 => ⟨S4x128x128x32, .f32⟩
  | 58 => ⟨S4x128x1x32, .i1⟩
  | 59 => ⟨S4x128x32, .i1⟩
  | 60 => ⟨S4x128x1x1x32, .i1⟩
  | 61 => ⟨S_, .f32⟩
  | 62 => ⟨S4x128x128x32x32, .i1⟩
  | 63 => ⟨S4x128x128x32x32, .f32⟩
  | 64 => ⟨S4x128x128x32x32, .f32⟩
  | 65 => ⟨S_, .f32⟩
  | 66 => ⟨S4x128x128x32, .f32⟩
  | 67 => ⟨S4x128x1x32, .i1⟩
  | 68 => ⟨S4x128x32, .i1⟩
  | 69 => ⟨S4x128x1x1x32, .i1⟩
  | 70 => ⟨S_, .f32⟩
  | 71 => ⟨S4x128x128x32x32, .i1⟩
  | 72 => ⟨S4x128x128x32x32, .f32⟩
  | 73 => ⟨S4x128x128x32x32, .f32⟩
  | 74 => ⟨S_, .f32⟩
  | 75 => ⟨S4x128x128x32, .f32⟩
  | 76 => ⟨S4x128x1x32, .i1⟩
  | 77 => ⟨S4x128x32, .i1⟩
  | 78 => ⟨S4x128x1x1x32, .i1⟩
  | 79 => ⟨S_, .f32⟩
  | 80 => ⟨S4x128x128x32x32, .i1⟩
  | 81 => ⟨S4x128x128x32x32, .f32⟩
  | 82 => ⟨S4x128x128x32x32, .f32⟩
  | 83 => ⟨S_, .f32⟩
  | 84 => ⟨S4x128x128x32, .f32⟩
  | 85 => ⟨S4x128x128x32x1, .f32⟩
  | 86 => ⟨S4x128x128x32x1, .f32⟩
  | 87 => ⟨S4x128x128x32x1, .f32⟩
  | 88 => ⟨S4x128x128x32x1, .f32⟩
  | 89 => ⟨S4x128x128x32x1, .f32⟩
  | 90 => ⟨S4x128x128x32x1, .f32⟩
  | 91 => ⟨S4x128x128x32x1, .f32⟩
  | 92 => ⟨S4x128x128x32x7, .f32⟩
  | 93 => ⟨S4x128x1x32, .i1⟩
  | 94 => ⟨S4x128x32, .i1⟩
  | 95 => ⟨S4x128x1x32x1, .i1⟩
  | 96 => ⟨S_, .f32⟩
  | 97 => ⟨S4x128x128x32x7, .i1⟩
  | 98 => ⟨S4x128x128x32x7, .f32⟩
  | 99 => ⟨S4x128x128x32x7, .f32⟩
  | 100 => ⟨S_, .f32⟩
  | 101 => ⟨S4x128x128x7, .f32⟩
  | 102 => ⟨S4x128x1x32, .i1⟩
  | 103 => ⟨S4x128x32, .i1⟩
  | 104 => ⟨S4x128x1x32x1, .i1⟩
  | 105 => ⟨S_, .f32⟩
  | 106 => ⟨S4x128x128x32x7, .i1⟩
  | 107 => ⟨S4x128x128x32x7, .f32⟩
  | 108 => ⟨S4x128x128x32x7, .f32⟩
  | 109 => ⟨S_, .f32⟩
  | 110 => ⟨S4x128x128x7, .f32⟩
  | 111 => ⟨S4x128x1x32, .i1⟩
  | 112 => ⟨S4x128x32, .i1⟩
  | 113 => ⟨S4x128x1x32x1, .i1⟩
  | 114 => ⟨S_, .f32⟩
  | 115 => ⟨S4x128x128x32x7, .i1⟩
  | 116 => ⟨S4x128x128x32x7, .f32⟩
  | 117 => ⟨S4x128x128x32x7, .f32⟩
  | 118 => ⟨S_, .f32⟩
  | 119 => ⟨S4x128x128x7, .f32⟩
  | 120 => ⟨S4x128x1x32, .i1⟩
  | 121 => ⟨S4x128x32, .i1⟩
  | 122 => ⟨S4x128x1x32x1, .i1⟩
  | 123 => ⟨S_, .f32⟩
  | 124 => ⟨S4x128x128x32x7, .i1⟩
  | 125 => ⟨S4x128x128x32x7, .f32⟩
  | 126 => ⟨S4x128x128x32x7, .f32⟩
  | 127 => ⟨S_, .f32⟩
  | _ => ⟨S4x128x64x64, .f32⟩

abbrev hbmTy0_3 (i : Nat) : BufTy := match i % 128 with
  | 0 => ⟨S4x128x128x7, .f32⟩
  | 1 => ⟨S4x128x1x32, .i1⟩
  | 2 => ⟨S4x128x32, .i1⟩
  | 3 => ⟨S4x128x1x32x1, .i1⟩
  | 4 => ⟨S_, .f32⟩
  | 5 => ⟨S4x128x128x32x7, .i1⟩
  | 6 => ⟨S4x128x128x32x7, .f32⟩
  | 7 => ⟨S4x128x128x32x7, .f32⟩
  | 8 => ⟨S_, .f32⟩
  | 9 => ⟨S4x128x128x7, .f32⟩
  | 10 => ⟨S4x128x1x32, .i1⟩
  | 11 => ⟨S4x128x32, .i1⟩
  | 12 => ⟨S4x128x1x32x1, .i1⟩
  | 13 => ⟨S_, .f32⟩
  | 14 => ⟨S4x128x128x32x7, .i1⟩
  | 15 => ⟨S4x128x128x32x7, .f32⟩
  | 16 => ⟨S4x128x128x32x7, .f32⟩
  | 17 => ⟨S_, .f32⟩
  | 18 => ⟨S4x128x128x7, .f32⟩
  | 19 => ⟨S4x128x1x32, .i1⟩
  | 20 => ⟨S4x128x32, .i1⟩
  | 21 => ⟨S4x128x1x32x1, .i1⟩
  | 22 => ⟨S_, .f32⟩
  | 23 => ⟨S4x128x128x32x7, .i1⟩
  | 24 => ⟨S4x128x128x32x7, .f32⟩
  | 25 => ⟨S4x128x128x32x7, .f32⟩
  | 26 => ⟨S_, .f32⟩
  | 27 => ⟨S4x128x128x7, .f32⟩
  | 28 => ⟨S4x128x128x1x7, .f32⟩
  | 29 => ⟨S4x128x128x1x7, .f32⟩
  | 30 => ⟨S4x128x128x1x7, .f32⟩
  | 31 => ⟨S4x128x128x1x7, .f32⟩
  | 32 => ⟨S4x128x128x1x7, .f32⟩
  | 33 => ⟨S4x128x128x1x7, .f32⟩
  | 34 => ⟨S4x128x128x1x7, .f32⟩
  | 35 => ⟨S4x128x128x7x7, .f32⟩
  | _ => ⟨S4x128x64x64, .f32⟩

abbrev hbmTy (i : Nat) : BufTy := match i / 128 with
  | 0 => hbmTy0_0 i
  | 1 => hbmTy0_1 i
  | 2 => hbmTy0_2 i
  | 3 => hbmTy0_3 i
  | _ => ⟨S4x128x64x64, .f32⟩

abbrev bufTy : (tb : Table) → Fin (tcTables nBuf tb) → BufTy
  | .hbm, ⟨i, _⟩ => hbmTy i
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_12 : Ref sig .tc := ⟨.hbm, 73, rfl⟩
abbrev main_c_13 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_c_15 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_22 : Ref sig .tc := ⟨.hbm, 121, rfl⟩
abbrev main_v85 : Ref sig .tc := ⟨.hbm, 122, rfl⟩
abbrev main_v86 : Ref sig .tc := ⟨.hbm, 123, rfl⟩
abbrev main_c_23 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_24 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v106 : Ref sig .tc := ⟨.hbm, 161, rfl⟩
abbrev main_v107 : Ref sig .tc := ⟨.hbm, 162, rfl⟩
abbrev main_c_25 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_26 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_v6 : Ref sig .tc := ⟨.hbm, 178, rfl⟩
abbrev main_call5_v7 : Ref sig .tc := ⟨.hbm, 179, rfl⟩
abbrev main_call5_v8 : Ref sig .tc := ⟨.hbm, 180, rfl⟩
abbrev main_call5_c : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_c_0 : Ref sig .tc := ⟨.hbm, 185, rfl⟩
abbrev main_call5_v12 : Ref sig .tc := ⟨.hbm, 186, rfl⟩
abbrev main_call5_v13 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_27 : Ref sig .tc := ⟨.hbm, 214, rfl⟩
abbrev main_call6_v0 : Ref sig .tc := ⟨.hbm, 215, rfl⟩
abbrev main_call6_v1 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_call6_v5 : Ref sig .tc := ⟨.hbm, 220, rfl⟩
abbrev main_call6_v6 : Ref sig .tc := ⟨.hbm, 221, rfl⟩
abbrev main_call6_v7 : Ref sig .tc := ⟨.hbm, 222, rfl⟩
abbrev main_call6_v8 : Ref sig .tc := ⟨.hbm, 223, rfl⟩
abbrev main_call6_c : Ref sig .tc := ⟨.hbm, 224, rfl⟩
abbrev main_call6_v9 : Ref sig .tc := ⟨.hbm, 225, rfl⟩
abbrev main_call6_v10 : Ref sig .tc := ⟨.hbm, 226, rfl⟩
abbrev main_call6_v11 : Ref sig .tc := ⟨.hbm, 227, rfl⟩
abbrev main_call6_c_0 : Ref sig .tc := ⟨.hbm, 228, rfl⟩
abbrev main_call6_v12 : Ref sig .tc := ⟨.hbm, 229, rfl⟩
abbrev main_call6_v13 : Ref sig .tc := ⟨.hbm, 230, rfl⟩
abbrev main_v141 : Ref sig .tc := ⟨.hbm, 231, rfl⟩
abbrev main_v142 : Ref sig .tc := ⟨.hbm, 232, rfl⟩
abbrev main_c_28 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_c_29 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_call7_v5 : Ref sig .tc := ⟨.hbm, 247, rfl⟩
abbrev main_call7_v6 : Ref sig .tc := ⟨.hbm, 248, rfl⟩
abbrev main_call7_v7 : Ref sig .tc := ⟨.hbm, 249, rfl⟩
abbrev main_call7_v8 : Ref sig .tc := ⟨.hbm, 250, rfl⟩
abbrev main_call7_c : Ref sig .tc := ⟨.hbm, 251, rfl⟩
abbrev main_call7_v9 : Ref sig .tc := ⟨.hbm, 252, rfl⟩
abbrev main_call7_v10 : Ref sig .tc := ⟨.hbm, 253, rfl⟩
abbrev main_call7_v11 : Ref sig .tc := ⟨.hbm, 254, rfl⟩
abbrev main_call7_c_0 : Ref sig .tc := ⟨.hbm, 255, rfl⟩
abbrev main_call7_v12 : Ref sig .tc := ⟨.hbm, 256, rfl⟩
abbrev main_call7_v13 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_cst_30 : Ref sig .tc := ⟨.hbm, 281, rfl⟩
abbrev main_call8_v0 : Ref sig .tc := ⟨.hbm, 282, rfl⟩
abbrev main_call8_v1 : Ref sig .tc := ⟨.hbm, 283, rfl⟩
abbrev main_v173 : Ref sig .tc := ⟨.hbm, 284, rfl⟩
abbrev main_cst_31 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_cst_32 : Ref sig .tc := ⟨.hbm, 290, rfl⟩
abbrev main_call9_v0 : Ref sig .tc := ⟨.hbm, 291, rfl⟩
abbrev main_call9_v1 : Ref sig .tc := ⟨.hbm, 292, rfl⟩
abbrev main_v178 : Ref sig .tc := ⟨.hbm, 293, rfl⟩
abbrev main_cst_33 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_cst_34 : Ref sig .tc := ⟨.hbm, 299, rfl⟩
abbrev main_call10_v0 : Ref sig .tc := ⟨.hbm, 300, rfl⟩
abbrev main_call10_v1 : Ref sig .tc := ⟨.hbm, 301, rfl⟩
abbrev main_v183 : Ref sig .tc := ⟨.hbm, 302, rfl⟩
abbrev main_cst_35 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_cst_36 : Ref sig .tc := ⟨.hbm, 308, rfl⟩
abbrev main_call11_v0 : Ref sig .tc := ⟨.hbm, 309, rfl⟩
abbrev main_call11_v1 : Ref sig .tc := ⟨.hbm, 310, rfl⟩
abbrev main_v188 : Ref sig .tc := ⟨.hbm, 311, rfl⟩
abbrev main_cst_37 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_cst_38 : Ref sig .tc := ⟨.hbm, 317, rfl⟩
abbrev main_call12_v0 : Ref sig .tc := ⟨.hbm, 318, rfl⟩
abbrev main_call12_v1 : Ref sig .tc := ⟨.hbm, 319, rfl⟩
abbrev main_v193 : Ref sig .tc := ⟨.hbm, 320, rfl⟩
abbrev main_cst_39 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_cst_40 : Ref sig .tc := ⟨.hbm, 326, rfl⟩
abbrev main_call13_v0 : Ref sig .tc := ⟨.hbm, 327, rfl⟩
abbrev main_call13_v1 : Ref sig .tc := ⟨.hbm, 328, rfl⟩
abbrev main_v198 : Ref sig .tc := ⟨.hbm, 329, rfl⟩
abbrev main_cst_41 : Ref sig .tc := ⟨.hbm, 330, rfl⟩
abbrev main_v199 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_42 : Ref sig .tc := ⟨.hbm, 335, rfl⟩
abbrev main_call14_v0 : Ref sig .tc := ⟨.hbm, 336, rfl⟩
abbrev main_call14_v1 : Ref sig .tc := ⟨.hbm, 337, rfl⟩
abbrev main_v203 : Ref sig .tc := ⟨.hbm, 338, rfl⟩
abbrev main_cst_43 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_v215 : Ref sig .tc := ⟨.hbm, 351, rfl⟩
abbrev main_cst_44 : Ref sig .tc := ⟨.hbm, 352, rfl⟩
abbrev main_call15_v0 : Ref sig .tc := ⟨.hbm, 353, rfl⟩
abbrev main_call15_v1 : Ref sig .tc := ⟨.hbm, 354, rfl⟩
abbrev main_v216 : Ref sig .tc := ⟨.hbm, 355, rfl⟩
abbrev main_cst_45 : Ref sig .tc := ⟨.hbm, 356, rfl⟩
abbrev main_v217 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_cst_46 : Ref sig .tc := ⟨.hbm, 361, rfl⟩
abbrev main_call16_v0 : Ref sig .tc := ⟨.hbm, 362, rfl⟩
abbrev main_call16_v1 : Ref sig .tc := ⟨.hbm, 363, rfl⟩
abbrev main_v221 : Ref sig .tc := ⟨.hbm, 364, rfl⟩
abbrev main_cst_47 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_cst_48 : Ref sig .tc := ⟨.hbm, 370, rfl⟩
abbrev main_call17_v0 : Ref sig .tc := ⟨.hbm, 371, rfl⟩
abbrev main_call17_v1 : Ref sig .tc := ⟨.hbm, 372, rfl⟩
abbrev main_v226 : Ref sig .tc := ⟨.hbm, 373, rfl⟩
abbrev main_cst_49 : Ref sig .tc := ⟨.hbm, 374, rfl⟩
abbrev main_v227 : Ref sig .tc := ⟨.hbm, 375, rfl⟩
abbrev main_v228 : Ref sig .tc := ⟨.hbm, 376, rfl⟩
abbrev main_v229 : Ref sig .tc := ⟨.hbm, 377, rfl⟩
abbrev main_v230 : Ref sig .tc := ⟨.hbm, 378, rfl⟩
abbrev main_cst_50 : Ref sig .tc := ⟨.hbm, 379, rfl⟩
abbrev main_call18_v0 : Ref sig .tc := ⟨.hbm, 380, rfl⟩
abbrev main_call18_v1 : Ref sig .tc := ⟨.hbm, 381, rfl⟩
abbrev main_v231 : Ref sig .tc := ⟨.hbm, 382, rfl⟩
abbrev main_cst_51 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_cst_52 : Ref sig .tc := ⟨.hbm, 388, rfl⟩
abbrev main_call19_v0 : Ref sig .tc := ⟨.hbm, 389, rfl⟩
abbrev main_call19_v1 : Ref sig .tc := ⟨.hbm, 390, rfl⟩
abbrev main_v236 : Ref sig .tc := ⟨.hbm, 391, rfl⟩
abbrev main_cst_53 : Ref sig .tc := ⟨.hbm, 392, rfl⟩
abbrev main_v237 : Ref sig .tc := ⟨.hbm, 393, rfl⟩
abbrev main_v238 : Ref sig .tc := ⟨.hbm, 394, rfl⟩
abbrev main_v239 : Ref sig .tc := ⟨.hbm, 395, rfl⟩
abbrev main_v240 : Ref sig .tc := ⟨.hbm, 396, rfl⟩
abbrev main_cst_54 : Ref sig .tc := ⟨.hbm, 397, rfl⟩
abbrev main_call20_v0 : Ref sig .tc := ⟨.hbm, 398, rfl⟩
abbrev main_call20_v1 : Ref sig .tc := ⟨.hbm, 399, rfl⟩
abbrev main_v241 : Ref sig .tc := ⟨.hbm, 400, rfl⟩
abbrev main_cst_55 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_v245 : Ref sig .tc := ⟨.hbm, 405, rfl⟩
abbrev main_cst_56 : Ref sig .tc := ⟨.hbm, 406, rfl⟩
abbrev main_call21_v0 : Ref sig .tc := ⟨.hbm, 407, rfl⟩
abbrev main_call21_v1 : Ref sig .tc := ⟨.hbm, 408, rfl⟩
abbrev main_v246 : Ref sig .tc := ⟨.hbm, 409, rfl⟩
abbrev main_cst_57 : Ref sig .tc := ⟨.hbm, 410, rfl⟩
abbrev main_v247 : Ref sig .tc := ⟨.hbm, 411, rfl⟩
abbrev main_v248 : Ref sig .tc := ⟨.hbm, 412, rfl⟩
abbrev main_v249 : Ref sig .tc := ⟨.hbm, 413, rfl⟩
abbrev main_v250 : Ref sig .tc := ⟨.hbm, 414, rfl⟩
abbrev main_v251 : Ref sig .tc := ⟨.hbm, 415, rfl⟩
abbrev main_v252 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩

abbrev nD : Nat := 1
abbrev τ : Topo := Topo.v7x

variable {F : FTy → Type} [FloatOps F]
-- ==== Proof.Words.lean ====
/- The words of the region table, as functions of the four words of a roi: the host lines' arithmetic at one entry. -/
module

public import Idealize.ShloMosaic.PureOps
public import Idealize.ShloMosaic.Lib.WordCmp

@[expose] public section

namespace Cert.Roi

open Idealize.ShloMosaic

/-! ### The float part: a roi's corner and extent on the map, along one axis -/

section
variable (F : FTy → Type) [FloatOps F]

/-- A roi's word in units of the map: one sixteenth of it. -/
abbrev scaled (v : BitVec 32) : F .f32 := FloatOps.mulf (FloatOps.ofBits .f32 0x3D800000#32) (FloatOps.sitofp .f32 v)
/-- A roi's extent on the map, at least one. -/
abbrev extent (e : BitVec 32) : F .f32 := FloatOps.maximumf (scaled F e) (FloatOps.ofBits .f32 0x3F800000#32)
/-- A roi's corner on the map, moved inside where it lies past the end. -/
abbrev corner (v e : BitVec 32) : F .f32 :=
  Scalar.select (FloatOps.cmpf .oge (scaled F v) (FloatOps.ofBits .f32 0x42800000#32))
    (FloatOps.subf (FloatOps.ofBits .f32 0x42800000#32) (extent F e)) (scaled F v)
/-- The first row (or column) of a roi. -/
abbrev first (v e : BitVec 32) : BitVec 32 := FloatOps.fptosi 32 (FloatOps.hostUnary .floor (corner F v e))
/-- The row (or column) behind its last. -/
abbrev last (v e : BitVec 32) : BitVec 32 :=
  FloatOps.fptosi 32 (FloatOps.hostUnary .floor (FloatOps.addf (corner F v e) (extent F e)))
end

/-! ### The integer part -/

/-- How many rows lie between `a` and `z`, cut at the map's end, at least one. -/
abbrev count (a z : BitVec 32) : BitVec 32 := IntOp.maxsi (IntOp.subi (IntOp.minsi z 64#32) a) 1#32
/-- The sign of a word. -/
abbrev sgn (x : BitVec 32) : BitVec 32 := if x = 0 then 0 else if x.msb then -1 else 1
/-- The quotient rounded down. -/
abbrev fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)
/-- A word kept between `0` and `hi`. -/
abbrev clip (hi x : BitVec 32) : BitVec 32 := IntOp.minsi hi (IntOp.maxsi 0#32 x)
/-- The first row of the forty that the kernel reads. -/
abbrev aligned (a : BitVec 32) : BitVec 32 := clip 24#32 (IntOp.muli (fdiv a 8#32) 8#32)
/-- The first row of bin `j` of `n` rows cut in seven, and the row behind its last. -/
abbrev binLo (j n : BitVec 32) : BitVec 32 := fdiv (IntOp.muli j n) 7#32
abbrev binHi (j n : BitVec 32) : BitVec 32 := -fdiv (IntOp.muli (-IntOp.addi j 1#32) n) 7#32
/-- The level of the table of maxima that a bin of `L` columns reads. -/
abbrev level (L : BitVec 32) : BitVec 32 :=
  IntOp.addi (IntOp.addi ((IntOp.cmpi .sge L 2#32).setWidth 32) ((IntOp.cmpi .sge L 4#32).setWidth 32))
    ((IntOp.cmpi .sge L 8#32).setWidth 32)
/-- The two columns of that level that a bin reads. -/
abbrev colFst (x n j : BitVec 32) : BitVec 32 :=
  IntOp.addi (IntOp.muli (level (IntOp.subi (binHi j n) (binLo j n))) 64#32) (clip 63#32 (IntOp.addi x (binLo j n)))
abbrev colSnd (x n j : BitVec 32) : BitVec 32 :=
  IntOp.addi (IntOp.muli (level (IntOp.subi (binHi j n) (binLo j n))) 64#32)
    (clip 63#32 (IntOp.subi (IntOp.addi x (binHi j n)) (IntOp.shli .host 1#32 (level (IntOp.subi (binHi j n) (binLo j n))))))
/-- Whether a bin of columns holds any. -/
abbrev colAny (n j : BitVec 32) : BitVec 32 := (IntOp.cmpi .sgt (binHi j n) (binLo j n)).setWidth 32
/-- A bin's first row among the forty, and the row behind its last. -/
abbrev rowLo (a n i : BitVec 32) : BitVec 32 := IntOp.addi (binLo i n) (IntOp.subi a (aligned a))
abbrev rowHi (a n i : BitVec 32) : BitVec 32 := IntOp.addi (binHi i n) (IntOp.subi a (aligned a))
/-- The two groups of eight rows that hold a bin. -/
abbrev grpFst (a n i : BitVec 32) : BitVec 32 := fdiv (rowLo a n i) 8#32
abbrev grpSnd (a n i : BitVec 32) : BitVec 32 := IntOp.maxsi (fdiv (IntOp.subi (rowHi a n i) 1#32) 8#32) (grpFst a n i)

end Cert.Roi
-- ==== Proof.WordFacts.lean ====
/- The words of the region table in plain numbers, for a region whose first row (or column) lies below 32 and that has
   between 1 and 32 of them. -/
module

public import proofs.«01_k».proof.Proof.Words
public import Idealize.ShloMosaic.Lib.WordArith

@[expose] public section

namespace Cert.Roi

open Idealize.ShloMosaic

/-- The bins' ends. -/
theorem binLo_eq : ∀ n : Fin 33, ∀ j : Fin 7, binLo (BitVec.ofNat 32 j) (BitVec.ofNat 32 n) = BitVec.ofNat 32 (j * n / 7) := by decide +kernel
theorem binHi_eq : ∀ n : Fin 33, ∀ j : Fin 7, binHi (BitVec.ofNat 32 j) (BitVec.ofNat 32 n) = BitVec.ofNat 32 (((j + 1) * n + 6) / 7) := by decide +kernel
theorem aligned_eq : ∀ a : Fin 32, aligned (BitVec.ofNat 32 a) = BitVec.ofNat 32 (a / 8 * 8) := by decide +kernel
theorem fdiv_eight : ∀ a : Fin 64, fdiv (BitVec.ofNat 32 a) 8#32 = BitVec.ofNat 32 (a / 8) := by decide +kernel
theorem count_eq : ∀ a : Fin 32, ∀ d : Fin 33, count (BitVec.ofNat 32 a) (BitVec.ofNat 32 (a.val + d.val)) = BitVec.ofNat 32 (max (min (a.val + d.val) 64 - a.val) 1) := by decide +kernel

theorem grp_lt : ∀ a : Fin 32, ∀ n : Fin 33, ∀ i : Fin 7,
    (grpFst (BitVec.ofNat 32 a) (BitVec.ofNat 32 n) (BitVec.ofNat 32 i)).toNat < 5 ∧ (grpSnd (BitVec.ofNat 32 a) (BitVec.ofNat 32 n) (BitVec.ofNat 32 i)).toNat < 5 := by decide +kernel

end Cert.Roi
-- ==== Proof.Bounds.lean ====
/- Bounds of the region table's words: those of its columns hold of every region, those of its rows where the region's
   rows lie inside the map. -/
module

public import proofs.«01_k».proof.Proof.WordFacts

@[expose] public section

namespace Cert.Roi

open Idealize.ShloMosaic

/-- A region's rows: the first lies below 32, and there are at most 32 of them. -/
def Fits (a z : BitVec 32) : Prop := ∃ (x : Fin 32) (d : Fin 33), a = BitVec.ofNat 32 x ∧ z = BitVec.ofNat 32 (x.val + d.val)

/-- The number of rows, where they fit. -/
theorem Fits.count {a z : BitVec 32} (h : Fits a z) : ∃ (x : Fin 32) (n : Fin 33), 1 ≤ n.val ∧ a = BitVec.ofNat 32 x ∧ Cert.Roi.count a z = BitVec.ofNat 32 n := by
  obtain ⟨x, d, rfl, rfl⟩ := h
  exact ⟨x, ⟨max (min (x.val + d.val) 64 - x.val) 1, by omega⟩, by show 1 ≤ max _ 1; omega, rfl, count_eq x d⟩

/-- The comparisons that say so. -/
theorem Fits.of_le {a z : BitVec 32} (h0 : (0#32).sle a = true) (h1 : a.slt 32#32 = true) (h2 : a.sle z = true) (h3 : z.sle (a + 32#32) = true) : Fits a z := by
  simp only [BitVec.sle, BitVec.slt, decide_eq_true_eq, BitVec.toInt_eq_toNat_cond, BitVec.toNat_add, BitVec.toNat_ofNat] at h0 h1 h2 h3
  have ha := a.isLt
  have hz := z.isLt
  have hx : a.toNat < 32 := by omega
  have hd : a.toNat ≤ z.toNat ∧ z.toNat ≤ a.toNat + 32 := by omega
  refine ⟨⟨a.toNat, hx⟩, ⟨z.toNat - a.toNat, by omega⟩, ?_, ?_⟩
  · apply BitVec.eq_of_toNat_eq; show a.toNat = a.toNat % 2 ^ 32; omega
  · apply BitVec.eq_of_toNat_eq; show z.toNat = (a.toNat + (z.toNat - a.toNat)) % 2 ^ 32; omega

theorem three_bits : ∀ p q r : Bool, ((BitVec.ofBool p).setWidth 32 + (BitVec.ofBool q).setWidth 32 + (BitVec.ofBool r).setWidth 32).toNat ≤ 3 := by decide

theorem level_le (L : BitVec 32) : (level L).toNat ≤ 3 := three_bits _ _ _

theorem clip_lt (x : BitVec 32) : (clip 63#32 x).toNat < 64 := by
  have h0 : 0 ≤ (IntOp.maxsi 0#32 x).toInt := by
    show 0 ≤ (if x.slt 0#32 then 0#32 else x).toInt
    split
    · decide
    · rename_i h
      simp only [BitVec.slt, decide_eq_true_eq, BitVec.toInt_zero] at h
      omega
  show (if (63#32).slt (IntOp.maxsi 0#32 x) then 63#32 else IntOp.maxsi 0#32 x).toNat < 64
  generalize IntOp.maxsi 0#32 x = y at h0 ⊢
  split
  · decide
  · rename_i h
    have h63 : (63#32 : BitVec 32).toInt = 63 := by decide
    simp only [BitVec.slt, decide_eq_true_eq, h63] at h
    have hy := y.isLt
    rw [BitVec.toInt_eq_toNat_cond] at h0 h
    split at h <;> omega

theorem colFst_lt (x n j : BitVec 32) : (colFst x n j).toNat < 256 := by
  have h0 := level_le (IntOp.subi (binHi j n) (binLo j n))
  have h1 := clip_lt (IntOp.addi x (binLo j n))
  show (level _ * 64#32 + clip 63#32 _).toNat < 256
  rw [BitVec.toNat_add, BitVec.toNat_mul, BitVec.toNat_ofNat]
  omega

theorem colSnd_lt (x n j : BitVec 32) : (colSnd x n j).toNat < 256 := by
  have h0 := level_le (IntOp.subi (binHi j n) (binLo j n))
  have h1 := clip_lt (IntOp.subi (IntOp.addi x (binHi j n)) (IntOp.shli .host 1#32 (level (IntOp.subi (binHi j n) (binLo j n)))))
  show (level _ * 64#32 + clip 63#32 _).toNat < 256
  rw [BitVec.toNat_add, BitVec.toNat_mul, BitVec.toNat_ofNat]
  omega

end Cert.Roi
-- ==== Proof.Exact.lean ====
/- The float part of the region table over the extended reals: a region's first row and the row behind its last, in
   plain numbers. -/
module

public import proofs.«01_k».proof.Proof.Bounds
public import Idealize.ShloMosaic.Lib.IdealHost
public import Idealize.ShloMosaic.PureOps.Ideal

@[expose] public section

namespace Cert.Roi

open Idealize.ShloMosaic

theorem ofBits_sixteenth : Ideal.ofBits .f32 0x3D800000#32 = (((1 : ℝ) / 16 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem scaled_eq {v : ℕ} (h : v < 480) : scaled Ideal (BitVec.ofNat 32 v) = (((v : ℝ) / 16 : ℝ) : EReal) := by
  have e : (BitVec.ofNat 32 v).toInt = (v : ℤ) := by
    rw [BitVec.toInt_eq_toNat_cond, BitVec.toNat_ofNat]; omega
  show Ideal.ofBits .f32 0x3D800000#32 * (((BitVec.ofNat 32 v).toInt : ℝ) : EReal) = _
  rw [ofBits_sixteenth, e, ← EReal.coe_mul]
  congr 1
  push_cast
  ring

theorem extent_eq {e : ℕ} (h : e < 480) : extent Ideal (BitVec.ofNat 32 e) = ((((max e 16 : ℕ) : ℝ) / 16 : ℝ) : EReal) := by
  show max (scaled Ideal _) (Ideal.ofBits .f32 0x3F800000#32) = _
  rw [scaled_eq h, Ideal.ofBits_one_f32, show (1 : EReal) = ((1 : ℝ) : EReal) by norm_cast, ← EReal.coe_strictMono.monotone.map_max]
  congr 1
  push_cast
  rw [← max_div_div_right (by norm_num : (0 : ℝ) ≤ 16)]
  norm_num

theorem corner_eq {v : ℕ} (h : v < 480) (e : BitVec 32) : corner Ideal (BitVec.ofNat 32 v) e = (((v : ℝ) / 16 : ℝ) : EReal) := by
  have hv : (v : ℝ) < 480 := by exact_mod_cast h
  have hlt : ¬ Ideal.ofBits .f32 0x42800000#32 ≤ scaled Ideal (BitVec.ofNat 32 v) := by
    rw [scaled_eq h, ofBits_sixtyfour, EReal.coe_le_coe_iff]
    intro h'
    linarith
  show Scalar.select (BitVec.ofBool (decide (Ideal.ofBits .f32 0x42800000#32 ≤ scaled Ideal (BitVec.ofNat 32 v)))) _ _ = _
  rw [decide_eq_false hlt]
  exact scaled_eq h

/-- A sixteenth of a number, rounded down. -/
theorem floor_sixteenth {k : ℕ} (h : k < 16384) : Ideal.fptosi 32 (Ideal.liftRound Int.floor ((((k : ℝ) / 16 : ℝ)) : EReal)) = BitVec.ofNat 32 (k / 16) := by
  have hf : ⌊(k : ℝ) / 16⌋ = ((k / 16 : ℕ) : ℤ) := by
    have h1 : ((16 * (k / 16) + k % 16 : ℕ) : ℝ) = (k : ℝ) := by rw [Nat.div_add_mod]
    have h2 : ((k % 16 : ℕ) : ℝ) < 16 := by exact_mod_cast Nat.mod_lt k (by omega)
    have h3 : (0 : ℝ) ≤ ((k % 16 : ℕ) : ℝ) := Nat.cast_nonneg _
    rw [Int.floor_eq_iff]
    generalize k / 16 = q at h1 ⊢
    generalize k % 16 = r at h1 h2 h3
    push_cast at h1 h2 h3 ⊢
    constructor <;> linarith
  rw [Ideal.liftRound_coe, Ideal.fptosi, Ideal.toIntClamped_coe, hf]
  have h0 : (0 : ℝ) ≤ ((((k / 16 : ℕ) : ℤ)) : ℝ) := by positivity
  rw [if_pos h0, Int.floor_intCast]
  rw [show max (-((2 ^ (32 - 1) : ℕ) : ℤ)) (min (((2 ^ (32 - 1) : ℕ) : ℤ) - 1) ((k / 16 : ℕ) : ℤ)) = ((k / 16 : ℕ) : ℤ) by
    have : k / 16 < 1024 := by omega
    norm_num; omega]
  exact BitVec.ofInt_natCast _ _

theorem first_eq {v : ℕ} (h : v < 480) (e : BitVec 32) : first Ideal (BitVec.ofNat 32 v) e = BitVec.ofNat 32 (v / 16) := by
  show Ideal.fptosi 32 (Ideal.liftRound Int.floor (corner Ideal _ e)) = _
  rw [corner_eq h]
  exact floor_sixteenth (by omega)

theorem last_eq {v e : ℕ} (h : v < 480) (he : e < 480) : last Ideal (BitVec.ofNat 32 v) (BitVec.ofNat 32 e) = BitVec.ofNat 32 ((v + max e 16) / 16) := by
  show Ideal.fptosi 32 (Ideal.liftRound Int.floor (corner Ideal _ _ + extent Ideal _)) = _
  rw [corner_eq h, extent_eq he, ← EReal.coe_add, ← add_div, ← Nat.cast_add]
  exact floor_sixteenth (by omega)

/-- Words in range. -/
theorem eq_of_range {v : BitVec 32} (h0 : (0#32).sle v = true) (h1 : v.slt 480#32 = true) : v = BitVec.ofNat 32 v.toNat ∧ v.toNat < 480 := by
  have hv := v.isLt
  simp only [BitVec.sle, BitVec.slt, decide_eq_true_eq, BitVec.toInt_eq_toNat_cond, BitVec.toNat_ofNat] at h0 h1
  exact ⟨by apply BitVec.eq_of_toNat_eq; rw [BitVec.toNat_ofNat]; omega, by omega⟩

/-- Over the extended reals a region in range fits. -/
theorem fits_of_range {v e : ℕ} (h : v < 480) (he : e < 480) : Fits (first Ideal (BitVec.ofNat 32 v) (BitVec.ofNat 32 e)) (last Ideal (BitVec.ofNat 32 v) (BitVec.ofNat 32 e)) := by
  rw [first_eq h, last_eq h he]
  refine ⟨⟨v / 16, by omega⟩, ⟨(v + max e 16) / 16 - v / 16, by omega⟩, rfl, ?_⟩
  congr 1
  show _ = v / 16 + ((v + max e 16) / 16 - v / 16)
  omega

end Cert.Roi
-- ==== Proof.Ranges.lean ====
/- What the two preconditions say of each region's words. -/
module

public import proofs.«01_k».proof.Proof.Exact
public import proofs.«01_k».proof.Pre_rows_in_range
public import proofs.«01_k».proof.Pre_rois_in_range
public import Idealize.ShloMosaic.Lib.Decide
public import Idealize.ShloMosaic.Lib.Pointwise

@[expose] public section

namespace Cert.Roi

open Idealize.ShloMosaic

/-- What the operations of `rois_in_range` take of their shapes. -/
instance roisFacts : Cert.Pre_rois_in_range.Facts where
  bcast_S_S4x128x5 := by decide

/-- What the operations of `rows_in_range` take of their shapes. -/
instance rowsFacts : Cert.Pre_rows_in_range.Facts where
  slices_S4x128x5_S4x128x1_0_0_2 := by decide
  shapeCasts_S4x128x1_S4x128 := by decide
  bcast_S_S4x128 := by decide
  slices_S4x128x5_S4x128x1_0_0_4 := by decide
  bcast_S_S4x128x5 := by decide
  bcast_S4x128_S4x128x1_0_1 := by decide
  bcast_S4x128x1_S4x128x5_0_1_2 := by decide

theorem and_one {p q : BitVec 1} (h : IntOp.andi p q = 1#1) : p = 1#1 ∧ q = 1#1 := by
  revert p q
  decide

theorem ofBool_one {p : Bool} (h : BitVec.ofBool p = 1#1) : p = true := by
  revert p
  decide

variable {F : FTy → Type} [FloatOps F] {x : Cert.Pre_rois_in_range.S4x128x64x64.Idx → F .f32} {r : Cert.Pre_rois_in_range.S4x128x5.Idx → BitVec 32}

theorem range_of_rois (h : Cert.Pre_rois_in_range.fn (F := F) x r = fun _ => 1#1) (b : Fin 4) (k : Fin 128) (q : Fin 5) :
    (0#32).sle (r (ix3 b k q)) = true ∧ (r (ix3 b k q)).slt 480#32 = true := by
  have h1 := congrFun h (ix3 b k q)
  obtain ⟨ha, hb⟩ := and_one h1
  exact ⟨ofBool_one ha, ofBool_one hb⟩

theorem range_of_rows (h : Cert.Pre_rows_in_range.fn (F := F) x r = fun _ => 1#1) (b : Fin 4) (k : Fin 128) (q : Fin 5) :
    (0#32).sle (r (ix3 b k q)) = true ∧ (r (ix3 b k q)).slt 480#32 = true := by
  have h1 := congrFun h (ix3 b k q)
  obtain ⟨ha, hb⟩ := and_one (and_one h1).1
  exact ⟨ofBool_one ha, ofBool_one hb⟩

theorem fits_of_rows (h : Cert.Pre_rows_in_range.fn (F := F) x r = fun _ => 1#1) (b : Fin 4) (k : Fin 128) :
    Fits (first F (r (ix3 b k 2)) (r (ix3 b k 4))) (last F (r (ix3 b k 2)) (r (ix3 b k 4))) := by
  have h1 := congrFun h (ix3 b k 0)
  unfold Cert.Pre_rows_in_range.fn Cert.Pre_rows_in_range.fn_part1 Cert.Pre_rows_in_range.fn_part2 Cert.Pre_rows_in_range.fn_where at h1
  pointwise at h1
  obtain ⟨ha, hd⟩ := and_one (and_one h1).2
  obtain ⟨ha, hc⟩ := and_one ha
  obtain ⟨ha, hb⟩ := and_one ha
  exact Fits.of_le (ofBool_one ha) (ofBool_one hb) (ofBool_one hc) (ofBool_one hd)

end Cert.Roi
-- ==== Proof.IdealEnter.lean ====
/- The launch around the pallas_call: what the host lines before it leave, the integer table that it prefetches,
   its image blocks, and the lines after it. -/
module

public import proofs.«01_k».proof.Proof.Gen.KernelIdeal.Launch
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.StableHlo.ReadAt

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The host lines before the region, stretch by stretch. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- What the buffers of core `c` hold when the region is entered. -/
abbrev V0 (c : Dev nD) : Valuation τ sig (Elt F) := StableHlo.after (List.flatten prefixOps) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ :=
  StableHlo.forall_fresh_of_map rfl
theorem hostOps0_1_fresh : (hostOps0_1 : List (HloOp τ sig (Elt F))).Forall fun op => op.fresh = ∅ :=
  StableHlo.forall_fresh_of_map rfl
theorem hostOps0_2_fresh : (hostOps0_2 : List (HloOp τ sig (Elt F))).Forall fun op => op.fresh = ∅ :=
  StableHlo.forall_fresh_of_map rfl
theorem hostOps0_3_fresh : (hostOps0_3 : List (HloOp τ sig (Elt F))).Forall fun op => op.fresh = ∅ :=
  StableHlo.forall_fresh_of_map rfl
theorem hostOps0_4_fresh : (hostOps0_4 : List (HloOp τ sig (Elt F))).Forall fun op => op.fresh = ∅ :=
  StableHlo.forall_fresh_of_map rfl
theorem hostOps0_5_fresh : (hostOps0_5 : List (HloOp τ sig (Elt F))).Forall fun op => op.fresh = ∅ :=
  StableHlo.forall_fresh_of_map rfl
theorem hostOps0_6_fresh : (hostOps0_6 : List (HloOp τ sig (Elt F))).Forall fun op => op.fresh = ∅ :=
  StableHlo.forall_fresh_of_map rfl
theorem hostOps0_7_fresh : (hostOps0_7 : List (HloOp τ sig (Elt F))).Forall fun op => op.fresh = ∅ :=
  StableHlo.forall_fresh_of_map rfl
theorem hostOps0_8_fresh : (hostOps0_8 : List (HloOp τ sig (Elt F))).Forall fun op => op.fresh = ∅ :=
  StableHlo.forall_fresh_of_map rfl
theorem hostOps0_9_fresh : (hostOps0_9 : List (HloOp τ sig (Elt F))).Forall fun op => op.fresh = ∅ :=
  StableHlo.forall_fresh_of_map rfl
theorem hostOps0_10_fresh : (hostOps0_10 : List (HloOp τ sig (Elt F))).Forall fun op => op.fresh = ∅ :=
  StableHlo.forall_fresh_of_map rfl
theorem hostOps0_11_fresh : (hostOps0_11 : List (HloOp τ sig (Elt F))).Forall fun op => op.fresh = ∅ :=
  StableHlo.forall_fresh_of_map rfl
theorem hostOps0_12_fresh : (hostOps0_12 : List (HloOp τ sig (Elt F))).Forall fun op => op.fresh = ∅ :=
  StableHlo.forall_fresh_of_map rfl
theorem hostOps0_13_fresh : (hostOps0_13 : List (HloOp τ sig (Elt F))).Forall fun op => op.fresh = ∅ :=
  StableHlo.forall_fresh_of_map rfl
theorem hostOps0_14_fresh : (hostOps0_14 : List (HloOp τ sig (Elt F))).Forall fun op => op.fresh = ∅ :=
  StableHlo.forall_fresh_of_map rfl
theorem hostOps0_15_fresh : (hostOps0_15 : List (HloOp τ sig (Elt F))).Forall fun op => op.fresh = ∅ :=
  StableHlo.forall_fresh_of_map rfl
theorem hostOps0_16_fresh : (hostOps0_16 : List (HloOp τ sig (Elt F))).Forall fun op => op.fresh = ∅ :=
  StableHlo.forall_fresh_of_map rfl
theorem hostOps0_17_fresh : (hostOps0_17 : List (HloOp τ sig (Elt F))).Forall fun op => op.fresh = ∅ :=
  StableHlo.forall_fresh_of_map rfl
theorem hostOps0_18_fresh : (hostOps0_18 : List (HloOp τ sig (Elt F))).Forall fun op => op.fresh = ∅ :=
  StableHlo.forall_fresh_of_map rfl
theorem hostOps0_19_fresh : (hostOps0_19 : List (HloOp τ sig (Elt F))).Forall fun op => op.fresh = ∅ :=
  StableHlo.forall_fresh_of_map rfl
theorem hostOps0_20_fresh : (hostOps0_20 : List (HloOp τ sig (Elt F))).Forall fun op => op.fresh = ∅ :=
  StableHlo.forall_fresh_of_map rfl
theorem hostOps0_21_fresh : (hostOps0_21 : List (HloOp τ sig (Elt F))).Forall fun op => op.fresh = ∅ :=
  StableHlo.forall_fresh_of_map rfl
theorem hostOps0_22_fresh : (hostOps0_22 : List (HloOp τ sig (Elt F))).Forall fun op => op.fresh = ∅ :=
  StableHlo.forall_fresh_of_map rfl
theorem hostOps0_23_fresh : (hostOps0_23 : List (HloOp τ sig (Elt F))).Forall fun op => op.fresh = ∅ :=
  StableHlo.forall_fresh_of_map rfl
theorem hostOps0_24_fresh : (hostOps0_24 : List (HloOp τ sig (Elt F))).Forall fun op => op.fresh = ∅ :=
  StableHlo.forall_fresh_of_map rfl
theorem hostOps1_fresh : (hostOps1 : List (HloOp τ sig (Elt F))).Forall fun op => op.fresh = ∅ :=
  StableHlo.forall_fresh_of_map rfl

/-- The program is the region continued by the later lines, once the lines before have run. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main prefixOps [hostOps1]
    (by simp only [prefixOps, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [prefixOps, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-- The later lines touch the region's arrays and the buffers beside it only. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- They write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-- The lines before the region leave argument 0 as launched. -/
theorem V_main_arg0 (c : Dev nD) : V m c main_arg0 = m ((c : Thread nD τ).loc main_arg0) := by
  after_reads_simp
/-- The lines before the region leave argument 1 as launched. -/
theorem V_main_arg1 (c : Dev nD) : V m c main_arg1 = m ((c : Thread nD τ).loc main_arg1) := by
  after_reads_simp

/-- The prefetched table as the region finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

end Cert.KernelIdeal.Body

end
-- ==== Proof.IdealSteps.lean ====
/- The body of the kernel, laid out once: what one region of interest does (`step`), and the building of the
   tables of window maxima (`tables`), each continued with the program that follows it. -/
module

public import proofs.«01_k».proof.Proof.Gen.KernelIdeal

@[expose] public section

noncomputable section

namespace Cert.KernelIdeal.Body

open Idealize.ShloMosaic Idealize.SL.Sem Cert.KernelIdeal.Gen

variable {F : FTy → Type} [FloatOps F]

/-- A program of the kernel's body that returns nothing. -/
abbrev Cont (F : FTy → Type) [FloatOps F] : Type _ := Prog (TpuEff nD τ sig (Elt F) Λ₀ .tc) PUnit

/-- The grid's second coordinate times 32, plus `u`: the number of the region of interest, as a word. -/
abbrev roiWord (i : grid0.Coords) (u : Nat) : BitVec 32 :=
  Scalar.addi (Scalar.muli (BitVec.ofNat 32 (i 1).val) 32#32) (BitVec.ofNat 32 u)

/-- Where column `col` of the integer table holds the entry of region `u` of this grid point. -/
abbrev metaOff (i : grid0.Coords) (u col : Nat) : Fin 3 → Nat :=
  ![(Scalar.indexCast (BitVec.ofNat 32 (i 0).val) : Index).toNat, (Scalar.indexCast (roiWord i u) : Index).toNat, col]

theorem roiWord_toNat (i : grid0.Coords) {u : Nat} (hu : u < 32) : (Scalar.indexCast (roiWord i u) : Index).toNat = 32 * (i 1).val + u := by
  have h1 : (i 1).val < 4 := (i 1).isLt
  show ((BitVec.ofNat 32 (i 1).val * 32#32 + BitVec.ofNat 32 u) : BitVec 32).toNat = _
  simp only [BitVec.toNat_add, BitVec.toNat_mul, BitVec.toNat_ofNat]
  omega

theorem metaOff_eq (i : grid0.Coords) {u : Nat} (hu : u < 32) (col : Nat) : metaOff i u col = ![(i 0).val, 32 * (i 1).val + u, col] := by
  have h0 : (i 0).val < 4 := (i 0).isLt
  unfold metaOff
  rw [roiWord_toNat i hu]
  congr 1
  show (BitVec.ofNat 32 (i 0).val).toNat = _
  rw [BitVec.toNat_ofNat]; omega

theorem metaOff_inb (i : grid0.Coords) {u col : Nat} (hu : u < 32) (hc : col < 56) : ∀ a, metaOff i u col a + S1x1x1.size a ≤ S4x128x56.size a := by
  rw [metaOff_eq i hu]
  have h0 : (i 0).val < 4 := (i 0).isLt
  have h1 : (i 1).val < 4 := (i 1).isLt
  intro a
  fin_cases a
  · show (i 0).val + 1 ≤ 4; omega
  · show 32 * (i 1).val + u + 1 ≤ 128; omega
  · show col + 1 ≤ 56; omega

/-- The entry of the integer table at column `col`. -/
abbrev metaLoad (arg2 : Memref sig .tc .smem S4x128x56 .i32) (i : grid0.Coords) (u : Fin 32) (col : Nat) (hc : col < 56) (K : Elt F .i32 → Cont F) : Cont F :=
  Prog.bind (smemLoad arg2 (Rect.unit (s := S4x128x56) (metaOff i u.val col) S1x1x1.size (metaOff_inb i u.isLt hc)) numel1_S1x1x1 rfl) K

/-- Rows of the tables: table row `x`, image rows from `y`. -/
abbrev tabOff (y x : BitVec 32) : Fin 3 → Nat := ![(Scalar.indexCast x : Index).toNat, (Scalar.indexCast y : Index).toNat, 0]
abbrev TabIn (y x : BitVec 32) : Prop := ∀ a, (tabOff y x) a + S1x40x128.size a ≤ S256x64x128.size a
abbrev tabDec (y x : BitVec 32) : Decidable (TabIn y x) := decidable_of_iff' (∀ a, (tabOff y x) a + S1x40x128.size a ≤ S256x64x128.size a) (Iff.of_eq rfl)

/-- The first image row read is a multiple of 8. -/
abbrev MulIn (y : BitVec 32) : Prop := 8 ∣ y.toNat
abbrev mulDec (y : BitVec 32) : Decidable (MulIn y) := decidable_of_iff' (8 ∣ y.toNat) (Iff.of_eq rfl)

/-- A group of 8 rows of the scratch: group `g` of the run of groups starting at `n`. -/
abbrev grpOff (g n : BitVec 32) : Fin 3 → Nat := ![(Scalar.indexCast (Scalar.addi n g) : Index).toNat, 0, 0]
abbrev GrpA (u : Nat) (g : BitVec 32) : Prop :=
  (∀ a, (grpOff g (BitVec.ofNat 32 (35 * u))) a + S1x8x128.size a ≤ S1120x8x128.size a) ∧
  (∀ (r : Fin 6), ∀ a, (grpOff g (BitVec.ofNat 32 (35 * u + 5 + 5 * r.val))) a + S1x8x128.size a ≤ S1120x8x128.size a)
/-- The first group of bin `r` of region `u`. -/
abbrev grpBase (u r : Nat) : Nat := match u with
  | 0 => 5 * r
  | n + 1 => 35 * (n + 1) + 5 * r
theorem grpBase_eq (u r : Nat) : grpBase u r = 35 * u + 5 * r := by
  unfold grpBase; split <;> omega
abbrev GrpB (u : Nat) (g : BitVec 32) : Prop :=
  (∀ (r : Fin 7), ∀ a, (grpOff g (BitVec.ofNat 32 (grpBase u r.val))) a + S1x8x128.size a ≤ S1120x8x128.size a)
abbrev grpADec (u : Nat) (g : BitVec 32) : Decidable (GrpA u g) := decidable_of_iff'
  ((∀ a, (grpOff g (BitVec.ofNat 32 (35 * u))) a + S1x8x128.size a ≤ S1120x8x128.size a) ∧
  (∀ (r : Fin 6), ∀ a, (grpOff g (BitVec.ofNat 32 (35 * u + 5 + 5 * r.val))) a + S1x8x128.size a ≤ S1120x8x128.size a)) (Iff.of_eq rfl)
abbrev grpBDec (u : Nat) (g : BitVec 32) : Decidable (GrpB u g) := decidable_of_iff'
  (∀ (r : Fin 7), ∀ a, (grpOff g (BitVec.ofNat 32 (grpBase u r.val))) a + S1x8x128.size a ≤ S1120x8x128.size a) (Iff.of_eq rfl)

theorem GrpA.at {u : Nat} {g : BitVec 32} (h : GrpA u g) (j : Fin 7) : ∀ a, (grpOff g (BitVec.ofNat 32 (35 * u + 5 * j.val))) a + S1x8x128.size a ≤ S1120x8x128.size a := by
  match j with
  | ⟨0, _⟩ => exact h.1
  | ⟨r + 1, hr⟩ =>
    have := h.2 ⟨r, by omega⟩
    rw [show 35 * u + 5 * (⟨r + 1, hr⟩ : Fin 7).val = 35 * u + 5 + 5 * (⟨r, by omega⟩ : Fin 6).val from by show 35 * u + 5 * (r + 1) = 35 * u + 5 + 5 * r; omega]
    exact this

theorem GrpB.at {u : Nat} {g : BitVec 32} (h : GrpB u g) (j : Fin 7) : ∀ a, (grpOff g (BitVec.ofNat 32 (35 * u + 5 * j.val))) a + S1x8x128.size a ≤ S1120x8x128.size a := by
  rw [← grpBase_eq]; exact h j

/-- What a column bin writes: the larger of two table columns, or the least finite float where the bin is empty. -/
abbrev colVal (a b : Vec F S1x40x128 .f32) (w : Elt F .i32) : FVec F S5x8x128 .f32 :=
  shapeCast S5x8x128 (shapeCast S5x8x128 (Scalar.select (Scalar.cmpi .sgt w 0#32)
    (maximumf (shapeCast S40x128 a shapeCasts_S1x40x128_S40x128) (shapeCast S40x128 b shapeCasts_S1x40x128_S40x128))
    (broadcast S40x128 (Scalar.ofBits .f32 0xFF7FFFFF#32))) shapeCasts_S40x128_S5x8x128) shapeCasts_S5x8x128_S5x8x128

theorem colInb (u : Fin 32) {j : Nat} (hj : j < 7) : ∀ a, (![35 * u.val + 5 * j, 0, 0] : Fin 3 → Nat) a + S5x8x128.size a ≤ S1120x8x128.size a := by
  have := u.isLt
  intro a; fin_cases a
  · show 35 * u.val + 5 * j + 5 ≤ 1120; omega
  · show 0 + 8 ≤ 8; omega
  · show 0 + 128 ≤ 128; omega

/-- One column bin of region `u`: two columns of the tables are read, and their maximum is stored in the scratch. -/
abbrev colBin (arg2 : Memref sig .tc .smem S4x128x56 .i32) (arg5 : Memref sig .tc .vmem S256x64x128 .f32) (arg6 : Memref sig .tc .vmem S1120x8x128 .f32)
    (i : grid0.Coords) (u : Fin 32) (y : Elt F .i32) (j : Nat) (hj : j < 7) (K : Cont F) : Cont F :=
  metaLoad arg2 i u (1 + j) (by omega) fun xa =>
  Prog.op (.assume (TabIn y xa) (tabDec y xa)) fun ha =>
  Prog.op (.load arg5 (Rect.unit (s := S256x64x128) (tabOff y xa) S1x40x128.size ha.down).toLoadRect (View.loadsAt_vmem h_S1x40x128)) fun a =>
  metaLoad arg2 i u (8 + j) (by omega) fun xb =>
  Prog.op (.assume (TabIn y xb) (tabDec y xb)) fun hb =>
  Prog.op (.load arg5 (Rect.unit (s := S256x64x128) (tabOff y xb) S1x40x128.size hb.down).toLoadRect (View.loadsAt_vmem h_S1x40x128)) fun b =>
  metaLoad arg2 i u (15 + j) (by omega) fun w =>
  Prog.op (.load arg6 (Rect.unit (s := S1120x8x128) ![35 * u.val + 5 * j, 0, 0] S5x8x128.size (colInb u hj)).toLoadRect (View.loadsAt_vmem h_S5x8x128)) fun _ =>
  Prog.op (.store arg6 (Rect.unit (s := S1120x8x128) ![35 * u.val + 5 * j, 0, 0] S5x8x128.size (colInb u hj)) (colVal a b w) Finset.univ (View.stores_vmem_bits_univ h_S5x8x128 rfl) (.inl rfl)) fun _ => K

/-- The rows of group `g` that the row bin from `lo` to `hi` takes. -/
abbrev rowMask (g lo hi : BitVec 32) : IVec S8x1 1 :=
  andi (cmpi .sge (addi (iota .tc S8x1 32 [0] iota_S8x1_d0_w32) (broadcast S8x1 (Scalar.muli 8#32 g))) (broadcast S8x1 lo))
    (cmpi .slt (addi (iota .tc S8x1 32 [0] iota_S8x1_d0_w32) (broadcast S8x1 (Scalar.muli 8#32 g))) (broadcast S8x1 hi))

/-- A group with the rows outside the mask at the least finite float. -/
abbrev grpVal (m : IVec S8x1 1) (x : Vec F S1x8x128 .f32) : FVec F S8x128 .f32 :=
  select (broadcastTo S8x128 (shapeCast S8x1 m shapeCasts_S8x1_S8x1) broadcasts_S8x1_S8x128) (shapeCast S8x128 x shapeCasts_S1x8x128_S8x128)
    (broadcast S8x128 (Scalar.ofBits .f32 0xFF7FFFFF#32))

/-- The maximum over the rows of two masked groups. -/
abbrev binVal (ga gb lo hi : BitVec 32) (x y : Vec F S1x8x128 .f32) : FVec F S128 .f32 :=
  multiReduction .maximumf [0] S128 (maximumf (grpVal (rowMask ga lo hi) x) (grpVal (rowMask gb lo hi) y)) 0xFF800000#32 reduces_S8x128_S128 (.inl rfl) rfl

/-- One bin of a row bin: the two groups are read. -/
abbrev binLoad (arg6 : Memref sig .tc .vmem S1120x8x128 .f32) (u : Fin 32) (ga gb lo hi : Elt F .i32) (ha : GrpA u.val ga) (hb : GrpB u.val gb)
    (j : Fin 7) (K : FVec F S128 .f32 → Cont F) : Cont F :=
  Prog.op (.load arg6 (Rect.unit (s := S1120x8x128) (grpOff ga (BitVec.ofNat 32 (35 * u.val + 5 * j.val))) S1x8x128.size (GrpA.at ha j)).toLoadRect (View.loadsAt_vmem h_S1x8x128)) fun x =>
  Prog.op (.load arg6 (Rect.unit (s := S1120x8x128) (grpOff gb (BitVec.ofNat 32 (35 * u.val + 5 * j.val))) S1x8x128.size (GrpB.at hb j)).toLoadRect (View.loadsAt_vmem h_S1x8x128)) fun y =>
  K (binVal ga gb lo hi x y)

/-- One row bin of region `u`: its seven bins' values go to the continuation. -/
abbrev rowBin (arg2 : Memref sig .tc .smem S4x128x56 .i32) (arg6 : Memref sig .tc .vmem S1120x8x128 .f32)
    (i : grid0.Coords) (u : Fin 32) (r : Nat) (hr : r < 7)
    (K : FVec F S128 .f32 → FVec F S128 .f32 → FVec F S128 .f32 → FVec F S128 .f32 → FVec F S128 .f32 → FVec F S128 .f32 → FVec F S128 .f32 → Cont F) : Cont F :=
  metaLoad arg2 i u (22 + r) (by omega) fun ga =>
  Prog.op (.assume (GrpA u.val ga) (grpADec u.val ga)) fun ha =>
  metaLoad arg2 i u (29 + r) (by omega) fun gb =>
  Prog.op (.assume (GrpB u.val gb) (grpBDec u.val gb)) fun hb =>
  metaLoad arg2 i u (36 + r) (by omega) fun lo =>
  metaLoad arg2 i u (43 + r) (by omega) fun hi =>
  binLoad arg6 u ga gb lo hi ha.down hb.down 0 fun v0 =>
  binLoad arg6 u ga gb lo hi ha.down hb.down 1 fun v1 =>
  binLoad arg6 u ga gb lo hi ha.down hb.down 2 fun v2 =>
  binLoad arg6 u ga gb lo hi ha.down hb.down 3 fun v3 =>
  binLoad arg6 u ga gb lo hi ha.down hb.down 4 fun v4 =>
  binLoad arg6 u ga gb lo hi ha.down hb.down 5 fun v5 =>
  binLoad arg6 u ga gb lo hi ha.down hb.down 6 fun v6 =>
  K v0 v1 v2 v3 v4 v5 v6

theorem outInb (u : Fin 32) {r : Nat} (hr : r < 7) : ∀ a, (![0, u.val, 7 * r, 0] : Fin 4 → Nat) a + S1x1x7x128.size a ≤ S1x32x49x128.size a := by
  have := u.isLt
  intro a; fin_cases a
  · show 0 + 1 ≤ 1; omega
  · show u.val + 1 ≤ 32; omega
  · show 7 * r + 7 ≤ 49; omega
  · show 0 + 128 ≤ 128; omega

/-- Seven rows of 128 lanes as the block stored. -/
abbrev outVal (v0 v1 v2 v3 v4 v5 v6 : FVec F S128 .f32) : FVec F S1x1x7x128 .f32 :=
  shapeCast S1x1x7x128 (concatenate S7x128 0 [⟨S1x128, shapeCast S1x128 v0 shapeCasts_S128_S1x128⟩, ⟨S1x128, shapeCast S1x128 v1 shapeCasts_S128_S1x128⟩,
    ⟨S1x128, shapeCast S1x128 v2 shapeCasts_S128_S1x128⟩, ⟨S1x128, shapeCast S1x128 v3 shapeCasts_S128_S1x128⟩, ⟨S1x128, shapeCast S1x128 v4 shapeCasts_S128_S1x128⟩,
    ⟨S1x128, shapeCast S1x128 v5 shapeCasts_S128_S1x128⟩, ⟨S1x128, shapeCast S1x128 v6 shapeCasts_S128_S1x128⟩]
    concatenates_S1x128_S1x128_S1x128_S1x128_S1x128_S1x128_S1x128_S7x128_d0) shapeCasts_S7x128_S1x1x7x128

/-- The store of one row bin's seven results. -/
abbrev outStore (arg4 : Memref sig .tc .vmem S1x32x49x128 .f32) (u : Fin 32) (r : Nat) (hr : r < 7) (x : FVec F S1x1x7x128 .f32) (K : Cont F) : Cont F :=
  Prog.op (.load arg4 (Rect.unit (s := S1x32x49x128) ![0, u.val, 7 * r, 0] S1x1x7x128.size (outInb u hr)).toLoadRect (View.loadsAt_vmem h_S1x1x7x128)) fun _ =>
  Prog.op (.store arg4 (Rect.unit (s := S1x32x49x128) ![0, u.val, 7 * r, 0] S1x1x7x128.size (outInb u hr)) x Finset.univ (View.stores_vmem_bits_univ h_S1x1x7x128 rfl) (.inl rfl)) fun _ => K

/-- The seven column bins of region `u`. -/
abbrev colBins (arg2 : Memref sig .tc .smem S4x128x56 .i32) (arg5 : Memref sig .tc .vmem S256x64x128 .f32) (arg6 : Memref sig .tc .vmem S1120x8x128 .f32)
    (i : grid0.Coords) (u : Fin 32) (K : Cont F) : Cont F :=
  metaLoad arg2 i u 0 (by omega) fun y =>
  Prog.op (.assume (MulIn y) (mulDec y)) fun _ =>
  colBin arg2 arg5 arg6 i u y 0 (by omega) <|
  colBin arg2 arg5 arg6 i u y 1 (by omega) <|
  colBin arg2 arg5 arg6 i u y 2 (by omega) <|
  colBin arg2 arg5 arg6 i u y 3 (by omega) <|
  colBin arg2 arg5 arg6 i u y 4 (by omega) <|
  colBin arg2 arg5 arg6 i u y 5 (by omega) <|
  colBin arg2 arg5 arg6 i u y 6 (by omega) K

/-- What one region of interest does: seven column bins, seven row bins, seven stores. -/
def step (arg2 : Memref sig .tc .smem S4x128x56 .i32) (arg4 : Memref sig .tc .vmem S1x32x49x128 .f32) (arg5 : Memref sig .tc .vmem S256x64x128 .f32)
    (arg6 : Memref sig .tc .vmem S1120x8x128 .f32) (i : grid0.Coords) (u : Fin 32) (K : Cont F) : Cont F :=
  colBins arg2 arg5 arg6 i u <|
  rowBin arg2 arg6 i u 0 (by omega) fun a0 a1 a2 a3 a4 a5 a6 =>
  rowBin arg2 arg6 i u 1 (by omega) fun b0 b1 b2 b3 b4 b5 b6 =>
  rowBin arg2 arg6 i u 2 (by omega) fun c0 c1 c2 c3 c4 c5 c6 =>
  rowBin arg2 arg6 i u 3 (by omega) fun d0 d1 d2 d3 d4 d5 d6 =>
  rowBin arg2 arg6 i u 4 (by omega) fun e0 e1 e2 e3 e4 e5 e6 =>
  rowBin arg2 arg6 i u 5 (by omega) fun f0 f1 f2 f3 f4 f5 f6 =>
  rowBin arg2 arg6 i u 6 (by omega) fun g0 g1 g2 g3 g4 g5 g6 =>
  outStore arg4 u 0 (by omega) (outVal a0 a1 a2 a3 a4 a5 a6) <|
  outStore arg4 u 1 (by omega) (outVal b0 b1 b2 b3 b4 b5 b6) <|
  outStore arg4 u 2 (by omega) (outVal c0 c1 c2 c3 c4 c5 c6) <|
  outStore arg4 u 3 (by omega) (outVal d0 d1 d2 d3 d4 d5 d6) <|
  outStore arg4 u 4 (by omega) (outVal e0 e1 e2 e3 e4 e5 e6) <|
  outStore arg4 u 5 (by omega) (outVal f0 f1 f2 f3 f4 f5 f6) <|
  outStore arg4 u 6 (by omega) (outVal g0 g1 g2 g3 g4 g5 g6) K

/-- The tables of window maxima along the image's columns: the columns themselves, then the maxima of windows of
    two, four and eight columns, each from the table before it; the last rows, where a window does not fit, are copied. -/
def tables (arg3 : Memref sig .tc .vmem S1x64x64x128 .f32) (arg5 : Memref sig .tc .vmem S256x64x128 .f32) (K : Cont F) : Cont F :=
  Prog.op (.load arg3 (Rect.unit (s := S1x64x64x128) ![0, 0, 0, 0] S1x64x64x128.size inb_S1x64x64x128_S1x64x64x128_0_0_0_0).toLoadRect (View.loadsAt_vmem h_S1x64x64x128)) fun a =>
  Prog.op (.load arg5 (Rect.unit (s := S256x64x128) ![0, 0, 0] S64x64x128.size inb_S256x64x128_S64x64x128_0_0_0).toLoadRect (View.loadsAt_vmem h_S64x64x128)) fun _ =>
  Prog.op (.store arg5 (Rect.unit (s := S256x64x128) ![0, 0, 0] S64x64x128.size inb_S256x64x128_S64x64x128_0_0_0) (shapeCast S64x64x128 (shapeCast S64x64x128 a shapeCasts_S1x64x64x128_S64x64x128) shapeCasts_S64x64x128_S64x64x128) Finset.univ (View.stores_vmem_bits_univ h_S64x64x128 rfl) (.inl rfl)) fun _ =>
  Prog.op (.load arg3 (Rect.unit (s := S1x64x64x128) ![0, 0, 0, 0] S1x63x64x128.size inb_S1x64x64x128_S1x63x64x128_0_0_0_0).toLoadRect (View.loadsAt_vmem h_S1x63x64x128)) fun b =>
  Prog.op (.load arg3 (Rect.unit (s := S1x64x64x128) ![0, 1, 0, 0] S1x63x64x128.size inb_S1x64x64x128_S1x63x64x128_0_1_0_0).toLoadRect (View.loadsAt_vmem h_S1x63x64x128)) fun c =>
  Prog.op (.load arg5 (Rect.unit (s := S256x64x128) ![64, 0, 0] S63x64x128.size inb_S256x64x128_S63x64x128_64_0_0).toLoadRect (View.loadsAt_vmem h_S63x64x128)) fun _ =>
  Prog.op (.store arg5 (Rect.unit (s := S256x64x128) ![64, 0, 0] S63x64x128.size inb_S256x64x128_S63x64x128_64_0_0) (shapeCast S63x64x128 (maximumf (shapeCast S63x64x128 b shapeCasts_S1x63x64x128_S63x64x128) (shapeCast S63x64x128 c shapeCasts_S1x63x64x128_S63x64x128)) shapeCasts_S63x64x128_S63x64x128) Finset.univ (View.stores_vmem_bits_univ h_S63x64x128 rfl) (.inl rfl)) fun _ =>
  Prog.op (.load arg3 (Rect.unit (s := S1x64x64x128) ![0, 63, 0, 0] S1x1x64x128.size inb_S1x64x64x128_S1x1x64x128_0_63_0_0).toLoadRect (View.loadsAt_vmem h_S1x1x64x128)) fun d =>
  Prog.op (.load arg5 (Rect.unit (s := S256x64x128) ![127, 0, 0] S1x64x128.size inb_S256x64x128_S1x64x128_127_0_0).toLoadRect (View.loadsAt_vmem h_S1x64x128)) fun _ =>
  Prog.op (.store arg5 (Rect.unit (s := S256x64x128) ![127, 0, 0] S1x64x128.size inb_S256x64x128_S1x64x128_127_0_0) (shapeCast S1x64x128 (shapeCast S64x128 d shapeCasts_S1x1x64x128_S64x128) shapeCasts_S64x128_S1x64x128) Finset.univ (View.stores_vmem_bits_univ h_S1x64x128 rfl) (.inl rfl)) fun _ =>
  Prog.op (.load arg5 (Rect.unit (s := S256x64x128) ![64, 0, 0] S62x64x128.size inb_S256x64x128_S62x64x128_64_0_0).toLoadRect (View.loadsAt_vmem h_S62x64x128)) fun e =>
  Prog.op (.load arg5 (Rect.unit (s := S256x64x128) ![66, 0, 0] S62x64x128.size inb_S256x64x128_S62x64x128_66_0_0).toLoadRect (View.loadsAt_vmem h_S62x64x128)) fun f =>
  Prog.op (.load arg5 (Rect.unit (s := S256x64x128) ![128, 0, 0] S62x64x128.size inb_S256x64x128_S62x64x128_128_0_0).toLoadRect (View.loadsAt_vmem h_S62x64x128)) fun _ =>
  Prog.op (.store arg5 (Rect.unit (s := S256x64x128) ![128, 0, 0] S62x64x128.size inb_S256x64x128_S62x64x128_128_0_0) (shapeCast S62x64x128 (maximumf e f) shapeCasts_S62x64x128_S62x64x128) Finset.univ (View.stores_vmem_bits_univ h_S62x64x128 rfl) (.inl rfl)) fun _ =>
  Prog.op (.load arg5 (Rect.unit (s := S256x64x128) ![126, 0, 0] S2x64x128.size inb_S256x64x128_S2x64x128_126_0_0).toLoadRect (View.loadsAt_vmem h_S2x64x128)) fun g =>
  Prog.op (.load arg5 (Rect.unit (s := S256x64x128) ![190, 0, 0] S2x64x128.size inb_S256x64x128_S2x64x128_190_0_0).toLoadRect (View.loadsAt_vmem h_S2x64x128)) fun _ =>
  Prog.op (.store arg5 (Rect.unit (s := S256x64x128) ![190, 0, 0] S2x64x128.size inb_S256x64x128_S2x64x128_190_0_0) (shapeCast S2x64x128 g shapeCasts_S2x64x128_S2x64x128) Finset.univ (View.stores_vmem_bits_univ h_S2x64x128 rfl) (.inl rfl)) fun _ =>
  Prog.op (.load arg5 (Rect.unit (s := S256x64x128) ![128, 0, 0] S60x64x128.size inb_S256x64x128_S60x64x128_128_0_0).toLoadRect (View.loadsAt_vmem h_S60x64x128)) fun p =>
  Prog.op (.load arg5 (Rect.unit (s := S256x64x128) ![132, 0, 0] S60x64x128.size inb_S256x64x128_S60x64x128_132_0_0).toLoadRect (View.loadsAt_vmem h_S60x64x128)) fun q =>
  Prog.op (.load arg5 (Rect.unit (s := S256x64x128) ![192, 0, 0] S60x64x128.size inb_S256x64x128_S60x64x128_192_0_0).toLoadRect (View.loadsAt_vmem h_S60x64x128)) fun _ =>
  Prog.op (.store arg5 (Rect.unit (s := S256x64x128) ![192, 0, 0] S60x64x128.size inb_S256x64x128_S60x64x128_192_0_0) (shapeCast S60x64x128 (maximumf p q) shapeCasts_S60x64x128_S60x64x128) Finset.univ (View.stores_vmem_bits_univ h_S60x64x128 rfl) (.inl rfl)) fun _ =>
  Prog.op (.load arg5 (Rect.unit (s := S256x64x128) ![188, 0, 0] S4x64x128.size inb_S256x64x128_S4x64x128_188_0_0).toLoadRect (View.loadsAt_vmem h_S4x64x128)) fun r =>
  Prog.op (.load arg5 (Rect.unit (s := S256x64x128) ![252, 0, 0] S4x64x128.size inb_S256x64x128_S4x64x128_252_0_0).toLoadRect (View.loadsAt_vmem h_S4x64x128)) fun _ =>
  Prog.op (.store arg5 (Rect.unit (s := S256x64x128) ![252, 0, 0] S4x64x128.size inb_S256x64x128_S4x64x128_252_0_0) (shapeCast S4x64x128 r shapeCasts_S4x64x128_S4x64x128) Finset.univ (View.stores_vmem_bits_univ h_S4x64x128 rfl) (.inl rfl)) fun _ =>
  K

end Cert.KernelIdeal.Body

end
-- ==== Proof.IdealLayout.lean ====
/- The printed body is the one laid out in `Steps`: the tables where the grid point is a block's first, then the 32
   regions of interest one after another. -/
module

public import proofs.«01_k».proof.Proof.IdealSteps

@[expose] public section

noncomputable section

namespace Cert.KernelIdeal.Body

open Idealize.ShloMosaic Idealize.SL.Sem Cert.KernelIdeal.Gen

variable {F : FTy → Type} [FloatOps F]
variable (i : grid0.Coords) (arg2 : Memref sig .tc .smem S4x128x56 .i32) (harg2 : arg2.IsWhole) (arg3 : Memref sig .tc .vmem S1x64x64x128 .f32) (harg3 : arg3.IsWhole) (arg4 : Memref sig .tc .vmem S1x32x49x128 .f32) (harg4 : arg4.IsWhole) (arg5 : Memref sig .tc .vmem S256x64x128 .f32) (harg5 : arg5.IsWhole) (arg6 : Memref sig .tc .vmem S1120x8x128 .f32) (harg6 : arg6.IsWhole)

/-- The condition under which the tables are built. -/
abbrev First : Prop := Scalar.cmpi .ne (Scalar.extui (Scalar.cmpi .eq (BitVec.ofNat 32 (i 1).val) 0#32) : BitVec 32) 0#32 = 1#1

/-- The body's first part where the tables are built. -/
def part2Pos (h : First i) : {P // k0_part2 (F := F) i arg2 harg2 arg3 harg3 arg4 harg4 arg5 harg5 arg6 harg6 = P} := by
  refine ⟨?_, ?h⟩
  case h =>
    unfold k0_part2
    dsimp only
    rw [dif_pos h]

/-- The whole body where the tables are built. -/
def headPos (h : First i) : {P : Cont F // cc0_roi_maxpool i arg2 harg2 arg3 harg3 arg4 harg4 arg5 harg5 arg6 harg6 = P} := by
  refine ⟨?_, ?h⟩
  case h =>
    unfold cc0_roi_maxpool k0_part1096 k0_part1078
    rw [(part2Pos i arg2 harg2 arg3 harg3 arg4 harg4 arg5 harg5 arg6 harg6 h).2]

/-- The body's first part where the tables are not built. -/
def part2Neg (h : ¬ First i) : {P // k0_part2 (F := F) i arg2 harg2 arg3 harg3 arg4 harg4 arg5 harg5 arg6 harg6 = P} := by
  refine ⟨?_, ?h⟩
  case h =>
    unfold k0_part2
    dsimp only
    rw [dif_neg h]

/-- The whole body where the tables are not built. -/
def headNeg (h : ¬ First i) : {P : Cont F // cc0_roi_maxpool i arg2 harg2 arg3 harg3 arg4 harg4 arg5 harg5 arg6 harg6 = P} := by
  refine ⟨?_, ?h⟩
  case h =>
    unfold cc0_roi_maxpool k0_part1096 k0_part1078
    rw [(part2Neg i arg2 harg2 arg3 harg3 arg4 harg4 arg5 harg5 arg6 harg6 h).2]

set_option maxRecDepth 100000 in
set_option maxHeartbeats 40000000 in
/-- What follows the tables, whether they are built or not. -/
def rest0 : {R : Cont F // (∀ h : First i, (headPos i arg2 harg2 arg3 harg3 arg4 harg4 arg5 harg5 arg6 harg6 h).1 = tables arg3 arg5 R) ∧ (∀ h : ¬ First i, (headNeg i arg2 harg2 arg3 harg3 arg4 harg4 arg5 harg5 arg6 harg6 h).1 = R)} :=
  ⟨_, fun _ => rfl, fun _ => rfl⟩

set_option maxRecDepth 100000 in
set_option maxHeartbeats 40000000 in
/-- Regions 0 to 3. -/
def rest4 : {R : Cont F // (rest0 i arg2 harg2 arg3 harg3 arg4 harg4 arg5 harg5 arg6 harg6).1 = (step arg2 arg4 arg5 arg6 i 0 (step arg2 arg4 arg5 arg6 i 1 (step arg2 arg4 arg5 arg6 i 2 (step arg2 arg4 arg5 arg6 i 3 R))))} := ⟨_, rfl⟩

set_option maxRecDepth 100000 in
set_option maxHeartbeats 40000000 in
/-- Regions 4 to 7. -/
def rest8 : {R : Cont F // (rest4 i arg2 harg2 arg3 harg3 arg4 harg4 arg5 harg5 arg6 harg6).1 = (step arg2 arg4 arg5 arg6 i 4 (step arg2 arg4 arg5 arg6 i 5 (step arg2 arg4 arg5 arg6 i 6 (step arg2 arg4 arg5 arg6 i 7 R))))} := ⟨_, rfl⟩

set_option maxRecDepth 100000 in
set_option maxHeartbeats 40000000 in
/-- Regions 8 to 11. -/
def rest12 : {R : Cont F // (rest8 i arg2 harg2 arg3 harg3 arg4 harg4 arg5 harg5 arg6 harg6).1 = (step arg2 arg4 arg5 arg6 i 8 (step arg2 arg4 arg5 arg6 i 9 (step arg2 arg4 arg5 arg6 i 10 (step arg2 arg4 arg5 arg6 i 11 R))))} := ⟨_, rfl⟩

set_option maxRecDepth 100000 in
set_option maxHeartbeats 40000000 in
/-- Regions 12 to 15. -/
def rest16 : {R : Cont F // (rest12 i arg2 harg2 arg3 harg3 arg4 harg4 arg5 harg5 arg6 harg6).1 = (step arg2 arg4 arg5 arg6 i 12 (step arg2 arg4 arg5 arg6 i 13 (step arg2 arg4 arg5 arg6 i 14 (step arg2 arg4 arg5 arg6 i 15 R))))} := ⟨_, rfl⟩

set_option maxRecDepth 100000 in
set_option maxHeartbeats 40000000 in
/-- Regions 16 to 19. -/
def rest20 : {R : Cont F // (rest16 i arg2 harg2 arg3 harg3 arg4 harg4 arg5 harg5 arg6 harg6).1 = (step arg2 arg4 arg5 arg6 i 16 (step arg2 arg4 arg5 arg6 i 17 (step arg2 arg4 arg5 arg6 i 18 (step arg2 arg4 arg5 arg6 i 19 R))))} := ⟨_, rfl⟩

set_option maxRecDepth 100000 in
set_option maxHeartbeats 40000000 in
/-- Regions 20 to 23. -/
def rest24 : {R : Cont F // (rest20 i arg2 harg2 arg3 harg3 arg4 harg4 arg5 harg5 arg6 harg6).1 = (step arg2 arg4 arg5 arg6 i 20 (step arg2 arg4 arg5 arg6 i 21 (step arg2 arg4 arg5 arg6 i 22 (step arg2 arg4 arg5 arg6 i 23 R))))} := ⟨_, rfl⟩

set_option maxRecDepth 100000 in
set_option maxHeartbeats 40000000 in
/-- Regions 24 to 27. -/
def rest28 : {R : Cont F // (rest24 i arg2 harg2 arg3 harg3 arg4 harg4 arg5 harg5 arg6 harg6).1 = (step arg2 arg4 arg5 arg6 i 24 (step arg2 arg4 arg5 arg6 i 25 (step arg2 arg4 arg5 arg6 i 26 (step arg2 arg4 arg5 arg6 i 27 R))))} := ⟨_, rfl⟩

set_option maxRecDepth 100000 in
set_option maxHeartbeats 40000000 in
/-- Regions 28 to 31, the last. -/
theorem rest28_eq : (rest28 (F := F) i arg2 harg2 arg3 harg3 arg4 harg4 arg5 harg5 arg6 harg6).1 = (step arg2 arg4 arg5 arg6 i 28 (step arg2 arg4 arg5 arg6 i 29 (step arg2 arg4 arg5 arg6 i 30 (step arg2 arg4 arg5 arg6 i 31 (.ret ⟨⟩))))) := rfl

/-- The regions before the `n`-th, one after another, then `K`. -/
def stepsTo : (n : Nat) → n ≤ 32 → Cont F → Cont F
  | 0, _, K => K
  | n + 1, h, K => stepsTo n (Nat.le_of_succ_le h) (step arg2 arg4 arg5 arg6 i ⟨n, h⟩ K)

/-- All 32 regions, whether the tables are built or not. -/
theorem rest0_eq : (rest0 (F := F) i arg2 harg2 arg3 harg3 arg4 harg4 arg5 harg5 arg6 harg6).1 = stepsTo i arg2 arg4 arg5 arg6 32 (Nat.le_refl 32) (.ret ⟨⟩) := by
  rw [(rest4 i arg2 harg2 arg3 harg3 arg4 harg4 arg5 harg5 arg6 harg6).2, (rest8 i arg2 harg2 arg3 harg3 arg4 harg4 arg5 harg5 arg6 harg6).2, (rest12 i arg2 harg2 arg3 harg3 arg4 harg4 arg5 harg5 arg6 harg6).2, (rest16 i arg2 harg2 arg3 harg3 arg4 harg4 arg5 harg5 arg6 harg6).2, (rest20 i arg2 harg2 arg3 harg3 arg4 harg4 arg5 harg5 arg6 harg6).2, (rest24 i arg2 harg2 arg3 harg3 arg4 harg4 arg5 harg5 arg6 harg6).2, (rest28 i arg2 harg2 arg3 harg3 arg4 harg4 arg5 harg5 arg6 harg6).2, rest28_eq]
  rfl

/-- The body at a grid point where the tables are built. -/
theorem body_first (h : First i) : cc0_roi_maxpool i arg2 harg2 arg3 harg3 arg4 harg4 arg5 harg5 arg6 harg6 = tables (F := F) arg3 arg5 (stepsTo i arg2 arg4 arg5 arg6 32 (Nat.le_refl 32) (.ret ⟨⟩)) := by
  rw [(headPos i arg2 harg2 arg3 harg3 arg4 harg4 arg5 harg5 arg6 harg6 h).2, (rest0 i arg2 harg2 arg3 harg3 arg4 harg4 arg5 harg5 arg6 harg6).2.1 h, rest0_eq]

/-- The body at a grid point where they are not. -/
theorem body_later (h : ¬ First i) : cc0_roi_maxpool (F := F) i arg2 harg2 arg3 harg3 arg4 harg4 arg5 harg5 arg6 harg6 = stepsTo i arg2 arg4 arg5 arg6 32 (Nat.le_refl 32) (.ret ⟨⟩) := by
  rw [(headNeg i arg2 harg2 arg3 harg3 arg4 harg4 arg5 harg5 arg6 harg6 h).2, (rest0 i arg2 harg2 arg3 harg3 arg4 harg4 arg5 harg5 arg6 harg6).2.2 h, rest0_eq]

end Cert.KernelIdeal.Body

end
-- ==== Proof.IdealRules.lean ====
/- Running the body as plain logic: `Runs` says that from the five buffers' contents the program reaches what is
   wanted afterwards, and each operation has one rule. -/
module

public import proofs.«01_k».proof.Proof.IdealSteps
public import Idealize.ShloMosaic.Lib.Claim
public import Idealize.ShloMosaic.Lib.Pipeline.FrameBody

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A store of `w` at offset `off`, as a function of the contents. -/
def put {s : Shape} {α : Type} (off size : Fin s.rank → Nat) (w : (⟨s.rank, size⟩ : Shape).Idx → α) (X : s.Idx → α) : s.Idx → α :=
  fun y => if h : ∀ a, off a ≤ (y a).val ∧ (y a).val < off a + size a
    then w fun a => ⟨(y a).val - off a, by have := h a; show _ < size a; omega⟩ else X y

/-- Reading what was put. -/
theorem put_of_mem {s : Shape} {α : Type} {off size : Fin s.rank → Nat} {w : (⟨s.rank, size⟩ : Shape).Idx → α} {X : s.Idx → α} (y : s.Idx)
    (x : (⟨s.rank, size⟩ : Shape).Idx) (h : ∀ a, (y a).val = off a + (x a).val) : put off size w X y = w x := by
  have hx : ∀ a, (x a).val < size a := fun a => (x a).isLt
  unfold put
  rw [dif_pos fun a => by have := h a; have := hx a; omega]
  congr 1; funext a; apply Fin.ext
  show (y a).val - off a = (x a).val
  have := h a; omega

/-- Elsewhere nothing changed. -/
theorem put_of_not_mem {s : Shape} {α : Type} {off size : Fin s.rank → Nat} {w : (⟨s.rank, size⟩ : Shape).Idx → α} {X : s.Idx → α} {y : s.Idx}
    (a : Fin s.rank) (h : (y a).val < off a ∨ off a + size a ≤ (y a).val) : put off size w X y = X y := by
  unfold put
  rw [dif_neg fun hh => by have := hh a; omega]

/-- What a store leaves, read through the memref. -/
theorem read_store {κ : Kind} {sp : Space} {s : Shape} {e : EltTy} (m : Memref sig κ sp s e) (off size : Fin s.rank → Nat) (inb : ∀ a, off a + size a ≤ s.size a)
    (f : m.view.ty.Contents (Elt F)) (w : (Rect.unit off size inb).shape.Idx → Elt F e) :
    m.view.read (Elt F) ((m.access (Rect.unit off size inb)).write (Elt F) f w Finset.univ) = put off size w (m.view.read (Elt F) f) := by
  funext y
  by_cases h : y ∈ (Rect.unit off size inb).set
  · obtain ⟨x, rfl⟩ := (Rect.unit off size inb).exists_idx_of_mem h
    refine (View.read_slice_write_emb (v := m.view) (Rect.unit off size inb) f w (Finset.mem_univ x)).trans (put_of_mem (off := off) (size := size) _ x fun a => ?_).symm
    show off a + 1 * (x a).val = _
    rw [Nat.one_mul]
  · refine (View.read_slice_write_of_not_mem (v := m.view) (Rect.unit off size inb) f w Finset.univ (by rwa [Rect.map_emb_univ])).trans ?_
    rw [Rect.mem_set_unit] at h
    unfold put
    rw [dif_neg h]

variable (F) in
/-- What the five buffers hold. -/
structure Bufs where
  x2 : S4x128x56.Idx → Elt F .i32
  x3 : S1x64x64x128.Idx → Elt F .f32
  x4 : S1x32x49x128.Idx → Elt F .f32
  x5 : S256x64x128.Idx → Elt F .f32
  x6 : S1120x8x128.Idx → Elt F .f32

variable (F) in
/-- The five memrefs, and what is proved of the program's end: a frame and a postcondition. -/
structure Env where
  c : Dev nD
  arg2 : Memref sig .tc .smem S4x128x56 .i32
  arg3 : Memref sig .tc .vmem S1x64x64x128 .f32
  arg4 : Memref sig .tc .vmem S1x32x49x128 .f32
  arg5 : Memref sig .tc .vmem S256x64x128 .f32
  arg6 : Memref sig .tc .vmem S1120x8x128 .f32
  q2 : PosShare TreeShare
  E : Set ℕ
  R : sProp 𝕄
  Q : PUnit → sProp 𝕄

variable (v : Env F)

/-- The five buffers, owned at those contents. -/
def held (s : Bufs F) : sProp 𝕄 :=
  iprop(owns (v.c : Thread nD τ) v.arg2 v.q2 s.x2 ∗ owns (v.c : Thread nD τ) v.arg3 fullShare s.x3 ∗ owns (v.c : Thread nD τ) v.arg4 fullShare s.x4
    ∗ owns (v.c : Thread nD τ) v.arg5 fullShare s.x5 ∗ owns (v.c : Thread nD τ) v.arg6 fullShare s.x6 ∗ v.R)

/-- From the buffers at these contents the program runs to the postcondition. -/
def Runs (s : Bufs F) (p : Cont F) : Prop :=
  held v s ⊢ wp frame (wpE (defs₀ (F := F)) Variants.none (v.c : Thread nD τ) none) v.E p v.Q

variable {v}

/-- A load continues at what the rectangle reads. -/
theorem load_owns (c : Dev nD) {cs : CoreSpace} {s : Shape} {e : EltTy} (m : Memref sig .tc cs s e) (r : Rect s) (hl : m.view.LoadsAt r.toLoadRect) {E : Set ℕ} {Q : PUnit → sProp 𝕄}
    (k : (r.shape.Idx → Elt F e) → Cont F) (q : PosShare TreeShare) (X : s.Idx → Elt F e) :
    owns (c : Thread nD τ) m q X ⊢ iprop((owns (c : Thread nD τ) m q X -∗ wp frame (wpE (defs₀ (F := F)) Variants.none (c : Thread nD τ) none) E (k fun x => X (r.emb x)) Q)
      -∗ wp frame (wpE (defs₀ (F := F)) Variants.none (c : Thread nD τ) none) E (.op (.load m r.toLoadRect hl) k) Q) := by
  unfold owns
  iintro ⟨%f, %hf, H⟩ Hk
  subst hf
  iapply (wp_load_rect Variants.none (c : Thread nD τ) none E (m := m) (r := r) (hl := hl) (k := k) (q := q) (f := f) (S := m.view.set) (View.set_slice_subset m.view r)) $$ H
  iintro H
  iapply Hk
  iexists f
  isplitr; · ipureintro; rfl
  iexact H

/-- A store continues with its values put. -/
theorem store_owns (c : Dev nD) {cs : CoreSpace} {s : Shape} {e : EltTy} (m : Memref sig .tc cs s e) (off size : Fin s.rank → Nat) (inb : ∀ a, off a + size a ≤ s.size a)
    (w : (Rect.unit off size inb).shape.Idx → Elt F e) (hx : (m.access (Rect.unit off size inb)).Stores Finset.univ) (hm) {E : Set ℕ} {Q : PUnit → sProp 𝕄}
    (k : PUnit → Cont F) (X : s.Idx → Elt F e) :
    owns (c : Thread nD τ) m fullShare X ⊢ iprop((owns (c : Thread nD τ) m fullShare (put off size w X) -∗ wp frame (wpE (defs₀ (F := F)) Variants.none (c : Thread nD τ) none) E (k ⟨⟩) Q)
      -∗ wp frame (wpE (defs₀ (F := F)) Variants.none (c : Thread nD τ) none) E (.op (.store m (Rect.unit off size inb) w Finset.univ hx hm) k) Q) := by
  unfold owns
  iintro ⟨%f, %hf, H⟩ Hk
  subst hf
  iapply (wp_store Variants.none (c : Thread nD τ) none E (m := m) (r := Rect.unit off size inb) (w := w) (Mk := Finset.univ) (hx := hx) (hm := hm) (k := k) (f := f) (S := m.view.set)
    (by rw [View.setOn_univ]; exact View.set_slice_subset m.view _)) $$ H
  iintro H
  iapply Hk
  iexists _
  isplitr
  · ipureintro; exact read_store m off size inb f w
  iexact H

theorem runs_ret {s : Bufs F} (h : held v s ⊢ v.Q ⟨⟩) : Runs v s (.ret ⟨⟩) := by
  unfold Runs
  rw [wp_ret]
  exact h.trans BI.fupd_intro

theorem runs_assume {s : Bufs F} {P : Prop} {d : Decidable P} {k : PLift P → Cont F} (h : P) (hk : Runs v s (k ⟨h⟩)) : Runs v s (.op (.assume P d) k) :=
  Idealize.SL.BI.Entails.trans hk (wp_assume Variants.none (v.c : Thread nD τ) none v.E h)

theorem runs_load2 {s : Bufs F} {r : Rect S4x128x56} {hl : v.arg2.view.LoadsAt r.toLoadRect} {k : (r.shape.Idx → Elt F .i32) → Cont F}
    (hk : Runs v s (k fun x => s.x2 (r.emb x))) : Runs v s (.op (.load v.arg2 r.toLoadRect hl) k) := by
  unfold Runs held at *
  iintro ⟨H2, H3, H4, H5, H6, HR⟩
  iapply (load_owns v.c v.arg2 r hl k v.q2 s.x2) $$ H2
  iintro H2
  iapply hk
  iframe

theorem runs_load3 {s : Bufs F} {r : Rect S1x64x64x128} {hl : v.arg3.view.LoadsAt r.toLoadRect} {k : (r.shape.Idx → Elt F .f32) → Cont F}
    (hk : Runs v s (k fun x => s.x3 (r.emb x))) : Runs v s (.op (.load v.arg3 r.toLoadRect hl) k) := by
  unfold Runs held at *
  iintro ⟨H2, H3, H4, H5, H6, HR⟩
  iapply (load_owns v.c v.arg3 r hl k fullShare s.x3) $$ H3
  iintro H3
  iapply hk
  iframe

theorem runs_load4 {s : Bufs F} {r : Rect S1x32x49x128} {hl : v.arg4.view.LoadsAt r.toLoadRect} {k : (r.shape.Idx → Elt F .f32) → Cont F}
    (hk : Runs v s (k fun x => s.x4 (r.emb x))) : Runs v s (.op (.load v.arg4 r.toLoadRect hl) k) := by
  unfold Runs held at *
  iintro ⟨H2, H3, H4, H5, H6, HR⟩
  iapply (load_owns v.c v.arg4 r hl k fullShare s.x4) $$ H4
  iintro H4
  iapply hk
  iframe

theorem runs_load5 {s : Bufs F} {r : Rect S256x64x128} {hl : v.arg5.view.LoadsAt r.toLoadRect} {k : (r.shape.Idx → Elt F .f32) → Cont F}
    (hk : Runs v s (k fun x => s.x5 (r.emb x))) : Runs v s (.op (.load v.arg5 r.toLoadRect hl) k) := by
  unfold Runs held at *
  iintro ⟨H2, H3, H4, H5, H6, HR⟩
  iapply (load_owns v.c v.arg5 r hl k fullShare s.x5) $$ H5
  iintro H5
  iapply hk
  iframe

theorem runs_load6 {s : Bufs F} {r : Rect S1120x8x128} {hl : v.arg6.view.LoadsAt r.toLoadRect} {k : (r.shape.Idx → Elt F .f32) → Cont F}
    (hk : Runs v s (k fun x => s.x6 (r.emb x))) : Runs v s (.op (.load v.arg6 r.toLoadRect hl) k) := by
  unfold Runs held at *
  iintro ⟨H2, H3, H4, H5, H6, HR⟩
  iapply (load_owns v.c v.arg6 r hl k fullShare s.x6) $$ H6
  iintro H6
  iapply hk
  iframe

theorem runs_store4 {s : Bufs F} {off size : Fin 4 → Nat} {inb : ∀ a, off a + size a ≤ S1x32x49x128.size a} {w : (Rect.unit (s := S1x32x49x128) off size inb).shape.Idx → Elt F .f32}
    {hx : (v.arg4.access (Rect.unit off size inb)).Stores Finset.univ} {hm} {k : PUnit → Cont F}
    (hk : Runs v { s with x4 := put (s := S1x32x49x128) off size w s.x4 } (k ⟨⟩)) : Runs v s (.op (.store v.arg4 (Rect.unit off size inb) w Finset.univ hx hm) k) := by
  unfold Runs held at *
  iintro ⟨H2, H3, H4, H5, H6, HR⟩
  iapply (store_owns v.c v.arg4 off size inb w hx hm k s.x4) $$ H4
  iintro H4
  iapply hk
  iframe

theorem runs_store5 {s : Bufs F} {off size : Fin 3 → Nat} {inb : ∀ a, off a + size a ≤ S256x64x128.size a} {w : (Rect.unit (s := S256x64x128) off size inb).shape.Idx → Elt F .f32}
    {hx : (v.arg5.access (Rect.unit off size inb)).Stores Finset.univ} {hm} {k : PUnit → Cont F}
    (hk : Runs v { s with x5 := put (s := S256x64x128) off size w s.x5 } (k ⟨⟩)) : Runs v s (.op (.store v.arg5 (Rect.unit off size inb) w Finset.univ hx hm) k) := by
  unfold Runs held at *
  iintro ⟨H2, H3, H4, H5, H6, HR⟩
  iapply (store_owns v.c v.arg5 off size inb w hx hm k s.x5) $$ H5
  iintro H5
  iapply hk
  iframe

theorem runs_store6 {s : Bufs F} {off size : Fin 3 → Nat} {inb : ∀ a, off a + size a ≤ S1120x8x128.size a} {w : (Rect.unit (s := S1120x8x128) off size inb).shape.Idx → Elt F .f32}
    {hx : (v.arg6.access (Rect.unit off size inb)).Stores Finset.univ} {hm} {k : PUnit → Cont F}
    (hk : Runs v { s with x6 := put (s := S1120x8x128) off size w s.x6 } (k ⟨⟩)) : Runs v s (.op (.store v.arg6 (Rect.unit off size inb) w Finset.univ hx hm) k) := by
  unfold Runs held at *
  iintro ⟨H2, H3, H4, H5, H6, HR⟩
  iapply (store_owns v.c v.arg6 off size inb w hx hm k s.x6) $$ H6
  iintro H6
  iapply hk
  iframe

end Cert.KernelIdeal.Body

end
-- ==== Proof.IdealRegion.lean ====
/- What one region of interest leaves: the program of `step`, run from any contents, writes the region's 49 rows of
   the output block as a function of the region's row of integers and of the tables, and changes no other row. -/
module

public import proofs.«01_k».proof.Proof.IdealRules

@[expose] public section

noncomputable section

namespace Cert.KernelIdeal.Body

open Idealize.ShloMosaic Idealize.ShloMosaic.TcCoe Idealize.SL.Sem
open Cert.KernelIdeal.Gen

variable {F : FTy → Type} [FloatOps F]

/-- A multi-index of three axes, by its coordinates. -/
abbrev ix3 {a b c : ℕ} (x : Fin a) (y : Fin b) (z : Fin c) : (⟨3, ![a, b, c]⟩ : Shape).Idx
  | ⟨0, _⟩ => x
  | ⟨1, _⟩ => y
  | ⟨2, _⟩ => z

/-- A multi-index of four axes, by its coordinates. -/
abbrev ix4 {a b c d : ℕ} (x : Fin a) (y : Fin b) (z : Fin c) (w : Fin d) : (⟨4, ![a, b, c, d]⟩ : Shape).Idx
  | ⟨0, _⟩ => x
  | ⟨1, _⟩ => y
  | ⟨2, _⟩ => z
  | ⟨3, _⟩ => w

/-- The number of the region of interest `u` of a grid point, in its batch. -/
def roi (i : grid0.Coords) (u : Fin 32) : Fin 128 := ⟨32 * (i 1).val + u.val, by have : (i 1).val < 4 := (i 1).isLt; omega⟩

/-- The row of 56 integers of a region of interest. -/
def row (T : S4x128x56.Idx → BitVec 32) (i : grid0.Coords) (u : Fin 32) (col : Fin 56) : BitVec 32 := T (ix3 (⟨(i 0).val, (i 0).isLt⟩ : Fin 4) (roi i u) col)

/-- What a column bin reads of the tables: table row `x`, forty image rows from `y`. -/
def tabRead (X : S256x64x128.Idx → Elt F .f32) (y x : BitVec 32) : Vec F S1x40x128 .f32 :=
  fun p => X (ix3 (Fin.ofNat 256 (x.toNat + (p 0).val)) (Fin.ofNat 64 (y.toNat + (p 1).val)) ⟨(p 2).val, (p 2).isLt⟩)

variable (M : Fin 56 → BitVec 32) (X : S256x64x128.Idx → Elt F .f32)

/-- What column bin `j` leaves in the scratch: five groups of eight rows. -/
def colV (j : Fin 7) : FVec F S5x8x128 .f32 :=
  colVal (tabRead X (M 0) (M ⟨1 + j.val, by omega⟩)) (tabRead X (M 0) (M ⟨8 + j.val, by omega⟩)) (M ⟨15 + j.val, by omega⟩)

/-- Group `g` of five groups of eight rows. -/
def grpRead (V : FVec F S5x8x128 .f32) (g : BitVec 32) : Vec F S1x8x128 .f32 :=
  fun p => V (ix3 (Fin.ofNat 5 (g.toNat + (p 0).val)) ⟨(p 1).val, (p 1).isLt⟩ ⟨(p 2).val, (p 2).isLt⟩)

/-- The value of bin `(r, j)`, lane by lane. -/
def rowV (r j : Fin 7) : FVec F S128 .f32 :=
  binVal (M ⟨22 + r.val, by omega⟩) (M ⟨29 + r.val, by omega⟩) (M ⟨36 + r.val, by omega⟩) (M ⟨43 + r.val, by omega⟩)
    (grpRead (colV M X j) (M ⟨22 + r.val, by omega⟩)) (grpRead (colV M X j) (M ⟨29 + r.val, by omega⟩))

/-- The seven bins of row bin `r`, as they are stored. -/
def outRow (r : Fin 7) : FVec F S1x1x7x128 .f32 :=
  outVal (rowV M X r 0) (rowV M X r 1) (rowV M X r 2) (rowV M X r 3) (rowV M X r 4) (rowV M X r 5) (rowV M X r 6)

/-- What the integers of a region must satisfy for its reads to lie inside the tables and the scratch. -/
structure Good (M : Fin 56 → BitVec 32) : Prop where
  dvd : 8 ∣ (M 0).toNat
  top : (M 0).toNat + 40 ≤ 64
  colA : ∀ j (h : j < 7), (M ⟨1 + j, by omega⟩).toNat < 256
  colB : ∀ j (h : j < 7), (M ⟨8 + j, by omega⟩).toNat < 256
  grpA : ∀ r (h : r < 7), (M ⟨22 + r, by omega⟩).toNat < 5
  grpB : ∀ r (h : r < 7), (M ⟨29 + r, by omega⟩).toNat < 5

theorem tabIn {y x : BitVec 32} (hy : y.toNat + 40 ≤ 64) (hx : x.toNat < 256) : TabIn y x := by
  intro a
  fin_cases a
  · show x.toNat + 1 ≤ 256; omega
  · show y.toNat + 40 ≤ 64; omega
  · show 0 + 128 ≤ 128; omega

theorem grpIn {g : BitVec 32} (hg : g.toNat < 5) {n : ℕ} (hn : n ≤ 1115) : ∀ a, (grpOff g (BitVec.ofNat 32 n)) a + S1x8x128.size a ≤ S1120x8x128.size a := by
  intro a
  fin_cases a
  · show (BitVec.ofNat 32 n + g).toNat + 1 ≤ 1120
    rw [BitVec.toNat_add, BitVec.toNat_ofNat]; omega
  · show 0 + 8 ≤ 8; omega
  · show 0 + 128 ≤ 128; omega

theorem grpA_of (u : Fin 32) {g : BitVec 32} (hg : g.toNat < 5) : GrpA u.val g := by
  have := u.isLt
  exact ⟨grpIn hg (by omega), fun r => grpIn hg (by have := r.isLt; omega)⟩

theorem grpB_of (u : Fin 32) {g : BitVec 32} (hg : g.toNat < 5) : GrpB u.val g := by
  intro r
  rw [grpBase_eq]
  have := u.isLt
  exact grpIn hg (by have := r.isLt; omega)

/-- A table read lies where `tabRead` says. -/
theorem tabRead_eq {y x : BitVec 32} (hy : y.toNat + 40 ≤ 64) (hx : x.toNat < 256) (h) :
    (fun p => X ((Rect.unit (s := S256x64x128) (tabOff y x) S1x40x128.size h).emb p)) = tabRead X y x := by
  funext p
  unfold tabRead
  congr 1
  funext a
  apply Fin.ext
  rw [Rect.emb_apply]
  have h0 : (p 0).val < 1 := (p 0).isLt
  have h1 : (p 1).val < 40 := (p 1).isLt
  fin_cases a
  · show x.toNat + 1 * (p 0).val = (x.toNat + (p 0).val) % 256; rw [Nat.mod_eq_of_lt (by omega)]; omega
  · show y.toNat + 1 * (p 1).val = (y.toNat + (p 1).val) % 64; rw [Nat.mod_eq_of_lt (by omega)]; omega
  · show 0 + 1 * (p 2).val = (p 2).val; omega

variable {v : Env F} {s : Bufs F} {i : grid0.Coords} {u : Fin 32}

/-- A read of the integer table. -/
theorem runs_metaLoad {col : ℕ} {hc : col < 56} {K : Elt F .i32 → Cont F} (hk : Runs v s (K (row s.x2 i u ⟨col, hc⟩))) : Runs v s (metaLoad v.arg2 i u col hc K) := by
  refine runs_load2 (r := Rect.unit (s := S4x128x56) (metaOff i u.val col) S1x1x1.size (metaOff_inb i u.isLt hc)) (k := fun f => K (f (Shape.Idx.first (numel1_S1x1x1.symm ▸ Nat.one_pos)))) ?_
  have e : (Rect.unit (s := S4x128x56) (metaOff i u.val col) S1x1x1.size (metaOff_inb i u.isLt hc)).emb (Shape.Idx.first (numel1_S1x1x1.symm ▸ Nat.one_pos))
      = ix3 (⟨(i 0).val, (i 0).isLt⟩ : Fin 4) (roi i u) ⟨col, hc⟩ := by
    funext a
    apply Fin.ext
    rw [Rect.emb_apply]
    have h1 : ∀ a : Fin 3, (Shape.Idx.first (s := S1x1x1) (numel1_S1x1x1.symm ▸ Nat.one_pos) a).val = 0 := fun a => by
      have := (Shape.Idx.first (s := S1x1x1) (numel1_S1x1x1.symm ▸ Nat.one_pos) a).isLt
      have h : S1x1x1.size a = 1 := by fin_cases a <;> rfl
      omega
    show metaOff i u.val col a + 1 * _ = _
    refine (congrArg (· + 1 * _) (congrFun (metaOff_eq i u.isLt col) a)).trans ?_
    have h2 := h1 a
    fin_cases a
    · show (i 0).val + 1 * _ = (i 0).val; rw [h2]; rfl
    · show 32 * (i 1).val + u.val + 1 * _ = 32 * (i 1).val + u.val; rw [h2]; rfl
    · show col + 1 * _ = col; rw [h2]; rfl
  show Runs v s (K (s.x2 _))
  rw [e]
  exact hk

/-- The column bins below `n` stand in the scratch. -/
def Holds (M : Fin 56 → BitVec 32) (X : S256x64x128.Idx → Elt F .f32) (u : Fin 32) (n : ℕ) (Y : S1120x8x128.Idx → Elt F .f32) : Prop :=
  ∀ (j : Fin 7) (_ : j.val < n) (p : S5x8x128.Idx) (y : S1120x8x128.Idx), (y 0).val = 35 * u.val + 5 * j.val + (p 0).val → (y 1).val = (p 1).val → (y 2).val = (p 2).val →
    Y y = colV M X j p

/-- One column bin stored over the earlier ones. -/
theorem Holds.put {M : Fin 56 → BitVec 32} {X : S256x64x128.Idx → Elt F .f32} {u : Fin 32} {Y : S1120x8x128.Idx → Elt F .f32} (j : Fin 7) (h : Holds M X u j.val Y) :
    Holds M X u (j.val + 1) (put (s := S1120x8x128) ![35 * u.val + 5 * j.val, 0, 0] S5x8x128.size (colV M X j) Y) := by
  intro j' hj' p y h0 h1 h2
  have hp : (p 0).val < 5 := (p 0).isLt
  by_cases e : j' = j
  · subst e
    refine put_of_mem (s := S1120x8x128) y p fun a => ?_
    fin_cases a
    · exact h0
    · show (y 1).val = 0 + (p 1).val; omega
    · show (y 2).val = 0 + (p 2).val; omega
  · have hlt : j'.val < j.val := by have : j'.val ≠ j.val := fun hh => e (Fin.ext hh); omega
    rw [put_of_not_mem (s := S1120x8x128) (0 : Fin 3) (.inl (by show (y 0).val < 35 * u.val + 5 * j.val; omega))]
    exact h j' hlt p y h0 h1 h2

/-- One column bin. -/
theorem runs_colBin (hG : Good (row s.x2 i u)) (j : Fin 7) (hs : Holds (row s.x2 i u) s.x5 u j.val s.x6) {K : Cont F}
    (hk : ∀ Y, Holds (row s.x2 i u) s.x5 u (j.val + 1) Y → Runs v { s with x6 := Y } K) :
    Runs v s (colBin v.arg2 v.arg5 v.arg6 i u (row s.x2 i u 0) j.val j.isLt K) := by
  refine runs_metaLoad ?_
  refine runs_assume (tabIn hG.top (hG.colA _ j.isLt)) ?_
  refine runs_load5 ?_
  rw [tabRead_eq s.x5 hG.top (hG.colA _ j.isLt)]
  refine runs_metaLoad ?_
  refine runs_assume (tabIn hG.top (hG.colB _ j.isLt)) ?_
  refine runs_load5 ?_
  rw [tabRead_eq s.x5 hG.top (hG.colB _ j.isLt)]
  refine runs_metaLoad ?_
  refine runs_load6 ?_
  refine runs_store6 ?_
  exact hk _ (hs.put j)

/-- The seven column bins. -/
theorem runs_colBins (hG : Good (row s.x2 i u)) {K : Cont F} (hk : ∀ Y, Holds (row s.x2 i u) s.x5 u 7 Y → Runs v { s with x6 := Y } K) :
    Runs v s (colBins v.arg2 v.arg5 v.arg6 i u K) := by
  refine runs_metaLoad ?_
  refine runs_assume hG.dvd ?_
  refine runs_colBin hG 0 (fun j hj => absurd hj (Nat.not_lt_zero _)) fun Y0 h0 => ?_
  refine runs_colBin (s := { s with x6 := Y0 }) hG 1 h0 fun Y1 h1 => ?_
  refine runs_colBin (s := { s with x6 := Y1 }) hG 2 h1 fun Y2 h2 => ?_
  refine runs_colBin (s := { s with x6 := Y2 }) hG 3 h2 fun Y3 h3 => ?_
  refine runs_colBin (s := { s with x6 := Y3 }) hG 4 h3 fun Y4 h4 => ?_
  refine runs_colBin (s := { s with x6 := Y4 }) hG 5 h4 fun Y5 h5 => ?_
  refine runs_colBin (s := { s with x6 := Y5 }) hG 6 h5 fun Y6 h6 => ?_
  exact hk Y6 h6

/-- A group read of the scratch. -/
theorem grpRead_eq {M : Fin 56 → BitVec 32} {X : S256x64x128.Idx → Elt F .f32} {Y : S1120x8x128.Idx → Elt F .f32} (h : Holds M X u 7 Y) (j : Fin 7) {g : BitVec 32} (hg : g.toNat < 5) (hi) :
    (fun p => Y ((Rect.unit (s := S1120x8x128) (grpOff g (BitVec.ofNat 32 (35 * u.val + 5 * j.val))) S1x8x128.size hi).emb p)) = grpRead (colV M X j) g := by
  funext p
  unfold grpRead
  have h0 : (p 0).val < 1 := (p 0).isLt
  have hu := u.isLt
  have hj := j.isLt
  refine h j hj _ _ ?_ ?_ ?_
  · show (BitVec.ofNat 32 (35 * u.val + 5 * j.val) + g).toNat + 1 * (p 0).val = 35 * u.val + 5 * j.val + (g.toNat + (p 0).val) % 5
    rw [BitVec.toNat_add, BitVec.toNat_ofNat]; omega
  · show 0 + 1 * (p 1).val = (p 1).val; omega
  · show 0 + 1 * (p 2).val = (p 2).val; omega

/-- One row bin. -/
theorem runs_rowBin (hG : Good (row s.x2 i u)) (hs : Holds (row s.x2 i u) s.x5 u 7 s.x6) (r : Fin 7) {K : FVec F S128 .f32 → FVec F S128 .f32 → FVec F S128 .f32 → FVec F S128 .f32 → FVec F S128 .f32 → FVec F S128 .f32 → FVec F S128 .f32 → Cont F}
    (hk : Runs v s (K (rowV (row s.x2 i u) s.x5 r 0) (rowV (row s.x2 i u) s.x5 r 1) (rowV (row s.x2 i u) s.x5 r 2) (rowV (row s.x2 i u) s.x5 r 3)
      (rowV (row s.x2 i u) s.x5 r 4) (rowV (row s.x2 i u) s.x5 r 5) (rowV (row s.x2 i u) s.x5 r 6))) :
    Runs v s (rowBin v.arg2 v.arg6 i u r.val r.isLt K) := by
  have load : ∀ (j : Fin 7) {ga gb : BitVec 32} (_ : ga.toNat < 5) (_ : gb.toNat < 5) {k : Vec F S1x8x128 .f32 → Vec F S1x8x128 .f32 → Cont F}
      (ha : ∀ a, (grpOff ga (BitVec.ofNat 32 (35 * u.val + 5 * j.val))) a + S1x8x128.size a ≤ S1120x8x128.size a)
      (hb : ∀ a, (grpOff gb (BitVec.ofNat 32 (35 * u.val + 5 * j.val))) a + S1x8x128.size a ≤ S1120x8x128.size a)
      (ha' : v.arg6.view.LoadsAt (Rect.unit (s := S1120x8x128) (grpOff ga (BitVec.ofNat 32 (35 * u.val + 5 * j.val))) S1x8x128.size ha).toLoadRect)
      (hb' : v.arg6.view.LoadsAt (Rect.unit (s := S1120x8x128) (grpOff gb (BitVec.ofNat 32 (35 * u.val + 5 * j.val))) S1x8x128.size hb).toLoadRect),
      Runs v s (k (grpRead (colV (row s.x2 i u) s.x5 j) ga) (grpRead (colV (row s.x2 i u) s.x5 j) gb)) →
      Runs v s (Prog.op (.load v.arg6 (Rect.unit (s := S1120x8x128) (grpOff ga (BitVec.ofNat 32 (35 * u.val + 5 * j.val))) S1x8x128.size ha).toLoadRect ha') fun x =>
        Prog.op (.load v.arg6 (Rect.unit (s := S1120x8x128) (grpOff gb (BitVec.ofNat 32 (35 * u.val + 5 * j.val))) S1x8x128.size hb).toLoadRect hb') fun y => k x y) := by
    intro j ga gb hga hgb k ha hb ha' hb' h
    refine runs_load6 ?_
    rw [grpRead_eq hs j hga]
    refine runs_load6 ?_
    rw [grpRead_eq hs j hgb]
    exact h
  refine runs_metaLoad ?_
  refine runs_assume (grpA_of u (hG.grpA _ r.isLt)) ?_
  refine runs_metaLoad ?_
  refine runs_assume (grpB_of u (hG.grpB _ r.isLt)) ?_
  refine runs_metaLoad ?_
  refine runs_metaLoad ?_
  refine load 0 (hG.grpA _ r.isLt) (hG.grpB _ r.isLt) _ _ _ _ ?_
  refine load 1 (hG.grpA _ r.isLt) (hG.grpB _ r.isLt) _ _ _ _ ?_
  refine load 2 (hG.grpA _ r.isLt) (hG.grpB _ r.isLt) _ _ _ _ ?_
  refine load 3 (hG.grpA _ r.isLt) (hG.grpB _ r.isLt) _ _ _ _ ?_
  refine load 4 (hG.grpA _ r.isLt) (hG.grpB _ r.isLt) _ _ _ _ ?_
  refine load 5 (hG.grpA _ r.isLt) (hG.grpB _ r.isLt) _ _ _ _ ?_
  refine load 6 (hG.grpA _ r.isLt) (hG.grpB _ r.isLt) _ _ _ _ ?_
  exact hk

/-- The output block `O'` is `O` with the row bins below `n` of region `u` stored. -/
structure Stored (M : Fin 56 → BitVec 32) (X : S256x64x128.Idx → Elt F .f32) (u : Fin 32) (O : S1x32x49x128.Idx → Elt F .f32) (n : ℕ) (O' : S1x32x49x128.Idx → Elt F .f32) : Prop where
  other : ∀ y, (y 1).val ≠ u.val → O' y = O y
  here : ∀ (r : Fin 7) (_ : r.val < n) (p : S1x1x7x128.Idx) (y : S1x32x49x128.Idx), (y 1).val = u.val → (y 2).val = 7 * r.val + (p 2).val → (y 3).val = (p 3).val → O' y = outRow M X r p

theorem Stored.put {M : Fin 56 → BitVec 32} {X : S256x64x128.Idx → Elt F .f32} {O O' : S1x32x49x128.Idx → Elt F .f32} (r : Fin 7) (h : Stored M X u O r.val O') :
    Stored M X u O (r.val + 1) (put (s := S1x32x49x128) ![0, u.val, 7 * r.val, 0] S1x1x7x128.size (outRow M X r) O') where
  other y hy := by
    rw [put_of_not_mem (s := S1x32x49x128) (1 : Fin 4) (show (y 1).val < u.val ∨ u.val + 1 ≤ (y 1).val by omega)]
    exact h.other y hy
  here r' hr' p y h1 h2 h3 := by
    have hp : (p 2).val < 7 := (p 2).isLt
    by_cases e : r' = r
    · subst e
      refine put_of_mem (s := S1x32x49x128) y p fun a => ?_
      have h0 : (y 0).val < 1 := (y 0).isLt
      have hp0 : (p 0).val < 1 := (p 0).isLt
      have hp1 : (p 1).val < 1 := (p 1).isLt
      fin_cases a
      · show (y 0).val = 0 + (p 0).val; omega
      · show (y 1).val = u.val + (p 1).val; omega
      · exact h2
      · show (y 3).val = 0 + (p 3).val; omega
    · have hlt : r'.val < r.val := by have : r'.val ≠ r.val := fun hh => e (Fin.ext hh); omega
      rw [put_of_not_mem (s := S1x32x49x128) (2 : Fin 4) (.inl (by show (y 2).val < 7 * r.val; omega))]
      exact h.here r' hlt p y h1 h2 h3

/-- One row bin's store. -/
theorem runs_outStore {M : Fin 56 → BitVec 32} {X : S256x64x128.Idx → Elt F .f32} {O : S1x32x49x128.Idx → Elt F .f32} (r : Fin 7) (hs : Stored M X u O r.val s.x4) {K : Cont F}
    (hk : ∀ O', Stored M X u O (r.val + 1) O' → Runs v { s with x4 := O' } K) : Runs v s (outStore v.arg4 u r.val r.isLt (outRow M X r) K) := by
  refine runs_load4 ?_
  refine runs_store4 ?_
  exact hk _ (hs.put r)

/-- One region of interest: its rows of the output block are stored, the scratch is left at something. -/
theorem runs_step (hG : Good (row s.x2 i u)) {K : Cont F}
    (hk : ∀ O' Y, Stored (row s.x2 i u) s.x5 u s.x4 7 O' → Runs v { s with x4 := O', x6 := Y } K) : Runs v s (step v.arg2 v.arg4 v.arg5 v.arg6 i u K) := by
  unfold step
  refine runs_colBins hG fun Y hY => ?_
  refine runs_rowBin (s := { s with x6 := Y }) hG hY 0 ?_
  refine runs_rowBin (s := { s with x6 := Y }) hG hY 1 ?_
  refine runs_rowBin (s := { s with x6 := Y }) hG hY 2 ?_
  refine runs_rowBin (s := { s with x6 := Y }) hG hY 3 ?_
  refine runs_rowBin (s := { s with x6 := Y }) hG hY 4 ?_
  refine runs_rowBin (s := { s with x6 := Y }) hG hY 5 ?_
  refine runs_rowBin (s := { s with x6 := Y }) hG hY 6 ?_
  refine runs_outStore (s := { s with x6 := Y }) (O := s.x4) 0 ⟨fun _ _ => rfl, fun r hr => absurd hr (Nat.not_lt_zero _)⟩ fun O1 h1 => ?_
  refine runs_outStore (s := { s with x6 := Y, x4 := O1 }) 1 h1 fun O2 h2 => ?_
  refine runs_outStore (s := { s with x6 := Y, x4 := O2 }) 2 h2 fun O3 h3 => ?_
  refine runs_outStore (s := { s with x6 := Y, x4 := O3 }) 3 h3 fun O4 h4 => ?_
  refine runs_outStore (s := { s with x6 := Y, x4 := O4 }) 4 h4 fun O5 h5 => ?_
  refine runs_outStore (s := { s with x6 := Y, x4 := O5 }) 5 h5 fun O6 h6 => ?_
  refine runs_outStore (s := { s with x6 := Y, x4 := O6 }) 6 h6 fun O7 h7 => ?_
  exact hk O7 Y h7

end Cert.KernelIdeal.Body

end
-- ==== Proof.IdealTables.lean ====
/- The tables of window maxima: what they hold, and that the body's stores leave exactly that. -/
module

public import proofs.«01_k».proof.Proof.IdealRegion
public import Idealize.ShloMosaic.Lib.Pipeline.Value

@[expose] public section

noncomputable section

namespace Cert.KernelIdeal.Body

open Idealize.ShloMosaic Idealize.ShloMosaic.TcCoe Idealize.SL.Sem
open Cert.KernelIdeal.Gen

variable {F : FTy → Type} [FloatOps F]

/-- The maximum over a window of `2 ^ n` columns of the image from column `w`, at one row and lane; a window that would
    leave the image is cut short. -/
def lvl (A : S1x64x64x128.Idx → Elt F .f32) : ℕ → ℕ → Fin 64 → Fin 128 → Elt F .f32
  | 0, w, h, c => A (ix4 0 (Fin.ofNat 64 w) h c)
  | n + 1, w, h, c => if w + 2 ^ n < 64 then FloatOps.maximumf (F := F) (φ := .f32) (lvl A n w h c) (lvl A n (w + 2 ^ n) h c) else lvl A n w h c

/-- The four tables, one after another. -/
def ptab (A : S1x64x64x128.Idx → Elt F .f32) : S256x64x128.Idx → Elt F .f32 :=
  fun y => lvl A ((y 0).val / 64) ((y 0).val % 64) ⟨(y 1).val, (y 1).isLt⟩ ⟨(y 2).val, (y 2).isLt⟩

/-- The rows below `n` of the tables stand. -/
def Tab (A : S1x64x64x128.Idx → Elt F .f32) (n : ℕ) (X : S256x64x128.Idx → Elt F .f32) : Prop := ∀ y : S256x64x128.Idx, (y 0).val < n → X y = ptab A y

variable {A : S1x64x64x128.Idx → Elt F .f32} {X : S256x64x128.Idx → Elt F .f32}

/-- Reading rows that stand. -/
theorem Tab.read {m : ℕ} (h : Tab A m X) {n k : ℕ} (hk : n + k ≤ m) {inb : ∀ a, (![n, 0, 0] : Fin 3 → ℕ) a + (![k, 64, 128] : Fin 3 → ℕ) a ≤ S256x64x128.size a} (p : (⟨3, ![k, 64, 128]⟩ : Shape).Idx) :
    X ((Rect.unit (s := S256x64x128) ![n, 0, 0] ![k, 64, 128] inb).emb p) = lvl A ((n + (p 0).val) / 64) ((n + (p 0).val) % 64) ⟨(p 1).val, (p 1).isLt⟩ ⟨(p 2).val, (p 2).isLt⟩ := by
  have hp : (p 0).val < k := (p 0).isLt
  have e0 : (((Rect.unit (s := S256x64x128) ![n, 0, 0] ![k, 64, 128] inb).emb p) 0).val = n + (p 0).val := by
    show n + 1 * (p 0).val = _; omega
  rw [h _ (by rw [e0]; omega)]
  unfold ptab
  rw [e0]
  congr 1
  · apply Fin.ext; show 0 + 1 * (p 1).val = (p 1).val; omega
  · apply Fin.ext; show 0 + 1 * (p 2).val = (p 2).val; omega

/-- Storing the next rows. -/
theorem Tab.put {n k : ℕ} (h : Tab A n X) {w : (⟨3, ![k, 64, 128]⟩ : Shape).Idx → Elt F .f32}
    (hw : ∀ p : (⟨3, ![k, 64, 128]⟩ : Shape).Idx, w p = lvl A ((n + (p 0).val) / 64) ((n + (p 0).val) % 64) ⟨(p 1).val, (p 1).isLt⟩ ⟨(p 2).val, (p 2).isLt⟩) :
    Tab A (n + k) (put (s := S256x64x128) ![n, 0, 0] ![k, 64, 128] w X) := by
  intro y hy
  by_cases hn : (y 0).val < n
  · rw [put_of_not_mem (s := S256x64x128) (0 : Fin 3) (.inl hn)]
    exact h y hn
  · have hsub : (y 0).val - n < k := by omega
    refine (put_of_mem (s := S256x64x128) (size := ![k, 64, 128]) y (ix3 (⟨(y 0).val - n, hsub⟩ : Fin k) (⟨(y 1).val, (y 1).isLt⟩ : Fin 64) (⟨(y 2).val, (y 2).isLt⟩ : Fin 128)) fun a => ?_).trans ?_
    · fin_cases a
      · show (y 0).val = n + ((y 0).val - n); omega
      · show (y 1).val = 0 + (y 1).val; omega
      · show (y 2).val = 0 + (y 2).val; omega
    · rw [hw]
      unfold ptab
      have e : n + ((y 0).val - n) = (y 0).val := by omega
      show lvl A ((n + ((y 0).val - n)) / 64) ((n + ((y 0).val - n)) % 64) _ _ = _
      rw [e]; rfl

/-- A window of the image's columns, with the leading axis of extent one dropped. -/
theorem cols_read {n k : ℕ} (hn : n + k ≤ 64) {inb : ∀ a, (![0, n, 0, 0] : Fin 4 → ℕ) a + (![1, k, 64, 128] : Fin 4 → ℕ) a ≤ S1x64x64x128.size a}
    {hc : (⟨4, ![1, k, 64, 128]⟩ : Shape).ShapeCasts ⟨3, ![k, 64, 128]⟩} (p : (⟨3, ![k, 64, 128]⟩ : Shape).Idx) :
    shapeCast ⟨3, ![k, 64, 128]⟩ (fun q : (⟨4, ![1, k, 64, 128]⟩ : Shape).Idx => A ((Rect.unit (s := S1x64x64x128) ![0, n, 0, 0] ![1, k, 64, 128] inb).emb q)) hc p
      = lvl A 0 (n + (p 0).val) ⟨(p 1).val, (p 1).isLt⟩ ⟨(p 2).val, (p 2).isLt⟩ := by
  have hp : (p 0).val < k := (p 0).isLt
  refine (shapeCast_dropUnit_apply ![k, 64, 128] _ hc p).trans ?_
  unfold lvl
  show A _ = A _
  congr 1
  funext a
  apply Fin.ext
  rw [Rect.emb_apply]
  fin_cases a
  · rfl
  · show n + 1 * (p 0).val = (n + (p 0).val) % 64; rw [Nat.mod_eq_of_lt (by omega)]; omega
  · show 0 + 1 * (p 1).val = (p 1).val; omega
  · show 0 + 1 * (p 2).val = (p 2).val; omega

theorem lvl_max {n w : ℕ} {h : Fin 64} {c : Fin 128} (hw : w + 2 ^ n < 64) : lvl A (n + 1) w h c = FloatOps.maximumf (F := F) (φ := .f32) (lvl A n w h c) (lvl A n (w + 2 ^ n) h c) := by
  rw [lvl, if_pos hw]

theorem lvl_cut {n w : ℕ} {h : Fin 64} {c : Fin 128} (hw : ¬ w + 2 ^ n < 64) : lvl A (n + 1) w h c = lvl A n w h c := by
  rw [lvl, if_neg hw]

/-- The same entry, its level and column written in two ways. -/
theorem lvl_congr {n n' w w' : ℕ} (hn : n = n') (hw : w = w') (h : Fin 64) (c : Fin 128) : lvl A n w h c = lvl A n' w' h c := by rw [hn, hw]

variable {v : Env F} {s : Bufs F}

/-- A store of the next rows of the tables. -/
theorem runs_rows (n k : ℕ) {A : S1x64x64x128.Idx → Elt F .f32} (ht : Tab A n s.x5) {inb : ∀ a, (![n, 0, 0] : Fin 3 → ℕ) a + (![k, 64, 128] : Fin 3 → ℕ) a ≤ S256x64x128.size a}
    {w : (⟨3, ![k, 64, 128]⟩ : Shape).Idx → Elt F .f32} {hx hm} {K : PUnit → Cont F}
    (hw : ∀ p : (⟨3, ![k, 64, 128]⟩ : Shape).Idx, w p = lvl A ((n + (p 0).val) / 64) ((n + (p 0).val) % 64) ⟨(p 1).val, (p 1).isLt⟩ ⟨(p 2).val, (p 2).isLt⟩)
    (hk : ∀ X, Tab A (n + k) X → Runs v { s with x5 := X } (K ⟨⟩)) :
    Runs v s (Prog.op (.store v.arg5 (Rect.unit (s := S256x64x128) ![n, 0, 0] ![k, 64, 128] inb) w Finset.univ hx hm) K) :=
  runs_store5 (hk _ (ht.put hw))

/-- The tables are built from the image. -/
theorem runs_tables {K : Cont F} (hk : Runs v { s with x5 := ptab s.x3 } K) : Runs v s (tables v.arg3 v.arg5 K) := by
  unfold tables
  refine runs_load3 ?_
  refine runs_load5 ?_
  refine runs_rows 0 64 (A := s.x3) (fun y hy => absurd hy (Nat.not_lt_zero _)) (fun p => ?_) fun X1 t1 => ?_
  · have hp : (p 0).val < 64 := (p 0).isLt
    refine (congrFun (shapeCast_self _ _) p).trans ?_
    exact (cols_read (n := 0) (k := 64) (by omega) p).trans (lvl_congr (by omega) (by omega) _ _)
  refine runs_load3 ?_
  refine runs_load3 ?_
  refine runs_load5 ?_
  refine runs_rows (s := { s with x5 := X1 }) 64 63 t1 (fun p => ?_) fun X2 t2 => ?_
  · have hp : (p 0).val < 63 := (p 0).isLt
    refine (congrFun (shapeCast_self _ _) p).trans ?_
    refine (congrArg₂ (FloatOps.maximumf (F := F) (φ := .f32)) (cols_read (n := 0) (k := 63) (by omega) p) (cols_read (n := 1) (k := 63) (by omega) p)).trans ?_
    refine Eq.trans ?_ ((lvl_congr (n := (64 + (p 0).val) / 64) (n' := 0 + 1) (w' := (p 0).val) (by omega) (by omega) _ _).trans (lvl_max (by omega))).symm
    exact congrArg₂ _ (lvl_congr rfl (by omega) _ _) (lvl_congr rfl (by omega) _ _)
  refine runs_load3 ?_
  refine runs_load5 ?_
  refine runs_rows (s := { s with x5 := X2 }) 127 1 t2 (fun p => ?_) fun X3 t3 => ?_
  · have hp : (p 0).val < 1 := (p 0).isLt
    refine (congrArg (fun q => s.x3 ((Rect.unit (s := S1x64x64x128) ![0, 63, 0, 0] S1x1x64x128.size inb_S1x64x64x128_S1x1x64x128_0_63_0_0).emb q)) (Shape.reshapeEquiv_reshapeEquiv _ _ p)).trans ?_
    refine (cols_read (n := 63) (k := 1) (hc := shapeCasts_S64x128_S1x64x128.trans shapeCasts_S1x1x64x128_S64x128) (by omega) p).trans ?_
    refine Eq.trans ?_ ((lvl_congr (n := (127 + (p 0).val) / 64) (n' := 0 + 1) (w' := 63) (by omega) (by omega) _ _).trans (lvl_cut (by omega))).symm
    exact lvl_congr rfl (by omega) _ _
  refine runs_load5 ?_
  refine runs_load5 ?_
  refine runs_load5 ?_
  refine runs_rows (s := { s with x5 := X3 }) 128 62 t3 (fun p => ?_) fun X4 t4 => ?_
  · have hp : (p 0).val < 62 := (p 0).isLt
    refine (congrFun (shapeCast_self _ _) p).trans ?_
    refine (congrArg₂ (FloatOps.maximumf (F := F) (φ := .f32)) (t3.read (n := 64) (k := 62) (by omega) p) (t3.read (n := 66) (k := 62) (by omega) p)).trans ?_
    refine Eq.trans ?_ ((lvl_congr (n := (128 + (p 0).val) / 64) (n' := 1 + 1) (w' := (p 0).val) (by omega) (by omega) _ _).trans (lvl_max (by omega))).symm
    exact congrArg₂ _ (lvl_congr (by omega) (by omega) _ _) (lvl_congr (by omega) (by omega) _ _)
  refine runs_load5 ?_
  refine runs_load5 ?_
  refine runs_rows (s := { s with x5 := X4 }) 190 2 t4 (fun p => ?_) fun X5 t5 => ?_
  · have hp : (p 0).val < 2 := (p 0).isLt
    refine (congrFun (shapeCast_self _ _) p).trans ?_
    refine (t4.read (n := 126) (k := 2) (by omega) p).trans ?_
    refine Eq.trans ?_ ((lvl_congr (n := (190 + (p 0).val) / 64) (n' := 1 + 1) (w' := 62 + (p 0).val) (by omega) (by omega) _ _).trans (lvl_cut (by omega))).symm
    exact lvl_congr (by omega) (by omega) _ _
  refine runs_load5 ?_
  refine runs_load5 ?_
  refine runs_load5 ?_
  refine runs_rows (s := { s with x5 := X5 }) 192 60 t5 (fun p => ?_) fun X6 t6 => ?_
  · have hp : (p 0).val < 60 := (p 0).isLt
    refine (congrFun (shapeCast_self _ _) p).trans ?_
    refine (congrArg₂ (FloatOps.maximumf (F := F) (φ := .f32)) (t5.read (n := 128) (k := 60) (by omega) p) (t5.read (n := 132) (k := 60) (by omega) p)).trans ?_
    refine Eq.trans ?_ ((lvl_congr (n := (192 + (p 0).val) / 64) (n' := 2 + 1) (w' := (p 0).val) (by omega) (by omega) _ _).trans (lvl_max (by omega))).symm
    exact congrArg₂ _ (lvl_congr (by omega) (by omega) _ _) (lvl_congr (by omega) (by omega) _ _)
  refine runs_load5 ?_
  refine runs_load5 ?_
  refine runs_rows (s := { s with x5 := X6 }) 252 4 t6 (fun p => ?_) fun X7 t7 => ?_
  · have hp : (p 0).val < 4 := (p 0).isLt
    refine (congrFun (shapeCast_self _ _) p).trans ?_
    refine (t6.read (n := 188) (k := 4) (by omega) p).trans ?_
    refine Eq.trans ?_ ((lvl_congr (n := (252 + (p 0).val) / 64) (n' := 2 + 1) (w' := 60 + (p 0).val) (by omega) (by omega) _ _).trans (lvl_cut (by omega))).symm
    exact lvl_congr (by omega) (by omega) _ _
  have e : X7 = ptab s.x3 := funext fun y => t7 y (by have : (y 0).val < 256 := (y 0).isLt; omega)
  rw [e] at *
  exact hk

end Cert.KernelIdeal.Body

end
-- ==== Proof.IdealBody.lean ====
/- The whole body at one grid point: from the integer table and the image's block it leaves the output block as a
   function of the two, and the tables of window maxima of the block. -/
module

public import proofs.«01_k».proof.Proof.IdealLayout
public import proofs.«01_k».proof.Proof.IdealTables

@[expose] public section

noncomputable section

namespace Cert.KernelIdeal.Body

open Idealize.ShloMosaic Idealize.ShloMosaic.TcCoe Idealize.SL.Sem
open Idealize.SL.BI.BIBase
open Cert.KernelIdeal.Gen

variable {F : FTy → Type} [FloatOps F]

/-- The output block of a grid point: row `49 u + 7 r + j` holds bin `(r, j)` of its region `u`. -/
def blockOut (T : S4x128x56.Idx → BitVec 32) (X : S256x64x128.Idx → Elt F .f32) (i : grid0.Coords) : S1x32x49x128.Idx → Elt F .f32 :=
  fun y => outRow (row T i ⟨(y 1).val, (y 1).isLt⟩) X ⟨(y 2).val / 7, by have : (y 2).val < 49 := (y 2).isLt; omega⟩
    (ix4 (0 : Fin 1) (0 : Fin 1) (⟨(y 2).val % 7, Nat.mod_lt _ (by omega)⟩ : Fin 7) (⟨(y 3).val, (y 3).isLt⟩ : Fin 128))

variable {v : Env F} {i : grid0.Coords}

/-- The regions before the `n`-th. -/
theorem runs_stepsTo {K : Cont F} : ∀ (n : ℕ) (hn : n ≤ 32) (s : Bufs F), (∀ u, Good (row s.x2 i u)) →
    (∀ O' Y, (∀ y : S1x32x49x128.Idx, n ≤ (y 1).val → O' y = s.x4 y) → (∀ y : S1x32x49x128.Idx, (y 1).val < n → O' y = blockOut s.x2 s.x5 i y) → Runs v { s with x4 := O', x6 := Y } K) →
    Runs v s (stepsTo i v.arg2 v.arg4 v.arg5 v.arg6 n hn K)
  | 0, _, s, _, hk => hk s.x4 s.x6 (fun _ _ => rfl) (fun y hy => absurd hy (Nat.not_lt_zero _))
  | n + 1, hn, s, hG, hk => by
    refine runs_stepsTo n (Nat.le_of_succ_le hn) s hG fun O Y h0 h1 => ?_
    refine runs_step (s := { s with x4 := O, x6 := Y }) (hG _) fun O' Y' hS => ?_
    refine hk O' Y' (fun y hy => ?_) fun y hy => ?_
    · rw [hS.other y (by show (y 1).val ≠ n; omega)]
      exact h0 y (by omega)
    · by_cases e : (y 1).val = n
      · have h2 : (y 2).val < 49 := (y 2).isLt
        have hu : (⟨n, hn⟩ : Fin 32) = ⟨(y 1).val, (y 1).isLt⟩ := Fin.ext e.symm
        have := hS.here ⟨(y 2).val / 7, by omega⟩ (by show (y 2).val / 7 < 7; omega)
          (ix4 (0 : Fin 1) (0 : Fin 1) (⟨(y 2).val % 7, Nat.mod_lt _ (by omega)⟩ : Fin 7) (⟨(y 3).val, (y 3).isLt⟩ : Fin 128)) y e
          (by show (y 2).val = 7 * ((y 2).val / 7) + (y 2).val % 7; omega) rfl
        rw [this, hu]
        rfl
      · rw [hS.other y e]
        exact h1 y (by omega)

/-- The body at a grid point, the tables being built there or standing from before. -/
theorem runs_body {s : Bufs F} (h2 : v.arg2.IsWhole) (h3 : v.arg3.IsWhole) (h4 : v.arg4.IsWhole) (h5 : v.arg5.IsWhole) (h6 : v.arg6.IsWhole)
    (hG : ∀ u, Good (row s.x2 i u)) (hX : ¬ First i → s.x5 = ptab s.x3)
    (hk : ∀ Y, held v { s with x4 := blockOut s.x2 (ptab s.x3) i, x5 := ptab s.x3, x6 := Y } ⊢ v.Q ⟨⟩) :
    Runs v s (cc0_roi_maxpool i v.arg2 h2 v.arg3 h3 v.arg4 h4 v.arg5 h5 v.arg6 h6) := by
  have main : Runs v { s with x5 := ptab s.x3 } (stepsTo i v.arg2 v.arg4 v.arg5 v.arg6 32 (Nat.le_refl 32) (.ret ⟨⟩)) := by
    refine runs_stepsTo 32 (Nat.le_refl 32) { s with x5 := ptab s.x3 } hG fun O' Y _ h1 => ?_
    have e : O' = blockOut s.x2 (ptab s.x3) i := funext fun y => h1 y (y 1).isLt
    subst e
    exact runs_ret (hk Y)
  by_cases h : First i
  · rw [body_first i v.arg2 h2 v.arg3 h3 v.arg4 h4 v.arg5 h5 v.arg6 h6 h]
    exact runs_tables main
  · rw [body_later i v.arg2 h2 v.arg3 h3 v.arg4 h4 v.arg5 h5 v.arg6 h6 h]
    have := hX h
    obtain ⟨x2, x3, x4, x5, x6⟩ := s
    dsimp only at this
    subst this
    exact main

end Cert.KernelIdeal.Body

end
-- ==== Proof.IdealLaunched.lean ====
/- The launch: every weakly fair execution ends, the kernel's output array holding its blocks, provided that the
   prefetched table's integers stay inside the tables they index. -/
module

public import proofs.«01_k».proof.Proof.IdealEnter
public import proofs.«01_k».proof.Proof.IdealBody
public import Idealize.ShloMosaic.Lib.Pipeline.ValueKit

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The blocks -/

/-- Image `b` of the features, as a block of one image. -/
def img (A : S4x64x64x128.Idx → Elt F .f32) (b : Fin 4) : S1x64x64x128.Idx → Elt F .f32 := fun p =>
  A (ix4 b (⟨(p 1).val, (p 1).isLt⟩ : Fin 64) (⟨(p 2).val, (p 2).isLt⟩ : Fin 64) (⟨(p 3).val, (p 3).isLt⟩ : Fin 128))

theorem coords_zero (t : Fin grid0.N) : (grid0.coords t 0).val = t.val / 4 := by
  have ht : t.val < 16 := Nat.lt_of_lt_of_eq t.isLt N_0
  have : (grid0.coords t 0).val = t.val / 4 % 4 := Pipeline.Grid.coords_val t 0 (by decide) rfl
  omega

theorem coords_one (t : Fin grid0.N) : (grid0.coords t 1).val = t.val % 4 := by
  have : (grid0.coords t 1).val = t.val / 1 % 4 := Pipeline.Grid.coords_val t 1 (by decide) rfl
  omega

/-- The tables are built at the points that are multiples of four. -/
theorem first_iff (t : Fin grid0.N) : First (grid0.coords t) ↔ t.val % 4 = 0 := by
  have e1 := coords_one t
  have ht : t.val % 4 < 4 := Nat.mod_lt _ (by omega)
  simp only [First, e1]
  word_cmp

/-- The image of a grid point. -/
def imgOf (t : Fin (cfgM m).N) : Fin 4 := ⟨t.val / 4, by have : t.val < 16 := Nat.lt_of_lt_of_eq t.isLt N_0; omega⟩

/-- Window `w`'s block at point `t`, off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The first window's block is an image. -/
theorem iblk_zero (c : Dev nD) (t : Fin (cfgM m).N) : (iblk m c 0 t : S1x64x64x128.Idx → Elt F .f32) = img (V m c main_v0) (imgOf m t) := by
  refine funext fun (p : S1x64x64x128.Idx) => ?_
  show V m c main_v0 ((((cfgM m).win 0).blk t).view.emb p) = _
  unfold img
  congr 1
  funext a
  apply Fin.ext
  refine (Pipeline.Window.rect_emb_val ((cfgM m).win 0) t p a).trans ?_
  have h0 : (p 0).val < 1 := (p 0).isLt
  fin_cases a
  · show (BitVec.ofNat 32 (grid0.coords t 0).val).toNat * 1 + (p 0).val = t.val / 4
    have h := coords_zero t
    have ht : t.val < 16 := Nat.lt_of_lt_of_eq t.isLt N_0
    rw [BitVec.toNat_ofNat]
    omega
  · show 0 * 64 + (p 1).val = (p 1).val; omega
  · show 0 * 64 + (p 2).val = (p 2).val; omega
  · show 0 * 128 + (p 3).val = (p 3).val; omega

/-- The prefetched table, as integers. -/
abbrev tab : S4x128x56.Idx → BitVec 32 := tbl m 0

/-- What the kernel's output block of point `t` holds. -/
def oblk (c : Dev nD) (t : Fin (cfgM m).N) : S1x32x49x128.Idx → Elt F .f32 :=
  blockOut (tab m) (ptab (img (V m c main_v0) (imgOf m t))) (grid0.coords t)

/-! ## What the body finds and leaves -/

theorem PhiA_eq (c : Dev nD) : (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]

theorem PhiT_eq (c : Dev nD) : (Pipeline.ΦT pre0 (tbl m) c : sProp 𝕄) = owns (c : Thread nD τ) (Memref.whole main_v135) fullShare.right (tab m) := by
  unfold Pipeline.ΦT Pipeline.prefHeld
  rw [show (Finset.univ : Finset (Fin 1)) = {(0 : Fin 1)} from by decide, bigSep_singleton, owns_whole]
  rfl

/-- Between the points: before the first everything at some contents, later the tables of the image just visited. -/
def PhiS (c : Dev nD) : (n : ℕ) → n ≤ (cfgM m).N → sProp 𝕄
  | 0, _ => iprop(Pipeline.ΦA spec0 c ∗ Pipeline.ΦT pre0 (tbl m) c)
  | n + 1, hn => iprop(iprop(iprop(owns (c : Thread nD τ) (Memref.whole cc0_scratch0) fullShare (ptab (img (V m c main_v0) (imgOf m ⟨n, hn⟩)))
      ∗ (∃ d, owns (c : Thread nD τ) (Memref.whole cc0_scratch1) fullShare d)) ∗ (∃ r, prngReg c r)) ∗ Pipeline.ΦT pre0 (tbl m) c)

/-- The proof data of the pipeline. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => oblk m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]

theorem after_zero (c : Dev nD) (t : Fin (cfgM m).N) : (dats m 0 c).after 0 t = iblk m c 0 t := by dsimp only [dats]; rfl

theorem after_one (c : Dev nD) (t : Fin (cfgM m).N) : (dats m 0 c).after 1 t = oblk m c t := by dsimp only [dats]; rfl

theorem before_zero (c : Dev nD) (t : Fin (cfgM m).N) (d) : (dats m 0 c).before 0 t d = iblk m c 0 t :=
  ((dats m 0 c).before_in_eq_fetched 0 rfl (fun _ => rfl) (fun _ _ _ => rfl) (fun t => by rw [after_zero]; unfold Dat.blockOf iblk; rw [A_eq]; try rfl) t d).trans
    (by unfold Dat.fetched Dat.blockOf iblk; rw [A_eq]; try rfl)

/-- Between two points the two scratches stand at some contents, the first, at a point where it is not built, at the
    tables of that point's image. -/
theorem PhiS_castSucc (c : Dev nD) (t : Fin (cfgM m).N) : (dats m 0 c).Φ t.castSucc
    ⊢ iprop(∃ x5 x6, ⌜¬ First (grid0.coords t) → x5 = ptab (img (V m c main_v0) (imgOf m t))⌝ ∗ owns (c : Thread nD τ) (Memref.whole cc0_scratch0) fullShare x5
      ∗ owns (c : Thread nD τ) (Memref.whole cc0_scratch1) fullShare x6 ∗ (∃ r, prngReg c r) ∗ owns (c : Thread nD τ) (Memref.whole main_v135) fullShare.right (tab m)) := by
  rw [show (dats m 0 c).Φ t.castSucc = PhiS m c t.val (Nat.le_of_lt t.isLt) from by dsimp only [dats]; exact Pipeline.Dat.Φ_castSucc (PhiS m c) t]
  obtain ⟨n, hn⟩ := t
  cases n with
  | zero =>
    unfold PhiS
    rw [PhiA_eq, PhiT_eq]
    iintro ⟨⟨⟨⟨%x5, H5⟩, ⟨%x6, H6⟩⟩, Hg⟩, HT⟩
    iexists x5
    iexists x6
    isplitr
    · ipureintro
      intro h
      exact absurd ((first_iff ⟨0, hn⟩).mpr rfl) h
    isplitl [H5]; · iexact H5
    isplitl [H6]; · iexact H6
    isplitl [Hg]; · iexact Hg
    iexact HT
  | succ n =>
    unfold PhiS
    rw [PhiT_eq]
    iintro ⟨⟨⟨H5, ⟨%x6, H6⟩⟩, Hg⟩, HT⟩
    iexists _
    iexists x6
    isplitr
    swap
    · isplitl [H5]; · iexact H5
      isplitl [H6]; · iexact H6
      isplitl [Hg]; · iexact Hg
      iexact HT
    · ipureintro
      intro h
      have h' : ¬ (n + 1) % 4 = 0 := fun e => h ((first_iff ⟨n + 1, hn⟩).mpr e)
      have e : imgOf m ⟨n, Nat.lt_of_succ_lt hn⟩ = imgOf m ⟨n + 1, hn⟩ := Fin.ext (by show n / 4 = (n + 1) / 4; omega)
      rw [e]

/-- What the body is called with at a point, -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d))
    ∗ (∃ d, owns (c : Thread nD τ) (spec0_1.stage ((cfgM m).slots t 1)) fullShare ((dats m 0 c).before 1 t d)))

/-- and what it returns. -/
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t)
    ∗ owns (c : Thread nD τ) (spec0_1.stage ((cfgM m).slots t 1)) fullShare ((dats m 0 c).after 1 t))

/-- The body as the pipeline calls it at a point. -/
abbrev bodyAt (t : Fin (cfgM m).N) : Prog (TpuEff nD τ sig (Elt F) Λ₀ .tc) PUnit :=
  cc0_roi_maxpool (grid0.coords t) (Memref.whole main_v135) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole cc0_scratch0) (Memref.isWhole_whole _) (Memref.whole cc0_scratch1) (Memref.isWhole_whole _)

/-- Every region's row of integers stays inside what it indexes. -/
def AllGood : Prop := ∀ (i : grid0.Coords) (u : Fin 32), Good (row (tab m) i u)

variable {m}

/-- The memrefs of a point, and what its body is to return. -/
abbrev envAt (m : (ℓ : Loc nD τ sig) → Buf (Elt F) ℓ) (c : Dev nD) (t : Fin (cfgM m).N) : Env F :=
  ⟨c, Memref.whole main_v135, spec0_0.stage ((cfgM m).slots t 0), spec0_1.stage ((cfgM m).slots t 1), Memref.whole cc0_scratch0, Memref.whole cc0_scratch1,
    fullShare.right, Set.univ, iprop((dats m 0 c).owesAt () t.castSucc ∗ (∃ r, prngReg c r)), fun _ => bodyPost m c t⟩

/-- The buffers as the body leaves them are what it is to return. -/
theorem post_of (c : Dev nD) (t : Fin (cfgM m).N) (Y : S1120x8x128.Idx → Elt F .f32) :
    held (envAt m c t) ⟨tab m, img (V m c main_v0) (imgOf m t), oblk m c t, ptab (img (V m c main_v0) (imgOf m t)), Y⟩ ⊢ bodyPost m c t := by
  unfold bodyPost held
  rw [after_zero, after_one, iblk_zero, show (dats m 0 c).owesAt () t.succ = (dats m 0 c).owesAt () t.castSucc from rfl,
    show (dats m 0 c).Φ t.succ = PhiS m c (t.val + 1) t.isLt from rfl]
  unfold PhiS
  rw [PhiT_eq]
  iintro ⟨HT, H0, H1, H5, H6, Ho, Hg⟩
  isplitl [HT H5 H6 Hg]
  · isplitl [H5 H6 Hg]
    · isplitl [H5 H6]
      · isplitl [H5]
        · iexact H5
        iexists Y
        iexact H6
      iexact Hg
    iexact HT
  isplitl [Ho]; · iexact Ho
  isplitl [H0]; · iexact H0
  iexact H1

/-- From the point's buffers the body runs to what it is to return. -/
theorem runs_at (hG : AllGood m) (c : Dev nD) (t : Fin (cfgM m).N) (x4 : S1x32x49x128.Idx → Elt F .f32) (x5 : S256x64x128.Idx → Elt F .f32) (x6 : S1120x8x128.Idx → Elt F .f32)
    (hx : ¬ First (grid0.coords t) → x5 = ptab (img (V m c main_v0) (imgOf m t))) :
    Runs (envAt m c t) ⟨tab m, img (V m c main_v0) (imgOf m t), x4, x5, x6⟩ (bodyAt m t) := by
  refine runs_body (v := envAt m c t) (s := ⟨tab m, img (V m c main_v0) (imgOf m t), x4, x5, x6⟩) (Memref.isWhole_whole _)
    (hstage0_0 (((cfgM m).slots t 0).cast nbuf0_0)) (hstage0_1 (((cfgM m).slots t 1).cast nbuf0_1)) (Memref.isWhole_whole _) (Memref.isWhole_whole _) ?_ ?_ ?_
  · exact hG (grid0.coords t)
  · exact hx
  · intro Y
    have := post_of c t Y
    unfold oblk at this
    dsimp only
    generalize bodyPost m c t = P at this ⊢
    generalize hB : blockOut (tab m) (ptab (img (V m c main_v0) (imgOf m t))) (grid0.coords t) = B at this ⊢
    exact this

/-- The body at any point. -/
theorem sound_body (hG : AllGood m) (c : Dev nD) (t : Fin (cfgM m).N) :
    bodyPre m c t ⊢ wp frame (wpE (defs₀ (F := F)) Variants.none c none) Set.univ (bodyAt m t) (fun _ => bodyPost m c t) := by
  unfold bodyPre
  simp only [before_zero]
  rw [iblk_zero]
  iintro ⟨HP, Ho, ⟨%d0, H0⟩, ⟨%d1, H1⟩⟩
  ihave HP := (PhiS_castSucc m c t) $$ HP
  icases HP with ⟨%x5, %x6, %hx, H5, H6, Hg, HT⟩
  have hrun := runs_at hG c t ((dats m 0 c).before 1 t d1) x5 x6 hx
  unfold Runs at hrun
  iapply hrun
  unfold held
  isplitl [HT]; · iexact HT
  isplitl [H0]; · iexact H0
  isplitl [H1]; · iexact H1
  isplitl [H5]; · iexact H5
  isplitl [H6]; · iexact H6
  isplitl [Ho]; · iexact Ho
  iexact Hg

/-- The body table's row at point `t`'s slots is the body. -/
theorem defs₀_row (t : Fin (cfgM m).N) :
    defs₀ (F := F) .tc (cfgM m).body ((cfgM m).bodyArgs t ((cfgM m).slots t)) = bodyAt m t := by
  unfold defs₀; rw [Defs.onTc_tc]

theorem body_obligation (hG : AllGood m) (c : Dev nD) : BodyObligation (dats (F := F) m 0 c) (defs₀ (F := F)) Variants.none () Set.univ := fun t => by
  rw [bigSep_W0, bigSep_W0, defs₀_row]
  exact triple_restated (sound_body hG c t) rfl .rfl fun _ => .rfl

variable (m)

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl]
  unfold PhiS
  exact Idealize.SL.BI.Entails.refl _

theorem hout (c : Dev nD) : (dats m 0 c).Φ (Fin.last (cfgM m).N) ⊢ Pipeline.ΦA spec0 c := by
  rw [show (dats m 0 c).Φ (Fin.last (cfgM m).N) = PhiS m c (15 + 1) (by show 15 < grid0.N; rw [N_0]; omega) from rfl]
  unfold PhiS
  rw [PhiA_eq]
  iintro ⟨⟨⟨H5, H6⟩, Hg⟩, -⟩
  isplitl [H5 H6]
  · isplitl [H5]
    · iexists _; iexact H5
    iexact H6
  iexact Hg

/-! ## The arrays at the end -/

/-- What the kernel's output array ends holding. -/
def outArr (c : Dev nD) : S4x128x49x128.Idx → Elt F .f32 := fun y =>
  outRow (fun col => tab m (ix3 (⟨(y 0).val, (y 0).isLt⟩ : Fin 4) (⟨(y 1).val, (y 1).isLt⟩ : Fin 128) col)) (ptab (img (V m c main_v0) ⟨(y 0).val, (y 0).isLt⟩))
    ⟨(y 2).val / 7, by have : (y 2).val < 49 := (y 2).isLt; omega⟩
    (ix4 (0 : Fin 1) (0 : Fin 1) (⟨(y 2).val % 7, Nat.mod_lt _ (by omega)⟩ : Fin 7) (⟨(y 3).val, (y 3).isLt⟩ : Fin 128))

/-- A block of it. -/
theorem oblk_eq (c : Dev nD) (t : Fin (cfgM m).N) (p : S1x32x49x128.Idx) (y : S4x128x49x128.Idx) (h0 : (y 0).val = t.val / 4)
    (h1 : (y 1).val = t.val % 4 * 32 + (p 1).val) (h2 : (y 2).val = (p 2).val) (h3 : (y 3).val = (p 3).val) : oblk m c t p = outArr m c y := by
  have e0 := coords_zero t
  have e1 := coords_one t
  unfold oblk blockOut outArr
  have a0 : imgOf m t = ⟨(y 0).val, (y 0).isLt⟩ := Fin.ext (by show t.val / 4 = (y 0).val; omega)
  have a1 : row (tab m) (grid0.coords t) ⟨(p 1).val, (p 1).isLt⟩ = fun col => tab m (ix3 (⟨(y 0).val, (y 0).isLt⟩ : Fin 4) (⟨(y 1).val, (y 1).isLt⟩ : Fin 128) col) := by
    funext col
    unfold row roi
    have b0 : (⟨(grid0.coords t 0).val, (grid0.coords t 0).isLt⟩ : Fin 4) = ⟨(y 0).val, (y 0).isLt⟩ := Fin.ext (by show (grid0.coords t 0).val = (y 0).val; omega)
    have b1 : (⟨32 * (grid0.coords t 1).val + (p 1).val, by have : (grid0.coords t 1).val < 4 := (grid0.coords t 1).isLt; have : (p 1).val < 32 := (p 1).isLt; omega⟩ : Fin 128) = ⟨(y 1).val, (y 1).isLt⟩ :=
      Fin.ext (by show 32 * (grid0.coords t 1).val + (p 1).val = (y 1).val; omega)
    exact congrArg (tab m) (congrArg₂ (fun (x : Fin 4) (z : Fin 128) => ix3 x z col) b0 b1)
  rw [a0, a1]
  have a2 : (⟨(p 2).val / 7, by have : (p 2).val < 49 := (p 2).isLt; omega⟩ : Fin 7) = ⟨(y 2).val / 7, by have : (y 2).val < 49 := (y 2).isLt; omega⟩ := Fin.ext (by show (p 2).val / 7 = (y 2).val / 7; rw [h2])
  have a3 : (⟨(p 2).val % 7, Nat.mod_lt _ (by omega)⟩ : Fin 7) = ⟨(y 2).val % 7, Nat.mod_lt _ (by omega)⟩ := Fin.ext (by show (p 2).val % 7 = (y 2).val % 7; rw [h2])
  have a4 : (⟨(p 3).val, (p 3).isLt⟩ : Fin 128) = ⟨(y 3).val, (y 3).isLt⟩ := Fin.ext h3.symm
  rw [a2, a3, a4]

/-- Where an element of the output window's block sits in the array. -/
theorem blk_one (t : Fin (cfgM m).N) (p : S1x32x49x128.Idx) : ∃ y : S4x128x49x128.Idx, ((((cfgM m).win 1).blk t).view.emb p : S4x128x49x128.Idx) = y ∧ (y 0).val = t.val / 4
    ∧ (y 1).val = t.val % 4 * 32 + (p 1).val ∧ (y 2).val = (p 2).val ∧ (y 3).val = (p 3).val := by
  refine ⟨_, rfl, ?_, ?_, ?_, ?_⟩
  · refine (Pipeline.Window.rect_emb_val ((cfgM m).win 1) t p (0 : Fin 4)).trans ?_
    show (BitVec.ofNat 32 (grid0.coords t 0).val).toNat * 1 + (p 0).val = t.val / 4
    have h0 : (p 0).val < 1 := (p 0).isLt
    have h := coords_zero t
    have ht : t.val < 16 := Nat.lt_of_lt_of_eq t.isLt N_0
    rw [BitVec.toNat_ofNat]
    omega
  · refine (Pipeline.Window.rect_emb_val ((cfgM m).win 1) t p (1 : Fin 4)).trans ?_
    show (BitVec.ofNat 32 (grid0.coords t 1).val).toNat * 32 + (p 1).val = t.val % 4 * 32 + (p 1).val
    have h := coords_one t
    rw [BitVec.toNat_ofNat]
    omega
  · refine (Pipeline.Window.rect_emb_val ((cfgM m).win 1) t p (2 : Fin 4)).trans ?_
    show 0 * 49 + (p 2).val = (p 2).val
    omega
  · refine (Pipeline.Window.rect_emb_val ((cfgM m).win 1) t p (3 : Fin 4)).trans ?_
    show 0 * 128 + (p 3).val = (p 3).val
    omega

theorem flush_one (t : Fin (cfgM m).N) : ((cfgM m).win 1).flush t = true :=
  (fun t => (Pipeline.Window.flushOf_reads cc0_transform_1 reads0_1 hreads0_1 1 (by decide) (by decide) (Pipeline.Window.sep_of_coord cc0_transform_1 1 1 (fun _ => rfl) (by decide)) (P := 1) (m := 0) (by decide) rfl t).mpr (Nat.mod_one _)
    : ∀ t : Fin grid0.N, Pipeline.Window.flushOf grid0 true cc0_transform_1 t = true) t

theorem arr_one (c : Dev nD) : (dats m 0 c).arrAt 1 (cfgM m).N = outArr m c := by
  refine (dats m 0 c).arrAt_eq_of_emb 1 (outArr m c) (fun t _ p => ?_) fun (i : S4x128x49x128.Idx) => ?_
  · obtain ⟨y, hy, h0, h1, h2, h3⟩ := blk_one m t p
    show (dats m 0 c).after 1 t p = outArr m c (((cfgM m).win 1).blk t |>.view.emb p)
    rw [after_one]
    exact (oblk_eq m c t p y h0 h1 h2 h3).trans (congrArg (outArr m c) hy.symm)
  · have i0 : (i 0).val < 4 := (i 0).isLt
    have i1 : (i 1).val < 128 := (i 1).isLt
    have hN : 4 * (i 0).val + (i 1).val / 32 < (cfgM m).N := by show _ < grid0.N; rw [N_0]; omega
    let t : Fin (cfgM m).N := ⟨4 * (i 0).val + (i 1).val / 32, hN⟩
    refine ⟨t, flush_one m t, ?_⟩
    obtain ⟨y, hy, h0, h1, h2, h3⟩ := blk_one m t (ix4 (0 : Fin 1) (⟨(i 1).val % 32, Nat.mod_lt _ (by omega)⟩ : Fin 32) (⟨(i 2).val, (i 2).isLt⟩ : Fin 49) (⟨(i 3).val, (i 3).isLt⟩ : Fin 128))
    have e : i = y := by
      funext a
      apply Fin.ext
      fin_cases a
      · show (i 0).val = (y 0).val; rw [h0]; show _ = (4 * (i 0).val + (i 1).val / 32) / 4; omega
      · show (i 1).val = (y 1).val; rw [h1]; show _ = (4 * (i 0).val + (i 1).val / 32) % 4 * 32 + (i 1).val % 32; omega
      · exact h2.symm
      · exact h3.symm
    rw [e, ← hy]
    exact View.emb_mem_set _ _

end Cert.KernelIdeal.Body

end
-- ==== Proof.IdealMeta.lean ====
/- The region table as the launch finds it, entry by entry. -/
module

public import proofs.«01_k».proof.Proof.Words
public import proofs.«01_k».proof.Proof.IdealLaunched

@[expose] public section

noncomputable section

namespace Cert.KernelIdeal.Body

open Idealize.ShloMosaic Idealize.ShloMosaic.TcCoe Cert.KernelIdeal Cert.KernelIdeal.Gen Cert.Roi

variable {F : FTy → Type} [FloatOps F]

variable (m : (ℓ : Loc nD τ sig) → Buf (Elt F) ℓ)

/-- Word `q` of roi `(b, k)`. -/
abbrev roiW (b : Fin 4) (k : Fin 128) (q : Fin 5) : BitVec 32 :=
  m ((0 : Dev nD), Proc.devRef .tc main_arg1) (Idealize.ShloMosaic.ix3 b k q)
/-- First row, row behind the last, number of rows of roi `(b, k)`; the same of its columns. -/
abbrev rowFst (b : Fin 4) (k : Fin 128) : BitVec 32 := first F (roiW m b k 2) (roiW m b k 4)
abbrev rowLst (b : Fin 4) (k : Fin 128) : BitVec 32 := last F (roiW m b k 2) (roiW m b k 4)
abbrev rowCnt (b : Fin 4) (k : Fin 128) : BitVec 32 := count (rowFst m b k) (rowLst m b k)
abbrev clFst (b : Fin 4) (k : Fin 128) : BitVec 32 := first F (roiW m b k 1) (roiW m b k 3)
abbrev clLst (b : Fin 4) (k : Fin 128) : BitVec 32 := last F (roiW m b k 1) (roiW m b k 3)
abbrev clCnt (b : Fin 4) (k : Fin 128) : BitVec 32 := count (clFst m b k) (clLst m b k)

theorem V_v33 (b : Fin 4) (k : Fin 128) :
    (V m 0 main_v33 : IVec S4x128 32) (Idealize.ShloMosaic.ix2 b k) = rowFst m b k := by
  unfold V V0 prefixOps
  after_reads_at

theorem V_v43 (b : Fin 4) (k : Fin 128) :
    (V m 0 main_v43 : IVec S4x128 32) (Idealize.ShloMosaic.ix2 b k) = rowCnt m b k := by
  unfold V V0 prefixOps
  after_reads_at

theorem V_v55 (b : Fin 4) (k : Fin 128) :
    (V m 0 main_v55 : IVec S4x128 32) (Idealize.ShloMosaic.ix2 b k) = aligned (rowFst m b k) := by
  unfold V V0 prefixOps
  after_reads_at
  rfl
theorem V_v94 (b : Fin 4) (k : Fin 128) (j : Fin 7) :
    (V m 0 main_v94 : IVec S4x128x7 32) (Idealize.ShloMosaic.ix3 b k j) = colFst (clFst m b k) (clCnt m b k) (BitVec.ofNat 32 j) := by
  unfold V V0 prefixOps
  after_reads_at
  rfl
theorem V_v102 (b : Fin 4) (k : Fin 128) (j : Fin 7) :
    (V m 0 main_v102 : IVec S4x128x7 32) (Idealize.ShloMosaic.ix3 b k j) = colSnd (clFst m b k) (clCnt m b k) (BitVec.ofNat 32 j) := by
  unfold V V0 prefixOps
  after_reads_at
  rfl
theorem V_v104 (b : Fin 4) (k : Fin 128) (j : Fin 7) :
    (V m 0 main_v104 : IVec S4x128x7 32) (Idealize.ShloMosaic.ix3 b k j) = colAny (clCnt m b k) (BitVec.ofNat 32 j) := by
  unfold V V0 prefixOps
  after_reads_at
  rfl
theorem V_v128 (b : Fin 4) (k : Fin 128) (j : Fin 7) :
    (V m 0 main_v128 : IVec S4x128x7 32) (Idealize.ShloMosaic.ix3 b k j) = grpFst (rowFst m b k) (rowCnt m b k) (BitVec.ofNat 32 j) := by
  unfold V V0 prefixOps
  after_reads_at
  rfl
theorem V_v132 (b : Fin 4) (k : Fin 128) (j : Fin 7) :
    (V m 0 main_v132 : IVec S4x128x7 32) (Idealize.ShloMosaic.ix3 b k j) = grpSnd (rowFst m b k) (rowCnt m b k) (BitVec.ofNat 32 j) := by
  unfold V V0 prefixOps
  after_reads_at
  rfl
theorem V_v124 (b : Fin 4) (k : Fin 128) (j : Fin 7) :
    (V m 0 main_v124 : IVec S4x128x7 32) (Idealize.ShloMosaic.ix3 b k j) = rowLo (rowFst m b k) (rowCnt m b k) (BitVec.ofNat 32 j) := by
  unfold V V0 prefixOps
  after_reads_at
  rfl
theorem V_v127 (b : Fin 4) (k : Fin 128) (j : Fin 7) :
    (V m 0 main_v127 : IVec S4x128x7 32) (Idealize.ShloMosaic.ix3 b k j) = rowHi (rowFst m b k) (rowCnt m b k) (BitVec.ofNat 32 j) := by
  unfold V V0 prefixOps
  after_reads_at
  rfl
theorem V_v134 (b : Fin 4) (k : Fin 128) :
    (V m 0 main_v134 : IVec S4x128x1 32) (Idealize.ShloMosaic.ix3 b k 0) = aligned (rowFst m b k) := by
  unfold V V0 prefixOps
  after_reads_at
  rfl

end Cert.KernelIdeal.Body
-- ==== Proof.IdealColumns.lean ====
/- The columns of the region table: nine arrays side by side, read entry by entry. -/
module

public import proofs.«01_k».proof.Proof.IdealMeta

@[expose] public section

noncomputable section

namespace Cert.KernelIdeal.Body

open Idealize.ShloMosaic Idealize.ShloMosaic.TcCoe Cert.KernelIdeal Cert.KernelIdeal.Gen Cert.Roi

variable {F : FTy → Type} [FloatOps F]

variable (m : (ℓ : Loc nD τ sig) → Buf (Elt F) ℓ)

/-- The table is nine arrays side by side. -/
theorem V_v135 (c : Dev nD) : V m c main_v135 = concatenate S4x128x56 2 [⟨S4x128x1, V m c main_v134⟩, ⟨S4x128x7, V m c main_v94⟩, ⟨S4x128x7, V m c main_v102⟩, ⟨S4x128x7, V m c main_v104⟩, ⟨S4x128x7, V m c main_v128⟩, ⟨S4x128x7, V m c main_v132⟩, ⟨S4x128x7, V m c main_v124⟩, ⟨S4x128x7, V m c main_v127⟩, ⟨S4x128x6, V m c main_v133⟩] concatenates_S4x128x1_S4x128x7_S4x128x7_S4x128x7_S4x128x7_S4x128x7_S4x128x7_S4x128x7_S4x128x6_S4x128x56_d2 := by
  unfold V V0
  rw [show (List.flatten prefixOps : List (HloOp τ sig (Elt F))) = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23] ++ hostOps0_24 from rfl, StableHlo.after_append]
  generalize StableHlo.after (List.flatten _) _ = U
  after_reads_simp
  rfl

theorem tab_eq (b : Fin 4) (k : Fin 128) (q : Fin 56) : tab m (ix3 b k q) = (V m 0 main_v135 : IVec S4x128x56 32) (Idealize.ShloMosaic.ix3 b k q) := by
  show (V m 0 main_v135 : IVec S4x128x56 32) _ = _
  congr 1

theorem tab_0 (b : Fin 4) (k : Fin 128) : tab m (ix3 b k 0) = aligned (rowFst m b k) := by
  rw [tab_eq, V_v135]
  pointwise
  exact V_v134 m b k

theorem tab_colFst (b : Fin 4) (k : Fin 128) (j : Fin 7) :
    tab m (ix3 b k ⟨1 + j.val, by omega⟩) = colFst (clFst m b k) (clCnt m b k) (BitVec.ofNat 32 j) := by
  rw [tab_eq, V_v135, ← V_v94]
  pointwise

theorem tab_colSnd (b : Fin 4) (k : Fin 128) (j : Fin 7) :
    tab m (ix3 b k ⟨8 + j.val, by omega⟩) = colSnd (clFst m b k) (clCnt m b k) (BitVec.ofNat 32 j) := by
  rw [tab_eq, V_v135, ← V_v102]
  pointwise
  repeat rw [dif_neg (by omega)]
  rw [dif_pos (by omega)]
  exact congrArg (fun q => (V m 0 main_v102 : IVec S4x128x7 32) (Idealize.ShloMosaic.ix3 b k q)) (Fin.ext (by show 8 + j.val -1 -7 = j.val; omega))

theorem tab_colAny (b : Fin 4) (k : Fin 128) (j : Fin 7) :
    tab m (ix3 b k ⟨15 + j.val, by omega⟩) = colAny (clCnt m b k) (BitVec.ofNat 32 j) := by
  rw [tab_eq, V_v135, ← V_v104]
  pointwise
  repeat rw [dif_neg (by omega)]
  rw [dif_pos (by omega)]
  exact congrArg (fun q => (V m 0 main_v104 : IVec S4x128x7 32) (Idealize.ShloMosaic.ix3 b k q)) (Fin.ext (by show 15 + j.val -1 -7 -7 = j.val; omega))

theorem tab_grpFst (b : Fin 4) (k : Fin 128) (j : Fin 7) :
    tab m (ix3 b k ⟨22 + j.val, by omega⟩) = grpFst (rowFst m b k) (rowCnt m b k) (BitVec.ofNat 32 j) := by
  rw [tab_eq, V_v135, ← V_v128]
  pointwise
  repeat rw [dif_neg (by omega)]
  rw [dif_pos (by omega)]
  exact congrArg (fun q => (V m 0 main_v128 : IVec S4x128x7 32) (Idealize.ShloMosaic.ix3 b k q)) (Fin.ext (by show 22 + j.val -1 -7 -7 -7 = j.val; omega))

theorem tab_grpSnd (b : Fin 4) (k : Fin 128) (j : Fin 7) :
    tab m (ix3 b k ⟨29 + j.val, by omega⟩) = grpSnd (rowFst m b k) (rowCnt m b k) (BitVec.ofNat 32 j) := by
  rw [tab_eq, V_v135, ← V_v132]
  pointwise
  repeat rw [dif_neg (by omega)]
  rw [dif_pos (by omega)]
  exact congrArg (fun q => (V m 0 main_v132 : IVec S4x128x7 32) (Idealize.ShloMosaic.ix3 b k q)) (Fin.ext (by show 29 + j.val -1 -7 -7 -7 -7 = j.val; omega))

theorem tab_rowLo (b : Fin 4) (k : Fin 128) (j : Fin 7) :
    tab m (ix3 b k ⟨36 + j.val, by omega⟩) = rowLo (rowFst m b k) (rowCnt m b k) (BitVec.ofNat 32 j) := by
  rw [tab_eq, V_v135, ← V_v124]
  pointwise
  repeat rw [dif_neg (by omega)]
  rw [dif_pos (by omega)]
  exact congrArg (fun q => (V m 0 main_v124 : IVec S4x128x7 32) (Idealize.ShloMosaic.ix3 b k q)) (Fin.ext (by show 36 + j.val -1 -7 -7 -7 -7 -7 = j.val; omega))

theorem tab_rowHi (b : Fin 4) (k : Fin 128) (j : Fin 7) :
    tab m (ix3 b k ⟨43 + j.val, by omega⟩) = rowHi (rowFst m b k) (rowCnt m b k) (BitVec.ofNat 32 j) := by
  rw [tab_eq, V_v135, ← V_v127]
  pointwise
  repeat rw [dif_neg (by omega)]
  rw [dif_pos (by omega)]
  exact congrArg (fun q => (V m 0 main_v127 : IVec S4x128x7 32) (Idealize.ShloMosaic.ix3 b k q)) (Fin.ext (by show 43 + j.val -1 -7 -7 -7 -7 -7 -7 = j.val; omega))

end Cert.KernelIdeal.Body
-- ==== Proof.IdealSafe.lean ====
/- Where every region's rows lie inside the map, the kernel's reads stay inside its tables. -/
module

public import proofs.«01_k».proof.Proof.Bounds
public import proofs.«01_k».proof.Proof.IdealColumns

@[expose] public section

noncomputable section

namespace Cert.KernelIdeal.Body

open Idealize.ShloMosaic Idealize.ShloMosaic.TcCoe Cert.KernelIdeal Cert.KernelIdeal.Gen Cert.Roi

variable {F : FTy → Type} [FloatOps F]

variable (m : (ℓ : Loc nD τ sig) → Buf (Elt F) ℓ)

theorem allGood (h : ∀ b k, Fits (rowFst m b k) (rowLst m b k)) : AllGood m := by
  intro i u
  unfold row
  generalize (⟨(i 0).val, (i 0).isLt⟩ : Fin 4) = b
  generalize roi i u = k
  obtain ⟨x, n, hn, hx, hc⟩ := (h b k).count
  have e0 : (tab m (ix3 b k 0)).toNat = x.val / 8 * 8 := by
    rw [tab_0, hx, aligned_eq, BitVec.toNat_ofNat]; omega
  have hx' := x.isLt
  refine ⟨?_, ?_, fun j hj => ?_, fun j hj => ?_, fun j hj => ?_, fun j hj => ?_⟩
  · rw [e0]; exact ⟨_, Nat.mul_comm _ _⟩
  · rw [e0]; omega
  · rw [tab_colFst m b k ⟨j, hj⟩]; exact colFst_lt _ _ _
  · rw [tab_colSnd m b k ⟨j, hj⟩]; exact colSnd_lt _ _ _
  · rw [tab_grpFst m b k ⟨j, hj⟩]
    show (grpFst (rowFst m b k) (count (rowFst m b k) (rowLst m b k)) _).toNat < 5
    rw [hc, hx]; exact (grp_lt x n ⟨j, hj⟩).1
  · rw [tab_grpSnd m b k ⟨j, hj⟩]
    show (grpSnd (rowFst m b k) (count (rowFst m b k) (rowLst m b k)) _).toNat < 5
    rw [hc, hx]; exact (grp_lt x n ⟨j, hj⟩).2

end Cert.KernelIdeal.Body
-- ==== Proof.IdealRan.lean ====
/- The run of the whole program: every weakly fair execution ends with the arguments unchanged, the counters at zero
   and the result array at a function of the prefetched integers and of the features. -/
module

public import proofs.«01_k».proof.Proof.IdealLaunched
public import Idealize.ShloMosaic.Lib.Claim

@[expose] public section

noncomputable section

namespace Cert.KernelIdeal.Body

open Idealize.ShloMosaic Idealize.ShloMosaic.TcCoe Idealize.ShloMosaic.Tactic
open Idealize.SL Idealize.SL.RA Idealize.SL.BI Idealize.SL.Sem
open Idealize.ShloMosaic.Rounds
open Cert.KernelIdeal.Gen

variable {F : FTy → Type} [FloatOps F]
variable (m : (ℓ : Loc nD τ sig) → Buf (Elt F) ℓ)

/-- A multi-index of five axes, by its coordinates. -/
abbrev ix5 {a b c d e : ℕ} (x : Fin a) (y : Fin b) (z : Fin c) (w : Fin d) (t : Fin e) : (⟨5, ![a, b, c, d, e]⟩ : Shape).Idx
  | ⟨0, _⟩ => x
  | ⟨1, _⟩ => y
  | ⟨2, _⟩ => z
  | ⟨3, _⟩ => w
  | ⟨4, _⟩ => t

/-- The result: bin `(r, j)` of a region, lane by lane. -/
def result (c : Dev nD) : S4x128x128x7x7.Idx → Elt F .f32 := fun y =>
  outRow (fun col => tab m (ix3 (⟨(y 0).val, (y 0).isLt⟩ : Fin 4) (⟨(y 1).val, (y 1).isLt⟩ : Fin 128) col)) (ptab (img (V m c main_v0) ⟨(y 0).val, (y 0).isLt⟩))
    ⟨(y 3).val, (y 3).isLt⟩ (ix4 (0 : Fin 1) (0 : Fin 1) (⟨(y 4).val, (y 4).isLt⟩ : Fin 7) (⟨(y 2).val, (y 2).isLt⟩ : Fin 128))

/-- What the lines after the region leave of the arguments. -/
theorem tail_arg0 (c : Dev nD) : Pipeline.afterTail pcfgs (fun _ => adm m) (dats m) 0 (V0 m) [hostOps1] c main_arg0 = m ((c : Thread nD τ).loc main_arg0) := by
  unfold Pipeline.afterTail
  rw [StableHlo.after_unwritten [main_v137, main_v138] rfl (by decide),
    Pipeline.withArrays_of_ne _ c (V0 m c) _ main_arg0 (by exact (by decide : ∀ w, Pipeline.arrRef spec0 w ≠ main_arg0))]
  exact V_main_arg0 m c

theorem tail_arg1 (c : Dev nD) : Pipeline.afterTail pcfgs (fun _ => adm m) (dats m) 0 (V0 m) [hostOps1] c main_arg1 = m ((c : Thread nD τ).loc main_arg1) := by
  unfold Pipeline.afterTail
  rw [StableHlo.after_unwritten [main_v137, main_v138] rfl (by decide),
    Pipeline.withArrays_of_ne _ c (V0 m c) _ main_arg1 (by exact (by decide : ∀ w, Pipeline.arrRef spec0 w ≠ main_arg1))]
  exact V_main_arg1 m c

/-- The later lines carry the output array to the result: the lanes before the bins, the bins in rows of seven. -/
theorem tail_result (c : Dev nD) : Pipeline.afterTail pcfgs (fun _ => adm m) (dats m) 0 (V0 m) [hostOps1] c main_v138 = result m c := by
  unfold Pipeline.afterTail
  after_reads_simp
  have e := (Pipeline.withArrays_arr spec0 (launch0 (F := F)).win.arr_inj c (V0 m c) (fun w => (dats m 0 c).arrAt w (cfgM m).N) 1).trans (arr_one m c)
  have h3 : ∀ y : S4x128x128x7x7.Idx, (y 3).val < 7 := fun y => (y 3).isLt
  have h4 : ∀ y : S4x128x128x7x7.Idx, (y 4).val < 7 := fun y => (y 4).isLt
  refine funext fun (y : S4x128x128x7x7.Idx) => ?_
  let z : S4x128x128x49.Idx := ix4 (⟨(y 0).val, (y 0).isLt⟩ : Fin 4) (⟨(y 1).val, (y 1).isLt⟩ : Fin 128) (⟨(y 2).val, (y 2).isLt⟩ : Fin 128) (⟨7 * (y 3).val + (y 4).val, by have := h3 y; have := h4 y; omega⟩ : Fin 49)
  let x : S4x128x49x128.Idx := ix4 (⟨(y 0).val, (y 0).isLt⟩ : Fin 4) (⟨(y 1).val, (y 1).isLt⟩ : Fin 128) (⟨7 * (y 3).val + (y 4).val, by have := h3 y; have := h4 y; omega⟩ : Fin 49) (⟨(y 2).val, (y 2).isLt⟩ : Fin 128)
  refine (shapeCast_apply (s := S4x128x128x49) (t := S4x128x128x7x7) _ _ y z ?_).trans ?_
  · rw [Shape.rowMajor_val_four, Shape.rowMajor_val_five]
    show (((y 0).val * 128 + (y 1).val) * 128 + (y 2).val) * 49 + (7 * (y 3).val + (y 4).val) = ((((y 0).val * 128 + (y 1).val) * 128 + (y 2).val) * 7 + (y 3).val) * 7 + (y 4).val
    omega
  refine (transpose_apply (s := S4x128x49x128) (t := S4x128x128x49) _ _ _ z x fun b => ?_).trans ?_
  · fin_cases b <;> rfl
  refine (congrFun e x).trans ?_
  unfold outArr result
  have a1 : (⟨(x 2).val / 7, by have : (x 2).val < 49 := (x 2).isLt; omega⟩ : Fin 7) = ⟨(y 3).val, h3 y⟩ :=
    Fin.ext (by show (7 * (y 3).val + (y 4).val) / 7 = (y 3).val; have := h4 y; omega)
  have a2 : (⟨(x 2).val % 7, Nat.mod_lt _ (by omega)⟩ : Fin 7) = ⟨(y 4).val, h4 y⟩ :=
    Fin.ext (by show (7 * (y 3).val + (y 4).val) % 7 = (y 4).val; have := h4 y; omega)
  rw [a1, a2]

variable {m}

-- the launch theorem's implicit arguments are found by unifying its conclusion with this one, which takes unfolding
-- plain definitions in a metavariable's type
set_option backward.isDefEq.respectTransparency.types false in
set_option maxHeartbeats 800000 in
theorem run_main (ρ : Dev nD → PrngReg) (hG : AllGood m) : θ_run defs (onTc (τ := τ) (main (F := F))) (s₀ m ρ) (fun r => (Pipeline.FramePost (Pipeline.pin pcfgs fun _ => adm m) (dats m) 0
    (Pipeline.afterTail pcfgs (fun _ => adm m) (dats m) 0 (V0 m) [hostOps1])) r ∧ r.2.sem = fun _ => 0) :=
  Pipeline.θ_run_frameP_around_track (Q' := _) pcfgs (fun _ => adm m) (dats m) (0 : Fin 1) launch0 defs₀ Variants.none m ρ main
    (hbody := fun c => (body_obligation hG c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- Every weakly fair execution of the program ends with the arguments as launched, the result array at `result`, and
    every counter at zero. -/
theorem run (ρ : Dev nD → PrngReg) (hG : AllGood m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v138) = result m c)
      ∧ r.2.sem = fun _ => 0) :=
  (θ_run defs _ _).mono (fun _ h => ⟨fun c => ⟨((h.1 c).2 main_arg0 (by decide : main_arg0 ∈ Pipeline.restRefs sig spec0)).trans (tail_arg0 m c),
    ((h.1 c).2 main_arg1 (by decide : main_arg1 ∈ Pipeline.restRefs sig spec0)).trans (tail_arg1 m c),
    ((h.1 c).2 main_v138 (by decide : main_v138 ∈ Pipeline.restRefs sig spec0)).trans (tail_result m c)⟩, h.2⟩) (run_main ρ hG)

end Cert.KernelIdeal.Body

end
-- ==== Proof.Frames.lean ====
/- The frames: each program runs, leaves its arguments as they were and its semaphores at zero. -/
module

public import proofs.«01_k».proof.Defs
public import proofs.«01_k».proof.Proof.Ranges
public import proofs.«01_k».proof.Proof.Safe
public import proofs.«01_k».proof.Proof.Ran
public import proofs.«01_k».proof.Proof.IdealSafe
public import proofs.«01_k».proof.Proof.IdealRan
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem Cert.Roi

/-- Where `rows_in_range` holds, the kernel's reads stay inside. -/
theorem good_Kernel (m : (ℓ : Loc Cert.Kernel.nD Cert.Kernel.τ Cert.Kernel.sig) → Buf (Elt Bits) ℓ) (h : Cert.Pre_Kernel m) : Cert.Kernel.Body.AllGood m :=
  Cert.Kernel.Body.allGood m fun b k => fits_of_rows (h 0) b k

theorem good_KernelIdeal_rows (m : (ℓ : Loc Cert.KernelIdeal.nD Cert.KernelIdeal.τ Cert.KernelIdeal.sig) → Buf (Elt Ideal) ℓ) (h : Cert.Pre_KernelIdeal_rows_in_range m) :
    Cert.KernelIdeal.Body.AllGood m :=
  Cert.KernelIdeal.Body.allGood m fun b k => fits_of_rows (h 0) b k

/-- Over the extended reals the roi words' range is enough. -/
theorem good_KernelIdeal (m : (ℓ : Loc Cert.KernelIdeal.nD Cert.KernelIdeal.τ Cert.KernelIdeal.sig) → Buf (Elt Ideal) ℓ) (h : Cert.Pre_KernelIdeal m) :
    Cert.KernelIdeal.Body.AllGood m := by
  refine Cert.KernelIdeal.Body.allGood m fun b k => ?_
  have h2 := range_of_rois (h 0) b k 2
  have h4 := range_of_rois (h 0) b k 4
  obtain ⟨e2, l2⟩ := eq_of_range h2.1 h2.2
  obtain ⟨e4, l4⟩ := eq_of_range h4.1 h4.2
  have := fits_of_range l2 l4
  rw [← e2, ← e4] at this
  exact this

theorem quiescent_Kernel : Cert.quiescent_Kernel := fun m g h =>
  (θ_run _ _ _).mono (fun _ h => ⟨fun c => ⟨(h.1 c).1, (h.1 c).2.1⟩, h.2⟩) (Cert.Kernel.Body.run g (good_Kernel m h))

theorem quiescent_KernelIdeal : Cert.quiescent_KernelIdeal := fun m g h =>
  (θ_run _ _ _).mono (fun _ h => ⟨fun c => ⟨(h.1 c).1, (h.1 c).2.1⟩, h.2⟩) (Cert.KernelIdeal.Body.run g (good_KernelIdeal m h))

theorem quiescent_KernelIdeal_rows : Cert.quiescent_KernelIdeal_pre_rows_in_range := fun m g h =>
  (θ_run _ _ _).mono (fun _ h => ⟨fun c => ⟨(h.1 c).1, (h.1 c).2.1⟩, h.2⟩) (Cert.KernelIdeal.Body.run g (good_KernelIdeal_rows m h))

theorem quiescent_ReferenceIdeal : Cert.quiescent_ReferenceIdeal := fun m g _ =>
  (θ_run _ _ _).mono (fun r h => ⟨fun c => (h c).2, sem_eq_zero_of_no_sems rfl _⟩) (Cert.ReferenceIdeal.Value.run m g)

theorem quiescent_ReferenceIdeal_rois : Cert.quiescent_ReferenceIdeal_pre_rois_in_range := fun m g _ =>
  (θ_run _ _ _).mono (fun r h => ⟨fun c => (h c).2, sem_eq_zero_of_no_sems rfl _⟩) (Cert.ReferenceIdeal.Value.run m g)

end Cert.Proof
-- ==== Proof.BinFacts.lean ====
/- The bins in plain numbers: their ends, and what the region table's words say of them. -/
module

public import proofs.«01_k».proof.Proof.Bounds

@[expose] public section

namespace Cert.Roi

open Idealize.ShloMosaic

/-- The first of bin `j` of `n` things cut in seven, and the one behind its last. -/
def bin (j n : ℕ) : ℕ := j * n / 7
def binEnd (j n : ℕ) : ℕ := ((j + 1) * n + 6) / 7

theorem binLo_bin (n : Fin 33) (j : Fin 7) : binLo (BitVec.ofNat 32 j) (BitVec.ofNat 32 n) = BitVec.ofNat 32 (bin j n) := binLo_eq n j
theorem binHi_bin (n : Fin 33) (j : Fin 7) : binHi (BitVec.ofNat 32 j) (BitVec.ofNat 32 n) = BitVec.ofNat 32 (binEnd j n) := binHi_eq n j

/-- No bin is empty, none is longer than six, and all end inside. -/
theorem bin_bounds : ∀ n : Fin 33, ∀ j : Fin 7, 1 ≤ n.val → bin j n < binEnd j n ∧ binEnd j n ≤ n ∧ binEnd j n ≤ bin j n + 6 := by decide +kernel

/-- The level of the table of maxima for a bin of `L` columns. -/
def lv (L : ℕ) : ℕ := if L < 2 then 0 else if L < 4 then 1 else 2

theorem lv_le (L : ℕ) : lv L ≤ 2 := by unfold lv; split; omega; split <;> omega

/-- Two windows of that level's width cover the bin, and neither leaves it. -/
theorem lv_cover {L : ℕ} (h1 : 1 ≤ L) (h2 : L ≤ 6) : 2 ^ lv L ≤ L ∧ L ≤ 2 * 2 ^ lv L := by
  unfold lv
  split
  · exact ⟨by omega, by omega⟩
  · split
    · exact ⟨by omega, by omega⟩
    · exact ⟨by omega, by omega⟩

theorem level_eq : ∀ L : Fin 8, level (BitVec.ofNat 32 L) = BitVec.ofNat 32 (lv L) := by decide +kernel
theorem clip_eq : ∀ a : Fin 64, clip 63#32 (BitVec.ofNat 32 a) = BitVec.ofNat 32 a := by decide +kernel
theorem shl_eq : ∀ l : Fin 3, IntOp.shli .host 1#32 (BitVec.ofNat 32 l) = BitVec.ofNat 32 (2 ^ l.val) := by decide +kernel
theorem maxsi_eq : ∀ p q : Fin 8, IntOp.maxsi (BitVec.ofNat 32 p) (BitVec.ofNat 32 q) = BitVec.ofNat 32 (max p.val q.val) := by decide +kernel
theorem colAny_eq : ∀ n : Fin 33, ∀ j : Fin 7, 1 ≤ n.val → Scalar.cmpi .sgt (colAny (BitVec.ofNat 32 n) (BitVec.ofNat 32 j)) 0#32 = 1#1 := by decide +kernel

theorem sub_eq {a b : ℕ} (h : b ≤ a) (ha : a < 2 ^ 32) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega

theorem add_eq (a b : ℕ) : IntOp.addi (BitVec.ofNat 32 a) (BitVec.ofNat 32 b) = BitVec.ofNat 32 (a + b) := (BitVec.ofNat_add a b).symm

theorem mul_eq (a b : ℕ) : IntOp.muli (BitVec.ofNat 32 a) (BitVec.ofNat 32 b) = BitVec.ofNat 32 (a * b) := (BitVec.ofNat_mul a b).symm

variable (n : Fin 33) (j : Fin 7) (hn : 1 ≤ n.val)
include hn

theorem level_bin : level (IntOp.subi (binHi (BitVec.ofNat 32 j) (BitVec.ofNat 32 n)) (binLo (BitVec.ofNat 32 j) (BitVec.ofNat 32 n))) = BitVec.ofNat 32 (lv (binEnd j n - bin j n)) := by
  have hb := bin_bounds n j hn
  have hn' := n.isLt
  rw [binHi_bin, binLo_bin, sub_eq (show bin j n ≤ binEnd j n by omega) (by show binEnd j n < _; omega)]
  exact level_eq ⟨binEnd j n - bin j n, by omega⟩

/-- The two table columns that a bin reads. -/
theorem colFst_eq {x : ℕ} (hx : x + n.val ≤ 64) :
    colFst (BitVec.ofNat 32 x) (BitVec.ofNat 32 n) (BitVec.ofNat 32 j) = BitVec.ofNat 32 (lv (binEnd j n - bin j n) * 64 + (x + bin j n)) := by
  have hb := bin_bounds n j hn
  unfold colFst
  rw [level_bin n j hn, binLo_bin, add_eq, clip_eq ⟨x + bin j n, by omega⟩, mul_eq, add_eq]

theorem colSnd_eq {x : ℕ} (hx : x + n.val ≤ 64) :
    colSnd (BitVec.ofNat 32 x) (BitVec.ofNat 32 n) (BitVec.ofNat 32 j)
      = BitVec.ofNat 32 (lv (binEnd j n - bin j n) * 64 + (x + bin j n + (binEnd j n - bin j n - 2 ^ lv (binEnd j n - bin j n)))) := by
  have hb := bin_bounds n j hn
  have hl := lv_le (binEnd j n - bin j n)
  have hc := lv_cover (L := binEnd j n - bin j n) (by omega) (by omega)
  unfold colSnd
  rw [level_bin n j hn, show IntOp.shli .host 1#32 (BitVec.ofNat 32 (lv (binEnd j n - bin j n))) = BitVec.ofNat 32 (2 ^ lv (binEnd j n - bin j n)) from shl_eq ⟨lv (binEnd j n - bin j n), by omega⟩, binHi_bin, add_eq]
  have e : x + binEnd j n - 2 ^ lv (binEnd j n - bin j n) = x + bin j n + (binEnd j n - bin j n - 2 ^ lv (binEnd j n - bin j n)) := by
    omega
  rw [sub_eq (show 2 ^ lv (binEnd j n - bin j n) ≤ x + binEnd j n by omega) (show x + binEnd j n < _ by omega), e,
    clip_eq ⟨x + bin j n + (binEnd j n - bin j n - 2 ^ lv (binEnd j n - bin j n)), by omega⟩, mul_eq, add_eq]

omit hn in
theorem rowLo_eq (a : Fin 32) : rowLo (BitVec.ofNat 32 a) (BitVec.ofNat 32 n) (BitVec.ofNat 32 j) = BitVec.ofNat 32 (bin j n + a.val % 8) := by
  have ha := a.isLt
  unfold rowLo
  rw [binLo_bin, aligned_eq, sub_eq (by omega) (by omega), add_eq]
  congr 1
  omega

omit hn in
theorem rowHi_eq (a : Fin 32) : rowHi (BitVec.ofNat 32 a) (BitVec.ofNat 32 n) (BitVec.ofNat 32 j) = BitVec.ofNat 32 (binEnd j n + a.val % 8) := by
  have ha := a.isLt
  unfold rowHi
  rw [binHi_bin, aligned_eq, sub_eq (by omega) (by omega), add_eq]
  congr 1
  show binEnd j n + _ = _
  omega

theorem grpFst_eq (a : Fin 32) : grpFst (BitVec.ofNat 32 a) (BitVec.ofNat 32 n) (BitVec.ofNat 32 j) = BitVec.ofNat 32 ((bin j n + a.val % 8) / 8) := by
  have hb := bin_bounds n j hn
  unfold grpFst
  rw [rowLo_eq]
  exact fdiv_eight ⟨bin j n + a.val % 8, by omega⟩

theorem grpSnd_eq (a : Fin 32) : grpSnd (BitVec.ofNat 32 a) (BitVec.ofNat 32 n) (BitVec.ofNat 32 j) = BitVec.ofNat 32 ((binEnd j n + a.val % 8 - 1) / 8) := by
  have hb := bin_bounds n j hn
  unfold grpSnd
  rw [grpFst_eq n j hn, rowHi_eq, show (1#32) = BitVec.ofNat 32 1 from rfl, sub_eq (by omega) (by omega), fdiv_eight ⟨binEnd j n + a.val % 8 - 1, by omega⟩,
    maxsi_eq ⟨(binEnd j n + a.val % 8 - 1) / 8, by omega⟩ ⟨(bin j n + a.val % 8) / 8, by omega⟩]
  congr 1
  show max ((binEnd j n + a.val % 8 - 1) / 8) ((bin j n + a.val % 8) / 8) = _
  omega

end Cert.Roi
-- ==== Proof.RefWords.lean ====
/- The reference's words at an index: each region's first row and column, how many of each, and its masks. -/
module

public import proofs.«01_k».proof.Proof.BinFacts
public import proofs.«01_k».proof.Proof.Gen.ReferenceIdeal.Run
public import Idealize.ShloMosaic.Lib.Pointwise

@[expose] public section

noncomputable section

namespace Cert.ReferenceIdeal.Value

open Idealize.ShloMosaic Idealize.ShloMosaic.TcCoe Cert.ReferenceIdeal Cert.ReferenceIdeal.Gen Cert.Roi

variable {F : FTy → Type} [FloatOps F] (V0 : Valuation τ sig (Elt F))

/-- Word `q` of roi `(b, k)`. -/
abbrev roiW (b : Fin 4) (k : Fin 128) (q : Fin 5) : BitVec 32 := (V0 (Proc.devRef .tc main_arg1) : S4x128x5.Idx → BitVec 32) (ix3 b k q)
/-- First row, number of rows of roi `(b, k)`; the same of its columns. -/
abbrev rowFst (b : Fin 4) (k : Fin 128) : BitVec 32 := first F (roiW V0 b k 2) (roiW V0 b k 4)
abbrev rowCnt (b : Fin 4) (k : Fin 128) : BitVec 32 := count (rowFst V0 b k) (last F (roiW V0 b k 2) (roiW V0 b k 4))
abbrev clFst (b : Fin 4) (k : Fin 128) : BitVec 32 := first F (roiW V0 b k 1) (roiW V0 b k 3)
abbrev clCnt (b : Fin 4) (k : Fin 128) : BitVec 32 := count (clFst V0 b k) (last F (roiW V0 b k 1) (roiW V0 b k 3))

theorem v32_apply (b : Fin 4) (k : Fin 128) : (res_main_v32 V0 : S4x128.Idx → BitVec 32) (ix2 b k) = rowFst V0 b k := by
  unfold res_main_v32 res_main_v25 res_main_v20 res_main_v8 res_main_v0
  pointwise

theorem v34_apply (b : Fin 4) (k : Fin 128) : (res_main_v34 V0 : S4x128.Idx → BitVec 32) (ix2 b k) = clFst V0 b k := by
  unfold res_main_v34 res_main_v30 res_main_v14 res_main_v4 res_main_v0
  pointwise

theorem v42_apply (b : Fin 4) (k : Fin 128) : (res_main_v42 V0 : S4x128.Idx → BitVec 32) (ix2 b k) = rowCnt V0 b k := by
  unfold res_main_v42 res_main_v32 res_main_v25 res_main_v20 res_main_v8 res_main_v0
  pointwise

theorem v50_apply (b : Fin 4) (k : Fin 128) : (res_main_v50 V0 : S4x128.Idx → BitVec 32) (ix2 b k) = clCnt V0 b k := by
  unfold res_main_v50 res_main_v34 res_main_v30 res_main_v14 res_main_v4 res_main_v0
  pointwise

/-- Whether place `d` of a region of `n` lies in its bin `i`, as the masks say it. -/
def inBin (n : BitVec 32) (i d : BitVec 32) : BitVec 1 :=
  IntOp.andi (IntOp.andi (IntOp.cmpi .sge d (binLo i n)) (IntOp.cmpi .slt d (binHi i n))) (IntOp.cmpi .slt d n)

theorem v134_apply (b : Fin 4) (k : Fin 128) (i : Fin 7) (d : Fin 32) :
    (res_main_v134 V0 : S4x128x7x32.Idx → BitVec 1) (ix4 b k i d) = inBin (rowCnt V0 b k) (BitVec.ofNat 32 i) (BitVec.ofNat 32 d) := by
  rw [← v42_apply]
  unfold res_main_v134 res_main_v105 res_main_v114 res_main_v100 res_main_v51 res_main_call4_v0 res_main_call4_v2 res_main_call5_v0 res_main_call5_v2
  pointwise
  rfl

theorem v169_apply (b : Fin 4) (k : Fin 128) (i : Fin 7) (d : Fin 32) :
    (res_main_v169 V0 : S4x128x7x32.Idx → BitVec 1) (ix4 b k i d) = inBin (clCnt V0 b k) (BitVec.ofNat 32 i) (BitVec.ofNat 32 d) := by
  rw [← v50_apply]
  unfold res_main_v169 res_main_v140 res_main_v149 res_main_v135 res_main_v51 res_main_call6_v0 res_main_call6_v2 res_main_call7_v0 res_main_call7_v2
  pointwise
  rfl

/-- The map's row that place `d` reads, and its column. -/
theorem v68_apply (b : Fin 4) (k : Fin 128) (d : Fin 32) :
    (res_main_v68 V0 : S4x128x1x32x1.Idx → BitVec 32) (ix5 b k 0 d 0) = clip 63#32 (IntOp.addi (rowFst V0 b k) (BitVec.ofNat 32 d)) := by
  rw [← v32_apply]
  unfold res_main_v68 res_main_v51
  pointwise
  rfl

theorem v69_apply (b : Fin 4) (k : Fin 128) (d : Fin 32) :
    (res_main_v69 V0 : S4x128x1x1x32.Idx → BitVec 32) (ix5 b k 0 0 d) = clip 63#32 (IntOp.addi (clFst V0 b k) (BitVec.ofNat 32 d)) := by
  rw [← v34_apply]
  unfold res_main_v69 res_main_v51
  pointwise
  rfl

end Cert.ReferenceIdeal.Value
-- ==== Proof.RefCrop.lean ====
/- The reference's crop and its two maxima at an index. -/
module

public import proofs.«01_k».proof.Proof.RefWords
public import Idealize.ShloMosaic.Lib.ValueIdxRank6

@[expose] public section

noncomputable section

namespace Cert.ReferenceIdeal.Value

open Idealize.ShloMosaic Idealize.ShloMosaic.TcCoe Cert.ReferenceIdeal Cert.ReferenceIdeal.Gen Cert.Roi

/-- The gather of single entries, one start index of four words for each. -/
theorem gather_apply {α : Type} (x : S4x128x64x64.Idx → α) (idx : S4x128x128x32x32x4.Idx → BitVec 32) (b : Fin 4) (k c : Fin 128) (d q : Fin 32)
    (y : S4x128x64x64.Idx) (hy : ∀ a : Fin 4, min (idx (ValueIdx.ix6 b k c d q a)).toInt.toNat (S4x128x64x64.size a - 1) = (y a).val) :
    Host.gather gather_S4x128x64x64_S4x128x128x32x32x4_S4x128x128x32x32_n_0123_n_n_0123_5_1111 x idx (ix5 b k c d q) = x y := by
  unfold Host.gather
  congr 1
  funext a
  refine Fin.ext ?_
  have hm : ∀ a : Fin 4, a ∈ [(0 : Fin 4), 1, 2, 3] := by decide
  refine Eq.trans ?_ (hy a)
  generalize hD : gather_S4x128x64x64_S4x128x128x32x32x4_S4x128x128x32x32_n_0123_n_n_0123_5_1111 = D
  show D.start _ idx a + D.batchCoord _ a + D.offCoord _ a = _
  rw [GatherDims.batchCoord_eq_zero _ _ _ (by subst hD; exact List.not_mem_nil),
    GatherDims.offCoord_eq_zero _ _ _ (fun h => ((GatherDims.mem_sKept _ _).mp h).1 (by subst hD; exact hm a))]
  simp only [Nat.add_zero]
  subst hD
  unfold GatherDims.start
  refine (dif_pos (hm a)).trans ?_
  have hs : ∀ c' h, GatherDims.siIdx gather_S4x128x64x64_S4x128x128x32x32x4_S4x128x128x32x32_n_0123_n_n_0123_5_1111 (ix5 b k c d q) ⟨c', h⟩ = ValueIdx.ix6 b k c d q ⟨c', h⟩ := by
    intro c' h
    funext e
    refine Fin.ext ?_
    match e with
    | ⟨0, _⟩ => rfl
    | ⟨1, _⟩ => rfl
    | ⟨2, _⟩ => rfl
    | ⟨3, _⟩ => rfl
    | ⟨4, _⟩ => rfl
    | ⟨5, _⟩ => rfl
  rw [hs]
  fin_cases a <;> rfl

variable {F : FTy → Type} [FloatOps F] (V0 : Valuation τ sig (Elt F))

/-- A start index's word as the crop writes it: a negative one counts from the end. -/
def wrap (N x : BitVec 32) : BitVec 32 := Scalar.select (IntOp.cmpi .slt x 0#32) (IntOp.addi x N) x

theorem wrap_eq (N : BitVec 32) {a : ℕ} (h : a < 128) : wrap N (BitVec.ofNat 32 a) = BitVec.ofNat 32 a := by
  have : IntOp.cmpi .slt (BitVec.ofNat 32 a) 0#32 = 0#1 := (by decide +kernel : ∀ a : Fin 128, IntOp.cmpi .slt (BitVec.ofNat 32 a.val) 0#32 = 0#1) ⟨a, h⟩
  unfold wrap
  rw [this]; rfl

theorem toNat_word {a : ℕ} (h : a < 128) : (BitVec.ofNat 32 a).toInt.toNat = a :=
  (by decide +kernel : ∀ a : Fin 128, (BitVec.ofNat 32 a.val).toInt.toNat = a.val) ⟨a, h⟩

/-- The crop: entry `(d, q)` of channel `c` is the map's at the region's row `d` and column `q`. -/
theorem v99_apply (b : Fin 4) (k c : Fin 128) (d q : Fin 32) {y x : ℕ} (hy : y < 64) (hx : x < 64)
    (ey : clip 63#32 (IntOp.addi (rowFst V0 b k) (BitVec.ofNat 32 d)) = BitVec.ofNat 32 y)
    (ex : clip 63#32 (IntOp.addi (clFst V0 b k) (BitVec.ofNat 32 q)) = BitVec.ofNat 32 x) :
    (res_main_v99 V0 : S4x128x128x32x32.Idx → F .f32) (ix5 b k c d q) = (V0 (Proc.devRef .tc main_arg0) : S4x128x64x64.Idx → F .f32) (ix4 b c ⟨y, hy⟩ ⟨x, hx⟩) := by
  have h0 : (res_main_v65 V0 : S4x1x1x1x1.Idx → BitVec 32) (ix5 b 0 0 0 0) = BitVec.ofNat 32 b := by
    unfold res_main_v65
    pointwise
  have h1 : (res_main_v67 V0 : S1x1x128x1x1.Idx → BitVec 32) (ix5 0 0 c 0 0) = BitVec.ofNat 32 c := by
    unfold res_main_v67
    pointwise
  have h2 := (v68_apply V0 b k d).trans ey
  have h3 := (v69_apply V0 b k q).trans ex
  have hb := b.isLt
  have hc := c.isLt
  have fin : ∀ (N w : BitVec 32) (n t : ℕ), w = BitVec.ofNat 32 t → t < 128 → t ≤ n → min (wrap N w).toInt.toNat n = t := by
    rintro N _ n t rfl ht hn
    rw [wrap_eq N ht, toNat_word ht]
    omega
  unfold res_main_v99
  refine gather_apply _ _ b k c d q _ fun a => ?_
  fin_cases a
  · pointwise
    exact fin 4#32 _ 3 b.val h0 (by omega) (by omega)
  · pointwise
    exact fin 128#32 _ 127 c.val h1 (by omega) (by omega)
  · pointwise
    exact fin 64#32 _ 63 y h2 (by omega) (by omega)
  · pointwise
    exact fin 64#32 _ 63 x h3 (by omega) (by omega)

end Cert.ReferenceIdeal.Value
-- ==== Proof.Spec.lean ====
/- What a bin's value is: the least bound of the entries in it, of the least float and of the maximum's start. Also the
   masks as comparisons of numbers, and the maximum over a masked row. -/
module

public import proofs.«01_k».proof.Proof.BinFacts
public import Idealize.ShloMosaic.Lib.Pointwise

@[expose] public section

noncomputable section

namespace Cert.Roi

open Idealize.ShloMosaic

/-- The least float, and the value the maxima start from. -/
abbrev least : EReal := Ideal.ofBits .f32 0xFF7FFFFF#32
abbrev start : EReal := Ideal.ofBits .f32 0xFF800000#32

/-- `z` bounds bin `(i, j)` of the region of `ny` rows and `nx` columns whose corner is `(Y, X)`, on the map `A`. -/
def Bounds (A : Fin 64 → Fin 64 → EReal) (Y X ny nx i j : ℕ) (z : EReal) : Prop :=
  start ≤ z ∧ least ≤ z ∧ ∀ d q : ℕ, bin i ny ≤ d → d < binEnd i ny → bin j nx ≤ q → q < binEnd j nx → A (Fin.ofNat 64 (Y + d)) (Fin.ofNat 64 (X + q)) ≤ z

theorem cmpi_sge {a b : ℕ} (ha : a < 2 ^ 31) (hb : b < 2 ^ 31) : IntOp.cmpi .sge (BitVec.ofNat 32 a) (BitVec.ofNat 32 b) = BitVec.ofBool (decide (b ≤ a)) := by
  show BitVec.ofBool ((BitVec.ofNat 32 b).sle (BitVec.ofNat 32 a)) = _
  congr 1
  simp only [BitVec.sle, BitVec.toInt_eq_toNat_cond, BitVec.toNat_ofNat]
  apply decide_eq_decide.mpr
  omega

theorem cmpi_slt {a b : ℕ} (ha : a < 2 ^ 31) (hb : b < 2 ^ 31) : IntOp.cmpi .slt (BitVec.ofNat 32 a) (BitVec.ofNat 32 b) = BitVec.ofBool (decide (a < b)) := by
  show BitVec.ofBool ((BitVec.ofNat 32 a).slt (BitVec.ofNat 32 b)) = _
  congr 1
  simp only [BitVec.slt, BitVec.toInt_eq_toNat_cond, BitVec.toNat_ofNat]
  apply decide_eq_decide.mpr
  omega

theorem andi_ofBool (p q : Prop) [Decidable p] [Decidable q] : IntOp.andi (BitVec.ofBool (decide p)) (BitVec.ofBool (decide q)) = BitVec.ofBool (decide (p ∧ q)) := by
  by_cases p <;> by_cases q <;> simp [*, IntOp.andi]

/-- A mask of the places from `lo` to `hi`. -/
theorem between_eq {t lo hi : ℕ} (ht : t < 2 ^ 31) (hl : lo < 2 ^ 31) (hh : hi < 2 ^ 31) :
    IntOp.andi (IntOp.cmpi .sge (BitVec.ofNat 32 t) (BitVec.ofNat 32 lo)) (IntOp.cmpi .slt (BitVec.ofNat 32 t) (BitVec.ofNat 32 hi)) = BitVec.ofBool (decide (lo ≤ t ∧ t < hi)) := by
  rw [cmpi_sge ht hl, cmpi_slt ht hh, andi_ofBool]

theorem select_of {α : Type} {p : Prop} [Decidable p] (h : p) (x y : α) : Scalar.select (BitVec.ofBool (decide p)) x y = x := by
  rw [decide_eq_true h]; rfl

theorem select_of_not {α : Type} {p : Prop} [Decidable p] (h : ¬ p) (x y : α) : Scalar.select (BitVec.ofBool (decide p)) x y = y := by
  rw [decide_eq_false h]; rfl

/-- The bounds of a maximum over the places a mask keeps, where it drops one. -/
theorem masked_le {N : ℕ} {s l z : EReal} {w : Fin N → BitVec 1} {P : Fin N → Prop} [DecidablePred P] (hw : ∀ q, w q = BitVec.ofBool (decide (P q))) (hx : ∃ q, ¬ P q) (f : Fin N → EReal) :
    (Finset.univ.fold max s fun q => Scalar.select (w q) (f q) l) ≤ z ↔ s ≤ z ∧ l ≤ z ∧ ∀ q, P q → f q ≤ z := by
  rw [Finset.fold_max_le]
  constructor
  · rintro ⟨h0, h⟩
    refine ⟨h0, ?_, fun q hq => ?_⟩
    · obtain ⟨q, hq⟩ := hx
      have := h q (Finset.mem_univ q)
      rwa [hw, select_of_not hq] at this
    · have := h q (Finset.mem_univ q)
      rwa [hw, select_of hq] at this
  · rintro ⟨h0, h1, h⟩
    refine ⟨h0, fun q _ => ?_⟩
    by_cases hq : P q
    · rw [hw, select_of hq]; exact h q hq
    · rw [hw, select_of_not hq]; exact h1

end Cert.Roi
-- ==== Proof.RefBins.lean ====
/- The reference's two maxima at an index: over the columns of each bin, then over its rows. -/
module

public import proofs.«01_k».proof.Proof.RefCrop
public import proofs.«01_k».proof.Proof.Spec

@[expose] public section

noncomputable section

namespace Cert.ReferenceIdeal.Value

open Idealize.ShloMosaic Idealize.ShloMosaic.TcCoe Cert.ReferenceIdeal Cert.ReferenceIdeal.Gen Cert.Roi

variable (V0 : Valuation τ sig (Elt Idealize.ShloMosaic.Ideal))

/-- One row of a bin: the maximum over its columns. -/
theorem v212_apply (b : Fin 4) (k c : Fin 128) (d : Fin 32) (j : Fin 7) :
    (res_main_v212 V0 : S4x128x128x32x7.Idx → EReal) (ix5 b k c d j)
      = Finset.univ.fold max start fun q : Fin 32 =>
          Scalar.select ((res_main_v169 V0 : S4x128x7x32.Idx → BitVec 1) (ix4 b k j q)) ((res_main_v99 V0 : S4x128x128x32x32.Idx → EReal) (ix5 b k c d q)) least := by
  unfold res_main_v212
  fin_cases j <;> pointwise

/-- A bin: the maximum over its rows. -/
theorem v255_apply (b : Fin 4) (k c : Fin 128) (i j : Fin 7) :
    (res_main_v255 V0 : S4x128x128x7x7.Idx → EReal) (ix5 b k c i j)
      = Finset.univ.fold max start fun d : Fin 32 =>
          Scalar.select ((res_main_v134 V0 : S4x128x7x32.Idx → BitVec 1) (ix4 b k i d)) ((res_main_v212 V0 : S4x128x128x32x7.Idx → EReal) (ix5 b k c d j)) least := by
  unfold res_main_v255
  fin_cases i <;> pointwise

theorem inBin_eq (n : Fin 33) (hn : 1 ≤ n.val) (i : Fin 7) (d : Fin 32) :
    inBin (BitVec.ofNat 32 n) (BitVec.ofNat 32 i) (BitVec.ofNat 32 d) = BitVec.ofBool (decide (bin i n ≤ d.val ∧ d.val < binEnd i n)) := by
  have hb := bin_bounds n i hn
  have hn' := n.isLt
  have hd := d.isLt
  unfold inBin
  rw [binLo_bin, binHi_bin, between_eq (by omega) (by omega) (by omega), cmpi_slt (by omega) (by omega), andi_ofBool]
  congr 1
  apply decide_eq_decide.mpr
  omega

/-- Every bin leaves a place out. -/
theorem out_of_bin (n : Fin 33) (hn : 1 ≤ n.val) (i : Fin 7) : ∃ d : Fin 32, ¬ (bin i n ≤ d.val ∧ d.val < binEnd i n) := by
  have hb := bin_bounds n i hn
  by_cases h : bin i n = 0
  · exact ⟨31, by show ¬ (bin i n ≤ 31 ∧ 31 < binEnd i n); omega⟩
  · exact ⟨0, by show ¬ (bin i n ≤ 0 ∧ 0 < binEnd i n); omega⟩

/-- An entry of the result, of a bin's row, of the crop, of the map. -/
abbrev outAt (b : Fin 4) (k c : Fin 128) (i j : Fin 7) : EReal := (res_main_v255 V0 : S4x128x128x7x7.Idx → EReal) (ix5 b k c i j)
abbrev rowAt (b : Fin 4) (k c : Fin 128) (d : Fin 32) (j : Fin 7) : EReal := (res_main_v212 V0 : S4x128x128x32x7.Idx → EReal) (ix5 b k c d j)
abbrev cropAt (b : Fin 4) (k c : Fin 128) (d q : Fin 32) : EReal := (res_main_v99 V0 : S4x128x128x32x32.Idx → EReal) (ix5 b k c d q)
abbrev mapAt (b : Fin 4) (c : Fin 128) (h w : Fin 64) : EReal := (V0 (Proc.devRef .tc main_arg0) : S4x128x64x64.Idx → EReal) (ix4 b c h w)

/-- What bounds the reference's bin. -/
theorem res_le (b : Fin 4) (k c : Fin 128) (i j : Fin 7) {Y X : ℕ} (ny nx : Fin 33) (hy : 1 ≤ ny.val) (hx : 1 ≤ nx.val) (hY : Y + ny.val ≤ 64) (hX : X + nx.val ≤ 64)
    (eY : rowFst V0 b k = BitVec.ofNat 32 Y) (eX : clFst V0 b k = BitVec.ofNat 32 X) (eny : rowCnt V0 b k = BitVec.ofNat 32 ny) (enx : clCnt V0 b k = BitVec.ofNat 32 nx) (z : EReal) :
    outAt V0 b k c i j ≤ z
      ↔ Bounds (mapAt V0 b c) Y X ny nx i j z := by
  have bi := bin_bounds ny i hy
  have bj := bin_bounds nx j hx
  have hny := ny.isLt
  have hnx := nx.isLt
  refine (iff_of_eq (congrArg (· ≤ z) (v255_apply V0 b k c i j))).trans ?_
  refine (masked_le (P := fun d : Fin 32 => bin i ny ≤ d.val ∧ d.val < binEnd i ny) (fun d => ?_) (out_of_bin ny hy i) _).trans ?_
  · rw [v134_apply, eny, inBin_eq ny hy]
  have row : ∀ d : Fin 32, d.val < binEnd i ny → (rowAt V0 b k c d j ≤ z
      ↔ start ≤ z ∧ least ≤ z ∧ ∀ q : Fin 32, bin j nx ≤ q.val ∧ q.val < binEnd j nx → cropAt V0 b k c d q ≤ z) := fun d _ => by
    refine (iff_of_eq (congrArg (· ≤ z) (v212_apply V0 b k c d j))).trans ?_
    refine masked_le (P := fun q : Fin 32 => bin j nx ≤ q.val ∧ q.val < binEnd j nx) (fun q => ?_) (out_of_bin nx hx j) _
    rw [v169_apply, enx, inBin_eq nx hx]
  have crop : ∀ d q : Fin 32, d.val < binEnd i ny → q.val < binEnd j nx → cropAt V0 b k c d q
      = mapAt V0 b c (Fin.ofNat 64 (Y + d.val)) (Fin.ofNat 64 (X + q.val)) := fun d q hd hq => by
    refine (v99_apply (F := Idealize.ShloMosaic.Ideal) V0 b k c d q (y := Y + d.val) (x := X + q.val) (by omega) (by omega)
      (by rw [eY, add_eq]; exact clip_eq ⟨Y + d.val, by omega⟩) (by rw [eX, add_eq]; exact clip_eq ⟨X + q.val, by omega⟩)).trans ?_
    congr 2
    · exact Fin.ext (Nat.mod_eq_of_lt (by omega)).symm
    · exact Fin.ext (Nat.mod_eq_of_lt (by omega)).symm
  unfold Bounds
  constructor
  · rintro ⟨k0, k1, h⟩
    refine ⟨k0, k1, fun d q d1 d2 q1 q2 => ?_⟩
    have := ((row ⟨d, by omega⟩ d2).mp (h ⟨d, by omega⟩ ⟨d1, d2⟩)).2.2 ⟨q, by omega⟩ ⟨q1, q2⟩
    rwa [crop ⟨d, by omega⟩ ⟨q, by omega⟩ d2 q2] at this
  · rintro ⟨k0, k1, h⟩
    refine ⟨k0, k1, fun d hd => (row d hd.2).mpr ⟨k0, k1, fun q hq => ?_⟩⟩
    rw [crop d q hd.2 hq.2]
    exact h d.val q.val hd.1 hd.2 hq.1 hq.2

end Cert.ReferenceIdeal.Value
-- ==== Proof.IdealBins.lean ====
/- The kernel's bins over the extended reals: what bounds a column bin's entry, and what bounds a bin. -/
module

public import proofs.«01_k».proof.Proof.Spec
public import proofs.«01_k».proof.Proof.IdealRan

@[expose] public section

noncomputable section

namespace Cert.KernelIdeal.Body

open Idealize.ShloMosaic Idealize.ShloMosaic.TcCoe Cert.KernelIdeal Cert.KernelIdeal.Gen Cert.Roi

variable (A : S1x64x64x128.Idx → EReal)

/-- The bounds of a window's maximum, where the window stays inside the image. -/
theorem lvl_le (h : Fin 64) (c : Fin 128) (z : EReal) : ∀ n w : ℕ, w + 2 ^ n ≤ 64 →
    (lvl (F := Idealize.ShloMosaic.Ideal) A n w h c ≤ z ↔ ∀ t < 2 ^ n, A (ix4 0 (Fin.ofNat 64 (w + t)) h c) ≤ z)
  | 0, w, _ => by
    constructor
    · intro hz t ht
      obtain rfl : t = 0 := by omega
      exact hz
    · intro hz
      exact hz 0 (by omega)
  | n + 1, w, hw => by
    have hp : 0 < 2 ^ n := Nat.two_pow_pos n
    rw [pow_succ] at hw
    rw [lvl_max (by omega), Ideal.maximumf_eq_max, max_le_iff, lvl_le h c z n w (by omega), lvl_le h c z n (w + 2 ^ n) (by omega), pow_succ]
    constructor
    · rintro ⟨h1, h2⟩ t ht
      by_cases hc : t < 2 ^ n
      · exact h1 t hc
      · have := h2 (t - 2 ^ n) (by omega)
        rwa [show w + 2 ^ n + (t - 2 ^ n) = w + t by omega] at this
    · intro hz
      refine ⟨fun t ht => hz t (by omega), fun t ht => ?_⟩
      have := hz (2 ^ n + t) (by omega)
      rwa [show w + (2 ^ n + t) = w + 2 ^ n + t by omega] at this

variable (M : Fin 56 → BitVec 32)

/-- A read of the tables: level `l`, column `w`. -/
theorem tabRead_apply {y l w : ℕ} (hy : y < 25) (hl : l ≤ 2) (hw : w < 64) (r : Fin 40) (c : Fin 128) :
    (tabRead (F := Idealize.ShloMosaic.Ideal) (ptab A) (BitVec.ofNat 32 y) (BitVec.ofNat 32 (l * 64 + w)) : S1x40x128.Idx → EReal) (Idealize.ShloMosaic.ix3 0 r c)
      = lvl (F := Idealize.ShloMosaic.Ideal) A l w (Fin.ofNat 64 (y + r.val)) c := by
  have hr := r.isLt
  unfold tabRead ptab
  show lvl (F := Idealize.ShloMosaic.Ideal) A (((BitVec.ofNat 32 (l * 64 + w)).toNat + 0) % 256 / 64) (((BitVec.ofNat 32 (l * 64 + w)).toNat + 0) % 256 % 64) (Fin.ofNat 64 ((BitVec.ofNat 32 y).toNat + r.val)) c = _
  rw [BitVec.toNat_ofNat, BitVec.toNat_ofNat]
  rw [show ((l * 64 + w) % 2 ^ 32 + 0) % 256 / 64 = l by omega, show ((l * 64 + w) % 2 ^ 32 + 0) % 256 % 64 = w by omega, show y % 2 ^ 32 = y by omega]

/-- What bounds a column bin's entry: the map's entries in that row, over the bin's columns. -/
theorem colV_le (j : Fin 7) (n : Fin 33) (hn : 1 ≤ n.val) {x y : ℕ} (hx : x + n.val ≤ 64) (hy : y < 25)
    (h0 : M 0 = BitVec.ofNat 32 y)
    (h1 : M ⟨1 + j.val, by omega⟩ = colFst (BitVec.ofNat 32 x) (BitVec.ofNat 32 n) (BitVec.ofNat 32 j))
    (h2 : M ⟨8 + j.val, by omega⟩ = colSnd (BitVec.ofNat 32 x) (BitVec.ofNat 32 n) (BitVec.ofNat 32 j))
    (h3 : M ⟨15 + j.val, by omega⟩ = colAny (BitVec.ofNat 32 n) (BitVec.ofNat 32 j))
    (g : Fin 5) (s : Fin 8) (c : Fin 128) (z : EReal) :
    (colV (F := Idealize.ShloMosaic.Ideal) M (ptab A) j : S5x8x128.Idx → EReal) (Idealize.ShloMosaic.ix3 g s c) ≤ z
      ↔ ∀ q : ℕ, bin j n ≤ q → q < binEnd j n → A (ix4 0 (Fin.ofNat 64 (x + q)) (Fin.ofNat 64 (y + (g.val * 8 + s.val))) c) ≤ z := by
  have hb := bin_bounds n j hn
  have hl := lv_le (binEnd j n - bin j n)
  have hc := lv_cover (L := binEnd j n - bin j n) (by omega) (by omega)
  have hg := g.isLt
  have hs := s.isLt
  unfold colV colVal
  pointwise
  rw [h0, h1, h2, h3, colAny_eq n j hn, colFst_eq n j hn hx, colSnd_eq n j hn hx,
    tabRead_apply A hy hl (by omega) ⟨g.val * 8 + s.val, by omega⟩ c, tabRead_apply A hy hl (by omega) ⟨g.val * 8 + s.val, by omega⟩ c]
  show max _ _ ≤ z ↔ _
  rw [max_le_iff, lvl_le A _ c z _ _ (by omega), lvl_le A _ c z _ _ (by omega)]
  generalize 2 ^ lv (binEnd j n - bin j n) = p at hc
  generalize hB : bin j n = B at *
  generalize hE : binEnd j n = E at *
  constructor
  · rintro ⟨k1, k2⟩ q q1 q2
    by_cases hq : q < B + p
    · have := k1 (q - B) (by omega)
      rwa [show x + B + (q - B) = x + q by omega] at this
    · have := k2 (q - (E - p)) (by omega)
      rwa [show x + B + (E - B - p) + (q - (E - p)) = x + q by omega] at this
  · intro k
    refine ⟨fun t ht => ?_, fun t ht => ?_⟩
    · have := k (B + t) (by omega) (by omega)
      rwa [show x + (B + t) = x + B + t by omega] at this
    · have := k (E - p + t) (by omega) (by omega)
      rwa [show x + (E - p + t) = x + B + (E - B - p) + t by omega] at this

/-- What bounds a bin of rows `lo` to `hi`: those rows' entries, the least float and the maximum's start. -/
theorem binVal_le (V : FVec Idealize.ShloMosaic.Ideal S5x8x128 .f32) {lo hi : ℕ} (h1 : lo < hi) (h2 : hi ≤ lo + 6) (h3 : hi ≤ 40) (c : Fin 128) (z : EReal) :
    (binVal (F := Idealize.ShloMosaic.Ideal) (BitVec.ofNat 32 (lo / 8)) (BitVec.ofNat 32 ((hi - 1) / 8)) (BitVec.ofNat 32 lo) (BitVec.ofNat 32 hi)
        (grpRead V (BitVec.ofNat 32 (lo / 8))) (grpRead V (BitVec.ofNat 32 ((hi - 1) / 8))) : S128.Idx → EReal) (Idealize.ShloMosaic.ix1 c) ≤ z
      ↔ start ≤ z ∧ least ≤ z ∧ ∀ r : ℕ, lo ≤ r → r < hi → (V : S5x8x128.Idx → EReal) (Idealize.ShloMosaic.ix3 (Fin.ofNat 5 (r / 8)) (Fin.ofNat 8 (r % 8)) c) ≤ z := by
  have hr : ∀ (g : ℕ), g < 5 → ∀ s : Fin 8, (grpRead V (BitVec.ofNat 32 g) : S1x8x128.Idx → EReal) (Idealize.ShloMosaic.ix3 0 s c) = (V : S5x8x128.Idx → EReal) (Idealize.ShloMosaic.ix3 (Fin.ofNat 5 g) s c) := by
    intro g hg s
    unfold grpRead
    show V (Idealize.ShloMosaic.ix3 (Fin.ofNat 5 ((BitVec.ofNat 32 g).toNat + 0)) s c) = _
    rw [BitVec.toNat_ofNat, show g % 2 ^ 32 + 0 = g by omega]
  have hm : ∀ (g : ℕ), g < 5 → ∀ s : Fin 8, IntOp.andi (IntOp.cmpi .sge (IntOp.addi (BitVec.ofNat 32 s.val) (Scalar.muli 8#32 (BitVec.ofNat 32 g))) (BitVec.ofNat 32 lo))
      (IntOp.cmpi .slt (IntOp.addi (BitVec.ofNat 32 s.val) (Scalar.muli 8#32 (BitVec.ofNat 32 g))) (BitVec.ofNat 32 hi)) = BitVec.ofBool (decide (lo ≤ s.val + 8 * g ∧ s.val + 8 * g < hi)) := by
    intro g hg s
    have hs := s.isLt
    have e : IntOp.addi (BitVec.ofNat 32 s.val) (Scalar.muli 8#32 (BitVec.ofNat 32 g)) = BitVec.ofNat 32 (s.val + 8 * g) := by
      rw [← add_eq, ← mul_eq]; rfl
    rw [e, between_eq (by omega) (by omega) (by omega)]
  unfold binVal grpVal rowMask
  pointwise
  rw [Finset.fold_max_le]
  simp only [hm (lo / 8) (by omega), hm ((hi - 1) / 8) (by omega), hr (lo / 8) (by omega), hr ((hi - 1) / 8) (by omega), max_le_iff]
  constructor
  · rintro ⟨k0, k⟩
    refine ⟨k0, ?_, fun r r1 r2 => ?_⟩
    · by_cases h8 : lo % 8 = 0
      · have := (k 7 (Finset.mem_univ _)).1
        rwa [select_of_not (by show ¬ (lo ≤ 7 + 8 * (lo / 8) ∧ 7 + 8 * (lo / 8) < hi); omega)] at this
      · have := (k 0 (Finset.mem_univ _)).1
        rwa [select_of_not (by show ¬ (lo ≤ 0 + 8 * (lo / 8) ∧ 0 + 8 * (lo / 8) < hi); omega)] at this
    · have e8 : (Fin.ofNat 8 (r % 8)).val = r % 8 := by show r % 8 % 8 = _; omega
      have := k (Fin.ofNat 8 (r % 8)) (Finset.mem_univ _)
      by_cases hg : r / 8 = lo / 8
      · have := this.1
        rw [select_of (by rw [e8]; omega)] at this
        rwa [hg]
      · have := this.2
        rw [select_of (by rw [e8]; omega)] at this
        rwa [show r / 8 = (hi - 1) / 8 by omega]
  · rintro ⟨k0, kl, k⟩
    have key : ∀ g, g < 5 → ∀ s : Fin 8, Scalar.select (BitVec.ofBool (decide (lo ≤ s.val + 8 * g ∧ s.val + 8 * g < hi))) ((V : S5x8x128.Idx → EReal) (Idealize.ShloMosaic.ix3 (Fin.ofNat 5 g) s c)) least ≤ z := by
      intro g hg s
      have hs := s.isLt
      by_cases h : lo ≤ s.val + 8 * g ∧ s.val + 8 * g < hi
      · rw [select_of h]
        have := k _ h.1 h.2
        rw [show (s.val + 8 * g) / 8 = g by omega, show (s.val + 8 * g) % 8 = s.val by omega] at this
        rwa [show Fin.ofNat 8 s.val = s from Fin.ext (Nat.mod_eq_of_lt hs)] at this
      · rw [select_of_not h]; exact kl
    exact ⟨k0, fun s _ => ⟨key _ (by omega) s, key _ (by omega) s⟩⟩

end Cert.KernelIdeal.Body
-- ==== Proof.IdealResult.lean ====
/- The kernel's result over the extended reals: what bounds each of its entries. -/
module

public import proofs.«01_k».proof.Proof.IdealBins
public import proofs.«01_k».proof.Proof.IdealColumns

@[expose] public section

noncomputable section

namespace Cert.KernelIdeal.Body

open Idealize.ShloMosaic Idealize.ShloMosaic.TcCoe Cert.KernelIdeal Cert.KernelIdeal.Gen Cert.Roi

variable (m : (ℓ : Loc nD τ sig) → Buf (Elt Idealize.ShloMosaic.Ideal) ℓ)

/-- The seven bins of a row of bins, one by one. -/
theorem outVal_apply (v : Fin 7 → FVec Idealize.ShloMosaic.Ideal S128 .f32) (j : Fin 7) (c : Fin 128) :
    (outVal (v 0) (v 1) (v 2) (v 3) (v 4) (v 5) (v 6) : S1x1x7x128.Idx → EReal) (Idealize.ShloMosaic.ix4 0 0 j c) = v j (Idealize.ShloMosaic.ix1 c) := by
  unfold outVal
  fin_cases j <;> pointwise

/-- The image that the kernel reads is the map with its channels last and its columns before its rows. -/
theorem V_v0 (b : Fin 4) (w h : Fin 64) (c : Fin 128) :
    (V m 0 main_v0 : S4x64x64x128.Idx → EReal) (Idealize.ShloMosaic.ix4 b w h c) = (m ((0 : Dev nD), Proc.devRef .tc main_arg0) : S4x128x64x64.Idx → EReal) (Idealize.ShloMosaic.ix4 b c h w) := by
  unfold V V0 prefixOps
  after_reads_at

/-- An entry of the result, of the map. -/
abbrev outAt (b : Fin 4) (k c : Fin 128) (i j : Fin 7) : EReal := (result m 0 : S4x128x128x7x7.Idx → EReal) (ix5 b k c i j)
abbrev mapAt (b : Fin 4) (c : Fin 128) (h w : Fin 64) : EReal := (m ((0 : Dev nD), Proc.devRef .tc main_arg0) : S4x128x64x64.Idx → EReal) (Idealize.ShloMosaic.ix4 b c h w)

/-- What bounds the kernel's bin. -/
theorem result_le (b : Fin 4) (k c : Fin 128) (i j : Fin 7) {Y : Fin 32} {X : ℕ} (ny nx : Fin 33) (hy : 1 ≤ ny.val) (hx : 1 ≤ nx.val) (hX : X + nx.val ≤ 64)
    (eY : rowFst m b k = BitVec.ofNat 32 Y) (eX : clFst m b k = BitVec.ofNat 32 X) (eny : rowCnt m b k = BitVec.ofNat 32 ny) (enx : clCnt m b k = BitVec.ofNat 32 nx) (z : EReal) :
    outAt m b k c i j ≤ z ↔ Bounds (mapAt m b c) Y X ny nx i j z := by
  have bi := bin_bounds ny i hy
  have hny := ny.isLt
  have hY := Y.isLt
  let M : Fin 56 → BitVec 32 := fun col => tab m (ix3 b k col)
  let A : S1x64x64x128.Idx → EReal := img (V m 0 main_v0) b
  have m0 : M 0 = BitVec.ofNat 32 (Y.val / 8 * 8) := by
    show tab m (ix3 b k 0) = _
    rw [tab_0, eY, aligned_eq]
  have e : outAt m b k c i j = (rowV (F := Idealize.ShloMosaic.Ideal) M (ptab A) i j : S128.Idx → EReal) (Idealize.ShloMosaic.ix1 c) :=
    outVal_apply (fun j => rowV M (ptab A) i j) j c
  have m22 : M ⟨22 + i.val, by omega⟩ = BitVec.ofNat 32 ((bin i ny + Y.val % 8) / 8) := by
    show tab m (ix3 b k _) = _
    rw [tab_grpFst, eY, eny, grpFst_eq ny i hy]
  have m29 : M ⟨29 + i.val, by omega⟩ = BitVec.ofNat 32 ((binEnd i ny + Y.val % 8 - 1) / 8) := by
    show tab m (ix3 b k _) = _
    rw [tab_grpSnd, eY, eny, grpSnd_eq ny i hy]
  have m36 : M ⟨36 + i.val, by omega⟩ = BitVec.ofNat 32 (bin i ny + Y.val % 8) := by
    show tab m (ix3 b k _) = _
    rw [tab_rowLo, eY, eny, rowLo_eq ny i]
  have m43 : M ⟨43 + i.val, by omega⟩ = BitVec.ofNat 32 (binEnd i ny + Y.val % 8) := by
    show tab m (ix3 b k _) = _
    rw [tab_rowHi, eY, eny, rowHi_eq ny i]
  have col : ∀ (g : Fin 5) (s : Fin 8), ((colV (F := Idealize.ShloMosaic.Ideal) M (ptab A) j : S5x8x128.Idx → EReal) (Idealize.ShloMosaic.ix3 g s c) ≤ z
      ↔ ∀ q : ℕ, bin j nx ≤ q → q < binEnd j nx → mapAt m b c (Fin.ofNat 64 (Y.val / 8 * 8 + (g.val * 8 + s.val))) (Fin.ofNat 64 (X + q)) ≤ z) := by
    intro g s
    refine (colV_le A M j nx hx hX (by omega) m0 ?_ ?_ ?_ g s c z).trans ?_
    · show tab m (ix3 b k _) = _
      rw [tab_colFst, eX, enx]
    · show tab m (ix3 b k _) = _
      rw [tab_colSnd, eX, enx]
    · show tab m (ix3 b k _) = _
      rw [tab_colAny, enx]
    · refine forall_congr' fun q => imp_congr_right fun _ => imp_congr_right fun _ => iff_of_eq (congrArg (· ≤ z) ?_)
      exact V_v0 m b (Fin.ofNat 64 (X + q)) (Fin.ofNat 64 (Y.val / 8 * 8 + (g.val * 8 + s.val))) c
  rw [e]
  unfold rowV
  rw [m22, m29, m36, m43]
  refine (binVal_le (colV M (ptab A) j) (by omega) (by omega) (by omega) c z).trans ?_
  unfold Bounds
  refine and_congr_right fun _ => and_congr_right fun _ => ?_
  have row : ∀ r, r < 40 → ((colV (F := Idealize.ShloMosaic.Ideal) M (ptab A) j : S5x8x128.Idx → EReal) (Idealize.ShloMosaic.ix3 (Fin.ofNat 5 (r / 8)) (Fin.ofNat 8 (r % 8)) c) ≤ z
      ↔ ∀ q : ℕ, bin j nx ≤ q → q < binEnd j nx → mapAt m b c (Fin.ofNat 64 (Y.val / 8 * 8 + r)) (Fin.ofNat 64 (X + q)) ≤ z) := by
    intro r hr
    rw [col]
    rw [show (Fin.ofNat 5 (r / 8)).val * 8 + (Fin.ofNat 8 (r % 8)).val = r by show r / 8 % 5 * 8 + r % 8 % 8 = r; omega]
  constructor
  · intro h d q d1 d2 q1 q2
    have := (row (d + Y.val % 8) (by omega)).mp (h (d + Y.val % 8) (by omega) (by omega)) q q1 q2
    rwa [show Y.val / 8 * 8 + (d + Y.val % 8) = Y.val + d by omega] at this
  · intro h r r1 r2
    refine (row r (by omega)).mpr fun q q1 q2 => ?_
    have := h (r - Y.val % 8) q (by omega) (by omega) q1 q2
    rwa [show Y.val + (r - Y.val % 8) = Y.val / 8 * 8 + r by omega] at this

end Cert.KernelIdeal.Body
-- ==== Proof.Equal.lean ====
/- The kernel and the reference leave the same result over the extended reals: entry by entry, the same numbers bound it. -/
module

public import proofs.«01_k».proof.Proof.Frames
public import proofs.«01_k».proof.Proof.RefBins
public import proofs.«01_k».proof.Proof.IdealResult

@[expose] public section

noncomputable section

namespace Cert.Proof

open Idealize.ShloMosaic Idealize.SL.Sem Cert.Roi

/-- A region's first row (or column) and how many it has, as numbers. -/
theorem words_of_range {v e : BitVec 32} (hv : (0#32).sle v = true ∧ v.slt 480#32 = true) (he : (0#32).sle e = true ∧ e.slt 480#32 = true) :
    ∃ (x : Fin 32) (n : Fin 33), 1 ≤ n.val ∧ first Ideal v e = BitVec.ofNat 32 x ∧ count (first Ideal v e) (last Ideal v e) = BitVec.ofNat 32 n := by
  obtain ⟨e1, l1⟩ := eq_of_range hv.1 hv.2
  obtain ⟨e2, l2⟩ := eq_of_range he.1 he.2
  have h := (fits_of_range l1 l2).count
  rw [← e1, ← e2] at h
  exact h

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- Where the two start from the same arguments, every entry of their results is the same. -/
theorem entry_eq (h : Cert.Pre_KernelIdeal m)
    (e0 : m' ((0 : Dev Cert.ReferenceIdeal.nD), Proc.devRef .tc Cert.ReferenceIdeal.main_arg0) = m ((0 : Dev Cert.KernelIdeal.nD), Proc.devRef .tc Cert.KernelIdeal.main_arg0))
    (e1 : m' ((0 : Dev Cert.ReferenceIdeal.nD), Proc.devRef .tc Cert.ReferenceIdeal.main_arg1) = m ((0 : Dev Cert.KernelIdeal.nD), Proc.devRef .tc Cert.KernelIdeal.main_arg1))
    (b : Fin 4) (k c : Fin 128) (i j : Fin 7) :
    Cert.ReferenceIdeal.Value.outAt (StableHlo.launchContents m' 0) b k c i j = Cert.KernelIdeal.Body.outAt m b k c i j := by
  have w : ∀ q, Cert.ReferenceIdeal.Value.roiW (StableHlo.launchContents m' 0) b k q = Cert.KernelIdeal.Body.roiW m b k q := fun q => congrFun e1 (ix3 b k q)
  have r : ∀ q, (0#32).sle (Cert.KernelIdeal.Body.roiW m b k q) = true ∧ (Cert.KernelIdeal.Body.roiW m b k q).slt 480#32 = true := fun q => range_of_rois (h 0) b k q
  obtain ⟨Y, ny, hy, eY, eny⟩ := words_of_range (r 2) (r 4)
  obtain ⟨X, nx, hx, eX, enx⟩ := words_of_range (r 1) (r 3)
  have hY := Y.isLt
  have hX := X.isLt
  have hny := ny.isLt
  have hnx := nx.isLt
  have hmap : Cert.ReferenceIdeal.Value.mapAt (StableHlo.launchContents m' 0) b c = Cert.KernelIdeal.Body.mapAt m b c := by
    funext p q
    exact congrFun e0 (ix4 b c p q)
  refine eq_of_forall_ge_iff fun z => ?_
  rw [Cert.KernelIdeal.Body.result_le m b k c i j ny nx hy hx (by omega) eY eX eny enx z,
    Cert.ReferenceIdeal.Value.res_le (StableHlo.launchContents m' 0) b k c i j (Y := Y.val) (X := X.val) ny nx hy hx (by omega) (by omega)
      (by unfold Cert.ReferenceIdeal.Value.rowFst; rw [w, w]; exact eY) (by unfold Cert.ReferenceIdeal.Value.clFst; rw [w, w]; exact eX)
      (by unfold Cert.ReferenceIdeal.Value.rowCnt Cert.ReferenceIdeal.Value.rowFst; rw [w, w]; exact eny)
      (by unfold Cert.ReferenceIdeal.Value.clCnt Cert.ReferenceIdeal.Value.clFst; rw [w, w]; exact enx) z, hmap]

/-- The results as arrays. -/
theorem result_eq (h : Cert.Pre_KernelIdeal m)
    (e0 : m' ((0 : Dev Cert.ReferenceIdeal.nD), Proc.devRef .tc Cert.ReferenceIdeal.main_arg0) = m ((0 : Dev Cert.KernelIdeal.nD), Proc.devRef .tc Cert.KernelIdeal.main_arg0))
    (e1 : m' ((0 : Dev Cert.ReferenceIdeal.nD), Proc.devRef .tc Cert.ReferenceIdeal.main_arg1) = m ((0 : Dev Cert.KernelIdeal.nD), Proc.devRef .tc Cert.KernelIdeal.main_arg1)) :
    (Cert.ReferenceIdeal.Value.res_main_v255 (StableHlo.launchContents m' 0) : Cert.ReferenceIdeal.S4x128x128x7x7.Idx → EReal) = Cert.KernelIdeal.Body.result m 0 := by
  funext y
  have hy : y = ix5 (⟨(y 0).val, (y 0).isLt⟩ : Fin 4) (⟨(y 1).val, (y 1).isLt⟩ : Fin 128) (⟨(y 2).val, (y 2).isLt⟩ : Fin 128) (⟨(y 3).val, (y 3).isLt⟩ : Fin 7) (⟨(y 4).val, (y 4).isLt⟩ : Fin 7) := by
    funext a
    match a with
    | ⟨0, _⟩ => rfl
    | ⟨1, _⟩ => rfl
    | ⟨2, _⟩ => rfl
    | ⟨3, _⟩ => rfl
    | ⟨4, _⟩ => rfl
  rw [hy]
  exact entry_eq h e0 e1 _ _ _ _ _

/-- From equal arguments, both end with the same result and with their arguments as they were. -/
theorem algebraic : Cert.algebraic_KernelIdeal_ReferenceIdeal := fun m g m' g' h e => by
  refine ⟨fun c => Cert.KernelIdeal.Body.result m c, ?_, ?_⟩
  · exact (θ_run _ _ _).mono (fun _ k c => ⟨(k.1 c).2.2, (k.1 c).1, (k.1 c).2.1⟩) (Cert.KernelIdeal.Body.run g (good_KernelIdeal m h))
  · refine (θ_run _ _ _).mono (fun _ k c => ⟨(k c).1.trans ?_, (k c).2⟩) (Cert.ReferenceIdeal.Value.run m' g')
    obtain rfl : c = 0 := Subsingleton.elim _ _
    exact result_eq h (e 0).1 (e 0).2

end Cert.Proof
-- ==== Proof.lean ====
/- The certificate: the claims' proofs assembled. -/
module

public import proofs.«01_k».proof.Defs
public import proofs.«01_k».proof.Proof.Frames
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Roi.rowsFacts, Cert.Roi.roisFacts,
  quiescent_Kernel, quiescent_KernelIdeal, quiescent_KernelIdeal_rows, quiescent_ReferenceIdeal,
  quiescent_ReferenceIdeal_rois, trivial, algebraic⟩

end Cert.Proof

end
